-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v42) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S320000x128 : Shape := ⟨2, ![320000, 128]⟩
abbrev S400000x128 : Shape := ⟨2, ![400000, 128]⟩
abbrev S32000x128 : Shape := ⟨2, ![32000, 128]⟩
abbrev S1x32 : Shape := ⟨2, ![1, 32]⟩
abbrev S16x128 : Shape := ⟨2, ![16, 128]⟩
abbrev S400000 : Shape := ⟨1, ![400000]⟩
abbrev S128x128 : Shape := ⟨2, ![128, 128]⟩
abbrev S128 : Shape := ⟨1, ![128]⟩
abbrev S32 : Shape := ⟨1, ![32]⟩
abbrev S_ : Shape := ⟨0, ![]⟩
abbrev S32x16x128 : Shape := ⟨3, ![32, 16, 128]⟩
abbrev S256x128 : Shape := ⟨2, ![256, 128]⟩
abbrev S16 : Shape := ⟨1, ![16]⟩
abbrev S1x16 : Shape := ⟨2, ![1, 16]⟩
abbrev S1 : Shape := ⟨1, ![1]⟩
abbrev S1x16x128 : Shape := ⟨3, ![1, 16, 128]⟩
abbrev S25x1x16000 : Shape := ⟨3, ![25, 1, 16000]⟩
abbrev S1x1x16000 : Shape := ⟨3, ![1, 1, 16000]⟩
abbrev S16000x128 : Shape := ⟨2, ![16000, 128]⟩
abbrev S16x16000 : Shape := ⟨2, ![16, 16000]⟩
abbrev S1x16000 : Shape := ⟨2, ![1, 16000]⟩
abbrev S16x1 : Shape := ⟨2, ![16, 1]⟩
abbrev S1x128 : Shape := ⟨2, ![1, 128]⟩

abbrev nBuf : Table → Nat
  | .hbm => 28
  | .local .tc .vmem => 21
  | .local .scVector .vmem => 4
  | _ => 0

abbrev bufTy : (tb : Table) → Fin (nBuf tb) → BufTy
  | .hbm, ⟨0, _⟩ => ⟨S320000x128, .f32⟩
  | .hbm, ⟨1, _⟩ => ⟨S400000x128, .f32⟩
  | .hbm, ⟨2, _⟩ => ⟨S32000x128, .f32⟩
  | .hbm, ⟨3, _⟩ => ⟨S1x32, .i32⟩
  | .hbm, ⟨4, _⟩ => ⟨S1x32, .i32⟩
  | .hbm, ⟨5, _⟩ => ⟨S16x128, .f32⟩
  | .hbm, ⟨6, _⟩ => ⟨S16x128, .f32⟩
  | .hbm, ⟨7, _⟩ => ⟨S400000, .i32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S32, .i32⟩
  | .hbm, ⟨16, _⟩ => ⟨S32x16x128, .f32⟩
  | .hbm, ⟨17, _⟩ => ⟨S32x16x128, .f32⟩
  | .hbm, ⟨18, _⟩ => ⟨S32x16x128, .f32⟩
  | .hbm, ⟨19, _⟩ => ⟨S25x1x16000, .i32⟩
  | .hbm, ⟨20, _⟩ => ⟨S16x128, .f32⟩
  | .hbm, ⟨21, _⟩ => ⟨S16x128, .f32⟩
  | .hbm, ⟨22, _⟩ => ⟨S1x128, .f32⟩
  | .hbm, ⟨23, _⟩ => ⟨S1x128, .f32⟩
  | .hbm, ⟨24, _⟩ => ⟨S16x128, .f32⟩
  | .hbm, ⟨25, _⟩ => ⟨S16x128, .f32⟩
  | .hbm, ⟨26, _⟩ => ⟨S16x128, .f32⟩
  | .hbm, ⟨27, _⟩ => ⟨S16x128, .f32⟩
  | .local .tc .vmem, ⟨0, _⟩ => ⟨S1x1x16000, .i32⟩
  | .local .tc .vmem, ⟨1, _⟩ => ⟨S1x1x16000, .i32⟩
  | .local .tc .vmem, ⟨2, _⟩ => ⟨S16000x128, .f32⟩
  | .local .tc .vmem, ⟨3, _⟩ => ⟨S16000x128, .f32⟩
  | .local .tc .vmem, ⟨4, _⟩ => ⟨S16x128, .f32⟩
  | .local .tc .vmem, ⟨5, _⟩ => ⟨S16x128, .f32⟩
  | .local .tc .vmem, ⟨6, _⟩ => ⟨S32x16x128, .f32⟩
  | .local .tc .vmem, ⟨7, _⟩ => ⟨S16x128, .f32⟩
  | .local .tc .vmem, ⟨8, _⟩ => ⟨S32x16x128, .f32⟩
  | .local .tc .vmem, ⟨9, _⟩ => ⟨S32x16x128, .f32⟩
  | .local .tc .vmem, ⟨10, _⟩ => ⟨S16x128, .f32⟩
  | .local .tc .vmem, ⟨11, _⟩ => ⟨S16x128, .f32⟩
  | .local .tc .vmem, ⟨12, _⟩ => ⟨S16x128, .f32⟩
  | .local .tc .vmem, ⟨13, _⟩ => ⟨S128x128, .f32⟩
  | .local .tc .vmem, ⟨14, _⟩ => ⟨S1x128, .f32⟩
  | .local .tc .vmem, ⟨15, _⟩ => ⟨S128x128, .f32⟩
  | .local .tc .vmem, ⟨16, _⟩ => ⟨S1x128, .f32⟩
  | .local .tc .vmem, ⟨17, _⟩ => ⟨S16x128, .f32⟩
  | .local .tc .vmem, ⟨18, _⟩ => ⟨S16x128, .f32⟩
  | .local .tc .vmem, ⟨19, _⟩ => ⟨S16x128, .f32⟩
  | .local .tc .vmem, ⟨20, _⟩ => ⟨S16x128, .f32⟩
  | .local .scVector .vmem, ⟨0, _⟩ => ⟨S256x128, .f32⟩
  | .local .scVector .vmem, ⟨1, _⟩ => ⟨S256x128, .f32⟩
  | .local .scVector .vmem, ⟨2, _⟩ => ⟨S32, .i32⟩
  | .local .scVector .vmem, ⟨3, _⟩ => ⟨S16x128, .f32⟩
  | _, _ => ⟨S320000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 29 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTables nBuf rfl bufTy 4 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3_0 : Ref sig .tc := ⟨.hbm, 16, rfl⟩
abbrev main_v3_1 : Ref sig .tc := ⟨.hbm, 17, rfl⟩
abbrev main_v3_2 : Ref sig .tc := ⟨.hbm, 18, rfl⟩
abbrev main_v4 : Ref sig .tc := ⟨.hbm, 19, rfl⟩
abbrev main_v5_0 : Ref sig .tc := ⟨.hbm, 20, rfl⟩
abbrev main_v5_1 : Ref sig .tc := ⟨.hbm, 21, rfl⟩
abbrev main_v6 : Ref sig .tc := ⟨.hbm, 22, rfl⟩
abbrev main_v7 : Ref sig .tc := ⟨.hbm, 23, rfl⟩
abbrev main_v8_0 : Ref sig .tc := ⟨.hbm, 24, rfl⟩
abbrev main_v8_1 : Ref sig .tc := ⟨.hbm, 25, rfl⟩
abbrev main_v8_2 : Ref sig .tc := ⟨.hbm, 26, rfl⟩
abbrev main_v8_3 : Ref sig .tc := ⟨.hbm, 27, rfl⟩
abbrev main_arg0_scv : Ref sig .scVector := ⟨.hbm, 0, rfl⟩
abbrev main_arg2_scv : Ref sig .scVector := ⟨.hbm, 2, rfl⟩
abbrev main_arg1_scv : Ref sig .scVector := ⟨.hbm, 1, rfl⟩
abbrev main_v0_scv : Ref sig .scVector := ⟨.hbm, 12, rfl⟩
abbrev main_v1_scv : Ref sig .scVector := ⟨.hbm, 13, rfl⟩
abbrev main_v2_scv : Ref sig .scVector := ⟨.hbm, 15, rfl⟩
abbrev main_v3_0_scv : Ref sig .scVector := ⟨.hbm, 16, rfl⟩
abbrev main_v3_1_scv : Ref sig .scVector := ⟨.hbm, 17, rfl⟩
abbrev main_v3_2_scv : Ref sig .scVector := ⟨.hbm, 18, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg3_0 : Ref sig .tc := ⟨.vmem, 9, rfl⟩
abbrev cc2_stg4_0 : Ref sig .tc := ⟨.vmem, 10, rfl⟩
abbrev cc2_stg5_0 : Ref sig .tc := ⟨.vmem, 11, rfl⟩
abbrev cc2_stg6_0 : Ref sig .tc := ⟨.vmem, 12, rfl⟩
abbrev cc2_stg7_0 : Ref sig .tc := ⟨.vmem, 13, rfl⟩
abbrev cc2_stg8_0 : Ref sig .tc := ⟨.vmem, 14, rfl⟩
abbrev cc2_stg9_0 : Ref sig .tc := ⟨.vmem, 15, rfl⟩
abbrev cc2_stg10_0 : Ref sig .tc := ⟨.vmem, 16, rfl⟩
abbrev cc2_stg11_0 : Ref sig .tc := ⟨.vmem, 17, rfl⟩
abbrev cc2_stg12_0 : Ref sig .tc := ⟨.vmem, 18, rfl⟩
abbrev cc2_stg13_0 : Ref sig .tc := ⟨.vmem, 19, rfl⟩
abbrev cc2_stg14_0 : Ref sig .tc := ⟨.vmem, 20, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem9_0 : DmaSem sig := 23
abbrev cc2_sem10_0 : DmaSem sig := 24
abbrev cc2_sem11_0 : DmaSem sig := 25
abbrev cc2_sem12_0 : DmaSem sig := 26
abbrev cc2_sem13_0 : DmaSem sig := 27
abbrev cc2_sem14_0 : DmaSem sig := 28
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_2 : BitVec 32 := 0#32
  let c16_i32_3 : BitVec 32 := 16#32
  let v7 : BitVec 32 := Scalar.addi c0_i32_2 c16_i32_3
  let c1_i32 : BitVec 32 := 1#32
  ⟨c0_i32_2, v7, c1_i32⟩
def k0_off1 (k0_t1 : Fin k0_t1_loop.trips) : Fin 2 → Nat :=
  let c0_i32_2 : BitVec 32 := 0#32
  let c1_i32 : BitVec 32 := 1#32
  let arg17 : BitVec 32 := Scf.iv c0_i32_2 c1_i32 k0_t1
  let v58 : Index := Scalar.indexCast arg17
  let c0_49 : Index := 0#32
  ![v58.toNat, 0]
def k0_off2 (k0_t1 : Fin k0_t1_loop.trips) : Fin 2 → Nat :=
  let c0_i32_2 : BitVec 32 := 0#32
  let c1_i32 : BitVec 32 := 1#32
  let arg17 : BitVec 32 := Scf.iv c0_i32_2 c1_i32 k0_t1
  let v62 : Index := Scalar.indexCast arg17
  let c16_50 : Index := 16#32
  ![v62.toNat, 16]
def k0_off3 (k0_t1 : Fin k0_t1_loop.trips) : Fin 2 → Nat :=
  let c0_i32_2 : BitVec 32 := 0#32
  let c1_i32 : BitVec 32 := 1#32
  let arg17 : BitVec 32 := Scf.iv c0_i32_2 c1_i32 k0_t1
  let v66 : Index := Scalar.indexCast arg17
  let c32 : Index := 32#32
  ![v66.toNat, 32]
def k0_off4 (k0_t1 : Fin k0_t1_loop.trips) : Fin 2 → Nat :=
  let c0_i32_2 : BitVec 32 := 0#32
  let c1_i32 : BitVec 32 := 1#32
  let arg17 : BitVec 32 := Scf.iv c0_i32_2 c1_i32 k0_t1
  let v70 : Index := Scalar.indexCast arg17
  let c48 : Index := 48#32
  ![v70.toNat, 48]
def k0_off5 (k0_t1 : Fin k0_t1_loop.trips) : Fin 2 → Nat :=
  let c0_i32_2 : BitVec 32 := 0#32
  let c1_i32 : BitVec 32 := 1#32
  let arg17 : BitVec 32 := Scf.iv c0_i32_2 c1_i32 k0_t1
  let v74 : Index := Scalar.indexCast arg17
  let c64 : Index := 64#32
  ![v74.toNat, 64]
def k0_off6 (k0_t1 : Fin k0_t1_loop.trips) : Fin 2 → Nat :=
  let c0_i32_2 : BitVec 32 := 0#32
  let c1_i32 : BitVec 32 := 1#32
  let arg17 : BitVec 32 := Scf.iv c0_i32_2 c1_i32 k0_t1
  let v78 : Index := Scalar.indexCast arg17
  let c80 : Index := 80#32
  ![v78.toNat, 80]
def k0_off7 (k0_t1 : Fin k0_t1_loop.trips) : Fin 2 → Nat :=
  let c0_i32_2 : BitVec 32 := 0#32
  let c1_i32 : BitVec 32 := 1#32
  let arg17 : BitVec 32 := Scf.iv c0_i32_2 c1_i32 k0_t1
  let v82 : Index := Scalar.indexCast arg17
  let c96 : Index := 96#32
  ![v82.toNat, 96]
def k0_off8 (k0_t1 : Fin k0_t1_loop.trips) : Fin 2 → Nat :=
  let c0_i32_2 : BitVec 32 := 0#32
  let c1_i32 : BitVec 32 := 1#32
  let arg17 : BitVec 32 := Scf.iv c0_i32_2 c1_i32 k0_t1
  let v86 : Index := Scalar.indexCast arg17
  let c112 : Index := 112#32
  ![v86.toNat, 112]
def k0_mult1 (i : grid0.Coords) : BitVec 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_5 : BitVec 32 := 0#32
  let v13 : BitVec 32 := Scalar.addi v4 c0_i32_5
  let c319744_i32 : BitVec 32 := 319744#32
  let v14 : BitVec 32 := Scalar.minsi v13 c319744_i32
  v14
def k0_off9 (i : grid0.Coords) (c0_i32_5 : BitVec 32) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let v13 : BitVec 32 := Scalar.addi v4 c0_i32_5
  let c319744_i32 : BitVec 32 := 319744#32
  let v14 : BitVec 32 := Scalar.minsi v13 c319744_i32
  let v15 : BitVec 32 := v14
  let c0_i32_6 : BitVec 32 := 0#32
  ![v15.toNat, 0]
def k0_mult2 (i : grid0.Coords) : BitVec 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c256_i32 : BitVec 32 := 256#32
  let v18 : BitVec 32 := Scalar.addi v4 c256_i32
  let c319744_i32_8 : BitVec 32 := 319744#32
  let v19 : BitVec 32 := Scalar.minsi v18 c319744_i32_8
  v19
@[reducible] def k0_t2_loop : Scf.Loop 32 :=
  let c0_i32_12 : BitVec 32 := 0#32
  let c20_i32 : BitVec 32 := 20#32
  let v23 : BitVec 32 := Scalar.addi c0_i32_12 c20_i32
  let c1_i32_13 : BitVec 32 := 1#32
  ⟨c0_i32_12, v23, c1_i32_13⟩
def k0_cond1 (k0_t2 : Fin k0_t2_loop.trips) : BitVec 1 :=
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c40_i32 : BitVec 32 := 40#32
  let v60 : BitVec 1 := Scalar.cmpi .slt v59 c40_i32
  let v61 : BitVec 32 := Scalar.extui v60
  let c0_i32_51 : BitVec 32 := 0#32
  let v62 : BitVec 1 := Scalar.cmpi .ne v61 c0_i32_51
  v62

def k0_mult3 (i : grid0.Coords) (k0_t2 : Fin k0_t2_loop.trips) : BitVec 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_57 : BitVec 32 := 256#32
  let v68 : BitVec 32 := Scalar.muli v59 c256_i32_57
  let v69 : BitVec 32 := Scalar.addi v4 v68
  let c319744_i32_58 : BitVec 32 := 319744#32
  let v70 : BitVec 32 := Scalar.minsi v69 c319744_i32_58
  v70
def k0_off10 (i : grid0.Coords) (k0_t2 : Fin k0_t2_loop.trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_57 : BitVec 32 := 256#32
  let v68 : BitVec 32 := Scalar.muli v59 c256_i32_57
  let v69 : BitVec 32 := Scalar.addi v4 v68
  let c319744_i32_58 : BitVec 32 := 319744#32
  let v70 : BitVec 32 := Scalar.minsi v69 c319744_i32_58
  let v71 : BitVec 32 := v70
  let c0_i32_59 : BitVec 32 := 0#32
  ![v71.toNat, 0]
def k0_mult4 (i : grid0.Coords) (k0_t2 : Fin k0_t2_loop.trips) : BitVec 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  v80
@[reducible] def k0_t3_loop (i : grid0.Coords) (k0_t2 : Fin k0_t2_loop.trips) (v83 : BitVec 32) (v86 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v84 : BitVec 32 := Scalar.maxsi v83 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_85 : BitVec 32 := 1#32
  ⟨v84, v234, c1_i32_85⟩
def k0_cond2 (i : grid0.Coords) (k0_t2 : Fin k0_t2_loop.trips) (v83 : BitVec 32) (v86 : BitVec 32) : BitVec 1 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v87 : BitVec 32 := Scalar.minsi v86 v77
  let v84 : BitVec 32 := Scalar.maxsi v83 v75
  let v88 : BitVec 1 := Scalar.cmpi .sgt v87 v84
  let v89 : BitVec 32 := Scalar.extui v88
  let c0_i32_65 : BitVec 32 := 0#32
  let v90 : BitVec 1 := Scalar.cmpi .ne v89 c0_i32_65
  v90

def k0_off11 (i : grid0.Coords) (k0_t2 : Fin k0_t2_loop.trips) (v83 : BitVec 32) (v86 : BitVec 32) (k0_t3 : Fin (k0_t3_loop i k0_t2 v83 v86).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v84 : BitVec 32 := Scalar.maxsi v83 v75
  let c1_i32_85 : BitVec 32 := 1#32
  let arg19 : BitVec 32 := Scf.iv v84 c1_i32_85 k0_t3
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_113 : Index := 0#32
  ![v302.toNat, 0]
def k0_off12 (i : grid0.Coords) (k0_t2 : Fin k0_t2_loop.trips) (v83 : BitVec 32) (v86 : BitVec 32) (k0_t3 : Fin (k0_t3_loop i k0_t2 v83 v86).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v84 : BitVec 32 := Scalar.maxsi v83 v75
  let c1_i32_85 : BitVec 32 := 1#32
  let arg19 : BitVec 32 := Scf.iv v84 c1_i32_85 k0_t3
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_114 : Index := 16#32
  ![v306.toNat, 16]
def k0_off13 (i : grid0.Coords) (k0_t2 : Fin k0_t2_loop.trips) (v83 : BitVec 32) (v86 : BitVec 32) (k0_t3 : Fin (k0_t3_loop i k0_t2 v83 v86).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v84 : BitVec 32 := Scalar.maxsi v83 v75
  let c1_i32_85 : BitVec 32 := 1#32
  let arg19 : BitVec 32 := Scf.iv v84 c1_i32_85 k0_t3
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_115 : Index := 32#32
  ![v310.toNat, 32]
def k0_off14 (i : grid0.Coords) (k0_t2 : Fin k0_t2_loop.trips) (v83 : BitVec 32) (v86 : BitVec 32) (k0_t3 : Fin (k0_t3_loop i k0_t2 v83 v86).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v84 : BitVec 32 := Scalar.maxsi v83 v75
  let c1_i32_85 : BitVec 32 := 1#32
  let arg19 : BitVec 32 := Scf.iv v84 c1_i32_85 k0_t3
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_116 : Index := 48#32
  ![v314.toNat, 48]
def k0_off15 (i : grid0.Coords) (k0_t2 : Fin k0_t2_loop.trips) (v83 : BitVec 32) (v86 : BitVec 32) (k0_t3 : Fin (k0_t3_loop i k0_t2 v83 v86).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v84 : BitVec 32 := Scalar.maxsi v83 v75
  let c1_i32_85 : BitVec 32 := 1#32
  let arg19 : BitVec 32 := Scf.iv v84 c1_i32_85 k0_t3
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_117 : Index := 64#32
  ![v318.toNat, 64]
def k0_off16 (i : grid0.Coords) (k0_t2 : Fin k0_t2_loop.trips) (v83 : BitVec 32) (v86 : BitVec 32) (k0_t3 : Fin (k0_t3_loop i k0_t2 v83 v86).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v84 : BitVec 32 := Scalar.maxsi v83 v75
  let c1_i32_85 : BitVec 32 := 1#32
  let arg19 : BitVec 32 := Scf.iv v84 c1_i32_85 k0_t3
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_118 : Index := 80#32
  ![v322.toNat, 80]
def k0_off17 (i : grid0.Coords) (k0_t2 : Fin k0_t2_loop.trips) (v83 : BitVec 32) (v86 : BitVec 32) (k0_t3 : Fin (k0_t3_loop i k0_t2 v83 v86).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v84 : BitVec 32 := Scalar.maxsi v83 v75
  let c1_i32_85 : BitVec 32 := 1#32
  let arg19 : BitVec 32 := Scf.iv v84 c1_i32_85 k0_t3
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_119 : Index := 96#32
  ![v326.toNat, 96]
def k0_off18 (i : grid0.Coords) (k0_t2 : Fin k0_t2_loop.trips) (v83 : BitVec 32) (v86 : BitVec 32) (k0_t3 : Fin (k0_t3_loop i k0_t2 v83 v86).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v84 : BitVec 32 := Scalar.maxsi v83 v75
  let c1_i32_85 : BitVec 32 := 1#32
  let arg19 : BitVec 32 := Scf.iv v84 c1_i32_85 k0_t3
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_120 : Index := 112#32
  ![v330.toNat, 112]
@[reducible] def k0_t4_loop (i : grid0.Coords) (k0_t2 : Fin k0_t2_loop.trips) (v83 : BitVec 32) (v86 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v84 : BitVec 32 := Scalar.maxsi v83 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let v231 : BitVec 32 := Scalar.addi v84 v230
  let c1_i32_86 : BitVec 32 := 1#32
  ⟨v234, v231, c1_i32_86⟩
def k0_off19 (i : grid0.Coords) (k0_t2 : Fin k0_t2_loop.trips) (v83 : BitVec 32) (v86 : BitVec 32) (k0_t4 : Fin (k0_t4_loop i k0_t2 v83 v86).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v84 : BitVec 32 := Scalar.maxsi v83 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_86 : BitVec 32 := 1#32
  let arg19 : BitVec 32 := Scf.iv v234 c1_i32_86 k0_t4
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_113 : Index := 0#32
  ![v302.toNat, 0]
def k0_off20 (i : grid0.Coords) (k0_t2 : Fin k0_t2_loop.trips) (v83 : BitVec 32) (v86 : BitVec 32) (k0_t4 : Fin (k0_t4_loop i k0_t2 v83 v86).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v84 : BitVec 32 := Scalar.maxsi v83 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_86 : BitVec 32 := 1#32
  let arg19 : BitVec 32 := Scf.iv v234 c1_i32_86 k0_t4
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_114 : Index := 16#32
  ![v306.toNat, 16]
def k0_off21 (i : grid0.Coords) (k0_t2 : Fin k0_t2_loop.trips) (v83 : BitVec 32) (v86 : BitVec 32) (k0_t4 : Fin (k0_t4_loop i k0_t2 v83 v86).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v84 : BitVec 32 := Scalar.maxsi v83 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_86 : BitVec 32 := 1#32
  let arg19 : BitVec 32 := Scf.iv v234 c1_i32_86 k0_t4
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_115 : Index := 32#32
  ![v310.toNat, 32]
def k0_off22 (i : grid0.Coords) (k0_t2 : Fin k0_t2_loop.trips) (v83 : BitVec 32) (v86 : BitVec 32) (k0_t4 : Fin (k0_t4_loop i k0_t2 v83 v86).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v84 : BitVec 32 := Scalar.maxsi v83 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_86 : BitVec 32 := 1#32
  let arg19 : BitVec 32 := Scf.iv v234 c1_i32_86 k0_t4
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_116 : Index := 48#32
  ![v314.toNat, 48]
def k0_off23 (i : grid0.Coords) (k0_t2 : Fin k0_t2_loop.trips) (v83 : BitVec 32) (v86 : BitVec 32) (k0_t4 : Fin (k0_t4_loop i k0_t2 v83 v86).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v84 : BitVec 32 := Scalar.maxsi v83 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_86 : BitVec 32 := 1#32
  let arg19 : BitVec 32 := Scf.iv v234 c1_i32_86 k0_t4
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_117 : Index := 64#32
  ![v318.toNat, 64]
def k0_off24 (i : grid0.Coords) (k0_t2 : Fin k0_t2_loop.trips) (v83 : BitVec 32) (v86 : BitVec 32) (k0_t4 : Fin (k0_t4_loop i k0_t2 v83 v86).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v84 : BitVec 32 := Scalar.maxsi v83 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_86 : BitVec 32 := 1#32
  let arg19 : BitVec 32 := Scf.iv v234 c1_i32_86 k0_t4
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_118 : Index := 80#32
  ![v322.toNat, 80]
def k0_off25 (i : grid0.Coords) (k0_t2 : Fin k0_t2_loop.trips) (v83 : BitVec 32) (v86 : BitVec 32) (k0_t4 : Fin (k0_t4_loop i k0_t2 v83 v86).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v84 : BitVec 32 := Scalar.maxsi v83 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_86 : BitVec 32 := 1#32
  let arg19 : BitVec 32 := Scf.iv v234 c1_i32_86 k0_t4
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_119 : Index := 96#32
  ![v326.toNat, 96]
def k0_off26 (i : grid0.Coords) (k0_t2 : Fin k0_t2_loop.trips) (v83 : BitVec 32) (v86 : BitVec 32) (k0_t4 : Fin (k0_t4_loop i k0_t2 v83 v86).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v84 : BitVec 32 := Scalar.maxsi v83 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_86 : BitVec 32 := 1#32
  let arg19 : BitVec 32 := Scf.iv v234 c1_i32_86 k0_t4
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_120 : Index := 112#32
  ![v330.toNat, 112]

def k0_chk1 (i : grid0.Coords) (k0_t2 : Fin k0_t2_loop.trips) (v83 : BitVec 32) (v86 : BitVec 32) : Prop :=
  (∀ (k0_h1 : k0_cond1 k0_t2 = 1#1), ∀ (k0_h2 : k0_cond2 i k0_t2 v83 v86 = 1#1), (k0_t3_loop i k0_t2 v83 v86).OK) ∧
  (∀ k0_t3 : Fin (k0_t3_loop i k0_t2 v83 v86).trips, ∀ (k0_h1 : k0_cond1 k0_t2 = 1#1), ∀ (k0_h2 : k0_cond2 i k0_t2 v83 v86 = 1#1), ∀ a, (k0_off11 i k0_t2 v83 v86 k0_t3) a + S1x16.size a ≤ S256x128.size a) ∧
  (∀ k0_t3 : Fin (k0_t3_loop i k0_t2 v83 v86).trips, ∀ (k0_h1 : k0_cond1 k0_t2 = 1#1), ∀ (k0_h2 : k0_cond2 i k0_t2 v83 v86 = 1#1), ∀ a, (k0_off12 i k0_t2 v83 v86 k0_t3) a + S1x16.size a ≤ S256x128.size a) ∧
  (∀ k0_t3 : Fin (k0_t3_loop i k0_t2 v83 v86).trips, ∀ (k0_h1 : k0_cond1 k0_t2 = 1#1), ∀ (k0_h2 : k0_cond2 i k0_t2 v83 v86 = 1#1), ∀ a, (k0_off13 i k0_t2 v83 v86 k0_t3) a + S1x16.size a ≤ S256x128.size a) ∧
  (∀ k0_t3 : Fin (k0_t3_loop i k0_t2 v83 v86).trips, ∀ (k0_h1 : k0_cond1 k0_t2 = 1#1), ∀ (k0_h2 : k0_cond2 i k0_t2 v83 v86 = 1#1), ∀ a, (k0_off14 i k0_t2 v83 v86 k0_t3) a + S1x16.size a ≤ S256x128.size a) ∧
  (∀ k0_t3 : Fin (k0_t3_loop i k0_t2 v83 v86).trips, ∀ (k0_h1 : k0_cond1 k0_t2 = 1#1), ∀ (k0_h2 : k0_cond2 i k0_t2 v83 v86 = 1#1), ∀ a, (k0_off15 i k0_t2 v83 v86 k0_t3) a + S1x16.size a ≤ S256x128.size a) ∧
  (∀ k0_t3 : Fin (k0_t3_loop i k0_t2 v83 v86).trips, ∀ (k0_h1 : k0_cond1 k0_t2 = 1#1), ∀ (k0_h2 : k0_cond2 i k0_t2 v83 v86 = 1#1), ∀ a, (k0_off16 i k0_t2 v83 v86 k0_t3) a + S1x16.size a ≤ S256x128.size a) ∧
  (∀ k0_t3 : Fin (k0_t3_loop i k0_t2 v83 v86).trips, ∀ (k0_h1 : k0_cond1 k0_t2 = 1#1), ∀ (k0_h2 : k0_cond2 i k0_t2 v83 v86 = 1#1), ∀ a, (k0_off17 i k0_t2 v83 v86 k0_t3) a + S1x16.size a ≤ S256x128.size a) ∧
  (∀ k0_t3 : Fin (k0_t3_loop i k0_t2 v83 v86).trips, ∀ (k0_h1 : k0_cond1 k0_t2 = 1#1), ∀ (k0_h2 : k0_cond2 i k0_t2 v83 v86 = 1#1), ∀ a, (k0_off18 i k0_t2 v83 v86 k0_t3) a + S1x16.size a ≤ S256x128.size a) ∧
  (∀ (k0_h1 : k0_cond1 k0_t2 = 1#1), ∀ (k0_h2 : k0_cond2 i k0_t2 v83 v86 = 1#1), (k0_t4_loop i k0_t2 v83 v86).OK) ∧
  (∀ k0_t4 : Fin (k0_t4_loop i k0_t2 v83 v86).trips, ∀ (k0_h1 : k0_cond1 k0_t2 = 1#1), ∀ (k0_h2 : k0_cond2 i k0_t2 v83 v86 = 1#1), ∀ a, (k0_off19 i k0_t2 v83 v86 k0_t4) a + S1x16.size a ≤ S256x128.size a) ∧
  (∀ k0_t4 : Fin (k0_t4_loop i k0_t2 v83 v86).trips, ∀ (k0_h1 : k0_cond1 k0_t2 = 1#1), ∀ (k0_h2 : k0_cond2 i k0_t2 v83 v86 = 1#1), ∀ a, (k0_off20 i k0_t2 v83 v86 k0_t4) a + S1x16.size a ≤ S256x128.size a) ∧
  (∀ k0_t4 : Fin (k0_t4_loop i k0_t2 v83 v86).trips, ∀ (k0_h1 : k0_cond1 k0_t2 = 1#1), ∀ (k0_h2 : k0_cond2 i k0_t2 v83 v86 = 1#1), ∀ a, (k0_off21 i k0_t2 v83 v86 k0_t4) a + S1x16.size a ≤ S256x128.size a) ∧
  (∀ k0_t4 : Fin (k0_t4_loop i k0_t2 v83 v86).trips, ∀ (k0_h1 : k0_cond1 k0_t2 = 1#1), ∀ (k0_h2 : k0_cond2 i k0_t2 v83 v86 = 1#1), ∀ a, (k0_off22 i k0_t2 v83 v86 k0_t4) a + S1x16.size a ≤ S256x128.size a) ∧
  (∀ k0_t4 : Fin (k0_t4_loop i k0_t2 v83 v86).trips, ∀ (k0_h1 : k0_cond1 k0_t2 = 1#1), ∀ (k0_h2 : k0_cond2 i k0_t2 v83 v86 = 1#1), ∀ a, (k0_off23 i k0_t2 v83 v86 k0_t4) a + S1x16.size a ≤ S256x128.size a) ∧
  (∀ k0_t4 : Fin (k0_t4_loop i k0_t2 v83 v86).trips, ∀ (k0_h1 : k0_cond1 k0_t2 = 1#1), ∀ (k0_h2 : k0_cond2 i k0_t2 v83 v86 = 1#1), ∀ a, (k0_off24 i k0_t2 v83 v86 k0_t4) a + S1x16.size a ≤ S256x128.size a) ∧
  (∀ k0_t4 : Fin (k0_t4_loop i k0_t2 v83 v86).trips, ∀ (k0_h1 : k0_cond1 k0_t2 = 1#1), ∀ (k0_h2 : k0_cond2 i k0_t2 v83 v86 = 1#1), ∀ a, (k0_off25 i k0_t2 v83 v86 k0_t4) a + S1x16.size a ≤ S256x128.size a) ∧
  (∀ k0_t4 : Fin (k0_t4_loop i k0_t2 v83 v86).trips, ∀ (k0_h1 : k0_cond1 k0_t2 = 1#1), ∀ (k0_h2 : k0_cond2 i k0_t2 v83 v86 = 1#1), ∀ a, (k0_off26 i k0_t2 v83 v86 k0_t4) a + S1x16.size a ≤ S256x128.size a)
theorem k0_t3_ok : ∀ (i : grid0.Coords) (k0_t2 : Fin k0_t2_loop.trips) (v83 : BitVec 32) (v86 : BitVec 32) (k0_hw1 : k0_chk1 i k0_t2 v83 v86), ∀ (k0_h1 : k0_cond1 k0_t2 = 1#1), ∀ (k0_h2 : k0_cond2 i k0_t2 v83 v86 = 1#1), (k0_t3_loop i k0_t2 v83 v86).OK := fun i k0_t2 v83 v86 k0_hw1 k0_h1 k0_h2 => k0_hw1.1 k0_h1 k0_h2
theorem k0_off11_inb : ∀ (i : grid0.Coords) (k0_t2 : Fin k0_t2_loop.trips) (v83 : BitVec 32) (v86 : BitVec 32) (k0_hw1 : k0_chk1 i k0_t2 v83 v86) (k0_t3 : Fin (k0_t3_loop i k0_t2 v83 v86).trips), ∀ (k0_h1 : k0_cond1 k0_t2 = 1#1), ∀ (k0_h2 : k0_cond2 i k0_t2 v83 v86 = 1#1), ∀ a, (k0_off11 i k0_t2 v83 v86 k0_t3) a + S1x16.size a ≤ S256x128.size a := fun i k0_t2 v83 v86 k0_hw1 k0_t3 k0_h1 k0_h2 => k0_hw1.2.1 k0_t3 k0_h1 k0_h2
theorem k0_off12_inb : ∀ (i : grid0.Coords) (k0_t2 : Fin k0_t2_loop.trips) (v83 : BitVec 32) (v86 : BitVec 32) (k0_hw1 : k0_chk1 i k0_t2 v83 v86) (k0_t3 : Fin (k0_t3_loop i k0_t2 v83 v86).trips), ∀ (k0_h1 : k0_cond1 k0_t2 = 1#1), ∀ (k0_h2 : k0_cond2 i k0_t2 v83 v86 = 1#1), ∀ a, (k0_off12 i k0_t2 v83 v86 k0_t3) a + S1x16.size a ≤ S256x128.size a := fun i k0_t2 v83 v86 k0_hw1 k0_t3 k0_h1 k0_h2 => k0_hw1.2.2.1 k0_t3 k0_h1 k0_h2
theorem k0_off13_inb : ∀ (i : grid0.Coords) (k0_t2 : Fin k0_t2_loop.trips) (v83 : BitVec 32) (v86 : BitVec 32) (k0_hw1 : k0_chk1 i k0_t2 v83 v86) (k0_t3 : Fin (k0_t3_loop i k0_t2 v83 v86).trips), ∀ (k0_h1 : k0_cond1 k0_t2 = 1#1), ∀ (k0_h2 : k0_cond2 i k0_t2 v83 v86 = 1#1), ∀ a, (k0_off13 i k0_t2 v83 v86 k0_t3) a + S1x16.size a ≤ S256x128.size a := fun i k0_t2 v83 v86 k0_hw1 k0_t3 k0_h1 k0_h2 => k0_hw1.2.2.2.1 k0_t3 k0_h1 k0_h2
theorem k0_off14_inb : ∀ (i : grid0.Coords) (k0_t2 : Fin k0_t2_loop.trips) (v83 : BitVec 32) (v86 : BitVec 32) (k0_hw1 : k0_chk1 i k0_t2 v83 v86) (k0_t3 : Fin (k0_t3_loop i k0_t2 v83 v86).trips), ∀ (k0_h1 : k0_cond1 k0_t2 = 1#1), ∀ (k0_h2 : k0_cond2 i k0_t2 v83 v86 = 1#1), ∀ a, (k0_off14 i k0_t2 v83 v86 k0_t3) a + S1x16.size a ≤ S256x128.size a := fun i k0_t2 v83 v86 k0_hw1 k0_t3 k0_h1 k0_h2 => k0_hw1.2.2.2.2.1 k0_t3 k0_h1 k0_h2
theorem k0_off15_inb : ∀ (i : grid0.Coords) (k0_t2 : Fin k0_t2_loop.trips) (v83 : BitVec 32) (v86 : BitVec 32) (k0_hw1 : k0_chk1 i k0_t2 v83 v86) (k0_t3 : Fin (k0_t3_loop i k0_t2 v83 v86).trips), ∀ (k0_h1 : k0_cond1 k0_t2 = 1#1), ∀ (k0_h2 : k0_cond2 i k0_t2 v83 v86 = 1#1), ∀ a, (k0_off15 i k0_t2 v83 v86 k0_t3) a + S1x16.size a ≤ S256x128.size a := fun i k0_t2 v83 v86 k0_hw1 k0_t3 k0_h1 k0_h2 => k0_hw1.2.2.2.2.2.1 k0_t3 k0_h1 k0_h2
theorem k0_off16_inb : ∀ (i : grid0.Coords) (k0_t2 : Fin k0_t2_loop.trips) (v83 : BitVec 32) (v86 : BitVec 32) (k0_hw1 : k0_chk1 i k0_t2 v83 v86) (k0_t3 : Fin (k0_t3_loop i k0_t2 v83 v86).trips), ∀ (k0_h1 : k0_cond1 k0_t2 = 1#1), ∀ (k0_h2 : k0_cond2 i k0_t2 v83 v86 = 1#1), ∀ a, (k0_off16 i k0_t2 v83 v86 k0_t3) a + S1x16.size a ≤ S256x128.size a := fun i k0_t2 v83 v86 k0_hw1 k0_t3 k0_h1 k0_h2 => k0_hw1.2.2.2.2.2.2.1 k0_t3 k0_h1 k0_h2
theorem k0_off17_inb : ∀ (i : grid0.Coords) (k0_t2 : Fin k0_t2_loop.trips) (v83 : BitVec 32) (v86 : BitVec 32) (k0_hw1 : k0_chk1 i k0_t2 v83 v86) (k0_t3 : Fin (k0_t3_loop i k0_t2 v83 v86).trips), ∀ (k0_h1 : k0_cond1 k0_t2 = 1#1), ∀ (k0_h2 : k0_cond2 i k0_t2 v83 v86 = 1#1), ∀ a, (k0_off17 i k0_t2 v83 v86 k0_t3) a + S1x16.size a ≤ S256x128.size a := fun i k0_t2 v83 v86 k0_hw1 k0_t3 k0_h1 k0_h2 => k0_hw1.2.2.2.2.2.2.2.1 k0_t3 k0_h1 k0_h2
theorem k0_off18_inb : ∀ (i : grid0.Coords) (k0_t2 : Fin k0_t2_loop.trips) (v83 : BitVec 32) (v86 : BitVec 32) (k0_hw1 : k0_chk1 i k0_t2 v83 v86) (k0_t3 : Fin (k0_t3_loop i k0_t2 v83 v86).trips), ∀ (k0_h1 : k0_cond1 k0_t2 = 1#1), ∀ (k0_h2 : k0_cond2 i k0_t2 v83 v86 = 1#1), ∀ a, (k0_off18 i k0_t2 v83 v86 k0_t3) a + S1x16.size a ≤ S256x128.size a := fun i k0_t2 v83 v86 k0_hw1 k0_t3 k0_h1 k0_h2 => k0_hw1.2.2.2.2.2.2.2.2.1 k0_t3 k0_h1 k0_h2
theorem k0_t4_ok : ∀ (i : grid0.Coords) (k0_t2 : Fin k0_t2_loop.trips) (v83 : BitVec 32) (v86 : BitVec 32) (k0_hw1 : k0_chk1 i k0_t2 v83 v86), ∀ (k0_h1 : k0_cond1 k0_t2 = 1#1), ∀ (k0_h2 : k0_cond2 i k0_t2 v83 v86 = 1#1), (k0_t4_loop i k0_t2 v83 v86).OK := fun i k0_t2 v83 v86 k0_hw1 k0_h1 k0_h2 => k0_hw1.2.2.2.2.2.2.2.2.2.1 k0_h1 k0_h2
theorem k0_off19_inb : ∀ (i : grid0.Coords) (k0_t2 : Fin k0_t2_loop.trips) (v83 : BitVec 32) (v86 : BitVec 32) (k0_hw1 : k0_chk1 i k0_t2 v83 v86) (k0_t4 : Fin (k0_t4_loop i k0_t2 v83 v86).trips), ∀ (k0_h1 : k0_cond1 k0_t2 = 1#1), ∀ (k0_h2 : k0_cond2 i k0_t2 v83 v86 = 1#1), ∀ a, (k0_off19 i k0_t2 v83 v86 k0_t4) a + S1x16.size a ≤ S256x128.size a := fun i k0_t2 v83 v86 k0_hw1 k0_t4 k0_h1 k0_h2 => k0_hw1.2.2.2.2.2.2.2.2.2.2.1 k0_t4 k0_h1 k0_h2
theorem k0_off20_inb : ∀ (i : grid0.Coords) (k0_t2 : Fin k0_t2_loop.trips) (v83 : BitVec 32) (v86 : BitVec 32) (k0_hw1 : k0_chk1 i k0_t2 v83 v86) (k0_t4 : Fin (k0_t4_loop i k0_t2 v83 v86).trips), ∀ (k0_h1 : k0_cond1 k0_t2 = 1#1), ∀ (k0_h2 : k0_cond2 i k0_t2 v83 v86 = 1#1), ∀ a, (k0_off20 i k0_t2 v83 v86 k0_t4) a + S1x16.size a ≤ S256x128.size a := fun i k0_t2 v83 v86 k0_hw1 k0_t4 k0_h1 k0_h2 => k0_hw1.2.2.2.2.2.2.2.2.2.2.2.1 k0_t4 k0_h1 k0_h2
theorem k0_off21_inb : ∀ (i : grid0.Coords) (k0_t2 : Fin k0_t2_loop.trips) (v83 : BitVec 32) (v86 : BitVec 32) (k0_hw1 : k0_chk1 i k0_t2 v83 v86) (k0_t4 : Fin (k0_t4_loop i k0_t2 v83 v86).trips), ∀ (k0_h1 : k0_cond1 k0_t2 = 1#1), ∀ (k0_h2 : k0_cond2 i k0_t2 v83 v86 = 1#1), ∀ a, (k0_off21 i k0_t2 v83 v86 k0_t4) a + S1x16.size a ≤ S256x128.size a := fun i k0_t2 v83 v86 k0_hw1 k0_t4 k0_h1 k0_h2 => k0_hw1.2.2.2.2.2.2.2.2.2.2.2.2.1 k0_t4 k0_h1 k0_h2
theorem k0_off22_inb : ∀ (i : grid0.Coords) (k0_t2 : Fin k0_t2_loop.trips) (v83 : BitVec 32) (v86 : BitVec 32) (k0_hw1 : k0_chk1 i k0_t2 v83 v86) (k0_t4 : Fin (k0_t4_loop i k0_t2 v83 v86).trips), ∀ (k0_h1 : k0_cond1 k0_t2 = 1#1), ∀ (k0_h2 : k0_cond2 i k0_t2 v83 v86 = 1#1), ∀ a, (k0_off22 i k0_t2 v83 v86 k0_t4) a + S1x16.size a ≤ S256x128.size a := fun i k0_t2 v83 v86 k0_hw1 k0_t4 k0_h1 k0_h2 => k0_hw1.2.2.2.2.2.2.2.2.2.2.2.2.2.1 k0_t4 k0_h1 k0_h2
theorem k0_off23_inb : ∀ (i : grid0.Coords) (k0_t2 : Fin k0_t2_loop.trips) (v83 : BitVec 32) (v86 : BitVec 32) (k0_hw1 : k0_chk1 i k0_t2 v83 v86) (k0_t4 : Fin (k0_t4_loop i k0_t2 v83 v86).trips), ∀ (k0_h1 : k0_cond1 k0_t2 = 1#1), ∀ (k0_h2 : k0_cond2 i k0_t2 v83 v86 = 1#1), ∀ a, (k0_off23 i k0_t2 v83 v86 k0_t4) a + S1x16.size a ≤ S256x128.size a := fun i k0_t2 v83 v86 k0_hw1 k0_t4 k0_h1 k0_h2 => k0_hw1.2.2.2.2.2.2.2.2.2.2.2.2.2.2.1 k0_t4 k0_h1 k0_h2
theorem k0_off24_inb : ∀ (i : grid0.Coords) (k0_t2 : Fin k0_t2_loop.trips) (v83 : BitVec 32) (v86 : BitVec 32) (k0_hw1 : k0_chk1 i k0_t2 v83 v86) (k0_t4 : Fin (k0_t4_loop i k0_t2 v83 v86).trips), ∀ (k0_h1 : k0_cond1 k0_t2 = 1#1), ∀ (k0_h2 : k0_cond2 i k0_t2 v83 v86 = 1#1), ∀ a, (k0_off24 i k0_t2 v83 v86 k0_t4) a + S1x16.size a ≤ S256x128.size a := fun i k0_t2 v83 v86 k0_hw1 k0_t4 k0_h1 k0_h2 => k0_hw1.2.2.2.2.2.2.2.2.2.2.2.2.2.2.2.1 k0_t4 k0_h1 k0_h2
theorem k0_off25_inb : ∀ (i : grid0.Coords) (k0_t2 : Fin k0_t2_loop.trips) (v83 : BitVec 32) (v86 : BitVec 32) (k0_hw1 : k0_chk1 i k0_t2 v83 v86) (k0_t4 : Fin (k0_t4_loop i k0_t2 v83 v86).trips), ∀ (k0_h1 : k0_cond1 k0_t2 = 1#1), ∀ (k0_h2 : k0_cond2 i k0_t2 v83 v86 = 1#1), ∀ a, (k0_off25 i k0_t2 v83 v86 k0_t4) a + S1x16.size a ≤ S256x128.size a := fun i k0_t2 v83 v86 k0_hw1 k0_t4 k0_h1 k0_h2 => k0_hw1.2.2.2.2.2.2.2.2.2.2.2.2.2.2.2.2.1 k0_t4 k0_h1 k0_h2
theorem k0_off26_inb : ∀ (i : grid0.Coords) (k0_t2 : Fin k0_t2_loop.trips) (v83 : BitVec 32) (v86 : BitVec 32) (k0_hw1 : k0_chk1 i k0_t2 v83 v86) (k0_t4 : Fin (k0_t4_loop i k0_t2 v83 v86).trips), ∀ (k0_h1 : k0_cond1 k0_t2 = 1#1), ∀ (k0_h2 : k0_cond2 i k0_t2 v83 v86 = 1#1), ∀ a, (k0_off26 i k0_t2 v83 v86 k0_t4) a + S1x16.size a ≤ S256x128.size a := fun i k0_t2 v83 v86 k0_hw1 k0_t4 k0_h1 k0_h2 => k0_hw1.2.2.2.2.2.2.2.2.2.2.2.2.2.2.2.2.2 k0_t4 k0_h1 k0_h2

@[reducible] def k0_t5_loop (i : grid0.Coords) (k0_t2 : Fin k0_t2_loop.trips) (v92 : BitVec 32) (v95 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v93 : BitVec 32 := Scalar.maxsi v92 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_85 : BitVec 32 := 1#32
  ⟨v93, v234, c1_i32_85⟩
def k0_cond3 (i : grid0.Coords) (k0_t2 : Fin k0_t2_loop.trips) (v92 : BitVec 32) (v95 : BitVec 32) : BitVec 1 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v96 : BitVec 32 := Scalar.minsi v95 v77
  let v93 : BitVec 32 := Scalar.maxsi v92 v75
  let v97 : BitVec 1 := Scalar.cmpi .sgt v96 v93
  let v98 : BitVec 32 := Scalar.extui v97
  let c0_i32_66 : BitVec 32 := 0#32
  let v99 : BitVec 1 := Scalar.cmpi .ne v98 c0_i32_66
  v99

def k0_off27 (i : grid0.Coords) (k0_t2 : Fin k0_t2_loop.trips) (v92 : BitVec 32) (v95 : BitVec 32) (k0_t5 : Fin (k0_t5_loop i k0_t2 v92 v95).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v93 : BitVec 32 := Scalar.maxsi v92 v75
  let c1_i32_85 : BitVec 32 := 1#32
  let arg19 : BitVec 32 := Scf.iv v93 c1_i32_85 k0_t5
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_113 : Index := 0#32
  ![v302.toNat, 0]
def k0_off28 (i : grid0.Coords) (k0_t2 : Fin k0_t2_loop.trips) (v92 : BitVec 32) (v95 : BitVec 32) (k0_t5 : Fin (k0_t5_loop i k0_t2 v92 v95).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v93 : BitVec 32 := Scalar.maxsi v92 v75
  let c1_i32_85 : BitVec 32 := 1#32
  let arg19 : BitVec 32 := Scf.iv v93 c1_i32_85 k0_t5
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_114 : Index := 16#32
  ![v306.toNat, 16]
def k0_off29 (i : grid0.Coords) (k0_t2 : Fin k0_t2_loop.trips) (v92 : BitVec 32) (v95 : BitVec 32) (k0_t5 : Fin (k0_t5_loop i k0_t2 v92 v95).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v93 : BitVec 32 := Scalar.maxsi v92 v75
  let c1_i32_85 : BitVec 32 := 1#32
  let arg19 : BitVec 32 := Scf.iv v93 c1_i32_85 k0_t5
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_115 : Index := 32#32
  ![v310.toNat, 32]
def k0_off30 (i : grid0.Coords) (k0_t2 : Fin k0_t2_loop.trips) (v92 : BitVec 32) (v95 : BitVec 32) (k0_t5 : Fin (k0_t5_loop i k0_t2 v92 v95).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v93 : BitVec 32 := Scalar.maxsi v92 v75
  let c1_i32_85 : BitVec 32 := 1#32
  let arg19 : BitVec 32 := Scf.iv v93 c1_i32_85 k0_t5
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_116 : Index := 48#32
  ![v314.toNat, 48]
def k0_off31 (i : grid0.Coords) (k0_t2 : Fin k0_t2_loop.trips) (v92 : BitVec 32) (v95 : BitVec 32) (k0_t5 : Fin (k0_t5_loop i k0_t2 v92 v95).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v93 : BitVec 32 := Scalar.maxsi v92 v75
  let c1_i32_85 : BitVec 32 := 1#32
  let arg19 : BitVec 32 := Scf.iv v93 c1_i32_85 k0_t5
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_117 : Index := 64#32
  ![v318.toNat, 64]
def k0_off32 (i : grid0.Coords) (k0_t2 : Fin k0_t2_loop.trips) (v92 : BitVec 32) (v95 : BitVec 32) (k0_t5 : Fin (k0_t5_loop i k0_t2 v92 v95).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v93 : BitVec 32 := Scalar.maxsi v92 v75
  let c1_i32_85 : BitVec 32 := 1#32
  let arg19 : BitVec 32 := Scf.iv v93 c1_i32_85 k0_t5
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_118 : Index := 80#32
  ![v322.toNat, 80]
def k0_off33 (i : grid0.Coords) (k0_t2 : Fin k0_t2_loop.trips) (v92 : BitVec 32) (v95 : BitVec 32) (k0_t5 : Fin (k0_t5_loop i k0_t2 v92 v95).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v93 : BitVec 32 := Scalar.maxsi v92 v75
  let c1_i32_85 : BitVec 32 := 1#32
  let arg19 : BitVec 32 := Scf.iv v93 c1_i32_85 k0_t5
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_119 : Index := 96#32
  ![v326.toNat, 96]
def k0_off34 (i : grid0.Coords) (k0_t2 : Fin k0_t2_loop.trips) (v92 : BitVec 32) (v95 : BitVec 32) (k0_t5 : Fin (k0_t5_loop i k0_t2 v92 v95).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v93 : BitVec 32 := Scalar.maxsi v92 v75
  let c1_i32_85 : BitVec 32 := 1#32
  let arg19 : BitVec 32 := Scf.iv v93 c1_i32_85 k0_t5
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_120 : Index := 112#32
  ![v330.toNat, 112]
@[reducible] def k0_t6_loop (i : grid0.Coords) (k0_t2 : Fin k0_t2_loop.trips) (v92 : BitVec 32) (v95 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v93 : BitVec 32 := Scalar.maxsi v92 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let v231 : BitVec 32 := Scalar.addi v93 v230
  let c1_i32_86 : BitVec 32 := 1#32
  ⟨v234, v231, c1_i32_86⟩
def k0_off35 (i : grid0.Coords) (k0_t2 : Fin k0_t2_loop.trips) (v92 : BitVec 32) (v95 : BitVec 32) (k0_t6 : Fin (k0_t6_loop i k0_t2 v92 v95).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v93 : BitVec 32 := Scalar.maxsi v92 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_86 : BitVec 32 := 1#32
  let arg19 : BitVec 32 := Scf.iv v234 c1_i32_86 k0_t6
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_113 : Index := 0#32
  ![v302.toNat, 0]
def k0_off36 (i : grid0.Coords) (k0_t2 : Fin k0_t2_loop.trips) (v92 : BitVec 32) (v95 : BitVec 32) (k0_t6 : Fin (k0_t6_loop i k0_t2 v92 v95).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v93 : BitVec 32 := Scalar.maxsi v92 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_86 : BitVec 32 := 1#32
  let arg19 : BitVec 32 := Scf.iv v234 c1_i32_86 k0_t6
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_114 : Index := 16#32
  ![v306.toNat, 16]
def k0_off37 (i : grid0.Coords) (k0_t2 : Fin k0_t2_loop.trips) (v92 : BitVec 32) (v95 : BitVec 32) (k0_t6 : Fin (k0_t6_loop i k0_t2 v92 v95).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v93 : BitVec 32 := Scalar.maxsi v92 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_86 : BitVec 32 := 1#32
  let arg19 : BitVec 32 := Scf.iv v234 c1_i32_86 k0_t6
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_115 : Index := 32#32
  ![v310.toNat, 32]
def k0_off38 (i : grid0.Coords) (k0_t2 : Fin k0_t2_loop.trips) (v92 : BitVec 32) (v95 : BitVec 32) (k0_t6 : Fin (k0_t6_loop i k0_t2 v92 v95).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v93 : BitVec 32 := Scalar.maxsi v92 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_86 : BitVec 32 := 1#32
  let arg19 : BitVec 32 := Scf.iv v234 c1_i32_86 k0_t6
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_116 : Index := 48#32
  ![v314.toNat, 48]
def k0_off39 (i : grid0.Coords) (k0_t2 : Fin k0_t2_loop.trips) (v92 : BitVec 32) (v95 : BitVec 32) (k0_t6 : Fin (k0_t6_loop i k0_t2 v92 v95).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v93 : BitVec 32 := Scalar.maxsi v92 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_86 : BitVec 32 := 1#32
  let arg19 : BitVec 32 := Scf.iv v234 c1_i32_86 k0_t6
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_117 : Index := 64#32
  ![v318.toNat, 64]
def k0_off40 (i : grid0.Coords) (k0_t2 : Fin k0_t2_loop.trips) (v92 : BitVec 32) (v95 : BitVec 32) (k0_t6 : Fin (k0_t6_loop i k0_t2 v92 v95).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v93 : BitVec 32 := Scalar.maxsi v92 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_86 : BitVec 32 := 1#32
  let arg19 : BitVec 32 := Scf.iv v234 c1_i32_86 k0_t6
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_118 : Index := 80#32
  ![v322.toNat, 80]
def k0_off41 (i : grid0.Coords) (k0_t2 : Fin k0_t2_loop.trips) (v92 : BitVec 32) (v95 : BitVec 32) (k0_t6 : Fin (k0_t6_loop i k0_t2 v92 v95).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v93 : BitVec 32 := Scalar.maxsi v92 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_86 : BitVec 32 := 1#32
  let arg19 : BitVec 32 := Scf.iv v234 c1_i32_86 k0_t6
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_119 : Index := 96#32
  ![v326.toNat, 96]
def k0_off42 (i : grid0.Coords) (k0_t2 : Fin k0_t2_loop.trips) (v92 : BitVec 32) (v95 : BitVec 32) (k0_t6 : Fin (k0_t6_loop i k0_t2 v92 v95).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v93 : BitVec 32 := Scalar.maxsi v92 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_86 : BitVec 32 := 1#32
  let arg19 : BitVec 32 := Scf.iv v234 c1_i32_86 k0_t6
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_120 : Index := 112#32
  ![v330.toNat, 112]

def k0_chk2 (i : grid0.Coords) (k0_t2 : Fin k0_t2_loop.trips) (v92 : BitVec 32) (v95 : BitVec 32) : Prop :=
  (∀ (k0_h1 : k0_cond1 k0_t2 = 1#1), ∀ (k0_h3 : k0_cond3 i k0_t2 v92 v95 = 1#1), (k0_t5_loop i k0_t2 v92 v95).OK) ∧
  (∀ k0_t5 : Fin (k0_t5_loop i k0_t2 v92 v95).trips, ∀ (k0_h1 : k0_cond1 k0_t2 = 1#1), ∀ (k0_h3 : k0_cond3 i k0_t2 v92 v95 = 1#1), ∀ a, (k0_off27 i k0_t2 v92 v95 k0_t5) a + S1x16.size a ≤ S256x128.size a) ∧
  (∀ k0_t5 : Fin (k0_t5_loop i k0_t2 v92 v95).trips, ∀ (k0_h1 : k0_cond1 k0_t2 = 1#1), ∀ (k0_h3 : k0_cond3 i k0_t2 v92 v95 = 1#1), ∀ a, (k0_off28 i k0_t2 v92 v95 k0_t5) a + S1x16.size a ≤ S256x128.size a) ∧
  (∀ k0_t5 : Fin (k0_t5_loop i k0_t2 v92 v95).trips, ∀ (k0_h1 : k0_cond1 k0_t2 = 1#1), ∀ (k0_h3 : k0_cond3 i k0_t2 v92 v95 = 1#1), ∀ a, (k0_off29 i k0_t2 v92 v95 k0_t5) a + S1x16.size a ≤ S256x128.size a) ∧
  (∀ k0_t5 : Fin (k0_t5_loop i k0_t2 v92 v95).trips, ∀ (k0_h1 : k0_cond1 k0_t2 = 1#1), ∀ (k0_h3 : k0_cond3 i k0_t2 v92 v95 = 1#1), ∀ a, (k0_off30 i k0_t2 v92 v95 k0_t5) a + S1x16.size a ≤ S256x128.size a) ∧
  (∀ k0_t5 : Fin (k0_t5_loop i k0_t2 v92 v95).trips, ∀ (k0_h1 : k0_cond1 k0_t2 = 1#1), ∀ (k0_h3 : k0_cond3 i k0_t2 v92 v95 = 1#1), ∀ a, (k0_off31 i k0_t2 v92 v95 k0_t5) a + S1x16.size a ≤ S256x128.size a) ∧
  (∀ k0_t5 : Fin (k0_t5_loop i k0_t2 v92 v95).trips, ∀ (k0_h1 : k0_cond1 k0_t2 = 1#1), ∀ (k0_h3 : k0_cond3 i k0_t2 v92 v95 = 1#1), ∀ a, (k0_off32 i k0_t2 v92 v95 k0_t5) a + S1x16.size a ≤ S256x128.size a) ∧
  (∀ k0_t5 : Fin (k0_t5_loop i k0_t2 v92 v95).trips, ∀ (k0_h1 : k0_cond1 k0_t2 = 1#1), ∀ (k0_h3 : k0_cond3 i k0_t2 v92 v95 = 1#1), ∀ a, (k0_off33 i k0_t2 v92 v95 k0_t5) a + S1x16.size a ≤ S256x128.size a) ∧
  (∀ k0_t5 : Fin (k0_t5_loop i k0_t2 v92 v95).trips, ∀ (k0_h1 : k0_cond1 k0_t2 = 1#1), ∀ (k0_h3 : k0_cond3 i k0_t2 v92 v95 = 1#1), ∀ a, (k0_off34 i k0_t2 v92 v95 k0_t5) a + S1x16.size a ≤ S256x128.size a) ∧
  (∀ (k0_h1 : k0_cond1 k0_t2 = 1#1), ∀ (k0_h3 : k0_cond3 i k0_t2 v92 v95 = 1#1), (k0_t6_loop i k0_t2 v92 v95).OK) ∧
  (∀ k0_t6 : Fin (k0_t6_loop i k0_t2 v92 v95).trips, ∀ (k0_h1 : k0_cond1 k0_t2 = 1#1), ∀ (k0_h3 : k0_cond3 i k0_t2 v92 v95 = 1#1), ∀ a, (k0_off35 i k0_t2 v92 v95 k0_t6) a + S1x16.size a ≤ S256x128.size a) ∧
  (∀ k0_t6 : Fin (k0_t6_loop i k0_t2 v92 v95).trips, ∀ (k0_h1 : k0_cond1 k0_t2 = 1#1), ∀ (k0_h3 : k0_cond3 i k0_t2 v92 v95 = 1#1), ∀ a, (k0_off36 i k0_t2 v92 v95 k0_t6) a + S1x16.size a ≤ S256x128.size a) ∧
  (∀ k0_t6 : Fin (k0_t6_loop i k0_t2 v92 v95).trips, ∀ (k0_h1 : k0_cond1 k0_t2 = 1#1), ∀ (k0_h3 : k0_cond3 i k0_t2 v92 v95 = 1#1), ∀ a, (k0_off37 i k0_t2 v92 v95 k0_t6) a + S1x16.size a ≤ S256x128.size a) ∧
  (∀ k0_t6 : Fin (k0_t6_loop i k0_t2 v92 v95).trips, ∀ (k0_h1 : k0_cond1 k0_t2 = 1#1), ∀ (k0_h3 : k0_cond3 i k0_t2 v92 v95 = 1#1), ∀ a, (k0_off38 i k0_t2 v92 v95 k0_t6) a + S1x16.size a ≤ S256x128.size a) ∧
  (∀ k0_t6 : Fin (k0_t6_loop i k0_t2 v92 v95).trips, ∀ (k0_h1 : k0_cond1 k0_t2 = 1#1), ∀ (k0_h3 : k0_cond3 i k0_t2 v92 v95 = 1#1), ∀ a, (k0_off39 i k0_t2 v92 v95 k0_t6) a + S1x16.size a ≤ S256x128.size a) ∧
  (∀ k0_t6 : Fin (k0_t6_loop i k0_t2 v92 v95).trips, ∀ (k0_h1 : k0_cond1 k0_t2 = 1#1), ∀ (k0_h3 : k0_cond3 i k0_t2 v92 v95 = 1#1), ∀ a, (k0_off40 i k0_t2 v92 v95 k0_t6) a + S1x16.size a ≤ S256x128.size a) ∧
  (∀ k0_t6 : Fin (k0_t6_loop i k0_t2 v92 v95).trips, ∀ (k0_h1 : k0_cond1 k0_t2 = 1#1), ∀ (k0_h3 : k0_cond3 i k0_t2 v92 v95 = 1#1), ∀ a, (k0_off41 i k0_t2 v92 v95 k0_t6) a + S1x16.size a ≤ S256x128.size a) ∧
  (∀ k0_t6 : Fin (k0_t6_loop i k0_t2 v92 v95).trips, ∀ (k0_h1 : k0_cond1 k0_t2 = 1#1), ∀ (k0_h3 : k0_cond3 i k0_t2 v92 v95 = 1#1), ∀ a, (k0_off42 i k0_t2 v92 v95 k0_t6) a + S1x16.size a ≤ S256x128.size a)
theorem k0_t5_ok : ∀ (i : grid0.Coords) (k0_t2 : Fin k0_t2_loop.trips) (v92 : BitVec 32) (v95 : BitVec 32) (k0_hw2 : k0_chk2 i k0_t2 v92 v95), ∀ (k0_h1 : k0_cond1 k0_t2 = 1#1), ∀ (k0_h3 : k0_cond3 i k0_t2 v92 v95 = 1#1), (k0_t5_loop i k0_t2 v92 v95).OK := fun i k0_t2 v92 v95 k0_hw2 k0_h1 k0_h3 => k0_hw2.1 k0_h1 k0_h3
theorem k0_off27_inb : ∀ (i : grid0.Coords) (k0_t2 : Fin k0_t2_loop.trips) (v92 : BitVec 32) (v95 : BitVec 32) (k0_hw2 : k0_chk2 i k0_t2 v92 v95) (k0_t5 : Fin (k0_t5_loop i k0_t2 v92 v95).trips), ∀ (k0_h1 : k0_cond1 k0_t2 = 1#1), ∀ (k0_h3 : k0_cond3 i k0_t2 v92 v95 = 1#1), ∀ a, (k0_off27 i k0_t2 v92 v95 k0_t5) a + S1x16.size a ≤ S256x128.size a := fun i k0_t2 v92 v95 k0_hw2 k0_t5 k0_h1 k0_h3 => k0_hw2.2.1 k0_t5 k0_h1 k0_h3
theorem k0_off28_inb : ∀ (i : grid0.Coords) (k0_t2 : Fin k0_t2_loop.trips) (v92 : BitVec 32) (v95 : BitVec 32) (k0_hw2 : k0_chk2 i k0_t2 v92 v95) (k0_t5 : Fin (k0_t5_loop i k0_t2 v92 v95).trips), ∀ (k0_h1 : k0_cond1 k0_t2 = 1#1), ∀ (k0_h3 : k0_cond3 i k0_t2 v92 v95 = 1#1), ∀ a, (k0_off28 i k0_t2 v92 v95 k0_t5) a + S1x16.size a ≤ S256x128.size a := fun i k0_t2 v92 v95 k0_hw2 k0_t5 k0_h1 k0_h3 => k0_hw2.2.2.1 k0_t5 k0_h1 k0_h3
theorem k0_off29_inb : ∀ (i : grid0.Coords) (k0_t2 : Fin k0_t2_loop.trips) (v92 : BitVec 32) (v95 : BitVec 32) (k0_hw2 : k0_chk2 i k0_t2 v92 v95) (k0_t5 : Fin (k0_t5_loop i k0_t2 v92 v95).trips), ∀ (k0_h1 : k0_cond1 k0_t2 = 1#1), ∀ (k0_h3 : k0_cond3 i k0_t2 v92 v95 = 1#1), ∀ a, (k0_off29 i k0_t2 v92 v95 k0_t5) a + S1x16.size a ≤ S256x128.size a := fun i k0_t2 v92 v95 k0_hw2 k0_t5 k0_h1 k0_h3 => k0_hw2.2.2.2.1 k0_t5 k0_h1 k0_h3
theorem k0_off30_inb : ∀ (i : grid0.Coords) (k0_t2 : Fin k0_t2_loop.trips) (v92 : BitVec 32) (v95 : BitVec 32) (k0_hw2 : k0_chk2 i k0_t2 v92 v95) (k0_t5 : Fin (k0_t5_loop i k0_t2 v92 v95).trips), ∀ (k0_h1 : k0_cond1 k0_t2 = 1#1), ∀ (k0_h3 : k0_cond3 i k0_t2 v92 v95 = 1#1), ∀ a, (k0_off30 i k0_t2 v92 v95 k0_t5) a + S1x16.size a ≤ S256x128.size a := fun i k0_t2 v92 v95 k0_hw2 k0_t5 k0_h1 k0_h3 => k0_hw2.2.2.2.2.1 k0_t5 k0_h1 k0_h3
theorem k0_off31_inb : ∀ (i : grid0.Coords) (k0_t2 : Fin k0_t2_loop.trips) (v92 : BitVec 32) (v95 : BitVec 32) (k0_hw2 : k0_chk2 i k0_t2 v92 v95) (k0_t5 : Fin (k0_t5_loop i k0_t2 v92 v95).trips), ∀ (k0_h1 : k0_cond1 k0_t2 = 1#1), ∀ (k0_h3 : k0_cond3 i k0_t2 v92 v95 = 1#1), ∀ a, (k0_off31 i k0_t2 v92 v95 k0_t5) a + S1x16.size a ≤ S256x128.size a := fun i k0_t2 v92 v95 k0_hw2 k0_t5 k0_h1 k0_h3 => k0_hw2.2.2.2.2.2.1 k0_t5 k0_h1 k0_h3
theorem k0_off32_inb : ∀ (i : grid0.Coords) (k0_t2 : Fin k0_t2_loop.trips) (v92 : BitVec 32) (v95 : BitVec 32) (k0_hw2 : k0_chk2 i k0_t2 v92 v95) (k0_t5 : Fin (k0_t5_loop i k0_t2 v92 v95).trips), ∀ (k0_h1 : k0_cond1 k0_t2 = 1#1), ∀ (k0_h3 : k0_cond3 i k0_t2 v92 v95 = 1#1), ∀ a, (k0_off32 i k0_t2 v92 v95 k0_t5) a + S1x16.size a ≤ S256x128.size a := fun i k0_t2 v92 v95 k0_hw2 k0_t5 k0_h1 k0_h3 => k0_hw2.2.2.2.2.2.2.1 k0_t5 k0_h1 k0_h3
theorem k0_off33_inb : ∀ (i : grid0.Coords) (k0_t2 : Fin k0_t2_loop.trips) (v92 : BitVec 32) (v95 : BitVec 32) (k0_hw2 : k0_chk2 i k0_t2 v92 v95) (k0_t5 : Fin (k0_t5_loop i k0_t2 v92 v95).trips), ∀ (k0_h1 : k0_cond1 k0_t2 = 1#1), ∀ (k0_h3 : k0_cond3 i k0_t2 v92 v95 = 1#1), ∀ a, (k0_off33 i k0_t2 v92 v95 k0_t5) a + S1x16.size a ≤ S256x128.size a := fun i k0_t2 v92 v95 k0_hw2 k0_t5 k0_h1 k0_h3 => k0_hw2.2.2.2.2.2.2.2.1 k0_t5 k0_h1 k0_h3
theorem k0_off34_inb : ∀ (i : grid0.Coords) (k0_t2 : Fin k0_t2_loop.trips) (v92 : BitVec 32) (v95 : BitVec 32) (k0_hw2 : k0_chk2 i k0_t2 v92 v95) (k0_t5 : Fin (k0_t5_loop i k0_t2 v92 v95).trips), ∀ (k0_h1 : k0_cond1 k0_t2 = 1#1), ∀ (k0_h3 : k0_cond3 i k0_t2 v92 v95 = 1#1), ∀ a, (k0_off34 i k0_t2 v92 v95 k0_t5) a + S1x16.size a ≤ S256x128.size a := fun i k0_t2 v92 v95 k0_hw2 k0_t5 k0_h1 k0_h3 => k0_hw2.2.2.2.2.2.2.2.2.1 k0_t5 k0_h1 k0_h3
theorem k0_t6_ok : ∀ (i : grid0.Coords) (k0_t2 : Fin k0_t2_loop.trips) (v92 : BitVec 32) (v95 : BitVec 32) (k0_hw2 : k0_chk2 i k0_t2 v92 v95), ∀ (k0_h1 : k0_cond1 k0_t2 = 1#1), ∀ (k0_h3 : k0_cond3 i k0_t2 v92 v95 = 1#1), (k0_t6_loop i k0_t2 v92 v95).OK := fun i k0_t2 v92 v95 k0_hw2 k0_h1 k0_h3 => k0_hw2.2.2.2.2.2.2.2.2.2.1 k0_h1 k0_h3
theorem k0_off35_inb : ∀ (i : grid0.Coords) (k0_t2 : Fin k0_t2_loop.trips) (v92 : BitVec 32) (v95 : BitVec 32) (k0_hw2 : k0_chk2 i k0_t2 v92 v95) (k0_t6 : Fin (k0_t6_loop i k0_t2 v92 v95).trips), ∀ (k0_h1 : k0_cond1 k0_t2 = 1#1), ∀ (k0_h3 : k0_cond3 i k0_t2 v92 v95 = 1#1), ∀ a, (k0_off35 i k0_t2 v92 v95 k0_t6) a + S1x16.size a ≤ S256x128.size a := fun i k0_t2 v92 v95 k0_hw2 k0_t6 k0_h1 k0_h3 => k0_hw2.2.2.2.2.2.2.2.2.2.2.1 k0_t6 k0_h1 k0_h3
theorem k0_off36_inb : ∀ (i : grid0.Coords) (k0_t2 : Fin k0_t2_loop.trips) (v92 : BitVec 32) (v95 : BitVec 32) (k0_hw2 : k0_chk2 i k0_t2 v92 v95) (k0_t6 : Fin (k0_t6_loop i k0_t2 v92 v95).trips), ∀ (k0_h1 : k0_cond1 k0_t2 = 1#1), ∀ (k0_h3 : k0_cond3 i k0_t2 v92 v95 = 1#1), ∀ a, (k0_off36 i k0_t2 v92 v95 k0_t6) a + S1x16.size a ≤ S256x128.size a := fun i k0_t2 v92 v95 k0_hw2 k0_t6 k0_h1 k0_h3 => k0_hw2.2.2.2.2.2.2.2.2.2.2.2.1 k0_t6 k0_h1 k0_h3
theorem k0_off37_inb : ∀ (i : grid0.Coords) (k0_t2 : Fin k0_t2_loop.trips) (v92 : BitVec 32) (v95 : BitVec 32) (k0_hw2 : k0_chk2 i k0_t2 v92 v95) (k0_t6 : Fin (k0_t6_loop i k0_t2 v92 v95).trips), ∀ (k0_h1 : k0_cond1 k0_t2 = 1#1), ∀ (k0_h3 : k0_cond3 i k0_t2 v92 v95 = 1#1), ∀ a, (k0_off37 i k0_t2 v92 v95 k0_t6) a + S1x16.size a ≤ S256x128.size a := fun i k0_t2 v92 v95 k0_hw2 k0_t6 k0_h1 k0_h3 => k0_hw2.2.2.2.2.2.2.2.2.2.2.2.2.1 k0_t6 k0_h1 k0_h3
theorem k0_off38_inb : ∀ (i : grid0.Coords) (k0_t2 : Fin k0_t2_loop.trips) (v92 : BitVec 32) (v95 : BitVec 32) (k0_hw2 : k0_chk2 i k0_t2 v92 v95) (k0_t6 : Fin (k0_t6_loop i k0_t2 v92 v95).trips), ∀ (k0_h1 : k0_cond1 k0_t2 = 1#1), ∀ (k0_h3 : k0_cond3 i k0_t2 v92 v95 = 1#1), ∀ a, (k0_off38 i k0_t2 v92 v95 k0_t6) a + S1x16.size a ≤ S256x128.size a := fun i k0_t2 v92 v95 k0_hw2 k0_t6 k0_h1 k0_h3 => k0_hw2.2.2.2.2.2.2.2.2.2.2.2.2.2.1 k0_t6 k0_h1 k0_h3
theorem k0_off39_inb : ∀ (i : grid0.Coords) (k0_t2 : Fin k0_t2_loop.trips) (v92 : BitVec 32) (v95 : BitVec 32) (k0_hw2 : k0_chk2 i k0_t2 v92 v95) (k0_t6 : Fin (k0_t6_loop i k0_t2 v92 v95).trips), ∀ (k0_h1 : k0_cond1 k0_t2 = 1#1), ∀ (k0_h3 : k0_cond3 i k0_t2 v92 v95 = 1#1), ∀ a, (k0_off39 i k0_t2 v92 v95 k0_t6) a + S1x16.size a ≤ S256x128.size a := fun i k0_t2 v92 v95 k0_hw2 k0_t6 k0_h1 k0_h3 => k0_hw2.2.2.2.2.2.2.2.2.2.2.2.2.2.2.1 k0_t6 k0_h1 k0_h3
theorem k0_off40_inb : ∀ (i : grid0.Coords) (k0_t2 : Fin k0_t2_loop.trips) (v92 : BitVec 32) (v95 : BitVec 32) (k0_hw2 : k0_chk2 i k0_t2 v92 v95) (k0_t6 : Fin (k0_t6_loop i k0_t2 v92 v95).trips), ∀ (k0_h1 : k0_cond1 k0_t2 = 1#1), ∀ (k0_h3 : k0_cond3 i k0_t2 v92 v95 = 1#1), ∀ a, (k0_off40 i k0_t2 v92 v95 k0_t6) a + S1x16.size a ≤ S256x128.size a := fun i k0_t2 v92 v95 k0_hw2 k0_t6 k0_h1 k0_h3 => k0_hw2.2.2.2.2.2.2.2.2.2.2.2.2.2.2.2.1 k0_t6 k0_h1 k0_h3
theorem k0_off41_inb : ∀ (i : grid0.Coords) (k0_t2 : Fin k0_t2_loop.trips) (v92 : BitVec 32) (v95 : BitVec 32) (k0_hw2 : k0_chk2 i k0_t2 v92 v95) (k0_t6 : Fin (k0_t6_loop i k0_t2 v92 v95).trips), ∀ (k0_h1 : k0_cond1 k0_t2 = 1#1), ∀ (k0_h3 : k0_cond3 i k0_t2 v92 v95 = 1#1), ∀ a, (k0_off41 i k0_t2 v92 v95 k0_t6) a + S1x16.size a ≤ S256x128.size a := fun i k0_t2 v92 v95 k0_hw2 k0_t6 k0_h1 k0_h3 => k0_hw2.2.2.2.2.2.2.2.2.2.2.2.2.2.2.2.2.1 k0_t6 k0_h1 k0_h3
theorem k0_off42_inb : ∀ (i : grid0.Coords) (k0_t2 : Fin k0_t2_loop.trips) (v92 : BitVec 32) (v95 : BitVec 32) (k0_hw2 : k0_chk2 i k0_t2 v92 v95) (k0_t6 : Fin (k0_t6_loop i k0_t2 v92 v95).trips), ∀ (k0_h1 : k0_cond1 k0_t2 = 1#1), ∀ (k0_h3 : k0_cond3 i k0_t2 v92 v95 = 1#1), ∀ a, (k0_off42 i k0_t2 v92 v95 k0_t6) a + S1x16.size a ≤ S256x128.size a := fun i k0_t2 v92 v95 k0_hw2 k0_t6 k0_h1 k0_h3 => k0_hw2.2.2.2.2.2.2.2.2.2.2.2.2.2.2.2.2.2 k0_t6 k0_h1 k0_h3

@[reducible] def k0_t7_loop (i : grid0.Coords) (k0_t2 : Fin k0_t2_loop.trips) (v101 : BitVec 32) (v104 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v102 : BitVec 32 := Scalar.maxsi v101 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_85 : BitVec 32 := 1#32
  ⟨v102, v234, c1_i32_85⟩
def k0_cond4 (i : grid0.Coords) (k0_t2 : Fin k0_t2_loop.trips) (v101 : BitVec 32) (v104 : BitVec 32) : BitVec 1 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v105 : BitVec 32 := Scalar.minsi v104 v77
  let v102 : BitVec 32 := Scalar.maxsi v101 v75
  let v106 : BitVec 1 := Scalar.cmpi .sgt v105 v102
  let v107 : BitVec 32 := Scalar.extui v106
  let c0_i32_67 : BitVec 32 := 0#32
  let v108 : BitVec 1 := Scalar.cmpi .ne v107 c0_i32_67
  v108

def k0_off43 (i : grid0.Coords) (k0_t2 : Fin k0_t2_loop.trips) (v101 : BitVec 32) (v104 : BitVec 32) (k0_t7 : Fin (k0_t7_loop i k0_t2 v101 v104).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v102 : BitVec 32 := Scalar.maxsi v101 v75
  let c1_i32_85 : BitVec 32 := 1#32
  let arg19 : BitVec 32 := Scf.iv v102 c1_i32_85 k0_t7
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_113 : Index := 0#32
  ![v302.toNat, 0]
def k0_off44 (i : grid0.Coords) (k0_t2 : Fin k0_t2_loop.trips) (v101 : BitVec 32) (v104 : BitVec 32) (k0_t7 : Fin (k0_t7_loop i k0_t2 v101 v104).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v102 : BitVec 32 := Scalar.maxsi v101 v75
  let c1_i32_85 : BitVec 32 := 1#32
  let arg19 : BitVec 32 := Scf.iv v102 c1_i32_85 k0_t7
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_114 : Index := 16#32
  ![v306.toNat, 16]
def k0_off45 (i : grid0.Coords) (k0_t2 : Fin k0_t2_loop.trips) (v101 : BitVec 32) (v104 : BitVec 32) (k0_t7 : Fin (k0_t7_loop i k0_t2 v101 v104).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v102 : BitVec 32 := Scalar.maxsi v101 v75
  let c1_i32_85 : BitVec 32 := 1#32
  let arg19 : BitVec 32 := Scf.iv v102 c1_i32_85 k0_t7
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_115 : Index := 32#32
  ![v310.toNat, 32]
def k0_off46 (i : grid0.Coords) (k0_t2 : Fin k0_t2_loop.trips) (v101 : BitVec 32) (v104 : BitVec 32) (k0_t7 : Fin (k0_t7_loop i k0_t2 v101 v104).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v102 : BitVec 32 := Scalar.maxsi v101 v75
  let c1_i32_85 : BitVec 32 := 1#32
  let arg19 : BitVec 32 := Scf.iv v102 c1_i32_85 k0_t7
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_116 : Index := 48#32
  ![v314.toNat, 48]
def k0_off47 (i : grid0.Coords) (k0_t2 : Fin k0_t2_loop.trips) (v101 : BitVec 32) (v104 : BitVec 32) (k0_t7 : Fin (k0_t7_loop i k0_t2 v101 v104).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v102 : BitVec 32 := Scalar.maxsi v101 v75
  let c1_i32_85 : BitVec 32 := 1#32
  let arg19 : BitVec 32 := Scf.iv v102 c1_i32_85 k0_t7
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_117 : Index := 64#32
  ![v318.toNat, 64]
def k0_off48 (i : grid0.Coords) (k0_t2 : Fin k0_t2_loop.trips) (v101 : BitVec 32) (v104 : BitVec 32) (k0_t7 : Fin (k0_t7_loop i k0_t2 v101 v104).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v102 : BitVec 32 := Scalar.maxsi v101 v75
  let c1_i32_85 : BitVec 32 := 1#32
  let arg19 : BitVec 32 := Scf.iv v102 c1_i32_85 k0_t7
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_118 : Index := 80#32
  ![v322.toNat, 80]
def k0_off49 (i : grid0.Coords) (k0_t2 : Fin k0_t2_loop.trips) (v101 : BitVec 32) (v104 : BitVec 32) (k0_t7 : Fin (k0_t7_loop i k0_t2 v101 v104).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v102 : BitVec 32 := Scalar.maxsi v101 v75
  let c1_i32_85 : BitVec 32 := 1#32
  let arg19 : BitVec 32 := Scf.iv v102 c1_i32_85 k0_t7
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_119 : Index := 96#32
  ![v326.toNat, 96]
def k0_off50 (i : grid0.Coords) (k0_t2 : Fin k0_t2_loop.trips) (v101 : BitVec 32) (v104 : BitVec 32) (k0_t7 : Fin (k0_t7_loop i k0_t2 v101 v104).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v102 : BitVec 32 := Scalar.maxsi v101 v75
  let c1_i32_85 : BitVec 32 := 1#32
  let arg19 : BitVec 32 := Scf.iv v102 c1_i32_85 k0_t7
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_120 : Index := 112#32
  ![v330.toNat, 112]
@[reducible] def k0_t8_loop (i : grid0.Coords) (k0_t2 : Fin k0_t2_loop.trips) (v101 : BitVec 32) (v104 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v102 : BitVec 32 := Scalar.maxsi v101 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let v231 : BitVec 32 := Scalar.addi v102 v230
  let c1_i32_86 : BitVec 32 := 1#32
  ⟨v234, v231, c1_i32_86⟩
def k0_off51 (i : grid0.Coords) (k0_t2 : Fin k0_t2_loop.trips) (v101 : BitVec 32) (v104 : BitVec 32) (k0_t8 : Fin (k0_t8_loop i k0_t2 v101 v104).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v102 : BitVec 32 := Scalar.maxsi v101 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_86 : BitVec 32 := 1#32
  let arg19 : BitVec 32 := Scf.iv v234 c1_i32_86 k0_t8
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_113 : Index := 0#32
  ![v302.toNat, 0]
def k0_off52 (i : grid0.Coords) (k0_t2 : Fin k0_t2_loop.trips) (v101 : BitVec 32) (v104 : BitVec 32) (k0_t8 : Fin (k0_t8_loop i k0_t2 v101 v104).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v102 : BitVec 32 := Scalar.maxsi v101 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_86 : BitVec 32 := 1#32
  let arg19 : BitVec 32 := Scf.iv v234 c1_i32_86 k0_t8
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_114 : Index := 16#32
  ![v306.toNat, 16]
def k0_off53 (i : grid0.Coords) (k0_t2 : Fin k0_t2_loop.trips) (v101 : BitVec 32) (v104 : BitVec 32) (k0_t8 : Fin (k0_t8_loop i k0_t2 v101 v104).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v102 : BitVec 32 := Scalar.maxsi v101 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_86 : BitVec 32 := 1#32
  let arg19 : BitVec 32 := Scf.iv v234 c1_i32_86 k0_t8
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_115 : Index := 32#32
  ![v310.toNat, 32]
def k0_off54 (i : grid0.Coords) (k0_t2 : Fin k0_t2_loop.trips) (v101 : BitVec 32) (v104 : BitVec 32) (k0_t8 : Fin (k0_t8_loop i k0_t2 v101 v104).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v102 : BitVec 32 := Scalar.maxsi v101 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_86 : BitVec 32 := 1#32
  let arg19 : BitVec 32 := Scf.iv v234 c1_i32_86 k0_t8
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_116 : Index := 48#32
  ![v314.toNat, 48]
def k0_off55 (i : grid0.Coords) (k0_t2 : Fin k0_t2_loop.trips) (v101 : BitVec 32) (v104 : BitVec 32) (k0_t8 : Fin (k0_t8_loop i k0_t2 v101 v104).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v102 : BitVec 32 := Scalar.maxsi v101 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_86 : BitVec 32 := 1#32
  let arg19 : BitVec 32 := Scf.iv v234 c1_i32_86 k0_t8
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_117 : Index := 64#32
  ![v318.toNat, 64]
def k0_off56 (i : grid0.Coords) (k0_t2 : Fin k0_t2_loop.trips) (v101 : BitVec 32) (v104 : BitVec 32) (k0_t8 : Fin (k0_t8_loop i k0_t2 v101 v104).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v102 : BitVec 32 := Scalar.maxsi v101 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_86 : BitVec 32 := 1#32
  let arg19 : BitVec 32 := Scf.iv v234 c1_i32_86 k0_t8
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_118 : Index := 80#32
  ![v322.toNat, 80]
def k0_off57 (i : grid0.Coords) (k0_t2 : Fin k0_t2_loop.trips) (v101 : BitVec 32) (v104 : BitVec 32) (k0_t8 : Fin (k0_t8_loop i k0_t2 v101 v104).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v102 : BitVec 32 := Scalar.maxsi v101 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_86 : BitVec 32 := 1#32
  let arg19 : BitVec 32 := Scf.iv v234 c1_i32_86 k0_t8
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_119 : Index := 96#32
  ![v326.toNat, 96]
def k0_off58 (i : grid0.Coords) (k0_t2 : Fin k0_t2_loop.trips) (v101 : BitVec 32) (v104 : BitVec 32) (k0_t8 : Fin (k0_t8_loop i k0_t2 v101 v104).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v102 : BitVec 32 := Scalar.maxsi v101 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_86 : BitVec 32 := 1#32
  let arg19 : BitVec 32 := Scf.iv v234 c1_i32_86 k0_t8
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_120 : Index := 112#32
  ![v330.toNat, 112]

def k0_chk3 (i : grid0.Coords) (k0_t2 : Fin k0_t2_loop.trips) (v101 : BitVec 32) (v104 : BitVec 32) : Prop :=
  (∀ (k0_h1 : k0_cond1 k0_t2 = 1#1), ∀ (k0_h4 : k0_cond4 i k0_t2 v101 v104 = 1#1), (k0_t7_loop i k0_t2 v101 v104).OK) ∧
  (∀ k0_t7 : Fin (k0_t7_loop i k0_t2 v101 v104).trips, ∀ (k0_h1 : k0_cond1 k0_t2 = 1#1), ∀ (k0_h4 : k0_cond4 i k0_t2 v101 v104 = 1#1), ∀ a, (k0_off43 i k0_t2 v101 v104 k0_t7) a + S1x16.size a ≤ S256x128.size a) ∧
  (∀ k0_t7 : Fin (k0_t7_loop i k0_t2 v101 v104).trips, ∀ (k0_h1 : k0_cond1 k0_t2 = 1#1), ∀ (k0_h4 : k0_cond4 i k0_t2 v101 v104 = 1#1), ∀ a, (k0_off44 i k0_t2 v101 v104 k0_t7) a + S1x16.size a ≤ S256x128.size a) ∧
  (∀ k0_t7 : Fin (k0_t7_loop i k0_t2 v101 v104).trips, ∀ (k0_h1 : k0_cond1 k0_t2 = 1#1), ∀ (k0_h4 : k0_cond4 i k0_t2 v101 v104 = 1#1), ∀ a, (k0_off45 i k0_t2 v101 v104 k0_t7) a + S1x16.size a ≤ S256x128.size a) ∧
  (∀ k0_t7 : Fin (k0_t7_loop i k0_t2 v101 v104).trips, ∀ (k0_h1 : k0_cond1 k0_t2 = 1#1), ∀ (k0_h4 : k0_cond4 i k0_t2 v101 v104 = 1#1), ∀ a, (k0_off46 i k0_t2 v101 v104 k0_t7) a + S1x16.size a ≤ S256x128.size a) ∧
  (∀ k0_t7 : Fin (k0_t7_loop i k0_t2 v101 v104).trips, ∀ (k0_h1 : k0_cond1 k0_t2 = 1#1), ∀ (k0_h4 : k0_cond4 i k0_t2 v101 v104 = 1#1), ∀ a, (k0_off47 i k0_t2 v101 v104 k0_t7) a + S1x16.size a ≤ S256x128.size a) ∧
  (∀ k0_t7 : Fin (k0_t7_loop i k0_t2 v101 v104).trips, ∀ (k0_h1 : k0_cond1 k0_t2 = 1#1), ∀ (k0_h4 : k0_cond4 i k0_t2 v101 v104 = 1#1), ∀ a, (k0_off48 i k0_t2 v101 v104 k0_t7) a + S1x16.size a ≤ S256x128.size a) ∧
  (∀ k0_t7 : Fin (k0_t7_loop i k0_t2 v101 v104).trips, ∀ (k0_h1 : k0_cond1 k0_t2 = 1#1), ∀ (k0_h4 : k0_cond4 i k0_t2 v101 v104 = 1#1), ∀ a, (k0_off49 i k0_t2 v101 v104 k0_t7) a + S1x16.size a ≤ S256x128.size a) ∧
  (∀ k0_t7 : Fin (k0_t7_loop i k0_t2 v101 v104).trips, ∀ (k0_h1 : k0_cond1 k0_t2 = 1#1), ∀ (k0_h4 : k0_cond4 i k0_t2 v101 v104 = 1#1), ∀ a, (k0_off50 i k0_t2 v101 v104 k0_t7) a + S1x16.size a ≤ S256x128.size a) ∧
  (∀ (k0_h1 : k0_cond1 k0_t2 = 1#1), ∀ (k0_h4 : k0_cond4 i k0_t2 v101 v104 = 1#1), (k0_t8_loop i k0_t2 v101 v104).OK) ∧
  (∀ k0_t8 : Fin (k0_t8_loop i k0_t2 v101 v104).trips, ∀ (k0_h1 : k0_cond1 k0_t2 = 1#1), ∀ (k0_h4 : k0_cond4 i k0_t2 v101 v104 = 1#1), ∀ a, (k0_off51 i k0_t2 v101 v104 k0_t8) a + S1x16.size a ≤ S256x128.size a) ∧
  (∀ k0_t8 : Fin (k0_t8_loop i k0_t2 v101 v104).trips, ∀ (k0_h1 : k0_cond1 k0_t2 = 1#1), ∀ (k0_h4 : k0_cond4 i k0_t2 v101 v104 = 1#1), ∀ a, (k0_off52 i k0_t2 v101 v104 k0_t8) a + S1x16.size a ≤ S256x128.size a) ∧
  (∀ k0_t8 : Fin (k0_t8_loop i k0_t2 v101 v104).trips, ∀ (k0_h1 : k0_cond1 k0_t2 = 1#1), ∀ (k0_h4 : k0_cond4 i k0_t2 v101 v104 = 1#1), ∀ a, (k0_off53 i k0_t2 v101 v104 k0_t8) a + S1x16.size a ≤ S256x128.size a) ∧
  (∀ k0_t8 : Fin (k0_t8_loop i k0_t2 v101 v104).trips, ∀ (k0_h1 : k0_cond1 k0_t2 = 1#1), ∀ (k0_h4 : k0_cond4 i k0_t2 v101 v104 = 1#1), ∀ a, (k0_off54 i k0_t2 v101 v104 k0_t8) a + S1x16.size a ≤ S256x128.size a) ∧
  (∀ k0_t8 : Fin (k0_t8_loop i k0_t2 v101 v104).trips, ∀ (k0_h1 : k0_cond1 k0_t2 = 1#1), ∀ (k0_h4 : k0_cond4 i k0_t2 v101 v104 = 1#1), ∀ a, (k0_off55 i k0_t2 v101 v104 k0_t8) a + S1x16.size a ≤ S256x128.size a) ∧
  (∀ k0_t8 : Fin (k0_t8_loop i k0_t2 v101 v104).trips, ∀ (k0_h1 : k0_cond1 k0_t2 = 1#1), ∀ (k0_h4 : k0_cond4 i k0_t2 v101 v104 = 1#1), ∀ a, (k0_off56 i k0_t2 v101 v104 k0_t8) a + S1x16.size a ≤ S256x128.size a) ∧
  (∀ k0_t8 : Fin (k0_t8_loop i k0_t2 v101 v104).trips, ∀ (k0_h1 : k0_cond1 k0_t2 = 1#1), ∀ (k0_h4 : k0_cond4 i k0_t2 v101 v104 = 1#1), ∀ a, (k0_off57 i k0_t2 v101 v104 k0_t8) a + S1x16.size a ≤ S256x128.size a) ∧
  (∀ k0_t8 : Fin (k0_t8_loop i k0_t2 v101 v104).trips, ∀ (k0_h1 : k0_cond1 k0_t2 = 1#1), ∀ (k0_h4 : k0_cond4 i k0_t2 v101 v104 = 1#1), ∀ a, (k0_off58 i k0_t2 v101 v104 k0_t8) a + S1x16.size a ≤ S256x128.size a)
theorem k0_t7_ok : ∀ (i : grid0.Coords) (k0_t2 : Fin k0_t2_loop.trips) (v101 : BitVec 32) (v104 : BitVec 32) (k0_hw3 : k0_chk3 i k0_t2 v101 v104), ∀ (k0_h1 : k0_cond1 k0_t2 = 1#1), ∀ (k0_h4 : k0_cond4 i k0_t2 v101 v104 = 1#1), (k0_t7_loop i k0_t2 v101 v104).OK := fun i k0_t2 v101 v104 k0_hw3 k0_h1 k0_h4 => k0_hw3.1 k0_h1 k0_h4
theorem k0_off43_inb : ∀ (i : grid0.Coords) (k0_t2 : Fin k0_t2_loop.trips) (v101 : BitVec 32) (v104 : BitVec 32) (k0_hw3 : k0_chk3 i k0_t2 v101 v104) (k0_t7 : Fin (k0_t7_loop i k0_t2 v101 v104).trips), ∀ (k0_h1 : k0_cond1 k0_t2 = 1#1), ∀ (k0_h4 : k0_cond4 i k0_t2 v101 v104 = 1#1), ∀ a, (k0_off43 i k0_t2 v101 v104 k0_t7) a + S1x16.size a ≤ S256x128.size a := fun i k0_t2 v101 v104 k0_hw3 k0_t7 k0_h1 k0_h4 => k0_hw3.2.1 k0_t7 k0_h1 k0_h4
theorem k0_off44_inb : ∀ (i : grid0.Coords) (k0_t2 : Fin k0_t2_loop.trips) (v101 : BitVec 32) (v104 : BitVec 32) (k0_hw3 : k0_chk3 i k0_t2 v101 v104) (k0_t7 : Fin (k0_t7_loop i k0_t2 v101 v104).trips), ∀ (k0_h1 : k0_cond1 k0_t2 = 1#1), ∀ (k0_h4 : k0_cond4 i k0_t2 v101 v104 = 1#1), ∀ a, (k0_off44 i k0_t2 v101 v104 k0_t7) a + S1x16.size a ≤ S256x128.size a := fun i k0_t2 v101 v104 k0_hw3 k0_t7 k0_h1 k0_h4 => k0_hw3.2.2.1 k0_t7 k0_h1 k0_h4
theorem k0_off45_inb : ∀ (i : grid0.Coords) (k0_t2 : Fin k0_t2_loop.trips) (v101 : BitVec 32) (v104 : BitVec 32) (k0_hw3 : k0_chk3 i k0_t2 v101 v104) (k0_t7 : Fin (k0_t7_loop i k0_t2 v101 v104).trips), ∀ (k0_h1 : k0_cond1 k0_t2 = 1#1), ∀ (k0_h4 : k0_cond4 i k0_t2 v101 v104 = 1#1), ∀ a, (k0_off45 i k0_t2 v101 v104 k0_t7) a + S1x16.size a ≤ S256x128.size a := fun i k0_t2 v101 v104 k0_hw3 k0_t7 k0_h1 k0_h4 => k0_hw3.2.2.2.1 k0_t7 k0_h1 k0_h4
theorem k0_off46_inb : ∀ (i : grid0.Coords) (k0_t2 : Fin k0_t2_loop.trips) (v101 : BitVec 32) (v104 : BitVec 32) (k0_hw3 : k0_chk3 i k0_t2 v101 v104) (k0_t7 : Fin (k0_t7_loop i k0_t2 v101 v104).trips), ∀ (k0_h1 : k0_cond1 k0_t2 = 1#1), ∀ (k0_h4 : k0_cond4 i k0_t2 v101 v104 = 1#1), ∀ a, (k0_off46 i k0_t2 v101 v104 k0_t7) a + S1x16.size a ≤ S256x128.size a := fun i k0_t2 v101 v104 k0_hw3 k0_t7 k0_h1 k0_h4 => k0_hw3.2.2.2.2.1 k0_t7 k0_h1 k0_h4
theorem k0_off47_inb : ∀ (i : grid0.Coords) (k0_t2 : Fin k0_t2_loop.trips) (v101 : BitVec 32) (v104 : BitVec 32) (k0_hw3 : k0_chk3 i k0_t2 v101 v104) (k0_t7 : Fin (k0_t7_loop i k0_t2 v101 v104).trips), ∀ (k0_h1 : k0_cond1 k0_t2 = 1#1), ∀ (k0_h4 : k0_cond4 i k0_t2 v101 v104 = 1#1), ∀ a, (k0_off47 i k0_t2 v101 v104 k0_t7) a + S1x16.size a ≤ S256x128.size a := fun i k0_t2 v101 v104 k0_hw3 k0_t7 k0_h1 k0_h4 => k0_hw3.2.2.2.2.2.1 k0_t7 k0_h1 k0_h4
theorem k0_off48_inb : ∀ (i : grid0.Coords) (k0_t2 : Fin k0_t2_loop.trips) (v101 : BitVec 32) (v104 : BitVec 32) (k0_hw3 : k0_chk3 i k0_t2 v101 v104) (k0_t7 : Fin (k0_t7_loop i k0_t2 v101 v104).trips), ∀ (k0_h1 : k0_cond1 k0_t2 = 1#1), ∀ (k0_h4 : k0_cond4 i k0_t2 v101 v104 = 1#1), ∀ a, (k0_off48 i k0_t2 v101 v104 k0_t7) a + S1x16.size a ≤ S256x128.size a := fun i k0_t2 v101 v104 k0_hw3 k0_t7 k0_h1 k0_h4 => k0_hw3.2.2.2.2.2.2.1 k0_t7 k0_h1 k0_h4
theorem k0_off49_inb : ∀ (i : grid0.Coords) (k0_t2 : Fin k0_t2_loop.trips) (v101 : BitVec 32) (v104 : BitVec 32) (k0_hw3 : k0_chk3 i k0_t2 v101 v104) (k0_t7 : Fin (k0_t7_loop i k0_t2 v101 v104).trips), ∀ (k0_h1 : k0_cond1 k0_t2 = 1#1), ∀ (k0_h4 : k0_cond4 i k0_t2 v101 v104 = 1#1), ∀ a, (k0_off49 i k0_t2 v101 v104 k0_t7) a + S1x16.size a ≤ S256x128.size a := fun i k0_t2 v101 v104 k0_hw3 k0_t7 k0_h1 k0_h4 => k0_hw3.2.2.2.2.2.2.2.1 k0_t7 k0_h1 k0_h4
theorem k0_off50_inb : ∀ (i : grid0.Coords) (k0_t2 : Fin k0_t2_loop.trips) (v101 : BitVec 32) (v104 : BitVec 32) (k0_hw3 : k0_chk3 i k0_t2 v101 v104) (k0_t7 : Fin (k0_t7_loop i k0_t2 v101 v104).trips), ∀ (k0_h1 : k0_cond1 k0_t2 = 1#1), ∀ (k0_h4 : k0_cond4 i k0_t2 v101 v104 = 1#1), ∀ a, (k0_off50 i k0_t2 v101 v104 k0_t7) a + S1x16.size a ≤ S256x128.size a := fun i k0_t2 v101 v104 k0_hw3 k0_t7 k0_h1 k0_h4 => k0_hw3.2.2.2.2.2.2.2.2.1 k0_t7 k0_h1 k0_h4
theorem k0_t8_ok : ∀ (i : grid0.Coords) (k0_t2 : Fin k0_t2_loop.trips) (v101 : BitVec 32) (v104 : BitVec 32) (k0_hw3 : k0_chk3 i k0_t2 v101 v104), ∀ (k0_h1 : k0_cond1 k0_t2 = 1#1), ∀ (k0_h4 : k0_cond4 i k0_t2 v101 v104 = 1#1), (k0_t8_loop i k0_t2 v101 v104).OK := fun i k0_t2 v101 v104 k0_hw3 k0_h1 k0_h4 => k0_hw3.2.2.2.2.2.2.2.2.2.1 k0_h1 k0_h4
theorem k0_off51_inb : ∀ (i : grid0.Coords) (k0_t2 : Fin k0_t2_loop.trips) (v101 : BitVec 32) (v104 : BitVec 32) (k0_hw3 : k0_chk3 i k0_t2 v101 v104) (k0_t8 : Fin (k0_t8_loop i k0_t2 v101 v104).trips), ∀ (k0_h1 : k0_cond1 k0_t2 = 1#1), ∀ (k0_h4 : k0_cond4 i k0_t2 v101 v104 = 1#1), ∀ a, (k0_off51 i k0_t2 v101 v104 k0_t8) a + S1x16.size a ≤ S256x128.size a := fun i k0_t2 v101 v104 k0_hw3 k0_t8 k0_h1 k0_h4 => k0_hw3.2.2.2.2.2.2.2.2.2.2.1 k0_t8 k0_h1 k0_h4
theorem k0_off52_inb : ∀ (i : grid0.Coords) (k0_t2 : Fin k0_t2_loop.trips) (v101 : BitVec 32) (v104 : BitVec 32) (k0_hw3 : k0_chk3 i k0_t2 v101 v104) (k0_t8 : Fin (k0_t8_loop i k0_t2 v101 v104).trips), ∀ (k0_h1 : k0_cond1 k0_t2 = 1#1), ∀ (k0_h4 : k0_cond4 i k0_t2 v101 v104 = 1#1), ∀ a, (k0_off52 i k0_t2 v101 v104 k0_t8) a + S1x16.size a ≤ S256x128.size a := fun i k0_t2 v101 v104 k0_hw3 k0_t8 k0_h1 k0_h4 => k0_hw3.2.2.2.2.2.2.2.2.2.2.2.1 k0_t8 k0_h1 k0_h4
theorem k0_off53_inb : ∀ (i : grid0.Coords) (k0_t2 : Fin k0_t2_loop.trips) (v101 : BitVec 32) (v104 : BitVec 32) (k0_hw3 : k0_chk3 i k0_t2 v101 v104) (k0_t8 : Fin (k0_t8_loop i k0_t2 v101 v104).trips), ∀ (k0_h1 : k0_cond1 k0_t2 = 1#1), ∀ (k0_h4 : k0_cond4 i k0_t2 v101 v104 = 1#1), ∀ a, (k0_off53 i k0_t2 v101 v104 k0_t8) a + S1x16.size a ≤ S256x128.size a := fun i k0_t2 v101 v104 k0_hw3 k0_t8 k0_h1 k0_h4 => k0_hw3.2.2.2.2.2.2.2.2.2.2.2.2.1 k0_t8 k0_h1 k0_h4
theorem k0_off54_inb : ∀ (i : grid0.Coords) (k0_t2 : Fin k0_t2_loop.trips) (v101 : BitVec 32) (v104 : BitVec 32) (k0_hw3 : k0_chk3 i k0_t2 v101 v104) (k0_t8 : Fin (k0_t8_loop i k0_t2 v101 v104).trips), ∀ (k0_h1 : k0_cond1 k0_t2 = 1#1), ∀ (k0_h4 : k0_cond4 i k0_t2 v101 v104 = 1#1), ∀ a, (k0_off54 i k0_t2 v101 v104 k0_t8) a + S1x16.size a ≤ S256x128.size a := fun i k0_t2 v101 v104 k0_hw3 k0_t8 k0_h1 k0_h4 => k0_hw3.2.2.2.2.2.2.2.2.2.2.2.2.2.1 k0_t8 k0_h1 k0_h4
theorem k0_off55_inb : ∀ (i : grid0.Coords) (k0_t2 : Fin k0_t2_loop.trips) (v101 : BitVec 32) (v104 : BitVec 32) (k0_hw3 : k0_chk3 i k0_t2 v101 v104) (k0_t8 : Fin (k0_t8_loop i k0_t2 v101 v104).trips), ∀ (k0_h1 : k0_cond1 k0_t2 = 1#1), ∀ (k0_h4 : k0_cond4 i k0_t2 v101 v104 = 1#1), ∀ a, (k0_off55 i k0_t2 v101 v104 k0_t8) a + S1x16.size a ≤ S256x128.size a := fun i k0_t2 v101 v104 k0_hw3 k0_t8 k0_h1 k0_h4 => k0_hw3.2.2.2.2.2.2.2.2.2.2.2.2.2.2.1 k0_t8 k0_h1 k0_h4
theorem k0_off56_inb : ∀ (i : grid0.Coords) (k0_t2 : Fin k0_t2_loop.trips) (v101 : BitVec 32) (v104 : BitVec 32) (k0_hw3 : k0_chk3 i k0_t2 v101 v104) (k0_t8 : Fin (k0_t8_loop i k0_t2 v101 v104).trips), ∀ (k0_h1 : k0_cond1 k0_t2 = 1#1), ∀ (k0_h4 : k0_cond4 i k0_t2 v101 v104 = 1#1), ∀ a, (k0_off56 i k0_t2 v101 v104 k0_t8) a + S1x16.size a ≤ S256x128.size a := fun i k0_t2 v101 v104 k0_hw3 k0_t8 k0_h1 k0_h4 => k0_hw3.2.2.2.2.2.2.2.2.2.2.2.2.2.2.2.1 k0_t8 k0_h1 k0_h4
theorem k0_off57_inb : ∀ (i : grid0.Coords) (k0_t2 : Fin k0_t2_loop.trips) (v101 : BitVec 32) (v104 : BitVec 32) (k0_hw3 : k0_chk3 i k0_t2 v101 v104) (k0_t8 : Fin (k0_t8_loop i k0_t2 v101 v104).trips), ∀ (k0_h1 : k0_cond1 k0_t2 = 1#1), ∀ (k0_h4 : k0_cond4 i k0_t2 v101 v104 = 1#1), ∀ a, (k0_off57 i k0_t2 v101 v104 k0_t8) a + S1x16.size a ≤ S256x128.size a := fun i k0_t2 v101 v104 k0_hw3 k0_t8 k0_h1 k0_h4 => k0_hw3.2.2.2.2.2.2.2.2.2.2.2.2.2.2.2.2.1 k0_t8 k0_h1 k0_h4
theorem k0_off58_inb : ∀ (i : grid0.Coords) (k0_t2 : Fin k0_t2_loop.trips) (v101 : BitVec 32) (v104 : BitVec 32) (k0_hw3 : k0_chk3 i k0_t2 v101 v104) (k0_t8 : Fin (k0_t8_loop i k0_t2 v101 v104).trips), ∀ (k0_h1 : k0_cond1 k0_t2 = 1#1), ∀ (k0_h4 : k0_cond4 i k0_t2 v101 v104 = 1#1), ∀ a, (k0_off58 i k0_t2 v101 v104 k0_t8) a + S1x16.size a ≤ S256x128.size a := fun i k0_t2 v101 v104 k0_hw3 k0_t8 k0_h1 k0_h4 => k0_hw3.2.2.2.2.2.2.2.2.2.2.2.2.2.2.2.2.2 k0_t8 k0_h1 k0_h4

@[reducible] def k0_t9_loop (i : grid0.Coords) (k0_t2 : Fin k0_t2_loop.trips) (v110 : BitVec 32) (v113 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v111 : BitVec 32 := Scalar.maxsi v110 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_85 : BitVec 32 := 1#32
  ⟨v111, v234, c1_i32_85⟩
def k0_cond5 (i : grid0.Coords) (k0_t2 : Fin k0_t2_loop.trips) (v110 : BitVec 32) (v113 : BitVec 32) : BitVec 1 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v114 : BitVec 32 := Scalar.minsi v113 v77
  let v111 : BitVec 32 := Scalar.maxsi v110 v75
  let v115 : BitVec 1 := Scalar.cmpi .sgt v114 v111
  let v116 : BitVec 32 := Scalar.extui v115
  let c0_i32_68 : BitVec 32 := 0#32
  let v117 : BitVec 1 := Scalar.cmpi .ne v116 c0_i32_68
  v117

def k0_off59 (i : grid0.Coords) (k0_t2 : Fin k0_t2_loop.trips) (v110 : BitVec 32) (v113 : BitVec 32) (k0_t9 : Fin (k0_t9_loop i k0_t2 v110 v113).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v111 : BitVec 32 := Scalar.maxsi v110 v75
  let c1_i32_85 : BitVec 32 := 1#32
  let arg19 : BitVec 32 := Scf.iv v111 c1_i32_85 k0_t9
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off60 (i : grid0.Coords) (k0_t2 : Fin k0_t2_loop.trips) (v110 : BitVec 32) (v113 : BitVec 32) (k0_t9 : Fin (k0_t9_loop i k0_t2 v110 v113).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v111 : BitVec 32 := Scalar.maxsi v110 v75
  let c1_i32_85 : BitVec 32 := 1#32
  let arg19 : BitVec 32 := Scf.iv v111 c1_i32_85 k0_t9
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off61 (i : grid0.Coords) (k0_t2 : Fin k0_t2_loop.trips) (v110 : BitVec 32) (v113 : BitVec 32) (k0_t9 : Fin (k0_t9_loop i k0_t2 v110 v113).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v111 : BitVec 32 := Scalar.maxsi v110 v75
  let c1_i32_85 : BitVec 32 := 1#32
  let arg19 : BitVec 32 := Scf.iv v111 c1_i32_85 k0_t9
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off62 (i : grid0.Coords) (k0_t2 : Fin k0_t2_loop.trips) (v110 : BitVec 32) (v113 : BitVec 32) (k0_t9 : Fin (k0_t9_loop i k0_t2 v110 v113).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v111 : BitVec 32 := Scalar.maxsi v110 v75
  let c1_i32_85 : BitVec 32 := 1#32
  let arg19 : BitVec 32 := Scf.iv v111 c1_i32_85 k0_t9
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off63 (i : grid0.Coords) (k0_t2 : Fin k0_t2_loop.trips) (v110 : BitVec 32) (v113 : BitVec 32) (k0_t9 : Fin (k0_t9_loop i k0_t2 v110 v113).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v111 : BitVec 32 := Scalar.maxsi v110 v75
  let c1_i32_85 : BitVec 32 := 1#32
  let arg19 : BitVec 32 := Scf.iv v111 c1_i32_85 k0_t9
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off64 (i : grid0.Coords) (k0_t2 : Fin k0_t2_loop.trips) (v110 : BitVec 32) (v113 : BitVec 32) (k0_t9 : Fin (k0_t9_loop i k0_t2 v110 v113).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v111 : BitVec 32 := Scalar.maxsi v110 v75
  let c1_i32_85 : BitVec 32 := 1#32
  let arg19 : BitVec 32 := Scf.iv v111 c1_i32_85 k0_t9
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off65 (i : grid0.Coords) (k0_t2 : Fin k0_t2_loop.trips) (v110 : BitVec 32) (v113 : BitVec 32) (k0_t9 : Fin (k0_t9_loop i k0_t2 v110 v113).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v111 : BitVec 32 := Scalar.maxsi v110 v75
  let c1_i32_85 : BitVec 32 := 1#32
  let arg19 : BitVec 32 := Scf.iv v111 c1_i32_85 k0_t9
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off66 (i : grid0.Coords) (k0_t2 : Fin k0_t2_loop.trips) (v110 : BitVec 32) (v113 : BitVec 32) (k0_t9 : Fin (k0_t9_loop i k0_t2 v110 v113).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v111 : BitVec 32 := Scalar.maxsi v110 v75
  let c1_i32_85 : BitVec 32 := 1#32
  let arg19 : BitVec 32 := Scf.iv v111 c1_i32_85 k0_t9
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]
@[reducible] def k0_t10_loop (i : grid0.Coords) (k0_t2 : Fin k0_t2_loop.trips) (v110 : BitVec 32) (v113 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v111 : BitVec 32 := Scalar.maxsi v110 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let v231 : BitVec 32 := Scalar.addi v111 v230
  let c1_i32_86 : BitVec 32 := 1#32
  ⟨v234, v231, c1_i32_86⟩
def k0_off67 (i : grid0.Coords) (k0_t2 : Fin k0_t2_loop.trips) (v110 : BitVec 32) (v113 : BitVec 32) (k0_t10 : Fin (k0_t10_loop i k0_t2 v110 v113).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v111 : BitVec 32 := Scalar.maxsi v110 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_86 : BitVec 32 := 1#32
  let arg19 : BitVec 32 := Scf.iv v234 c1_i32_86 k0_t10
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off68 (i : grid0.Coords) (k0_t2 : Fin k0_t2_loop.trips) (v110 : BitVec 32) (v113 : BitVec 32) (k0_t10 : Fin (k0_t10_loop i k0_t2 v110 v113).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v111 : BitVec 32 := Scalar.maxsi v110 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_86 : BitVec 32 := 1#32
  let arg19 : BitVec 32 := Scf.iv v234 c1_i32_86 k0_t10
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off69 (i : grid0.Coords) (k0_t2 : Fin k0_t2_loop.trips) (v110 : BitVec 32) (v113 : BitVec 32) (k0_t10 : Fin (k0_t10_loop i k0_t2 v110 v113).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v111 : BitVec 32 := Scalar.maxsi v110 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_86 : BitVec 32 := 1#32
  let arg19 : BitVec 32 := Scf.iv v234 c1_i32_86 k0_t10
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off70 (i : grid0.Coords) (k0_t2 : Fin k0_t2_loop.trips) (v110 : BitVec 32) (v113 : BitVec 32) (k0_t10 : Fin (k0_t10_loop i k0_t2 v110 v113).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v111 : BitVec 32 := Scalar.maxsi v110 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_86 : BitVec 32 := 1#32
  let arg19 : BitVec 32 := Scf.iv v234 c1_i32_86 k0_t10
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off71 (i : grid0.Coords) (k0_t2 : Fin k0_t2_loop.trips) (v110 : BitVec 32) (v113 : BitVec 32) (k0_t10 : Fin (k0_t10_loop i k0_t2 v110 v113).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v111 : BitVec 32 := Scalar.maxsi v110 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_86 : BitVec 32 := 1#32
  let arg19 : BitVec 32 := Scf.iv v234 c1_i32_86 k0_t10
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off72 (i : grid0.Coords) (k0_t2 : Fin k0_t2_loop.trips) (v110 : BitVec 32) (v113 : BitVec 32) (k0_t10 : Fin (k0_t10_loop i k0_t2 v110 v113).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v111 : BitVec 32 := Scalar.maxsi v110 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_86 : BitVec 32 := 1#32
  let arg19 : BitVec 32 := Scf.iv v234 c1_i32_86 k0_t10
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off73 (i : grid0.Coords) (k0_t2 : Fin k0_t2_loop.trips) (v110 : BitVec 32) (v113 : BitVec 32) (k0_t10 : Fin (k0_t10_loop i k0_t2 v110 v113).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v111 : BitVec 32 := Scalar.maxsi v110 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_86 : BitVec 32 := 1#32
  let arg19 : BitVec 32 := Scf.iv v234 c1_i32_86 k0_t10
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off74 (i : grid0.Coords) (k0_t2 : Fin k0_t2_loop.trips) (v110 : BitVec 32) (v113 : BitVec 32) (k0_t10 : Fin (k0_t10_loop i k0_t2 v110 v113).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v111 : BitVec 32 := Scalar.maxsi v110 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_86 : BitVec 32 := 1#32
  let arg19 : BitVec 32 := Scf.iv v234 c1_i32_86 k0_t10
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]

def k0_chk4 (i : grid0.Coords) (k0_t2 : Fin k0_t2_loop.trips) (v110 : BitVec 32) (v113 : BitVec 32) : Prop :=
  (∀ (k0_h1 : k0_cond1 k0_t2 = 1#1), ∀ (k0_h5 : k0_cond5 i k0_t2 v110 v113 = 1#1), (k0_t9_loop i k0_t2 v110 v113).OK) ∧
  (∀ k0_t9 : Fin (k0_t9_loop i k0_t2 v110 v113).trips, ∀ (k0_h1 : k0_cond1 k0_t2 = 1#1), ∀ (k0_h5 : k0_cond5 i k0_t2 v110 v113 = 1#1), ∀ a, (k0_off59 i k0_t2 v110 v113 k0_t9) a + S1x16.size a ≤ S256x128.size a) ∧
  (∀ k0_t9 : Fin (k0_t9_loop i k0_t2 v110 v113).trips, ∀ (k0_h1 : k0_cond1 k0_t2 = 1#1), ∀ (k0_h5 : k0_cond5 i k0_t2 v110 v113 = 1#1), ∀ a, (k0_off60 i k0_t2 v110 v113 k0_t9) a + S1x16.size a ≤ S256x128.size a) ∧
  (∀ k0_t9 : Fin (k0_t9_loop i k0_t2 v110 v113).trips, ∀ (k0_h1 : k0_cond1 k0_t2 = 1#1), ∀ (k0_h5 : k0_cond5 i k0_t2 v110 v113 = 1#1), ∀ a, (k0_off61 i k0_t2 v110 v113 k0_t9) a + S1x16.size a ≤ S256x128.size a) ∧
  (∀ k0_t9 : Fin (k0_t9_loop i k0_t2 v110 v113).trips, ∀ (k0_h1 : k0_cond1 k0_t2 = 1#1), ∀ (k0_h5 : k0_cond5 i k0_t2 v110 v113 = 1#1), ∀ a, (k0_off62 i k0_t2 v110 v113 k0_t9) a + S1x16.size a ≤ S256x128.size a) ∧
  (∀ k0_t9 : Fin (k0_t9_loop i k0_t2 v110 v113).trips, ∀ (k0_h1 : k0_cond1 k0_t2 = 1#1), ∀ (k0_h5 : k0_cond5 i k0_t2 v110 v113 = 1#1), ∀ a, (k0_off63 i k0_t2 v110 v113 k0_t9) a + S1x16.size a ≤ S256x128.size a) ∧
  (∀ k0_t9 : Fin (k0_t9_loop i k0_t2 v110 v113).trips, ∀ (k0_h1 : k0_cond1 k0_t2 = 1#1), ∀ (k0_h5 : k0_cond5 i k0_t2 v110 v113 = 1#1), ∀ a, (k0_off64 i k0_t2 v110 v113 k0_t9) a + S1x16.size a ≤ S256x128.size a) ∧
  (∀ k0_t9 : Fin (k0_t9_loop i k0_t2 v110 v113).trips, ∀ (k0_h1 : k0_cond1 k0_t2 = 1#1), ∀ (k0_h5 : k0_cond5 i k0_t2 v110 v113 = 1#1), ∀ a, (k0_off65 i k0_t2 v110 v113 k0_t9) a + S1x16.size a ≤ S256x128.size a) ∧
  (∀ k0_t9 : Fin (k0_t9_loop i k0_t2 v110 v113).trips, ∀ (k0_h1 : k0_cond1 k0_t2 = 1#1), ∀ (k0_h5 : k0_cond5 i k0_t2 v110 v113 = 1#1), ∀ a, (k0_off66 i k0_t2 v110 v113 k0_t9) a + S1x16.size a ≤ S256x128.size a) ∧
  (∀ (k0_h1 : k0_cond1 k0_t2 = 1#1), ∀ (k0_h5 : k0_cond5 i k0_t2 v110 v113 = 1#1), (k0_t10_loop i k0_t2 v110 v113).OK) ∧
  (∀ k0_t10 : Fin (k0_t10_loop i k0_t2 v110 v113).trips, ∀ (k0_h1 : k0_cond1 k0_t2 = 1#1), ∀ (k0_h5 : k0_cond5 i k0_t2 v110 v113 = 1#1), ∀ a, (k0_off67 i k0_t2 v110 v113 k0_t10) a + S1x16.size a ≤ S256x128.size a) ∧
  (∀ k0_t10 : Fin (k0_t10_loop i k0_t2 v110 v113).trips, ∀ (k0_h1 : k0_cond1 k0_t2 = 1#1), ∀ (k0_h5 : k0_cond5 i k0_t2 v110 v113 = 1#1), ∀ a, (k0_off68 i k0_t2 v110 v113 k0_t10) a + S1x16.size a ≤ S256x128.size a) ∧
  (∀ k0_t10 : Fin (k0_t10_loop i k0_t2 v110 v113).trips, ∀ (k0_h1 : k0_cond1 k0_t2 = 1#1), ∀ (k0_h5 : k0_cond5 i k0_t2 v110 v113 = 1#1), ∀ a, (k0_off69 i k0_t2 v110 v113 k0_t10) a + S1x16.size a ≤ S256x128.size a) ∧
  (∀ k0_t10 : Fin (k0_t10_loop i k0_t2 v110 v113).trips, ∀ (k0_h1 : k0_cond1 k0_t2 = 1#1), ∀ (k0_h5 : k0_cond5 i k0_t2 v110 v113 = 1#1), ∀ a, (k0_off70 i k0_t2 v110 v113 k0_t10) a + S1x16.size a ≤ S256x128.size a) ∧
  (∀ k0_t10 : Fin (k0_t10_loop i k0_t2 v110 v113).trips, ∀ (k0_h1 : k0_cond1 k0_t2 = 1#1), ∀ (k0_h5 : k0_cond5 i k0_t2 v110 v113 = 1#1), ∀ a, (k0_off71 i k0_t2 v110 v113 k0_t10) a + S1x16.size a ≤ S256x128.size a) ∧
  (∀ k0_t10 : Fin (k0_t10_loop i k0_t2 v110 v113).trips, ∀ (k0_h1 : k0_cond1 k0_t2 = 1#1), ∀ (k0_h5 : k0_cond5 i k0_t2 v110 v113 = 1#1), ∀ a, (k0_off72 i k0_t2 v110 v113 k0_t10) a + S1x16.size a ≤ S256x128.size a) ∧
  (∀ k0_t10 : Fin (k0_t10_loop i k0_t2 v110 v113).trips, ∀ (k0_h1 : k0_cond1 k0_t2 = 1#1), ∀ (k0_h5 : k0_cond5 i k0_t2 v110 v113 = 1#1), ∀ a, (k0_off73 i k0_t2 v110 v113 k0_t10) a + S1x16.size a ≤ S256x128.size a) ∧
  (∀ k0_t10 : Fin (k0_t10_loop i k0_t2 v110 v113).trips, ∀ (k0_h1 : k0_cond1 k0_t2 = 1#1), ∀ (k0_h5 : k0_cond5 i k0_t2 v110 v113 = 1#1), ∀ a, (k0_off74 i k0_t2 v110 v113 k0_t10) a + S1x16.size a ≤ S256x128.size a)
theorem k0_t9_ok : ∀ (i : grid0.Coords) (k0_t2 : Fin k0_t2_loop.trips) (v110 : BitVec 32) (v113 : BitVec 32) (k0_hw4 : k0_chk4 i k0_t2 v110 v113), ∀ (k0_h1 : k0_cond1 k0_t2 = 1#1), ∀ (k0_h5 : k0_cond5 i k0_t2 v110 v113 = 1#1), (k0_t9_loop i k0_t2 v110 v113).OK := fun i k0_t2 v110 v113 k0_hw4 k0_h1 k0_h5 => k0_hw4.1 k0_h1 k0_h5
theorem k0_off59_inb : ∀ (i : grid0.Coords) (k0_t2 : Fin k0_t2_loop.trips) (v110 : BitVec 32) (v113 : BitVec 32) (k0_hw4 : k0_chk4 i k0_t2 v110 v113) (k0_t9 : Fin (k0_t9_loop i k0_t2 v110 v113).trips), ∀ (k0_h1 : k0_cond1 k0_t2 = 1#1), ∀ (k0_h5 : k0_cond5 i k0_t2 v110 v113 = 1#1), ∀ a, (k0_off59 i k0_t2 v110 v113 k0_t9) a + S1x16.size a ≤ S256x128.size a := fun i k0_t2 v110 v113 k0_hw4 k0_t9 k0_h1 k0_h5 => k0_hw4.2.1 k0_t9 k0_h1 k0_h5
theorem k0_off60_inb : ∀ (i : grid0.Coords) (k0_t2 : Fin k0_t2_loop.trips) (v110 : BitVec 32) (v113 : BitVec 32) (k0_hw4 : k0_chk4 i k0_t2 v110 v113) (k0_t9 : Fin (k0_t9_loop i k0_t2 v110 v113).trips), ∀ (k0_h1 : k0_cond1 k0_t2 = 1#1), ∀ (k0_h5 : k0_cond5 i k0_t2 v110 v113 = 1#1), ∀ a, (k0_off60 i k0_t2 v110 v113 k0_t9) a + S1x16.size a ≤ S256x128.size a := fun i k0_t2 v110 v113 k0_hw4 k0_t9 k0_h1 k0_h5 => k0_hw4.2.2.1 k0_t9 k0_h1 k0_h5
theorem k0_off61_inb : ∀ (i : grid0.Coords) (k0_t2 : Fin k0_t2_loop.trips) (v110 : BitVec 32) (v113 : BitVec 32) (k0_hw4 : k0_chk4 i k0_t2 v110 v113) (k0_t9 : Fin (k0_t9_loop i k0_t2 v110 v113).trips), ∀ (k0_h1 : k0_cond1 k0_t2 = 1#1), ∀ (k0_h5 : k0_cond5 i k0_t2 v110 v113 = 1#1), ∀ a, (k0_off61 i k0_t2 v110 v113 k0_t9) a + S1x16.size a ≤ S256x128.size a := fun i k0_t2 v110 v113 k0_hw4 k0_t9 k0_h1 k0_h5 => k0_hw4.2.2.2.1 k0_t9 k0_h1 k0_h5
theorem k0_off62_inb : ∀ (i : grid0.Coords) (k0_t2 : Fin k0_t2_loop.trips) (v110 : BitVec 32) (v113 : BitVec 32) (k0_hw4 : k0_chk4 i k0_t2 v110 v113) (k0_t9 : Fin (k0_t9_loop i k0_t2 v110 v113).trips), ∀ (k0_h1 : k0_cond1 k0_t2 = 1#1), ∀ (k0_h5 : k0_cond5 i k0_t2 v110 v113 = 1#1), ∀ a, (k0_off62 i k0_t2 v110 v113 k0_t9) a + S1x16.size a ≤ S256x128.size a := fun i k0_t2 v110 v113 k0_hw4 k0_t9 k0_h1 k0_h5 => k0_hw4.2.2.2.2.1 k0_t9 k0_h1 k0_h5
theorem k0_off63_inb : ∀ (i : grid0.Coords) (k0_t2 : Fin k0_t2_loop.trips) (v110 : BitVec 32) (v113 : BitVec 32) (k0_hw4 : k0_chk4 i k0_t2 v110 v113) (k0_t9 : Fin (k0_t9_loop i k0_t2 v110 v113).trips), ∀ (k0_h1 : k0_cond1 k0_t2 = 1#1), ∀ (k0_h5 : k0_cond5 i k0_t2 v110 v113 = 1#1), ∀ a, (k0_off63 i k0_t2 v110 v113 k0_t9) a + S1x16.size a ≤ S256x128.size a := fun i k0_t2 v110 v113 k0_hw4 k0_t9 k0_h1 k0_h5 => k0_hw4.2.2.2.2.2.1 k0_t9 k0_h1 k0_h5
theorem k0_off64_inb : ∀ (i : grid0.Coords) (k0_t2 : Fin k0_t2_loop.trips) (v110 : BitVec 32) (v113 : BitVec 32) (k0_hw4 : k0_chk4 i k0_t2 v110 v113) (k0_t9 : Fin (k0_t9_loop i k0_t2 v110 v113).trips), ∀ (k0_h1 : k0_cond1 k0_t2 = 1#1), ∀ (k0_h5 : k0_cond5 i k0_t2 v110 v113 = 1#1), ∀ a, (k0_off64 i k0_t2 v110 v113 k0_t9) a + S1x16.size a ≤ S256x128.size a := fun i k0_t2 v110 v113 k0_hw4 k0_t9 k0_h1 k0_h5 => k0_hw4.2.2.2.2.2.2.1 k0_t9 k0_h1 k0_h5
theorem k0_off65_inb : ∀ (i : grid0.Coords) (k0_t2 : Fin k0_t2_loop.trips) (v110 : BitVec 32) (v113 : BitVec 32) (k0_hw4 : k0_chk4 i k0_t2 v110 v113) (k0_t9 : Fin (k0_t9_loop i k0_t2 v110 v113).trips), ∀ (k0_h1 : k0_cond1 k0_t2 = 1#1), ∀ (k0_h5 : k0_cond5 i k0_t2 v110 v113 = 1#1), ∀ a, (k0_off65 i k0_t2 v110 v113 k0_t9) a + S1x16.size a ≤ S256x128.size a := fun i k0_t2 v110 v113 k0_hw4 k0_t9 k0_h1 k0_h5 => k0_hw4.2.2.2.2.2.2.2.1 k0_t9 k0_h1 k0_h5
theorem k0_off66_inb : ∀ (i : grid0.Coords) (k0_t2 : Fin k0_t2_loop.trips) (v110 : BitVec 32) (v113 : BitVec 32) (k0_hw4 : k0_chk4 i k0_t2 v110 v113) (k0_t9 : Fin (k0_t9_loop i k0_t2 v110 v113).trips), ∀ (k0_h1 : k0_cond1 k0_t2 = 1#1), ∀ (k0_h5 : k0_cond5 i k0_t2 v110 v113 = 1#1), ∀ a, (k0_off66 i k0_t2 v110 v113 k0_t9) a + S1x16.size a ≤ S256x128.size a := fun i k0_t2 v110 v113 k0_hw4 k0_t9 k0_h1 k0_h5 => k0_hw4.2.2.2.2.2.2.2.2.1 k0_t9 k0_h1 k0_h5
theorem k0_t10_ok : ∀ (i : grid0.Coords) (k0_t2 : Fin k0_t2_loop.trips) (v110 : BitVec 32) (v113 : BitVec 32) (k0_hw4 : k0_chk4 i k0_t2 v110 v113), ∀ (k0_h1 : k0_cond1 k0_t2 = 1#1), ∀ (k0_h5 : k0_cond5 i k0_t2 v110 v113 = 1#1), (k0_t10_loop i k0_t2 v110 v113).OK := fun i k0_t2 v110 v113 k0_hw4 k0_h1 k0_h5 => k0_hw4.2.2.2.2.2.2.2.2.2.1 k0_h1 k0_h5
theorem k0_off67_inb : ∀ (i : grid0.Coords) (k0_t2 : Fin k0_t2_loop.trips) (v110 : BitVec 32) (v113 : BitVec 32) (k0_hw4 : k0_chk4 i k0_t2 v110 v113) (k0_t10 : Fin (k0_t10_loop i k0_t2 v110 v113).trips), ∀ (k0_h1 : k0_cond1 k0_t2 = 1#1), ∀ (k0_h5 : k0_cond5 i k0_t2 v110 v113 = 1#1), ∀ a, (k0_off67 i k0_t2 v110 v113 k0_t10) a + S1x16.size a ≤ S256x128.size a := fun i k0_t2 v110 v113 k0_hw4 k0_t10 k0_h1 k0_h5 => k0_hw4.2.2.2.2.2.2.2.2.2.2.1 k0_t10 k0_h1 k0_h5
theorem k0_off68_inb : ∀ (i : grid0.Coords) (k0_t2 : Fin k0_t2_loop.trips) (v110 : BitVec 32) (v113 : BitVec 32) (k0_hw4 : k0_chk4 i k0_t2 v110 v113) (k0_t10 : Fin (k0_t10_loop i k0_t2 v110 v113).trips), ∀ (k0_h1 : k0_cond1 k0_t2 = 1#1), ∀ (k0_h5 : k0_cond5 i k0_t2 v110 v113 = 1#1), ∀ a, (k0_off68 i k0_t2 v110 v113 k0_t10) a + S1x16.size a ≤ S256x128.size a := fun i k0_t2 v110 v113 k0_hw4 k0_t10 k0_h1 k0_h5 => k0_hw4.2.2.2.2.2.2.2.2.2.2.2.1 k0_t10 k0_h1 k0_h5
theorem k0_off69_inb : ∀ (i : grid0.Coords) (k0_t2 : Fin k0_t2_loop.trips) (v110 : BitVec 32) (v113 : BitVec 32) (k0_hw4 : k0_chk4 i k0_t2 v110 v113) (k0_t10 : Fin (k0_t10_loop i k0_t2 v110 v113).trips), ∀ (k0_h1 : k0_cond1 k0_t2 = 1#1), ∀ (k0_h5 : k0_cond5 i k0_t2 v110 v113 = 1#1), ∀ a, (k0_off69 i k0_t2 v110 v113 k0_t10) a + S1x16.size a ≤ S256x128.size a := fun i k0_t2 v110 v113 k0_hw4 k0_t10 k0_h1 k0_h5 => k0_hw4.2.2.2.2.2.2.2.2.2.2.2.2.1 k0_t10 k0_h1 k0_h5
theorem k0_off70_inb : ∀ (i : grid0.Coords) (k0_t2 : Fin k0_t2_loop.trips) (v110 : BitVec 32) (v113 : BitVec 32) (k0_hw4 : k0_chk4 i k0_t2 v110 v113) (k0_t10 : Fin (k0_t10_loop i k0_t2 v110 v113).trips), ∀ (k0_h1 : k0_cond1 k0_t2 = 1#1), ∀ (k0_h5 : k0_cond5 i k0_t2 v110 v113 = 1#1), ∀ a, (k0_off70 i k0_t2 v110 v113 k0_t10) a + S1x16.size a ≤ S256x128.size a := fun i k0_t2 v110 v113 k0_hw4 k0_t10 k0_h1 k0_h5 => k0_hw4.2.2.2.2.2.2.2.2.2.2.2.2.2.1 k0_t10 k0_h1 k0_h5
theorem k0_off71_inb : ∀ (i : grid0.Coords) (k0_t2 : Fin k0_t2_loop.trips) (v110 : BitVec 32) (v113 : BitVec 32) (k0_hw4 : k0_chk4 i k0_t2 v110 v113) (k0_t10 : Fin (k0_t10_loop i k0_t2 v110 v113).trips), ∀ (k0_h1 : k0_cond1 k0_t2 = 1#1), ∀ (k0_h5 : k0_cond5 i k0_t2 v110 v113 = 1#1), ∀ a, (k0_off71 i k0_t2 v110 v113 k0_t10) a + S1x16.size a ≤ S256x128.size a := fun i k0_t2 v110 v113 k0_hw4 k0_t10 k0_h1 k0_h5 => k0_hw4.2.2.2.2.2.2.2.2.2.2.2.2.2.2.1 k0_t10 k0_h1 k0_h5
theorem k0_off72_inb : ∀ (i : grid0.Coords) (k0_t2 : Fin k0_t2_loop.trips) (v110 : BitVec 32) (v113 : BitVec 32) (k0_hw4 : k0_chk4 i k0_t2 v110 v113) (k0_t10 : Fin (k0_t10_loop i k0_t2 v110 v113).trips), ∀ (k0_h1 : k0_cond1 k0_t2 = 1#1), ∀ (k0_h5 : k0_cond5 i k0_t2 v110 v113 = 1#1), ∀ a, (k0_off72 i k0_t2 v110 v113 k0_t10) a + S1x16.size a ≤ S256x128.size a := fun i k0_t2 v110 v113 k0_hw4 k0_t10 k0_h1 k0_h5 => k0_hw4.2.2.2.2.2.2.2.2.2.2.2.2.2.2.2.1 k0_t10 k0_h1 k0_h5
theorem k0_off73_inb : ∀ (i : grid0.Coords) (k0_t2 : Fin k0_t2_loop.trips) (v110 : BitVec 32) (v113 : BitVec 32) (k0_hw4 : k0_chk4 i k0_t2 v110 v113) (k0_t10 : Fin (k0_t10_loop i k0_t2 v110 v113).trips), ∀ (k0_h1 : k0_cond1 k0_t2 = 1#1), ∀ (k0_h5 : k0_cond5 i k0_t2 v110 v113 = 1#1), ∀ a, (k0_off73 i k0_t2 v110 v113 k0_t10) a + S1x16.size a ≤ S256x128.size a := fun i k0_t2 v110 v113 k0_hw4 k0_t10 k0_h1 k0_h5 => k0_hw4.2.2.2.2.2.2.2.2.2.2.2.2.2.2.2.2.1 k0_t10 k0_h1 k0_h5
theorem k0_off74_inb : ∀ (i : grid0.Coords) (k0_t2 : Fin k0_t2_loop.trips) (v110 : BitVec 32) (v113 : BitVec 32) (k0_hw4 : k0_chk4 i k0_t2 v110 v113) (k0_t10 : Fin (k0_t10_loop i k0_t2 v110 v113).trips), ∀ (k0_h1 : k0_cond1 k0_t2 = 1#1), ∀ (k0_h5 : k0_cond5 i k0_t2 v110 v113 = 1#1), ∀ a, (k0_off74 i k0_t2 v110 v113 k0_t10) a + S1x16.size a ≤ S256x128.size a := fun i k0_t2 v110 v113 k0_hw4 k0_t10 k0_h1 k0_h5 => k0_hw4.2.2.2.2.2.2.2.2.2.2.2.2.2.2.2.2.2 k0_t10 k0_h1 k0_h5

@[reducible] def k0_t11_loop (i : grid0.Coords) (k0_t2 : Fin k0_t2_loop.trips) (v119 : BitVec 32) (v122 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v120 : BitVec 32 := Scalar.maxsi v119 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_85 : BitVec 32 := 1#32
  ⟨v120, v234, c1_i32_85⟩
def k0_cond6 (i : grid0.Coords) (k0_t2 : Fin k0_t2_loop.trips) (v119 : BitVec 32) (v122 : BitVec 32) : BitVec 1 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v123 : BitVec 32 := Scalar.minsi v122 v77
  let v120 : BitVec 32 := Scalar.maxsi v119 v75
  let v124 : BitVec 1 := Scalar.cmpi .sgt v123 v120
  let v125 : BitVec 32 := Scalar.extui v124
  let c0_i32_69 : BitVec 32 := 0#32
  let v126 : BitVec 1 := Scalar.cmpi .ne v125 c0_i32_69
  v126

def k0_off75 (i : grid0.Coords) (k0_t2 : Fin k0_t2_loop.trips) (v119 : BitVec 32) (v122 : BitVec 32) (k0_t11 : Fin (k0_t11_loop i k0_t2 v119 v122).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v120 : BitVec 32 := Scalar.maxsi v119 v75
  let c1_i32_85 : BitVec 32 := 1#32
  let arg19 : BitVec 32 := Scf.iv v120 c1_i32_85 k0_t11
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off76 (i : grid0.Coords) (k0_t2 : Fin k0_t2_loop.trips) (v119 : BitVec 32) (v122 : BitVec 32) (k0_t11 : Fin (k0_t11_loop i k0_t2 v119 v122).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v120 : BitVec 32 := Scalar.maxsi v119 v75
  let c1_i32_85 : BitVec 32 := 1#32
  let arg19 : BitVec 32 := Scf.iv v120 c1_i32_85 k0_t11
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off77 (i : grid0.Coords) (k0_t2 : Fin k0_t2_loop.trips) (v119 : BitVec 32) (v122 : BitVec 32) (k0_t11 : Fin (k0_t11_loop i k0_t2 v119 v122).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v120 : BitVec 32 := Scalar.maxsi v119 v75
  let c1_i32_85 : BitVec 32 := 1#32
  let arg19 : BitVec 32 := Scf.iv v120 c1_i32_85 k0_t11
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off78 (i : grid0.Coords) (k0_t2 : Fin k0_t2_loop.trips) (v119 : BitVec 32) (v122 : BitVec 32) (k0_t11 : Fin (k0_t11_loop i k0_t2 v119 v122).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v120 : BitVec 32 := Scalar.maxsi v119 v75
  let c1_i32_85 : BitVec 32 := 1#32
  let arg19 : BitVec 32 := Scf.iv v120 c1_i32_85 k0_t11
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off79 (i : grid0.Coords) (k0_t2 : Fin k0_t2_loop.trips) (v119 : BitVec 32) (v122 : BitVec 32) (k0_t11 : Fin (k0_t11_loop i k0_t2 v119 v122).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v120 : BitVec 32 := Scalar.maxsi v119 v75
  let c1_i32_85 : BitVec 32 := 1#32
  let arg19 : BitVec 32 := Scf.iv v120 c1_i32_85 k0_t11
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off80 (i : grid0.Coords) (k0_t2 : Fin k0_t2_loop.trips) (v119 : BitVec 32) (v122 : BitVec 32) (k0_t11 : Fin (k0_t11_loop i k0_t2 v119 v122).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v120 : BitVec 32 := Scalar.maxsi v119 v75
  let c1_i32_85 : BitVec 32 := 1#32
  let arg19 : BitVec 32 := Scf.iv v120 c1_i32_85 k0_t11
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off81 (i : grid0.Coords) (k0_t2 : Fin k0_t2_loop.trips) (v119 : BitVec 32) (v122 : BitVec 32) (k0_t11 : Fin (k0_t11_loop i k0_t2 v119 v122).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v120 : BitVec 32 := Scalar.maxsi v119 v75
  let c1_i32_85 : BitVec 32 := 1#32
  let arg19 : BitVec 32 := Scf.iv v120 c1_i32_85 k0_t11
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off82 (i : grid0.Coords) (k0_t2 : Fin k0_t2_loop.trips) (v119 : BitVec 32) (v122 : BitVec 32) (k0_t11 : Fin (k0_t11_loop i k0_t2 v119 v122).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v120 : BitVec 32 := Scalar.maxsi v119 v75
  let c1_i32_85 : BitVec 32 := 1#32
  let arg19 : BitVec 32 := Scf.iv v120 c1_i32_85 k0_t11
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]
@[reducible] def k0_t12_loop (i : grid0.Coords) (k0_t2 : Fin k0_t2_loop.trips) (v119 : BitVec 32) (v122 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v120 : BitVec 32 := Scalar.maxsi v119 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let v231 : BitVec 32 := Scalar.addi v120 v230
  let c1_i32_86 : BitVec 32 := 1#32
  ⟨v234, v231, c1_i32_86⟩
def k0_off83 (i : grid0.Coords) (k0_t2 : Fin k0_t2_loop.trips) (v119 : BitVec 32) (v122 : BitVec 32) (k0_t12 : Fin (k0_t12_loop i k0_t2 v119 v122).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v120 : BitVec 32 := Scalar.maxsi v119 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_86 : BitVec 32 := 1#32
  let arg19 : BitVec 32 := Scf.iv v234 c1_i32_86 k0_t12
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off84 (i : grid0.Coords) (k0_t2 : Fin k0_t2_loop.trips) (v119 : BitVec 32) (v122 : BitVec 32) (k0_t12 : Fin (k0_t12_loop i k0_t2 v119 v122).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v120 : BitVec 32 := Scalar.maxsi v119 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_86 : BitVec 32 := 1#32
  let arg19 : BitVec 32 := Scf.iv v234 c1_i32_86 k0_t12
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off85 (i : grid0.Coords) (k0_t2 : Fin k0_t2_loop.trips) (v119 : BitVec 32) (v122 : BitVec 32) (k0_t12 : Fin (k0_t12_loop i k0_t2 v119 v122).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v120 : BitVec 32 := Scalar.maxsi v119 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_86 : BitVec 32 := 1#32
  let arg19 : BitVec 32 := Scf.iv v234 c1_i32_86 k0_t12
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off86 (i : grid0.Coords) (k0_t2 : Fin k0_t2_loop.trips) (v119 : BitVec 32) (v122 : BitVec 32) (k0_t12 : Fin (k0_t12_loop i k0_t2 v119 v122).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v120 : BitVec 32 := Scalar.maxsi v119 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_86 : BitVec 32 := 1#32
  let arg19 : BitVec 32 := Scf.iv v234 c1_i32_86 k0_t12
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off87 (i : grid0.Coords) (k0_t2 : Fin k0_t2_loop.trips) (v119 : BitVec 32) (v122 : BitVec 32) (k0_t12 : Fin (k0_t12_loop i k0_t2 v119 v122).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v120 : BitVec 32 := Scalar.maxsi v119 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_86 : BitVec 32 := 1#32
  let arg19 : BitVec 32 := Scf.iv v234 c1_i32_86 k0_t12
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off88 (i : grid0.Coords) (k0_t2 : Fin k0_t2_loop.trips) (v119 : BitVec 32) (v122 : BitVec 32) (k0_t12 : Fin (k0_t12_loop i k0_t2 v119 v122).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v120 : BitVec 32 := Scalar.maxsi v119 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_86 : BitVec 32 := 1#32
  let arg19 : BitVec 32 := Scf.iv v234 c1_i32_86 k0_t12
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off89 (i : grid0.Coords) (k0_t2 : Fin k0_t2_loop.trips) (v119 : BitVec 32) (v122 : BitVec 32) (k0_t12 : Fin (k0_t12_loop i k0_t2 v119 v122).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v120 : BitVec 32 := Scalar.maxsi v119 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_86 : BitVec 32 := 1#32
  let arg19 : BitVec 32 := Scf.iv v234 c1_i32_86 k0_t12
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off90 (i : grid0.Coords) (k0_t2 : Fin k0_t2_loop.trips) (v119 : BitVec 32) (v122 : BitVec 32) (k0_t12 : Fin (k0_t12_loop i k0_t2 v119 v122).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v120 : BitVec 32 := Scalar.maxsi v119 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_86 : BitVec 32 := 1#32
  let arg19 : BitVec 32 := Scf.iv v234 c1_i32_86 k0_t12
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]

def k0_chk5 (i : grid0.Coords) (k0_t2 : Fin k0_t2_loop.trips) (v119 : BitVec 32) (v122 : BitVec 32) : Prop :=
  (∀ (k0_h1 : k0_cond1 k0_t2 = 1#1), ∀ (k0_h6 : k0_cond6 i k0_t2 v119 v122 = 1#1), (k0_t11_loop i k0_t2 v119 v122).OK) ∧
  (∀ k0_t11 : Fin (k0_t11_loop i k0_t2 v119 v122).trips, ∀ (k0_h1 : k0_cond1 k0_t2 = 1#1), ∀ (k0_h6 : k0_cond6 i k0_t2 v119 v122 = 1#1), ∀ a, (k0_off75 i k0_t2 v119 v122 k0_t11) a + S1x16.size a ≤ S256x128.size a) ∧
  (∀ k0_t11 : Fin (k0_t11_loop i k0_t2 v119 v122).trips, ∀ (k0_h1 : k0_cond1 k0_t2 = 1#1), ∀ (k0_h6 : k0_cond6 i k0_t2 v119 v122 = 1#1), ∀ a, (k0_off76 i k0_t2 v119 v122 k0_t11) a + S1x16.size a ≤ S256x128.size a) ∧
  (∀ k0_t11 : Fin (k0_t11_loop i k0_t2 v119 v122).trips, ∀ (k0_h1 : k0_cond1 k0_t2 = 1#1), ∀ (k0_h6 : k0_cond6 i k0_t2 v119 v122 = 1#1), ∀ a, (k0_off77 i k0_t2 v119 v122 k0_t11) a + S1x16.size a ≤ S256x128.size a) ∧
  (∀ k0_t11 : Fin (k0_t11_loop i k0_t2 v119 v122).trips, ∀ (k0_h1 : k0_cond1 k0_t2 = 1#1), ∀ (k0_h6 : k0_cond6 i k0_t2 v119 v122 = 1#1), ∀ a, (k0_off78 i k0_t2 v119 v122 k0_t11) a + S1x16.size a ≤ S256x128.size a) ∧
  (∀ k0_t11 : Fin (k0_t11_loop i k0_t2 v119 v122).trips, ∀ (k0_h1 : k0_cond1 k0_t2 = 1#1), ∀ (k0_h6 : k0_cond6 i k0_t2 v119 v122 = 1#1), ∀ a, (k0_off79 i k0_t2 v119 v122 k0_t11) a + S1x16.size a ≤ S256x128.size a) ∧
  (∀ k0_t11 : Fin (k0_t11_loop i k0_t2 v119 v122).trips, ∀ (k0_h1 : k0_cond1 k0_t2 = 1#1), ∀ (k0_h6 : k0_cond6 i k0_t2 v119 v122 = 1#1), ∀ a, (k0_off80 i k0_t2 v119 v122 k0_t11) a + S1x16.size a ≤ S256x128.size a) ∧
  (∀ k0_t11 : Fin (k0_t11_loop i k0_t2 v119 v122).trips, ∀ (k0_h1 : k0_cond1 k0_t2 = 1#1), ∀ (k0_h6 : k0_cond6 i k0_t2 v119 v122 = 1#1), ∀ a, (k0_off81 i k0_t2 v119 v122 k0_t11) a + S1x16.size a ≤ S256x128.size a) ∧
  (∀ k0_t11 : Fin (k0_t11_loop i k0_t2 v119 v122).trips, ∀ (k0_h1 : k0_cond1 k0_t2 = 1#1), ∀ (k0_h6 : k0_cond6 i k0_t2 v119 v122 = 1#1), ∀ a, (k0_off82 i k0_t2 v119 v122 k0_t11) a + S1x16.size a ≤ S256x128.size a) ∧
  (∀ (k0_h1 : k0_cond1 k0_t2 = 1#1), ∀ (k0_h6 : k0_cond6 i k0_t2 v119 v122 = 1#1), (k0_t12_loop i k0_t2 v119 v122).OK) ∧
  (∀ k0_t12 : Fin (k0_t12_loop i k0_t2 v119 v122).trips, ∀ (k0_h1 : k0_cond1 k0_t2 = 1#1), ∀ (k0_h6 : k0_cond6 i k0_t2 v119 v122 = 1#1), ∀ a, (k0_off83 i k0_t2 v119 v122 k0_t12) a + S1x16.size a ≤ S256x128.size a) ∧
  (∀ k0_t12 : Fin (k0_t12_loop i k0_t2 v119 v122).trips, ∀ (k0_h1 : k0_cond1 k0_t2 = 1#1), ∀ (k0_h6 : k0_cond6 i k0_t2 v119 v122 = 1#1), ∀ a, (k0_off84 i k0_t2 v119 v122 k0_t12) a + S1x16.size a ≤ S256x128.size a) ∧
  (∀ k0_t12 : Fin (k0_t12_loop i k0_t2 v119 v122).trips, ∀ (k0_h1 : k0_cond1 k0_t2 = 1#1), ∀ (k0_h6 : k0_cond6 i k0_t2 v119 v122 = 1#1), ∀ a, (k0_off85 i k0_t2 v119 v122 k0_t12) a + S1x16.size a ≤ S256x128.size a) ∧
  (∀ k0_t12 : Fin (k0_t12_loop i k0_t2 v119 v122).trips, ∀ (k0_h1 : k0_cond1 k0_t2 = 1#1), ∀ (k0_h6 : k0_cond6 i k0_t2 v119 v122 = 1#1), ∀ a, (k0_off86 i k0_t2 v119 v122 k0_t12) a + S1x16.size a ≤ S256x128.size a) ∧
  (∀ k0_t12 : Fin (k0_t12_loop i k0_t2 v119 v122).trips, ∀ (k0_h1 : k0_cond1 k0_t2 = 1#1), ∀ (k0_h6 : k0_cond6 i k0_t2 v119 v122 = 1#1), ∀ a, (k0_off87 i k0_t2 v119 v122 k0_t12) a + S1x16.size a ≤ S256x128.size a) ∧
  (∀ k0_t12 : Fin (k0_t12_loop i k0_t2 v119 v122).trips, ∀ (k0_h1 : k0_cond1 k0_t2 = 1#1), ∀ (k0_h6 : k0_cond6 i k0_t2 v119 v122 = 1#1), ∀ a, (k0_off88 i k0_t2 v119 v122 k0_t12) a + S1x16.size a ≤ S256x128.size a) ∧
  (∀ k0_t12 : Fin (k0_t12_loop i k0_t2 v119 v122).trips, ∀ (k0_h1 : k0_cond1 k0_t2 = 1#1), ∀ (k0_h6 : k0_cond6 i k0_t2 v119 v122 = 1#1), ∀ a, (k0_off89 i k0_t2 v119 v122 k0_t12) a + S1x16.size a ≤ S256x128.size a) ∧
  (∀ k0_t12 : Fin (k0_t12_loop i k0_t2 v119 v122).trips, ∀ (k0_h1 : k0_cond1 k0_t2 = 1#1), ∀ (k0_h6 : k0_cond6 i k0_t2 v119 v122 = 1#1), ∀ a, (k0_off90 i k0_t2 v119 v122 k0_t12) a + S1x16.size a ≤ S256x128.size a)
theorem k0_t11_ok : ∀ (i : grid0.Coords) (k0_t2 : Fin k0_t2_loop.trips) (v119 : BitVec 32) (v122 : BitVec 32) (k0_hw5 : k0_chk5 i k0_t2 v119 v122), ∀ (k0_h1 : k0_cond1 k0_t2 = 1#1), ∀ (k0_h6 : k0_cond6 i k0_t2 v119 v122 = 1#1), (k0_t11_loop i k0_t2 v119 v122).OK := fun i k0_t2 v119 v122 k0_hw5 k0_h1 k0_h6 => k0_hw5.1 k0_h1 k0_h6
theorem k0_off75_inb : ∀ (i : grid0.Coords) (k0_t2 : Fin k0_t2_loop.trips) (v119 : BitVec 32) (v122 : BitVec 32) (k0_hw5 : k0_chk5 i k0_t2 v119 v122) (k0_t11 : Fin (k0_t11_loop i k0_t2 v119 v122).trips), ∀ (k0_h1 : k0_cond1 k0_t2 = 1#1), ∀ (k0_h6 : k0_cond6 i k0_t2 v119 v122 = 1#1), ∀ a, (k0_off75 i k0_t2 v119 v122 k0_t11) a + S1x16.size a ≤ S256x128.size a := fun i k0_t2 v119 v122 k0_hw5 k0_t11 k0_h1 k0_h6 => k0_hw5.2.1 k0_t11 k0_h1 k0_h6
theorem k0_off76_inb : ∀ (i : grid0.Coords) (k0_t2 : Fin k0_t2_loop.trips) (v119 : BitVec 32) (v122 : BitVec 32) (k0_hw5 : k0_chk5 i k0_t2 v119 v122) (k0_t11 : Fin (k0_t11_loop i k0_t2 v119 v122).trips), ∀ (k0_h1 : k0_cond1 k0_t2 = 1#1), ∀ (k0_h6 : k0_cond6 i k0_t2 v119 v122 = 1#1), ∀ a, (k0_off76 i k0_t2 v119 v122 k0_t11) a + S1x16.size a ≤ S256x128.size a := fun i k0_t2 v119 v122 k0_hw5 k0_t11 k0_h1 k0_h6 => k0_hw5.2.2.1 k0_t11 k0_h1 k0_h6
theorem k0_off77_inb : ∀ (i : grid0.Coords) (k0_t2 : Fin k0_t2_loop.trips) (v119 : BitVec 32) (v122 : BitVec 32) (k0_hw5 : k0_chk5 i k0_t2 v119 v122) (k0_t11 : Fin (k0_t11_loop i k0_t2 v119 v122).trips), ∀ (k0_h1 : k0_cond1 k0_t2 = 1#1), ∀ (k0_h6 : k0_cond6 i k0_t2 v119 v122 = 1#1), ∀ a, (k0_off77 i k0_t2 v119 v122 k0_t11) a + S1x16.size a ≤ S256x128.size a := fun i k0_t2 v119 v122 k0_hw5 k0_t11 k0_h1 k0_h6 => k0_hw5.2.2.2.1 k0_t11 k0_h1 k0_h6
theorem k0_off78_inb : ∀ (i : grid0.Coords) (k0_t2 : Fin k0_t2_loop.trips) (v119 : BitVec 32) (v122 : BitVec 32) (k0_hw5 : k0_chk5 i k0_t2 v119 v122) (k0_t11 : Fin (k0_t11_loop i k0_t2 v119 v122).trips), ∀ (k0_h1 : k0_cond1 k0_t2 = 1#1), ∀ (k0_h6 : k0_cond6 i k0_t2 v119 v122 = 1#1), ∀ a, (k0_off78 i k0_t2 v119 v122 k0_t11) a + S1x16.size a ≤ S256x128.size a := fun i k0_t2 v119 v122 k0_hw5 k0_t11 k0_h1 k0_h6 => k0_hw5.2.2.2.2.1 k0_t11 k0_h1 k0_h6
theorem k0_off79_inb : ∀ (i : grid0.Coords) (k0_t2 : Fin k0_t2_loop.trips) (v119 : BitVec 32) (v122 : BitVec 32) (k0_hw5 : k0_chk5 i k0_t2 v119 v122) (k0_t11 : Fin (k0_t11_loop i k0_t2 v119 v122).trips), ∀ (k0_h1 : k0_cond1 k0_t2 = 1#1), ∀ (k0_h6 : k0_cond6 i k0_t2 v119 v122 = 1#1), ∀ a, (k0_off79 i k0_t2 v119 v122 k0_t11) a + S1x16.size a ≤ S256x128.size a := fun i k0_t2 v119 v122 k0_hw5 k0_t11 k0_h1 k0_h6 => k0_hw5.2.2.2.2.2.1 k0_t11 k0_h1 k0_h6
theorem k0_off80_inb : ∀ (i : grid0.Coords) (k0_t2 : Fin k0_t2_loop.trips) (v119 : BitVec 32) (v122 : BitVec 32) (k0_hw5 : k0_chk5 i k0_t2 v119 v122) (k0_t11 : Fin (k0_t11_loop i k0_t2 v119 v122).trips), ∀ (k0_h1 : k0_cond1 k0_t2 = 1#1), ∀ (k0_h6 : k0_cond6 i k0_t2 v119 v122 = 1#1), ∀ a, (k0_off80 i k0_t2 v119 v122 k0_t11) a + S1x16.size a ≤ S256x128.size a := fun i k0_t2 v119 v122 k0_hw5 k0_t11 k0_h1 k0_h6 => k0_hw5.2.2.2.2.2.2.1 k0_t11 k0_h1 k0_h6
theorem k0_off81_inb : ∀ (i : grid0.Coords) (k0_t2 : Fin k0_t2_loop.trips) (v119 : BitVec 32) (v122 : BitVec 32) (k0_hw5 : k0_chk5 i k0_t2 v119 v122) (k0_t11 : Fin (k0_t11_loop i k0_t2 v119 v122).trips), ∀ (k0_h1 : k0_cond1 k0_t2 = 1#1), ∀ (k0_h6 : k0_cond6 i k0_t2 v119 v122 = 1#1), ∀ a, (k0_off81 i k0_t2 v119 v122 k0_t11) a + S1x16.size a ≤ S256x128.size a := fun i k0_t2 v119 v122 k0_hw5 k0_t11 k0_h1 k0_h6 => k0_hw5.2.2.2.2.2.2.2.1 k0_t11 k0_h1 k0_h6
theorem k0_off82_inb : ∀ (i : grid0.Coords) (k0_t2 : Fin k0_t2_loop.trips) (v119 : BitVec 32) (v122 : BitVec 32) (k0_hw5 : k0_chk5 i k0_t2 v119 v122) (k0_t11 : Fin (k0_t11_loop i k0_t2 v119 v122).trips), ∀ (k0_h1 : k0_cond1 k0_t2 = 1#1), ∀ (k0_h6 : k0_cond6 i k0_t2 v119 v122 = 1#1), ∀ a, (k0_off82 i k0_t2 v119 v122 k0_t11) a + S1x16.size a ≤ S256x128.size a := fun i k0_t2 v119 v122 k0_hw5 k0_t11 k0_h1 k0_h6 => k0_hw5.2.2.2.2.2.2.2.2.1 k0_t11 k0_h1 k0_h6
theorem k0_t12_ok : ∀ (i : grid0.Coords) (k0_t2 : Fin k0_t2_loop.trips) (v119 : BitVec 32) (v122 : BitVec 32) (k0_hw5 : k0_chk5 i k0_t2 v119 v122), ∀ (k0_h1 : k0_cond1 k0_t2 = 1#1), ∀ (k0_h6 : k0_cond6 i k0_t2 v119 v122 = 1#1), (k0_t12_loop i k0_t2 v119 v122).OK := fun i k0_t2 v119 v122 k0_hw5 k0_h1 k0_h6 => k0_hw5.2.2.2.2.2.2.2.2.2.1 k0_h1 k0_h6
theorem k0_off83_inb : ∀ (i : grid0.Coords) (k0_t2 : Fin k0_t2_loop.trips) (v119 : BitVec 32) (v122 : BitVec 32) (k0_hw5 : k0_chk5 i k0_t2 v119 v122) (k0_t12 : Fin (k0_t12_loop i k0_t2 v119 v122).trips), ∀ (k0_h1 : k0_cond1 k0_t2 = 1#1), ∀ (k0_h6 : k0_cond6 i k0_t2 v119 v122 = 1#1), ∀ a, (k0_off83 i k0_t2 v119 v122 k0_t12) a + S1x16.size a ≤ S256x128.size a := fun i k0_t2 v119 v122 k0_hw5 k0_t12 k0_h1 k0_h6 => k0_hw5.2.2.2.2.2.2.2.2.2.2.1 k0_t12 k0_h1 k0_h6
theorem k0_off84_inb : ∀ (i : grid0.Coords) (k0_t2 : Fin k0_t2_loop.trips) (v119 : BitVec 32) (v122 : BitVec 32) (k0_hw5 : k0_chk5 i k0_t2 v119 v122) (k0_t12 : Fin (k0_t12_loop i k0_t2 v119 v122).trips), ∀ (k0_h1 : k0_cond1 k0_t2 = 1#1), ∀ (k0_h6 : k0_cond6 i k0_t2 v119 v122 = 1#1), ∀ a, (k0_off84 i k0_t2 v119 v122 k0_t12) a + S1x16.size a ≤ S256x128.size a := fun i k0_t2 v119 v122 k0_hw5 k0_t12 k0_h1 k0_h6 => k0_hw5.2.2.2.2.2.2.2.2.2.2.2.1 k0_t12 k0_h1 k0_h6
theorem k0_off85_inb : ∀ (i : grid0.Coords) (k0_t2 : Fin k0_t2_loop.trips) (v119 : BitVec 32) (v122 : BitVec 32) (k0_hw5 : k0_chk5 i k0_t2 v119 v122) (k0_t12 : Fin (k0_t12_loop i k0_t2 v119 v122).trips), ∀ (k0_h1 : k0_cond1 k0_t2 = 1#1), ∀ (k0_h6 : k0_cond6 i k0_t2 v119 v122 = 1#1), ∀ a, (k0_off85 i k0_t2 v119 v122 k0_t12) a + S1x16.size a ≤ S256x128.size a := fun i k0_t2 v119 v122 k0_hw5 k0_t12 k0_h1 k0_h6 => k0_hw5.2.2.2.2.2.2.2.2.2.2.2.2.1 k0_t12 k0_h1 k0_h6
theorem k0_off86_inb : ∀ (i : grid0.Coords) (k0_t2 : Fin k0_t2_loop.trips) (v119 : BitVec 32) (v122 : BitVec 32) (k0_hw5 : k0_chk5 i k0_t2 v119 v122) (k0_t12 : Fin (k0_t12_loop i k0_t2 v119 v122).trips), ∀ (k0_h1 : k0_cond1 k0_t2 = 1#1), ∀ (k0_h6 : k0_cond6 i k0_t2 v119 v122 = 1#1), ∀ a, (k0_off86 i k0_t2 v119 v122 k0_t12) a + S1x16.size a ≤ S256x128.size a := fun i k0_t2 v119 v122 k0_hw5 k0_t12 k0_h1 k0_h6 => k0_hw5.2.2.2.2.2.2.2.2.2.2.2.2.2.1 k0_t12 k0_h1 k0_h6
theorem k0_off87_inb : ∀ (i : grid0.Coords) (k0_t2 : Fin k0_t2_loop.trips) (v119 : BitVec 32) (v122 : BitVec 32) (k0_hw5 : k0_chk5 i k0_t2 v119 v122) (k0_t12 : Fin (k0_t12_loop i k0_t2 v119 v122).trips), ∀ (k0_h1 : k0_cond1 k0_t2 = 1#1), ∀ (k0_h6 : k0_cond6 i k0_t2 v119 v122 = 1#1), ∀ a, (k0_off87 i k0_t2 v119 v122 k0_t12) a + S1x16.size a ≤ S256x128.size a := fun i k0_t2 v119 v122 k0_hw5 k0_t12 k0_h1 k0_h6 => k0_hw5.2.2.2.2.2.2.2.2.2.2.2.2.2.2.1 k0_t12 k0_h1 k0_h6
theorem k0_off88_inb : ∀ (i : grid0.Coords) (k0_t2 : Fin k0_t2_loop.trips) (v119 : BitVec 32) (v122 : BitVec 32) (k0_hw5 : k0_chk5 i k0_t2 v119 v122) (k0_t12 : Fin (k0_t12_loop i k0_t2 v119 v122).trips), ∀ (k0_h1 : k0_cond1 k0_t2 = 1#1), ∀ (k0_h6 : k0_cond6 i k0_t2 v119 v122 = 1#1), ∀ a, (k0_off88 i k0_t2 v119 v122 k0_t12) a + S1x16.size a ≤ S256x128.size a := fun i k0_t2 v119 v122 k0_hw5 k0_t12 k0_h1 k0_h6 => k0_hw5.2.2.2.2.2.2.2.2.2.2.2.2.2.2.2.1 k0_t12 k0_h1 k0_h6
theorem k0_off89_inb : ∀ (i : grid0.Coords) (k0_t2 : Fin k0_t2_loop.trips) (v119 : BitVec 32) (v122 : BitVec 32) (k0_hw5 : k0_chk5 i k0_t2 v119 v122) (k0_t12 : Fin (k0_t12_loop i k0_t2 v119 v122).trips), ∀ (k0_h1 : k0_cond1 k0_t2 = 1#1), ∀ (k0_h6 : k0_cond6 i k0_t2 v119 v122 = 1#1), ∀ a, (k0_off89 i k0_t2 v119 v122 k0_t12) a + S1x16.size a ≤ S256x128.size a := fun i k0_t2 v119 v122 k0_hw5 k0_t12 k0_h1 k0_h6 => k0_hw5.2.2.2.2.2.2.2.2.2.2.2.2.2.2.2.2.1 k0_t12 k0_h1 k0_h6
theorem k0_off90_inb : ∀ (i : grid0.Coords) (k0_t2 : Fin k0_t2_loop.trips) (v119 : BitVec 32) (v122 : BitVec 32) (k0_hw5 : k0_chk5 i k0_t2 v119 v122) (k0_t12 : Fin (k0_t12_loop i k0_t2 v119 v122).trips), ∀ (k0_h1 : k0_cond1 k0_t2 = 1#1), ∀ (k0_h6 : k0_cond6 i k0_t2 v119 v122 = 1#1), ∀ a, (k0_off90 i k0_t2 v119 v122 k0_t12) a + S1x16.size a ≤ S256x128.size a := fun i k0_t2 v119 v122 k0_hw5 k0_t12 k0_h1 k0_h6 => k0_hw5.2.2.2.2.2.2.2.2.2.2.2.2.2.2.2.2.2 k0_t12 k0_h1 k0_h6

@[reducible] def k0_t13_loop (i : grid0.Coords) (k0_t2 : Fin k0_t2_loop.trips) (v128 : BitVec 32) (v131 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v129 : BitVec 32 := Scalar.maxsi v128 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_85 : BitVec 32 := 1#32
  ⟨v129, v234, c1_i32_85⟩
def k0_cond7 (i : grid0.Coords) (k0_t2 : Fin k0_t2_loop.trips) (v128 : BitVec 32) (v131 : BitVec 32) : BitVec 1 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v132 : BitVec 32 := Scalar.minsi v131 v77
  let v129 : BitVec 32 := Scalar.maxsi v128 v75
  let v133 : BitVec 1 := Scalar.cmpi .sgt v132 v129
  let v134 : BitVec 32 := Scalar.extui v133
  let c0_i32_70 : BitVec 32 := 0#32
  let v135 : BitVec 1 := Scalar.cmpi .ne v134 c0_i32_70
  v135

def k0_off91 (i : grid0.Coords) (k0_t2 : Fin k0_t2_loop.trips) (v128 : BitVec 32) (v131 : BitVec 32) (k0_t13 : Fin (k0_t13_loop i k0_t2 v128 v131).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v129 : BitVec 32 := Scalar.maxsi v128 v75
  let c1_i32_85 : BitVec 32 := 1#32
  let arg19 : BitVec 32 := Scf.iv v129 c1_i32_85 k0_t13
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off92 (i : grid0.Coords) (k0_t2 : Fin k0_t2_loop.trips) (v128 : BitVec 32) (v131 : BitVec 32) (k0_t13 : Fin (k0_t13_loop i k0_t2 v128 v131).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v129 : BitVec 32 := Scalar.maxsi v128 v75
  let c1_i32_85 : BitVec 32 := 1#32
  let arg19 : BitVec 32 := Scf.iv v129 c1_i32_85 k0_t13
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off93 (i : grid0.Coords) (k0_t2 : Fin k0_t2_loop.trips) (v128 : BitVec 32) (v131 : BitVec 32) (k0_t13 : Fin (k0_t13_loop i k0_t2 v128 v131).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v129 : BitVec 32 := Scalar.maxsi v128 v75
  let c1_i32_85 : BitVec 32 := 1#32
  let arg19 : BitVec 32 := Scf.iv v129 c1_i32_85 k0_t13
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off94 (i : grid0.Coords) (k0_t2 : Fin k0_t2_loop.trips) (v128 : BitVec 32) (v131 : BitVec 32) (k0_t13 : Fin (k0_t13_loop i k0_t2 v128 v131).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v129 : BitVec 32 := Scalar.maxsi v128 v75
  let c1_i32_85 : BitVec 32 := 1#32
  let arg19 : BitVec 32 := Scf.iv v129 c1_i32_85 k0_t13
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off95 (i : grid0.Coords) (k0_t2 : Fin k0_t2_loop.trips) (v128 : BitVec 32) (v131 : BitVec 32) (k0_t13 : Fin (k0_t13_loop i k0_t2 v128 v131).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v129 : BitVec 32 := Scalar.maxsi v128 v75
  let c1_i32_85 : BitVec 32 := 1#32
  let arg19 : BitVec 32 := Scf.iv v129 c1_i32_85 k0_t13
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off96 (i : grid0.Coords) (k0_t2 : Fin k0_t2_loop.trips) (v128 : BitVec 32) (v131 : BitVec 32) (k0_t13 : Fin (k0_t13_loop i k0_t2 v128 v131).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v129 : BitVec 32 := Scalar.maxsi v128 v75
  let c1_i32_85 : BitVec 32 := 1#32
  let arg19 : BitVec 32 := Scf.iv v129 c1_i32_85 k0_t13
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off97 (i : grid0.Coords) (k0_t2 : Fin k0_t2_loop.trips) (v128 : BitVec 32) (v131 : BitVec 32) (k0_t13 : Fin (k0_t13_loop i k0_t2 v128 v131).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v129 : BitVec 32 := Scalar.maxsi v128 v75
  let c1_i32_85 : BitVec 32 := 1#32
  let arg19 : BitVec 32 := Scf.iv v129 c1_i32_85 k0_t13
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off98 (i : grid0.Coords) (k0_t2 : Fin k0_t2_loop.trips) (v128 : BitVec 32) (v131 : BitVec 32) (k0_t13 : Fin (k0_t13_loop i k0_t2 v128 v131).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v129 : BitVec 32 := Scalar.maxsi v128 v75
  let c1_i32_85 : BitVec 32 := 1#32
  let arg19 : BitVec 32 := Scf.iv v129 c1_i32_85 k0_t13
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]
@[reducible] def k0_t14_loop (i : grid0.Coords) (k0_t2 : Fin k0_t2_loop.trips) (v128 : BitVec 32) (v131 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v129 : BitVec 32 := Scalar.maxsi v128 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let v231 : BitVec 32 := Scalar.addi v129 v230
  let c1_i32_86 : BitVec 32 := 1#32
  ⟨v234, v231, c1_i32_86⟩
def k0_off99 (i : grid0.Coords) (k0_t2 : Fin k0_t2_loop.trips) (v128 : BitVec 32) (v131 : BitVec 32) (k0_t14 : Fin (k0_t14_loop i k0_t2 v128 v131).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v129 : BitVec 32 := Scalar.maxsi v128 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_86 : BitVec 32 := 1#32
  let arg19 : BitVec 32 := Scf.iv v234 c1_i32_86 k0_t14
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off100 (i : grid0.Coords) (k0_t2 : Fin k0_t2_loop.trips) (v128 : BitVec 32) (v131 : BitVec 32) (k0_t14 : Fin (k0_t14_loop i k0_t2 v128 v131).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v129 : BitVec 32 := Scalar.maxsi v128 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_86 : BitVec 32 := 1#32
  let arg19 : BitVec 32 := Scf.iv v234 c1_i32_86 k0_t14
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off101 (i : grid0.Coords) (k0_t2 : Fin k0_t2_loop.trips) (v128 : BitVec 32) (v131 : BitVec 32) (k0_t14 : Fin (k0_t14_loop i k0_t2 v128 v131).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v129 : BitVec 32 := Scalar.maxsi v128 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_86 : BitVec 32 := 1#32
  let arg19 : BitVec 32 := Scf.iv v234 c1_i32_86 k0_t14
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off102 (i : grid0.Coords) (k0_t2 : Fin k0_t2_loop.trips) (v128 : BitVec 32) (v131 : BitVec 32) (k0_t14 : Fin (k0_t14_loop i k0_t2 v128 v131).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v129 : BitVec 32 := Scalar.maxsi v128 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_86 : BitVec 32 := 1#32
  let arg19 : BitVec 32 := Scf.iv v234 c1_i32_86 k0_t14
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off103 (i : grid0.Coords) (k0_t2 : Fin k0_t2_loop.trips) (v128 : BitVec 32) (v131 : BitVec 32) (k0_t14 : Fin (k0_t14_loop i k0_t2 v128 v131).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v129 : BitVec 32 := Scalar.maxsi v128 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_86 : BitVec 32 := 1#32
  let arg19 : BitVec 32 := Scf.iv v234 c1_i32_86 k0_t14
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off104 (i : grid0.Coords) (k0_t2 : Fin k0_t2_loop.trips) (v128 : BitVec 32) (v131 : BitVec 32) (k0_t14 : Fin (k0_t14_loop i k0_t2 v128 v131).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v129 : BitVec 32 := Scalar.maxsi v128 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_86 : BitVec 32 := 1#32
  let arg19 : BitVec 32 := Scf.iv v234 c1_i32_86 k0_t14
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off105 (i : grid0.Coords) (k0_t2 : Fin k0_t2_loop.trips) (v128 : BitVec 32) (v131 : BitVec 32) (k0_t14 : Fin (k0_t14_loop i k0_t2 v128 v131).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v129 : BitVec 32 := Scalar.maxsi v128 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_86 : BitVec 32 := 1#32
  let arg19 : BitVec 32 := Scf.iv v234 c1_i32_86 k0_t14
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off106 (i : grid0.Coords) (k0_t2 : Fin k0_t2_loop.trips) (v128 : BitVec 32) (v131 : BitVec 32) (k0_t14 : Fin (k0_t14_loop i k0_t2 v128 v131).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v129 : BitVec 32 := Scalar.maxsi v128 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_86 : BitVec 32 := 1#32
  let arg19 : BitVec 32 := Scf.iv v234 c1_i32_86 k0_t14
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]

def k0_chk6 (i : grid0.Coords) (k0_t2 : Fin k0_t2_loop.trips) (v128 : BitVec 32) (v131 : BitVec 32) : Prop :=
  (∀ (k0_h1 : k0_cond1 k0_t2 = 1#1), ∀ (k0_h7 : k0_cond7 i k0_t2 v128 v131 = 1#1), (k0_t13_loop i k0_t2 v128 v131).OK) ∧
  (∀ k0_t13 : Fin (k0_t13_loop i k0_t2 v128 v131).trips, ∀ (k0_h1 : k0_cond1 k0_t2 = 1#1), ∀ (k0_h7 : k0_cond7 i k0_t2 v128 v131 = 1#1), ∀ a, (k0_off91 i k0_t2 v128 v131 k0_t13) a + S1x16.size a ≤ S256x128.size a) ∧
  (∀ k0_t13 : Fin (k0_t13_loop i k0_t2 v128 v131).trips, ∀ (k0_h1 : k0_cond1 k0_t2 = 1#1), ∀ (k0_h7 : k0_cond7 i k0_t2 v128 v131 = 1#1), ∀ a, (k0_off92 i k0_t2 v128 v131 k0_t13) a + S1x16.size a ≤ S256x128.size a) ∧
  (∀ k0_t13 : Fin (k0_t13_loop i k0_t2 v128 v131).trips, ∀ (k0_h1 : k0_cond1 k0_t2 = 1#1), ∀ (k0_h7 : k0_cond7 i k0_t2 v128 v131 = 1#1), ∀ a, (k0_off93 i k0_t2 v128 v131 k0_t13) a + S1x16.size a ≤ S256x128.size a) ∧
  (∀ k0_t13 : Fin (k0_t13_loop i k0_t2 v128 v131).trips, ∀ (k0_h1 : k0_cond1 k0_t2 = 1#1), ∀ (k0_h7 : k0_cond7 i k0_t2 v128 v131 = 1#1), ∀ a, (k0_off94 i k0_t2 v128 v131 k0_t13) a + S1x16.size a ≤ S256x128.size a) ∧
  (∀ k0_t13 : Fin (k0_t13_loop i k0_t2 v128 v131).trips, ∀ (k0_h1 : k0_cond1 k0_t2 = 1#1), ∀ (k0_h7 : k0_cond7 i k0_t2 v128 v131 = 1#1), ∀ a, (k0_off95 i k0_t2 v128 v131 k0_t13) a + S1x16.size a ≤ S256x128.size a) ∧
  (∀ k0_t13 : Fin (k0_t13_loop i k0_t2 v128 v131).trips, ∀ (k0_h1 : k0_cond1 k0_t2 = 1#1), ∀ (k0_h7 : k0_cond7 i k0_t2 v128 v131 = 1#1), ∀ a, (k0_off96 i k0_t2 v128 v131 k0_t13) a + S1x16.size a ≤ S256x128.size a) ∧
  (∀ k0_t13 : Fin (k0_t13_loop i k0_t2 v128 v131).trips, ∀ (k0_h1 : k0_cond1 k0_t2 = 1#1), ∀ (k0_h7 : k0_cond7 i k0_t2 v128 v131 = 1#1), ∀ a, (k0_off97 i k0_t2 v128 v131 k0_t13) a + S1x16.size a ≤ S256x128.size a) ∧
  (∀ k0_t13 : Fin (k0_t13_loop i k0_t2 v128 v131).trips, ∀ (k0_h1 : k0_cond1 k0_t2 = 1#1), ∀ (k0_h7 : k0_cond7 i k0_t2 v128 v131 = 1#1), ∀ a, (k0_off98 i k0_t2 v128 v131 k0_t13) a + S1x16.size a ≤ S256x128.size a) ∧
  (∀ (k0_h1 : k0_cond1 k0_t2 = 1#1), ∀ (k0_h7 : k0_cond7 i k0_t2 v128 v131 = 1#1), (k0_t14_loop i k0_t2 v128 v131).OK) ∧
  (∀ k0_t14 : Fin (k0_t14_loop i k0_t2 v128 v131).trips, ∀ (k0_h1 : k0_cond1 k0_t2 = 1#1), ∀ (k0_h7 : k0_cond7 i k0_t2 v128 v131 = 1#1), ∀ a, (k0_off99 i k0_t2 v128 v131 k0_t14) a + S1x16.size a ≤ S256x128.size a) ∧
  (∀ k0_t14 : Fin (k0_t14_loop i k0_t2 v128 v131).trips, ∀ (k0_h1 : k0_cond1 k0_t2 = 1#1), ∀ (k0_h7 : k0_cond7 i k0_t2 v128 v131 = 1#1), ∀ a, (k0_off100 i k0_t2 v128 v131 k0_t14) a + S1x16.size a ≤ S256x128.size a) ∧
  (∀ k0_t14 : Fin (k0_t14_loop i k0_t2 v128 v131).trips, ∀ (k0_h1 : k0_cond1 k0_t2 = 1#1), ∀ (k0_h7 : k0_cond7 i k0_t2 v128 v131 = 1#1), ∀ a, (k0_off101 i k0_t2 v128 v131 k0_t14) a + S1x16.size a ≤ S256x128.size a) ∧
  (∀ k0_t14 : Fin (k0_t14_loop i k0_t2 v128 v131).trips, ∀ (k0_h1 : k0_cond1 k0_t2 = 1#1), ∀ (k0_h7 : k0_cond7 i k0_t2 v128 v131 = 1#1), ∀ a, (k0_off102 i k0_t2 v128 v131 k0_t14) a + S1x16.size a ≤ S256x128.size a) ∧
  (∀ k0_t14 : Fin (k0_t14_loop i k0_t2 v128 v131).trips, ∀ (k0_h1 : k0_cond1 k0_t2 = 1#1), ∀ (k0_h7 : k0_cond7 i k0_t2 v128 v131 = 1#1), ∀ a, (k0_off103 i k0_t2 v128 v131 k0_t14) a + S1x16.size a ≤ S256x128.size a) ∧
  (∀ k0_t14 : Fin (k0_t14_loop i k0_t2 v128 v131).trips, ∀ (k0_h1 : k0_cond1 k0_t2 = 1#1), ∀ (k0_h7 : k0_cond7 i k0_t2 v128 v131 = 1#1), ∀ a, (k0_off104 i k0_t2 v128 v131 k0_t14) a + S1x16.size a ≤ S256x128.size a) ∧
  (∀ k0_t14 : Fin (k0_t14_loop i k0_t2 v128 v131).trips, ∀ (k0_h1 : k0_cond1 k0_t2 = 1#1), ∀ (k0_h7 : k0_cond7 i k0_t2 v128 v131 = 1#1), ∀ a, (k0_off105 i k0_t2 v128 v131 k0_t14) a + S1x16.size a ≤ S256x128.size a) ∧
  (∀ k0_t14 : Fin (k0_t14_loop i k0_t2 v128 v131).trips, ∀ (k0_h1 : k0_cond1 k0_t2 = 1#1), ∀ (k0_h7 : k0_cond7 i k0_t2 v128 v131 = 1#1), ∀ a, (k0_off106 i k0_t2 v128 v131 k0_t14) a + S1x16.size a ≤ S256x128.size a)
theorem k0_t13_ok : ∀ (i : grid0.Coords) (k0_t2 : Fin k0_t2_loop.trips) (v128 : BitVec 32) (v131 : BitVec 32) (k0_hw6 : k0_chk6 i k0_t2 v128 v131), ∀ (k0_h1 : k0_cond1 k0_t2 = 1#1), ∀ (k0_h7 : k0_cond7 i k0_t2 v128 v131 = 1#1), (k0_t13_loop i k0_t2 v128 v131).OK := fun i k0_t2 v128 v131 k0_hw6 k0_h1 k0_h7 => k0_hw6.1 k0_h1 k0_h7
theorem k0_off91_inb : ∀ (i : grid0.Coords) (k0_t2 : Fin k0_t2_loop.trips) (v128 : BitVec 32) (v131 : BitVec 32) (k0_hw6 : k0_chk6 i k0_t2 v128 v131) (k0_t13 : Fin (k0_t13_loop i k0_t2 v128 v131).trips), ∀ (k0_h1 : k0_cond1 k0_t2 = 1#1), ∀ (k0_h7 : k0_cond7 i k0_t2 v128 v131 = 1#1), ∀ a, (k0_off91 i k0_t2 v128 v131 k0_t13) a + S1x16.size a ≤ S256x128.size a := fun i k0_t2 v128 v131 k0_hw6 k0_t13 k0_h1 k0_h7 => k0_hw6.2.1 k0_t13 k0_h1 k0_h7
theorem k0_off92_inb : ∀ (i : grid0.Coords) (k0_t2 : Fin k0_t2_loop.trips) (v128 : BitVec 32) (v131 : BitVec 32) (k0_hw6 : k0_chk6 i k0_t2 v128 v131) (k0_t13 : Fin (k0_t13_loop i k0_t2 v128 v131).trips), ∀ (k0_h1 : k0_cond1 k0_t2 = 1#1), ∀ (k0_h7 : k0_cond7 i k0_t2 v128 v131 = 1#1), ∀ a, (k0_off92 i k0_t2 v128 v131 k0_t13) a + S1x16.size a ≤ S256x128.size a := fun i k0_t2 v128 v131 k0_hw6 k0_t13 k0_h1 k0_h7 => k0_hw6.2.2.1 k0_t13 k0_h1 k0_h7
theorem k0_off93_inb : ∀ (i : grid0.Coords) (k0_t2 : Fin k0_t2_loop.trips) (v128 : BitVec 32) (v131 : BitVec 32) (k0_hw6 : k0_chk6 i k0_t2 v128 v131) (k0_t13 : Fin (k0_t13_loop i k0_t2 v128 v131).trips), ∀ (k0_h1 : k0_cond1 k0_t2 = 1#1), ∀ (k0_h7 : k0_cond7 i k0_t2 v128 v131 = 1#1), ∀ a, (k0_off93 i k0_t2 v128 v131 k0_t13) a + S1x16.size a ≤ S256x128.size a := fun i k0_t2 v128 v131 k0_hw6 k0_t13 k0_h1 k0_h7 => k0_hw6.2.2.2.1 k0_t13 k0_h1 k0_h7
theorem k0_off94_inb : ∀ (i : grid0.Coords) (k0_t2 : Fin k0_t2_loop.trips) (v128 : BitVec 32) (v131 : BitVec 32) (k0_hw6 : k0_chk6 i k0_t2 v128 v131) (k0_t13 : Fin (k0_t13_loop i k0_t2 v128 v131).trips), ∀ (k0_h1 : k0_cond1 k0_t2 = 1#1), ∀ (k0_h7 : k0_cond7 i k0_t2 v128 v131 = 1#1), ∀ a, (k0_off94 i k0_t2 v128 v131 k0_t13) a + S1x16.size a ≤ S256x128.size a := fun i k0_t2 v128 v131 k0_hw6 k0_t13 k0_h1 k0_h7 => k0_hw6.2.2.2.2.1 k0_t13 k0_h1 k0_h7
theorem k0_off95_inb : ∀ (i : grid0.Coords) (k0_t2 : Fin k0_t2_loop.trips) (v128 : BitVec 32) (v131 : BitVec 32) (k0_hw6 : k0_chk6 i k0_t2 v128 v131) (k0_t13 : Fin (k0_t13_loop i k0_t2 v128 v131).trips), ∀ (k0_h1 : k0_cond1 k0_t2 = 1#1), ∀ (k0_h7 : k0_cond7 i k0_t2 v128 v131 = 1#1), ∀ a, (k0_off95 i k0_t2 v128 v131 k0_t13) a + S1x16.size a ≤ S256x128.size a := fun i k0_t2 v128 v131 k0_hw6 k0_t13 k0_h1 k0_h7 => k0_hw6.2.2.2.2.2.1 k0_t13 k0_h1 k0_h7
theorem k0_off96_inb : ∀ (i : grid0.Coords) (k0_t2 : Fin k0_t2_loop.trips) (v128 : BitVec 32) (v131 : BitVec 32) (k0_hw6 : k0_chk6 i k0_t2 v128 v131) (k0_t13 : Fin (k0_t13_loop i k0_t2 v128 v131).trips), ∀ (k0_h1 : k0_cond1 k0_t2 = 1#1), ∀ (k0_h7 : k0_cond7 i k0_t2 v128 v131 = 1#1), ∀ a, (k0_off96 i k0_t2 v128 v131 k0_t13) a + S1x16.size a ≤ S256x128.size a := fun i k0_t2 v128 v131 k0_hw6 k0_t13 k0_h1 k0_h7 => k0_hw6.2.2.2.2.2.2.1 k0_t13 k0_h1 k0_h7
theorem k0_off97_inb : ∀ (i : grid0.Coords) (k0_t2 : Fin k0_t2_loop.trips) (v128 : BitVec 32) (v131 : BitVec 32) (k0_hw6 : k0_chk6 i k0_t2 v128 v131) (k0_t13 : Fin (k0_t13_loop i k0_t2 v128 v131).trips), ∀ (k0_h1 : k0_cond1 k0_t2 = 1#1), ∀ (k0_h7 : k0_cond7 i k0_t2 v128 v131 = 1#1), ∀ a, (k0_off97 i k0_t2 v128 v131 k0_t13) a + S1x16.size a ≤ S256x128.size a := fun i k0_t2 v128 v131 k0_hw6 k0_t13 k0_h1 k0_h7 => k0_hw6.2.2.2.2.2.2.2.1 k0_t13 k0_h1 k0_h7
theorem k0_off98_inb : ∀ (i : grid0.Coords) (k0_t2 : Fin k0_t2_loop.trips) (v128 : BitVec 32) (v131 : BitVec 32) (k0_hw6 : k0_chk6 i k0_t2 v128 v131) (k0_t13 : Fin (k0_t13_loop i k0_t2 v128 v131).trips), ∀ (k0_h1 : k0_cond1 k0_t2 = 1#1), ∀ (k0_h7 : k0_cond7 i k0_t2 v128 v131 = 1#1), ∀ a, (k0_off98 i k0_t2 v128 v131 k0_t13) a + S1x16.size a ≤ S256x128.size a := fun i k0_t2 v128 v131 k0_hw6 k0_t13 k0_h1 k0_h7 => k0_hw6.2.2.2.2.2.2.2.2.1 k0_t13 k0_h1 k0_h7
theorem k0_t14_ok : ∀ (i : grid0.Coords) (k0_t2 : Fin k0_t2_loop.trips) (v128 : BitVec 32) (v131 : BitVec 32) (k0_hw6 : k0_chk6 i k0_t2 v128 v131), ∀ (k0_h1 : k0_cond1 k0_t2 = 1#1), ∀ (k0_h7 : k0_cond7 i k0_t2 v128 v131 = 1#1), (k0_t14_loop i k0_t2 v128 v131).OK := fun i k0_t2 v128 v131 k0_hw6 k0_h1 k0_h7 => k0_hw6.2.2.2.2.2.2.2.2.2.1 k0_h1 k0_h7
theorem k0_off99_inb : ∀ (i : grid0.Coords) (k0_t2 : Fin k0_t2_loop.trips) (v128 : BitVec 32) (v131 : BitVec 32) (k0_hw6 : k0_chk6 i k0_t2 v128 v131) (k0_t14 : Fin (k0_t14_loop i k0_t2 v128 v131).trips), ∀ (k0_h1 : k0_cond1 k0_t2 = 1#1), ∀ (k0_h7 : k0_cond7 i k0_t2 v128 v131 = 1#1), ∀ a, (k0_off99 i k0_t2 v128 v131 k0_t14) a + S1x16.size a ≤ S256x128.size a := fun i k0_t2 v128 v131 k0_hw6 k0_t14 k0_h1 k0_h7 => k0_hw6.2.2.2.2.2.2.2.2.2.2.1 k0_t14 k0_h1 k0_h7
theorem k0_off100_inb : ∀ (i : grid0.Coords) (k0_t2 : Fin k0_t2_loop.trips) (v128 : BitVec 32) (v131 : BitVec 32) (k0_hw6 : k0_chk6 i k0_t2 v128 v131) (k0_t14 : Fin (k0_t14_loop i k0_t2 v128 v131).trips), ∀ (k0_h1 : k0_cond1 k0_t2 = 1#1), ∀ (k0_h7 : k0_cond7 i k0_t2 v128 v131 = 1#1), ∀ a, (k0_off100 i k0_t2 v128 v131 k0_t14) a + S1x16.size a ≤ S256x128.size a := fun i k0_t2 v128 v131 k0_hw6 k0_t14 k0_h1 k0_h7 => k0_hw6.2.2.2.2.2.2.2.2.2.2.2.1 k0_t14 k0_h1 k0_h7
theorem k0_off101_inb : ∀ (i : grid0.Coords) (k0_t2 : Fin k0_t2_loop.trips) (v128 : BitVec 32) (v131 : BitVec 32) (k0_hw6 : k0_chk6 i k0_t2 v128 v131) (k0_t14 : Fin (k0_t14_loop i k0_t2 v128 v131).trips), ∀ (k0_h1 : k0_cond1 k0_t2 = 1#1), ∀ (k0_h7 : k0_cond7 i k0_t2 v128 v131 = 1#1), ∀ a, (k0_off101 i k0_t2 v128 v131 k0_t14) a + S1x16.size a ≤ S256x128.size a := fun i k0_t2 v128 v131 k0_hw6 k0_t14 k0_h1 k0_h7 => k0_hw6.2.2.2.2.2.2.2.2.2.2.2.2.1 k0_t14 k0_h1 k0_h7
theorem k0_off102_inb : ∀ (i : grid0.Coords) (k0_t2 : Fin k0_t2_loop.trips) (v128 : BitVec 32) (v131 : BitVec 32) (k0_hw6 : k0_chk6 i k0_t2 v128 v131) (k0_t14 : Fin (k0_t14_loop i k0_t2 v128 v131).trips), ∀ (k0_h1 : k0_cond1 k0_t2 = 1#1), ∀ (k0_h7 : k0_cond7 i k0_t2 v128 v131 = 1#1), ∀ a, (k0_off102 i k0_t2 v128 v131 k0_t14) a + S1x16.size a ≤ S256x128.size a := fun i k0_t2 v128 v131 k0_hw6 k0_t14 k0_h1 k0_h7 => k0_hw6.2.2.2.2.2.2.2.2.2.2.2.2.2.1 k0_t14 k0_h1 k0_h7
theorem k0_off103_inb : ∀ (i : grid0.Coords) (k0_t2 : Fin k0_t2_loop.trips) (v128 : BitVec 32) (v131 : BitVec 32) (k0_hw6 : k0_chk6 i k0_t2 v128 v131) (k0_t14 : Fin (k0_t14_loop i k0_t2 v128 v131).trips), ∀ (k0_h1 : k0_cond1 k0_t2 = 1#1), ∀ (k0_h7 : k0_cond7 i k0_t2 v128 v131 = 1#1), ∀ a, (k0_off103 i k0_t2 v128 v131 k0_t14) a + S1x16.size a ≤ S256x128.size a := fun i k0_t2 v128 v131 k0_hw6 k0_t14 k0_h1 k0_h7 => k0_hw6.2.2.2.2.2.2.2.2.2.2.2.2.2.2.1 k0_t14 k0_h1 k0_h7
theorem k0_off104_inb : ∀ (i : grid0.Coords) (k0_t2 : Fin k0_t2_loop.trips) (v128 : BitVec 32) (v131 : BitVec 32) (k0_hw6 : k0_chk6 i k0_t2 v128 v131) (k0_t14 : Fin (k0_t14_loop i k0_t2 v128 v131).trips), ∀ (k0_h1 : k0_cond1 k0_t2 = 1#1), ∀ (k0_h7 : k0_cond7 i k0_t2 v128 v131 = 1#1), ∀ a, (k0_off104 i k0_t2 v128 v131 k0_t14) a + S1x16.size a ≤ S256x128.size a := fun i k0_t2 v128 v131 k0_hw6 k0_t14 k0_h1 k0_h7 => k0_hw6.2.2.2.2.2.2.2.2.2.2.2.2.2.2.2.1 k0_t14 k0_h1 k0_h7
theorem k0_off105_inb : ∀ (i : grid0.Coords) (k0_t2 : Fin k0_t2_loop.trips) (v128 : BitVec 32) (v131 : BitVec 32) (k0_hw6 : k0_chk6 i k0_t2 v128 v131) (k0_t14 : Fin (k0_t14_loop i k0_t2 v128 v131).trips), ∀ (k0_h1 : k0_cond1 k0_t2 = 1#1), ∀ (k0_h7 : k0_cond7 i k0_t2 v128 v131 = 1#1), ∀ a, (k0_off105 i k0_t2 v128 v131 k0_t14) a + S1x16.size a ≤ S256x128.size a := fun i k0_t2 v128 v131 k0_hw6 k0_t14 k0_h1 k0_h7 => k0_hw6.2.2.2.2.2.2.2.2.2.2.2.2.2.2.2.2.1 k0_t14 k0_h1 k0_h7
theorem k0_off106_inb : ∀ (i : grid0.Coords) (k0_t2 : Fin k0_t2_loop.trips) (v128 : BitVec 32) (v131 : BitVec 32) (k0_hw6 : k0_chk6 i k0_t2 v128 v131) (k0_t14 : Fin (k0_t14_loop i k0_t2 v128 v131).trips), ∀ (k0_h1 : k0_cond1 k0_t2 = 1#1), ∀ (k0_h7 : k0_cond7 i k0_t2 v128 v131 = 1#1), ∀ a, (k0_off106 i k0_t2 v128 v131 k0_t14) a + S1x16.size a ≤ S256x128.size a := fun i k0_t2 v128 v131 k0_hw6 k0_t14 k0_h1 k0_h7 => k0_hw6.2.2.2.2.2.2.2.2.2.2.2.2.2.2.2.2.2 k0_t14 k0_h1 k0_h7

@[reducible] def k0_t15_loop (i : grid0.Coords) (k0_t2 : Fin k0_t2_loop.trips) (v137 : BitVec 32) (v140 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v138 : BitVec 32 := Scalar.maxsi v137 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_85 : BitVec 32 := 1#32
  ⟨v138, v234, c1_i32_85⟩
def k0_cond8 (i : grid0.Coords) (k0_t2 : Fin k0_t2_loop.trips) (v137 : BitVec 32) (v140 : BitVec 32) : BitVec 1 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v141 : BitVec 32 := Scalar.minsi v140 v77
  let v138 : BitVec 32 := Scalar.maxsi v137 v75
  let v142 : BitVec 1 := Scalar.cmpi .sgt v141 v138
  let v143 : BitVec 32 := Scalar.extui v142
  let c0_i32_71 : BitVec 32 := 0#32
  let v144 : BitVec 1 := Scalar.cmpi .ne v143 c0_i32_71
  v144

def k0_off107 (i : grid0.Coords) (k0_t2 : Fin k0_t2_loop.trips) (v137 : BitVec 32) (v140 : BitVec 32) (k0_t15 : Fin (k0_t15_loop i k0_t2 v137 v140).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v138 : BitVec 32 := Scalar.maxsi v137 v75
  let c1_i32_85 : BitVec 32 := 1#32
  let arg19 : BitVec 32 := Scf.iv v138 c1_i32_85 k0_t15
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off108 (i : grid0.Coords) (k0_t2 : Fin k0_t2_loop.trips) (v137 : BitVec 32) (v140 : BitVec 32) (k0_t15 : Fin (k0_t15_loop i k0_t2 v137 v140).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v138 : BitVec 32 := Scalar.maxsi v137 v75
  let c1_i32_85 : BitVec 32 := 1#32
  let arg19 : BitVec 32 := Scf.iv v138 c1_i32_85 k0_t15
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off109 (i : grid0.Coords) (k0_t2 : Fin k0_t2_loop.trips) (v137 : BitVec 32) (v140 : BitVec 32) (k0_t15 : Fin (k0_t15_loop i k0_t2 v137 v140).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v138 : BitVec 32 := Scalar.maxsi v137 v75
  let c1_i32_85 : BitVec 32 := 1#32
  let arg19 : BitVec 32 := Scf.iv v138 c1_i32_85 k0_t15
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off110 (i : grid0.Coords) (k0_t2 : Fin k0_t2_loop.trips) (v137 : BitVec 32) (v140 : BitVec 32) (k0_t15 : Fin (k0_t15_loop i k0_t2 v137 v140).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v138 : BitVec 32 := Scalar.maxsi v137 v75
  let c1_i32_85 : BitVec 32 := 1#32
  let arg19 : BitVec 32 := Scf.iv v138 c1_i32_85 k0_t15
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off111 (i : grid0.Coords) (k0_t2 : Fin k0_t2_loop.trips) (v137 : BitVec 32) (v140 : BitVec 32) (k0_t15 : Fin (k0_t15_loop i k0_t2 v137 v140).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v138 : BitVec 32 := Scalar.maxsi v137 v75
  let c1_i32_85 : BitVec 32 := 1#32
  let arg19 : BitVec 32 := Scf.iv v138 c1_i32_85 k0_t15
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off112 (i : grid0.Coords) (k0_t2 : Fin k0_t2_loop.trips) (v137 : BitVec 32) (v140 : BitVec 32) (k0_t15 : Fin (k0_t15_loop i k0_t2 v137 v140).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v138 : BitVec 32 := Scalar.maxsi v137 v75
  let c1_i32_85 : BitVec 32 := 1#32
  let arg19 : BitVec 32 := Scf.iv v138 c1_i32_85 k0_t15
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off113 (i : grid0.Coords) (k0_t2 : Fin k0_t2_loop.trips) (v137 : BitVec 32) (v140 : BitVec 32) (k0_t15 : Fin (k0_t15_loop i k0_t2 v137 v140).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v138 : BitVec 32 := Scalar.maxsi v137 v75
  let c1_i32_85 : BitVec 32 := 1#32
  let arg19 : BitVec 32 := Scf.iv v138 c1_i32_85 k0_t15
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off114 (i : grid0.Coords) (k0_t2 : Fin k0_t2_loop.trips) (v137 : BitVec 32) (v140 : BitVec 32) (k0_t15 : Fin (k0_t15_loop i k0_t2 v137 v140).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v138 : BitVec 32 := Scalar.maxsi v137 v75
  let c1_i32_85 : BitVec 32 := 1#32
  let arg19 : BitVec 32 := Scf.iv v138 c1_i32_85 k0_t15
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]
@[reducible] def k0_t16_loop (i : grid0.Coords) (k0_t2 : Fin k0_t2_loop.trips) (v137 : BitVec 32) (v140 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v138 : BitVec 32 := Scalar.maxsi v137 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let v231 : BitVec 32 := Scalar.addi v138 v230
  let c1_i32_86 : BitVec 32 := 1#32
  ⟨v234, v231, c1_i32_86⟩
def k0_off115 (i : grid0.Coords) (k0_t2 : Fin k0_t2_loop.trips) (v137 : BitVec 32) (v140 : BitVec 32) (k0_t16 : Fin (k0_t16_loop i k0_t2 v137 v140).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v138 : BitVec 32 := Scalar.maxsi v137 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_86 : BitVec 32 := 1#32
  let arg19 : BitVec 32 := Scf.iv v234 c1_i32_86 k0_t16
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off116 (i : grid0.Coords) (k0_t2 : Fin k0_t2_loop.trips) (v137 : BitVec 32) (v140 : BitVec 32) (k0_t16 : Fin (k0_t16_loop i k0_t2 v137 v140).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v138 : BitVec 32 := Scalar.maxsi v137 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_86 : BitVec 32 := 1#32
  let arg19 : BitVec 32 := Scf.iv v234 c1_i32_86 k0_t16
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off117 (i : grid0.Coords) (k0_t2 : Fin k0_t2_loop.trips) (v137 : BitVec 32) (v140 : BitVec 32) (k0_t16 : Fin (k0_t16_loop i k0_t2 v137 v140).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v138 : BitVec 32 := Scalar.maxsi v137 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_86 : BitVec 32 := 1#32
  let arg19 : BitVec 32 := Scf.iv v234 c1_i32_86 k0_t16
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off118 (i : grid0.Coords) (k0_t2 : Fin k0_t2_loop.trips) (v137 : BitVec 32) (v140 : BitVec 32) (k0_t16 : Fin (k0_t16_loop i k0_t2 v137 v140).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v138 : BitVec 32 := Scalar.maxsi v137 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_86 : BitVec 32 := 1#32
  let arg19 : BitVec 32 := Scf.iv v234 c1_i32_86 k0_t16
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off119 (i : grid0.Coords) (k0_t2 : Fin k0_t2_loop.trips) (v137 : BitVec 32) (v140 : BitVec 32) (k0_t16 : Fin (k0_t16_loop i k0_t2 v137 v140).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v138 : BitVec 32 := Scalar.maxsi v137 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_86 : BitVec 32 := 1#32
  let arg19 : BitVec 32 := Scf.iv v234 c1_i32_86 k0_t16
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off120 (i : grid0.Coords) (k0_t2 : Fin k0_t2_loop.trips) (v137 : BitVec 32) (v140 : BitVec 32) (k0_t16 : Fin (k0_t16_loop i k0_t2 v137 v140).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v138 : BitVec 32 := Scalar.maxsi v137 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_86 : BitVec 32 := 1#32
  let arg19 : BitVec 32 := Scf.iv v234 c1_i32_86 k0_t16
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off121 (i : grid0.Coords) (k0_t2 : Fin k0_t2_loop.trips) (v137 : BitVec 32) (v140 : BitVec 32) (k0_t16 : Fin (k0_t16_loop i k0_t2 v137 v140).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v138 : BitVec 32 := Scalar.maxsi v137 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_86 : BitVec 32 := 1#32
  let arg19 : BitVec 32 := Scf.iv v234 c1_i32_86 k0_t16
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off122 (i : grid0.Coords) (k0_t2 : Fin k0_t2_loop.trips) (v137 : BitVec 32) (v140 : BitVec 32) (k0_t16 : Fin (k0_t16_loop i k0_t2 v137 v140).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v138 : BitVec 32 := Scalar.maxsi v137 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_86 : BitVec 32 := 1#32
  let arg19 : BitVec 32 := Scf.iv v234 c1_i32_86 k0_t16
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]

def k0_chk7 (i : grid0.Coords) (k0_t2 : Fin k0_t2_loop.trips) (v137 : BitVec 32) (v140 : BitVec 32) : Prop :=
  (∀ (k0_h1 : k0_cond1 k0_t2 = 1#1), ∀ (k0_h8 : k0_cond8 i k0_t2 v137 v140 = 1#1), (k0_t15_loop i k0_t2 v137 v140).OK) ∧
  (∀ k0_t15 : Fin (k0_t15_loop i k0_t2 v137 v140).trips, ∀ (k0_h1 : k0_cond1 k0_t2 = 1#1), ∀ (k0_h8 : k0_cond8 i k0_t2 v137 v140 = 1#1), ∀ a, (k0_off107 i k0_t2 v137 v140 k0_t15) a + S1x16.size a ≤ S256x128.size a) ∧
  (∀ k0_t15 : Fin (k0_t15_loop i k0_t2 v137 v140).trips, ∀ (k0_h1 : k0_cond1 k0_t2 = 1#1), ∀ (k0_h8 : k0_cond8 i k0_t2 v137 v140 = 1#1), ∀ a, (k0_off108 i k0_t2 v137 v140 k0_t15) a + S1x16.size a ≤ S256x128.size a) ∧
  (∀ k0_t15 : Fin (k0_t15_loop i k0_t2 v137 v140).trips, ∀ (k0_h1 : k0_cond1 k0_t2 = 1#1), ∀ (k0_h8 : k0_cond8 i k0_t2 v137 v140 = 1#1), ∀ a, (k0_off109 i k0_t2 v137 v140 k0_t15) a + S1x16.size a ≤ S256x128.size a) ∧
  (∀ k0_t15 : Fin (k0_t15_loop i k0_t2 v137 v140).trips, ∀ (k0_h1 : k0_cond1 k0_t2 = 1#1), ∀ (k0_h8 : k0_cond8 i k0_t2 v137 v140 = 1#1), ∀ a, (k0_off110 i k0_t2 v137 v140 k0_t15) a + S1x16.size a ≤ S256x128.size a) ∧
  (∀ k0_t15 : Fin (k0_t15_loop i k0_t2 v137 v140).trips, ∀ (k0_h1 : k0_cond1 k0_t2 = 1#1), ∀ (k0_h8 : k0_cond8 i k0_t2 v137 v140 = 1#1), ∀ a, (k0_off111 i k0_t2 v137 v140 k0_t15) a + S1x16.size a ≤ S256x128.size a) ∧
  (∀ k0_t15 : Fin (k0_t15_loop i k0_t2 v137 v140).trips, ∀ (k0_h1 : k0_cond1 k0_t2 = 1#1), ∀ (k0_h8 : k0_cond8 i k0_t2 v137 v140 = 1#1), ∀ a, (k0_off112 i k0_t2 v137 v140 k0_t15) a + S1x16.size a ≤ S256x128.size a) ∧
  (∀ k0_t15 : Fin (k0_t15_loop i k0_t2 v137 v140).trips, ∀ (k0_h1 : k0_cond1 k0_t2 = 1#1), ∀ (k0_h8 : k0_cond8 i k0_t2 v137 v140 = 1#1), ∀ a, (k0_off113 i k0_t2 v137 v140 k0_t15) a + S1x16.size a ≤ S256x128.size a) ∧
  (∀ k0_t15 : Fin (k0_t15_loop i k0_t2 v137 v140).trips, ∀ (k0_h1 : k0_cond1 k0_t2 = 1#1), ∀ (k0_h8 : k0_cond8 i k0_t2 v137 v140 = 1#1), ∀ a, (k0_off114 i k0_t2 v137 v140 k0_t15) a + S1x16.size a ≤ S256x128.size a) ∧
  (∀ (k0_h1 : k0_cond1 k0_t2 = 1#1), ∀ (k0_h8 : k0_cond8 i k0_t2 v137 v140 = 1#1), (k0_t16_loop i k0_t2 v137 v140).OK) ∧
  (∀ k0_t16 : Fin (k0_t16_loop i k0_t2 v137 v140).trips, ∀ (k0_h1 : k0_cond1 k0_t2 = 1#1), ∀ (k0_h8 : k0_cond8 i k0_t2 v137 v140 = 1#1), ∀ a, (k0_off115 i k0_t2 v137 v140 k0_t16) a + S1x16.size a ≤ S256x128.size a) ∧
  (∀ k0_t16 : Fin (k0_t16_loop i k0_t2 v137 v140).trips, ∀ (k0_h1 : k0_cond1 k0_t2 = 1#1), ∀ (k0_h8 : k0_cond8 i k0_t2 v137 v140 = 1#1), ∀ a, (k0_off116 i k0_t2 v137 v140 k0_t16) a + S1x16.size a ≤ S256x128.size a) ∧
  (∀ k0_t16 : Fin (k0_t16_loop i k0_t2 v137 v140).trips, ∀ (k0_h1 : k0_cond1 k0_t2 = 1#1), ∀ (k0_h8 : k0_cond8 i k0_t2 v137 v140 = 1#1), ∀ a, (k0_off117 i k0_t2 v137 v140 k0_t16) a + S1x16.size a ≤ S256x128.size a) ∧
  (∀ k0_t16 : Fin (k0_t16_loop i k0_t2 v137 v140).trips, ∀ (k0_h1 : k0_cond1 k0_t2 = 1#1), ∀ (k0_h8 : k0_cond8 i k0_t2 v137 v140 = 1#1), ∀ a, (k0_off118 i k0_t2 v137 v140 k0_t16) a + S1x16.size a ≤ S256x128.size a) ∧
  (∀ k0_t16 : Fin (k0_t16_loop i k0_t2 v137 v140).trips, ∀ (k0_h1 : k0_cond1 k0_t2 = 1#1), ∀ (k0_h8 : k0_cond8 i k0_t2 v137 v140 = 1#1), ∀ a, (k0_off119 i k0_t2 v137 v140 k0_t16) a + S1x16.size a ≤ S256x128.size a) ∧
  (∀ k0_t16 : Fin (k0_t16_loop i k0_t2 v137 v140).trips, ∀ (k0_h1 : k0_cond1 k0_t2 = 1#1), ∀ (k0_h8 : k0_cond8 i k0_t2 v137 v140 = 1#1), ∀ a, (k0_off120 i k0_t2 v137 v140 k0_t16) a + S1x16.size a ≤ S256x128.size a) ∧
  (∀ k0_t16 : Fin (k0_t16_loop i k0_t2 v137 v140).trips, ∀ (k0_h1 : k0_cond1 k0_t2 = 1#1), ∀ (k0_h8 : k0_cond8 i k0_t2 v137 v140 = 1#1), ∀ a, (k0_off121 i k0_t2 v137 v140 k0_t16) a + S1x16.size a ≤ S256x128.size a) ∧
  (∀ k0_t16 : Fin (k0_t16_loop i k0_t2 v137 v140).trips, ∀ (k0_h1 : k0_cond1 k0_t2 = 1#1), ∀ (k0_h8 : k0_cond8 i k0_t2 v137 v140 = 1#1), ∀ a, (k0_off122 i k0_t2 v137 v140 k0_t16) a + S1x16.size a ≤ S256x128.size a)
theorem k0_t15_ok : ∀ (i : grid0.Coords) (k0_t2 : Fin k0_t2_loop.trips) (v137 : BitVec 32) (v140 : BitVec 32) (k0_hw7 : k0_chk7 i k0_t2 v137 v140), ∀ (k0_h1 : k0_cond1 k0_t2 = 1#1), ∀ (k0_h8 : k0_cond8 i k0_t2 v137 v140 = 1#1), (k0_t15_loop i k0_t2 v137 v140).OK := fun i k0_t2 v137 v140 k0_hw7 k0_h1 k0_h8 => k0_hw7.1 k0_h1 k0_h8
theorem k0_off107_inb : ∀ (i : grid0.Coords) (k0_t2 : Fin k0_t2_loop.trips) (v137 : BitVec 32) (v140 : BitVec 32) (k0_hw7 : k0_chk7 i k0_t2 v137 v140) (k0_t15 : Fin (k0_t15_loop i k0_t2 v137 v140).trips), ∀ (k0_h1 : k0_cond1 k0_t2 = 1#1), ∀ (k0_h8 : k0_cond8 i k0_t2 v137 v140 = 1#1), ∀ a, (k0_off107 i k0_t2 v137 v140 k0_t15) a + S1x16.size a ≤ S256x128.size a := fun i k0_t2 v137 v140 k0_hw7 k0_t15 k0_h1 k0_h8 => k0_hw7.2.1 k0_t15 k0_h1 k0_h8
theorem k0_off108_inb : ∀ (i : grid0.Coords) (k0_t2 : Fin k0_t2_loop.trips) (v137 : BitVec 32) (v140 : BitVec 32) (k0_hw7 : k0_chk7 i k0_t2 v137 v140) (k0_t15 : Fin (k0_t15_loop i k0_t2 v137 v140).trips), ∀ (k0_h1 : k0_cond1 k0_t2 = 1#1), ∀ (k0_h8 : k0_cond8 i k0_t2 v137 v140 = 1#1), ∀ a, (k0_off108 i k0_t2 v137 v140 k0_t15) a + S1x16.size a ≤ S256x128.size a := fun i k0_t2 v137 v140 k0_hw7 k0_t15 k0_h1 k0_h8 => k0_hw7.2.2.1 k0_t15 k0_h1 k0_h8
theorem k0_off109_inb : ∀ (i : grid0.Coords) (k0_t2 : Fin k0_t2_loop.trips) (v137 : BitVec 32) (v140 : BitVec 32) (k0_hw7 : k0_chk7 i k0_t2 v137 v140) (k0_t15 : Fin (k0_t15_loop i k0_t2 v137 v140).trips), ∀ (k0_h1 : k0_cond1 k0_t2 = 1#1), ∀ (k0_h8 : k0_cond8 i k0_t2 v137 v140 = 1#1), ∀ a, (k0_off109 i k0_t2 v137 v140 k0_t15) a + S1x16.size a ≤ S256x128.size a := fun i k0_t2 v137 v140 k0_hw7 k0_t15 k0_h1 k0_h8 => k0_hw7.2.2.2.1 k0_t15 k0_h1 k0_h8
theorem k0_off110_inb : ∀ (i : grid0.Coords) (k0_t2 : Fin k0_t2_loop.trips) (v137 : BitVec 32) (v140 : BitVec 32) (k0_hw7 : k0_chk7 i k0_t2 v137 v140) (k0_t15 : Fin (k0_t15_loop i k0_t2 v137 v140).trips), ∀ (k0_h1 : k0_cond1 k0_t2 = 1#1), ∀ (k0_h8 : k0_cond8 i k0_t2 v137 v140 = 1#1), ∀ a, (k0_off110 i k0_t2 v137 v140 k0_t15) a + S1x16.size a ≤ S256x128.size a := fun i k0_t2 v137 v140 k0_hw7 k0_t15 k0_h1 k0_h8 => k0_hw7.2.2.2.2.1 k0_t15 k0_h1 k0_h8
theorem k0_off111_inb : ∀ (i : grid0.Coords) (k0_t2 : Fin k0_t2_loop.trips) (v137 : BitVec 32) (v140 : BitVec 32) (k0_hw7 : k0_chk7 i k0_t2 v137 v140) (k0_t15 : Fin (k0_t15_loop i k0_t2 v137 v140).trips), ∀ (k0_h1 : k0_cond1 k0_t2 = 1#1), ∀ (k0_h8 : k0_cond8 i k0_t2 v137 v140 = 1#1), ∀ a, (k0_off111 i k0_t2 v137 v140 k0_t15) a + S1x16.size a ≤ S256x128.size a := fun i k0_t2 v137 v140 k0_hw7 k0_t15 k0_h1 k0_h8 => k0_hw7.2.2.2.2.2.1 k0_t15 k0_h1 k0_h8
theorem k0_off112_inb : ∀ (i : grid0.Coords) (k0_t2 : Fin k0_t2_loop.trips) (v137 : BitVec 32) (v140 : BitVec 32) (k0_hw7 : k0_chk7 i k0_t2 v137 v140) (k0_t15 : Fin (k0_t15_loop i k0_t2 v137 v140).trips), ∀ (k0_h1 : k0_cond1 k0_t2 = 1#1), ∀ (k0_h8 : k0_cond8 i k0_t2 v137 v140 = 1#1), ∀ a, (k0_off112 i k0_t2 v137 v140 k0_t15) a + S1x16.size a ≤ S256x128.size a := fun i k0_t2 v137 v140 k0_hw7 k0_t15 k0_h1 k0_h8 => k0_hw7.2.2.2.2.2.2.1 k0_t15 k0_h1 k0_h8
theorem k0_off113_inb : ∀ (i : grid0.Coords) (k0_t2 : Fin k0_t2_loop.trips) (v137 : BitVec 32) (v140 : BitVec 32) (k0_hw7 : k0_chk7 i k0_t2 v137 v140) (k0_t15 : Fin (k0_t15_loop i k0_t2 v137 v140).trips), ∀ (k0_h1 : k0_cond1 k0_t2 = 1#1), ∀ (k0_h8 : k0_cond8 i k0_t2 v137 v140 = 1#1), ∀ a, (k0_off113 i k0_t2 v137 v140 k0_t15) a + S1x16.size a ≤ S256x128.size a := fun i k0_t2 v137 v140 k0_hw7 k0_t15 k0_h1 k0_h8 => k0_hw7.2.2.2.2.2.2.2.1 k0_t15 k0_h1 k0_h8
theorem k0_off114_inb : ∀ (i : grid0.Coords) (k0_t2 : Fin k0_t2_loop.trips) (v137 : BitVec 32) (v140 : BitVec 32) (k0_hw7 : k0_chk7 i k0_t2 v137 v140) (k0_t15 : Fin (k0_t15_loop i k0_t2 v137 v140).trips), ∀ (k0_h1 : k0_cond1 k0_t2 = 1#1), ∀ (k0_h8 : k0_cond8 i k0_t2 v137 v140 = 1#1), ∀ a, (k0_off114 i k0_t2 v137 v140 k0_t15) a + S1x16.size a ≤ S256x128.size a := fun i k0_t2 v137 v140 k0_hw7 k0_t15 k0_h1 k0_h8 => k0_hw7.2.2.2.2.2.2.2.2.1 k0_t15 k0_h1 k0_h8
theorem k0_t16_ok : ∀ (i : grid0.Coords) (k0_t2 : Fin k0_t2_loop.trips) (v137 : BitVec 32) (v140 : BitVec 32) (k0_hw7 : k0_chk7 i k0_t2 v137 v140), ∀ (k0_h1 : k0_cond1 k0_t2 = 1#1), ∀ (k0_h8 : k0_cond8 i k0_t2 v137 v140 = 1#1), (k0_t16_loop i k0_t2 v137 v140).OK := fun i k0_t2 v137 v140 k0_hw7 k0_h1 k0_h8 => k0_hw7.2.2.2.2.2.2.2.2.2.1 k0_h1 k0_h8
theorem k0_off115_inb : ∀ (i : grid0.Coords) (k0_t2 : Fin k0_t2_loop.trips) (v137 : BitVec 32) (v140 : BitVec 32) (k0_hw7 : k0_chk7 i k0_t2 v137 v140) (k0_t16 : Fin (k0_t16_loop i k0_t2 v137 v140).trips), ∀ (k0_h1 : k0_cond1 k0_t2 = 1#1), ∀ (k0_h8 : k0_cond8 i k0_t2 v137 v140 = 1#1), ∀ a, (k0_off115 i k0_t2 v137 v140 k0_t16) a + S1x16.size a ≤ S256x128.size a := fun i k0_t2 v137 v140 k0_hw7 k0_t16 k0_h1 k0_h8 => k0_hw7.2.2.2.2.2.2.2.2.2.2.1 k0_t16 k0_h1 k0_h8
theorem k0_off116_inb : ∀ (i : grid0.Coords) (k0_t2 : Fin k0_t2_loop.trips) (v137 : BitVec 32) (v140 : BitVec 32) (k0_hw7 : k0_chk7 i k0_t2 v137 v140) (k0_t16 : Fin (k0_t16_loop i k0_t2 v137 v140).trips), ∀ (k0_h1 : k0_cond1 k0_t2 = 1#1), ∀ (k0_h8 : k0_cond8 i k0_t2 v137 v140 = 1#1), ∀ a, (k0_off116 i k0_t2 v137 v140 k0_t16) a + S1x16.size a ≤ S256x128.size a := fun i k0_t2 v137 v140 k0_hw7 k0_t16 k0_h1 k0_h8 => k0_hw7.2.2.2.2.2.2.2.2.2.2.2.1 k0_t16 k0_h1 k0_h8
theorem k0_off117_inb : ∀ (i : grid0.Coords) (k0_t2 : Fin k0_t2_loop.trips) (v137 : BitVec 32) (v140 : BitVec 32) (k0_hw7 : k0_chk7 i k0_t2 v137 v140) (k0_t16 : Fin (k0_t16_loop i k0_t2 v137 v140).trips), ∀ (k0_h1 : k0_cond1 k0_t2 = 1#1), ∀ (k0_h8 : k0_cond8 i k0_t2 v137 v140 = 1#1), ∀ a, (k0_off117 i k0_t2 v137 v140 k0_t16) a + S1x16.size a ≤ S256x128.size a := fun i k0_t2 v137 v140 k0_hw7 k0_t16 k0_h1 k0_h8 => k0_hw7.2.2.2.2.2.2.2.2.2.2.2.2.1 k0_t16 k0_h1 k0_h8
theorem k0_off118_inb : ∀ (i : grid0.Coords) (k0_t2 : Fin k0_t2_loop.trips) (v137 : BitVec 32) (v140 : BitVec 32) (k0_hw7 : k0_chk7 i k0_t2 v137 v140) (k0_t16 : Fin (k0_t16_loop i k0_t2 v137 v140).trips), ∀ (k0_h1 : k0_cond1 k0_t2 = 1#1), ∀ (k0_h8 : k0_cond8 i k0_t2 v137 v140 = 1#1), ∀ a, (k0_off118 i k0_t2 v137 v140 k0_t16) a + S1x16.size a ≤ S256x128.size a := fun i k0_t2 v137 v140 k0_hw7 k0_t16 k0_h1 k0_h8 => k0_hw7.2.2.2.2.2.2.2.2.2.2.2.2.2.1 k0_t16 k0_h1 k0_h8
theorem k0_off119_inb : ∀ (i : grid0.Coords) (k0_t2 : Fin k0_t2_loop.trips) (v137 : BitVec 32) (v140 : BitVec 32) (k0_hw7 : k0_chk7 i k0_t2 v137 v140) (k0_t16 : Fin (k0_t16_loop i k0_t2 v137 v140).trips), ∀ (k0_h1 : k0_cond1 k0_t2 = 1#1), ∀ (k0_h8 : k0_cond8 i k0_t2 v137 v140 = 1#1), ∀ a, (k0_off119 i k0_t2 v137 v140 k0_t16) a + S1x16.size a ≤ S256x128.size a := fun i k0_t2 v137 v140 k0_hw7 k0_t16 k0_h1 k0_h8 => k0_hw7.2.2.2.2.2.2.2.2.2.2.2.2.2.2.1 k0_t16 k0_h1 k0_h8
theorem k0_off120_inb : ∀ (i : grid0.Coords) (k0_t2 : Fin k0_t2_loop.trips) (v137 : BitVec 32) (v140 : BitVec 32) (k0_hw7 : k0_chk7 i k0_t2 v137 v140) (k0_t16 : Fin (k0_t16_loop i k0_t2 v137 v140).trips), ∀ (k0_h1 : k0_cond1 k0_t2 = 1#1), ∀ (k0_h8 : k0_cond8 i k0_t2 v137 v140 = 1#1), ∀ a, (k0_off120 i k0_t2 v137 v140 k0_t16) a + S1x16.size a ≤ S256x128.size a := fun i k0_t2 v137 v140 k0_hw7 k0_t16 k0_h1 k0_h8 => k0_hw7.2.2.2.2.2.2.2.2.2.2.2.2.2.2.2.1 k0_t16 k0_h1 k0_h8
theorem k0_off121_inb : ∀ (i : grid0.Coords) (k0_t2 : Fin k0_t2_loop.trips) (v137 : BitVec 32) (v140 : BitVec 32) (k0_hw7 : k0_chk7 i k0_t2 v137 v140) (k0_t16 : Fin (k0_t16_loop i k0_t2 v137 v140).trips), ∀ (k0_h1 : k0_cond1 k0_t2 = 1#1), ∀ (k0_h8 : k0_cond8 i k0_t2 v137 v140 = 1#1), ∀ a, (k0_off121 i k0_t2 v137 v140 k0_t16) a + S1x16.size a ≤ S256x128.size a := fun i k0_t2 v137 v140 k0_hw7 k0_t16 k0_h1 k0_h8 => k0_hw7.2.2.2.2.2.2.2.2.2.2.2.2.2.2.2.2.1 k0_t16 k0_h1 k0_h8
theorem k0_off122_inb : ∀ (i : grid0.Coords) (k0_t2 : Fin k0_t2_loop.trips) (v137 : BitVec 32) (v140 : BitVec 32) (k0_hw7 : k0_chk7 i k0_t2 v137 v140) (k0_t16 : Fin (k0_t16_loop i k0_t2 v137 v140).trips), ∀ (k0_h1 : k0_cond1 k0_t2 = 1#1), ∀ (k0_h8 : k0_cond8 i k0_t2 v137 v140 = 1#1), ∀ a, (k0_off122 i k0_t2 v137 v140 k0_t16) a + S1x16.size a ≤ S256x128.size a := fun i k0_t2 v137 v140 k0_hw7 k0_t16 k0_h1 k0_h8 => k0_hw7.2.2.2.2.2.2.2.2.2.2.2.2.2.2.2.2.2 k0_t16 k0_h1 k0_h8

@[reducible] def k0_t17_loop (i : grid0.Coords) (k0_t2 : Fin k0_t2_loop.trips) (v146 : BitVec 32) (v149 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v147 : BitVec 32 := Scalar.maxsi v146 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_85 : BitVec 32 := 1#32
  ⟨v147, v234, c1_i32_85⟩
def k0_cond9 (i : grid0.Coords) (k0_t2 : Fin k0_t2_loop.trips) (v146 : BitVec 32) (v149 : BitVec 32) : BitVec 1 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v150 : BitVec 32 := Scalar.minsi v149 v77
  let v147 : BitVec 32 := Scalar.maxsi v146 v75
  let v151 : BitVec 1 := Scalar.cmpi .sgt v150 v147
  let v152 : BitVec 32 := Scalar.extui v151
  let c0_i32_72 : BitVec 32 := 0#32
  let v153 : BitVec 1 := Scalar.cmpi .ne v152 c0_i32_72
  v153

def k0_off123 (i : grid0.Coords) (k0_t2 : Fin k0_t2_loop.trips) (v146 : BitVec 32) (v149 : BitVec 32) (k0_t17 : Fin (k0_t17_loop i k0_t2 v146 v149).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v147 : BitVec 32 := Scalar.maxsi v146 v75
  let c1_i32_85 : BitVec 32 := 1#32
  let arg19 : BitVec 32 := Scf.iv v147 c1_i32_85 k0_t17
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off124 (i : grid0.Coords) (k0_t2 : Fin k0_t2_loop.trips) (v146 : BitVec 32) (v149 : BitVec 32) (k0_t17 : Fin (k0_t17_loop i k0_t2 v146 v149).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v147 : BitVec 32 := Scalar.maxsi v146 v75
  let c1_i32_85 : BitVec 32 := 1#32
  let arg19 : BitVec 32 := Scf.iv v147 c1_i32_85 k0_t17
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off125 (i : grid0.Coords) (k0_t2 : Fin k0_t2_loop.trips) (v146 : BitVec 32) (v149 : BitVec 32) (k0_t17 : Fin (k0_t17_loop i k0_t2 v146 v149).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v147 : BitVec 32 := Scalar.maxsi v146 v75
  let c1_i32_85 : BitVec 32 := 1#32
  let arg19 : BitVec 32 := Scf.iv v147 c1_i32_85 k0_t17
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off126 (i : grid0.Coords) (k0_t2 : Fin k0_t2_loop.trips) (v146 : BitVec 32) (v149 : BitVec 32) (k0_t17 : Fin (k0_t17_loop i k0_t2 v146 v149).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v147 : BitVec 32 := Scalar.maxsi v146 v75
  let c1_i32_85 : BitVec 32 := 1#32
  let arg19 : BitVec 32 := Scf.iv v147 c1_i32_85 k0_t17
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off127 (i : grid0.Coords) (k0_t2 : Fin k0_t2_loop.trips) (v146 : BitVec 32) (v149 : BitVec 32) (k0_t17 : Fin (k0_t17_loop i k0_t2 v146 v149).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v147 : BitVec 32 := Scalar.maxsi v146 v75
  let c1_i32_85 : BitVec 32 := 1#32
  let arg19 : BitVec 32 := Scf.iv v147 c1_i32_85 k0_t17
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off128 (i : grid0.Coords) (k0_t2 : Fin k0_t2_loop.trips) (v146 : BitVec 32) (v149 : BitVec 32) (k0_t17 : Fin (k0_t17_loop i k0_t2 v146 v149).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v147 : BitVec 32 := Scalar.maxsi v146 v75
  let c1_i32_85 : BitVec 32 := 1#32
  let arg19 : BitVec 32 := Scf.iv v147 c1_i32_85 k0_t17
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off129 (i : grid0.Coords) (k0_t2 : Fin k0_t2_loop.trips) (v146 : BitVec 32) (v149 : BitVec 32) (k0_t17 : Fin (k0_t17_loop i k0_t2 v146 v149).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v147 : BitVec 32 := Scalar.maxsi v146 v75
  let c1_i32_85 : BitVec 32 := 1#32
  let arg19 : BitVec 32 := Scf.iv v147 c1_i32_85 k0_t17
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off130 (i : grid0.Coords) (k0_t2 : Fin k0_t2_loop.trips) (v146 : BitVec 32) (v149 : BitVec 32) (k0_t17 : Fin (k0_t17_loop i k0_t2 v146 v149).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v147 : BitVec 32 := Scalar.maxsi v146 v75
  let c1_i32_85 : BitVec 32 := 1#32
  let arg19 : BitVec 32 := Scf.iv v147 c1_i32_85 k0_t17
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]
@[reducible] def k0_t18_loop (i : grid0.Coords) (k0_t2 : Fin k0_t2_loop.trips) (v146 : BitVec 32) (v149 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v147 : BitVec 32 := Scalar.maxsi v146 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let v231 : BitVec 32 := Scalar.addi v147 v230
  let c1_i32_86 : BitVec 32 := 1#32
  ⟨v234, v231, c1_i32_86⟩
def k0_off131 (i : grid0.Coords) (k0_t2 : Fin k0_t2_loop.trips) (v146 : BitVec 32) (v149 : BitVec 32) (k0_t18 : Fin (k0_t18_loop i k0_t2 v146 v149).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v147 : BitVec 32 := Scalar.maxsi v146 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_86 : BitVec 32 := 1#32
  let arg19 : BitVec 32 := Scf.iv v234 c1_i32_86 k0_t18
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off132 (i : grid0.Coords) (k0_t2 : Fin k0_t2_loop.trips) (v146 : BitVec 32) (v149 : BitVec 32) (k0_t18 : Fin (k0_t18_loop i k0_t2 v146 v149).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v147 : BitVec 32 := Scalar.maxsi v146 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_86 : BitVec 32 := 1#32
  let arg19 : BitVec 32 := Scf.iv v234 c1_i32_86 k0_t18
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off133 (i : grid0.Coords) (k0_t2 : Fin k0_t2_loop.trips) (v146 : BitVec 32) (v149 : BitVec 32) (k0_t18 : Fin (k0_t18_loop i k0_t2 v146 v149).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v147 : BitVec 32 := Scalar.maxsi v146 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_86 : BitVec 32 := 1#32
  let arg19 : BitVec 32 := Scf.iv v234 c1_i32_86 k0_t18
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off134 (i : grid0.Coords) (k0_t2 : Fin k0_t2_loop.trips) (v146 : BitVec 32) (v149 : BitVec 32) (k0_t18 : Fin (k0_t18_loop i k0_t2 v146 v149).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v147 : BitVec 32 := Scalar.maxsi v146 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_86 : BitVec 32 := 1#32
  let arg19 : BitVec 32 := Scf.iv v234 c1_i32_86 k0_t18
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off135 (i : grid0.Coords) (k0_t2 : Fin k0_t2_loop.trips) (v146 : BitVec 32) (v149 : BitVec 32) (k0_t18 : Fin (k0_t18_loop i k0_t2 v146 v149).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v147 : BitVec 32 := Scalar.maxsi v146 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_86 : BitVec 32 := 1#32
  let arg19 : BitVec 32 := Scf.iv v234 c1_i32_86 k0_t18
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off136 (i : grid0.Coords) (k0_t2 : Fin k0_t2_loop.trips) (v146 : BitVec 32) (v149 : BitVec 32) (k0_t18 : Fin (k0_t18_loop i k0_t2 v146 v149).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v147 : BitVec 32 := Scalar.maxsi v146 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_86 : BitVec 32 := 1#32
  let arg19 : BitVec 32 := Scf.iv v234 c1_i32_86 k0_t18
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off137 (i : grid0.Coords) (k0_t2 : Fin k0_t2_loop.trips) (v146 : BitVec 32) (v149 : BitVec 32) (k0_t18 : Fin (k0_t18_loop i k0_t2 v146 v149).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v147 : BitVec 32 := Scalar.maxsi v146 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_86 : BitVec 32 := 1#32
  let arg19 : BitVec 32 := Scf.iv v234 c1_i32_86 k0_t18
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off138 (i : grid0.Coords) (k0_t2 : Fin k0_t2_loop.trips) (v146 : BitVec 32) (v149 : BitVec 32) (k0_t18 : Fin (k0_t18_loop i k0_t2 v146 v149).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v147 : BitVec 32 := Scalar.maxsi v146 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_86 : BitVec 32 := 1#32
  let arg19 : BitVec 32 := Scf.iv v234 c1_i32_86 k0_t18
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]

def k0_chk8 (i : grid0.Coords) (k0_t2 : Fin k0_t2_loop.trips) (v146 : BitVec 32) (v149 : BitVec 32) : Prop :=
  (∀ (k0_h1 : k0_cond1 k0_t2 = 1#1), ∀ (k0_h9 : k0_cond9 i k0_t2 v146 v149 = 1#1), (k0_t17_loop i k0_t2 v146 v149).OK) ∧
  (∀ k0_t17 : Fin (k0_t17_loop i k0_t2 v146 v149).trips, ∀ (k0_h1 : k0_cond1 k0_t2 = 1#1), ∀ (k0_h9 : k0_cond9 i k0_t2 v146 v149 = 1#1), ∀ a, (k0_off123 i k0_t2 v146 v149 k0_t17) a + S1x16.size a ≤ S256x128.size a) ∧
  (∀ k0_t17 : Fin (k0_t17_loop i k0_t2 v146 v149).trips, ∀ (k0_h1 : k0_cond1 k0_t2 = 1#1), ∀ (k0_h9 : k0_cond9 i k0_t2 v146 v149 = 1#1), ∀ a, (k0_off124 i k0_t2 v146 v149 k0_t17) a + S1x16.size a ≤ S256x128.size a) ∧
  (∀ k0_t17 : Fin (k0_t17_loop i k0_t2 v146 v149).trips, ∀ (k0_h1 : k0_cond1 k0_t2 = 1#1), ∀ (k0_h9 : k0_cond9 i k0_t2 v146 v149 = 1#1), ∀ a, (k0_off125 i k0_t2 v146 v149 k0_t17) a + S1x16.size a ≤ S256x128.size a) ∧
  (∀ k0_t17 : Fin (k0_t17_loop i k0_t2 v146 v149).trips, ∀ (k0_h1 : k0_cond1 k0_t2 = 1#1), ∀ (k0_h9 : k0_cond9 i k0_t2 v146 v149 = 1#1), ∀ a, (k0_off126 i k0_t2 v146 v149 k0_t17) a + S1x16.size a ≤ S256x128.size a) ∧
  (∀ k0_t17 : Fin (k0_t17_loop i k0_t2 v146 v149).trips, ∀ (k0_h1 : k0_cond1 k0_t2 = 1#1), ∀ (k0_h9 : k0_cond9 i k0_t2 v146 v149 = 1#1), ∀ a, (k0_off127 i k0_t2 v146 v149 k0_t17) a + S1x16.size a ≤ S256x128.size a) ∧
  (∀ k0_t17 : Fin (k0_t17_loop i k0_t2 v146 v149).trips, ∀ (k0_h1 : k0_cond1 k0_t2 = 1#1), ∀ (k0_h9 : k0_cond9 i k0_t2 v146 v149 = 1#1), ∀ a, (k0_off128 i k0_t2 v146 v149 k0_t17) a + S1x16.size a ≤ S256x128.size a) ∧
  (∀ k0_t17 : Fin (k0_t17_loop i k0_t2 v146 v149).trips, ∀ (k0_h1 : k0_cond1 k0_t2 = 1#1), ∀ (k0_h9 : k0_cond9 i k0_t2 v146 v149 = 1#1), ∀ a, (k0_off129 i k0_t2 v146 v149 k0_t17) a + S1x16.size a ≤ S256x128.size a) ∧
  (∀ k0_t17 : Fin (k0_t17_loop i k0_t2 v146 v149).trips, ∀ (k0_h1 : k0_cond1 k0_t2 = 1#1), ∀ (k0_h9 : k0_cond9 i k0_t2 v146 v149 = 1#1), ∀ a, (k0_off130 i k0_t2 v146 v149 k0_t17) a + S1x16.size a ≤ S256x128.size a) ∧
  (∀ (k0_h1 : k0_cond1 k0_t2 = 1#1), ∀ (k0_h9 : k0_cond9 i k0_t2 v146 v149 = 1#1), (k0_t18_loop i k0_t2 v146 v149).OK) ∧
  (∀ k0_t18 : Fin (k0_t18_loop i k0_t2 v146 v149).trips, ∀ (k0_h1 : k0_cond1 k0_t2 = 1#1), ∀ (k0_h9 : k0_cond9 i k0_t2 v146 v149 = 1#1), ∀ a, (k0_off131 i k0_t2 v146 v149 k0_t18) a + S1x16.size a ≤ S256x128.size a) ∧
  (∀ k0_t18 : Fin (k0_t18_loop i k0_t2 v146 v149).trips, ∀ (k0_h1 : k0_cond1 k0_t2 = 1#1), ∀ (k0_h9 : k0_cond9 i k0_t2 v146 v149 = 1#1), ∀ a, (k0_off132 i k0_t2 v146 v149 k0_t18) a + S1x16.size a ≤ S256x128.size a) ∧
  (∀ k0_t18 : Fin (k0_t18_loop i k0_t2 v146 v149).trips, ∀ (k0_h1 : k0_cond1 k0_t2 = 1#1), ∀ (k0_h9 : k0_cond9 i k0_t2 v146 v149 = 1#1), ∀ a, (k0_off133 i k0_t2 v146 v149 k0_t18) a + S1x16.size a ≤ S256x128.size a) ∧
  (∀ k0_t18 : Fin (k0_t18_loop i k0_t2 v146 v149).trips, ∀ (k0_h1 : k0_cond1 k0_t2 = 1#1), ∀ (k0_h9 : k0_cond9 i k0_t2 v146 v149 = 1#1), ∀ a, (k0_off134 i k0_t2 v146 v149 k0_t18) a + S1x16.size a ≤ S256x128.size a) ∧
  (∀ k0_t18 : Fin (k0_t18_loop i k0_t2 v146 v149).trips, ∀ (k0_h1 : k0_cond1 k0_t2 = 1#1), ∀ (k0_h9 : k0_cond9 i k0_t2 v146 v149 = 1#1), ∀ a, (k0_off135 i k0_t2 v146 v149 k0_t18) a + S1x16.size a ≤ S256x128.size a) ∧
  (∀ k0_t18 : Fin (k0_t18_loop i k0_t2 v146 v149).trips, ∀ (k0_h1 : k0_cond1 k0_t2 = 1#1), ∀ (k0_h9 : k0_cond9 i k0_t2 v146 v149 = 1#1), ∀ a, (k0_off136 i k0_t2 v146 v149 k0_t18) a + S1x16.size a ≤ S256x128.size a) ∧
  (∀ k0_t18 : Fin (k0_t18_loop i k0_t2 v146 v149).trips, ∀ (k0_h1 : k0_cond1 k0_t2 = 1#1), ∀ (k0_h9 : k0_cond9 i k0_t2 v146 v149 = 1#1), ∀ a, (k0_off137 i k0_t2 v146 v149 k0_t18) a + S1x16.size a ≤ S256x128.size a) ∧
  (∀ k0_t18 : Fin (k0_t18_loop i k0_t2 v146 v149).trips, ∀ (k0_h1 : k0_cond1 k0_t2 = 1#1), ∀ (k0_h9 : k0_cond9 i k0_t2 v146 v149 = 1#1), ∀ a, (k0_off138 i k0_t2 v146 v149 k0_t18) a + S1x16.size a ≤ S256x128.size a)
theorem k0_t17_ok : ∀ (i : grid0.Coords) (k0_t2 : Fin k0_t2_loop.trips) (v146 : BitVec 32) (v149 : BitVec 32) (k0_hw8 : k0_chk8 i k0_t2 v146 v149), ∀ (k0_h1 : k0_cond1 k0_t2 = 1#1), ∀ (k0_h9 : k0_cond9 i k0_t2 v146 v149 = 1#1), (k0_t17_loop i k0_t2 v146 v149).OK := fun i k0_t2 v146 v149 k0_hw8 k0_h1 k0_h9 => k0_hw8.1 k0_h1 k0_h9
theorem k0_off123_inb : ∀ (i : grid0.Coords) (k0_t2 : Fin k0_t2_loop.trips) (v146 : BitVec 32) (v149 : BitVec 32) (k0_hw8 : k0_chk8 i k0_t2 v146 v149) (k0_t17 : Fin (k0_t17_loop i k0_t2 v146 v149).trips), ∀ (k0_h1 : k0_cond1 k0_t2 = 1#1), ∀ (k0_h9 : k0_cond9 i k0_t2 v146 v149 = 1#1), ∀ a, (k0_off123 i k0_t2 v146 v149 k0_t17) a + S1x16.size a ≤ S256x128.size a := fun i k0_t2 v146 v149 k0_hw8 k0_t17 k0_h1 k0_h9 => k0_hw8.2.1 k0_t17 k0_h1 k0_h9
theorem k0_off124_inb : ∀ (i : grid0.Coords) (k0_t2 : Fin k0_t2_loop.trips) (v146 : BitVec 32) (v149 : BitVec 32) (k0_hw8 : k0_chk8 i k0_t2 v146 v149) (k0_t17 : Fin (k0_t17_loop i k0_t2 v146 v149).trips), ∀ (k0_h1 : k0_cond1 k0_t2 = 1#1), ∀ (k0_h9 : k0_cond9 i k0_t2 v146 v149 = 1#1), ∀ a, (k0_off124 i k0_t2 v146 v149 k0_t17) a + S1x16.size a ≤ S256x128.size a := fun i k0_t2 v146 v149 k0_hw8 k0_t17 k0_h1 k0_h9 => k0_hw8.2.2.1 k0_t17 k0_h1 k0_h9
theorem k0_off125_inb : ∀ (i : grid0.Coords) (k0_t2 : Fin k0_t2_loop.trips) (v146 : BitVec 32) (v149 : BitVec 32) (k0_hw8 : k0_chk8 i k0_t2 v146 v149) (k0_t17 : Fin (k0_t17_loop i k0_t2 v146 v149).trips), ∀ (k0_h1 : k0_cond1 k0_t2 = 1#1), ∀ (k0_h9 : k0_cond9 i k0_t2 v146 v149 = 1#1), ∀ a, (k0_off125 i k0_t2 v146 v149 k0_t17) a + S1x16.size a ≤ S256x128.size a := fun i k0_t2 v146 v149 k0_hw8 k0_t17 k0_h1 k0_h9 => k0_hw8.2.2.2.1 k0_t17 k0_h1 k0_h9
theorem k0_off126_inb : ∀ (i : grid0.Coords) (k0_t2 : Fin k0_t2_loop.trips) (v146 : BitVec 32) (v149 : BitVec 32) (k0_hw8 : k0_chk8 i k0_t2 v146 v149) (k0_t17 : Fin (k0_t17_loop i k0_t2 v146 v149).trips), ∀ (k0_h1 : k0_cond1 k0_t2 = 1#1), ∀ (k0_h9 : k0_cond9 i k0_t2 v146 v149 = 1#1), ∀ a, (k0_off126 i k0_t2 v146 v149 k0_t17) a + S1x16.size a ≤ S256x128.size a := fun i k0_t2 v146 v149 k0_hw8 k0_t17 k0_h1 k0_h9 => k0_hw8.2.2.2.2.1 k0_t17 k0_h1 k0_h9
theorem k0_off127_inb : ∀ (i : grid0.Coords) (k0_t2 : Fin k0_t2_loop.trips) (v146 : BitVec 32) (v149 : BitVec 32) (k0_hw8 : k0_chk8 i k0_t2 v146 v149) (k0_t17 : Fin (k0_t17_loop i k0_t2 v146 v149).trips), ∀ (k0_h1 : k0_cond1 k0_t2 = 1#1), ∀ (k0_h9 : k0_cond9 i k0_t2 v146 v149 = 1#1), ∀ a, (k0_off127 i k0_t2 v146 v149 k0_t17) a + S1x16.size a ≤ S256x128.size a := fun i k0_t2 v146 v149 k0_hw8 k0_t17 k0_h1 k0_h9 => k0_hw8.2.2.2.2.2.1 k0_t17 k0_h1 k0_h9
theorem k0_off128_inb : ∀ (i : grid0.Coords) (k0_t2 : Fin k0_t2_loop.trips) (v146 : BitVec 32) (v149 : BitVec 32) (k0_hw8 : k0_chk8 i k0_t2 v146 v149) (k0_t17 : Fin (k0_t17_loop i k0_t2 v146 v149).trips), ∀ (k0_h1 : k0_cond1 k0_t2 = 1#1), ∀ (k0_h9 : k0_cond9 i k0_t2 v146 v149 = 1#1), ∀ a, (k0_off128 i k0_t2 v146 v149 k0_t17) a + S1x16.size a ≤ S256x128.size a := fun i k0_t2 v146 v149 k0_hw8 k0_t17 k0_h1 k0_h9 => k0_hw8.2.2.2.2.2.2.1 k0_t17 k0_h1 k0_h9
theorem k0_off129_inb : ∀ (i : grid0.Coords) (k0_t2 : Fin k0_t2_loop.trips) (v146 : BitVec 32) (v149 : BitVec 32) (k0_hw8 : k0_chk8 i k0_t2 v146 v149) (k0_t17 : Fin (k0_t17_loop i k0_t2 v146 v149).trips), ∀ (k0_h1 : k0_cond1 k0_t2 = 1#1), ∀ (k0_h9 : k0_cond9 i k0_t2 v146 v149 = 1#1), ∀ a, (k0_off129 i k0_t2 v146 v149 k0_t17) a + S1x16.size a ≤ S256x128.size a := fun i k0_t2 v146 v149 k0_hw8 k0_t17 k0_h1 k0_h9 => k0_hw8.2.2.2.2.2.2.2.1 k0_t17 k0_h1 k0_h9
theorem k0_off130_inb : ∀ (i : grid0.Coords) (k0_t2 : Fin k0_t2_loop.trips) (v146 : BitVec 32) (v149 : BitVec 32) (k0_hw8 : k0_chk8 i k0_t2 v146 v149) (k0_t17 : Fin (k0_t17_loop i k0_t2 v146 v149).trips), ∀ (k0_h1 : k0_cond1 k0_t2 = 1#1), ∀ (k0_h9 : k0_cond9 i k0_t2 v146 v149 = 1#1), ∀ a, (k0_off130 i k0_t2 v146 v149 k0_t17) a + S1x16.size a ≤ S256x128.size a := fun i k0_t2 v146 v149 k0_hw8 k0_t17 k0_h1 k0_h9 => k0_hw8.2.2.2.2.2.2.2.2.1 k0_t17 k0_h1 k0_h9
theorem k0_t18_ok : ∀ (i : grid0.Coords) (k0_t2 : Fin k0_t2_loop.trips) (v146 : BitVec 32) (v149 : BitVec 32) (k0_hw8 : k0_chk8 i k0_t2 v146 v149), ∀ (k0_h1 : k0_cond1 k0_t2 = 1#1), ∀ (k0_h9 : k0_cond9 i k0_t2 v146 v149 = 1#1), (k0_t18_loop i k0_t2 v146 v149).OK := fun i k0_t2 v146 v149 k0_hw8 k0_h1 k0_h9 => k0_hw8.2.2.2.2.2.2.2.2.2.1 k0_h1 k0_h9
theorem k0_off131_inb : ∀ (i : grid0.Coords) (k0_t2 : Fin k0_t2_loop.trips) (v146 : BitVec 32) (v149 : BitVec 32) (k0_hw8 : k0_chk8 i k0_t2 v146 v149) (k0_t18 : Fin (k0_t18_loop i k0_t2 v146 v149).trips), ∀ (k0_h1 : k0_cond1 k0_t2 = 1#1), ∀ (k0_h9 : k0_cond9 i k0_t2 v146 v149 = 1#1), ∀ a, (k0_off131 i k0_t2 v146 v149 k0_t18) a + S1x16.size a ≤ S256x128.size a := fun i k0_t2 v146 v149 k0_hw8 k0_t18 k0_h1 k0_h9 => k0_hw8.2.2.2.2.2.2.2.2.2.2.1 k0_t18 k0_h1 k0_h9
theorem k0_off132_inb : ∀ (i : grid0.Coords) (k0_t2 : Fin k0_t2_loop.trips) (v146 : BitVec 32) (v149 : BitVec 32) (k0_hw8 : k0_chk8 i k0_t2 v146 v149) (k0_t18 : Fin (k0_t18_loop i k0_t2 v146 v149).trips), ∀ (k0_h1 : k0_cond1 k0_t2 = 1#1), ∀ (k0_h9 : k0_cond9 i k0_t2 v146 v149 = 1#1), ∀ a, (k0_off132 i k0_t2 v146 v149 k0_t18) a + S1x16.size a ≤ S256x128.size a := fun i k0_t2 v146 v149 k0_hw8 k0_t18 k0_h1 k0_h9 => k0_hw8.2.2.2.2.2.2.2.2.2.2.2.1 k0_t18 k0_h1 k0_h9
theorem k0_off133_inb : ∀ (i : grid0.Coords) (k0_t2 : Fin k0_t2_loop.trips) (v146 : BitVec 32) (v149 : BitVec 32) (k0_hw8 : k0_chk8 i k0_t2 v146 v149) (k0_t18 : Fin (k0_t18_loop i k0_t2 v146 v149).trips), ∀ (k0_h1 : k0_cond1 k0_t2 = 1#1), ∀ (k0_h9 : k0_cond9 i k0_t2 v146 v149 = 1#1), ∀ a, (k0_off133 i k0_t2 v146 v149 k0_t18) a + S1x16.size a ≤ S256x128.size a := fun i k0_t2 v146 v149 k0_hw8 k0_t18 k0_h1 k0_h9 => k0_hw8.2.2.2.2.2.2.2.2.2.2.2.2.1 k0_t18 k0_h1 k0_h9
theorem k0_off134_inb : ∀ (i : grid0.Coords) (k0_t2 : Fin k0_t2_loop.trips) (v146 : BitVec 32) (v149 : BitVec 32) (k0_hw8 : k0_chk8 i k0_t2 v146 v149) (k0_t18 : Fin (k0_t18_loop i k0_t2 v146 v149).trips), ∀ (k0_h1 : k0_cond1 k0_t2 = 1#1), ∀ (k0_h9 : k0_cond9 i k0_t2 v146 v149 = 1#1), ∀ a, (k0_off134 i k0_t2 v146 v149 k0_t18) a + S1x16.size a ≤ S256x128.size a := fun i k0_t2 v146 v149 k0_hw8 k0_t18 k0_h1 k0_h9 => k0_hw8.2.2.2.2.2.2.2.2.2.2.2.2.2.1 k0_t18 k0_h1 k0_h9
theorem k0_off135_inb : ∀ (i : grid0.Coords) (k0_t2 : Fin k0_t2_loop.trips) (v146 : BitVec 32) (v149 : BitVec 32) (k0_hw8 : k0_chk8 i k0_t2 v146 v149) (k0_t18 : Fin (k0_t18_loop i k0_t2 v146 v149).trips), ∀ (k0_h1 : k0_cond1 k0_t2 = 1#1), ∀ (k0_h9 : k0_cond9 i k0_t2 v146 v149 = 1#1), ∀ a, (k0_off135 i k0_t2 v146 v149 k0_t18) a + S1x16.size a ≤ S256x128.size a := fun i k0_t2 v146 v149 k0_hw8 k0_t18 k0_h1 k0_h9 => k0_hw8.2.2.2.2.2.2.2.2.2.2.2.2.2.2.1 k0_t18 k0_h1 k0_h9
theorem k0_off136_inb : ∀ (i : grid0.Coords) (k0_t2 : Fin k0_t2_loop.trips) (v146 : BitVec 32) (v149 : BitVec 32) (k0_hw8 : k0_chk8 i k0_t2 v146 v149) (k0_t18 : Fin (k0_t18_loop i k0_t2 v146 v149).trips), ∀ (k0_h1 : k0_cond1 k0_t2 = 1#1), ∀ (k0_h9 : k0_cond9 i k0_t2 v146 v149 = 1#1), ∀ a, (k0_off136 i k0_t2 v146 v149 k0_t18) a + S1x16.size a ≤ S256x128.size a := fun i k0_t2 v146 v149 k0_hw8 k0_t18 k0_h1 k0_h9 => k0_hw8.2.2.2.2.2.2.2.2.2.2.2.2.2.2.2.1 k0_t18 k0_h1 k0_h9
theorem k0_off137_inb : ∀ (i : grid0.Coords) (k0_t2 : Fin k0_t2_loop.trips) (v146 : BitVec 32) (v149 : BitVec 32) (k0_hw8 : k0_chk8 i k0_t2 v146 v149) (k0_t18 : Fin (k0_t18_loop i k0_t2 v146 v149).trips), ∀ (k0_h1 : k0_cond1 k0_t2 = 1#1), ∀ (k0_h9 : k0_cond9 i k0_t2 v146 v149 = 1#1), ∀ a, (k0_off137 i k0_t2 v146 v149 k0_t18) a + S1x16.size a ≤ S256x128.size a := fun i k0_t2 v146 v149 k0_hw8 k0_t18 k0_h1 k0_h9 => k0_hw8.2.2.2.2.2.2.2.2.2.2.2.2.2.2.2.2.1 k0_t18 k0_h1 k0_h9
theorem k0_off138_inb : ∀ (i : grid0.Coords) (k0_t2 : Fin k0_t2_loop.trips) (v146 : BitVec 32) (v149 : BitVec 32) (k0_hw8 : k0_chk8 i k0_t2 v146 v149) (k0_t18 : Fin (k0_t18_loop i k0_t2 v146 v149).trips), ∀ (k0_h1 : k0_cond1 k0_t2 = 1#1), ∀ (k0_h9 : k0_cond9 i k0_t2 v146 v149 = 1#1), ∀ a, (k0_off138 i k0_t2 v146 v149 k0_t18) a + S1x16.size a ≤ S256x128.size a := fun i k0_t2 v146 v149 k0_hw8 k0_t18 k0_h1 k0_h9 => k0_hw8.2.2.2.2.2.2.2.2.2.2.2.2.2.2.2.2.2 k0_t18 k0_h1 k0_h9

@[reducible] def k0_t19_loop (i : grid0.Coords) (k0_t2 : Fin k0_t2_loop.trips) (v155 : BitVec 32) (v158 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v156 : BitVec 32 := Scalar.maxsi v155 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_85 : BitVec 32 := 1#32
  ⟨v156, v234, c1_i32_85⟩
def k0_cond10 (i : grid0.Coords) (k0_t2 : Fin k0_t2_loop.trips) (v155 : BitVec 32) (v158 : BitVec 32) : BitVec 1 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v159 : BitVec 32 := Scalar.minsi v158 v77
  let v156 : BitVec 32 := Scalar.maxsi v155 v75
  let v160 : BitVec 1 := Scalar.cmpi .sgt v159 v156
  let v161 : BitVec 32 := Scalar.extui v160
  let c0_i32_73 : BitVec 32 := 0#32
  let v162 : BitVec 1 := Scalar.cmpi .ne v161 c0_i32_73
  v162

def k0_off139 (i : grid0.Coords) (k0_t2 : Fin k0_t2_loop.trips) (v155 : BitVec 32) (v158 : BitVec 32) (k0_t19 : Fin (k0_t19_loop i k0_t2 v155 v158).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v156 : BitVec 32 := Scalar.maxsi v155 v75
  let c1_i32_85 : BitVec 32 := 1#32
  let arg19 : BitVec 32 := Scf.iv v156 c1_i32_85 k0_t19
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off140 (i : grid0.Coords) (k0_t2 : Fin k0_t2_loop.trips) (v155 : BitVec 32) (v158 : BitVec 32) (k0_t19 : Fin (k0_t19_loop i k0_t2 v155 v158).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v156 : BitVec 32 := Scalar.maxsi v155 v75
  let c1_i32_85 : BitVec 32 := 1#32
  let arg19 : BitVec 32 := Scf.iv v156 c1_i32_85 k0_t19
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off141 (i : grid0.Coords) (k0_t2 : Fin k0_t2_loop.trips) (v155 : BitVec 32) (v158 : BitVec 32) (k0_t19 : Fin (k0_t19_loop i k0_t2 v155 v158).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v156 : BitVec 32 := Scalar.maxsi v155 v75
  let c1_i32_85 : BitVec 32 := 1#32
  let arg19 : BitVec 32 := Scf.iv v156 c1_i32_85 k0_t19
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off142 (i : grid0.Coords) (k0_t2 : Fin k0_t2_loop.trips) (v155 : BitVec 32) (v158 : BitVec 32) (k0_t19 : Fin (k0_t19_loop i k0_t2 v155 v158).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v156 : BitVec 32 := Scalar.maxsi v155 v75
  let c1_i32_85 : BitVec 32 := 1#32
  let arg19 : BitVec 32 := Scf.iv v156 c1_i32_85 k0_t19
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off143 (i : grid0.Coords) (k0_t2 : Fin k0_t2_loop.trips) (v155 : BitVec 32) (v158 : BitVec 32) (k0_t19 : Fin (k0_t19_loop i k0_t2 v155 v158).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v156 : BitVec 32 := Scalar.maxsi v155 v75
  let c1_i32_85 : BitVec 32 := 1#32
  let arg19 : BitVec 32 := Scf.iv v156 c1_i32_85 k0_t19
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off144 (i : grid0.Coords) (k0_t2 : Fin k0_t2_loop.trips) (v155 : BitVec 32) (v158 : BitVec 32) (k0_t19 : Fin (k0_t19_loop i k0_t2 v155 v158).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v156 : BitVec 32 := Scalar.maxsi v155 v75
  let c1_i32_85 : BitVec 32 := 1#32
  let arg19 : BitVec 32 := Scf.iv v156 c1_i32_85 k0_t19
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off145 (i : grid0.Coords) (k0_t2 : Fin k0_t2_loop.trips) (v155 : BitVec 32) (v158 : BitVec 32) (k0_t19 : Fin (k0_t19_loop i k0_t2 v155 v158).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v156 : BitVec 32 := Scalar.maxsi v155 v75
  let c1_i32_85 : BitVec 32 := 1#32
  let arg19 : BitVec 32 := Scf.iv v156 c1_i32_85 k0_t19
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off146 (i : grid0.Coords) (k0_t2 : Fin k0_t2_loop.trips) (v155 : BitVec 32) (v158 : BitVec 32) (k0_t19 : Fin (k0_t19_loop i k0_t2 v155 v158).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v156 : BitVec 32 := Scalar.maxsi v155 v75
  let c1_i32_85 : BitVec 32 := 1#32
  let arg19 : BitVec 32 := Scf.iv v156 c1_i32_85 k0_t19
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]
@[reducible] def k0_t20_loop (i : grid0.Coords) (k0_t2 : Fin k0_t2_loop.trips) (v155 : BitVec 32) (v158 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v156 : BitVec 32 := Scalar.maxsi v155 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let v231 : BitVec 32 := Scalar.addi v156 v230
  let c1_i32_86 : BitVec 32 := 1#32
  ⟨v234, v231, c1_i32_86⟩
def k0_off147 (i : grid0.Coords) (k0_t2 : Fin k0_t2_loop.trips) (v155 : BitVec 32) (v158 : BitVec 32) (k0_t20 : Fin (k0_t20_loop i k0_t2 v155 v158).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v156 : BitVec 32 := Scalar.maxsi v155 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_86 : BitVec 32 := 1#32
  let arg19 : BitVec 32 := Scf.iv v234 c1_i32_86 k0_t20
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off148 (i : grid0.Coords) (k0_t2 : Fin k0_t2_loop.trips) (v155 : BitVec 32) (v158 : BitVec 32) (k0_t20 : Fin (k0_t20_loop i k0_t2 v155 v158).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v156 : BitVec 32 := Scalar.maxsi v155 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_86 : BitVec 32 := 1#32
  let arg19 : BitVec 32 := Scf.iv v234 c1_i32_86 k0_t20
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off149 (i : grid0.Coords) (k0_t2 : Fin k0_t2_loop.trips) (v155 : BitVec 32) (v158 : BitVec 32) (k0_t20 : Fin (k0_t20_loop i k0_t2 v155 v158).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v156 : BitVec 32 := Scalar.maxsi v155 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_86 : BitVec 32 := 1#32
  let arg19 : BitVec 32 := Scf.iv v234 c1_i32_86 k0_t20
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off150 (i : grid0.Coords) (k0_t2 : Fin k0_t2_loop.trips) (v155 : BitVec 32) (v158 : BitVec 32) (k0_t20 : Fin (k0_t20_loop i k0_t2 v155 v158).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v156 : BitVec 32 := Scalar.maxsi v155 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_86 : BitVec 32 := 1#32
  let arg19 : BitVec 32 := Scf.iv v234 c1_i32_86 k0_t20
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off151 (i : grid0.Coords) (k0_t2 : Fin k0_t2_loop.trips) (v155 : BitVec 32) (v158 : BitVec 32) (k0_t20 : Fin (k0_t20_loop i k0_t2 v155 v158).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v156 : BitVec 32 := Scalar.maxsi v155 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_86 : BitVec 32 := 1#32
  let arg19 : BitVec 32 := Scf.iv v234 c1_i32_86 k0_t20
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off152 (i : grid0.Coords) (k0_t2 : Fin k0_t2_loop.trips) (v155 : BitVec 32) (v158 : BitVec 32) (k0_t20 : Fin (k0_t20_loop i k0_t2 v155 v158).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v156 : BitVec 32 := Scalar.maxsi v155 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_86 : BitVec 32 := 1#32
  let arg19 : BitVec 32 := Scf.iv v234 c1_i32_86 k0_t20
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off153 (i : grid0.Coords) (k0_t2 : Fin k0_t2_loop.trips) (v155 : BitVec 32) (v158 : BitVec 32) (k0_t20 : Fin (k0_t20_loop i k0_t2 v155 v158).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v156 : BitVec 32 := Scalar.maxsi v155 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_86 : BitVec 32 := 1#32
  let arg19 : BitVec 32 := Scf.iv v234 c1_i32_86 k0_t20
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off154 (i : grid0.Coords) (k0_t2 : Fin k0_t2_loop.trips) (v155 : BitVec 32) (v158 : BitVec 32) (k0_t20 : Fin (k0_t20_loop i k0_t2 v155 v158).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v156 : BitVec 32 := Scalar.maxsi v155 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_86 : BitVec 32 := 1#32
  let arg19 : BitVec 32 := Scf.iv v234 c1_i32_86 k0_t20
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]

def k0_chk9 (i : grid0.Coords) (k0_t2 : Fin k0_t2_loop.trips) (v155 : BitVec 32) (v158 : BitVec 32) : Prop :=
  (∀ (k0_h1 : k0_cond1 k0_t2 = 1#1), ∀ (k0_h10 : k0_cond10 i k0_t2 v155 v158 = 1#1), (k0_t19_loop i k0_t2 v155 v158).OK) ∧
  (∀ k0_t19 : Fin (k0_t19_loop i k0_t2 v155 v158).trips, ∀ (k0_h1 : k0_cond1 k0_t2 = 1#1), ∀ (k0_h10 : k0_cond10 i k0_t2 v155 v158 = 1#1), ∀ a, (k0_off139 i k0_t2 v155 v158 k0_t19) a + S1x16.size a ≤ S256x128.size a) ∧
  (∀ k0_t19 : Fin (k0_t19_loop i k0_t2 v155 v158).trips, ∀ (k0_h1 : k0_cond1 k0_t2 = 1#1), ∀ (k0_h10 : k0_cond10 i k0_t2 v155 v158 = 1#1), ∀ a, (k0_off140 i k0_t2 v155 v158 k0_t19) a + S1x16.size a ≤ S256x128.size a) ∧
  (∀ k0_t19 : Fin (k0_t19_loop i k0_t2 v155 v158).trips, ∀ (k0_h1 : k0_cond1 k0_t2 = 1#1), ∀ (k0_h10 : k0_cond10 i k0_t2 v155 v158 = 1#1), ∀ a, (k0_off141 i k0_t2 v155 v158 k0_t19) a + S1x16.size a ≤ S256x128.size a) ∧
  (∀ k0_t19 : Fin (k0_t19_loop i k0_t2 v155 v158).trips, ∀ (k0_h1 : k0_cond1 k0_t2 = 1#1), ∀ (k0_h10 : k0_cond10 i k0_t2 v155 v158 = 1#1), ∀ a, (k0_off142 i k0_t2 v155 v158 k0_t19) a + S1x16.size a ≤ S256x128.size a) ∧
  (∀ k0_t19 : Fin (k0_t19_loop i k0_t2 v155 v158).trips, ∀ (k0_h1 : k0_cond1 k0_t2 = 1#1), ∀ (k0_h10 : k0_cond10 i k0_t2 v155 v158 = 1#1), ∀ a, (k0_off143 i k0_t2 v155 v158 k0_t19) a + S1x16.size a ≤ S256x128.size a) ∧
  (∀ k0_t19 : Fin (k0_t19_loop i k0_t2 v155 v158).trips, ∀ (k0_h1 : k0_cond1 k0_t2 = 1#1), ∀ (k0_h10 : k0_cond10 i k0_t2 v155 v158 = 1#1), ∀ a, (k0_off144 i k0_t2 v155 v158 k0_t19) a + S1x16.size a ≤ S256x128.size a) ∧
  (∀ k0_t19 : Fin (k0_t19_loop i k0_t2 v155 v158).trips, ∀ (k0_h1 : k0_cond1 k0_t2 = 1#1), ∀ (k0_h10 : k0_cond10 i k0_t2 v155 v158 = 1#1), ∀ a, (k0_off145 i k0_t2 v155 v158 k0_t19) a + S1x16.size a ≤ S256x128.size a) ∧
  (∀ k0_t19 : Fin (k0_t19_loop i k0_t2 v155 v158).trips, ∀ (k0_h1 : k0_cond1 k0_t2 = 1#1), ∀ (k0_h10 : k0_cond10 i k0_t2 v155 v158 = 1#1), ∀ a, (k0_off146 i k0_t2 v155 v158 k0_t19) a + S1x16.size a ≤ S256x128.size a) ∧
  (∀ (k0_h1 : k0_cond1 k0_t2 = 1#1), ∀ (k0_h10 : k0_cond10 i k0_t2 v155 v158 = 1#1), (k0_t20_loop i k0_t2 v155 v158).OK) ∧
  (∀ k0_t20 : Fin (k0_t20_loop i k0_t2 v155 v158).trips, ∀ (k0_h1 : k0_cond1 k0_t2 = 1#1), ∀ (k0_h10 : k0_cond10 i k0_t2 v155 v158 = 1#1), ∀ a, (k0_off147 i k0_t2 v155 v158 k0_t20) a + S1x16.size a ≤ S256x128.size a) ∧
  (∀ k0_t20 : Fin (k0_t20_loop i k0_t2 v155 v158).trips, ∀ (k0_h1 : k0_cond1 k0_t2 = 1#1), ∀ (k0_h10 : k0_cond10 i k0_t2 v155 v158 = 1#1), ∀ a, (k0_off148 i k0_t2 v155 v158 k0_t20) a + S1x16.size a ≤ S256x128.size a) ∧
  (∀ k0_t20 : Fin (k0_t20_loop i k0_t2 v155 v158).trips, ∀ (k0_h1 : k0_cond1 k0_t2 = 1#1), ∀ (k0_h10 : k0_cond10 i k0_t2 v155 v158 = 1#1), ∀ a, (k0_off149 i k0_t2 v155 v158 k0_t20) a + S1x16.size a ≤ S256x128.size a) ∧
  (∀ k0_t20 : Fin (k0_t20_loop i k0_t2 v155 v158).trips, ∀ (k0_h1 : k0_cond1 k0_t2 = 1#1), ∀ (k0_h10 : k0_cond10 i k0_t2 v155 v158 = 1#1), ∀ a, (k0_off150 i k0_t2 v155 v158 k0_t20) a + S1x16.size a ≤ S256x128.size a) ∧
  (∀ k0_t20 : Fin (k0_t20_loop i k0_t2 v155 v158).trips, ∀ (k0_h1 : k0_cond1 k0_t2 = 1#1), ∀ (k0_h10 : k0_cond10 i k0_t2 v155 v158 = 1#1), ∀ a, (k0_off151 i k0_t2 v155 v158 k0_t20) a + S1x16.size a ≤ S256x128.size a) ∧
  (∀ k0_t20 : Fin (k0_t20_loop i k0_t2 v155 v158).trips, ∀ (k0_h1 : k0_cond1 k0_t2 = 1#1), ∀ (k0_h10 : k0_cond10 i k0_t2 v155 v158 = 1#1), ∀ a, (k0_off152 i k0_t2 v155 v158 k0_t20) a + S1x16.size a ≤ S256x128.size a) ∧
  (∀ k0_t20 : Fin (k0_t20_loop i k0_t2 v155 v158).trips, ∀ (k0_h1 : k0_cond1 k0_t2 = 1#1), ∀ (k0_h10 : k0_cond10 i k0_t2 v155 v158 = 1#1), ∀ a, (k0_off153 i k0_t2 v155 v158 k0_t20) a + S1x16.size a ≤ S256x128.size a) ∧
  (∀ k0_t20 : Fin (k0_t20_loop i k0_t2 v155 v158).trips, ∀ (k0_h1 : k0_cond1 k0_t2 = 1#1), ∀ (k0_h10 : k0_cond10 i k0_t2 v155 v158 = 1#1), ∀ a, (k0_off154 i k0_t2 v155 v158 k0_t20) a + S1x16.size a ≤ S256x128.size a)
theorem k0_t19_ok : ∀ (i : grid0.Coords) (k0_t2 : Fin k0_t2_loop.trips) (v155 : BitVec 32) (v158 : BitVec 32) (k0_hw9 : k0_chk9 i k0_t2 v155 v158), ∀ (k0_h1 : k0_cond1 k0_t2 = 1#1), ∀ (k0_h10 : k0_cond10 i k0_t2 v155 v158 = 1#1), (k0_t19_loop i k0_t2 v155 v158).OK := fun i k0_t2 v155 v158 k0_hw9 k0_h1 k0_h10 => k0_hw9.1 k0_h1 k0_h10
theorem k0_off139_inb : ∀ (i : grid0.Coords) (k0_t2 : Fin k0_t2_loop.trips) (v155 : BitVec 32) (v158 : BitVec 32) (k0_hw9 : k0_chk9 i k0_t2 v155 v158) (k0_t19 : Fin (k0_t19_loop i k0_t2 v155 v158).trips), ∀ (k0_h1 : k0_cond1 k0_t2 = 1#1), ∀ (k0_h10 : k0_cond10 i k0_t2 v155 v158 = 1#1), ∀ a, (k0_off139 i k0_t2 v155 v158 k0_t19) a + S1x16.size a ≤ S256x128.size a := fun i k0_t2 v155 v158 k0_hw9 k0_t19 k0_h1 k0_h10 => k0_hw9.2.1 k0_t19 k0_h1 k0_h10
theorem k0_off140_inb : ∀ (i : grid0.Coords) (k0_t2 : Fin k0_t2_loop.trips) (v155 : BitVec 32) (v158 : BitVec 32) (k0_hw9 : k0_chk9 i k0_t2 v155 v158) (k0_t19 : Fin (k0_t19_loop i k0_t2 v155 v158).trips), ∀ (k0_h1 : k0_cond1 k0_t2 = 1#1), ∀ (k0_h10 : k0_cond10 i k0_t2 v155 v158 = 1#1), ∀ a, (k0_off140 i k0_t2 v155 v158 k0_t19) a + S1x16.size a ≤ S256x128.size a := fun i k0_t2 v155 v158 k0_hw9 k0_t19 k0_h1 k0_h10 => k0_hw9.2.2.1 k0_t19 k0_h1 k0_h10
theorem k0_off141_inb : ∀ (i : grid0.Coords) (k0_t2 : Fin k0_t2_loop.trips) (v155 : BitVec 32) (v158 : BitVec 32) (k0_hw9 : k0_chk9 i k0_t2 v155 v158) (k0_t19 : Fin (k0_t19_loop i k0_t2 v155 v158).trips), ∀ (k0_h1 : k0_cond1 k0_t2 = 1#1), ∀ (k0_h10 : k0_cond10 i k0_t2 v155 v158 = 1#1), ∀ a, (k0_off141 i k0_t2 v155 v158 k0_t19) a + S1x16.size a ≤ S256x128.size a := fun i k0_t2 v155 v158 k0_hw9 k0_t19 k0_h1 k0_h10 => k0_hw9.2.2.2.1 k0_t19 k0_h1 k0_h10
theorem k0_off142_inb : ∀ (i : grid0.Coords) (k0_t2 : Fin k0_t2_loop.trips) (v155 : BitVec 32) (v158 : BitVec 32) (k0_hw9 : k0_chk9 i k0_t2 v155 v158) (k0_t19 : Fin (k0_t19_loop i k0_t2 v155 v158).trips), ∀ (k0_h1 : k0_cond1 k0_t2 = 1#1), ∀ (k0_h10 : k0_cond10 i k0_t2 v155 v158 = 1#1), ∀ a, (k0_off142 i k0_t2 v155 v158 k0_t19) a + S1x16.size a ≤ S256x128.size a := fun i k0_t2 v155 v158 k0_hw9 k0_t19 k0_h1 k0_h10 => k0_hw9.2.2.2.2.1 k0_t19 k0_h1 k0_h10
theorem k0_off143_inb : ∀ (i : grid0.Coords) (k0_t2 : Fin k0_t2_loop.trips) (v155 : BitVec 32) (v158 : BitVec 32) (k0_hw9 : k0_chk9 i k0_t2 v155 v158) (k0_t19 : Fin (k0_t19_loop i k0_t2 v155 v158).trips), ∀ (k0_h1 : k0_cond1 k0_t2 = 1#1), ∀ (k0_h10 : k0_cond10 i k0_t2 v155 v158 = 1#1), ∀ a, (k0_off143 i k0_t2 v155 v158 k0_t19) a + S1x16.size a ≤ S256x128.size a := fun i k0_t2 v155 v158 k0_hw9 k0_t19 k0_h1 k0_h10 => k0_hw9.2.2.2.2.2.1 k0_t19 k0_h1 k0_h10
theorem k0_off144_inb : ∀ (i : grid0.Coords) (k0_t2 : Fin k0_t2_loop.trips) (v155 : BitVec 32) (v158 : BitVec 32) (k0_hw9 : k0_chk9 i k0_t2 v155 v158) (k0_t19 : Fin (k0_t19_loop i k0_t2 v155 v158).trips), ∀ (k0_h1 : k0_cond1 k0_t2 = 1#1), ∀ (k0_h10 : k0_cond10 i k0_t2 v155 v158 = 1#1), ∀ a, (k0_off144 i k0_t2 v155 v158 k0_t19) a + S1x16.size a ≤ S256x128.size a := fun i k0_t2 v155 v158 k0_hw9 k0_t19 k0_h1 k0_h10 => k0_hw9.2.2.2.2.2.2.1 k0_t19 k0_h1 k0_h10
theorem k0_off145_inb : ∀ (i : grid0.Coords) (k0_t2 : Fin k0_t2_loop.trips) (v155 : BitVec 32) (v158 : BitVec 32) (k0_hw9 : k0_chk9 i k0_t2 v155 v158) (k0_t19 : Fin (k0_t19_loop i k0_t2 v155 v158).trips), ∀ (k0_h1 : k0_cond1 k0_t2 = 1#1), ∀ (k0_h10 : k0_cond10 i k0_t2 v155 v158 = 1#1), ∀ a, (k0_off145 i k0_t2 v155 v158 k0_t19) a + S1x16.size a ≤ S256x128.size a := fun i k0_t2 v155 v158 k0_hw9 k0_t19 k0_h1 k0_h10 => k0_hw9.2.2.2.2.2.2.2.1 k0_t19 k0_h1 k0_h10
theorem k0_off146_inb : ∀ (i : grid0.Coords) (k0_t2 : Fin k0_t2_loop.trips) (v155 : BitVec 32) (v158 : BitVec 32) (k0_hw9 : k0_chk9 i k0_t2 v155 v158) (k0_t19 : Fin (k0_t19_loop i k0_t2 v155 v158).trips), ∀ (k0_h1 : k0_cond1 k0_t2 = 1#1), ∀ (k0_h10 : k0_cond10 i k0_t2 v155 v158 = 1#1), ∀ a, (k0_off146 i k0_t2 v155 v158 k0_t19) a + S1x16.size a ≤ S256x128.size a := fun i k0_t2 v155 v158 k0_hw9 k0_t19 k0_h1 k0_h10 => k0_hw9.2.2.2.2.2.2.2.2.1 k0_t19 k0_h1 k0_h10
theorem k0_t20_ok : ∀ (i : grid0.Coords) (k0_t2 : Fin k0_t2_loop.trips) (v155 : BitVec 32) (v158 : BitVec 32) (k0_hw9 : k0_chk9 i k0_t2 v155 v158), ∀ (k0_h1 : k0_cond1 k0_t2 = 1#1), ∀ (k0_h10 : k0_cond10 i k0_t2 v155 v158 = 1#1), (k0_t20_loop i k0_t2 v155 v158).OK := fun i k0_t2 v155 v158 k0_hw9 k0_h1 k0_h10 => k0_hw9.2.2.2.2.2.2.2.2.2.1 k0_h1 k0_h10
theorem k0_off147_inb : ∀ (i : grid0.Coords) (k0_t2 : Fin k0_t2_loop.trips) (v155 : BitVec 32) (v158 : BitVec 32) (k0_hw9 : k0_chk9 i k0_t2 v155 v158) (k0_t20 : Fin (k0_t20_loop i k0_t2 v155 v158).trips), ∀ (k0_h1 : k0_cond1 k0_t2 = 1#1), ∀ (k0_h10 : k0_cond10 i k0_t2 v155 v158 = 1#1), ∀ a, (k0_off147 i k0_t2 v155 v158 k0_t20) a + S1x16.size a ≤ S256x128.size a := fun i k0_t2 v155 v158 k0_hw9 k0_t20 k0_h1 k0_h10 => k0_hw9.2.2.2.2.2.2.2.2.2.2.1 k0_t20 k0_h1 k0_h10
theorem k0_off148_inb : ∀ (i : grid0.Coords) (k0_t2 : Fin k0_t2_loop.trips) (v155 : BitVec 32) (v158 : BitVec 32) (k0_hw9 : k0_chk9 i k0_t2 v155 v158) (k0_t20 : Fin (k0_t20_loop i k0_t2 v155 v158).trips), ∀ (k0_h1 : k0_cond1 k0_t2 = 1#1), ∀ (k0_h10 : k0_cond10 i k0_t2 v155 v158 = 1#1), ∀ a, (k0_off148 i k0_t2 v155 v158 k0_t20) a + S1x16.size a ≤ S256x128.size a := fun i k0_t2 v155 v158 k0_hw9 k0_t20 k0_h1 k0_h10 => k0_hw9.2.2.2.2.2.2.2.2.2.2.2.1 k0_t20 k0_h1 k0_h10
theorem k0_off149_inb : ∀ (i : grid0.Coords) (k0_t2 : Fin k0_t2_loop.trips) (v155 : BitVec 32) (v158 : BitVec 32) (k0_hw9 : k0_chk9 i k0_t2 v155 v158) (k0_t20 : Fin (k0_t20_loop i k0_t2 v155 v158).trips), ∀ (k0_h1 : k0_cond1 k0_t2 = 1#1), ∀ (k0_h10 : k0_cond10 i k0_t2 v155 v158 = 1#1), ∀ a, (k0_off149 i k0_t2 v155 v158 k0_t20) a + S1x16.size a ≤ S256x128.size a := fun i k0_t2 v155 v158 k0_hw9 k0_t20 k0_h1 k0_h10 => k0_hw9.2.2.2.2.2.2.2.2.2.2.2.2.1 k0_t20 k0_h1 k0_h10
theorem k0_off150_inb : ∀ (i : grid0.Coords) (k0_t2 : Fin k0_t2_loop.trips) (v155 : BitVec 32) (v158 : BitVec 32) (k0_hw9 : k0_chk9 i k0_t2 v155 v158) (k0_t20 : Fin (k0_t20_loop i k0_t2 v155 v158).trips), ∀ (k0_h1 : k0_cond1 k0_t2 = 1#1), ∀ (k0_h10 : k0_cond10 i k0_t2 v155 v158 = 1#1), ∀ a, (k0_off150 i k0_t2 v155 v158 k0_t20) a + S1x16.size a ≤ S256x128.size a := fun i k0_t2 v155 v158 k0_hw9 k0_t20 k0_h1 k0_h10 => k0_hw9.2.2.2.2.2.2.2.2.2.2.2.2.2.1 k0_t20 k0_h1 k0_h10
theorem k0_off151_inb : ∀ (i : grid0.Coords) (k0_t2 : Fin k0_t2_loop.trips) (v155 : BitVec 32) (v158 : BitVec 32) (k0_hw9 : k0_chk9 i k0_t2 v155 v158) (k0_t20 : Fin (k0_t20_loop i k0_t2 v155 v158).trips), ∀ (k0_h1 : k0_cond1 k0_t2 = 1#1), ∀ (k0_h10 : k0_cond10 i k0_t2 v155 v158 = 1#1), ∀ a, (k0_off151 i k0_t2 v155 v158 k0_t20) a + S1x16.size a ≤ S256x128.size a := fun i k0_t2 v155 v158 k0_hw9 k0_t20 k0_h1 k0_h10 => k0_hw9.2.2.2.2.2.2.2.2.2.2.2.2.2.2.1 k0_t20 k0_h1 k0_h10
theorem k0_off152_inb : ∀ (i : grid0.Coords) (k0_t2 : Fin k0_t2_loop.trips) (v155 : BitVec 32) (v158 : BitVec 32) (k0_hw9 : k0_chk9 i k0_t2 v155 v158) (k0_t20 : Fin (k0_t20_loop i k0_t2 v155 v158).trips), ∀ (k0_h1 : k0_cond1 k0_t2 = 1#1), ∀ (k0_h10 : k0_cond10 i k0_t2 v155 v158 = 1#1), ∀ a, (k0_off152 i k0_t2 v155 v158 k0_t20) a + S1x16.size a ≤ S256x128.size a := fun i k0_t2 v155 v158 k0_hw9 k0_t20 k0_h1 k0_h10 => k0_hw9.2.2.2.2.2.2.2.2.2.2.2.2.2.2.2.1 k0_t20 k0_h1 k0_h10
theorem k0_off153_inb : ∀ (i : grid0.Coords) (k0_t2 : Fin k0_t2_loop.trips) (v155 : BitVec 32) (v158 : BitVec 32) (k0_hw9 : k0_chk9 i k0_t2 v155 v158) (k0_t20 : Fin (k0_t20_loop i k0_t2 v155 v158).trips), ∀ (k0_h1 : k0_cond1 k0_t2 = 1#1), ∀ (k0_h10 : k0_cond10 i k0_t2 v155 v158 = 1#1), ∀ a, (k0_off153 i k0_t2 v155 v158 k0_t20) a + S1x16.size a ≤ S256x128.size a := fun i k0_t2 v155 v158 k0_hw9 k0_t20 k0_h1 k0_h10 => k0_hw9.2.2.2.2.2.2.2.2.2.2.2.2.2.2.2.2.1 k0_t20 k0_h1 k0_h10
theorem k0_off154_inb : ∀ (i : grid0.Coords) (k0_t2 : Fin k0_t2_loop.trips) (v155 : BitVec 32) (v158 : BitVec 32) (k0_hw9 : k0_chk9 i k0_t2 v155 v158) (k0_t20 : Fin (k0_t20_loop i k0_t2 v155 v158).trips), ∀ (k0_h1 : k0_cond1 k0_t2 = 1#1), ∀ (k0_h10 : k0_cond10 i k0_t2 v155 v158 = 1#1), ∀ a, (k0_off154 i k0_t2 v155 v158 k0_t20) a + S1x16.size a ≤ S256x128.size a := fun i k0_t2 v155 v158 k0_hw9 k0_t20 k0_h1 k0_h10 => k0_hw9.2.2.2.2.2.2.2.2.2.2.2.2.2.2.2.2.2 k0_t20 k0_h1 k0_h10

@[reducible] def k0_t21_loop (i : grid0.Coords) (k0_t2 : Fin k0_t2_loop.trips) (v164 : BitVec 32) (v167 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v165 : BitVec 32 := Scalar.maxsi v164 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_85 : BitVec 32 := 1#32
  ⟨v165, v234, c1_i32_85⟩
def k0_cond11 (i : grid0.Coords) (k0_t2 : Fin k0_t2_loop.trips) (v164 : BitVec 32) (v167 : BitVec 32) : BitVec 1 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v168 : BitVec 32 := Scalar.minsi v167 v77
  let v165 : BitVec 32 := Scalar.maxsi v164 v75
  let v169 : BitVec 1 := Scalar.cmpi .sgt v168 v165
  let v170 : BitVec 32 := Scalar.extui v169
  let c0_i32_74 : BitVec 32 := 0#32
  let v171 : BitVec 1 := Scalar.cmpi .ne v170 c0_i32_74
  v171

def k0_off155 (i : grid0.Coords) (k0_t2 : Fin k0_t2_loop.trips) (v164 : BitVec 32) (v167 : BitVec 32) (k0_t21 : Fin (k0_t21_loop i k0_t2 v164 v167).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v165 : BitVec 32 := Scalar.maxsi v164 v75
  let c1_i32_85 : BitVec 32 := 1#32
  let arg19 : BitVec 32 := Scf.iv v165 c1_i32_85 k0_t21
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off156 (i : grid0.Coords) (k0_t2 : Fin k0_t2_loop.trips) (v164 : BitVec 32) (v167 : BitVec 32) (k0_t21 : Fin (k0_t21_loop i k0_t2 v164 v167).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v165 : BitVec 32 := Scalar.maxsi v164 v75
  let c1_i32_85 : BitVec 32 := 1#32
  let arg19 : BitVec 32 := Scf.iv v165 c1_i32_85 k0_t21
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off157 (i : grid0.Coords) (k0_t2 : Fin k0_t2_loop.trips) (v164 : BitVec 32) (v167 : BitVec 32) (k0_t21 : Fin (k0_t21_loop i k0_t2 v164 v167).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v165 : BitVec 32 := Scalar.maxsi v164 v75
  let c1_i32_85 : BitVec 32 := 1#32
  let arg19 : BitVec 32 := Scf.iv v165 c1_i32_85 k0_t21
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off158 (i : grid0.Coords) (k0_t2 : Fin k0_t2_loop.trips) (v164 : BitVec 32) (v167 : BitVec 32) (k0_t21 : Fin (k0_t21_loop i k0_t2 v164 v167).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v165 : BitVec 32 := Scalar.maxsi v164 v75
  let c1_i32_85 : BitVec 32 := 1#32
  let arg19 : BitVec 32 := Scf.iv v165 c1_i32_85 k0_t21
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off159 (i : grid0.Coords) (k0_t2 : Fin k0_t2_loop.trips) (v164 : BitVec 32) (v167 : BitVec 32) (k0_t21 : Fin (k0_t21_loop i k0_t2 v164 v167).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v165 : BitVec 32 := Scalar.maxsi v164 v75
  let c1_i32_85 : BitVec 32 := 1#32
  let arg19 : BitVec 32 := Scf.iv v165 c1_i32_85 k0_t21
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off160 (i : grid0.Coords) (k0_t2 : Fin k0_t2_loop.trips) (v164 : BitVec 32) (v167 : BitVec 32) (k0_t21 : Fin (k0_t21_loop i k0_t2 v164 v167).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v165 : BitVec 32 := Scalar.maxsi v164 v75
  let c1_i32_85 : BitVec 32 := 1#32
  let arg19 : BitVec 32 := Scf.iv v165 c1_i32_85 k0_t21
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off161 (i : grid0.Coords) (k0_t2 : Fin k0_t2_loop.trips) (v164 : BitVec 32) (v167 : BitVec 32) (k0_t21 : Fin (k0_t21_loop i k0_t2 v164 v167).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v165 : BitVec 32 := Scalar.maxsi v164 v75
  let c1_i32_85 : BitVec 32 := 1#32
  let arg19 : BitVec 32 := Scf.iv v165 c1_i32_85 k0_t21
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off162 (i : grid0.Coords) (k0_t2 : Fin k0_t2_loop.trips) (v164 : BitVec 32) (v167 : BitVec 32) (k0_t21 : Fin (k0_t21_loop i k0_t2 v164 v167).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v165 : BitVec 32 := Scalar.maxsi v164 v75
  let c1_i32_85 : BitVec 32 := 1#32
  let arg19 : BitVec 32 := Scf.iv v165 c1_i32_85 k0_t21
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]
@[reducible] def k0_t22_loop (i : grid0.Coords) (k0_t2 : Fin k0_t2_loop.trips) (v164 : BitVec 32) (v167 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v165 : BitVec 32 := Scalar.maxsi v164 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let v231 : BitVec 32 := Scalar.addi v165 v230
  let c1_i32_86 : BitVec 32 := 1#32
  ⟨v234, v231, c1_i32_86⟩
def k0_off163 (i : grid0.Coords) (k0_t2 : Fin k0_t2_loop.trips) (v164 : BitVec 32) (v167 : BitVec 32) (k0_t22 : Fin (k0_t22_loop i k0_t2 v164 v167).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v165 : BitVec 32 := Scalar.maxsi v164 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_86 : BitVec 32 := 1#32
  let arg19 : BitVec 32 := Scf.iv v234 c1_i32_86 k0_t22
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off164 (i : grid0.Coords) (k0_t2 : Fin k0_t2_loop.trips) (v164 : BitVec 32) (v167 : BitVec 32) (k0_t22 : Fin (k0_t22_loop i k0_t2 v164 v167).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v165 : BitVec 32 := Scalar.maxsi v164 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_86 : BitVec 32 := 1#32
  let arg19 : BitVec 32 := Scf.iv v234 c1_i32_86 k0_t22
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off165 (i : grid0.Coords) (k0_t2 : Fin k0_t2_loop.trips) (v164 : BitVec 32) (v167 : BitVec 32) (k0_t22 : Fin (k0_t22_loop i k0_t2 v164 v167).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v165 : BitVec 32 := Scalar.maxsi v164 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_86 : BitVec 32 := 1#32
  let arg19 : BitVec 32 := Scf.iv v234 c1_i32_86 k0_t22
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off166 (i : grid0.Coords) (k0_t2 : Fin k0_t2_loop.trips) (v164 : BitVec 32) (v167 : BitVec 32) (k0_t22 : Fin (k0_t22_loop i k0_t2 v164 v167).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v165 : BitVec 32 := Scalar.maxsi v164 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_86 : BitVec 32 := 1#32
  let arg19 : BitVec 32 := Scf.iv v234 c1_i32_86 k0_t22
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off167 (i : grid0.Coords) (k0_t2 : Fin k0_t2_loop.trips) (v164 : BitVec 32) (v167 : BitVec 32) (k0_t22 : Fin (k0_t22_loop i k0_t2 v164 v167).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v165 : BitVec 32 := Scalar.maxsi v164 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_86 : BitVec 32 := 1#32
  let arg19 : BitVec 32 := Scf.iv v234 c1_i32_86 k0_t22
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off168 (i : grid0.Coords) (k0_t2 : Fin k0_t2_loop.trips) (v164 : BitVec 32) (v167 : BitVec 32) (k0_t22 : Fin (k0_t22_loop i k0_t2 v164 v167).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v165 : BitVec 32 := Scalar.maxsi v164 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_86 : BitVec 32 := 1#32
  let arg19 : BitVec 32 := Scf.iv v234 c1_i32_86 k0_t22
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off169 (i : grid0.Coords) (k0_t2 : Fin k0_t2_loop.trips) (v164 : BitVec 32) (v167 : BitVec 32) (k0_t22 : Fin (k0_t22_loop i k0_t2 v164 v167).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v165 : BitVec 32 := Scalar.maxsi v164 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_86 : BitVec 32 := 1#32
  let arg19 : BitVec 32 := Scf.iv v234 c1_i32_86 k0_t22
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off170 (i : grid0.Coords) (k0_t2 : Fin k0_t2_loop.trips) (v164 : BitVec 32) (v167 : BitVec 32) (k0_t22 : Fin (k0_t22_loop i k0_t2 v164 v167).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v165 : BitVec 32 := Scalar.maxsi v164 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_86 : BitVec 32 := 1#32
  let arg19 : BitVec 32 := Scf.iv v234 c1_i32_86 k0_t22
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]

def k0_chk10 (i : grid0.Coords) (k0_t2 : Fin k0_t2_loop.trips) (v164 : BitVec 32) (v167 : BitVec 32) : Prop :=
  (∀ (k0_h1 : k0_cond1 k0_t2 = 1#1), ∀ (k0_h11 : k0_cond11 i k0_t2 v164 v167 = 1#1), (k0_t21_loop i k0_t2 v164 v167).OK) ∧
  (∀ k0_t21 : Fin (k0_t21_loop i k0_t2 v164 v167).trips, ∀ (k0_h1 : k0_cond1 k0_t2 = 1#1), ∀ (k0_h11 : k0_cond11 i k0_t2 v164 v167 = 1#1), ∀ a, (k0_off155 i k0_t2 v164 v167 k0_t21) a + S1x16.size a ≤ S256x128.size a) ∧
  (∀ k0_t21 : Fin (k0_t21_loop i k0_t2 v164 v167).trips, ∀ (k0_h1 : k0_cond1 k0_t2 = 1#1), ∀ (k0_h11 : k0_cond11 i k0_t2 v164 v167 = 1#1), ∀ a, (k0_off156 i k0_t2 v164 v167 k0_t21) a + S1x16.size a ≤ S256x128.size a) ∧
  (∀ k0_t21 : Fin (k0_t21_loop i k0_t2 v164 v167).trips, ∀ (k0_h1 : k0_cond1 k0_t2 = 1#1), ∀ (k0_h11 : k0_cond11 i k0_t2 v164 v167 = 1#1), ∀ a, (k0_off157 i k0_t2 v164 v167 k0_t21) a + S1x16.size a ≤ S256x128.size a) ∧
  (∀ k0_t21 : Fin (k0_t21_loop i k0_t2 v164 v167).trips, ∀ (k0_h1 : k0_cond1 k0_t2 = 1#1), ∀ (k0_h11 : k0_cond11 i k0_t2 v164 v167 = 1#1), ∀ a, (k0_off158 i k0_t2 v164 v167 k0_t21) a + S1x16.size a ≤ S256x128.size a) ∧
  (∀ k0_t21 : Fin (k0_t21_loop i k0_t2 v164 v167).trips, ∀ (k0_h1 : k0_cond1 k0_t2 = 1#1), ∀ (k0_h11 : k0_cond11 i k0_t2 v164 v167 = 1#1), ∀ a, (k0_off159 i k0_t2 v164 v167 k0_t21) a + S1x16.size a ≤ S256x128.size a) ∧
  (∀ k0_t21 : Fin (k0_t21_loop i k0_t2 v164 v167).trips, ∀ (k0_h1 : k0_cond1 k0_t2 = 1#1), ∀ (k0_h11 : k0_cond11 i k0_t2 v164 v167 = 1#1), ∀ a, (k0_off160 i k0_t2 v164 v167 k0_t21) a + S1x16.size a ≤ S256x128.size a) ∧
  (∀ k0_t21 : Fin (k0_t21_loop i k0_t2 v164 v167).trips, ∀ (k0_h1 : k0_cond1 k0_t2 = 1#1), ∀ (k0_h11 : k0_cond11 i k0_t2 v164 v167 = 1#1), ∀ a, (k0_off161 i k0_t2 v164 v167 k0_t21) a + S1x16.size a ≤ S256x128.size a) ∧
  (∀ k0_t21 : Fin (k0_t21_loop i k0_t2 v164 v167).trips, ∀ (k0_h1 : k0_cond1 k0_t2 = 1#1), ∀ (k0_h11 : k0_cond11 i k0_t2 v164 v167 = 1#1), ∀ a, (k0_off162 i k0_t2 v164 v167 k0_t21) a + S1x16.size a ≤ S256x128.size a) ∧
  (∀ (k0_h1 : k0_cond1 k0_t2 = 1#1), ∀ (k0_h11 : k0_cond11 i k0_t2 v164 v167 = 1#1), (k0_t22_loop i k0_t2 v164 v167).OK) ∧
  (∀ k0_t22 : Fin (k0_t22_loop i k0_t2 v164 v167).trips, ∀ (k0_h1 : k0_cond1 k0_t2 = 1#1), ∀ (k0_h11 : k0_cond11 i k0_t2 v164 v167 = 1#1), ∀ a, (k0_off163 i k0_t2 v164 v167 k0_t22) a + S1x16.size a ≤ S256x128.size a) ∧
  (∀ k0_t22 : Fin (k0_t22_loop i k0_t2 v164 v167).trips, ∀ (k0_h1 : k0_cond1 k0_t2 = 1#1), ∀ (k0_h11 : k0_cond11 i k0_t2 v164 v167 = 1#1), ∀ a, (k0_off164 i k0_t2 v164 v167 k0_t22) a + S1x16.size a ≤ S256x128.size a) ∧
  (∀ k0_t22 : Fin (k0_t22_loop i k0_t2 v164 v167).trips, ∀ (k0_h1 : k0_cond1 k0_t2 = 1#1), ∀ (k0_h11 : k0_cond11 i k0_t2 v164 v167 = 1#1), ∀ a, (k0_off165 i k0_t2 v164 v167 k0_t22) a + S1x16.size a ≤ S256x128.size a) ∧
  (∀ k0_t22 : Fin (k0_t22_loop i k0_t2 v164 v167).trips, ∀ (k0_h1 : k0_cond1 k0_t2 = 1#1), ∀ (k0_h11 : k0_cond11 i k0_t2 v164 v167 = 1#1), ∀ a, (k0_off166 i k0_t2 v164 v167 k0_t22) a + S1x16.size a ≤ S256x128.size a) ∧
  (∀ k0_t22 : Fin (k0_t22_loop i k0_t2 v164 v167).trips, ∀ (k0_h1 : k0_cond1 k0_t2 = 1#1), ∀ (k0_h11 : k0_cond11 i k0_t2 v164 v167 = 1#1), ∀ a, (k0_off167 i k0_t2 v164 v167 k0_t22) a + S1x16.size a ≤ S256x128.size a) ∧
  (∀ k0_t22 : Fin (k0_t22_loop i k0_t2 v164 v167).trips, ∀ (k0_h1 : k0_cond1 k0_t2 = 1#1), ∀ (k0_h11 : k0_cond11 i k0_t2 v164 v167 = 1#1), ∀ a, (k0_off168 i k0_t2 v164 v167 k0_t22) a + S1x16.size a ≤ S256x128.size a) ∧
  (∀ k0_t22 : Fin (k0_t22_loop i k0_t2 v164 v167).trips, ∀ (k0_h1 : k0_cond1 k0_t2 = 1#1), ∀ (k0_h11 : k0_cond11 i k0_t2 v164 v167 = 1#1), ∀ a, (k0_off169 i k0_t2 v164 v167 k0_t22) a + S1x16.size a ≤ S256x128.size a) ∧
  (∀ k0_t22 : Fin (k0_t22_loop i k0_t2 v164 v167).trips, ∀ (k0_h1 : k0_cond1 k0_t2 = 1#1), ∀ (k0_h11 : k0_cond11 i k0_t2 v164 v167 = 1#1), ∀ a, (k0_off170 i k0_t2 v164 v167 k0_t22) a + S1x16.size a ≤ S256x128.size a)
theorem k0_t21_ok : ∀ (i : grid0.Coords) (k0_t2 : Fin k0_t2_loop.trips) (v164 : BitVec 32) (v167 : BitVec 32) (k0_hw10 : k0_chk10 i k0_t2 v164 v167), ∀ (k0_h1 : k0_cond1 k0_t2 = 1#1), ∀ (k0_h11 : k0_cond11 i k0_t2 v164 v167 = 1#1), (k0_t21_loop i k0_t2 v164 v167).OK := fun i k0_t2 v164 v167 k0_hw10 k0_h1 k0_h11 => k0_hw10.1 k0_h1 k0_h11
theorem k0_off155_inb : ∀ (i : grid0.Coords) (k0_t2 : Fin k0_t2_loop.trips) (v164 : BitVec 32) (v167 : BitVec 32) (k0_hw10 : k0_chk10 i k0_t2 v164 v167) (k0_t21 : Fin (k0_t21_loop i k0_t2 v164 v167).trips), ∀ (k0_h1 : k0_cond1 k0_t2 = 1#1), ∀ (k0_h11 : k0_cond11 i k0_t2 v164 v167 = 1#1), ∀ a, (k0_off155 i k0_t2 v164 v167 k0_t21) a + S1x16.size a ≤ S256x128.size a := fun i k0_t2 v164 v167 k0_hw10 k0_t21 k0_h1 k0_h11 => k0_hw10.2.1 k0_t21 k0_h1 k0_h11
theorem k0_off156_inb : ∀ (i : grid0.Coords) (k0_t2 : Fin k0_t2_loop.trips) (v164 : BitVec 32) (v167 : BitVec 32) (k0_hw10 : k0_chk10 i k0_t2 v164 v167) (k0_t21 : Fin (k0_t21_loop i k0_t2 v164 v167).trips), ∀ (k0_h1 : k0_cond1 k0_t2 = 1#1), ∀ (k0_h11 : k0_cond11 i k0_t2 v164 v167 = 1#1), ∀ a, (k0_off156 i k0_t2 v164 v167 k0_t21) a + S1x16.size a ≤ S256x128.size a := fun i k0_t2 v164 v167 k0_hw10 k0_t21 k0_h1 k0_h11 => k0_hw10.2.2.1 k0_t21 k0_h1 k0_h11
theorem k0_off157_inb : ∀ (i : grid0.Coords) (k0_t2 : Fin k0_t2_loop.trips) (v164 : BitVec 32) (v167 : BitVec 32) (k0_hw10 : k0_chk10 i k0_t2 v164 v167) (k0_t21 : Fin (k0_t21_loop i k0_t2 v164 v167).trips), ∀ (k0_h1 : k0_cond1 k0_t2 = 1#1), ∀ (k0_h11 : k0_cond11 i k0_t2 v164 v167 = 1#1), ∀ a, (k0_off157 i k0_t2 v164 v167 k0_t21) a + S1x16.size a ≤ S256x128.size a := fun i k0_t2 v164 v167 k0_hw10 k0_t21 k0_h1 k0_h11 => k0_hw10.2.2.2.1 k0_t21 k0_h1 k0_h11
theorem k0_off158_inb : ∀ (i : grid0.Coords) (k0_t2 : Fin k0_t2_loop.trips) (v164 : BitVec 32) (v167 : BitVec 32) (k0_hw10 : k0_chk10 i k0_t2 v164 v167) (k0_t21 : Fin (k0_t21_loop i k0_t2 v164 v167).trips), ∀ (k0_h1 : k0_cond1 k0_t2 = 1#1), ∀ (k0_h11 : k0_cond11 i k0_t2 v164 v167 = 1#1), ∀ a, (k0_off158 i k0_t2 v164 v167 k0_t21) a + S1x16.size a ≤ S256x128.size a := fun i k0_t2 v164 v167 k0_hw10 k0_t21 k0_h1 k0_h11 => k0_hw10.2.2.2.2.1 k0_t21 k0_h1 k0_h11
theorem k0_off159_inb : ∀ (i : grid0.Coords) (k0_t2 : Fin k0_t2_loop.trips) (v164 : BitVec 32) (v167 : BitVec 32) (k0_hw10 : k0_chk10 i k0_t2 v164 v167) (k0_t21 : Fin (k0_t21_loop i k0_t2 v164 v167).trips), ∀ (k0_h1 : k0_cond1 k0_t2 = 1#1), ∀ (k0_h11 : k0_cond11 i k0_t2 v164 v167 = 1#1), ∀ a, (k0_off159 i k0_t2 v164 v167 k0_t21) a + S1x16.size a ≤ S256x128.size a := fun i k0_t2 v164 v167 k0_hw10 k0_t21 k0_h1 k0_h11 => k0_hw10.2.2.2.2.2.1 k0_t21 k0_h1 k0_h11
theorem k0_off160_inb : ∀ (i : grid0.Coords) (k0_t2 : Fin k0_t2_loop.trips) (v164 : BitVec 32) (v167 : BitVec 32) (k0_hw10 : k0_chk10 i k0_t2 v164 v167) (k0_t21 : Fin (k0_t21_loop i k0_t2 v164 v167).trips), ∀ (k0_h1 : k0_cond1 k0_t2 = 1#1), ∀ (k0_h11 : k0_cond11 i k0_t2 v164 v167 = 1#1), ∀ a, (k0_off160 i k0_t2 v164 v167 k0_t21) a + S1x16.size a ≤ S256x128.size a := fun i k0_t2 v164 v167 k0_hw10 k0_t21 k0_h1 k0_h11 => k0_hw10.2.2.2.2.2.2.1 k0_t21 k0_h1 k0_h11
theorem k0_off161_inb : ∀ (i : grid0.Coords) (k0_t2 : Fin k0_t2_loop.trips) (v164 : BitVec 32) (v167 : BitVec 32) (k0_hw10 : k0_chk10 i k0_t2 v164 v167) (k0_t21 : Fin (k0_t21_loop i k0_t2 v164 v167).trips), ∀ (k0_h1 : k0_cond1 k0_t2 = 1#1), ∀ (k0_h11 : k0_cond11 i k0_t2 v164 v167 = 1#1), ∀ a, (k0_off161 i k0_t2 v164 v167 k0_t21) a + S1x16.size a ≤ S256x128.size a := fun i k0_t2 v164 v167 k0_hw10 k0_t21 k0_h1 k0_h11 => k0_hw10.2.2.2.2.2.2.2.1 k0_t21 k0_h1 k0_h11
theorem k0_off162_inb : ∀ (i : grid0.Coords) (k0_t2 : Fin k0_t2_loop.trips) (v164 : BitVec 32) (v167 : BitVec 32) (k0_hw10 : k0_chk10 i k0_t2 v164 v167) (k0_t21 : Fin (k0_t21_loop i k0_t2 v164 v167).trips), ∀ (k0_h1 : k0_cond1 k0_t2 = 1#1), ∀ (k0_h11 : k0_cond11 i k0_t2 v164 v167 = 1#1), ∀ a, (k0_off162 i k0_t2 v164 v167 k0_t21) a + S1x16.size a ≤ S256x128.size a := fun i k0_t2 v164 v167 k0_hw10 k0_t21 k0_h1 k0_h11 => k0_hw10.2.2.2.2.2.2.2.2.1 k0_t21 k0_h1 k0_h11
theorem k0_t22_ok : ∀ (i : grid0.Coords) (k0_t2 : Fin k0_t2_loop.trips) (v164 : BitVec 32) (v167 : BitVec 32) (k0_hw10 : k0_chk10 i k0_t2 v164 v167), ∀ (k0_h1 : k0_cond1 k0_t2 = 1#1), ∀ (k0_h11 : k0_cond11 i k0_t2 v164 v167 = 1#1), (k0_t22_loop i k0_t2 v164 v167).OK := fun i k0_t2 v164 v167 k0_hw10 k0_h1 k0_h11 => k0_hw10.2.2.2.2.2.2.2.2.2.1 k0_h1 k0_h11
theorem k0_off163_inb : ∀ (i : grid0.Coords) (k0_t2 : Fin k0_t2_loop.trips) (v164 : BitVec 32) (v167 : BitVec 32) (k0_hw10 : k0_chk10 i k0_t2 v164 v167) (k0_t22 : Fin (k0_t22_loop i k0_t2 v164 v167).trips), ∀ (k0_h1 : k0_cond1 k0_t2 = 1#1), ∀ (k0_h11 : k0_cond11 i k0_t2 v164 v167 = 1#1), ∀ a, (k0_off163 i k0_t2 v164 v167 k0_t22) a + S1x16.size a ≤ S256x128.size a := fun i k0_t2 v164 v167 k0_hw10 k0_t22 k0_h1 k0_h11 => k0_hw10.2.2.2.2.2.2.2.2.2.2.1 k0_t22 k0_h1 k0_h11
theorem k0_off164_inb : ∀ (i : grid0.Coords) (k0_t2 : Fin k0_t2_loop.trips) (v164 : BitVec 32) (v167 : BitVec 32) (k0_hw10 : k0_chk10 i k0_t2 v164 v167) (k0_t22 : Fin (k0_t22_loop i k0_t2 v164 v167).trips), ∀ (k0_h1 : k0_cond1 k0_t2 = 1#1), ∀ (k0_h11 : k0_cond11 i k0_t2 v164 v167 = 1#1), ∀ a, (k0_off164 i k0_t2 v164 v167 k0_t22) a + S1x16.size a ≤ S256x128.size a := fun i k0_t2 v164 v167 k0_hw10 k0_t22 k0_h1 k0_h11 => k0_hw10.2.2.2.2.2.2.2.2.2.2.2.1 k0_t22 k0_h1 k0_h11
theorem k0_off165_inb : ∀ (i : grid0.Coords) (k0_t2 : Fin k0_t2_loop.trips) (v164 : BitVec 32) (v167 : BitVec 32) (k0_hw10 : k0_chk10 i k0_t2 v164 v167) (k0_t22 : Fin (k0_t22_loop i k0_t2 v164 v167).trips), ∀ (k0_h1 : k0_cond1 k0_t2 = 1#1), ∀ (k0_h11 : k0_cond11 i k0_t2 v164 v167 = 1#1), ∀ a, (k0_off165 i k0_t2 v164 v167 k0_t22) a + S1x16.size a ≤ S256x128.size a := fun i k0_t2 v164 v167 k0_hw10 k0_t22 k0_h1 k0_h11 => k0_hw10.2.2.2.2.2.2.2.2.2.2.2.2.1 k0_t22 k0_h1 k0_h11
theorem k0_off166_inb : ∀ (i : grid0.Coords) (k0_t2 : Fin k0_t2_loop.trips) (v164 : BitVec 32) (v167 : BitVec 32) (k0_hw10 : k0_chk10 i k0_t2 v164 v167) (k0_t22 : Fin (k0_t22_loop i k0_t2 v164 v167).trips), ∀ (k0_h1 : k0_cond1 k0_t2 = 1#1), ∀ (k0_h11 : k0_cond11 i k0_t2 v164 v167 = 1#1), ∀ a, (k0_off166 i k0_t2 v164 v167 k0_t22) a + S1x16.size a ≤ S256x128.size a := fun i k0_t2 v164 v167 k0_hw10 k0_t22 k0_h1 k0_h11 => k0_hw10.2.2.2.2.2.2.2.2.2.2.2.2.2.1 k0_t22 k0_h1 k0_h11
theorem k0_off167_inb : ∀ (i : grid0.Coords) (k0_t2 : Fin k0_t2_loop.trips) (v164 : BitVec 32) (v167 : BitVec 32) (k0_hw10 : k0_chk10 i k0_t2 v164 v167) (k0_t22 : Fin (k0_t22_loop i k0_t2 v164 v167).trips), ∀ (k0_h1 : k0_cond1 k0_t2 = 1#1), ∀ (k0_h11 : k0_cond11 i k0_t2 v164 v167 = 1#1), ∀ a, (k0_off167 i k0_t2 v164 v167 k0_t22) a + S1x16.size a ≤ S256x128.size a := fun i k0_t2 v164 v167 k0_hw10 k0_t22 k0_h1 k0_h11 => k0_hw10.2.2.2.2.2.2.2.2.2.2.2.2.2.2.1 k0_t22 k0_h1 k0_h11
theorem k0_off168_inb : ∀ (i : grid0.Coords) (k0_t2 : Fin k0_t2_loop.trips) (v164 : BitVec 32) (v167 : BitVec 32) (k0_hw10 : k0_chk10 i k0_t2 v164 v167) (k0_t22 : Fin (k0_t22_loop i k0_t2 v164 v167).trips), ∀ (k0_h1 : k0_cond1 k0_t2 = 1#1), ∀ (k0_h11 : k0_cond11 i k0_t2 v164 v167 = 1#1), ∀ a, (k0_off168 i k0_t2 v164 v167 k0_t22) a + S1x16.size a ≤ S256x128.size a := fun i k0_t2 v164 v167 k0_hw10 k0_t22 k0_h1 k0_h11 => k0_hw10.2.2.2.2.2.2.2.2.2.2.2.2.2.2.2.1 k0_t22 k0_h1 k0_h11
theorem k0_off169_inb : ∀ (i : grid0.Coords) (k0_t2 : Fin k0_t2_loop.trips) (v164 : BitVec 32) (v167 : BitVec 32) (k0_hw10 : k0_chk10 i k0_t2 v164 v167) (k0_t22 : Fin (k0_t22_loop i k0_t2 v164 v167).trips), ∀ (k0_h1 : k0_cond1 k0_t2 = 1#1), ∀ (k0_h11 : k0_cond11 i k0_t2 v164 v167 = 1#1), ∀ a, (k0_off169 i k0_t2 v164 v167 k0_t22) a + S1x16.size a ≤ S256x128.size a := fun i k0_t2 v164 v167 k0_hw10 k0_t22 k0_h1 k0_h11 => k0_hw10.2.2.2.2.2.2.2.2.2.2.2.2.2.2.2.2.1 k0_t22 k0_h1 k0_h11
theorem k0_off170_inb : ∀ (i : grid0.Coords) (k0_t2 : Fin k0_t2_loop.trips) (v164 : BitVec 32) (v167 : BitVec 32) (k0_hw10 : k0_chk10 i k0_t2 v164 v167) (k0_t22 : Fin (k0_t22_loop i k0_t2 v164 v167).trips), ∀ (k0_h1 : k0_cond1 k0_t2 = 1#1), ∀ (k0_h11 : k0_cond11 i k0_t2 v164 v167 = 1#1), ∀ a, (k0_off170 i k0_t2 v164 v167 k0_t22) a + S1x16.size a ≤ S256x128.size a := fun i k0_t2 v164 v167 k0_hw10 k0_t22 k0_h1 k0_h11 => k0_hw10.2.2.2.2.2.2.2.2.2.2.2.2.2.2.2.2.2 k0_t22 k0_h1 k0_h11

@[reducible] def k0_t23_loop (i : grid0.Coords) (k0_t2 : Fin k0_t2_loop.trips) (v173 : BitVec 32) (v176 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v174 : BitVec 32 := Scalar.maxsi v173 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_85 : BitVec 32 := 1#32
  ⟨v174, v234, c1_i32_85⟩
def k0_cond12 (i : grid0.Coords) (k0_t2 : Fin k0_t2_loop.trips) (v173 : BitVec 32) (v176 : BitVec 32) : BitVec 1 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v177 : BitVec 32 := Scalar.minsi v176 v77
  let v174 : BitVec 32 := Scalar.maxsi v173 v75
  let v178 : BitVec 1 := Scalar.cmpi .sgt v177 v174
  let v179 : BitVec 32 := Scalar.extui v178
  let c0_i32_75 : BitVec 32 := 0#32
  let v180 : BitVec 1 := Scalar.cmpi .ne v179 c0_i32_75
  v180

def k0_off171 (i : grid0.Coords) (k0_t2 : Fin k0_t2_loop.trips) (v173 : BitVec 32) (v176 : BitVec 32) (k0_t23 : Fin (k0_t23_loop i k0_t2 v173 v176).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v174 : BitVec 32 := Scalar.maxsi v173 v75
  let c1_i32_85 : BitVec 32 := 1#32
  let arg19 : BitVec 32 := Scf.iv v174 c1_i32_85 k0_t23
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off172 (i : grid0.Coords) (k0_t2 : Fin k0_t2_loop.trips) (v173 : BitVec 32) (v176 : BitVec 32) (k0_t23 : Fin (k0_t23_loop i k0_t2 v173 v176).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v174 : BitVec 32 := Scalar.maxsi v173 v75
  let c1_i32_85 : BitVec 32 := 1#32
  let arg19 : BitVec 32 := Scf.iv v174 c1_i32_85 k0_t23
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off173 (i : grid0.Coords) (k0_t2 : Fin k0_t2_loop.trips) (v173 : BitVec 32) (v176 : BitVec 32) (k0_t23 : Fin (k0_t23_loop i k0_t2 v173 v176).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v174 : BitVec 32 := Scalar.maxsi v173 v75
  let c1_i32_85 : BitVec 32 := 1#32
  let arg19 : BitVec 32 := Scf.iv v174 c1_i32_85 k0_t23
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off174 (i : grid0.Coords) (k0_t2 : Fin k0_t2_loop.trips) (v173 : BitVec 32) (v176 : BitVec 32) (k0_t23 : Fin (k0_t23_loop i k0_t2 v173 v176).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v174 : BitVec 32 := Scalar.maxsi v173 v75
  let c1_i32_85 : BitVec 32 := 1#32
  let arg19 : BitVec 32 := Scf.iv v174 c1_i32_85 k0_t23
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off175 (i : grid0.Coords) (k0_t2 : Fin k0_t2_loop.trips) (v173 : BitVec 32) (v176 : BitVec 32) (k0_t23 : Fin (k0_t23_loop i k0_t2 v173 v176).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v174 : BitVec 32 := Scalar.maxsi v173 v75
  let c1_i32_85 : BitVec 32 := 1#32
  let arg19 : BitVec 32 := Scf.iv v174 c1_i32_85 k0_t23
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off176 (i : grid0.Coords) (k0_t2 : Fin k0_t2_loop.trips) (v173 : BitVec 32) (v176 : BitVec 32) (k0_t23 : Fin (k0_t23_loop i k0_t2 v173 v176).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v174 : BitVec 32 := Scalar.maxsi v173 v75
  let c1_i32_85 : BitVec 32 := 1#32
  let arg19 : BitVec 32 := Scf.iv v174 c1_i32_85 k0_t23
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off177 (i : grid0.Coords) (k0_t2 : Fin k0_t2_loop.trips) (v173 : BitVec 32) (v176 : BitVec 32) (k0_t23 : Fin (k0_t23_loop i k0_t2 v173 v176).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v174 : BitVec 32 := Scalar.maxsi v173 v75
  let c1_i32_85 : BitVec 32 := 1#32
  let arg19 : BitVec 32 := Scf.iv v174 c1_i32_85 k0_t23
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off178 (i : grid0.Coords) (k0_t2 : Fin k0_t2_loop.trips) (v173 : BitVec 32) (v176 : BitVec 32) (k0_t23 : Fin (k0_t23_loop i k0_t2 v173 v176).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v174 : BitVec 32 := Scalar.maxsi v173 v75
  let c1_i32_85 : BitVec 32 := 1#32
  let arg19 : BitVec 32 := Scf.iv v174 c1_i32_85 k0_t23
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]
@[reducible] def k0_t24_loop (i : grid0.Coords) (k0_t2 : Fin k0_t2_loop.trips) (v173 : BitVec 32) (v176 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v174 : BitVec 32 := Scalar.maxsi v173 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let v231 : BitVec 32 := Scalar.addi v174 v230
  let c1_i32_86 : BitVec 32 := 1#32
  ⟨v234, v231, c1_i32_86⟩
def k0_off179 (i : grid0.Coords) (k0_t2 : Fin k0_t2_loop.trips) (v173 : BitVec 32) (v176 : BitVec 32) (k0_t24 : Fin (k0_t24_loop i k0_t2 v173 v176).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v174 : BitVec 32 := Scalar.maxsi v173 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_86 : BitVec 32 := 1#32
  let arg19 : BitVec 32 := Scf.iv v234 c1_i32_86 k0_t24
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off180 (i : grid0.Coords) (k0_t2 : Fin k0_t2_loop.trips) (v173 : BitVec 32) (v176 : BitVec 32) (k0_t24 : Fin (k0_t24_loop i k0_t2 v173 v176).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v174 : BitVec 32 := Scalar.maxsi v173 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_86 : BitVec 32 := 1#32
  let arg19 : BitVec 32 := Scf.iv v234 c1_i32_86 k0_t24
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off181 (i : grid0.Coords) (k0_t2 : Fin k0_t2_loop.trips) (v173 : BitVec 32) (v176 : BitVec 32) (k0_t24 : Fin (k0_t24_loop i k0_t2 v173 v176).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v174 : BitVec 32 := Scalar.maxsi v173 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_86 : BitVec 32 := 1#32
  let arg19 : BitVec 32 := Scf.iv v234 c1_i32_86 k0_t24
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off182 (i : grid0.Coords) (k0_t2 : Fin k0_t2_loop.trips) (v173 : BitVec 32) (v176 : BitVec 32) (k0_t24 : Fin (k0_t24_loop i k0_t2 v173 v176).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v174 : BitVec 32 := Scalar.maxsi v173 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_86 : BitVec 32 := 1#32
  let arg19 : BitVec 32 := Scf.iv v234 c1_i32_86 k0_t24
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off183 (i : grid0.Coords) (k0_t2 : Fin k0_t2_loop.trips) (v173 : BitVec 32) (v176 : BitVec 32) (k0_t24 : Fin (k0_t24_loop i k0_t2 v173 v176).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v174 : BitVec 32 := Scalar.maxsi v173 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_86 : BitVec 32 := 1#32
  let arg19 : BitVec 32 := Scf.iv v234 c1_i32_86 k0_t24
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off184 (i : grid0.Coords) (k0_t2 : Fin k0_t2_loop.trips) (v173 : BitVec 32) (v176 : BitVec 32) (k0_t24 : Fin (k0_t24_loop i k0_t2 v173 v176).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v174 : BitVec 32 := Scalar.maxsi v173 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_86 : BitVec 32 := 1#32
  let arg19 : BitVec 32 := Scf.iv v234 c1_i32_86 k0_t24
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off185 (i : grid0.Coords) (k0_t2 : Fin k0_t2_loop.trips) (v173 : BitVec 32) (v176 : BitVec 32) (k0_t24 : Fin (k0_t24_loop i k0_t2 v173 v176).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v174 : BitVec 32 := Scalar.maxsi v173 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_86 : BitVec 32 := 1#32
  let arg19 : BitVec 32 := Scf.iv v234 c1_i32_86 k0_t24
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off186 (i : grid0.Coords) (k0_t2 : Fin k0_t2_loop.trips) (v173 : BitVec 32) (v176 : BitVec 32) (k0_t24 : Fin (k0_t24_loop i k0_t2 v173 v176).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v174 : BitVec 32 := Scalar.maxsi v173 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_86 : BitVec 32 := 1#32
  let arg19 : BitVec 32 := Scf.iv v234 c1_i32_86 k0_t24
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]

def k0_chk11 (i : grid0.Coords) (k0_t2 : Fin k0_t2_loop.trips) (v173 : BitVec 32) (v176 : BitVec 32) : Prop :=
  (∀ (k0_h1 : k0_cond1 k0_t2 = 1#1), ∀ (k0_h12 : k0_cond12 i k0_t2 v173 v176 = 1#1), (k0_t23_loop i k0_t2 v173 v176).OK) ∧
  (∀ k0_t23 : Fin (k0_t23_loop i k0_t2 v173 v176).trips, ∀ (k0_h1 : k0_cond1 k0_t2 = 1#1), ∀ (k0_h12 : k0_cond12 i k0_t2 v173 v176 = 1#1), ∀ a, (k0_off171 i k0_t2 v173 v176 k0_t23) a + S1x16.size a ≤ S256x128.size a) ∧
  (∀ k0_t23 : Fin (k0_t23_loop i k0_t2 v173 v176).trips, ∀ (k0_h1 : k0_cond1 k0_t2 = 1#1), ∀ (k0_h12 : k0_cond12 i k0_t2 v173 v176 = 1#1), ∀ a, (k0_off172 i k0_t2 v173 v176 k0_t23) a + S1x16.size a ≤ S256x128.size a) ∧
  (∀ k0_t23 : Fin (k0_t23_loop i k0_t2 v173 v176).trips, ∀ (k0_h1 : k0_cond1 k0_t2 = 1#1), ∀ (k0_h12 : k0_cond12 i k0_t2 v173 v176 = 1#1), ∀ a, (k0_off173 i k0_t2 v173 v176 k0_t23) a + S1x16.size a ≤ S256x128.size a) ∧
  (∀ k0_t23 : Fin (k0_t23_loop i k0_t2 v173 v176).trips, ∀ (k0_h1 : k0_cond1 k0_t2 = 1#1), ∀ (k0_h12 : k0_cond12 i k0_t2 v173 v176 = 1#1), ∀ a, (k0_off174 i k0_t2 v173 v176 k0_t23) a + S1x16.size a ≤ S256x128.size a) ∧
  (∀ k0_t23 : Fin (k0_t23_loop i k0_t2 v173 v176).trips, ∀ (k0_h1 : k0_cond1 k0_t2 = 1#1), ∀ (k0_h12 : k0_cond12 i k0_t2 v173 v176 = 1#1), ∀ a, (k0_off175 i k0_t2 v173 v176 k0_t23) a + S1x16.size a ≤ S256x128.size a) ∧
  (∀ k0_t23 : Fin (k0_t23_loop i k0_t2 v173 v176).trips, ∀ (k0_h1 : k0_cond1 k0_t2 = 1#1), ∀ (k0_h12 : k0_cond12 i k0_t2 v173 v176 = 1#1), ∀ a, (k0_off176 i k0_t2 v173 v176 k0_t23) a + S1x16.size a ≤ S256x128.size a) ∧
  (∀ k0_t23 : Fin (k0_t23_loop i k0_t2 v173 v176).trips, ∀ (k0_h1 : k0_cond1 k0_t2 = 1#1), ∀ (k0_h12 : k0_cond12 i k0_t2 v173 v176 = 1#1), ∀ a, (k0_off177 i k0_t2 v173 v176 k0_t23) a + S1x16.size a ≤ S256x128.size a) ∧
  (∀ k0_t23 : Fin (k0_t23_loop i k0_t2 v173 v176).trips, ∀ (k0_h1 : k0_cond1 k0_t2 = 1#1), ∀ (k0_h12 : k0_cond12 i k0_t2 v173 v176 = 1#1), ∀ a, (k0_off178 i k0_t2 v173 v176 k0_t23) a + S1x16.size a ≤ S256x128.size a) ∧
  (∀ (k0_h1 : k0_cond1 k0_t2 = 1#1), ∀ (k0_h12 : k0_cond12 i k0_t2 v173 v176 = 1#1), (k0_t24_loop i k0_t2 v173 v176).OK) ∧
  (∀ k0_t24 : Fin (k0_t24_loop i k0_t2 v173 v176).trips, ∀ (k0_h1 : k0_cond1 k0_t2 = 1#1), ∀ (k0_h12 : k0_cond12 i k0_t2 v173 v176 = 1#1), ∀ a, (k0_off179 i k0_t2 v173 v176 k0_t24) a + S1x16.size a ≤ S256x128.size a) ∧
  (∀ k0_t24 : Fin (k0_t24_loop i k0_t2 v173 v176).trips, ∀ (k0_h1 : k0_cond1 k0_t2 = 1#1), ∀ (k0_h12 : k0_cond12 i k0_t2 v173 v176 = 1#1), ∀ a, (k0_off180 i k0_t2 v173 v176 k0_t24) a + S1x16.size a ≤ S256x128.size a) ∧
  (∀ k0_t24 : Fin (k0_t24_loop i k0_t2 v173 v176).trips, ∀ (k0_h1 : k0_cond1 k0_t2 = 1#1), ∀ (k0_h12 : k0_cond12 i k0_t2 v173 v176 = 1#1), ∀ a, (k0_off181 i k0_t2 v173 v176 k0_t24) a + S1x16.size a ≤ S256x128.size a) ∧
  (∀ k0_t24 : Fin (k0_t24_loop i k0_t2 v173 v176).trips, ∀ (k0_h1 : k0_cond1 k0_t2 = 1#1), ∀ (k0_h12 : k0_cond12 i k0_t2 v173 v176 = 1#1), ∀ a, (k0_off182 i k0_t2 v173 v176 k0_t24) a + S1x16.size a ≤ S256x128.size a) ∧
  (∀ k0_t24 : Fin (k0_t24_loop i k0_t2 v173 v176).trips, ∀ (k0_h1 : k0_cond1 k0_t2 = 1#1), ∀ (k0_h12 : k0_cond12 i k0_t2 v173 v176 = 1#1), ∀ a, (k0_off183 i k0_t2 v173 v176 k0_t24) a + S1x16.size a ≤ S256x128.size a) ∧
  (∀ k0_t24 : Fin (k0_t24_loop i k0_t2 v173 v176).trips, ∀ (k0_h1 : k0_cond1 k0_t2 = 1#1), ∀ (k0_h12 : k0_cond12 i k0_t2 v173 v176 = 1#1), ∀ a, (k0_off184 i k0_t2 v173 v176 k0_t24) a + S1x16.size a ≤ S256x128.size a) ∧
  (∀ k0_t24 : Fin (k0_t24_loop i k0_t2 v173 v176).trips, ∀ (k0_h1 : k0_cond1 k0_t2 = 1#1), ∀ (k0_h12 : k0_cond12 i k0_t2 v173 v176 = 1#1), ∀ a, (k0_off185 i k0_t2 v173 v176 k0_t24) a + S1x16.size a ≤ S256x128.size a) ∧
  (∀ k0_t24 : Fin (k0_t24_loop i k0_t2 v173 v176).trips, ∀ (k0_h1 : k0_cond1 k0_t2 = 1#1), ∀ (k0_h12 : k0_cond12 i k0_t2 v173 v176 = 1#1), ∀ a, (k0_off186 i k0_t2 v173 v176 k0_t24) a + S1x16.size a ≤ S256x128.size a)
theorem k0_t23_ok : ∀ (i : grid0.Coords) (k0_t2 : Fin k0_t2_loop.trips) (v173 : BitVec 32) (v176 : BitVec 32) (k0_hw11 : k0_chk11 i k0_t2 v173 v176), ∀ (k0_h1 : k0_cond1 k0_t2 = 1#1), ∀ (k0_h12 : k0_cond12 i k0_t2 v173 v176 = 1#1), (k0_t23_loop i k0_t2 v173 v176).OK := fun i k0_t2 v173 v176 k0_hw11 k0_h1 k0_h12 => k0_hw11.1 k0_h1 k0_h12
theorem k0_off171_inb : ∀ (i : grid0.Coords) (k0_t2 : Fin k0_t2_loop.trips) (v173 : BitVec 32) (v176 : BitVec 32) (k0_hw11 : k0_chk11 i k0_t2 v173 v176) (k0_t23 : Fin (k0_t23_loop i k0_t2 v173 v176).trips), ∀ (k0_h1 : k0_cond1 k0_t2 = 1#1), ∀ (k0_h12 : k0_cond12 i k0_t2 v173 v176 = 1#1), ∀ a, (k0_off171 i k0_t2 v173 v176 k0_t23) a + S1x16.size a ≤ S256x128.size a := fun i k0_t2 v173 v176 k0_hw11 k0_t23 k0_h1 k0_h12 => k0_hw11.2.1 k0_t23 k0_h1 k0_h12
theorem k0_off172_inb : ∀ (i : grid0.Coords) (k0_t2 : Fin k0_t2_loop.trips) (v173 : BitVec 32) (v176 : BitVec 32) (k0_hw11 : k0_chk11 i k0_t2 v173 v176) (k0_t23 : Fin (k0_t23_loop i k0_t2 v173 v176).trips), ∀ (k0_h1 : k0_cond1 k0_t2 = 1#1), ∀ (k0_h12 : k0_cond12 i k0_t2 v173 v176 = 1#1), ∀ a, (k0_off172 i k0_t2 v173 v176 k0_t23) a + S1x16.size a ≤ S256x128.size a := fun i k0_t2 v173 v176 k0_hw11 k0_t23 k0_h1 k0_h12 => k0_hw11.2.2.1 k0_t23 k0_h1 k0_h12
theorem k0_off173_inb : ∀ (i : grid0.Coords) (k0_t2 : Fin k0_t2_loop.trips) (v173 : BitVec 32) (v176 : BitVec 32) (k0_hw11 : k0_chk11 i k0_t2 v173 v176) (k0_t23 : Fin (k0_t23_loop i k0_t2 v173 v176).trips), ∀ (k0_h1 : k0_cond1 k0_t2 = 1#1), ∀ (k0_h12 : k0_cond12 i k0_t2 v173 v176 = 1#1), ∀ a, (k0_off173 i k0_t2 v173 v176 k0_t23) a + S1x16.size a ≤ S256x128.size a := fun i k0_t2 v173 v176 k0_hw11 k0_t23 k0_h1 k0_h12 => k0_hw11.2.2.2.1 k0_t23 k0_h1 k0_h12
theorem k0_off174_inb : ∀ (i : grid0.Coords) (k0_t2 : Fin k0_t2_loop.trips) (v173 : BitVec 32) (v176 : BitVec 32) (k0_hw11 : k0_chk11 i k0_t2 v173 v176) (k0_t23 : Fin (k0_t23_loop i k0_t2 v173 v176).trips), ∀ (k0_h1 : k0_cond1 k0_t2 = 1#1), ∀ (k0_h12 : k0_cond12 i k0_t2 v173 v176 = 1#1), ∀ a, (k0_off174 i k0_t2 v173 v176 k0_t23) a + S1x16.size a ≤ S256x128.size a := fun i k0_t2 v173 v176 k0_hw11 k0_t23 k0_h1 k0_h12 => k0_hw11.2.2.2.2.1 k0_t23 k0_h1 k0_h12
theorem k0_off175_inb : ∀ (i : grid0.Coords) (k0_t2 : Fin k0_t2_loop.trips) (v173 : BitVec 32) (v176 : BitVec 32) (k0_hw11 : k0_chk11 i k0_t2 v173 v176) (k0_t23 : Fin (k0_t23_loop i k0_t2 v173 v176).trips), ∀ (k0_h1 : k0_cond1 k0_t2 = 1#1), ∀ (k0_h12 : k0_cond12 i k0_t2 v173 v176 = 1#1), ∀ a, (k0_off175 i k0_t2 v173 v176 k0_t23) a + S1x16.size a ≤ S256x128.size a := fun i k0_t2 v173 v176 k0_hw11 k0_t23 k0_h1 k0_h12 => k0_hw11.2.2.2.2.2.1 k0_t23 k0_h1 k0_h12
theorem k0_off176_inb : ∀ (i : grid0.Coords) (k0_t2 : Fin k0_t2_loop.trips) (v173 : BitVec 32) (v176 : BitVec 32) (k0_hw11 : k0_chk11 i k0_t2 v173 v176) (k0_t23 : Fin (k0_t23_loop i k0_t2 v173 v176).trips), ∀ (k0_h1 : k0_cond1 k0_t2 = 1#1), ∀ (k0_h12 : k0_cond12 i k0_t2 v173 v176 = 1#1), ∀ a, (k0_off176 i k0_t2 v173 v176 k0_t23) a + S1x16.size a ≤ S256x128.size a := fun i k0_t2 v173 v176 k0_hw11 k0_t23 k0_h1 k0_h12 => k0_hw11.2.2.2.2.2.2.1 k0_t23 k0_h1 k0_h12
theorem k0_off177_inb : ∀ (i : grid0.Coords) (k0_t2 : Fin k0_t2_loop.trips) (v173 : BitVec 32) (v176 : BitVec 32) (k0_hw11 : k0_chk11 i k0_t2 v173 v176) (k0_t23 : Fin (k0_t23_loop i k0_t2 v173 v176).trips), ∀ (k0_h1 : k0_cond1 k0_t2 = 1#1), ∀ (k0_h12 : k0_cond12 i k0_t2 v173 v176 = 1#1), ∀ a, (k0_off177 i k0_t2 v173 v176 k0_t23) a + S1x16.size a ≤ S256x128.size a := fun i k0_t2 v173 v176 k0_hw11 k0_t23 k0_h1 k0_h12 => k0_hw11.2.2.2.2.2.2.2.1 k0_t23 k0_h1 k0_h12
theorem k0_off178_inb : ∀ (i : grid0.Coords) (k0_t2 : Fin k0_t2_loop.trips) (v173 : BitVec 32) (v176 : BitVec 32) (k0_hw11 : k0_chk11 i k0_t2 v173 v176) (k0_t23 : Fin (k0_t23_loop i k0_t2 v173 v176).trips), ∀ (k0_h1 : k0_cond1 k0_t2 = 1#1), ∀ (k0_h12 : k0_cond12 i k0_t2 v173 v176 = 1#1), ∀ a, (k0_off178 i k0_t2 v173 v176 k0_t23) a + S1x16.size a ≤ S256x128.size a := fun i k0_t2 v173 v176 k0_hw11 k0_t23 k0_h1 k0_h12 => k0_hw11.2.2.2.2.2.2.2.2.1 k0_t23 k0_h1 k0_h12
theorem k0_t24_ok : ∀ (i : grid0.Coords) (k0_t2 : Fin k0_t2_loop.trips) (v173 : BitVec 32) (v176 : BitVec 32) (k0_hw11 : k0_chk11 i k0_t2 v173 v176), ∀ (k0_h1 : k0_cond1 k0_t2 = 1#1), ∀ (k0_h12 : k0_cond12 i k0_t2 v173 v176 = 1#1), (k0_t24_loop i k0_t2 v173 v176).OK := fun i k0_t2 v173 v176 k0_hw11 k0_h1 k0_h12 => k0_hw11.2.2.2.2.2.2.2.2.2.1 k0_h1 k0_h12
theorem k0_off179_inb : ∀ (i : grid0.Coords) (k0_t2 : Fin k0_t2_loop.trips) (v173 : BitVec 32) (v176 : BitVec 32) (k0_hw11 : k0_chk11 i k0_t2 v173 v176) (k0_t24 : Fin (k0_t24_loop i k0_t2 v173 v176).trips), ∀ (k0_h1 : k0_cond1 k0_t2 = 1#1), ∀ (k0_h12 : k0_cond12 i k0_t2 v173 v176 = 1#1), ∀ a, (k0_off179 i k0_t2 v173 v176 k0_t24) a + S1x16.size a ≤ S256x128.size a := fun i k0_t2 v173 v176 k0_hw11 k0_t24 k0_h1 k0_h12 => k0_hw11.2.2.2.2.2.2.2.2.2.2.1 k0_t24 k0_h1 k0_h12
theorem k0_off180_inb : ∀ (i : grid0.Coords) (k0_t2 : Fin k0_t2_loop.trips) (v173 : BitVec 32) (v176 : BitVec 32) (k0_hw11 : k0_chk11 i k0_t2 v173 v176) (k0_t24 : Fin (k0_t24_loop i k0_t2 v173 v176).trips), ∀ (k0_h1 : k0_cond1 k0_t2 = 1#1), ∀ (k0_h12 : k0_cond12 i k0_t2 v173 v176 = 1#1), ∀ a, (k0_off180 i k0_t2 v173 v176 k0_t24) a + S1x16.size a ≤ S256x128.size a := fun i k0_t2 v173 v176 k0_hw11 k0_t24 k0_h1 k0_h12 => k0_hw11.2.2.2.2.2.2.2.2.2.2.2.1 k0_t24 k0_h1 k0_h12
theorem k0_off181_inb : ∀ (i : grid0.Coords) (k0_t2 : Fin k0_t2_loop.trips) (v173 : BitVec 32) (v176 : BitVec 32) (k0_hw11 : k0_chk11 i k0_t2 v173 v176) (k0_t24 : Fin (k0_t24_loop i k0_t2 v173 v176).trips), ∀ (k0_h1 : k0_cond1 k0_t2 = 1#1), ∀ (k0_h12 : k0_cond12 i k0_t2 v173 v176 = 1#1), ∀ a, (k0_off181 i k0_t2 v173 v176 k0_t24) a + S1x16.size a ≤ S256x128.size a := fun i k0_t2 v173 v176 k0_hw11 k0_t24 k0_h1 k0_h12 => k0_hw11.2.2.2.2.2.2.2.2.2.2.2.2.1 k0_t24 k0_h1 k0_h12
theorem k0_off182_inb : ∀ (i : grid0.Coords) (k0_t2 : Fin k0_t2_loop.trips) (v173 : BitVec 32) (v176 : BitVec 32) (k0_hw11 : k0_chk11 i k0_t2 v173 v176) (k0_t24 : Fin (k0_t24_loop i k0_t2 v173 v176).trips), ∀ (k0_h1 : k0_cond1 k0_t2 = 1#1), ∀ (k0_h12 : k0_cond12 i k0_t2 v173 v176 = 1#1), ∀ a, (k0_off182 i k0_t2 v173 v176 k0_t24) a + S1x16.size a ≤ S256x128.size a := fun i k0_t2 v173 v176 k0_hw11 k0_t24 k0_h1 k0_h12 => k0_hw11.2.2.2.2.2.2.2.2.2.2.2.2.2.1 k0_t24 k0_h1 k0_h12
theorem k0_off183_inb : ∀ (i : grid0.Coords) (k0_t2 : Fin k0_t2_loop.trips) (v173 : BitVec 32) (v176 : BitVec 32) (k0_hw11 : k0_chk11 i k0_t2 v173 v176) (k0_t24 : Fin (k0_t24_loop i k0_t2 v173 v176).trips), ∀ (k0_h1 : k0_cond1 k0_t2 = 1#1), ∀ (k0_h12 : k0_cond12 i k0_t2 v173 v176 = 1#1), ∀ a, (k0_off183 i k0_t2 v173 v176 k0_t24) a + S1x16.size a ≤ S256x128.size a := fun i k0_t2 v173 v176 k0_hw11 k0_t24 k0_h1 k0_h12 => k0_hw11.2.2.2.2.2.2.2.2.2.2.2.2.2.2.1 k0_t24 k0_h1 k0_h12
theorem k0_off184_inb : ∀ (i : grid0.Coords) (k0_t2 : Fin k0_t2_loop.trips) (v173 : BitVec 32) (v176 : BitVec 32) (k0_hw11 : k0_chk11 i k0_t2 v173 v176) (k0_t24 : Fin (k0_t24_loop i k0_t2 v173 v176).trips), ∀ (k0_h1 : k0_cond1 k0_t2 = 1#1), ∀ (k0_h12 : k0_cond12 i k0_t2 v173 v176 = 1#1), ∀ a, (k0_off184 i k0_t2 v173 v176 k0_t24) a + S1x16.size a ≤ S256x128.size a := fun i k0_t2 v173 v176 k0_hw11 k0_t24 k0_h1 k0_h12 => k0_hw11.2.2.2.2.2.2.2.2.2.2.2.2.2.2.2.1 k0_t24 k0_h1 k0_h12
theorem k0_off185_inb : ∀ (i : grid0.Coords) (k0_t2 : Fin k0_t2_loop.trips) (v173 : BitVec 32) (v176 : BitVec 32) (k0_hw11 : k0_chk11 i k0_t2 v173 v176) (k0_t24 : Fin (k0_t24_loop i k0_t2 v173 v176).trips), ∀ (k0_h1 : k0_cond1 k0_t2 = 1#1), ∀ (k0_h12 : k0_cond12 i k0_t2 v173 v176 = 1#1), ∀ a, (k0_off185 i k0_t2 v173 v176 k0_t24) a + S1x16.size a ≤ S256x128.size a := fun i k0_t2 v173 v176 k0_hw11 k0_t24 k0_h1 k0_h12 => k0_hw11.2.2.2.2.2.2.2.2.2.2.2.2.2.2.2.2.1 k0_t24 k0_h1 k0_h12
theorem k0_off186_inb : ∀ (i : grid0.Coords) (k0_t2 : Fin k0_t2_loop.trips) (v173 : BitVec 32) (v176 : BitVec 32) (k0_hw11 : k0_chk11 i k0_t2 v173 v176) (k0_t24 : Fin (k0_t24_loop i k0_t2 v173 v176).trips), ∀ (k0_h1 : k0_cond1 k0_t2 = 1#1), ∀ (k0_h12 : k0_cond12 i k0_t2 v173 v176 = 1#1), ∀ a, (k0_off186 i k0_t2 v173 v176 k0_t24) a + S1x16.size a ≤ S256x128.size a := fun i k0_t2 v173 v176 k0_hw11 k0_t24 k0_h1 k0_h12 => k0_hw11.2.2.2.2.2.2.2.2.2.2.2.2.2.2.2.2.2 k0_t24 k0_h1 k0_h12

@[reducible] def k0_t25_loop (i : grid0.Coords) (k0_t2 : Fin k0_t2_loop.trips) (v182 : BitVec 32) (v185 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v183 : BitVec 32 := Scalar.maxsi v182 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_85 : BitVec 32 := 1#32
  ⟨v183, v234, c1_i32_85⟩
def k0_cond13 (i : grid0.Coords) (k0_t2 : Fin k0_t2_loop.trips) (v182 : BitVec 32) (v185 : BitVec 32) : BitVec 1 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v186 : BitVec 32 := Scalar.minsi v185 v77
  let v183 : BitVec 32 := Scalar.maxsi v182 v75
  let v187 : BitVec 1 := Scalar.cmpi .sgt v186 v183
  let v188 : BitVec 32 := Scalar.extui v187
  let c0_i32_76 : BitVec 32 := 0#32
  let v189 : BitVec 1 := Scalar.cmpi .ne v188 c0_i32_76
  v189

def k0_off187 (i : grid0.Coords) (k0_t2 : Fin k0_t2_loop.trips) (v182 : BitVec 32) (v185 : BitVec 32) (k0_t25 : Fin (k0_t25_loop i k0_t2 v182 v185).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v183 : BitVec 32 := Scalar.maxsi v182 v75
  let c1_i32_85 : BitVec 32 := 1#32
  let arg19 : BitVec 32 := Scf.iv v183 c1_i32_85 k0_t25
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off188 (i : grid0.Coords) (k0_t2 : Fin k0_t2_loop.trips) (v182 : BitVec 32) (v185 : BitVec 32) (k0_t25 : Fin (k0_t25_loop i k0_t2 v182 v185).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v183 : BitVec 32 := Scalar.maxsi v182 v75
  let c1_i32_85 : BitVec 32 := 1#32
  let arg19 : BitVec 32 := Scf.iv v183 c1_i32_85 k0_t25
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off189 (i : grid0.Coords) (k0_t2 : Fin k0_t2_loop.trips) (v182 : BitVec 32) (v185 : BitVec 32) (k0_t25 : Fin (k0_t25_loop i k0_t2 v182 v185).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v183 : BitVec 32 := Scalar.maxsi v182 v75
  let c1_i32_85 : BitVec 32 := 1#32
  let arg19 : BitVec 32 := Scf.iv v183 c1_i32_85 k0_t25
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off190 (i : grid0.Coords) (k0_t2 : Fin k0_t2_loop.trips) (v182 : BitVec 32) (v185 : BitVec 32) (k0_t25 : Fin (k0_t25_loop i k0_t2 v182 v185).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v183 : BitVec 32 := Scalar.maxsi v182 v75
  let c1_i32_85 : BitVec 32 := 1#32
  let arg19 : BitVec 32 := Scf.iv v183 c1_i32_85 k0_t25
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off191 (i : grid0.Coords) (k0_t2 : Fin k0_t2_loop.trips) (v182 : BitVec 32) (v185 : BitVec 32) (k0_t25 : Fin (k0_t25_loop i k0_t2 v182 v185).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v183 : BitVec 32 := Scalar.maxsi v182 v75
  let c1_i32_85 : BitVec 32 := 1#32
  let arg19 : BitVec 32 := Scf.iv v183 c1_i32_85 k0_t25
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off192 (i : grid0.Coords) (k0_t2 : Fin k0_t2_loop.trips) (v182 : BitVec 32) (v185 : BitVec 32) (k0_t25 : Fin (k0_t25_loop i k0_t2 v182 v185).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v183 : BitVec 32 := Scalar.maxsi v182 v75
  let c1_i32_85 : BitVec 32 := 1#32
  let arg19 : BitVec 32 := Scf.iv v183 c1_i32_85 k0_t25
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off193 (i : grid0.Coords) (k0_t2 : Fin k0_t2_loop.trips) (v182 : BitVec 32) (v185 : BitVec 32) (k0_t25 : Fin (k0_t25_loop i k0_t2 v182 v185).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v183 : BitVec 32 := Scalar.maxsi v182 v75
  let c1_i32_85 : BitVec 32 := 1#32
  let arg19 : BitVec 32 := Scf.iv v183 c1_i32_85 k0_t25
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off194 (i : grid0.Coords) (k0_t2 : Fin k0_t2_loop.trips) (v182 : BitVec 32) (v185 : BitVec 32) (k0_t25 : Fin (k0_t25_loop i k0_t2 v182 v185).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v183 : BitVec 32 := Scalar.maxsi v182 v75
  let c1_i32_85 : BitVec 32 := 1#32
  let arg19 : BitVec 32 := Scf.iv v183 c1_i32_85 k0_t25
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]
@[reducible] def k0_t26_loop (i : grid0.Coords) (k0_t2 : Fin k0_t2_loop.trips) (v182 : BitVec 32) (v185 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v183 : BitVec 32 := Scalar.maxsi v182 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let v231 : BitVec 32 := Scalar.addi v183 v230
  let c1_i32_86 : BitVec 32 := 1#32
  ⟨v234, v231, c1_i32_86⟩
def k0_off195 (i : grid0.Coords) (k0_t2 : Fin k0_t2_loop.trips) (v182 : BitVec 32) (v185 : BitVec 32) (k0_t26 : Fin (k0_t26_loop i k0_t2 v182 v185).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v183 : BitVec 32 := Scalar.maxsi v182 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_86 : BitVec 32 := 1#32
  let arg19 : BitVec 32 := Scf.iv v234 c1_i32_86 k0_t26
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off196 (i : grid0.Coords) (k0_t2 : Fin k0_t2_loop.trips) (v182 : BitVec 32) (v185 : BitVec 32) (k0_t26 : Fin (k0_t26_loop i k0_t2 v182 v185).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v183 : BitVec 32 := Scalar.maxsi v182 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_86 : BitVec 32 := 1#32
  let arg19 : BitVec 32 := Scf.iv v234 c1_i32_86 k0_t26
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off197 (i : grid0.Coords) (k0_t2 : Fin k0_t2_loop.trips) (v182 : BitVec 32) (v185 : BitVec 32) (k0_t26 : Fin (k0_t26_loop i k0_t2 v182 v185).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v183 : BitVec 32 := Scalar.maxsi v182 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_86 : BitVec 32 := 1#32
  let arg19 : BitVec 32 := Scf.iv v234 c1_i32_86 k0_t26
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off198 (i : grid0.Coords) (k0_t2 : Fin k0_t2_loop.trips) (v182 : BitVec 32) (v185 : BitVec 32) (k0_t26 : Fin (k0_t26_loop i k0_t2 v182 v185).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v183 : BitVec 32 := Scalar.maxsi v182 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_86 : BitVec 32 := 1#32
  let arg19 : BitVec 32 := Scf.iv v234 c1_i32_86 k0_t26
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off199 (i : grid0.Coords) (k0_t2 : Fin k0_t2_loop.trips) (v182 : BitVec 32) (v185 : BitVec 32) (k0_t26 : Fin (k0_t26_loop i k0_t2 v182 v185).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v183 : BitVec 32 := Scalar.maxsi v182 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_86 : BitVec 32 := 1#32
  let arg19 : BitVec 32 := Scf.iv v234 c1_i32_86 k0_t26
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off200 (i : grid0.Coords) (k0_t2 : Fin k0_t2_loop.trips) (v182 : BitVec 32) (v185 : BitVec 32) (k0_t26 : Fin (k0_t26_loop i k0_t2 v182 v185).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v183 : BitVec 32 := Scalar.maxsi v182 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_86 : BitVec 32 := 1#32
  let arg19 : BitVec 32 := Scf.iv v234 c1_i32_86 k0_t26
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off201 (i : grid0.Coords) (k0_t2 : Fin k0_t2_loop.trips) (v182 : BitVec 32) (v185 : BitVec 32) (k0_t26 : Fin (k0_t26_loop i k0_t2 v182 v185).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v183 : BitVec 32 := Scalar.maxsi v182 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_86 : BitVec 32 := 1#32
  let arg19 : BitVec 32 := Scf.iv v234 c1_i32_86 k0_t26
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off202 (i : grid0.Coords) (k0_t2 : Fin k0_t2_loop.trips) (v182 : BitVec 32) (v185 : BitVec 32) (k0_t26 : Fin (k0_t26_loop i k0_t2 v182 v185).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v183 : BitVec 32 := Scalar.maxsi v182 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_86 : BitVec 32 := 1#32
  let arg19 : BitVec 32 := Scf.iv v234 c1_i32_86 k0_t26
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]

def k0_chk12 (i : grid0.Coords) (k0_t2 : Fin k0_t2_loop.trips) (v182 : BitVec 32) (v185 : BitVec 32) : Prop :=
  (∀ (k0_h1 : k0_cond1 k0_t2 = 1#1), ∀ (k0_h13 : k0_cond13 i k0_t2 v182 v185 = 1#1), (k0_t25_loop i k0_t2 v182 v185).OK) ∧
  (∀ k0_t25 : Fin (k0_t25_loop i k0_t2 v182 v185).trips, ∀ (k0_h1 : k0_cond1 k0_t2 = 1#1), ∀ (k0_h13 : k0_cond13 i k0_t2 v182 v185 = 1#1), ∀ a, (k0_off187 i k0_t2 v182 v185 k0_t25) a + S1x16.size a ≤ S256x128.size a) ∧
  (∀ k0_t25 : Fin (k0_t25_loop i k0_t2 v182 v185).trips, ∀ (k0_h1 : k0_cond1 k0_t2 = 1#1), ∀ (k0_h13 : k0_cond13 i k0_t2 v182 v185 = 1#1), ∀ a, (k0_off188 i k0_t2 v182 v185 k0_t25) a + S1x16.size a ≤ S256x128.size a) ∧
  (∀ k0_t25 : Fin (k0_t25_loop i k0_t2 v182 v185).trips, ∀ (k0_h1 : k0_cond1 k0_t2 = 1#1), ∀ (k0_h13 : k0_cond13 i k0_t2 v182 v185 = 1#1), ∀ a, (k0_off189 i k0_t2 v182 v185 k0_t25) a + S1x16.size a ≤ S256x128.size a) ∧
  (∀ k0_t25 : Fin (k0_t25_loop i k0_t2 v182 v185).trips, ∀ (k0_h1 : k0_cond1 k0_t2 = 1#1), ∀ (k0_h13 : k0_cond13 i k0_t2 v182 v185 = 1#1), ∀ a, (k0_off190 i k0_t2 v182 v185 k0_t25) a + S1x16.size a ≤ S256x128.size a) ∧
  (∀ k0_t25 : Fin (k0_t25_loop i k0_t2 v182 v185).trips, ∀ (k0_h1 : k0_cond1 k0_t2 = 1#1), ∀ (k0_h13 : k0_cond13 i k0_t2 v182 v185 = 1#1), ∀ a, (k0_off191 i k0_t2 v182 v185 k0_t25) a + S1x16.size a ≤ S256x128.size a) ∧
  (∀ k0_t25 : Fin (k0_t25_loop i k0_t2 v182 v185).trips, ∀ (k0_h1 : k0_cond1 k0_t2 = 1#1), ∀ (k0_h13 : k0_cond13 i k0_t2 v182 v185 = 1#1), ∀ a, (k0_off192 i k0_t2 v182 v185 k0_t25) a + S1x16.size a ≤ S256x128.size a) ∧
  (∀ k0_t25 : Fin (k0_t25_loop i k0_t2 v182 v185).trips, ∀ (k0_h1 : k0_cond1 k0_t2 = 1#1), ∀ (k0_h13 : k0_cond13 i k0_t2 v182 v185 = 1#1), ∀ a, (k0_off193 i k0_t2 v182 v185 k0_t25) a + S1x16.size a ≤ S256x128.size a) ∧
  (∀ k0_t25 : Fin (k0_t25_loop i k0_t2 v182 v185).trips, ∀ (k0_h1 : k0_cond1 k0_t2 = 1#1), ∀ (k0_h13 : k0_cond13 i k0_t2 v182 v185 = 1#1), ∀ a, (k0_off194 i k0_t2 v182 v185 k0_t25) a + S1x16.size a ≤ S256x128.size a) ∧
  (∀ (k0_h1 : k0_cond1 k0_t2 = 1#1), ∀ (k0_h13 : k0_cond13 i k0_t2 v182 v185 = 1#1), (k0_t26_loop i k0_t2 v182 v185).OK) ∧
  (∀ k0_t26 : Fin (k0_t26_loop i k0_t2 v182 v185).trips, ∀ (k0_h1 : k0_cond1 k0_t2 = 1#1), ∀ (k0_h13 : k0_cond13 i k0_t2 v182 v185 = 1#1), ∀ a, (k0_off195 i k0_t2 v182 v185 k0_t26) a + S1x16.size a ≤ S256x128.size a) ∧
  (∀ k0_t26 : Fin (k0_t26_loop i k0_t2 v182 v185).trips, ∀ (k0_h1 : k0_cond1 k0_t2 = 1#1), ∀ (k0_h13 : k0_cond13 i k0_t2 v182 v185 = 1#1), ∀ a, (k0_off196 i k0_t2 v182 v185 k0_t26) a + S1x16.size a ≤ S256x128.size a) ∧
  (∀ k0_t26 : Fin (k0_t26_loop i k0_t2 v182 v185).trips, ∀ (k0_h1 : k0_cond1 k0_t2 = 1#1), ∀ (k0_h13 : k0_cond13 i k0_t2 v182 v185 = 1#1), ∀ a, (k0_off197 i k0_t2 v182 v185 k0_t26) a + S1x16.size a ≤ S256x128.size a) ∧
  (∀ k0_t26 : Fin (k0_t26_loop i k0_t2 v182 v185).trips, ∀ (k0_h1 : k0_cond1 k0_t2 = 1#1), ∀ (k0_h13 : k0_cond13 i k0_t2 v182 v185 = 1#1), ∀ a, (k0_off198 i k0_t2 v182 v185 k0_t26) a + S1x16.size a ≤ S256x128.size a) ∧
  (∀ k0_t26 : Fin (k0_t26_loop i k0_t2 v182 v185).trips, ∀ (k0_h1 : k0_cond1 k0_t2 = 1#1), ∀ (k0_h13 : k0_cond13 i k0_t2 v182 v185 = 1#1), ∀ a, (k0_off199 i k0_t2 v182 v185 k0_t26) a + S1x16.size a ≤ S256x128.size a) ∧
  (∀ k0_t26 : Fin (k0_t26_loop i k0_t2 v182 v185).trips, ∀ (k0_h1 : k0_cond1 k0_t2 = 1#1), ∀ (k0_h13 : k0_cond13 i k0_t2 v182 v185 = 1#1), ∀ a, (k0_off200 i k0_t2 v182 v185 k0_t26) a + S1x16.size a ≤ S256x128.size a) ∧
  (∀ k0_t26 : Fin (k0_t26_loop i k0_t2 v182 v185).trips, ∀ (k0_h1 : k0_cond1 k0_t2 = 1#1), ∀ (k0_h13 : k0_cond13 i k0_t2 v182 v185 = 1#1), ∀ a, (k0_off201 i k0_t2 v182 v185 k0_t26) a + S1x16.size a ≤ S256x128.size a) ∧
  (∀ k0_t26 : Fin (k0_t26_loop i k0_t2 v182 v185).trips, ∀ (k0_h1 : k0_cond1 k0_t2 = 1#1), ∀ (k0_h13 : k0_cond13 i k0_t2 v182 v185 = 1#1), ∀ a, (k0_off202 i k0_t2 v182 v185 k0_t26) a + S1x16.size a ≤ S256x128.size a)
theorem k0_t25_ok : ∀ (i : grid0.Coords) (k0_t2 : Fin k0_t2_loop.trips) (v182 : BitVec 32) (v185 : BitVec 32) (k0_hw12 : k0_chk12 i k0_t2 v182 v185), ∀ (k0_h1 : k0_cond1 k0_t2 = 1#1), ∀ (k0_h13 : k0_cond13 i k0_t2 v182 v185 = 1#1), (k0_t25_loop i k0_t2 v182 v185).OK := fun i k0_t2 v182 v185 k0_hw12 k0_h1 k0_h13 => k0_hw12.1 k0_h1 k0_h13
theorem k0_off187_inb : ∀ (i : grid0.Coords) (k0_t2 : Fin k0_t2_loop.trips) (v182 : BitVec 32) (v185 : BitVec 32) (k0_hw12 : k0_chk12 i k0_t2 v182 v185) (k0_t25 : Fin (k0_t25_loop i k0_t2 v182 v185).trips), ∀ (k0_h1 : k0_cond1 k0_t2 = 1#1), ∀ (k0_h13 : k0_cond13 i k0_t2 v182 v185 = 1#1), ∀ a, (k0_off187 i k0_t2 v182 v185 k0_t25) a + S1x16.size a ≤ S256x128.size a := fun i k0_t2 v182 v185 k0_hw12 k0_t25 k0_h1 k0_h13 => k0_hw12.2.1 k0_t25 k0_h1 k0_h13
theorem k0_off188_inb : ∀ (i : grid0.Coords) (k0_t2 : Fin k0_t2_loop.trips) (v182 : BitVec 32) (v185 : BitVec 32) (k0_hw12 : k0_chk12 i k0_t2 v182 v185) (k0_t25 : Fin (k0_t25_loop i k0_t2 v182 v185).trips), ∀ (k0_h1 : k0_cond1 k0_t2 = 1#1), ∀ (k0_h13 : k0_cond13 i k0_t2 v182 v185 = 1#1), ∀ a, (k0_off188 i k0_t2 v182 v185 k0_t25) a + S1x16.size a ≤ S256x128.size a := fun i k0_t2 v182 v185 k0_hw12 k0_t25 k0_h1 k0_h13 => k0_hw12.2.2.1 k0_t25 k0_h1 k0_h13
theorem k0_off189_inb : ∀ (i : grid0.Coords) (k0_t2 : Fin k0_t2_loop.trips) (v182 : BitVec 32) (v185 : BitVec 32) (k0_hw12 : k0_chk12 i k0_t2 v182 v185) (k0_t25 : Fin (k0_t25_loop i k0_t2 v182 v185).trips), ∀ (k0_h1 : k0_cond1 k0_t2 = 1#1), ∀ (k0_h13 : k0_cond13 i k0_t2 v182 v185 = 1#1), ∀ a, (k0_off189 i k0_t2 v182 v185 k0_t25) a + S1x16.size a ≤ S256x128.size a := fun i k0_t2 v182 v185 k0_hw12 k0_t25 k0_h1 k0_h13 => k0_hw12.2.2.2.1 k0_t25 k0_h1 k0_h13
theorem k0_off190_inb : ∀ (i : grid0.Coords) (k0_t2 : Fin k0_t2_loop.trips) (v182 : BitVec 32) (v185 : BitVec 32) (k0_hw12 : k0_chk12 i k0_t2 v182 v185) (k0_t25 : Fin (k0_t25_loop i k0_t2 v182 v185).trips), ∀ (k0_h1 : k0_cond1 k0_t2 = 1#1), ∀ (k0_h13 : k0_cond13 i k0_t2 v182 v185 = 1#1), ∀ a, (k0_off190 i k0_t2 v182 v185 k0_t25) a + S1x16.size a ≤ S256x128.size a := fun i k0_t2 v182 v185 k0_hw12 k0_t25 k0_h1 k0_h13 => k0_hw12.2.2.2.2.1 k0_t25 k0_h1 k0_h13
theorem k0_off191_inb : ∀ (i : grid0.Coords) (k0_t2 : Fin k0_t2_loop.trips) (v182 : BitVec 32) (v185 : BitVec 32) (k0_hw12 : k0_chk12 i k0_t2 v182 v185) (k0_t25 : Fin (k0_t25_loop i k0_t2 v182 v185).trips), ∀ (k0_h1 : k0_cond1 k0_t2 = 1#1), ∀ (k0_h13 : k0_cond13 i k0_t2 v182 v185 = 1#1), ∀ a, (k0_off191 i k0_t2 v182 v185 k0_t25) a + S1x16.size a ≤ S256x128.size a := fun i k0_t2 v182 v185 k0_hw12 k0_t25 k0_h1 k0_h13 => k0_hw12.2.2.2.2.2.1 k0_t25 k0_h1 k0_h13
theorem k0_off192_inb : ∀ (i : grid0.Coords) (k0_t2 : Fin k0_t2_loop.trips) (v182 : BitVec 32) (v185 : BitVec 32) (k0_hw12 : k0_chk12 i k0_t2 v182 v185) (k0_t25 : Fin (k0_t25_loop i k0_t2 v182 v185).trips), ∀ (k0_h1 : k0_cond1 k0_t2 = 1#1), ∀ (k0_h13 : k0_cond13 i k0_t2 v182 v185 = 1#1), ∀ a, (k0_off192 i k0_t2 v182 v185 k0_t25) a + S1x16.size a ≤ S256x128.size a := fun i k0_t2 v182 v185 k0_hw12 k0_t25 k0_h1 k0_h13 => k0_hw12.2.2.2.2.2.2.1 k0_t25 k0_h1 k0_h13
theorem k0_off193_inb : ∀ (i : grid0.Coords) (k0_t2 : Fin k0_t2_loop.trips) (v182 : BitVec 32) (v185 : BitVec 32) (k0_hw12 : k0_chk12 i k0_t2 v182 v185) (k0_t25 : Fin (k0_t25_loop i k0_t2 v182 v185).trips), ∀ (k0_h1 : k0_cond1 k0_t2 = 1#1), ∀ (k0_h13 : k0_cond13 i k0_t2 v182 v185 = 1#1), ∀ a, (k0_off193 i k0_t2 v182 v185 k0_t25) a + S1x16.size a ≤ S256x128.size a := fun i k0_t2 v182 v185 k0_hw12 k0_t25 k0_h1 k0_h13 => k0_hw12.2.2.2.2.2.2.2.1 k0_t25 k0_h1 k0_h13
theorem k0_off194_inb : ∀ (i : grid0.Coords) (k0_t2 : Fin k0_t2_loop.trips) (v182 : BitVec 32) (v185 : BitVec 32) (k0_hw12 : k0_chk12 i k0_t2 v182 v185) (k0_t25 : Fin (k0_t25_loop i k0_t2 v182 v185).trips), ∀ (k0_h1 : k0_cond1 k0_t2 = 1#1), ∀ (k0_h13 : k0_cond13 i k0_t2 v182 v185 = 1#1), ∀ a, (k0_off194 i k0_t2 v182 v185 k0_t25) a + S1x16.size a ≤ S256x128.size a := fun i k0_t2 v182 v185 k0_hw12 k0_t25 k0_h1 k0_h13 => k0_hw12.2.2.2.2.2.2.2.2.1 k0_t25 k0_h1 k0_h13
theorem k0_t26_ok : ∀ (i : grid0.Coords) (k0_t2 : Fin k0_t2_loop.trips) (v182 : BitVec 32) (v185 : BitVec 32) (k0_hw12 : k0_chk12 i k0_t2 v182 v185), ∀ (k0_h1 : k0_cond1 k0_t2 = 1#1), ∀ (k0_h13 : k0_cond13 i k0_t2 v182 v185 = 1#1), (k0_t26_loop i k0_t2 v182 v185).OK := fun i k0_t2 v182 v185 k0_hw12 k0_h1 k0_h13 => k0_hw12.2.2.2.2.2.2.2.2.2.1 k0_h1 k0_h13
theorem k0_off195_inb : ∀ (i : grid0.Coords) (k0_t2 : Fin k0_t2_loop.trips) (v182 : BitVec 32) (v185 : BitVec 32) (k0_hw12 : k0_chk12 i k0_t2 v182 v185) (k0_t26 : Fin (k0_t26_loop i k0_t2 v182 v185).trips), ∀ (k0_h1 : k0_cond1 k0_t2 = 1#1), ∀ (k0_h13 : k0_cond13 i k0_t2 v182 v185 = 1#1), ∀ a, (k0_off195 i k0_t2 v182 v185 k0_t26) a + S1x16.size a ≤ S256x128.size a := fun i k0_t2 v182 v185 k0_hw12 k0_t26 k0_h1 k0_h13 => k0_hw12.2.2.2.2.2.2.2.2.2.2.1 k0_t26 k0_h1 k0_h13
theorem k0_off196_inb : ∀ (i : grid0.Coords) (k0_t2 : Fin k0_t2_loop.trips) (v182 : BitVec 32) (v185 : BitVec 32) (k0_hw12 : k0_chk12 i k0_t2 v182 v185) (k0_t26 : Fin (k0_t26_loop i k0_t2 v182 v185).trips), ∀ (k0_h1 : k0_cond1 k0_t2 = 1#1), ∀ (k0_h13 : k0_cond13 i k0_t2 v182 v185 = 1#1), ∀ a, (k0_off196 i k0_t2 v182 v185 k0_t26) a + S1x16.size a ≤ S256x128.size a := fun i k0_t2 v182 v185 k0_hw12 k0_t26 k0_h1 k0_h13 => k0_hw12.2.2.2.2.2.2.2.2.2.2.2.1 k0_t26 k0_h1 k0_h13
theorem k0_off197_inb : ∀ (i : grid0.Coords) (k0_t2 : Fin k0_t2_loop.trips) (v182 : BitVec 32) (v185 : BitVec 32) (k0_hw12 : k0_chk12 i k0_t2 v182 v185) (k0_t26 : Fin (k0_t26_loop i k0_t2 v182 v185).trips), ∀ (k0_h1 : k0_cond1 k0_t2 = 1#1), ∀ (k0_h13 : k0_cond13 i k0_t2 v182 v185 = 1#1), ∀ a, (k0_off197 i k0_t2 v182 v185 k0_t26) a + S1x16.size a ≤ S256x128.size a := fun i k0_t2 v182 v185 k0_hw12 k0_t26 k0_h1 k0_h13 => k0_hw12.2.2.2.2.2.2.2.2.2.2.2.2.1 k0_t26 k0_h1 k0_h13
theorem k0_off198_inb : ∀ (i : grid0.Coords) (k0_t2 : Fin k0_t2_loop.trips) (v182 : BitVec 32) (v185 : BitVec 32) (k0_hw12 : k0_chk12 i k0_t2 v182 v185) (k0_t26 : Fin (k0_t26_loop i k0_t2 v182 v185).trips), ∀ (k0_h1 : k0_cond1 k0_t2 = 1#1), ∀ (k0_h13 : k0_cond13 i k0_t2 v182 v185 = 1#1), ∀ a, (k0_off198 i k0_t2 v182 v185 k0_t26) a + S1x16.size a ≤ S256x128.size a := fun i k0_t2 v182 v185 k0_hw12 k0_t26 k0_h1 k0_h13 => k0_hw12.2.2.2.2.2.2.2.2.2.2.2.2.2.1 k0_t26 k0_h1 k0_h13
theorem k0_off199_inb : ∀ (i : grid0.Coords) (k0_t2 : Fin k0_t2_loop.trips) (v182 : BitVec 32) (v185 : BitVec 32) (k0_hw12 : k0_chk12 i k0_t2 v182 v185) (k0_t26 : Fin (k0_t26_loop i k0_t2 v182 v185).trips), ∀ (k0_h1 : k0_cond1 k0_t2 = 1#1), ∀ (k0_h13 : k0_cond13 i k0_t2 v182 v185 = 1#1), ∀ a, (k0_off199 i k0_t2 v182 v185 k0_t26) a + S1x16.size a ≤ S256x128.size a := fun i k0_t2 v182 v185 k0_hw12 k0_t26 k0_h1 k0_h13 => k0_hw12.2.2.2.2.2.2.2.2.2.2.2.2.2.2.1 k0_t26 k0_h1 k0_h13
theorem k0_off200_inb : ∀ (i : grid0.Coords) (k0_t2 : Fin k0_t2_loop.trips) (v182 : BitVec 32) (v185 : BitVec 32) (k0_hw12 : k0_chk12 i k0_t2 v182 v185) (k0_t26 : Fin (k0_t26_loop i k0_t2 v182 v185).trips), ∀ (k0_h1 : k0_cond1 k0_t2 = 1#1), ∀ (k0_h13 : k0_cond13 i k0_t2 v182 v185 = 1#1), ∀ a, (k0_off200 i k0_t2 v182 v185 k0_t26) a + S1x16.size a ≤ S256x128.size a := fun i k0_t2 v182 v185 k0_hw12 k0_t26 k0_h1 k0_h13 => k0_hw12.2.2.2.2.2.2.2.2.2.2.2.2.2.2.2.1 k0_t26 k0_h1 k0_h13
theorem k0_off201_inb : ∀ (i : grid0.Coords) (k0_t2 : Fin k0_t2_loop.trips) (v182 : BitVec 32) (v185 : BitVec 32) (k0_hw12 : k0_chk12 i k0_t2 v182 v185) (k0_t26 : Fin (k0_t26_loop i k0_t2 v182 v185).trips), ∀ (k0_h1 : k0_cond1 k0_t2 = 1#1), ∀ (k0_h13 : k0_cond13 i k0_t2 v182 v185 = 1#1), ∀ a, (k0_off201 i k0_t2 v182 v185 k0_t26) a + S1x16.size a ≤ S256x128.size a := fun i k0_t2 v182 v185 k0_hw12 k0_t26 k0_h1 k0_h13 => k0_hw12.2.2.2.2.2.2.2.2.2.2.2.2.2.2.2.2.1 k0_t26 k0_h1 k0_h13
theorem k0_off202_inb : ∀ (i : grid0.Coords) (k0_t2 : Fin k0_t2_loop.trips) (v182 : BitVec 32) (v185 : BitVec 32) (k0_hw12 : k0_chk12 i k0_t2 v182 v185) (k0_t26 : Fin (k0_t26_loop i k0_t2 v182 v185).trips), ∀ (k0_h1 : k0_cond1 k0_t2 = 1#1), ∀ (k0_h13 : k0_cond13 i k0_t2 v182 v185 = 1#1), ∀ a, (k0_off202 i k0_t2 v182 v185 k0_t26) a + S1x16.size a ≤ S256x128.size a := fun i k0_t2 v182 v185 k0_hw12 k0_t26 k0_h1 k0_h13 => k0_hw12.2.2.2.2.2.2.2.2.2.2.2.2.2.2.2.2.2 k0_t26 k0_h1 k0_h13

@[reducible] def k0_t27_loop (i : grid0.Coords) (k0_t2 : Fin k0_t2_loop.trips) (v191 : BitVec 32) (v194 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v192 : BitVec 32 := Scalar.maxsi v191 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_85 : BitVec 32 := 1#32
  ⟨v192, v234, c1_i32_85⟩
def k0_cond14 (i : grid0.Coords) (k0_t2 : Fin k0_t2_loop.trips) (v191 : BitVec 32) (v194 : BitVec 32) : BitVec 1 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v195 : BitVec 32 := Scalar.minsi v194 v77
  let v192 : BitVec 32 := Scalar.maxsi v191 v75
  let v196 : BitVec 1 := Scalar.cmpi .sgt v195 v192
  let v197 : BitVec 32 := Scalar.extui v196
  let c0_i32_77 : BitVec 32 := 0#32
  let v198 : BitVec 1 := Scalar.cmpi .ne v197 c0_i32_77
  v198

def k0_off203 (i : grid0.Coords) (k0_t2 : Fin k0_t2_loop.trips) (v191 : BitVec 32) (v194 : BitVec 32) (k0_t27 : Fin (k0_t27_loop i k0_t2 v191 v194).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v192 : BitVec 32 := Scalar.maxsi v191 v75
  let c1_i32_85 : BitVec 32 := 1#32
  let arg19 : BitVec 32 := Scf.iv v192 c1_i32_85 k0_t27
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off204 (i : grid0.Coords) (k0_t2 : Fin k0_t2_loop.trips) (v191 : BitVec 32) (v194 : BitVec 32) (k0_t27 : Fin (k0_t27_loop i k0_t2 v191 v194).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v192 : BitVec 32 := Scalar.maxsi v191 v75
  let c1_i32_85 : BitVec 32 := 1#32
  let arg19 : BitVec 32 := Scf.iv v192 c1_i32_85 k0_t27
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off205 (i : grid0.Coords) (k0_t2 : Fin k0_t2_loop.trips) (v191 : BitVec 32) (v194 : BitVec 32) (k0_t27 : Fin (k0_t27_loop i k0_t2 v191 v194).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v192 : BitVec 32 := Scalar.maxsi v191 v75
  let c1_i32_85 : BitVec 32 := 1#32
  let arg19 : BitVec 32 := Scf.iv v192 c1_i32_85 k0_t27
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off206 (i : grid0.Coords) (k0_t2 : Fin k0_t2_loop.trips) (v191 : BitVec 32) (v194 : BitVec 32) (k0_t27 : Fin (k0_t27_loop i k0_t2 v191 v194).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v192 : BitVec 32 := Scalar.maxsi v191 v75
  let c1_i32_85 : BitVec 32 := 1#32
  let arg19 : BitVec 32 := Scf.iv v192 c1_i32_85 k0_t27
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off207 (i : grid0.Coords) (k0_t2 : Fin k0_t2_loop.trips) (v191 : BitVec 32) (v194 : BitVec 32) (k0_t27 : Fin (k0_t27_loop i k0_t2 v191 v194).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v192 : BitVec 32 := Scalar.maxsi v191 v75
  let c1_i32_85 : BitVec 32 := 1#32
  let arg19 : BitVec 32 := Scf.iv v192 c1_i32_85 k0_t27
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off208 (i : grid0.Coords) (k0_t2 : Fin k0_t2_loop.trips) (v191 : BitVec 32) (v194 : BitVec 32) (k0_t27 : Fin (k0_t27_loop i k0_t2 v191 v194).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v192 : BitVec 32 := Scalar.maxsi v191 v75
  let c1_i32_85 : BitVec 32 := 1#32
  let arg19 : BitVec 32 := Scf.iv v192 c1_i32_85 k0_t27
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off209 (i : grid0.Coords) (k0_t2 : Fin k0_t2_loop.trips) (v191 : BitVec 32) (v194 : BitVec 32) (k0_t27 : Fin (k0_t27_loop i k0_t2 v191 v194).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v192 : BitVec 32 := Scalar.maxsi v191 v75
  let c1_i32_85 : BitVec 32 := 1#32
  let arg19 : BitVec 32 := Scf.iv v192 c1_i32_85 k0_t27
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off210 (i : grid0.Coords) (k0_t2 : Fin k0_t2_loop.trips) (v191 : BitVec 32) (v194 : BitVec 32) (k0_t27 : Fin (k0_t27_loop i k0_t2 v191 v194).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v192 : BitVec 32 := Scalar.maxsi v191 v75
  let c1_i32_85 : BitVec 32 := 1#32
  let arg19 : BitVec 32 := Scf.iv v192 c1_i32_85 k0_t27
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]
@[reducible] def k0_t28_loop (i : grid0.Coords) (k0_t2 : Fin k0_t2_loop.trips) (v191 : BitVec 32) (v194 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v192 : BitVec 32 := Scalar.maxsi v191 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let v231 : BitVec 32 := Scalar.addi v192 v230
  let c1_i32_86 : BitVec 32 := 1#32
  ⟨v234, v231, c1_i32_86⟩
def k0_off211 (i : grid0.Coords) (k0_t2 : Fin k0_t2_loop.trips) (v191 : BitVec 32) (v194 : BitVec 32) (k0_t28 : Fin (k0_t28_loop i k0_t2 v191 v194).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v192 : BitVec 32 := Scalar.maxsi v191 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_86 : BitVec 32 := 1#32
  let arg19 : BitVec 32 := Scf.iv v234 c1_i32_86 k0_t28
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off212 (i : grid0.Coords) (k0_t2 : Fin k0_t2_loop.trips) (v191 : BitVec 32) (v194 : BitVec 32) (k0_t28 : Fin (k0_t28_loop i k0_t2 v191 v194).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v192 : BitVec 32 := Scalar.maxsi v191 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_86 : BitVec 32 := 1#32
  let arg19 : BitVec 32 := Scf.iv v234 c1_i32_86 k0_t28
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off213 (i : grid0.Coords) (k0_t2 : Fin k0_t2_loop.trips) (v191 : BitVec 32) (v194 : BitVec 32) (k0_t28 : Fin (k0_t28_loop i k0_t2 v191 v194).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v192 : BitVec 32 := Scalar.maxsi v191 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_86 : BitVec 32 := 1#32
  let arg19 : BitVec 32 := Scf.iv v234 c1_i32_86 k0_t28
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off214 (i : grid0.Coords) (k0_t2 : Fin k0_t2_loop.trips) (v191 : BitVec 32) (v194 : BitVec 32) (k0_t28 : Fin (k0_t28_loop i k0_t2 v191 v194).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v192 : BitVec 32 := Scalar.maxsi v191 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_86 : BitVec 32 := 1#32
  let arg19 : BitVec 32 := Scf.iv v234 c1_i32_86 k0_t28
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off215 (i : grid0.Coords) (k0_t2 : Fin k0_t2_loop.trips) (v191 : BitVec 32) (v194 : BitVec 32) (k0_t28 : Fin (k0_t28_loop i k0_t2 v191 v194).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v192 : BitVec 32 := Scalar.maxsi v191 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_86 : BitVec 32 := 1#32
  let arg19 : BitVec 32 := Scf.iv v234 c1_i32_86 k0_t28
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off216 (i : grid0.Coords) (k0_t2 : Fin k0_t2_loop.trips) (v191 : BitVec 32) (v194 : BitVec 32) (k0_t28 : Fin (k0_t28_loop i k0_t2 v191 v194).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v192 : BitVec 32 := Scalar.maxsi v191 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_86 : BitVec 32 := 1#32
  let arg19 : BitVec 32 := Scf.iv v234 c1_i32_86 k0_t28
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off217 (i : grid0.Coords) (k0_t2 : Fin k0_t2_loop.trips) (v191 : BitVec 32) (v194 : BitVec 32) (k0_t28 : Fin (k0_t28_loop i k0_t2 v191 v194).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v192 : BitVec 32 := Scalar.maxsi v191 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_86 : BitVec 32 := 1#32
  let arg19 : BitVec 32 := Scf.iv v234 c1_i32_86 k0_t28
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off218 (i : grid0.Coords) (k0_t2 : Fin k0_t2_loop.trips) (v191 : BitVec 32) (v194 : BitVec 32) (k0_t28 : Fin (k0_t28_loop i k0_t2 v191 v194).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v192 : BitVec 32 := Scalar.maxsi v191 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_86 : BitVec 32 := 1#32
  let arg19 : BitVec 32 := Scf.iv v234 c1_i32_86 k0_t28
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]

def k0_chk13 (i : grid0.Coords) (k0_t2 : Fin k0_t2_loop.trips) (v191 : BitVec 32) (v194 : BitVec 32) : Prop :=
  (∀ (k0_h1 : k0_cond1 k0_t2 = 1#1), ∀ (k0_h14 : k0_cond14 i k0_t2 v191 v194 = 1#1), (k0_t27_loop i k0_t2 v191 v194).OK) ∧
  (∀ k0_t27 : Fin (k0_t27_loop i k0_t2 v191 v194).trips, ∀ (k0_h1 : k0_cond1 k0_t2 = 1#1), ∀ (k0_h14 : k0_cond14 i k0_t2 v191 v194 = 1#1), ∀ a, (k0_off203 i k0_t2 v191 v194 k0_t27) a + S1x16.size a ≤ S256x128.size a) ∧
  (∀ k0_t27 : Fin (k0_t27_loop i k0_t2 v191 v194).trips, ∀ (k0_h1 : k0_cond1 k0_t2 = 1#1), ∀ (k0_h14 : k0_cond14 i k0_t2 v191 v194 = 1#1), ∀ a, (k0_off204 i k0_t2 v191 v194 k0_t27) a + S1x16.size a ≤ S256x128.size a) ∧
  (∀ k0_t27 : Fin (k0_t27_loop i k0_t2 v191 v194).trips, ∀ (k0_h1 : k0_cond1 k0_t2 = 1#1), ∀ (k0_h14 : k0_cond14 i k0_t2 v191 v194 = 1#1), ∀ a, (k0_off205 i k0_t2 v191 v194 k0_t27) a + S1x16.size a ≤ S256x128.size a) ∧
  (∀ k0_t27 : Fin (k0_t27_loop i k0_t2 v191 v194).trips, ∀ (k0_h1 : k0_cond1 k0_t2 = 1#1), ∀ (k0_h14 : k0_cond14 i k0_t2 v191 v194 = 1#1), ∀ a, (k0_off206 i k0_t2 v191 v194 k0_t27) a + S1x16.size a ≤ S256x128.size a) ∧
  (∀ k0_t27 : Fin (k0_t27_loop i k0_t2 v191 v194).trips, ∀ (k0_h1 : k0_cond1 k0_t2 = 1#1), ∀ (k0_h14 : k0_cond14 i k0_t2 v191 v194 = 1#1), ∀ a, (k0_off207 i k0_t2 v191 v194 k0_t27) a + S1x16.size a ≤ S256x128.size a) ∧
  (∀ k0_t27 : Fin (k0_t27_loop i k0_t2 v191 v194).trips, ∀ (k0_h1 : k0_cond1 k0_t2 = 1#1), ∀ (k0_h14 : k0_cond14 i k0_t2 v191 v194 = 1#1), ∀ a, (k0_off208 i k0_t2 v191 v194 k0_t27) a + S1x16.size a ≤ S256x128.size a) ∧
  (∀ k0_t27 : Fin (k0_t27_loop i k0_t2 v191 v194).trips, ∀ (k0_h1 : k0_cond1 k0_t2 = 1#1), ∀ (k0_h14 : k0_cond14 i k0_t2 v191 v194 = 1#1), ∀ a, (k0_off209 i k0_t2 v191 v194 k0_t27) a + S1x16.size a ≤ S256x128.size a) ∧
  (∀ k0_t27 : Fin (k0_t27_loop i k0_t2 v191 v194).trips, ∀ (k0_h1 : k0_cond1 k0_t2 = 1#1), ∀ (k0_h14 : k0_cond14 i k0_t2 v191 v194 = 1#1), ∀ a, (k0_off210 i k0_t2 v191 v194 k0_t27) a + S1x16.size a ≤ S256x128.size a) ∧
  (∀ (k0_h1 : k0_cond1 k0_t2 = 1#1), ∀ (k0_h14 : k0_cond14 i k0_t2 v191 v194 = 1#1), (k0_t28_loop i k0_t2 v191 v194).OK) ∧
  (∀ k0_t28 : Fin (k0_t28_loop i k0_t2 v191 v194).trips, ∀ (k0_h1 : k0_cond1 k0_t2 = 1#1), ∀ (k0_h14 : k0_cond14 i k0_t2 v191 v194 = 1#1), ∀ a, (k0_off211 i k0_t2 v191 v194 k0_t28) a + S1x16.size a ≤ S256x128.size a) ∧
  (∀ k0_t28 : Fin (k0_t28_loop i k0_t2 v191 v194).trips, ∀ (k0_h1 : k0_cond1 k0_t2 = 1#1), ∀ (k0_h14 : k0_cond14 i k0_t2 v191 v194 = 1#1), ∀ a, (k0_off212 i k0_t2 v191 v194 k0_t28) a + S1x16.size a ≤ S256x128.size a) ∧
  (∀ k0_t28 : Fin (k0_t28_loop i k0_t2 v191 v194).trips, ∀ (k0_h1 : k0_cond1 k0_t2 = 1#1), ∀ (k0_h14 : k0_cond14 i k0_t2 v191 v194 = 1#1), ∀ a, (k0_off213 i k0_t2 v191 v194 k0_t28) a + S1x16.size a ≤ S256x128.size a) ∧
  (∀ k0_t28 : Fin (k0_t28_loop i k0_t2 v191 v194).trips, ∀ (k0_h1 : k0_cond1 k0_t2 = 1#1), ∀ (k0_h14 : k0_cond14 i k0_t2 v191 v194 = 1#1), ∀ a, (k0_off214 i k0_t2 v191 v194 k0_t28) a + S1x16.size a ≤ S256x128.size a) ∧
  (∀ k0_t28 : Fin (k0_t28_loop i k0_t2 v191 v194).trips, ∀ (k0_h1 : k0_cond1 k0_t2 = 1#1), ∀ (k0_h14 : k0_cond14 i k0_t2 v191 v194 = 1#1), ∀ a, (k0_off215 i k0_t2 v191 v194 k0_t28) a + S1x16.size a ≤ S256x128.size a) ∧
  (∀ k0_t28 : Fin (k0_t28_loop i k0_t2 v191 v194).trips, ∀ (k0_h1 : k0_cond1 k0_t2 = 1#1), ∀ (k0_h14 : k0_cond14 i k0_t2 v191 v194 = 1#1), ∀ a, (k0_off216 i k0_t2 v191 v194 k0_t28) a + S1x16.size a ≤ S256x128.size a) ∧
  (∀ k0_t28 : Fin (k0_t28_loop i k0_t2 v191 v194).trips, ∀ (k0_h1 : k0_cond1 k0_t2 = 1#1), ∀ (k0_h14 : k0_cond14 i k0_t2 v191 v194 = 1#1), ∀ a, (k0_off217 i k0_t2 v191 v194 k0_t28) a + S1x16.size a ≤ S256x128.size a) ∧
  (∀ k0_t28 : Fin (k0_t28_loop i k0_t2 v191 v194).trips, ∀ (k0_h1 : k0_cond1 k0_t2 = 1#1), ∀ (k0_h14 : k0_cond14 i k0_t2 v191 v194 = 1#1), ∀ a, (k0_off218 i k0_t2 v191 v194 k0_t28) a + S1x16.size a ≤ S256x128.size a)
theorem k0_t27_ok : ∀ (i : grid0.Coords) (k0_t2 : Fin k0_t2_loop.trips) (v191 : BitVec 32) (v194 : BitVec 32) (k0_hw13 : k0_chk13 i k0_t2 v191 v194), ∀ (k0_h1 : k0_cond1 k0_t2 = 1#1), ∀ (k0_h14 : k0_cond14 i k0_t2 v191 v194 = 1#1), (k0_t27_loop i k0_t2 v191 v194).OK := fun i k0_t2 v191 v194 k0_hw13 k0_h1 k0_h14 => k0_hw13.1 k0_h1 k0_h14
theorem k0_off203_inb : ∀ (i : grid0.Coords) (k0_t2 : Fin k0_t2_loop.trips) (v191 : BitVec 32) (v194 : BitVec 32) (k0_hw13 : k0_chk13 i k0_t2 v191 v194) (k0_t27 : Fin (k0_t27_loop i k0_t2 v191 v194).trips), ∀ (k0_h1 : k0_cond1 k0_t2 = 1#1), ∀ (k0_h14 : k0_cond14 i k0_t2 v191 v194 = 1#1), ∀ a, (k0_off203 i k0_t2 v191 v194 k0_t27) a + S1x16.size a ≤ S256x128.size a := fun i k0_t2 v191 v194 k0_hw13 k0_t27 k0_h1 k0_h14 => k0_hw13.2.1 k0_t27 k0_h1 k0_h14
theorem k0_off204_inb : ∀ (i : grid0.Coords) (k0_t2 : Fin k0_t2_loop.trips) (v191 : BitVec 32) (v194 : BitVec 32) (k0_hw13 : k0_chk13 i k0_t2 v191 v194) (k0_t27 : Fin (k0_t27_loop i k0_t2 v191 v194).trips), ∀ (k0_h1 : k0_cond1 k0_t2 = 1#1), ∀ (k0_h14 : k0_cond14 i k0_t2 v191 v194 = 1#1), ∀ a, (k0_off204 i k0_t2 v191 v194 k0_t27) a + S1x16.size a ≤ S256x128.size a := fun i k0_t2 v191 v194 k0_hw13 k0_t27 k0_h1 k0_h14 => k0_hw13.2.2.1 k0_t27 k0_h1 k0_h14
theorem k0_off205_inb : ∀ (i : grid0.Coords) (k0_t2 : Fin k0_t2_loop.trips) (v191 : BitVec 32) (v194 : BitVec 32) (k0_hw13 : k0_chk13 i k0_t2 v191 v194) (k0_t27 : Fin (k0_t27_loop i k0_t2 v191 v194).trips), ∀ (k0_h1 : k0_cond1 k0_t2 = 1#1), ∀ (k0_h14 : k0_cond14 i k0_t2 v191 v194 = 1#1), ∀ a, (k0_off205 i k0_t2 v191 v194 k0_t27) a + S1x16.size a ≤ S256x128.size a := fun i k0_t2 v191 v194 k0_hw13 k0_t27 k0_h1 k0_h14 => k0_hw13.2.2.2.1 k0_t27 k0_h1 k0_h14
theorem k0_off206_inb : ∀ (i : grid0.Coords) (k0_t2 : Fin k0_t2_loop.trips) (v191 : BitVec 32) (v194 : BitVec 32) (k0_hw13 : k0_chk13 i k0_t2 v191 v194) (k0_t27 : Fin (k0_t27_loop i k0_t2 v191 v194).trips), ∀ (k0_h1 : k0_cond1 k0_t2 = 1#1), ∀ (k0_h14 : k0_cond14 i k0_t2 v191 v194 = 1#1), ∀ a, (k0_off206 i k0_t2 v191 v194 k0_t27) a + S1x16.size a ≤ S256x128.size a := fun i k0_t2 v191 v194 k0_hw13 k0_t27 k0_h1 k0_h14 => k0_hw13.2.2.2.2.1 k0_t27 k0_h1 k0_h14
theorem k0_off207_inb : ∀ (i : grid0.Coords) (k0_t2 : Fin k0_t2_loop.trips) (v191 : BitVec 32) (v194 : BitVec 32) (k0_hw13 : k0_chk13 i k0_t2 v191 v194) (k0_t27 : Fin (k0_t27_loop i k0_t2 v191 v194).trips), ∀ (k0_h1 : k0_cond1 k0_t2 = 1#1), ∀ (k0_h14 : k0_cond14 i k0_t2 v191 v194 = 1#1), ∀ a, (k0_off207 i k0_t2 v191 v194 k0_t27) a + S1x16.size a ≤ S256x128.size a := fun i k0_t2 v191 v194 k0_hw13 k0_t27 k0_h1 k0_h14 => k0_hw13.2.2.2.2.2.1 k0_t27 k0_h1 k0_h14
theorem k0_off208_inb : ∀ (i : grid0.Coords) (k0_t2 : Fin k0_t2_loop.trips) (v191 : BitVec 32) (v194 : BitVec 32) (k0_hw13 : k0_chk13 i k0_t2 v191 v194) (k0_t27 : Fin (k0_t27_loop i k0_t2 v191 v194).trips), ∀ (k0_h1 : k0_cond1 k0_t2 = 1#1), ∀ (k0_h14 : k0_cond14 i k0_t2 v191 v194 = 1#1), ∀ a, (k0_off208 i k0_t2 v191 v194 k0_t27) a + S1x16.size a ≤ S256x128.size a := fun i k0_t2 v191 v194 k0_hw13 k0_t27 k0_h1 k0_h14 => k0_hw13.2.2.2.2.2.2.1 k0_t27 k0_h1 k0_h14
theorem k0_off209_inb : ∀ (i : grid0.Coords) (k0_t2 : Fin k0_t2_loop.trips) (v191 : BitVec 32) (v194 : BitVec 32) (k0_hw13 : k0_chk13 i k0_t2 v191 v194) (k0_t27 : Fin (k0_t27_loop i k0_t2 v191 v194).trips), ∀ (k0_h1 : k0_cond1 k0_t2 = 1#1), ∀ (k0_h14 : k0_cond14 i k0_t2 v191 v194 = 1#1), ∀ a, (k0_off209 i k0_t2 v191 v194 k0_t27) a + S1x16.size a ≤ S256x128.size a := fun i k0_t2 v191 v194 k0_hw13 k0_t27 k0_h1 k0_h14 => k0_hw13.2.2.2.2.2.2.2.1 k0_t27 k0_h1 k0_h14
theorem k0_off210_inb : ∀ (i : grid0.Coords) (k0_t2 : Fin k0_t2_loop.trips) (v191 : BitVec 32) (v194 : BitVec 32) (k0_hw13 : k0_chk13 i k0_t2 v191 v194) (k0_t27 : Fin (k0_t27_loop i k0_t2 v191 v194).trips), ∀ (k0_h1 : k0_cond1 k0_t2 = 1#1), ∀ (k0_h14 : k0_cond14 i k0_t2 v191 v194 = 1#1), ∀ a, (k0_off210 i k0_t2 v191 v194 k0_t27) a + S1x16.size a ≤ S256x128.size a := fun i k0_t2 v191 v194 k0_hw13 k0_t27 k0_h1 k0_h14 => k0_hw13.2.2.2.2.2.2.2.2.1 k0_t27 k0_h1 k0_h14
theorem k0_t28_ok : ∀ (i : grid0.Coords) (k0_t2 : Fin k0_t2_loop.trips) (v191 : BitVec 32) (v194 : BitVec 32) (k0_hw13 : k0_chk13 i k0_t2 v191 v194), ∀ (k0_h1 : k0_cond1 k0_t2 = 1#1), ∀ (k0_h14 : k0_cond14 i k0_t2 v191 v194 = 1#1), (k0_t28_loop i k0_t2 v191 v194).OK := fun i k0_t2 v191 v194 k0_hw13 k0_h1 k0_h14 => k0_hw13.2.2.2.2.2.2.2.2.2.1 k0_h1 k0_h14
theorem k0_off211_inb : ∀ (i : grid0.Coords) (k0_t2 : Fin k0_t2_loop.trips) (v191 : BitVec 32) (v194 : BitVec 32) (k0_hw13 : k0_chk13 i k0_t2 v191 v194) (k0_t28 : Fin (k0_t28_loop i k0_t2 v191 v194).trips), ∀ (k0_h1 : k0_cond1 k0_t2 = 1#1), ∀ (k0_h14 : k0_cond14 i k0_t2 v191 v194 = 1#1), ∀ a, (k0_off211 i k0_t2 v191 v194 k0_t28) a + S1x16.size a ≤ S256x128.size a := fun i k0_t2 v191 v194 k0_hw13 k0_t28 k0_h1 k0_h14 => k0_hw13.2.2.2.2.2.2.2.2.2.2.1 k0_t28 k0_h1 k0_h14
theorem k0_off212_inb : ∀ (i : grid0.Coords) (k0_t2 : Fin k0_t2_loop.trips) (v191 : BitVec 32) (v194 : BitVec 32) (k0_hw13 : k0_chk13 i k0_t2 v191 v194) (k0_t28 : Fin (k0_t28_loop i k0_t2 v191 v194).trips), ∀ (k0_h1 : k0_cond1 k0_t2 = 1#1), ∀ (k0_h14 : k0_cond14 i k0_t2 v191 v194 = 1#1), ∀ a, (k0_off212 i k0_t2 v191 v194 k0_t28) a + S1x16.size a ≤ S256x128.size a := fun i k0_t2 v191 v194 k0_hw13 k0_t28 k0_h1 k0_h14 => k0_hw13.2.2.2.2.2.2.2.2.2.2.2.1 k0_t28 k0_h1 k0_h14
theorem k0_off213_inb : ∀ (i : grid0.Coords) (k0_t2 : Fin k0_t2_loop.trips) (v191 : BitVec 32) (v194 : BitVec 32) (k0_hw13 : k0_chk13 i k0_t2 v191 v194) (k0_t28 : Fin (k0_t28_loop i k0_t2 v191 v194).trips), ∀ (k0_h1 : k0_cond1 k0_t2 = 1#1), ∀ (k0_h14 : k0_cond14 i k0_t2 v191 v194 = 1#1), ∀ a, (k0_off213 i k0_t2 v191 v194 k0_t28) a + S1x16.size a ≤ S256x128.size a := fun i k0_t2 v191 v194 k0_hw13 k0_t28 k0_h1 k0_h14 => k0_hw13.2.2.2.2.2.2.2.2.2.2.2.2.1 k0_t28 k0_h1 k0_h14
theorem k0_off214_inb : ∀ (i : grid0.Coords) (k0_t2 : Fin k0_t2_loop.trips) (v191 : BitVec 32) (v194 : BitVec 32) (k0_hw13 : k0_chk13 i k0_t2 v191 v194) (k0_t28 : Fin (k0_t28_loop i k0_t2 v191 v194).trips), ∀ (k0_h1 : k0_cond1 k0_t2 = 1#1), ∀ (k0_h14 : k0_cond14 i k0_t2 v191 v194 = 1#1), ∀ a, (k0_off214 i k0_t2 v191 v194 k0_t28) a + S1x16.size a ≤ S256x128.size a := fun i k0_t2 v191 v194 k0_hw13 k0_t28 k0_h1 k0_h14 => k0_hw13.2.2.2.2.2.2.2.2.2.2.2.2.2.1 k0_t28 k0_h1 k0_h14
theorem k0_off215_inb : ∀ (i : grid0.Coords) (k0_t2 : Fin k0_t2_loop.trips) (v191 : BitVec 32) (v194 : BitVec 32) (k0_hw13 : k0_chk13 i k0_t2 v191 v194) (k0_t28 : Fin (k0_t28_loop i k0_t2 v191 v194).trips), ∀ (k0_h1 : k0_cond1 k0_t2 = 1#1), ∀ (k0_h14 : k0_cond14 i k0_t2 v191 v194 = 1#1), ∀ a, (k0_off215 i k0_t2 v191 v194 k0_t28) a + S1x16.size a ≤ S256x128.size a := fun i k0_t2 v191 v194 k0_hw13 k0_t28 k0_h1 k0_h14 => k0_hw13.2.2.2.2.2.2.2.2.2.2.2.2.2.2.1 k0_t28 k0_h1 k0_h14
theorem k0_off216_inb : ∀ (i : grid0.Coords) (k0_t2 : Fin k0_t2_loop.trips) (v191 : BitVec 32) (v194 : BitVec 32) (k0_hw13 : k0_chk13 i k0_t2 v191 v194) (k0_t28 : Fin (k0_t28_loop i k0_t2 v191 v194).trips), ∀ (k0_h1 : k0_cond1 k0_t2 = 1#1), ∀ (k0_h14 : k0_cond14 i k0_t2 v191 v194 = 1#1), ∀ a, (k0_off216 i k0_t2 v191 v194 k0_t28) a + S1x16.size a ≤ S256x128.size a := fun i k0_t2 v191 v194 k0_hw13 k0_t28 k0_h1 k0_h14 => k0_hw13.2.2.2.2.2.2.2.2.2.2.2.2.2.2.2.1 k0_t28 k0_h1 k0_h14
theorem k0_off217_inb : ∀ (i : grid0.Coords) (k0_t2 : Fin k0_t2_loop.trips) (v191 : BitVec 32) (v194 : BitVec 32) (k0_hw13 : k0_chk13 i k0_t2 v191 v194) (k0_t28 : Fin (k0_t28_loop i k0_t2 v191 v194).trips), ∀ (k0_h1 : k0_cond1 k0_t2 = 1#1), ∀ (k0_h14 : k0_cond14 i k0_t2 v191 v194 = 1#1), ∀ a, (k0_off217 i k0_t2 v191 v194 k0_t28) a + S1x16.size a ≤ S256x128.size a := fun i k0_t2 v191 v194 k0_hw13 k0_t28 k0_h1 k0_h14 => k0_hw13.2.2.2.2.2.2.2.2.2.2.2.2.2.2.2.2.1 k0_t28 k0_h1 k0_h14
theorem k0_off218_inb : ∀ (i : grid0.Coords) (k0_t2 : Fin k0_t2_loop.trips) (v191 : BitVec 32) (v194 : BitVec 32) (k0_hw13 : k0_chk13 i k0_t2 v191 v194) (k0_t28 : Fin (k0_t28_loop i k0_t2 v191 v194).trips), ∀ (k0_h1 : k0_cond1 k0_t2 = 1#1), ∀ (k0_h14 : k0_cond14 i k0_t2 v191 v194 = 1#1), ∀ a, (k0_off218 i k0_t2 v191 v194 k0_t28) a + S1x16.size a ≤ S256x128.size a := fun i k0_t2 v191 v194 k0_hw13 k0_t28 k0_h1 k0_h14 => k0_hw13.2.2.2.2.2.2.2.2.2.2.2.2.2.2.2.2.2 k0_t28 k0_h1 k0_h14

@[reducible] def k0_t29_loop (i : grid0.Coords) (k0_t2 : Fin k0_t2_loop.trips) (v200 : BitVec 32) (v203 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v201 : BitVec 32 := Scalar.maxsi v200 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_85 : BitVec 32 := 1#32
  ⟨v201, v234, c1_i32_85⟩
def k0_cond15 (i : grid0.Coords) (k0_t2 : Fin k0_t2_loop.trips) (v200 : BitVec 32) (v203 : BitVec 32) : BitVec 1 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v204 : BitVec 32 := Scalar.minsi v203 v77
  let v201 : BitVec 32 := Scalar.maxsi v200 v75
  let v205 : BitVec 1 := Scalar.cmpi .sgt v204 v201
  let v206 : BitVec 32 := Scalar.extui v205
  let c0_i32_78 : BitVec 32 := 0#32
  let v207 : BitVec 1 := Scalar.cmpi .ne v206 c0_i32_78
  v207

def k0_off219 (i : grid0.Coords) (k0_t2 : Fin k0_t2_loop.trips) (v200 : BitVec 32) (v203 : BitVec 32) (k0_t29 : Fin (k0_t29_loop i k0_t2 v200 v203).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v201 : BitVec 32 := Scalar.maxsi v200 v75
  let c1_i32_85 : BitVec 32 := 1#32
  let arg19 : BitVec 32 := Scf.iv v201 c1_i32_85 k0_t29
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off220 (i : grid0.Coords) (k0_t2 : Fin k0_t2_loop.trips) (v200 : BitVec 32) (v203 : BitVec 32) (k0_t29 : Fin (k0_t29_loop i k0_t2 v200 v203).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v201 : BitVec 32 := Scalar.maxsi v200 v75
  let c1_i32_85 : BitVec 32 := 1#32
  let arg19 : BitVec 32 := Scf.iv v201 c1_i32_85 k0_t29
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off221 (i : grid0.Coords) (k0_t2 : Fin k0_t2_loop.trips) (v200 : BitVec 32) (v203 : BitVec 32) (k0_t29 : Fin (k0_t29_loop i k0_t2 v200 v203).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v201 : BitVec 32 := Scalar.maxsi v200 v75
  let c1_i32_85 : BitVec 32 := 1#32
  let arg19 : BitVec 32 := Scf.iv v201 c1_i32_85 k0_t29
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off222 (i : grid0.Coords) (k0_t2 : Fin k0_t2_loop.trips) (v200 : BitVec 32) (v203 : BitVec 32) (k0_t29 : Fin (k0_t29_loop i k0_t2 v200 v203).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v201 : BitVec 32 := Scalar.maxsi v200 v75
  let c1_i32_85 : BitVec 32 := 1#32
  let arg19 : BitVec 32 := Scf.iv v201 c1_i32_85 k0_t29
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off223 (i : grid0.Coords) (k0_t2 : Fin k0_t2_loop.trips) (v200 : BitVec 32) (v203 : BitVec 32) (k0_t29 : Fin (k0_t29_loop i k0_t2 v200 v203).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v201 : BitVec 32 := Scalar.maxsi v200 v75
  let c1_i32_85 : BitVec 32 := 1#32
  let arg19 : BitVec 32 := Scf.iv v201 c1_i32_85 k0_t29
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off224 (i : grid0.Coords) (k0_t2 : Fin k0_t2_loop.trips) (v200 : BitVec 32) (v203 : BitVec 32) (k0_t29 : Fin (k0_t29_loop i k0_t2 v200 v203).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v201 : BitVec 32 := Scalar.maxsi v200 v75
  let c1_i32_85 : BitVec 32 := 1#32
  let arg19 : BitVec 32 := Scf.iv v201 c1_i32_85 k0_t29
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off225 (i : grid0.Coords) (k0_t2 : Fin k0_t2_loop.trips) (v200 : BitVec 32) (v203 : BitVec 32) (k0_t29 : Fin (k0_t29_loop i k0_t2 v200 v203).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v201 : BitVec 32 := Scalar.maxsi v200 v75
  let c1_i32_85 : BitVec 32 := 1#32
  let arg19 : BitVec 32 := Scf.iv v201 c1_i32_85 k0_t29
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off226 (i : grid0.Coords) (k0_t2 : Fin k0_t2_loop.trips) (v200 : BitVec 32) (v203 : BitVec 32) (k0_t29 : Fin (k0_t29_loop i k0_t2 v200 v203).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v201 : BitVec 32 := Scalar.maxsi v200 v75
  let c1_i32_85 : BitVec 32 := 1#32
  let arg19 : BitVec 32 := Scf.iv v201 c1_i32_85 k0_t29
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]
@[reducible] def k0_t30_loop (i : grid0.Coords) (k0_t2 : Fin k0_t2_loop.trips) (v200 : BitVec 32) (v203 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v201 : BitVec 32 := Scalar.maxsi v200 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let v231 : BitVec 32 := Scalar.addi v201 v230
  let c1_i32_86 : BitVec 32 := 1#32
  ⟨v234, v231, c1_i32_86⟩
def k0_off227 (i : grid0.Coords) (k0_t2 : Fin k0_t2_loop.trips) (v200 : BitVec 32) (v203 : BitVec 32) (k0_t30 : Fin (k0_t30_loop i k0_t2 v200 v203).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v201 : BitVec 32 := Scalar.maxsi v200 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_86 : BitVec 32 := 1#32
  let arg19 : BitVec 32 := Scf.iv v234 c1_i32_86 k0_t30
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off228 (i : grid0.Coords) (k0_t2 : Fin k0_t2_loop.trips) (v200 : BitVec 32) (v203 : BitVec 32) (k0_t30 : Fin (k0_t30_loop i k0_t2 v200 v203).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v201 : BitVec 32 := Scalar.maxsi v200 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_86 : BitVec 32 := 1#32
  let arg19 : BitVec 32 := Scf.iv v234 c1_i32_86 k0_t30
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off229 (i : grid0.Coords) (k0_t2 : Fin k0_t2_loop.trips) (v200 : BitVec 32) (v203 : BitVec 32) (k0_t30 : Fin (k0_t30_loop i k0_t2 v200 v203).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v201 : BitVec 32 := Scalar.maxsi v200 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_86 : BitVec 32 := 1#32
  let arg19 : BitVec 32 := Scf.iv v234 c1_i32_86 k0_t30
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off230 (i : grid0.Coords) (k0_t2 : Fin k0_t2_loop.trips) (v200 : BitVec 32) (v203 : BitVec 32) (k0_t30 : Fin (k0_t30_loop i k0_t2 v200 v203).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v201 : BitVec 32 := Scalar.maxsi v200 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_86 : BitVec 32 := 1#32
  let arg19 : BitVec 32 := Scf.iv v234 c1_i32_86 k0_t30
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off231 (i : grid0.Coords) (k0_t2 : Fin k0_t2_loop.trips) (v200 : BitVec 32) (v203 : BitVec 32) (k0_t30 : Fin (k0_t30_loop i k0_t2 v200 v203).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v201 : BitVec 32 := Scalar.maxsi v200 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_86 : BitVec 32 := 1#32
  let arg19 : BitVec 32 := Scf.iv v234 c1_i32_86 k0_t30
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off232 (i : grid0.Coords) (k0_t2 : Fin k0_t2_loop.trips) (v200 : BitVec 32) (v203 : BitVec 32) (k0_t30 : Fin (k0_t30_loop i k0_t2 v200 v203).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v201 : BitVec 32 := Scalar.maxsi v200 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_86 : BitVec 32 := 1#32
  let arg19 : BitVec 32 := Scf.iv v234 c1_i32_86 k0_t30
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off233 (i : grid0.Coords) (k0_t2 : Fin k0_t2_loop.trips) (v200 : BitVec 32) (v203 : BitVec 32) (k0_t30 : Fin (k0_t30_loop i k0_t2 v200 v203).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v201 : BitVec 32 := Scalar.maxsi v200 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_86 : BitVec 32 := 1#32
  let arg19 : BitVec 32 := Scf.iv v234 c1_i32_86 k0_t30
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off234 (i : grid0.Coords) (k0_t2 : Fin k0_t2_loop.trips) (v200 : BitVec 32) (v203 : BitVec 32) (k0_t30 : Fin (k0_t30_loop i k0_t2 v200 v203).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v201 : BitVec 32 := Scalar.maxsi v200 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_86 : BitVec 32 := 1#32
  let arg19 : BitVec 32 := Scf.iv v234 c1_i32_86 k0_t30
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]

def k0_chk14 (i : grid0.Coords) (k0_t2 : Fin k0_t2_loop.trips) (v200 : BitVec 32) (v203 : BitVec 32) : Prop :=
  (∀ (k0_h1 : k0_cond1 k0_t2 = 1#1), ∀ (k0_h15 : k0_cond15 i k0_t2 v200 v203 = 1#1), (k0_t29_loop i k0_t2 v200 v203).OK) ∧
  (∀ k0_t29 : Fin (k0_t29_loop i k0_t2 v200 v203).trips, ∀ (k0_h1 : k0_cond1 k0_t2 = 1#1), ∀ (k0_h15 : k0_cond15 i k0_t2 v200 v203 = 1#1), ∀ a, (k0_off219 i k0_t2 v200 v203 k0_t29) a + S1x16.size a ≤ S256x128.size a) ∧
  (∀ k0_t29 : Fin (k0_t29_loop i k0_t2 v200 v203).trips, ∀ (k0_h1 : k0_cond1 k0_t2 = 1#1), ∀ (k0_h15 : k0_cond15 i k0_t2 v200 v203 = 1#1), ∀ a, (k0_off220 i k0_t2 v200 v203 k0_t29) a + S1x16.size a ≤ S256x128.size a) ∧
  (∀ k0_t29 : Fin (k0_t29_loop i k0_t2 v200 v203).trips, ∀ (k0_h1 : k0_cond1 k0_t2 = 1#1), ∀ (k0_h15 : k0_cond15 i k0_t2 v200 v203 = 1#1), ∀ a, (k0_off221 i k0_t2 v200 v203 k0_t29) a + S1x16.size a ≤ S256x128.size a) ∧
  (∀ k0_t29 : Fin (k0_t29_loop i k0_t2 v200 v203).trips, ∀ (k0_h1 : k0_cond1 k0_t2 = 1#1), ∀ (k0_h15 : k0_cond15 i k0_t2 v200 v203 = 1#1), ∀ a, (k0_off222 i k0_t2 v200 v203 k0_t29) a + S1x16.size a ≤ S256x128.size a) ∧
  (∀ k0_t29 : Fin (k0_t29_loop i k0_t2 v200 v203).trips, ∀ (k0_h1 : k0_cond1 k0_t2 = 1#1), ∀ (k0_h15 : k0_cond15 i k0_t2 v200 v203 = 1#1), ∀ a, (k0_off223 i k0_t2 v200 v203 k0_t29) a + S1x16.size a ≤ S256x128.size a) ∧
  (∀ k0_t29 : Fin (k0_t29_loop i k0_t2 v200 v203).trips, ∀ (k0_h1 : k0_cond1 k0_t2 = 1#1), ∀ (k0_h15 : k0_cond15 i k0_t2 v200 v203 = 1#1), ∀ a, (k0_off224 i k0_t2 v200 v203 k0_t29) a + S1x16.size a ≤ S256x128.size a) ∧
  (∀ k0_t29 : Fin (k0_t29_loop i k0_t2 v200 v203).trips, ∀ (k0_h1 : k0_cond1 k0_t2 = 1#1), ∀ (k0_h15 : k0_cond15 i k0_t2 v200 v203 = 1#1), ∀ a, (k0_off225 i k0_t2 v200 v203 k0_t29) a + S1x16.size a ≤ S256x128.size a) ∧
  (∀ k0_t29 : Fin (k0_t29_loop i k0_t2 v200 v203).trips, ∀ (k0_h1 : k0_cond1 k0_t2 = 1#1), ∀ (k0_h15 : k0_cond15 i k0_t2 v200 v203 = 1#1), ∀ a, (k0_off226 i k0_t2 v200 v203 k0_t29) a + S1x16.size a ≤ S256x128.size a) ∧
  (∀ (k0_h1 : k0_cond1 k0_t2 = 1#1), ∀ (k0_h15 : k0_cond15 i k0_t2 v200 v203 = 1#1), (k0_t30_loop i k0_t2 v200 v203).OK) ∧
  (∀ k0_t30 : Fin (k0_t30_loop i k0_t2 v200 v203).trips, ∀ (k0_h1 : k0_cond1 k0_t2 = 1#1), ∀ (k0_h15 : k0_cond15 i k0_t2 v200 v203 = 1#1), ∀ a, (k0_off227 i k0_t2 v200 v203 k0_t30) a + S1x16.size a ≤ S256x128.size a) ∧
  (∀ k0_t30 : Fin (k0_t30_loop i k0_t2 v200 v203).trips, ∀ (k0_h1 : k0_cond1 k0_t2 = 1#1), ∀ (k0_h15 : k0_cond15 i k0_t2 v200 v203 = 1#1), ∀ a, (k0_off228 i k0_t2 v200 v203 k0_t30) a + S1x16.size a ≤ S256x128.size a) ∧
  (∀ k0_t30 : Fin (k0_t30_loop i k0_t2 v200 v203).trips, ∀ (k0_h1 : k0_cond1 k0_t2 = 1#1), ∀ (k0_h15 : k0_cond15 i k0_t2 v200 v203 = 1#1), ∀ a, (k0_off229 i k0_t2 v200 v203 k0_t30) a + S1x16.size a ≤ S256x128.size a) ∧
  (∀ k0_t30 : Fin (k0_t30_loop i k0_t2 v200 v203).trips, ∀ (k0_h1 : k0_cond1 k0_t2 = 1#1), ∀ (k0_h15 : k0_cond15 i k0_t2 v200 v203 = 1#1), ∀ a, (k0_off230 i k0_t2 v200 v203 k0_t30) a + S1x16.size a ≤ S256x128.size a) ∧
  (∀ k0_t30 : Fin (k0_t30_loop i k0_t2 v200 v203).trips, ∀ (k0_h1 : k0_cond1 k0_t2 = 1#1), ∀ (k0_h15 : k0_cond15 i k0_t2 v200 v203 = 1#1), ∀ a, (k0_off231 i k0_t2 v200 v203 k0_t30) a + S1x16.size a ≤ S256x128.size a) ∧
  (∀ k0_t30 : Fin (k0_t30_loop i k0_t2 v200 v203).trips, ∀ (k0_h1 : k0_cond1 k0_t2 = 1#1), ∀ (k0_h15 : k0_cond15 i k0_t2 v200 v203 = 1#1), ∀ a, (k0_off232 i k0_t2 v200 v203 k0_t30) a + S1x16.size a ≤ S256x128.size a) ∧
  (∀ k0_t30 : Fin (k0_t30_loop i k0_t2 v200 v203).trips, ∀ (k0_h1 : k0_cond1 k0_t2 = 1#1), ∀ (k0_h15 : k0_cond15 i k0_t2 v200 v203 = 1#1), ∀ a, (k0_off233 i k0_t2 v200 v203 k0_t30) a + S1x16.size a ≤ S256x128.size a) ∧
  (∀ k0_t30 : Fin (k0_t30_loop i k0_t2 v200 v203).trips, ∀ (k0_h1 : k0_cond1 k0_t2 = 1#1), ∀ (k0_h15 : k0_cond15 i k0_t2 v200 v203 = 1#1), ∀ a, (k0_off234 i k0_t2 v200 v203 k0_t30) a + S1x16.size a ≤ S256x128.size a)
theorem k0_t29_ok : ∀ (i : grid0.Coords) (k0_t2 : Fin k0_t2_loop.trips) (v200 : BitVec 32) (v203 : BitVec 32) (k0_hw14 : k0_chk14 i k0_t2 v200 v203), ∀ (k0_h1 : k0_cond1 k0_t2 = 1#1), ∀ (k0_h15 : k0_cond15 i k0_t2 v200 v203 = 1#1), (k0_t29_loop i k0_t2 v200 v203).OK := fun i k0_t2 v200 v203 k0_hw14 k0_h1 k0_h15 => k0_hw14.1 k0_h1 k0_h15
theorem k0_off219_inb : ∀ (i : grid0.Coords) (k0_t2 : Fin k0_t2_loop.trips) (v200 : BitVec 32) (v203 : BitVec 32) (k0_hw14 : k0_chk14 i k0_t2 v200 v203) (k0_t29 : Fin (k0_t29_loop i k0_t2 v200 v203).trips), ∀ (k0_h1 : k0_cond1 k0_t2 = 1#1), ∀ (k0_h15 : k0_cond15 i k0_t2 v200 v203 = 1#1), ∀ a, (k0_off219 i k0_t2 v200 v203 k0_t29) a + S1x16.size a ≤ S256x128.size a := fun i k0_t2 v200 v203 k0_hw14 k0_t29 k0_h1 k0_h15 => k0_hw14.2.1 k0_t29 k0_h1 k0_h15
theorem k0_off220_inb : ∀ (i : grid0.Coords) (k0_t2 : Fin k0_t2_loop.trips) (v200 : BitVec 32) (v203 : BitVec 32) (k0_hw14 : k0_chk14 i k0_t2 v200 v203) (k0_t29 : Fin (k0_t29_loop i k0_t2 v200 v203).trips), ∀ (k0_h1 : k0_cond1 k0_t2 = 1#1), ∀ (k0_h15 : k0_cond15 i k0_t2 v200 v203 = 1#1), ∀ a, (k0_off220 i k0_t2 v200 v203 k0_t29) a + S1x16.size a ≤ S256x128.size a := fun i k0_t2 v200 v203 k0_hw14 k0_t29 k0_h1 k0_h15 => k0_hw14.2.2.1 k0_t29 k0_h1 k0_h15
theorem k0_off221_inb : ∀ (i : grid0.Coords) (k0_t2 : Fin k0_t2_loop.trips) (v200 : BitVec 32) (v203 : BitVec 32) (k0_hw14 : k0_chk14 i k0_t2 v200 v203) (k0_t29 : Fin (k0_t29_loop i k0_t2 v200 v203).trips), ∀ (k0_h1 : k0_cond1 k0_t2 = 1#1), ∀ (k0_h15 : k0_cond15 i k0_t2 v200 v203 = 1#1), ∀ a, (k0_off221 i k0_t2 v200 v203 k0_t29) a + S1x16.size a ≤ S256x128.size a := fun i k0_t2 v200 v203 k0_hw14 k0_t29 k0_h1 k0_h15 => k0_hw14.2.2.2.1 k0_t29 k0_h1 k0_h15
theorem k0_off222_inb : ∀ (i : grid0.Coords) (k0_t2 : Fin k0_t2_loop.trips) (v200 : BitVec 32) (v203 : BitVec 32) (k0_hw14 : k0_chk14 i k0_t2 v200 v203) (k0_t29 : Fin (k0_t29_loop i k0_t2 v200 v203).trips), ∀ (k0_h1 : k0_cond1 k0_t2 = 1#1), ∀ (k0_h15 : k0_cond15 i k0_t2 v200 v203 = 1#1), ∀ a, (k0_off222 i k0_t2 v200 v203 k0_t29) a + S1x16.size a ≤ S256x128.size a := fun i k0_t2 v200 v203 k0_hw14 k0_t29 k0_h1 k0_h15 => k0_hw14.2.2.2.2.1 k0_t29 k0_h1 k0_h15
theorem k0_off223_inb : ∀ (i : grid0.Coords) (k0_t2 : Fin k0_t2_loop.trips) (v200 : BitVec 32) (v203 : BitVec 32) (k0_hw14 : k0_chk14 i k0_t2 v200 v203) (k0_t29 : Fin (k0_t29_loop i k0_t2 v200 v203).trips), ∀ (k0_h1 : k0_cond1 k0_t2 = 1#1), ∀ (k0_h15 : k0_cond15 i k0_t2 v200 v203 = 1#1), ∀ a, (k0_off223 i k0_t2 v200 v203 k0_t29) a + S1x16.size a ≤ S256x128.size a := fun i k0_t2 v200 v203 k0_hw14 k0_t29 k0_h1 k0_h15 => k0_hw14.2.2.2.2.2.1 k0_t29 k0_h1 k0_h15
theorem k0_off224_inb : ∀ (i : grid0.Coords) (k0_t2 : Fin k0_t2_loop.trips) (v200 : BitVec 32) (v203 : BitVec 32) (k0_hw14 : k0_chk14 i k0_t2 v200 v203) (k0_t29 : Fin (k0_t29_loop i k0_t2 v200 v203).trips), ∀ (k0_h1 : k0_cond1 k0_t2 = 1#1), ∀ (k0_h15 : k0_cond15 i k0_t2 v200 v203 = 1#1), ∀ a, (k0_off224 i k0_t2 v200 v203 k0_t29) a + S1x16.size a ≤ S256x128.size a := fun i k0_t2 v200 v203 k0_hw14 k0_t29 k0_h1 k0_h15 => k0_hw14.2.2.2.2.2.2.1 k0_t29 k0_h1 k0_h15
theorem k0_off225_inb : ∀ (i : grid0.Coords) (k0_t2 : Fin k0_t2_loop.trips) (v200 : BitVec 32) (v203 : BitVec 32) (k0_hw14 : k0_chk14 i k0_t2 v200 v203) (k0_t29 : Fin (k0_t29_loop i k0_t2 v200 v203).trips), ∀ (k0_h1 : k0_cond1 k0_t2 = 1#1), ∀ (k0_h15 : k0_cond15 i k0_t2 v200 v203 = 1#1), ∀ a, (k0_off225 i k0_t2 v200 v203 k0_t29) a + S1x16.size a ≤ S256x128.size a := fun i k0_t2 v200 v203 k0_hw14 k0_t29 k0_h1 k0_h15 => k0_hw14.2.2.2.2.2.2.2.1 k0_t29 k0_h1 k0_h15
theorem k0_off226_inb : ∀ (i : grid0.Coords) (k0_t2 : Fin k0_t2_loop.trips) (v200 : BitVec 32) (v203 : BitVec 32) (k0_hw14 : k0_chk14 i k0_t2 v200 v203) (k0_t29 : Fin (k0_t29_loop i k0_t2 v200 v203).trips), ∀ (k0_h1 : k0_cond1 k0_t2 = 1#1), ∀ (k0_h15 : k0_cond15 i k0_t2 v200 v203 = 1#1), ∀ a, (k0_off226 i k0_t2 v200 v203 k0_t29) a + S1x16.size a ≤ S256x128.size a := fun i k0_t2 v200 v203 k0_hw14 k0_t29 k0_h1 k0_h15 => k0_hw14.2.2.2.2.2.2.2.2.1 k0_t29 k0_h1 k0_h15
theorem k0_t30_ok : ∀ (i : grid0.Coords) (k0_t2 : Fin k0_t2_loop.trips) (v200 : BitVec 32) (v203 : BitVec 32) (k0_hw14 : k0_chk14 i k0_t2 v200 v203), ∀ (k0_h1 : k0_cond1 k0_t2 = 1#1), ∀ (k0_h15 : k0_cond15 i k0_t2 v200 v203 = 1#1), (k0_t30_loop i k0_t2 v200 v203).OK := fun i k0_t2 v200 v203 k0_hw14 k0_h1 k0_h15 => k0_hw14.2.2.2.2.2.2.2.2.2.1 k0_h1 k0_h15
theorem k0_off227_inb : ∀ (i : grid0.Coords) (k0_t2 : Fin k0_t2_loop.trips) (v200 : BitVec 32) (v203 : BitVec 32) (k0_hw14 : k0_chk14 i k0_t2 v200 v203) (k0_t30 : Fin (k0_t30_loop i k0_t2 v200 v203).trips), ∀ (k0_h1 : k0_cond1 k0_t2 = 1#1), ∀ (k0_h15 : k0_cond15 i k0_t2 v200 v203 = 1#1), ∀ a, (k0_off227 i k0_t2 v200 v203 k0_t30) a + S1x16.size a ≤ S256x128.size a := fun i k0_t2 v200 v203 k0_hw14 k0_t30 k0_h1 k0_h15 => k0_hw14.2.2.2.2.2.2.2.2.2.2.1 k0_t30 k0_h1 k0_h15
theorem k0_off228_inb : ∀ (i : grid0.Coords) (k0_t2 : Fin k0_t2_loop.trips) (v200 : BitVec 32) (v203 : BitVec 32) (k0_hw14 : k0_chk14 i k0_t2 v200 v203) (k0_t30 : Fin (k0_t30_loop i k0_t2 v200 v203).trips), ∀ (k0_h1 : k0_cond1 k0_t2 = 1#1), ∀ (k0_h15 : k0_cond15 i k0_t2 v200 v203 = 1#1), ∀ a, (k0_off228 i k0_t2 v200 v203 k0_t30) a + S1x16.size a ≤ S256x128.size a := fun i k0_t2 v200 v203 k0_hw14 k0_t30 k0_h1 k0_h15 => k0_hw14.2.2.2.2.2.2.2.2.2.2.2.1 k0_t30 k0_h1 k0_h15
theorem k0_off229_inb : ∀ (i : grid0.Coords) (k0_t2 : Fin k0_t2_loop.trips) (v200 : BitVec 32) (v203 : BitVec 32) (k0_hw14 : k0_chk14 i k0_t2 v200 v203) (k0_t30 : Fin (k0_t30_loop i k0_t2 v200 v203).trips), ∀ (k0_h1 : k0_cond1 k0_t2 = 1#1), ∀ (k0_h15 : k0_cond15 i k0_t2 v200 v203 = 1#1), ∀ a, (k0_off229 i k0_t2 v200 v203 k0_t30) a + S1x16.size a ≤ S256x128.size a := fun i k0_t2 v200 v203 k0_hw14 k0_t30 k0_h1 k0_h15 => k0_hw14.2.2.2.2.2.2.2.2.2.2.2.2.1 k0_t30 k0_h1 k0_h15
theorem k0_off230_inb : ∀ (i : grid0.Coords) (k0_t2 : Fin k0_t2_loop.trips) (v200 : BitVec 32) (v203 : BitVec 32) (k0_hw14 : k0_chk14 i k0_t2 v200 v203) (k0_t30 : Fin (k0_t30_loop i k0_t2 v200 v203).trips), ∀ (k0_h1 : k0_cond1 k0_t2 = 1#1), ∀ (k0_h15 : k0_cond15 i k0_t2 v200 v203 = 1#1), ∀ a, (k0_off230 i k0_t2 v200 v203 k0_t30) a + S1x16.size a ≤ S256x128.size a := fun i k0_t2 v200 v203 k0_hw14 k0_t30 k0_h1 k0_h15 => k0_hw14.2.2.2.2.2.2.2.2.2.2.2.2.2.1 k0_t30 k0_h1 k0_h15
theorem k0_off231_inb : ∀ (i : grid0.Coords) (k0_t2 : Fin k0_t2_loop.trips) (v200 : BitVec 32) (v203 : BitVec 32) (k0_hw14 : k0_chk14 i k0_t2 v200 v203) (k0_t30 : Fin (k0_t30_loop i k0_t2 v200 v203).trips), ∀ (k0_h1 : k0_cond1 k0_t2 = 1#1), ∀ (k0_h15 : k0_cond15 i k0_t2 v200 v203 = 1#1), ∀ a, (k0_off231 i k0_t2 v200 v203 k0_t30) a + S1x16.size a ≤ S256x128.size a := fun i k0_t2 v200 v203 k0_hw14 k0_t30 k0_h1 k0_h15 => k0_hw14.2.2.2.2.2.2.2.2.2.2.2.2.2.2.1 k0_t30 k0_h1 k0_h15
theorem k0_off232_inb : ∀ (i : grid0.Coords) (k0_t2 : Fin k0_t2_loop.trips) (v200 : BitVec 32) (v203 : BitVec 32) (k0_hw14 : k0_chk14 i k0_t2 v200 v203) (k0_t30 : Fin (k0_t30_loop i k0_t2 v200 v203).trips), ∀ (k0_h1 : k0_cond1 k0_t2 = 1#1), ∀ (k0_h15 : k0_cond15 i k0_t2 v200 v203 = 1#1), ∀ a, (k0_off232 i k0_t2 v200 v203 k0_t30) a + S1x16.size a ≤ S256x128.size a := fun i k0_t2 v200 v203 k0_hw14 k0_t30 k0_h1 k0_h15 => k0_hw14.2.2.2.2.2.2.2.2.2.2.2.2.2.2.2.1 k0_t30 k0_h1 k0_h15
theorem k0_off233_inb : ∀ (i : grid0.Coords) (k0_t2 : Fin k0_t2_loop.trips) (v200 : BitVec 32) (v203 : BitVec 32) (k0_hw14 : k0_chk14 i k0_t2 v200 v203) (k0_t30 : Fin (k0_t30_loop i k0_t2 v200 v203).trips), ∀ (k0_h1 : k0_cond1 k0_t2 = 1#1), ∀ (k0_h15 : k0_cond15 i k0_t2 v200 v203 = 1#1), ∀ a, (k0_off233 i k0_t2 v200 v203 k0_t30) a + S1x16.size a ≤ S256x128.size a := fun i k0_t2 v200 v203 k0_hw14 k0_t30 k0_h1 k0_h15 => k0_hw14.2.2.2.2.2.2.2.2.2.2.2.2.2.2.2.2.1 k0_t30 k0_h1 k0_h15
theorem k0_off234_inb : ∀ (i : grid0.Coords) (k0_t2 : Fin k0_t2_loop.trips) (v200 : BitVec 32) (v203 : BitVec 32) (k0_hw14 : k0_chk14 i k0_t2 v200 v203) (k0_t30 : Fin (k0_t30_loop i k0_t2 v200 v203).trips), ∀ (k0_h1 : k0_cond1 k0_t2 = 1#1), ∀ (k0_h15 : k0_cond15 i k0_t2 v200 v203 = 1#1), ∀ a, (k0_off234 i k0_t2 v200 v203 k0_t30) a + S1x16.size a ≤ S256x128.size a := fun i k0_t2 v200 v203 k0_hw14 k0_t30 k0_h1 k0_h15 => k0_hw14.2.2.2.2.2.2.2.2.2.2.2.2.2.2.2.2.2 k0_t30 k0_h1 k0_h15

@[reducible] def k0_t31_loop (i : grid0.Coords) (k0_t2 : Fin k0_t2_loop.trips) (v209 : BitVec 32) (v212 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v210 : BitVec 32 := Scalar.maxsi v209 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_85 : BitVec 32 := 1#32
  ⟨v210, v234, c1_i32_85⟩
def k0_cond16 (i : grid0.Coords) (k0_t2 : Fin k0_t2_loop.trips) (v209 : BitVec 32) (v212 : BitVec 32) : BitVec 1 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v213 : BitVec 32 := Scalar.minsi v212 v77
  let v210 : BitVec 32 := Scalar.maxsi v209 v75
  let v214 : BitVec 1 := Scalar.cmpi .sgt v213 v210
  let v215 : BitVec 32 := Scalar.extui v214
  let c0_i32_79 : BitVec 32 := 0#32
  let v216 : BitVec 1 := Scalar.cmpi .ne v215 c0_i32_79
  v216

def k0_off235 (i : grid0.Coords) (k0_t2 : Fin k0_t2_loop.trips) (v209 : BitVec 32) (v212 : BitVec 32) (k0_t31 : Fin (k0_t31_loop i k0_t2 v209 v212).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v210 : BitVec 32 := Scalar.maxsi v209 v75
  let c1_i32_85 : BitVec 32 := 1#32
  let arg19 : BitVec 32 := Scf.iv v210 c1_i32_85 k0_t31
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off236 (i : grid0.Coords) (k0_t2 : Fin k0_t2_loop.trips) (v209 : BitVec 32) (v212 : BitVec 32) (k0_t31 : Fin (k0_t31_loop i k0_t2 v209 v212).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v210 : BitVec 32 := Scalar.maxsi v209 v75
  let c1_i32_85 : BitVec 32 := 1#32
  let arg19 : BitVec 32 := Scf.iv v210 c1_i32_85 k0_t31
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off237 (i : grid0.Coords) (k0_t2 : Fin k0_t2_loop.trips) (v209 : BitVec 32) (v212 : BitVec 32) (k0_t31 : Fin (k0_t31_loop i k0_t2 v209 v212).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v210 : BitVec 32 := Scalar.maxsi v209 v75
  let c1_i32_85 : BitVec 32 := 1#32
  let arg19 : BitVec 32 := Scf.iv v210 c1_i32_85 k0_t31
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off238 (i : grid0.Coords) (k0_t2 : Fin k0_t2_loop.trips) (v209 : BitVec 32) (v212 : BitVec 32) (k0_t31 : Fin (k0_t31_loop i k0_t2 v209 v212).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v210 : BitVec 32 := Scalar.maxsi v209 v75
  let c1_i32_85 : BitVec 32 := 1#32
  let arg19 : BitVec 32 := Scf.iv v210 c1_i32_85 k0_t31
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off239 (i : grid0.Coords) (k0_t2 : Fin k0_t2_loop.trips) (v209 : BitVec 32) (v212 : BitVec 32) (k0_t31 : Fin (k0_t31_loop i k0_t2 v209 v212).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v210 : BitVec 32 := Scalar.maxsi v209 v75
  let c1_i32_85 : BitVec 32 := 1#32
  let arg19 : BitVec 32 := Scf.iv v210 c1_i32_85 k0_t31
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off240 (i : grid0.Coords) (k0_t2 : Fin k0_t2_loop.trips) (v209 : BitVec 32) (v212 : BitVec 32) (k0_t31 : Fin (k0_t31_loop i k0_t2 v209 v212).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v210 : BitVec 32 := Scalar.maxsi v209 v75
  let c1_i32_85 : BitVec 32 := 1#32
  let arg19 : BitVec 32 := Scf.iv v210 c1_i32_85 k0_t31
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off241 (i : grid0.Coords) (k0_t2 : Fin k0_t2_loop.trips) (v209 : BitVec 32) (v212 : BitVec 32) (k0_t31 : Fin (k0_t31_loop i k0_t2 v209 v212).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v210 : BitVec 32 := Scalar.maxsi v209 v75
  let c1_i32_85 : BitVec 32 := 1#32
  let arg19 : BitVec 32 := Scf.iv v210 c1_i32_85 k0_t31
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off242 (i : grid0.Coords) (k0_t2 : Fin k0_t2_loop.trips) (v209 : BitVec 32) (v212 : BitVec 32) (k0_t31 : Fin (k0_t31_loop i k0_t2 v209 v212).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v210 : BitVec 32 := Scalar.maxsi v209 v75
  let c1_i32_85 : BitVec 32 := 1#32
  let arg19 : BitVec 32 := Scf.iv v210 c1_i32_85 k0_t31
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]
@[reducible] def k0_t32_loop (i : grid0.Coords) (k0_t2 : Fin k0_t2_loop.trips) (v209 : BitVec 32) (v212 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v210 : BitVec 32 := Scalar.maxsi v209 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let v231 : BitVec 32 := Scalar.addi v210 v230
  let c1_i32_86 : BitVec 32 := 1#32
  ⟨v234, v231, c1_i32_86⟩
def k0_off243 (i : grid0.Coords) (k0_t2 : Fin k0_t2_loop.trips) (v209 : BitVec 32) (v212 : BitVec 32) (k0_t32 : Fin (k0_t32_loop i k0_t2 v209 v212).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v210 : BitVec 32 := Scalar.maxsi v209 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_86 : BitVec 32 := 1#32
  let arg19 : BitVec 32 := Scf.iv v234 c1_i32_86 k0_t32
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off244 (i : grid0.Coords) (k0_t2 : Fin k0_t2_loop.trips) (v209 : BitVec 32) (v212 : BitVec 32) (k0_t32 : Fin (k0_t32_loop i k0_t2 v209 v212).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v210 : BitVec 32 := Scalar.maxsi v209 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_86 : BitVec 32 := 1#32
  let arg19 : BitVec 32 := Scf.iv v234 c1_i32_86 k0_t32
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off245 (i : grid0.Coords) (k0_t2 : Fin k0_t2_loop.trips) (v209 : BitVec 32) (v212 : BitVec 32) (k0_t32 : Fin (k0_t32_loop i k0_t2 v209 v212).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v210 : BitVec 32 := Scalar.maxsi v209 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_86 : BitVec 32 := 1#32
  let arg19 : BitVec 32 := Scf.iv v234 c1_i32_86 k0_t32
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off246 (i : grid0.Coords) (k0_t2 : Fin k0_t2_loop.trips) (v209 : BitVec 32) (v212 : BitVec 32) (k0_t32 : Fin (k0_t32_loop i k0_t2 v209 v212).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v210 : BitVec 32 := Scalar.maxsi v209 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_86 : BitVec 32 := 1#32
  let arg19 : BitVec 32 := Scf.iv v234 c1_i32_86 k0_t32
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off247 (i : grid0.Coords) (k0_t2 : Fin k0_t2_loop.trips) (v209 : BitVec 32) (v212 : BitVec 32) (k0_t32 : Fin (k0_t32_loop i k0_t2 v209 v212).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v210 : BitVec 32 := Scalar.maxsi v209 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_86 : BitVec 32 := 1#32
  let arg19 : BitVec 32 := Scf.iv v234 c1_i32_86 k0_t32
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off248 (i : grid0.Coords) (k0_t2 : Fin k0_t2_loop.trips) (v209 : BitVec 32) (v212 : BitVec 32) (k0_t32 : Fin (k0_t32_loop i k0_t2 v209 v212).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v210 : BitVec 32 := Scalar.maxsi v209 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_86 : BitVec 32 := 1#32
  let arg19 : BitVec 32 := Scf.iv v234 c1_i32_86 k0_t32
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off249 (i : grid0.Coords) (k0_t2 : Fin k0_t2_loop.trips) (v209 : BitVec 32) (v212 : BitVec 32) (k0_t32 : Fin (k0_t32_loop i k0_t2 v209 v212).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v210 : BitVec 32 := Scalar.maxsi v209 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_86 : BitVec 32 := 1#32
  let arg19 : BitVec 32 := Scf.iv v234 c1_i32_86 k0_t32
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off250 (i : grid0.Coords) (k0_t2 : Fin k0_t2_loop.trips) (v209 : BitVec 32) (v212 : BitVec 32) (k0_t32 : Fin (k0_t32_loop i k0_t2 v209 v212).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v210 : BitVec 32 := Scalar.maxsi v209 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_86 : BitVec 32 := 1#32
  let arg19 : BitVec 32 := Scf.iv v234 c1_i32_86 k0_t32
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]

def k0_chk15 (i : grid0.Coords) (k0_t2 : Fin k0_t2_loop.trips) (v209 : BitVec 32) (v212 : BitVec 32) : Prop :=
  (∀ (k0_h1 : k0_cond1 k0_t2 = 1#1), ∀ (k0_h16 : k0_cond16 i k0_t2 v209 v212 = 1#1), (k0_t31_loop i k0_t2 v209 v212).OK) ∧
  (∀ k0_t31 : Fin (k0_t31_loop i k0_t2 v209 v212).trips, ∀ (k0_h1 : k0_cond1 k0_t2 = 1#1), ∀ (k0_h16 : k0_cond16 i k0_t2 v209 v212 = 1#1), ∀ a, (k0_off235 i k0_t2 v209 v212 k0_t31) a + S1x16.size a ≤ S256x128.size a) ∧
  (∀ k0_t31 : Fin (k0_t31_loop i k0_t2 v209 v212).trips, ∀ (k0_h1 : k0_cond1 k0_t2 = 1#1), ∀ (k0_h16 : k0_cond16 i k0_t2 v209 v212 = 1#1), ∀ a, (k0_off236 i k0_t2 v209 v212 k0_t31) a + S1x16.size a ≤ S256x128.size a) ∧
  (∀ k0_t31 : Fin (k0_t31_loop i k0_t2 v209 v212).trips, ∀ (k0_h1 : k0_cond1 k0_t2 = 1#1), ∀ (k0_h16 : k0_cond16 i k0_t2 v209 v212 = 1#1), ∀ a, (k0_off237 i k0_t2 v209 v212 k0_t31) a + S1x16.size a ≤ S256x128.size a) ∧
  (∀ k0_t31 : Fin (k0_t31_loop i k0_t2 v209 v212).trips, ∀ (k0_h1 : k0_cond1 k0_t2 = 1#1), ∀ (k0_h16 : k0_cond16 i k0_t2 v209 v212 = 1#1), ∀ a, (k0_off238 i k0_t2 v209 v212 k0_t31) a + S1x16.size a ≤ S256x128.size a) ∧
  (∀ k0_t31 : Fin (k0_t31_loop i k0_t2 v209 v212).trips, ∀ (k0_h1 : k0_cond1 k0_t2 = 1#1), ∀ (k0_h16 : k0_cond16 i k0_t2 v209 v212 = 1#1), ∀ a, (k0_off239 i k0_t2 v209 v212 k0_t31) a + S1x16.size a ≤ S256x128.size a) ∧
  (∀ k0_t31 : Fin (k0_t31_loop i k0_t2 v209 v212).trips, ∀ (k0_h1 : k0_cond1 k0_t2 = 1#1), ∀ (k0_h16 : k0_cond16 i k0_t2 v209 v212 = 1#1), ∀ a, (k0_off240 i k0_t2 v209 v212 k0_t31) a + S1x16.size a ≤ S256x128.size a) ∧
  (∀ k0_t31 : Fin (k0_t31_loop i k0_t2 v209 v212).trips, ∀ (k0_h1 : k0_cond1 k0_t2 = 1#1), ∀ (k0_h16 : k0_cond16 i k0_t2 v209 v212 = 1#1), ∀ a, (k0_off241 i k0_t2 v209 v212 k0_t31) a + S1x16.size a ≤ S256x128.size a) ∧
  (∀ k0_t31 : Fin (k0_t31_loop i k0_t2 v209 v212).trips, ∀ (k0_h1 : k0_cond1 k0_t2 = 1#1), ∀ (k0_h16 : k0_cond16 i k0_t2 v209 v212 = 1#1), ∀ a, (k0_off242 i k0_t2 v209 v212 k0_t31) a + S1x16.size a ≤ S256x128.size a) ∧
  (∀ (k0_h1 : k0_cond1 k0_t2 = 1#1), ∀ (k0_h16 : k0_cond16 i k0_t2 v209 v212 = 1#1), (k0_t32_loop i k0_t2 v209 v212).OK) ∧
  (∀ k0_t32 : Fin (k0_t32_loop i k0_t2 v209 v212).trips, ∀ (k0_h1 : k0_cond1 k0_t2 = 1#1), ∀ (k0_h16 : k0_cond16 i k0_t2 v209 v212 = 1#1), ∀ a, (k0_off243 i k0_t2 v209 v212 k0_t32) a + S1x16.size a ≤ S256x128.size a) ∧
  (∀ k0_t32 : Fin (k0_t32_loop i k0_t2 v209 v212).trips, ∀ (k0_h1 : k0_cond1 k0_t2 = 1#1), ∀ (k0_h16 : k0_cond16 i k0_t2 v209 v212 = 1#1), ∀ a, (k0_off244 i k0_t2 v209 v212 k0_t32) a + S1x16.size a ≤ S256x128.size a) ∧
  (∀ k0_t32 : Fin (k0_t32_loop i k0_t2 v209 v212).trips, ∀ (k0_h1 : k0_cond1 k0_t2 = 1#1), ∀ (k0_h16 : k0_cond16 i k0_t2 v209 v212 = 1#1), ∀ a, (k0_off245 i k0_t2 v209 v212 k0_t32) a + S1x16.size a ≤ S256x128.size a) ∧
  (∀ k0_t32 : Fin (k0_t32_loop i k0_t2 v209 v212).trips, ∀ (k0_h1 : k0_cond1 k0_t2 = 1#1), ∀ (k0_h16 : k0_cond16 i k0_t2 v209 v212 = 1#1), ∀ a, (k0_off246 i k0_t2 v209 v212 k0_t32) a + S1x16.size a ≤ S256x128.size a) ∧
  (∀ k0_t32 : Fin (k0_t32_loop i k0_t2 v209 v212).trips, ∀ (k0_h1 : k0_cond1 k0_t2 = 1#1), ∀ (k0_h16 : k0_cond16 i k0_t2 v209 v212 = 1#1), ∀ a, (k0_off247 i k0_t2 v209 v212 k0_t32) a + S1x16.size a ≤ S256x128.size a) ∧
  (∀ k0_t32 : Fin (k0_t32_loop i k0_t2 v209 v212).trips, ∀ (k0_h1 : k0_cond1 k0_t2 = 1#1), ∀ (k0_h16 : k0_cond16 i k0_t2 v209 v212 = 1#1), ∀ a, (k0_off248 i k0_t2 v209 v212 k0_t32) a + S1x16.size a ≤ S256x128.size a) ∧
  (∀ k0_t32 : Fin (k0_t32_loop i k0_t2 v209 v212).trips, ∀ (k0_h1 : k0_cond1 k0_t2 = 1#1), ∀ (k0_h16 : k0_cond16 i k0_t2 v209 v212 = 1#1), ∀ a, (k0_off249 i k0_t2 v209 v212 k0_t32) a + S1x16.size a ≤ S256x128.size a) ∧
  (∀ k0_t32 : Fin (k0_t32_loop i k0_t2 v209 v212).trips, ∀ (k0_h1 : k0_cond1 k0_t2 = 1#1), ∀ (k0_h16 : k0_cond16 i k0_t2 v209 v212 = 1#1), ∀ a, (k0_off250 i k0_t2 v209 v212 k0_t32) a + S1x16.size a ≤ S256x128.size a)
theorem k0_t31_ok : ∀ (i : grid0.Coords) (k0_t2 : Fin k0_t2_loop.trips) (v209 : BitVec 32) (v212 : BitVec 32) (k0_hw15 : k0_chk15 i k0_t2 v209 v212), ∀ (k0_h1 : k0_cond1 k0_t2 = 1#1), ∀ (k0_h16 : k0_cond16 i k0_t2 v209 v212 = 1#1), (k0_t31_loop i k0_t2 v209 v212).OK := fun i k0_t2 v209 v212 k0_hw15 k0_h1 k0_h16 => k0_hw15.1 k0_h1 k0_h16
theorem k0_off235_inb : ∀ (i : grid0.Coords) (k0_t2 : Fin k0_t2_loop.trips) (v209 : BitVec 32) (v212 : BitVec 32) (k0_hw15 : k0_chk15 i k0_t2 v209 v212) (k0_t31 : Fin (k0_t31_loop i k0_t2 v209 v212).trips), ∀ (k0_h1 : k0_cond1 k0_t2 = 1#1), ∀ (k0_h16 : k0_cond16 i k0_t2 v209 v212 = 1#1), ∀ a, (k0_off235 i k0_t2 v209 v212 k0_t31) a + S1x16.size a ≤ S256x128.size a := fun i k0_t2 v209 v212 k0_hw15 k0_t31 k0_h1 k0_h16 => k0_hw15.2.1 k0_t31 k0_h1 k0_h16
theorem k0_off236_inb : ∀ (i : grid0.Coords) (k0_t2 : Fin k0_t2_loop.trips) (v209 : BitVec 32) (v212 : BitVec 32) (k0_hw15 : k0_chk15 i k0_t2 v209 v212) (k0_t31 : Fin (k0_t31_loop i k0_t2 v209 v212).trips), ∀ (k0_h1 : k0_cond1 k0_t2 = 1#1), ∀ (k0_h16 : k0_cond16 i k0_t2 v209 v212 = 1#1), ∀ a, (k0_off236 i k0_t2 v209 v212 k0_t31) a + S1x16.size a ≤ S256x128.size a := fun i k0_t2 v209 v212 k0_hw15 k0_t31 k0_h1 k0_h16 => k0_hw15.2.2.1 k0_t31 k0_h1 k0_h16
theorem k0_off237_inb : ∀ (i : grid0.Coords) (k0_t2 : Fin k0_t2_loop.trips) (v209 : BitVec 32) (v212 : BitVec 32) (k0_hw15 : k0_chk15 i k0_t2 v209 v212) (k0_t31 : Fin (k0_t31_loop i k0_t2 v209 v212).trips), ∀ (k0_h1 : k0_cond1 k0_t2 = 1#1), ∀ (k0_h16 : k0_cond16 i k0_t2 v209 v212 = 1#1), ∀ a, (k0_off237 i k0_t2 v209 v212 k0_t31) a + S1x16.size a ≤ S256x128.size a := fun i k0_t2 v209 v212 k0_hw15 k0_t31 k0_h1 k0_h16 => k0_hw15.2.2.2.1 k0_t31 k0_h1 k0_h16
theorem k0_off238_inb : ∀ (i : grid0.Coords) (k0_t2 : Fin k0_t2_loop.trips) (v209 : BitVec 32) (v212 : BitVec 32) (k0_hw15 : k0_chk15 i k0_t2 v209 v212) (k0_t31 : Fin (k0_t31_loop i k0_t2 v209 v212).trips), ∀ (k0_h1 : k0_cond1 k0_t2 = 1#1), ∀ (k0_h16 : k0_cond16 i k0_t2 v209 v212 = 1#1), ∀ a, (k0_off238 i k0_t2 v209 v212 k0_t31) a + S1x16.size a ≤ S256x128.size a := fun i k0_t2 v209 v212 k0_hw15 k0_t31 k0_h1 k0_h16 => k0_hw15.2.2.2.2.1 k0_t31 k0_h1 k0_h16
theorem k0_off239_inb : ∀ (i : grid0.Coords) (k0_t2 : Fin k0_t2_loop.trips) (v209 : BitVec 32) (v212 : BitVec 32) (k0_hw15 : k0_chk15 i k0_t2 v209 v212) (k0_t31 : Fin (k0_t31_loop i k0_t2 v209 v212).trips), ∀ (k0_h1 : k0_cond1 k0_t2 = 1#1), ∀ (k0_h16 : k0_cond16 i k0_t2 v209 v212 = 1#1), ∀ a, (k0_off239 i k0_t2 v209 v212 k0_t31) a + S1x16.size a ≤ S256x128.size a := fun i k0_t2 v209 v212 k0_hw15 k0_t31 k0_h1 k0_h16 => k0_hw15.2.2.2.2.2.1 k0_t31 k0_h1 k0_h16
theorem k0_off240_inb : ∀ (i : grid0.Coords) (k0_t2 : Fin k0_t2_loop.trips) (v209 : BitVec 32) (v212 : BitVec 32) (k0_hw15 : k0_chk15 i k0_t2 v209 v212) (k0_t31 : Fin (k0_t31_loop i k0_t2 v209 v212).trips), ∀ (k0_h1 : k0_cond1 k0_t2 = 1#1), ∀ (k0_h16 : k0_cond16 i k0_t2 v209 v212 = 1#1), ∀ a, (k0_off240 i k0_t2 v209 v212 k0_t31) a + S1x16.size a ≤ S256x128.size a := fun i k0_t2 v209 v212 k0_hw15 k0_t31 k0_h1 k0_h16 => k0_hw15.2.2.2.2.2.2.1 k0_t31 k0_h1 k0_h16
theorem k0_off241_inb : ∀ (i : grid0.Coords) (k0_t2 : Fin k0_t2_loop.trips) (v209 : BitVec 32) (v212 : BitVec 32) (k0_hw15 : k0_chk15 i k0_t2 v209 v212) (k0_t31 : Fin (k0_t31_loop i k0_t2 v209 v212).trips), ∀ (k0_h1 : k0_cond1 k0_t2 = 1#1), ∀ (k0_h16 : k0_cond16 i k0_t2 v209 v212 = 1#1), ∀ a, (k0_off241 i k0_t2 v209 v212 k0_t31) a + S1x16.size a ≤ S256x128.size a := fun i k0_t2 v209 v212 k0_hw15 k0_t31 k0_h1 k0_h16 => k0_hw15.2.2.2.2.2.2.2.1 k0_t31 k0_h1 k0_h16
theorem k0_off242_inb : ∀ (i : grid0.Coords) (k0_t2 : Fin k0_t2_loop.trips) (v209 : BitVec 32) (v212 : BitVec 32) (k0_hw15 : k0_chk15 i k0_t2 v209 v212) (k0_t31 : Fin (k0_t31_loop i k0_t2 v209 v212).trips), ∀ (k0_h1 : k0_cond1 k0_t2 = 1#1), ∀ (k0_h16 : k0_cond16 i k0_t2 v209 v212 = 1#1), ∀ a, (k0_off242 i k0_t2 v209 v212 k0_t31) a + S1x16.size a ≤ S256x128.size a := fun i k0_t2 v209 v212 k0_hw15 k0_t31 k0_h1 k0_h16 => k0_hw15.2.2.2.2.2.2.2.2.1 k0_t31 k0_h1 k0_h16
theorem k0_t32_ok : ∀ (i : grid0.Coords) (k0_t2 : Fin k0_t2_loop.trips) (v209 : BitVec 32) (v212 : BitVec 32) (k0_hw15 : k0_chk15 i k0_t2 v209 v212), ∀ (k0_h1 : k0_cond1 k0_t2 = 1#1), ∀ (k0_h16 : k0_cond16 i k0_t2 v209 v212 = 1#1), (k0_t32_loop i k0_t2 v209 v212).OK := fun i k0_t2 v209 v212 k0_hw15 k0_h1 k0_h16 => k0_hw15.2.2.2.2.2.2.2.2.2.1 k0_h1 k0_h16
theorem k0_off243_inb : ∀ (i : grid0.Coords) (k0_t2 : Fin k0_t2_loop.trips) (v209 : BitVec 32) (v212 : BitVec 32) (k0_hw15 : k0_chk15 i k0_t2 v209 v212) (k0_t32 : Fin (k0_t32_loop i k0_t2 v209 v212).trips), ∀ (k0_h1 : k0_cond1 k0_t2 = 1#1), ∀ (k0_h16 : k0_cond16 i k0_t2 v209 v212 = 1#1), ∀ a, (k0_off243 i k0_t2 v209 v212 k0_t32) a + S1x16.size a ≤ S256x128.size a := fun i k0_t2 v209 v212 k0_hw15 k0_t32 k0_h1 k0_h16 => k0_hw15.2.2.2.2.2.2.2.2.2.2.1 k0_t32 k0_h1 k0_h16
theorem k0_off244_inb : ∀ (i : grid0.Coords) (k0_t2 : Fin k0_t2_loop.trips) (v209 : BitVec 32) (v212 : BitVec 32) (k0_hw15 : k0_chk15 i k0_t2 v209 v212) (k0_t32 : Fin (k0_t32_loop i k0_t2 v209 v212).trips), ∀ (k0_h1 : k0_cond1 k0_t2 = 1#1), ∀ (k0_h16 : k0_cond16 i k0_t2 v209 v212 = 1#1), ∀ a, (k0_off244 i k0_t2 v209 v212 k0_t32) a + S1x16.size a ≤ S256x128.size a := fun i k0_t2 v209 v212 k0_hw15 k0_t32 k0_h1 k0_h16 => k0_hw15.2.2.2.2.2.2.2.2.2.2.2.1 k0_t32 k0_h1 k0_h16
theorem k0_off245_inb : ∀ (i : grid0.Coords) (k0_t2 : Fin k0_t2_loop.trips) (v209 : BitVec 32) (v212 : BitVec 32) (k0_hw15 : k0_chk15 i k0_t2 v209 v212) (k0_t32 : Fin (k0_t32_loop i k0_t2 v209 v212).trips), ∀ (k0_h1 : k0_cond1 k0_t2 = 1#1), ∀ (k0_h16 : k0_cond16 i k0_t2 v209 v212 = 1#1), ∀ a, (k0_off245 i k0_t2 v209 v212 k0_t32) a + S1x16.size a ≤ S256x128.size a := fun i k0_t2 v209 v212 k0_hw15 k0_t32 k0_h1 k0_h16 => k0_hw15.2.2.2.2.2.2.2.2.2.2.2.2.1 k0_t32 k0_h1 k0_h16
theorem k0_off246_inb : ∀ (i : grid0.Coords) (k0_t2 : Fin k0_t2_loop.trips) (v209 : BitVec 32) (v212 : BitVec 32) (k0_hw15 : k0_chk15 i k0_t2 v209 v212) (k0_t32 : Fin (k0_t32_loop i k0_t2 v209 v212).trips), ∀ (k0_h1 : k0_cond1 k0_t2 = 1#1), ∀ (k0_h16 : k0_cond16 i k0_t2 v209 v212 = 1#1), ∀ a, (k0_off246 i k0_t2 v209 v212 k0_t32) a + S1x16.size a ≤ S256x128.size a := fun i k0_t2 v209 v212 k0_hw15 k0_t32 k0_h1 k0_h16 => k0_hw15.2.2.2.2.2.2.2.2.2.2.2.2.2.1 k0_t32 k0_h1 k0_h16
theorem k0_off247_inb : ∀ (i : grid0.Coords) (k0_t2 : Fin k0_t2_loop.trips) (v209 : BitVec 32) (v212 : BitVec 32) (k0_hw15 : k0_chk15 i k0_t2 v209 v212) (k0_t32 : Fin (k0_t32_loop i k0_t2 v209 v212).trips), ∀ (k0_h1 : k0_cond1 k0_t2 = 1#1), ∀ (k0_h16 : k0_cond16 i k0_t2 v209 v212 = 1#1), ∀ a, (k0_off247 i k0_t2 v209 v212 k0_t32) a + S1x16.size a ≤ S256x128.size a := fun i k0_t2 v209 v212 k0_hw15 k0_t32 k0_h1 k0_h16 => k0_hw15.2.2.2.2.2.2.2.2.2.2.2.2.2.2.1 k0_t32 k0_h1 k0_h16
theorem k0_off248_inb : ∀ (i : grid0.Coords) (k0_t2 : Fin k0_t2_loop.trips) (v209 : BitVec 32) (v212 : BitVec 32) (k0_hw15 : k0_chk15 i k0_t2 v209 v212) (k0_t32 : Fin (k0_t32_loop i k0_t2 v209 v212).trips), ∀ (k0_h1 : k0_cond1 k0_t2 = 1#1), ∀ (k0_h16 : k0_cond16 i k0_t2 v209 v212 = 1#1), ∀ a, (k0_off248 i k0_t2 v209 v212 k0_t32) a + S1x16.size a ≤ S256x128.size a := fun i k0_t2 v209 v212 k0_hw15 k0_t32 k0_h1 k0_h16 => k0_hw15.2.2.2.2.2.2.2.2.2.2.2.2.2.2.2.1 k0_t32 k0_h1 k0_h16
theorem k0_off249_inb : ∀ (i : grid0.Coords) (k0_t2 : Fin k0_t2_loop.trips) (v209 : BitVec 32) (v212 : BitVec 32) (k0_hw15 : k0_chk15 i k0_t2 v209 v212) (k0_t32 : Fin (k0_t32_loop i k0_t2 v209 v212).trips), ∀ (k0_h1 : k0_cond1 k0_t2 = 1#1), ∀ (k0_h16 : k0_cond16 i k0_t2 v209 v212 = 1#1), ∀ a, (k0_off249 i k0_t2 v209 v212 k0_t32) a + S1x16.size a ≤ S256x128.size a := fun i k0_t2 v209 v212 k0_hw15 k0_t32 k0_h1 k0_h16 => k0_hw15.2.2.2.2.2.2.2.2.2.2.2.2.2.2.2.2.1 k0_t32 k0_h1 k0_h16
theorem k0_off250_inb : ∀ (i : grid0.Coords) (k0_t2 : Fin k0_t2_loop.trips) (v209 : BitVec 32) (v212 : BitVec 32) (k0_hw15 : k0_chk15 i k0_t2 v209 v212) (k0_t32 : Fin (k0_t32_loop i k0_t2 v209 v212).trips), ∀ (k0_h1 : k0_cond1 k0_t2 = 1#1), ∀ (k0_h16 : k0_cond16 i k0_t2 v209 v212 = 1#1), ∀ a, (k0_off250 i k0_t2 v209 v212 k0_t32) a + S1x16.size a ≤ S256x128.size a := fun i k0_t2 v209 v212 k0_hw15 k0_t32 k0_h1 k0_h16 => k0_hw15.2.2.2.2.2.2.2.2.2.2.2.2.2.2.2.2.2 k0_t32 k0_h1 k0_h16

@[reducible] def k0_t33_loop (i : grid0.Coords) (k0_t2 : Fin k0_t2_loop.trips) (v218 : BitVec 32) (v221 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v219 : BitVec 32 := Scalar.maxsi v218 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_85 : BitVec 32 := 1#32
  ⟨v219, v234, c1_i32_85⟩
def k0_cond17 (i : grid0.Coords) (k0_t2 : Fin k0_t2_loop.trips) (v218 : BitVec 32) (v221 : BitVec 32) : BitVec 1 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v222 : BitVec 32 := Scalar.minsi v221 v77
  let v219 : BitVec 32 := Scalar.maxsi v218 v75
  let v223 : BitVec 1 := Scalar.cmpi .sgt v222 v219
  let v224 : BitVec 32 := Scalar.extui v223
  let c0_i32_80 : BitVec 32 := 0#32
  let v225 : BitVec 1 := Scalar.cmpi .ne v224 c0_i32_80
  v225

def k0_off251 (i : grid0.Coords) (k0_t2 : Fin k0_t2_loop.trips) (v218 : BitVec 32) (v221 : BitVec 32) (k0_t33 : Fin (k0_t33_loop i k0_t2 v218 v221).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v219 : BitVec 32 := Scalar.maxsi v218 v75
  let c1_i32_85 : BitVec 32 := 1#32
  let arg19 : BitVec 32 := Scf.iv v219 c1_i32_85 k0_t33
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off252 (i : grid0.Coords) (k0_t2 : Fin k0_t2_loop.trips) (v218 : BitVec 32) (v221 : BitVec 32) (k0_t33 : Fin (k0_t33_loop i k0_t2 v218 v221).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v219 : BitVec 32 := Scalar.maxsi v218 v75
  let c1_i32_85 : BitVec 32 := 1#32
  let arg19 : BitVec 32 := Scf.iv v219 c1_i32_85 k0_t33
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off253 (i : grid0.Coords) (k0_t2 : Fin k0_t2_loop.trips) (v218 : BitVec 32) (v221 : BitVec 32) (k0_t33 : Fin (k0_t33_loop i k0_t2 v218 v221).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v219 : BitVec 32 := Scalar.maxsi v218 v75
  let c1_i32_85 : BitVec 32 := 1#32
  let arg19 : BitVec 32 := Scf.iv v219 c1_i32_85 k0_t33
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off254 (i : grid0.Coords) (k0_t2 : Fin k0_t2_loop.trips) (v218 : BitVec 32) (v221 : BitVec 32) (k0_t33 : Fin (k0_t33_loop i k0_t2 v218 v221).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v219 : BitVec 32 := Scalar.maxsi v218 v75
  let c1_i32_85 : BitVec 32 := 1#32
  let arg19 : BitVec 32 := Scf.iv v219 c1_i32_85 k0_t33
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off255 (i : grid0.Coords) (k0_t2 : Fin k0_t2_loop.trips) (v218 : BitVec 32) (v221 : BitVec 32) (k0_t33 : Fin (k0_t33_loop i k0_t2 v218 v221).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v219 : BitVec 32 := Scalar.maxsi v218 v75
  let c1_i32_85 : BitVec 32 := 1#32
  let arg19 : BitVec 32 := Scf.iv v219 c1_i32_85 k0_t33
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off256 (i : grid0.Coords) (k0_t2 : Fin k0_t2_loop.trips) (v218 : BitVec 32) (v221 : BitVec 32) (k0_t33 : Fin (k0_t33_loop i k0_t2 v218 v221).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v219 : BitVec 32 := Scalar.maxsi v218 v75
  let c1_i32_85 : BitVec 32 := 1#32
  let arg19 : BitVec 32 := Scf.iv v219 c1_i32_85 k0_t33
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off257 (i : grid0.Coords) (k0_t2 : Fin k0_t2_loop.trips) (v218 : BitVec 32) (v221 : BitVec 32) (k0_t33 : Fin (k0_t33_loop i k0_t2 v218 v221).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v219 : BitVec 32 := Scalar.maxsi v218 v75
  let c1_i32_85 : BitVec 32 := 1#32
  let arg19 : BitVec 32 := Scf.iv v219 c1_i32_85 k0_t33
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off258 (i : grid0.Coords) (k0_t2 : Fin k0_t2_loop.trips) (v218 : BitVec 32) (v221 : BitVec 32) (k0_t33 : Fin (k0_t33_loop i k0_t2 v218 v221).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v219 : BitVec 32 := Scalar.maxsi v218 v75
  let c1_i32_85 : BitVec 32 := 1#32
  let arg19 : BitVec 32 := Scf.iv v219 c1_i32_85 k0_t33
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]
@[reducible] def k0_t34_loop (i : grid0.Coords) (k0_t2 : Fin k0_t2_loop.trips) (v218 : BitVec 32) (v221 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v219 : BitVec 32 := Scalar.maxsi v218 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let v231 : BitVec 32 := Scalar.addi v219 v230
  let c1_i32_86 : BitVec 32 := 1#32
  ⟨v234, v231, c1_i32_86⟩
def k0_off259 (i : grid0.Coords) (k0_t2 : Fin k0_t2_loop.trips) (v218 : BitVec 32) (v221 : BitVec 32) (k0_t34 : Fin (k0_t34_loop i k0_t2 v218 v221).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v219 : BitVec 32 := Scalar.maxsi v218 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_86 : BitVec 32 := 1#32
  let arg19 : BitVec 32 := Scf.iv v234 c1_i32_86 k0_t34
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off260 (i : grid0.Coords) (k0_t2 : Fin k0_t2_loop.trips) (v218 : BitVec 32) (v221 : BitVec 32) (k0_t34 : Fin (k0_t34_loop i k0_t2 v218 v221).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v219 : BitVec 32 := Scalar.maxsi v218 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_86 : BitVec 32 := 1#32
  let arg19 : BitVec 32 := Scf.iv v234 c1_i32_86 k0_t34
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off261 (i : grid0.Coords) (k0_t2 : Fin k0_t2_loop.trips) (v218 : BitVec 32) (v221 : BitVec 32) (k0_t34 : Fin (k0_t34_loop i k0_t2 v218 v221).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v219 : BitVec 32 := Scalar.maxsi v218 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_86 : BitVec 32 := 1#32
  let arg19 : BitVec 32 := Scf.iv v234 c1_i32_86 k0_t34
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off262 (i : grid0.Coords) (k0_t2 : Fin k0_t2_loop.trips) (v218 : BitVec 32) (v221 : BitVec 32) (k0_t34 : Fin (k0_t34_loop i k0_t2 v218 v221).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v219 : BitVec 32 := Scalar.maxsi v218 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_86 : BitVec 32 := 1#32
  let arg19 : BitVec 32 := Scf.iv v234 c1_i32_86 k0_t34
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off263 (i : grid0.Coords) (k0_t2 : Fin k0_t2_loop.trips) (v218 : BitVec 32) (v221 : BitVec 32) (k0_t34 : Fin (k0_t34_loop i k0_t2 v218 v221).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v219 : BitVec 32 := Scalar.maxsi v218 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_86 : BitVec 32 := 1#32
  let arg19 : BitVec 32 := Scf.iv v234 c1_i32_86 k0_t34
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off264 (i : grid0.Coords) (k0_t2 : Fin k0_t2_loop.trips) (v218 : BitVec 32) (v221 : BitVec 32) (k0_t34 : Fin (k0_t34_loop i k0_t2 v218 v221).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v219 : BitVec 32 := Scalar.maxsi v218 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_86 : BitVec 32 := 1#32
  let arg19 : BitVec 32 := Scf.iv v234 c1_i32_86 k0_t34
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off265 (i : grid0.Coords) (k0_t2 : Fin k0_t2_loop.trips) (v218 : BitVec 32) (v221 : BitVec 32) (k0_t34 : Fin (k0_t34_loop i k0_t2 v218 v221).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v219 : BitVec 32 := Scalar.maxsi v218 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_86 : BitVec 32 := 1#32
  let arg19 : BitVec 32 := Scf.iv v234 c1_i32_86 k0_t34
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off266 (i : grid0.Coords) (k0_t2 : Fin k0_t2_loop.trips) (v218 : BitVec 32) (v221 : BitVec 32) (k0_t34 : Fin (k0_t34_loop i k0_t2 v218 v221).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v4 v74
  let v219 : BitVec 32 := Scalar.maxsi v218 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_86 : BitVec 32 := 1#32
  let arg19 : BitVec 32 := Scf.iv v234 c1_i32_86 k0_t34
  let c256_i32_63 : BitVec 32 := 256#32
  let v78 : BitVec 32 := Scalar.muli v59 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]

def k0_chk16 (i : grid0.Coords) (k0_t2 : Fin k0_t2_loop.trips) (v218 : BitVec 32) (v221 : BitVec 32) : Prop :=
  (∀ (k0_h1 : k0_cond1 k0_t2 = 1#1), ∀ (k0_h17 : k0_cond17 i k0_t2 v218 v221 = 1#1), (k0_t33_loop i k0_t2 v218 v221).OK) ∧
  (∀ k0_t33 : Fin (k0_t33_loop i k0_t2 v218 v221).trips, ∀ (k0_h1 : k0_cond1 k0_t2 = 1#1), ∀ (k0_h17 : k0_cond17 i k0_t2 v218 v221 = 1#1), ∀ a, (k0_off251 i k0_t2 v218 v221 k0_t33) a + S1x16.size a ≤ S256x128.size a) ∧
  (∀ k0_t33 : Fin (k0_t33_loop i k0_t2 v218 v221).trips, ∀ (k0_h1 : k0_cond1 k0_t2 = 1#1), ∀ (k0_h17 : k0_cond17 i k0_t2 v218 v221 = 1#1), ∀ a, (k0_off252 i k0_t2 v218 v221 k0_t33) a + S1x16.size a ≤ S256x128.size a) ∧
  (∀ k0_t33 : Fin (k0_t33_loop i k0_t2 v218 v221).trips, ∀ (k0_h1 : k0_cond1 k0_t2 = 1#1), ∀ (k0_h17 : k0_cond17 i k0_t2 v218 v221 = 1#1), ∀ a, (k0_off253 i k0_t2 v218 v221 k0_t33) a + S1x16.size a ≤ S256x128.size a) ∧
  (∀ k0_t33 : Fin (k0_t33_loop i k0_t2 v218 v221).trips, ∀ (k0_h1 : k0_cond1 k0_t2 = 1#1), ∀ (k0_h17 : k0_cond17 i k0_t2 v218 v221 = 1#1), ∀ a, (k0_off254 i k0_t2 v218 v221 k0_t33) a + S1x16.size a ≤ S256x128.size a) ∧
  (∀ k0_t33 : Fin (k0_t33_loop i k0_t2 v218 v221).trips, ∀ (k0_h1 : k0_cond1 k0_t2 = 1#1), ∀ (k0_h17 : k0_cond17 i k0_t2 v218 v221 = 1#1), ∀ a, (k0_off255 i k0_t2 v218 v221 k0_t33) a + S1x16.size a ≤ S256x128.size a) ∧
  (∀ k0_t33 : Fin (k0_t33_loop i k0_t2 v218 v221).trips, ∀ (k0_h1 : k0_cond1 k0_t2 = 1#1), ∀ (k0_h17 : k0_cond17 i k0_t2 v218 v221 = 1#1), ∀ a, (k0_off256 i k0_t2 v218 v221 k0_t33) a + S1x16.size a ≤ S256x128.size a) ∧
  (∀ k0_t33 : Fin (k0_t33_loop i k0_t2 v218 v221).trips, ∀ (k0_h1 : k0_cond1 k0_t2 = 1#1), ∀ (k0_h17 : k0_cond17 i k0_t2 v218 v221 = 1#1), ∀ a, (k0_off257 i k0_t2 v218 v221 k0_t33) a + S1x16.size a ≤ S256x128.size a) ∧
  (∀ k0_t33 : Fin (k0_t33_loop i k0_t2 v218 v221).trips, ∀ (k0_h1 : k0_cond1 k0_t2 = 1#1), ∀ (k0_h17 : k0_cond17 i k0_t2 v218 v221 = 1#1), ∀ a, (k0_off258 i k0_t2 v218 v221 k0_t33) a + S1x16.size a ≤ S256x128.size a) ∧
  (∀ (k0_h1 : k0_cond1 k0_t2 = 1#1), ∀ (k0_h17 : k0_cond17 i k0_t2 v218 v221 = 1#1), (k0_t34_loop i k0_t2 v218 v221).OK) ∧
  (∀ k0_t34 : Fin (k0_t34_loop i k0_t2 v218 v221).trips, ∀ (k0_h1 : k0_cond1 k0_t2 = 1#1), ∀ (k0_h17 : k0_cond17 i k0_t2 v218 v221 = 1#1), ∀ a, (k0_off259 i k0_t2 v218 v221 k0_t34) a + S1x16.size a ≤ S256x128.size a) ∧
  (∀ k0_t34 : Fin (k0_t34_loop i k0_t2 v218 v221).trips, ∀ (k0_h1 : k0_cond1 k0_t2 = 1#1), ∀ (k0_h17 : k0_cond17 i k0_t2 v218 v221 = 1#1), ∀ a, (k0_off260 i k0_t2 v218 v221 k0_t34) a + S1x16.size a ≤ S256x128.size a) ∧
  (∀ k0_t34 : Fin (k0_t34_loop i k0_t2 v218 v221).trips, ∀ (k0_h1 : k0_cond1 k0_t2 = 1#1), ∀ (k0_h17 : k0_cond17 i k0_t2 v218 v221 = 1#1), ∀ a, (k0_off261 i k0_t2 v218 v221 k0_t34) a + S1x16.size a ≤ S256x128.size a) ∧
  (∀ k0_t34 : Fin (k0_t34_loop i k0_t2 v218 v221).trips, ∀ (k0_h1 : k0_cond1 k0_t2 = 1#1), ∀ (k0_h17 : k0_cond17 i k0_t2 v218 v221 = 1#1), ∀ a, (k0_off262 i k0_t2 v218 v221 k0_t34) a + S1x16.size a ≤ S256x128.size a) ∧
  (∀ k0_t34 : Fin (k0_t34_loop i k0_t2 v218 v221).trips, ∀ (k0_h1 : k0_cond1 k0_t2 = 1#1), ∀ (k0_h17 : k0_cond17 i k0_t2 v218 v221 = 1#1), ∀ a, (k0_off263 i k0_t2 v218 v221 k0_t34) a + S1x16.size a ≤ S256x128.size a) ∧
  (∀ k0_t34 : Fin (k0_t34_loop i k0_t2 v218 v221).trips, ∀ (k0_h1 : k0_cond1 k0_t2 = 1#1), ∀ (k0_h17 : k0_cond17 i k0_t2 v218 v221 = 1#1), ∀ a, (k0_off264 i k0_t2 v218 v221 k0_t34) a + S1x16.size a ≤ S256x128.size a) ∧
  (∀ k0_t34 : Fin (k0_t34_loop i k0_t2 v218 v221).trips, ∀ (k0_h1 : k0_cond1 k0_t2 = 1#1), ∀ (k0_h17 : k0_cond17 i k0_t2 v218 v221 = 1#1), ∀ a, (k0_off265 i k0_t2 v218 v221 k0_t34) a + S1x16.size a ≤ S256x128.size a) ∧
  (∀ k0_t34 : Fin (k0_t34_loop i k0_t2 v218 v221).trips, ∀ (k0_h1 : k0_cond1 k0_t2 = 1#1), ∀ (k0_h17 : k0_cond17 i k0_t2 v218 v221 = 1#1), ∀ a, (k0_off266 i k0_t2 v218 v221 k0_t34) a + S1x16.size a ≤ S256x128.size a)
theorem k0_t33_ok : ∀ (i : grid0.Coords) (k0_t2 : Fin k0_t2_loop.trips) (v218 : BitVec 32) (v221 : BitVec 32) (k0_hw16 : k0_chk16 i k0_t2 v218 v221), ∀ (k0_h1 : k0_cond1 k0_t2 = 1#1), ∀ (k0_h17 : k0_cond17 i k0_t2 v218 v221 = 1#1), (k0_t33_loop i k0_t2 v218 v221).OK := fun i k0_t2 v218 v221 k0_hw16 k0_h1 k0_h17 => k0_hw16.1 k0_h1 k0_h17
theorem k0_off251_inb : ∀ (i : grid0.Coords) (k0_t2 : Fin k0_t2_loop.trips) (v218 : BitVec 32) (v221 : BitVec 32) (k0_hw16 : k0_chk16 i k0_t2 v218 v221) (k0_t33 : Fin (k0_t33_loop i k0_t2 v218 v221).trips), ∀ (k0_h1 : k0_cond1 k0_t2 = 1#1), ∀ (k0_h17 : k0_cond17 i k0_t2 v218 v221 = 1#1), ∀ a, (k0_off251 i k0_t2 v218 v221 k0_t33) a + S1x16.size a ≤ S256x128.size a := fun i k0_t2 v218 v221 k0_hw16 k0_t33 k0_h1 k0_h17 => k0_hw16.2.1 k0_t33 k0_h1 k0_h17
theorem k0_off252_inb : ∀ (i : grid0.Coords) (k0_t2 : Fin k0_t2_loop.trips) (v218 : BitVec 32) (v221 : BitVec 32) (k0_hw16 : k0_chk16 i k0_t2 v218 v221) (k0_t33 : Fin (k0_t33_loop i k0_t2 v218 v221).trips), ∀ (k0_h1 : k0_cond1 k0_t2 = 1#1), ∀ (k0_h17 : k0_cond17 i k0_t2 v218 v221 = 1#1), ∀ a, (k0_off252 i k0_t2 v218 v221 k0_t33) a + S1x16.size a ≤ S256x128.size a := fun i k0_t2 v218 v221 k0_hw16 k0_t33 k0_h1 k0_h17 => k0_hw16.2.2.1 k0_t33 k0_h1 k0_h17
theorem k0_off253_inb : ∀ (i : grid0.Coords) (k0_t2 : Fin k0_t2_loop.trips) (v218 : BitVec 32) (v221 : BitVec 32) (k0_hw16 : k0_chk16 i k0_t2 v218 v221) (k0_t33 : Fin (k0_t33_loop i k0_t2 v218 v221).trips), ∀ (k0_h1 : k0_cond1 k0_t2 = 1#1), ∀ (k0_h17 : k0_cond17 i k0_t2 v218 v221 = 1#1), ∀ a, (k0_off253 i k0_t2 v218 v221 k0_t33) a + S1x16.size a ≤ S256x128.size a := fun i k0_t2 v218 v221 k0_hw16 k0_t33 k0_h1 k0_h17 => k0_hw16.2.2.2.1 k0_t33 k0_h1 k0_h17
theorem k0_off254_inb : ∀ (i : grid0.Coords) (k0_t2 : Fin k0_t2_loop.trips) (v218 : BitVec 32) (v221 : BitVec 32) (k0_hw16 : k0_chk16 i k0_t2 v218 v221) (k0_t33 : Fin (k0_t33_loop i k0_t2 v218 v221).trips), ∀ (k0_h1 : k0_cond1 k0_t2 = 1#1), ∀ (k0_h17 : k0_cond17 i k0_t2 v218 v221 = 1#1), ∀ a, (k0_off254 i k0_t2 v218 v221 k0_t33) a + S1x16.size a ≤ S256x128.size a := fun i k0_t2 v218 v221 k0_hw16 k0_t33 k0_h1 k0_h17 => k0_hw16.2.2.2.2.1 k0_t33 k0_h1 k0_h17
theorem k0_off255_inb : ∀ (i : grid0.Coords) (k0_t2 : Fin k0_t2_loop.trips) (v218 : BitVec 32) (v221 : BitVec 32) (k0_hw16 : k0_chk16 i k0_t2 v218 v221) (k0_t33 : Fin (k0_t33_loop i k0_t2 v218 v221).trips), ∀ (k0_h1 : k0_cond1 k0_t2 = 1#1), ∀ (k0_h17 : k0_cond17 i k0_t2 v218 v221 = 1#1), ∀ a, (k0_off255 i k0_t2 v218 v221 k0_t33) a + S1x16.size a ≤ S256x128.size a := fun i k0_t2 v218 v221 k0_hw16 k0_t33 k0_h1 k0_h17 => k0_hw16.2.2.2.2.2.1 k0_t33 k0_h1 k0_h17
theorem k0_off256_inb : ∀ (i : grid0.Coords) (k0_t2 : Fin k0_t2_loop.trips) (v218 : BitVec 32) (v221 : BitVec 32) (k0_hw16 : k0_chk16 i k0_t2 v218 v221) (k0_t33 : Fin (k0_t33_loop i k0_t2 v218 v221).trips), ∀ (k0_h1 : k0_cond1 k0_t2 = 1#1), ∀ (k0_h17 : k0_cond17 i k0_t2 v218 v221 = 1#1), ∀ a, (k0_off256 i k0_t2 v218 v221 k0_t33) a + S1x16.size a ≤ S256x128.size a := fun i k0_t2 v218 v221 k0_hw16 k0_t33 k0_h1 k0_h17 => k0_hw16.2.2.2.2.2.2.1 k0_t33 k0_h1 k0_h17
theorem k0_off257_inb : ∀ (i : grid0.Coords) (k0_t2 : Fin k0_t2_loop.trips) (v218 : BitVec 32) (v221 : BitVec 32) (k0_hw16 : k0_chk16 i k0_t2 v218 v221) (k0_t33 : Fin (k0_t33_loop i k0_t2 v218 v221).trips), ∀ (k0_h1 : k0_cond1 k0_t2 = 1#1), ∀ (k0_h17 : k0_cond17 i k0_t2 v218 v221 = 1#1), ∀ a, (k0_off257 i k0_t2 v218 v221 k0_t33) a + S1x16.size a ≤ S256x128.size a := fun i k0_t2 v218 v221 k0_hw16 k0_t33 k0_h1 k0_h17 => k0_hw16.2.2.2.2.2.2.2.1 k0_t33 k0_h1 k0_h17
theorem k0_off258_inb : ∀ (i : grid0.Coords) (k0_t2 : Fin k0_t2_loop.trips) (v218 : BitVec 32) (v221 : BitVec 32) (k0_hw16 : k0_chk16 i k0_t2 v218 v221) (k0_t33 : Fin (k0_t33_loop i k0_t2 v218 v221).trips), ∀ (k0_h1 : k0_cond1 k0_t2 = 1#1), ∀ (k0_h17 : k0_cond17 i k0_t2 v218 v221 = 1#1), ∀ a, (k0_off258 i k0_t2 v218 v221 k0_t33) a + S1x16.size a ≤ S256x128.size a := fun i k0_t2 v218 v221 k0_hw16 k0_t33 k0_h1 k0_h17 => k0_hw16.2.2.2.2.2.2.2.2.1 k0_t33 k0_h1 k0_h17
theorem k0_t34_ok : ∀ (i : grid0.Coords) (k0_t2 : Fin k0_t2_loop.trips) (v218 : BitVec 32) (v221 : BitVec 32) (k0_hw16 : k0_chk16 i k0_t2 v218 v221), ∀ (k0_h1 : k0_cond1 k0_t2 = 1#1), ∀ (k0_h17 : k0_cond17 i k0_t2 v218 v221 = 1#1), (k0_t34_loop i k0_t2 v218 v221).OK := fun i k0_t2 v218 v221 k0_hw16 k0_h1 k0_h17 => k0_hw16.2.2.2.2.2.2.2.2.2.1 k0_h1 k0_h17
theorem k0_off259_inb : ∀ (i : grid0.Coords) (k0_t2 : Fin k0_t2_loop.trips) (v218 : BitVec 32) (v221 : BitVec 32) (k0_hw16 : k0_chk16 i k0_t2 v218 v221) (k0_t34 : Fin (k0_t34_loop i k0_t2 v218 v221).trips), ∀ (k0_h1 : k0_cond1 k0_t2 = 1#1), ∀ (k0_h17 : k0_cond17 i k0_t2 v218 v221 = 1#1), ∀ a, (k0_off259 i k0_t2 v218 v221 k0_t34) a + S1x16.size a ≤ S256x128.size a := fun i k0_t2 v218 v221 k0_hw16 k0_t34 k0_h1 k0_h17 => k0_hw16.2.2.2.2.2.2.2.2.2.2.1 k0_t34 k0_h1 k0_h17
theorem k0_off260_inb : ∀ (i : grid0.Coords) (k0_t2 : Fin k0_t2_loop.trips) (v218 : BitVec 32) (v221 : BitVec 32) (k0_hw16 : k0_chk16 i k0_t2 v218 v221) (k0_t34 : Fin (k0_t34_loop i k0_t2 v218 v221).trips), ∀ (k0_h1 : k0_cond1 k0_t2 = 1#1), ∀ (k0_h17 : k0_cond17 i k0_t2 v218 v221 = 1#1), ∀ a, (k0_off260 i k0_t2 v218 v221 k0_t34) a + S1x16.size a ≤ S256x128.size a := fun i k0_t2 v218 v221 k0_hw16 k0_t34 k0_h1 k0_h17 => k0_hw16.2.2.2.2.2.2.2.2.2.2.2.1 k0_t34 k0_h1 k0_h17
theorem k0_off261_inb : ∀ (i : grid0.Coords) (k0_t2 : Fin k0_t2_loop.trips) (v218 : BitVec 32) (v221 : BitVec 32) (k0_hw16 : k0_chk16 i k0_t2 v218 v221) (k0_t34 : Fin (k0_t34_loop i k0_t2 v218 v221).trips), ∀ (k0_h1 : k0_cond1 k0_t2 = 1#1), ∀ (k0_h17 : k0_cond17 i k0_t2 v218 v221 = 1#1), ∀ a, (k0_off261 i k0_t2 v218 v221 k0_t34) a + S1x16.size a ≤ S256x128.size a := fun i k0_t2 v218 v221 k0_hw16 k0_t34 k0_h1 k0_h17 => k0_hw16.2.2.2.2.2.2.2.2.2.2.2.2.1 k0_t34 k0_h1 k0_h17
theorem k0_off262_inb : ∀ (i : grid0.Coords) (k0_t2 : Fin k0_t2_loop.trips) (v218 : BitVec 32) (v221 : BitVec 32) (k0_hw16 : k0_chk16 i k0_t2 v218 v221) (k0_t34 : Fin (k0_t34_loop i k0_t2 v218 v221).trips), ∀ (k0_h1 : k0_cond1 k0_t2 = 1#1), ∀ (k0_h17 : k0_cond17 i k0_t2 v218 v221 = 1#1), ∀ a, (k0_off262 i k0_t2 v218 v221 k0_t34) a + S1x16.size a ≤ S256x128.size a := fun i k0_t2 v218 v221 k0_hw16 k0_t34 k0_h1 k0_h17 => k0_hw16.2.2.2.2.2.2.2.2.2.2.2.2.2.1 k0_t34 k0_h1 k0_h17
theorem k0_off263_inb : ∀ (i : grid0.Coords) (k0_t2 : Fin k0_t2_loop.trips) (v218 : BitVec 32) (v221 : BitVec 32) (k0_hw16 : k0_chk16 i k0_t2 v218 v221) (k0_t34 : Fin (k0_t34_loop i k0_t2 v218 v221).trips), ∀ (k0_h1 : k0_cond1 k0_t2 = 1#1), ∀ (k0_h17 : k0_cond17 i k0_t2 v218 v221 = 1#1), ∀ a, (k0_off263 i k0_t2 v218 v221 k0_t34) a + S1x16.size a ≤ S256x128.size a := fun i k0_t2 v218 v221 k0_hw16 k0_t34 k0_h1 k0_h17 => k0_hw16.2.2.2.2.2.2.2.2.2.2.2.2.2.2.1 k0_t34 k0_h1 k0_h17
theorem k0_off264_inb : ∀ (i : grid0.Coords) (k0_t2 : Fin k0_t2_loop.trips) (v218 : BitVec 32) (v221 : BitVec 32) (k0_hw16 : k0_chk16 i k0_t2 v218 v221) (k0_t34 : Fin (k0_t34_loop i k0_t2 v218 v221).trips), ∀ (k0_h1 : k0_cond1 k0_t2 = 1#1), ∀ (k0_h17 : k0_cond17 i k0_t2 v218 v221 = 1#1), ∀ a, (k0_off264 i k0_t2 v218 v221 k0_t34) a + S1x16.size a ≤ S256x128.size a := fun i k0_t2 v218 v221 k0_hw16 k0_t34 k0_h1 k0_h17 => k0_hw16.2.2.2.2.2.2.2.2.2.2.2.2.2.2.2.1 k0_t34 k0_h1 k0_h17
theorem k0_off265_inb : ∀ (i : grid0.Coords) (k0_t2 : Fin k0_t2_loop.trips) (v218 : BitVec 32) (v221 : BitVec 32) (k0_hw16 : k0_chk16 i k0_t2 v218 v221) (k0_t34 : Fin (k0_t34_loop i k0_t2 v218 v221).trips), ∀ (k0_h1 : k0_cond1 k0_t2 = 1#1), ∀ (k0_h17 : k0_cond17 i k0_t2 v218 v221 = 1#1), ∀ a, (k0_off265 i k0_t2 v218 v221 k0_t34) a + S1x16.size a ≤ S256x128.size a := fun i k0_t2 v218 v221 k0_hw16 k0_t34 k0_h1 k0_h17 => k0_hw16.2.2.2.2.2.2.2.2.2.2.2.2.2.2.2.2.1 k0_t34 k0_h1 k0_h17
theorem k0_off266_inb : ∀ (i : grid0.Coords) (k0_t2 : Fin k0_t2_loop.trips) (v218 : BitVec 32) (v221 : BitVec 32) (k0_hw16 : k0_chk16 i k0_t2 v218 v221) (k0_t34 : Fin (k0_t34_loop i k0_t2 v218 v221).trips), ∀ (k0_h1 : k0_cond1 k0_t2 = 1#1), ∀ (k0_h17 : k0_cond17 i k0_t2 v218 v221 = 1#1), ∀ a, (k0_off266 i k0_t2 v218 v221 k0_t34) a + S1x16.size a ≤ S256x128.size a := fun i k0_t2 v218 v221 k0_hw16 k0_t34 k0_h1 k0_h17 => k0_hw16.2.2.2.2.2.2.2.2.2.2.2.2.2.2.2.2.2 k0_t34 k0_h1 k0_h17

def k0_cond18 (k0_t2 : Fin k0_t2_loop.trips) : BitVec 1 :=
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c2_i32_81 : BitVec 32 := 2#32
  let v226 : BitVec 32 := Scalar.addi v59 c2_i32_81
  let c40_i32_82 : BitVec 32 := 40#32
  let v227 : BitVec 1 := Scalar.cmpi .slt v226 c40_i32_82
  let v228 : BitVec 32 := Scalar.extui v227
  let c0_i32_83 : BitVec 32 := 0#32
  let v229 : BitVec 1 := Scalar.cmpi .ne v228 c0_i32_83
  v229

def k0_mult5 (i : grid0.Coords) (k0_t2 : Fin k0_t2_loop.trips) : BitVec 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c2_i32_84 : BitVec 32 := 2#32
  let v230 : BitVec 32 := Scalar.addi v59 c2_i32_84
  let c256_i32_85 : BitVec 32 := 256#32
  let v231 : BitVec 32 := Scalar.muli v230 c256_i32_85
  let v232 : BitVec 32 := Scalar.addi v4 v231
  let c319744_i32_86 : BitVec 32 := 319744#32
  let v233 : BitVec 32 := Scalar.minsi v232 c319744_i32_86
  v233
def k0_off267 (i : grid0.Coords) (k0_t2 : Fin k0_t2_loop.trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_49 : BitVec 32 := 2#32
  let v58 : BitVec 32 := Scalar.muli arg17 c2_i32_49
  let c0_i32_50 : BitVec 32 := 0#32
  let v59 : BitVec 32 := Scalar.addi v58 c0_i32_50
  let c2_i32_84 : BitVec 32 := 2#32
  let v230 : BitVec 32 := Scalar.addi v59 c2_i32_84
  let c256_i32_85 : BitVec 32 := 256#32
  let v231 : BitVec 32 := Scalar.muli v230 c256_i32_85
  let v232 : BitVec 32 := Scalar.addi v4 v231
  let c319744_i32_86 : BitVec 32 := 319744#32
  let v233 : BitVec 32 := Scalar.minsi v232 c319744_i32_86
  let v234 : BitVec 32 := v233
  let c0_i32_87 : BitVec 32 := 0#32
  ![v234.toNat, 0]
def k0_cond19 (k0_t2 : Fin k0_t2_loop.trips) : BitVec 1 :=
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c40_i32_54 : BitVec 32 := 40#32
  let v65 : BitVec 1 := Scalar.cmpi .slt v64 c40_i32_54
  let v66 : BitVec 32 := Scalar.extui v65
  let c0_i32_55 : BitVec 32 := 0#32
  let v67 : BitVec 1 := Scalar.cmpi .ne v66 c0_i32_55
  v67

def k0_mult6 (i : grid0.Coords) (k0_t2 : Fin k0_t2_loop.trips) : BitVec 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_57 : BitVec 32 := 256#32
  let v68 : BitVec 32 := Scalar.muli v64 c256_i32_57
  let v69 : BitVec 32 := Scalar.addi v4 v68
  let c319744_i32_58 : BitVec 32 := 319744#32
  let v70 : BitVec 32 := Scalar.minsi v69 c319744_i32_58
  v70
def k0_off268 (i : grid0.Coords) (k0_t2 : Fin k0_t2_loop.trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_57 : BitVec 32 := 256#32
  let v68 : BitVec 32 := Scalar.muli v64 c256_i32_57
  let v69 : BitVec 32 := Scalar.addi v4 v68
  let c319744_i32_58 : BitVec 32 := 319744#32
  let v70 : BitVec 32 := Scalar.minsi v69 c319744_i32_58
  let v71 : BitVec 32 := v70
  let c0_i32_59 : BitVec 32 := 0#32
  ![v71.toNat, 0]
def k0_mult7 (i : grid0.Coords) (k0_t2 : Fin k0_t2_loop.trips) : BitVec 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  v80
@[reducible] def k0_t35_loop (i : grid0.Coords) (k0_t2 : Fin k0_t2_loop.trips) (v83 : BitVec 32) (v86 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v84 : BitVec 32 := Scalar.maxsi v83 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_85 : BitVec 32 := 1#32
  ⟨v84, v234, c1_i32_85⟩
def k0_cond20 (i : grid0.Coords) (k0_t2 : Fin k0_t2_loop.trips) (v83 : BitVec 32) (v86 : BitVec 32) : BitVec 1 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v87 : BitVec 32 := Scalar.minsi v86 v77
  let v84 : BitVec 32 := Scalar.maxsi v83 v75
  let v88 : BitVec 1 := Scalar.cmpi .sgt v87 v84
  let v89 : BitVec 32 := Scalar.extui v88
  let c0_i32_65 : BitVec 32 := 0#32
  let v90 : BitVec 1 := Scalar.cmpi .ne v89 c0_i32_65
  v90

def k0_off269 (i : grid0.Coords) (k0_t2 : Fin k0_t2_loop.trips) (v83 : BitVec 32) (v86 : BitVec 32) (k0_t35 : Fin (k0_t35_loop i k0_t2 v83 v86).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v84 : BitVec 32 := Scalar.maxsi v83 v75
  let c1_i32_85 : BitVec 32 := 1#32
  let arg19 : BitVec 32 := Scf.iv v84 c1_i32_85 k0_t35
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_113 : Index := 0#32
  ![v302.toNat, 0]
def k0_off270 (i : grid0.Coords) (k0_t2 : Fin k0_t2_loop.trips) (v83 : BitVec 32) (v86 : BitVec 32) (k0_t35 : Fin (k0_t35_loop i k0_t2 v83 v86).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v84 : BitVec 32 := Scalar.maxsi v83 v75
  let c1_i32_85 : BitVec 32 := 1#32
  let arg19 : BitVec 32 := Scf.iv v84 c1_i32_85 k0_t35
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_114 : Index := 16#32
  ![v306.toNat, 16]
def k0_off271 (i : grid0.Coords) (k0_t2 : Fin k0_t2_loop.trips) (v83 : BitVec 32) (v86 : BitVec 32) (k0_t35 : Fin (k0_t35_loop i k0_t2 v83 v86).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v84 : BitVec 32 := Scalar.maxsi v83 v75
  let c1_i32_85 : BitVec 32 := 1#32
  let arg19 : BitVec 32 := Scf.iv v84 c1_i32_85 k0_t35
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_115 : Index := 32#32
  ![v310.toNat, 32]
def k0_off272 (i : grid0.Coords) (k0_t2 : Fin k0_t2_loop.trips) (v83 : BitVec 32) (v86 : BitVec 32) (k0_t35 : Fin (k0_t35_loop i k0_t2 v83 v86).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v84 : BitVec 32 := Scalar.maxsi v83 v75
  let c1_i32_85 : BitVec 32 := 1#32
  let arg19 : BitVec 32 := Scf.iv v84 c1_i32_85 k0_t35
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_116 : Index := 48#32
  ![v314.toNat, 48]
def k0_off273 (i : grid0.Coords) (k0_t2 : Fin k0_t2_loop.trips) (v83 : BitVec 32) (v86 : BitVec 32) (k0_t35 : Fin (k0_t35_loop i k0_t2 v83 v86).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v84 : BitVec 32 := Scalar.maxsi v83 v75
  let c1_i32_85 : BitVec 32 := 1#32
  let arg19 : BitVec 32 := Scf.iv v84 c1_i32_85 k0_t35
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_117 : Index := 64#32
  ![v318.toNat, 64]
def k0_off274 (i : grid0.Coords) (k0_t2 : Fin k0_t2_loop.trips) (v83 : BitVec 32) (v86 : BitVec 32) (k0_t35 : Fin (k0_t35_loop i k0_t2 v83 v86).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v84 : BitVec 32 := Scalar.maxsi v83 v75
  let c1_i32_85 : BitVec 32 := 1#32
  let arg19 : BitVec 32 := Scf.iv v84 c1_i32_85 k0_t35
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_118 : Index := 80#32
  ![v322.toNat, 80]
def k0_off275 (i : grid0.Coords) (k0_t2 : Fin k0_t2_loop.trips) (v83 : BitVec 32) (v86 : BitVec 32) (k0_t35 : Fin (k0_t35_loop i k0_t2 v83 v86).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v84 : BitVec 32 := Scalar.maxsi v83 v75
  let c1_i32_85 : BitVec 32 := 1#32
  let arg19 : BitVec 32 := Scf.iv v84 c1_i32_85 k0_t35
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_119 : Index := 96#32
  ![v326.toNat, 96]
def k0_off276 (i : grid0.Coords) (k0_t2 : Fin k0_t2_loop.trips) (v83 : BitVec 32) (v86 : BitVec 32) (k0_t35 : Fin (k0_t35_loop i k0_t2 v83 v86).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v84 : BitVec 32 := Scalar.maxsi v83 v75
  let c1_i32_85 : BitVec 32 := 1#32
  let arg19 : BitVec 32 := Scf.iv v84 c1_i32_85 k0_t35
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_120 : Index := 112#32
  ![v330.toNat, 112]
@[reducible] def k0_t36_loop (i : grid0.Coords) (k0_t2 : Fin k0_t2_loop.trips) (v83 : BitVec 32) (v86 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v84 : BitVec 32 := Scalar.maxsi v83 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let v231 : BitVec 32 := Scalar.addi v84 v230
  let c1_i32_86 : BitVec 32 := 1#32
  ⟨v234, v231, c1_i32_86⟩
def k0_off277 (i : grid0.Coords) (k0_t2 : Fin k0_t2_loop.trips) (v83 : BitVec 32) (v86 : BitVec 32) (k0_t36 : Fin (k0_t36_loop i k0_t2 v83 v86).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v84 : BitVec 32 := Scalar.maxsi v83 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_86 : BitVec 32 := 1#32
  let arg19 : BitVec 32 := Scf.iv v234 c1_i32_86 k0_t36
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_113 : Index := 0#32
  ![v302.toNat, 0]
def k0_off278 (i : grid0.Coords) (k0_t2 : Fin k0_t2_loop.trips) (v83 : BitVec 32) (v86 : BitVec 32) (k0_t36 : Fin (k0_t36_loop i k0_t2 v83 v86).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v84 : BitVec 32 := Scalar.maxsi v83 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_86 : BitVec 32 := 1#32
  let arg19 : BitVec 32 := Scf.iv v234 c1_i32_86 k0_t36
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_114 : Index := 16#32
  ![v306.toNat, 16]
def k0_off279 (i : grid0.Coords) (k0_t2 : Fin k0_t2_loop.trips) (v83 : BitVec 32) (v86 : BitVec 32) (k0_t36 : Fin (k0_t36_loop i k0_t2 v83 v86).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v84 : BitVec 32 := Scalar.maxsi v83 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_86 : BitVec 32 := 1#32
  let arg19 : BitVec 32 := Scf.iv v234 c1_i32_86 k0_t36
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_115 : Index := 32#32
  ![v310.toNat, 32]
def k0_off280 (i : grid0.Coords) (k0_t2 : Fin k0_t2_loop.trips) (v83 : BitVec 32) (v86 : BitVec 32) (k0_t36 : Fin (k0_t36_loop i k0_t2 v83 v86).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v84 : BitVec 32 := Scalar.maxsi v83 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_86 : BitVec 32 := 1#32
  let arg19 : BitVec 32 := Scf.iv v234 c1_i32_86 k0_t36
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_116 : Index := 48#32
  ![v314.toNat, 48]
def k0_off281 (i : grid0.Coords) (k0_t2 : Fin k0_t2_loop.trips) (v83 : BitVec 32) (v86 : BitVec 32) (k0_t36 : Fin (k0_t36_loop i k0_t2 v83 v86).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v84 : BitVec 32 := Scalar.maxsi v83 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_86 : BitVec 32 := 1#32
  let arg19 : BitVec 32 := Scf.iv v234 c1_i32_86 k0_t36
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_117 : Index := 64#32
  ![v318.toNat, 64]
def k0_off282 (i : grid0.Coords) (k0_t2 : Fin k0_t2_loop.trips) (v83 : BitVec 32) (v86 : BitVec 32) (k0_t36 : Fin (k0_t36_loop i k0_t2 v83 v86).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v84 : BitVec 32 := Scalar.maxsi v83 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_86 : BitVec 32 := 1#32
  let arg19 : BitVec 32 := Scf.iv v234 c1_i32_86 k0_t36
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_118 : Index := 80#32
  ![v322.toNat, 80]
def k0_off283 (i : grid0.Coords) (k0_t2 : Fin k0_t2_loop.trips) (v83 : BitVec 32) (v86 : BitVec 32) (k0_t36 : Fin (k0_t36_loop i k0_t2 v83 v86).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v84 : BitVec 32 := Scalar.maxsi v83 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_86 : BitVec 32 := 1#32
  let arg19 : BitVec 32 := Scf.iv v234 c1_i32_86 k0_t36
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_119 : Index := 96#32
  ![v326.toNat, 96]
def k0_off284 (i : grid0.Coords) (k0_t2 : Fin k0_t2_loop.trips) (v83 : BitVec 32) (v86 : BitVec 32) (k0_t36 : Fin (k0_t36_loop i k0_t2 v83 v86).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v84 : BitVec 32 := Scalar.maxsi v83 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_86 : BitVec 32 := 1#32
  let arg19 : BitVec 32 := Scf.iv v234 c1_i32_86 k0_t36
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_120 : Index := 112#32
  ![v330.toNat, 112]

def k0_chk17 (i : grid0.Coords) (k0_t2 : Fin k0_t2_loop.trips) (v83 : BitVec 32) (v86 : BitVec 32) : Prop :=
  (∀ (k0_h19 : k0_cond19 k0_t2 = 1#1), ∀ (k0_h20 : k0_cond20 i k0_t2 v83 v86 = 1#1), (k0_t35_loop i k0_t2 v83 v86).OK) ∧
  (∀ k0_t35 : Fin (k0_t35_loop i k0_t2 v83 v86).trips, ∀ (k0_h19 : k0_cond19 k0_t2 = 1#1), ∀ (k0_h20 : k0_cond20 i k0_t2 v83 v86 = 1#1), ∀ a, (k0_off269 i k0_t2 v83 v86 k0_t35) a + S1x16.size a ≤ S256x128.size a) ∧
  (∀ k0_t35 : Fin (k0_t35_loop i k0_t2 v83 v86).trips, ∀ (k0_h19 : k0_cond19 k0_t2 = 1#1), ∀ (k0_h20 : k0_cond20 i k0_t2 v83 v86 = 1#1), ∀ a, (k0_off270 i k0_t2 v83 v86 k0_t35) a + S1x16.size a ≤ S256x128.size a) ∧
  (∀ k0_t35 : Fin (k0_t35_loop i k0_t2 v83 v86).trips, ∀ (k0_h19 : k0_cond19 k0_t2 = 1#1), ∀ (k0_h20 : k0_cond20 i k0_t2 v83 v86 = 1#1), ∀ a, (k0_off271 i k0_t2 v83 v86 k0_t35) a + S1x16.size a ≤ S256x128.size a) ∧
  (∀ k0_t35 : Fin (k0_t35_loop i k0_t2 v83 v86).trips, ∀ (k0_h19 : k0_cond19 k0_t2 = 1#1), ∀ (k0_h20 : k0_cond20 i k0_t2 v83 v86 = 1#1), ∀ a, (k0_off272 i k0_t2 v83 v86 k0_t35) a + S1x16.size a ≤ S256x128.size a) ∧
  (∀ k0_t35 : Fin (k0_t35_loop i k0_t2 v83 v86).trips, ∀ (k0_h19 : k0_cond19 k0_t2 = 1#1), ∀ (k0_h20 : k0_cond20 i k0_t2 v83 v86 = 1#1), ∀ a, (k0_off273 i k0_t2 v83 v86 k0_t35) a + S1x16.size a ≤ S256x128.size a) ∧
  (∀ k0_t35 : Fin (k0_t35_loop i k0_t2 v83 v86).trips, ∀ (k0_h19 : k0_cond19 k0_t2 = 1#1), ∀ (k0_h20 : k0_cond20 i k0_t2 v83 v86 = 1#1), ∀ a, (k0_off274 i k0_t2 v83 v86 k0_t35) a + S1x16.size a ≤ S256x128.size a) ∧
  (∀ k0_t35 : Fin (k0_t35_loop i k0_t2 v83 v86).trips, ∀ (k0_h19 : k0_cond19 k0_t2 = 1#1), ∀ (k0_h20 : k0_cond20 i k0_t2 v83 v86 = 1#1), ∀ a, (k0_off275 i k0_t2 v83 v86 k0_t35) a + S1x16.size a ≤ S256x128.size a) ∧
  (∀ k0_t35 : Fin (k0_t35_loop i k0_t2 v83 v86).trips, ∀ (k0_h19 : k0_cond19 k0_t2 = 1#1), ∀ (k0_h20 : k0_cond20 i k0_t2 v83 v86 = 1#1), ∀ a, (k0_off276 i k0_t2 v83 v86 k0_t35) a + S1x16.size a ≤ S256x128.size a) ∧
  (∀ (k0_h19 : k0_cond19 k0_t2 = 1#1), ∀ (k0_h20 : k0_cond20 i k0_t2 v83 v86 = 1#1), (k0_t36_loop i k0_t2 v83 v86).OK) ∧
  (∀ k0_t36 : Fin (k0_t36_loop i k0_t2 v83 v86).trips, ∀ (k0_h19 : k0_cond19 k0_t2 = 1#1), ∀ (k0_h20 : k0_cond20 i k0_t2 v83 v86 = 1#1), ∀ a, (k0_off277 i k0_t2 v83 v86 k0_t36) a + S1x16.size a ≤ S256x128.size a) ∧
  (∀ k0_t36 : Fin (k0_t36_loop i k0_t2 v83 v86).trips, ∀ (k0_h19 : k0_cond19 k0_t2 = 1#1), ∀ (k0_h20 : k0_cond20 i k0_t2 v83 v86 = 1#1), ∀ a, (k0_off278 i k0_t2 v83 v86 k0_t36) a + S1x16.size a ≤ S256x128.size a) ∧
  (∀ k0_t36 : Fin (k0_t36_loop i k0_t2 v83 v86).trips, ∀ (k0_h19 : k0_cond19 k0_t2 = 1#1), ∀ (k0_h20 : k0_cond20 i k0_t2 v83 v86 = 1#1), ∀ a, (k0_off279 i k0_t2 v83 v86 k0_t36) a + S1x16.size a ≤ S256x128.size a) ∧
  (∀ k0_t36 : Fin (k0_t36_loop i k0_t2 v83 v86).trips, ∀ (k0_h19 : k0_cond19 k0_t2 = 1#1), ∀ (k0_h20 : k0_cond20 i k0_t2 v83 v86 = 1#1), ∀ a, (k0_off280 i k0_t2 v83 v86 k0_t36) a + S1x16.size a ≤ S256x128.size a) ∧
  (∀ k0_t36 : Fin (k0_t36_loop i k0_t2 v83 v86).trips, ∀ (k0_h19 : k0_cond19 k0_t2 = 1#1), ∀ (k0_h20 : k0_cond20 i k0_t2 v83 v86 = 1#1), ∀ a, (k0_off281 i k0_t2 v83 v86 k0_t36) a + S1x16.size a ≤ S256x128.size a) ∧
  (∀ k0_t36 : Fin (k0_t36_loop i k0_t2 v83 v86).trips, ∀ (k0_h19 : k0_cond19 k0_t2 = 1#1), ∀ (k0_h20 : k0_cond20 i k0_t2 v83 v86 = 1#1), ∀ a, (k0_off282 i k0_t2 v83 v86 k0_t36) a + S1x16.size a ≤ S256x128.size a) ∧
  (∀ k0_t36 : Fin (k0_t36_loop i k0_t2 v83 v86).trips, ∀ (k0_h19 : k0_cond19 k0_t2 = 1#1), ∀ (k0_h20 : k0_cond20 i k0_t2 v83 v86 = 1#1), ∀ a, (k0_off283 i k0_t2 v83 v86 k0_t36) a + S1x16.size a ≤ S256x128.size a) ∧
  (∀ k0_t36 : Fin (k0_t36_loop i k0_t2 v83 v86).trips, ∀ (k0_h19 : k0_cond19 k0_t2 = 1#1), ∀ (k0_h20 : k0_cond20 i k0_t2 v83 v86 = 1#1), ∀ a, (k0_off284 i k0_t2 v83 v86 k0_t36) a + S1x16.size a ≤ S256x128.size a)
theorem k0_t35_ok : ∀ (i : grid0.Coords) (k0_t2 : Fin k0_t2_loop.trips) (v83 : BitVec 32) (v86 : BitVec 32) (k0_hw17 : k0_chk17 i k0_t2 v83 v86), ∀ (k0_h19 : k0_cond19 k0_t2 = 1#1), ∀ (k0_h20 : k0_cond20 i k0_t2 v83 v86 = 1#1), (k0_t35_loop i k0_t2 v83 v86).OK := fun i k0_t2 v83 v86 k0_hw17 k0_h19 k0_h20 => k0_hw17.1 k0_h19 k0_h20
theorem k0_off269_inb : ∀ (i : grid0.Coords) (k0_t2 : Fin k0_t2_loop.trips) (v83 : BitVec 32) (v86 : BitVec 32) (k0_hw17 : k0_chk17 i k0_t2 v83 v86) (k0_t35 : Fin (k0_t35_loop i k0_t2 v83 v86).trips), ∀ (k0_h19 : k0_cond19 k0_t2 = 1#1), ∀ (k0_h20 : k0_cond20 i k0_t2 v83 v86 = 1#1), ∀ a, (k0_off269 i k0_t2 v83 v86 k0_t35) a + S1x16.size a ≤ S256x128.size a := fun i k0_t2 v83 v86 k0_hw17 k0_t35 k0_h19 k0_h20 => k0_hw17.2.1 k0_t35 k0_h19 k0_h20
theorem k0_off270_inb : ∀ (i : grid0.Coords) (k0_t2 : Fin k0_t2_loop.trips) (v83 : BitVec 32) (v86 : BitVec 32) (k0_hw17 : k0_chk17 i k0_t2 v83 v86) (k0_t35 : Fin (k0_t35_loop i k0_t2 v83 v86).trips), ∀ (k0_h19 : k0_cond19 k0_t2 = 1#1), ∀ (k0_h20 : k0_cond20 i k0_t2 v83 v86 = 1#1), ∀ a, (k0_off270 i k0_t2 v83 v86 k0_t35) a + S1x16.size a ≤ S256x128.size a := fun i k0_t2 v83 v86 k0_hw17 k0_t35 k0_h19 k0_h20 => k0_hw17.2.2.1 k0_t35 k0_h19 k0_h20
theorem k0_off271_inb : ∀ (i : grid0.Coords) (k0_t2 : Fin k0_t2_loop.trips) (v83 : BitVec 32) (v86 : BitVec 32) (k0_hw17 : k0_chk17 i k0_t2 v83 v86) (k0_t35 : Fin (k0_t35_loop i k0_t2 v83 v86).trips), ∀ (k0_h19 : k0_cond19 k0_t2 = 1#1), ∀ (k0_h20 : k0_cond20 i k0_t2 v83 v86 = 1#1), ∀ a, (k0_off271 i k0_t2 v83 v86 k0_t35) a + S1x16.size a ≤ S256x128.size a := fun i k0_t2 v83 v86 k0_hw17 k0_t35 k0_h19 k0_h20 => k0_hw17.2.2.2.1 k0_t35 k0_h19 k0_h20
theorem k0_off272_inb : ∀ (i : grid0.Coords) (k0_t2 : Fin k0_t2_loop.trips) (v83 : BitVec 32) (v86 : BitVec 32) (k0_hw17 : k0_chk17 i k0_t2 v83 v86) (k0_t35 : Fin (k0_t35_loop i k0_t2 v83 v86).trips), ∀ (k0_h19 : k0_cond19 k0_t2 = 1#1), ∀ (k0_h20 : k0_cond20 i k0_t2 v83 v86 = 1#1), ∀ a, (k0_off272 i k0_t2 v83 v86 k0_t35) a + S1x16.size a ≤ S256x128.size a := fun i k0_t2 v83 v86 k0_hw17 k0_t35 k0_h19 k0_h20 => k0_hw17.2.2.2.2.1 k0_t35 k0_h19 k0_h20
theorem k0_off273_inb : ∀ (i : grid0.Coords) (k0_t2 : Fin k0_t2_loop.trips) (v83 : BitVec 32) (v86 : BitVec 32) (k0_hw17 : k0_chk17 i k0_t2 v83 v86) (k0_t35 : Fin (k0_t35_loop i k0_t2 v83 v86).trips), ∀ (k0_h19 : k0_cond19 k0_t2 = 1#1), ∀ (k0_h20 : k0_cond20 i k0_t2 v83 v86 = 1#1), ∀ a, (k0_off273 i k0_t2 v83 v86 k0_t35) a + S1x16.size a ≤ S256x128.size a := fun i k0_t2 v83 v86 k0_hw17 k0_t35 k0_h19 k0_h20 => k0_hw17.2.2.2.2.2.1 k0_t35 k0_h19 k0_h20
theorem k0_off274_inb : ∀ (i : grid0.Coords) (k0_t2 : Fin k0_t2_loop.trips) (v83 : BitVec 32) (v86 : BitVec 32) (k0_hw17 : k0_chk17 i k0_t2 v83 v86) (k0_t35 : Fin (k0_t35_loop i k0_t2 v83 v86).trips), ∀ (k0_h19 : k0_cond19 k0_t2 = 1#1), ∀ (k0_h20 : k0_cond20 i k0_t2 v83 v86 = 1#1), ∀ a, (k0_off274 i k0_t2 v83 v86 k0_t35) a + S1x16.size a ≤ S256x128.size a := fun i k0_t2 v83 v86 k0_hw17 k0_t35 k0_h19 k0_h20 => k0_hw17.2.2.2.2.2.2.1 k0_t35 k0_h19 k0_h20
theorem k0_off275_inb : ∀ (i : grid0.Coords) (k0_t2 : Fin k0_t2_loop.trips) (v83 : BitVec 32) (v86 : BitVec 32) (k0_hw17 : k0_chk17 i k0_t2 v83 v86) (k0_t35 : Fin (k0_t35_loop i k0_t2 v83 v86).trips), ∀ (k0_h19 : k0_cond19 k0_t2 = 1#1), ∀ (k0_h20 : k0_cond20 i k0_t2 v83 v86 = 1#1), ∀ a, (k0_off275 i k0_t2 v83 v86 k0_t35) a + S1x16.size a ≤ S256x128.size a := fun i k0_t2 v83 v86 k0_hw17 k0_t35 k0_h19 k0_h20 => k0_hw17.2.2.2.2.2.2.2.1 k0_t35 k0_h19 k0_h20
theorem k0_off276_inb : ∀ (i : grid0.Coords) (k0_t2 : Fin k0_t2_loop.trips) (v83 : BitVec 32) (v86 : BitVec 32) (k0_hw17 : k0_chk17 i k0_t2 v83 v86) (k0_t35 : Fin (k0_t35_loop i k0_t2 v83 v86).trips), ∀ (k0_h19 : k0_cond19 k0_t2 = 1#1), ∀ (k0_h20 : k0_cond20 i k0_t2 v83 v86 = 1#1), ∀ a, (k0_off276 i k0_t2 v83 v86 k0_t35) a + S1x16.size a ≤ S256x128.size a := fun i k0_t2 v83 v86 k0_hw17 k0_t35 k0_h19 k0_h20 => k0_hw17.2.2.2.2.2.2.2.2.1 k0_t35 k0_h19 k0_h20
theorem k0_t36_ok : ∀ (i : grid0.Coords) (k0_t2 : Fin k0_t2_loop.trips) (v83 : BitVec 32) (v86 : BitVec 32) (k0_hw17 : k0_chk17 i k0_t2 v83 v86), ∀ (k0_h19 : k0_cond19 k0_t2 = 1#1), ∀ (k0_h20 : k0_cond20 i k0_t2 v83 v86 = 1#1), (k0_t36_loop i k0_t2 v83 v86).OK := fun i k0_t2 v83 v86 k0_hw17 k0_h19 k0_h20 => k0_hw17.2.2.2.2.2.2.2.2.2.1 k0_h19 k0_h20
theorem k0_off277_inb : ∀ (i : grid0.Coords) (k0_t2 : Fin k0_t2_loop.trips) (v83 : BitVec 32) (v86 : BitVec 32) (k0_hw17 : k0_chk17 i k0_t2 v83 v86) (k0_t36 : Fin (k0_t36_loop i k0_t2 v83 v86).trips), ∀ (k0_h19 : k0_cond19 k0_t2 = 1#1), ∀ (k0_h20 : k0_cond20 i k0_t2 v83 v86 = 1#1), ∀ a, (k0_off277 i k0_t2 v83 v86 k0_t36) a + S1x16.size a ≤ S256x128.size a := fun i k0_t2 v83 v86 k0_hw17 k0_t36 k0_h19 k0_h20 => k0_hw17.2.2.2.2.2.2.2.2.2.2.1 k0_t36 k0_h19 k0_h20
theorem k0_off278_inb : ∀ (i : grid0.Coords) (k0_t2 : Fin k0_t2_loop.trips) (v83 : BitVec 32) (v86 : BitVec 32) (k0_hw17 : k0_chk17 i k0_t2 v83 v86) (k0_t36 : Fin (k0_t36_loop i k0_t2 v83 v86).trips), ∀ (k0_h19 : k0_cond19 k0_t2 = 1#1), ∀ (k0_h20 : k0_cond20 i k0_t2 v83 v86 = 1#1), ∀ a, (k0_off278 i k0_t2 v83 v86 k0_t36) a + S1x16.size a ≤ S256x128.size a := fun i k0_t2 v83 v86 k0_hw17 k0_t36 k0_h19 k0_h20 => k0_hw17.2.2.2.2.2.2.2.2.2.2.2.1 k0_t36 k0_h19 k0_h20
theorem k0_off279_inb : ∀ (i : grid0.Coords) (k0_t2 : Fin k0_t2_loop.trips) (v83 : BitVec 32) (v86 : BitVec 32) (k0_hw17 : k0_chk17 i k0_t2 v83 v86) (k0_t36 : Fin (k0_t36_loop i k0_t2 v83 v86).trips), ∀ (k0_h19 : k0_cond19 k0_t2 = 1#1), ∀ (k0_h20 : k0_cond20 i k0_t2 v83 v86 = 1#1), ∀ a, (k0_off279 i k0_t2 v83 v86 k0_t36) a + S1x16.size a ≤ S256x128.size a := fun i k0_t2 v83 v86 k0_hw17 k0_t36 k0_h19 k0_h20 => k0_hw17.2.2.2.2.2.2.2.2.2.2.2.2.1 k0_t36 k0_h19 k0_h20
theorem k0_off280_inb : ∀ (i : grid0.Coords) (k0_t2 : Fin k0_t2_loop.trips) (v83 : BitVec 32) (v86 : BitVec 32) (k0_hw17 : k0_chk17 i k0_t2 v83 v86) (k0_t36 : Fin (k0_t36_loop i k0_t2 v83 v86).trips), ∀ (k0_h19 : k0_cond19 k0_t2 = 1#1), ∀ (k0_h20 : k0_cond20 i k0_t2 v83 v86 = 1#1), ∀ a, (k0_off280 i k0_t2 v83 v86 k0_t36) a + S1x16.size a ≤ S256x128.size a := fun i k0_t2 v83 v86 k0_hw17 k0_t36 k0_h19 k0_h20 => k0_hw17.2.2.2.2.2.2.2.2.2.2.2.2.2.1 k0_t36 k0_h19 k0_h20
theorem k0_off281_inb : ∀ (i : grid0.Coords) (k0_t2 : Fin k0_t2_loop.trips) (v83 : BitVec 32) (v86 : BitVec 32) (k0_hw17 : k0_chk17 i k0_t2 v83 v86) (k0_t36 : Fin (k0_t36_loop i k0_t2 v83 v86).trips), ∀ (k0_h19 : k0_cond19 k0_t2 = 1#1), ∀ (k0_h20 : k0_cond20 i k0_t2 v83 v86 = 1#1), ∀ a, (k0_off281 i k0_t2 v83 v86 k0_t36) a + S1x16.size a ≤ S256x128.size a := fun i k0_t2 v83 v86 k0_hw17 k0_t36 k0_h19 k0_h20 => k0_hw17.2.2.2.2.2.2.2.2.2.2.2.2.2.2.1 k0_t36 k0_h19 k0_h20
theorem k0_off282_inb : ∀ (i : grid0.Coords) (k0_t2 : Fin k0_t2_loop.trips) (v83 : BitVec 32) (v86 : BitVec 32) (k0_hw17 : k0_chk17 i k0_t2 v83 v86) (k0_t36 : Fin (k0_t36_loop i k0_t2 v83 v86).trips), ∀ (k0_h19 : k0_cond19 k0_t2 = 1#1), ∀ (k0_h20 : k0_cond20 i k0_t2 v83 v86 = 1#1), ∀ a, (k0_off282 i k0_t2 v83 v86 k0_t36) a + S1x16.size a ≤ S256x128.size a := fun i k0_t2 v83 v86 k0_hw17 k0_t36 k0_h19 k0_h20 => k0_hw17.2.2.2.2.2.2.2.2.2.2.2.2.2.2.2.1 k0_t36 k0_h19 k0_h20
theorem k0_off283_inb : ∀ (i : grid0.Coords) (k0_t2 : Fin k0_t2_loop.trips) (v83 : BitVec 32) (v86 : BitVec 32) (k0_hw17 : k0_chk17 i k0_t2 v83 v86) (k0_t36 : Fin (k0_t36_loop i k0_t2 v83 v86).trips), ∀ (k0_h19 : k0_cond19 k0_t2 = 1#1), ∀ (k0_h20 : k0_cond20 i k0_t2 v83 v86 = 1#1), ∀ a, (k0_off283 i k0_t2 v83 v86 k0_t36) a + S1x16.size a ≤ S256x128.size a := fun i k0_t2 v83 v86 k0_hw17 k0_t36 k0_h19 k0_h20 => k0_hw17.2.2.2.2.2.2.2.2.2.2.2.2.2.2.2.2.1 k0_t36 k0_h19 k0_h20
theorem k0_off284_inb : ∀ (i : grid0.Coords) (k0_t2 : Fin k0_t2_loop.trips) (v83 : BitVec 32) (v86 : BitVec 32) (k0_hw17 : k0_chk17 i k0_t2 v83 v86) (k0_t36 : Fin (k0_t36_loop i k0_t2 v83 v86).trips), ∀ (k0_h19 : k0_cond19 k0_t2 = 1#1), ∀ (k0_h20 : k0_cond20 i k0_t2 v83 v86 = 1#1), ∀ a, (k0_off284 i k0_t2 v83 v86 k0_t36) a + S1x16.size a ≤ S256x128.size a := fun i k0_t2 v83 v86 k0_hw17 k0_t36 k0_h19 k0_h20 => k0_hw17.2.2.2.2.2.2.2.2.2.2.2.2.2.2.2.2.2 k0_t36 k0_h19 k0_h20

@[reducible] def k0_t37_loop (i : grid0.Coords) (k0_t2 : Fin k0_t2_loop.trips) (v92 : BitVec 32) (v95 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v93 : BitVec 32 := Scalar.maxsi v92 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_85 : BitVec 32 := 1#32
  ⟨v93, v234, c1_i32_85⟩
def k0_cond21 (i : grid0.Coords) (k0_t2 : Fin k0_t2_loop.trips) (v92 : BitVec 32) (v95 : BitVec 32) : BitVec 1 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v96 : BitVec 32 := Scalar.minsi v95 v77
  let v93 : BitVec 32 := Scalar.maxsi v92 v75
  let v97 : BitVec 1 := Scalar.cmpi .sgt v96 v93
  let v98 : BitVec 32 := Scalar.extui v97
  let c0_i32_66 : BitVec 32 := 0#32
  let v99 : BitVec 1 := Scalar.cmpi .ne v98 c0_i32_66
  v99

def k0_off285 (i : grid0.Coords) (k0_t2 : Fin k0_t2_loop.trips) (v92 : BitVec 32) (v95 : BitVec 32) (k0_t37 : Fin (k0_t37_loop i k0_t2 v92 v95).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v93 : BitVec 32 := Scalar.maxsi v92 v75
  let c1_i32_85 : BitVec 32 := 1#32
  let arg19 : BitVec 32 := Scf.iv v93 c1_i32_85 k0_t37
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_113 : Index := 0#32
  ![v302.toNat, 0]
def k0_off286 (i : grid0.Coords) (k0_t2 : Fin k0_t2_loop.trips) (v92 : BitVec 32) (v95 : BitVec 32) (k0_t37 : Fin (k0_t37_loop i k0_t2 v92 v95).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v93 : BitVec 32 := Scalar.maxsi v92 v75
  let c1_i32_85 : BitVec 32 := 1#32
  let arg19 : BitVec 32 := Scf.iv v93 c1_i32_85 k0_t37
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_114 : Index := 16#32
  ![v306.toNat, 16]
def k0_off287 (i : grid0.Coords) (k0_t2 : Fin k0_t2_loop.trips) (v92 : BitVec 32) (v95 : BitVec 32) (k0_t37 : Fin (k0_t37_loop i k0_t2 v92 v95).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v93 : BitVec 32 := Scalar.maxsi v92 v75
  let c1_i32_85 : BitVec 32 := 1#32
  let arg19 : BitVec 32 := Scf.iv v93 c1_i32_85 k0_t37
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_115 : Index := 32#32
  ![v310.toNat, 32]
def k0_off288 (i : grid0.Coords) (k0_t2 : Fin k0_t2_loop.trips) (v92 : BitVec 32) (v95 : BitVec 32) (k0_t37 : Fin (k0_t37_loop i k0_t2 v92 v95).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v93 : BitVec 32 := Scalar.maxsi v92 v75
  let c1_i32_85 : BitVec 32 := 1#32
  let arg19 : BitVec 32 := Scf.iv v93 c1_i32_85 k0_t37
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_116 : Index := 48#32
  ![v314.toNat, 48]
def k0_off289 (i : grid0.Coords) (k0_t2 : Fin k0_t2_loop.trips) (v92 : BitVec 32) (v95 : BitVec 32) (k0_t37 : Fin (k0_t37_loop i k0_t2 v92 v95).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v93 : BitVec 32 := Scalar.maxsi v92 v75
  let c1_i32_85 : BitVec 32 := 1#32
  let arg19 : BitVec 32 := Scf.iv v93 c1_i32_85 k0_t37
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_117 : Index := 64#32
  ![v318.toNat, 64]
def k0_off290 (i : grid0.Coords) (k0_t2 : Fin k0_t2_loop.trips) (v92 : BitVec 32) (v95 : BitVec 32) (k0_t37 : Fin (k0_t37_loop i k0_t2 v92 v95).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v93 : BitVec 32 := Scalar.maxsi v92 v75
  let c1_i32_85 : BitVec 32 := 1#32
  let arg19 : BitVec 32 := Scf.iv v93 c1_i32_85 k0_t37
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_118 : Index := 80#32
  ![v322.toNat, 80]
def k0_off291 (i : grid0.Coords) (k0_t2 : Fin k0_t2_loop.trips) (v92 : BitVec 32) (v95 : BitVec 32) (k0_t37 : Fin (k0_t37_loop i k0_t2 v92 v95).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v93 : BitVec 32 := Scalar.maxsi v92 v75
  let c1_i32_85 : BitVec 32 := 1#32
  let arg19 : BitVec 32 := Scf.iv v93 c1_i32_85 k0_t37
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_119 : Index := 96#32
  ![v326.toNat, 96]
def k0_off292 (i : grid0.Coords) (k0_t2 : Fin k0_t2_loop.trips) (v92 : BitVec 32) (v95 : BitVec 32) (k0_t37 : Fin (k0_t37_loop i k0_t2 v92 v95).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v93 : BitVec 32 := Scalar.maxsi v92 v75
  let c1_i32_85 : BitVec 32 := 1#32
  let arg19 : BitVec 32 := Scf.iv v93 c1_i32_85 k0_t37
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_120 : Index := 112#32
  ![v330.toNat, 112]
@[reducible] def k0_t38_loop (i : grid0.Coords) (k0_t2 : Fin k0_t2_loop.trips) (v92 : BitVec 32) (v95 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v93 : BitVec 32 := Scalar.maxsi v92 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let v231 : BitVec 32 := Scalar.addi v93 v230
  let c1_i32_86 : BitVec 32 := 1#32
  ⟨v234, v231, c1_i32_86⟩
def k0_off293 (i : grid0.Coords) (k0_t2 : Fin k0_t2_loop.trips) (v92 : BitVec 32) (v95 : BitVec 32) (k0_t38 : Fin (k0_t38_loop i k0_t2 v92 v95).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v93 : BitVec 32 := Scalar.maxsi v92 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_86 : BitVec 32 := 1#32
  let arg19 : BitVec 32 := Scf.iv v234 c1_i32_86 k0_t38
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_113 : Index := 0#32
  ![v302.toNat, 0]
def k0_off294 (i : grid0.Coords) (k0_t2 : Fin k0_t2_loop.trips) (v92 : BitVec 32) (v95 : BitVec 32) (k0_t38 : Fin (k0_t38_loop i k0_t2 v92 v95).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v93 : BitVec 32 := Scalar.maxsi v92 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_86 : BitVec 32 := 1#32
  let arg19 : BitVec 32 := Scf.iv v234 c1_i32_86 k0_t38
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_114 : Index := 16#32
  ![v306.toNat, 16]
def k0_off295 (i : grid0.Coords) (k0_t2 : Fin k0_t2_loop.trips) (v92 : BitVec 32) (v95 : BitVec 32) (k0_t38 : Fin (k0_t38_loop i k0_t2 v92 v95).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v93 : BitVec 32 := Scalar.maxsi v92 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_86 : BitVec 32 := 1#32
  let arg19 : BitVec 32 := Scf.iv v234 c1_i32_86 k0_t38
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_115 : Index := 32#32
  ![v310.toNat, 32]
def k0_off296 (i : grid0.Coords) (k0_t2 : Fin k0_t2_loop.trips) (v92 : BitVec 32) (v95 : BitVec 32) (k0_t38 : Fin (k0_t38_loop i k0_t2 v92 v95).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v93 : BitVec 32 := Scalar.maxsi v92 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_86 : BitVec 32 := 1#32
  let arg19 : BitVec 32 := Scf.iv v234 c1_i32_86 k0_t38
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_116 : Index := 48#32
  ![v314.toNat, 48]
def k0_off297 (i : grid0.Coords) (k0_t2 : Fin k0_t2_loop.trips) (v92 : BitVec 32) (v95 : BitVec 32) (k0_t38 : Fin (k0_t38_loop i k0_t2 v92 v95).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v93 : BitVec 32 := Scalar.maxsi v92 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_86 : BitVec 32 := 1#32
  let arg19 : BitVec 32 := Scf.iv v234 c1_i32_86 k0_t38
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_117 : Index := 64#32
  ![v318.toNat, 64]
def k0_off298 (i : grid0.Coords) (k0_t2 : Fin k0_t2_loop.trips) (v92 : BitVec 32) (v95 : BitVec 32) (k0_t38 : Fin (k0_t38_loop i k0_t2 v92 v95).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v93 : BitVec 32 := Scalar.maxsi v92 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_86 : BitVec 32 := 1#32
  let arg19 : BitVec 32 := Scf.iv v234 c1_i32_86 k0_t38
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_118 : Index := 80#32
  ![v322.toNat, 80]
def k0_off299 (i : grid0.Coords) (k0_t2 : Fin k0_t2_loop.trips) (v92 : BitVec 32) (v95 : BitVec 32) (k0_t38 : Fin (k0_t38_loop i k0_t2 v92 v95).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v93 : BitVec 32 := Scalar.maxsi v92 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_86 : BitVec 32 := 1#32
  let arg19 : BitVec 32 := Scf.iv v234 c1_i32_86 k0_t38
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_119 : Index := 96#32
  ![v326.toNat, 96]
def k0_off300 (i : grid0.Coords) (k0_t2 : Fin k0_t2_loop.trips) (v92 : BitVec 32) (v95 : BitVec 32) (k0_t38 : Fin (k0_t38_loop i k0_t2 v92 v95).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v93 : BitVec 32 := Scalar.maxsi v92 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_86 : BitVec 32 := 1#32
  let arg19 : BitVec 32 := Scf.iv v234 c1_i32_86 k0_t38
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_120 : Index := 112#32
  ![v330.toNat, 112]

def k0_chk18 (i : grid0.Coords) (k0_t2 : Fin k0_t2_loop.trips) (v92 : BitVec 32) (v95 : BitVec 32) : Prop :=
  (∀ (k0_h19 : k0_cond19 k0_t2 = 1#1), ∀ (k0_h21 : k0_cond21 i k0_t2 v92 v95 = 1#1), (k0_t37_loop i k0_t2 v92 v95).OK) ∧
  (∀ k0_t37 : Fin (k0_t37_loop i k0_t2 v92 v95).trips, ∀ (k0_h19 : k0_cond19 k0_t2 = 1#1), ∀ (k0_h21 : k0_cond21 i k0_t2 v92 v95 = 1#1), ∀ a, (k0_off285 i k0_t2 v92 v95 k0_t37) a + S1x16.size a ≤ S256x128.size a) ∧
  (∀ k0_t37 : Fin (k0_t37_loop i k0_t2 v92 v95).trips, ∀ (k0_h19 : k0_cond19 k0_t2 = 1#1), ∀ (k0_h21 : k0_cond21 i k0_t2 v92 v95 = 1#1), ∀ a, (k0_off286 i k0_t2 v92 v95 k0_t37) a + S1x16.size a ≤ S256x128.size a) ∧
  (∀ k0_t37 : Fin (k0_t37_loop i k0_t2 v92 v95).trips, ∀ (k0_h19 : k0_cond19 k0_t2 = 1#1), ∀ (k0_h21 : k0_cond21 i k0_t2 v92 v95 = 1#1), ∀ a, (k0_off287 i k0_t2 v92 v95 k0_t37) a + S1x16.size a ≤ S256x128.size a) ∧
  (∀ k0_t37 : Fin (k0_t37_loop i k0_t2 v92 v95).trips, ∀ (k0_h19 : k0_cond19 k0_t2 = 1#1), ∀ (k0_h21 : k0_cond21 i k0_t2 v92 v95 = 1#1), ∀ a, (k0_off288 i k0_t2 v92 v95 k0_t37) a + S1x16.size a ≤ S256x128.size a) ∧
  (∀ k0_t37 : Fin (k0_t37_loop i k0_t2 v92 v95).trips, ∀ (k0_h19 : k0_cond19 k0_t2 = 1#1), ∀ (k0_h21 : k0_cond21 i k0_t2 v92 v95 = 1#1), ∀ a, (k0_off289 i k0_t2 v92 v95 k0_t37) a + S1x16.size a ≤ S256x128.size a) ∧
  (∀ k0_t37 : Fin (k0_t37_loop i k0_t2 v92 v95).trips, ∀ (k0_h19 : k0_cond19 k0_t2 = 1#1), ∀ (k0_h21 : k0_cond21 i k0_t2 v92 v95 = 1#1), ∀ a, (k0_off290 i k0_t2 v92 v95 k0_t37) a + S1x16.size a ≤ S256x128.size a) ∧
  (∀ k0_t37 : Fin (k0_t37_loop i k0_t2 v92 v95).trips, ∀ (k0_h19 : k0_cond19 k0_t2 = 1#1), ∀ (k0_h21 : k0_cond21 i k0_t2 v92 v95 = 1#1), ∀ a, (k0_off291 i k0_t2 v92 v95 k0_t37) a + S1x16.size a ≤ S256x128.size a) ∧
  (∀ k0_t37 : Fin (k0_t37_loop i k0_t2 v92 v95).trips, ∀ (k0_h19 : k0_cond19 k0_t2 = 1#1), ∀ (k0_h21 : k0_cond21 i k0_t2 v92 v95 = 1#1), ∀ a, (k0_off292 i k0_t2 v92 v95 k0_t37) a + S1x16.size a ≤ S256x128.size a) ∧
  (∀ (k0_h19 : k0_cond19 k0_t2 = 1#1), ∀ (k0_h21 : k0_cond21 i k0_t2 v92 v95 = 1#1), (k0_t38_loop i k0_t2 v92 v95).OK) ∧
  (∀ k0_t38 : Fin (k0_t38_loop i k0_t2 v92 v95).trips, ∀ (k0_h19 : k0_cond19 k0_t2 = 1#1), ∀ (k0_h21 : k0_cond21 i k0_t2 v92 v95 = 1#1), ∀ a, (k0_off293 i k0_t2 v92 v95 k0_t38) a + S1x16.size a ≤ S256x128.size a) ∧
  (∀ k0_t38 : Fin (k0_t38_loop i k0_t2 v92 v95).trips, ∀ (k0_h19 : k0_cond19 k0_t2 = 1#1), ∀ (k0_h21 : k0_cond21 i k0_t2 v92 v95 = 1#1), ∀ a, (k0_off294 i k0_t2 v92 v95 k0_t38) a + S1x16.size a ≤ S256x128.size a) ∧
  (∀ k0_t38 : Fin (k0_t38_loop i k0_t2 v92 v95).trips, ∀ (k0_h19 : k0_cond19 k0_t2 = 1#1), ∀ (k0_h21 : k0_cond21 i k0_t2 v92 v95 = 1#1), ∀ a, (k0_off295 i k0_t2 v92 v95 k0_t38) a + S1x16.size a ≤ S256x128.size a) ∧
  (∀ k0_t38 : Fin (k0_t38_loop i k0_t2 v92 v95).trips, ∀ (k0_h19 : k0_cond19 k0_t2 = 1#1), ∀ (k0_h21 : k0_cond21 i k0_t2 v92 v95 = 1#1), ∀ a, (k0_off296 i k0_t2 v92 v95 k0_t38) a + S1x16.size a ≤ S256x128.size a) ∧
  (∀ k0_t38 : Fin (k0_t38_loop i k0_t2 v92 v95).trips, ∀ (k0_h19 : k0_cond19 k0_t2 = 1#1), ∀ (k0_h21 : k0_cond21 i k0_t2 v92 v95 = 1#1), ∀ a, (k0_off297 i k0_t2 v92 v95 k0_t38) a + S1x16.size a ≤ S256x128.size a) ∧
  (∀ k0_t38 : Fin (k0_t38_loop i k0_t2 v92 v95).trips, ∀ (k0_h19 : k0_cond19 k0_t2 = 1#1), ∀ (k0_h21 : k0_cond21 i k0_t2 v92 v95 = 1#1), ∀ a, (k0_off298 i k0_t2 v92 v95 k0_t38) a + S1x16.size a ≤ S256x128.size a) ∧
  (∀ k0_t38 : Fin (k0_t38_loop i k0_t2 v92 v95).trips, ∀ (k0_h19 : k0_cond19 k0_t2 = 1#1), ∀ (k0_h21 : k0_cond21 i k0_t2 v92 v95 = 1#1), ∀ a, (k0_off299 i k0_t2 v92 v95 k0_t38) a + S1x16.size a ≤ S256x128.size a) ∧
  (∀ k0_t38 : Fin (k0_t38_loop i k0_t2 v92 v95).trips, ∀ (k0_h19 : k0_cond19 k0_t2 = 1#1), ∀ (k0_h21 : k0_cond21 i k0_t2 v92 v95 = 1#1), ∀ a, (k0_off300 i k0_t2 v92 v95 k0_t38) a + S1x16.size a ≤ S256x128.size a)
theorem k0_t37_ok : ∀ (i : grid0.Coords) (k0_t2 : Fin k0_t2_loop.trips) (v92 : BitVec 32) (v95 : BitVec 32) (k0_hw18 : k0_chk18 i k0_t2 v92 v95), ∀ (k0_h19 : k0_cond19 k0_t2 = 1#1), ∀ (k0_h21 : k0_cond21 i k0_t2 v92 v95 = 1#1), (k0_t37_loop i k0_t2 v92 v95).OK := fun i k0_t2 v92 v95 k0_hw18 k0_h19 k0_h21 => k0_hw18.1 k0_h19 k0_h21
theorem k0_off285_inb : ∀ (i : grid0.Coords) (k0_t2 : Fin k0_t2_loop.trips) (v92 : BitVec 32) (v95 : BitVec 32) (k0_hw18 : k0_chk18 i k0_t2 v92 v95) (k0_t37 : Fin (k0_t37_loop i k0_t2 v92 v95).trips), ∀ (k0_h19 : k0_cond19 k0_t2 = 1#1), ∀ (k0_h21 : k0_cond21 i k0_t2 v92 v95 = 1#1), ∀ a, (k0_off285 i k0_t2 v92 v95 k0_t37) a + S1x16.size a ≤ S256x128.size a := fun i k0_t2 v92 v95 k0_hw18 k0_t37 k0_h19 k0_h21 => k0_hw18.2.1 k0_t37 k0_h19 k0_h21
theorem k0_off286_inb : ∀ (i : grid0.Coords) (k0_t2 : Fin k0_t2_loop.trips) (v92 : BitVec 32) (v95 : BitVec 32) (k0_hw18 : k0_chk18 i k0_t2 v92 v95) (k0_t37 : Fin (k0_t37_loop i k0_t2 v92 v95).trips), ∀ (k0_h19 : k0_cond19 k0_t2 = 1#1), ∀ (k0_h21 : k0_cond21 i k0_t2 v92 v95 = 1#1), ∀ a, (k0_off286 i k0_t2 v92 v95 k0_t37) a + S1x16.size a ≤ S256x128.size a := fun i k0_t2 v92 v95 k0_hw18 k0_t37 k0_h19 k0_h21 => k0_hw18.2.2.1 k0_t37 k0_h19 k0_h21
theorem k0_off287_inb : ∀ (i : grid0.Coords) (k0_t2 : Fin k0_t2_loop.trips) (v92 : BitVec 32) (v95 : BitVec 32) (k0_hw18 : k0_chk18 i k0_t2 v92 v95) (k0_t37 : Fin (k0_t37_loop i k0_t2 v92 v95).trips), ∀ (k0_h19 : k0_cond19 k0_t2 = 1#1), ∀ (k0_h21 : k0_cond21 i k0_t2 v92 v95 = 1#1), ∀ a, (k0_off287 i k0_t2 v92 v95 k0_t37) a + S1x16.size a ≤ S256x128.size a := fun i k0_t2 v92 v95 k0_hw18 k0_t37 k0_h19 k0_h21 => k0_hw18.2.2.2.1 k0_t37 k0_h19 k0_h21
theorem k0_off288_inb : ∀ (i : grid0.Coords) (k0_t2 : Fin k0_t2_loop.trips) (v92 : BitVec 32) (v95 : BitVec 32) (k0_hw18 : k0_chk18 i k0_t2 v92 v95) (k0_t37 : Fin (k0_t37_loop i k0_t2 v92 v95).trips), ∀ (k0_h19 : k0_cond19 k0_t2 = 1#1), ∀ (k0_h21 : k0_cond21 i k0_t2 v92 v95 = 1#1), ∀ a, (k0_off288 i k0_t2 v92 v95 k0_t37) a + S1x16.size a ≤ S256x128.size a := fun i k0_t2 v92 v95 k0_hw18 k0_t37 k0_h19 k0_h21 => k0_hw18.2.2.2.2.1 k0_t37 k0_h19 k0_h21
theorem k0_off289_inb : ∀ (i : grid0.Coords) (k0_t2 : Fin k0_t2_loop.trips) (v92 : BitVec 32) (v95 : BitVec 32) (k0_hw18 : k0_chk18 i k0_t2 v92 v95) (k0_t37 : Fin (k0_t37_loop i k0_t2 v92 v95).trips), ∀ (k0_h19 : k0_cond19 k0_t2 = 1#1), ∀ (k0_h21 : k0_cond21 i k0_t2 v92 v95 = 1#1), ∀ a, (k0_off289 i k0_t2 v92 v95 k0_t37) a + S1x16.size a ≤ S256x128.size a := fun i k0_t2 v92 v95 k0_hw18 k0_t37 k0_h19 k0_h21 => k0_hw18.2.2.2.2.2.1 k0_t37 k0_h19 k0_h21
theorem k0_off290_inb : ∀ (i : grid0.Coords) (k0_t2 : Fin k0_t2_loop.trips) (v92 : BitVec 32) (v95 : BitVec 32) (k0_hw18 : k0_chk18 i k0_t2 v92 v95) (k0_t37 : Fin (k0_t37_loop i k0_t2 v92 v95).trips), ∀ (k0_h19 : k0_cond19 k0_t2 = 1#1), ∀ (k0_h21 : k0_cond21 i k0_t2 v92 v95 = 1#1), ∀ a, (k0_off290 i k0_t2 v92 v95 k0_t37) a + S1x16.size a ≤ S256x128.size a := fun i k0_t2 v92 v95 k0_hw18 k0_t37 k0_h19 k0_h21 => k0_hw18.2.2.2.2.2.2.1 k0_t37 k0_h19 k0_h21
theorem k0_off291_inb : ∀ (i : grid0.Coords) (k0_t2 : Fin k0_t2_loop.trips) (v92 : BitVec 32) (v95 : BitVec 32) (k0_hw18 : k0_chk18 i k0_t2 v92 v95) (k0_t37 : Fin (k0_t37_loop i k0_t2 v92 v95).trips), ∀ (k0_h19 : k0_cond19 k0_t2 = 1#1), ∀ (k0_h21 : k0_cond21 i k0_t2 v92 v95 = 1#1), ∀ a, (k0_off291 i k0_t2 v92 v95 k0_t37) a + S1x16.size a ≤ S256x128.size a := fun i k0_t2 v92 v95 k0_hw18 k0_t37 k0_h19 k0_h21 => k0_hw18.2.2.2.2.2.2.2.1 k0_t37 k0_h19 k0_h21
theorem k0_off292_inb : ∀ (i : grid0.Coords) (k0_t2 : Fin k0_t2_loop.trips) (v92 : BitVec 32) (v95 : BitVec 32) (k0_hw18 : k0_chk18 i k0_t2 v92 v95) (k0_t37 : Fin (k0_t37_loop i k0_t2 v92 v95).trips), ∀ (k0_h19 : k0_cond19 k0_t2 = 1#1), ∀ (k0_h21 : k0_cond21 i k0_t2 v92 v95 = 1#1), ∀ a, (k0_off292 i k0_t2 v92 v95 k0_t37) a + S1x16.size a ≤ S256x128.size a := fun i k0_t2 v92 v95 k0_hw18 k0_t37 k0_h19 k0_h21 => k0_hw18.2.2.2.2.2.2.2.2.1 k0_t37 k0_h19 k0_h21
theorem k0_t38_ok : ∀ (i : grid0.Coords) (k0_t2 : Fin k0_t2_loop.trips) (v92 : BitVec 32) (v95 : BitVec 32) (k0_hw18 : k0_chk18 i k0_t2 v92 v95), ∀ (k0_h19 : k0_cond19 k0_t2 = 1#1), ∀ (k0_h21 : k0_cond21 i k0_t2 v92 v95 = 1#1), (k0_t38_loop i k0_t2 v92 v95).OK := fun i k0_t2 v92 v95 k0_hw18 k0_h19 k0_h21 => k0_hw18.2.2.2.2.2.2.2.2.2.1 k0_h19 k0_h21
theorem k0_off293_inb : ∀ (i : grid0.Coords) (k0_t2 : Fin k0_t2_loop.trips) (v92 : BitVec 32) (v95 : BitVec 32) (k0_hw18 : k0_chk18 i k0_t2 v92 v95) (k0_t38 : Fin (k0_t38_loop i k0_t2 v92 v95).trips), ∀ (k0_h19 : k0_cond19 k0_t2 = 1#1), ∀ (k0_h21 : k0_cond21 i k0_t2 v92 v95 = 1#1), ∀ a, (k0_off293 i k0_t2 v92 v95 k0_t38) a + S1x16.size a ≤ S256x128.size a := fun i k0_t2 v92 v95 k0_hw18 k0_t38 k0_h19 k0_h21 => k0_hw18.2.2.2.2.2.2.2.2.2.2.1 k0_t38 k0_h19 k0_h21
theorem k0_off294_inb : ∀ (i : grid0.Coords) (k0_t2 : Fin k0_t2_loop.trips) (v92 : BitVec 32) (v95 : BitVec 32) (k0_hw18 : k0_chk18 i k0_t2 v92 v95) (k0_t38 : Fin (k0_t38_loop i k0_t2 v92 v95).trips), ∀ (k0_h19 : k0_cond19 k0_t2 = 1#1), ∀ (k0_h21 : k0_cond21 i k0_t2 v92 v95 = 1#1), ∀ a, (k0_off294 i k0_t2 v92 v95 k0_t38) a + S1x16.size a ≤ S256x128.size a := fun i k0_t2 v92 v95 k0_hw18 k0_t38 k0_h19 k0_h21 => k0_hw18.2.2.2.2.2.2.2.2.2.2.2.1 k0_t38 k0_h19 k0_h21
theorem k0_off295_inb : ∀ (i : grid0.Coords) (k0_t2 : Fin k0_t2_loop.trips) (v92 : BitVec 32) (v95 : BitVec 32) (k0_hw18 : k0_chk18 i k0_t2 v92 v95) (k0_t38 : Fin (k0_t38_loop i k0_t2 v92 v95).trips), ∀ (k0_h19 : k0_cond19 k0_t2 = 1#1), ∀ (k0_h21 : k0_cond21 i k0_t2 v92 v95 = 1#1), ∀ a, (k0_off295 i k0_t2 v92 v95 k0_t38) a + S1x16.size a ≤ S256x128.size a := fun i k0_t2 v92 v95 k0_hw18 k0_t38 k0_h19 k0_h21 => k0_hw18.2.2.2.2.2.2.2.2.2.2.2.2.1 k0_t38 k0_h19 k0_h21
theorem k0_off296_inb : ∀ (i : grid0.Coords) (k0_t2 : Fin k0_t2_loop.trips) (v92 : BitVec 32) (v95 : BitVec 32) (k0_hw18 : k0_chk18 i k0_t2 v92 v95) (k0_t38 : Fin (k0_t38_loop i k0_t2 v92 v95).trips), ∀ (k0_h19 : k0_cond19 k0_t2 = 1#1), ∀ (k0_h21 : k0_cond21 i k0_t2 v92 v95 = 1#1), ∀ a, (k0_off296 i k0_t2 v92 v95 k0_t38) a + S1x16.size a ≤ S256x128.size a := fun i k0_t2 v92 v95 k0_hw18 k0_t38 k0_h19 k0_h21 => k0_hw18.2.2.2.2.2.2.2.2.2.2.2.2.2.1 k0_t38 k0_h19 k0_h21
theorem k0_off297_inb : ∀ (i : grid0.Coords) (k0_t2 : Fin k0_t2_loop.trips) (v92 : BitVec 32) (v95 : BitVec 32) (k0_hw18 : k0_chk18 i k0_t2 v92 v95) (k0_t38 : Fin (k0_t38_loop i k0_t2 v92 v95).trips), ∀ (k0_h19 : k0_cond19 k0_t2 = 1#1), ∀ (k0_h21 : k0_cond21 i k0_t2 v92 v95 = 1#1), ∀ a, (k0_off297 i k0_t2 v92 v95 k0_t38) a + S1x16.size a ≤ S256x128.size a := fun i k0_t2 v92 v95 k0_hw18 k0_t38 k0_h19 k0_h21 => k0_hw18.2.2.2.2.2.2.2.2.2.2.2.2.2.2.1 k0_t38 k0_h19 k0_h21
theorem k0_off298_inb : ∀ (i : grid0.Coords) (k0_t2 : Fin k0_t2_loop.trips) (v92 : BitVec 32) (v95 : BitVec 32) (k0_hw18 : k0_chk18 i k0_t2 v92 v95) (k0_t38 : Fin (k0_t38_loop i k0_t2 v92 v95).trips), ∀ (k0_h19 : k0_cond19 k0_t2 = 1#1), ∀ (k0_h21 : k0_cond21 i k0_t2 v92 v95 = 1#1), ∀ a, (k0_off298 i k0_t2 v92 v95 k0_t38) a + S1x16.size a ≤ S256x128.size a := fun i k0_t2 v92 v95 k0_hw18 k0_t38 k0_h19 k0_h21 => k0_hw18.2.2.2.2.2.2.2.2.2.2.2.2.2.2.2.1 k0_t38 k0_h19 k0_h21
theorem k0_off299_inb : ∀ (i : grid0.Coords) (k0_t2 : Fin k0_t2_loop.trips) (v92 : BitVec 32) (v95 : BitVec 32) (k0_hw18 : k0_chk18 i k0_t2 v92 v95) (k0_t38 : Fin (k0_t38_loop i k0_t2 v92 v95).trips), ∀ (k0_h19 : k0_cond19 k0_t2 = 1#1), ∀ (k0_h21 : k0_cond21 i k0_t2 v92 v95 = 1#1), ∀ a, (k0_off299 i k0_t2 v92 v95 k0_t38) a + S1x16.size a ≤ S256x128.size a := fun i k0_t2 v92 v95 k0_hw18 k0_t38 k0_h19 k0_h21 => k0_hw18.2.2.2.2.2.2.2.2.2.2.2.2.2.2.2.2.1 k0_t38 k0_h19 k0_h21
theorem k0_off300_inb : ∀ (i : grid0.Coords) (k0_t2 : Fin k0_t2_loop.trips) (v92 : BitVec 32) (v95 : BitVec 32) (k0_hw18 : k0_chk18 i k0_t2 v92 v95) (k0_t38 : Fin (k0_t38_loop i k0_t2 v92 v95).trips), ∀ (k0_h19 : k0_cond19 k0_t2 = 1#1), ∀ (k0_h21 : k0_cond21 i k0_t2 v92 v95 = 1#1), ∀ a, (k0_off300 i k0_t2 v92 v95 k0_t38) a + S1x16.size a ≤ S256x128.size a := fun i k0_t2 v92 v95 k0_hw18 k0_t38 k0_h19 k0_h21 => k0_hw18.2.2.2.2.2.2.2.2.2.2.2.2.2.2.2.2.2 k0_t38 k0_h19 k0_h21

@[reducible] def k0_t39_loop (i : grid0.Coords) (k0_t2 : Fin k0_t2_loop.trips) (v101 : BitVec 32) (v104 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v102 : BitVec 32 := Scalar.maxsi v101 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_85 : BitVec 32 := 1#32
  ⟨v102, v234, c1_i32_85⟩
def k0_cond22 (i : grid0.Coords) (k0_t2 : Fin k0_t2_loop.trips) (v101 : BitVec 32) (v104 : BitVec 32) : BitVec 1 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v105 : BitVec 32 := Scalar.minsi v104 v77
  let v102 : BitVec 32 := Scalar.maxsi v101 v75
  let v106 : BitVec 1 := Scalar.cmpi .sgt v105 v102
  let v107 : BitVec 32 := Scalar.extui v106
  let c0_i32_67 : BitVec 32 := 0#32
  let v108 : BitVec 1 := Scalar.cmpi .ne v107 c0_i32_67
  v108

def k0_off301 (i : grid0.Coords) (k0_t2 : Fin k0_t2_loop.trips) (v101 : BitVec 32) (v104 : BitVec 32) (k0_t39 : Fin (k0_t39_loop i k0_t2 v101 v104).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v102 : BitVec 32 := Scalar.maxsi v101 v75
  let c1_i32_85 : BitVec 32 := 1#32
  let arg19 : BitVec 32 := Scf.iv v102 c1_i32_85 k0_t39
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_113 : Index := 0#32
  ![v302.toNat, 0]
def k0_off302 (i : grid0.Coords) (k0_t2 : Fin k0_t2_loop.trips) (v101 : BitVec 32) (v104 : BitVec 32) (k0_t39 : Fin (k0_t39_loop i k0_t2 v101 v104).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v102 : BitVec 32 := Scalar.maxsi v101 v75
  let c1_i32_85 : BitVec 32 := 1#32
  let arg19 : BitVec 32 := Scf.iv v102 c1_i32_85 k0_t39
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_114 : Index := 16#32
  ![v306.toNat, 16]
def k0_off303 (i : grid0.Coords) (k0_t2 : Fin k0_t2_loop.trips) (v101 : BitVec 32) (v104 : BitVec 32) (k0_t39 : Fin (k0_t39_loop i k0_t2 v101 v104).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v102 : BitVec 32 := Scalar.maxsi v101 v75
  let c1_i32_85 : BitVec 32 := 1#32
  let arg19 : BitVec 32 := Scf.iv v102 c1_i32_85 k0_t39
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_115 : Index := 32#32
  ![v310.toNat, 32]
def k0_off304 (i : grid0.Coords) (k0_t2 : Fin k0_t2_loop.trips) (v101 : BitVec 32) (v104 : BitVec 32) (k0_t39 : Fin (k0_t39_loop i k0_t2 v101 v104).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v102 : BitVec 32 := Scalar.maxsi v101 v75
  let c1_i32_85 : BitVec 32 := 1#32
  let arg19 : BitVec 32 := Scf.iv v102 c1_i32_85 k0_t39
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_116 : Index := 48#32
  ![v314.toNat, 48]
def k0_off305 (i : grid0.Coords) (k0_t2 : Fin k0_t2_loop.trips) (v101 : BitVec 32) (v104 : BitVec 32) (k0_t39 : Fin (k0_t39_loop i k0_t2 v101 v104).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v102 : BitVec 32 := Scalar.maxsi v101 v75
  let c1_i32_85 : BitVec 32 := 1#32
  let arg19 : BitVec 32 := Scf.iv v102 c1_i32_85 k0_t39
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_117 : Index := 64#32
  ![v318.toNat, 64]
def k0_off306 (i : grid0.Coords) (k0_t2 : Fin k0_t2_loop.trips) (v101 : BitVec 32) (v104 : BitVec 32) (k0_t39 : Fin (k0_t39_loop i k0_t2 v101 v104).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v102 : BitVec 32 := Scalar.maxsi v101 v75
  let c1_i32_85 : BitVec 32 := 1#32
  let arg19 : BitVec 32 := Scf.iv v102 c1_i32_85 k0_t39
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_118 : Index := 80#32
  ![v322.toNat, 80]
def k0_off307 (i : grid0.Coords) (k0_t2 : Fin k0_t2_loop.trips) (v101 : BitVec 32) (v104 : BitVec 32) (k0_t39 : Fin (k0_t39_loop i k0_t2 v101 v104).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v102 : BitVec 32 := Scalar.maxsi v101 v75
  let c1_i32_85 : BitVec 32 := 1#32
  let arg19 : BitVec 32 := Scf.iv v102 c1_i32_85 k0_t39
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_119 : Index := 96#32
  ![v326.toNat, 96]
def k0_off308 (i : grid0.Coords) (k0_t2 : Fin k0_t2_loop.trips) (v101 : BitVec 32) (v104 : BitVec 32) (k0_t39 : Fin (k0_t39_loop i k0_t2 v101 v104).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v102 : BitVec 32 := Scalar.maxsi v101 v75
  let c1_i32_85 : BitVec 32 := 1#32
  let arg19 : BitVec 32 := Scf.iv v102 c1_i32_85 k0_t39
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_120 : Index := 112#32
  ![v330.toNat, 112]
@[reducible] def k0_t40_loop (i : grid0.Coords) (k0_t2 : Fin k0_t2_loop.trips) (v101 : BitVec 32) (v104 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v102 : BitVec 32 := Scalar.maxsi v101 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let v231 : BitVec 32 := Scalar.addi v102 v230
  let c1_i32_86 : BitVec 32 := 1#32
  ⟨v234, v231, c1_i32_86⟩
def k0_off309 (i : grid0.Coords) (k0_t2 : Fin k0_t2_loop.trips) (v101 : BitVec 32) (v104 : BitVec 32) (k0_t40 : Fin (k0_t40_loop i k0_t2 v101 v104).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v102 : BitVec 32 := Scalar.maxsi v101 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_86 : BitVec 32 := 1#32
  let arg19 : BitVec 32 := Scf.iv v234 c1_i32_86 k0_t40
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_113 : Index := 0#32
  ![v302.toNat, 0]
def k0_off310 (i : grid0.Coords) (k0_t2 : Fin k0_t2_loop.trips) (v101 : BitVec 32) (v104 : BitVec 32) (k0_t40 : Fin (k0_t40_loop i k0_t2 v101 v104).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v102 : BitVec 32 := Scalar.maxsi v101 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_86 : BitVec 32 := 1#32
  let arg19 : BitVec 32 := Scf.iv v234 c1_i32_86 k0_t40
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_114 : Index := 16#32
  ![v306.toNat, 16]
def k0_off311 (i : grid0.Coords) (k0_t2 : Fin k0_t2_loop.trips) (v101 : BitVec 32) (v104 : BitVec 32) (k0_t40 : Fin (k0_t40_loop i k0_t2 v101 v104).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v102 : BitVec 32 := Scalar.maxsi v101 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_86 : BitVec 32 := 1#32
  let arg19 : BitVec 32 := Scf.iv v234 c1_i32_86 k0_t40
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_115 : Index := 32#32
  ![v310.toNat, 32]
def k0_off312 (i : grid0.Coords) (k0_t2 : Fin k0_t2_loop.trips) (v101 : BitVec 32) (v104 : BitVec 32) (k0_t40 : Fin (k0_t40_loop i k0_t2 v101 v104).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v102 : BitVec 32 := Scalar.maxsi v101 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_86 : BitVec 32 := 1#32
  let arg19 : BitVec 32 := Scf.iv v234 c1_i32_86 k0_t40
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_116 : Index := 48#32
  ![v314.toNat, 48]
def k0_off313 (i : grid0.Coords) (k0_t2 : Fin k0_t2_loop.trips) (v101 : BitVec 32) (v104 : BitVec 32) (k0_t40 : Fin (k0_t40_loop i k0_t2 v101 v104).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v102 : BitVec 32 := Scalar.maxsi v101 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_86 : BitVec 32 := 1#32
  let arg19 : BitVec 32 := Scf.iv v234 c1_i32_86 k0_t40
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_117 : Index := 64#32
  ![v318.toNat, 64]
def k0_off314 (i : grid0.Coords) (k0_t2 : Fin k0_t2_loop.trips) (v101 : BitVec 32) (v104 : BitVec 32) (k0_t40 : Fin (k0_t40_loop i k0_t2 v101 v104).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v102 : BitVec 32 := Scalar.maxsi v101 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_86 : BitVec 32 := 1#32
  let arg19 : BitVec 32 := Scf.iv v234 c1_i32_86 k0_t40
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_118 : Index := 80#32
  ![v322.toNat, 80]
def k0_off315 (i : grid0.Coords) (k0_t2 : Fin k0_t2_loop.trips) (v101 : BitVec 32) (v104 : BitVec 32) (k0_t40 : Fin (k0_t40_loop i k0_t2 v101 v104).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v102 : BitVec 32 := Scalar.maxsi v101 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_86 : BitVec 32 := 1#32
  let arg19 : BitVec 32 := Scf.iv v234 c1_i32_86 k0_t40
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_119 : Index := 96#32
  ![v326.toNat, 96]
def k0_off316 (i : grid0.Coords) (k0_t2 : Fin k0_t2_loop.trips) (v101 : BitVec 32) (v104 : BitVec 32) (k0_t40 : Fin (k0_t40_loop i k0_t2 v101 v104).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v102 : BitVec 32 := Scalar.maxsi v101 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_86 : BitVec 32 := 1#32
  let arg19 : BitVec 32 := Scf.iv v234 c1_i32_86 k0_t40
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_120 : Index := 112#32
  ![v330.toNat, 112]

def k0_chk19 (i : grid0.Coords) (k0_t2 : Fin k0_t2_loop.trips) (v101 : BitVec 32) (v104 : BitVec 32) : Prop :=
  (∀ (k0_h19 : k0_cond19 k0_t2 = 1#1), ∀ (k0_h22 : k0_cond22 i k0_t2 v101 v104 = 1#1), (k0_t39_loop i k0_t2 v101 v104).OK) ∧
  (∀ k0_t39 : Fin (k0_t39_loop i k0_t2 v101 v104).trips, ∀ (k0_h19 : k0_cond19 k0_t2 = 1#1), ∀ (k0_h22 : k0_cond22 i k0_t2 v101 v104 = 1#1), ∀ a, (k0_off301 i k0_t2 v101 v104 k0_t39) a + S1x16.size a ≤ S256x128.size a) ∧
  (∀ k0_t39 : Fin (k0_t39_loop i k0_t2 v101 v104).trips, ∀ (k0_h19 : k0_cond19 k0_t2 = 1#1), ∀ (k0_h22 : k0_cond22 i k0_t2 v101 v104 = 1#1), ∀ a, (k0_off302 i k0_t2 v101 v104 k0_t39) a + S1x16.size a ≤ S256x128.size a) ∧
  (∀ k0_t39 : Fin (k0_t39_loop i k0_t2 v101 v104).trips, ∀ (k0_h19 : k0_cond19 k0_t2 = 1#1), ∀ (k0_h22 : k0_cond22 i k0_t2 v101 v104 = 1#1), ∀ a, (k0_off303 i k0_t2 v101 v104 k0_t39) a + S1x16.size a ≤ S256x128.size a) ∧
  (∀ k0_t39 : Fin (k0_t39_loop i k0_t2 v101 v104).trips, ∀ (k0_h19 : k0_cond19 k0_t2 = 1#1), ∀ (k0_h22 : k0_cond22 i k0_t2 v101 v104 = 1#1), ∀ a, (k0_off304 i k0_t2 v101 v104 k0_t39) a + S1x16.size a ≤ S256x128.size a) ∧
  (∀ k0_t39 : Fin (k0_t39_loop i k0_t2 v101 v104).trips, ∀ (k0_h19 : k0_cond19 k0_t2 = 1#1), ∀ (k0_h22 : k0_cond22 i k0_t2 v101 v104 = 1#1), ∀ a, (k0_off305 i k0_t2 v101 v104 k0_t39) a + S1x16.size a ≤ S256x128.size a) ∧
  (∀ k0_t39 : Fin (k0_t39_loop i k0_t2 v101 v104).trips, ∀ (k0_h19 : k0_cond19 k0_t2 = 1#1), ∀ (k0_h22 : k0_cond22 i k0_t2 v101 v104 = 1#1), ∀ a, (k0_off306 i k0_t2 v101 v104 k0_t39) a + S1x16.size a ≤ S256x128.size a) ∧
  (∀ k0_t39 : Fin (k0_t39_loop i k0_t2 v101 v104).trips, ∀ (k0_h19 : k0_cond19 k0_t2 = 1#1), ∀ (k0_h22 : k0_cond22 i k0_t2 v101 v104 = 1#1), ∀ a, (k0_off307 i k0_t2 v101 v104 k0_t39) a + S1x16.size a ≤ S256x128.size a) ∧
  (∀ k0_t39 : Fin (k0_t39_loop i k0_t2 v101 v104).trips, ∀ (k0_h19 : k0_cond19 k0_t2 = 1#1), ∀ (k0_h22 : k0_cond22 i k0_t2 v101 v104 = 1#1), ∀ a, (k0_off308 i k0_t2 v101 v104 k0_t39) a + S1x16.size a ≤ S256x128.size a) ∧
  (∀ (k0_h19 : k0_cond19 k0_t2 = 1#1), ∀ (k0_h22 : k0_cond22 i k0_t2 v101 v104 = 1#1), (k0_t40_loop i k0_t2 v101 v104).OK) ∧
  (∀ k0_t40 : Fin (k0_t40_loop i k0_t2 v101 v104).trips, ∀ (k0_h19 : k0_cond19 k0_t2 = 1#1), ∀ (k0_h22 : k0_cond22 i k0_t2 v101 v104 = 1#1), ∀ a, (k0_off309 i k0_t2 v101 v104 k0_t40) a + S1x16.size a ≤ S256x128.size a) ∧
  (∀ k0_t40 : Fin (k0_t40_loop i k0_t2 v101 v104).trips, ∀ (k0_h19 : k0_cond19 k0_t2 = 1#1), ∀ (k0_h22 : k0_cond22 i k0_t2 v101 v104 = 1#1), ∀ a, (k0_off310 i k0_t2 v101 v104 k0_t40) a + S1x16.size a ≤ S256x128.size a) ∧
  (∀ k0_t40 : Fin (k0_t40_loop i k0_t2 v101 v104).trips, ∀ (k0_h19 : k0_cond19 k0_t2 = 1#1), ∀ (k0_h22 : k0_cond22 i k0_t2 v101 v104 = 1#1), ∀ a, (k0_off311 i k0_t2 v101 v104 k0_t40) a + S1x16.size a ≤ S256x128.size a) ∧
  (∀ k0_t40 : Fin (k0_t40_loop i k0_t2 v101 v104).trips, ∀ (k0_h19 : k0_cond19 k0_t2 = 1#1), ∀ (k0_h22 : k0_cond22 i k0_t2 v101 v104 = 1#1), ∀ a, (k0_off312 i k0_t2 v101 v104 k0_t40) a + S1x16.size a ≤ S256x128.size a) ∧
  (∀ k0_t40 : Fin (k0_t40_loop i k0_t2 v101 v104).trips, ∀ (k0_h19 : k0_cond19 k0_t2 = 1#1), ∀ (k0_h22 : k0_cond22 i k0_t2 v101 v104 = 1#1), ∀ a, (k0_off313 i k0_t2 v101 v104 k0_t40) a + S1x16.size a ≤ S256x128.size a) ∧
  (∀ k0_t40 : Fin (k0_t40_loop i k0_t2 v101 v104).trips, ∀ (k0_h19 : k0_cond19 k0_t2 = 1#1), ∀ (k0_h22 : k0_cond22 i k0_t2 v101 v104 = 1#1), ∀ a, (k0_off314 i k0_t2 v101 v104 k0_t40) a + S1x16.size a ≤ S256x128.size a) ∧
  (∀ k0_t40 : Fin (k0_t40_loop i k0_t2 v101 v104).trips, ∀ (k0_h19 : k0_cond19 k0_t2 = 1#1), ∀ (k0_h22 : k0_cond22 i k0_t2 v101 v104 = 1#1), ∀ a, (k0_off315 i k0_t2 v101 v104 k0_t40) a + S1x16.size a ≤ S256x128.size a) ∧
  (∀ k0_t40 : Fin (k0_t40_loop i k0_t2 v101 v104).trips, ∀ (k0_h19 : k0_cond19 k0_t2 = 1#1), ∀ (k0_h22 : k0_cond22 i k0_t2 v101 v104 = 1#1), ∀ a, (k0_off316 i k0_t2 v101 v104 k0_t40) a + S1x16.size a ≤ S256x128.size a)
theorem k0_t39_ok : ∀ (i : grid0.Coords) (k0_t2 : Fin k0_t2_loop.trips) (v101 : BitVec 32) (v104 : BitVec 32) (k0_hw19 : k0_chk19 i k0_t2 v101 v104), ∀ (k0_h19 : k0_cond19 k0_t2 = 1#1), ∀ (k0_h22 : k0_cond22 i k0_t2 v101 v104 = 1#1), (k0_t39_loop i k0_t2 v101 v104).OK := fun i k0_t2 v101 v104 k0_hw19 k0_h19 k0_h22 => k0_hw19.1 k0_h19 k0_h22
theorem k0_off301_inb : ∀ (i : grid0.Coords) (k0_t2 : Fin k0_t2_loop.trips) (v101 : BitVec 32) (v104 : BitVec 32) (k0_hw19 : k0_chk19 i k0_t2 v101 v104) (k0_t39 : Fin (k0_t39_loop i k0_t2 v101 v104).trips), ∀ (k0_h19 : k0_cond19 k0_t2 = 1#1), ∀ (k0_h22 : k0_cond22 i k0_t2 v101 v104 = 1#1), ∀ a, (k0_off301 i k0_t2 v101 v104 k0_t39) a + S1x16.size a ≤ S256x128.size a := fun i k0_t2 v101 v104 k0_hw19 k0_t39 k0_h19 k0_h22 => k0_hw19.2.1 k0_t39 k0_h19 k0_h22
theorem k0_off302_inb : ∀ (i : grid0.Coords) (k0_t2 : Fin k0_t2_loop.trips) (v101 : BitVec 32) (v104 : BitVec 32) (k0_hw19 : k0_chk19 i k0_t2 v101 v104) (k0_t39 : Fin (k0_t39_loop i k0_t2 v101 v104).trips), ∀ (k0_h19 : k0_cond19 k0_t2 = 1#1), ∀ (k0_h22 : k0_cond22 i k0_t2 v101 v104 = 1#1), ∀ a, (k0_off302 i k0_t2 v101 v104 k0_t39) a + S1x16.size a ≤ S256x128.size a := fun i k0_t2 v101 v104 k0_hw19 k0_t39 k0_h19 k0_h22 => k0_hw19.2.2.1 k0_t39 k0_h19 k0_h22
theorem k0_off303_inb : ∀ (i : grid0.Coords) (k0_t2 : Fin k0_t2_loop.trips) (v101 : BitVec 32) (v104 : BitVec 32) (k0_hw19 : k0_chk19 i k0_t2 v101 v104) (k0_t39 : Fin (k0_t39_loop i k0_t2 v101 v104).trips), ∀ (k0_h19 : k0_cond19 k0_t2 = 1#1), ∀ (k0_h22 : k0_cond22 i k0_t2 v101 v104 = 1#1), ∀ a, (k0_off303 i k0_t2 v101 v104 k0_t39) a + S1x16.size a ≤ S256x128.size a := fun i k0_t2 v101 v104 k0_hw19 k0_t39 k0_h19 k0_h22 => k0_hw19.2.2.2.1 k0_t39 k0_h19 k0_h22
theorem k0_off304_inb : ∀ (i : grid0.Coords) (k0_t2 : Fin k0_t2_loop.trips) (v101 : BitVec 32) (v104 : BitVec 32) (k0_hw19 : k0_chk19 i k0_t2 v101 v104) (k0_t39 : Fin (k0_t39_loop i k0_t2 v101 v104).trips), ∀ (k0_h19 : k0_cond19 k0_t2 = 1#1), ∀ (k0_h22 : k0_cond22 i k0_t2 v101 v104 = 1#1), ∀ a, (k0_off304 i k0_t2 v101 v104 k0_t39) a + S1x16.size a ≤ S256x128.size a := fun i k0_t2 v101 v104 k0_hw19 k0_t39 k0_h19 k0_h22 => k0_hw19.2.2.2.2.1 k0_t39 k0_h19 k0_h22
theorem k0_off305_inb : ∀ (i : grid0.Coords) (k0_t2 : Fin k0_t2_loop.trips) (v101 : BitVec 32) (v104 : BitVec 32) (k0_hw19 : k0_chk19 i k0_t2 v101 v104) (k0_t39 : Fin (k0_t39_loop i k0_t2 v101 v104).trips), ∀ (k0_h19 : k0_cond19 k0_t2 = 1#1), ∀ (k0_h22 : k0_cond22 i k0_t2 v101 v104 = 1#1), ∀ a, (k0_off305 i k0_t2 v101 v104 k0_t39) a + S1x16.size a ≤ S256x128.size a := fun i k0_t2 v101 v104 k0_hw19 k0_t39 k0_h19 k0_h22 => k0_hw19.2.2.2.2.2.1 k0_t39 k0_h19 k0_h22
theorem k0_off306_inb : ∀ (i : grid0.Coords) (k0_t2 : Fin k0_t2_loop.trips) (v101 : BitVec 32) (v104 : BitVec 32) (k0_hw19 : k0_chk19 i k0_t2 v101 v104) (k0_t39 : Fin (k0_t39_loop i k0_t2 v101 v104).trips), ∀ (k0_h19 : k0_cond19 k0_t2 = 1#1), ∀ (k0_h22 : k0_cond22 i k0_t2 v101 v104 = 1#1), ∀ a, (k0_off306 i k0_t2 v101 v104 k0_t39) a + S1x16.size a ≤ S256x128.size a := fun i k0_t2 v101 v104 k0_hw19 k0_t39 k0_h19 k0_h22 => k0_hw19.2.2.2.2.2.2.1 k0_t39 k0_h19 k0_h22
theorem k0_off307_inb : ∀ (i : grid0.Coords) (k0_t2 : Fin k0_t2_loop.trips) (v101 : BitVec 32) (v104 : BitVec 32) (k0_hw19 : k0_chk19 i k0_t2 v101 v104) (k0_t39 : Fin (k0_t39_loop i k0_t2 v101 v104).trips), ∀ (k0_h19 : k0_cond19 k0_t2 = 1#1), ∀ (k0_h22 : k0_cond22 i k0_t2 v101 v104 = 1#1), ∀ a, (k0_off307 i k0_t2 v101 v104 k0_t39) a + S1x16.size a ≤ S256x128.size a := fun i k0_t2 v101 v104 k0_hw19 k0_t39 k0_h19 k0_h22 => k0_hw19.2.2.2.2.2.2.2.1 k0_t39 k0_h19 k0_h22
theorem k0_off308_inb : ∀ (i : grid0.Coords) (k0_t2 : Fin k0_t2_loop.trips) (v101 : BitVec 32) (v104 : BitVec 32) (k0_hw19 : k0_chk19 i k0_t2 v101 v104) (k0_t39 : Fin (k0_t39_loop i k0_t2 v101 v104).trips), ∀ (k0_h19 : k0_cond19 k0_t2 = 1#1), ∀ (k0_h22 : k0_cond22 i k0_t2 v101 v104 = 1#1), ∀ a, (k0_off308 i k0_t2 v101 v104 k0_t39) a + S1x16.size a ≤ S256x128.size a := fun i k0_t2 v101 v104 k0_hw19 k0_t39 k0_h19 k0_h22 => k0_hw19.2.2.2.2.2.2.2.2.1 k0_t39 k0_h19 k0_h22
theorem k0_t40_ok : ∀ (i : grid0.Coords) (k0_t2 : Fin k0_t2_loop.trips) (v101 : BitVec 32) (v104 : BitVec 32) (k0_hw19 : k0_chk19 i k0_t2 v101 v104), ∀ (k0_h19 : k0_cond19 k0_t2 = 1#1), ∀ (k0_h22 : k0_cond22 i k0_t2 v101 v104 = 1#1), (k0_t40_loop i k0_t2 v101 v104).OK := fun i k0_t2 v101 v104 k0_hw19 k0_h19 k0_h22 => k0_hw19.2.2.2.2.2.2.2.2.2.1 k0_h19 k0_h22
theorem k0_off309_inb : ∀ (i : grid0.Coords) (k0_t2 : Fin k0_t2_loop.trips) (v101 : BitVec 32) (v104 : BitVec 32) (k0_hw19 : k0_chk19 i k0_t2 v101 v104) (k0_t40 : Fin (k0_t40_loop i k0_t2 v101 v104).trips), ∀ (k0_h19 : k0_cond19 k0_t2 = 1#1), ∀ (k0_h22 : k0_cond22 i k0_t2 v101 v104 = 1#1), ∀ a, (k0_off309 i k0_t2 v101 v104 k0_t40) a + S1x16.size a ≤ S256x128.size a := fun i k0_t2 v101 v104 k0_hw19 k0_t40 k0_h19 k0_h22 => k0_hw19.2.2.2.2.2.2.2.2.2.2.1 k0_t40 k0_h19 k0_h22
theorem k0_off310_inb : ∀ (i : grid0.Coords) (k0_t2 : Fin k0_t2_loop.trips) (v101 : BitVec 32) (v104 : BitVec 32) (k0_hw19 : k0_chk19 i k0_t2 v101 v104) (k0_t40 : Fin (k0_t40_loop i k0_t2 v101 v104).trips), ∀ (k0_h19 : k0_cond19 k0_t2 = 1#1), ∀ (k0_h22 : k0_cond22 i k0_t2 v101 v104 = 1#1), ∀ a, (k0_off310 i k0_t2 v101 v104 k0_t40) a + S1x16.size a ≤ S256x128.size a := fun i k0_t2 v101 v104 k0_hw19 k0_t40 k0_h19 k0_h22 => k0_hw19.2.2.2.2.2.2.2.2.2.2.2.1 k0_t40 k0_h19 k0_h22
theorem k0_off311_inb : ∀ (i : grid0.Coords) (k0_t2 : Fin k0_t2_loop.trips) (v101 : BitVec 32) (v104 : BitVec 32) (k0_hw19 : k0_chk19 i k0_t2 v101 v104) (k0_t40 : Fin (k0_t40_loop i k0_t2 v101 v104).trips), ∀ (k0_h19 : k0_cond19 k0_t2 = 1#1), ∀ (k0_h22 : k0_cond22 i k0_t2 v101 v104 = 1#1), ∀ a, (k0_off311 i k0_t2 v101 v104 k0_t40) a + S1x16.size a ≤ S256x128.size a := fun i k0_t2 v101 v104 k0_hw19 k0_t40 k0_h19 k0_h22 => k0_hw19.2.2.2.2.2.2.2.2.2.2.2.2.1 k0_t40 k0_h19 k0_h22
theorem k0_off312_inb : ∀ (i : grid0.Coords) (k0_t2 : Fin k0_t2_loop.trips) (v101 : BitVec 32) (v104 : BitVec 32) (k0_hw19 : k0_chk19 i k0_t2 v101 v104) (k0_t40 : Fin (k0_t40_loop i k0_t2 v101 v104).trips), ∀ (k0_h19 : k0_cond19 k0_t2 = 1#1), ∀ (k0_h22 : k0_cond22 i k0_t2 v101 v104 = 1#1), ∀ a, (k0_off312 i k0_t2 v101 v104 k0_t40) a + S1x16.size a ≤ S256x128.size a := fun i k0_t2 v101 v104 k0_hw19 k0_t40 k0_h19 k0_h22 => k0_hw19.2.2.2.2.2.2.2.2.2.2.2.2.2.1 k0_t40 k0_h19 k0_h22
theorem k0_off313_inb : ∀ (i : grid0.Coords) (k0_t2 : Fin k0_t2_loop.trips) (v101 : BitVec 32) (v104 : BitVec 32) (k0_hw19 : k0_chk19 i k0_t2 v101 v104) (k0_t40 : Fin (k0_t40_loop i k0_t2 v101 v104).trips), ∀ (k0_h19 : k0_cond19 k0_t2 = 1#1), ∀ (k0_h22 : k0_cond22 i k0_t2 v101 v104 = 1#1), ∀ a, (k0_off313 i k0_t2 v101 v104 k0_t40) a + S1x16.size a ≤ S256x128.size a := fun i k0_t2 v101 v104 k0_hw19 k0_t40 k0_h19 k0_h22 => k0_hw19.2.2.2.2.2.2.2.2.2.2.2.2.2.2.1 k0_t40 k0_h19 k0_h22
theorem k0_off314_inb : ∀ (i : grid0.Coords) (k0_t2 : Fin k0_t2_loop.trips) (v101 : BitVec 32) (v104 : BitVec 32) (k0_hw19 : k0_chk19 i k0_t2 v101 v104) (k0_t40 : Fin (k0_t40_loop i k0_t2 v101 v104).trips), ∀ (k0_h19 : k0_cond19 k0_t2 = 1#1), ∀ (k0_h22 : k0_cond22 i k0_t2 v101 v104 = 1#1), ∀ a, (k0_off314 i k0_t2 v101 v104 k0_t40) a + S1x16.size a ≤ S256x128.size a := fun i k0_t2 v101 v104 k0_hw19 k0_t40 k0_h19 k0_h22 => k0_hw19.2.2.2.2.2.2.2.2.2.2.2.2.2.2.2.1 k0_t40 k0_h19 k0_h22
theorem k0_off315_inb : ∀ (i : grid0.Coords) (k0_t2 : Fin k0_t2_loop.trips) (v101 : BitVec 32) (v104 : BitVec 32) (k0_hw19 : k0_chk19 i k0_t2 v101 v104) (k0_t40 : Fin (k0_t40_loop i k0_t2 v101 v104).trips), ∀ (k0_h19 : k0_cond19 k0_t2 = 1#1), ∀ (k0_h22 : k0_cond22 i k0_t2 v101 v104 = 1#1), ∀ a, (k0_off315 i k0_t2 v101 v104 k0_t40) a + S1x16.size a ≤ S256x128.size a := fun i k0_t2 v101 v104 k0_hw19 k0_t40 k0_h19 k0_h22 => k0_hw19.2.2.2.2.2.2.2.2.2.2.2.2.2.2.2.2.1 k0_t40 k0_h19 k0_h22
theorem k0_off316_inb : ∀ (i : grid0.Coords) (k0_t2 : Fin k0_t2_loop.trips) (v101 : BitVec 32) (v104 : BitVec 32) (k0_hw19 : k0_chk19 i k0_t2 v101 v104) (k0_t40 : Fin (k0_t40_loop i k0_t2 v101 v104).trips), ∀ (k0_h19 : k0_cond19 k0_t2 = 1#1), ∀ (k0_h22 : k0_cond22 i k0_t2 v101 v104 = 1#1), ∀ a, (k0_off316 i k0_t2 v101 v104 k0_t40) a + S1x16.size a ≤ S256x128.size a := fun i k0_t2 v101 v104 k0_hw19 k0_t40 k0_h19 k0_h22 => k0_hw19.2.2.2.2.2.2.2.2.2.2.2.2.2.2.2.2.2 k0_t40 k0_h19 k0_h22

@[reducible] def k0_t41_loop (i : grid0.Coords) (k0_t2 : Fin k0_t2_loop.trips) (v110 : BitVec 32) (v113 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v111 : BitVec 32 := Scalar.maxsi v110 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_85 : BitVec 32 := 1#32
  ⟨v111, v234, c1_i32_85⟩
def k0_cond23 (i : grid0.Coords) (k0_t2 : Fin k0_t2_loop.trips) (v110 : BitVec 32) (v113 : BitVec 32) : BitVec 1 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v114 : BitVec 32 := Scalar.minsi v113 v77
  let v111 : BitVec 32 := Scalar.maxsi v110 v75
  let v115 : BitVec 1 := Scalar.cmpi .sgt v114 v111
  let v116 : BitVec 32 := Scalar.extui v115
  let c0_i32_68 : BitVec 32 := 0#32
  let v117 : BitVec 1 := Scalar.cmpi .ne v116 c0_i32_68
  v117

def k0_off317 (i : grid0.Coords) (k0_t2 : Fin k0_t2_loop.trips) (v110 : BitVec 32) (v113 : BitVec 32) (k0_t41 : Fin (k0_t41_loop i k0_t2 v110 v113).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v111 : BitVec 32 := Scalar.maxsi v110 v75
  let c1_i32_85 : BitVec 32 := 1#32
  let arg19 : BitVec 32 := Scf.iv v111 c1_i32_85 k0_t41
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off318 (i : grid0.Coords) (k0_t2 : Fin k0_t2_loop.trips) (v110 : BitVec 32) (v113 : BitVec 32) (k0_t41 : Fin (k0_t41_loop i k0_t2 v110 v113).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v111 : BitVec 32 := Scalar.maxsi v110 v75
  let c1_i32_85 : BitVec 32 := 1#32
  let arg19 : BitVec 32 := Scf.iv v111 c1_i32_85 k0_t41
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off319 (i : grid0.Coords) (k0_t2 : Fin k0_t2_loop.trips) (v110 : BitVec 32) (v113 : BitVec 32) (k0_t41 : Fin (k0_t41_loop i k0_t2 v110 v113).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v111 : BitVec 32 := Scalar.maxsi v110 v75
  let c1_i32_85 : BitVec 32 := 1#32
  let arg19 : BitVec 32 := Scf.iv v111 c1_i32_85 k0_t41
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off320 (i : grid0.Coords) (k0_t2 : Fin k0_t2_loop.trips) (v110 : BitVec 32) (v113 : BitVec 32) (k0_t41 : Fin (k0_t41_loop i k0_t2 v110 v113).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v111 : BitVec 32 := Scalar.maxsi v110 v75
  let c1_i32_85 : BitVec 32 := 1#32
  let arg19 : BitVec 32 := Scf.iv v111 c1_i32_85 k0_t41
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off321 (i : grid0.Coords) (k0_t2 : Fin k0_t2_loop.trips) (v110 : BitVec 32) (v113 : BitVec 32) (k0_t41 : Fin (k0_t41_loop i k0_t2 v110 v113).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v111 : BitVec 32 := Scalar.maxsi v110 v75
  let c1_i32_85 : BitVec 32 := 1#32
  let arg19 : BitVec 32 := Scf.iv v111 c1_i32_85 k0_t41
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off322 (i : grid0.Coords) (k0_t2 : Fin k0_t2_loop.trips) (v110 : BitVec 32) (v113 : BitVec 32) (k0_t41 : Fin (k0_t41_loop i k0_t2 v110 v113).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v111 : BitVec 32 := Scalar.maxsi v110 v75
  let c1_i32_85 : BitVec 32 := 1#32
  let arg19 : BitVec 32 := Scf.iv v111 c1_i32_85 k0_t41
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off323 (i : grid0.Coords) (k0_t2 : Fin k0_t2_loop.trips) (v110 : BitVec 32) (v113 : BitVec 32) (k0_t41 : Fin (k0_t41_loop i k0_t2 v110 v113).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v111 : BitVec 32 := Scalar.maxsi v110 v75
  let c1_i32_85 : BitVec 32 := 1#32
  let arg19 : BitVec 32 := Scf.iv v111 c1_i32_85 k0_t41
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off324 (i : grid0.Coords) (k0_t2 : Fin k0_t2_loop.trips) (v110 : BitVec 32) (v113 : BitVec 32) (k0_t41 : Fin (k0_t41_loop i k0_t2 v110 v113).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v111 : BitVec 32 := Scalar.maxsi v110 v75
  let c1_i32_85 : BitVec 32 := 1#32
  let arg19 : BitVec 32 := Scf.iv v111 c1_i32_85 k0_t41
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]
@[reducible] def k0_t42_loop (i : grid0.Coords) (k0_t2 : Fin k0_t2_loop.trips) (v110 : BitVec 32) (v113 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v111 : BitVec 32 := Scalar.maxsi v110 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let v231 : BitVec 32 := Scalar.addi v111 v230
  let c1_i32_86 : BitVec 32 := 1#32
  ⟨v234, v231, c1_i32_86⟩
def k0_off325 (i : grid0.Coords) (k0_t2 : Fin k0_t2_loop.trips) (v110 : BitVec 32) (v113 : BitVec 32) (k0_t42 : Fin (k0_t42_loop i k0_t2 v110 v113).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v111 : BitVec 32 := Scalar.maxsi v110 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_86 : BitVec 32 := 1#32
  let arg19 : BitVec 32 := Scf.iv v234 c1_i32_86 k0_t42
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off326 (i : grid0.Coords) (k0_t2 : Fin k0_t2_loop.trips) (v110 : BitVec 32) (v113 : BitVec 32) (k0_t42 : Fin (k0_t42_loop i k0_t2 v110 v113).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v111 : BitVec 32 := Scalar.maxsi v110 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_86 : BitVec 32 := 1#32
  let arg19 : BitVec 32 := Scf.iv v234 c1_i32_86 k0_t42
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off327 (i : grid0.Coords) (k0_t2 : Fin k0_t2_loop.trips) (v110 : BitVec 32) (v113 : BitVec 32) (k0_t42 : Fin (k0_t42_loop i k0_t2 v110 v113).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v111 : BitVec 32 := Scalar.maxsi v110 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_86 : BitVec 32 := 1#32
  let arg19 : BitVec 32 := Scf.iv v234 c1_i32_86 k0_t42
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off328 (i : grid0.Coords) (k0_t2 : Fin k0_t2_loop.trips) (v110 : BitVec 32) (v113 : BitVec 32) (k0_t42 : Fin (k0_t42_loop i k0_t2 v110 v113).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v111 : BitVec 32 := Scalar.maxsi v110 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_86 : BitVec 32 := 1#32
  let arg19 : BitVec 32 := Scf.iv v234 c1_i32_86 k0_t42
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off329 (i : grid0.Coords) (k0_t2 : Fin k0_t2_loop.trips) (v110 : BitVec 32) (v113 : BitVec 32) (k0_t42 : Fin (k0_t42_loop i k0_t2 v110 v113).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v111 : BitVec 32 := Scalar.maxsi v110 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_86 : BitVec 32 := 1#32
  let arg19 : BitVec 32 := Scf.iv v234 c1_i32_86 k0_t42
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off330 (i : grid0.Coords) (k0_t2 : Fin k0_t2_loop.trips) (v110 : BitVec 32) (v113 : BitVec 32) (k0_t42 : Fin (k0_t42_loop i k0_t2 v110 v113).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v111 : BitVec 32 := Scalar.maxsi v110 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_86 : BitVec 32 := 1#32
  let arg19 : BitVec 32 := Scf.iv v234 c1_i32_86 k0_t42
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off331 (i : grid0.Coords) (k0_t2 : Fin k0_t2_loop.trips) (v110 : BitVec 32) (v113 : BitVec 32) (k0_t42 : Fin (k0_t42_loop i k0_t2 v110 v113).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v111 : BitVec 32 := Scalar.maxsi v110 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_86 : BitVec 32 := 1#32
  let arg19 : BitVec 32 := Scf.iv v234 c1_i32_86 k0_t42
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off332 (i : grid0.Coords) (k0_t2 : Fin k0_t2_loop.trips) (v110 : BitVec 32) (v113 : BitVec 32) (k0_t42 : Fin (k0_t42_loop i k0_t2 v110 v113).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v111 : BitVec 32 := Scalar.maxsi v110 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_86 : BitVec 32 := 1#32
  let arg19 : BitVec 32 := Scf.iv v234 c1_i32_86 k0_t42
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]

def k0_chk20 (i : grid0.Coords) (k0_t2 : Fin k0_t2_loop.trips) (v110 : BitVec 32) (v113 : BitVec 32) : Prop :=
  (∀ (k0_h19 : k0_cond19 k0_t2 = 1#1), ∀ (k0_h23 : k0_cond23 i k0_t2 v110 v113 = 1#1), (k0_t41_loop i k0_t2 v110 v113).OK) ∧
  (∀ k0_t41 : Fin (k0_t41_loop i k0_t2 v110 v113).trips, ∀ (k0_h19 : k0_cond19 k0_t2 = 1#1), ∀ (k0_h23 : k0_cond23 i k0_t2 v110 v113 = 1#1), ∀ a, (k0_off317 i k0_t2 v110 v113 k0_t41) a + S1x16.size a ≤ S256x128.size a) ∧
  (∀ k0_t41 : Fin (k0_t41_loop i k0_t2 v110 v113).trips, ∀ (k0_h19 : k0_cond19 k0_t2 = 1#1), ∀ (k0_h23 : k0_cond23 i k0_t2 v110 v113 = 1#1), ∀ a, (k0_off318 i k0_t2 v110 v113 k0_t41) a + S1x16.size a ≤ S256x128.size a) ∧
  (∀ k0_t41 : Fin (k0_t41_loop i k0_t2 v110 v113).trips, ∀ (k0_h19 : k0_cond19 k0_t2 = 1#1), ∀ (k0_h23 : k0_cond23 i k0_t2 v110 v113 = 1#1), ∀ a, (k0_off319 i k0_t2 v110 v113 k0_t41) a + S1x16.size a ≤ S256x128.size a) ∧
  (∀ k0_t41 : Fin (k0_t41_loop i k0_t2 v110 v113).trips, ∀ (k0_h19 : k0_cond19 k0_t2 = 1#1), ∀ (k0_h23 : k0_cond23 i k0_t2 v110 v113 = 1#1), ∀ a, (k0_off320 i k0_t2 v110 v113 k0_t41) a + S1x16.size a ≤ S256x128.size a) ∧
  (∀ k0_t41 : Fin (k0_t41_loop i k0_t2 v110 v113).trips, ∀ (k0_h19 : k0_cond19 k0_t2 = 1#1), ∀ (k0_h23 : k0_cond23 i k0_t2 v110 v113 = 1#1), ∀ a, (k0_off321 i k0_t2 v110 v113 k0_t41) a + S1x16.size a ≤ S256x128.size a) ∧
  (∀ k0_t41 : Fin (k0_t41_loop i k0_t2 v110 v113).trips, ∀ (k0_h19 : k0_cond19 k0_t2 = 1#1), ∀ (k0_h23 : k0_cond23 i k0_t2 v110 v113 = 1#1), ∀ a, (k0_off322 i k0_t2 v110 v113 k0_t41) a + S1x16.size a ≤ S256x128.size a) ∧
  (∀ k0_t41 : Fin (k0_t41_loop i k0_t2 v110 v113).trips, ∀ (k0_h19 : k0_cond19 k0_t2 = 1#1), ∀ (k0_h23 : k0_cond23 i k0_t2 v110 v113 = 1#1), ∀ a, (k0_off323 i k0_t2 v110 v113 k0_t41) a + S1x16.size a ≤ S256x128.size a) ∧
  (∀ k0_t41 : Fin (k0_t41_loop i k0_t2 v110 v113).trips, ∀ (k0_h19 : k0_cond19 k0_t2 = 1#1), ∀ (k0_h23 : k0_cond23 i k0_t2 v110 v113 = 1#1), ∀ a, (k0_off324 i k0_t2 v110 v113 k0_t41) a + S1x16.size a ≤ S256x128.size a) ∧
  (∀ (k0_h19 : k0_cond19 k0_t2 = 1#1), ∀ (k0_h23 : k0_cond23 i k0_t2 v110 v113 = 1#1), (k0_t42_loop i k0_t2 v110 v113).OK) ∧
  (∀ k0_t42 : Fin (k0_t42_loop i k0_t2 v110 v113).trips, ∀ (k0_h19 : k0_cond19 k0_t2 = 1#1), ∀ (k0_h23 : k0_cond23 i k0_t2 v110 v113 = 1#1), ∀ a, (k0_off325 i k0_t2 v110 v113 k0_t42) a + S1x16.size a ≤ S256x128.size a) ∧
  (∀ k0_t42 : Fin (k0_t42_loop i k0_t2 v110 v113).trips, ∀ (k0_h19 : k0_cond19 k0_t2 = 1#1), ∀ (k0_h23 : k0_cond23 i k0_t2 v110 v113 = 1#1), ∀ a, (k0_off326 i k0_t2 v110 v113 k0_t42) a + S1x16.size a ≤ S256x128.size a) ∧
  (∀ k0_t42 : Fin (k0_t42_loop i k0_t2 v110 v113).trips, ∀ (k0_h19 : k0_cond19 k0_t2 = 1#1), ∀ (k0_h23 : k0_cond23 i k0_t2 v110 v113 = 1#1), ∀ a, (k0_off327 i k0_t2 v110 v113 k0_t42) a + S1x16.size a ≤ S256x128.size a) ∧
  (∀ k0_t42 : Fin (k0_t42_loop i k0_t2 v110 v113).trips, ∀ (k0_h19 : k0_cond19 k0_t2 = 1#1), ∀ (k0_h23 : k0_cond23 i k0_t2 v110 v113 = 1#1), ∀ a, (k0_off328 i k0_t2 v110 v113 k0_t42) a + S1x16.size a ≤ S256x128.size a) ∧
  (∀ k0_t42 : Fin (k0_t42_loop i k0_t2 v110 v113).trips, ∀ (k0_h19 : k0_cond19 k0_t2 = 1#1), ∀ (k0_h23 : k0_cond23 i k0_t2 v110 v113 = 1#1), ∀ a, (k0_off329 i k0_t2 v110 v113 k0_t42) a + S1x16.size a ≤ S256x128.size a) ∧
  (∀ k0_t42 : Fin (k0_t42_loop i k0_t2 v110 v113).trips, ∀ (k0_h19 : k0_cond19 k0_t2 = 1#1), ∀ (k0_h23 : k0_cond23 i k0_t2 v110 v113 = 1#1), ∀ a, (k0_off330 i k0_t2 v110 v113 k0_t42) a + S1x16.size a ≤ S256x128.size a) ∧
  (∀ k0_t42 : Fin (k0_t42_loop i k0_t2 v110 v113).trips, ∀ (k0_h19 : k0_cond19 k0_t2 = 1#1), ∀ (k0_h23 : k0_cond23 i k0_t2 v110 v113 = 1#1), ∀ a, (k0_off331 i k0_t2 v110 v113 k0_t42) a + S1x16.size a ≤ S256x128.size a) ∧
  (∀ k0_t42 : Fin (k0_t42_loop i k0_t2 v110 v113).trips, ∀ (k0_h19 : k0_cond19 k0_t2 = 1#1), ∀ (k0_h23 : k0_cond23 i k0_t2 v110 v113 = 1#1), ∀ a, (k0_off332 i k0_t2 v110 v113 k0_t42) a + S1x16.size a ≤ S256x128.size a)
theorem k0_t41_ok : ∀ (i : grid0.Coords) (k0_t2 : Fin k0_t2_loop.trips) (v110 : BitVec 32) (v113 : BitVec 32) (k0_hw20 : k0_chk20 i k0_t2 v110 v113), ∀ (k0_h19 : k0_cond19 k0_t2 = 1#1), ∀ (k0_h23 : k0_cond23 i k0_t2 v110 v113 = 1#1), (k0_t41_loop i k0_t2 v110 v113).OK := fun i k0_t2 v110 v113 k0_hw20 k0_h19 k0_h23 => k0_hw20.1 k0_h19 k0_h23
theorem k0_off317_inb : ∀ (i : grid0.Coords) (k0_t2 : Fin k0_t2_loop.trips) (v110 : BitVec 32) (v113 : BitVec 32) (k0_hw20 : k0_chk20 i k0_t2 v110 v113) (k0_t41 : Fin (k0_t41_loop i k0_t2 v110 v113).trips), ∀ (k0_h19 : k0_cond19 k0_t2 = 1#1), ∀ (k0_h23 : k0_cond23 i k0_t2 v110 v113 = 1#1), ∀ a, (k0_off317 i k0_t2 v110 v113 k0_t41) a + S1x16.size a ≤ S256x128.size a := fun i k0_t2 v110 v113 k0_hw20 k0_t41 k0_h19 k0_h23 => k0_hw20.2.1 k0_t41 k0_h19 k0_h23
theorem k0_off318_inb : ∀ (i : grid0.Coords) (k0_t2 : Fin k0_t2_loop.trips) (v110 : BitVec 32) (v113 : BitVec 32) (k0_hw20 : k0_chk20 i k0_t2 v110 v113) (k0_t41 : Fin (k0_t41_loop i k0_t2 v110 v113).trips), ∀ (k0_h19 : k0_cond19 k0_t2 = 1#1), ∀ (k0_h23 : k0_cond23 i k0_t2 v110 v113 = 1#1), ∀ a, (k0_off318 i k0_t2 v110 v113 k0_t41) a + S1x16.size a ≤ S256x128.size a := fun i k0_t2 v110 v113 k0_hw20 k0_t41 k0_h19 k0_h23 => k0_hw20.2.2.1 k0_t41 k0_h19 k0_h23
theorem k0_off319_inb : ∀ (i : grid0.Coords) (k0_t2 : Fin k0_t2_loop.trips) (v110 : BitVec 32) (v113 : BitVec 32) (k0_hw20 : k0_chk20 i k0_t2 v110 v113) (k0_t41 : Fin (k0_t41_loop i k0_t2 v110 v113).trips), ∀ (k0_h19 : k0_cond19 k0_t2 = 1#1), ∀ (k0_h23 : k0_cond23 i k0_t2 v110 v113 = 1#1), ∀ a, (k0_off319 i k0_t2 v110 v113 k0_t41) a + S1x16.size a ≤ S256x128.size a := fun i k0_t2 v110 v113 k0_hw20 k0_t41 k0_h19 k0_h23 => k0_hw20.2.2.2.1 k0_t41 k0_h19 k0_h23
theorem k0_off320_inb : ∀ (i : grid0.Coords) (k0_t2 : Fin k0_t2_loop.trips) (v110 : BitVec 32) (v113 : BitVec 32) (k0_hw20 : k0_chk20 i k0_t2 v110 v113) (k0_t41 : Fin (k0_t41_loop i k0_t2 v110 v113).trips), ∀ (k0_h19 : k0_cond19 k0_t2 = 1#1), ∀ (k0_h23 : k0_cond23 i k0_t2 v110 v113 = 1#1), ∀ a, (k0_off320 i k0_t2 v110 v113 k0_t41) a + S1x16.size a ≤ S256x128.size a := fun i k0_t2 v110 v113 k0_hw20 k0_t41 k0_h19 k0_h23 => k0_hw20.2.2.2.2.1 k0_t41 k0_h19 k0_h23
theorem k0_off321_inb : ∀ (i : grid0.Coords) (k0_t2 : Fin k0_t2_loop.trips) (v110 : BitVec 32) (v113 : BitVec 32) (k0_hw20 : k0_chk20 i k0_t2 v110 v113) (k0_t41 : Fin (k0_t41_loop i k0_t2 v110 v113).trips), ∀ (k0_h19 : k0_cond19 k0_t2 = 1#1), ∀ (k0_h23 : k0_cond23 i k0_t2 v110 v113 = 1#1), ∀ a, (k0_off321 i k0_t2 v110 v113 k0_t41) a + S1x16.size a ≤ S256x128.size a := fun i k0_t2 v110 v113 k0_hw20 k0_t41 k0_h19 k0_h23 => k0_hw20.2.2.2.2.2.1 k0_t41 k0_h19 k0_h23
theorem k0_off322_inb : ∀ (i : grid0.Coords) (k0_t2 : Fin k0_t2_loop.trips) (v110 : BitVec 32) (v113 : BitVec 32) (k0_hw20 : k0_chk20 i k0_t2 v110 v113) (k0_t41 : Fin (k0_t41_loop i k0_t2 v110 v113).trips), ∀ (k0_h19 : k0_cond19 k0_t2 = 1#1), ∀ (k0_h23 : k0_cond23 i k0_t2 v110 v113 = 1#1), ∀ a, (k0_off322 i k0_t2 v110 v113 k0_t41) a + S1x16.size a ≤ S256x128.size a := fun i k0_t2 v110 v113 k0_hw20 k0_t41 k0_h19 k0_h23 => k0_hw20.2.2.2.2.2.2.1 k0_t41 k0_h19 k0_h23
theorem k0_off323_inb : ∀ (i : grid0.Coords) (k0_t2 : Fin k0_t2_loop.trips) (v110 : BitVec 32) (v113 : BitVec 32) (k0_hw20 : k0_chk20 i k0_t2 v110 v113) (k0_t41 : Fin (k0_t41_loop i k0_t2 v110 v113).trips), ∀ (k0_h19 : k0_cond19 k0_t2 = 1#1), ∀ (k0_h23 : k0_cond23 i k0_t2 v110 v113 = 1#1), ∀ a, (k0_off323 i k0_t2 v110 v113 k0_t41) a + S1x16.size a ≤ S256x128.size a := fun i k0_t2 v110 v113 k0_hw20 k0_t41 k0_h19 k0_h23 => k0_hw20.2.2.2.2.2.2.2.1 k0_t41 k0_h19 k0_h23
theorem k0_off324_inb : ∀ (i : grid0.Coords) (k0_t2 : Fin k0_t2_loop.trips) (v110 : BitVec 32) (v113 : BitVec 32) (k0_hw20 : k0_chk20 i k0_t2 v110 v113) (k0_t41 : Fin (k0_t41_loop i k0_t2 v110 v113).trips), ∀ (k0_h19 : k0_cond19 k0_t2 = 1#1), ∀ (k0_h23 : k0_cond23 i k0_t2 v110 v113 = 1#1), ∀ a, (k0_off324 i k0_t2 v110 v113 k0_t41) a + S1x16.size a ≤ S256x128.size a := fun i k0_t2 v110 v113 k0_hw20 k0_t41 k0_h19 k0_h23 => k0_hw20.2.2.2.2.2.2.2.2.1 k0_t41 k0_h19 k0_h23
theorem k0_t42_ok : ∀ (i : grid0.Coords) (k0_t2 : Fin k0_t2_loop.trips) (v110 : BitVec 32) (v113 : BitVec 32) (k0_hw20 : k0_chk20 i k0_t2 v110 v113), ∀ (k0_h19 : k0_cond19 k0_t2 = 1#1), ∀ (k0_h23 : k0_cond23 i k0_t2 v110 v113 = 1#1), (k0_t42_loop i k0_t2 v110 v113).OK := fun i k0_t2 v110 v113 k0_hw20 k0_h19 k0_h23 => k0_hw20.2.2.2.2.2.2.2.2.2.1 k0_h19 k0_h23
theorem k0_off325_inb : ∀ (i : grid0.Coords) (k0_t2 : Fin k0_t2_loop.trips) (v110 : BitVec 32) (v113 : BitVec 32) (k0_hw20 : k0_chk20 i k0_t2 v110 v113) (k0_t42 : Fin (k0_t42_loop i k0_t2 v110 v113).trips), ∀ (k0_h19 : k0_cond19 k0_t2 = 1#1), ∀ (k0_h23 : k0_cond23 i k0_t2 v110 v113 = 1#1), ∀ a, (k0_off325 i k0_t2 v110 v113 k0_t42) a + S1x16.size a ≤ S256x128.size a := fun i k0_t2 v110 v113 k0_hw20 k0_t42 k0_h19 k0_h23 => k0_hw20.2.2.2.2.2.2.2.2.2.2.1 k0_t42 k0_h19 k0_h23
theorem k0_off326_inb : ∀ (i : grid0.Coords) (k0_t2 : Fin k0_t2_loop.trips) (v110 : BitVec 32) (v113 : BitVec 32) (k0_hw20 : k0_chk20 i k0_t2 v110 v113) (k0_t42 : Fin (k0_t42_loop i k0_t2 v110 v113).trips), ∀ (k0_h19 : k0_cond19 k0_t2 = 1#1), ∀ (k0_h23 : k0_cond23 i k0_t2 v110 v113 = 1#1), ∀ a, (k0_off326 i k0_t2 v110 v113 k0_t42) a + S1x16.size a ≤ S256x128.size a := fun i k0_t2 v110 v113 k0_hw20 k0_t42 k0_h19 k0_h23 => k0_hw20.2.2.2.2.2.2.2.2.2.2.2.1 k0_t42 k0_h19 k0_h23
theorem k0_off327_inb : ∀ (i : grid0.Coords) (k0_t2 : Fin k0_t2_loop.trips) (v110 : BitVec 32) (v113 : BitVec 32) (k0_hw20 : k0_chk20 i k0_t2 v110 v113) (k0_t42 : Fin (k0_t42_loop i k0_t2 v110 v113).trips), ∀ (k0_h19 : k0_cond19 k0_t2 = 1#1), ∀ (k0_h23 : k0_cond23 i k0_t2 v110 v113 = 1#1), ∀ a, (k0_off327 i k0_t2 v110 v113 k0_t42) a + S1x16.size a ≤ S256x128.size a := fun i k0_t2 v110 v113 k0_hw20 k0_t42 k0_h19 k0_h23 => k0_hw20.2.2.2.2.2.2.2.2.2.2.2.2.1 k0_t42 k0_h19 k0_h23
theorem k0_off328_inb : ∀ (i : grid0.Coords) (k0_t2 : Fin k0_t2_loop.trips) (v110 : BitVec 32) (v113 : BitVec 32) (k0_hw20 : k0_chk20 i k0_t2 v110 v113) (k0_t42 : Fin (k0_t42_loop i k0_t2 v110 v113).trips), ∀ (k0_h19 : k0_cond19 k0_t2 = 1#1), ∀ (k0_h23 : k0_cond23 i k0_t2 v110 v113 = 1#1), ∀ a, (k0_off328 i k0_t2 v110 v113 k0_t42) a + S1x16.size a ≤ S256x128.size a := fun i k0_t2 v110 v113 k0_hw20 k0_t42 k0_h19 k0_h23 => k0_hw20.2.2.2.2.2.2.2.2.2.2.2.2.2.1 k0_t42 k0_h19 k0_h23
theorem k0_off329_inb : ∀ (i : grid0.Coords) (k0_t2 : Fin k0_t2_loop.trips) (v110 : BitVec 32) (v113 : BitVec 32) (k0_hw20 : k0_chk20 i k0_t2 v110 v113) (k0_t42 : Fin (k0_t42_loop i k0_t2 v110 v113).trips), ∀ (k0_h19 : k0_cond19 k0_t2 = 1#1), ∀ (k0_h23 : k0_cond23 i k0_t2 v110 v113 = 1#1), ∀ a, (k0_off329 i k0_t2 v110 v113 k0_t42) a + S1x16.size a ≤ S256x128.size a := fun i k0_t2 v110 v113 k0_hw20 k0_t42 k0_h19 k0_h23 => k0_hw20.2.2.2.2.2.2.2.2.2.2.2.2.2.2.1 k0_t42 k0_h19 k0_h23
theorem k0_off330_inb : ∀ (i : grid0.Coords) (k0_t2 : Fin k0_t2_loop.trips) (v110 : BitVec 32) (v113 : BitVec 32) (k0_hw20 : k0_chk20 i k0_t2 v110 v113) (k0_t42 : Fin (k0_t42_loop i k0_t2 v110 v113).trips), ∀ (k0_h19 : k0_cond19 k0_t2 = 1#1), ∀ (k0_h23 : k0_cond23 i k0_t2 v110 v113 = 1#1), ∀ a, (k0_off330 i k0_t2 v110 v113 k0_t42) a + S1x16.size a ≤ S256x128.size a := fun i k0_t2 v110 v113 k0_hw20 k0_t42 k0_h19 k0_h23 => k0_hw20.2.2.2.2.2.2.2.2.2.2.2.2.2.2.2.1 k0_t42 k0_h19 k0_h23
theorem k0_off331_inb : ∀ (i : grid0.Coords) (k0_t2 : Fin k0_t2_loop.trips) (v110 : BitVec 32) (v113 : BitVec 32) (k0_hw20 : k0_chk20 i k0_t2 v110 v113) (k0_t42 : Fin (k0_t42_loop i k0_t2 v110 v113).trips), ∀ (k0_h19 : k0_cond19 k0_t2 = 1#1), ∀ (k0_h23 : k0_cond23 i k0_t2 v110 v113 = 1#1), ∀ a, (k0_off331 i k0_t2 v110 v113 k0_t42) a + S1x16.size a ≤ S256x128.size a := fun i k0_t2 v110 v113 k0_hw20 k0_t42 k0_h19 k0_h23 => k0_hw20.2.2.2.2.2.2.2.2.2.2.2.2.2.2.2.2.1 k0_t42 k0_h19 k0_h23
theorem k0_off332_inb : ∀ (i : grid0.Coords) (k0_t2 : Fin k0_t2_loop.trips) (v110 : BitVec 32) (v113 : BitVec 32) (k0_hw20 : k0_chk20 i k0_t2 v110 v113) (k0_t42 : Fin (k0_t42_loop i k0_t2 v110 v113).trips), ∀ (k0_h19 : k0_cond19 k0_t2 = 1#1), ∀ (k0_h23 : k0_cond23 i k0_t2 v110 v113 = 1#1), ∀ a, (k0_off332 i k0_t2 v110 v113 k0_t42) a + S1x16.size a ≤ S256x128.size a := fun i k0_t2 v110 v113 k0_hw20 k0_t42 k0_h19 k0_h23 => k0_hw20.2.2.2.2.2.2.2.2.2.2.2.2.2.2.2.2.2 k0_t42 k0_h19 k0_h23

@[reducible] def k0_t43_loop (i : grid0.Coords) (k0_t2 : Fin k0_t2_loop.trips) (v119 : BitVec 32) (v122 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v120 : BitVec 32 := Scalar.maxsi v119 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_85 : BitVec 32 := 1#32
  ⟨v120, v234, c1_i32_85⟩
def k0_cond24 (i : grid0.Coords) (k0_t2 : Fin k0_t2_loop.trips) (v119 : BitVec 32) (v122 : BitVec 32) : BitVec 1 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v123 : BitVec 32 := Scalar.minsi v122 v77
  let v120 : BitVec 32 := Scalar.maxsi v119 v75
  let v124 : BitVec 1 := Scalar.cmpi .sgt v123 v120
  let v125 : BitVec 32 := Scalar.extui v124
  let c0_i32_69 : BitVec 32 := 0#32
  let v126 : BitVec 1 := Scalar.cmpi .ne v125 c0_i32_69
  v126

def k0_off333 (i : grid0.Coords) (k0_t2 : Fin k0_t2_loop.trips) (v119 : BitVec 32) (v122 : BitVec 32) (k0_t43 : Fin (k0_t43_loop i k0_t2 v119 v122).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v120 : BitVec 32 := Scalar.maxsi v119 v75
  let c1_i32_85 : BitVec 32 := 1#32
  let arg19 : BitVec 32 := Scf.iv v120 c1_i32_85 k0_t43
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off334 (i : grid0.Coords) (k0_t2 : Fin k0_t2_loop.trips) (v119 : BitVec 32) (v122 : BitVec 32) (k0_t43 : Fin (k0_t43_loop i k0_t2 v119 v122).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v120 : BitVec 32 := Scalar.maxsi v119 v75
  let c1_i32_85 : BitVec 32 := 1#32
  let arg19 : BitVec 32 := Scf.iv v120 c1_i32_85 k0_t43
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off335 (i : grid0.Coords) (k0_t2 : Fin k0_t2_loop.trips) (v119 : BitVec 32) (v122 : BitVec 32) (k0_t43 : Fin (k0_t43_loop i k0_t2 v119 v122).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v120 : BitVec 32 := Scalar.maxsi v119 v75
  let c1_i32_85 : BitVec 32 := 1#32
  let arg19 : BitVec 32 := Scf.iv v120 c1_i32_85 k0_t43
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off336 (i : grid0.Coords) (k0_t2 : Fin k0_t2_loop.trips) (v119 : BitVec 32) (v122 : BitVec 32) (k0_t43 : Fin (k0_t43_loop i k0_t2 v119 v122).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v120 : BitVec 32 := Scalar.maxsi v119 v75
  let c1_i32_85 : BitVec 32 := 1#32
  let arg19 : BitVec 32 := Scf.iv v120 c1_i32_85 k0_t43
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off337 (i : grid0.Coords) (k0_t2 : Fin k0_t2_loop.trips) (v119 : BitVec 32) (v122 : BitVec 32) (k0_t43 : Fin (k0_t43_loop i k0_t2 v119 v122).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v120 : BitVec 32 := Scalar.maxsi v119 v75
  let c1_i32_85 : BitVec 32 := 1#32
  let arg19 : BitVec 32 := Scf.iv v120 c1_i32_85 k0_t43
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off338 (i : grid0.Coords) (k0_t2 : Fin k0_t2_loop.trips) (v119 : BitVec 32) (v122 : BitVec 32) (k0_t43 : Fin (k0_t43_loop i k0_t2 v119 v122).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v120 : BitVec 32 := Scalar.maxsi v119 v75
  let c1_i32_85 : BitVec 32 := 1#32
  let arg19 : BitVec 32 := Scf.iv v120 c1_i32_85 k0_t43
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off339 (i : grid0.Coords) (k0_t2 : Fin k0_t2_loop.trips) (v119 : BitVec 32) (v122 : BitVec 32) (k0_t43 : Fin (k0_t43_loop i k0_t2 v119 v122).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v120 : BitVec 32 := Scalar.maxsi v119 v75
  let c1_i32_85 : BitVec 32 := 1#32
  let arg19 : BitVec 32 := Scf.iv v120 c1_i32_85 k0_t43
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off340 (i : grid0.Coords) (k0_t2 : Fin k0_t2_loop.trips) (v119 : BitVec 32) (v122 : BitVec 32) (k0_t43 : Fin (k0_t43_loop i k0_t2 v119 v122).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v120 : BitVec 32 := Scalar.maxsi v119 v75
  let c1_i32_85 : BitVec 32 := 1#32
  let arg19 : BitVec 32 := Scf.iv v120 c1_i32_85 k0_t43
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]
@[reducible] def k0_t44_loop (i : grid0.Coords) (k0_t2 : Fin k0_t2_loop.trips) (v119 : BitVec 32) (v122 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v120 : BitVec 32 := Scalar.maxsi v119 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let v231 : BitVec 32 := Scalar.addi v120 v230
  let c1_i32_86 : BitVec 32 := 1#32
  ⟨v234, v231, c1_i32_86⟩
def k0_off341 (i : grid0.Coords) (k0_t2 : Fin k0_t2_loop.trips) (v119 : BitVec 32) (v122 : BitVec 32) (k0_t44 : Fin (k0_t44_loop i k0_t2 v119 v122).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v120 : BitVec 32 := Scalar.maxsi v119 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_86 : BitVec 32 := 1#32
  let arg19 : BitVec 32 := Scf.iv v234 c1_i32_86 k0_t44
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off342 (i : grid0.Coords) (k0_t2 : Fin k0_t2_loop.trips) (v119 : BitVec 32) (v122 : BitVec 32) (k0_t44 : Fin (k0_t44_loop i k0_t2 v119 v122).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v120 : BitVec 32 := Scalar.maxsi v119 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_86 : BitVec 32 := 1#32
  let arg19 : BitVec 32 := Scf.iv v234 c1_i32_86 k0_t44
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off343 (i : grid0.Coords) (k0_t2 : Fin k0_t2_loop.trips) (v119 : BitVec 32) (v122 : BitVec 32) (k0_t44 : Fin (k0_t44_loop i k0_t2 v119 v122).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v120 : BitVec 32 := Scalar.maxsi v119 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_86 : BitVec 32 := 1#32
  let arg19 : BitVec 32 := Scf.iv v234 c1_i32_86 k0_t44
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off344 (i : grid0.Coords) (k0_t2 : Fin k0_t2_loop.trips) (v119 : BitVec 32) (v122 : BitVec 32) (k0_t44 : Fin (k0_t44_loop i k0_t2 v119 v122).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v120 : BitVec 32 := Scalar.maxsi v119 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_86 : BitVec 32 := 1#32
  let arg19 : BitVec 32 := Scf.iv v234 c1_i32_86 k0_t44
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off345 (i : grid0.Coords) (k0_t2 : Fin k0_t2_loop.trips) (v119 : BitVec 32) (v122 : BitVec 32) (k0_t44 : Fin (k0_t44_loop i k0_t2 v119 v122).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v120 : BitVec 32 := Scalar.maxsi v119 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_86 : BitVec 32 := 1#32
  let arg19 : BitVec 32 := Scf.iv v234 c1_i32_86 k0_t44
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off346 (i : grid0.Coords) (k0_t2 : Fin k0_t2_loop.trips) (v119 : BitVec 32) (v122 : BitVec 32) (k0_t44 : Fin (k0_t44_loop i k0_t2 v119 v122).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v120 : BitVec 32 := Scalar.maxsi v119 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_86 : BitVec 32 := 1#32
  let arg19 : BitVec 32 := Scf.iv v234 c1_i32_86 k0_t44
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off347 (i : grid0.Coords) (k0_t2 : Fin k0_t2_loop.trips) (v119 : BitVec 32) (v122 : BitVec 32) (k0_t44 : Fin (k0_t44_loop i k0_t2 v119 v122).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v120 : BitVec 32 := Scalar.maxsi v119 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_86 : BitVec 32 := 1#32
  let arg19 : BitVec 32 := Scf.iv v234 c1_i32_86 k0_t44
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off348 (i : grid0.Coords) (k0_t2 : Fin k0_t2_loop.trips) (v119 : BitVec 32) (v122 : BitVec 32) (k0_t44 : Fin (k0_t44_loop i k0_t2 v119 v122).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v120 : BitVec 32 := Scalar.maxsi v119 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_86 : BitVec 32 := 1#32
  let arg19 : BitVec 32 := Scf.iv v234 c1_i32_86 k0_t44
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]

def k0_chk21 (i : grid0.Coords) (k0_t2 : Fin k0_t2_loop.trips) (v119 : BitVec 32) (v122 : BitVec 32) : Prop :=
  (∀ (k0_h19 : k0_cond19 k0_t2 = 1#1), ∀ (k0_h24 : k0_cond24 i k0_t2 v119 v122 = 1#1), (k0_t43_loop i k0_t2 v119 v122).OK) ∧
  (∀ k0_t43 : Fin (k0_t43_loop i k0_t2 v119 v122).trips, ∀ (k0_h19 : k0_cond19 k0_t2 = 1#1), ∀ (k0_h24 : k0_cond24 i k0_t2 v119 v122 = 1#1), ∀ a, (k0_off333 i k0_t2 v119 v122 k0_t43) a + S1x16.size a ≤ S256x128.size a) ∧
  (∀ k0_t43 : Fin (k0_t43_loop i k0_t2 v119 v122).trips, ∀ (k0_h19 : k0_cond19 k0_t2 = 1#1), ∀ (k0_h24 : k0_cond24 i k0_t2 v119 v122 = 1#1), ∀ a, (k0_off334 i k0_t2 v119 v122 k0_t43) a + S1x16.size a ≤ S256x128.size a) ∧
  (∀ k0_t43 : Fin (k0_t43_loop i k0_t2 v119 v122).trips, ∀ (k0_h19 : k0_cond19 k0_t2 = 1#1), ∀ (k0_h24 : k0_cond24 i k0_t2 v119 v122 = 1#1), ∀ a, (k0_off335 i k0_t2 v119 v122 k0_t43) a + S1x16.size a ≤ S256x128.size a) ∧
  (∀ k0_t43 : Fin (k0_t43_loop i k0_t2 v119 v122).trips, ∀ (k0_h19 : k0_cond19 k0_t2 = 1#1), ∀ (k0_h24 : k0_cond24 i k0_t2 v119 v122 = 1#1), ∀ a, (k0_off336 i k0_t2 v119 v122 k0_t43) a + S1x16.size a ≤ S256x128.size a) ∧
  (∀ k0_t43 : Fin (k0_t43_loop i k0_t2 v119 v122).trips, ∀ (k0_h19 : k0_cond19 k0_t2 = 1#1), ∀ (k0_h24 : k0_cond24 i k0_t2 v119 v122 = 1#1), ∀ a, (k0_off337 i k0_t2 v119 v122 k0_t43) a + S1x16.size a ≤ S256x128.size a) ∧
  (∀ k0_t43 : Fin (k0_t43_loop i k0_t2 v119 v122).trips, ∀ (k0_h19 : k0_cond19 k0_t2 = 1#1), ∀ (k0_h24 : k0_cond24 i k0_t2 v119 v122 = 1#1), ∀ a, (k0_off338 i k0_t2 v119 v122 k0_t43) a + S1x16.size a ≤ S256x128.size a) ∧
  (∀ k0_t43 : Fin (k0_t43_loop i k0_t2 v119 v122).trips, ∀ (k0_h19 : k0_cond19 k0_t2 = 1#1), ∀ (k0_h24 : k0_cond24 i k0_t2 v119 v122 = 1#1), ∀ a, (k0_off339 i k0_t2 v119 v122 k0_t43) a + S1x16.size a ≤ S256x128.size a) ∧
  (∀ k0_t43 : Fin (k0_t43_loop i k0_t2 v119 v122).trips, ∀ (k0_h19 : k0_cond19 k0_t2 = 1#1), ∀ (k0_h24 : k0_cond24 i k0_t2 v119 v122 = 1#1), ∀ a, (k0_off340 i k0_t2 v119 v122 k0_t43) a + S1x16.size a ≤ S256x128.size a) ∧
  (∀ (k0_h19 : k0_cond19 k0_t2 = 1#1), ∀ (k0_h24 : k0_cond24 i k0_t2 v119 v122 = 1#1), (k0_t44_loop i k0_t2 v119 v122).OK) ∧
  (∀ k0_t44 : Fin (k0_t44_loop i k0_t2 v119 v122).trips, ∀ (k0_h19 : k0_cond19 k0_t2 = 1#1), ∀ (k0_h24 : k0_cond24 i k0_t2 v119 v122 = 1#1), ∀ a, (k0_off341 i k0_t2 v119 v122 k0_t44) a + S1x16.size a ≤ S256x128.size a) ∧
  (∀ k0_t44 : Fin (k0_t44_loop i k0_t2 v119 v122).trips, ∀ (k0_h19 : k0_cond19 k0_t2 = 1#1), ∀ (k0_h24 : k0_cond24 i k0_t2 v119 v122 = 1#1), ∀ a, (k0_off342 i k0_t2 v119 v122 k0_t44) a + S1x16.size a ≤ S256x128.size a) ∧
  (∀ k0_t44 : Fin (k0_t44_loop i k0_t2 v119 v122).trips, ∀ (k0_h19 : k0_cond19 k0_t2 = 1#1), ∀ (k0_h24 : k0_cond24 i k0_t2 v119 v122 = 1#1), ∀ a, (k0_off343 i k0_t2 v119 v122 k0_t44) a + S1x16.size a ≤ S256x128.size a) ∧
  (∀ k0_t44 : Fin (k0_t44_loop i k0_t2 v119 v122).trips, ∀ (k0_h19 : k0_cond19 k0_t2 = 1#1), ∀ (k0_h24 : k0_cond24 i k0_t2 v119 v122 = 1#1), ∀ a, (k0_off344 i k0_t2 v119 v122 k0_t44) a + S1x16.size a ≤ S256x128.size a) ∧
  (∀ k0_t44 : Fin (k0_t44_loop i k0_t2 v119 v122).trips, ∀ (k0_h19 : k0_cond19 k0_t2 = 1#1), ∀ (k0_h24 : k0_cond24 i k0_t2 v119 v122 = 1#1), ∀ a, (k0_off345 i k0_t2 v119 v122 k0_t44) a + S1x16.size a ≤ S256x128.size a) ∧
  (∀ k0_t44 : Fin (k0_t44_loop i k0_t2 v119 v122).trips, ∀ (k0_h19 : k0_cond19 k0_t2 = 1#1), ∀ (k0_h24 : k0_cond24 i k0_t2 v119 v122 = 1#1), ∀ a, (k0_off346 i k0_t2 v119 v122 k0_t44) a + S1x16.size a ≤ S256x128.size a) ∧
  (∀ k0_t44 : Fin (k0_t44_loop i k0_t2 v119 v122).trips, ∀ (k0_h19 : k0_cond19 k0_t2 = 1#1), ∀ (k0_h24 : k0_cond24 i k0_t2 v119 v122 = 1#1), ∀ a, (k0_off347 i k0_t2 v119 v122 k0_t44) a + S1x16.size a ≤ S256x128.size a) ∧
  (∀ k0_t44 : Fin (k0_t44_loop i k0_t2 v119 v122).trips, ∀ (k0_h19 : k0_cond19 k0_t2 = 1#1), ∀ (k0_h24 : k0_cond24 i k0_t2 v119 v122 = 1#1), ∀ a, (k0_off348 i k0_t2 v119 v122 k0_t44) a + S1x16.size a ≤ S256x128.size a)
theorem k0_t43_ok : ∀ (i : grid0.Coords) (k0_t2 : Fin k0_t2_loop.trips) (v119 : BitVec 32) (v122 : BitVec 32) (k0_hw21 : k0_chk21 i k0_t2 v119 v122), ∀ (k0_h19 : k0_cond19 k0_t2 = 1#1), ∀ (k0_h24 : k0_cond24 i k0_t2 v119 v122 = 1#1), (k0_t43_loop i k0_t2 v119 v122).OK := fun i k0_t2 v119 v122 k0_hw21 k0_h19 k0_h24 => k0_hw21.1 k0_h19 k0_h24
theorem k0_off333_inb : ∀ (i : grid0.Coords) (k0_t2 : Fin k0_t2_loop.trips) (v119 : BitVec 32) (v122 : BitVec 32) (k0_hw21 : k0_chk21 i k0_t2 v119 v122) (k0_t43 : Fin (k0_t43_loop i k0_t2 v119 v122).trips), ∀ (k0_h19 : k0_cond19 k0_t2 = 1#1), ∀ (k0_h24 : k0_cond24 i k0_t2 v119 v122 = 1#1), ∀ a, (k0_off333 i k0_t2 v119 v122 k0_t43) a + S1x16.size a ≤ S256x128.size a := fun i k0_t2 v119 v122 k0_hw21 k0_t43 k0_h19 k0_h24 => k0_hw21.2.1 k0_t43 k0_h19 k0_h24
theorem k0_off334_inb : ∀ (i : grid0.Coords) (k0_t2 : Fin k0_t2_loop.trips) (v119 : BitVec 32) (v122 : BitVec 32) (k0_hw21 : k0_chk21 i k0_t2 v119 v122) (k0_t43 : Fin (k0_t43_loop i k0_t2 v119 v122).trips), ∀ (k0_h19 : k0_cond19 k0_t2 = 1#1), ∀ (k0_h24 : k0_cond24 i k0_t2 v119 v122 = 1#1), ∀ a, (k0_off334 i k0_t2 v119 v122 k0_t43) a + S1x16.size a ≤ S256x128.size a := fun i k0_t2 v119 v122 k0_hw21 k0_t43 k0_h19 k0_h24 => k0_hw21.2.2.1 k0_t43 k0_h19 k0_h24
theorem k0_off335_inb : ∀ (i : grid0.Coords) (k0_t2 : Fin k0_t2_loop.trips) (v119 : BitVec 32) (v122 : BitVec 32) (k0_hw21 : k0_chk21 i k0_t2 v119 v122) (k0_t43 : Fin (k0_t43_loop i k0_t2 v119 v122).trips), ∀ (k0_h19 : k0_cond19 k0_t2 = 1#1), ∀ (k0_h24 : k0_cond24 i k0_t2 v119 v122 = 1#1), ∀ a, (k0_off335 i k0_t2 v119 v122 k0_t43) a + S1x16.size a ≤ S256x128.size a := fun i k0_t2 v119 v122 k0_hw21 k0_t43 k0_h19 k0_h24 => k0_hw21.2.2.2.1 k0_t43 k0_h19 k0_h24
theorem k0_off336_inb : ∀ (i : grid0.Coords) (k0_t2 : Fin k0_t2_loop.trips) (v119 : BitVec 32) (v122 : BitVec 32) (k0_hw21 : k0_chk21 i k0_t2 v119 v122) (k0_t43 : Fin (k0_t43_loop i k0_t2 v119 v122).trips), ∀ (k0_h19 : k0_cond19 k0_t2 = 1#1), ∀ (k0_h24 : k0_cond24 i k0_t2 v119 v122 = 1#1), ∀ a, (k0_off336 i k0_t2 v119 v122 k0_t43) a + S1x16.size a ≤ S256x128.size a := fun i k0_t2 v119 v122 k0_hw21 k0_t43 k0_h19 k0_h24 => k0_hw21.2.2.2.2.1 k0_t43 k0_h19 k0_h24
theorem k0_off337_inb : ∀ (i : grid0.Coords) (k0_t2 : Fin k0_t2_loop.trips) (v119 : BitVec 32) (v122 : BitVec 32) (k0_hw21 : k0_chk21 i k0_t2 v119 v122) (k0_t43 : Fin (k0_t43_loop i k0_t2 v119 v122).trips), ∀ (k0_h19 : k0_cond19 k0_t2 = 1#1), ∀ (k0_h24 : k0_cond24 i k0_t2 v119 v122 = 1#1), ∀ a, (k0_off337 i k0_t2 v119 v122 k0_t43) a + S1x16.size a ≤ S256x128.size a := fun i k0_t2 v119 v122 k0_hw21 k0_t43 k0_h19 k0_h24 => k0_hw21.2.2.2.2.2.1 k0_t43 k0_h19 k0_h24
theorem k0_off338_inb : ∀ (i : grid0.Coords) (k0_t2 : Fin k0_t2_loop.trips) (v119 : BitVec 32) (v122 : BitVec 32) (k0_hw21 : k0_chk21 i k0_t2 v119 v122) (k0_t43 : Fin (k0_t43_loop i k0_t2 v119 v122).trips), ∀ (k0_h19 : k0_cond19 k0_t2 = 1#1), ∀ (k0_h24 : k0_cond24 i k0_t2 v119 v122 = 1#1), ∀ a, (k0_off338 i k0_t2 v119 v122 k0_t43) a + S1x16.size a ≤ S256x128.size a := fun i k0_t2 v119 v122 k0_hw21 k0_t43 k0_h19 k0_h24 => k0_hw21.2.2.2.2.2.2.1 k0_t43 k0_h19 k0_h24
theorem k0_off339_inb : ∀ (i : grid0.Coords) (k0_t2 : Fin k0_t2_loop.trips) (v119 : BitVec 32) (v122 : BitVec 32) (k0_hw21 : k0_chk21 i k0_t2 v119 v122) (k0_t43 : Fin (k0_t43_loop i k0_t2 v119 v122).trips), ∀ (k0_h19 : k0_cond19 k0_t2 = 1#1), ∀ (k0_h24 : k0_cond24 i k0_t2 v119 v122 = 1#1), ∀ a, (k0_off339 i k0_t2 v119 v122 k0_t43) a + S1x16.size a ≤ S256x128.size a := fun i k0_t2 v119 v122 k0_hw21 k0_t43 k0_h19 k0_h24 => k0_hw21.2.2.2.2.2.2.2.1 k0_t43 k0_h19 k0_h24
theorem k0_off340_inb : ∀ (i : grid0.Coords) (k0_t2 : Fin k0_t2_loop.trips) (v119 : BitVec 32) (v122 : BitVec 32) (k0_hw21 : k0_chk21 i k0_t2 v119 v122) (k0_t43 : Fin (k0_t43_loop i k0_t2 v119 v122).trips), ∀ (k0_h19 : k0_cond19 k0_t2 = 1#1), ∀ (k0_h24 : k0_cond24 i k0_t2 v119 v122 = 1#1), ∀ a, (k0_off340 i k0_t2 v119 v122 k0_t43) a + S1x16.size a ≤ S256x128.size a := fun i k0_t2 v119 v122 k0_hw21 k0_t43 k0_h19 k0_h24 => k0_hw21.2.2.2.2.2.2.2.2.1 k0_t43 k0_h19 k0_h24
theorem k0_t44_ok : ∀ (i : grid0.Coords) (k0_t2 : Fin k0_t2_loop.trips) (v119 : BitVec 32) (v122 : BitVec 32) (k0_hw21 : k0_chk21 i k0_t2 v119 v122), ∀ (k0_h19 : k0_cond19 k0_t2 = 1#1), ∀ (k0_h24 : k0_cond24 i k0_t2 v119 v122 = 1#1), (k0_t44_loop i k0_t2 v119 v122).OK := fun i k0_t2 v119 v122 k0_hw21 k0_h19 k0_h24 => k0_hw21.2.2.2.2.2.2.2.2.2.1 k0_h19 k0_h24
theorem k0_off341_inb : ∀ (i : grid0.Coords) (k0_t2 : Fin k0_t2_loop.trips) (v119 : BitVec 32) (v122 : BitVec 32) (k0_hw21 : k0_chk21 i k0_t2 v119 v122) (k0_t44 : Fin (k0_t44_loop i k0_t2 v119 v122).trips), ∀ (k0_h19 : k0_cond19 k0_t2 = 1#1), ∀ (k0_h24 : k0_cond24 i k0_t2 v119 v122 = 1#1), ∀ a, (k0_off341 i k0_t2 v119 v122 k0_t44) a + S1x16.size a ≤ S256x128.size a := fun i k0_t2 v119 v122 k0_hw21 k0_t44 k0_h19 k0_h24 => k0_hw21.2.2.2.2.2.2.2.2.2.2.1 k0_t44 k0_h19 k0_h24
theorem k0_off342_inb : ∀ (i : grid0.Coords) (k0_t2 : Fin k0_t2_loop.trips) (v119 : BitVec 32) (v122 : BitVec 32) (k0_hw21 : k0_chk21 i k0_t2 v119 v122) (k0_t44 : Fin (k0_t44_loop i k0_t2 v119 v122).trips), ∀ (k0_h19 : k0_cond19 k0_t2 = 1#1), ∀ (k0_h24 : k0_cond24 i k0_t2 v119 v122 = 1#1), ∀ a, (k0_off342 i k0_t2 v119 v122 k0_t44) a + S1x16.size a ≤ S256x128.size a := fun i k0_t2 v119 v122 k0_hw21 k0_t44 k0_h19 k0_h24 => k0_hw21.2.2.2.2.2.2.2.2.2.2.2.1 k0_t44 k0_h19 k0_h24
theorem k0_off343_inb : ∀ (i : grid0.Coords) (k0_t2 : Fin k0_t2_loop.trips) (v119 : BitVec 32) (v122 : BitVec 32) (k0_hw21 : k0_chk21 i k0_t2 v119 v122) (k0_t44 : Fin (k0_t44_loop i k0_t2 v119 v122).trips), ∀ (k0_h19 : k0_cond19 k0_t2 = 1#1), ∀ (k0_h24 : k0_cond24 i k0_t2 v119 v122 = 1#1), ∀ a, (k0_off343 i k0_t2 v119 v122 k0_t44) a + S1x16.size a ≤ S256x128.size a := fun i k0_t2 v119 v122 k0_hw21 k0_t44 k0_h19 k0_h24 => k0_hw21.2.2.2.2.2.2.2.2.2.2.2.2.1 k0_t44 k0_h19 k0_h24
theorem k0_off344_inb : ∀ (i : grid0.Coords) (k0_t2 : Fin k0_t2_loop.trips) (v119 : BitVec 32) (v122 : BitVec 32) (k0_hw21 : k0_chk21 i k0_t2 v119 v122) (k0_t44 : Fin (k0_t44_loop i k0_t2 v119 v122).trips), ∀ (k0_h19 : k0_cond19 k0_t2 = 1#1), ∀ (k0_h24 : k0_cond24 i k0_t2 v119 v122 = 1#1), ∀ a, (k0_off344 i k0_t2 v119 v122 k0_t44) a + S1x16.size a ≤ S256x128.size a := fun i k0_t2 v119 v122 k0_hw21 k0_t44 k0_h19 k0_h24 => k0_hw21.2.2.2.2.2.2.2.2.2.2.2.2.2.1 k0_t44 k0_h19 k0_h24
theorem k0_off345_inb : ∀ (i : grid0.Coords) (k0_t2 : Fin k0_t2_loop.trips) (v119 : BitVec 32) (v122 : BitVec 32) (k0_hw21 : k0_chk21 i k0_t2 v119 v122) (k0_t44 : Fin (k0_t44_loop i k0_t2 v119 v122).trips), ∀ (k0_h19 : k0_cond19 k0_t2 = 1#1), ∀ (k0_h24 : k0_cond24 i k0_t2 v119 v122 = 1#1), ∀ a, (k0_off345 i k0_t2 v119 v122 k0_t44) a + S1x16.size a ≤ S256x128.size a := fun i k0_t2 v119 v122 k0_hw21 k0_t44 k0_h19 k0_h24 => k0_hw21.2.2.2.2.2.2.2.2.2.2.2.2.2.2.1 k0_t44 k0_h19 k0_h24
theorem k0_off346_inb : ∀ (i : grid0.Coords) (k0_t2 : Fin k0_t2_loop.trips) (v119 : BitVec 32) (v122 : BitVec 32) (k0_hw21 : k0_chk21 i k0_t2 v119 v122) (k0_t44 : Fin (k0_t44_loop i k0_t2 v119 v122).trips), ∀ (k0_h19 : k0_cond19 k0_t2 = 1#1), ∀ (k0_h24 : k0_cond24 i k0_t2 v119 v122 = 1#1), ∀ a, (k0_off346 i k0_t2 v119 v122 k0_t44) a + S1x16.size a ≤ S256x128.size a := fun i k0_t2 v119 v122 k0_hw21 k0_t44 k0_h19 k0_h24 => k0_hw21.2.2.2.2.2.2.2.2.2.2.2.2.2.2.2.1 k0_t44 k0_h19 k0_h24
theorem k0_off347_inb : ∀ (i : grid0.Coords) (k0_t2 : Fin k0_t2_loop.trips) (v119 : BitVec 32) (v122 : BitVec 32) (k0_hw21 : k0_chk21 i k0_t2 v119 v122) (k0_t44 : Fin (k0_t44_loop i k0_t2 v119 v122).trips), ∀ (k0_h19 : k0_cond19 k0_t2 = 1#1), ∀ (k0_h24 : k0_cond24 i k0_t2 v119 v122 = 1#1), ∀ a, (k0_off347 i k0_t2 v119 v122 k0_t44) a + S1x16.size a ≤ S256x128.size a := fun i k0_t2 v119 v122 k0_hw21 k0_t44 k0_h19 k0_h24 => k0_hw21.2.2.2.2.2.2.2.2.2.2.2.2.2.2.2.2.1 k0_t44 k0_h19 k0_h24
theorem k0_off348_inb : ∀ (i : grid0.Coords) (k0_t2 : Fin k0_t2_loop.trips) (v119 : BitVec 32) (v122 : BitVec 32) (k0_hw21 : k0_chk21 i k0_t2 v119 v122) (k0_t44 : Fin (k0_t44_loop i k0_t2 v119 v122).trips), ∀ (k0_h19 : k0_cond19 k0_t2 = 1#1), ∀ (k0_h24 : k0_cond24 i k0_t2 v119 v122 = 1#1), ∀ a, (k0_off348 i k0_t2 v119 v122 k0_t44) a + S1x16.size a ≤ S256x128.size a := fun i k0_t2 v119 v122 k0_hw21 k0_t44 k0_h19 k0_h24 => k0_hw21.2.2.2.2.2.2.2.2.2.2.2.2.2.2.2.2.2 k0_t44 k0_h19 k0_h24

@[reducible] def k0_t45_loop (i : grid0.Coords) (k0_t2 : Fin k0_t2_loop.trips) (v128 : BitVec 32) (v131 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v129 : BitVec 32 := Scalar.maxsi v128 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_85 : BitVec 32 := 1#32
  ⟨v129, v234, c1_i32_85⟩
def k0_cond25 (i : grid0.Coords) (k0_t2 : Fin k0_t2_loop.trips) (v128 : BitVec 32) (v131 : BitVec 32) : BitVec 1 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v132 : BitVec 32 := Scalar.minsi v131 v77
  let v129 : BitVec 32 := Scalar.maxsi v128 v75
  let v133 : BitVec 1 := Scalar.cmpi .sgt v132 v129
  let v134 : BitVec 32 := Scalar.extui v133
  let c0_i32_70 : BitVec 32 := 0#32
  let v135 : BitVec 1 := Scalar.cmpi .ne v134 c0_i32_70
  v135

def k0_off349 (i : grid0.Coords) (k0_t2 : Fin k0_t2_loop.trips) (v128 : BitVec 32) (v131 : BitVec 32) (k0_t45 : Fin (k0_t45_loop i k0_t2 v128 v131).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v129 : BitVec 32 := Scalar.maxsi v128 v75
  let c1_i32_85 : BitVec 32 := 1#32
  let arg19 : BitVec 32 := Scf.iv v129 c1_i32_85 k0_t45
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off350 (i : grid0.Coords) (k0_t2 : Fin k0_t2_loop.trips) (v128 : BitVec 32) (v131 : BitVec 32) (k0_t45 : Fin (k0_t45_loop i k0_t2 v128 v131).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v129 : BitVec 32 := Scalar.maxsi v128 v75
  let c1_i32_85 : BitVec 32 := 1#32
  let arg19 : BitVec 32 := Scf.iv v129 c1_i32_85 k0_t45
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off351 (i : grid0.Coords) (k0_t2 : Fin k0_t2_loop.trips) (v128 : BitVec 32) (v131 : BitVec 32) (k0_t45 : Fin (k0_t45_loop i k0_t2 v128 v131).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v129 : BitVec 32 := Scalar.maxsi v128 v75
  let c1_i32_85 : BitVec 32 := 1#32
  let arg19 : BitVec 32 := Scf.iv v129 c1_i32_85 k0_t45
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off352 (i : grid0.Coords) (k0_t2 : Fin k0_t2_loop.trips) (v128 : BitVec 32) (v131 : BitVec 32) (k0_t45 : Fin (k0_t45_loop i k0_t2 v128 v131).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v129 : BitVec 32 := Scalar.maxsi v128 v75
  let c1_i32_85 : BitVec 32 := 1#32
  let arg19 : BitVec 32 := Scf.iv v129 c1_i32_85 k0_t45
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off353 (i : grid0.Coords) (k0_t2 : Fin k0_t2_loop.trips) (v128 : BitVec 32) (v131 : BitVec 32) (k0_t45 : Fin (k0_t45_loop i k0_t2 v128 v131).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v129 : BitVec 32 := Scalar.maxsi v128 v75
  let c1_i32_85 : BitVec 32 := 1#32
  let arg19 : BitVec 32 := Scf.iv v129 c1_i32_85 k0_t45
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off354 (i : grid0.Coords) (k0_t2 : Fin k0_t2_loop.trips) (v128 : BitVec 32) (v131 : BitVec 32) (k0_t45 : Fin (k0_t45_loop i k0_t2 v128 v131).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v129 : BitVec 32 := Scalar.maxsi v128 v75
  let c1_i32_85 : BitVec 32 := 1#32
  let arg19 : BitVec 32 := Scf.iv v129 c1_i32_85 k0_t45
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off355 (i : grid0.Coords) (k0_t2 : Fin k0_t2_loop.trips) (v128 : BitVec 32) (v131 : BitVec 32) (k0_t45 : Fin (k0_t45_loop i k0_t2 v128 v131).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v129 : BitVec 32 := Scalar.maxsi v128 v75
  let c1_i32_85 : BitVec 32 := 1#32
  let arg19 : BitVec 32 := Scf.iv v129 c1_i32_85 k0_t45
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off356 (i : grid0.Coords) (k0_t2 : Fin k0_t2_loop.trips) (v128 : BitVec 32) (v131 : BitVec 32) (k0_t45 : Fin (k0_t45_loop i k0_t2 v128 v131).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v129 : BitVec 32 := Scalar.maxsi v128 v75
  let c1_i32_85 : BitVec 32 := 1#32
  let arg19 : BitVec 32 := Scf.iv v129 c1_i32_85 k0_t45
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]
@[reducible] def k0_t46_loop (i : grid0.Coords) (k0_t2 : Fin k0_t2_loop.trips) (v128 : BitVec 32) (v131 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v129 : BitVec 32 := Scalar.maxsi v128 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let v231 : BitVec 32 := Scalar.addi v129 v230
  let c1_i32_86 : BitVec 32 := 1#32
  ⟨v234, v231, c1_i32_86⟩
def k0_off357 (i : grid0.Coords) (k0_t2 : Fin k0_t2_loop.trips) (v128 : BitVec 32) (v131 : BitVec 32) (k0_t46 : Fin (k0_t46_loop i k0_t2 v128 v131).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v129 : BitVec 32 := Scalar.maxsi v128 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_86 : BitVec 32 := 1#32
  let arg19 : BitVec 32 := Scf.iv v234 c1_i32_86 k0_t46
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off358 (i : grid0.Coords) (k0_t2 : Fin k0_t2_loop.trips) (v128 : BitVec 32) (v131 : BitVec 32) (k0_t46 : Fin (k0_t46_loop i k0_t2 v128 v131).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v129 : BitVec 32 := Scalar.maxsi v128 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_86 : BitVec 32 := 1#32
  let arg19 : BitVec 32 := Scf.iv v234 c1_i32_86 k0_t46
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off359 (i : grid0.Coords) (k0_t2 : Fin k0_t2_loop.trips) (v128 : BitVec 32) (v131 : BitVec 32) (k0_t46 : Fin (k0_t46_loop i k0_t2 v128 v131).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v129 : BitVec 32 := Scalar.maxsi v128 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_86 : BitVec 32 := 1#32
  let arg19 : BitVec 32 := Scf.iv v234 c1_i32_86 k0_t46
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off360 (i : grid0.Coords) (k0_t2 : Fin k0_t2_loop.trips) (v128 : BitVec 32) (v131 : BitVec 32) (k0_t46 : Fin (k0_t46_loop i k0_t2 v128 v131).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v129 : BitVec 32 := Scalar.maxsi v128 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_86 : BitVec 32 := 1#32
  let arg19 : BitVec 32 := Scf.iv v234 c1_i32_86 k0_t46
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off361 (i : grid0.Coords) (k0_t2 : Fin k0_t2_loop.trips) (v128 : BitVec 32) (v131 : BitVec 32) (k0_t46 : Fin (k0_t46_loop i k0_t2 v128 v131).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v129 : BitVec 32 := Scalar.maxsi v128 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_86 : BitVec 32 := 1#32
  let arg19 : BitVec 32 := Scf.iv v234 c1_i32_86 k0_t46
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off362 (i : grid0.Coords) (k0_t2 : Fin k0_t2_loop.trips) (v128 : BitVec 32) (v131 : BitVec 32) (k0_t46 : Fin (k0_t46_loop i k0_t2 v128 v131).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v129 : BitVec 32 := Scalar.maxsi v128 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_86 : BitVec 32 := 1#32
  let arg19 : BitVec 32 := Scf.iv v234 c1_i32_86 k0_t46
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off363 (i : grid0.Coords) (k0_t2 : Fin k0_t2_loop.trips) (v128 : BitVec 32) (v131 : BitVec 32) (k0_t46 : Fin (k0_t46_loop i k0_t2 v128 v131).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v129 : BitVec 32 := Scalar.maxsi v128 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_86 : BitVec 32 := 1#32
  let arg19 : BitVec 32 := Scf.iv v234 c1_i32_86 k0_t46
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off364 (i : grid0.Coords) (k0_t2 : Fin k0_t2_loop.trips) (v128 : BitVec 32) (v131 : BitVec 32) (k0_t46 : Fin (k0_t46_loop i k0_t2 v128 v131).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v129 : BitVec 32 := Scalar.maxsi v128 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_86 : BitVec 32 := 1#32
  let arg19 : BitVec 32 := Scf.iv v234 c1_i32_86 k0_t46
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]

def k0_chk22 (i : grid0.Coords) (k0_t2 : Fin k0_t2_loop.trips) (v128 : BitVec 32) (v131 : BitVec 32) : Prop :=
  (∀ (k0_h19 : k0_cond19 k0_t2 = 1#1), ∀ (k0_h25 : k0_cond25 i k0_t2 v128 v131 = 1#1), (k0_t45_loop i k0_t2 v128 v131).OK) ∧
  (∀ k0_t45 : Fin (k0_t45_loop i k0_t2 v128 v131).trips, ∀ (k0_h19 : k0_cond19 k0_t2 = 1#1), ∀ (k0_h25 : k0_cond25 i k0_t2 v128 v131 = 1#1), ∀ a, (k0_off349 i k0_t2 v128 v131 k0_t45) a + S1x16.size a ≤ S256x128.size a) ∧
  (∀ k0_t45 : Fin (k0_t45_loop i k0_t2 v128 v131).trips, ∀ (k0_h19 : k0_cond19 k0_t2 = 1#1), ∀ (k0_h25 : k0_cond25 i k0_t2 v128 v131 = 1#1), ∀ a, (k0_off350 i k0_t2 v128 v131 k0_t45) a + S1x16.size a ≤ S256x128.size a) ∧
  (∀ k0_t45 : Fin (k0_t45_loop i k0_t2 v128 v131).trips, ∀ (k0_h19 : k0_cond19 k0_t2 = 1#1), ∀ (k0_h25 : k0_cond25 i k0_t2 v128 v131 = 1#1), ∀ a, (k0_off351 i k0_t2 v128 v131 k0_t45) a + S1x16.size a ≤ S256x128.size a) ∧
  (∀ k0_t45 : Fin (k0_t45_loop i k0_t2 v128 v131).trips, ∀ (k0_h19 : k0_cond19 k0_t2 = 1#1), ∀ (k0_h25 : k0_cond25 i k0_t2 v128 v131 = 1#1), ∀ a, (k0_off352 i k0_t2 v128 v131 k0_t45) a + S1x16.size a ≤ S256x128.size a) ∧
  (∀ k0_t45 : Fin (k0_t45_loop i k0_t2 v128 v131).trips, ∀ (k0_h19 : k0_cond19 k0_t2 = 1#1), ∀ (k0_h25 : k0_cond25 i k0_t2 v128 v131 = 1#1), ∀ a, (k0_off353 i k0_t2 v128 v131 k0_t45) a + S1x16.size a ≤ S256x128.size a) ∧
  (∀ k0_t45 : Fin (k0_t45_loop i k0_t2 v128 v131).trips, ∀ (k0_h19 : k0_cond19 k0_t2 = 1#1), ∀ (k0_h25 : k0_cond25 i k0_t2 v128 v131 = 1#1), ∀ a, (k0_off354 i k0_t2 v128 v131 k0_t45) a + S1x16.size a ≤ S256x128.size a) ∧
  (∀ k0_t45 : Fin (k0_t45_loop i k0_t2 v128 v131).trips, ∀ (k0_h19 : k0_cond19 k0_t2 = 1#1), ∀ (k0_h25 : k0_cond25 i k0_t2 v128 v131 = 1#1), ∀ a, (k0_off355 i k0_t2 v128 v131 k0_t45) a + S1x16.size a ≤ S256x128.size a) ∧
  (∀ k0_t45 : Fin (k0_t45_loop i k0_t2 v128 v131).trips, ∀ (k0_h19 : k0_cond19 k0_t2 = 1#1), ∀ (k0_h25 : k0_cond25 i k0_t2 v128 v131 = 1#1), ∀ a, (k0_off356 i k0_t2 v128 v131 k0_t45) a + S1x16.size a ≤ S256x128.size a) ∧
  (∀ (k0_h19 : k0_cond19 k0_t2 = 1#1), ∀ (k0_h25 : k0_cond25 i k0_t2 v128 v131 = 1#1), (k0_t46_loop i k0_t2 v128 v131).OK) ∧
  (∀ k0_t46 : Fin (k0_t46_loop i k0_t2 v128 v131).trips, ∀ (k0_h19 : k0_cond19 k0_t2 = 1#1), ∀ (k0_h25 : k0_cond25 i k0_t2 v128 v131 = 1#1), ∀ a, (k0_off357 i k0_t2 v128 v131 k0_t46) a + S1x16.size a ≤ S256x128.size a) ∧
  (∀ k0_t46 : Fin (k0_t46_loop i k0_t2 v128 v131).trips, ∀ (k0_h19 : k0_cond19 k0_t2 = 1#1), ∀ (k0_h25 : k0_cond25 i k0_t2 v128 v131 = 1#1), ∀ a, (k0_off358 i k0_t2 v128 v131 k0_t46) a + S1x16.size a ≤ S256x128.size a) ∧
  (∀ k0_t46 : Fin (k0_t46_loop i k0_t2 v128 v131).trips, ∀ (k0_h19 : k0_cond19 k0_t2 = 1#1), ∀ (k0_h25 : k0_cond25 i k0_t2 v128 v131 = 1#1), ∀ a, (k0_off359 i k0_t2 v128 v131 k0_t46) a + S1x16.size a ≤ S256x128.size a) ∧
  (∀ k0_t46 : Fin (k0_t46_loop i k0_t2 v128 v131).trips, ∀ (k0_h19 : k0_cond19 k0_t2 = 1#1), ∀ (k0_h25 : k0_cond25 i k0_t2 v128 v131 = 1#1), ∀ a, (k0_off360 i k0_t2 v128 v131 k0_t46) a + S1x16.size a ≤ S256x128.size a) ∧
  (∀ k0_t46 : Fin (k0_t46_loop i k0_t2 v128 v131).trips, ∀ (k0_h19 : k0_cond19 k0_t2 = 1#1), ∀ (k0_h25 : k0_cond25 i k0_t2 v128 v131 = 1#1), ∀ a, (k0_off361 i k0_t2 v128 v131 k0_t46) a + S1x16.size a ≤ S256x128.size a) ∧
  (∀ k0_t46 : Fin (k0_t46_loop i k0_t2 v128 v131).trips, ∀ (k0_h19 : k0_cond19 k0_t2 = 1#1), ∀ (k0_h25 : k0_cond25 i k0_t2 v128 v131 = 1#1), ∀ a, (k0_off362 i k0_t2 v128 v131 k0_t46) a + S1x16.size a ≤ S256x128.size a) ∧
  (∀ k0_t46 : Fin (k0_t46_loop i k0_t2 v128 v131).trips, ∀ (k0_h19 : k0_cond19 k0_t2 = 1#1), ∀ (k0_h25 : k0_cond25 i k0_t2 v128 v131 = 1#1), ∀ a, (k0_off363 i k0_t2 v128 v131 k0_t46) a + S1x16.size a ≤ S256x128.size a) ∧
  (∀ k0_t46 : Fin (k0_t46_loop i k0_t2 v128 v131).trips, ∀ (k0_h19 : k0_cond19 k0_t2 = 1#1), ∀ (k0_h25 : k0_cond25 i k0_t2 v128 v131 = 1#1), ∀ a, (k0_off364 i k0_t2 v128 v131 k0_t46) a + S1x16.size a ≤ S256x128.size a)
theorem k0_t45_ok : ∀ (i : grid0.Coords) (k0_t2 : Fin k0_t2_loop.trips) (v128 : BitVec 32) (v131 : BitVec 32) (k0_hw22 : k0_chk22 i k0_t2 v128 v131), ∀ (k0_h19 : k0_cond19 k0_t2 = 1#1), ∀ (k0_h25 : k0_cond25 i k0_t2 v128 v131 = 1#1), (k0_t45_loop i k0_t2 v128 v131).OK := fun i k0_t2 v128 v131 k0_hw22 k0_h19 k0_h25 => k0_hw22.1 k0_h19 k0_h25
theorem k0_off349_inb : ∀ (i : grid0.Coords) (k0_t2 : Fin k0_t2_loop.trips) (v128 : BitVec 32) (v131 : BitVec 32) (k0_hw22 : k0_chk22 i k0_t2 v128 v131) (k0_t45 : Fin (k0_t45_loop i k0_t2 v128 v131).trips), ∀ (k0_h19 : k0_cond19 k0_t2 = 1#1), ∀ (k0_h25 : k0_cond25 i k0_t2 v128 v131 = 1#1), ∀ a, (k0_off349 i k0_t2 v128 v131 k0_t45) a + S1x16.size a ≤ S256x128.size a := fun i k0_t2 v128 v131 k0_hw22 k0_t45 k0_h19 k0_h25 => k0_hw22.2.1 k0_t45 k0_h19 k0_h25
theorem k0_off350_inb : ∀ (i : grid0.Coords) (k0_t2 : Fin k0_t2_loop.trips) (v128 : BitVec 32) (v131 : BitVec 32) (k0_hw22 : k0_chk22 i k0_t2 v128 v131) (k0_t45 : Fin (k0_t45_loop i k0_t2 v128 v131).trips), ∀ (k0_h19 : k0_cond19 k0_t2 = 1#1), ∀ (k0_h25 : k0_cond25 i k0_t2 v128 v131 = 1#1), ∀ a, (k0_off350 i k0_t2 v128 v131 k0_t45) a + S1x16.size a ≤ S256x128.size a := fun i k0_t2 v128 v131 k0_hw22 k0_t45 k0_h19 k0_h25 => k0_hw22.2.2.1 k0_t45 k0_h19 k0_h25
theorem k0_off351_inb : ∀ (i : grid0.Coords) (k0_t2 : Fin k0_t2_loop.trips) (v128 : BitVec 32) (v131 : BitVec 32) (k0_hw22 : k0_chk22 i k0_t2 v128 v131) (k0_t45 : Fin (k0_t45_loop i k0_t2 v128 v131).trips), ∀ (k0_h19 : k0_cond19 k0_t2 = 1#1), ∀ (k0_h25 : k0_cond25 i k0_t2 v128 v131 = 1#1), ∀ a, (k0_off351 i k0_t2 v128 v131 k0_t45) a + S1x16.size a ≤ S256x128.size a := fun i k0_t2 v128 v131 k0_hw22 k0_t45 k0_h19 k0_h25 => k0_hw22.2.2.2.1 k0_t45 k0_h19 k0_h25
theorem k0_off352_inb : ∀ (i : grid0.Coords) (k0_t2 : Fin k0_t2_loop.trips) (v128 : BitVec 32) (v131 : BitVec 32) (k0_hw22 : k0_chk22 i k0_t2 v128 v131) (k0_t45 : Fin (k0_t45_loop i k0_t2 v128 v131).trips), ∀ (k0_h19 : k0_cond19 k0_t2 = 1#1), ∀ (k0_h25 : k0_cond25 i k0_t2 v128 v131 = 1#1), ∀ a, (k0_off352 i k0_t2 v128 v131 k0_t45) a + S1x16.size a ≤ S256x128.size a := fun i k0_t2 v128 v131 k0_hw22 k0_t45 k0_h19 k0_h25 => k0_hw22.2.2.2.2.1 k0_t45 k0_h19 k0_h25
theorem k0_off353_inb : ∀ (i : grid0.Coords) (k0_t2 : Fin k0_t2_loop.trips) (v128 : BitVec 32) (v131 : BitVec 32) (k0_hw22 : k0_chk22 i k0_t2 v128 v131) (k0_t45 : Fin (k0_t45_loop i k0_t2 v128 v131).trips), ∀ (k0_h19 : k0_cond19 k0_t2 = 1#1), ∀ (k0_h25 : k0_cond25 i k0_t2 v128 v131 = 1#1), ∀ a, (k0_off353 i k0_t2 v128 v131 k0_t45) a + S1x16.size a ≤ S256x128.size a := fun i k0_t2 v128 v131 k0_hw22 k0_t45 k0_h19 k0_h25 => k0_hw22.2.2.2.2.2.1 k0_t45 k0_h19 k0_h25
theorem k0_off354_inb : ∀ (i : grid0.Coords) (k0_t2 : Fin k0_t2_loop.trips) (v128 : BitVec 32) (v131 : BitVec 32) (k0_hw22 : k0_chk22 i k0_t2 v128 v131) (k0_t45 : Fin (k0_t45_loop i k0_t2 v128 v131).trips), ∀ (k0_h19 : k0_cond19 k0_t2 = 1#1), ∀ (k0_h25 : k0_cond25 i k0_t2 v128 v131 = 1#1), ∀ a, (k0_off354 i k0_t2 v128 v131 k0_t45) a + S1x16.size a ≤ S256x128.size a := fun i k0_t2 v128 v131 k0_hw22 k0_t45 k0_h19 k0_h25 => k0_hw22.2.2.2.2.2.2.1 k0_t45 k0_h19 k0_h25
theorem k0_off355_inb : ∀ (i : grid0.Coords) (k0_t2 : Fin k0_t2_loop.trips) (v128 : BitVec 32) (v131 : BitVec 32) (k0_hw22 : k0_chk22 i k0_t2 v128 v131) (k0_t45 : Fin (k0_t45_loop i k0_t2 v128 v131).trips), ∀ (k0_h19 : k0_cond19 k0_t2 = 1#1), ∀ (k0_h25 : k0_cond25 i k0_t2 v128 v131 = 1#1), ∀ a, (k0_off355 i k0_t2 v128 v131 k0_t45) a + S1x16.size a ≤ S256x128.size a := fun i k0_t2 v128 v131 k0_hw22 k0_t45 k0_h19 k0_h25 => k0_hw22.2.2.2.2.2.2.2.1 k0_t45 k0_h19 k0_h25
theorem k0_off356_inb : ∀ (i : grid0.Coords) (k0_t2 : Fin k0_t2_loop.trips) (v128 : BitVec 32) (v131 : BitVec 32) (k0_hw22 : k0_chk22 i k0_t2 v128 v131) (k0_t45 : Fin (k0_t45_loop i k0_t2 v128 v131).trips), ∀ (k0_h19 : k0_cond19 k0_t2 = 1#1), ∀ (k0_h25 : k0_cond25 i k0_t2 v128 v131 = 1#1), ∀ a, (k0_off356 i k0_t2 v128 v131 k0_t45) a + S1x16.size a ≤ S256x128.size a := fun i k0_t2 v128 v131 k0_hw22 k0_t45 k0_h19 k0_h25 => k0_hw22.2.2.2.2.2.2.2.2.1 k0_t45 k0_h19 k0_h25
theorem k0_t46_ok : ∀ (i : grid0.Coords) (k0_t2 : Fin k0_t2_loop.trips) (v128 : BitVec 32) (v131 : BitVec 32) (k0_hw22 : k0_chk22 i k0_t2 v128 v131), ∀ (k0_h19 : k0_cond19 k0_t2 = 1#1), ∀ (k0_h25 : k0_cond25 i k0_t2 v128 v131 = 1#1), (k0_t46_loop i k0_t2 v128 v131).OK := fun i k0_t2 v128 v131 k0_hw22 k0_h19 k0_h25 => k0_hw22.2.2.2.2.2.2.2.2.2.1 k0_h19 k0_h25
theorem k0_off357_inb : ∀ (i : grid0.Coords) (k0_t2 : Fin k0_t2_loop.trips) (v128 : BitVec 32) (v131 : BitVec 32) (k0_hw22 : k0_chk22 i k0_t2 v128 v131) (k0_t46 : Fin (k0_t46_loop i k0_t2 v128 v131).trips), ∀ (k0_h19 : k0_cond19 k0_t2 = 1#1), ∀ (k0_h25 : k0_cond25 i k0_t2 v128 v131 = 1#1), ∀ a, (k0_off357 i k0_t2 v128 v131 k0_t46) a + S1x16.size a ≤ S256x128.size a := fun i k0_t2 v128 v131 k0_hw22 k0_t46 k0_h19 k0_h25 => k0_hw22.2.2.2.2.2.2.2.2.2.2.1 k0_t46 k0_h19 k0_h25
theorem k0_off358_inb : ∀ (i : grid0.Coords) (k0_t2 : Fin k0_t2_loop.trips) (v128 : BitVec 32) (v131 : BitVec 32) (k0_hw22 : k0_chk22 i k0_t2 v128 v131) (k0_t46 : Fin (k0_t46_loop i k0_t2 v128 v131).trips), ∀ (k0_h19 : k0_cond19 k0_t2 = 1#1), ∀ (k0_h25 : k0_cond25 i k0_t2 v128 v131 = 1#1), ∀ a, (k0_off358 i k0_t2 v128 v131 k0_t46) a + S1x16.size a ≤ S256x128.size a := fun i k0_t2 v128 v131 k0_hw22 k0_t46 k0_h19 k0_h25 => k0_hw22.2.2.2.2.2.2.2.2.2.2.2.1 k0_t46 k0_h19 k0_h25
theorem k0_off359_inb : ∀ (i : grid0.Coords) (k0_t2 : Fin k0_t2_loop.trips) (v128 : BitVec 32) (v131 : BitVec 32) (k0_hw22 : k0_chk22 i k0_t2 v128 v131) (k0_t46 : Fin (k0_t46_loop i k0_t2 v128 v131).trips), ∀ (k0_h19 : k0_cond19 k0_t2 = 1#1), ∀ (k0_h25 : k0_cond25 i k0_t2 v128 v131 = 1#1), ∀ a, (k0_off359 i k0_t2 v128 v131 k0_t46) a + S1x16.size a ≤ S256x128.size a := fun i k0_t2 v128 v131 k0_hw22 k0_t46 k0_h19 k0_h25 => k0_hw22.2.2.2.2.2.2.2.2.2.2.2.2.1 k0_t46 k0_h19 k0_h25
theorem k0_off360_inb : ∀ (i : grid0.Coords) (k0_t2 : Fin k0_t2_loop.trips) (v128 : BitVec 32) (v131 : BitVec 32) (k0_hw22 : k0_chk22 i k0_t2 v128 v131) (k0_t46 : Fin (k0_t46_loop i k0_t2 v128 v131).trips), ∀ (k0_h19 : k0_cond19 k0_t2 = 1#1), ∀ (k0_h25 : k0_cond25 i k0_t2 v128 v131 = 1#1), ∀ a, (k0_off360 i k0_t2 v128 v131 k0_t46) a + S1x16.size a ≤ S256x128.size a := fun i k0_t2 v128 v131 k0_hw22 k0_t46 k0_h19 k0_h25 => k0_hw22.2.2.2.2.2.2.2.2.2.2.2.2.2.1 k0_t46 k0_h19 k0_h25
theorem k0_off361_inb : ∀ (i : grid0.Coords) (k0_t2 : Fin k0_t2_loop.trips) (v128 : BitVec 32) (v131 : BitVec 32) (k0_hw22 : k0_chk22 i k0_t2 v128 v131) (k0_t46 : Fin (k0_t46_loop i k0_t2 v128 v131).trips), ∀ (k0_h19 : k0_cond19 k0_t2 = 1#1), ∀ (k0_h25 : k0_cond25 i k0_t2 v128 v131 = 1#1), ∀ a, (k0_off361 i k0_t2 v128 v131 k0_t46) a + S1x16.size a ≤ S256x128.size a := fun i k0_t2 v128 v131 k0_hw22 k0_t46 k0_h19 k0_h25 => k0_hw22.2.2.2.2.2.2.2.2.2.2.2.2.2.2.1 k0_t46 k0_h19 k0_h25
theorem k0_off362_inb : ∀ (i : grid0.Coords) (k0_t2 : Fin k0_t2_loop.trips) (v128 : BitVec 32) (v131 : BitVec 32) (k0_hw22 : k0_chk22 i k0_t2 v128 v131) (k0_t46 : Fin (k0_t46_loop i k0_t2 v128 v131).trips), ∀ (k0_h19 : k0_cond19 k0_t2 = 1#1), ∀ (k0_h25 : k0_cond25 i k0_t2 v128 v131 = 1#1), ∀ a, (k0_off362 i k0_t2 v128 v131 k0_t46) a + S1x16.size a ≤ S256x128.size a := fun i k0_t2 v128 v131 k0_hw22 k0_t46 k0_h19 k0_h25 => k0_hw22.2.2.2.2.2.2.2.2.2.2.2.2.2.2.2.1 k0_t46 k0_h19 k0_h25
theorem k0_off363_inb : ∀ (i : grid0.Coords) (k0_t2 : Fin k0_t2_loop.trips) (v128 : BitVec 32) (v131 : BitVec 32) (k0_hw22 : k0_chk22 i k0_t2 v128 v131) (k0_t46 : Fin (k0_t46_loop i k0_t2 v128 v131).trips), ∀ (k0_h19 : k0_cond19 k0_t2 = 1#1), ∀ (k0_h25 : k0_cond25 i k0_t2 v128 v131 = 1#1), ∀ a, (k0_off363 i k0_t2 v128 v131 k0_t46) a + S1x16.size a ≤ S256x128.size a := fun i k0_t2 v128 v131 k0_hw22 k0_t46 k0_h19 k0_h25 => k0_hw22.2.2.2.2.2.2.2.2.2.2.2.2.2.2.2.2.1 k0_t46 k0_h19 k0_h25
theorem k0_off364_inb : ∀ (i : grid0.Coords) (k0_t2 : Fin k0_t2_loop.trips) (v128 : BitVec 32) (v131 : BitVec 32) (k0_hw22 : k0_chk22 i k0_t2 v128 v131) (k0_t46 : Fin (k0_t46_loop i k0_t2 v128 v131).trips), ∀ (k0_h19 : k0_cond19 k0_t2 = 1#1), ∀ (k0_h25 : k0_cond25 i k0_t2 v128 v131 = 1#1), ∀ a, (k0_off364 i k0_t2 v128 v131 k0_t46) a + S1x16.size a ≤ S256x128.size a := fun i k0_t2 v128 v131 k0_hw22 k0_t46 k0_h19 k0_h25 => k0_hw22.2.2.2.2.2.2.2.2.2.2.2.2.2.2.2.2.2 k0_t46 k0_h19 k0_h25

@[reducible] def k0_t47_loop (i : grid0.Coords) (k0_t2 : Fin k0_t2_loop.trips) (v137 : BitVec 32) (v140 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v138 : BitVec 32 := Scalar.maxsi v137 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_85 : BitVec 32 := 1#32
  ⟨v138, v234, c1_i32_85⟩
def k0_cond26 (i : grid0.Coords) (k0_t2 : Fin k0_t2_loop.trips) (v137 : BitVec 32) (v140 : BitVec 32) : BitVec 1 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v141 : BitVec 32 := Scalar.minsi v140 v77
  let v138 : BitVec 32 := Scalar.maxsi v137 v75
  let v142 : BitVec 1 := Scalar.cmpi .sgt v141 v138
  let v143 : BitVec 32 := Scalar.extui v142
  let c0_i32_71 : BitVec 32 := 0#32
  let v144 : BitVec 1 := Scalar.cmpi .ne v143 c0_i32_71
  v144

def k0_off365 (i : grid0.Coords) (k0_t2 : Fin k0_t2_loop.trips) (v137 : BitVec 32) (v140 : BitVec 32) (k0_t47 : Fin (k0_t47_loop i k0_t2 v137 v140).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v138 : BitVec 32 := Scalar.maxsi v137 v75
  let c1_i32_85 : BitVec 32 := 1#32
  let arg19 : BitVec 32 := Scf.iv v138 c1_i32_85 k0_t47
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off366 (i : grid0.Coords) (k0_t2 : Fin k0_t2_loop.trips) (v137 : BitVec 32) (v140 : BitVec 32) (k0_t47 : Fin (k0_t47_loop i k0_t2 v137 v140).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v138 : BitVec 32 := Scalar.maxsi v137 v75
  let c1_i32_85 : BitVec 32 := 1#32
  let arg19 : BitVec 32 := Scf.iv v138 c1_i32_85 k0_t47
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off367 (i : grid0.Coords) (k0_t2 : Fin k0_t2_loop.trips) (v137 : BitVec 32) (v140 : BitVec 32) (k0_t47 : Fin (k0_t47_loop i k0_t2 v137 v140).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v138 : BitVec 32 := Scalar.maxsi v137 v75
  let c1_i32_85 : BitVec 32 := 1#32
  let arg19 : BitVec 32 := Scf.iv v138 c1_i32_85 k0_t47
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off368 (i : grid0.Coords) (k0_t2 : Fin k0_t2_loop.trips) (v137 : BitVec 32) (v140 : BitVec 32) (k0_t47 : Fin (k0_t47_loop i k0_t2 v137 v140).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v138 : BitVec 32 := Scalar.maxsi v137 v75
  let c1_i32_85 : BitVec 32 := 1#32
  let arg19 : BitVec 32 := Scf.iv v138 c1_i32_85 k0_t47
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off369 (i : grid0.Coords) (k0_t2 : Fin k0_t2_loop.trips) (v137 : BitVec 32) (v140 : BitVec 32) (k0_t47 : Fin (k0_t47_loop i k0_t2 v137 v140).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v138 : BitVec 32 := Scalar.maxsi v137 v75
  let c1_i32_85 : BitVec 32 := 1#32
  let arg19 : BitVec 32 := Scf.iv v138 c1_i32_85 k0_t47
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off370 (i : grid0.Coords) (k0_t2 : Fin k0_t2_loop.trips) (v137 : BitVec 32) (v140 : BitVec 32) (k0_t47 : Fin (k0_t47_loop i k0_t2 v137 v140).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v138 : BitVec 32 := Scalar.maxsi v137 v75
  let c1_i32_85 : BitVec 32 := 1#32
  let arg19 : BitVec 32 := Scf.iv v138 c1_i32_85 k0_t47
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off371 (i : grid0.Coords) (k0_t2 : Fin k0_t2_loop.trips) (v137 : BitVec 32) (v140 : BitVec 32) (k0_t47 : Fin (k0_t47_loop i k0_t2 v137 v140).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v138 : BitVec 32 := Scalar.maxsi v137 v75
  let c1_i32_85 : BitVec 32 := 1#32
  let arg19 : BitVec 32 := Scf.iv v138 c1_i32_85 k0_t47
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off372 (i : grid0.Coords) (k0_t2 : Fin k0_t2_loop.trips) (v137 : BitVec 32) (v140 : BitVec 32) (k0_t47 : Fin (k0_t47_loop i k0_t2 v137 v140).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v138 : BitVec 32 := Scalar.maxsi v137 v75
  let c1_i32_85 : BitVec 32 := 1#32
  let arg19 : BitVec 32 := Scf.iv v138 c1_i32_85 k0_t47
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]
@[reducible] def k0_t48_loop (i : grid0.Coords) (k0_t2 : Fin k0_t2_loop.trips) (v137 : BitVec 32) (v140 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v138 : BitVec 32 := Scalar.maxsi v137 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let v231 : BitVec 32 := Scalar.addi v138 v230
  let c1_i32_86 : BitVec 32 := 1#32
  ⟨v234, v231, c1_i32_86⟩
def k0_off373 (i : grid0.Coords) (k0_t2 : Fin k0_t2_loop.trips) (v137 : BitVec 32) (v140 : BitVec 32) (k0_t48 : Fin (k0_t48_loop i k0_t2 v137 v140).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v138 : BitVec 32 := Scalar.maxsi v137 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_86 : BitVec 32 := 1#32
  let arg19 : BitVec 32 := Scf.iv v234 c1_i32_86 k0_t48
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off374 (i : grid0.Coords) (k0_t2 : Fin k0_t2_loop.trips) (v137 : BitVec 32) (v140 : BitVec 32) (k0_t48 : Fin (k0_t48_loop i k0_t2 v137 v140).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v138 : BitVec 32 := Scalar.maxsi v137 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_86 : BitVec 32 := 1#32
  let arg19 : BitVec 32 := Scf.iv v234 c1_i32_86 k0_t48
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off375 (i : grid0.Coords) (k0_t2 : Fin k0_t2_loop.trips) (v137 : BitVec 32) (v140 : BitVec 32) (k0_t48 : Fin (k0_t48_loop i k0_t2 v137 v140).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v138 : BitVec 32 := Scalar.maxsi v137 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_86 : BitVec 32 := 1#32
  let arg19 : BitVec 32 := Scf.iv v234 c1_i32_86 k0_t48
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off376 (i : grid0.Coords) (k0_t2 : Fin k0_t2_loop.trips) (v137 : BitVec 32) (v140 : BitVec 32) (k0_t48 : Fin (k0_t48_loop i k0_t2 v137 v140).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v138 : BitVec 32 := Scalar.maxsi v137 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_86 : BitVec 32 := 1#32
  let arg19 : BitVec 32 := Scf.iv v234 c1_i32_86 k0_t48
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off377 (i : grid0.Coords) (k0_t2 : Fin k0_t2_loop.trips) (v137 : BitVec 32) (v140 : BitVec 32) (k0_t48 : Fin (k0_t48_loop i k0_t2 v137 v140).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v138 : BitVec 32 := Scalar.maxsi v137 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_86 : BitVec 32 := 1#32
  let arg19 : BitVec 32 := Scf.iv v234 c1_i32_86 k0_t48
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off378 (i : grid0.Coords) (k0_t2 : Fin k0_t2_loop.trips) (v137 : BitVec 32) (v140 : BitVec 32) (k0_t48 : Fin (k0_t48_loop i k0_t2 v137 v140).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v138 : BitVec 32 := Scalar.maxsi v137 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_86 : BitVec 32 := 1#32
  let arg19 : BitVec 32 := Scf.iv v234 c1_i32_86 k0_t48
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off379 (i : grid0.Coords) (k0_t2 : Fin k0_t2_loop.trips) (v137 : BitVec 32) (v140 : BitVec 32) (k0_t48 : Fin (k0_t48_loop i k0_t2 v137 v140).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v138 : BitVec 32 := Scalar.maxsi v137 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_86 : BitVec 32 := 1#32
  let arg19 : BitVec 32 := Scf.iv v234 c1_i32_86 k0_t48
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off380 (i : grid0.Coords) (k0_t2 : Fin k0_t2_loop.trips) (v137 : BitVec 32) (v140 : BitVec 32) (k0_t48 : Fin (k0_t48_loop i k0_t2 v137 v140).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v138 : BitVec 32 := Scalar.maxsi v137 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_86 : BitVec 32 := 1#32
  let arg19 : BitVec 32 := Scf.iv v234 c1_i32_86 k0_t48
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]

def k0_chk23 (i : grid0.Coords) (k0_t2 : Fin k0_t2_loop.trips) (v137 : BitVec 32) (v140 : BitVec 32) : Prop :=
  (∀ (k0_h19 : k0_cond19 k0_t2 = 1#1), ∀ (k0_h26 : k0_cond26 i k0_t2 v137 v140 = 1#1), (k0_t47_loop i k0_t2 v137 v140).OK) ∧
  (∀ k0_t47 : Fin (k0_t47_loop i k0_t2 v137 v140).trips, ∀ (k0_h19 : k0_cond19 k0_t2 = 1#1), ∀ (k0_h26 : k0_cond26 i k0_t2 v137 v140 = 1#1), ∀ a, (k0_off365 i k0_t2 v137 v140 k0_t47) a + S1x16.size a ≤ S256x128.size a) ∧
  (∀ k0_t47 : Fin (k0_t47_loop i k0_t2 v137 v140).trips, ∀ (k0_h19 : k0_cond19 k0_t2 = 1#1), ∀ (k0_h26 : k0_cond26 i k0_t2 v137 v140 = 1#1), ∀ a, (k0_off366 i k0_t2 v137 v140 k0_t47) a + S1x16.size a ≤ S256x128.size a) ∧
  (∀ k0_t47 : Fin (k0_t47_loop i k0_t2 v137 v140).trips, ∀ (k0_h19 : k0_cond19 k0_t2 = 1#1), ∀ (k0_h26 : k0_cond26 i k0_t2 v137 v140 = 1#1), ∀ a, (k0_off367 i k0_t2 v137 v140 k0_t47) a + S1x16.size a ≤ S256x128.size a) ∧
  (∀ k0_t47 : Fin (k0_t47_loop i k0_t2 v137 v140).trips, ∀ (k0_h19 : k0_cond19 k0_t2 = 1#1), ∀ (k0_h26 : k0_cond26 i k0_t2 v137 v140 = 1#1), ∀ a, (k0_off368 i k0_t2 v137 v140 k0_t47) a + S1x16.size a ≤ S256x128.size a) ∧
  (∀ k0_t47 : Fin (k0_t47_loop i k0_t2 v137 v140).trips, ∀ (k0_h19 : k0_cond19 k0_t2 = 1#1), ∀ (k0_h26 : k0_cond26 i k0_t2 v137 v140 = 1#1), ∀ a, (k0_off369 i k0_t2 v137 v140 k0_t47) a + S1x16.size a ≤ S256x128.size a) ∧
  (∀ k0_t47 : Fin (k0_t47_loop i k0_t2 v137 v140).trips, ∀ (k0_h19 : k0_cond19 k0_t2 = 1#1), ∀ (k0_h26 : k0_cond26 i k0_t2 v137 v140 = 1#1), ∀ a, (k0_off370 i k0_t2 v137 v140 k0_t47) a + S1x16.size a ≤ S256x128.size a) ∧
  (∀ k0_t47 : Fin (k0_t47_loop i k0_t2 v137 v140).trips, ∀ (k0_h19 : k0_cond19 k0_t2 = 1#1), ∀ (k0_h26 : k0_cond26 i k0_t2 v137 v140 = 1#1), ∀ a, (k0_off371 i k0_t2 v137 v140 k0_t47) a + S1x16.size a ≤ S256x128.size a) ∧
  (∀ k0_t47 : Fin (k0_t47_loop i k0_t2 v137 v140).trips, ∀ (k0_h19 : k0_cond19 k0_t2 = 1#1), ∀ (k0_h26 : k0_cond26 i k0_t2 v137 v140 = 1#1), ∀ a, (k0_off372 i k0_t2 v137 v140 k0_t47) a + S1x16.size a ≤ S256x128.size a) ∧
  (∀ (k0_h19 : k0_cond19 k0_t2 = 1#1), ∀ (k0_h26 : k0_cond26 i k0_t2 v137 v140 = 1#1), (k0_t48_loop i k0_t2 v137 v140).OK) ∧
  (∀ k0_t48 : Fin (k0_t48_loop i k0_t2 v137 v140).trips, ∀ (k0_h19 : k0_cond19 k0_t2 = 1#1), ∀ (k0_h26 : k0_cond26 i k0_t2 v137 v140 = 1#1), ∀ a, (k0_off373 i k0_t2 v137 v140 k0_t48) a + S1x16.size a ≤ S256x128.size a) ∧
  (∀ k0_t48 : Fin (k0_t48_loop i k0_t2 v137 v140).trips, ∀ (k0_h19 : k0_cond19 k0_t2 = 1#1), ∀ (k0_h26 : k0_cond26 i k0_t2 v137 v140 = 1#1), ∀ a, (k0_off374 i k0_t2 v137 v140 k0_t48) a + S1x16.size a ≤ S256x128.size a) ∧
  (∀ k0_t48 : Fin (k0_t48_loop i k0_t2 v137 v140).trips, ∀ (k0_h19 : k0_cond19 k0_t2 = 1#1), ∀ (k0_h26 : k0_cond26 i k0_t2 v137 v140 = 1#1), ∀ a, (k0_off375 i k0_t2 v137 v140 k0_t48) a + S1x16.size a ≤ S256x128.size a) ∧
  (∀ k0_t48 : Fin (k0_t48_loop i k0_t2 v137 v140).trips, ∀ (k0_h19 : k0_cond19 k0_t2 = 1#1), ∀ (k0_h26 : k0_cond26 i k0_t2 v137 v140 = 1#1), ∀ a, (k0_off376 i k0_t2 v137 v140 k0_t48) a + S1x16.size a ≤ S256x128.size a) ∧
  (∀ k0_t48 : Fin (k0_t48_loop i k0_t2 v137 v140).trips, ∀ (k0_h19 : k0_cond19 k0_t2 = 1#1), ∀ (k0_h26 : k0_cond26 i k0_t2 v137 v140 = 1#1), ∀ a, (k0_off377 i k0_t2 v137 v140 k0_t48) a + S1x16.size a ≤ S256x128.size a) ∧
  (∀ k0_t48 : Fin (k0_t48_loop i k0_t2 v137 v140).trips, ∀ (k0_h19 : k0_cond19 k0_t2 = 1#1), ∀ (k0_h26 : k0_cond26 i k0_t2 v137 v140 = 1#1), ∀ a, (k0_off378 i k0_t2 v137 v140 k0_t48) a + S1x16.size a ≤ S256x128.size a) ∧
  (∀ k0_t48 : Fin (k0_t48_loop i k0_t2 v137 v140).trips, ∀ (k0_h19 : k0_cond19 k0_t2 = 1#1), ∀ (k0_h26 : k0_cond26 i k0_t2 v137 v140 = 1#1), ∀ a, (k0_off379 i k0_t2 v137 v140 k0_t48) a + S1x16.size a ≤ S256x128.size a) ∧
  (∀ k0_t48 : Fin (k0_t48_loop i k0_t2 v137 v140).trips, ∀ (k0_h19 : k0_cond19 k0_t2 = 1#1), ∀ (k0_h26 : k0_cond26 i k0_t2 v137 v140 = 1#1), ∀ a, (k0_off380 i k0_t2 v137 v140 k0_t48) a + S1x16.size a ≤ S256x128.size a)
theorem k0_t47_ok : ∀ (i : grid0.Coords) (k0_t2 : Fin k0_t2_loop.trips) (v137 : BitVec 32) (v140 : BitVec 32) (k0_hw23 : k0_chk23 i k0_t2 v137 v140), ∀ (k0_h19 : k0_cond19 k0_t2 = 1#1), ∀ (k0_h26 : k0_cond26 i k0_t2 v137 v140 = 1#1), (k0_t47_loop i k0_t2 v137 v140).OK := fun i k0_t2 v137 v140 k0_hw23 k0_h19 k0_h26 => k0_hw23.1 k0_h19 k0_h26
theorem k0_off365_inb : ∀ (i : grid0.Coords) (k0_t2 : Fin k0_t2_loop.trips) (v137 : BitVec 32) (v140 : BitVec 32) (k0_hw23 : k0_chk23 i k0_t2 v137 v140) (k0_t47 : Fin (k0_t47_loop i k0_t2 v137 v140).trips), ∀ (k0_h19 : k0_cond19 k0_t2 = 1#1), ∀ (k0_h26 : k0_cond26 i k0_t2 v137 v140 = 1#1), ∀ a, (k0_off365 i k0_t2 v137 v140 k0_t47) a + S1x16.size a ≤ S256x128.size a := fun i k0_t2 v137 v140 k0_hw23 k0_t47 k0_h19 k0_h26 => k0_hw23.2.1 k0_t47 k0_h19 k0_h26
theorem k0_off366_inb : ∀ (i : grid0.Coords) (k0_t2 : Fin k0_t2_loop.trips) (v137 : BitVec 32) (v140 : BitVec 32) (k0_hw23 : k0_chk23 i k0_t2 v137 v140) (k0_t47 : Fin (k0_t47_loop i k0_t2 v137 v140).trips), ∀ (k0_h19 : k0_cond19 k0_t2 = 1#1), ∀ (k0_h26 : k0_cond26 i k0_t2 v137 v140 = 1#1), ∀ a, (k0_off366 i k0_t2 v137 v140 k0_t47) a + S1x16.size a ≤ S256x128.size a := fun i k0_t2 v137 v140 k0_hw23 k0_t47 k0_h19 k0_h26 => k0_hw23.2.2.1 k0_t47 k0_h19 k0_h26
theorem k0_off367_inb : ∀ (i : grid0.Coords) (k0_t2 : Fin k0_t2_loop.trips) (v137 : BitVec 32) (v140 : BitVec 32) (k0_hw23 : k0_chk23 i k0_t2 v137 v140) (k0_t47 : Fin (k0_t47_loop i k0_t2 v137 v140).trips), ∀ (k0_h19 : k0_cond19 k0_t2 = 1#1), ∀ (k0_h26 : k0_cond26 i k0_t2 v137 v140 = 1#1), ∀ a, (k0_off367 i k0_t2 v137 v140 k0_t47) a + S1x16.size a ≤ S256x128.size a := fun i k0_t2 v137 v140 k0_hw23 k0_t47 k0_h19 k0_h26 => k0_hw23.2.2.2.1 k0_t47 k0_h19 k0_h26
theorem k0_off368_inb : ∀ (i : grid0.Coords) (k0_t2 : Fin k0_t2_loop.trips) (v137 : BitVec 32) (v140 : BitVec 32) (k0_hw23 : k0_chk23 i k0_t2 v137 v140) (k0_t47 : Fin (k0_t47_loop i k0_t2 v137 v140).trips), ∀ (k0_h19 : k0_cond19 k0_t2 = 1#1), ∀ (k0_h26 : k0_cond26 i k0_t2 v137 v140 = 1#1), ∀ a, (k0_off368 i k0_t2 v137 v140 k0_t47) a + S1x16.size a ≤ S256x128.size a := fun i k0_t2 v137 v140 k0_hw23 k0_t47 k0_h19 k0_h26 => k0_hw23.2.2.2.2.1 k0_t47 k0_h19 k0_h26
theorem k0_off369_inb : ∀ (i : grid0.Coords) (k0_t2 : Fin k0_t2_loop.trips) (v137 : BitVec 32) (v140 : BitVec 32) (k0_hw23 : k0_chk23 i k0_t2 v137 v140) (k0_t47 : Fin (k0_t47_loop i k0_t2 v137 v140).trips), ∀ (k0_h19 : k0_cond19 k0_t2 = 1#1), ∀ (k0_h26 : k0_cond26 i k0_t2 v137 v140 = 1#1), ∀ a, (k0_off369 i k0_t2 v137 v140 k0_t47) a + S1x16.size a ≤ S256x128.size a := fun i k0_t2 v137 v140 k0_hw23 k0_t47 k0_h19 k0_h26 => k0_hw23.2.2.2.2.2.1 k0_t47 k0_h19 k0_h26
theorem k0_off370_inb : ∀ (i : grid0.Coords) (k0_t2 : Fin k0_t2_loop.trips) (v137 : BitVec 32) (v140 : BitVec 32) (k0_hw23 : k0_chk23 i k0_t2 v137 v140) (k0_t47 : Fin (k0_t47_loop i k0_t2 v137 v140).trips), ∀ (k0_h19 : k0_cond19 k0_t2 = 1#1), ∀ (k0_h26 : k0_cond26 i k0_t2 v137 v140 = 1#1), ∀ a, (k0_off370 i k0_t2 v137 v140 k0_t47) a + S1x16.size a ≤ S256x128.size a := fun i k0_t2 v137 v140 k0_hw23 k0_t47 k0_h19 k0_h26 => k0_hw23.2.2.2.2.2.2.1 k0_t47 k0_h19 k0_h26
theorem k0_off371_inb : ∀ (i : grid0.Coords) (k0_t2 : Fin k0_t2_loop.trips) (v137 : BitVec 32) (v140 : BitVec 32) (k0_hw23 : k0_chk23 i k0_t2 v137 v140) (k0_t47 : Fin (k0_t47_loop i k0_t2 v137 v140).trips), ∀ (k0_h19 : k0_cond19 k0_t2 = 1#1), ∀ (k0_h26 : k0_cond26 i k0_t2 v137 v140 = 1#1), ∀ a, (k0_off371 i k0_t2 v137 v140 k0_t47) a + S1x16.size a ≤ S256x128.size a := fun i k0_t2 v137 v140 k0_hw23 k0_t47 k0_h19 k0_h26 => k0_hw23.2.2.2.2.2.2.2.1 k0_t47 k0_h19 k0_h26
theorem k0_off372_inb : ∀ (i : grid0.Coords) (k0_t2 : Fin k0_t2_loop.trips) (v137 : BitVec 32) (v140 : BitVec 32) (k0_hw23 : k0_chk23 i k0_t2 v137 v140) (k0_t47 : Fin (k0_t47_loop i k0_t2 v137 v140).trips), ∀ (k0_h19 : k0_cond19 k0_t2 = 1#1), ∀ (k0_h26 : k0_cond26 i k0_t2 v137 v140 = 1#1), ∀ a, (k0_off372 i k0_t2 v137 v140 k0_t47) a + S1x16.size a ≤ S256x128.size a := fun i k0_t2 v137 v140 k0_hw23 k0_t47 k0_h19 k0_h26 => k0_hw23.2.2.2.2.2.2.2.2.1 k0_t47 k0_h19 k0_h26
theorem k0_t48_ok : ∀ (i : grid0.Coords) (k0_t2 : Fin k0_t2_loop.trips) (v137 : BitVec 32) (v140 : BitVec 32) (k0_hw23 : k0_chk23 i k0_t2 v137 v140), ∀ (k0_h19 : k0_cond19 k0_t2 = 1#1), ∀ (k0_h26 : k0_cond26 i k0_t2 v137 v140 = 1#1), (k0_t48_loop i k0_t2 v137 v140).OK := fun i k0_t2 v137 v140 k0_hw23 k0_h19 k0_h26 => k0_hw23.2.2.2.2.2.2.2.2.2.1 k0_h19 k0_h26
theorem k0_off373_inb : ∀ (i : grid0.Coords) (k0_t2 : Fin k0_t2_loop.trips) (v137 : BitVec 32) (v140 : BitVec 32) (k0_hw23 : k0_chk23 i k0_t2 v137 v140) (k0_t48 : Fin (k0_t48_loop i k0_t2 v137 v140).trips), ∀ (k0_h19 : k0_cond19 k0_t2 = 1#1), ∀ (k0_h26 : k0_cond26 i k0_t2 v137 v140 = 1#1), ∀ a, (k0_off373 i k0_t2 v137 v140 k0_t48) a + S1x16.size a ≤ S256x128.size a := fun i k0_t2 v137 v140 k0_hw23 k0_t48 k0_h19 k0_h26 => k0_hw23.2.2.2.2.2.2.2.2.2.2.1 k0_t48 k0_h19 k0_h26
theorem k0_off374_inb : ∀ (i : grid0.Coords) (k0_t2 : Fin k0_t2_loop.trips) (v137 : BitVec 32) (v140 : BitVec 32) (k0_hw23 : k0_chk23 i k0_t2 v137 v140) (k0_t48 : Fin (k0_t48_loop i k0_t2 v137 v140).trips), ∀ (k0_h19 : k0_cond19 k0_t2 = 1#1), ∀ (k0_h26 : k0_cond26 i k0_t2 v137 v140 = 1#1), ∀ a, (k0_off374 i k0_t2 v137 v140 k0_t48) a + S1x16.size a ≤ S256x128.size a := fun i k0_t2 v137 v140 k0_hw23 k0_t48 k0_h19 k0_h26 => k0_hw23.2.2.2.2.2.2.2.2.2.2.2.1 k0_t48 k0_h19 k0_h26
theorem k0_off375_inb : ∀ (i : grid0.Coords) (k0_t2 : Fin k0_t2_loop.trips) (v137 : BitVec 32) (v140 : BitVec 32) (k0_hw23 : k0_chk23 i k0_t2 v137 v140) (k0_t48 : Fin (k0_t48_loop i k0_t2 v137 v140).trips), ∀ (k0_h19 : k0_cond19 k0_t2 = 1#1), ∀ (k0_h26 : k0_cond26 i k0_t2 v137 v140 = 1#1), ∀ a, (k0_off375 i k0_t2 v137 v140 k0_t48) a + S1x16.size a ≤ S256x128.size a := fun i k0_t2 v137 v140 k0_hw23 k0_t48 k0_h19 k0_h26 => k0_hw23.2.2.2.2.2.2.2.2.2.2.2.2.1 k0_t48 k0_h19 k0_h26
theorem k0_off376_inb : ∀ (i : grid0.Coords) (k0_t2 : Fin k0_t2_loop.trips) (v137 : BitVec 32) (v140 : BitVec 32) (k0_hw23 : k0_chk23 i k0_t2 v137 v140) (k0_t48 : Fin (k0_t48_loop i k0_t2 v137 v140).trips), ∀ (k0_h19 : k0_cond19 k0_t2 = 1#1), ∀ (k0_h26 : k0_cond26 i k0_t2 v137 v140 = 1#1), ∀ a, (k0_off376 i k0_t2 v137 v140 k0_t48) a + S1x16.size a ≤ S256x128.size a := fun i k0_t2 v137 v140 k0_hw23 k0_t48 k0_h19 k0_h26 => k0_hw23.2.2.2.2.2.2.2.2.2.2.2.2.2.1 k0_t48 k0_h19 k0_h26
theorem k0_off377_inb : ∀ (i : grid0.Coords) (k0_t2 : Fin k0_t2_loop.trips) (v137 : BitVec 32) (v140 : BitVec 32) (k0_hw23 : k0_chk23 i k0_t2 v137 v140) (k0_t48 : Fin (k0_t48_loop i k0_t2 v137 v140).trips), ∀ (k0_h19 : k0_cond19 k0_t2 = 1#1), ∀ (k0_h26 : k0_cond26 i k0_t2 v137 v140 = 1#1), ∀ a, (k0_off377 i k0_t2 v137 v140 k0_t48) a + S1x16.size a ≤ S256x128.size a := fun i k0_t2 v137 v140 k0_hw23 k0_t48 k0_h19 k0_h26 => k0_hw23.2.2.2.2.2.2.2.2.2.2.2.2.2.2.1 k0_t48 k0_h19 k0_h26
theorem k0_off378_inb : ∀ (i : grid0.Coords) (k0_t2 : Fin k0_t2_loop.trips) (v137 : BitVec 32) (v140 : BitVec 32) (k0_hw23 : k0_chk23 i k0_t2 v137 v140) (k0_t48 : Fin (k0_t48_loop i k0_t2 v137 v140).trips), ∀ (k0_h19 : k0_cond19 k0_t2 = 1#1), ∀ (k0_h26 : k0_cond26 i k0_t2 v137 v140 = 1#1), ∀ a, (k0_off378 i k0_t2 v137 v140 k0_t48) a + S1x16.size a ≤ S256x128.size a := fun i k0_t2 v137 v140 k0_hw23 k0_t48 k0_h19 k0_h26 => k0_hw23.2.2.2.2.2.2.2.2.2.2.2.2.2.2.2.1 k0_t48 k0_h19 k0_h26
theorem k0_off379_inb : ∀ (i : grid0.Coords) (k0_t2 : Fin k0_t2_loop.trips) (v137 : BitVec 32) (v140 : BitVec 32) (k0_hw23 : k0_chk23 i k0_t2 v137 v140) (k0_t48 : Fin (k0_t48_loop i k0_t2 v137 v140).trips), ∀ (k0_h19 : k0_cond19 k0_t2 = 1#1), ∀ (k0_h26 : k0_cond26 i k0_t2 v137 v140 = 1#1), ∀ a, (k0_off379 i k0_t2 v137 v140 k0_t48) a + S1x16.size a ≤ S256x128.size a := fun i k0_t2 v137 v140 k0_hw23 k0_t48 k0_h19 k0_h26 => k0_hw23.2.2.2.2.2.2.2.2.2.2.2.2.2.2.2.2.1 k0_t48 k0_h19 k0_h26
theorem k0_off380_inb : ∀ (i : grid0.Coords) (k0_t2 : Fin k0_t2_loop.trips) (v137 : BitVec 32) (v140 : BitVec 32) (k0_hw23 : k0_chk23 i k0_t2 v137 v140) (k0_t48 : Fin (k0_t48_loop i k0_t2 v137 v140).trips), ∀ (k0_h19 : k0_cond19 k0_t2 = 1#1), ∀ (k0_h26 : k0_cond26 i k0_t2 v137 v140 = 1#1), ∀ a, (k0_off380 i k0_t2 v137 v140 k0_t48) a + S1x16.size a ≤ S256x128.size a := fun i k0_t2 v137 v140 k0_hw23 k0_t48 k0_h19 k0_h26 => k0_hw23.2.2.2.2.2.2.2.2.2.2.2.2.2.2.2.2.2 k0_t48 k0_h19 k0_h26

@[reducible] def k0_t49_loop (i : grid0.Coords) (k0_t2 : Fin k0_t2_loop.trips) (v146 : BitVec 32) (v149 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v147 : BitVec 32 := Scalar.maxsi v146 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_85 : BitVec 32 := 1#32
  ⟨v147, v234, c1_i32_85⟩
def k0_cond27 (i : grid0.Coords) (k0_t2 : Fin k0_t2_loop.trips) (v146 : BitVec 32) (v149 : BitVec 32) : BitVec 1 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v150 : BitVec 32 := Scalar.minsi v149 v77
  let v147 : BitVec 32 := Scalar.maxsi v146 v75
  let v151 : BitVec 1 := Scalar.cmpi .sgt v150 v147
  let v152 : BitVec 32 := Scalar.extui v151
  let c0_i32_72 : BitVec 32 := 0#32
  let v153 : BitVec 1 := Scalar.cmpi .ne v152 c0_i32_72
  v153

def k0_off381 (i : grid0.Coords) (k0_t2 : Fin k0_t2_loop.trips) (v146 : BitVec 32) (v149 : BitVec 32) (k0_t49 : Fin (k0_t49_loop i k0_t2 v146 v149).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v147 : BitVec 32 := Scalar.maxsi v146 v75
  let c1_i32_85 : BitVec 32 := 1#32
  let arg19 : BitVec 32 := Scf.iv v147 c1_i32_85 k0_t49
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off382 (i : grid0.Coords) (k0_t2 : Fin k0_t2_loop.trips) (v146 : BitVec 32) (v149 : BitVec 32) (k0_t49 : Fin (k0_t49_loop i k0_t2 v146 v149).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v147 : BitVec 32 := Scalar.maxsi v146 v75
  let c1_i32_85 : BitVec 32 := 1#32
  let arg19 : BitVec 32 := Scf.iv v147 c1_i32_85 k0_t49
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off383 (i : grid0.Coords) (k0_t2 : Fin k0_t2_loop.trips) (v146 : BitVec 32) (v149 : BitVec 32) (k0_t49 : Fin (k0_t49_loop i k0_t2 v146 v149).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v147 : BitVec 32 := Scalar.maxsi v146 v75
  let c1_i32_85 : BitVec 32 := 1#32
  let arg19 : BitVec 32 := Scf.iv v147 c1_i32_85 k0_t49
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off384 (i : grid0.Coords) (k0_t2 : Fin k0_t2_loop.trips) (v146 : BitVec 32) (v149 : BitVec 32) (k0_t49 : Fin (k0_t49_loop i k0_t2 v146 v149).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v147 : BitVec 32 := Scalar.maxsi v146 v75
  let c1_i32_85 : BitVec 32 := 1#32
  let arg19 : BitVec 32 := Scf.iv v147 c1_i32_85 k0_t49
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off385 (i : grid0.Coords) (k0_t2 : Fin k0_t2_loop.trips) (v146 : BitVec 32) (v149 : BitVec 32) (k0_t49 : Fin (k0_t49_loop i k0_t2 v146 v149).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v147 : BitVec 32 := Scalar.maxsi v146 v75
  let c1_i32_85 : BitVec 32 := 1#32
  let arg19 : BitVec 32 := Scf.iv v147 c1_i32_85 k0_t49
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off386 (i : grid0.Coords) (k0_t2 : Fin k0_t2_loop.trips) (v146 : BitVec 32) (v149 : BitVec 32) (k0_t49 : Fin (k0_t49_loop i k0_t2 v146 v149).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v147 : BitVec 32 := Scalar.maxsi v146 v75
  let c1_i32_85 : BitVec 32 := 1#32
  let arg19 : BitVec 32 := Scf.iv v147 c1_i32_85 k0_t49
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off387 (i : grid0.Coords) (k0_t2 : Fin k0_t2_loop.trips) (v146 : BitVec 32) (v149 : BitVec 32) (k0_t49 : Fin (k0_t49_loop i k0_t2 v146 v149).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v147 : BitVec 32 := Scalar.maxsi v146 v75
  let c1_i32_85 : BitVec 32 := 1#32
  let arg19 : BitVec 32 := Scf.iv v147 c1_i32_85 k0_t49
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off388 (i : grid0.Coords) (k0_t2 : Fin k0_t2_loop.trips) (v146 : BitVec 32) (v149 : BitVec 32) (k0_t49 : Fin (k0_t49_loop i k0_t2 v146 v149).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v147 : BitVec 32 := Scalar.maxsi v146 v75
  let c1_i32_85 : BitVec 32 := 1#32
  let arg19 : BitVec 32 := Scf.iv v147 c1_i32_85 k0_t49
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]
@[reducible] def k0_t50_loop (i : grid0.Coords) (k0_t2 : Fin k0_t2_loop.trips) (v146 : BitVec 32) (v149 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v147 : BitVec 32 := Scalar.maxsi v146 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let v231 : BitVec 32 := Scalar.addi v147 v230
  let c1_i32_86 : BitVec 32 := 1#32
  ⟨v234, v231, c1_i32_86⟩
def k0_off389 (i : grid0.Coords) (k0_t2 : Fin k0_t2_loop.trips) (v146 : BitVec 32) (v149 : BitVec 32) (k0_t50 : Fin (k0_t50_loop i k0_t2 v146 v149).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v147 : BitVec 32 := Scalar.maxsi v146 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_86 : BitVec 32 := 1#32
  let arg19 : BitVec 32 := Scf.iv v234 c1_i32_86 k0_t50
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off390 (i : grid0.Coords) (k0_t2 : Fin k0_t2_loop.trips) (v146 : BitVec 32) (v149 : BitVec 32) (k0_t50 : Fin (k0_t50_loop i k0_t2 v146 v149).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v147 : BitVec 32 := Scalar.maxsi v146 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_86 : BitVec 32 := 1#32
  let arg19 : BitVec 32 := Scf.iv v234 c1_i32_86 k0_t50
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off391 (i : grid0.Coords) (k0_t2 : Fin k0_t2_loop.trips) (v146 : BitVec 32) (v149 : BitVec 32) (k0_t50 : Fin (k0_t50_loop i k0_t2 v146 v149).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v147 : BitVec 32 := Scalar.maxsi v146 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_86 : BitVec 32 := 1#32
  let arg19 : BitVec 32 := Scf.iv v234 c1_i32_86 k0_t50
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off392 (i : grid0.Coords) (k0_t2 : Fin k0_t2_loop.trips) (v146 : BitVec 32) (v149 : BitVec 32) (k0_t50 : Fin (k0_t50_loop i k0_t2 v146 v149).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v147 : BitVec 32 := Scalar.maxsi v146 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_86 : BitVec 32 := 1#32
  let arg19 : BitVec 32 := Scf.iv v234 c1_i32_86 k0_t50
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off393 (i : grid0.Coords) (k0_t2 : Fin k0_t2_loop.trips) (v146 : BitVec 32) (v149 : BitVec 32) (k0_t50 : Fin (k0_t50_loop i k0_t2 v146 v149).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v147 : BitVec 32 := Scalar.maxsi v146 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_86 : BitVec 32 := 1#32
  let arg19 : BitVec 32 := Scf.iv v234 c1_i32_86 k0_t50
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off394 (i : grid0.Coords) (k0_t2 : Fin k0_t2_loop.trips) (v146 : BitVec 32) (v149 : BitVec 32) (k0_t50 : Fin (k0_t50_loop i k0_t2 v146 v149).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v147 : BitVec 32 := Scalar.maxsi v146 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_86 : BitVec 32 := 1#32
  let arg19 : BitVec 32 := Scf.iv v234 c1_i32_86 k0_t50
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off395 (i : grid0.Coords) (k0_t2 : Fin k0_t2_loop.trips) (v146 : BitVec 32) (v149 : BitVec 32) (k0_t50 : Fin (k0_t50_loop i k0_t2 v146 v149).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v147 : BitVec 32 := Scalar.maxsi v146 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_86 : BitVec 32 := 1#32
  let arg19 : BitVec 32 := Scf.iv v234 c1_i32_86 k0_t50
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off396 (i : grid0.Coords) (k0_t2 : Fin k0_t2_loop.trips) (v146 : BitVec 32) (v149 : BitVec 32) (k0_t50 : Fin (k0_t50_loop i k0_t2 v146 v149).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v147 : BitVec 32 := Scalar.maxsi v146 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_86 : BitVec 32 := 1#32
  let arg19 : BitVec 32 := Scf.iv v234 c1_i32_86 k0_t50
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]

def k0_chk24 (i : grid0.Coords) (k0_t2 : Fin k0_t2_loop.trips) (v146 : BitVec 32) (v149 : BitVec 32) : Prop :=
  (∀ (k0_h19 : k0_cond19 k0_t2 = 1#1), ∀ (k0_h27 : k0_cond27 i k0_t2 v146 v149 = 1#1), (k0_t49_loop i k0_t2 v146 v149).OK) ∧
  (∀ k0_t49 : Fin (k0_t49_loop i k0_t2 v146 v149).trips, ∀ (k0_h19 : k0_cond19 k0_t2 = 1#1), ∀ (k0_h27 : k0_cond27 i k0_t2 v146 v149 = 1#1), ∀ a, (k0_off381 i k0_t2 v146 v149 k0_t49) a + S1x16.size a ≤ S256x128.size a) ∧
  (∀ k0_t49 : Fin (k0_t49_loop i k0_t2 v146 v149).trips, ∀ (k0_h19 : k0_cond19 k0_t2 = 1#1), ∀ (k0_h27 : k0_cond27 i k0_t2 v146 v149 = 1#1), ∀ a, (k0_off382 i k0_t2 v146 v149 k0_t49) a + S1x16.size a ≤ S256x128.size a) ∧
  (∀ k0_t49 : Fin (k0_t49_loop i k0_t2 v146 v149).trips, ∀ (k0_h19 : k0_cond19 k0_t2 = 1#1), ∀ (k0_h27 : k0_cond27 i k0_t2 v146 v149 = 1#1), ∀ a, (k0_off383 i k0_t2 v146 v149 k0_t49) a + S1x16.size a ≤ S256x128.size a) ∧
  (∀ k0_t49 : Fin (k0_t49_loop i k0_t2 v146 v149).trips, ∀ (k0_h19 : k0_cond19 k0_t2 = 1#1), ∀ (k0_h27 : k0_cond27 i k0_t2 v146 v149 = 1#1), ∀ a, (k0_off384 i k0_t2 v146 v149 k0_t49) a + S1x16.size a ≤ S256x128.size a) ∧
  (∀ k0_t49 : Fin (k0_t49_loop i k0_t2 v146 v149).trips, ∀ (k0_h19 : k0_cond19 k0_t2 = 1#1), ∀ (k0_h27 : k0_cond27 i k0_t2 v146 v149 = 1#1), ∀ a, (k0_off385 i k0_t2 v146 v149 k0_t49) a + S1x16.size a ≤ S256x128.size a) ∧
  (∀ k0_t49 : Fin (k0_t49_loop i k0_t2 v146 v149).trips, ∀ (k0_h19 : k0_cond19 k0_t2 = 1#1), ∀ (k0_h27 : k0_cond27 i k0_t2 v146 v149 = 1#1), ∀ a, (k0_off386 i k0_t2 v146 v149 k0_t49) a + S1x16.size a ≤ S256x128.size a) ∧
  (∀ k0_t49 : Fin (k0_t49_loop i k0_t2 v146 v149).trips, ∀ (k0_h19 : k0_cond19 k0_t2 = 1#1), ∀ (k0_h27 : k0_cond27 i k0_t2 v146 v149 = 1#1), ∀ a, (k0_off387 i k0_t2 v146 v149 k0_t49) a + S1x16.size a ≤ S256x128.size a) ∧
  (∀ k0_t49 : Fin (k0_t49_loop i k0_t2 v146 v149).trips, ∀ (k0_h19 : k0_cond19 k0_t2 = 1#1), ∀ (k0_h27 : k0_cond27 i k0_t2 v146 v149 = 1#1), ∀ a, (k0_off388 i k0_t2 v146 v149 k0_t49) a + S1x16.size a ≤ S256x128.size a) ∧
  (∀ (k0_h19 : k0_cond19 k0_t2 = 1#1), ∀ (k0_h27 : k0_cond27 i k0_t2 v146 v149 = 1#1), (k0_t50_loop i k0_t2 v146 v149).OK) ∧
  (∀ k0_t50 : Fin (k0_t50_loop i k0_t2 v146 v149).trips, ∀ (k0_h19 : k0_cond19 k0_t2 = 1#1), ∀ (k0_h27 : k0_cond27 i k0_t2 v146 v149 = 1#1), ∀ a, (k0_off389 i k0_t2 v146 v149 k0_t50) a + S1x16.size a ≤ S256x128.size a) ∧
  (∀ k0_t50 : Fin (k0_t50_loop i k0_t2 v146 v149).trips, ∀ (k0_h19 : k0_cond19 k0_t2 = 1#1), ∀ (k0_h27 : k0_cond27 i k0_t2 v146 v149 = 1#1), ∀ a, (k0_off390 i k0_t2 v146 v149 k0_t50) a + S1x16.size a ≤ S256x128.size a) ∧
  (∀ k0_t50 : Fin (k0_t50_loop i k0_t2 v146 v149).trips, ∀ (k0_h19 : k0_cond19 k0_t2 = 1#1), ∀ (k0_h27 : k0_cond27 i k0_t2 v146 v149 = 1#1), ∀ a, (k0_off391 i k0_t2 v146 v149 k0_t50) a + S1x16.size a ≤ S256x128.size a) ∧
  (∀ k0_t50 : Fin (k0_t50_loop i k0_t2 v146 v149).trips, ∀ (k0_h19 : k0_cond19 k0_t2 = 1#1), ∀ (k0_h27 : k0_cond27 i k0_t2 v146 v149 = 1#1), ∀ a, (k0_off392 i k0_t2 v146 v149 k0_t50) a + S1x16.size a ≤ S256x128.size a) ∧
  (∀ k0_t50 : Fin (k0_t50_loop i k0_t2 v146 v149).trips, ∀ (k0_h19 : k0_cond19 k0_t2 = 1#1), ∀ (k0_h27 : k0_cond27 i k0_t2 v146 v149 = 1#1), ∀ a, (k0_off393 i k0_t2 v146 v149 k0_t50) a + S1x16.size a ≤ S256x128.size a) ∧
  (∀ k0_t50 : Fin (k0_t50_loop i k0_t2 v146 v149).trips, ∀ (k0_h19 : k0_cond19 k0_t2 = 1#1), ∀ (k0_h27 : k0_cond27 i k0_t2 v146 v149 = 1#1), ∀ a, (k0_off394 i k0_t2 v146 v149 k0_t50) a + S1x16.size a ≤ S256x128.size a) ∧
  (∀ k0_t50 : Fin (k0_t50_loop i k0_t2 v146 v149).trips, ∀ (k0_h19 : k0_cond19 k0_t2 = 1#1), ∀ (k0_h27 : k0_cond27 i k0_t2 v146 v149 = 1#1), ∀ a, (k0_off395 i k0_t2 v146 v149 k0_t50) a + S1x16.size a ≤ S256x128.size a) ∧
  (∀ k0_t50 : Fin (k0_t50_loop i k0_t2 v146 v149).trips, ∀ (k0_h19 : k0_cond19 k0_t2 = 1#1), ∀ (k0_h27 : k0_cond27 i k0_t2 v146 v149 = 1#1), ∀ a, (k0_off396 i k0_t2 v146 v149 k0_t50) a + S1x16.size a ≤ S256x128.size a)
theorem k0_t49_ok : ∀ (i : grid0.Coords) (k0_t2 : Fin k0_t2_loop.trips) (v146 : BitVec 32) (v149 : BitVec 32) (k0_hw24 : k0_chk24 i k0_t2 v146 v149), ∀ (k0_h19 : k0_cond19 k0_t2 = 1#1), ∀ (k0_h27 : k0_cond27 i k0_t2 v146 v149 = 1#1), (k0_t49_loop i k0_t2 v146 v149).OK := fun i k0_t2 v146 v149 k0_hw24 k0_h19 k0_h27 => k0_hw24.1 k0_h19 k0_h27
theorem k0_off381_inb : ∀ (i : grid0.Coords) (k0_t2 : Fin k0_t2_loop.trips) (v146 : BitVec 32) (v149 : BitVec 32) (k0_hw24 : k0_chk24 i k0_t2 v146 v149) (k0_t49 : Fin (k0_t49_loop i k0_t2 v146 v149).trips), ∀ (k0_h19 : k0_cond19 k0_t2 = 1#1), ∀ (k0_h27 : k0_cond27 i k0_t2 v146 v149 = 1#1), ∀ a, (k0_off381 i k0_t2 v146 v149 k0_t49) a + S1x16.size a ≤ S256x128.size a := fun i k0_t2 v146 v149 k0_hw24 k0_t49 k0_h19 k0_h27 => k0_hw24.2.1 k0_t49 k0_h19 k0_h27
theorem k0_off382_inb : ∀ (i : grid0.Coords) (k0_t2 : Fin k0_t2_loop.trips) (v146 : BitVec 32) (v149 : BitVec 32) (k0_hw24 : k0_chk24 i k0_t2 v146 v149) (k0_t49 : Fin (k0_t49_loop i k0_t2 v146 v149).trips), ∀ (k0_h19 : k0_cond19 k0_t2 = 1#1), ∀ (k0_h27 : k0_cond27 i k0_t2 v146 v149 = 1#1), ∀ a, (k0_off382 i k0_t2 v146 v149 k0_t49) a + S1x16.size a ≤ S256x128.size a := fun i k0_t2 v146 v149 k0_hw24 k0_t49 k0_h19 k0_h27 => k0_hw24.2.2.1 k0_t49 k0_h19 k0_h27
theorem k0_off383_inb : ∀ (i : grid0.Coords) (k0_t2 : Fin k0_t2_loop.trips) (v146 : BitVec 32) (v149 : BitVec 32) (k0_hw24 : k0_chk24 i k0_t2 v146 v149) (k0_t49 : Fin (k0_t49_loop i k0_t2 v146 v149).trips), ∀ (k0_h19 : k0_cond19 k0_t2 = 1#1), ∀ (k0_h27 : k0_cond27 i k0_t2 v146 v149 = 1#1), ∀ a, (k0_off383 i k0_t2 v146 v149 k0_t49) a + S1x16.size a ≤ S256x128.size a := fun i k0_t2 v146 v149 k0_hw24 k0_t49 k0_h19 k0_h27 => k0_hw24.2.2.2.1 k0_t49 k0_h19 k0_h27
theorem k0_off384_inb : ∀ (i : grid0.Coords) (k0_t2 : Fin k0_t2_loop.trips) (v146 : BitVec 32) (v149 : BitVec 32) (k0_hw24 : k0_chk24 i k0_t2 v146 v149) (k0_t49 : Fin (k0_t49_loop i k0_t2 v146 v149).trips), ∀ (k0_h19 : k0_cond19 k0_t2 = 1#1), ∀ (k0_h27 : k0_cond27 i k0_t2 v146 v149 = 1#1), ∀ a, (k0_off384 i k0_t2 v146 v149 k0_t49) a + S1x16.size a ≤ S256x128.size a := fun i k0_t2 v146 v149 k0_hw24 k0_t49 k0_h19 k0_h27 => k0_hw24.2.2.2.2.1 k0_t49 k0_h19 k0_h27
theorem k0_off385_inb : ∀ (i : grid0.Coords) (k0_t2 : Fin k0_t2_loop.trips) (v146 : BitVec 32) (v149 : BitVec 32) (k0_hw24 : k0_chk24 i k0_t2 v146 v149) (k0_t49 : Fin (k0_t49_loop i k0_t2 v146 v149).trips), ∀ (k0_h19 : k0_cond19 k0_t2 = 1#1), ∀ (k0_h27 : k0_cond27 i k0_t2 v146 v149 = 1#1), ∀ a, (k0_off385 i k0_t2 v146 v149 k0_t49) a + S1x16.size a ≤ S256x128.size a := fun i k0_t2 v146 v149 k0_hw24 k0_t49 k0_h19 k0_h27 => k0_hw24.2.2.2.2.2.1 k0_t49 k0_h19 k0_h27
theorem k0_off386_inb : ∀ (i : grid0.Coords) (k0_t2 : Fin k0_t2_loop.trips) (v146 : BitVec 32) (v149 : BitVec 32) (k0_hw24 : k0_chk24 i k0_t2 v146 v149) (k0_t49 : Fin (k0_t49_loop i k0_t2 v146 v149).trips), ∀ (k0_h19 : k0_cond19 k0_t2 = 1#1), ∀ (k0_h27 : k0_cond27 i k0_t2 v146 v149 = 1#1), ∀ a, (k0_off386 i k0_t2 v146 v149 k0_t49) a + S1x16.size a ≤ S256x128.size a := fun i k0_t2 v146 v149 k0_hw24 k0_t49 k0_h19 k0_h27 => k0_hw24.2.2.2.2.2.2.1 k0_t49 k0_h19 k0_h27
theorem k0_off387_inb : ∀ (i : grid0.Coords) (k0_t2 : Fin k0_t2_loop.trips) (v146 : BitVec 32) (v149 : BitVec 32) (k0_hw24 : k0_chk24 i k0_t2 v146 v149) (k0_t49 : Fin (k0_t49_loop i k0_t2 v146 v149).trips), ∀ (k0_h19 : k0_cond19 k0_t2 = 1#1), ∀ (k0_h27 : k0_cond27 i k0_t2 v146 v149 = 1#1), ∀ a, (k0_off387 i k0_t2 v146 v149 k0_t49) a + S1x16.size a ≤ S256x128.size a := fun i k0_t2 v146 v149 k0_hw24 k0_t49 k0_h19 k0_h27 => k0_hw24.2.2.2.2.2.2.2.1 k0_t49 k0_h19 k0_h27
theorem k0_off388_inb : ∀ (i : grid0.Coords) (k0_t2 : Fin k0_t2_loop.trips) (v146 : BitVec 32) (v149 : BitVec 32) (k0_hw24 : k0_chk24 i k0_t2 v146 v149) (k0_t49 : Fin (k0_t49_loop i k0_t2 v146 v149).trips), ∀ (k0_h19 : k0_cond19 k0_t2 = 1#1), ∀ (k0_h27 : k0_cond27 i k0_t2 v146 v149 = 1#1), ∀ a, (k0_off388 i k0_t2 v146 v149 k0_t49) a + S1x16.size a ≤ S256x128.size a := fun i k0_t2 v146 v149 k0_hw24 k0_t49 k0_h19 k0_h27 => k0_hw24.2.2.2.2.2.2.2.2.1 k0_t49 k0_h19 k0_h27
theorem k0_t50_ok : ∀ (i : grid0.Coords) (k0_t2 : Fin k0_t2_loop.trips) (v146 : BitVec 32) (v149 : BitVec 32) (k0_hw24 : k0_chk24 i k0_t2 v146 v149), ∀ (k0_h19 : k0_cond19 k0_t2 = 1#1), ∀ (k0_h27 : k0_cond27 i k0_t2 v146 v149 = 1#1), (k0_t50_loop i k0_t2 v146 v149).OK := fun i k0_t2 v146 v149 k0_hw24 k0_h19 k0_h27 => k0_hw24.2.2.2.2.2.2.2.2.2.1 k0_h19 k0_h27
theorem k0_off389_inb : ∀ (i : grid0.Coords) (k0_t2 : Fin k0_t2_loop.trips) (v146 : BitVec 32) (v149 : BitVec 32) (k0_hw24 : k0_chk24 i k0_t2 v146 v149) (k0_t50 : Fin (k0_t50_loop i k0_t2 v146 v149).trips), ∀ (k0_h19 : k0_cond19 k0_t2 = 1#1), ∀ (k0_h27 : k0_cond27 i k0_t2 v146 v149 = 1#1), ∀ a, (k0_off389 i k0_t2 v146 v149 k0_t50) a + S1x16.size a ≤ S256x128.size a := fun i k0_t2 v146 v149 k0_hw24 k0_t50 k0_h19 k0_h27 => k0_hw24.2.2.2.2.2.2.2.2.2.2.1 k0_t50 k0_h19 k0_h27
theorem k0_off390_inb : ∀ (i : grid0.Coords) (k0_t2 : Fin k0_t2_loop.trips) (v146 : BitVec 32) (v149 : BitVec 32) (k0_hw24 : k0_chk24 i k0_t2 v146 v149) (k0_t50 : Fin (k0_t50_loop i k0_t2 v146 v149).trips), ∀ (k0_h19 : k0_cond19 k0_t2 = 1#1), ∀ (k0_h27 : k0_cond27 i k0_t2 v146 v149 = 1#1), ∀ a, (k0_off390 i k0_t2 v146 v149 k0_t50) a + S1x16.size a ≤ S256x128.size a := fun i k0_t2 v146 v149 k0_hw24 k0_t50 k0_h19 k0_h27 => k0_hw24.2.2.2.2.2.2.2.2.2.2.2.1 k0_t50 k0_h19 k0_h27
theorem k0_off391_inb : ∀ (i : grid0.Coords) (k0_t2 : Fin k0_t2_loop.trips) (v146 : BitVec 32) (v149 : BitVec 32) (k0_hw24 : k0_chk24 i k0_t2 v146 v149) (k0_t50 : Fin (k0_t50_loop i k0_t2 v146 v149).trips), ∀ (k0_h19 : k0_cond19 k0_t2 = 1#1), ∀ (k0_h27 : k0_cond27 i k0_t2 v146 v149 = 1#1), ∀ a, (k0_off391 i k0_t2 v146 v149 k0_t50) a + S1x16.size a ≤ S256x128.size a := fun i k0_t2 v146 v149 k0_hw24 k0_t50 k0_h19 k0_h27 => k0_hw24.2.2.2.2.2.2.2.2.2.2.2.2.1 k0_t50 k0_h19 k0_h27
theorem k0_off392_inb : ∀ (i : grid0.Coords) (k0_t2 : Fin k0_t2_loop.trips) (v146 : BitVec 32) (v149 : BitVec 32) (k0_hw24 : k0_chk24 i k0_t2 v146 v149) (k0_t50 : Fin (k0_t50_loop i k0_t2 v146 v149).trips), ∀ (k0_h19 : k0_cond19 k0_t2 = 1#1), ∀ (k0_h27 : k0_cond27 i k0_t2 v146 v149 = 1#1), ∀ a, (k0_off392 i k0_t2 v146 v149 k0_t50) a + S1x16.size a ≤ S256x128.size a := fun i k0_t2 v146 v149 k0_hw24 k0_t50 k0_h19 k0_h27 => k0_hw24.2.2.2.2.2.2.2.2.2.2.2.2.2.1 k0_t50 k0_h19 k0_h27
theorem k0_off393_inb : ∀ (i : grid0.Coords) (k0_t2 : Fin k0_t2_loop.trips) (v146 : BitVec 32) (v149 : BitVec 32) (k0_hw24 : k0_chk24 i k0_t2 v146 v149) (k0_t50 : Fin (k0_t50_loop i k0_t2 v146 v149).trips), ∀ (k0_h19 : k0_cond19 k0_t2 = 1#1), ∀ (k0_h27 : k0_cond27 i k0_t2 v146 v149 = 1#1), ∀ a, (k0_off393 i k0_t2 v146 v149 k0_t50) a + S1x16.size a ≤ S256x128.size a := fun i k0_t2 v146 v149 k0_hw24 k0_t50 k0_h19 k0_h27 => k0_hw24.2.2.2.2.2.2.2.2.2.2.2.2.2.2.1 k0_t50 k0_h19 k0_h27
theorem k0_off394_inb : ∀ (i : grid0.Coords) (k0_t2 : Fin k0_t2_loop.trips) (v146 : BitVec 32) (v149 : BitVec 32) (k0_hw24 : k0_chk24 i k0_t2 v146 v149) (k0_t50 : Fin (k0_t50_loop i k0_t2 v146 v149).trips), ∀ (k0_h19 : k0_cond19 k0_t2 = 1#1), ∀ (k0_h27 : k0_cond27 i k0_t2 v146 v149 = 1#1), ∀ a, (k0_off394 i k0_t2 v146 v149 k0_t50) a + S1x16.size a ≤ S256x128.size a := fun i k0_t2 v146 v149 k0_hw24 k0_t50 k0_h19 k0_h27 => k0_hw24.2.2.2.2.2.2.2.2.2.2.2.2.2.2.2.1 k0_t50 k0_h19 k0_h27
theorem k0_off395_inb : ∀ (i : grid0.Coords) (k0_t2 : Fin k0_t2_loop.trips) (v146 : BitVec 32) (v149 : BitVec 32) (k0_hw24 : k0_chk24 i k0_t2 v146 v149) (k0_t50 : Fin (k0_t50_loop i k0_t2 v146 v149).trips), ∀ (k0_h19 : k0_cond19 k0_t2 = 1#1), ∀ (k0_h27 : k0_cond27 i k0_t2 v146 v149 = 1#1), ∀ a, (k0_off395 i k0_t2 v146 v149 k0_t50) a + S1x16.size a ≤ S256x128.size a := fun i k0_t2 v146 v149 k0_hw24 k0_t50 k0_h19 k0_h27 => k0_hw24.2.2.2.2.2.2.2.2.2.2.2.2.2.2.2.2.1 k0_t50 k0_h19 k0_h27
theorem k0_off396_inb : ∀ (i : grid0.Coords) (k0_t2 : Fin k0_t2_loop.trips) (v146 : BitVec 32) (v149 : BitVec 32) (k0_hw24 : k0_chk24 i k0_t2 v146 v149) (k0_t50 : Fin (k0_t50_loop i k0_t2 v146 v149).trips), ∀ (k0_h19 : k0_cond19 k0_t2 = 1#1), ∀ (k0_h27 : k0_cond27 i k0_t2 v146 v149 = 1#1), ∀ a, (k0_off396 i k0_t2 v146 v149 k0_t50) a + S1x16.size a ≤ S256x128.size a := fun i k0_t2 v146 v149 k0_hw24 k0_t50 k0_h19 k0_h27 => k0_hw24.2.2.2.2.2.2.2.2.2.2.2.2.2.2.2.2.2 k0_t50 k0_h19 k0_h27

@[reducible] def k0_t51_loop (i : grid0.Coords) (k0_t2 : Fin k0_t2_loop.trips) (v155 : BitVec 32) (v158 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v156 : BitVec 32 := Scalar.maxsi v155 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_85 : BitVec 32 := 1#32
  ⟨v156, v234, c1_i32_85⟩
def k0_cond28 (i : grid0.Coords) (k0_t2 : Fin k0_t2_loop.trips) (v155 : BitVec 32) (v158 : BitVec 32) : BitVec 1 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v159 : BitVec 32 := Scalar.minsi v158 v77
  let v156 : BitVec 32 := Scalar.maxsi v155 v75
  let v160 : BitVec 1 := Scalar.cmpi .sgt v159 v156
  let v161 : BitVec 32 := Scalar.extui v160
  let c0_i32_73 : BitVec 32 := 0#32
  let v162 : BitVec 1 := Scalar.cmpi .ne v161 c0_i32_73
  v162

def k0_off397 (i : grid0.Coords) (k0_t2 : Fin k0_t2_loop.trips) (v155 : BitVec 32) (v158 : BitVec 32) (k0_t51 : Fin (k0_t51_loop i k0_t2 v155 v158).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v156 : BitVec 32 := Scalar.maxsi v155 v75
  let c1_i32_85 : BitVec 32 := 1#32
  let arg19 : BitVec 32 := Scf.iv v156 c1_i32_85 k0_t51
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off398 (i : grid0.Coords) (k0_t2 : Fin k0_t2_loop.trips) (v155 : BitVec 32) (v158 : BitVec 32) (k0_t51 : Fin (k0_t51_loop i k0_t2 v155 v158).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v156 : BitVec 32 := Scalar.maxsi v155 v75
  let c1_i32_85 : BitVec 32 := 1#32
  let arg19 : BitVec 32 := Scf.iv v156 c1_i32_85 k0_t51
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off399 (i : grid0.Coords) (k0_t2 : Fin k0_t2_loop.trips) (v155 : BitVec 32) (v158 : BitVec 32) (k0_t51 : Fin (k0_t51_loop i k0_t2 v155 v158).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v156 : BitVec 32 := Scalar.maxsi v155 v75
  let c1_i32_85 : BitVec 32 := 1#32
  let arg19 : BitVec 32 := Scf.iv v156 c1_i32_85 k0_t51
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off400 (i : grid0.Coords) (k0_t2 : Fin k0_t2_loop.trips) (v155 : BitVec 32) (v158 : BitVec 32) (k0_t51 : Fin (k0_t51_loop i k0_t2 v155 v158).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v156 : BitVec 32 := Scalar.maxsi v155 v75
  let c1_i32_85 : BitVec 32 := 1#32
  let arg19 : BitVec 32 := Scf.iv v156 c1_i32_85 k0_t51
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off401 (i : grid0.Coords) (k0_t2 : Fin k0_t2_loop.trips) (v155 : BitVec 32) (v158 : BitVec 32) (k0_t51 : Fin (k0_t51_loop i k0_t2 v155 v158).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v156 : BitVec 32 := Scalar.maxsi v155 v75
  let c1_i32_85 : BitVec 32 := 1#32
  let arg19 : BitVec 32 := Scf.iv v156 c1_i32_85 k0_t51
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off402 (i : grid0.Coords) (k0_t2 : Fin k0_t2_loop.trips) (v155 : BitVec 32) (v158 : BitVec 32) (k0_t51 : Fin (k0_t51_loop i k0_t2 v155 v158).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v156 : BitVec 32 := Scalar.maxsi v155 v75
  let c1_i32_85 : BitVec 32 := 1#32
  let arg19 : BitVec 32 := Scf.iv v156 c1_i32_85 k0_t51
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off403 (i : grid0.Coords) (k0_t2 : Fin k0_t2_loop.trips) (v155 : BitVec 32) (v158 : BitVec 32) (k0_t51 : Fin (k0_t51_loop i k0_t2 v155 v158).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v156 : BitVec 32 := Scalar.maxsi v155 v75
  let c1_i32_85 : BitVec 32 := 1#32
  let arg19 : BitVec 32 := Scf.iv v156 c1_i32_85 k0_t51
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off404 (i : grid0.Coords) (k0_t2 : Fin k0_t2_loop.trips) (v155 : BitVec 32) (v158 : BitVec 32) (k0_t51 : Fin (k0_t51_loop i k0_t2 v155 v158).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v156 : BitVec 32 := Scalar.maxsi v155 v75
  let c1_i32_85 : BitVec 32 := 1#32
  let arg19 : BitVec 32 := Scf.iv v156 c1_i32_85 k0_t51
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]
@[reducible] def k0_t52_loop (i : grid0.Coords) (k0_t2 : Fin k0_t2_loop.trips) (v155 : BitVec 32) (v158 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v156 : BitVec 32 := Scalar.maxsi v155 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let v231 : BitVec 32 := Scalar.addi v156 v230
  let c1_i32_86 : BitVec 32 := 1#32
  ⟨v234, v231, c1_i32_86⟩
def k0_off405 (i : grid0.Coords) (k0_t2 : Fin k0_t2_loop.trips) (v155 : BitVec 32) (v158 : BitVec 32) (k0_t52 : Fin (k0_t52_loop i k0_t2 v155 v158).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v156 : BitVec 32 := Scalar.maxsi v155 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_86 : BitVec 32 := 1#32
  let arg19 : BitVec 32 := Scf.iv v234 c1_i32_86 k0_t52
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off406 (i : grid0.Coords) (k0_t2 : Fin k0_t2_loop.trips) (v155 : BitVec 32) (v158 : BitVec 32) (k0_t52 : Fin (k0_t52_loop i k0_t2 v155 v158).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v156 : BitVec 32 := Scalar.maxsi v155 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_86 : BitVec 32 := 1#32
  let arg19 : BitVec 32 := Scf.iv v234 c1_i32_86 k0_t52
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off407 (i : grid0.Coords) (k0_t2 : Fin k0_t2_loop.trips) (v155 : BitVec 32) (v158 : BitVec 32) (k0_t52 : Fin (k0_t52_loop i k0_t2 v155 v158).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v156 : BitVec 32 := Scalar.maxsi v155 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_86 : BitVec 32 := 1#32
  let arg19 : BitVec 32 := Scf.iv v234 c1_i32_86 k0_t52
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off408 (i : grid0.Coords) (k0_t2 : Fin k0_t2_loop.trips) (v155 : BitVec 32) (v158 : BitVec 32) (k0_t52 : Fin (k0_t52_loop i k0_t2 v155 v158).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v156 : BitVec 32 := Scalar.maxsi v155 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_86 : BitVec 32 := 1#32
  let arg19 : BitVec 32 := Scf.iv v234 c1_i32_86 k0_t52
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off409 (i : grid0.Coords) (k0_t2 : Fin k0_t2_loop.trips) (v155 : BitVec 32) (v158 : BitVec 32) (k0_t52 : Fin (k0_t52_loop i k0_t2 v155 v158).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v156 : BitVec 32 := Scalar.maxsi v155 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_86 : BitVec 32 := 1#32
  let arg19 : BitVec 32 := Scf.iv v234 c1_i32_86 k0_t52
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off410 (i : grid0.Coords) (k0_t2 : Fin k0_t2_loop.trips) (v155 : BitVec 32) (v158 : BitVec 32) (k0_t52 : Fin (k0_t52_loop i k0_t2 v155 v158).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v156 : BitVec 32 := Scalar.maxsi v155 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_86 : BitVec 32 := 1#32
  let arg19 : BitVec 32 := Scf.iv v234 c1_i32_86 k0_t52
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off411 (i : grid0.Coords) (k0_t2 : Fin k0_t2_loop.trips) (v155 : BitVec 32) (v158 : BitVec 32) (k0_t52 : Fin (k0_t52_loop i k0_t2 v155 v158).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v156 : BitVec 32 := Scalar.maxsi v155 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_86 : BitVec 32 := 1#32
  let arg19 : BitVec 32 := Scf.iv v234 c1_i32_86 k0_t52
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off412 (i : grid0.Coords) (k0_t2 : Fin k0_t2_loop.trips) (v155 : BitVec 32) (v158 : BitVec 32) (k0_t52 : Fin (k0_t52_loop i k0_t2 v155 v158).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v156 : BitVec 32 := Scalar.maxsi v155 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_86 : BitVec 32 := 1#32
  let arg19 : BitVec 32 := Scf.iv v234 c1_i32_86 k0_t52
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]

def k0_chk25 (i : grid0.Coords) (k0_t2 : Fin k0_t2_loop.trips) (v155 : BitVec 32) (v158 : BitVec 32) : Prop :=
  (∀ (k0_h19 : k0_cond19 k0_t2 = 1#1), ∀ (k0_h28 : k0_cond28 i k0_t2 v155 v158 = 1#1), (k0_t51_loop i k0_t2 v155 v158).OK) ∧
  (∀ k0_t51 : Fin (k0_t51_loop i k0_t2 v155 v158).trips, ∀ (k0_h19 : k0_cond19 k0_t2 = 1#1), ∀ (k0_h28 : k0_cond28 i k0_t2 v155 v158 = 1#1), ∀ a, (k0_off397 i k0_t2 v155 v158 k0_t51) a + S1x16.size a ≤ S256x128.size a) ∧
  (∀ k0_t51 : Fin (k0_t51_loop i k0_t2 v155 v158).trips, ∀ (k0_h19 : k0_cond19 k0_t2 = 1#1), ∀ (k0_h28 : k0_cond28 i k0_t2 v155 v158 = 1#1), ∀ a, (k0_off398 i k0_t2 v155 v158 k0_t51) a + S1x16.size a ≤ S256x128.size a) ∧
  (∀ k0_t51 : Fin (k0_t51_loop i k0_t2 v155 v158).trips, ∀ (k0_h19 : k0_cond19 k0_t2 = 1#1), ∀ (k0_h28 : k0_cond28 i k0_t2 v155 v158 = 1#1), ∀ a, (k0_off399 i k0_t2 v155 v158 k0_t51) a + S1x16.size a ≤ S256x128.size a) ∧
  (∀ k0_t51 : Fin (k0_t51_loop i k0_t2 v155 v158).trips, ∀ (k0_h19 : k0_cond19 k0_t2 = 1#1), ∀ (k0_h28 : k0_cond28 i k0_t2 v155 v158 = 1#1), ∀ a, (k0_off400 i k0_t2 v155 v158 k0_t51) a + S1x16.size a ≤ S256x128.size a) ∧
  (∀ k0_t51 : Fin (k0_t51_loop i k0_t2 v155 v158).trips, ∀ (k0_h19 : k0_cond19 k0_t2 = 1#1), ∀ (k0_h28 : k0_cond28 i k0_t2 v155 v158 = 1#1), ∀ a, (k0_off401 i k0_t2 v155 v158 k0_t51) a + S1x16.size a ≤ S256x128.size a) ∧
  (∀ k0_t51 : Fin (k0_t51_loop i k0_t2 v155 v158).trips, ∀ (k0_h19 : k0_cond19 k0_t2 = 1#1), ∀ (k0_h28 : k0_cond28 i k0_t2 v155 v158 = 1#1), ∀ a, (k0_off402 i k0_t2 v155 v158 k0_t51) a + S1x16.size a ≤ S256x128.size a) ∧
  (∀ k0_t51 : Fin (k0_t51_loop i k0_t2 v155 v158).trips, ∀ (k0_h19 : k0_cond19 k0_t2 = 1#1), ∀ (k0_h28 : k0_cond28 i k0_t2 v155 v158 = 1#1), ∀ a, (k0_off403 i k0_t2 v155 v158 k0_t51) a + S1x16.size a ≤ S256x128.size a) ∧
  (∀ k0_t51 : Fin (k0_t51_loop i k0_t2 v155 v158).trips, ∀ (k0_h19 : k0_cond19 k0_t2 = 1#1), ∀ (k0_h28 : k0_cond28 i k0_t2 v155 v158 = 1#1), ∀ a, (k0_off404 i k0_t2 v155 v158 k0_t51) a + S1x16.size a ≤ S256x128.size a) ∧
  (∀ (k0_h19 : k0_cond19 k0_t2 = 1#1), ∀ (k0_h28 : k0_cond28 i k0_t2 v155 v158 = 1#1), (k0_t52_loop i k0_t2 v155 v158).OK) ∧
  (∀ k0_t52 : Fin (k0_t52_loop i k0_t2 v155 v158).trips, ∀ (k0_h19 : k0_cond19 k0_t2 = 1#1), ∀ (k0_h28 : k0_cond28 i k0_t2 v155 v158 = 1#1), ∀ a, (k0_off405 i k0_t2 v155 v158 k0_t52) a + S1x16.size a ≤ S256x128.size a) ∧
  (∀ k0_t52 : Fin (k0_t52_loop i k0_t2 v155 v158).trips, ∀ (k0_h19 : k0_cond19 k0_t2 = 1#1), ∀ (k0_h28 : k0_cond28 i k0_t2 v155 v158 = 1#1), ∀ a, (k0_off406 i k0_t2 v155 v158 k0_t52) a + S1x16.size a ≤ S256x128.size a) ∧
  (∀ k0_t52 : Fin (k0_t52_loop i k0_t2 v155 v158).trips, ∀ (k0_h19 : k0_cond19 k0_t2 = 1#1), ∀ (k0_h28 : k0_cond28 i k0_t2 v155 v158 = 1#1), ∀ a, (k0_off407 i k0_t2 v155 v158 k0_t52) a + S1x16.size a ≤ S256x128.size a) ∧
  (∀ k0_t52 : Fin (k0_t52_loop i k0_t2 v155 v158).trips, ∀ (k0_h19 : k0_cond19 k0_t2 = 1#1), ∀ (k0_h28 : k0_cond28 i k0_t2 v155 v158 = 1#1), ∀ a, (k0_off408 i k0_t2 v155 v158 k0_t52) a + S1x16.size a ≤ S256x128.size a) ∧
  (∀ k0_t52 : Fin (k0_t52_loop i k0_t2 v155 v158).trips, ∀ (k0_h19 : k0_cond19 k0_t2 = 1#1), ∀ (k0_h28 : k0_cond28 i k0_t2 v155 v158 = 1#1), ∀ a, (k0_off409 i k0_t2 v155 v158 k0_t52) a + S1x16.size a ≤ S256x128.size a) ∧
  (∀ k0_t52 : Fin (k0_t52_loop i k0_t2 v155 v158).trips, ∀ (k0_h19 : k0_cond19 k0_t2 = 1#1), ∀ (k0_h28 : k0_cond28 i k0_t2 v155 v158 = 1#1), ∀ a, (k0_off410 i k0_t2 v155 v158 k0_t52) a + S1x16.size a ≤ S256x128.size a) ∧
  (∀ k0_t52 : Fin (k0_t52_loop i k0_t2 v155 v158).trips, ∀ (k0_h19 : k0_cond19 k0_t2 = 1#1), ∀ (k0_h28 : k0_cond28 i k0_t2 v155 v158 = 1#1), ∀ a, (k0_off411 i k0_t2 v155 v158 k0_t52) a + S1x16.size a ≤ S256x128.size a) ∧
  (∀ k0_t52 : Fin (k0_t52_loop i k0_t2 v155 v158).trips, ∀ (k0_h19 : k0_cond19 k0_t2 = 1#1), ∀ (k0_h28 : k0_cond28 i k0_t2 v155 v158 = 1#1), ∀ a, (k0_off412 i k0_t2 v155 v158 k0_t52) a + S1x16.size a ≤ S256x128.size a)
theorem k0_t51_ok : ∀ (i : grid0.Coords) (k0_t2 : Fin k0_t2_loop.trips) (v155 : BitVec 32) (v158 : BitVec 32) (k0_hw25 : k0_chk25 i k0_t2 v155 v158), ∀ (k0_h19 : k0_cond19 k0_t2 = 1#1), ∀ (k0_h28 : k0_cond28 i k0_t2 v155 v158 = 1#1), (k0_t51_loop i k0_t2 v155 v158).OK := fun i k0_t2 v155 v158 k0_hw25 k0_h19 k0_h28 => k0_hw25.1 k0_h19 k0_h28
theorem k0_off397_inb : ∀ (i : grid0.Coords) (k0_t2 : Fin k0_t2_loop.trips) (v155 : BitVec 32) (v158 : BitVec 32) (k0_hw25 : k0_chk25 i k0_t2 v155 v158) (k0_t51 : Fin (k0_t51_loop i k0_t2 v155 v158).trips), ∀ (k0_h19 : k0_cond19 k0_t2 = 1#1), ∀ (k0_h28 : k0_cond28 i k0_t2 v155 v158 = 1#1), ∀ a, (k0_off397 i k0_t2 v155 v158 k0_t51) a + S1x16.size a ≤ S256x128.size a := fun i k0_t2 v155 v158 k0_hw25 k0_t51 k0_h19 k0_h28 => k0_hw25.2.1 k0_t51 k0_h19 k0_h28
theorem k0_off398_inb : ∀ (i : grid0.Coords) (k0_t2 : Fin k0_t2_loop.trips) (v155 : BitVec 32) (v158 : BitVec 32) (k0_hw25 : k0_chk25 i k0_t2 v155 v158) (k0_t51 : Fin (k0_t51_loop i k0_t2 v155 v158).trips), ∀ (k0_h19 : k0_cond19 k0_t2 = 1#1), ∀ (k0_h28 : k0_cond28 i k0_t2 v155 v158 = 1#1), ∀ a, (k0_off398 i k0_t2 v155 v158 k0_t51) a + S1x16.size a ≤ S256x128.size a := fun i k0_t2 v155 v158 k0_hw25 k0_t51 k0_h19 k0_h28 => k0_hw25.2.2.1 k0_t51 k0_h19 k0_h28
theorem k0_off399_inb : ∀ (i : grid0.Coords) (k0_t2 : Fin k0_t2_loop.trips) (v155 : BitVec 32) (v158 : BitVec 32) (k0_hw25 : k0_chk25 i k0_t2 v155 v158) (k0_t51 : Fin (k0_t51_loop i k0_t2 v155 v158).trips), ∀ (k0_h19 : k0_cond19 k0_t2 = 1#1), ∀ (k0_h28 : k0_cond28 i k0_t2 v155 v158 = 1#1), ∀ a, (k0_off399 i k0_t2 v155 v158 k0_t51) a + S1x16.size a ≤ S256x128.size a := fun i k0_t2 v155 v158 k0_hw25 k0_t51 k0_h19 k0_h28 => k0_hw25.2.2.2.1 k0_t51 k0_h19 k0_h28
theorem k0_off400_inb : ∀ (i : grid0.Coords) (k0_t2 : Fin k0_t2_loop.trips) (v155 : BitVec 32) (v158 : BitVec 32) (k0_hw25 : k0_chk25 i k0_t2 v155 v158) (k0_t51 : Fin (k0_t51_loop i k0_t2 v155 v158).trips), ∀ (k0_h19 : k0_cond19 k0_t2 = 1#1), ∀ (k0_h28 : k0_cond28 i k0_t2 v155 v158 = 1#1), ∀ a, (k0_off400 i k0_t2 v155 v158 k0_t51) a + S1x16.size a ≤ S256x128.size a := fun i k0_t2 v155 v158 k0_hw25 k0_t51 k0_h19 k0_h28 => k0_hw25.2.2.2.2.1 k0_t51 k0_h19 k0_h28
theorem k0_off401_inb : ∀ (i : grid0.Coords) (k0_t2 : Fin k0_t2_loop.trips) (v155 : BitVec 32) (v158 : BitVec 32) (k0_hw25 : k0_chk25 i k0_t2 v155 v158) (k0_t51 : Fin (k0_t51_loop i k0_t2 v155 v158).trips), ∀ (k0_h19 : k0_cond19 k0_t2 = 1#1), ∀ (k0_h28 : k0_cond28 i k0_t2 v155 v158 = 1#1), ∀ a, (k0_off401 i k0_t2 v155 v158 k0_t51) a + S1x16.size a ≤ S256x128.size a := fun i k0_t2 v155 v158 k0_hw25 k0_t51 k0_h19 k0_h28 => k0_hw25.2.2.2.2.2.1 k0_t51 k0_h19 k0_h28
theorem k0_off402_inb : ∀ (i : grid0.Coords) (k0_t2 : Fin k0_t2_loop.trips) (v155 : BitVec 32) (v158 : BitVec 32) (k0_hw25 : k0_chk25 i k0_t2 v155 v158) (k0_t51 : Fin (k0_t51_loop i k0_t2 v155 v158).trips), ∀ (k0_h19 : k0_cond19 k0_t2 = 1#1), ∀ (k0_h28 : k0_cond28 i k0_t2 v155 v158 = 1#1), ∀ a, (k0_off402 i k0_t2 v155 v158 k0_t51) a + S1x16.size a ≤ S256x128.size a := fun i k0_t2 v155 v158 k0_hw25 k0_t51 k0_h19 k0_h28 => k0_hw25.2.2.2.2.2.2.1 k0_t51 k0_h19 k0_h28
theorem k0_off403_inb : ∀ (i : grid0.Coords) (k0_t2 : Fin k0_t2_loop.trips) (v155 : BitVec 32) (v158 : BitVec 32) (k0_hw25 : k0_chk25 i k0_t2 v155 v158) (k0_t51 : Fin (k0_t51_loop i k0_t2 v155 v158).trips), ∀ (k0_h19 : k0_cond19 k0_t2 = 1#1), ∀ (k0_h28 : k0_cond28 i k0_t2 v155 v158 = 1#1), ∀ a, (k0_off403 i k0_t2 v155 v158 k0_t51) a + S1x16.size a ≤ S256x128.size a := fun i k0_t2 v155 v158 k0_hw25 k0_t51 k0_h19 k0_h28 => k0_hw25.2.2.2.2.2.2.2.1 k0_t51 k0_h19 k0_h28
theorem k0_off404_inb : ∀ (i : grid0.Coords) (k0_t2 : Fin k0_t2_loop.trips) (v155 : BitVec 32) (v158 : BitVec 32) (k0_hw25 : k0_chk25 i k0_t2 v155 v158) (k0_t51 : Fin (k0_t51_loop i k0_t2 v155 v158).trips), ∀ (k0_h19 : k0_cond19 k0_t2 = 1#1), ∀ (k0_h28 : k0_cond28 i k0_t2 v155 v158 = 1#1), ∀ a, (k0_off404 i k0_t2 v155 v158 k0_t51) a + S1x16.size a ≤ S256x128.size a := fun i k0_t2 v155 v158 k0_hw25 k0_t51 k0_h19 k0_h28 => k0_hw25.2.2.2.2.2.2.2.2.1 k0_t51 k0_h19 k0_h28
theorem k0_t52_ok : ∀ (i : grid0.Coords) (k0_t2 : Fin k0_t2_loop.trips) (v155 : BitVec 32) (v158 : BitVec 32) (k0_hw25 : k0_chk25 i k0_t2 v155 v158), ∀ (k0_h19 : k0_cond19 k0_t2 = 1#1), ∀ (k0_h28 : k0_cond28 i k0_t2 v155 v158 = 1#1), (k0_t52_loop i k0_t2 v155 v158).OK := fun i k0_t2 v155 v158 k0_hw25 k0_h19 k0_h28 => k0_hw25.2.2.2.2.2.2.2.2.2.1 k0_h19 k0_h28
theorem k0_off405_inb : ∀ (i : grid0.Coords) (k0_t2 : Fin k0_t2_loop.trips) (v155 : BitVec 32) (v158 : BitVec 32) (k0_hw25 : k0_chk25 i k0_t2 v155 v158) (k0_t52 : Fin (k0_t52_loop i k0_t2 v155 v158).trips), ∀ (k0_h19 : k0_cond19 k0_t2 = 1#1), ∀ (k0_h28 : k0_cond28 i k0_t2 v155 v158 = 1#1), ∀ a, (k0_off405 i k0_t2 v155 v158 k0_t52) a + S1x16.size a ≤ S256x128.size a := fun i k0_t2 v155 v158 k0_hw25 k0_t52 k0_h19 k0_h28 => k0_hw25.2.2.2.2.2.2.2.2.2.2.1 k0_t52 k0_h19 k0_h28
theorem k0_off406_inb : ∀ (i : grid0.Coords) (k0_t2 : Fin k0_t2_loop.trips) (v155 : BitVec 32) (v158 : BitVec 32) (k0_hw25 : k0_chk25 i k0_t2 v155 v158) (k0_t52 : Fin (k0_t52_loop i k0_t2 v155 v158).trips), ∀ (k0_h19 : k0_cond19 k0_t2 = 1#1), ∀ (k0_h28 : k0_cond28 i k0_t2 v155 v158 = 1#1), ∀ a, (k0_off406 i k0_t2 v155 v158 k0_t52) a + S1x16.size a ≤ S256x128.size a := fun i k0_t2 v155 v158 k0_hw25 k0_t52 k0_h19 k0_h28 => k0_hw25.2.2.2.2.2.2.2.2.2.2.2.1 k0_t52 k0_h19 k0_h28
theorem k0_off407_inb : ∀ (i : grid0.Coords) (k0_t2 : Fin k0_t2_loop.trips) (v155 : BitVec 32) (v158 : BitVec 32) (k0_hw25 : k0_chk25 i k0_t2 v155 v158) (k0_t52 : Fin (k0_t52_loop i k0_t2 v155 v158).trips), ∀ (k0_h19 : k0_cond19 k0_t2 = 1#1), ∀ (k0_h28 : k0_cond28 i k0_t2 v155 v158 = 1#1), ∀ a, (k0_off407 i k0_t2 v155 v158 k0_t52) a + S1x16.size a ≤ S256x128.size a := fun i k0_t2 v155 v158 k0_hw25 k0_t52 k0_h19 k0_h28 => k0_hw25.2.2.2.2.2.2.2.2.2.2.2.2.1 k0_t52 k0_h19 k0_h28
theorem k0_off408_inb : ∀ (i : grid0.Coords) (k0_t2 : Fin k0_t2_loop.trips) (v155 : BitVec 32) (v158 : BitVec 32) (k0_hw25 : k0_chk25 i k0_t2 v155 v158) (k0_t52 : Fin (k0_t52_loop i k0_t2 v155 v158).trips), ∀ (k0_h19 : k0_cond19 k0_t2 = 1#1), ∀ (k0_h28 : k0_cond28 i k0_t2 v155 v158 = 1#1), ∀ a, (k0_off408 i k0_t2 v155 v158 k0_t52) a + S1x16.size a ≤ S256x128.size a := fun i k0_t2 v155 v158 k0_hw25 k0_t52 k0_h19 k0_h28 => k0_hw25.2.2.2.2.2.2.2.2.2.2.2.2.2.1 k0_t52 k0_h19 k0_h28
theorem k0_off409_inb : ∀ (i : grid0.Coords) (k0_t2 : Fin k0_t2_loop.trips) (v155 : BitVec 32) (v158 : BitVec 32) (k0_hw25 : k0_chk25 i k0_t2 v155 v158) (k0_t52 : Fin (k0_t52_loop i k0_t2 v155 v158).trips), ∀ (k0_h19 : k0_cond19 k0_t2 = 1#1), ∀ (k0_h28 : k0_cond28 i k0_t2 v155 v158 = 1#1), ∀ a, (k0_off409 i k0_t2 v155 v158 k0_t52) a + S1x16.size a ≤ S256x128.size a := fun i k0_t2 v155 v158 k0_hw25 k0_t52 k0_h19 k0_h28 => k0_hw25.2.2.2.2.2.2.2.2.2.2.2.2.2.2.1 k0_t52 k0_h19 k0_h28
theorem k0_off410_inb : ∀ (i : grid0.Coords) (k0_t2 : Fin k0_t2_loop.trips) (v155 : BitVec 32) (v158 : BitVec 32) (k0_hw25 : k0_chk25 i k0_t2 v155 v158) (k0_t52 : Fin (k0_t52_loop i k0_t2 v155 v158).trips), ∀ (k0_h19 : k0_cond19 k0_t2 = 1#1), ∀ (k0_h28 : k0_cond28 i k0_t2 v155 v158 = 1#1), ∀ a, (k0_off410 i k0_t2 v155 v158 k0_t52) a + S1x16.size a ≤ S256x128.size a := fun i k0_t2 v155 v158 k0_hw25 k0_t52 k0_h19 k0_h28 => k0_hw25.2.2.2.2.2.2.2.2.2.2.2.2.2.2.2.1 k0_t52 k0_h19 k0_h28
theorem k0_off411_inb : ∀ (i : grid0.Coords) (k0_t2 : Fin k0_t2_loop.trips) (v155 : BitVec 32) (v158 : BitVec 32) (k0_hw25 : k0_chk25 i k0_t2 v155 v158) (k0_t52 : Fin (k0_t52_loop i k0_t2 v155 v158).trips), ∀ (k0_h19 : k0_cond19 k0_t2 = 1#1), ∀ (k0_h28 : k0_cond28 i k0_t2 v155 v158 = 1#1), ∀ a, (k0_off411 i k0_t2 v155 v158 k0_t52) a + S1x16.size a ≤ S256x128.size a := fun i k0_t2 v155 v158 k0_hw25 k0_t52 k0_h19 k0_h28 => k0_hw25.2.2.2.2.2.2.2.2.2.2.2.2.2.2.2.2.1 k0_t52 k0_h19 k0_h28
theorem k0_off412_inb : ∀ (i : grid0.Coords) (k0_t2 : Fin k0_t2_loop.trips) (v155 : BitVec 32) (v158 : BitVec 32) (k0_hw25 : k0_chk25 i k0_t2 v155 v158) (k0_t52 : Fin (k0_t52_loop i k0_t2 v155 v158).trips), ∀ (k0_h19 : k0_cond19 k0_t2 = 1#1), ∀ (k0_h28 : k0_cond28 i k0_t2 v155 v158 = 1#1), ∀ a, (k0_off412 i k0_t2 v155 v158 k0_t52) a + S1x16.size a ≤ S256x128.size a := fun i k0_t2 v155 v158 k0_hw25 k0_t52 k0_h19 k0_h28 => k0_hw25.2.2.2.2.2.2.2.2.2.2.2.2.2.2.2.2.2 k0_t52 k0_h19 k0_h28

@[reducible] def k0_t53_loop (i : grid0.Coords) (k0_t2 : Fin k0_t2_loop.trips) (v164 : BitVec 32) (v167 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v165 : BitVec 32 := Scalar.maxsi v164 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_85 : BitVec 32 := 1#32
  ⟨v165, v234, c1_i32_85⟩
def k0_cond29 (i : grid0.Coords) (k0_t2 : Fin k0_t2_loop.trips) (v164 : BitVec 32) (v167 : BitVec 32) : BitVec 1 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v168 : BitVec 32 := Scalar.minsi v167 v77
  let v165 : BitVec 32 := Scalar.maxsi v164 v75
  let v169 : BitVec 1 := Scalar.cmpi .sgt v168 v165
  let v170 : BitVec 32 := Scalar.extui v169
  let c0_i32_74 : BitVec 32 := 0#32
  let v171 : BitVec 1 := Scalar.cmpi .ne v170 c0_i32_74
  v171

def k0_off413 (i : grid0.Coords) (k0_t2 : Fin k0_t2_loop.trips) (v164 : BitVec 32) (v167 : BitVec 32) (k0_t53 : Fin (k0_t53_loop i k0_t2 v164 v167).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v165 : BitVec 32 := Scalar.maxsi v164 v75
  let c1_i32_85 : BitVec 32 := 1#32
  let arg19 : BitVec 32 := Scf.iv v165 c1_i32_85 k0_t53
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off414 (i : grid0.Coords) (k0_t2 : Fin k0_t2_loop.trips) (v164 : BitVec 32) (v167 : BitVec 32) (k0_t53 : Fin (k0_t53_loop i k0_t2 v164 v167).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v165 : BitVec 32 := Scalar.maxsi v164 v75
  let c1_i32_85 : BitVec 32 := 1#32
  let arg19 : BitVec 32 := Scf.iv v165 c1_i32_85 k0_t53
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off415 (i : grid0.Coords) (k0_t2 : Fin k0_t2_loop.trips) (v164 : BitVec 32) (v167 : BitVec 32) (k0_t53 : Fin (k0_t53_loop i k0_t2 v164 v167).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v165 : BitVec 32 := Scalar.maxsi v164 v75
  let c1_i32_85 : BitVec 32 := 1#32
  let arg19 : BitVec 32 := Scf.iv v165 c1_i32_85 k0_t53
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off416 (i : grid0.Coords) (k0_t2 : Fin k0_t2_loop.trips) (v164 : BitVec 32) (v167 : BitVec 32) (k0_t53 : Fin (k0_t53_loop i k0_t2 v164 v167).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v165 : BitVec 32 := Scalar.maxsi v164 v75
  let c1_i32_85 : BitVec 32 := 1#32
  let arg19 : BitVec 32 := Scf.iv v165 c1_i32_85 k0_t53
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off417 (i : grid0.Coords) (k0_t2 : Fin k0_t2_loop.trips) (v164 : BitVec 32) (v167 : BitVec 32) (k0_t53 : Fin (k0_t53_loop i k0_t2 v164 v167).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v165 : BitVec 32 := Scalar.maxsi v164 v75
  let c1_i32_85 : BitVec 32 := 1#32
  let arg19 : BitVec 32 := Scf.iv v165 c1_i32_85 k0_t53
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off418 (i : grid0.Coords) (k0_t2 : Fin k0_t2_loop.trips) (v164 : BitVec 32) (v167 : BitVec 32) (k0_t53 : Fin (k0_t53_loop i k0_t2 v164 v167).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v165 : BitVec 32 := Scalar.maxsi v164 v75
  let c1_i32_85 : BitVec 32 := 1#32
  let arg19 : BitVec 32 := Scf.iv v165 c1_i32_85 k0_t53
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off419 (i : grid0.Coords) (k0_t2 : Fin k0_t2_loop.trips) (v164 : BitVec 32) (v167 : BitVec 32) (k0_t53 : Fin (k0_t53_loop i k0_t2 v164 v167).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v165 : BitVec 32 := Scalar.maxsi v164 v75
  let c1_i32_85 : BitVec 32 := 1#32
  let arg19 : BitVec 32 := Scf.iv v165 c1_i32_85 k0_t53
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off420 (i : grid0.Coords) (k0_t2 : Fin k0_t2_loop.trips) (v164 : BitVec 32) (v167 : BitVec 32) (k0_t53 : Fin (k0_t53_loop i k0_t2 v164 v167).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v165 : BitVec 32 := Scalar.maxsi v164 v75
  let c1_i32_85 : BitVec 32 := 1#32
  let arg19 : BitVec 32 := Scf.iv v165 c1_i32_85 k0_t53
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]
@[reducible] def k0_t54_loop (i : grid0.Coords) (k0_t2 : Fin k0_t2_loop.trips) (v164 : BitVec 32) (v167 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v165 : BitVec 32 := Scalar.maxsi v164 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let v231 : BitVec 32 := Scalar.addi v165 v230
  let c1_i32_86 : BitVec 32 := 1#32
  ⟨v234, v231, c1_i32_86⟩
def k0_off421 (i : grid0.Coords) (k0_t2 : Fin k0_t2_loop.trips) (v164 : BitVec 32) (v167 : BitVec 32) (k0_t54 : Fin (k0_t54_loop i k0_t2 v164 v167).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v165 : BitVec 32 := Scalar.maxsi v164 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_86 : BitVec 32 := 1#32
  let arg19 : BitVec 32 := Scf.iv v234 c1_i32_86 k0_t54
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off422 (i : grid0.Coords) (k0_t2 : Fin k0_t2_loop.trips) (v164 : BitVec 32) (v167 : BitVec 32) (k0_t54 : Fin (k0_t54_loop i k0_t2 v164 v167).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v165 : BitVec 32 := Scalar.maxsi v164 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_86 : BitVec 32 := 1#32
  let arg19 : BitVec 32 := Scf.iv v234 c1_i32_86 k0_t54
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off423 (i : grid0.Coords) (k0_t2 : Fin k0_t2_loop.trips) (v164 : BitVec 32) (v167 : BitVec 32) (k0_t54 : Fin (k0_t54_loop i k0_t2 v164 v167).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v165 : BitVec 32 := Scalar.maxsi v164 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_86 : BitVec 32 := 1#32
  let arg19 : BitVec 32 := Scf.iv v234 c1_i32_86 k0_t54
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off424 (i : grid0.Coords) (k0_t2 : Fin k0_t2_loop.trips) (v164 : BitVec 32) (v167 : BitVec 32) (k0_t54 : Fin (k0_t54_loop i k0_t2 v164 v167).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v165 : BitVec 32 := Scalar.maxsi v164 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_86 : BitVec 32 := 1#32
  let arg19 : BitVec 32 := Scf.iv v234 c1_i32_86 k0_t54
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off425 (i : grid0.Coords) (k0_t2 : Fin k0_t2_loop.trips) (v164 : BitVec 32) (v167 : BitVec 32) (k0_t54 : Fin (k0_t54_loop i k0_t2 v164 v167).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v165 : BitVec 32 := Scalar.maxsi v164 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_86 : BitVec 32 := 1#32
  let arg19 : BitVec 32 := Scf.iv v234 c1_i32_86 k0_t54
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off426 (i : grid0.Coords) (k0_t2 : Fin k0_t2_loop.trips) (v164 : BitVec 32) (v167 : BitVec 32) (k0_t54 : Fin (k0_t54_loop i k0_t2 v164 v167).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v165 : BitVec 32 := Scalar.maxsi v164 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_86 : BitVec 32 := 1#32
  let arg19 : BitVec 32 := Scf.iv v234 c1_i32_86 k0_t54
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off427 (i : grid0.Coords) (k0_t2 : Fin k0_t2_loop.trips) (v164 : BitVec 32) (v167 : BitVec 32) (k0_t54 : Fin (k0_t54_loop i k0_t2 v164 v167).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v165 : BitVec 32 := Scalar.maxsi v164 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_86 : BitVec 32 := 1#32
  let arg19 : BitVec 32 := Scf.iv v234 c1_i32_86 k0_t54
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off428 (i : grid0.Coords) (k0_t2 : Fin k0_t2_loop.trips) (v164 : BitVec 32) (v167 : BitVec 32) (k0_t54 : Fin (k0_t54_loop i k0_t2 v164 v167).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v165 : BitVec 32 := Scalar.maxsi v164 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_86 : BitVec 32 := 1#32
  let arg19 : BitVec 32 := Scf.iv v234 c1_i32_86 k0_t54
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]

def k0_chk26 (i : grid0.Coords) (k0_t2 : Fin k0_t2_loop.trips) (v164 : BitVec 32) (v167 : BitVec 32) : Prop :=
  (∀ (k0_h19 : k0_cond19 k0_t2 = 1#1), ∀ (k0_h29 : k0_cond29 i k0_t2 v164 v167 = 1#1), (k0_t53_loop i k0_t2 v164 v167).OK) ∧
  (∀ k0_t53 : Fin (k0_t53_loop i k0_t2 v164 v167).trips, ∀ (k0_h19 : k0_cond19 k0_t2 = 1#1), ∀ (k0_h29 : k0_cond29 i k0_t2 v164 v167 = 1#1), ∀ a, (k0_off413 i k0_t2 v164 v167 k0_t53) a + S1x16.size a ≤ S256x128.size a) ∧
  (∀ k0_t53 : Fin (k0_t53_loop i k0_t2 v164 v167).trips, ∀ (k0_h19 : k0_cond19 k0_t2 = 1#1), ∀ (k0_h29 : k0_cond29 i k0_t2 v164 v167 = 1#1), ∀ a, (k0_off414 i k0_t2 v164 v167 k0_t53) a + S1x16.size a ≤ S256x128.size a) ∧
  (∀ k0_t53 : Fin (k0_t53_loop i k0_t2 v164 v167).trips, ∀ (k0_h19 : k0_cond19 k0_t2 = 1#1), ∀ (k0_h29 : k0_cond29 i k0_t2 v164 v167 = 1#1), ∀ a, (k0_off415 i k0_t2 v164 v167 k0_t53) a + S1x16.size a ≤ S256x128.size a) ∧
  (∀ k0_t53 : Fin (k0_t53_loop i k0_t2 v164 v167).trips, ∀ (k0_h19 : k0_cond19 k0_t2 = 1#1), ∀ (k0_h29 : k0_cond29 i k0_t2 v164 v167 = 1#1), ∀ a, (k0_off416 i k0_t2 v164 v167 k0_t53) a + S1x16.size a ≤ S256x128.size a) ∧
  (∀ k0_t53 : Fin (k0_t53_loop i k0_t2 v164 v167).trips, ∀ (k0_h19 : k0_cond19 k0_t2 = 1#1), ∀ (k0_h29 : k0_cond29 i k0_t2 v164 v167 = 1#1), ∀ a, (k0_off417 i k0_t2 v164 v167 k0_t53) a + S1x16.size a ≤ S256x128.size a) ∧
  (∀ k0_t53 : Fin (k0_t53_loop i k0_t2 v164 v167).trips, ∀ (k0_h19 : k0_cond19 k0_t2 = 1#1), ∀ (k0_h29 : k0_cond29 i k0_t2 v164 v167 = 1#1), ∀ a, (k0_off418 i k0_t2 v164 v167 k0_t53) a + S1x16.size a ≤ S256x128.size a) ∧
  (∀ k0_t53 : Fin (k0_t53_loop i k0_t2 v164 v167).trips, ∀ (k0_h19 : k0_cond19 k0_t2 = 1#1), ∀ (k0_h29 : k0_cond29 i k0_t2 v164 v167 = 1#1), ∀ a, (k0_off419 i k0_t2 v164 v167 k0_t53) a + S1x16.size a ≤ S256x128.size a) ∧
  (∀ k0_t53 : Fin (k0_t53_loop i k0_t2 v164 v167).trips, ∀ (k0_h19 : k0_cond19 k0_t2 = 1#1), ∀ (k0_h29 : k0_cond29 i k0_t2 v164 v167 = 1#1), ∀ a, (k0_off420 i k0_t2 v164 v167 k0_t53) a + S1x16.size a ≤ S256x128.size a) ∧
  (∀ (k0_h19 : k0_cond19 k0_t2 = 1#1), ∀ (k0_h29 : k0_cond29 i k0_t2 v164 v167 = 1#1), (k0_t54_loop i k0_t2 v164 v167).OK) ∧
  (∀ k0_t54 : Fin (k0_t54_loop i k0_t2 v164 v167).trips, ∀ (k0_h19 : k0_cond19 k0_t2 = 1#1), ∀ (k0_h29 : k0_cond29 i k0_t2 v164 v167 = 1#1), ∀ a, (k0_off421 i k0_t2 v164 v167 k0_t54) a + S1x16.size a ≤ S256x128.size a) ∧
  (∀ k0_t54 : Fin (k0_t54_loop i k0_t2 v164 v167).trips, ∀ (k0_h19 : k0_cond19 k0_t2 = 1#1), ∀ (k0_h29 : k0_cond29 i k0_t2 v164 v167 = 1#1), ∀ a, (k0_off422 i k0_t2 v164 v167 k0_t54) a + S1x16.size a ≤ S256x128.size a) ∧
  (∀ k0_t54 : Fin (k0_t54_loop i k0_t2 v164 v167).trips, ∀ (k0_h19 : k0_cond19 k0_t2 = 1#1), ∀ (k0_h29 : k0_cond29 i k0_t2 v164 v167 = 1#1), ∀ a, (k0_off423 i k0_t2 v164 v167 k0_t54) a + S1x16.size a ≤ S256x128.size a) ∧
  (∀ k0_t54 : Fin (k0_t54_loop i k0_t2 v164 v167).trips, ∀ (k0_h19 : k0_cond19 k0_t2 = 1#1), ∀ (k0_h29 : k0_cond29 i k0_t2 v164 v167 = 1#1), ∀ a, (k0_off424 i k0_t2 v164 v167 k0_t54) a + S1x16.size a ≤ S256x128.size a) ∧
  (∀ k0_t54 : Fin (k0_t54_loop i k0_t2 v164 v167).trips, ∀ (k0_h19 : k0_cond19 k0_t2 = 1#1), ∀ (k0_h29 : k0_cond29 i k0_t2 v164 v167 = 1#1), ∀ a, (k0_off425 i k0_t2 v164 v167 k0_t54) a + S1x16.size a ≤ S256x128.size a) ∧
  (∀ k0_t54 : Fin (k0_t54_loop i k0_t2 v164 v167).trips, ∀ (k0_h19 : k0_cond19 k0_t2 = 1#1), ∀ (k0_h29 : k0_cond29 i k0_t2 v164 v167 = 1#1), ∀ a, (k0_off426 i k0_t2 v164 v167 k0_t54) a + S1x16.size a ≤ S256x128.size a) ∧
  (∀ k0_t54 : Fin (k0_t54_loop i k0_t2 v164 v167).trips, ∀ (k0_h19 : k0_cond19 k0_t2 = 1#1), ∀ (k0_h29 : k0_cond29 i k0_t2 v164 v167 = 1#1), ∀ a, (k0_off427 i k0_t2 v164 v167 k0_t54) a + S1x16.size a ≤ S256x128.size a) ∧
  (∀ k0_t54 : Fin (k0_t54_loop i k0_t2 v164 v167).trips, ∀ (k0_h19 : k0_cond19 k0_t2 = 1#1), ∀ (k0_h29 : k0_cond29 i k0_t2 v164 v167 = 1#1), ∀ a, (k0_off428 i k0_t2 v164 v167 k0_t54) a + S1x16.size a ≤ S256x128.size a)
theorem k0_t53_ok : ∀ (i : grid0.Coords) (k0_t2 : Fin k0_t2_loop.trips) (v164 : BitVec 32) (v167 : BitVec 32) (k0_hw26 : k0_chk26 i k0_t2 v164 v167), ∀ (k0_h19 : k0_cond19 k0_t2 = 1#1), ∀ (k0_h29 : k0_cond29 i k0_t2 v164 v167 = 1#1), (k0_t53_loop i k0_t2 v164 v167).OK := fun i k0_t2 v164 v167 k0_hw26 k0_h19 k0_h29 => k0_hw26.1 k0_h19 k0_h29
theorem k0_off413_inb : ∀ (i : grid0.Coords) (k0_t2 : Fin k0_t2_loop.trips) (v164 : BitVec 32) (v167 : BitVec 32) (k0_hw26 : k0_chk26 i k0_t2 v164 v167) (k0_t53 : Fin (k0_t53_loop i k0_t2 v164 v167).trips), ∀ (k0_h19 : k0_cond19 k0_t2 = 1#1), ∀ (k0_h29 : k0_cond29 i k0_t2 v164 v167 = 1#1), ∀ a, (k0_off413 i k0_t2 v164 v167 k0_t53) a + S1x16.size a ≤ S256x128.size a := fun i k0_t2 v164 v167 k0_hw26 k0_t53 k0_h19 k0_h29 => k0_hw26.2.1 k0_t53 k0_h19 k0_h29
theorem k0_off414_inb : ∀ (i : grid0.Coords) (k0_t2 : Fin k0_t2_loop.trips) (v164 : BitVec 32) (v167 : BitVec 32) (k0_hw26 : k0_chk26 i k0_t2 v164 v167) (k0_t53 : Fin (k0_t53_loop i k0_t2 v164 v167).trips), ∀ (k0_h19 : k0_cond19 k0_t2 = 1#1), ∀ (k0_h29 : k0_cond29 i k0_t2 v164 v167 = 1#1), ∀ a, (k0_off414 i k0_t2 v164 v167 k0_t53) a + S1x16.size a ≤ S256x128.size a := fun i k0_t2 v164 v167 k0_hw26 k0_t53 k0_h19 k0_h29 => k0_hw26.2.2.1 k0_t53 k0_h19 k0_h29
theorem k0_off415_inb : ∀ (i : grid0.Coords) (k0_t2 : Fin k0_t2_loop.trips) (v164 : BitVec 32) (v167 : BitVec 32) (k0_hw26 : k0_chk26 i k0_t2 v164 v167) (k0_t53 : Fin (k0_t53_loop i k0_t2 v164 v167).trips), ∀ (k0_h19 : k0_cond19 k0_t2 = 1#1), ∀ (k0_h29 : k0_cond29 i k0_t2 v164 v167 = 1#1), ∀ a, (k0_off415 i k0_t2 v164 v167 k0_t53) a + S1x16.size a ≤ S256x128.size a := fun i k0_t2 v164 v167 k0_hw26 k0_t53 k0_h19 k0_h29 => k0_hw26.2.2.2.1 k0_t53 k0_h19 k0_h29
theorem k0_off416_inb : ∀ (i : grid0.Coords) (k0_t2 : Fin k0_t2_loop.trips) (v164 : BitVec 32) (v167 : BitVec 32) (k0_hw26 : k0_chk26 i k0_t2 v164 v167) (k0_t53 : Fin (k0_t53_loop i k0_t2 v164 v167).trips), ∀ (k0_h19 : k0_cond19 k0_t2 = 1#1), ∀ (k0_h29 : k0_cond29 i k0_t2 v164 v167 = 1#1), ∀ a, (k0_off416 i k0_t2 v164 v167 k0_t53) a + S1x16.size a ≤ S256x128.size a := fun i k0_t2 v164 v167 k0_hw26 k0_t53 k0_h19 k0_h29 => k0_hw26.2.2.2.2.1 k0_t53 k0_h19 k0_h29
theorem k0_off417_inb : ∀ (i : grid0.Coords) (k0_t2 : Fin k0_t2_loop.trips) (v164 : BitVec 32) (v167 : BitVec 32) (k0_hw26 : k0_chk26 i k0_t2 v164 v167) (k0_t53 : Fin (k0_t53_loop i k0_t2 v164 v167).trips), ∀ (k0_h19 : k0_cond19 k0_t2 = 1#1), ∀ (k0_h29 : k0_cond29 i k0_t2 v164 v167 = 1#1), ∀ a, (k0_off417 i k0_t2 v164 v167 k0_t53) a + S1x16.size a ≤ S256x128.size a := fun i k0_t2 v164 v167 k0_hw26 k0_t53 k0_h19 k0_h29 => k0_hw26.2.2.2.2.2.1 k0_t53 k0_h19 k0_h29
theorem k0_off418_inb : ∀ (i : grid0.Coords) (k0_t2 : Fin k0_t2_loop.trips) (v164 : BitVec 32) (v167 : BitVec 32) (k0_hw26 : k0_chk26 i k0_t2 v164 v167) (k0_t53 : Fin (k0_t53_loop i k0_t2 v164 v167).trips), ∀ (k0_h19 : k0_cond19 k0_t2 = 1#1), ∀ (k0_h29 : k0_cond29 i k0_t2 v164 v167 = 1#1), ∀ a, (k0_off418 i k0_t2 v164 v167 k0_t53) a + S1x16.size a ≤ S256x128.size a := fun i k0_t2 v164 v167 k0_hw26 k0_t53 k0_h19 k0_h29 => k0_hw26.2.2.2.2.2.2.1 k0_t53 k0_h19 k0_h29
theorem k0_off419_inb : ∀ (i : grid0.Coords) (k0_t2 : Fin k0_t2_loop.trips) (v164 : BitVec 32) (v167 : BitVec 32) (k0_hw26 : k0_chk26 i k0_t2 v164 v167) (k0_t53 : Fin (k0_t53_loop i k0_t2 v164 v167).trips), ∀ (k0_h19 : k0_cond19 k0_t2 = 1#1), ∀ (k0_h29 : k0_cond29 i k0_t2 v164 v167 = 1#1), ∀ a, (k0_off419 i k0_t2 v164 v167 k0_t53) a + S1x16.size a ≤ S256x128.size a := fun i k0_t2 v164 v167 k0_hw26 k0_t53 k0_h19 k0_h29 => k0_hw26.2.2.2.2.2.2.2.1 k0_t53 k0_h19 k0_h29
theorem k0_off420_inb : ∀ (i : grid0.Coords) (k0_t2 : Fin k0_t2_loop.trips) (v164 : BitVec 32) (v167 : BitVec 32) (k0_hw26 : k0_chk26 i k0_t2 v164 v167) (k0_t53 : Fin (k0_t53_loop i k0_t2 v164 v167).trips), ∀ (k0_h19 : k0_cond19 k0_t2 = 1#1), ∀ (k0_h29 : k0_cond29 i k0_t2 v164 v167 = 1#1), ∀ a, (k0_off420 i k0_t2 v164 v167 k0_t53) a + S1x16.size a ≤ S256x128.size a := fun i k0_t2 v164 v167 k0_hw26 k0_t53 k0_h19 k0_h29 => k0_hw26.2.2.2.2.2.2.2.2.1 k0_t53 k0_h19 k0_h29
theorem k0_t54_ok : ∀ (i : grid0.Coords) (k0_t2 : Fin k0_t2_loop.trips) (v164 : BitVec 32) (v167 : BitVec 32) (k0_hw26 : k0_chk26 i k0_t2 v164 v167), ∀ (k0_h19 : k0_cond19 k0_t2 = 1#1), ∀ (k0_h29 : k0_cond29 i k0_t2 v164 v167 = 1#1), (k0_t54_loop i k0_t2 v164 v167).OK := fun i k0_t2 v164 v167 k0_hw26 k0_h19 k0_h29 => k0_hw26.2.2.2.2.2.2.2.2.2.1 k0_h19 k0_h29
theorem k0_off421_inb : ∀ (i : grid0.Coords) (k0_t2 : Fin k0_t2_loop.trips) (v164 : BitVec 32) (v167 : BitVec 32) (k0_hw26 : k0_chk26 i k0_t2 v164 v167) (k0_t54 : Fin (k0_t54_loop i k0_t2 v164 v167).trips), ∀ (k0_h19 : k0_cond19 k0_t2 = 1#1), ∀ (k0_h29 : k0_cond29 i k0_t2 v164 v167 = 1#1), ∀ a, (k0_off421 i k0_t2 v164 v167 k0_t54) a + S1x16.size a ≤ S256x128.size a := fun i k0_t2 v164 v167 k0_hw26 k0_t54 k0_h19 k0_h29 => k0_hw26.2.2.2.2.2.2.2.2.2.2.1 k0_t54 k0_h19 k0_h29
theorem k0_off422_inb : ∀ (i : grid0.Coords) (k0_t2 : Fin k0_t2_loop.trips) (v164 : BitVec 32) (v167 : BitVec 32) (k0_hw26 : k0_chk26 i k0_t2 v164 v167) (k0_t54 : Fin (k0_t54_loop i k0_t2 v164 v167).trips), ∀ (k0_h19 : k0_cond19 k0_t2 = 1#1), ∀ (k0_h29 : k0_cond29 i k0_t2 v164 v167 = 1#1), ∀ a, (k0_off422 i k0_t2 v164 v167 k0_t54) a + S1x16.size a ≤ S256x128.size a := fun i k0_t2 v164 v167 k0_hw26 k0_t54 k0_h19 k0_h29 => k0_hw26.2.2.2.2.2.2.2.2.2.2.2.1 k0_t54 k0_h19 k0_h29
theorem k0_off423_inb : ∀ (i : grid0.Coords) (k0_t2 : Fin k0_t2_loop.trips) (v164 : BitVec 32) (v167 : BitVec 32) (k0_hw26 : k0_chk26 i k0_t2 v164 v167) (k0_t54 : Fin (k0_t54_loop i k0_t2 v164 v167).trips), ∀ (k0_h19 : k0_cond19 k0_t2 = 1#1), ∀ (k0_h29 : k0_cond29 i k0_t2 v164 v167 = 1#1), ∀ a, (k0_off423 i k0_t2 v164 v167 k0_t54) a + S1x16.size a ≤ S256x128.size a := fun i k0_t2 v164 v167 k0_hw26 k0_t54 k0_h19 k0_h29 => k0_hw26.2.2.2.2.2.2.2.2.2.2.2.2.1 k0_t54 k0_h19 k0_h29
theorem k0_off424_inb : ∀ (i : grid0.Coords) (k0_t2 : Fin k0_t2_loop.trips) (v164 : BitVec 32) (v167 : BitVec 32) (k0_hw26 : k0_chk26 i k0_t2 v164 v167) (k0_t54 : Fin (k0_t54_loop i k0_t2 v164 v167).trips), ∀ (k0_h19 : k0_cond19 k0_t2 = 1#1), ∀ (k0_h29 : k0_cond29 i k0_t2 v164 v167 = 1#1), ∀ a, (k0_off424 i k0_t2 v164 v167 k0_t54) a + S1x16.size a ≤ S256x128.size a := fun i k0_t2 v164 v167 k0_hw26 k0_t54 k0_h19 k0_h29 => k0_hw26.2.2.2.2.2.2.2.2.2.2.2.2.2.1 k0_t54 k0_h19 k0_h29
theorem k0_off425_inb : ∀ (i : grid0.Coords) (k0_t2 : Fin k0_t2_loop.trips) (v164 : BitVec 32) (v167 : BitVec 32) (k0_hw26 : k0_chk26 i k0_t2 v164 v167) (k0_t54 : Fin (k0_t54_loop i k0_t2 v164 v167).trips), ∀ (k0_h19 : k0_cond19 k0_t2 = 1#1), ∀ (k0_h29 : k0_cond29 i k0_t2 v164 v167 = 1#1), ∀ a, (k0_off425 i k0_t2 v164 v167 k0_t54) a + S1x16.size a ≤ S256x128.size a := fun i k0_t2 v164 v167 k0_hw26 k0_t54 k0_h19 k0_h29 => k0_hw26.2.2.2.2.2.2.2.2.2.2.2.2.2.2.1 k0_t54 k0_h19 k0_h29
theorem k0_off426_inb : ∀ (i : grid0.Coords) (k0_t2 : Fin k0_t2_loop.trips) (v164 : BitVec 32) (v167 : BitVec 32) (k0_hw26 : k0_chk26 i k0_t2 v164 v167) (k0_t54 : Fin (k0_t54_loop i k0_t2 v164 v167).trips), ∀ (k0_h19 : k0_cond19 k0_t2 = 1#1), ∀ (k0_h29 : k0_cond29 i k0_t2 v164 v167 = 1#1), ∀ a, (k0_off426 i k0_t2 v164 v167 k0_t54) a + S1x16.size a ≤ S256x128.size a := fun i k0_t2 v164 v167 k0_hw26 k0_t54 k0_h19 k0_h29 => k0_hw26.2.2.2.2.2.2.2.2.2.2.2.2.2.2.2.1 k0_t54 k0_h19 k0_h29
theorem k0_off427_inb : ∀ (i : grid0.Coords) (k0_t2 : Fin k0_t2_loop.trips) (v164 : BitVec 32) (v167 : BitVec 32) (k0_hw26 : k0_chk26 i k0_t2 v164 v167) (k0_t54 : Fin (k0_t54_loop i k0_t2 v164 v167).trips), ∀ (k0_h19 : k0_cond19 k0_t2 = 1#1), ∀ (k0_h29 : k0_cond29 i k0_t2 v164 v167 = 1#1), ∀ a, (k0_off427 i k0_t2 v164 v167 k0_t54) a + S1x16.size a ≤ S256x128.size a := fun i k0_t2 v164 v167 k0_hw26 k0_t54 k0_h19 k0_h29 => k0_hw26.2.2.2.2.2.2.2.2.2.2.2.2.2.2.2.2.1 k0_t54 k0_h19 k0_h29
theorem k0_off428_inb : ∀ (i : grid0.Coords) (k0_t2 : Fin k0_t2_loop.trips) (v164 : BitVec 32) (v167 : BitVec 32) (k0_hw26 : k0_chk26 i k0_t2 v164 v167) (k0_t54 : Fin (k0_t54_loop i k0_t2 v164 v167).trips), ∀ (k0_h19 : k0_cond19 k0_t2 = 1#1), ∀ (k0_h29 : k0_cond29 i k0_t2 v164 v167 = 1#1), ∀ a, (k0_off428 i k0_t2 v164 v167 k0_t54) a + S1x16.size a ≤ S256x128.size a := fun i k0_t2 v164 v167 k0_hw26 k0_t54 k0_h19 k0_h29 => k0_hw26.2.2.2.2.2.2.2.2.2.2.2.2.2.2.2.2.2 k0_t54 k0_h19 k0_h29

@[reducible] def k0_t55_loop (i : grid0.Coords) (k0_t2 : Fin k0_t2_loop.trips) (v173 : BitVec 32) (v176 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v174 : BitVec 32 := Scalar.maxsi v173 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_85 : BitVec 32 := 1#32
  ⟨v174, v234, c1_i32_85⟩
def k0_cond30 (i : grid0.Coords) (k0_t2 : Fin k0_t2_loop.trips) (v173 : BitVec 32) (v176 : BitVec 32) : BitVec 1 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v177 : BitVec 32 := Scalar.minsi v176 v77
  let v174 : BitVec 32 := Scalar.maxsi v173 v75
  let v178 : BitVec 1 := Scalar.cmpi .sgt v177 v174
  let v179 : BitVec 32 := Scalar.extui v178
  let c0_i32_75 : BitVec 32 := 0#32
  let v180 : BitVec 1 := Scalar.cmpi .ne v179 c0_i32_75
  v180

def k0_off429 (i : grid0.Coords) (k0_t2 : Fin k0_t2_loop.trips) (v173 : BitVec 32) (v176 : BitVec 32) (k0_t55 : Fin (k0_t55_loop i k0_t2 v173 v176).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v174 : BitVec 32 := Scalar.maxsi v173 v75
  let c1_i32_85 : BitVec 32 := 1#32
  let arg19 : BitVec 32 := Scf.iv v174 c1_i32_85 k0_t55
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off430 (i : grid0.Coords) (k0_t2 : Fin k0_t2_loop.trips) (v173 : BitVec 32) (v176 : BitVec 32) (k0_t55 : Fin (k0_t55_loop i k0_t2 v173 v176).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v174 : BitVec 32 := Scalar.maxsi v173 v75
  let c1_i32_85 : BitVec 32 := 1#32
  let arg19 : BitVec 32 := Scf.iv v174 c1_i32_85 k0_t55
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off431 (i : grid0.Coords) (k0_t2 : Fin k0_t2_loop.trips) (v173 : BitVec 32) (v176 : BitVec 32) (k0_t55 : Fin (k0_t55_loop i k0_t2 v173 v176).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v174 : BitVec 32 := Scalar.maxsi v173 v75
  let c1_i32_85 : BitVec 32 := 1#32
  let arg19 : BitVec 32 := Scf.iv v174 c1_i32_85 k0_t55
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off432 (i : grid0.Coords) (k0_t2 : Fin k0_t2_loop.trips) (v173 : BitVec 32) (v176 : BitVec 32) (k0_t55 : Fin (k0_t55_loop i k0_t2 v173 v176).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v174 : BitVec 32 := Scalar.maxsi v173 v75
  let c1_i32_85 : BitVec 32 := 1#32
  let arg19 : BitVec 32 := Scf.iv v174 c1_i32_85 k0_t55
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off433 (i : grid0.Coords) (k0_t2 : Fin k0_t2_loop.trips) (v173 : BitVec 32) (v176 : BitVec 32) (k0_t55 : Fin (k0_t55_loop i k0_t2 v173 v176).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v174 : BitVec 32 := Scalar.maxsi v173 v75
  let c1_i32_85 : BitVec 32 := 1#32
  let arg19 : BitVec 32 := Scf.iv v174 c1_i32_85 k0_t55
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off434 (i : grid0.Coords) (k0_t2 : Fin k0_t2_loop.trips) (v173 : BitVec 32) (v176 : BitVec 32) (k0_t55 : Fin (k0_t55_loop i k0_t2 v173 v176).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v174 : BitVec 32 := Scalar.maxsi v173 v75
  let c1_i32_85 : BitVec 32 := 1#32
  let arg19 : BitVec 32 := Scf.iv v174 c1_i32_85 k0_t55
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off435 (i : grid0.Coords) (k0_t2 : Fin k0_t2_loop.trips) (v173 : BitVec 32) (v176 : BitVec 32) (k0_t55 : Fin (k0_t55_loop i k0_t2 v173 v176).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v174 : BitVec 32 := Scalar.maxsi v173 v75
  let c1_i32_85 : BitVec 32 := 1#32
  let arg19 : BitVec 32 := Scf.iv v174 c1_i32_85 k0_t55
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off436 (i : grid0.Coords) (k0_t2 : Fin k0_t2_loop.trips) (v173 : BitVec 32) (v176 : BitVec 32) (k0_t55 : Fin (k0_t55_loop i k0_t2 v173 v176).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v174 : BitVec 32 := Scalar.maxsi v173 v75
  let c1_i32_85 : BitVec 32 := 1#32
  let arg19 : BitVec 32 := Scf.iv v174 c1_i32_85 k0_t55
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]
@[reducible] def k0_t56_loop (i : grid0.Coords) (k0_t2 : Fin k0_t2_loop.trips) (v173 : BitVec 32) (v176 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v174 : BitVec 32 := Scalar.maxsi v173 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let v231 : BitVec 32 := Scalar.addi v174 v230
  let c1_i32_86 : BitVec 32 := 1#32
  ⟨v234, v231, c1_i32_86⟩
def k0_off437 (i : grid0.Coords) (k0_t2 : Fin k0_t2_loop.trips) (v173 : BitVec 32) (v176 : BitVec 32) (k0_t56 : Fin (k0_t56_loop i k0_t2 v173 v176).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v174 : BitVec 32 := Scalar.maxsi v173 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_86 : BitVec 32 := 1#32
  let arg19 : BitVec 32 := Scf.iv v234 c1_i32_86 k0_t56
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off438 (i : grid0.Coords) (k0_t2 : Fin k0_t2_loop.trips) (v173 : BitVec 32) (v176 : BitVec 32) (k0_t56 : Fin (k0_t56_loop i k0_t2 v173 v176).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v174 : BitVec 32 := Scalar.maxsi v173 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_86 : BitVec 32 := 1#32
  let arg19 : BitVec 32 := Scf.iv v234 c1_i32_86 k0_t56
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off439 (i : grid0.Coords) (k0_t2 : Fin k0_t2_loop.trips) (v173 : BitVec 32) (v176 : BitVec 32) (k0_t56 : Fin (k0_t56_loop i k0_t2 v173 v176).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v174 : BitVec 32 := Scalar.maxsi v173 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_86 : BitVec 32 := 1#32
  let arg19 : BitVec 32 := Scf.iv v234 c1_i32_86 k0_t56
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off440 (i : grid0.Coords) (k0_t2 : Fin k0_t2_loop.trips) (v173 : BitVec 32) (v176 : BitVec 32) (k0_t56 : Fin (k0_t56_loop i k0_t2 v173 v176).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v174 : BitVec 32 := Scalar.maxsi v173 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_86 : BitVec 32 := 1#32
  let arg19 : BitVec 32 := Scf.iv v234 c1_i32_86 k0_t56
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off441 (i : grid0.Coords) (k0_t2 : Fin k0_t2_loop.trips) (v173 : BitVec 32) (v176 : BitVec 32) (k0_t56 : Fin (k0_t56_loop i k0_t2 v173 v176).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v174 : BitVec 32 := Scalar.maxsi v173 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_86 : BitVec 32 := 1#32
  let arg19 : BitVec 32 := Scf.iv v234 c1_i32_86 k0_t56
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off442 (i : grid0.Coords) (k0_t2 : Fin k0_t2_loop.trips) (v173 : BitVec 32) (v176 : BitVec 32) (k0_t56 : Fin (k0_t56_loop i k0_t2 v173 v176).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v174 : BitVec 32 := Scalar.maxsi v173 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_86 : BitVec 32 := 1#32
  let arg19 : BitVec 32 := Scf.iv v234 c1_i32_86 k0_t56
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off443 (i : grid0.Coords) (k0_t2 : Fin k0_t2_loop.trips) (v173 : BitVec 32) (v176 : BitVec 32) (k0_t56 : Fin (k0_t56_loop i k0_t2 v173 v176).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v174 : BitVec 32 := Scalar.maxsi v173 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_86 : BitVec 32 := 1#32
  let arg19 : BitVec 32 := Scf.iv v234 c1_i32_86 k0_t56
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off444 (i : grid0.Coords) (k0_t2 : Fin k0_t2_loop.trips) (v173 : BitVec 32) (v176 : BitVec 32) (k0_t56 : Fin (k0_t56_loop i k0_t2 v173 v176).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v174 : BitVec 32 := Scalar.maxsi v173 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_86 : BitVec 32 := 1#32
  let arg19 : BitVec 32 := Scf.iv v234 c1_i32_86 k0_t56
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]

def k0_chk27 (i : grid0.Coords) (k0_t2 : Fin k0_t2_loop.trips) (v173 : BitVec 32) (v176 : BitVec 32) : Prop :=
  (∀ (k0_h19 : k0_cond19 k0_t2 = 1#1), ∀ (k0_h30 : k0_cond30 i k0_t2 v173 v176 = 1#1), (k0_t55_loop i k0_t2 v173 v176).OK) ∧
  (∀ k0_t55 : Fin (k0_t55_loop i k0_t2 v173 v176).trips, ∀ (k0_h19 : k0_cond19 k0_t2 = 1#1), ∀ (k0_h30 : k0_cond30 i k0_t2 v173 v176 = 1#1), ∀ a, (k0_off429 i k0_t2 v173 v176 k0_t55) a + S1x16.size a ≤ S256x128.size a) ∧
  (∀ k0_t55 : Fin (k0_t55_loop i k0_t2 v173 v176).trips, ∀ (k0_h19 : k0_cond19 k0_t2 = 1#1), ∀ (k0_h30 : k0_cond30 i k0_t2 v173 v176 = 1#1), ∀ a, (k0_off430 i k0_t2 v173 v176 k0_t55) a + S1x16.size a ≤ S256x128.size a) ∧
  (∀ k0_t55 : Fin (k0_t55_loop i k0_t2 v173 v176).trips, ∀ (k0_h19 : k0_cond19 k0_t2 = 1#1), ∀ (k0_h30 : k0_cond30 i k0_t2 v173 v176 = 1#1), ∀ a, (k0_off431 i k0_t2 v173 v176 k0_t55) a + S1x16.size a ≤ S256x128.size a) ∧
  (∀ k0_t55 : Fin (k0_t55_loop i k0_t2 v173 v176).trips, ∀ (k0_h19 : k0_cond19 k0_t2 = 1#1), ∀ (k0_h30 : k0_cond30 i k0_t2 v173 v176 = 1#1), ∀ a, (k0_off432 i k0_t2 v173 v176 k0_t55) a + S1x16.size a ≤ S256x128.size a) ∧
  (∀ k0_t55 : Fin (k0_t55_loop i k0_t2 v173 v176).trips, ∀ (k0_h19 : k0_cond19 k0_t2 = 1#1), ∀ (k0_h30 : k0_cond30 i k0_t2 v173 v176 = 1#1), ∀ a, (k0_off433 i k0_t2 v173 v176 k0_t55) a + S1x16.size a ≤ S256x128.size a) ∧
  (∀ k0_t55 : Fin (k0_t55_loop i k0_t2 v173 v176).trips, ∀ (k0_h19 : k0_cond19 k0_t2 = 1#1), ∀ (k0_h30 : k0_cond30 i k0_t2 v173 v176 = 1#1), ∀ a, (k0_off434 i k0_t2 v173 v176 k0_t55) a + S1x16.size a ≤ S256x128.size a) ∧
  (∀ k0_t55 : Fin (k0_t55_loop i k0_t2 v173 v176).trips, ∀ (k0_h19 : k0_cond19 k0_t2 = 1#1), ∀ (k0_h30 : k0_cond30 i k0_t2 v173 v176 = 1#1), ∀ a, (k0_off435 i k0_t2 v173 v176 k0_t55) a + S1x16.size a ≤ S256x128.size a) ∧
  (∀ k0_t55 : Fin (k0_t55_loop i k0_t2 v173 v176).trips, ∀ (k0_h19 : k0_cond19 k0_t2 = 1#1), ∀ (k0_h30 : k0_cond30 i k0_t2 v173 v176 = 1#1), ∀ a, (k0_off436 i k0_t2 v173 v176 k0_t55) a + S1x16.size a ≤ S256x128.size a) ∧
  (∀ (k0_h19 : k0_cond19 k0_t2 = 1#1), ∀ (k0_h30 : k0_cond30 i k0_t2 v173 v176 = 1#1), (k0_t56_loop i k0_t2 v173 v176).OK) ∧
  (∀ k0_t56 : Fin (k0_t56_loop i k0_t2 v173 v176).trips, ∀ (k0_h19 : k0_cond19 k0_t2 = 1#1), ∀ (k0_h30 : k0_cond30 i k0_t2 v173 v176 = 1#1), ∀ a, (k0_off437 i k0_t2 v173 v176 k0_t56) a + S1x16.size a ≤ S256x128.size a) ∧
  (∀ k0_t56 : Fin (k0_t56_loop i k0_t2 v173 v176).trips, ∀ (k0_h19 : k0_cond19 k0_t2 = 1#1), ∀ (k0_h30 : k0_cond30 i k0_t2 v173 v176 = 1#1), ∀ a, (k0_off438 i k0_t2 v173 v176 k0_t56) a + S1x16.size a ≤ S256x128.size a) ∧
  (∀ k0_t56 : Fin (k0_t56_loop i k0_t2 v173 v176).trips, ∀ (k0_h19 : k0_cond19 k0_t2 = 1#1), ∀ (k0_h30 : k0_cond30 i k0_t2 v173 v176 = 1#1), ∀ a, (k0_off439 i k0_t2 v173 v176 k0_t56) a + S1x16.size a ≤ S256x128.size a) ∧
  (∀ k0_t56 : Fin (k0_t56_loop i k0_t2 v173 v176).trips, ∀ (k0_h19 : k0_cond19 k0_t2 = 1#1), ∀ (k0_h30 : k0_cond30 i k0_t2 v173 v176 = 1#1), ∀ a, (k0_off440 i k0_t2 v173 v176 k0_t56) a + S1x16.size a ≤ S256x128.size a) ∧
  (∀ k0_t56 : Fin (k0_t56_loop i k0_t2 v173 v176).trips, ∀ (k0_h19 : k0_cond19 k0_t2 = 1#1), ∀ (k0_h30 : k0_cond30 i k0_t2 v173 v176 = 1#1), ∀ a, (k0_off441 i k0_t2 v173 v176 k0_t56) a + S1x16.size a ≤ S256x128.size a) ∧
  (∀ k0_t56 : Fin (k0_t56_loop i k0_t2 v173 v176).trips, ∀ (k0_h19 : k0_cond19 k0_t2 = 1#1), ∀ (k0_h30 : k0_cond30 i k0_t2 v173 v176 = 1#1), ∀ a, (k0_off442 i k0_t2 v173 v176 k0_t56) a + S1x16.size a ≤ S256x128.size a) ∧
  (∀ k0_t56 : Fin (k0_t56_loop i k0_t2 v173 v176).trips, ∀ (k0_h19 : k0_cond19 k0_t2 = 1#1), ∀ (k0_h30 : k0_cond30 i k0_t2 v173 v176 = 1#1), ∀ a, (k0_off443 i k0_t2 v173 v176 k0_t56) a + S1x16.size a ≤ S256x128.size a) ∧
  (∀ k0_t56 : Fin (k0_t56_loop i k0_t2 v173 v176).trips, ∀ (k0_h19 : k0_cond19 k0_t2 = 1#1), ∀ (k0_h30 : k0_cond30 i k0_t2 v173 v176 = 1#1), ∀ a, (k0_off444 i k0_t2 v173 v176 k0_t56) a + S1x16.size a ≤ S256x128.size a)
theorem k0_t55_ok : ∀ (i : grid0.Coords) (k0_t2 : Fin k0_t2_loop.trips) (v173 : BitVec 32) (v176 : BitVec 32) (k0_hw27 : k0_chk27 i k0_t2 v173 v176), ∀ (k0_h19 : k0_cond19 k0_t2 = 1#1), ∀ (k0_h30 : k0_cond30 i k0_t2 v173 v176 = 1#1), (k0_t55_loop i k0_t2 v173 v176).OK := fun i k0_t2 v173 v176 k0_hw27 k0_h19 k0_h30 => k0_hw27.1 k0_h19 k0_h30
theorem k0_off429_inb : ∀ (i : grid0.Coords) (k0_t2 : Fin k0_t2_loop.trips) (v173 : BitVec 32) (v176 : BitVec 32) (k0_hw27 : k0_chk27 i k0_t2 v173 v176) (k0_t55 : Fin (k0_t55_loop i k0_t2 v173 v176).trips), ∀ (k0_h19 : k0_cond19 k0_t2 = 1#1), ∀ (k0_h30 : k0_cond30 i k0_t2 v173 v176 = 1#1), ∀ a, (k0_off429 i k0_t2 v173 v176 k0_t55) a + S1x16.size a ≤ S256x128.size a := fun i k0_t2 v173 v176 k0_hw27 k0_t55 k0_h19 k0_h30 => k0_hw27.2.1 k0_t55 k0_h19 k0_h30
theorem k0_off430_inb : ∀ (i : grid0.Coords) (k0_t2 : Fin k0_t2_loop.trips) (v173 : BitVec 32) (v176 : BitVec 32) (k0_hw27 : k0_chk27 i k0_t2 v173 v176) (k0_t55 : Fin (k0_t55_loop i k0_t2 v173 v176).trips), ∀ (k0_h19 : k0_cond19 k0_t2 = 1#1), ∀ (k0_h30 : k0_cond30 i k0_t2 v173 v176 = 1#1), ∀ a, (k0_off430 i k0_t2 v173 v176 k0_t55) a + S1x16.size a ≤ S256x128.size a := fun i k0_t2 v173 v176 k0_hw27 k0_t55 k0_h19 k0_h30 => k0_hw27.2.2.1 k0_t55 k0_h19 k0_h30
theorem k0_off431_inb : ∀ (i : grid0.Coords) (k0_t2 : Fin k0_t2_loop.trips) (v173 : BitVec 32) (v176 : BitVec 32) (k0_hw27 : k0_chk27 i k0_t2 v173 v176) (k0_t55 : Fin (k0_t55_loop i k0_t2 v173 v176).trips), ∀ (k0_h19 : k0_cond19 k0_t2 = 1#1), ∀ (k0_h30 : k0_cond30 i k0_t2 v173 v176 = 1#1), ∀ a, (k0_off431 i k0_t2 v173 v176 k0_t55) a + S1x16.size a ≤ S256x128.size a := fun i k0_t2 v173 v176 k0_hw27 k0_t55 k0_h19 k0_h30 => k0_hw27.2.2.2.1 k0_t55 k0_h19 k0_h30
theorem k0_off432_inb : ∀ (i : grid0.Coords) (k0_t2 : Fin k0_t2_loop.trips) (v173 : BitVec 32) (v176 : BitVec 32) (k0_hw27 : k0_chk27 i k0_t2 v173 v176) (k0_t55 : Fin (k0_t55_loop i k0_t2 v173 v176).trips), ∀ (k0_h19 : k0_cond19 k0_t2 = 1#1), ∀ (k0_h30 : k0_cond30 i k0_t2 v173 v176 = 1#1), ∀ a, (k0_off432 i k0_t2 v173 v176 k0_t55) a + S1x16.size a ≤ S256x128.size a := fun i k0_t2 v173 v176 k0_hw27 k0_t55 k0_h19 k0_h30 => k0_hw27.2.2.2.2.1 k0_t55 k0_h19 k0_h30
theorem k0_off433_inb : ∀ (i : grid0.Coords) (k0_t2 : Fin k0_t2_loop.trips) (v173 : BitVec 32) (v176 : BitVec 32) (k0_hw27 : k0_chk27 i k0_t2 v173 v176) (k0_t55 : Fin (k0_t55_loop i k0_t2 v173 v176).trips), ∀ (k0_h19 : k0_cond19 k0_t2 = 1#1), ∀ (k0_h30 : k0_cond30 i k0_t2 v173 v176 = 1#1), ∀ a, (k0_off433 i k0_t2 v173 v176 k0_t55) a + S1x16.size a ≤ S256x128.size a := fun i k0_t2 v173 v176 k0_hw27 k0_t55 k0_h19 k0_h30 => k0_hw27.2.2.2.2.2.1 k0_t55 k0_h19 k0_h30
theorem k0_off434_inb : ∀ (i : grid0.Coords) (k0_t2 : Fin k0_t2_loop.trips) (v173 : BitVec 32) (v176 : BitVec 32) (k0_hw27 : k0_chk27 i k0_t2 v173 v176) (k0_t55 : Fin (k0_t55_loop i k0_t2 v173 v176).trips), ∀ (k0_h19 : k0_cond19 k0_t2 = 1#1), ∀ (k0_h30 : k0_cond30 i k0_t2 v173 v176 = 1#1), ∀ a, (k0_off434 i k0_t2 v173 v176 k0_t55) a + S1x16.size a ≤ S256x128.size a := fun i k0_t2 v173 v176 k0_hw27 k0_t55 k0_h19 k0_h30 => k0_hw27.2.2.2.2.2.2.1 k0_t55 k0_h19 k0_h30
theorem k0_off435_inb : ∀ (i : grid0.Coords) (k0_t2 : Fin k0_t2_loop.trips) (v173 : BitVec 32) (v176 : BitVec 32) (k0_hw27 : k0_chk27 i k0_t2 v173 v176) (k0_t55 : Fin (k0_t55_loop i k0_t2 v173 v176).trips), ∀ (k0_h19 : k0_cond19 k0_t2 = 1#1), ∀ (k0_h30 : k0_cond30 i k0_t2 v173 v176 = 1#1), ∀ a, (k0_off435 i k0_t2 v173 v176 k0_t55) a + S1x16.size a ≤ S256x128.size a := fun i k0_t2 v173 v176 k0_hw27 k0_t55 k0_h19 k0_h30 => k0_hw27.2.2.2.2.2.2.2.1 k0_t55 k0_h19 k0_h30
theorem k0_off436_inb : ∀ (i : grid0.Coords) (k0_t2 : Fin k0_t2_loop.trips) (v173 : BitVec 32) (v176 : BitVec 32) (k0_hw27 : k0_chk27 i k0_t2 v173 v176) (k0_t55 : Fin (k0_t55_loop i k0_t2 v173 v176).trips), ∀ (k0_h19 : k0_cond19 k0_t2 = 1#1), ∀ (k0_h30 : k0_cond30 i k0_t2 v173 v176 = 1#1), ∀ a, (k0_off436 i k0_t2 v173 v176 k0_t55) a + S1x16.size a ≤ S256x128.size a := fun i k0_t2 v173 v176 k0_hw27 k0_t55 k0_h19 k0_h30 => k0_hw27.2.2.2.2.2.2.2.2.1 k0_t55 k0_h19 k0_h30
theorem k0_t56_ok : ∀ (i : grid0.Coords) (k0_t2 : Fin k0_t2_loop.trips) (v173 : BitVec 32) (v176 : BitVec 32) (k0_hw27 : k0_chk27 i k0_t2 v173 v176), ∀ (k0_h19 : k0_cond19 k0_t2 = 1#1), ∀ (k0_h30 : k0_cond30 i k0_t2 v173 v176 = 1#1), (k0_t56_loop i k0_t2 v173 v176).OK := fun i k0_t2 v173 v176 k0_hw27 k0_h19 k0_h30 => k0_hw27.2.2.2.2.2.2.2.2.2.1 k0_h19 k0_h30
theorem k0_off437_inb : ∀ (i : grid0.Coords) (k0_t2 : Fin k0_t2_loop.trips) (v173 : BitVec 32) (v176 : BitVec 32) (k0_hw27 : k0_chk27 i k0_t2 v173 v176) (k0_t56 : Fin (k0_t56_loop i k0_t2 v173 v176).trips), ∀ (k0_h19 : k0_cond19 k0_t2 = 1#1), ∀ (k0_h30 : k0_cond30 i k0_t2 v173 v176 = 1#1), ∀ a, (k0_off437 i k0_t2 v173 v176 k0_t56) a + S1x16.size a ≤ S256x128.size a := fun i k0_t2 v173 v176 k0_hw27 k0_t56 k0_h19 k0_h30 => k0_hw27.2.2.2.2.2.2.2.2.2.2.1 k0_t56 k0_h19 k0_h30
theorem k0_off438_inb : ∀ (i : grid0.Coords) (k0_t2 : Fin k0_t2_loop.trips) (v173 : BitVec 32) (v176 : BitVec 32) (k0_hw27 : k0_chk27 i k0_t2 v173 v176) (k0_t56 : Fin (k0_t56_loop i k0_t2 v173 v176).trips), ∀ (k0_h19 : k0_cond19 k0_t2 = 1#1), ∀ (k0_h30 : k0_cond30 i k0_t2 v173 v176 = 1#1), ∀ a, (k0_off438 i k0_t2 v173 v176 k0_t56) a + S1x16.size a ≤ S256x128.size a := fun i k0_t2 v173 v176 k0_hw27 k0_t56 k0_h19 k0_h30 => k0_hw27.2.2.2.2.2.2.2.2.2.2.2.1 k0_t56 k0_h19 k0_h30
theorem k0_off439_inb : ∀ (i : grid0.Coords) (k0_t2 : Fin k0_t2_loop.trips) (v173 : BitVec 32) (v176 : BitVec 32) (k0_hw27 : k0_chk27 i k0_t2 v173 v176) (k0_t56 : Fin (k0_t56_loop i k0_t2 v173 v176).trips), ∀ (k0_h19 : k0_cond19 k0_t2 = 1#1), ∀ (k0_h30 : k0_cond30 i k0_t2 v173 v176 = 1#1), ∀ a, (k0_off439 i k0_t2 v173 v176 k0_t56) a + S1x16.size a ≤ S256x128.size a := fun i k0_t2 v173 v176 k0_hw27 k0_t56 k0_h19 k0_h30 => k0_hw27.2.2.2.2.2.2.2.2.2.2.2.2.1 k0_t56 k0_h19 k0_h30
theorem k0_off440_inb : ∀ (i : grid0.Coords) (k0_t2 : Fin k0_t2_loop.trips) (v173 : BitVec 32) (v176 : BitVec 32) (k0_hw27 : k0_chk27 i k0_t2 v173 v176) (k0_t56 : Fin (k0_t56_loop i k0_t2 v173 v176).trips), ∀ (k0_h19 : k0_cond19 k0_t2 = 1#1), ∀ (k0_h30 : k0_cond30 i k0_t2 v173 v176 = 1#1), ∀ a, (k0_off440 i k0_t2 v173 v176 k0_t56) a + S1x16.size a ≤ S256x128.size a := fun i k0_t2 v173 v176 k0_hw27 k0_t56 k0_h19 k0_h30 => k0_hw27.2.2.2.2.2.2.2.2.2.2.2.2.2.1 k0_t56 k0_h19 k0_h30
theorem k0_off441_inb : ∀ (i : grid0.Coords) (k0_t2 : Fin k0_t2_loop.trips) (v173 : BitVec 32) (v176 : BitVec 32) (k0_hw27 : k0_chk27 i k0_t2 v173 v176) (k0_t56 : Fin (k0_t56_loop i k0_t2 v173 v176).trips), ∀ (k0_h19 : k0_cond19 k0_t2 = 1#1), ∀ (k0_h30 : k0_cond30 i k0_t2 v173 v176 = 1#1), ∀ a, (k0_off441 i k0_t2 v173 v176 k0_t56) a + S1x16.size a ≤ S256x128.size a := fun i k0_t2 v173 v176 k0_hw27 k0_t56 k0_h19 k0_h30 => k0_hw27.2.2.2.2.2.2.2.2.2.2.2.2.2.2.1 k0_t56 k0_h19 k0_h30
theorem k0_off442_inb : ∀ (i : grid0.Coords) (k0_t2 : Fin k0_t2_loop.trips) (v173 : BitVec 32) (v176 : BitVec 32) (k0_hw27 : k0_chk27 i k0_t2 v173 v176) (k0_t56 : Fin (k0_t56_loop i k0_t2 v173 v176).trips), ∀ (k0_h19 : k0_cond19 k0_t2 = 1#1), ∀ (k0_h30 : k0_cond30 i k0_t2 v173 v176 = 1#1), ∀ a, (k0_off442 i k0_t2 v173 v176 k0_t56) a + S1x16.size a ≤ S256x128.size a := fun i k0_t2 v173 v176 k0_hw27 k0_t56 k0_h19 k0_h30 => k0_hw27.2.2.2.2.2.2.2.2.2.2.2.2.2.2.2.1 k0_t56 k0_h19 k0_h30
theorem k0_off443_inb : ∀ (i : grid0.Coords) (k0_t2 : Fin k0_t2_loop.trips) (v173 : BitVec 32) (v176 : BitVec 32) (k0_hw27 : k0_chk27 i k0_t2 v173 v176) (k0_t56 : Fin (k0_t56_loop i k0_t2 v173 v176).trips), ∀ (k0_h19 : k0_cond19 k0_t2 = 1#1), ∀ (k0_h30 : k0_cond30 i k0_t2 v173 v176 = 1#1), ∀ a, (k0_off443 i k0_t2 v173 v176 k0_t56) a + S1x16.size a ≤ S256x128.size a := fun i k0_t2 v173 v176 k0_hw27 k0_t56 k0_h19 k0_h30 => k0_hw27.2.2.2.2.2.2.2.2.2.2.2.2.2.2.2.2.1 k0_t56 k0_h19 k0_h30
theorem k0_off444_inb : ∀ (i : grid0.Coords) (k0_t2 : Fin k0_t2_loop.trips) (v173 : BitVec 32) (v176 : BitVec 32) (k0_hw27 : k0_chk27 i k0_t2 v173 v176) (k0_t56 : Fin (k0_t56_loop i k0_t2 v173 v176).trips), ∀ (k0_h19 : k0_cond19 k0_t2 = 1#1), ∀ (k0_h30 : k0_cond30 i k0_t2 v173 v176 = 1#1), ∀ a, (k0_off444 i k0_t2 v173 v176 k0_t56) a + S1x16.size a ≤ S256x128.size a := fun i k0_t2 v173 v176 k0_hw27 k0_t56 k0_h19 k0_h30 => k0_hw27.2.2.2.2.2.2.2.2.2.2.2.2.2.2.2.2.2 k0_t56 k0_h19 k0_h30

@[reducible] def k0_t57_loop (i : grid0.Coords) (k0_t2 : Fin k0_t2_loop.trips) (v182 : BitVec 32) (v185 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v183 : BitVec 32 := Scalar.maxsi v182 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_85 : BitVec 32 := 1#32
  ⟨v183, v234, c1_i32_85⟩
def k0_cond31 (i : grid0.Coords) (k0_t2 : Fin k0_t2_loop.trips) (v182 : BitVec 32) (v185 : BitVec 32) : BitVec 1 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v186 : BitVec 32 := Scalar.minsi v185 v77
  let v183 : BitVec 32 := Scalar.maxsi v182 v75
  let v187 : BitVec 1 := Scalar.cmpi .sgt v186 v183
  let v188 : BitVec 32 := Scalar.extui v187
  let c0_i32_76 : BitVec 32 := 0#32
  let v189 : BitVec 1 := Scalar.cmpi .ne v188 c0_i32_76
  v189

def k0_off445 (i : grid0.Coords) (k0_t2 : Fin k0_t2_loop.trips) (v182 : BitVec 32) (v185 : BitVec 32) (k0_t57 : Fin (k0_t57_loop i k0_t2 v182 v185).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v183 : BitVec 32 := Scalar.maxsi v182 v75
  let c1_i32_85 : BitVec 32 := 1#32
  let arg19 : BitVec 32 := Scf.iv v183 c1_i32_85 k0_t57
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off446 (i : grid0.Coords) (k0_t2 : Fin k0_t2_loop.trips) (v182 : BitVec 32) (v185 : BitVec 32) (k0_t57 : Fin (k0_t57_loop i k0_t2 v182 v185).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v183 : BitVec 32 := Scalar.maxsi v182 v75
  let c1_i32_85 : BitVec 32 := 1#32
  let arg19 : BitVec 32 := Scf.iv v183 c1_i32_85 k0_t57
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off447 (i : grid0.Coords) (k0_t2 : Fin k0_t2_loop.trips) (v182 : BitVec 32) (v185 : BitVec 32) (k0_t57 : Fin (k0_t57_loop i k0_t2 v182 v185).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v183 : BitVec 32 := Scalar.maxsi v182 v75
  let c1_i32_85 : BitVec 32 := 1#32
  let arg19 : BitVec 32 := Scf.iv v183 c1_i32_85 k0_t57
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off448 (i : grid0.Coords) (k0_t2 : Fin k0_t2_loop.trips) (v182 : BitVec 32) (v185 : BitVec 32) (k0_t57 : Fin (k0_t57_loop i k0_t2 v182 v185).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v183 : BitVec 32 := Scalar.maxsi v182 v75
  let c1_i32_85 : BitVec 32 := 1#32
  let arg19 : BitVec 32 := Scf.iv v183 c1_i32_85 k0_t57
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off449 (i : grid0.Coords) (k0_t2 : Fin k0_t2_loop.trips) (v182 : BitVec 32) (v185 : BitVec 32) (k0_t57 : Fin (k0_t57_loop i k0_t2 v182 v185).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v183 : BitVec 32 := Scalar.maxsi v182 v75
  let c1_i32_85 : BitVec 32 := 1#32
  let arg19 : BitVec 32 := Scf.iv v183 c1_i32_85 k0_t57
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off450 (i : grid0.Coords) (k0_t2 : Fin k0_t2_loop.trips) (v182 : BitVec 32) (v185 : BitVec 32) (k0_t57 : Fin (k0_t57_loop i k0_t2 v182 v185).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v183 : BitVec 32 := Scalar.maxsi v182 v75
  let c1_i32_85 : BitVec 32 := 1#32
  let arg19 : BitVec 32 := Scf.iv v183 c1_i32_85 k0_t57
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off451 (i : grid0.Coords) (k0_t2 : Fin k0_t2_loop.trips) (v182 : BitVec 32) (v185 : BitVec 32) (k0_t57 : Fin (k0_t57_loop i k0_t2 v182 v185).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v183 : BitVec 32 := Scalar.maxsi v182 v75
  let c1_i32_85 : BitVec 32 := 1#32
  let arg19 : BitVec 32 := Scf.iv v183 c1_i32_85 k0_t57
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off452 (i : grid0.Coords) (k0_t2 : Fin k0_t2_loop.trips) (v182 : BitVec 32) (v185 : BitVec 32) (k0_t57 : Fin (k0_t57_loop i k0_t2 v182 v185).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v183 : BitVec 32 := Scalar.maxsi v182 v75
  let c1_i32_85 : BitVec 32 := 1#32
  let arg19 : BitVec 32 := Scf.iv v183 c1_i32_85 k0_t57
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]
@[reducible] def k0_t58_loop (i : grid0.Coords) (k0_t2 : Fin k0_t2_loop.trips) (v182 : BitVec 32) (v185 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v183 : BitVec 32 := Scalar.maxsi v182 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let v231 : BitVec 32 := Scalar.addi v183 v230
  let c1_i32_86 : BitVec 32 := 1#32
  ⟨v234, v231, c1_i32_86⟩
def k0_off453 (i : grid0.Coords) (k0_t2 : Fin k0_t2_loop.trips) (v182 : BitVec 32) (v185 : BitVec 32) (k0_t58 : Fin (k0_t58_loop i k0_t2 v182 v185).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v183 : BitVec 32 := Scalar.maxsi v182 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_86 : BitVec 32 := 1#32
  let arg19 : BitVec 32 := Scf.iv v234 c1_i32_86 k0_t58
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off454 (i : grid0.Coords) (k0_t2 : Fin k0_t2_loop.trips) (v182 : BitVec 32) (v185 : BitVec 32) (k0_t58 : Fin (k0_t58_loop i k0_t2 v182 v185).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v183 : BitVec 32 := Scalar.maxsi v182 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_86 : BitVec 32 := 1#32
  let arg19 : BitVec 32 := Scf.iv v234 c1_i32_86 k0_t58
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off455 (i : grid0.Coords) (k0_t2 : Fin k0_t2_loop.trips) (v182 : BitVec 32) (v185 : BitVec 32) (k0_t58 : Fin (k0_t58_loop i k0_t2 v182 v185).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v183 : BitVec 32 := Scalar.maxsi v182 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_86 : BitVec 32 := 1#32
  let arg19 : BitVec 32 := Scf.iv v234 c1_i32_86 k0_t58
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off456 (i : grid0.Coords) (k0_t2 : Fin k0_t2_loop.trips) (v182 : BitVec 32) (v185 : BitVec 32) (k0_t58 : Fin (k0_t58_loop i k0_t2 v182 v185).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v183 : BitVec 32 := Scalar.maxsi v182 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_86 : BitVec 32 := 1#32
  let arg19 : BitVec 32 := Scf.iv v234 c1_i32_86 k0_t58
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off457 (i : grid0.Coords) (k0_t2 : Fin k0_t2_loop.trips) (v182 : BitVec 32) (v185 : BitVec 32) (k0_t58 : Fin (k0_t58_loop i k0_t2 v182 v185).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v183 : BitVec 32 := Scalar.maxsi v182 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_86 : BitVec 32 := 1#32
  let arg19 : BitVec 32 := Scf.iv v234 c1_i32_86 k0_t58
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off458 (i : grid0.Coords) (k0_t2 : Fin k0_t2_loop.trips) (v182 : BitVec 32) (v185 : BitVec 32) (k0_t58 : Fin (k0_t58_loop i k0_t2 v182 v185).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v183 : BitVec 32 := Scalar.maxsi v182 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_86 : BitVec 32 := 1#32
  let arg19 : BitVec 32 := Scf.iv v234 c1_i32_86 k0_t58
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off459 (i : grid0.Coords) (k0_t2 : Fin k0_t2_loop.trips) (v182 : BitVec 32) (v185 : BitVec 32) (k0_t58 : Fin (k0_t58_loop i k0_t2 v182 v185).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v183 : BitVec 32 := Scalar.maxsi v182 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_86 : BitVec 32 := 1#32
  let arg19 : BitVec 32 := Scf.iv v234 c1_i32_86 k0_t58
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off460 (i : grid0.Coords) (k0_t2 : Fin k0_t2_loop.trips) (v182 : BitVec 32) (v185 : BitVec 32) (k0_t58 : Fin (k0_t58_loop i k0_t2 v182 v185).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v183 : BitVec 32 := Scalar.maxsi v182 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_86 : BitVec 32 := 1#32
  let arg19 : BitVec 32 := Scf.iv v234 c1_i32_86 k0_t58
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]

def k0_chk28 (i : grid0.Coords) (k0_t2 : Fin k0_t2_loop.trips) (v182 : BitVec 32) (v185 : BitVec 32) : Prop :=
  (∀ (k0_h19 : k0_cond19 k0_t2 = 1#1), ∀ (k0_h31 : k0_cond31 i k0_t2 v182 v185 = 1#1), (k0_t57_loop i k0_t2 v182 v185).OK) ∧
  (∀ k0_t57 : Fin (k0_t57_loop i k0_t2 v182 v185).trips, ∀ (k0_h19 : k0_cond19 k0_t2 = 1#1), ∀ (k0_h31 : k0_cond31 i k0_t2 v182 v185 = 1#1), ∀ a, (k0_off445 i k0_t2 v182 v185 k0_t57) a + S1x16.size a ≤ S256x128.size a) ∧
  (∀ k0_t57 : Fin (k0_t57_loop i k0_t2 v182 v185).trips, ∀ (k0_h19 : k0_cond19 k0_t2 = 1#1), ∀ (k0_h31 : k0_cond31 i k0_t2 v182 v185 = 1#1), ∀ a, (k0_off446 i k0_t2 v182 v185 k0_t57) a + S1x16.size a ≤ S256x128.size a) ∧
  (∀ k0_t57 : Fin (k0_t57_loop i k0_t2 v182 v185).trips, ∀ (k0_h19 : k0_cond19 k0_t2 = 1#1), ∀ (k0_h31 : k0_cond31 i k0_t2 v182 v185 = 1#1), ∀ a, (k0_off447 i k0_t2 v182 v185 k0_t57) a + S1x16.size a ≤ S256x128.size a) ∧
  (∀ k0_t57 : Fin (k0_t57_loop i k0_t2 v182 v185).trips, ∀ (k0_h19 : k0_cond19 k0_t2 = 1#1), ∀ (k0_h31 : k0_cond31 i k0_t2 v182 v185 = 1#1), ∀ a, (k0_off448 i k0_t2 v182 v185 k0_t57) a + S1x16.size a ≤ S256x128.size a) ∧
  (∀ k0_t57 : Fin (k0_t57_loop i k0_t2 v182 v185).trips, ∀ (k0_h19 : k0_cond19 k0_t2 = 1#1), ∀ (k0_h31 : k0_cond31 i k0_t2 v182 v185 = 1#1), ∀ a, (k0_off449 i k0_t2 v182 v185 k0_t57) a + S1x16.size a ≤ S256x128.size a) ∧
  (∀ k0_t57 : Fin (k0_t57_loop i k0_t2 v182 v185).trips, ∀ (k0_h19 : k0_cond19 k0_t2 = 1#1), ∀ (k0_h31 : k0_cond31 i k0_t2 v182 v185 = 1#1), ∀ a, (k0_off450 i k0_t2 v182 v185 k0_t57) a + S1x16.size a ≤ S256x128.size a) ∧
  (∀ k0_t57 : Fin (k0_t57_loop i k0_t2 v182 v185).trips, ∀ (k0_h19 : k0_cond19 k0_t2 = 1#1), ∀ (k0_h31 : k0_cond31 i k0_t2 v182 v185 = 1#1), ∀ a, (k0_off451 i k0_t2 v182 v185 k0_t57) a + S1x16.size a ≤ S256x128.size a) ∧
  (∀ k0_t57 : Fin (k0_t57_loop i k0_t2 v182 v185).trips, ∀ (k0_h19 : k0_cond19 k0_t2 = 1#1), ∀ (k0_h31 : k0_cond31 i k0_t2 v182 v185 = 1#1), ∀ a, (k0_off452 i k0_t2 v182 v185 k0_t57) a + S1x16.size a ≤ S256x128.size a) ∧
  (∀ (k0_h19 : k0_cond19 k0_t2 = 1#1), ∀ (k0_h31 : k0_cond31 i k0_t2 v182 v185 = 1#1), (k0_t58_loop i k0_t2 v182 v185).OK) ∧
  (∀ k0_t58 : Fin (k0_t58_loop i k0_t2 v182 v185).trips, ∀ (k0_h19 : k0_cond19 k0_t2 = 1#1), ∀ (k0_h31 : k0_cond31 i k0_t2 v182 v185 = 1#1), ∀ a, (k0_off453 i k0_t2 v182 v185 k0_t58) a + S1x16.size a ≤ S256x128.size a) ∧
  (∀ k0_t58 : Fin (k0_t58_loop i k0_t2 v182 v185).trips, ∀ (k0_h19 : k0_cond19 k0_t2 = 1#1), ∀ (k0_h31 : k0_cond31 i k0_t2 v182 v185 = 1#1), ∀ a, (k0_off454 i k0_t2 v182 v185 k0_t58) a + S1x16.size a ≤ S256x128.size a) ∧
  (∀ k0_t58 : Fin (k0_t58_loop i k0_t2 v182 v185).trips, ∀ (k0_h19 : k0_cond19 k0_t2 = 1#1), ∀ (k0_h31 : k0_cond31 i k0_t2 v182 v185 = 1#1), ∀ a, (k0_off455 i k0_t2 v182 v185 k0_t58) a + S1x16.size a ≤ S256x128.size a) ∧
  (∀ k0_t58 : Fin (k0_t58_loop i k0_t2 v182 v185).trips, ∀ (k0_h19 : k0_cond19 k0_t2 = 1#1), ∀ (k0_h31 : k0_cond31 i k0_t2 v182 v185 = 1#1), ∀ a, (k0_off456 i k0_t2 v182 v185 k0_t58) a + S1x16.size a ≤ S256x128.size a) ∧
  (∀ k0_t58 : Fin (k0_t58_loop i k0_t2 v182 v185).trips, ∀ (k0_h19 : k0_cond19 k0_t2 = 1#1), ∀ (k0_h31 : k0_cond31 i k0_t2 v182 v185 = 1#1), ∀ a, (k0_off457 i k0_t2 v182 v185 k0_t58) a + S1x16.size a ≤ S256x128.size a) ∧
  (∀ k0_t58 : Fin (k0_t58_loop i k0_t2 v182 v185).trips, ∀ (k0_h19 : k0_cond19 k0_t2 = 1#1), ∀ (k0_h31 : k0_cond31 i k0_t2 v182 v185 = 1#1), ∀ a, (k0_off458 i k0_t2 v182 v185 k0_t58) a + S1x16.size a ≤ S256x128.size a) ∧
  (∀ k0_t58 : Fin (k0_t58_loop i k0_t2 v182 v185).trips, ∀ (k0_h19 : k0_cond19 k0_t2 = 1#1), ∀ (k0_h31 : k0_cond31 i k0_t2 v182 v185 = 1#1), ∀ a, (k0_off459 i k0_t2 v182 v185 k0_t58) a + S1x16.size a ≤ S256x128.size a) ∧
  (∀ k0_t58 : Fin (k0_t58_loop i k0_t2 v182 v185).trips, ∀ (k0_h19 : k0_cond19 k0_t2 = 1#1), ∀ (k0_h31 : k0_cond31 i k0_t2 v182 v185 = 1#1), ∀ a, (k0_off460 i k0_t2 v182 v185 k0_t58) a + S1x16.size a ≤ S256x128.size a)
theorem k0_t57_ok : ∀ (i : grid0.Coords) (k0_t2 : Fin k0_t2_loop.trips) (v182 : BitVec 32) (v185 : BitVec 32) (k0_hw28 : k0_chk28 i k0_t2 v182 v185), ∀ (k0_h19 : k0_cond19 k0_t2 = 1#1), ∀ (k0_h31 : k0_cond31 i k0_t2 v182 v185 = 1#1), (k0_t57_loop i k0_t2 v182 v185).OK := fun i k0_t2 v182 v185 k0_hw28 k0_h19 k0_h31 => k0_hw28.1 k0_h19 k0_h31
theorem k0_off445_inb : ∀ (i : grid0.Coords) (k0_t2 : Fin k0_t2_loop.trips) (v182 : BitVec 32) (v185 : BitVec 32) (k0_hw28 : k0_chk28 i k0_t2 v182 v185) (k0_t57 : Fin (k0_t57_loop i k0_t2 v182 v185).trips), ∀ (k0_h19 : k0_cond19 k0_t2 = 1#1), ∀ (k0_h31 : k0_cond31 i k0_t2 v182 v185 = 1#1), ∀ a, (k0_off445 i k0_t2 v182 v185 k0_t57) a + S1x16.size a ≤ S256x128.size a := fun i k0_t2 v182 v185 k0_hw28 k0_t57 k0_h19 k0_h31 => k0_hw28.2.1 k0_t57 k0_h19 k0_h31
theorem k0_off446_inb : ∀ (i : grid0.Coords) (k0_t2 : Fin k0_t2_loop.trips) (v182 : BitVec 32) (v185 : BitVec 32) (k0_hw28 : k0_chk28 i k0_t2 v182 v185) (k0_t57 : Fin (k0_t57_loop i k0_t2 v182 v185).trips), ∀ (k0_h19 : k0_cond19 k0_t2 = 1#1), ∀ (k0_h31 : k0_cond31 i k0_t2 v182 v185 = 1#1), ∀ a, (k0_off446 i k0_t2 v182 v185 k0_t57) a + S1x16.size a ≤ S256x128.size a := fun i k0_t2 v182 v185 k0_hw28 k0_t57 k0_h19 k0_h31 => k0_hw28.2.2.1 k0_t57 k0_h19 k0_h31
theorem k0_off447_inb : ∀ (i : grid0.Coords) (k0_t2 : Fin k0_t2_loop.trips) (v182 : BitVec 32) (v185 : BitVec 32) (k0_hw28 : k0_chk28 i k0_t2 v182 v185) (k0_t57 : Fin (k0_t57_loop i k0_t2 v182 v185).trips), ∀ (k0_h19 : k0_cond19 k0_t2 = 1#1), ∀ (k0_h31 : k0_cond31 i k0_t2 v182 v185 = 1#1), ∀ a, (k0_off447 i k0_t2 v182 v185 k0_t57) a + S1x16.size a ≤ S256x128.size a := fun i k0_t2 v182 v185 k0_hw28 k0_t57 k0_h19 k0_h31 => k0_hw28.2.2.2.1 k0_t57 k0_h19 k0_h31
theorem k0_off448_inb : ∀ (i : grid0.Coords) (k0_t2 : Fin k0_t2_loop.trips) (v182 : BitVec 32) (v185 : BitVec 32) (k0_hw28 : k0_chk28 i k0_t2 v182 v185) (k0_t57 : Fin (k0_t57_loop i k0_t2 v182 v185).trips), ∀ (k0_h19 : k0_cond19 k0_t2 = 1#1), ∀ (k0_h31 : k0_cond31 i k0_t2 v182 v185 = 1#1), ∀ a, (k0_off448 i k0_t2 v182 v185 k0_t57) a + S1x16.size a ≤ S256x128.size a := fun i k0_t2 v182 v185 k0_hw28 k0_t57 k0_h19 k0_h31 => k0_hw28.2.2.2.2.1 k0_t57 k0_h19 k0_h31
theorem k0_off449_inb : ∀ (i : grid0.Coords) (k0_t2 : Fin k0_t2_loop.trips) (v182 : BitVec 32) (v185 : BitVec 32) (k0_hw28 : k0_chk28 i k0_t2 v182 v185) (k0_t57 : Fin (k0_t57_loop i k0_t2 v182 v185).trips), ∀ (k0_h19 : k0_cond19 k0_t2 = 1#1), ∀ (k0_h31 : k0_cond31 i k0_t2 v182 v185 = 1#1), ∀ a, (k0_off449 i k0_t2 v182 v185 k0_t57) a + S1x16.size a ≤ S256x128.size a := fun i k0_t2 v182 v185 k0_hw28 k0_t57 k0_h19 k0_h31 => k0_hw28.2.2.2.2.2.1 k0_t57 k0_h19 k0_h31
theorem k0_off450_inb : ∀ (i : grid0.Coords) (k0_t2 : Fin k0_t2_loop.trips) (v182 : BitVec 32) (v185 : BitVec 32) (k0_hw28 : k0_chk28 i k0_t2 v182 v185) (k0_t57 : Fin (k0_t57_loop i k0_t2 v182 v185).trips), ∀ (k0_h19 : k0_cond19 k0_t2 = 1#1), ∀ (k0_h31 : k0_cond31 i k0_t2 v182 v185 = 1#1), ∀ a, (k0_off450 i k0_t2 v182 v185 k0_t57) a + S1x16.size a ≤ S256x128.size a := fun i k0_t2 v182 v185 k0_hw28 k0_t57 k0_h19 k0_h31 => k0_hw28.2.2.2.2.2.2.1 k0_t57 k0_h19 k0_h31
theorem k0_off451_inb : ∀ (i : grid0.Coords) (k0_t2 : Fin k0_t2_loop.trips) (v182 : BitVec 32) (v185 : BitVec 32) (k0_hw28 : k0_chk28 i k0_t2 v182 v185) (k0_t57 : Fin (k0_t57_loop i k0_t2 v182 v185).trips), ∀ (k0_h19 : k0_cond19 k0_t2 = 1#1), ∀ (k0_h31 : k0_cond31 i k0_t2 v182 v185 = 1#1), ∀ a, (k0_off451 i k0_t2 v182 v185 k0_t57) a + S1x16.size a ≤ S256x128.size a := fun i k0_t2 v182 v185 k0_hw28 k0_t57 k0_h19 k0_h31 => k0_hw28.2.2.2.2.2.2.2.1 k0_t57 k0_h19 k0_h31
theorem k0_off452_inb : ∀ (i : grid0.Coords) (k0_t2 : Fin k0_t2_loop.trips) (v182 : BitVec 32) (v185 : BitVec 32) (k0_hw28 : k0_chk28 i k0_t2 v182 v185) (k0_t57 : Fin (k0_t57_loop i k0_t2 v182 v185).trips), ∀ (k0_h19 : k0_cond19 k0_t2 = 1#1), ∀ (k0_h31 : k0_cond31 i k0_t2 v182 v185 = 1#1), ∀ a, (k0_off452 i k0_t2 v182 v185 k0_t57) a + S1x16.size a ≤ S256x128.size a := fun i k0_t2 v182 v185 k0_hw28 k0_t57 k0_h19 k0_h31 => k0_hw28.2.2.2.2.2.2.2.2.1 k0_t57 k0_h19 k0_h31
theorem k0_t58_ok : ∀ (i : grid0.Coords) (k0_t2 : Fin k0_t2_loop.trips) (v182 : BitVec 32) (v185 : BitVec 32) (k0_hw28 : k0_chk28 i k0_t2 v182 v185), ∀ (k0_h19 : k0_cond19 k0_t2 = 1#1), ∀ (k0_h31 : k0_cond31 i k0_t2 v182 v185 = 1#1), (k0_t58_loop i k0_t2 v182 v185).OK := fun i k0_t2 v182 v185 k0_hw28 k0_h19 k0_h31 => k0_hw28.2.2.2.2.2.2.2.2.2.1 k0_h19 k0_h31
theorem k0_off453_inb : ∀ (i : grid0.Coords) (k0_t2 : Fin k0_t2_loop.trips) (v182 : BitVec 32) (v185 : BitVec 32) (k0_hw28 : k0_chk28 i k0_t2 v182 v185) (k0_t58 : Fin (k0_t58_loop i k0_t2 v182 v185).trips), ∀ (k0_h19 : k0_cond19 k0_t2 = 1#1), ∀ (k0_h31 : k0_cond31 i k0_t2 v182 v185 = 1#1), ∀ a, (k0_off453 i k0_t2 v182 v185 k0_t58) a + S1x16.size a ≤ S256x128.size a := fun i k0_t2 v182 v185 k0_hw28 k0_t58 k0_h19 k0_h31 => k0_hw28.2.2.2.2.2.2.2.2.2.2.1 k0_t58 k0_h19 k0_h31
theorem k0_off454_inb : ∀ (i : grid0.Coords) (k0_t2 : Fin k0_t2_loop.trips) (v182 : BitVec 32) (v185 : BitVec 32) (k0_hw28 : k0_chk28 i k0_t2 v182 v185) (k0_t58 : Fin (k0_t58_loop i k0_t2 v182 v185).trips), ∀ (k0_h19 : k0_cond19 k0_t2 = 1#1), ∀ (k0_h31 : k0_cond31 i k0_t2 v182 v185 = 1#1), ∀ a, (k0_off454 i k0_t2 v182 v185 k0_t58) a + S1x16.size a ≤ S256x128.size a := fun i k0_t2 v182 v185 k0_hw28 k0_t58 k0_h19 k0_h31 => k0_hw28.2.2.2.2.2.2.2.2.2.2.2.1 k0_t58 k0_h19 k0_h31
theorem k0_off455_inb : ∀ (i : grid0.Coords) (k0_t2 : Fin k0_t2_loop.trips) (v182 : BitVec 32) (v185 : BitVec 32) (k0_hw28 : k0_chk28 i k0_t2 v182 v185) (k0_t58 : Fin (k0_t58_loop i k0_t2 v182 v185).trips), ∀ (k0_h19 : k0_cond19 k0_t2 = 1#1), ∀ (k0_h31 : k0_cond31 i k0_t2 v182 v185 = 1#1), ∀ a, (k0_off455 i k0_t2 v182 v185 k0_t58) a + S1x16.size a ≤ S256x128.size a := fun i k0_t2 v182 v185 k0_hw28 k0_t58 k0_h19 k0_h31 => k0_hw28.2.2.2.2.2.2.2.2.2.2.2.2.1 k0_t58 k0_h19 k0_h31
theorem k0_off456_inb : ∀ (i : grid0.Coords) (k0_t2 : Fin k0_t2_loop.trips) (v182 : BitVec 32) (v185 : BitVec 32) (k0_hw28 : k0_chk28 i k0_t2 v182 v185) (k0_t58 : Fin (k0_t58_loop i k0_t2 v182 v185).trips), ∀ (k0_h19 : k0_cond19 k0_t2 = 1#1), ∀ (k0_h31 : k0_cond31 i k0_t2 v182 v185 = 1#1), ∀ a, (k0_off456 i k0_t2 v182 v185 k0_t58) a + S1x16.size a ≤ S256x128.size a := fun i k0_t2 v182 v185 k0_hw28 k0_t58 k0_h19 k0_h31 => k0_hw28.2.2.2.2.2.2.2.2.2.2.2.2.2.1 k0_t58 k0_h19 k0_h31
theorem k0_off457_inb : ∀ (i : grid0.Coords) (k0_t2 : Fin k0_t2_loop.trips) (v182 : BitVec 32) (v185 : BitVec 32) (k0_hw28 : k0_chk28 i k0_t2 v182 v185) (k0_t58 : Fin (k0_t58_loop i k0_t2 v182 v185).trips), ∀ (k0_h19 : k0_cond19 k0_t2 = 1#1), ∀ (k0_h31 : k0_cond31 i k0_t2 v182 v185 = 1#1), ∀ a, (k0_off457 i k0_t2 v182 v185 k0_t58) a + S1x16.size a ≤ S256x128.size a := fun i k0_t2 v182 v185 k0_hw28 k0_t58 k0_h19 k0_h31 => k0_hw28.2.2.2.2.2.2.2.2.2.2.2.2.2.2.1 k0_t58 k0_h19 k0_h31
theorem k0_off458_inb : ∀ (i : grid0.Coords) (k0_t2 : Fin k0_t2_loop.trips) (v182 : BitVec 32) (v185 : BitVec 32) (k0_hw28 : k0_chk28 i k0_t2 v182 v185) (k0_t58 : Fin (k0_t58_loop i k0_t2 v182 v185).trips), ∀ (k0_h19 : k0_cond19 k0_t2 = 1#1), ∀ (k0_h31 : k0_cond31 i k0_t2 v182 v185 = 1#1), ∀ a, (k0_off458 i k0_t2 v182 v185 k0_t58) a + S1x16.size a ≤ S256x128.size a := fun i k0_t2 v182 v185 k0_hw28 k0_t58 k0_h19 k0_h31 => k0_hw28.2.2.2.2.2.2.2.2.2.2.2.2.2.2.2.1 k0_t58 k0_h19 k0_h31
theorem k0_off459_inb : ∀ (i : grid0.Coords) (k0_t2 : Fin k0_t2_loop.trips) (v182 : BitVec 32) (v185 : BitVec 32) (k0_hw28 : k0_chk28 i k0_t2 v182 v185) (k0_t58 : Fin (k0_t58_loop i k0_t2 v182 v185).trips), ∀ (k0_h19 : k0_cond19 k0_t2 = 1#1), ∀ (k0_h31 : k0_cond31 i k0_t2 v182 v185 = 1#1), ∀ a, (k0_off459 i k0_t2 v182 v185 k0_t58) a + S1x16.size a ≤ S256x128.size a := fun i k0_t2 v182 v185 k0_hw28 k0_t58 k0_h19 k0_h31 => k0_hw28.2.2.2.2.2.2.2.2.2.2.2.2.2.2.2.2.1 k0_t58 k0_h19 k0_h31
theorem k0_off460_inb : ∀ (i : grid0.Coords) (k0_t2 : Fin k0_t2_loop.trips) (v182 : BitVec 32) (v185 : BitVec 32) (k0_hw28 : k0_chk28 i k0_t2 v182 v185) (k0_t58 : Fin (k0_t58_loop i k0_t2 v182 v185).trips), ∀ (k0_h19 : k0_cond19 k0_t2 = 1#1), ∀ (k0_h31 : k0_cond31 i k0_t2 v182 v185 = 1#1), ∀ a, (k0_off460 i k0_t2 v182 v185 k0_t58) a + S1x16.size a ≤ S256x128.size a := fun i k0_t2 v182 v185 k0_hw28 k0_t58 k0_h19 k0_h31 => k0_hw28.2.2.2.2.2.2.2.2.2.2.2.2.2.2.2.2.2 k0_t58 k0_h19 k0_h31

@[reducible] def k0_t59_loop (i : grid0.Coords) (k0_t2 : Fin k0_t2_loop.trips) (v191 : BitVec 32) (v194 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v192 : BitVec 32 := Scalar.maxsi v191 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_85 : BitVec 32 := 1#32
  ⟨v192, v234, c1_i32_85⟩
def k0_cond32 (i : grid0.Coords) (k0_t2 : Fin k0_t2_loop.trips) (v191 : BitVec 32) (v194 : BitVec 32) : BitVec 1 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v195 : BitVec 32 := Scalar.minsi v194 v77
  let v192 : BitVec 32 := Scalar.maxsi v191 v75
  let v196 : BitVec 1 := Scalar.cmpi .sgt v195 v192
  let v197 : BitVec 32 := Scalar.extui v196
  let c0_i32_77 : BitVec 32 := 0#32
  let v198 : BitVec 1 := Scalar.cmpi .ne v197 c0_i32_77
  v198

def k0_off461 (i : grid0.Coords) (k0_t2 : Fin k0_t2_loop.trips) (v191 : BitVec 32) (v194 : BitVec 32) (k0_t59 : Fin (k0_t59_loop i k0_t2 v191 v194).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v192 : BitVec 32 := Scalar.maxsi v191 v75
  let c1_i32_85 : BitVec 32 := 1#32
  let arg19 : BitVec 32 := Scf.iv v192 c1_i32_85 k0_t59
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off462 (i : grid0.Coords) (k0_t2 : Fin k0_t2_loop.trips) (v191 : BitVec 32) (v194 : BitVec 32) (k0_t59 : Fin (k0_t59_loop i k0_t2 v191 v194).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v192 : BitVec 32 := Scalar.maxsi v191 v75
  let c1_i32_85 : BitVec 32 := 1#32
  let arg19 : BitVec 32 := Scf.iv v192 c1_i32_85 k0_t59
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off463 (i : grid0.Coords) (k0_t2 : Fin k0_t2_loop.trips) (v191 : BitVec 32) (v194 : BitVec 32) (k0_t59 : Fin (k0_t59_loop i k0_t2 v191 v194).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v192 : BitVec 32 := Scalar.maxsi v191 v75
  let c1_i32_85 : BitVec 32 := 1#32
  let arg19 : BitVec 32 := Scf.iv v192 c1_i32_85 k0_t59
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off464 (i : grid0.Coords) (k0_t2 : Fin k0_t2_loop.trips) (v191 : BitVec 32) (v194 : BitVec 32) (k0_t59 : Fin (k0_t59_loop i k0_t2 v191 v194).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v192 : BitVec 32 := Scalar.maxsi v191 v75
  let c1_i32_85 : BitVec 32 := 1#32
  let arg19 : BitVec 32 := Scf.iv v192 c1_i32_85 k0_t59
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off465 (i : grid0.Coords) (k0_t2 : Fin k0_t2_loop.trips) (v191 : BitVec 32) (v194 : BitVec 32) (k0_t59 : Fin (k0_t59_loop i k0_t2 v191 v194).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v192 : BitVec 32 := Scalar.maxsi v191 v75
  let c1_i32_85 : BitVec 32 := 1#32
  let arg19 : BitVec 32 := Scf.iv v192 c1_i32_85 k0_t59
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off466 (i : grid0.Coords) (k0_t2 : Fin k0_t2_loop.trips) (v191 : BitVec 32) (v194 : BitVec 32) (k0_t59 : Fin (k0_t59_loop i k0_t2 v191 v194).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v192 : BitVec 32 := Scalar.maxsi v191 v75
  let c1_i32_85 : BitVec 32 := 1#32
  let arg19 : BitVec 32 := Scf.iv v192 c1_i32_85 k0_t59
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off467 (i : grid0.Coords) (k0_t2 : Fin k0_t2_loop.trips) (v191 : BitVec 32) (v194 : BitVec 32) (k0_t59 : Fin (k0_t59_loop i k0_t2 v191 v194).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v192 : BitVec 32 := Scalar.maxsi v191 v75
  let c1_i32_85 : BitVec 32 := 1#32
  let arg19 : BitVec 32 := Scf.iv v192 c1_i32_85 k0_t59
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off468 (i : grid0.Coords) (k0_t2 : Fin k0_t2_loop.trips) (v191 : BitVec 32) (v194 : BitVec 32) (k0_t59 : Fin (k0_t59_loop i k0_t2 v191 v194).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v192 : BitVec 32 := Scalar.maxsi v191 v75
  let c1_i32_85 : BitVec 32 := 1#32
  let arg19 : BitVec 32 := Scf.iv v192 c1_i32_85 k0_t59
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]
@[reducible] def k0_t60_loop (i : grid0.Coords) (k0_t2 : Fin k0_t2_loop.trips) (v191 : BitVec 32) (v194 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v192 : BitVec 32 := Scalar.maxsi v191 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let v231 : BitVec 32 := Scalar.addi v192 v230
  let c1_i32_86 : BitVec 32 := 1#32
  ⟨v234, v231, c1_i32_86⟩
def k0_off469 (i : grid0.Coords) (k0_t2 : Fin k0_t2_loop.trips) (v191 : BitVec 32) (v194 : BitVec 32) (k0_t60 : Fin (k0_t60_loop i k0_t2 v191 v194).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v192 : BitVec 32 := Scalar.maxsi v191 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_86 : BitVec 32 := 1#32
  let arg19 : BitVec 32 := Scf.iv v234 c1_i32_86 k0_t60
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off470 (i : grid0.Coords) (k0_t2 : Fin k0_t2_loop.trips) (v191 : BitVec 32) (v194 : BitVec 32) (k0_t60 : Fin (k0_t60_loop i k0_t2 v191 v194).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v192 : BitVec 32 := Scalar.maxsi v191 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_86 : BitVec 32 := 1#32
  let arg19 : BitVec 32 := Scf.iv v234 c1_i32_86 k0_t60
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off471 (i : grid0.Coords) (k0_t2 : Fin k0_t2_loop.trips) (v191 : BitVec 32) (v194 : BitVec 32) (k0_t60 : Fin (k0_t60_loop i k0_t2 v191 v194).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v192 : BitVec 32 := Scalar.maxsi v191 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_86 : BitVec 32 := 1#32
  let arg19 : BitVec 32 := Scf.iv v234 c1_i32_86 k0_t60
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off472 (i : grid0.Coords) (k0_t2 : Fin k0_t2_loop.trips) (v191 : BitVec 32) (v194 : BitVec 32) (k0_t60 : Fin (k0_t60_loop i k0_t2 v191 v194).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v192 : BitVec 32 := Scalar.maxsi v191 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_86 : BitVec 32 := 1#32
  let arg19 : BitVec 32 := Scf.iv v234 c1_i32_86 k0_t60
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off473 (i : grid0.Coords) (k0_t2 : Fin k0_t2_loop.trips) (v191 : BitVec 32) (v194 : BitVec 32) (k0_t60 : Fin (k0_t60_loop i k0_t2 v191 v194).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v192 : BitVec 32 := Scalar.maxsi v191 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_86 : BitVec 32 := 1#32
  let arg19 : BitVec 32 := Scf.iv v234 c1_i32_86 k0_t60
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off474 (i : grid0.Coords) (k0_t2 : Fin k0_t2_loop.trips) (v191 : BitVec 32) (v194 : BitVec 32) (k0_t60 : Fin (k0_t60_loop i k0_t2 v191 v194).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v192 : BitVec 32 := Scalar.maxsi v191 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_86 : BitVec 32 := 1#32
  let arg19 : BitVec 32 := Scf.iv v234 c1_i32_86 k0_t60
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off475 (i : grid0.Coords) (k0_t2 : Fin k0_t2_loop.trips) (v191 : BitVec 32) (v194 : BitVec 32) (k0_t60 : Fin (k0_t60_loop i k0_t2 v191 v194).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v192 : BitVec 32 := Scalar.maxsi v191 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_86 : BitVec 32 := 1#32
  let arg19 : BitVec 32 := Scf.iv v234 c1_i32_86 k0_t60
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off476 (i : grid0.Coords) (k0_t2 : Fin k0_t2_loop.trips) (v191 : BitVec 32) (v194 : BitVec 32) (k0_t60 : Fin (k0_t60_loop i k0_t2 v191 v194).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v192 : BitVec 32 := Scalar.maxsi v191 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_86 : BitVec 32 := 1#32
  let arg19 : BitVec 32 := Scf.iv v234 c1_i32_86 k0_t60
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]

def k0_chk29 (i : grid0.Coords) (k0_t2 : Fin k0_t2_loop.trips) (v191 : BitVec 32) (v194 : BitVec 32) : Prop :=
  (∀ (k0_h19 : k0_cond19 k0_t2 = 1#1), ∀ (k0_h32 : k0_cond32 i k0_t2 v191 v194 = 1#1), (k0_t59_loop i k0_t2 v191 v194).OK) ∧
  (∀ k0_t59 : Fin (k0_t59_loop i k0_t2 v191 v194).trips, ∀ (k0_h19 : k0_cond19 k0_t2 = 1#1), ∀ (k0_h32 : k0_cond32 i k0_t2 v191 v194 = 1#1), ∀ a, (k0_off461 i k0_t2 v191 v194 k0_t59) a + S1x16.size a ≤ S256x128.size a) ∧
  (∀ k0_t59 : Fin (k0_t59_loop i k0_t2 v191 v194).trips, ∀ (k0_h19 : k0_cond19 k0_t2 = 1#1), ∀ (k0_h32 : k0_cond32 i k0_t2 v191 v194 = 1#1), ∀ a, (k0_off462 i k0_t2 v191 v194 k0_t59) a + S1x16.size a ≤ S256x128.size a) ∧
  (∀ k0_t59 : Fin (k0_t59_loop i k0_t2 v191 v194).trips, ∀ (k0_h19 : k0_cond19 k0_t2 = 1#1), ∀ (k0_h32 : k0_cond32 i k0_t2 v191 v194 = 1#1), ∀ a, (k0_off463 i k0_t2 v191 v194 k0_t59) a + S1x16.size a ≤ S256x128.size a) ∧
  (∀ k0_t59 : Fin (k0_t59_loop i k0_t2 v191 v194).trips, ∀ (k0_h19 : k0_cond19 k0_t2 = 1#1), ∀ (k0_h32 : k0_cond32 i k0_t2 v191 v194 = 1#1), ∀ a, (k0_off464 i k0_t2 v191 v194 k0_t59) a + S1x16.size a ≤ S256x128.size a) ∧
  (∀ k0_t59 : Fin (k0_t59_loop i k0_t2 v191 v194).trips, ∀ (k0_h19 : k0_cond19 k0_t2 = 1#1), ∀ (k0_h32 : k0_cond32 i k0_t2 v191 v194 = 1#1), ∀ a, (k0_off465 i k0_t2 v191 v194 k0_t59) a + S1x16.size a ≤ S256x128.size a) ∧
  (∀ k0_t59 : Fin (k0_t59_loop i k0_t2 v191 v194).trips, ∀ (k0_h19 : k0_cond19 k0_t2 = 1#1), ∀ (k0_h32 : k0_cond32 i k0_t2 v191 v194 = 1#1), ∀ a, (k0_off466 i k0_t2 v191 v194 k0_t59) a + S1x16.size a ≤ S256x128.size a) ∧
  (∀ k0_t59 : Fin (k0_t59_loop i k0_t2 v191 v194).trips, ∀ (k0_h19 : k0_cond19 k0_t2 = 1#1), ∀ (k0_h32 : k0_cond32 i k0_t2 v191 v194 = 1#1), ∀ a, (k0_off467 i k0_t2 v191 v194 k0_t59) a + S1x16.size a ≤ S256x128.size a) ∧
  (∀ k0_t59 : Fin (k0_t59_loop i k0_t2 v191 v194).trips, ∀ (k0_h19 : k0_cond19 k0_t2 = 1#1), ∀ (k0_h32 : k0_cond32 i k0_t2 v191 v194 = 1#1), ∀ a, (k0_off468 i k0_t2 v191 v194 k0_t59) a + S1x16.size a ≤ S256x128.size a) ∧
  (∀ (k0_h19 : k0_cond19 k0_t2 = 1#1), ∀ (k0_h32 : k0_cond32 i k0_t2 v191 v194 = 1#1), (k0_t60_loop i k0_t2 v191 v194).OK) ∧
  (∀ k0_t60 : Fin (k0_t60_loop i k0_t2 v191 v194).trips, ∀ (k0_h19 : k0_cond19 k0_t2 = 1#1), ∀ (k0_h32 : k0_cond32 i k0_t2 v191 v194 = 1#1), ∀ a, (k0_off469 i k0_t2 v191 v194 k0_t60) a + S1x16.size a ≤ S256x128.size a) ∧
  (∀ k0_t60 : Fin (k0_t60_loop i k0_t2 v191 v194).trips, ∀ (k0_h19 : k0_cond19 k0_t2 = 1#1), ∀ (k0_h32 : k0_cond32 i k0_t2 v191 v194 = 1#1), ∀ a, (k0_off470 i k0_t2 v191 v194 k0_t60) a + S1x16.size a ≤ S256x128.size a) ∧
  (∀ k0_t60 : Fin (k0_t60_loop i k0_t2 v191 v194).trips, ∀ (k0_h19 : k0_cond19 k0_t2 = 1#1), ∀ (k0_h32 : k0_cond32 i k0_t2 v191 v194 = 1#1), ∀ a, (k0_off471 i k0_t2 v191 v194 k0_t60) a + S1x16.size a ≤ S256x128.size a) ∧
  (∀ k0_t60 : Fin (k0_t60_loop i k0_t2 v191 v194).trips, ∀ (k0_h19 : k0_cond19 k0_t2 = 1#1), ∀ (k0_h32 : k0_cond32 i k0_t2 v191 v194 = 1#1), ∀ a, (k0_off472 i k0_t2 v191 v194 k0_t60) a + S1x16.size a ≤ S256x128.size a) ∧
  (∀ k0_t60 : Fin (k0_t60_loop i k0_t2 v191 v194).trips, ∀ (k0_h19 : k0_cond19 k0_t2 = 1#1), ∀ (k0_h32 : k0_cond32 i k0_t2 v191 v194 = 1#1), ∀ a, (k0_off473 i k0_t2 v191 v194 k0_t60) a + S1x16.size a ≤ S256x128.size a) ∧
  (∀ k0_t60 : Fin (k0_t60_loop i k0_t2 v191 v194).trips, ∀ (k0_h19 : k0_cond19 k0_t2 = 1#1), ∀ (k0_h32 : k0_cond32 i k0_t2 v191 v194 = 1#1), ∀ a, (k0_off474 i k0_t2 v191 v194 k0_t60) a + S1x16.size a ≤ S256x128.size a) ∧
  (∀ k0_t60 : Fin (k0_t60_loop i k0_t2 v191 v194).trips, ∀ (k0_h19 : k0_cond19 k0_t2 = 1#1), ∀ (k0_h32 : k0_cond32 i k0_t2 v191 v194 = 1#1), ∀ a, (k0_off475 i k0_t2 v191 v194 k0_t60) a + S1x16.size a ≤ S256x128.size a) ∧
  (∀ k0_t60 : Fin (k0_t60_loop i k0_t2 v191 v194).trips, ∀ (k0_h19 : k0_cond19 k0_t2 = 1#1), ∀ (k0_h32 : k0_cond32 i k0_t2 v191 v194 = 1#1), ∀ a, (k0_off476 i k0_t2 v191 v194 k0_t60) a + S1x16.size a ≤ S256x128.size a)
theorem k0_t59_ok : ∀ (i : grid0.Coords) (k0_t2 : Fin k0_t2_loop.trips) (v191 : BitVec 32) (v194 : BitVec 32) (k0_hw29 : k0_chk29 i k0_t2 v191 v194), ∀ (k0_h19 : k0_cond19 k0_t2 = 1#1), ∀ (k0_h32 : k0_cond32 i k0_t2 v191 v194 = 1#1), (k0_t59_loop i k0_t2 v191 v194).OK := fun i k0_t2 v191 v194 k0_hw29 k0_h19 k0_h32 => k0_hw29.1 k0_h19 k0_h32
theorem k0_off461_inb : ∀ (i : grid0.Coords) (k0_t2 : Fin k0_t2_loop.trips) (v191 : BitVec 32) (v194 : BitVec 32) (k0_hw29 : k0_chk29 i k0_t2 v191 v194) (k0_t59 : Fin (k0_t59_loop i k0_t2 v191 v194).trips), ∀ (k0_h19 : k0_cond19 k0_t2 = 1#1), ∀ (k0_h32 : k0_cond32 i k0_t2 v191 v194 = 1#1), ∀ a, (k0_off461 i k0_t2 v191 v194 k0_t59) a + S1x16.size a ≤ S256x128.size a := fun i k0_t2 v191 v194 k0_hw29 k0_t59 k0_h19 k0_h32 => k0_hw29.2.1 k0_t59 k0_h19 k0_h32
theorem k0_off462_inb : ∀ (i : grid0.Coords) (k0_t2 : Fin k0_t2_loop.trips) (v191 : BitVec 32) (v194 : BitVec 32) (k0_hw29 : k0_chk29 i k0_t2 v191 v194) (k0_t59 : Fin (k0_t59_loop i k0_t2 v191 v194).trips), ∀ (k0_h19 : k0_cond19 k0_t2 = 1#1), ∀ (k0_h32 : k0_cond32 i k0_t2 v191 v194 = 1#1), ∀ a, (k0_off462 i k0_t2 v191 v194 k0_t59) a + S1x16.size a ≤ S256x128.size a := fun i k0_t2 v191 v194 k0_hw29 k0_t59 k0_h19 k0_h32 => k0_hw29.2.2.1 k0_t59 k0_h19 k0_h32
theorem k0_off463_inb : ∀ (i : grid0.Coords) (k0_t2 : Fin k0_t2_loop.trips) (v191 : BitVec 32) (v194 : BitVec 32) (k0_hw29 : k0_chk29 i k0_t2 v191 v194) (k0_t59 : Fin (k0_t59_loop i k0_t2 v191 v194).trips), ∀ (k0_h19 : k0_cond19 k0_t2 = 1#1), ∀ (k0_h32 : k0_cond32 i k0_t2 v191 v194 = 1#1), ∀ a, (k0_off463 i k0_t2 v191 v194 k0_t59) a + S1x16.size a ≤ S256x128.size a := fun i k0_t2 v191 v194 k0_hw29 k0_t59 k0_h19 k0_h32 => k0_hw29.2.2.2.1 k0_t59 k0_h19 k0_h32
theorem k0_off464_inb : ∀ (i : grid0.Coords) (k0_t2 : Fin k0_t2_loop.trips) (v191 : BitVec 32) (v194 : BitVec 32) (k0_hw29 : k0_chk29 i k0_t2 v191 v194) (k0_t59 : Fin (k0_t59_loop i k0_t2 v191 v194).trips), ∀ (k0_h19 : k0_cond19 k0_t2 = 1#1), ∀ (k0_h32 : k0_cond32 i k0_t2 v191 v194 = 1#1), ∀ a, (k0_off464 i k0_t2 v191 v194 k0_t59) a + S1x16.size a ≤ S256x128.size a := fun i k0_t2 v191 v194 k0_hw29 k0_t59 k0_h19 k0_h32 => k0_hw29.2.2.2.2.1 k0_t59 k0_h19 k0_h32
theorem k0_off465_inb : ∀ (i : grid0.Coords) (k0_t2 : Fin k0_t2_loop.trips) (v191 : BitVec 32) (v194 : BitVec 32) (k0_hw29 : k0_chk29 i k0_t2 v191 v194) (k0_t59 : Fin (k0_t59_loop i k0_t2 v191 v194).trips), ∀ (k0_h19 : k0_cond19 k0_t2 = 1#1), ∀ (k0_h32 : k0_cond32 i k0_t2 v191 v194 = 1#1), ∀ a, (k0_off465 i k0_t2 v191 v194 k0_t59) a + S1x16.size a ≤ S256x128.size a := fun i k0_t2 v191 v194 k0_hw29 k0_t59 k0_h19 k0_h32 => k0_hw29.2.2.2.2.2.1 k0_t59 k0_h19 k0_h32
theorem k0_off466_inb : ∀ (i : grid0.Coords) (k0_t2 : Fin k0_t2_loop.trips) (v191 : BitVec 32) (v194 : BitVec 32) (k0_hw29 : k0_chk29 i k0_t2 v191 v194) (k0_t59 : Fin (k0_t59_loop i k0_t2 v191 v194).trips), ∀ (k0_h19 : k0_cond19 k0_t2 = 1#1), ∀ (k0_h32 : k0_cond32 i k0_t2 v191 v194 = 1#1), ∀ a, (k0_off466 i k0_t2 v191 v194 k0_t59) a + S1x16.size a ≤ S256x128.size a := fun i k0_t2 v191 v194 k0_hw29 k0_t59 k0_h19 k0_h32 => k0_hw29.2.2.2.2.2.2.1 k0_t59 k0_h19 k0_h32
theorem k0_off467_inb : ∀ (i : grid0.Coords) (k0_t2 : Fin k0_t2_loop.trips) (v191 : BitVec 32) (v194 : BitVec 32) (k0_hw29 : k0_chk29 i k0_t2 v191 v194) (k0_t59 : Fin (k0_t59_loop i k0_t2 v191 v194).trips), ∀ (k0_h19 : k0_cond19 k0_t2 = 1#1), ∀ (k0_h32 : k0_cond32 i k0_t2 v191 v194 = 1#1), ∀ a, (k0_off467 i k0_t2 v191 v194 k0_t59) a + S1x16.size a ≤ S256x128.size a := fun i k0_t2 v191 v194 k0_hw29 k0_t59 k0_h19 k0_h32 => k0_hw29.2.2.2.2.2.2.2.1 k0_t59 k0_h19 k0_h32
theorem k0_off468_inb : ∀ (i : grid0.Coords) (k0_t2 : Fin k0_t2_loop.trips) (v191 : BitVec 32) (v194 : BitVec 32) (k0_hw29 : k0_chk29 i k0_t2 v191 v194) (k0_t59 : Fin (k0_t59_loop i k0_t2 v191 v194).trips), ∀ (k0_h19 : k0_cond19 k0_t2 = 1#1), ∀ (k0_h32 : k0_cond32 i k0_t2 v191 v194 = 1#1), ∀ a, (k0_off468 i k0_t2 v191 v194 k0_t59) a + S1x16.size a ≤ S256x128.size a := fun i k0_t2 v191 v194 k0_hw29 k0_t59 k0_h19 k0_h32 => k0_hw29.2.2.2.2.2.2.2.2.1 k0_t59 k0_h19 k0_h32
theorem k0_t60_ok : ∀ (i : grid0.Coords) (k0_t2 : Fin k0_t2_loop.trips) (v191 : BitVec 32) (v194 : BitVec 32) (k0_hw29 : k0_chk29 i k0_t2 v191 v194), ∀ (k0_h19 : k0_cond19 k0_t2 = 1#1), ∀ (k0_h32 : k0_cond32 i k0_t2 v191 v194 = 1#1), (k0_t60_loop i k0_t2 v191 v194).OK := fun i k0_t2 v191 v194 k0_hw29 k0_h19 k0_h32 => k0_hw29.2.2.2.2.2.2.2.2.2.1 k0_h19 k0_h32
theorem k0_off469_inb : ∀ (i : grid0.Coords) (k0_t2 : Fin k0_t2_loop.trips) (v191 : BitVec 32) (v194 : BitVec 32) (k0_hw29 : k0_chk29 i k0_t2 v191 v194) (k0_t60 : Fin (k0_t60_loop i k0_t2 v191 v194).trips), ∀ (k0_h19 : k0_cond19 k0_t2 = 1#1), ∀ (k0_h32 : k0_cond32 i k0_t2 v191 v194 = 1#1), ∀ a, (k0_off469 i k0_t2 v191 v194 k0_t60) a + S1x16.size a ≤ S256x128.size a := fun i k0_t2 v191 v194 k0_hw29 k0_t60 k0_h19 k0_h32 => k0_hw29.2.2.2.2.2.2.2.2.2.2.1 k0_t60 k0_h19 k0_h32
theorem k0_off470_inb : ∀ (i : grid0.Coords) (k0_t2 : Fin k0_t2_loop.trips) (v191 : BitVec 32) (v194 : BitVec 32) (k0_hw29 : k0_chk29 i k0_t2 v191 v194) (k0_t60 : Fin (k0_t60_loop i k0_t2 v191 v194).trips), ∀ (k0_h19 : k0_cond19 k0_t2 = 1#1), ∀ (k0_h32 : k0_cond32 i k0_t2 v191 v194 = 1#1), ∀ a, (k0_off470 i k0_t2 v191 v194 k0_t60) a + S1x16.size a ≤ S256x128.size a := fun i k0_t2 v191 v194 k0_hw29 k0_t60 k0_h19 k0_h32 => k0_hw29.2.2.2.2.2.2.2.2.2.2.2.1 k0_t60 k0_h19 k0_h32
theorem k0_off471_inb : ∀ (i : grid0.Coords) (k0_t2 : Fin k0_t2_loop.trips) (v191 : BitVec 32) (v194 : BitVec 32) (k0_hw29 : k0_chk29 i k0_t2 v191 v194) (k0_t60 : Fin (k0_t60_loop i k0_t2 v191 v194).trips), ∀ (k0_h19 : k0_cond19 k0_t2 = 1#1), ∀ (k0_h32 : k0_cond32 i k0_t2 v191 v194 = 1#1), ∀ a, (k0_off471 i k0_t2 v191 v194 k0_t60) a + S1x16.size a ≤ S256x128.size a := fun i k0_t2 v191 v194 k0_hw29 k0_t60 k0_h19 k0_h32 => k0_hw29.2.2.2.2.2.2.2.2.2.2.2.2.1 k0_t60 k0_h19 k0_h32
theorem k0_off472_inb : ∀ (i : grid0.Coords) (k0_t2 : Fin k0_t2_loop.trips) (v191 : BitVec 32) (v194 : BitVec 32) (k0_hw29 : k0_chk29 i k0_t2 v191 v194) (k0_t60 : Fin (k0_t60_loop i k0_t2 v191 v194).trips), ∀ (k0_h19 : k0_cond19 k0_t2 = 1#1), ∀ (k0_h32 : k0_cond32 i k0_t2 v191 v194 = 1#1), ∀ a, (k0_off472 i k0_t2 v191 v194 k0_t60) a + S1x16.size a ≤ S256x128.size a := fun i k0_t2 v191 v194 k0_hw29 k0_t60 k0_h19 k0_h32 => k0_hw29.2.2.2.2.2.2.2.2.2.2.2.2.2.1 k0_t60 k0_h19 k0_h32
theorem k0_off473_inb : ∀ (i : grid0.Coords) (k0_t2 : Fin k0_t2_loop.trips) (v191 : BitVec 32) (v194 : BitVec 32) (k0_hw29 : k0_chk29 i k0_t2 v191 v194) (k0_t60 : Fin (k0_t60_loop i k0_t2 v191 v194).trips), ∀ (k0_h19 : k0_cond19 k0_t2 = 1#1), ∀ (k0_h32 : k0_cond32 i k0_t2 v191 v194 = 1#1), ∀ a, (k0_off473 i k0_t2 v191 v194 k0_t60) a + S1x16.size a ≤ S256x128.size a := fun i k0_t2 v191 v194 k0_hw29 k0_t60 k0_h19 k0_h32 => k0_hw29.2.2.2.2.2.2.2.2.2.2.2.2.2.2.1 k0_t60 k0_h19 k0_h32
theorem k0_off474_inb : ∀ (i : grid0.Coords) (k0_t2 : Fin k0_t2_loop.trips) (v191 : BitVec 32) (v194 : BitVec 32) (k0_hw29 : k0_chk29 i k0_t2 v191 v194) (k0_t60 : Fin (k0_t60_loop i k0_t2 v191 v194).trips), ∀ (k0_h19 : k0_cond19 k0_t2 = 1#1), ∀ (k0_h32 : k0_cond32 i k0_t2 v191 v194 = 1#1), ∀ a, (k0_off474 i k0_t2 v191 v194 k0_t60) a + S1x16.size a ≤ S256x128.size a := fun i k0_t2 v191 v194 k0_hw29 k0_t60 k0_h19 k0_h32 => k0_hw29.2.2.2.2.2.2.2.2.2.2.2.2.2.2.2.1 k0_t60 k0_h19 k0_h32
theorem k0_off475_inb : ∀ (i : grid0.Coords) (k0_t2 : Fin k0_t2_loop.trips) (v191 : BitVec 32) (v194 : BitVec 32) (k0_hw29 : k0_chk29 i k0_t2 v191 v194) (k0_t60 : Fin (k0_t60_loop i k0_t2 v191 v194).trips), ∀ (k0_h19 : k0_cond19 k0_t2 = 1#1), ∀ (k0_h32 : k0_cond32 i k0_t2 v191 v194 = 1#1), ∀ a, (k0_off475 i k0_t2 v191 v194 k0_t60) a + S1x16.size a ≤ S256x128.size a := fun i k0_t2 v191 v194 k0_hw29 k0_t60 k0_h19 k0_h32 => k0_hw29.2.2.2.2.2.2.2.2.2.2.2.2.2.2.2.2.1 k0_t60 k0_h19 k0_h32
theorem k0_off476_inb : ∀ (i : grid0.Coords) (k0_t2 : Fin k0_t2_loop.trips) (v191 : BitVec 32) (v194 : BitVec 32) (k0_hw29 : k0_chk29 i k0_t2 v191 v194) (k0_t60 : Fin (k0_t60_loop i k0_t2 v191 v194).trips), ∀ (k0_h19 : k0_cond19 k0_t2 = 1#1), ∀ (k0_h32 : k0_cond32 i k0_t2 v191 v194 = 1#1), ∀ a, (k0_off476 i k0_t2 v191 v194 k0_t60) a + S1x16.size a ≤ S256x128.size a := fun i k0_t2 v191 v194 k0_hw29 k0_t60 k0_h19 k0_h32 => k0_hw29.2.2.2.2.2.2.2.2.2.2.2.2.2.2.2.2.2 k0_t60 k0_h19 k0_h32

@[reducible] def k0_t61_loop (i : grid0.Coords) (k0_t2 : Fin k0_t2_loop.trips) (v200 : BitVec 32) (v203 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v201 : BitVec 32 := Scalar.maxsi v200 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_85 : BitVec 32 := 1#32
  ⟨v201, v234, c1_i32_85⟩
def k0_cond33 (i : grid0.Coords) (k0_t2 : Fin k0_t2_loop.trips) (v200 : BitVec 32) (v203 : BitVec 32) : BitVec 1 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v204 : BitVec 32 := Scalar.minsi v203 v77
  let v201 : BitVec 32 := Scalar.maxsi v200 v75
  let v205 : BitVec 1 := Scalar.cmpi .sgt v204 v201
  let v206 : BitVec 32 := Scalar.extui v205
  let c0_i32_78 : BitVec 32 := 0#32
  let v207 : BitVec 1 := Scalar.cmpi .ne v206 c0_i32_78
  v207

def k0_off477 (i : grid0.Coords) (k0_t2 : Fin k0_t2_loop.trips) (v200 : BitVec 32) (v203 : BitVec 32) (k0_t61 : Fin (k0_t61_loop i k0_t2 v200 v203).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v201 : BitVec 32 := Scalar.maxsi v200 v75
  let c1_i32_85 : BitVec 32 := 1#32
  let arg19 : BitVec 32 := Scf.iv v201 c1_i32_85 k0_t61
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off478 (i : grid0.Coords) (k0_t2 : Fin k0_t2_loop.trips) (v200 : BitVec 32) (v203 : BitVec 32) (k0_t61 : Fin (k0_t61_loop i k0_t2 v200 v203).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v201 : BitVec 32 := Scalar.maxsi v200 v75
  let c1_i32_85 : BitVec 32 := 1#32
  let arg19 : BitVec 32 := Scf.iv v201 c1_i32_85 k0_t61
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off479 (i : grid0.Coords) (k0_t2 : Fin k0_t2_loop.trips) (v200 : BitVec 32) (v203 : BitVec 32) (k0_t61 : Fin (k0_t61_loop i k0_t2 v200 v203).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v201 : BitVec 32 := Scalar.maxsi v200 v75
  let c1_i32_85 : BitVec 32 := 1#32
  let arg19 : BitVec 32 := Scf.iv v201 c1_i32_85 k0_t61
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off480 (i : grid0.Coords) (k0_t2 : Fin k0_t2_loop.trips) (v200 : BitVec 32) (v203 : BitVec 32) (k0_t61 : Fin (k0_t61_loop i k0_t2 v200 v203).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v201 : BitVec 32 := Scalar.maxsi v200 v75
  let c1_i32_85 : BitVec 32 := 1#32
  let arg19 : BitVec 32 := Scf.iv v201 c1_i32_85 k0_t61
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off481 (i : grid0.Coords) (k0_t2 : Fin k0_t2_loop.trips) (v200 : BitVec 32) (v203 : BitVec 32) (k0_t61 : Fin (k0_t61_loop i k0_t2 v200 v203).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v201 : BitVec 32 := Scalar.maxsi v200 v75
  let c1_i32_85 : BitVec 32 := 1#32
  let arg19 : BitVec 32 := Scf.iv v201 c1_i32_85 k0_t61
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off482 (i : grid0.Coords) (k0_t2 : Fin k0_t2_loop.trips) (v200 : BitVec 32) (v203 : BitVec 32) (k0_t61 : Fin (k0_t61_loop i k0_t2 v200 v203).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v201 : BitVec 32 := Scalar.maxsi v200 v75
  let c1_i32_85 : BitVec 32 := 1#32
  let arg19 : BitVec 32 := Scf.iv v201 c1_i32_85 k0_t61
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off483 (i : grid0.Coords) (k0_t2 : Fin k0_t2_loop.trips) (v200 : BitVec 32) (v203 : BitVec 32) (k0_t61 : Fin (k0_t61_loop i k0_t2 v200 v203).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v201 : BitVec 32 := Scalar.maxsi v200 v75
  let c1_i32_85 : BitVec 32 := 1#32
  let arg19 : BitVec 32 := Scf.iv v201 c1_i32_85 k0_t61
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off484 (i : grid0.Coords) (k0_t2 : Fin k0_t2_loop.trips) (v200 : BitVec 32) (v203 : BitVec 32) (k0_t61 : Fin (k0_t61_loop i k0_t2 v200 v203).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v201 : BitVec 32 := Scalar.maxsi v200 v75
  let c1_i32_85 : BitVec 32 := 1#32
  let arg19 : BitVec 32 := Scf.iv v201 c1_i32_85 k0_t61
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]
@[reducible] def k0_t62_loop (i : grid0.Coords) (k0_t2 : Fin k0_t2_loop.trips) (v200 : BitVec 32) (v203 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v201 : BitVec 32 := Scalar.maxsi v200 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let v231 : BitVec 32 := Scalar.addi v201 v230
  let c1_i32_86 : BitVec 32 := 1#32
  ⟨v234, v231, c1_i32_86⟩
def k0_off485 (i : grid0.Coords) (k0_t2 : Fin k0_t2_loop.trips) (v200 : BitVec 32) (v203 : BitVec 32) (k0_t62 : Fin (k0_t62_loop i k0_t2 v200 v203).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v201 : BitVec 32 := Scalar.maxsi v200 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_86 : BitVec 32 := 1#32
  let arg19 : BitVec 32 := Scf.iv v234 c1_i32_86 k0_t62
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off486 (i : grid0.Coords) (k0_t2 : Fin k0_t2_loop.trips) (v200 : BitVec 32) (v203 : BitVec 32) (k0_t62 : Fin (k0_t62_loop i k0_t2 v200 v203).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v201 : BitVec 32 := Scalar.maxsi v200 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_86 : BitVec 32 := 1#32
  let arg19 : BitVec 32 := Scf.iv v234 c1_i32_86 k0_t62
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off487 (i : grid0.Coords) (k0_t2 : Fin k0_t2_loop.trips) (v200 : BitVec 32) (v203 : BitVec 32) (k0_t62 : Fin (k0_t62_loop i k0_t2 v200 v203).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v201 : BitVec 32 := Scalar.maxsi v200 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_86 : BitVec 32 := 1#32
  let arg19 : BitVec 32 := Scf.iv v234 c1_i32_86 k0_t62
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off488 (i : grid0.Coords) (k0_t2 : Fin k0_t2_loop.trips) (v200 : BitVec 32) (v203 : BitVec 32) (k0_t62 : Fin (k0_t62_loop i k0_t2 v200 v203).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v201 : BitVec 32 := Scalar.maxsi v200 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_86 : BitVec 32 := 1#32
  let arg19 : BitVec 32 := Scf.iv v234 c1_i32_86 k0_t62
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off489 (i : grid0.Coords) (k0_t2 : Fin k0_t2_loop.trips) (v200 : BitVec 32) (v203 : BitVec 32) (k0_t62 : Fin (k0_t62_loop i k0_t2 v200 v203).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v201 : BitVec 32 := Scalar.maxsi v200 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_86 : BitVec 32 := 1#32
  let arg19 : BitVec 32 := Scf.iv v234 c1_i32_86 k0_t62
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off490 (i : grid0.Coords) (k0_t2 : Fin k0_t2_loop.trips) (v200 : BitVec 32) (v203 : BitVec 32) (k0_t62 : Fin (k0_t62_loop i k0_t2 v200 v203).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v201 : BitVec 32 := Scalar.maxsi v200 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_86 : BitVec 32 := 1#32
  let arg19 : BitVec 32 := Scf.iv v234 c1_i32_86 k0_t62
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off491 (i : grid0.Coords) (k0_t2 : Fin k0_t2_loop.trips) (v200 : BitVec 32) (v203 : BitVec 32) (k0_t62 : Fin (k0_t62_loop i k0_t2 v200 v203).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v201 : BitVec 32 := Scalar.maxsi v200 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_86 : BitVec 32 := 1#32
  let arg19 : BitVec 32 := Scf.iv v234 c1_i32_86 k0_t62
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off492 (i : grid0.Coords) (k0_t2 : Fin k0_t2_loop.trips) (v200 : BitVec 32) (v203 : BitVec 32) (k0_t62 : Fin (k0_t62_loop i k0_t2 v200 v203).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v201 : BitVec 32 := Scalar.maxsi v200 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_86 : BitVec 32 := 1#32
  let arg19 : BitVec 32 := Scf.iv v234 c1_i32_86 k0_t62
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]

def k0_chk30 (i : grid0.Coords) (k0_t2 : Fin k0_t2_loop.trips) (v200 : BitVec 32) (v203 : BitVec 32) : Prop :=
  (∀ (k0_h19 : k0_cond19 k0_t2 = 1#1), ∀ (k0_h33 : k0_cond33 i k0_t2 v200 v203 = 1#1), (k0_t61_loop i k0_t2 v200 v203).OK) ∧
  (∀ k0_t61 : Fin (k0_t61_loop i k0_t2 v200 v203).trips, ∀ (k0_h19 : k0_cond19 k0_t2 = 1#1), ∀ (k0_h33 : k0_cond33 i k0_t2 v200 v203 = 1#1), ∀ a, (k0_off477 i k0_t2 v200 v203 k0_t61) a + S1x16.size a ≤ S256x128.size a) ∧
  (∀ k0_t61 : Fin (k0_t61_loop i k0_t2 v200 v203).trips, ∀ (k0_h19 : k0_cond19 k0_t2 = 1#1), ∀ (k0_h33 : k0_cond33 i k0_t2 v200 v203 = 1#1), ∀ a, (k0_off478 i k0_t2 v200 v203 k0_t61) a + S1x16.size a ≤ S256x128.size a) ∧
  (∀ k0_t61 : Fin (k0_t61_loop i k0_t2 v200 v203).trips, ∀ (k0_h19 : k0_cond19 k0_t2 = 1#1), ∀ (k0_h33 : k0_cond33 i k0_t2 v200 v203 = 1#1), ∀ a, (k0_off479 i k0_t2 v200 v203 k0_t61) a + S1x16.size a ≤ S256x128.size a) ∧
  (∀ k0_t61 : Fin (k0_t61_loop i k0_t2 v200 v203).trips, ∀ (k0_h19 : k0_cond19 k0_t2 = 1#1), ∀ (k0_h33 : k0_cond33 i k0_t2 v200 v203 = 1#1), ∀ a, (k0_off480 i k0_t2 v200 v203 k0_t61) a + S1x16.size a ≤ S256x128.size a) ∧
  (∀ k0_t61 : Fin (k0_t61_loop i k0_t2 v200 v203).trips, ∀ (k0_h19 : k0_cond19 k0_t2 = 1#1), ∀ (k0_h33 : k0_cond33 i k0_t2 v200 v203 = 1#1), ∀ a, (k0_off481 i k0_t2 v200 v203 k0_t61) a + S1x16.size a ≤ S256x128.size a) ∧
  (∀ k0_t61 : Fin (k0_t61_loop i k0_t2 v200 v203).trips, ∀ (k0_h19 : k0_cond19 k0_t2 = 1#1), ∀ (k0_h33 : k0_cond33 i k0_t2 v200 v203 = 1#1), ∀ a, (k0_off482 i k0_t2 v200 v203 k0_t61) a + S1x16.size a ≤ S256x128.size a) ∧
  (∀ k0_t61 : Fin (k0_t61_loop i k0_t2 v200 v203).trips, ∀ (k0_h19 : k0_cond19 k0_t2 = 1#1), ∀ (k0_h33 : k0_cond33 i k0_t2 v200 v203 = 1#1), ∀ a, (k0_off483 i k0_t2 v200 v203 k0_t61) a + S1x16.size a ≤ S256x128.size a) ∧
  (∀ k0_t61 : Fin (k0_t61_loop i k0_t2 v200 v203).trips, ∀ (k0_h19 : k0_cond19 k0_t2 = 1#1), ∀ (k0_h33 : k0_cond33 i k0_t2 v200 v203 = 1#1), ∀ a, (k0_off484 i k0_t2 v200 v203 k0_t61) a + S1x16.size a ≤ S256x128.size a) ∧
  (∀ (k0_h19 : k0_cond19 k0_t2 = 1#1), ∀ (k0_h33 : k0_cond33 i k0_t2 v200 v203 = 1#1), (k0_t62_loop i k0_t2 v200 v203).OK) ∧
  (∀ k0_t62 : Fin (k0_t62_loop i k0_t2 v200 v203).trips, ∀ (k0_h19 : k0_cond19 k0_t2 = 1#1), ∀ (k0_h33 : k0_cond33 i k0_t2 v200 v203 = 1#1), ∀ a, (k0_off485 i k0_t2 v200 v203 k0_t62) a + S1x16.size a ≤ S256x128.size a) ∧
  (∀ k0_t62 : Fin (k0_t62_loop i k0_t2 v200 v203).trips, ∀ (k0_h19 : k0_cond19 k0_t2 = 1#1), ∀ (k0_h33 : k0_cond33 i k0_t2 v200 v203 = 1#1), ∀ a, (k0_off486 i k0_t2 v200 v203 k0_t62) a + S1x16.size a ≤ S256x128.size a) ∧
  (∀ k0_t62 : Fin (k0_t62_loop i k0_t2 v200 v203).trips, ∀ (k0_h19 : k0_cond19 k0_t2 = 1#1), ∀ (k0_h33 : k0_cond33 i k0_t2 v200 v203 = 1#1), ∀ a, (k0_off487 i k0_t2 v200 v203 k0_t62) a + S1x16.size a ≤ S256x128.size a) ∧
  (∀ k0_t62 : Fin (k0_t62_loop i k0_t2 v200 v203).trips, ∀ (k0_h19 : k0_cond19 k0_t2 = 1#1), ∀ (k0_h33 : k0_cond33 i k0_t2 v200 v203 = 1#1), ∀ a, (k0_off488 i k0_t2 v200 v203 k0_t62) a + S1x16.size a ≤ S256x128.size a) ∧
  (∀ k0_t62 : Fin (k0_t62_loop i k0_t2 v200 v203).trips, ∀ (k0_h19 : k0_cond19 k0_t2 = 1#1), ∀ (k0_h33 : k0_cond33 i k0_t2 v200 v203 = 1#1), ∀ a, (k0_off489 i k0_t2 v200 v203 k0_t62) a + S1x16.size a ≤ S256x128.size a) ∧
  (∀ k0_t62 : Fin (k0_t62_loop i k0_t2 v200 v203).trips, ∀ (k0_h19 : k0_cond19 k0_t2 = 1#1), ∀ (k0_h33 : k0_cond33 i k0_t2 v200 v203 = 1#1), ∀ a, (k0_off490 i k0_t2 v200 v203 k0_t62) a + S1x16.size a ≤ S256x128.size a) ∧
  (∀ k0_t62 : Fin (k0_t62_loop i k0_t2 v200 v203).trips, ∀ (k0_h19 : k0_cond19 k0_t2 = 1#1), ∀ (k0_h33 : k0_cond33 i k0_t2 v200 v203 = 1#1), ∀ a, (k0_off491 i k0_t2 v200 v203 k0_t62) a + S1x16.size a ≤ S256x128.size a) ∧
  (∀ k0_t62 : Fin (k0_t62_loop i k0_t2 v200 v203).trips, ∀ (k0_h19 : k0_cond19 k0_t2 = 1#1), ∀ (k0_h33 : k0_cond33 i k0_t2 v200 v203 = 1#1), ∀ a, (k0_off492 i k0_t2 v200 v203 k0_t62) a + S1x16.size a ≤ S256x128.size a)
theorem k0_t61_ok : ∀ (i : grid0.Coords) (k0_t2 : Fin k0_t2_loop.trips) (v200 : BitVec 32) (v203 : BitVec 32) (k0_hw30 : k0_chk30 i k0_t2 v200 v203), ∀ (k0_h19 : k0_cond19 k0_t2 = 1#1), ∀ (k0_h33 : k0_cond33 i k0_t2 v200 v203 = 1#1), (k0_t61_loop i k0_t2 v200 v203).OK := fun i k0_t2 v200 v203 k0_hw30 k0_h19 k0_h33 => k0_hw30.1 k0_h19 k0_h33
theorem k0_off477_inb : ∀ (i : grid0.Coords) (k0_t2 : Fin k0_t2_loop.trips) (v200 : BitVec 32) (v203 : BitVec 32) (k0_hw30 : k0_chk30 i k0_t2 v200 v203) (k0_t61 : Fin (k0_t61_loop i k0_t2 v200 v203).trips), ∀ (k0_h19 : k0_cond19 k0_t2 = 1#1), ∀ (k0_h33 : k0_cond33 i k0_t2 v200 v203 = 1#1), ∀ a, (k0_off477 i k0_t2 v200 v203 k0_t61) a + S1x16.size a ≤ S256x128.size a := fun i k0_t2 v200 v203 k0_hw30 k0_t61 k0_h19 k0_h33 => k0_hw30.2.1 k0_t61 k0_h19 k0_h33
theorem k0_off478_inb : ∀ (i : grid0.Coords) (k0_t2 : Fin k0_t2_loop.trips) (v200 : BitVec 32) (v203 : BitVec 32) (k0_hw30 : k0_chk30 i k0_t2 v200 v203) (k0_t61 : Fin (k0_t61_loop i k0_t2 v200 v203).trips), ∀ (k0_h19 : k0_cond19 k0_t2 = 1#1), ∀ (k0_h33 : k0_cond33 i k0_t2 v200 v203 = 1#1), ∀ a, (k0_off478 i k0_t2 v200 v203 k0_t61) a + S1x16.size a ≤ S256x128.size a := fun i k0_t2 v200 v203 k0_hw30 k0_t61 k0_h19 k0_h33 => k0_hw30.2.2.1 k0_t61 k0_h19 k0_h33
theorem k0_off479_inb : ∀ (i : grid0.Coords) (k0_t2 : Fin k0_t2_loop.trips) (v200 : BitVec 32) (v203 : BitVec 32) (k0_hw30 : k0_chk30 i k0_t2 v200 v203) (k0_t61 : Fin (k0_t61_loop i k0_t2 v200 v203).trips), ∀ (k0_h19 : k0_cond19 k0_t2 = 1#1), ∀ (k0_h33 : k0_cond33 i k0_t2 v200 v203 = 1#1), ∀ a, (k0_off479 i k0_t2 v200 v203 k0_t61) a + S1x16.size a ≤ S256x128.size a := fun i k0_t2 v200 v203 k0_hw30 k0_t61 k0_h19 k0_h33 => k0_hw30.2.2.2.1 k0_t61 k0_h19 k0_h33
theorem k0_off480_inb : ∀ (i : grid0.Coords) (k0_t2 : Fin k0_t2_loop.trips) (v200 : BitVec 32) (v203 : BitVec 32) (k0_hw30 : k0_chk30 i k0_t2 v200 v203) (k0_t61 : Fin (k0_t61_loop i k0_t2 v200 v203).trips), ∀ (k0_h19 : k0_cond19 k0_t2 = 1#1), ∀ (k0_h33 : k0_cond33 i k0_t2 v200 v203 = 1#1), ∀ a, (k0_off480 i k0_t2 v200 v203 k0_t61) a + S1x16.size a ≤ S256x128.size a := fun i k0_t2 v200 v203 k0_hw30 k0_t61 k0_h19 k0_h33 => k0_hw30.2.2.2.2.1 k0_t61 k0_h19 k0_h33
theorem k0_off481_inb : ∀ (i : grid0.Coords) (k0_t2 : Fin k0_t2_loop.trips) (v200 : BitVec 32) (v203 : BitVec 32) (k0_hw30 : k0_chk30 i k0_t2 v200 v203) (k0_t61 : Fin (k0_t61_loop i k0_t2 v200 v203).trips), ∀ (k0_h19 : k0_cond19 k0_t2 = 1#1), ∀ (k0_h33 : k0_cond33 i k0_t2 v200 v203 = 1#1), ∀ a, (k0_off481 i k0_t2 v200 v203 k0_t61) a + S1x16.size a ≤ S256x128.size a := fun i k0_t2 v200 v203 k0_hw30 k0_t61 k0_h19 k0_h33 => k0_hw30.2.2.2.2.2.1 k0_t61 k0_h19 k0_h33
theorem k0_off482_inb : ∀ (i : grid0.Coords) (k0_t2 : Fin k0_t2_loop.trips) (v200 : BitVec 32) (v203 : BitVec 32) (k0_hw30 : k0_chk30 i k0_t2 v200 v203) (k0_t61 : Fin (k0_t61_loop i k0_t2 v200 v203).trips), ∀ (k0_h19 : k0_cond19 k0_t2 = 1#1), ∀ (k0_h33 : k0_cond33 i k0_t2 v200 v203 = 1#1), ∀ a, (k0_off482 i k0_t2 v200 v203 k0_t61) a + S1x16.size a ≤ S256x128.size a := fun i k0_t2 v200 v203 k0_hw30 k0_t61 k0_h19 k0_h33 => k0_hw30.2.2.2.2.2.2.1 k0_t61 k0_h19 k0_h33
theorem k0_off483_inb : ∀ (i : grid0.Coords) (k0_t2 : Fin k0_t2_loop.trips) (v200 : BitVec 32) (v203 : BitVec 32) (k0_hw30 : k0_chk30 i k0_t2 v200 v203) (k0_t61 : Fin (k0_t61_loop i k0_t2 v200 v203).trips), ∀ (k0_h19 : k0_cond19 k0_t2 = 1#1), ∀ (k0_h33 : k0_cond33 i k0_t2 v200 v203 = 1#1), ∀ a, (k0_off483 i k0_t2 v200 v203 k0_t61) a + S1x16.size a ≤ S256x128.size a := fun i k0_t2 v200 v203 k0_hw30 k0_t61 k0_h19 k0_h33 => k0_hw30.2.2.2.2.2.2.2.1 k0_t61 k0_h19 k0_h33
theorem k0_off484_inb : ∀ (i : grid0.Coords) (k0_t2 : Fin k0_t2_loop.trips) (v200 : BitVec 32) (v203 : BitVec 32) (k0_hw30 : k0_chk30 i k0_t2 v200 v203) (k0_t61 : Fin (k0_t61_loop i k0_t2 v200 v203).trips), ∀ (k0_h19 : k0_cond19 k0_t2 = 1#1), ∀ (k0_h33 : k0_cond33 i k0_t2 v200 v203 = 1#1), ∀ a, (k0_off484 i k0_t2 v200 v203 k0_t61) a + S1x16.size a ≤ S256x128.size a := fun i k0_t2 v200 v203 k0_hw30 k0_t61 k0_h19 k0_h33 => k0_hw30.2.2.2.2.2.2.2.2.1 k0_t61 k0_h19 k0_h33
theorem k0_t62_ok : ∀ (i : grid0.Coords) (k0_t2 : Fin k0_t2_loop.trips) (v200 : BitVec 32) (v203 : BitVec 32) (k0_hw30 : k0_chk30 i k0_t2 v200 v203), ∀ (k0_h19 : k0_cond19 k0_t2 = 1#1), ∀ (k0_h33 : k0_cond33 i k0_t2 v200 v203 = 1#1), (k0_t62_loop i k0_t2 v200 v203).OK := fun i k0_t2 v200 v203 k0_hw30 k0_h19 k0_h33 => k0_hw30.2.2.2.2.2.2.2.2.2.1 k0_h19 k0_h33
theorem k0_off485_inb : ∀ (i : grid0.Coords) (k0_t2 : Fin k0_t2_loop.trips) (v200 : BitVec 32) (v203 : BitVec 32) (k0_hw30 : k0_chk30 i k0_t2 v200 v203) (k0_t62 : Fin (k0_t62_loop i k0_t2 v200 v203).trips), ∀ (k0_h19 : k0_cond19 k0_t2 = 1#1), ∀ (k0_h33 : k0_cond33 i k0_t2 v200 v203 = 1#1), ∀ a, (k0_off485 i k0_t2 v200 v203 k0_t62) a + S1x16.size a ≤ S256x128.size a := fun i k0_t2 v200 v203 k0_hw30 k0_t62 k0_h19 k0_h33 => k0_hw30.2.2.2.2.2.2.2.2.2.2.1 k0_t62 k0_h19 k0_h33
theorem k0_off486_inb : ∀ (i : grid0.Coords) (k0_t2 : Fin k0_t2_loop.trips) (v200 : BitVec 32) (v203 : BitVec 32) (k0_hw30 : k0_chk30 i k0_t2 v200 v203) (k0_t62 : Fin (k0_t62_loop i k0_t2 v200 v203).trips), ∀ (k0_h19 : k0_cond19 k0_t2 = 1#1), ∀ (k0_h33 : k0_cond33 i k0_t2 v200 v203 = 1#1), ∀ a, (k0_off486 i k0_t2 v200 v203 k0_t62) a + S1x16.size a ≤ S256x128.size a := fun i k0_t2 v200 v203 k0_hw30 k0_t62 k0_h19 k0_h33 => k0_hw30.2.2.2.2.2.2.2.2.2.2.2.1 k0_t62 k0_h19 k0_h33
theorem k0_off487_inb : ∀ (i : grid0.Coords) (k0_t2 : Fin k0_t2_loop.trips) (v200 : BitVec 32) (v203 : BitVec 32) (k0_hw30 : k0_chk30 i k0_t2 v200 v203) (k0_t62 : Fin (k0_t62_loop i k0_t2 v200 v203).trips), ∀ (k0_h19 : k0_cond19 k0_t2 = 1#1), ∀ (k0_h33 : k0_cond33 i k0_t2 v200 v203 = 1#1), ∀ a, (k0_off487 i k0_t2 v200 v203 k0_t62) a + S1x16.size a ≤ S256x128.size a := fun i k0_t2 v200 v203 k0_hw30 k0_t62 k0_h19 k0_h33 => k0_hw30.2.2.2.2.2.2.2.2.2.2.2.2.1 k0_t62 k0_h19 k0_h33
theorem k0_off488_inb : ∀ (i : grid0.Coords) (k0_t2 : Fin k0_t2_loop.trips) (v200 : BitVec 32) (v203 : BitVec 32) (k0_hw30 : k0_chk30 i k0_t2 v200 v203) (k0_t62 : Fin (k0_t62_loop i k0_t2 v200 v203).trips), ∀ (k0_h19 : k0_cond19 k0_t2 = 1#1), ∀ (k0_h33 : k0_cond33 i k0_t2 v200 v203 = 1#1), ∀ a, (k0_off488 i k0_t2 v200 v203 k0_t62) a + S1x16.size a ≤ S256x128.size a := fun i k0_t2 v200 v203 k0_hw30 k0_t62 k0_h19 k0_h33 => k0_hw30.2.2.2.2.2.2.2.2.2.2.2.2.2.1 k0_t62 k0_h19 k0_h33
theorem k0_off489_inb : ∀ (i : grid0.Coords) (k0_t2 : Fin k0_t2_loop.trips) (v200 : BitVec 32) (v203 : BitVec 32) (k0_hw30 : k0_chk30 i k0_t2 v200 v203) (k0_t62 : Fin (k0_t62_loop i k0_t2 v200 v203).trips), ∀ (k0_h19 : k0_cond19 k0_t2 = 1#1), ∀ (k0_h33 : k0_cond33 i k0_t2 v200 v203 = 1#1), ∀ a, (k0_off489 i k0_t2 v200 v203 k0_t62) a + S1x16.size a ≤ S256x128.size a := fun i k0_t2 v200 v203 k0_hw30 k0_t62 k0_h19 k0_h33 => k0_hw30.2.2.2.2.2.2.2.2.2.2.2.2.2.2.1 k0_t62 k0_h19 k0_h33
theorem k0_off490_inb : ∀ (i : grid0.Coords) (k0_t2 : Fin k0_t2_loop.trips) (v200 : BitVec 32) (v203 : BitVec 32) (k0_hw30 : k0_chk30 i k0_t2 v200 v203) (k0_t62 : Fin (k0_t62_loop i k0_t2 v200 v203).trips), ∀ (k0_h19 : k0_cond19 k0_t2 = 1#1), ∀ (k0_h33 : k0_cond33 i k0_t2 v200 v203 = 1#1), ∀ a, (k0_off490 i k0_t2 v200 v203 k0_t62) a + S1x16.size a ≤ S256x128.size a := fun i k0_t2 v200 v203 k0_hw30 k0_t62 k0_h19 k0_h33 => k0_hw30.2.2.2.2.2.2.2.2.2.2.2.2.2.2.2.1 k0_t62 k0_h19 k0_h33
theorem k0_off491_inb : ∀ (i : grid0.Coords) (k0_t2 : Fin k0_t2_loop.trips) (v200 : BitVec 32) (v203 : BitVec 32) (k0_hw30 : k0_chk30 i k0_t2 v200 v203) (k0_t62 : Fin (k0_t62_loop i k0_t2 v200 v203).trips), ∀ (k0_h19 : k0_cond19 k0_t2 = 1#1), ∀ (k0_h33 : k0_cond33 i k0_t2 v200 v203 = 1#1), ∀ a, (k0_off491 i k0_t2 v200 v203 k0_t62) a + S1x16.size a ≤ S256x128.size a := fun i k0_t2 v200 v203 k0_hw30 k0_t62 k0_h19 k0_h33 => k0_hw30.2.2.2.2.2.2.2.2.2.2.2.2.2.2.2.2.1 k0_t62 k0_h19 k0_h33
theorem k0_off492_inb : ∀ (i : grid0.Coords) (k0_t2 : Fin k0_t2_loop.trips) (v200 : BitVec 32) (v203 : BitVec 32) (k0_hw30 : k0_chk30 i k0_t2 v200 v203) (k0_t62 : Fin (k0_t62_loop i k0_t2 v200 v203).trips), ∀ (k0_h19 : k0_cond19 k0_t2 = 1#1), ∀ (k0_h33 : k0_cond33 i k0_t2 v200 v203 = 1#1), ∀ a, (k0_off492 i k0_t2 v200 v203 k0_t62) a + S1x16.size a ≤ S256x128.size a := fun i k0_t2 v200 v203 k0_hw30 k0_t62 k0_h19 k0_h33 => k0_hw30.2.2.2.2.2.2.2.2.2.2.2.2.2.2.2.2.2 k0_t62 k0_h19 k0_h33

@[reducible] def k0_t63_loop (i : grid0.Coords) (k0_t2 : Fin k0_t2_loop.trips) (v209 : BitVec 32) (v212 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v210 : BitVec 32 := Scalar.maxsi v209 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_85 : BitVec 32 := 1#32
  ⟨v210, v234, c1_i32_85⟩
def k0_cond34 (i : grid0.Coords) (k0_t2 : Fin k0_t2_loop.trips) (v209 : BitVec 32) (v212 : BitVec 32) : BitVec 1 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v213 : BitVec 32 := Scalar.minsi v212 v77
  let v210 : BitVec 32 := Scalar.maxsi v209 v75
  let v214 : BitVec 1 := Scalar.cmpi .sgt v213 v210
  let v215 : BitVec 32 := Scalar.extui v214
  let c0_i32_79 : BitVec 32 := 0#32
  let v216 : BitVec 1 := Scalar.cmpi .ne v215 c0_i32_79
  v216

def k0_off493 (i : grid0.Coords) (k0_t2 : Fin k0_t2_loop.trips) (v209 : BitVec 32) (v212 : BitVec 32) (k0_t63 : Fin (k0_t63_loop i k0_t2 v209 v212).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v210 : BitVec 32 := Scalar.maxsi v209 v75
  let c1_i32_85 : BitVec 32 := 1#32
  let arg19 : BitVec 32 := Scf.iv v210 c1_i32_85 k0_t63
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off494 (i : grid0.Coords) (k0_t2 : Fin k0_t2_loop.trips) (v209 : BitVec 32) (v212 : BitVec 32) (k0_t63 : Fin (k0_t63_loop i k0_t2 v209 v212).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v210 : BitVec 32 := Scalar.maxsi v209 v75
  let c1_i32_85 : BitVec 32 := 1#32
  let arg19 : BitVec 32 := Scf.iv v210 c1_i32_85 k0_t63
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off495 (i : grid0.Coords) (k0_t2 : Fin k0_t2_loop.trips) (v209 : BitVec 32) (v212 : BitVec 32) (k0_t63 : Fin (k0_t63_loop i k0_t2 v209 v212).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v210 : BitVec 32 := Scalar.maxsi v209 v75
  let c1_i32_85 : BitVec 32 := 1#32
  let arg19 : BitVec 32 := Scf.iv v210 c1_i32_85 k0_t63
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off496 (i : grid0.Coords) (k0_t2 : Fin k0_t2_loop.trips) (v209 : BitVec 32) (v212 : BitVec 32) (k0_t63 : Fin (k0_t63_loop i k0_t2 v209 v212).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v210 : BitVec 32 := Scalar.maxsi v209 v75
  let c1_i32_85 : BitVec 32 := 1#32
  let arg19 : BitVec 32 := Scf.iv v210 c1_i32_85 k0_t63
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off497 (i : grid0.Coords) (k0_t2 : Fin k0_t2_loop.trips) (v209 : BitVec 32) (v212 : BitVec 32) (k0_t63 : Fin (k0_t63_loop i k0_t2 v209 v212).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v210 : BitVec 32 := Scalar.maxsi v209 v75
  let c1_i32_85 : BitVec 32 := 1#32
  let arg19 : BitVec 32 := Scf.iv v210 c1_i32_85 k0_t63
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off498 (i : grid0.Coords) (k0_t2 : Fin k0_t2_loop.trips) (v209 : BitVec 32) (v212 : BitVec 32) (k0_t63 : Fin (k0_t63_loop i k0_t2 v209 v212).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v210 : BitVec 32 := Scalar.maxsi v209 v75
  let c1_i32_85 : BitVec 32 := 1#32
  let arg19 : BitVec 32 := Scf.iv v210 c1_i32_85 k0_t63
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off499 (i : grid0.Coords) (k0_t2 : Fin k0_t2_loop.trips) (v209 : BitVec 32) (v212 : BitVec 32) (k0_t63 : Fin (k0_t63_loop i k0_t2 v209 v212).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v210 : BitVec 32 := Scalar.maxsi v209 v75
  let c1_i32_85 : BitVec 32 := 1#32
  let arg19 : BitVec 32 := Scf.iv v210 c1_i32_85 k0_t63
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off500 (i : grid0.Coords) (k0_t2 : Fin k0_t2_loop.trips) (v209 : BitVec 32) (v212 : BitVec 32) (k0_t63 : Fin (k0_t63_loop i k0_t2 v209 v212).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v210 : BitVec 32 := Scalar.maxsi v209 v75
  let c1_i32_85 : BitVec 32 := 1#32
  let arg19 : BitVec 32 := Scf.iv v210 c1_i32_85 k0_t63
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]
@[reducible] def k0_t64_loop (i : grid0.Coords) (k0_t2 : Fin k0_t2_loop.trips) (v209 : BitVec 32) (v212 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v210 : BitVec 32 := Scalar.maxsi v209 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let v231 : BitVec 32 := Scalar.addi v210 v230
  let c1_i32_86 : BitVec 32 := 1#32
  ⟨v234, v231, c1_i32_86⟩
def k0_off501 (i : grid0.Coords) (k0_t2 : Fin k0_t2_loop.trips) (v209 : BitVec 32) (v212 : BitVec 32) (k0_t64 : Fin (k0_t64_loop i k0_t2 v209 v212).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v210 : BitVec 32 := Scalar.maxsi v209 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_86 : BitVec 32 := 1#32
  let arg19 : BitVec 32 := Scf.iv v234 c1_i32_86 k0_t64
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off502 (i : grid0.Coords) (k0_t2 : Fin k0_t2_loop.trips) (v209 : BitVec 32) (v212 : BitVec 32) (k0_t64 : Fin (k0_t64_loop i k0_t2 v209 v212).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v210 : BitVec 32 := Scalar.maxsi v209 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_86 : BitVec 32 := 1#32
  let arg19 : BitVec 32 := Scf.iv v234 c1_i32_86 k0_t64
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off503 (i : grid0.Coords) (k0_t2 : Fin k0_t2_loop.trips) (v209 : BitVec 32) (v212 : BitVec 32) (k0_t64 : Fin (k0_t64_loop i k0_t2 v209 v212).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v210 : BitVec 32 := Scalar.maxsi v209 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_86 : BitVec 32 := 1#32
  let arg19 : BitVec 32 := Scf.iv v234 c1_i32_86 k0_t64
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off504 (i : grid0.Coords) (k0_t2 : Fin k0_t2_loop.trips) (v209 : BitVec 32) (v212 : BitVec 32) (k0_t64 : Fin (k0_t64_loop i k0_t2 v209 v212).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v210 : BitVec 32 := Scalar.maxsi v209 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_86 : BitVec 32 := 1#32
  let arg19 : BitVec 32 := Scf.iv v234 c1_i32_86 k0_t64
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off505 (i : grid0.Coords) (k0_t2 : Fin k0_t2_loop.trips) (v209 : BitVec 32) (v212 : BitVec 32) (k0_t64 : Fin (k0_t64_loop i k0_t2 v209 v212).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v210 : BitVec 32 := Scalar.maxsi v209 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_86 : BitVec 32 := 1#32
  let arg19 : BitVec 32 := Scf.iv v234 c1_i32_86 k0_t64
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off506 (i : grid0.Coords) (k0_t2 : Fin k0_t2_loop.trips) (v209 : BitVec 32) (v212 : BitVec 32) (k0_t64 : Fin (k0_t64_loop i k0_t2 v209 v212).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v210 : BitVec 32 := Scalar.maxsi v209 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_86 : BitVec 32 := 1#32
  let arg19 : BitVec 32 := Scf.iv v234 c1_i32_86 k0_t64
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off507 (i : grid0.Coords) (k0_t2 : Fin k0_t2_loop.trips) (v209 : BitVec 32) (v212 : BitVec 32) (k0_t64 : Fin (k0_t64_loop i k0_t2 v209 v212).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v210 : BitVec 32 := Scalar.maxsi v209 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_86 : BitVec 32 := 1#32
  let arg19 : BitVec 32 := Scf.iv v234 c1_i32_86 k0_t64
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off508 (i : grid0.Coords) (k0_t2 : Fin k0_t2_loop.trips) (v209 : BitVec 32) (v212 : BitVec 32) (k0_t64 : Fin (k0_t64_loop i k0_t2 v209 v212).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v210 : BitVec 32 := Scalar.maxsi v209 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_86 : BitVec 32 := 1#32
  let arg19 : BitVec 32 := Scf.iv v234 c1_i32_86 k0_t64
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]

def k0_chk31 (i : grid0.Coords) (k0_t2 : Fin k0_t2_loop.trips) (v209 : BitVec 32) (v212 : BitVec 32) : Prop :=
  (∀ (k0_h19 : k0_cond19 k0_t2 = 1#1), ∀ (k0_h34 : k0_cond34 i k0_t2 v209 v212 = 1#1), (k0_t63_loop i k0_t2 v209 v212).OK) ∧
  (∀ k0_t63 : Fin (k0_t63_loop i k0_t2 v209 v212).trips, ∀ (k0_h19 : k0_cond19 k0_t2 = 1#1), ∀ (k0_h34 : k0_cond34 i k0_t2 v209 v212 = 1#1), ∀ a, (k0_off493 i k0_t2 v209 v212 k0_t63) a + S1x16.size a ≤ S256x128.size a) ∧
  (∀ k0_t63 : Fin (k0_t63_loop i k0_t2 v209 v212).trips, ∀ (k0_h19 : k0_cond19 k0_t2 = 1#1), ∀ (k0_h34 : k0_cond34 i k0_t2 v209 v212 = 1#1), ∀ a, (k0_off494 i k0_t2 v209 v212 k0_t63) a + S1x16.size a ≤ S256x128.size a) ∧
  (∀ k0_t63 : Fin (k0_t63_loop i k0_t2 v209 v212).trips, ∀ (k0_h19 : k0_cond19 k0_t2 = 1#1), ∀ (k0_h34 : k0_cond34 i k0_t2 v209 v212 = 1#1), ∀ a, (k0_off495 i k0_t2 v209 v212 k0_t63) a + S1x16.size a ≤ S256x128.size a) ∧
  (∀ k0_t63 : Fin (k0_t63_loop i k0_t2 v209 v212).trips, ∀ (k0_h19 : k0_cond19 k0_t2 = 1#1), ∀ (k0_h34 : k0_cond34 i k0_t2 v209 v212 = 1#1), ∀ a, (k0_off496 i k0_t2 v209 v212 k0_t63) a + S1x16.size a ≤ S256x128.size a) ∧
  (∀ k0_t63 : Fin (k0_t63_loop i k0_t2 v209 v212).trips, ∀ (k0_h19 : k0_cond19 k0_t2 = 1#1), ∀ (k0_h34 : k0_cond34 i k0_t2 v209 v212 = 1#1), ∀ a, (k0_off497 i k0_t2 v209 v212 k0_t63) a + S1x16.size a ≤ S256x128.size a) ∧
  (∀ k0_t63 : Fin (k0_t63_loop i k0_t2 v209 v212).trips, ∀ (k0_h19 : k0_cond19 k0_t2 = 1#1), ∀ (k0_h34 : k0_cond34 i k0_t2 v209 v212 = 1#1), ∀ a, (k0_off498 i k0_t2 v209 v212 k0_t63) a + S1x16.size a ≤ S256x128.size a) ∧
  (∀ k0_t63 : Fin (k0_t63_loop i k0_t2 v209 v212).trips, ∀ (k0_h19 : k0_cond19 k0_t2 = 1#1), ∀ (k0_h34 : k0_cond34 i k0_t2 v209 v212 = 1#1), ∀ a, (k0_off499 i k0_t2 v209 v212 k0_t63) a + S1x16.size a ≤ S256x128.size a) ∧
  (∀ k0_t63 : Fin (k0_t63_loop i k0_t2 v209 v212).trips, ∀ (k0_h19 : k0_cond19 k0_t2 = 1#1), ∀ (k0_h34 : k0_cond34 i k0_t2 v209 v212 = 1#1), ∀ a, (k0_off500 i k0_t2 v209 v212 k0_t63) a + S1x16.size a ≤ S256x128.size a) ∧
  (∀ (k0_h19 : k0_cond19 k0_t2 = 1#1), ∀ (k0_h34 : k0_cond34 i k0_t2 v209 v212 = 1#1), (k0_t64_loop i k0_t2 v209 v212).OK) ∧
  (∀ k0_t64 : Fin (k0_t64_loop i k0_t2 v209 v212).trips, ∀ (k0_h19 : k0_cond19 k0_t2 = 1#1), ∀ (k0_h34 : k0_cond34 i k0_t2 v209 v212 = 1#1), ∀ a, (k0_off501 i k0_t2 v209 v212 k0_t64) a + S1x16.size a ≤ S256x128.size a) ∧
  (∀ k0_t64 : Fin (k0_t64_loop i k0_t2 v209 v212).trips, ∀ (k0_h19 : k0_cond19 k0_t2 = 1#1), ∀ (k0_h34 : k0_cond34 i k0_t2 v209 v212 = 1#1), ∀ a, (k0_off502 i k0_t2 v209 v212 k0_t64) a + S1x16.size a ≤ S256x128.size a) ∧
  (∀ k0_t64 : Fin (k0_t64_loop i k0_t2 v209 v212).trips, ∀ (k0_h19 : k0_cond19 k0_t2 = 1#1), ∀ (k0_h34 : k0_cond34 i k0_t2 v209 v212 = 1#1), ∀ a, (k0_off503 i k0_t2 v209 v212 k0_t64) a + S1x16.size a ≤ S256x128.size a) ∧
  (∀ k0_t64 : Fin (k0_t64_loop i k0_t2 v209 v212).trips, ∀ (k0_h19 : k0_cond19 k0_t2 = 1#1), ∀ (k0_h34 : k0_cond34 i k0_t2 v209 v212 = 1#1), ∀ a, (k0_off504 i k0_t2 v209 v212 k0_t64) a + S1x16.size a ≤ S256x128.size a) ∧
  (∀ k0_t64 : Fin (k0_t64_loop i k0_t2 v209 v212).trips, ∀ (k0_h19 : k0_cond19 k0_t2 = 1#1), ∀ (k0_h34 : k0_cond34 i k0_t2 v209 v212 = 1#1), ∀ a, (k0_off505 i k0_t2 v209 v212 k0_t64) a + S1x16.size a ≤ S256x128.size a) ∧
  (∀ k0_t64 : Fin (k0_t64_loop i k0_t2 v209 v212).trips, ∀ (k0_h19 : k0_cond19 k0_t2 = 1#1), ∀ (k0_h34 : k0_cond34 i k0_t2 v209 v212 = 1#1), ∀ a, (k0_off506 i k0_t2 v209 v212 k0_t64) a + S1x16.size a ≤ S256x128.size a) ∧
  (∀ k0_t64 : Fin (k0_t64_loop i k0_t2 v209 v212).trips, ∀ (k0_h19 : k0_cond19 k0_t2 = 1#1), ∀ (k0_h34 : k0_cond34 i k0_t2 v209 v212 = 1#1), ∀ a, (k0_off507 i k0_t2 v209 v212 k0_t64) a + S1x16.size a ≤ S256x128.size a) ∧
  (∀ k0_t64 : Fin (k0_t64_loop i k0_t2 v209 v212).trips, ∀ (k0_h19 : k0_cond19 k0_t2 = 1#1), ∀ (k0_h34 : k0_cond34 i k0_t2 v209 v212 = 1#1), ∀ a, (k0_off508 i k0_t2 v209 v212 k0_t64) a + S1x16.size a ≤ S256x128.size a)
theorem k0_t63_ok : ∀ (i : grid0.Coords) (k0_t2 : Fin k0_t2_loop.trips) (v209 : BitVec 32) (v212 : BitVec 32) (k0_hw31 : k0_chk31 i k0_t2 v209 v212), ∀ (k0_h19 : k0_cond19 k0_t2 = 1#1), ∀ (k0_h34 : k0_cond34 i k0_t2 v209 v212 = 1#1), (k0_t63_loop i k0_t2 v209 v212).OK := fun i k0_t2 v209 v212 k0_hw31 k0_h19 k0_h34 => k0_hw31.1 k0_h19 k0_h34
theorem k0_off493_inb : ∀ (i : grid0.Coords) (k0_t2 : Fin k0_t2_loop.trips) (v209 : BitVec 32) (v212 : BitVec 32) (k0_hw31 : k0_chk31 i k0_t2 v209 v212) (k0_t63 : Fin (k0_t63_loop i k0_t2 v209 v212).trips), ∀ (k0_h19 : k0_cond19 k0_t2 = 1#1), ∀ (k0_h34 : k0_cond34 i k0_t2 v209 v212 = 1#1), ∀ a, (k0_off493 i k0_t2 v209 v212 k0_t63) a + S1x16.size a ≤ S256x128.size a := fun i k0_t2 v209 v212 k0_hw31 k0_t63 k0_h19 k0_h34 => k0_hw31.2.1 k0_t63 k0_h19 k0_h34
theorem k0_off494_inb : ∀ (i : grid0.Coords) (k0_t2 : Fin k0_t2_loop.trips) (v209 : BitVec 32) (v212 : BitVec 32) (k0_hw31 : k0_chk31 i k0_t2 v209 v212) (k0_t63 : Fin (k0_t63_loop i k0_t2 v209 v212).trips), ∀ (k0_h19 : k0_cond19 k0_t2 = 1#1), ∀ (k0_h34 : k0_cond34 i k0_t2 v209 v212 = 1#1), ∀ a, (k0_off494 i k0_t2 v209 v212 k0_t63) a + S1x16.size a ≤ S256x128.size a := fun i k0_t2 v209 v212 k0_hw31 k0_t63 k0_h19 k0_h34 => k0_hw31.2.2.1 k0_t63 k0_h19 k0_h34
theorem k0_off495_inb : ∀ (i : grid0.Coords) (k0_t2 : Fin k0_t2_loop.trips) (v209 : BitVec 32) (v212 : BitVec 32) (k0_hw31 : k0_chk31 i k0_t2 v209 v212) (k0_t63 : Fin (k0_t63_loop i k0_t2 v209 v212).trips), ∀ (k0_h19 : k0_cond19 k0_t2 = 1#1), ∀ (k0_h34 : k0_cond34 i k0_t2 v209 v212 = 1#1), ∀ a, (k0_off495 i k0_t2 v209 v212 k0_t63) a + S1x16.size a ≤ S256x128.size a := fun i k0_t2 v209 v212 k0_hw31 k0_t63 k0_h19 k0_h34 => k0_hw31.2.2.2.1 k0_t63 k0_h19 k0_h34
theorem k0_off496_inb : ∀ (i : grid0.Coords) (k0_t2 : Fin k0_t2_loop.trips) (v209 : BitVec 32) (v212 : BitVec 32) (k0_hw31 : k0_chk31 i k0_t2 v209 v212) (k0_t63 : Fin (k0_t63_loop i k0_t2 v209 v212).trips), ∀ (k0_h19 : k0_cond19 k0_t2 = 1#1), ∀ (k0_h34 : k0_cond34 i k0_t2 v209 v212 = 1#1), ∀ a, (k0_off496 i k0_t2 v209 v212 k0_t63) a + S1x16.size a ≤ S256x128.size a := fun i k0_t2 v209 v212 k0_hw31 k0_t63 k0_h19 k0_h34 => k0_hw31.2.2.2.2.1 k0_t63 k0_h19 k0_h34
theorem k0_off497_inb : ∀ (i : grid0.Coords) (k0_t2 : Fin k0_t2_loop.trips) (v209 : BitVec 32) (v212 : BitVec 32) (k0_hw31 : k0_chk31 i k0_t2 v209 v212) (k0_t63 : Fin (k0_t63_loop i k0_t2 v209 v212).trips), ∀ (k0_h19 : k0_cond19 k0_t2 = 1#1), ∀ (k0_h34 : k0_cond34 i k0_t2 v209 v212 = 1#1), ∀ a, (k0_off497 i k0_t2 v209 v212 k0_t63) a + S1x16.size a ≤ S256x128.size a := fun i k0_t2 v209 v212 k0_hw31 k0_t63 k0_h19 k0_h34 => k0_hw31.2.2.2.2.2.1 k0_t63 k0_h19 k0_h34
theorem k0_off498_inb : ∀ (i : grid0.Coords) (k0_t2 : Fin k0_t2_loop.trips) (v209 : BitVec 32) (v212 : BitVec 32) (k0_hw31 : k0_chk31 i k0_t2 v209 v212) (k0_t63 : Fin (k0_t63_loop i k0_t2 v209 v212).trips), ∀ (k0_h19 : k0_cond19 k0_t2 = 1#1), ∀ (k0_h34 : k0_cond34 i k0_t2 v209 v212 = 1#1), ∀ a, (k0_off498 i k0_t2 v209 v212 k0_t63) a + S1x16.size a ≤ S256x128.size a := fun i k0_t2 v209 v212 k0_hw31 k0_t63 k0_h19 k0_h34 => k0_hw31.2.2.2.2.2.2.1 k0_t63 k0_h19 k0_h34
theorem k0_off499_inb : ∀ (i : grid0.Coords) (k0_t2 : Fin k0_t2_loop.trips) (v209 : BitVec 32) (v212 : BitVec 32) (k0_hw31 : k0_chk31 i k0_t2 v209 v212) (k0_t63 : Fin (k0_t63_loop i k0_t2 v209 v212).trips), ∀ (k0_h19 : k0_cond19 k0_t2 = 1#1), ∀ (k0_h34 : k0_cond34 i k0_t2 v209 v212 = 1#1), ∀ a, (k0_off499 i k0_t2 v209 v212 k0_t63) a + S1x16.size a ≤ S256x128.size a := fun i k0_t2 v209 v212 k0_hw31 k0_t63 k0_h19 k0_h34 => k0_hw31.2.2.2.2.2.2.2.1 k0_t63 k0_h19 k0_h34
theorem k0_off500_inb : ∀ (i : grid0.Coords) (k0_t2 : Fin k0_t2_loop.trips) (v209 : BitVec 32) (v212 : BitVec 32) (k0_hw31 : k0_chk31 i k0_t2 v209 v212) (k0_t63 : Fin (k0_t63_loop i k0_t2 v209 v212).trips), ∀ (k0_h19 : k0_cond19 k0_t2 = 1#1), ∀ (k0_h34 : k0_cond34 i k0_t2 v209 v212 = 1#1), ∀ a, (k0_off500 i k0_t2 v209 v212 k0_t63) a + S1x16.size a ≤ S256x128.size a := fun i k0_t2 v209 v212 k0_hw31 k0_t63 k0_h19 k0_h34 => k0_hw31.2.2.2.2.2.2.2.2.1 k0_t63 k0_h19 k0_h34
theorem k0_t64_ok : ∀ (i : grid0.Coords) (k0_t2 : Fin k0_t2_loop.trips) (v209 : BitVec 32) (v212 : BitVec 32) (k0_hw31 : k0_chk31 i k0_t2 v209 v212), ∀ (k0_h19 : k0_cond19 k0_t2 = 1#1), ∀ (k0_h34 : k0_cond34 i k0_t2 v209 v212 = 1#1), (k0_t64_loop i k0_t2 v209 v212).OK := fun i k0_t2 v209 v212 k0_hw31 k0_h19 k0_h34 => k0_hw31.2.2.2.2.2.2.2.2.2.1 k0_h19 k0_h34
theorem k0_off501_inb : ∀ (i : grid0.Coords) (k0_t2 : Fin k0_t2_loop.trips) (v209 : BitVec 32) (v212 : BitVec 32) (k0_hw31 : k0_chk31 i k0_t2 v209 v212) (k0_t64 : Fin (k0_t64_loop i k0_t2 v209 v212).trips), ∀ (k0_h19 : k0_cond19 k0_t2 = 1#1), ∀ (k0_h34 : k0_cond34 i k0_t2 v209 v212 = 1#1), ∀ a, (k0_off501 i k0_t2 v209 v212 k0_t64) a + S1x16.size a ≤ S256x128.size a := fun i k0_t2 v209 v212 k0_hw31 k0_t64 k0_h19 k0_h34 => k0_hw31.2.2.2.2.2.2.2.2.2.2.1 k0_t64 k0_h19 k0_h34
theorem k0_off502_inb : ∀ (i : grid0.Coords) (k0_t2 : Fin k0_t2_loop.trips) (v209 : BitVec 32) (v212 : BitVec 32) (k0_hw31 : k0_chk31 i k0_t2 v209 v212) (k0_t64 : Fin (k0_t64_loop i k0_t2 v209 v212).trips), ∀ (k0_h19 : k0_cond19 k0_t2 = 1#1), ∀ (k0_h34 : k0_cond34 i k0_t2 v209 v212 = 1#1), ∀ a, (k0_off502 i k0_t2 v209 v212 k0_t64) a + S1x16.size a ≤ S256x128.size a := fun i k0_t2 v209 v212 k0_hw31 k0_t64 k0_h19 k0_h34 => k0_hw31.2.2.2.2.2.2.2.2.2.2.2.1 k0_t64 k0_h19 k0_h34
theorem k0_off503_inb : ∀ (i : grid0.Coords) (k0_t2 : Fin k0_t2_loop.trips) (v209 : BitVec 32) (v212 : BitVec 32) (k0_hw31 : k0_chk31 i k0_t2 v209 v212) (k0_t64 : Fin (k0_t64_loop i k0_t2 v209 v212).trips), ∀ (k0_h19 : k0_cond19 k0_t2 = 1#1), ∀ (k0_h34 : k0_cond34 i k0_t2 v209 v212 = 1#1), ∀ a, (k0_off503 i k0_t2 v209 v212 k0_t64) a + S1x16.size a ≤ S256x128.size a := fun i k0_t2 v209 v212 k0_hw31 k0_t64 k0_h19 k0_h34 => k0_hw31.2.2.2.2.2.2.2.2.2.2.2.2.1 k0_t64 k0_h19 k0_h34
theorem k0_off504_inb : ∀ (i : grid0.Coords) (k0_t2 : Fin k0_t2_loop.trips) (v209 : BitVec 32) (v212 : BitVec 32) (k0_hw31 : k0_chk31 i k0_t2 v209 v212) (k0_t64 : Fin (k0_t64_loop i k0_t2 v209 v212).trips), ∀ (k0_h19 : k0_cond19 k0_t2 = 1#1), ∀ (k0_h34 : k0_cond34 i k0_t2 v209 v212 = 1#1), ∀ a, (k0_off504 i k0_t2 v209 v212 k0_t64) a + S1x16.size a ≤ S256x128.size a := fun i k0_t2 v209 v212 k0_hw31 k0_t64 k0_h19 k0_h34 => k0_hw31.2.2.2.2.2.2.2.2.2.2.2.2.2.1 k0_t64 k0_h19 k0_h34
theorem k0_off505_inb : ∀ (i : grid0.Coords) (k0_t2 : Fin k0_t2_loop.trips) (v209 : BitVec 32) (v212 : BitVec 32) (k0_hw31 : k0_chk31 i k0_t2 v209 v212) (k0_t64 : Fin (k0_t64_loop i k0_t2 v209 v212).trips), ∀ (k0_h19 : k0_cond19 k0_t2 = 1#1), ∀ (k0_h34 : k0_cond34 i k0_t2 v209 v212 = 1#1), ∀ a, (k0_off505 i k0_t2 v209 v212 k0_t64) a + S1x16.size a ≤ S256x128.size a := fun i k0_t2 v209 v212 k0_hw31 k0_t64 k0_h19 k0_h34 => k0_hw31.2.2.2.2.2.2.2.2.2.2.2.2.2.2.1 k0_t64 k0_h19 k0_h34
theorem k0_off506_inb : ∀ (i : grid0.Coords) (k0_t2 : Fin k0_t2_loop.trips) (v209 : BitVec 32) (v212 : BitVec 32) (k0_hw31 : k0_chk31 i k0_t2 v209 v212) (k0_t64 : Fin (k0_t64_loop i k0_t2 v209 v212).trips), ∀ (k0_h19 : k0_cond19 k0_t2 = 1#1), ∀ (k0_h34 : k0_cond34 i k0_t2 v209 v212 = 1#1), ∀ a, (k0_off506 i k0_t2 v209 v212 k0_t64) a + S1x16.size a ≤ S256x128.size a := fun i k0_t2 v209 v212 k0_hw31 k0_t64 k0_h19 k0_h34 => k0_hw31.2.2.2.2.2.2.2.2.2.2.2.2.2.2.2.1 k0_t64 k0_h19 k0_h34
theorem k0_off507_inb : ∀ (i : grid0.Coords) (k0_t2 : Fin k0_t2_loop.trips) (v209 : BitVec 32) (v212 : BitVec 32) (k0_hw31 : k0_chk31 i k0_t2 v209 v212) (k0_t64 : Fin (k0_t64_loop i k0_t2 v209 v212).trips), ∀ (k0_h19 : k0_cond19 k0_t2 = 1#1), ∀ (k0_h34 : k0_cond34 i k0_t2 v209 v212 = 1#1), ∀ a, (k0_off507 i k0_t2 v209 v212 k0_t64) a + S1x16.size a ≤ S256x128.size a := fun i k0_t2 v209 v212 k0_hw31 k0_t64 k0_h19 k0_h34 => k0_hw31.2.2.2.2.2.2.2.2.2.2.2.2.2.2.2.2.1 k0_t64 k0_h19 k0_h34
theorem k0_off508_inb : ∀ (i : grid0.Coords) (k0_t2 : Fin k0_t2_loop.trips) (v209 : BitVec 32) (v212 : BitVec 32) (k0_hw31 : k0_chk31 i k0_t2 v209 v212) (k0_t64 : Fin (k0_t64_loop i k0_t2 v209 v212).trips), ∀ (k0_h19 : k0_cond19 k0_t2 = 1#1), ∀ (k0_h34 : k0_cond34 i k0_t2 v209 v212 = 1#1), ∀ a, (k0_off508 i k0_t2 v209 v212 k0_t64) a + S1x16.size a ≤ S256x128.size a := fun i k0_t2 v209 v212 k0_hw31 k0_t64 k0_h19 k0_h34 => k0_hw31.2.2.2.2.2.2.2.2.2.2.2.2.2.2.2.2.2 k0_t64 k0_h19 k0_h34

@[reducible] def k0_t65_loop (i : grid0.Coords) (k0_t2 : Fin k0_t2_loop.trips) (v218 : BitVec 32) (v221 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v219 : BitVec 32 := Scalar.maxsi v218 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_85 : BitVec 32 := 1#32
  ⟨v219, v234, c1_i32_85⟩
def k0_cond35 (i : grid0.Coords) (k0_t2 : Fin k0_t2_loop.trips) (v218 : BitVec 32) (v221 : BitVec 32) : BitVec 1 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v222 : BitVec 32 := Scalar.minsi v221 v77
  let v219 : BitVec 32 := Scalar.maxsi v218 v75
  let v223 : BitVec 1 := Scalar.cmpi .sgt v222 v219
  let v224 : BitVec 32 := Scalar.extui v223
  let c0_i32_80 : BitVec 32 := 0#32
  let v225 : BitVec 1 := Scalar.cmpi .ne v224 c0_i32_80
  v225

def k0_off509 (i : grid0.Coords) (k0_t2 : Fin k0_t2_loop.trips) (v218 : BitVec 32) (v221 : BitVec 32) (k0_t65 : Fin (k0_t65_loop i k0_t2 v218 v221).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v219 : BitVec 32 := Scalar.maxsi v218 v75
  let c1_i32_85 : BitVec 32 := 1#32
  let arg19 : BitVec 32 := Scf.iv v219 c1_i32_85 k0_t65
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off510 (i : grid0.Coords) (k0_t2 : Fin k0_t2_loop.trips) (v218 : BitVec 32) (v221 : BitVec 32) (k0_t65 : Fin (k0_t65_loop i k0_t2 v218 v221).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v219 : BitVec 32 := Scalar.maxsi v218 v75
  let c1_i32_85 : BitVec 32 := 1#32
  let arg19 : BitVec 32 := Scf.iv v219 c1_i32_85 k0_t65
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off511 (i : grid0.Coords) (k0_t2 : Fin k0_t2_loop.trips) (v218 : BitVec 32) (v221 : BitVec 32) (k0_t65 : Fin (k0_t65_loop i k0_t2 v218 v221).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v219 : BitVec 32 := Scalar.maxsi v218 v75
  let c1_i32_85 : BitVec 32 := 1#32
  let arg19 : BitVec 32 := Scf.iv v219 c1_i32_85 k0_t65
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off512 (i : grid0.Coords) (k0_t2 : Fin k0_t2_loop.trips) (v218 : BitVec 32) (v221 : BitVec 32) (k0_t65 : Fin (k0_t65_loop i k0_t2 v218 v221).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v219 : BitVec 32 := Scalar.maxsi v218 v75
  let c1_i32_85 : BitVec 32 := 1#32
  let arg19 : BitVec 32 := Scf.iv v219 c1_i32_85 k0_t65
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off513 (i : grid0.Coords) (k0_t2 : Fin k0_t2_loop.trips) (v218 : BitVec 32) (v221 : BitVec 32) (k0_t65 : Fin (k0_t65_loop i k0_t2 v218 v221).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v219 : BitVec 32 := Scalar.maxsi v218 v75
  let c1_i32_85 : BitVec 32 := 1#32
  let arg19 : BitVec 32 := Scf.iv v219 c1_i32_85 k0_t65
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off514 (i : grid0.Coords) (k0_t2 : Fin k0_t2_loop.trips) (v218 : BitVec 32) (v221 : BitVec 32) (k0_t65 : Fin (k0_t65_loop i k0_t2 v218 v221).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v219 : BitVec 32 := Scalar.maxsi v218 v75
  let c1_i32_85 : BitVec 32 := 1#32
  let arg19 : BitVec 32 := Scf.iv v219 c1_i32_85 k0_t65
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off515 (i : grid0.Coords) (k0_t2 : Fin k0_t2_loop.trips) (v218 : BitVec 32) (v221 : BitVec 32) (k0_t65 : Fin (k0_t65_loop i k0_t2 v218 v221).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v219 : BitVec 32 := Scalar.maxsi v218 v75
  let c1_i32_85 : BitVec 32 := 1#32
  let arg19 : BitVec 32 := Scf.iv v219 c1_i32_85 k0_t65
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off516 (i : grid0.Coords) (k0_t2 : Fin k0_t2_loop.trips) (v218 : BitVec 32) (v221 : BitVec 32) (k0_t65 : Fin (k0_t65_loop i k0_t2 v218 v221).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v219 : BitVec 32 := Scalar.maxsi v218 v75
  let c1_i32_85 : BitVec 32 := 1#32
  let arg19 : BitVec 32 := Scf.iv v219 c1_i32_85 k0_t65
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]
@[reducible] def k0_t66_loop (i : grid0.Coords) (k0_t2 : Fin k0_t2_loop.trips) (v218 : BitVec 32) (v221 : BitVec 32) : Scf.Loop 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v219 : BitVec 32 := Scalar.maxsi v218 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let v231 : BitVec 32 := Scalar.addi v219 v230
  let c1_i32_86 : BitVec 32 := 1#32
  ⟨v234, v231, c1_i32_86⟩
def k0_off517 (i : grid0.Coords) (k0_t2 : Fin k0_t2_loop.trips) (v218 : BitVec 32) (v221 : BitVec 32) (k0_t66 : Fin (k0_t66_loop i k0_t2 v218 v221).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v219 : BitVec 32 := Scalar.maxsi v218 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_86 : BitVec 32 := 1#32
  let arg19 : BitVec 32 := Scf.iv v234 c1_i32_86 k0_t66
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v302 : Index := Scalar.indexCast v301
  let c0_112 : Index := 0#32
  ![v302.toNat, 0]
def k0_off518 (i : grid0.Coords) (k0_t2 : Fin k0_t2_loop.trips) (v218 : BitVec 32) (v221 : BitVec 32) (k0_t66 : Fin (k0_t66_loop i k0_t2 v218 v221).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v219 : BitVec 32 := Scalar.maxsi v218 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_86 : BitVec 32 := 1#32
  let arg19 : BitVec 32 := Scf.iv v234 c1_i32_86 k0_t66
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v306 : Index := Scalar.indexCast v301
  let c16_113 : Index := 16#32
  ![v306.toNat, 16]
def k0_off519 (i : grid0.Coords) (k0_t2 : Fin k0_t2_loop.trips) (v218 : BitVec 32) (v221 : BitVec 32) (k0_t66 : Fin (k0_t66_loop i k0_t2 v218 v221).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v219 : BitVec 32 := Scalar.maxsi v218 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_86 : BitVec 32 := 1#32
  let arg19 : BitVec 32 := Scf.iv v234 c1_i32_86 k0_t66
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v310 : Index := Scalar.indexCast v301
  let c32_114 : Index := 32#32
  ![v310.toNat, 32]
def k0_off520 (i : grid0.Coords) (k0_t2 : Fin k0_t2_loop.trips) (v218 : BitVec 32) (v221 : BitVec 32) (k0_t66 : Fin (k0_t66_loop i k0_t2 v218 v221).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v219 : BitVec 32 := Scalar.maxsi v218 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_86 : BitVec 32 := 1#32
  let arg19 : BitVec 32 := Scf.iv v234 c1_i32_86 k0_t66
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v314 : Index := Scalar.indexCast v301
  let c48_115 : Index := 48#32
  ![v314.toNat, 48]
def k0_off521 (i : grid0.Coords) (k0_t2 : Fin k0_t2_loop.trips) (v218 : BitVec 32) (v221 : BitVec 32) (k0_t66 : Fin (k0_t66_loop i k0_t2 v218 v221).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v219 : BitVec 32 := Scalar.maxsi v218 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_86 : BitVec 32 := 1#32
  let arg19 : BitVec 32 := Scf.iv v234 c1_i32_86 k0_t66
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v318 : Index := Scalar.indexCast v301
  let c64_116 : Index := 64#32
  ![v318.toNat, 64]
def k0_off522 (i : grid0.Coords) (k0_t2 : Fin k0_t2_loop.trips) (v218 : BitVec 32) (v221 : BitVec 32) (k0_t66 : Fin (k0_t66_loop i k0_t2 v218 v221).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v219 : BitVec 32 := Scalar.maxsi v218 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_86 : BitVec 32 := 1#32
  let arg19 : BitVec 32 := Scf.iv v234 c1_i32_86 k0_t66
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v322 : Index := Scalar.indexCast v301
  let c80_117 : Index := 80#32
  ![v322.toNat, 80]
def k0_off523 (i : grid0.Coords) (k0_t2 : Fin k0_t2_loop.trips) (v218 : BitVec 32) (v221 : BitVec 32) (k0_t66 : Fin (k0_t66_loop i k0_t2 v218 v221).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v219 : BitVec 32 := Scalar.maxsi v218 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_86 : BitVec 32 := 1#32
  let arg19 : BitVec 32 := Scf.iv v234 c1_i32_86 k0_t66
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v326 : Index := Scalar.indexCast v301
  let c96_118 : Index := 96#32
  ![v326.toNat, 96]
def k0_off524 (i : grid0.Coords) (k0_t2 : Fin k0_t2_loop.trips) (v218 : BitVec 32) (v221 : BitVec 32) (k0_t66 : Fin (k0_t66_loop i k0_t2 v218 v221).trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v4 v74
  let v219 : BitVec 32 := Scalar.maxsi v218 v75
  let c256_i32_62 : BitVec 32 := 256#32
  let v76 : BitVec 32 := Scalar.addi v75 c256_i32_62
  let c10000_i32_0 : BitVec 32 := 10000#32
  let v5 : BitVec 32 := Scalar.addi v4 c10000_i32_0
  let c320000_i32 : BitVec 32 := 320000#32
  let v6 : BitVec 32 := Scalar.minsi v5 c320000_i32
  let v77 : BitVec 32 := Scalar.minsi v76 v6
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_86 : BitVec 32 := 1#32
  let arg19 : BitVec 32 := Scf.iv v234 c1_i32_86 k0_t66
  let c256_i32_63 : BitVec 32 := 256#32
  let v78 : BitVec 32 := Scalar.muli v64 c256_i32_63
  let v79 : BitVec 32 := Scalar.addi v4 v78
  let c319744_i32_64 : BitVec 32 := 319744#32
  let v80 : BitVec 32 := Scalar.minsi v79 c319744_i32_64
  let v81 : BitVec 32 := v80
  let v301 : BitVec 32 := Scalar.subi arg19 v81
  let v330 : Index := Scalar.indexCast v301
  let c112_119 : Index := 112#32
  ![v330.toNat, 112]

def k0_chk32 (i : grid0.Coords) (k0_t2 : Fin k0_t2_loop.trips) (v218 : BitVec 32) (v221 : BitVec 32) : Prop :=
  (∀ (k0_h19 : k0_cond19 k0_t2 = 1#1), ∀ (k0_h35 : k0_cond35 i k0_t2 v218 v221 = 1#1), (k0_t65_loop i k0_t2 v218 v221).OK) ∧
  (∀ k0_t65 : Fin (k0_t65_loop i k0_t2 v218 v221).trips, ∀ (k0_h19 : k0_cond19 k0_t2 = 1#1), ∀ (k0_h35 : k0_cond35 i k0_t2 v218 v221 = 1#1), ∀ a, (k0_off509 i k0_t2 v218 v221 k0_t65) a + S1x16.size a ≤ S256x128.size a) ∧
  (∀ k0_t65 : Fin (k0_t65_loop i k0_t2 v218 v221).trips, ∀ (k0_h19 : k0_cond19 k0_t2 = 1#1), ∀ (k0_h35 : k0_cond35 i k0_t2 v218 v221 = 1#1), ∀ a, (k0_off510 i k0_t2 v218 v221 k0_t65) a + S1x16.size a ≤ S256x128.size a) ∧
  (∀ k0_t65 : Fin (k0_t65_loop i k0_t2 v218 v221).trips, ∀ (k0_h19 : k0_cond19 k0_t2 = 1#1), ∀ (k0_h35 : k0_cond35 i k0_t2 v218 v221 = 1#1), ∀ a, (k0_off511 i k0_t2 v218 v221 k0_t65) a + S1x16.size a ≤ S256x128.size a) ∧
  (∀ k0_t65 : Fin (k0_t65_loop i k0_t2 v218 v221).trips, ∀ (k0_h19 : k0_cond19 k0_t2 = 1#1), ∀ (k0_h35 : k0_cond35 i k0_t2 v218 v221 = 1#1), ∀ a, (k0_off512 i k0_t2 v218 v221 k0_t65) a + S1x16.size a ≤ S256x128.size a) ∧
  (∀ k0_t65 : Fin (k0_t65_loop i k0_t2 v218 v221).trips, ∀ (k0_h19 : k0_cond19 k0_t2 = 1#1), ∀ (k0_h35 : k0_cond35 i k0_t2 v218 v221 = 1#1), ∀ a, (k0_off513 i k0_t2 v218 v221 k0_t65) a + S1x16.size a ≤ S256x128.size a) ∧
  (∀ k0_t65 : Fin (k0_t65_loop i k0_t2 v218 v221).trips, ∀ (k0_h19 : k0_cond19 k0_t2 = 1#1), ∀ (k0_h35 : k0_cond35 i k0_t2 v218 v221 = 1#1), ∀ a, (k0_off514 i k0_t2 v218 v221 k0_t65) a + S1x16.size a ≤ S256x128.size a) ∧
  (∀ k0_t65 : Fin (k0_t65_loop i k0_t2 v218 v221).trips, ∀ (k0_h19 : k0_cond19 k0_t2 = 1#1), ∀ (k0_h35 : k0_cond35 i k0_t2 v218 v221 = 1#1), ∀ a, (k0_off515 i k0_t2 v218 v221 k0_t65) a + S1x16.size a ≤ S256x128.size a) ∧
  (∀ k0_t65 : Fin (k0_t65_loop i k0_t2 v218 v221).trips, ∀ (k0_h19 : k0_cond19 k0_t2 = 1#1), ∀ (k0_h35 : k0_cond35 i k0_t2 v218 v221 = 1#1), ∀ a, (k0_off516 i k0_t2 v218 v221 k0_t65) a + S1x16.size a ≤ S256x128.size a) ∧
  (∀ (k0_h19 : k0_cond19 k0_t2 = 1#1), ∀ (k0_h35 : k0_cond35 i k0_t2 v218 v221 = 1#1), (k0_t66_loop i k0_t2 v218 v221).OK) ∧
  (∀ k0_t66 : Fin (k0_t66_loop i k0_t2 v218 v221).trips, ∀ (k0_h19 : k0_cond19 k0_t2 = 1#1), ∀ (k0_h35 : k0_cond35 i k0_t2 v218 v221 = 1#1), ∀ a, (k0_off517 i k0_t2 v218 v221 k0_t66) a + S1x16.size a ≤ S256x128.size a) ∧
  (∀ k0_t66 : Fin (k0_t66_loop i k0_t2 v218 v221).trips, ∀ (k0_h19 : k0_cond19 k0_t2 = 1#1), ∀ (k0_h35 : k0_cond35 i k0_t2 v218 v221 = 1#1), ∀ a, (k0_off518 i k0_t2 v218 v221 k0_t66) a + S1x16.size a ≤ S256x128.size a) ∧
  (∀ k0_t66 : Fin (k0_t66_loop i k0_t2 v218 v221).trips, ∀ (k0_h19 : k0_cond19 k0_t2 = 1#1), ∀ (k0_h35 : k0_cond35 i k0_t2 v218 v221 = 1#1), ∀ a, (k0_off519 i k0_t2 v218 v221 k0_t66) a + S1x16.size a ≤ S256x128.size a) ∧
  (∀ k0_t66 : Fin (k0_t66_loop i k0_t2 v218 v221).trips, ∀ (k0_h19 : k0_cond19 k0_t2 = 1#1), ∀ (k0_h35 : k0_cond35 i k0_t2 v218 v221 = 1#1), ∀ a, (k0_off520 i k0_t2 v218 v221 k0_t66) a + S1x16.size a ≤ S256x128.size a) ∧
  (∀ k0_t66 : Fin (k0_t66_loop i k0_t2 v218 v221).trips, ∀ (k0_h19 : k0_cond19 k0_t2 = 1#1), ∀ (k0_h35 : k0_cond35 i k0_t2 v218 v221 = 1#1), ∀ a, (k0_off521 i k0_t2 v218 v221 k0_t66) a + S1x16.size a ≤ S256x128.size a) ∧
  (∀ k0_t66 : Fin (k0_t66_loop i k0_t2 v218 v221).trips, ∀ (k0_h19 : k0_cond19 k0_t2 = 1#1), ∀ (k0_h35 : k0_cond35 i k0_t2 v218 v221 = 1#1), ∀ a, (k0_off522 i k0_t2 v218 v221 k0_t66) a + S1x16.size a ≤ S256x128.size a) ∧
  (∀ k0_t66 : Fin (k0_t66_loop i k0_t2 v218 v221).trips, ∀ (k0_h19 : k0_cond19 k0_t2 = 1#1), ∀ (k0_h35 : k0_cond35 i k0_t2 v218 v221 = 1#1), ∀ a, (k0_off523 i k0_t2 v218 v221 k0_t66) a + S1x16.size a ≤ S256x128.size a) ∧
  (∀ k0_t66 : Fin (k0_t66_loop i k0_t2 v218 v221).trips, ∀ (k0_h19 : k0_cond19 k0_t2 = 1#1), ∀ (k0_h35 : k0_cond35 i k0_t2 v218 v221 = 1#1), ∀ a, (k0_off524 i k0_t2 v218 v221 k0_t66) a + S1x16.size a ≤ S256x128.size a)
theorem k0_t65_ok : ∀ (i : grid0.Coords) (k0_t2 : Fin k0_t2_loop.trips) (v218 : BitVec 32) (v221 : BitVec 32) (k0_hw32 : k0_chk32 i k0_t2 v218 v221), ∀ (k0_h19 : k0_cond19 k0_t2 = 1#1), ∀ (k0_h35 : k0_cond35 i k0_t2 v218 v221 = 1#1), (k0_t65_loop i k0_t2 v218 v221).OK := fun i k0_t2 v218 v221 k0_hw32 k0_h19 k0_h35 => k0_hw32.1 k0_h19 k0_h35
theorem k0_off509_inb : ∀ (i : grid0.Coords) (k0_t2 : Fin k0_t2_loop.trips) (v218 : BitVec 32) (v221 : BitVec 32) (k0_hw32 : k0_chk32 i k0_t2 v218 v221) (k0_t65 : Fin (k0_t65_loop i k0_t2 v218 v221).trips), ∀ (k0_h19 : k0_cond19 k0_t2 = 1#1), ∀ (k0_h35 : k0_cond35 i k0_t2 v218 v221 = 1#1), ∀ a, (k0_off509 i k0_t2 v218 v221 k0_t65) a + S1x16.size a ≤ S256x128.size a := fun i k0_t2 v218 v221 k0_hw32 k0_t65 k0_h19 k0_h35 => k0_hw32.2.1 k0_t65 k0_h19 k0_h35
theorem k0_off510_inb : ∀ (i : grid0.Coords) (k0_t2 : Fin k0_t2_loop.trips) (v218 : BitVec 32) (v221 : BitVec 32) (k0_hw32 : k0_chk32 i k0_t2 v218 v221) (k0_t65 : Fin (k0_t65_loop i k0_t2 v218 v221).trips), ∀ (k0_h19 : k0_cond19 k0_t2 = 1#1), ∀ (k0_h35 : k0_cond35 i k0_t2 v218 v221 = 1#1), ∀ a, (k0_off510 i k0_t2 v218 v221 k0_t65) a + S1x16.size a ≤ S256x128.size a := fun i k0_t2 v218 v221 k0_hw32 k0_t65 k0_h19 k0_h35 => k0_hw32.2.2.1 k0_t65 k0_h19 k0_h35
theorem k0_off511_inb : ∀ (i : grid0.Coords) (k0_t2 : Fin k0_t2_loop.trips) (v218 : BitVec 32) (v221 : BitVec 32) (k0_hw32 : k0_chk32 i k0_t2 v218 v221) (k0_t65 : Fin (k0_t65_loop i k0_t2 v218 v221).trips), ∀ (k0_h19 : k0_cond19 k0_t2 = 1#1), ∀ (k0_h35 : k0_cond35 i k0_t2 v218 v221 = 1#1), ∀ a, (k0_off511 i k0_t2 v218 v221 k0_t65) a + S1x16.size a ≤ S256x128.size a := fun i k0_t2 v218 v221 k0_hw32 k0_t65 k0_h19 k0_h35 => k0_hw32.2.2.2.1 k0_t65 k0_h19 k0_h35
theorem k0_off512_inb : ∀ (i : grid0.Coords) (k0_t2 : Fin k0_t2_loop.trips) (v218 : BitVec 32) (v221 : BitVec 32) (k0_hw32 : k0_chk32 i k0_t2 v218 v221) (k0_t65 : Fin (k0_t65_loop i k0_t2 v218 v221).trips), ∀ (k0_h19 : k0_cond19 k0_t2 = 1#1), ∀ (k0_h35 : k0_cond35 i k0_t2 v218 v221 = 1#1), ∀ a, (k0_off512 i k0_t2 v218 v221 k0_t65) a + S1x16.size a ≤ S256x128.size a := fun i k0_t2 v218 v221 k0_hw32 k0_t65 k0_h19 k0_h35 => k0_hw32.2.2.2.2.1 k0_t65 k0_h19 k0_h35
theorem k0_off513_inb : ∀ (i : grid0.Coords) (k0_t2 : Fin k0_t2_loop.trips) (v218 : BitVec 32) (v221 : BitVec 32) (k0_hw32 : k0_chk32 i k0_t2 v218 v221) (k0_t65 : Fin (k0_t65_loop i k0_t2 v218 v221).trips), ∀ (k0_h19 : k0_cond19 k0_t2 = 1#1), ∀ (k0_h35 : k0_cond35 i k0_t2 v218 v221 = 1#1), ∀ a, (k0_off513 i k0_t2 v218 v221 k0_t65) a + S1x16.size a ≤ S256x128.size a := fun i k0_t2 v218 v221 k0_hw32 k0_t65 k0_h19 k0_h35 => k0_hw32.2.2.2.2.2.1 k0_t65 k0_h19 k0_h35
theorem k0_off514_inb : ∀ (i : grid0.Coords) (k0_t2 : Fin k0_t2_loop.trips) (v218 : BitVec 32) (v221 : BitVec 32) (k0_hw32 : k0_chk32 i k0_t2 v218 v221) (k0_t65 : Fin (k0_t65_loop i k0_t2 v218 v221).trips), ∀ (k0_h19 : k0_cond19 k0_t2 = 1#1), ∀ (k0_h35 : k0_cond35 i k0_t2 v218 v221 = 1#1), ∀ a, (k0_off514 i k0_t2 v218 v221 k0_t65) a + S1x16.size a ≤ S256x128.size a := fun i k0_t2 v218 v221 k0_hw32 k0_t65 k0_h19 k0_h35 => k0_hw32.2.2.2.2.2.2.1 k0_t65 k0_h19 k0_h35
theorem k0_off515_inb : ∀ (i : grid0.Coords) (k0_t2 : Fin k0_t2_loop.trips) (v218 : BitVec 32) (v221 : BitVec 32) (k0_hw32 : k0_chk32 i k0_t2 v218 v221) (k0_t65 : Fin (k0_t65_loop i k0_t2 v218 v221).trips), ∀ (k0_h19 : k0_cond19 k0_t2 = 1#1), ∀ (k0_h35 : k0_cond35 i k0_t2 v218 v221 = 1#1), ∀ a, (k0_off515 i k0_t2 v218 v221 k0_t65) a + S1x16.size a ≤ S256x128.size a := fun i k0_t2 v218 v221 k0_hw32 k0_t65 k0_h19 k0_h35 => k0_hw32.2.2.2.2.2.2.2.1 k0_t65 k0_h19 k0_h35
theorem k0_off516_inb : ∀ (i : grid0.Coords) (k0_t2 : Fin k0_t2_loop.trips) (v218 : BitVec 32) (v221 : BitVec 32) (k0_hw32 : k0_chk32 i k0_t2 v218 v221) (k0_t65 : Fin (k0_t65_loop i k0_t2 v218 v221).trips), ∀ (k0_h19 : k0_cond19 k0_t2 = 1#1), ∀ (k0_h35 : k0_cond35 i k0_t2 v218 v221 = 1#1), ∀ a, (k0_off516 i k0_t2 v218 v221 k0_t65) a + S1x16.size a ≤ S256x128.size a := fun i k0_t2 v218 v221 k0_hw32 k0_t65 k0_h19 k0_h35 => k0_hw32.2.2.2.2.2.2.2.2.1 k0_t65 k0_h19 k0_h35
theorem k0_t66_ok : ∀ (i : grid0.Coords) (k0_t2 : Fin k0_t2_loop.trips) (v218 : BitVec 32) (v221 : BitVec 32) (k0_hw32 : k0_chk32 i k0_t2 v218 v221), ∀ (k0_h19 : k0_cond19 k0_t2 = 1#1), ∀ (k0_h35 : k0_cond35 i k0_t2 v218 v221 = 1#1), (k0_t66_loop i k0_t2 v218 v221).OK := fun i k0_t2 v218 v221 k0_hw32 k0_h19 k0_h35 => k0_hw32.2.2.2.2.2.2.2.2.2.1 k0_h19 k0_h35
theorem k0_off517_inb : ∀ (i : grid0.Coords) (k0_t2 : Fin k0_t2_loop.trips) (v218 : BitVec 32) (v221 : BitVec 32) (k0_hw32 : k0_chk32 i k0_t2 v218 v221) (k0_t66 : Fin (k0_t66_loop i k0_t2 v218 v221).trips), ∀ (k0_h19 : k0_cond19 k0_t2 = 1#1), ∀ (k0_h35 : k0_cond35 i k0_t2 v218 v221 = 1#1), ∀ a, (k0_off517 i k0_t2 v218 v221 k0_t66) a + S1x16.size a ≤ S256x128.size a := fun i k0_t2 v218 v221 k0_hw32 k0_t66 k0_h19 k0_h35 => k0_hw32.2.2.2.2.2.2.2.2.2.2.1 k0_t66 k0_h19 k0_h35
theorem k0_off518_inb : ∀ (i : grid0.Coords) (k0_t2 : Fin k0_t2_loop.trips) (v218 : BitVec 32) (v221 : BitVec 32) (k0_hw32 : k0_chk32 i k0_t2 v218 v221) (k0_t66 : Fin (k0_t66_loop i k0_t2 v218 v221).trips), ∀ (k0_h19 : k0_cond19 k0_t2 = 1#1), ∀ (k0_h35 : k0_cond35 i k0_t2 v218 v221 = 1#1), ∀ a, (k0_off518 i k0_t2 v218 v221 k0_t66) a + S1x16.size a ≤ S256x128.size a := fun i k0_t2 v218 v221 k0_hw32 k0_t66 k0_h19 k0_h35 => k0_hw32.2.2.2.2.2.2.2.2.2.2.2.1 k0_t66 k0_h19 k0_h35
theorem k0_off519_inb : ∀ (i : grid0.Coords) (k0_t2 : Fin k0_t2_loop.trips) (v218 : BitVec 32) (v221 : BitVec 32) (k0_hw32 : k0_chk32 i k0_t2 v218 v221) (k0_t66 : Fin (k0_t66_loop i k0_t2 v218 v221).trips), ∀ (k0_h19 : k0_cond19 k0_t2 = 1#1), ∀ (k0_h35 : k0_cond35 i k0_t2 v218 v221 = 1#1), ∀ a, (k0_off519 i k0_t2 v218 v221 k0_t66) a + S1x16.size a ≤ S256x128.size a := fun i k0_t2 v218 v221 k0_hw32 k0_t66 k0_h19 k0_h35 => k0_hw32.2.2.2.2.2.2.2.2.2.2.2.2.1 k0_t66 k0_h19 k0_h35
theorem k0_off520_inb : ∀ (i : grid0.Coords) (k0_t2 : Fin k0_t2_loop.trips) (v218 : BitVec 32) (v221 : BitVec 32) (k0_hw32 : k0_chk32 i k0_t2 v218 v221) (k0_t66 : Fin (k0_t66_loop i k0_t2 v218 v221).trips), ∀ (k0_h19 : k0_cond19 k0_t2 = 1#1), ∀ (k0_h35 : k0_cond35 i k0_t2 v218 v221 = 1#1), ∀ a, (k0_off520 i k0_t2 v218 v221 k0_t66) a + S1x16.size a ≤ S256x128.size a := fun i k0_t2 v218 v221 k0_hw32 k0_t66 k0_h19 k0_h35 => k0_hw32.2.2.2.2.2.2.2.2.2.2.2.2.2.1 k0_t66 k0_h19 k0_h35
theorem k0_off521_inb : ∀ (i : grid0.Coords) (k0_t2 : Fin k0_t2_loop.trips) (v218 : BitVec 32) (v221 : BitVec 32) (k0_hw32 : k0_chk32 i k0_t2 v218 v221) (k0_t66 : Fin (k0_t66_loop i k0_t2 v218 v221).trips), ∀ (k0_h19 : k0_cond19 k0_t2 = 1#1), ∀ (k0_h35 : k0_cond35 i k0_t2 v218 v221 = 1#1), ∀ a, (k0_off521 i k0_t2 v218 v221 k0_t66) a + S1x16.size a ≤ S256x128.size a := fun i k0_t2 v218 v221 k0_hw32 k0_t66 k0_h19 k0_h35 => k0_hw32.2.2.2.2.2.2.2.2.2.2.2.2.2.2.1 k0_t66 k0_h19 k0_h35
theorem k0_off522_inb : ∀ (i : grid0.Coords) (k0_t2 : Fin k0_t2_loop.trips) (v218 : BitVec 32) (v221 : BitVec 32) (k0_hw32 : k0_chk32 i k0_t2 v218 v221) (k0_t66 : Fin (k0_t66_loop i k0_t2 v218 v221).trips), ∀ (k0_h19 : k0_cond19 k0_t2 = 1#1), ∀ (k0_h35 : k0_cond35 i k0_t2 v218 v221 = 1#1), ∀ a, (k0_off522 i k0_t2 v218 v221 k0_t66) a + S1x16.size a ≤ S256x128.size a := fun i k0_t2 v218 v221 k0_hw32 k0_t66 k0_h19 k0_h35 => k0_hw32.2.2.2.2.2.2.2.2.2.2.2.2.2.2.2.1 k0_t66 k0_h19 k0_h35
theorem k0_off523_inb : ∀ (i : grid0.Coords) (k0_t2 : Fin k0_t2_loop.trips) (v218 : BitVec 32) (v221 : BitVec 32) (k0_hw32 : k0_chk32 i k0_t2 v218 v221) (k0_t66 : Fin (k0_t66_loop i k0_t2 v218 v221).trips), ∀ (k0_h19 : k0_cond19 k0_t2 = 1#1), ∀ (k0_h35 : k0_cond35 i k0_t2 v218 v221 = 1#1), ∀ a, (k0_off523 i k0_t2 v218 v221 k0_t66) a + S1x16.size a ≤ S256x128.size a := fun i k0_t2 v218 v221 k0_hw32 k0_t66 k0_h19 k0_h35 => k0_hw32.2.2.2.2.2.2.2.2.2.2.2.2.2.2.2.2.1 k0_t66 k0_h19 k0_h35
theorem k0_off524_inb : ∀ (i : grid0.Coords) (k0_t2 : Fin k0_t2_loop.trips) (v218 : BitVec 32) (v221 : BitVec 32) (k0_hw32 : k0_chk32 i k0_t2 v218 v221) (k0_t66 : Fin (k0_t66_loop i k0_t2 v218 v221).trips), ∀ (k0_h19 : k0_cond19 k0_t2 = 1#1), ∀ (k0_h35 : k0_cond35 i k0_t2 v218 v221 = 1#1), ∀ a, (k0_off524 i k0_t2 v218 v221 k0_t66) a + S1x16.size a ≤ S256x128.size a := fun i k0_t2 v218 v221 k0_hw32 k0_t66 k0_h19 k0_h35 => k0_hw32.2.2.2.2.2.2.2.2.2.2.2.2.2.2.2.2.2 k0_t66 k0_h19 k0_h35

def k0_cond36 (k0_t2 : Fin k0_t2_loop.trips) : BitVec 1 :=
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c2_i32_81 : BitVec 32 := 2#32
  let v226 : BitVec 32 := Scalar.addi v64 c2_i32_81
  let c40_i32_82 : BitVec 32 := 40#32
  let v227 : BitVec 1 := Scalar.cmpi .slt v226 c40_i32_82
  let v228 : BitVec 32 := Scalar.extui v227
  let c0_i32_83 : BitVec 32 := 0#32
  let v229 : BitVec 1 := Scalar.cmpi .ne v228 c0_i32_83
  v229

def k0_mult8 (i : grid0.Coords) (k0_t2 : Fin k0_t2_loop.trips) : BitVec 32 :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c2_i32_84 : BitVec 32 := 2#32
  let v230 : BitVec 32 := Scalar.addi v64 c2_i32_84
  let c256_i32_85 : BitVec 32 := 256#32
  let v231 : BitVec 32 := Scalar.muli v230 c256_i32_85
  let v232 : BitVec 32 := Scalar.addi v4 v231
  let c319744_i32_86 : BitVec 32 := 319744#32
  let v233 : BitVec 32 := Scalar.minsi v232 c319744_i32_86
  v233
def k0_off525 (i : grid0.Coords) (k0_t2 : Fin k0_t2_loop.trips) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v3 : BitVec 32 := Scalar.muli v1 c10000_i32
  let v4 : BitVec 32 := Scalar.addi c0_i32 v3
  let c0_i32_12 : BitVec 32 := 0#32
  let c1_i32_13 : BitVec 32 := 1#32
  let arg17 : BitVec 32 := Scf.iv c0_i32_12 c1_i32_13 k0_t2
  let c2_i32_52 : BitVec 32 := 2#32
  let v63 : BitVec 32 := Scalar.muli arg17 c2_i32_52
  let c1_i32_53 : BitVec 32 := 1#32
  let v64 : BitVec 32 := Scalar.addi v63 c1_i32_53
  let c2_i32_84 : BitVec 32 := 2#32
  let v230 : BitVec 32 := Scalar.addi v64 c2_i32_84
  let c256_i32_85 : BitVec 32 := 256#32
  let v231 : BitVec 32 := Scalar.muli v230 c256_i32_85
  let v232 : BitVec 32 := Scalar.addi v4 v231
  let c319744_i32_86 : BitVec 32 := 319744#32
  let v233 : BitVec 32 := Scalar.minsi v232 c319744_i32_86
  let v234 : BitVec 32 := v233
  let c0_i32_87 : BitVec 32 := 0#32
  ![v234.toNat, 0]
def k0_off526 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_49_r1 : BitVec 32 := 0#32
  let c0_i32_50_r1 : BitVec 32 := 0#32
  ![v1.toNat, 0, 0]
@[reducible] def k0_t67_loop : Scf.Loop 32 :=
  let c0_i32_18 : BitVec 32 := 0#32
  let c16_i32_19 : BitVec 32 := 16#32
  let v29 : BitVec 32 := Scalar.addi c0_i32_18 c16_i32_19
  let c1_i32_20 : BitVec 32 := 1#32
  ⟨c0_i32_18, v29, c1_i32_20⟩
def k0_off527 (k0_t67 : Fin k0_t67_loop.trips) : Fin 2 → Nat :=
  let c0_i32_18 : BitVec 32 := 0#32
  let c1_i32_20 : BitVec 32 := 1#32
  let arg17 : BitVec 32 := Scf.iv c0_i32_18 c1_i32_20 k0_t67
  let v58 : Index := Scalar.indexCast arg17
  let c0_49 : Index := 0#32
  ![v58.toNat, 0]
def k0_off528 (k0_t67 : Fin k0_t67_loop.trips) : Fin 2 → Nat :=
  let c0_i32_18 : BitVec 32 := 0#32
  let c1_i32_20 : BitVec 32 := 1#32
  let arg17 : BitVec 32 := Scf.iv c0_i32_18 c1_i32_20 k0_t67
  let v62 : Index := Scalar.indexCast arg17
  let c16_50 : Index := 16#32
  ![v62.toNat, 16]
def k0_off529 (k0_t67 : Fin k0_t67_loop.trips) : Fin 2 → Nat :=
  let c0_i32_18 : BitVec 32 := 0#32
  let c1_i32_20 : BitVec 32 := 1#32
  let arg17 : BitVec 32 := Scf.iv c0_i32_18 c1_i32_20 k0_t67
  let v66 : Index := Scalar.indexCast arg17
  let c32 : Index := 32#32
  ![v66.toNat, 32]
def k0_off530 (k0_t67 : Fin k0_t67_loop.trips) : Fin 2 → Nat :=
  let c0_i32_18 : BitVec 32 := 0#32
  let c1_i32_20 : BitVec 32 := 1#32
  let arg17 : BitVec 32 := Scf.iv c0_i32_18 c1_i32_20 k0_t67
  let v70 : Index := Scalar.indexCast arg17
  let c48 : Index := 48#32
  ![v70.toNat, 48]
def k0_off531 (k0_t67 : Fin k0_t67_loop.trips) : Fin 2 → Nat :=
  let c0_i32_18 : BitVec 32 := 0#32
  let c1_i32_20 : BitVec 32 := 1#32
  let arg17 : BitVec 32 := Scf.iv c0_i32_18 c1_i32_20 k0_t67
  let v74 : Index := Scalar.indexCast arg17
  let c64 : Index := 64#32
  ![v74.toNat, 64]
def k0_off532 (k0_t67 : Fin k0_t67_loop.trips) : Fin 2 → Nat :=
  let c0_i32_18 : BitVec 32 := 0#32
  let c1_i32_20 : BitVec 32 := 1#32
  let arg17 : BitVec 32 := Scf.iv c0_i32_18 c1_i32_20 k0_t67
  let v78 : Index := Scalar.indexCast arg17
  let c80 : Index := 80#32
  ![v78.toNat, 80]
def k0_off533 (k0_t67 : Fin k0_t67_loop.trips) : Fin 2 → Nat :=
  let c0_i32_18 : BitVec 32 := 0#32
  let c1_i32_20 : BitVec 32 := 1#32
  let arg17 : BitVec 32 := Scf.iv c0_i32_18 c1_i32_20 k0_t67
  let v82 : Index := Scalar.indexCast arg17
  let c96 : Index := 96#32
  ![v82.toNat, 96]
def k0_off534 (k0_t67 : Fin k0_t67_loop.trips) : Fin 2 → Nat :=
  let c0_i32_18 : BitVec 32 := 0#32
  let c1_i32_20 : BitVec 32 := 1#32
  let arg17 : BitVec 32 := Scf.iv c0_i32_18 c1_i32_20 k0_t67
  let v86 : Index := Scalar.indexCast arg17
  let c112 : Index := 112#32
  ![v86.toNat, 112]
def k0_mult9 (i : grid0.Coords) : BitVec 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_24 : BitVec 32 := 0#32
  let v35 : BitVec 32 := Scalar.addi v26 c0_i32_24
  let c31744_i32 : BitVec 32 := 31744#32
  let v36 : BitVec 32 := Scalar.minsi v35 c31744_i32
  v36
def k0_off535 (i : grid0.Coords) (c0_i32_24 : BitVec 32) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let v35 : BitVec 32 := Scalar.addi v26 c0_i32_24
  let c31744_i32 : BitVec 32 := 31744#32
  let v36 : BitVec 32 := Scalar.minsi v35 c31744_i32
  let v37 : BitVec 32 := v36
  let c0_i32_25 : BitVec 32 := 0#32
  ![v37.toNat, 0]
def k0_mult10 (i : grid0.Coords) : BitVec 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c256_i32_27 : BitVec 32 := 256#32
  let v40 : BitVec 32 := Scalar.addi v26 c256_i32_27
  let c31744_i32_28 : BitVec 32 := 31744#32
  let v41 : BitVec 32 := Scalar.minsi v40 c31744_i32_28
  v41
@[reducible] def k0_t68_loop : Scf.Loop 32 :=
  let c0_i32_32 : BitVec 32 := 0#32
  let c2_i32 : BitVec 32 := 2#32
  let v45 : BitVec 32 := Scalar.addi c0_i32_32 c2_i32
  let c1_i32_33 : BitVec 32 := 1#32
  ⟨c0_i32_32, v45, c1_i32_33⟩
def k0_cond37 (k0_t68 : Fin k0_t68_loop.trips) : BitVec 1 :=
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c4_i32 : BitVec 32 := 4#32
  let v60 : BitVec 1 := Scalar.cmpi .slt v59 c4_i32
  let v61 : BitVec 32 := Scalar.extui v60
  let c0_i32_51 : BitVec 32 := 0#32
  let v62 : BitVec 1 := Scalar.cmpi .ne v61 c0_i32_51
  v62

def k0_mult11 (i : grid0.Coords) (k0_t68 : Fin k0_t68_loop.trips) : BitVec 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_57 : BitVec 32 := 256#32
  let v68 : BitVec 32 := Scalar.muli v59 c256_i32_57
  let v69 : BitVec 32 := Scalar.addi v26 v68
  let c31744_i32_58 : BitVec 32 := 31744#32
  let v70 : BitVec 32 := Scalar.minsi v69 c31744_i32_58
  v70
def k0_off536 (i : grid0.Coords) (k0_t68 : Fin k0_t68_loop.trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_57 : BitVec 32 := 256#32
  let v68 : BitVec 32 := Scalar.muli v59 c256_i32_57
  let v69 : BitVec 32 := Scalar.addi v26 v68
  let c31744_i32_58 : BitVec 32 := 31744#32
  let v70 : BitVec 32 := Scalar.minsi v69 c31744_i32_58
  let v71 : BitVec 32 := v70
  let c0_i32_59 : BitVec 32 := 0#32
  ![v71.toNat, 0]
def k0_mult12 (i : grid0.Coords) (k0_t68 : Fin k0_t68_loop.trips) : BitVec 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  v80
@[reducible] def k0_t69_loop (i : grid0.Coords) (k0_t68 : Fin k0_t68_loop.trips) (v83 : BitVec 32) (v86 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v84 : BitVec 32 := Scalar.maxsi v83 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_85 : BitVec 32 := 1#32
  ⟨v84, v234, c1_i32_85⟩
def k0_cond38 (i : grid0.Coords) (k0_t68 : Fin k0_t68_loop.trips) (v83 : BitVec 32) (v86 : BitVec 32) : BitVec 1 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v87 : BitVec 32 := Scalar.minsi v86 v77
  let v84 : BitVec 32 := Scalar.maxsi v83 v75
  let v88 : BitVec 1 := Scalar.cmpi .sgt v87 v84
  let v89 : BitVec 32 := Scalar.extui v88
  let c0_i32_65 : BitVec 32 := 0#32
  let v90 : BitVec 1 := Scalar.cmpi .ne v89 c0_i32_65
  v90

def k0_off537 (i : grid0.Coords) (k0_t68 : Fin k0_t68_loop.trips) (v83 : BitVec 32) (v86 : BitVec 32) (k0_t69 : Fin (k0_t69_loop i k0_t68 v83 v86).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v84 : BitVec 32 := Scalar.maxsi v83 v75
  let c1_i32_85 : BitVec 32 := 1#32
  let arg19 : BitVec 32 := Scf.iv v84 c1_i32_85 k0_t69
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_113 : Index := 0#32
  ![v302.toNat, 0]
def k0_off538 (i : grid0.Coords) (k0_t68 : Fin k0_t68_loop.trips) (v83 : BitVec 32) (v86 : BitVec 32) (k0_t69 : Fin (k0_t69_loop i k0_t68 v83 v86).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v84 : BitVec 32 := Scalar.maxsi v83 v75
  let c1_i32_85 : BitVec 32 := 1#32
  let arg19 : BitVec 32 := Scf.iv v84 c1_i32_85 k0_t69
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_114 : Index := 16#32
  ![v306.toNat, 16]
def k0_off539 (i : grid0.Coords) (k0_t68 : Fin k0_t68_loop.trips) (v83 : BitVec 32) (v86 : BitVec 32) (k0_t69 : Fin (k0_t69_loop i k0_t68 v83 v86).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v84 : BitVec 32 := Scalar.maxsi v83 v75
  let c1_i32_85 : BitVec 32 := 1#32
  let arg19 : BitVec 32 := Scf.iv v84 c1_i32_85 k0_t69
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_115 : Index := 32#32
  ![v310.toNat, 32]
def k0_off540 (i : grid0.Coords) (k0_t68 : Fin k0_t68_loop.trips) (v83 : BitVec 32) (v86 : BitVec 32) (k0_t69 : Fin (k0_t69_loop i k0_t68 v83 v86).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v84 : BitVec 32 := Scalar.maxsi v83 v75
  let c1_i32_85 : BitVec 32 := 1#32
  let arg19 : BitVec 32 := Scf.iv v84 c1_i32_85 k0_t69
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_116 : Index := 48#32
  ![v314.toNat, 48]
def k0_off541 (i : grid0.Coords) (k0_t68 : Fin k0_t68_loop.trips) (v83 : BitVec 32) (v86 : BitVec 32) (k0_t69 : Fin (k0_t69_loop i k0_t68 v83 v86).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v84 : BitVec 32 := Scalar.maxsi v83 v75
  let c1_i32_85 : BitVec 32 := 1#32
  let arg19 : BitVec 32 := Scf.iv v84 c1_i32_85 k0_t69
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_117 : Index := 64#32
  ![v318.toNat, 64]
def k0_off542 (i : grid0.Coords) (k0_t68 : Fin k0_t68_loop.trips) (v83 : BitVec 32) (v86 : BitVec 32) (k0_t69 : Fin (k0_t69_loop i k0_t68 v83 v86).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v84 : BitVec 32 := Scalar.maxsi v83 v75
  let c1_i32_85 : BitVec 32 := 1#32
  let arg19 : BitVec 32 := Scf.iv v84 c1_i32_85 k0_t69
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_118 : Index := 80#32
  ![v322.toNat, 80]
def k0_off543 (i : grid0.Coords) (k0_t68 : Fin k0_t68_loop.trips) (v83 : BitVec 32) (v86 : BitVec 32) (k0_t69 : Fin (k0_t69_loop i k0_t68 v83 v86).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v84 : BitVec 32 := Scalar.maxsi v83 v75
  let c1_i32_85 : BitVec 32 := 1#32
  let arg19 : BitVec 32 := Scf.iv v84 c1_i32_85 k0_t69
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_119 : Index := 96#32
  ![v326.toNat, 96]
def k0_off544 (i : grid0.Coords) (k0_t68 : Fin k0_t68_loop.trips) (v83 : BitVec 32) (v86 : BitVec 32) (k0_t69 : Fin (k0_t69_loop i k0_t68 v83 v86).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v84 : BitVec 32 := Scalar.maxsi v83 v75
  let c1_i32_85 : BitVec 32 := 1#32
  let arg19 : BitVec 32 := Scf.iv v84 c1_i32_85 k0_t69
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_120 : Index := 112#32
  ![v330.toNat, 112]
@[reducible] def k0_t70_loop (i : grid0.Coords) (k0_t68 : Fin k0_t68_loop.trips) (v83 : BitVec 32) (v86 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v84 : BitVec 32 := Scalar.maxsi v83 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let v231 : BitVec 32 := Scalar.addi v84 v230
  let c1_i32_86 : BitVec 32 := 1#32
  ⟨v234, v231, c1_i32_86⟩
def k0_off545 (i : grid0.Coords) (k0_t68 : Fin k0_t68_loop.trips) (v83 : BitVec 32) (v86 : BitVec 32) (k0_t70 : Fin (k0_t70_loop i k0_t68 v83 v86).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v84 : BitVec 32 := Scalar.maxsi v83 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_86 : BitVec 32 := 1#32
  let arg19 : BitVec 32 := Scf.iv v234 c1_i32_86 k0_t70
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_113 : Index := 0#32
  ![v302.toNat, 0]
def k0_off546 (i : grid0.Coords) (k0_t68 : Fin k0_t68_loop.trips) (v83 : BitVec 32) (v86 : BitVec 32) (k0_t70 : Fin (k0_t70_loop i k0_t68 v83 v86).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v84 : BitVec 32 := Scalar.maxsi v83 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_86 : BitVec 32 := 1#32
  let arg19 : BitVec 32 := Scf.iv v234 c1_i32_86 k0_t70
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_114 : Index := 16#32
  ![v306.toNat, 16]
def k0_off547 (i : grid0.Coords) (k0_t68 : Fin k0_t68_loop.trips) (v83 : BitVec 32) (v86 : BitVec 32) (k0_t70 : Fin (k0_t70_loop i k0_t68 v83 v86).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v84 : BitVec 32 := Scalar.maxsi v83 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_86 : BitVec 32 := 1#32
  let arg19 : BitVec 32 := Scf.iv v234 c1_i32_86 k0_t70
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_115 : Index := 32#32
  ![v310.toNat, 32]
def k0_off548 (i : grid0.Coords) (k0_t68 : Fin k0_t68_loop.trips) (v83 : BitVec 32) (v86 : BitVec 32) (k0_t70 : Fin (k0_t70_loop i k0_t68 v83 v86).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v84 : BitVec 32 := Scalar.maxsi v83 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_86 : BitVec 32 := 1#32
  let arg19 : BitVec 32 := Scf.iv v234 c1_i32_86 k0_t70
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_116 : Index := 48#32
  ![v314.toNat, 48]
def k0_off549 (i : grid0.Coords) (k0_t68 : Fin k0_t68_loop.trips) (v83 : BitVec 32) (v86 : BitVec 32) (k0_t70 : Fin (k0_t70_loop i k0_t68 v83 v86).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v84 : BitVec 32 := Scalar.maxsi v83 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_86 : BitVec 32 := 1#32
  let arg19 : BitVec 32 := Scf.iv v234 c1_i32_86 k0_t70
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_117 : Index := 64#32
  ![v318.toNat, 64]
def k0_off550 (i : grid0.Coords) (k0_t68 : Fin k0_t68_loop.trips) (v83 : BitVec 32) (v86 : BitVec 32) (k0_t70 : Fin (k0_t70_loop i k0_t68 v83 v86).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v84 : BitVec 32 := Scalar.maxsi v83 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_86 : BitVec 32 := 1#32
  let arg19 : BitVec 32 := Scf.iv v234 c1_i32_86 k0_t70
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_118 : Index := 80#32
  ![v322.toNat, 80]
def k0_off551 (i : grid0.Coords) (k0_t68 : Fin k0_t68_loop.trips) (v83 : BitVec 32) (v86 : BitVec 32) (k0_t70 : Fin (k0_t70_loop i k0_t68 v83 v86).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v84 : BitVec 32 := Scalar.maxsi v83 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_86 : BitVec 32 := 1#32
  let arg19 : BitVec 32 := Scf.iv v234 c1_i32_86 k0_t70
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_119 : Index := 96#32
  ![v326.toNat, 96]
def k0_off552 (i : grid0.Coords) (k0_t68 : Fin k0_t68_loop.trips) (v83 : BitVec 32) (v86 : BitVec 32) (k0_t70 : Fin (k0_t70_loop i k0_t68 v83 v86).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v84 : BitVec 32 := Scalar.maxsi v83 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_86 : BitVec 32 := 1#32
  let arg19 : BitVec 32 := Scf.iv v234 c1_i32_86 k0_t70
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_120 : Index := 112#32
  ![v330.toNat, 112]

def k0_chk33 (i : grid0.Coords) (k0_t68 : Fin k0_t68_loop.trips) (v83 : BitVec 32) (v86 : BitVec 32) : Prop :=
  (∀ (k0_h37 : k0_cond37 k0_t68 = 1#1), ∀ (k0_h38 : k0_cond38 i k0_t68 v83 v86 = 1#1), (k0_t69_loop i k0_t68 v83 v86).OK) ∧
  (∀ k0_t69 : Fin (k0_t69_loop i k0_t68 v83 v86).trips, ∀ (k0_h37 : k0_cond37 k0_t68 = 1#1), ∀ (k0_h38 : k0_cond38 i k0_t68 v83 v86 = 1#1), ∀ a, (k0_off537 i k0_t68 v83 v86 k0_t69) a + S1x16.size a ≤ S256x128.size a) ∧
  (∀ k0_t69 : Fin (k0_t69_loop i k0_t68 v83 v86).trips, ∀ (k0_h37 : k0_cond37 k0_t68 = 1#1), ∀ (k0_h38 : k0_cond38 i k0_t68 v83 v86 = 1#1), ∀ a, (k0_off538 i k0_t68 v83 v86 k0_t69) a + S1x16.size a ≤ S256x128.size a) ∧
  (∀ k0_t69 : Fin (k0_t69_loop i k0_t68 v83 v86).trips, ∀ (k0_h37 : k0_cond37 k0_t68 = 1#1), ∀ (k0_h38 : k0_cond38 i k0_t68 v83 v86 = 1#1), ∀ a, (k0_off539 i k0_t68 v83 v86 k0_t69) a + S1x16.size a ≤ S256x128.size a) ∧
  (∀ k0_t69 : Fin (k0_t69_loop i k0_t68 v83 v86).trips, ∀ (k0_h37 : k0_cond37 k0_t68 = 1#1), ∀ (k0_h38 : k0_cond38 i k0_t68 v83 v86 = 1#1), ∀ a, (k0_off540 i k0_t68 v83 v86 k0_t69) a + S1x16.size a ≤ S256x128.size a) ∧
  (∀ k0_t69 : Fin (k0_t69_loop i k0_t68 v83 v86).trips, ∀ (k0_h37 : k0_cond37 k0_t68 = 1#1), ∀ (k0_h38 : k0_cond38 i k0_t68 v83 v86 = 1#1), ∀ a, (k0_off541 i k0_t68 v83 v86 k0_t69) a + S1x16.size a ≤ S256x128.size a) ∧
  (∀ k0_t69 : Fin (k0_t69_loop i k0_t68 v83 v86).trips, ∀ (k0_h37 : k0_cond37 k0_t68 = 1#1), ∀ (k0_h38 : k0_cond38 i k0_t68 v83 v86 = 1#1), ∀ a, (k0_off542 i k0_t68 v83 v86 k0_t69) a + S1x16.size a ≤ S256x128.size a) ∧
  (∀ k0_t69 : Fin (k0_t69_loop i k0_t68 v83 v86).trips, ∀ (k0_h37 : k0_cond37 k0_t68 = 1#1), ∀ (k0_h38 : k0_cond38 i k0_t68 v83 v86 = 1#1), ∀ a, (k0_off543 i k0_t68 v83 v86 k0_t69) a + S1x16.size a ≤ S256x128.size a) ∧
  (∀ k0_t69 : Fin (k0_t69_loop i k0_t68 v83 v86).trips, ∀ (k0_h37 : k0_cond37 k0_t68 = 1#1), ∀ (k0_h38 : k0_cond38 i k0_t68 v83 v86 = 1#1), ∀ a, (k0_off544 i k0_t68 v83 v86 k0_t69) a + S1x16.size a ≤ S256x128.size a) ∧
  (∀ (k0_h37 : k0_cond37 k0_t68 = 1#1), ∀ (k0_h38 : k0_cond38 i k0_t68 v83 v86 = 1#1), (k0_t70_loop i k0_t68 v83 v86).OK) ∧
  (∀ k0_t70 : Fin (k0_t70_loop i k0_t68 v83 v86).trips, ∀ (k0_h37 : k0_cond37 k0_t68 = 1#1), ∀ (k0_h38 : k0_cond38 i k0_t68 v83 v86 = 1#1), ∀ a, (k0_off545 i k0_t68 v83 v86 k0_t70) a + S1x16.size a ≤ S256x128.size a) ∧
  (∀ k0_t70 : Fin (k0_t70_loop i k0_t68 v83 v86).trips, ∀ (k0_h37 : k0_cond37 k0_t68 = 1#1), ∀ (k0_h38 : k0_cond38 i k0_t68 v83 v86 = 1#1), ∀ a, (k0_off546 i k0_t68 v83 v86 k0_t70) a + S1x16.size a ≤ S256x128.size a) ∧
  (∀ k0_t70 : Fin (k0_t70_loop i k0_t68 v83 v86).trips, ∀ (k0_h37 : k0_cond37 k0_t68 = 1#1), ∀ (k0_h38 : k0_cond38 i k0_t68 v83 v86 = 1#1), ∀ a, (k0_off547 i k0_t68 v83 v86 k0_t70) a + S1x16.size a ≤ S256x128.size a) ∧
  (∀ k0_t70 : Fin (k0_t70_loop i k0_t68 v83 v86).trips, ∀ (k0_h37 : k0_cond37 k0_t68 = 1#1), ∀ (k0_h38 : k0_cond38 i k0_t68 v83 v86 = 1#1), ∀ a, (k0_off548 i k0_t68 v83 v86 k0_t70) a + S1x16.size a ≤ S256x128.size a) ∧
  (∀ k0_t70 : Fin (k0_t70_loop i k0_t68 v83 v86).trips, ∀ (k0_h37 : k0_cond37 k0_t68 = 1#1), ∀ (k0_h38 : k0_cond38 i k0_t68 v83 v86 = 1#1), ∀ a, (k0_off549 i k0_t68 v83 v86 k0_t70) a + S1x16.size a ≤ S256x128.size a) ∧
  (∀ k0_t70 : Fin (k0_t70_loop i k0_t68 v83 v86).trips, ∀ (k0_h37 : k0_cond37 k0_t68 = 1#1), ∀ (k0_h38 : k0_cond38 i k0_t68 v83 v86 = 1#1), ∀ a, (k0_off550 i k0_t68 v83 v86 k0_t70) a + S1x16.size a ≤ S256x128.size a) ∧
  (∀ k0_t70 : Fin (k0_t70_loop i k0_t68 v83 v86).trips, ∀ (k0_h37 : k0_cond37 k0_t68 = 1#1), ∀ (k0_h38 : k0_cond38 i k0_t68 v83 v86 = 1#1), ∀ a, (k0_off551 i k0_t68 v83 v86 k0_t70) a + S1x16.size a ≤ S256x128.size a) ∧
  (∀ k0_t70 : Fin (k0_t70_loop i k0_t68 v83 v86).trips, ∀ (k0_h37 : k0_cond37 k0_t68 = 1#1), ∀ (k0_h38 : k0_cond38 i k0_t68 v83 v86 = 1#1), ∀ a, (k0_off552 i k0_t68 v83 v86 k0_t70) a + S1x16.size a ≤ S256x128.size a)
theorem k0_t69_ok : ∀ (i : grid0.Coords) (k0_t68 : Fin k0_t68_loop.trips) (v83 : BitVec 32) (v86 : BitVec 32) (k0_hw33 : k0_chk33 i k0_t68 v83 v86), ∀ (k0_h37 : k0_cond37 k0_t68 = 1#1), ∀ (k0_h38 : k0_cond38 i k0_t68 v83 v86 = 1#1), (k0_t69_loop i k0_t68 v83 v86).OK := fun i k0_t68 v83 v86 k0_hw33 k0_h37 k0_h38 => k0_hw33.1 k0_h37 k0_h38
theorem k0_off537_inb : ∀ (i : grid0.Coords) (k0_t68 : Fin k0_t68_loop.trips) (v83 : BitVec 32) (v86 : BitVec 32) (k0_hw33 : k0_chk33 i k0_t68 v83 v86) (k0_t69 : Fin (k0_t69_loop i k0_t68 v83 v86).trips), ∀ (k0_h37 : k0_cond37 k0_t68 = 1#1), ∀ (k0_h38 : k0_cond38 i k0_t68 v83 v86 = 1#1), ∀ a, (k0_off537 i k0_t68 v83 v86 k0_t69) a + S1x16.size a ≤ S256x128.size a := fun i k0_t68 v83 v86 k0_hw33 k0_t69 k0_h37 k0_h38 => k0_hw33.2.1 k0_t69 k0_h37 k0_h38
theorem k0_off538_inb : ∀ (i : grid0.Coords) (k0_t68 : Fin k0_t68_loop.trips) (v83 : BitVec 32) (v86 : BitVec 32) (k0_hw33 : k0_chk33 i k0_t68 v83 v86) (k0_t69 : Fin (k0_t69_loop i k0_t68 v83 v86).trips), ∀ (k0_h37 : k0_cond37 k0_t68 = 1#1), ∀ (k0_h38 : k0_cond38 i k0_t68 v83 v86 = 1#1), ∀ a, (k0_off538 i k0_t68 v83 v86 k0_t69) a + S1x16.size a ≤ S256x128.size a := fun i k0_t68 v83 v86 k0_hw33 k0_t69 k0_h37 k0_h38 => k0_hw33.2.2.1 k0_t69 k0_h37 k0_h38
theorem k0_off539_inb : ∀ (i : grid0.Coords) (k0_t68 : Fin k0_t68_loop.trips) (v83 : BitVec 32) (v86 : BitVec 32) (k0_hw33 : k0_chk33 i k0_t68 v83 v86) (k0_t69 : Fin (k0_t69_loop i k0_t68 v83 v86).trips), ∀ (k0_h37 : k0_cond37 k0_t68 = 1#1), ∀ (k0_h38 : k0_cond38 i k0_t68 v83 v86 = 1#1), ∀ a, (k0_off539 i k0_t68 v83 v86 k0_t69) a + S1x16.size a ≤ S256x128.size a := fun i k0_t68 v83 v86 k0_hw33 k0_t69 k0_h37 k0_h38 => k0_hw33.2.2.2.1 k0_t69 k0_h37 k0_h38
theorem k0_off540_inb : ∀ (i : grid0.Coords) (k0_t68 : Fin k0_t68_loop.trips) (v83 : BitVec 32) (v86 : BitVec 32) (k0_hw33 : k0_chk33 i k0_t68 v83 v86) (k0_t69 : Fin (k0_t69_loop i k0_t68 v83 v86).trips), ∀ (k0_h37 : k0_cond37 k0_t68 = 1#1), ∀ (k0_h38 : k0_cond38 i k0_t68 v83 v86 = 1#1), ∀ a, (k0_off540 i k0_t68 v83 v86 k0_t69) a + S1x16.size a ≤ S256x128.size a := fun i k0_t68 v83 v86 k0_hw33 k0_t69 k0_h37 k0_h38 => k0_hw33.2.2.2.2.1 k0_t69 k0_h37 k0_h38
theorem k0_off541_inb : ∀ (i : grid0.Coords) (k0_t68 : Fin k0_t68_loop.trips) (v83 : BitVec 32) (v86 : BitVec 32) (k0_hw33 : k0_chk33 i k0_t68 v83 v86) (k0_t69 : Fin (k0_t69_loop i k0_t68 v83 v86).trips), ∀ (k0_h37 : k0_cond37 k0_t68 = 1#1), ∀ (k0_h38 : k0_cond38 i k0_t68 v83 v86 = 1#1), ∀ a, (k0_off541 i k0_t68 v83 v86 k0_t69) a + S1x16.size a ≤ S256x128.size a := fun i k0_t68 v83 v86 k0_hw33 k0_t69 k0_h37 k0_h38 => k0_hw33.2.2.2.2.2.1 k0_t69 k0_h37 k0_h38
theorem k0_off542_inb : ∀ (i : grid0.Coords) (k0_t68 : Fin k0_t68_loop.trips) (v83 : BitVec 32) (v86 : BitVec 32) (k0_hw33 : k0_chk33 i k0_t68 v83 v86) (k0_t69 : Fin (k0_t69_loop i k0_t68 v83 v86).trips), ∀ (k0_h37 : k0_cond37 k0_t68 = 1#1), ∀ (k0_h38 : k0_cond38 i k0_t68 v83 v86 = 1#1), ∀ a, (k0_off542 i k0_t68 v83 v86 k0_t69) a + S1x16.size a ≤ S256x128.size a := fun i k0_t68 v83 v86 k0_hw33 k0_t69 k0_h37 k0_h38 => k0_hw33.2.2.2.2.2.2.1 k0_t69 k0_h37 k0_h38
theorem k0_off543_inb : ∀ (i : grid0.Coords) (k0_t68 : Fin k0_t68_loop.trips) (v83 : BitVec 32) (v86 : BitVec 32) (k0_hw33 : k0_chk33 i k0_t68 v83 v86) (k0_t69 : Fin (k0_t69_loop i k0_t68 v83 v86).trips), ∀ (k0_h37 : k0_cond37 k0_t68 = 1#1), ∀ (k0_h38 : k0_cond38 i k0_t68 v83 v86 = 1#1), ∀ a, (k0_off543 i k0_t68 v83 v86 k0_t69) a + S1x16.size a ≤ S256x128.size a := fun i k0_t68 v83 v86 k0_hw33 k0_t69 k0_h37 k0_h38 => k0_hw33.2.2.2.2.2.2.2.1 k0_t69 k0_h37 k0_h38
theorem k0_off544_inb : ∀ (i : grid0.Coords) (k0_t68 : Fin k0_t68_loop.trips) (v83 : BitVec 32) (v86 : BitVec 32) (k0_hw33 : k0_chk33 i k0_t68 v83 v86) (k0_t69 : Fin (k0_t69_loop i k0_t68 v83 v86).trips), ∀ (k0_h37 : k0_cond37 k0_t68 = 1#1), ∀ (k0_h38 : k0_cond38 i k0_t68 v83 v86 = 1#1), ∀ a, (k0_off544 i k0_t68 v83 v86 k0_t69) a + S1x16.size a ≤ S256x128.size a := fun i k0_t68 v83 v86 k0_hw33 k0_t69 k0_h37 k0_h38 => k0_hw33.2.2.2.2.2.2.2.2.1 k0_t69 k0_h37 k0_h38
theorem k0_t70_ok : ∀ (i : grid0.Coords) (k0_t68 : Fin k0_t68_loop.trips) (v83 : BitVec 32) (v86 : BitVec 32) (k0_hw33 : k0_chk33 i k0_t68 v83 v86), ∀ (k0_h37 : k0_cond37 k0_t68 = 1#1), ∀ (k0_h38 : k0_cond38 i k0_t68 v83 v86 = 1#1), (k0_t70_loop i k0_t68 v83 v86).OK := fun i k0_t68 v83 v86 k0_hw33 k0_h37 k0_h38 => k0_hw33.2.2.2.2.2.2.2.2.2.1 k0_h37 k0_h38
theorem k0_off545_inb : ∀ (i : grid0.Coords) (k0_t68 : Fin k0_t68_loop.trips) (v83 : BitVec 32) (v86 : BitVec 32) (k0_hw33 : k0_chk33 i k0_t68 v83 v86) (k0_t70 : Fin (k0_t70_loop i k0_t68 v83 v86).trips), ∀ (k0_h37 : k0_cond37 k0_t68 = 1#1), ∀ (k0_h38 : k0_cond38 i k0_t68 v83 v86 = 1#1), ∀ a, (k0_off545 i k0_t68 v83 v86 k0_t70) a + S1x16.size a ≤ S256x128.size a := fun i k0_t68 v83 v86 k0_hw33 k0_t70 k0_h37 k0_h38 => k0_hw33.2.2.2.2.2.2.2.2.2.2.1 k0_t70 k0_h37 k0_h38
theorem k0_off546_inb : ∀ (i : grid0.Coords) (k0_t68 : Fin k0_t68_loop.trips) (v83 : BitVec 32) (v86 : BitVec 32) (k0_hw33 : k0_chk33 i k0_t68 v83 v86) (k0_t70 : Fin (k0_t70_loop i k0_t68 v83 v86).trips), ∀ (k0_h37 : k0_cond37 k0_t68 = 1#1), ∀ (k0_h38 : k0_cond38 i k0_t68 v83 v86 = 1#1), ∀ a, (k0_off546 i k0_t68 v83 v86 k0_t70) a + S1x16.size a ≤ S256x128.size a := fun i k0_t68 v83 v86 k0_hw33 k0_t70 k0_h37 k0_h38 => k0_hw33.2.2.2.2.2.2.2.2.2.2.2.1 k0_t70 k0_h37 k0_h38
theorem k0_off547_inb : ∀ (i : grid0.Coords) (k0_t68 : Fin k0_t68_loop.trips) (v83 : BitVec 32) (v86 : BitVec 32) (k0_hw33 : k0_chk33 i k0_t68 v83 v86) (k0_t70 : Fin (k0_t70_loop i k0_t68 v83 v86).trips), ∀ (k0_h37 : k0_cond37 k0_t68 = 1#1), ∀ (k0_h38 : k0_cond38 i k0_t68 v83 v86 = 1#1), ∀ a, (k0_off547 i k0_t68 v83 v86 k0_t70) a + S1x16.size a ≤ S256x128.size a := fun i k0_t68 v83 v86 k0_hw33 k0_t70 k0_h37 k0_h38 => k0_hw33.2.2.2.2.2.2.2.2.2.2.2.2.1 k0_t70 k0_h37 k0_h38
theorem k0_off548_inb : ∀ (i : grid0.Coords) (k0_t68 : Fin k0_t68_loop.trips) (v83 : BitVec 32) (v86 : BitVec 32) (k0_hw33 : k0_chk33 i k0_t68 v83 v86) (k0_t70 : Fin (k0_t70_loop i k0_t68 v83 v86).trips), ∀ (k0_h37 : k0_cond37 k0_t68 = 1#1), ∀ (k0_h38 : k0_cond38 i k0_t68 v83 v86 = 1#1), ∀ a, (k0_off548 i k0_t68 v83 v86 k0_t70) a + S1x16.size a ≤ S256x128.size a := fun i k0_t68 v83 v86 k0_hw33 k0_t70 k0_h37 k0_h38 => k0_hw33.2.2.2.2.2.2.2.2.2.2.2.2.2.1 k0_t70 k0_h37 k0_h38
theorem k0_off549_inb : ∀ (i : grid0.Coords) (k0_t68 : Fin k0_t68_loop.trips) (v83 : BitVec 32) (v86 : BitVec 32) (k0_hw33 : k0_chk33 i k0_t68 v83 v86) (k0_t70 : Fin (k0_t70_loop i k0_t68 v83 v86).trips), ∀ (k0_h37 : k0_cond37 k0_t68 = 1#1), ∀ (k0_h38 : k0_cond38 i k0_t68 v83 v86 = 1#1), ∀ a, (k0_off549 i k0_t68 v83 v86 k0_t70) a + S1x16.size a ≤ S256x128.size a := fun i k0_t68 v83 v86 k0_hw33 k0_t70 k0_h37 k0_h38 => k0_hw33.2.2.2.2.2.2.2.2.2.2.2.2.2.2.1 k0_t70 k0_h37 k0_h38
theorem k0_off550_inb : ∀ (i : grid0.Coords) (k0_t68 : Fin k0_t68_loop.trips) (v83 : BitVec 32) (v86 : BitVec 32) (k0_hw33 : k0_chk33 i k0_t68 v83 v86) (k0_t70 : Fin (k0_t70_loop i k0_t68 v83 v86).trips), ∀ (k0_h37 : k0_cond37 k0_t68 = 1#1), ∀ (k0_h38 : k0_cond38 i k0_t68 v83 v86 = 1#1), ∀ a, (k0_off550 i k0_t68 v83 v86 k0_t70) a + S1x16.size a ≤ S256x128.size a := fun i k0_t68 v83 v86 k0_hw33 k0_t70 k0_h37 k0_h38 => k0_hw33.2.2.2.2.2.2.2.2.2.2.2.2.2.2.2.1 k0_t70 k0_h37 k0_h38
theorem k0_off551_inb : ∀ (i : grid0.Coords) (k0_t68 : Fin k0_t68_loop.trips) (v83 : BitVec 32) (v86 : BitVec 32) (k0_hw33 : k0_chk33 i k0_t68 v83 v86) (k0_t70 : Fin (k0_t70_loop i k0_t68 v83 v86).trips), ∀ (k0_h37 : k0_cond37 k0_t68 = 1#1), ∀ (k0_h38 : k0_cond38 i k0_t68 v83 v86 = 1#1), ∀ a, (k0_off551 i k0_t68 v83 v86 k0_t70) a + S1x16.size a ≤ S256x128.size a := fun i k0_t68 v83 v86 k0_hw33 k0_t70 k0_h37 k0_h38 => k0_hw33.2.2.2.2.2.2.2.2.2.2.2.2.2.2.2.2.1 k0_t70 k0_h37 k0_h38
theorem k0_off552_inb : ∀ (i : grid0.Coords) (k0_t68 : Fin k0_t68_loop.trips) (v83 : BitVec 32) (v86 : BitVec 32) (k0_hw33 : k0_chk33 i k0_t68 v83 v86) (k0_t70 : Fin (k0_t70_loop i k0_t68 v83 v86).trips), ∀ (k0_h37 : k0_cond37 k0_t68 = 1#1), ∀ (k0_h38 : k0_cond38 i k0_t68 v83 v86 = 1#1), ∀ a, (k0_off552 i k0_t68 v83 v86 k0_t70) a + S1x16.size a ≤ S256x128.size a := fun i k0_t68 v83 v86 k0_hw33 k0_t70 k0_h37 k0_h38 => k0_hw33.2.2.2.2.2.2.2.2.2.2.2.2.2.2.2.2.2 k0_t70 k0_h37 k0_h38

@[reducible] def k0_t71_loop (i : grid0.Coords) (k0_t68 : Fin k0_t68_loop.trips) (v92 : BitVec 32) (v95 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v93 : BitVec 32 := Scalar.maxsi v92 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_85 : BitVec 32 := 1#32
  ⟨v93, v234, c1_i32_85⟩
def k0_cond39 (i : grid0.Coords) (k0_t68 : Fin k0_t68_loop.trips) (v92 : BitVec 32) (v95 : BitVec 32) : BitVec 1 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v96 : BitVec 32 := Scalar.minsi v95 v77
  let v93 : BitVec 32 := Scalar.maxsi v92 v75
  let v97 : BitVec 1 := Scalar.cmpi .sgt v96 v93
  let v98 : BitVec 32 := Scalar.extui v97
  let c0_i32_66 : BitVec 32 := 0#32
  let v99 : BitVec 1 := Scalar.cmpi .ne v98 c0_i32_66
  v99

def k0_off553 (i : grid0.Coords) (k0_t68 : Fin k0_t68_loop.trips) (v92 : BitVec 32) (v95 : BitVec 32) (k0_t71 : Fin (k0_t71_loop i k0_t68 v92 v95).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v93 : BitVec 32 := Scalar.maxsi v92 v75
  let c1_i32_85 : BitVec 32 := 1#32
  let arg19 : BitVec 32 := Scf.iv v93 c1_i32_85 k0_t71
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_113 : Index := 0#32
  ![v302.toNat, 0]
def k0_off554 (i : grid0.Coords) (k0_t68 : Fin k0_t68_loop.trips) (v92 : BitVec 32) (v95 : BitVec 32) (k0_t71 : Fin (k0_t71_loop i k0_t68 v92 v95).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v93 : BitVec 32 := Scalar.maxsi v92 v75
  let c1_i32_85 : BitVec 32 := 1#32
  let arg19 : BitVec 32 := Scf.iv v93 c1_i32_85 k0_t71
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_114 : Index := 16#32
  ![v306.toNat, 16]
def k0_off555 (i : grid0.Coords) (k0_t68 : Fin k0_t68_loop.trips) (v92 : BitVec 32) (v95 : BitVec 32) (k0_t71 : Fin (k0_t71_loop i k0_t68 v92 v95).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v93 : BitVec 32 := Scalar.maxsi v92 v75
  let c1_i32_85 : BitVec 32 := 1#32
  let arg19 : BitVec 32 := Scf.iv v93 c1_i32_85 k0_t71
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_115 : Index := 32#32
  ![v310.toNat, 32]
def k0_off556 (i : grid0.Coords) (k0_t68 : Fin k0_t68_loop.trips) (v92 : BitVec 32) (v95 : BitVec 32) (k0_t71 : Fin (k0_t71_loop i k0_t68 v92 v95).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v93 : BitVec 32 := Scalar.maxsi v92 v75
  let c1_i32_85 : BitVec 32 := 1#32
  let arg19 : BitVec 32 := Scf.iv v93 c1_i32_85 k0_t71
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_116 : Index := 48#32
  ![v314.toNat, 48]
def k0_off557 (i : grid0.Coords) (k0_t68 : Fin k0_t68_loop.trips) (v92 : BitVec 32) (v95 : BitVec 32) (k0_t71 : Fin (k0_t71_loop i k0_t68 v92 v95).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v93 : BitVec 32 := Scalar.maxsi v92 v75
  let c1_i32_85 : BitVec 32 := 1#32
  let arg19 : BitVec 32 := Scf.iv v93 c1_i32_85 k0_t71
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_117 : Index := 64#32
  ![v318.toNat, 64]
def k0_off558 (i : grid0.Coords) (k0_t68 : Fin k0_t68_loop.trips) (v92 : BitVec 32) (v95 : BitVec 32) (k0_t71 : Fin (k0_t71_loop i k0_t68 v92 v95).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v93 : BitVec 32 := Scalar.maxsi v92 v75
  let c1_i32_85 : BitVec 32 := 1#32
  let arg19 : BitVec 32 := Scf.iv v93 c1_i32_85 k0_t71
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_118 : Index := 80#32
  ![v322.toNat, 80]
def k0_off559 (i : grid0.Coords) (k0_t68 : Fin k0_t68_loop.trips) (v92 : BitVec 32) (v95 : BitVec 32) (k0_t71 : Fin (k0_t71_loop i k0_t68 v92 v95).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v93 : BitVec 32 := Scalar.maxsi v92 v75
  let c1_i32_85 : BitVec 32 := 1#32
  let arg19 : BitVec 32 := Scf.iv v93 c1_i32_85 k0_t71
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_119 : Index := 96#32
  ![v326.toNat, 96]
def k0_off560 (i : grid0.Coords) (k0_t68 : Fin k0_t68_loop.trips) (v92 : BitVec 32) (v95 : BitVec 32) (k0_t71 : Fin (k0_t71_loop i k0_t68 v92 v95).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v93 : BitVec 32 := Scalar.maxsi v92 v75
  let c1_i32_85 : BitVec 32 := 1#32
  let arg19 : BitVec 32 := Scf.iv v93 c1_i32_85 k0_t71
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_120 : Index := 112#32
  ![v330.toNat, 112]
@[reducible] def k0_t72_loop (i : grid0.Coords) (k0_t68 : Fin k0_t68_loop.trips) (v92 : BitVec 32) (v95 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v93 : BitVec 32 := Scalar.maxsi v92 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let v231 : BitVec 32 := Scalar.addi v93 v230
  let c1_i32_86 : BitVec 32 := 1#32
  ⟨v234, v231, c1_i32_86⟩
def k0_off561 (i : grid0.Coords) (k0_t68 : Fin k0_t68_loop.trips) (v92 : BitVec 32) (v95 : BitVec 32) (k0_t72 : Fin (k0_t72_loop i k0_t68 v92 v95).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v93 : BitVec 32 := Scalar.maxsi v92 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_86 : BitVec 32 := 1#32
  let arg19 : BitVec 32 := Scf.iv v234 c1_i32_86 k0_t72
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_113 : Index := 0#32
  ![v302.toNat, 0]
def k0_off562 (i : grid0.Coords) (k0_t68 : Fin k0_t68_loop.trips) (v92 : BitVec 32) (v95 : BitVec 32) (k0_t72 : Fin (k0_t72_loop i k0_t68 v92 v95).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v93 : BitVec 32 := Scalar.maxsi v92 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_86 : BitVec 32 := 1#32
  let arg19 : BitVec 32 := Scf.iv v234 c1_i32_86 k0_t72
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_114 : Index := 16#32
  ![v306.toNat, 16]
def k0_off563 (i : grid0.Coords) (k0_t68 : Fin k0_t68_loop.trips) (v92 : BitVec 32) (v95 : BitVec 32) (k0_t72 : Fin (k0_t72_loop i k0_t68 v92 v95).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v93 : BitVec 32 := Scalar.maxsi v92 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_86 : BitVec 32 := 1#32
  let arg19 : BitVec 32 := Scf.iv v234 c1_i32_86 k0_t72
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_115 : Index := 32#32
  ![v310.toNat, 32]
def k0_off564 (i : grid0.Coords) (k0_t68 : Fin k0_t68_loop.trips) (v92 : BitVec 32) (v95 : BitVec 32) (k0_t72 : Fin (k0_t72_loop i k0_t68 v92 v95).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v93 : BitVec 32 := Scalar.maxsi v92 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_86 : BitVec 32 := 1#32
  let arg19 : BitVec 32 := Scf.iv v234 c1_i32_86 k0_t72
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_116 : Index := 48#32
  ![v314.toNat, 48]
def k0_off565 (i : grid0.Coords) (k0_t68 : Fin k0_t68_loop.trips) (v92 : BitVec 32) (v95 : BitVec 32) (k0_t72 : Fin (k0_t72_loop i k0_t68 v92 v95).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v93 : BitVec 32 := Scalar.maxsi v92 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_86 : BitVec 32 := 1#32
  let arg19 : BitVec 32 := Scf.iv v234 c1_i32_86 k0_t72
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_117 : Index := 64#32
  ![v318.toNat, 64]
def k0_off566 (i : grid0.Coords) (k0_t68 : Fin k0_t68_loop.trips) (v92 : BitVec 32) (v95 : BitVec 32) (k0_t72 : Fin (k0_t72_loop i k0_t68 v92 v95).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v93 : BitVec 32 := Scalar.maxsi v92 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_86 : BitVec 32 := 1#32
  let arg19 : BitVec 32 := Scf.iv v234 c1_i32_86 k0_t72
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_118 : Index := 80#32
  ![v322.toNat, 80]
def k0_off567 (i : grid0.Coords) (k0_t68 : Fin k0_t68_loop.trips) (v92 : BitVec 32) (v95 : BitVec 32) (k0_t72 : Fin (k0_t72_loop i k0_t68 v92 v95).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v93 : BitVec 32 := Scalar.maxsi v92 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_86 : BitVec 32 := 1#32
  let arg19 : BitVec 32 := Scf.iv v234 c1_i32_86 k0_t72
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_119 : Index := 96#32
  ![v326.toNat, 96]
def k0_off568 (i : grid0.Coords) (k0_t68 : Fin k0_t68_loop.trips) (v92 : BitVec 32) (v95 : BitVec 32) (k0_t72 : Fin (k0_t72_loop i k0_t68 v92 v95).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v93 : BitVec 32 := Scalar.maxsi v92 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_86 : BitVec 32 := 1#32
  let arg19 : BitVec 32 := Scf.iv v234 c1_i32_86 k0_t72
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_120 : Index := 112#32
  ![v330.toNat, 112]

def k0_chk34 (i : grid0.Coords) (k0_t68 : Fin k0_t68_loop.trips) (v92 : BitVec 32) (v95 : BitVec 32) : Prop :=
  (∀ (k0_h37 : k0_cond37 k0_t68 = 1#1), ∀ (k0_h39 : k0_cond39 i k0_t68 v92 v95 = 1#1), (k0_t71_loop i k0_t68 v92 v95).OK) ∧
  (∀ k0_t71 : Fin (k0_t71_loop i k0_t68 v92 v95).trips, ∀ (k0_h37 : k0_cond37 k0_t68 = 1#1), ∀ (k0_h39 : k0_cond39 i k0_t68 v92 v95 = 1#1), ∀ a, (k0_off553 i k0_t68 v92 v95 k0_t71) a + S1x16.size a ≤ S256x128.size a) ∧
  (∀ k0_t71 : Fin (k0_t71_loop i k0_t68 v92 v95).trips, ∀ (k0_h37 : k0_cond37 k0_t68 = 1#1), ∀ (k0_h39 : k0_cond39 i k0_t68 v92 v95 = 1#1), ∀ a, (k0_off554 i k0_t68 v92 v95 k0_t71) a + S1x16.size a ≤ S256x128.size a) ∧
  (∀ k0_t71 : Fin (k0_t71_loop i k0_t68 v92 v95).trips, ∀ (k0_h37 : k0_cond37 k0_t68 = 1#1), ∀ (k0_h39 : k0_cond39 i k0_t68 v92 v95 = 1#1), ∀ a, (k0_off555 i k0_t68 v92 v95 k0_t71) a + S1x16.size a ≤ S256x128.size a) ∧
  (∀ k0_t71 : Fin (k0_t71_loop i k0_t68 v92 v95).trips, ∀ (k0_h37 : k0_cond37 k0_t68 = 1#1), ∀ (k0_h39 : k0_cond39 i k0_t68 v92 v95 = 1#1), ∀ a, (k0_off556 i k0_t68 v92 v95 k0_t71) a + S1x16.size a ≤ S256x128.size a) ∧
  (∀ k0_t71 : Fin (k0_t71_loop i k0_t68 v92 v95).trips, ∀ (k0_h37 : k0_cond37 k0_t68 = 1#1), ∀ (k0_h39 : k0_cond39 i k0_t68 v92 v95 = 1#1), ∀ a, (k0_off557 i k0_t68 v92 v95 k0_t71) a + S1x16.size a ≤ S256x128.size a) ∧
  (∀ k0_t71 : Fin (k0_t71_loop i k0_t68 v92 v95).trips, ∀ (k0_h37 : k0_cond37 k0_t68 = 1#1), ∀ (k0_h39 : k0_cond39 i k0_t68 v92 v95 = 1#1), ∀ a, (k0_off558 i k0_t68 v92 v95 k0_t71) a + S1x16.size a ≤ S256x128.size a) ∧
  (∀ k0_t71 : Fin (k0_t71_loop i k0_t68 v92 v95).trips, ∀ (k0_h37 : k0_cond37 k0_t68 = 1#1), ∀ (k0_h39 : k0_cond39 i k0_t68 v92 v95 = 1#1), ∀ a, (k0_off559 i k0_t68 v92 v95 k0_t71) a + S1x16.size a ≤ S256x128.size a) ∧
  (∀ k0_t71 : Fin (k0_t71_loop i k0_t68 v92 v95).trips, ∀ (k0_h37 : k0_cond37 k0_t68 = 1#1), ∀ (k0_h39 : k0_cond39 i k0_t68 v92 v95 = 1#1), ∀ a, (k0_off560 i k0_t68 v92 v95 k0_t71) a + S1x16.size a ≤ S256x128.size a) ∧
  (∀ (k0_h37 : k0_cond37 k0_t68 = 1#1), ∀ (k0_h39 : k0_cond39 i k0_t68 v92 v95 = 1#1), (k0_t72_loop i k0_t68 v92 v95).OK) ∧
  (∀ k0_t72 : Fin (k0_t72_loop i k0_t68 v92 v95).trips, ∀ (k0_h37 : k0_cond37 k0_t68 = 1#1), ∀ (k0_h39 : k0_cond39 i k0_t68 v92 v95 = 1#1), ∀ a, (k0_off561 i k0_t68 v92 v95 k0_t72) a + S1x16.size a ≤ S256x128.size a) ∧
  (∀ k0_t72 : Fin (k0_t72_loop i k0_t68 v92 v95).trips, ∀ (k0_h37 : k0_cond37 k0_t68 = 1#1), ∀ (k0_h39 : k0_cond39 i k0_t68 v92 v95 = 1#1), ∀ a, (k0_off562 i k0_t68 v92 v95 k0_t72) a + S1x16.size a ≤ S256x128.size a) ∧
  (∀ k0_t72 : Fin (k0_t72_loop i k0_t68 v92 v95).trips, ∀ (k0_h37 : k0_cond37 k0_t68 = 1#1), ∀ (k0_h39 : k0_cond39 i k0_t68 v92 v95 = 1#1), ∀ a, (k0_off563 i k0_t68 v92 v95 k0_t72) a + S1x16.size a ≤ S256x128.size a) ∧
  (∀ k0_t72 : Fin (k0_t72_loop i k0_t68 v92 v95).trips, ∀ (k0_h37 : k0_cond37 k0_t68 = 1#1), ∀ (k0_h39 : k0_cond39 i k0_t68 v92 v95 = 1#1), ∀ a, (k0_off564 i k0_t68 v92 v95 k0_t72) a + S1x16.size a ≤ S256x128.size a) ∧
  (∀ k0_t72 : Fin (k0_t72_loop i k0_t68 v92 v95).trips, ∀ (k0_h37 : k0_cond37 k0_t68 = 1#1), ∀ (k0_h39 : k0_cond39 i k0_t68 v92 v95 = 1#1), ∀ a, (k0_off565 i k0_t68 v92 v95 k0_t72) a + S1x16.size a ≤ S256x128.size a) ∧
  (∀ k0_t72 : Fin (k0_t72_loop i k0_t68 v92 v95).trips, ∀ (k0_h37 : k0_cond37 k0_t68 = 1#1), ∀ (k0_h39 : k0_cond39 i k0_t68 v92 v95 = 1#1), ∀ a, (k0_off566 i k0_t68 v92 v95 k0_t72) a + S1x16.size a ≤ S256x128.size a) ∧
  (∀ k0_t72 : Fin (k0_t72_loop i k0_t68 v92 v95).trips, ∀ (k0_h37 : k0_cond37 k0_t68 = 1#1), ∀ (k0_h39 : k0_cond39 i k0_t68 v92 v95 = 1#1), ∀ a, (k0_off567 i k0_t68 v92 v95 k0_t72) a + S1x16.size a ≤ S256x128.size a) ∧
  (∀ k0_t72 : Fin (k0_t72_loop i k0_t68 v92 v95).trips, ∀ (k0_h37 : k0_cond37 k0_t68 = 1#1), ∀ (k0_h39 : k0_cond39 i k0_t68 v92 v95 = 1#1), ∀ a, (k0_off568 i k0_t68 v92 v95 k0_t72) a + S1x16.size a ≤ S256x128.size a)
theorem k0_t71_ok : ∀ (i : grid0.Coords) (k0_t68 : Fin k0_t68_loop.trips) (v92 : BitVec 32) (v95 : BitVec 32) (k0_hw34 : k0_chk34 i k0_t68 v92 v95), ∀ (k0_h37 : k0_cond37 k0_t68 = 1#1), ∀ (k0_h39 : k0_cond39 i k0_t68 v92 v95 = 1#1), (k0_t71_loop i k0_t68 v92 v95).OK := fun i k0_t68 v92 v95 k0_hw34 k0_h37 k0_h39 => k0_hw34.1 k0_h37 k0_h39
theorem k0_off553_inb : ∀ (i : grid0.Coords) (k0_t68 : Fin k0_t68_loop.trips) (v92 : BitVec 32) (v95 : BitVec 32) (k0_hw34 : k0_chk34 i k0_t68 v92 v95) (k0_t71 : Fin (k0_t71_loop i k0_t68 v92 v95).trips), ∀ (k0_h37 : k0_cond37 k0_t68 = 1#1), ∀ (k0_h39 : k0_cond39 i k0_t68 v92 v95 = 1#1), ∀ a, (k0_off553 i k0_t68 v92 v95 k0_t71) a + S1x16.size a ≤ S256x128.size a := fun i k0_t68 v92 v95 k0_hw34 k0_t71 k0_h37 k0_h39 => k0_hw34.2.1 k0_t71 k0_h37 k0_h39
theorem k0_off554_inb : ∀ (i : grid0.Coords) (k0_t68 : Fin k0_t68_loop.trips) (v92 : BitVec 32) (v95 : BitVec 32) (k0_hw34 : k0_chk34 i k0_t68 v92 v95) (k0_t71 : Fin (k0_t71_loop i k0_t68 v92 v95).trips), ∀ (k0_h37 : k0_cond37 k0_t68 = 1#1), ∀ (k0_h39 : k0_cond39 i k0_t68 v92 v95 = 1#1), ∀ a, (k0_off554 i k0_t68 v92 v95 k0_t71) a + S1x16.size a ≤ S256x128.size a := fun i k0_t68 v92 v95 k0_hw34 k0_t71 k0_h37 k0_h39 => k0_hw34.2.2.1 k0_t71 k0_h37 k0_h39
theorem k0_off555_inb : ∀ (i : grid0.Coords) (k0_t68 : Fin k0_t68_loop.trips) (v92 : BitVec 32) (v95 : BitVec 32) (k0_hw34 : k0_chk34 i k0_t68 v92 v95) (k0_t71 : Fin (k0_t71_loop i k0_t68 v92 v95).trips), ∀ (k0_h37 : k0_cond37 k0_t68 = 1#1), ∀ (k0_h39 : k0_cond39 i k0_t68 v92 v95 = 1#1), ∀ a, (k0_off555 i k0_t68 v92 v95 k0_t71) a + S1x16.size a ≤ S256x128.size a := fun i k0_t68 v92 v95 k0_hw34 k0_t71 k0_h37 k0_h39 => k0_hw34.2.2.2.1 k0_t71 k0_h37 k0_h39
theorem k0_off556_inb : ∀ (i : grid0.Coords) (k0_t68 : Fin k0_t68_loop.trips) (v92 : BitVec 32) (v95 : BitVec 32) (k0_hw34 : k0_chk34 i k0_t68 v92 v95) (k0_t71 : Fin (k0_t71_loop i k0_t68 v92 v95).trips), ∀ (k0_h37 : k0_cond37 k0_t68 = 1#1), ∀ (k0_h39 : k0_cond39 i k0_t68 v92 v95 = 1#1), ∀ a, (k0_off556 i k0_t68 v92 v95 k0_t71) a + S1x16.size a ≤ S256x128.size a := fun i k0_t68 v92 v95 k0_hw34 k0_t71 k0_h37 k0_h39 => k0_hw34.2.2.2.2.1 k0_t71 k0_h37 k0_h39
theorem k0_off557_inb : ∀ (i : grid0.Coords) (k0_t68 : Fin k0_t68_loop.trips) (v92 : BitVec 32) (v95 : BitVec 32) (k0_hw34 : k0_chk34 i k0_t68 v92 v95) (k0_t71 : Fin (k0_t71_loop i k0_t68 v92 v95).trips), ∀ (k0_h37 : k0_cond37 k0_t68 = 1#1), ∀ (k0_h39 : k0_cond39 i k0_t68 v92 v95 = 1#1), ∀ a, (k0_off557 i k0_t68 v92 v95 k0_t71) a + S1x16.size a ≤ S256x128.size a := fun i k0_t68 v92 v95 k0_hw34 k0_t71 k0_h37 k0_h39 => k0_hw34.2.2.2.2.2.1 k0_t71 k0_h37 k0_h39
theorem k0_off558_inb : ∀ (i : grid0.Coords) (k0_t68 : Fin k0_t68_loop.trips) (v92 : BitVec 32) (v95 : BitVec 32) (k0_hw34 : k0_chk34 i k0_t68 v92 v95) (k0_t71 : Fin (k0_t71_loop i k0_t68 v92 v95).trips), ∀ (k0_h37 : k0_cond37 k0_t68 = 1#1), ∀ (k0_h39 : k0_cond39 i k0_t68 v92 v95 = 1#1), ∀ a, (k0_off558 i k0_t68 v92 v95 k0_t71) a + S1x16.size a ≤ S256x128.size a := fun i k0_t68 v92 v95 k0_hw34 k0_t71 k0_h37 k0_h39 => k0_hw34.2.2.2.2.2.2.1 k0_t71 k0_h37 k0_h39
theorem k0_off559_inb : ∀ (i : grid0.Coords) (k0_t68 : Fin k0_t68_loop.trips) (v92 : BitVec 32) (v95 : BitVec 32) (k0_hw34 : k0_chk34 i k0_t68 v92 v95) (k0_t71 : Fin (k0_t71_loop i k0_t68 v92 v95).trips), ∀ (k0_h37 : k0_cond37 k0_t68 = 1#1), ∀ (k0_h39 : k0_cond39 i k0_t68 v92 v95 = 1#1), ∀ a, (k0_off559 i k0_t68 v92 v95 k0_t71) a + S1x16.size a ≤ S256x128.size a := fun i k0_t68 v92 v95 k0_hw34 k0_t71 k0_h37 k0_h39 => k0_hw34.2.2.2.2.2.2.2.1 k0_t71 k0_h37 k0_h39
theorem k0_off560_inb : ∀ (i : grid0.Coords) (k0_t68 : Fin k0_t68_loop.trips) (v92 : BitVec 32) (v95 : BitVec 32) (k0_hw34 : k0_chk34 i k0_t68 v92 v95) (k0_t71 : Fin (k0_t71_loop i k0_t68 v92 v95).trips), ∀ (k0_h37 : k0_cond37 k0_t68 = 1#1), ∀ (k0_h39 : k0_cond39 i k0_t68 v92 v95 = 1#1), ∀ a, (k0_off560 i k0_t68 v92 v95 k0_t71) a + S1x16.size a ≤ S256x128.size a := fun i k0_t68 v92 v95 k0_hw34 k0_t71 k0_h37 k0_h39 => k0_hw34.2.2.2.2.2.2.2.2.1 k0_t71 k0_h37 k0_h39
theorem k0_t72_ok : ∀ (i : grid0.Coords) (k0_t68 : Fin k0_t68_loop.trips) (v92 : BitVec 32) (v95 : BitVec 32) (k0_hw34 : k0_chk34 i k0_t68 v92 v95), ∀ (k0_h37 : k0_cond37 k0_t68 = 1#1), ∀ (k0_h39 : k0_cond39 i k0_t68 v92 v95 = 1#1), (k0_t72_loop i k0_t68 v92 v95).OK := fun i k0_t68 v92 v95 k0_hw34 k0_h37 k0_h39 => k0_hw34.2.2.2.2.2.2.2.2.2.1 k0_h37 k0_h39
theorem k0_off561_inb : ∀ (i : grid0.Coords) (k0_t68 : Fin k0_t68_loop.trips) (v92 : BitVec 32) (v95 : BitVec 32) (k0_hw34 : k0_chk34 i k0_t68 v92 v95) (k0_t72 : Fin (k0_t72_loop i k0_t68 v92 v95).trips), ∀ (k0_h37 : k0_cond37 k0_t68 = 1#1), ∀ (k0_h39 : k0_cond39 i k0_t68 v92 v95 = 1#1), ∀ a, (k0_off561 i k0_t68 v92 v95 k0_t72) a + S1x16.size a ≤ S256x128.size a := fun i k0_t68 v92 v95 k0_hw34 k0_t72 k0_h37 k0_h39 => k0_hw34.2.2.2.2.2.2.2.2.2.2.1 k0_t72 k0_h37 k0_h39
theorem k0_off562_inb : ∀ (i : grid0.Coords) (k0_t68 : Fin k0_t68_loop.trips) (v92 : BitVec 32) (v95 : BitVec 32) (k0_hw34 : k0_chk34 i k0_t68 v92 v95) (k0_t72 : Fin (k0_t72_loop i k0_t68 v92 v95).trips), ∀ (k0_h37 : k0_cond37 k0_t68 = 1#1), ∀ (k0_h39 : k0_cond39 i k0_t68 v92 v95 = 1#1), ∀ a, (k0_off562 i k0_t68 v92 v95 k0_t72) a + S1x16.size a ≤ S256x128.size a := fun i k0_t68 v92 v95 k0_hw34 k0_t72 k0_h37 k0_h39 => k0_hw34.2.2.2.2.2.2.2.2.2.2.2.1 k0_t72 k0_h37 k0_h39
theorem k0_off563_inb : ∀ (i : grid0.Coords) (k0_t68 : Fin k0_t68_loop.trips) (v92 : BitVec 32) (v95 : BitVec 32) (k0_hw34 : k0_chk34 i k0_t68 v92 v95) (k0_t72 : Fin (k0_t72_loop i k0_t68 v92 v95).trips), ∀ (k0_h37 : k0_cond37 k0_t68 = 1#1), ∀ (k0_h39 : k0_cond39 i k0_t68 v92 v95 = 1#1), ∀ a, (k0_off563 i k0_t68 v92 v95 k0_t72) a + S1x16.size a ≤ S256x128.size a := fun i k0_t68 v92 v95 k0_hw34 k0_t72 k0_h37 k0_h39 => k0_hw34.2.2.2.2.2.2.2.2.2.2.2.2.1 k0_t72 k0_h37 k0_h39
theorem k0_off564_inb : ∀ (i : grid0.Coords) (k0_t68 : Fin k0_t68_loop.trips) (v92 : BitVec 32) (v95 : BitVec 32) (k0_hw34 : k0_chk34 i k0_t68 v92 v95) (k0_t72 : Fin (k0_t72_loop i k0_t68 v92 v95).trips), ∀ (k0_h37 : k0_cond37 k0_t68 = 1#1), ∀ (k0_h39 : k0_cond39 i k0_t68 v92 v95 = 1#1), ∀ a, (k0_off564 i k0_t68 v92 v95 k0_t72) a + S1x16.size a ≤ S256x128.size a := fun i k0_t68 v92 v95 k0_hw34 k0_t72 k0_h37 k0_h39 => k0_hw34.2.2.2.2.2.2.2.2.2.2.2.2.2.1 k0_t72 k0_h37 k0_h39
theorem k0_off565_inb : ∀ (i : grid0.Coords) (k0_t68 : Fin k0_t68_loop.trips) (v92 : BitVec 32) (v95 : BitVec 32) (k0_hw34 : k0_chk34 i k0_t68 v92 v95) (k0_t72 : Fin (k0_t72_loop i k0_t68 v92 v95).trips), ∀ (k0_h37 : k0_cond37 k0_t68 = 1#1), ∀ (k0_h39 : k0_cond39 i k0_t68 v92 v95 = 1#1), ∀ a, (k0_off565 i k0_t68 v92 v95 k0_t72) a + S1x16.size a ≤ S256x128.size a := fun i k0_t68 v92 v95 k0_hw34 k0_t72 k0_h37 k0_h39 => k0_hw34.2.2.2.2.2.2.2.2.2.2.2.2.2.2.1 k0_t72 k0_h37 k0_h39
theorem k0_off566_inb : ∀ (i : grid0.Coords) (k0_t68 : Fin k0_t68_loop.trips) (v92 : BitVec 32) (v95 : BitVec 32) (k0_hw34 : k0_chk34 i k0_t68 v92 v95) (k0_t72 : Fin (k0_t72_loop i k0_t68 v92 v95).trips), ∀ (k0_h37 : k0_cond37 k0_t68 = 1#1), ∀ (k0_h39 : k0_cond39 i k0_t68 v92 v95 = 1#1), ∀ a, (k0_off566 i k0_t68 v92 v95 k0_t72) a + S1x16.size a ≤ S256x128.size a := fun i k0_t68 v92 v95 k0_hw34 k0_t72 k0_h37 k0_h39 => k0_hw34.2.2.2.2.2.2.2.2.2.2.2.2.2.2.2.1 k0_t72 k0_h37 k0_h39
theorem k0_off567_inb : ∀ (i : grid0.Coords) (k0_t68 : Fin k0_t68_loop.trips) (v92 : BitVec 32) (v95 : BitVec 32) (k0_hw34 : k0_chk34 i k0_t68 v92 v95) (k0_t72 : Fin (k0_t72_loop i k0_t68 v92 v95).trips), ∀ (k0_h37 : k0_cond37 k0_t68 = 1#1), ∀ (k0_h39 : k0_cond39 i k0_t68 v92 v95 = 1#1), ∀ a, (k0_off567 i k0_t68 v92 v95 k0_t72) a + S1x16.size a ≤ S256x128.size a := fun i k0_t68 v92 v95 k0_hw34 k0_t72 k0_h37 k0_h39 => k0_hw34.2.2.2.2.2.2.2.2.2.2.2.2.2.2.2.2.1 k0_t72 k0_h37 k0_h39
theorem k0_off568_inb : ∀ (i : grid0.Coords) (k0_t68 : Fin k0_t68_loop.trips) (v92 : BitVec 32) (v95 : BitVec 32) (k0_hw34 : k0_chk34 i k0_t68 v92 v95) (k0_t72 : Fin (k0_t72_loop i k0_t68 v92 v95).trips), ∀ (k0_h37 : k0_cond37 k0_t68 = 1#1), ∀ (k0_h39 : k0_cond39 i k0_t68 v92 v95 = 1#1), ∀ a, (k0_off568 i k0_t68 v92 v95 k0_t72) a + S1x16.size a ≤ S256x128.size a := fun i k0_t68 v92 v95 k0_hw34 k0_t72 k0_h37 k0_h39 => k0_hw34.2.2.2.2.2.2.2.2.2.2.2.2.2.2.2.2.2 k0_t72 k0_h37 k0_h39

@[reducible] def k0_t73_loop (i : grid0.Coords) (k0_t68 : Fin k0_t68_loop.trips) (v101 : BitVec 32) (v104 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v102 : BitVec 32 := Scalar.maxsi v101 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_85 : BitVec 32 := 1#32
  ⟨v102, v234, c1_i32_85⟩
def k0_cond40 (i : grid0.Coords) (k0_t68 : Fin k0_t68_loop.trips) (v101 : BitVec 32) (v104 : BitVec 32) : BitVec 1 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v105 : BitVec 32 := Scalar.minsi v104 v77
  let v102 : BitVec 32 := Scalar.maxsi v101 v75
  let v106 : BitVec 1 := Scalar.cmpi .sgt v105 v102
  let v107 : BitVec 32 := Scalar.extui v106
  let c0_i32_67 : BitVec 32 := 0#32
  let v108 : BitVec 1 := Scalar.cmpi .ne v107 c0_i32_67
  v108

def k0_off569 (i : grid0.Coords) (k0_t68 : Fin k0_t68_loop.trips) (v101 : BitVec 32) (v104 : BitVec 32) (k0_t73 : Fin (k0_t73_loop i k0_t68 v101 v104).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v102 : BitVec 32 := Scalar.maxsi v101 v75
  let c1_i32_85 : BitVec 32 := 1#32
  let arg19 : BitVec 32 := Scf.iv v102 c1_i32_85 k0_t73
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_113 : Index := 0#32
  ![v302.toNat, 0]
def k0_off570 (i : grid0.Coords) (k0_t68 : Fin k0_t68_loop.trips) (v101 : BitVec 32) (v104 : BitVec 32) (k0_t73 : Fin (k0_t73_loop i k0_t68 v101 v104).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v102 : BitVec 32 := Scalar.maxsi v101 v75
  let c1_i32_85 : BitVec 32 := 1#32
  let arg19 : BitVec 32 := Scf.iv v102 c1_i32_85 k0_t73
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_114 : Index := 16#32
  ![v306.toNat, 16]
def k0_off571 (i : grid0.Coords) (k0_t68 : Fin k0_t68_loop.trips) (v101 : BitVec 32) (v104 : BitVec 32) (k0_t73 : Fin (k0_t73_loop i k0_t68 v101 v104).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v102 : BitVec 32 := Scalar.maxsi v101 v75
  let c1_i32_85 : BitVec 32 := 1#32
  let arg19 : BitVec 32 := Scf.iv v102 c1_i32_85 k0_t73
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_115 : Index := 32#32
  ![v310.toNat, 32]
def k0_off572 (i : grid0.Coords) (k0_t68 : Fin k0_t68_loop.trips) (v101 : BitVec 32) (v104 : BitVec 32) (k0_t73 : Fin (k0_t73_loop i k0_t68 v101 v104).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v102 : BitVec 32 := Scalar.maxsi v101 v75
  let c1_i32_85 : BitVec 32 := 1#32
  let arg19 : BitVec 32 := Scf.iv v102 c1_i32_85 k0_t73
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_116 : Index := 48#32
  ![v314.toNat, 48]
def k0_off573 (i : grid0.Coords) (k0_t68 : Fin k0_t68_loop.trips) (v101 : BitVec 32) (v104 : BitVec 32) (k0_t73 : Fin (k0_t73_loop i k0_t68 v101 v104).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v102 : BitVec 32 := Scalar.maxsi v101 v75
  let c1_i32_85 : BitVec 32 := 1#32
  let arg19 : BitVec 32 := Scf.iv v102 c1_i32_85 k0_t73
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_117 : Index := 64#32
  ![v318.toNat, 64]
def k0_off574 (i : grid0.Coords) (k0_t68 : Fin k0_t68_loop.trips) (v101 : BitVec 32) (v104 : BitVec 32) (k0_t73 : Fin (k0_t73_loop i k0_t68 v101 v104).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v102 : BitVec 32 := Scalar.maxsi v101 v75
  let c1_i32_85 : BitVec 32 := 1#32
  let arg19 : BitVec 32 := Scf.iv v102 c1_i32_85 k0_t73
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_118 : Index := 80#32
  ![v322.toNat, 80]
def k0_off575 (i : grid0.Coords) (k0_t68 : Fin k0_t68_loop.trips) (v101 : BitVec 32) (v104 : BitVec 32) (k0_t73 : Fin (k0_t73_loop i k0_t68 v101 v104).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v102 : BitVec 32 := Scalar.maxsi v101 v75
  let c1_i32_85 : BitVec 32 := 1#32
  let arg19 : BitVec 32 := Scf.iv v102 c1_i32_85 k0_t73
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_119 : Index := 96#32
  ![v326.toNat, 96]
def k0_off576 (i : grid0.Coords) (k0_t68 : Fin k0_t68_loop.trips) (v101 : BitVec 32) (v104 : BitVec 32) (k0_t73 : Fin (k0_t73_loop i k0_t68 v101 v104).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v102 : BitVec 32 := Scalar.maxsi v101 v75
  let c1_i32_85 : BitVec 32 := 1#32
  let arg19 : BitVec 32 := Scf.iv v102 c1_i32_85 k0_t73
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_120 : Index := 112#32
  ![v330.toNat, 112]
@[reducible] def k0_t74_loop (i : grid0.Coords) (k0_t68 : Fin k0_t68_loop.trips) (v101 : BitVec 32) (v104 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v102 : BitVec 32 := Scalar.maxsi v101 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let v231 : BitVec 32 := Scalar.addi v102 v230
  let c1_i32_86 : BitVec 32 := 1#32
  ⟨v234, v231, c1_i32_86⟩
def k0_off577 (i : grid0.Coords) (k0_t68 : Fin k0_t68_loop.trips) (v101 : BitVec 32) (v104 : BitVec 32) (k0_t74 : Fin (k0_t74_loop i k0_t68 v101 v104).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v102 : BitVec 32 := Scalar.maxsi v101 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_86 : BitVec 32 := 1#32
  let arg19 : BitVec 32 := Scf.iv v234 c1_i32_86 k0_t74
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_113 : Index := 0#32
  ![v302.toNat, 0]
def k0_off578 (i : grid0.Coords) (k0_t68 : Fin k0_t68_loop.trips) (v101 : BitVec 32) (v104 : BitVec 32) (k0_t74 : Fin (k0_t74_loop i k0_t68 v101 v104).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v102 : BitVec 32 := Scalar.maxsi v101 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_86 : BitVec 32 := 1#32
  let arg19 : BitVec 32 := Scf.iv v234 c1_i32_86 k0_t74
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_114 : Index := 16#32
  ![v306.toNat, 16]
def k0_off579 (i : grid0.Coords) (k0_t68 : Fin k0_t68_loop.trips) (v101 : BitVec 32) (v104 : BitVec 32) (k0_t74 : Fin (k0_t74_loop i k0_t68 v101 v104).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v102 : BitVec 32 := Scalar.maxsi v101 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_86 : BitVec 32 := 1#32
  let arg19 : BitVec 32 := Scf.iv v234 c1_i32_86 k0_t74
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_115 : Index := 32#32
  ![v310.toNat, 32]
def k0_off580 (i : grid0.Coords) (k0_t68 : Fin k0_t68_loop.trips) (v101 : BitVec 32) (v104 : BitVec 32) (k0_t74 : Fin (k0_t74_loop i k0_t68 v101 v104).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v102 : BitVec 32 := Scalar.maxsi v101 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_86 : BitVec 32 := 1#32
  let arg19 : BitVec 32 := Scf.iv v234 c1_i32_86 k0_t74
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_116 : Index := 48#32
  ![v314.toNat, 48]
def k0_off581 (i : grid0.Coords) (k0_t68 : Fin k0_t68_loop.trips) (v101 : BitVec 32) (v104 : BitVec 32) (k0_t74 : Fin (k0_t74_loop i k0_t68 v101 v104).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v102 : BitVec 32 := Scalar.maxsi v101 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_86 : BitVec 32 := 1#32
  let arg19 : BitVec 32 := Scf.iv v234 c1_i32_86 k0_t74
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_117 : Index := 64#32
  ![v318.toNat, 64]
def k0_off582 (i : grid0.Coords) (k0_t68 : Fin k0_t68_loop.trips) (v101 : BitVec 32) (v104 : BitVec 32) (k0_t74 : Fin (k0_t74_loop i k0_t68 v101 v104).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v102 : BitVec 32 := Scalar.maxsi v101 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_86 : BitVec 32 := 1#32
  let arg19 : BitVec 32 := Scf.iv v234 c1_i32_86 k0_t74
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_118 : Index := 80#32
  ![v322.toNat, 80]
def k0_off583 (i : grid0.Coords) (k0_t68 : Fin k0_t68_loop.trips) (v101 : BitVec 32) (v104 : BitVec 32) (k0_t74 : Fin (k0_t74_loop i k0_t68 v101 v104).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v102 : BitVec 32 := Scalar.maxsi v101 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_86 : BitVec 32 := 1#32
  let arg19 : BitVec 32 := Scf.iv v234 c1_i32_86 k0_t74
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_119 : Index := 96#32
  ![v326.toNat, 96]
def k0_off584 (i : grid0.Coords) (k0_t68 : Fin k0_t68_loop.trips) (v101 : BitVec 32) (v104 : BitVec 32) (k0_t74 : Fin (k0_t74_loop i k0_t68 v101 v104).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v102 : BitVec 32 := Scalar.maxsi v101 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_86 : BitVec 32 := 1#32
  let arg19 : BitVec 32 := Scf.iv v234 c1_i32_86 k0_t74
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_120 : Index := 112#32
  ![v330.toNat, 112]

def k0_chk35 (i : grid0.Coords) (k0_t68 : Fin k0_t68_loop.trips) (v101 : BitVec 32) (v104 : BitVec 32) : Prop :=
  (∀ (k0_h37 : k0_cond37 k0_t68 = 1#1), ∀ (k0_h40 : k0_cond40 i k0_t68 v101 v104 = 1#1), (k0_t73_loop i k0_t68 v101 v104).OK) ∧
  (∀ k0_t73 : Fin (k0_t73_loop i k0_t68 v101 v104).trips, ∀ (k0_h37 : k0_cond37 k0_t68 = 1#1), ∀ (k0_h40 : k0_cond40 i k0_t68 v101 v104 = 1#1), ∀ a, (k0_off569 i k0_t68 v101 v104 k0_t73) a + S1x16.size a ≤ S256x128.size a) ∧
  (∀ k0_t73 : Fin (k0_t73_loop i k0_t68 v101 v104).trips, ∀ (k0_h37 : k0_cond37 k0_t68 = 1#1), ∀ (k0_h40 : k0_cond40 i k0_t68 v101 v104 = 1#1), ∀ a, (k0_off570 i k0_t68 v101 v104 k0_t73) a + S1x16.size a ≤ S256x128.size a) ∧
  (∀ k0_t73 : Fin (k0_t73_loop i k0_t68 v101 v104).trips, ∀ (k0_h37 : k0_cond37 k0_t68 = 1#1), ∀ (k0_h40 : k0_cond40 i k0_t68 v101 v104 = 1#1), ∀ a, (k0_off571 i k0_t68 v101 v104 k0_t73) a + S1x16.size a ≤ S256x128.size a) ∧
  (∀ k0_t73 : Fin (k0_t73_loop i k0_t68 v101 v104).trips, ∀ (k0_h37 : k0_cond37 k0_t68 = 1#1), ∀ (k0_h40 : k0_cond40 i k0_t68 v101 v104 = 1#1), ∀ a, (k0_off572 i k0_t68 v101 v104 k0_t73) a + S1x16.size a ≤ S256x128.size a) ∧
  (∀ k0_t73 : Fin (k0_t73_loop i k0_t68 v101 v104).trips, ∀ (k0_h37 : k0_cond37 k0_t68 = 1#1), ∀ (k0_h40 : k0_cond40 i k0_t68 v101 v104 = 1#1), ∀ a, (k0_off573 i k0_t68 v101 v104 k0_t73) a + S1x16.size a ≤ S256x128.size a) ∧
  (∀ k0_t73 : Fin (k0_t73_loop i k0_t68 v101 v104).trips, ∀ (k0_h37 : k0_cond37 k0_t68 = 1#1), ∀ (k0_h40 : k0_cond40 i k0_t68 v101 v104 = 1#1), ∀ a, (k0_off574 i k0_t68 v101 v104 k0_t73) a + S1x16.size a ≤ S256x128.size a) ∧
  (∀ k0_t73 : Fin (k0_t73_loop i k0_t68 v101 v104).trips, ∀ (k0_h37 : k0_cond37 k0_t68 = 1#1), ∀ (k0_h40 : k0_cond40 i k0_t68 v101 v104 = 1#1), ∀ a, (k0_off575 i k0_t68 v101 v104 k0_t73) a + S1x16.size a ≤ S256x128.size a) ∧
  (∀ k0_t73 : Fin (k0_t73_loop i k0_t68 v101 v104).trips, ∀ (k0_h37 : k0_cond37 k0_t68 = 1#1), ∀ (k0_h40 : k0_cond40 i k0_t68 v101 v104 = 1#1), ∀ a, (k0_off576 i k0_t68 v101 v104 k0_t73) a + S1x16.size a ≤ S256x128.size a) ∧
  (∀ (k0_h37 : k0_cond37 k0_t68 = 1#1), ∀ (k0_h40 : k0_cond40 i k0_t68 v101 v104 = 1#1), (k0_t74_loop i k0_t68 v101 v104).OK) ∧
  (∀ k0_t74 : Fin (k0_t74_loop i k0_t68 v101 v104).trips, ∀ (k0_h37 : k0_cond37 k0_t68 = 1#1), ∀ (k0_h40 : k0_cond40 i k0_t68 v101 v104 = 1#1), ∀ a, (k0_off577 i k0_t68 v101 v104 k0_t74) a + S1x16.size a ≤ S256x128.size a) ∧
  (∀ k0_t74 : Fin (k0_t74_loop i k0_t68 v101 v104).trips, ∀ (k0_h37 : k0_cond37 k0_t68 = 1#1), ∀ (k0_h40 : k0_cond40 i k0_t68 v101 v104 = 1#1), ∀ a, (k0_off578 i k0_t68 v101 v104 k0_t74) a + S1x16.size a ≤ S256x128.size a) ∧
  (∀ k0_t74 : Fin (k0_t74_loop i k0_t68 v101 v104).trips, ∀ (k0_h37 : k0_cond37 k0_t68 = 1#1), ∀ (k0_h40 : k0_cond40 i k0_t68 v101 v104 = 1#1), ∀ a, (k0_off579 i k0_t68 v101 v104 k0_t74) a + S1x16.size a ≤ S256x128.size a) ∧
  (∀ k0_t74 : Fin (k0_t74_loop i k0_t68 v101 v104).trips, ∀ (k0_h37 : k0_cond37 k0_t68 = 1#1), ∀ (k0_h40 : k0_cond40 i k0_t68 v101 v104 = 1#1), ∀ a, (k0_off580 i k0_t68 v101 v104 k0_t74) a + S1x16.size a ≤ S256x128.size a) ∧
  (∀ k0_t74 : Fin (k0_t74_loop i k0_t68 v101 v104).trips, ∀ (k0_h37 : k0_cond37 k0_t68 = 1#1), ∀ (k0_h40 : k0_cond40 i k0_t68 v101 v104 = 1#1), ∀ a, (k0_off581 i k0_t68 v101 v104 k0_t74) a + S1x16.size a ≤ S256x128.size a) ∧
  (∀ k0_t74 : Fin (k0_t74_loop i k0_t68 v101 v104).trips, ∀ (k0_h37 : k0_cond37 k0_t68 = 1#1), ∀ (k0_h40 : k0_cond40 i k0_t68 v101 v104 = 1#1), ∀ a, (k0_off582 i k0_t68 v101 v104 k0_t74) a + S1x16.size a ≤ S256x128.size a) ∧
  (∀ k0_t74 : Fin (k0_t74_loop i k0_t68 v101 v104).trips, ∀ (k0_h37 : k0_cond37 k0_t68 = 1#1), ∀ (k0_h40 : k0_cond40 i k0_t68 v101 v104 = 1#1), ∀ a, (k0_off583 i k0_t68 v101 v104 k0_t74) a + S1x16.size a ≤ S256x128.size a) ∧
  (∀ k0_t74 : Fin (k0_t74_loop i k0_t68 v101 v104).trips, ∀ (k0_h37 : k0_cond37 k0_t68 = 1#1), ∀ (k0_h40 : k0_cond40 i k0_t68 v101 v104 = 1#1), ∀ a, (k0_off584 i k0_t68 v101 v104 k0_t74) a + S1x16.size a ≤ S256x128.size a)
theorem k0_t73_ok : ∀ (i : grid0.Coords) (k0_t68 : Fin k0_t68_loop.trips) (v101 : BitVec 32) (v104 : BitVec 32) (k0_hw35 : k0_chk35 i k0_t68 v101 v104), ∀ (k0_h37 : k0_cond37 k0_t68 = 1#1), ∀ (k0_h40 : k0_cond40 i k0_t68 v101 v104 = 1#1), (k0_t73_loop i k0_t68 v101 v104).OK := fun i k0_t68 v101 v104 k0_hw35 k0_h37 k0_h40 => k0_hw35.1 k0_h37 k0_h40
theorem k0_off569_inb : ∀ (i : grid0.Coords) (k0_t68 : Fin k0_t68_loop.trips) (v101 : BitVec 32) (v104 : BitVec 32) (k0_hw35 : k0_chk35 i k0_t68 v101 v104) (k0_t73 : Fin (k0_t73_loop i k0_t68 v101 v104).trips), ∀ (k0_h37 : k0_cond37 k0_t68 = 1#1), ∀ (k0_h40 : k0_cond40 i k0_t68 v101 v104 = 1#1), ∀ a, (k0_off569 i k0_t68 v101 v104 k0_t73) a + S1x16.size a ≤ S256x128.size a := fun i k0_t68 v101 v104 k0_hw35 k0_t73 k0_h37 k0_h40 => k0_hw35.2.1 k0_t73 k0_h37 k0_h40
theorem k0_off570_inb : ∀ (i : grid0.Coords) (k0_t68 : Fin k0_t68_loop.trips) (v101 : BitVec 32) (v104 : BitVec 32) (k0_hw35 : k0_chk35 i k0_t68 v101 v104) (k0_t73 : Fin (k0_t73_loop i k0_t68 v101 v104).trips), ∀ (k0_h37 : k0_cond37 k0_t68 = 1#1), ∀ (k0_h40 : k0_cond40 i k0_t68 v101 v104 = 1#1), ∀ a, (k0_off570 i k0_t68 v101 v104 k0_t73) a + S1x16.size a ≤ S256x128.size a := fun i k0_t68 v101 v104 k0_hw35 k0_t73 k0_h37 k0_h40 => k0_hw35.2.2.1 k0_t73 k0_h37 k0_h40
theorem k0_off571_inb : ∀ (i : grid0.Coords) (k0_t68 : Fin k0_t68_loop.trips) (v101 : BitVec 32) (v104 : BitVec 32) (k0_hw35 : k0_chk35 i k0_t68 v101 v104) (k0_t73 : Fin (k0_t73_loop i k0_t68 v101 v104).trips), ∀ (k0_h37 : k0_cond37 k0_t68 = 1#1), ∀ (k0_h40 : k0_cond40 i k0_t68 v101 v104 = 1#1), ∀ a, (k0_off571 i k0_t68 v101 v104 k0_t73) a + S1x16.size a ≤ S256x128.size a := fun i k0_t68 v101 v104 k0_hw35 k0_t73 k0_h37 k0_h40 => k0_hw35.2.2.2.1 k0_t73 k0_h37 k0_h40
theorem k0_off572_inb : ∀ (i : grid0.Coords) (k0_t68 : Fin k0_t68_loop.trips) (v101 : BitVec 32) (v104 : BitVec 32) (k0_hw35 : k0_chk35 i k0_t68 v101 v104) (k0_t73 : Fin (k0_t73_loop i k0_t68 v101 v104).trips), ∀ (k0_h37 : k0_cond37 k0_t68 = 1#1), ∀ (k0_h40 : k0_cond40 i k0_t68 v101 v104 = 1#1), ∀ a, (k0_off572 i k0_t68 v101 v104 k0_t73) a + S1x16.size a ≤ S256x128.size a := fun i k0_t68 v101 v104 k0_hw35 k0_t73 k0_h37 k0_h40 => k0_hw35.2.2.2.2.1 k0_t73 k0_h37 k0_h40
theorem k0_off573_inb : ∀ (i : grid0.Coords) (k0_t68 : Fin k0_t68_loop.trips) (v101 : BitVec 32) (v104 : BitVec 32) (k0_hw35 : k0_chk35 i k0_t68 v101 v104) (k0_t73 : Fin (k0_t73_loop i k0_t68 v101 v104).trips), ∀ (k0_h37 : k0_cond37 k0_t68 = 1#1), ∀ (k0_h40 : k0_cond40 i k0_t68 v101 v104 = 1#1), ∀ a, (k0_off573 i k0_t68 v101 v104 k0_t73) a + S1x16.size a ≤ S256x128.size a := fun i k0_t68 v101 v104 k0_hw35 k0_t73 k0_h37 k0_h40 => k0_hw35.2.2.2.2.2.1 k0_t73 k0_h37 k0_h40
theorem k0_off574_inb : ∀ (i : grid0.Coords) (k0_t68 : Fin k0_t68_loop.trips) (v101 : BitVec 32) (v104 : BitVec 32) (k0_hw35 : k0_chk35 i k0_t68 v101 v104) (k0_t73 : Fin (k0_t73_loop i k0_t68 v101 v104).trips), ∀ (k0_h37 : k0_cond37 k0_t68 = 1#1), ∀ (k0_h40 : k0_cond40 i k0_t68 v101 v104 = 1#1), ∀ a, (k0_off574 i k0_t68 v101 v104 k0_t73) a + S1x16.size a ≤ S256x128.size a := fun i k0_t68 v101 v104 k0_hw35 k0_t73 k0_h37 k0_h40 => k0_hw35.2.2.2.2.2.2.1 k0_t73 k0_h37 k0_h40
theorem k0_off575_inb : ∀ (i : grid0.Coords) (k0_t68 : Fin k0_t68_loop.trips) (v101 : BitVec 32) (v104 : BitVec 32) (k0_hw35 : k0_chk35 i k0_t68 v101 v104) (k0_t73 : Fin (k0_t73_loop i k0_t68 v101 v104).trips), ∀ (k0_h37 : k0_cond37 k0_t68 = 1#1), ∀ (k0_h40 : k0_cond40 i k0_t68 v101 v104 = 1#1), ∀ a, (k0_off575 i k0_t68 v101 v104 k0_t73) a + S1x16.size a ≤ S256x128.size a := fun i k0_t68 v101 v104 k0_hw35 k0_t73 k0_h37 k0_h40 => k0_hw35.2.2.2.2.2.2.2.1 k0_t73 k0_h37 k0_h40
theorem k0_off576_inb : ∀ (i : grid0.Coords) (k0_t68 : Fin k0_t68_loop.trips) (v101 : BitVec 32) (v104 : BitVec 32) (k0_hw35 : k0_chk35 i k0_t68 v101 v104) (k0_t73 : Fin (k0_t73_loop i k0_t68 v101 v104).trips), ∀ (k0_h37 : k0_cond37 k0_t68 = 1#1), ∀ (k0_h40 : k0_cond40 i k0_t68 v101 v104 = 1#1), ∀ a, (k0_off576 i k0_t68 v101 v104 k0_t73) a + S1x16.size a ≤ S256x128.size a := fun i k0_t68 v101 v104 k0_hw35 k0_t73 k0_h37 k0_h40 => k0_hw35.2.2.2.2.2.2.2.2.1 k0_t73 k0_h37 k0_h40
theorem k0_t74_ok : ∀ (i : grid0.Coords) (k0_t68 : Fin k0_t68_loop.trips) (v101 : BitVec 32) (v104 : BitVec 32) (k0_hw35 : k0_chk35 i k0_t68 v101 v104), ∀ (k0_h37 : k0_cond37 k0_t68 = 1#1), ∀ (k0_h40 : k0_cond40 i k0_t68 v101 v104 = 1#1), (k0_t74_loop i k0_t68 v101 v104).OK := fun i k0_t68 v101 v104 k0_hw35 k0_h37 k0_h40 => k0_hw35.2.2.2.2.2.2.2.2.2.1 k0_h37 k0_h40
theorem k0_off577_inb : ∀ (i : grid0.Coords) (k0_t68 : Fin k0_t68_loop.trips) (v101 : BitVec 32) (v104 : BitVec 32) (k0_hw35 : k0_chk35 i k0_t68 v101 v104) (k0_t74 : Fin (k0_t74_loop i k0_t68 v101 v104).trips), ∀ (k0_h37 : k0_cond37 k0_t68 = 1#1), ∀ (k0_h40 : k0_cond40 i k0_t68 v101 v104 = 1#1), ∀ a, (k0_off577 i k0_t68 v101 v104 k0_t74) a + S1x16.size a ≤ S256x128.size a := fun i k0_t68 v101 v104 k0_hw35 k0_t74 k0_h37 k0_h40 => k0_hw35.2.2.2.2.2.2.2.2.2.2.1 k0_t74 k0_h37 k0_h40
theorem k0_off578_inb : ∀ (i : grid0.Coords) (k0_t68 : Fin k0_t68_loop.trips) (v101 : BitVec 32) (v104 : BitVec 32) (k0_hw35 : k0_chk35 i k0_t68 v101 v104) (k0_t74 : Fin (k0_t74_loop i k0_t68 v101 v104).trips), ∀ (k0_h37 : k0_cond37 k0_t68 = 1#1), ∀ (k0_h40 : k0_cond40 i k0_t68 v101 v104 = 1#1), ∀ a, (k0_off578 i k0_t68 v101 v104 k0_t74) a + S1x16.size a ≤ S256x128.size a := fun i k0_t68 v101 v104 k0_hw35 k0_t74 k0_h37 k0_h40 => k0_hw35.2.2.2.2.2.2.2.2.2.2.2.1 k0_t74 k0_h37 k0_h40
theorem k0_off579_inb : ∀ (i : grid0.Coords) (k0_t68 : Fin k0_t68_loop.trips) (v101 : BitVec 32) (v104 : BitVec 32) (k0_hw35 : k0_chk35 i k0_t68 v101 v104) (k0_t74 : Fin (k0_t74_loop i k0_t68 v101 v104).trips), ∀ (k0_h37 : k0_cond37 k0_t68 = 1#1), ∀ (k0_h40 : k0_cond40 i k0_t68 v101 v104 = 1#1), ∀ a, (k0_off579 i k0_t68 v101 v104 k0_t74) a + S1x16.size a ≤ S256x128.size a := fun i k0_t68 v101 v104 k0_hw35 k0_t74 k0_h37 k0_h40 => k0_hw35.2.2.2.2.2.2.2.2.2.2.2.2.1 k0_t74 k0_h37 k0_h40
theorem k0_off580_inb : ∀ (i : grid0.Coords) (k0_t68 : Fin k0_t68_loop.trips) (v101 : BitVec 32) (v104 : BitVec 32) (k0_hw35 : k0_chk35 i k0_t68 v101 v104) (k0_t74 : Fin (k0_t74_loop i k0_t68 v101 v104).trips), ∀ (k0_h37 : k0_cond37 k0_t68 = 1#1), ∀ (k0_h40 : k0_cond40 i k0_t68 v101 v104 = 1#1), ∀ a, (k0_off580 i k0_t68 v101 v104 k0_t74) a + S1x16.size a ≤ S256x128.size a := fun i k0_t68 v101 v104 k0_hw35 k0_t74 k0_h37 k0_h40 => k0_hw35.2.2.2.2.2.2.2.2.2.2.2.2.2.1 k0_t74 k0_h37 k0_h40
theorem k0_off581_inb : ∀ (i : grid0.Coords) (k0_t68 : Fin k0_t68_loop.trips) (v101 : BitVec 32) (v104 : BitVec 32) (k0_hw35 : k0_chk35 i k0_t68 v101 v104) (k0_t74 : Fin (k0_t74_loop i k0_t68 v101 v104).trips), ∀ (k0_h37 : k0_cond37 k0_t68 = 1#1), ∀ (k0_h40 : k0_cond40 i k0_t68 v101 v104 = 1#1), ∀ a, (k0_off581 i k0_t68 v101 v104 k0_t74) a + S1x16.size a ≤ S256x128.size a := fun i k0_t68 v101 v104 k0_hw35 k0_t74 k0_h37 k0_h40 => k0_hw35.2.2.2.2.2.2.2.2.2.2.2.2.2.2.1 k0_t74 k0_h37 k0_h40
theorem k0_off582_inb : ∀ (i : grid0.Coords) (k0_t68 : Fin k0_t68_loop.trips) (v101 : BitVec 32) (v104 : BitVec 32) (k0_hw35 : k0_chk35 i k0_t68 v101 v104) (k0_t74 : Fin (k0_t74_loop i k0_t68 v101 v104).trips), ∀ (k0_h37 : k0_cond37 k0_t68 = 1#1), ∀ (k0_h40 : k0_cond40 i k0_t68 v101 v104 = 1#1), ∀ a, (k0_off582 i k0_t68 v101 v104 k0_t74) a + S1x16.size a ≤ S256x128.size a := fun i k0_t68 v101 v104 k0_hw35 k0_t74 k0_h37 k0_h40 => k0_hw35.2.2.2.2.2.2.2.2.2.2.2.2.2.2.2.1 k0_t74 k0_h37 k0_h40
theorem k0_off583_inb : ∀ (i : grid0.Coords) (k0_t68 : Fin k0_t68_loop.trips) (v101 : BitVec 32) (v104 : BitVec 32) (k0_hw35 : k0_chk35 i k0_t68 v101 v104) (k0_t74 : Fin (k0_t74_loop i k0_t68 v101 v104).trips), ∀ (k0_h37 : k0_cond37 k0_t68 = 1#1), ∀ (k0_h40 : k0_cond40 i k0_t68 v101 v104 = 1#1), ∀ a, (k0_off583 i k0_t68 v101 v104 k0_t74) a + S1x16.size a ≤ S256x128.size a := fun i k0_t68 v101 v104 k0_hw35 k0_t74 k0_h37 k0_h40 => k0_hw35.2.2.2.2.2.2.2.2.2.2.2.2.2.2.2.2.1 k0_t74 k0_h37 k0_h40
theorem k0_off584_inb : ∀ (i : grid0.Coords) (k0_t68 : Fin k0_t68_loop.trips) (v101 : BitVec 32) (v104 : BitVec 32) (k0_hw35 : k0_chk35 i k0_t68 v101 v104) (k0_t74 : Fin (k0_t74_loop i k0_t68 v101 v104).trips), ∀ (k0_h37 : k0_cond37 k0_t68 = 1#1), ∀ (k0_h40 : k0_cond40 i k0_t68 v101 v104 = 1#1), ∀ a, (k0_off584 i k0_t68 v101 v104 k0_t74) a + S1x16.size a ≤ S256x128.size a := fun i k0_t68 v101 v104 k0_hw35 k0_t74 k0_h37 k0_h40 => k0_hw35.2.2.2.2.2.2.2.2.2.2.2.2.2.2.2.2.2 k0_t74 k0_h37 k0_h40

@[reducible] def k0_t75_loop (i : grid0.Coords) (k0_t68 : Fin k0_t68_loop.trips) (v110 : BitVec 32) (v113 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v111 : BitVec 32 := Scalar.maxsi v110 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_85 : BitVec 32 := 1#32
  ⟨v111, v234, c1_i32_85⟩
def k0_cond41 (i : grid0.Coords) (k0_t68 : Fin k0_t68_loop.trips) (v110 : BitVec 32) (v113 : BitVec 32) : BitVec 1 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v114 : BitVec 32 := Scalar.minsi v113 v77
  let v111 : BitVec 32 := Scalar.maxsi v110 v75
  let v115 : BitVec 1 := Scalar.cmpi .sgt v114 v111
  let v116 : BitVec 32 := Scalar.extui v115
  let c0_i32_68 : BitVec 32 := 0#32
  let v117 : BitVec 1 := Scalar.cmpi .ne v116 c0_i32_68
  v117

def k0_off585 (i : grid0.Coords) (k0_t68 : Fin k0_t68_loop.trips) (v110 : BitVec 32) (v113 : BitVec 32) (k0_t75 : Fin (k0_t75_loop i k0_t68 v110 v113).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v111 : BitVec 32 := Scalar.maxsi v110 v75
  let c1_i32_85 : BitVec 32 := 1#32
  let arg19 : BitVec 32 := Scf.iv v111 c1_i32_85 k0_t75
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off586 (i : grid0.Coords) (k0_t68 : Fin k0_t68_loop.trips) (v110 : BitVec 32) (v113 : BitVec 32) (k0_t75 : Fin (k0_t75_loop i k0_t68 v110 v113).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v111 : BitVec 32 := Scalar.maxsi v110 v75
  let c1_i32_85 : BitVec 32 := 1#32
  let arg19 : BitVec 32 := Scf.iv v111 c1_i32_85 k0_t75
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off587 (i : grid0.Coords) (k0_t68 : Fin k0_t68_loop.trips) (v110 : BitVec 32) (v113 : BitVec 32) (k0_t75 : Fin (k0_t75_loop i k0_t68 v110 v113).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v111 : BitVec 32 := Scalar.maxsi v110 v75
  let c1_i32_85 : BitVec 32 := 1#32
  let arg19 : BitVec 32 := Scf.iv v111 c1_i32_85 k0_t75
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off588 (i : grid0.Coords) (k0_t68 : Fin k0_t68_loop.trips) (v110 : BitVec 32) (v113 : BitVec 32) (k0_t75 : Fin (k0_t75_loop i k0_t68 v110 v113).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v111 : BitVec 32 := Scalar.maxsi v110 v75
  let c1_i32_85 : BitVec 32 := 1#32
  let arg19 : BitVec 32 := Scf.iv v111 c1_i32_85 k0_t75
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off589 (i : grid0.Coords) (k0_t68 : Fin k0_t68_loop.trips) (v110 : BitVec 32) (v113 : BitVec 32) (k0_t75 : Fin (k0_t75_loop i k0_t68 v110 v113).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v111 : BitVec 32 := Scalar.maxsi v110 v75
  let c1_i32_85 : BitVec 32 := 1#32
  let arg19 : BitVec 32 := Scf.iv v111 c1_i32_85 k0_t75
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off590 (i : grid0.Coords) (k0_t68 : Fin k0_t68_loop.trips) (v110 : BitVec 32) (v113 : BitVec 32) (k0_t75 : Fin (k0_t75_loop i k0_t68 v110 v113).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v111 : BitVec 32 := Scalar.maxsi v110 v75
  let c1_i32_85 : BitVec 32 := 1#32
  let arg19 : BitVec 32 := Scf.iv v111 c1_i32_85 k0_t75
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off591 (i : grid0.Coords) (k0_t68 : Fin k0_t68_loop.trips) (v110 : BitVec 32) (v113 : BitVec 32) (k0_t75 : Fin (k0_t75_loop i k0_t68 v110 v113).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v111 : BitVec 32 := Scalar.maxsi v110 v75
  let c1_i32_85 : BitVec 32 := 1#32
  let arg19 : BitVec 32 := Scf.iv v111 c1_i32_85 k0_t75
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off592 (i : grid0.Coords) (k0_t68 : Fin k0_t68_loop.trips) (v110 : BitVec 32) (v113 : BitVec 32) (k0_t75 : Fin (k0_t75_loop i k0_t68 v110 v113).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v111 : BitVec 32 := Scalar.maxsi v110 v75
  let c1_i32_85 : BitVec 32 := 1#32
  let arg19 : BitVec 32 := Scf.iv v111 c1_i32_85 k0_t75
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]
@[reducible] def k0_t76_loop (i : grid0.Coords) (k0_t68 : Fin k0_t68_loop.trips) (v110 : BitVec 32) (v113 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v111 : BitVec 32 := Scalar.maxsi v110 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let v231 : BitVec 32 := Scalar.addi v111 v230
  let c1_i32_86 : BitVec 32 := 1#32
  ⟨v234, v231, c1_i32_86⟩
def k0_off593 (i : grid0.Coords) (k0_t68 : Fin k0_t68_loop.trips) (v110 : BitVec 32) (v113 : BitVec 32) (k0_t76 : Fin (k0_t76_loop i k0_t68 v110 v113).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v111 : BitVec 32 := Scalar.maxsi v110 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_86 : BitVec 32 := 1#32
  let arg19 : BitVec 32 := Scf.iv v234 c1_i32_86 k0_t76
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off594 (i : grid0.Coords) (k0_t68 : Fin k0_t68_loop.trips) (v110 : BitVec 32) (v113 : BitVec 32) (k0_t76 : Fin (k0_t76_loop i k0_t68 v110 v113).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v111 : BitVec 32 := Scalar.maxsi v110 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_86 : BitVec 32 := 1#32
  let arg19 : BitVec 32 := Scf.iv v234 c1_i32_86 k0_t76
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off595 (i : grid0.Coords) (k0_t68 : Fin k0_t68_loop.trips) (v110 : BitVec 32) (v113 : BitVec 32) (k0_t76 : Fin (k0_t76_loop i k0_t68 v110 v113).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v111 : BitVec 32 := Scalar.maxsi v110 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_86 : BitVec 32 := 1#32
  let arg19 : BitVec 32 := Scf.iv v234 c1_i32_86 k0_t76
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off596 (i : grid0.Coords) (k0_t68 : Fin k0_t68_loop.trips) (v110 : BitVec 32) (v113 : BitVec 32) (k0_t76 : Fin (k0_t76_loop i k0_t68 v110 v113).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v111 : BitVec 32 := Scalar.maxsi v110 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_86 : BitVec 32 := 1#32
  let arg19 : BitVec 32 := Scf.iv v234 c1_i32_86 k0_t76
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off597 (i : grid0.Coords) (k0_t68 : Fin k0_t68_loop.trips) (v110 : BitVec 32) (v113 : BitVec 32) (k0_t76 : Fin (k0_t76_loop i k0_t68 v110 v113).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v111 : BitVec 32 := Scalar.maxsi v110 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_86 : BitVec 32 := 1#32
  let arg19 : BitVec 32 := Scf.iv v234 c1_i32_86 k0_t76
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off598 (i : grid0.Coords) (k0_t68 : Fin k0_t68_loop.trips) (v110 : BitVec 32) (v113 : BitVec 32) (k0_t76 : Fin (k0_t76_loop i k0_t68 v110 v113).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v111 : BitVec 32 := Scalar.maxsi v110 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_86 : BitVec 32 := 1#32
  let arg19 : BitVec 32 := Scf.iv v234 c1_i32_86 k0_t76
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off599 (i : grid0.Coords) (k0_t68 : Fin k0_t68_loop.trips) (v110 : BitVec 32) (v113 : BitVec 32) (k0_t76 : Fin (k0_t76_loop i k0_t68 v110 v113).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v111 : BitVec 32 := Scalar.maxsi v110 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_86 : BitVec 32 := 1#32
  let arg19 : BitVec 32 := Scf.iv v234 c1_i32_86 k0_t76
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off600 (i : grid0.Coords) (k0_t68 : Fin k0_t68_loop.trips) (v110 : BitVec 32) (v113 : BitVec 32) (k0_t76 : Fin (k0_t76_loop i k0_t68 v110 v113).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v111 : BitVec 32 := Scalar.maxsi v110 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_86 : BitVec 32 := 1#32
  let arg19 : BitVec 32 := Scf.iv v234 c1_i32_86 k0_t76
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]

def k0_chk36 (i : grid0.Coords) (k0_t68 : Fin k0_t68_loop.trips) (v110 : BitVec 32) (v113 : BitVec 32) : Prop :=
  (∀ (k0_h37 : k0_cond37 k0_t68 = 1#1), ∀ (k0_h41 : k0_cond41 i k0_t68 v110 v113 = 1#1), (k0_t75_loop i k0_t68 v110 v113).OK) ∧
  (∀ k0_t75 : Fin (k0_t75_loop i k0_t68 v110 v113).trips, ∀ (k0_h37 : k0_cond37 k0_t68 = 1#1), ∀ (k0_h41 : k0_cond41 i k0_t68 v110 v113 = 1#1), ∀ a, (k0_off585 i k0_t68 v110 v113 k0_t75) a + S1x16.size a ≤ S256x128.size a) ∧
  (∀ k0_t75 : Fin (k0_t75_loop i k0_t68 v110 v113).trips, ∀ (k0_h37 : k0_cond37 k0_t68 = 1#1), ∀ (k0_h41 : k0_cond41 i k0_t68 v110 v113 = 1#1), ∀ a, (k0_off586 i k0_t68 v110 v113 k0_t75) a + S1x16.size a ≤ S256x128.size a) ∧
  (∀ k0_t75 : Fin (k0_t75_loop i k0_t68 v110 v113).trips, ∀ (k0_h37 : k0_cond37 k0_t68 = 1#1), ∀ (k0_h41 : k0_cond41 i k0_t68 v110 v113 = 1#1), ∀ a, (k0_off587 i k0_t68 v110 v113 k0_t75) a + S1x16.size a ≤ S256x128.size a) ∧
  (∀ k0_t75 : Fin (k0_t75_loop i k0_t68 v110 v113).trips, ∀ (k0_h37 : k0_cond37 k0_t68 = 1#1), ∀ (k0_h41 : k0_cond41 i k0_t68 v110 v113 = 1#1), ∀ a, (k0_off588 i k0_t68 v110 v113 k0_t75) a + S1x16.size a ≤ S256x128.size a) ∧
  (∀ k0_t75 : Fin (k0_t75_loop i k0_t68 v110 v113).trips, ∀ (k0_h37 : k0_cond37 k0_t68 = 1#1), ∀ (k0_h41 : k0_cond41 i k0_t68 v110 v113 = 1#1), ∀ a, (k0_off589 i k0_t68 v110 v113 k0_t75) a + S1x16.size a ≤ S256x128.size a) ∧
  (∀ k0_t75 : Fin (k0_t75_loop i k0_t68 v110 v113).trips, ∀ (k0_h37 : k0_cond37 k0_t68 = 1#1), ∀ (k0_h41 : k0_cond41 i k0_t68 v110 v113 = 1#1), ∀ a, (k0_off590 i k0_t68 v110 v113 k0_t75) a + S1x16.size a ≤ S256x128.size a) ∧
  (∀ k0_t75 : Fin (k0_t75_loop i k0_t68 v110 v113).trips, ∀ (k0_h37 : k0_cond37 k0_t68 = 1#1), ∀ (k0_h41 : k0_cond41 i k0_t68 v110 v113 = 1#1), ∀ a, (k0_off591 i k0_t68 v110 v113 k0_t75) a + S1x16.size a ≤ S256x128.size a) ∧
  (∀ k0_t75 : Fin (k0_t75_loop i k0_t68 v110 v113).trips, ∀ (k0_h37 : k0_cond37 k0_t68 = 1#1), ∀ (k0_h41 : k0_cond41 i k0_t68 v110 v113 = 1#1), ∀ a, (k0_off592 i k0_t68 v110 v113 k0_t75) a + S1x16.size a ≤ S256x128.size a) ∧
  (∀ (k0_h37 : k0_cond37 k0_t68 = 1#1), ∀ (k0_h41 : k0_cond41 i k0_t68 v110 v113 = 1#1), (k0_t76_loop i k0_t68 v110 v113).OK) ∧
  (∀ k0_t76 : Fin (k0_t76_loop i k0_t68 v110 v113).trips, ∀ (k0_h37 : k0_cond37 k0_t68 = 1#1), ∀ (k0_h41 : k0_cond41 i k0_t68 v110 v113 = 1#1), ∀ a, (k0_off593 i k0_t68 v110 v113 k0_t76) a + S1x16.size a ≤ S256x128.size a) ∧
  (∀ k0_t76 : Fin (k0_t76_loop i k0_t68 v110 v113).trips, ∀ (k0_h37 : k0_cond37 k0_t68 = 1#1), ∀ (k0_h41 : k0_cond41 i k0_t68 v110 v113 = 1#1), ∀ a, (k0_off594 i k0_t68 v110 v113 k0_t76) a + S1x16.size a ≤ S256x128.size a) ∧
  (∀ k0_t76 : Fin (k0_t76_loop i k0_t68 v110 v113).trips, ∀ (k0_h37 : k0_cond37 k0_t68 = 1#1), ∀ (k0_h41 : k0_cond41 i k0_t68 v110 v113 = 1#1), ∀ a, (k0_off595 i k0_t68 v110 v113 k0_t76) a + S1x16.size a ≤ S256x128.size a) ∧
  (∀ k0_t76 : Fin (k0_t76_loop i k0_t68 v110 v113).trips, ∀ (k0_h37 : k0_cond37 k0_t68 = 1#1), ∀ (k0_h41 : k0_cond41 i k0_t68 v110 v113 = 1#1), ∀ a, (k0_off596 i k0_t68 v110 v113 k0_t76) a + S1x16.size a ≤ S256x128.size a) ∧
  (∀ k0_t76 : Fin (k0_t76_loop i k0_t68 v110 v113).trips, ∀ (k0_h37 : k0_cond37 k0_t68 = 1#1), ∀ (k0_h41 : k0_cond41 i k0_t68 v110 v113 = 1#1), ∀ a, (k0_off597 i k0_t68 v110 v113 k0_t76) a + S1x16.size a ≤ S256x128.size a) ∧
  (∀ k0_t76 : Fin (k0_t76_loop i k0_t68 v110 v113).trips, ∀ (k0_h37 : k0_cond37 k0_t68 = 1#1), ∀ (k0_h41 : k0_cond41 i k0_t68 v110 v113 = 1#1), ∀ a, (k0_off598 i k0_t68 v110 v113 k0_t76) a + S1x16.size a ≤ S256x128.size a) ∧
  (∀ k0_t76 : Fin (k0_t76_loop i k0_t68 v110 v113).trips, ∀ (k0_h37 : k0_cond37 k0_t68 = 1#1), ∀ (k0_h41 : k0_cond41 i k0_t68 v110 v113 = 1#1), ∀ a, (k0_off599 i k0_t68 v110 v113 k0_t76) a + S1x16.size a ≤ S256x128.size a) ∧
  (∀ k0_t76 : Fin (k0_t76_loop i k0_t68 v110 v113).trips, ∀ (k0_h37 : k0_cond37 k0_t68 = 1#1), ∀ (k0_h41 : k0_cond41 i k0_t68 v110 v113 = 1#1), ∀ a, (k0_off600 i k0_t68 v110 v113 k0_t76) a + S1x16.size a ≤ S256x128.size a)
theorem k0_t75_ok : ∀ (i : grid0.Coords) (k0_t68 : Fin k0_t68_loop.trips) (v110 : BitVec 32) (v113 : BitVec 32) (k0_hw36 : k0_chk36 i k0_t68 v110 v113), ∀ (k0_h37 : k0_cond37 k0_t68 = 1#1), ∀ (k0_h41 : k0_cond41 i k0_t68 v110 v113 = 1#1), (k0_t75_loop i k0_t68 v110 v113).OK := fun i k0_t68 v110 v113 k0_hw36 k0_h37 k0_h41 => k0_hw36.1 k0_h37 k0_h41
theorem k0_off585_inb : ∀ (i : grid0.Coords) (k0_t68 : Fin k0_t68_loop.trips) (v110 : BitVec 32) (v113 : BitVec 32) (k0_hw36 : k0_chk36 i k0_t68 v110 v113) (k0_t75 : Fin (k0_t75_loop i k0_t68 v110 v113).trips), ∀ (k0_h37 : k0_cond37 k0_t68 = 1#1), ∀ (k0_h41 : k0_cond41 i k0_t68 v110 v113 = 1#1), ∀ a, (k0_off585 i k0_t68 v110 v113 k0_t75) a + S1x16.size a ≤ S256x128.size a := fun i k0_t68 v110 v113 k0_hw36 k0_t75 k0_h37 k0_h41 => k0_hw36.2.1 k0_t75 k0_h37 k0_h41
theorem k0_off586_inb : ∀ (i : grid0.Coords) (k0_t68 : Fin k0_t68_loop.trips) (v110 : BitVec 32) (v113 : BitVec 32) (k0_hw36 : k0_chk36 i k0_t68 v110 v113) (k0_t75 : Fin (k0_t75_loop i k0_t68 v110 v113).trips), ∀ (k0_h37 : k0_cond37 k0_t68 = 1#1), ∀ (k0_h41 : k0_cond41 i k0_t68 v110 v113 = 1#1), ∀ a, (k0_off586 i k0_t68 v110 v113 k0_t75) a + S1x16.size a ≤ S256x128.size a := fun i k0_t68 v110 v113 k0_hw36 k0_t75 k0_h37 k0_h41 => k0_hw36.2.2.1 k0_t75 k0_h37 k0_h41
theorem k0_off587_inb : ∀ (i : grid0.Coords) (k0_t68 : Fin k0_t68_loop.trips) (v110 : BitVec 32) (v113 : BitVec 32) (k0_hw36 : k0_chk36 i k0_t68 v110 v113) (k0_t75 : Fin (k0_t75_loop i k0_t68 v110 v113).trips), ∀ (k0_h37 : k0_cond37 k0_t68 = 1#1), ∀ (k0_h41 : k0_cond41 i k0_t68 v110 v113 = 1#1), ∀ a, (k0_off587 i k0_t68 v110 v113 k0_t75) a + S1x16.size a ≤ S256x128.size a := fun i k0_t68 v110 v113 k0_hw36 k0_t75 k0_h37 k0_h41 => k0_hw36.2.2.2.1 k0_t75 k0_h37 k0_h41
theorem k0_off588_inb : ∀ (i : grid0.Coords) (k0_t68 : Fin k0_t68_loop.trips) (v110 : BitVec 32) (v113 : BitVec 32) (k0_hw36 : k0_chk36 i k0_t68 v110 v113) (k0_t75 : Fin (k0_t75_loop i k0_t68 v110 v113).trips), ∀ (k0_h37 : k0_cond37 k0_t68 = 1#1), ∀ (k0_h41 : k0_cond41 i k0_t68 v110 v113 = 1#1), ∀ a, (k0_off588 i k0_t68 v110 v113 k0_t75) a + S1x16.size a ≤ S256x128.size a := fun i k0_t68 v110 v113 k0_hw36 k0_t75 k0_h37 k0_h41 => k0_hw36.2.2.2.2.1 k0_t75 k0_h37 k0_h41
theorem k0_off589_inb : ∀ (i : grid0.Coords) (k0_t68 : Fin k0_t68_loop.trips) (v110 : BitVec 32) (v113 : BitVec 32) (k0_hw36 : k0_chk36 i k0_t68 v110 v113) (k0_t75 : Fin (k0_t75_loop i k0_t68 v110 v113).trips), ∀ (k0_h37 : k0_cond37 k0_t68 = 1#1), ∀ (k0_h41 : k0_cond41 i k0_t68 v110 v113 = 1#1), ∀ a, (k0_off589 i k0_t68 v110 v113 k0_t75) a + S1x16.size a ≤ S256x128.size a := fun i k0_t68 v110 v113 k0_hw36 k0_t75 k0_h37 k0_h41 => k0_hw36.2.2.2.2.2.1 k0_t75 k0_h37 k0_h41
theorem k0_off590_inb : ∀ (i : grid0.Coords) (k0_t68 : Fin k0_t68_loop.trips) (v110 : BitVec 32) (v113 : BitVec 32) (k0_hw36 : k0_chk36 i k0_t68 v110 v113) (k0_t75 : Fin (k0_t75_loop i k0_t68 v110 v113).trips), ∀ (k0_h37 : k0_cond37 k0_t68 = 1#1), ∀ (k0_h41 : k0_cond41 i k0_t68 v110 v113 = 1#1), ∀ a, (k0_off590 i k0_t68 v110 v113 k0_t75) a + S1x16.size a ≤ S256x128.size a := fun i k0_t68 v110 v113 k0_hw36 k0_t75 k0_h37 k0_h41 => k0_hw36.2.2.2.2.2.2.1 k0_t75 k0_h37 k0_h41
theorem k0_off591_inb : ∀ (i : grid0.Coords) (k0_t68 : Fin k0_t68_loop.trips) (v110 : BitVec 32) (v113 : BitVec 32) (k0_hw36 : k0_chk36 i k0_t68 v110 v113) (k0_t75 : Fin (k0_t75_loop i k0_t68 v110 v113).trips), ∀ (k0_h37 : k0_cond37 k0_t68 = 1#1), ∀ (k0_h41 : k0_cond41 i k0_t68 v110 v113 = 1#1), ∀ a, (k0_off591 i k0_t68 v110 v113 k0_t75) a + S1x16.size a ≤ S256x128.size a := fun i k0_t68 v110 v113 k0_hw36 k0_t75 k0_h37 k0_h41 => k0_hw36.2.2.2.2.2.2.2.1 k0_t75 k0_h37 k0_h41
theorem k0_off592_inb : ∀ (i : grid0.Coords) (k0_t68 : Fin k0_t68_loop.trips) (v110 : BitVec 32) (v113 : BitVec 32) (k0_hw36 : k0_chk36 i k0_t68 v110 v113) (k0_t75 : Fin (k0_t75_loop i k0_t68 v110 v113).trips), ∀ (k0_h37 : k0_cond37 k0_t68 = 1#1), ∀ (k0_h41 : k0_cond41 i k0_t68 v110 v113 = 1#1), ∀ a, (k0_off592 i k0_t68 v110 v113 k0_t75) a + S1x16.size a ≤ S256x128.size a := fun i k0_t68 v110 v113 k0_hw36 k0_t75 k0_h37 k0_h41 => k0_hw36.2.2.2.2.2.2.2.2.1 k0_t75 k0_h37 k0_h41
theorem k0_t76_ok : ∀ (i : grid0.Coords) (k0_t68 : Fin k0_t68_loop.trips) (v110 : BitVec 32) (v113 : BitVec 32) (k0_hw36 : k0_chk36 i k0_t68 v110 v113), ∀ (k0_h37 : k0_cond37 k0_t68 = 1#1), ∀ (k0_h41 : k0_cond41 i k0_t68 v110 v113 = 1#1), (k0_t76_loop i k0_t68 v110 v113).OK := fun i k0_t68 v110 v113 k0_hw36 k0_h37 k0_h41 => k0_hw36.2.2.2.2.2.2.2.2.2.1 k0_h37 k0_h41
theorem k0_off593_inb : ∀ (i : grid0.Coords) (k0_t68 : Fin k0_t68_loop.trips) (v110 : BitVec 32) (v113 : BitVec 32) (k0_hw36 : k0_chk36 i k0_t68 v110 v113) (k0_t76 : Fin (k0_t76_loop i k0_t68 v110 v113).trips), ∀ (k0_h37 : k0_cond37 k0_t68 = 1#1), ∀ (k0_h41 : k0_cond41 i k0_t68 v110 v113 = 1#1), ∀ a, (k0_off593 i k0_t68 v110 v113 k0_t76) a + S1x16.size a ≤ S256x128.size a := fun i k0_t68 v110 v113 k0_hw36 k0_t76 k0_h37 k0_h41 => k0_hw36.2.2.2.2.2.2.2.2.2.2.1 k0_t76 k0_h37 k0_h41
theorem k0_off594_inb : ∀ (i : grid0.Coords) (k0_t68 : Fin k0_t68_loop.trips) (v110 : BitVec 32) (v113 : BitVec 32) (k0_hw36 : k0_chk36 i k0_t68 v110 v113) (k0_t76 : Fin (k0_t76_loop i k0_t68 v110 v113).trips), ∀ (k0_h37 : k0_cond37 k0_t68 = 1#1), ∀ (k0_h41 : k0_cond41 i k0_t68 v110 v113 = 1#1), ∀ a, (k0_off594 i k0_t68 v110 v113 k0_t76) a + S1x16.size a ≤ S256x128.size a := fun i k0_t68 v110 v113 k0_hw36 k0_t76 k0_h37 k0_h41 => k0_hw36.2.2.2.2.2.2.2.2.2.2.2.1 k0_t76 k0_h37 k0_h41
theorem k0_off595_inb : ∀ (i : grid0.Coords) (k0_t68 : Fin k0_t68_loop.trips) (v110 : BitVec 32) (v113 : BitVec 32) (k0_hw36 : k0_chk36 i k0_t68 v110 v113) (k0_t76 : Fin (k0_t76_loop i k0_t68 v110 v113).trips), ∀ (k0_h37 : k0_cond37 k0_t68 = 1#1), ∀ (k0_h41 : k0_cond41 i k0_t68 v110 v113 = 1#1), ∀ a, (k0_off595 i k0_t68 v110 v113 k0_t76) a + S1x16.size a ≤ S256x128.size a := fun i k0_t68 v110 v113 k0_hw36 k0_t76 k0_h37 k0_h41 => k0_hw36.2.2.2.2.2.2.2.2.2.2.2.2.1 k0_t76 k0_h37 k0_h41
theorem k0_off596_inb : ∀ (i : grid0.Coords) (k0_t68 : Fin k0_t68_loop.trips) (v110 : BitVec 32) (v113 : BitVec 32) (k0_hw36 : k0_chk36 i k0_t68 v110 v113) (k0_t76 : Fin (k0_t76_loop i k0_t68 v110 v113).trips), ∀ (k0_h37 : k0_cond37 k0_t68 = 1#1), ∀ (k0_h41 : k0_cond41 i k0_t68 v110 v113 = 1#1), ∀ a, (k0_off596 i k0_t68 v110 v113 k0_t76) a + S1x16.size a ≤ S256x128.size a := fun i k0_t68 v110 v113 k0_hw36 k0_t76 k0_h37 k0_h41 => k0_hw36.2.2.2.2.2.2.2.2.2.2.2.2.2.1 k0_t76 k0_h37 k0_h41
theorem k0_off597_inb : ∀ (i : grid0.Coords) (k0_t68 : Fin k0_t68_loop.trips) (v110 : BitVec 32) (v113 : BitVec 32) (k0_hw36 : k0_chk36 i k0_t68 v110 v113) (k0_t76 : Fin (k0_t76_loop i k0_t68 v110 v113).trips), ∀ (k0_h37 : k0_cond37 k0_t68 = 1#1), ∀ (k0_h41 : k0_cond41 i k0_t68 v110 v113 = 1#1), ∀ a, (k0_off597 i k0_t68 v110 v113 k0_t76) a + S1x16.size a ≤ S256x128.size a := fun i k0_t68 v110 v113 k0_hw36 k0_t76 k0_h37 k0_h41 => k0_hw36.2.2.2.2.2.2.2.2.2.2.2.2.2.2.1 k0_t76 k0_h37 k0_h41
theorem k0_off598_inb : ∀ (i : grid0.Coords) (k0_t68 : Fin k0_t68_loop.trips) (v110 : BitVec 32) (v113 : BitVec 32) (k0_hw36 : k0_chk36 i k0_t68 v110 v113) (k0_t76 : Fin (k0_t76_loop i k0_t68 v110 v113).trips), ∀ (k0_h37 : k0_cond37 k0_t68 = 1#1), ∀ (k0_h41 : k0_cond41 i k0_t68 v110 v113 = 1#1), ∀ a, (k0_off598 i k0_t68 v110 v113 k0_t76) a + S1x16.size a ≤ S256x128.size a := fun i k0_t68 v110 v113 k0_hw36 k0_t76 k0_h37 k0_h41 => k0_hw36.2.2.2.2.2.2.2.2.2.2.2.2.2.2.2.1 k0_t76 k0_h37 k0_h41
theorem k0_off599_inb : ∀ (i : grid0.Coords) (k0_t68 : Fin k0_t68_loop.trips) (v110 : BitVec 32) (v113 : BitVec 32) (k0_hw36 : k0_chk36 i k0_t68 v110 v113) (k0_t76 : Fin (k0_t76_loop i k0_t68 v110 v113).trips), ∀ (k0_h37 : k0_cond37 k0_t68 = 1#1), ∀ (k0_h41 : k0_cond41 i k0_t68 v110 v113 = 1#1), ∀ a, (k0_off599 i k0_t68 v110 v113 k0_t76) a + S1x16.size a ≤ S256x128.size a := fun i k0_t68 v110 v113 k0_hw36 k0_t76 k0_h37 k0_h41 => k0_hw36.2.2.2.2.2.2.2.2.2.2.2.2.2.2.2.2.1 k0_t76 k0_h37 k0_h41
theorem k0_off600_inb : ∀ (i : grid0.Coords) (k0_t68 : Fin k0_t68_loop.trips) (v110 : BitVec 32) (v113 : BitVec 32) (k0_hw36 : k0_chk36 i k0_t68 v110 v113) (k0_t76 : Fin (k0_t76_loop i k0_t68 v110 v113).trips), ∀ (k0_h37 : k0_cond37 k0_t68 = 1#1), ∀ (k0_h41 : k0_cond41 i k0_t68 v110 v113 = 1#1), ∀ a, (k0_off600 i k0_t68 v110 v113 k0_t76) a + S1x16.size a ≤ S256x128.size a := fun i k0_t68 v110 v113 k0_hw36 k0_t76 k0_h37 k0_h41 => k0_hw36.2.2.2.2.2.2.2.2.2.2.2.2.2.2.2.2.2 k0_t76 k0_h37 k0_h41

@[reducible] def k0_t77_loop (i : grid0.Coords) (k0_t68 : Fin k0_t68_loop.trips) (v119 : BitVec 32) (v122 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v120 : BitVec 32 := Scalar.maxsi v119 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_85 : BitVec 32 := 1#32
  ⟨v120, v234, c1_i32_85⟩
def k0_cond42 (i : grid0.Coords) (k0_t68 : Fin k0_t68_loop.trips) (v119 : BitVec 32) (v122 : BitVec 32) : BitVec 1 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v123 : BitVec 32 := Scalar.minsi v122 v77
  let v120 : BitVec 32 := Scalar.maxsi v119 v75
  let v124 : BitVec 1 := Scalar.cmpi .sgt v123 v120
  let v125 : BitVec 32 := Scalar.extui v124
  let c0_i32_69 : BitVec 32 := 0#32
  let v126 : BitVec 1 := Scalar.cmpi .ne v125 c0_i32_69
  v126

def k0_off601 (i : grid0.Coords) (k0_t68 : Fin k0_t68_loop.trips) (v119 : BitVec 32) (v122 : BitVec 32) (k0_t77 : Fin (k0_t77_loop i k0_t68 v119 v122).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v120 : BitVec 32 := Scalar.maxsi v119 v75
  let c1_i32_85 : BitVec 32 := 1#32
  let arg19 : BitVec 32 := Scf.iv v120 c1_i32_85 k0_t77
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_113 : Index := 0#32
  ![v302.toNat, 0]
def k0_off602 (i : grid0.Coords) (k0_t68 : Fin k0_t68_loop.trips) (v119 : BitVec 32) (v122 : BitVec 32) (k0_t77 : Fin (k0_t77_loop i k0_t68 v119 v122).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v120 : BitVec 32 := Scalar.maxsi v119 v75
  let c1_i32_85 : BitVec 32 := 1#32
  let arg19 : BitVec 32 := Scf.iv v120 c1_i32_85 k0_t77
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_114 : Index := 16#32
  ![v306.toNat, 16]
def k0_off603 (i : grid0.Coords) (k0_t68 : Fin k0_t68_loop.trips) (v119 : BitVec 32) (v122 : BitVec 32) (k0_t77 : Fin (k0_t77_loop i k0_t68 v119 v122).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v120 : BitVec 32 := Scalar.maxsi v119 v75
  let c1_i32_85 : BitVec 32 := 1#32
  let arg19 : BitVec 32 := Scf.iv v120 c1_i32_85 k0_t77
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_115 : Index := 32#32
  ![v310.toNat, 32]
def k0_off604 (i : grid0.Coords) (k0_t68 : Fin k0_t68_loop.trips) (v119 : BitVec 32) (v122 : BitVec 32) (k0_t77 : Fin (k0_t77_loop i k0_t68 v119 v122).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v120 : BitVec 32 := Scalar.maxsi v119 v75
  let c1_i32_85 : BitVec 32 := 1#32
  let arg19 : BitVec 32 := Scf.iv v120 c1_i32_85 k0_t77
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_116 : Index := 48#32
  ![v314.toNat, 48]
def k0_off605 (i : grid0.Coords) (k0_t68 : Fin k0_t68_loop.trips) (v119 : BitVec 32) (v122 : BitVec 32) (k0_t77 : Fin (k0_t77_loop i k0_t68 v119 v122).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v120 : BitVec 32 := Scalar.maxsi v119 v75
  let c1_i32_85 : BitVec 32 := 1#32
  let arg19 : BitVec 32 := Scf.iv v120 c1_i32_85 k0_t77
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_117 : Index := 64#32
  ![v318.toNat, 64]
def k0_off606 (i : grid0.Coords) (k0_t68 : Fin k0_t68_loop.trips) (v119 : BitVec 32) (v122 : BitVec 32) (k0_t77 : Fin (k0_t77_loop i k0_t68 v119 v122).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v120 : BitVec 32 := Scalar.maxsi v119 v75
  let c1_i32_85 : BitVec 32 := 1#32
  let arg19 : BitVec 32 := Scf.iv v120 c1_i32_85 k0_t77
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_118 : Index := 80#32
  ![v322.toNat, 80]
def k0_off607 (i : grid0.Coords) (k0_t68 : Fin k0_t68_loop.trips) (v119 : BitVec 32) (v122 : BitVec 32) (k0_t77 : Fin (k0_t77_loop i k0_t68 v119 v122).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v120 : BitVec 32 := Scalar.maxsi v119 v75
  let c1_i32_85 : BitVec 32 := 1#32
  let arg19 : BitVec 32 := Scf.iv v120 c1_i32_85 k0_t77
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_119 : Index := 96#32
  ![v326.toNat, 96]
def k0_off608 (i : grid0.Coords) (k0_t68 : Fin k0_t68_loop.trips) (v119 : BitVec 32) (v122 : BitVec 32) (k0_t77 : Fin (k0_t77_loop i k0_t68 v119 v122).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v120 : BitVec 32 := Scalar.maxsi v119 v75
  let c1_i32_85 : BitVec 32 := 1#32
  let arg19 : BitVec 32 := Scf.iv v120 c1_i32_85 k0_t77
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_120 : Index := 112#32
  ![v330.toNat, 112]
@[reducible] def k0_t78_loop (i : grid0.Coords) (k0_t68 : Fin k0_t68_loop.trips) (v119 : BitVec 32) (v122 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v120 : BitVec 32 := Scalar.maxsi v119 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let v231 : BitVec 32 := Scalar.addi v120 v230
  let c1_i32_86 : BitVec 32 := 1#32
  ⟨v234, v231, c1_i32_86⟩
def k0_off609 (i : grid0.Coords) (k0_t68 : Fin k0_t68_loop.trips) (v119 : BitVec 32) (v122 : BitVec 32) (k0_t78 : Fin (k0_t78_loop i k0_t68 v119 v122).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v120 : BitVec 32 := Scalar.maxsi v119 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_86 : BitVec 32 := 1#32
  let arg19 : BitVec 32 := Scf.iv v234 c1_i32_86 k0_t78
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_113 : Index := 0#32
  ![v302.toNat, 0]
def k0_off610 (i : grid0.Coords) (k0_t68 : Fin k0_t68_loop.trips) (v119 : BitVec 32) (v122 : BitVec 32) (k0_t78 : Fin (k0_t78_loop i k0_t68 v119 v122).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v120 : BitVec 32 := Scalar.maxsi v119 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_86 : BitVec 32 := 1#32
  let arg19 : BitVec 32 := Scf.iv v234 c1_i32_86 k0_t78
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_114 : Index := 16#32
  ![v306.toNat, 16]
def k0_off611 (i : grid0.Coords) (k0_t68 : Fin k0_t68_loop.trips) (v119 : BitVec 32) (v122 : BitVec 32) (k0_t78 : Fin (k0_t78_loop i k0_t68 v119 v122).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v120 : BitVec 32 := Scalar.maxsi v119 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_86 : BitVec 32 := 1#32
  let arg19 : BitVec 32 := Scf.iv v234 c1_i32_86 k0_t78
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_115 : Index := 32#32
  ![v310.toNat, 32]
def k0_off612 (i : grid0.Coords) (k0_t68 : Fin k0_t68_loop.trips) (v119 : BitVec 32) (v122 : BitVec 32) (k0_t78 : Fin (k0_t78_loop i k0_t68 v119 v122).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v120 : BitVec 32 := Scalar.maxsi v119 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_86 : BitVec 32 := 1#32
  let arg19 : BitVec 32 := Scf.iv v234 c1_i32_86 k0_t78
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_116 : Index := 48#32
  ![v314.toNat, 48]
def k0_off613 (i : grid0.Coords) (k0_t68 : Fin k0_t68_loop.trips) (v119 : BitVec 32) (v122 : BitVec 32) (k0_t78 : Fin (k0_t78_loop i k0_t68 v119 v122).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v120 : BitVec 32 := Scalar.maxsi v119 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_86 : BitVec 32 := 1#32
  let arg19 : BitVec 32 := Scf.iv v234 c1_i32_86 k0_t78
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_117 : Index := 64#32
  ![v318.toNat, 64]
def k0_off614 (i : grid0.Coords) (k0_t68 : Fin k0_t68_loop.trips) (v119 : BitVec 32) (v122 : BitVec 32) (k0_t78 : Fin (k0_t78_loop i k0_t68 v119 v122).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v120 : BitVec 32 := Scalar.maxsi v119 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_86 : BitVec 32 := 1#32
  let arg19 : BitVec 32 := Scf.iv v234 c1_i32_86 k0_t78
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_118 : Index := 80#32
  ![v322.toNat, 80]
def k0_off615 (i : grid0.Coords) (k0_t68 : Fin k0_t68_loop.trips) (v119 : BitVec 32) (v122 : BitVec 32) (k0_t78 : Fin (k0_t78_loop i k0_t68 v119 v122).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v120 : BitVec 32 := Scalar.maxsi v119 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_86 : BitVec 32 := 1#32
  let arg19 : BitVec 32 := Scf.iv v234 c1_i32_86 k0_t78
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_119 : Index := 96#32
  ![v326.toNat, 96]
def k0_off616 (i : grid0.Coords) (k0_t68 : Fin k0_t68_loop.trips) (v119 : BitVec 32) (v122 : BitVec 32) (k0_t78 : Fin (k0_t78_loop i k0_t68 v119 v122).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v120 : BitVec 32 := Scalar.maxsi v119 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_86 : BitVec 32 := 1#32
  let arg19 : BitVec 32 := Scf.iv v234 c1_i32_86 k0_t78
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_120 : Index := 112#32
  ![v330.toNat, 112]

def k0_chk37 (i : grid0.Coords) (k0_t68 : Fin k0_t68_loop.trips) (v119 : BitVec 32) (v122 : BitVec 32) : Prop :=
  (∀ (k0_h37 : k0_cond37 k0_t68 = 1#1), ∀ (k0_h42 : k0_cond42 i k0_t68 v119 v122 = 1#1), (k0_t77_loop i k0_t68 v119 v122).OK) ∧
  (∀ k0_t77 : Fin (k0_t77_loop i k0_t68 v119 v122).trips, ∀ (k0_h37 : k0_cond37 k0_t68 = 1#1), ∀ (k0_h42 : k0_cond42 i k0_t68 v119 v122 = 1#1), ∀ a, (k0_off601 i k0_t68 v119 v122 k0_t77) a + S1x16.size a ≤ S256x128.size a) ∧
  (∀ k0_t77 : Fin (k0_t77_loop i k0_t68 v119 v122).trips, ∀ (k0_h37 : k0_cond37 k0_t68 = 1#1), ∀ (k0_h42 : k0_cond42 i k0_t68 v119 v122 = 1#1), ∀ a, (k0_off602 i k0_t68 v119 v122 k0_t77) a + S1x16.size a ≤ S256x128.size a) ∧
  (∀ k0_t77 : Fin (k0_t77_loop i k0_t68 v119 v122).trips, ∀ (k0_h37 : k0_cond37 k0_t68 = 1#1), ∀ (k0_h42 : k0_cond42 i k0_t68 v119 v122 = 1#1), ∀ a, (k0_off603 i k0_t68 v119 v122 k0_t77) a + S1x16.size a ≤ S256x128.size a) ∧
  (∀ k0_t77 : Fin (k0_t77_loop i k0_t68 v119 v122).trips, ∀ (k0_h37 : k0_cond37 k0_t68 = 1#1), ∀ (k0_h42 : k0_cond42 i k0_t68 v119 v122 = 1#1), ∀ a, (k0_off604 i k0_t68 v119 v122 k0_t77) a + S1x16.size a ≤ S256x128.size a) ∧
  (∀ k0_t77 : Fin (k0_t77_loop i k0_t68 v119 v122).trips, ∀ (k0_h37 : k0_cond37 k0_t68 = 1#1), ∀ (k0_h42 : k0_cond42 i k0_t68 v119 v122 = 1#1), ∀ a, (k0_off605 i k0_t68 v119 v122 k0_t77) a + S1x16.size a ≤ S256x128.size a) ∧
  (∀ k0_t77 : Fin (k0_t77_loop i k0_t68 v119 v122).trips, ∀ (k0_h37 : k0_cond37 k0_t68 = 1#1), ∀ (k0_h42 : k0_cond42 i k0_t68 v119 v122 = 1#1), ∀ a, (k0_off606 i k0_t68 v119 v122 k0_t77) a + S1x16.size a ≤ S256x128.size a) ∧
  (∀ k0_t77 : Fin (k0_t77_loop i k0_t68 v119 v122).trips, ∀ (k0_h37 : k0_cond37 k0_t68 = 1#1), ∀ (k0_h42 : k0_cond42 i k0_t68 v119 v122 = 1#1), ∀ a, (k0_off607 i k0_t68 v119 v122 k0_t77) a + S1x16.size a ≤ S256x128.size a) ∧
  (∀ k0_t77 : Fin (k0_t77_loop i k0_t68 v119 v122).trips, ∀ (k0_h37 : k0_cond37 k0_t68 = 1#1), ∀ (k0_h42 : k0_cond42 i k0_t68 v119 v122 = 1#1), ∀ a, (k0_off608 i k0_t68 v119 v122 k0_t77) a + S1x16.size a ≤ S256x128.size a) ∧
  (∀ (k0_h37 : k0_cond37 k0_t68 = 1#1), ∀ (k0_h42 : k0_cond42 i k0_t68 v119 v122 = 1#1), (k0_t78_loop i k0_t68 v119 v122).OK) ∧
  (∀ k0_t78 : Fin (k0_t78_loop i k0_t68 v119 v122).trips, ∀ (k0_h37 : k0_cond37 k0_t68 = 1#1), ∀ (k0_h42 : k0_cond42 i k0_t68 v119 v122 = 1#1), ∀ a, (k0_off609 i k0_t68 v119 v122 k0_t78) a + S1x16.size a ≤ S256x128.size a) ∧
  (∀ k0_t78 : Fin (k0_t78_loop i k0_t68 v119 v122).trips, ∀ (k0_h37 : k0_cond37 k0_t68 = 1#1), ∀ (k0_h42 : k0_cond42 i k0_t68 v119 v122 = 1#1), ∀ a, (k0_off610 i k0_t68 v119 v122 k0_t78) a + S1x16.size a ≤ S256x128.size a) ∧
  (∀ k0_t78 : Fin (k0_t78_loop i k0_t68 v119 v122).trips, ∀ (k0_h37 : k0_cond37 k0_t68 = 1#1), ∀ (k0_h42 : k0_cond42 i k0_t68 v119 v122 = 1#1), ∀ a, (k0_off611 i k0_t68 v119 v122 k0_t78) a + S1x16.size a ≤ S256x128.size a) ∧
  (∀ k0_t78 : Fin (k0_t78_loop i k0_t68 v119 v122).trips, ∀ (k0_h37 : k0_cond37 k0_t68 = 1#1), ∀ (k0_h42 : k0_cond42 i k0_t68 v119 v122 = 1#1), ∀ a, (k0_off612 i k0_t68 v119 v122 k0_t78) a + S1x16.size a ≤ S256x128.size a) ∧
  (∀ k0_t78 : Fin (k0_t78_loop i k0_t68 v119 v122).trips, ∀ (k0_h37 : k0_cond37 k0_t68 = 1#1), ∀ (k0_h42 : k0_cond42 i k0_t68 v119 v122 = 1#1), ∀ a, (k0_off613 i k0_t68 v119 v122 k0_t78) a + S1x16.size a ≤ S256x128.size a) ∧
  (∀ k0_t78 : Fin (k0_t78_loop i k0_t68 v119 v122).trips, ∀ (k0_h37 : k0_cond37 k0_t68 = 1#1), ∀ (k0_h42 : k0_cond42 i k0_t68 v119 v122 = 1#1), ∀ a, (k0_off614 i k0_t68 v119 v122 k0_t78) a + S1x16.size a ≤ S256x128.size a) ∧
  (∀ k0_t78 : Fin (k0_t78_loop i k0_t68 v119 v122).trips, ∀ (k0_h37 : k0_cond37 k0_t68 = 1#1), ∀ (k0_h42 : k0_cond42 i k0_t68 v119 v122 = 1#1), ∀ a, (k0_off615 i k0_t68 v119 v122 k0_t78) a + S1x16.size a ≤ S256x128.size a) ∧
  (∀ k0_t78 : Fin (k0_t78_loop i k0_t68 v119 v122).trips, ∀ (k0_h37 : k0_cond37 k0_t68 = 1#1), ∀ (k0_h42 : k0_cond42 i k0_t68 v119 v122 = 1#1), ∀ a, (k0_off616 i k0_t68 v119 v122 k0_t78) a + S1x16.size a ≤ S256x128.size a)
theorem k0_t77_ok : ∀ (i : grid0.Coords) (k0_t68 : Fin k0_t68_loop.trips) (v119 : BitVec 32) (v122 : BitVec 32) (k0_hw37 : k0_chk37 i k0_t68 v119 v122), ∀ (k0_h37 : k0_cond37 k0_t68 = 1#1), ∀ (k0_h42 : k0_cond42 i k0_t68 v119 v122 = 1#1), (k0_t77_loop i k0_t68 v119 v122).OK := fun i k0_t68 v119 v122 k0_hw37 k0_h37 k0_h42 => k0_hw37.1 k0_h37 k0_h42
theorem k0_off601_inb : ∀ (i : grid0.Coords) (k0_t68 : Fin k0_t68_loop.trips) (v119 : BitVec 32) (v122 : BitVec 32) (k0_hw37 : k0_chk37 i k0_t68 v119 v122) (k0_t77 : Fin (k0_t77_loop i k0_t68 v119 v122).trips), ∀ (k0_h37 : k0_cond37 k0_t68 = 1#1), ∀ (k0_h42 : k0_cond42 i k0_t68 v119 v122 = 1#1), ∀ a, (k0_off601 i k0_t68 v119 v122 k0_t77) a + S1x16.size a ≤ S256x128.size a := fun i k0_t68 v119 v122 k0_hw37 k0_t77 k0_h37 k0_h42 => k0_hw37.2.1 k0_t77 k0_h37 k0_h42
theorem k0_off602_inb : ∀ (i : grid0.Coords) (k0_t68 : Fin k0_t68_loop.trips) (v119 : BitVec 32) (v122 : BitVec 32) (k0_hw37 : k0_chk37 i k0_t68 v119 v122) (k0_t77 : Fin (k0_t77_loop i k0_t68 v119 v122).trips), ∀ (k0_h37 : k0_cond37 k0_t68 = 1#1), ∀ (k0_h42 : k0_cond42 i k0_t68 v119 v122 = 1#1), ∀ a, (k0_off602 i k0_t68 v119 v122 k0_t77) a + S1x16.size a ≤ S256x128.size a := fun i k0_t68 v119 v122 k0_hw37 k0_t77 k0_h37 k0_h42 => k0_hw37.2.2.1 k0_t77 k0_h37 k0_h42
theorem k0_off603_inb : ∀ (i : grid0.Coords) (k0_t68 : Fin k0_t68_loop.trips) (v119 : BitVec 32) (v122 : BitVec 32) (k0_hw37 : k0_chk37 i k0_t68 v119 v122) (k0_t77 : Fin (k0_t77_loop i k0_t68 v119 v122).trips), ∀ (k0_h37 : k0_cond37 k0_t68 = 1#1), ∀ (k0_h42 : k0_cond42 i k0_t68 v119 v122 = 1#1), ∀ a, (k0_off603 i k0_t68 v119 v122 k0_t77) a + S1x16.size a ≤ S256x128.size a := fun i k0_t68 v119 v122 k0_hw37 k0_t77 k0_h37 k0_h42 => k0_hw37.2.2.2.1 k0_t77 k0_h37 k0_h42
theorem k0_off604_inb : ∀ (i : grid0.Coords) (k0_t68 : Fin k0_t68_loop.trips) (v119 : BitVec 32) (v122 : BitVec 32) (k0_hw37 : k0_chk37 i k0_t68 v119 v122) (k0_t77 : Fin (k0_t77_loop i k0_t68 v119 v122).trips), ∀ (k0_h37 : k0_cond37 k0_t68 = 1#1), ∀ (k0_h42 : k0_cond42 i k0_t68 v119 v122 = 1#1), ∀ a, (k0_off604 i k0_t68 v119 v122 k0_t77) a + S1x16.size a ≤ S256x128.size a := fun i k0_t68 v119 v122 k0_hw37 k0_t77 k0_h37 k0_h42 => k0_hw37.2.2.2.2.1 k0_t77 k0_h37 k0_h42
theorem k0_off605_inb : ∀ (i : grid0.Coords) (k0_t68 : Fin k0_t68_loop.trips) (v119 : BitVec 32) (v122 : BitVec 32) (k0_hw37 : k0_chk37 i k0_t68 v119 v122) (k0_t77 : Fin (k0_t77_loop i k0_t68 v119 v122).trips), ∀ (k0_h37 : k0_cond37 k0_t68 = 1#1), ∀ (k0_h42 : k0_cond42 i k0_t68 v119 v122 = 1#1), ∀ a, (k0_off605 i k0_t68 v119 v122 k0_t77) a + S1x16.size a ≤ S256x128.size a := fun i k0_t68 v119 v122 k0_hw37 k0_t77 k0_h37 k0_h42 => k0_hw37.2.2.2.2.2.1 k0_t77 k0_h37 k0_h42
theorem k0_off606_inb : ∀ (i : grid0.Coords) (k0_t68 : Fin k0_t68_loop.trips) (v119 : BitVec 32) (v122 : BitVec 32) (k0_hw37 : k0_chk37 i k0_t68 v119 v122) (k0_t77 : Fin (k0_t77_loop i k0_t68 v119 v122).trips), ∀ (k0_h37 : k0_cond37 k0_t68 = 1#1), ∀ (k0_h42 : k0_cond42 i k0_t68 v119 v122 = 1#1), ∀ a, (k0_off606 i k0_t68 v119 v122 k0_t77) a + S1x16.size a ≤ S256x128.size a := fun i k0_t68 v119 v122 k0_hw37 k0_t77 k0_h37 k0_h42 => k0_hw37.2.2.2.2.2.2.1 k0_t77 k0_h37 k0_h42
theorem k0_off607_inb : ∀ (i : grid0.Coords) (k0_t68 : Fin k0_t68_loop.trips) (v119 : BitVec 32) (v122 : BitVec 32) (k0_hw37 : k0_chk37 i k0_t68 v119 v122) (k0_t77 : Fin (k0_t77_loop i k0_t68 v119 v122).trips), ∀ (k0_h37 : k0_cond37 k0_t68 = 1#1), ∀ (k0_h42 : k0_cond42 i k0_t68 v119 v122 = 1#1), ∀ a, (k0_off607 i k0_t68 v119 v122 k0_t77) a + S1x16.size a ≤ S256x128.size a := fun i k0_t68 v119 v122 k0_hw37 k0_t77 k0_h37 k0_h42 => k0_hw37.2.2.2.2.2.2.2.1 k0_t77 k0_h37 k0_h42
theorem k0_off608_inb : ∀ (i : grid0.Coords) (k0_t68 : Fin k0_t68_loop.trips) (v119 : BitVec 32) (v122 : BitVec 32) (k0_hw37 : k0_chk37 i k0_t68 v119 v122) (k0_t77 : Fin (k0_t77_loop i k0_t68 v119 v122).trips), ∀ (k0_h37 : k0_cond37 k0_t68 = 1#1), ∀ (k0_h42 : k0_cond42 i k0_t68 v119 v122 = 1#1), ∀ a, (k0_off608 i k0_t68 v119 v122 k0_t77) a + S1x16.size a ≤ S256x128.size a := fun i k0_t68 v119 v122 k0_hw37 k0_t77 k0_h37 k0_h42 => k0_hw37.2.2.2.2.2.2.2.2.1 k0_t77 k0_h37 k0_h42
theorem k0_t78_ok : ∀ (i : grid0.Coords) (k0_t68 : Fin k0_t68_loop.trips) (v119 : BitVec 32) (v122 : BitVec 32) (k0_hw37 : k0_chk37 i k0_t68 v119 v122), ∀ (k0_h37 : k0_cond37 k0_t68 = 1#1), ∀ (k0_h42 : k0_cond42 i k0_t68 v119 v122 = 1#1), (k0_t78_loop i k0_t68 v119 v122).OK := fun i k0_t68 v119 v122 k0_hw37 k0_h37 k0_h42 => k0_hw37.2.2.2.2.2.2.2.2.2.1 k0_h37 k0_h42
theorem k0_off609_inb : ∀ (i : grid0.Coords) (k0_t68 : Fin k0_t68_loop.trips) (v119 : BitVec 32) (v122 : BitVec 32) (k0_hw37 : k0_chk37 i k0_t68 v119 v122) (k0_t78 : Fin (k0_t78_loop i k0_t68 v119 v122).trips), ∀ (k0_h37 : k0_cond37 k0_t68 = 1#1), ∀ (k0_h42 : k0_cond42 i k0_t68 v119 v122 = 1#1), ∀ a, (k0_off609 i k0_t68 v119 v122 k0_t78) a + S1x16.size a ≤ S256x128.size a := fun i k0_t68 v119 v122 k0_hw37 k0_t78 k0_h37 k0_h42 => k0_hw37.2.2.2.2.2.2.2.2.2.2.1 k0_t78 k0_h37 k0_h42
theorem k0_off610_inb : ∀ (i : grid0.Coords) (k0_t68 : Fin k0_t68_loop.trips) (v119 : BitVec 32) (v122 : BitVec 32) (k0_hw37 : k0_chk37 i k0_t68 v119 v122) (k0_t78 : Fin (k0_t78_loop i k0_t68 v119 v122).trips), ∀ (k0_h37 : k0_cond37 k0_t68 = 1#1), ∀ (k0_h42 : k0_cond42 i k0_t68 v119 v122 = 1#1), ∀ a, (k0_off610 i k0_t68 v119 v122 k0_t78) a + S1x16.size a ≤ S256x128.size a := fun i k0_t68 v119 v122 k0_hw37 k0_t78 k0_h37 k0_h42 => k0_hw37.2.2.2.2.2.2.2.2.2.2.2.1 k0_t78 k0_h37 k0_h42
theorem k0_off611_inb : ∀ (i : grid0.Coords) (k0_t68 : Fin k0_t68_loop.trips) (v119 : BitVec 32) (v122 : BitVec 32) (k0_hw37 : k0_chk37 i k0_t68 v119 v122) (k0_t78 : Fin (k0_t78_loop i k0_t68 v119 v122).trips), ∀ (k0_h37 : k0_cond37 k0_t68 = 1#1), ∀ (k0_h42 : k0_cond42 i k0_t68 v119 v122 = 1#1), ∀ a, (k0_off611 i k0_t68 v119 v122 k0_t78) a + S1x16.size a ≤ S256x128.size a := fun i k0_t68 v119 v122 k0_hw37 k0_t78 k0_h37 k0_h42 => k0_hw37.2.2.2.2.2.2.2.2.2.2.2.2.1 k0_t78 k0_h37 k0_h42
theorem k0_off612_inb : ∀ (i : grid0.Coords) (k0_t68 : Fin k0_t68_loop.trips) (v119 : BitVec 32) (v122 : BitVec 32) (k0_hw37 : k0_chk37 i k0_t68 v119 v122) (k0_t78 : Fin (k0_t78_loop i k0_t68 v119 v122).trips), ∀ (k0_h37 : k0_cond37 k0_t68 = 1#1), ∀ (k0_h42 : k0_cond42 i k0_t68 v119 v122 = 1#1), ∀ a, (k0_off612 i k0_t68 v119 v122 k0_t78) a + S1x16.size a ≤ S256x128.size a := fun i k0_t68 v119 v122 k0_hw37 k0_t78 k0_h37 k0_h42 => k0_hw37.2.2.2.2.2.2.2.2.2.2.2.2.2.1 k0_t78 k0_h37 k0_h42
theorem k0_off613_inb : ∀ (i : grid0.Coords) (k0_t68 : Fin k0_t68_loop.trips) (v119 : BitVec 32) (v122 : BitVec 32) (k0_hw37 : k0_chk37 i k0_t68 v119 v122) (k0_t78 : Fin (k0_t78_loop i k0_t68 v119 v122).trips), ∀ (k0_h37 : k0_cond37 k0_t68 = 1#1), ∀ (k0_h42 : k0_cond42 i k0_t68 v119 v122 = 1#1), ∀ a, (k0_off613 i k0_t68 v119 v122 k0_t78) a + S1x16.size a ≤ S256x128.size a := fun i k0_t68 v119 v122 k0_hw37 k0_t78 k0_h37 k0_h42 => k0_hw37.2.2.2.2.2.2.2.2.2.2.2.2.2.2.1 k0_t78 k0_h37 k0_h42
theorem k0_off614_inb : ∀ (i : grid0.Coords) (k0_t68 : Fin k0_t68_loop.trips) (v119 : BitVec 32) (v122 : BitVec 32) (k0_hw37 : k0_chk37 i k0_t68 v119 v122) (k0_t78 : Fin (k0_t78_loop i k0_t68 v119 v122).trips), ∀ (k0_h37 : k0_cond37 k0_t68 = 1#1), ∀ (k0_h42 : k0_cond42 i k0_t68 v119 v122 = 1#1), ∀ a, (k0_off614 i k0_t68 v119 v122 k0_t78) a + S1x16.size a ≤ S256x128.size a := fun i k0_t68 v119 v122 k0_hw37 k0_t78 k0_h37 k0_h42 => k0_hw37.2.2.2.2.2.2.2.2.2.2.2.2.2.2.2.1 k0_t78 k0_h37 k0_h42
theorem k0_off615_inb : ∀ (i : grid0.Coords) (k0_t68 : Fin k0_t68_loop.trips) (v119 : BitVec 32) (v122 : BitVec 32) (k0_hw37 : k0_chk37 i k0_t68 v119 v122) (k0_t78 : Fin (k0_t78_loop i k0_t68 v119 v122).trips), ∀ (k0_h37 : k0_cond37 k0_t68 = 1#1), ∀ (k0_h42 : k0_cond42 i k0_t68 v119 v122 = 1#1), ∀ a, (k0_off615 i k0_t68 v119 v122 k0_t78) a + S1x16.size a ≤ S256x128.size a := fun i k0_t68 v119 v122 k0_hw37 k0_t78 k0_h37 k0_h42 => k0_hw37.2.2.2.2.2.2.2.2.2.2.2.2.2.2.2.2.1 k0_t78 k0_h37 k0_h42
theorem k0_off616_inb : ∀ (i : grid0.Coords) (k0_t68 : Fin k0_t68_loop.trips) (v119 : BitVec 32) (v122 : BitVec 32) (k0_hw37 : k0_chk37 i k0_t68 v119 v122) (k0_t78 : Fin (k0_t78_loop i k0_t68 v119 v122).trips), ∀ (k0_h37 : k0_cond37 k0_t68 = 1#1), ∀ (k0_h42 : k0_cond42 i k0_t68 v119 v122 = 1#1), ∀ a, (k0_off616 i k0_t68 v119 v122 k0_t78) a + S1x16.size a ≤ S256x128.size a := fun i k0_t68 v119 v122 k0_hw37 k0_t78 k0_h37 k0_h42 => k0_hw37.2.2.2.2.2.2.2.2.2.2.2.2.2.2.2.2.2 k0_t78 k0_h37 k0_h42

@[reducible] def k0_t79_loop (i : grid0.Coords) (k0_t68 : Fin k0_t68_loop.trips) (v128 : BitVec 32) (v131 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v129 : BitVec 32 := Scalar.maxsi v128 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_85 : BitVec 32 := 1#32
  ⟨v129, v234, c1_i32_85⟩
def k0_cond43 (i : grid0.Coords) (k0_t68 : Fin k0_t68_loop.trips) (v128 : BitVec 32) (v131 : BitVec 32) : BitVec 1 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v132 : BitVec 32 := Scalar.minsi v131 v77
  let v129 : BitVec 32 := Scalar.maxsi v128 v75
  let v133 : BitVec 1 := Scalar.cmpi .sgt v132 v129
  let v134 : BitVec 32 := Scalar.extui v133
  let c0_i32_70 : BitVec 32 := 0#32
  let v135 : BitVec 1 := Scalar.cmpi .ne v134 c0_i32_70
  v135

def k0_off617 (i : grid0.Coords) (k0_t68 : Fin k0_t68_loop.trips) (v128 : BitVec 32) (v131 : BitVec 32) (k0_t79 : Fin (k0_t79_loop i k0_t68 v128 v131).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v129 : BitVec 32 := Scalar.maxsi v128 v75
  let c1_i32_85 : BitVec 32 := 1#32
  let arg19 : BitVec 32 := Scf.iv v129 c1_i32_85 k0_t79
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off618 (i : grid0.Coords) (k0_t68 : Fin k0_t68_loop.trips) (v128 : BitVec 32) (v131 : BitVec 32) (k0_t79 : Fin (k0_t79_loop i k0_t68 v128 v131).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v129 : BitVec 32 := Scalar.maxsi v128 v75
  let c1_i32_85 : BitVec 32 := 1#32
  let arg19 : BitVec 32 := Scf.iv v129 c1_i32_85 k0_t79
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off619 (i : grid0.Coords) (k0_t68 : Fin k0_t68_loop.trips) (v128 : BitVec 32) (v131 : BitVec 32) (k0_t79 : Fin (k0_t79_loop i k0_t68 v128 v131).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v129 : BitVec 32 := Scalar.maxsi v128 v75
  let c1_i32_85 : BitVec 32 := 1#32
  let arg19 : BitVec 32 := Scf.iv v129 c1_i32_85 k0_t79
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off620 (i : grid0.Coords) (k0_t68 : Fin k0_t68_loop.trips) (v128 : BitVec 32) (v131 : BitVec 32) (k0_t79 : Fin (k0_t79_loop i k0_t68 v128 v131).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v129 : BitVec 32 := Scalar.maxsi v128 v75
  let c1_i32_85 : BitVec 32 := 1#32
  let arg19 : BitVec 32 := Scf.iv v129 c1_i32_85 k0_t79
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off621 (i : grid0.Coords) (k0_t68 : Fin k0_t68_loop.trips) (v128 : BitVec 32) (v131 : BitVec 32) (k0_t79 : Fin (k0_t79_loop i k0_t68 v128 v131).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v129 : BitVec 32 := Scalar.maxsi v128 v75
  let c1_i32_85 : BitVec 32 := 1#32
  let arg19 : BitVec 32 := Scf.iv v129 c1_i32_85 k0_t79
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off622 (i : grid0.Coords) (k0_t68 : Fin k0_t68_loop.trips) (v128 : BitVec 32) (v131 : BitVec 32) (k0_t79 : Fin (k0_t79_loop i k0_t68 v128 v131).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v129 : BitVec 32 := Scalar.maxsi v128 v75
  let c1_i32_85 : BitVec 32 := 1#32
  let arg19 : BitVec 32 := Scf.iv v129 c1_i32_85 k0_t79
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off623 (i : grid0.Coords) (k0_t68 : Fin k0_t68_loop.trips) (v128 : BitVec 32) (v131 : BitVec 32) (k0_t79 : Fin (k0_t79_loop i k0_t68 v128 v131).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v129 : BitVec 32 := Scalar.maxsi v128 v75
  let c1_i32_85 : BitVec 32 := 1#32
  let arg19 : BitVec 32 := Scf.iv v129 c1_i32_85 k0_t79
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off624 (i : grid0.Coords) (k0_t68 : Fin k0_t68_loop.trips) (v128 : BitVec 32) (v131 : BitVec 32) (k0_t79 : Fin (k0_t79_loop i k0_t68 v128 v131).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v129 : BitVec 32 := Scalar.maxsi v128 v75
  let c1_i32_85 : BitVec 32 := 1#32
  let arg19 : BitVec 32 := Scf.iv v129 c1_i32_85 k0_t79
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]
@[reducible] def k0_t80_loop (i : grid0.Coords) (k0_t68 : Fin k0_t68_loop.trips) (v128 : BitVec 32) (v131 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v129 : BitVec 32 := Scalar.maxsi v128 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let v231 : BitVec 32 := Scalar.addi v129 v230
  let c1_i32_86 : BitVec 32 := 1#32
  ⟨v234, v231, c1_i32_86⟩
def k0_off625 (i : grid0.Coords) (k0_t68 : Fin k0_t68_loop.trips) (v128 : BitVec 32) (v131 : BitVec 32) (k0_t80 : Fin (k0_t80_loop i k0_t68 v128 v131).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v129 : BitVec 32 := Scalar.maxsi v128 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_86 : BitVec 32 := 1#32
  let arg19 : BitVec 32 := Scf.iv v234 c1_i32_86 k0_t80
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off626 (i : grid0.Coords) (k0_t68 : Fin k0_t68_loop.trips) (v128 : BitVec 32) (v131 : BitVec 32) (k0_t80 : Fin (k0_t80_loop i k0_t68 v128 v131).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v129 : BitVec 32 := Scalar.maxsi v128 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_86 : BitVec 32 := 1#32
  let arg19 : BitVec 32 := Scf.iv v234 c1_i32_86 k0_t80
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off627 (i : grid0.Coords) (k0_t68 : Fin k0_t68_loop.trips) (v128 : BitVec 32) (v131 : BitVec 32) (k0_t80 : Fin (k0_t80_loop i k0_t68 v128 v131).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v129 : BitVec 32 := Scalar.maxsi v128 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_86 : BitVec 32 := 1#32
  let arg19 : BitVec 32 := Scf.iv v234 c1_i32_86 k0_t80
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off628 (i : grid0.Coords) (k0_t68 : Fin k0_t68_loop.trips) (v128 : BitVec 32) (v131 : BitVec 32) (k0_t80 : Fin (k0_t80_loop i k0_t68 v128 v131).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v129 : BitVec 32 := Scalar.maxsi v128 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_86 : BitVec 32 := 1#32
  let arg19 : BitVec 32 := Scf.iv v234 c1_i32_86 k0_t80
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off629 (i : grid0.Coords) (k0_t68 : Fin k0_t68_loop.trips) (v128 : BitVec 32) (v131 : BitVec 32) (k0_t80 : Fin (k0_t80_loop i k0_t68 v128 v131).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v129 : BitVec 32 := Scalar.maxsi v128 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_86 : BitVec 32 := 1#32
  let arg19 : BitVec 32 := Scf.iv v234 c1_i32_86 k0_t80
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off630 (i : grid0.Coords) (k0_t68 : Fin k0_t68_loop.trips) (v128 : BitVec 32) (v131 : BitVec 32) (k0_t80 : Fin (k0_t80_loop i k0_t68 v128 v131).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v129 : BitVec 32 := Scalar.maxsi v128 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_86 : BitVec 32 := 1#32
  let arg19 : BitVec 32 := Scf.iv v234 c1_i32_86 k0_t80
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off631 (i : grid0.Coords) (k0_t68 : Fin k0_t68_loop.trips) (v128 : BitVec 32) (v131 : BitVec 32) (k0_t80 : Fin (k0_t80_loop i k0_t68 v128 v131).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v129 : BitVec 32 := Scalar.maxsi v128 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_86 : BitVec 32 := 1#32
  let arg19 : BitVec 32 := Scf.iv v234 c1_i32_86 k0_t80
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off632 (i : grid0.Coords) (k0_t68 : Fin k0_t68_loop.trips) (v128 : BitVec 32) (v131 : BitVec 32) (k0_t80 : Fin (k0_t80_loop i k0_t68 v128 v131).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v129 : BitVec 32 := Scalar.maxsi v128 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_86 : BitVec 32 := 1#32
  let arg19 : BitVec 32 := Scf.iv v234 c1_i32_86 k0_t80
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]

def k0_chk38 (i : grid0.Coords) (k0_t68 : Fin k0_t68_loop.trips) (v128 : BitVec 32) (v131 : BitVec 32) : Prop :=
  (∀ (k0_h37 : k0_cond37 k0_t68 = 1#1), ∀ (k0_h43 : k0_cond43 i k0_t68 v128 v131 = 1#1), (k0_t79_loop i k0_t68 v128 v131).OK) ∧
  (∀ k0_t79 : Fin (k0_t79_loop i k0_t68 v128 v131).trips, ∀ (k0_h37 : k0_cond37 k0_t68 = 1#1), ∀ (k0_h43 : k0_cond43 i k0_t68 v128 v131 = 1#1), ∀ a, (k0_off617 i k0_t68 v128 v131 k0_t79) a + S1x16.size a ≤ S256x128.size a) ∧
  (∀ k0_t79 : Fin (k0_t79_loop i k0_t68 v128 v131).trips, ∀ (k0_h37 : k0_cond37 k0_t68 = 1#1), ∀ (k0_h43 : k0_cond43 i k0_t68 v128 v131 = 1#1), ∀ a, (k0_off618 i k0_t68 v128 v131 k0_t79) a + S1x16.size a ≤ S256x128.size a) ∧
  (∀ k0_t79 : Fin (k0_t79_loop i k0_t68 v128 v131).trips, ∀ (k0_h37 : k0_cond37 k0_t68 = 1#1), ∀ (k0_h43 : k0_cond43 i k0_t68 v128 v131 = 1#1), ∀ a, (k0_off619 i k0_t68 v128 v131 k0_t79) a + S1x16.size a ≤ S256x128.size a) ∧
  (∀ k0_t79 : Fin (k0_t79_loop i k0_t68 v128 v131).trips, ∀ (k0_h37 : k0_cond37 k0_t68 = 1#1), ∀ (k0_h43 : k0_cond43 i k0_t68 v128 v131 = 1#1), ∀ a, (k0_off620 i k0_t68 v128 v131 k0_t79) a + S1x16.size a ≤ S256x128.size a) ∧
  (∀ k0_t79 : Fin (k0_t79_loop i k0_t68 v128 v131).trips, ∀ (k0_h37 : k0_cond37 k0_t68 = 1#1), ∀ (k0_h43 : k0_cond43 i k0_t68 v128 v131 = 1#1), ∀ a, (k0_off621 i k0_t68 v128 v131 k0_t79) a + S1x16.size a ≤ S256x128.size a) ∧
  (∀ k0_t79 : Fin (k0_t79_loop i k0_t68 v128 v131).trips, ∀ (k0_h37 : k0_cond37 k0_t68 = 1#1), ∀ (k0_h43 : k0_cond43 i k0_t68 v128 v131 = 1#1), ∀ a, (k0_off622 i k0_t68 v128 v131 k0_t79) a + S1x16.size a ≤ S256x128.size a) ∧
  (∀ k0_t79 : Fin (k0_t79_loop i k0_t68 v128 v131).trips, ∀ (k0_h37 : k0_cond37 k0_t68 = 1#1), ∀ (k0_h43 : k0_cond43 i k0_t68 v128 v131 = 1#1), ∀ a, (k0_off623 i k0_t68 v128 v131 k0_t79) a + S1x16.size a ≤ S256x128.size a) ∧
  (∀ k0_t79 : Fin (k0_t79_loop i k0_t68 v128 v131).trips, ∀ (k0_h37 : k0_cond37 k0_t68 = 1#1), ∀ (k0_h43 : k0_cond43 i k0_t68 v128 v131 = 1#1), ∀ a, (k0_off624 i k0_t68 v128 v131 k0_t79) a + S1x16.size a ≤ S256x128.size a) ∧
  (∀ (k0_h37 : k0_cond37 k0_t68 = 1#1), ∀ (k0_h43 : k0_cond43 i k0_t68 v128 v131 = 1#1), (k0_t80_loop i k0_t68 v128 v131).OK) ∧
  (∀ k0_t80 : Fin (k0_t80_loop i k0_t68 v128 v131).trips, ∀ (k0_h37 : k0_cond37 k0_t68 = 1#1), ∀ (k0_h43 : k0_cond43 i k0_t68 v128 v131 = 1#1), ∀ a, (k0_off625 i k0_t68 v128 v131 k0_t80) a + S1x16.size a ≤ S256x128.size a) ∧
  (∀ k0_t80 : Fin (k0_t80_loop i k0_t68 v128 v131).trips, ∀ (k0_h37 : k0_cond37 k0_t68 = 1#1), ∀ (k0_h43 : k0_cond43 i k0_t68 v128 v131 = 1#1), ∀ a, (k0_off626 i k0_t68 v128 v131 k0_t80) a + S1x16.size a ≤ S256x128.size a) ∧
  (∀ k0_t80 : Fin (k0_t80_loop i k0_t68 v128 v131).trips, ∀ (k0_h37 : k0_cond37 k0_t68 = 1#1), ∀ (k0_h43 : k0_cond43 i k0_t68 v128 v131 = 1#1), ∀ a, (k0_off627 i k0_t68 v128 v131 k0_t80) a + S1x16.size a ≤ S256x128.size a) ∧
  (∀ k0_t80 : Fin (k0_t80_loop i k0_t68 v128 v131).trips, ∀ (k0_h37 : k0_cond37 k0_t68 = 1#1), ∀ (k0_h43 : k0_cond43 i k0_t68 v128 v131 = 1#1), ∀ a, (k0_off628 i k0_t68 v128 v131 k0_t80) a + S1x16.size a ≤ S256x128.size a) ∧
  (∀ k0_t80 : Fin (k0_t80_loop i k0_t68 v128 v131).trips, ∀ (k0_h37 : k0_cond37 k0_t68 = 1#1), ∀ (k0_h43 : k0_cond43 i k0_t68 v128 v131 = 1#1), ∀ a, (k0_off629 i k0_t68 v128 v131 k0_t80) a + S1x16.size a ≤ S256x128.size a) ∧
  (∀ k0_t80 : Fin (k0_t80_loop i k0_t68 v128 v131).trips, ∀ (k0_h37 : k0_cond37 k0_t68 = 1#1), ∀ (k0_h43 : k0_cond43 i k0_t68 v128 v131 = 1#1), ∀ a, (k0_off630 i k0_t68 v128 v131 k0_t80) a + S1x16.size a ≤ S256x128.size a) ∧
  (∀ k0_t80 : Fin (k0_t80_loop i k0_t68 v128 v131).trips, ∀ (k0_h37 : k0_cond37 k0_t68 = 1#1), ∀ (k0_h43 : k0_cond43 i k0_t68 v128 v131 = 1#1), ∀ a, (k0_off631 i k0_t68 v128 v131 k0_t80) a + S1x16.size a ≤ S256x128.size a) ∧
  (∀ k0_t80 : Fin (k0_t80_loop i k0_t68 v128 v131).trips, ∀ (k0_h37 : k0_cond37 k0_t68 = 1#1), ∀ (k0_h43 : k0_cond43 i k0_t68 v128 v131 = 1#1), ∀ a, (k0_off632 i k0_t68 v128 v131 k0_t80) a + S1x16.size a ≤ S256x128.size a)
theorem k0_t79_ok : ∀ (i : grid0.Coords) (k0_t68 : Fin k0_t68_loop.trips) (v128 : BitVec 32) (v131 : BitVec 32) (k0_hw38 : k0_chk38 i k0_t68 v128 v131), ∀ (k0_h37 : k0_cond37 k0_t68 = 1#1), ∀ (k0_h43 : k0_cond43 i k0_t68 v128 v131 = 1#1), (k0_t79_loop i k0_t68 v128 v131).OK := fun i k0_t68 v128 v131 k0_hw38 k0_h37 k0_h43 => k0_hw38.1 k0_h37 k0_h43
theorem k0_off617_inb : ∀ (i : grid0.Coords) (k0_t68 : Fin k0_t68_loop.trips) (v128 : BitVec 32) (v131 : BitVec 32) (k0_hw38 : k0_chk38 i k0_t68 v128 v131) (k0_t79 : Fin (k0_t79_loop i k0_t68 v128 v131).trips), ∀ (k0_h37 : k0_cond37 k0_t68 = 1#1), ∀ (k0_h43 : k0_cond43 i k0_t68 v128 v131 = 1#1), ∀ a, (k0_off617 i k0_t68 v128 v131 k0_t79) a + S1x16.size a ≤ S256x128.size a := fun i k0_t68 v128 v131 k0_hw38 k0_t79 k0_h37 k0_h43 => k0_hw38.2.1 k0_t79 k0_h37 k0_h43
theorem k0_off618_inb : ∀ (i : grid0.Coords) (k0_t68 : Fin k0_t68_loop.trips) (v128 : BitVec 32) (v131 : BitVec 32) (k0_hw38 : k0_chk38 i k0_t68 v128 v131) (k0_t79 : Fin (k0_t79_loop i k0_t68 v128 v131).trips), ∀ (k0_h37 : k0_cond37 k0_t68 = 1#1), ∀ (k0_h43 : k0_cond43 i k0_t68 v128 v131 = 1#1), ∀ a, (k0_off618 i k0_t68 v128 v131 k0_t79) a + S1x16.size a ≤ S256x128.size a := fun i k0_t68 v128 v131 k0_hw38 k0_t79 k0_h37 k0_h43 => k0_hw38.2.2.1 k0_t79 k0_h37 k0_h43
theorem k0_off619_inb : ∀ (i : grid0.Coords) (k0_t68 : Fin k0_t68_loop.trips) (v128 : BitVec 32) (v131 : BitVec 32) (k0_hw38 : k0_chk38 i k0_t68 v128 v131) (k0_t79 : Fin (k0_t79_loop i k0_t68 v128 v131).trips), ∀ (k0_h37 : k0_cond37 k0_t68 = 1#1), ∀ (k0_h43 : k0_cond43 i k0_t68 v128 v131 = 1#1), ∀ a, (k0_off619 i k0_t68 v128 v131 k0_t79) a + S1x16.size a ≤ S256x128.size a := fun i k0_t68 v128 v131 k0_hw38 k0_t79 k0_h37 k0_h43 => k0_hw38.2.2.2.1 k0_t79 k0_h37 k0_h43
theorem k0_off620_inb : ∀ (i : grid0.Coords) (k0_t68 : Fin k0_t68_loop.trips) (v128 : BitVec 32) (v131 : BitVec 32) (k0_hw38 : k0_chk38 i k0_t68 v128 v131) (k0_t79 : Fin (k0_t79_loop i k0_t68 v128 v131).trips), ∀ (k0_h37 : k0_cond37 k0_t68 = 1#1), ∀ (k0_h43 : k0_cond43 i k0_t68 v128 v131 = 1#1), ∀ a, (k0_off620 i k0_t68 v128 v131 k0_t79) a + S1x16.size a ≤ S256x128.size a := fun i k0_t68 v128 v131 k0_hw38 k0_t79 k0_h37 k0_h43 => k0_hw38.2.2.2.2.1 k0_t79 k0_h37 k0_h43
theorem k0_off621_inb : ∀ (i : grid0.Coords) (k0_t68 : Fin k0_t68_loop.trips) (v128 : BitVec 32) (v131 : BitVec 32) (k0_hw38 : k0_chk38 i k0_t68 v128 v131) (k0_t79 : Fin (k0_t79_loop i k0_t68 v128 v131).trips), ∀ (k0_h37 : k0_cond37 k0_t68 = 1#1), ∀ (k0_h43 : k0_cond43 i k0_t68 v128 v131 = 1#1), ∀ a, (k0_off621 i k0_t68 v128 v131 k0_t79) a + S1x16.size a ≤ S256x128.size a := fun i k0_t68 v128 v131 k0_hw38 k0_t79 k0_h37 k0_h43 => k0_hw38.2.2.2.2.2.1 k0_t79 k0_h37 k0_h43
theorem k0_off622_inb : ∀ (i : grid0.Coords) (k0_t68 : Fin k0_t68_loop.trips) (v128 : BitVec 32) (v131 : BitVec 32) (k0_hw38 : k0_chk38 i k0_t68 v128 v131) (k0_t79 : Fin (k0_t79_loop i k0_t68 v128 v131).trips), ∀ (k0_h37 : k0_cond37 k0_t68 = 1#1), ∀ (k0_h43 : k0_cond43 i k0_t68 v128 v131 = 1#1), ∀ a, (k0_off622 i k0_t68 v128 v131 k0_t79) a + S1x16.size a ≤ S256x128.size a := fun i k0_t68 v128 v131 k0_hw38 k0_t79 k0_h37 k0_h43 => k0_hw38.2.2.2.2.2.2.1 k0_t79 k0_h37 k0_h43
theorem k0_off623_inb : ∀ (i : grid0.Coords) (k0_t68 : Fin k0_t68_loop.trips) (v128 : BitVec 32) (v131 : BitVec 32) (k0_hw38 : k0_chk38 i k0_t68 v128 v131) (k0_t79 : Fin (k0_t79_loop i k0_t68 v128 v131).trips), ∀ (k0_h37 : k0_cond37 k0_t68 = 1#1), ∀ (k0_h43 : k0_cond43 i k0_t68 v128 v131 = 1#1), ∀ a, (k0_off623 i k0_t68 v128 v131 k0_t79) a + S1x16.size a ≤ S256x128.size a := fun i k0_t68 v128 v131 k0_hw38 k0_t79 k0_h37 k0_h43 => k0_hw38.2.2.2.2.2.2.2.1 k0_t79 k0_h37 k0_h43
theorem k0_off624_inb : ∀ (i : grid0.Coords) (k0_t68 : Fin k0_t68_loop.trips) (v128 : BitVec 32) (v131 : BitVec 32) (k0_hw38 : k0_chk38 i k0_t68 v128 v131) (k0_t79 : Fin (k0_t79_loop i k0_t68 v128 v131).trips), ∀ (k0_h37 : k0_cond37 k0_t68 = 1#1), ∀ (k0_h43 : k0_cond43 i k0_t68 v128 v131 = 1#1), ∀ a, (k0_off624 i k0_t68 v128 v131 k0_t79) a + S1x16.size a ≤ S256x128.size a := fun i k0_t68 v128 v131 k0_hw38 k0_t79 k0_h37 k0_h43 => k0_hw38.2.2.2.2.2.2.2.2.1 k0_t79 k0_h37 k0_h43
theorem k0_t80_ok : ∀ (i : grid0.Coords) (k0_t68 : Fin k0_t68_loop.trips) (v128 : BitVec 32) (v131 : BitVec 32) (k0_hw38 : k0_chk38 i k0_t68 v128 v131), ∀ (k0_h37 : k0_cond37 k0_t68 = 1#1), ∀ (k0_h43 : k0_cond43 i k0_t68 v128 v131 = 1#1), (k0_t80_loop i k0_t68 v128 v131).OK := fun i k0_t68 v128 v131 k0_hw38 k0_h37 k0_h43 => k0_hw38.2.2.2.2.2.2.2.2.2.1 k0_h37 k0_h43
theorem k0_off625_inb : ∀ (i : grid0.Coords) (k0_t68 : Fin k0_t68_loop.trips) (v128 : BitVec 32) (v131 : BitVec 32) (k0_hw38 : k0_chk38 i k0_t68 v128 v131) (k0_t80 : Fin (k0_t80_loop i k0_t68 v128 v131).trips), ∀ (k0_h37 : k0_cond37 k0_t68 = 1#1), ∀ (k0_h43 : k0_cond43 i k0_t68 v128 v131 = 1#1), ∀ a, (k0_off625 i k0_t68 v128 v131 k0_t80) a + S1x16.size a ≤ S256x128.size a := fun i k0_t68 v128 v131 k0_hw38 k0_t80 k0_h37 k0_h43 => k0_hw38.2.2.2.2.2.2.2.2.2.2.1 k0_t80 k0_h37 k0_h43
theorem k0_off626_inb : ∀ (i : grid0.Coords) (k0_t68 : Fin k0_t68_loop.trips) (v128 : BitVec 32) (v131 : BitVec 32) (k0_hw38 : k0_chk38 i k0_t68 v128 v131) (k0_t80 : Fin (k0_t80_loop i k0_t68 v128 v131).trips), ∀ (k0_h37 : k0_cond37 k0_t68 = 1#1), ∀ (k0_h43 : k0_cond43 i k0_t68 v128 v131 = 1#1), ∀ a, (k0_off626 i k0_t68 v128 v131 k0_t80) a + S1x16.size a ≤ S256x128.size a := fun i k0_t68 v128 v131 k0_hw38 k0_t80 k0_h37 k0_h43 => k0_hw38.2.2.2.2.2.2.2.2.2.2.2.1 k0_t80 k0_h37 k0_h43
theorem k0_off627_inb : ∀ (i : grid0.Coords) (k0_t68 : Fin k0_t68_loop.trips) (v128 : BitVec 32) (v131 : BitVec 32) (k0_hw38 : k0_chk38 i k0_t68 v128 v131) (k0_t80 : Fin (k0_t80_loop i k0_t68 v128 v131).trips), ∀ (k0_h37 : k0_cond37 k0_t68 = 1#1), ∀ (k0_h43 : k0_cond43 i k0_t68 v128 v131 = 1#1), ∀ a, (k0_off627 i k0_t68 v128 v131 k0_t80) a + S1x16.size a ≤ S256x128.size a := fun i k0_t68 v128 v131 k0_hw38 k0_t80 k0_h37 k0_h43 => k0_hw38.2.2.2.2.2.2.2.2.2.2.2.2.1 k0_t80 k0_h37 k0_h43
theorem k0_off628_inb : ∀ (i : grid0.Coords) (k0_t68 : Fin k0_t68_loop.trips) (v128 : BitVec 32) (v131 : BitVec 32) (k0_hw38 : k0_chk38 i k0_t68 v128 v131) (k0_t80 : Fin (k0_t80_loop i k0_t68 v128 v131).trips), ∀ (k0_h37 : k0_cond37 k0_t68 = 1#1), ∀ (k0_h43 : k0_cond43 i k0_t68 v128 v131 = 1#1), ∀ a, (k0_off628 i k0_t68 v128 v131 k0_t80) a + S1x16.size a ≤ S256x128.size a := fun i k0_t68 v128 v131 k0_hw38 k0_t80 k0_h37 k0_h43 => k0_hw38.2.2.2.2.2.2.2.2.2.2.2.2.2.1 k0_t80 k0_h37 k0_h43
theorem k0_off629_inb : ∀ (i : grid0.Coords) (k0_t68 : Fin k0_t68_loop.trips) (v128 : BitVec 32) (v131 : BitVec 32) (k0_hw38 : k0_chk38 i k0_t68 v128 v131) (k0_t80 : Fin (k0_t80_loop i k0_t68 v128 v131).trips), ∀ (k0_h37 : k0_cond37 k0_t68 = 1#1), ∀ (k0_h43 : k0_cond43 i k0_t68 v128 v131 = 1#1), ∀ a, (k0_off629 i k0_t68 v128 v131 k0_t80) a + S1x16.size a ≤ S256x128.size a := fun i k0_t68 v128 v131 k0_hw38 k0_t80 k0_h37 k0_h43 => k0_hw38.2.2.2.2.2.2.2.2.2.2.2.2.2.2.1 k0_t80 k0_h37 k0_h43
theorem k0_off630_inb : ∀ (i : grid0.Coords) (k0_t68 : Fin k0_t68_loop.trips) (v128 : BitVec 32) (v131 : BitVec 32) (k0_hw38 : k0_chk38 i k0_t68 v128 v131) (k0_t80 : Fin (k0_t80_loop i k0_t68 v128 v131).trips), ∀ (k0_h37 : k0_cond37 k0_t68 = 1#1), ∀ (k0_h43 : k0_cond43 i k0_t68 v128 v131 = 1#1), ∀ a, (k0_off630 i k0_t68 v128 v131 k0_t80) a + S1x16.size a ≤ S256x128.size a := fun i k0_t68 v128 v131 k0_hw38 k0_t80 k0_h37 k0_h43 => k0_hw38.2.2.2.2.2.2.2.2.2.2.2.2.2.2.2.1 k0_t80 k0_h37 k0_h43
theorem k0_off631_inb : ∀ (i : grid0.Coords) (k0_t68 : Fin k0_t68_loop.trips) (v128 : BitVec 32) (v131 : BitVec 32) (k0_hw38 : k0_chk38 i k0_t68 v128 v131) (k0_t80 : Fin (k0_t80_loop i k0_t68 v128 v131).trips), ∀ (k0_h37 : k0_cond37 k0_t68 = 1#1), ∀ (k0_h43 : k0_cond43 i k0_t68 v128 v131 = 1#1), ∀ a, (k0_off631 i k0_t68 v128 v131 k0_t80) a + S1x16.size a ≤ S256x128.size a := fun i k0_t68 v128 v131 k0_hw38 k0_t80 k0_h37 k0_h43 => k0_hw38.2.2.2.2.2.2.2.2.2.2.2.2.2.2.2.2.1 k0_t80 k0_h37 k0_h43
theorem k0_off632_inb : ∀ (i : grid0.Coords) (k0_t68 : Fin k0_t68_loop.trips) (v128 : BitVec 32) (v131 : BitVec 32) (k0_hw38 : k0_chk38 i k0_t68 v128 v131) (k0_t80 : Fin (k0_t80_loop i k0_t68 v128 v131).trips), ∀ (k0_h37 : k0_cond37 k0_t68 = 1#1), ∀ (k0_h43 : k0_cond43 i k0_t68 v128 v131 = 1#1), ∀ a, (k0_off632 i k0_t68 v128 v131 k0_t80) a + S1x16.size a ≤ S256x128.size a := fun i k0_t68 v128 v131 k0_hw38 k0_t80 k0_h37 k0_h43 => k0_hw38.2.2.2.2.2.2.2.2.2.2.2.2.2.2.2.2.2 k0_t80 k0_h37 k0_h43

@[reducible] def k0_t81_loop (i : grid0.Coords) (k0_t68 : Fin k0_t68_loop.trips) (v137 : BitVec 32) (v140 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v138 : BitVec 32 := Scalar.maxsi v137 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_85 : BitVec 32 := 1#32
  ⟨v138, v234, c1_i32_85⟩
def k0_cond44 (i : grid0.Coords) (k0_t68 : Fin k0_t68_loop.trips) (v137 : BitVec 32) (v140 : BitVec 32) : BitVec 1 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v141 : BitVec 32 := Scalar.minsi v140 v77
  let v138 : BitVec 32 := Scalar.maxsi v137 v75
  let v142 : BitVec 1 := Scalar.cmpi .sgt v141 v138
  let v143 : BitVec 32 := Scalar.extui v142
  let c0_i32_71 : BitVec 32 := 0#32
  let v144 : BitVec 1 := Scalar.cmpi .ne v143 c0_i32_71
  v144

def k0_off633 (i : grid0.Coords) (k0_t68 : Fin k0_t68_loop.trips) (v137 : BitVec 32) (v140 : BitVec 32) (k0_t81 : Fin (k0_t81_loop i k0_t68 v137 v140).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v138 : BitVec 32 := Scalar.maxsi v137 v75
  let c1_i32_85 : BitVec 32 := 1#32
  let arg19 : BitVec 32 := Scf.iv v138 c1_i32_85 k0_t81
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off634 (i : grid0.Coords) (k0_t68 : Fin k0_t68_loop.trips) (v137 : BitVec 32) (v140 : BitVec 32) (k0_t81 : Fin (k0_t81_loop i k0_t68 v137 v140).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v138 : BitVec 32 := Scalar.maxsi v137 v75
  let c1_i32_85 : BitVec 32 := 1#32
  let arg19 : BitVec 32 := Scf.iv v138 c1_i32_85 k0_t81
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off635 (i : grid0.Coords) (k0_t68 : Fin k0_t68_loop.trips) (v137 : BitVec 32) (v140 : BitVec 32) (k0_t81 : Fin (k0_t81_loop i k0_t68 v137 v140).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v138 : BitVec 32 := Scalar.maxsi v137 v75
  let c1_i32_85 : BitVec 32 := 1#32
  let arg19 : BitVec 32 := Scf.iv v138 c1_i32_85 k0_t81
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off636 (i : grid0.Coords) (k0_t68 : Fin k0_t68_loop.trips) (v137 : BitVec 32) (v140 : BitVec 32) (k0_t81 : Fin (k0_t81_loop i k0_t68 v137 v140).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v138 : BitVec 32 := Scalar.maxsi v137 v75
  let c1_i32_85 : BitVec 32 := 1#32
  let arg19 : BitVec 32 := Scf.iv v138 c1_i32_85 k0_t81
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off637 (i : grid0.Coords) (k0_t68 : Fin k0_t68_loop.trips) (v137 : BitVec 32) (v140 : BitVec 32) (k0_t81 : Fin (k0_t81_loop i k0_t68 v137 v140).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v138 : BitVec 32 := Scalar.maxsi v137 v75
  let c1_i32_85 : BitVec 32 := 1#32
  let arg19 : BitVec 32 := Scf.iv v138 c1_i32_85 k0_t81
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off638 (i : grid0.Coords) (k0_t68 : Fin k0_t68_loop.trips) (v137 : BitVec 32) (v140 : BitVec 32) (k0_t81 : Fin (k0_t81_loop i k0_t68 v137 v140).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v138 : BitVec 32 := Scalar.maxsi v137 v75
  let c1_i32_85 : BitVec 32 := 1#32
  let arg19 : BitVec 32 := Scf.iv v138 c1_i32_85 k0_t81
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off639 (i : grid0.Coords) (k0_t68 : Fin k0_t68_loop.trips) (v137 : BitVec 32) (v140 : BitVec 32) (k0_t81 : Fin (k0_t81_loop i k0_t68 v137 v140).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v138 : BitVec 32 := Scalar.maxsi v137 v75
  let c1_i32_85 : BitVec 32 := 1#32
  let arg19 : BitVec 32 := Scf.iv v138 c1_i32_85 k0_t81
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off640 (i : grid0.Coords) (k0_t68 : Fin k0_t68_loop.trips) (v137 : BitVec 32) (v140 : BitVec 32) (k0_t81 : Fin (k0_t81_loop i k0_t68 v137 v140).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v138 : BitVec 32 := Scalar.maxsi v137 v75
  let c1_i32_85 : BitVec 32 := 1#32
  let arg19 : BitVec 32 := Scf.iv v138 c1_i32_85 k0_t81
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]
@[reducible] def k0_t82_loop (i : grid0.Coords) (k0_t68 : Fin k0_t68_loop.trips) (v137 : BitVec 32) (v140 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v138 : BitVec 32 := Scalar.maxsi v137 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let v231 : BitVec 32 := Scalar.addi v138 v230
  let c1_i32_86 : BitVec 32 := 1#32
  ⟨v234, v231, c1_i32_86⟩
def k0_off641 (i : grid0.Coords) (k0_t68 : Fin k0_t68_loop.trips) (v137 : BitVec 32) (v140 : BitVec 32) (k0_t82 : Fin (k0_t82_loop i k0_t68 v137 v140).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v138 : BitVec 32 := Scalar.maxsi v137 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_86 : BitVec 32 := 1#32
  let arg19 : BitVec 32 := Scf.iv v234 c1_i32_86 k0_t82
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off642 (i : grid0.Coords) (k0_t68 : Fin k0_t68_loop.trips) (v137 : BitVec 32) (v140 : BitVec 32) (k0_t82 : Fin (k0_t82_loop i k0_t68 v137 v140).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v138 : BitVec 32 := Scalar.maxsi v137 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_86 : BitVec 32 := 1#32
  let arg19 : BitVec 32 := Scf.iv v234 c1_i32_86 k0_t82
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off643 (i : grid0.Coords) (k0_t68 : Fin k0_t68_loop.trips) (v137 : BitVec 32) (v140 : BitVec 32) (k0_t82 : Fin (k0_t82_loop i k0_t68 v137 v140).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v138 : BitVec 32 := Scalar.maxsi v137 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_86 : BitVec 32 := 1#32
  let arg19 : BitVec 32 := Scf.iv v234 c1_i32_86 k0_t82
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off644 (i : grid0.Coords) (k0_t68 : Fin k0_t68_loop.trips) (v137 : BitVec 32) (v140 : BitVec 32) (k0_t82 : Fin (k0_t82_loop i k0_t68 v137 v140).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v138 : BitVec 32 := Scalar.maxsi v137 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_86 : BitVec 32 := 1#32
  let arg19 : BitVec 32 := Scf.iv v234 c1_i32_86 k0_t82
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off645 (i : grid0.Coords) (k0_t68 : Fin k0_t68_loop.trips) (v137 : BitVec 32) (v140 : BitVec 32) (k0_t82 : Fin (k0_t82_loop i k0_t68 v137 v140).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v138 : BitVec 32 := Scalar.maxsi v137 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_86 : BitVec 32 := 1#32
  let arg19 : BitVec 32 := Scf.iv v234 c1_i32_86 k0_t82
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]

variable {F : FTy → Type} [FloatOps F]

def k0_off646 (i : grid0.Coords) (k0_t68 : Fin k0_t68_loop.trips) (v137 : BitVec 32) (v140 : BitVec 32) (k0_t82 : Fin (k0_t82_loop i k0_t68 v137 v140).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v138 : BitVec 32 := Scalar.maxsi v137 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_86 : BitVec 32 := 1#32
  let arg19 : BitVec 32 := Scf.iv v234 c1_i32_86 k0_t82
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off647 (i : grid0.Coords) (k0_t68 : Fin k0_t68_loop.trips) (v137 : BitVec 32) (v140 : BitVec 32) (k0_t82 : Fin (k0_t82_loop i k0_t68 v137 v140).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v138 : BitVec 32 := Scalar.maxsi v137 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_86 : BitVec 32 := 1#32
  let arg19 : BitVec 32 := Scf.iv v234 c1_i32_86 k0_t82
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off648 (i : grid0.Coords) (k0_t68 : Fin k0_t68_loop.trips) (v137 : BitVec 32) (v140 : BitVec 32) (k0_t82 : Fin (k0_t82_loop i k0_t68 v137 v140).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v138 : BitVec 32 := Scalar.maxsi v137 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_86 : BitVec 32 := 1#32
  let arg19 : BitVec 32 := Scf.iv v234 c1_i32_86 k0_t82
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]

def k0_chk39 (i : grid0.Coords) (k0_t68 : Fin k0_t68_loop.trips) (v137 : BitVec 32) (v140 : BitVec 32) : Prop :=
  (∀ (k0_h37 : k0_cond37 k0_t68 = 1#1), ∀ (k0_h44 : k0_cond44 i k0_t68 v137 v140 = 1#1), (k0_t81_loop i k0_t68 v137 v140).OK) ∧
  (∀ k0_t81 : Fin (k0_t81_loop i k0_t68 v137 v140).trips, ∀ (k0_h37 : k0_cond37 k0_t68 = 1#1), ∀ (k0_h44 : k0_cond44 i k0_t68 v137 v140 = 1#1), ∀ a, (k0_off633 i k0_t68 v137 v140 k0_t81) a + S1x16.size a ≤ S256x128.size a) ∧
  (∀ k0_t81 : Fin (k0_t81_loop i k0_t68 v137 v140).trips, ∀ (k0_h37 : k0_cond37 k0_t68 = 1#1), ∀ (k0_h44 : k0_cond44 i k0_t68 v137 v140 = 1#1), ∀ a, (k0_off634 i k0_t68 v137 v140 k0_t81) a + S1x16.size a ≤ S256x128.size a) ∧
  (∀ k0_t81 : Fin (k0_t81_loop i k0_t68 v137 v140).trips, ∀ (k0_h37 : k0_cond37 k0_t68 = 1#1), ∀ (k0_h44 : k0_cond44 i k0_t68 v137 v140 = 1#1), ∀ a, (k0_off635 i k0_t68 v137 v140 k0_t81) a + S1x16.size a ≤ S256x128.size a) ∧
  (∀ k0_t81 : Fin (k0_t81_loop i k0_t68 v137 v140).trips, ∀ (k0_h37 : k0_cond37 k0_t68 = 1#1), ∀ (k0_h44 : k0_cond44 i k0_t68 v137 v140 = 1#1), ∀ a, (k0_off636 i k0_t68 v137 v140 k0_t81) a + S1x16.size a ≤ S256x128.size a) ∧
  (∀ k0_t81 : Fin (k0_t81_loop i k0_t68 v137 v140).trips, ∀ (k0_h37 : k0_cond37 k0_t68 = 1#1), ∀ (k0_h44 : k0_cond44 i k0_t68 v137 v140 = 1#1), ∀ a, (k0_off637 i k0_t68 v137 v140 k0_t81) a + S1x16.size a ≤ S256x128.size a) ∧
  (∀ k0_t81 : Fin (k0_t81_loop i k0_t68 v137 v140).trips, ∀ (k0_h37 : k0_cond37 k0_t68 = 1#1), ∀ (k0_h44 : k0_cond44 i k0_t68 v137 v140 = 1#1), ∀ a, (k0_off638 i k0_t68 v137 v140 k0_t81) a + S1x16.size a ≤ S256x128.size a) ∧
  (∀ k0_t81 : Fin (k0_t81_loop i k0_t68 v137 v140).trips, ∀ (k0_h37 : k0_cond37 k0_t68 = 1#1), ∀ (k0_h44 : k0_cond44 i k0_t68 v137 v140 = 1#1), ∀ a, (k0_off639 i k0_t68 v137 v140 k0_t81) a + S1x16.size a ≤ S256x128.size a) ∧
  (∀ k0_t81 : Fin (k0_t81_loop i k0_t68 v137 v140).trips, ∀ (k0_h37 : k0_cond37 k0_t68 = 1#1), ∀ (k0_h44 : k0_cond44 i k0_t68 v137 v140 = 1#1), ∀ a, (k0_off640 i k0_t68 v137 v140 k0_t81) a + S1x16.size a ≤ S256x128.size a) ∧
  (∀ (k0_h37 : k0_cond37 k0_t68 = 1#1), ∀ (k0_h44 : k0_cond44 i k0_t68 v137 v140 = 1#1), (k0_t82_loop i k0_t68 v137 v140).OK) ∧
  (∀ k0_t82 : Fin (k0_t82_loop i k0_t68 v137 v140).trips, ∀ (k0_h37 : k0_cond37 k0_t68 = 1#1), ∀ (k0_h44 : k0_cond44 i k0_t68 v137 v140 = 1#1), ∀ a, (k0_off641 i k0_t68 v137 v140 k0_t82) a + S1x16.size a ≤ S256x128.size a) ∧
  (∀ k0_t82 : Fin (k0_t82_loop i k0_t68 v137 v140).trips, ∀ (k0_h37 : k0_cond37 k0_t68 = 1#1), ∀ (k0_h44 : k0_cond44 i k0_t68 v137 v140 = 1#1), ∀ a, (k0_off642 i k0_t68 v137 v140 k0_t82) a + S1x16.size a ≤ S256x128.size a) ∧
  (∀ k0_t82 : Fin (k0_t82_loop i k0_t68 v137 v140).trips, ∀ (k0_h37 : k0_cond37 k0_t68 = 1#1), ∀ (k0_h44 : k0_cond44 i k0_t68 v137 v140 = 1#1), ∀ a, (k0_off643 i k0_t68 v137 v140 k0_t82) a + S1x16.size a ≤ S256x128.size a) ∧
  (∀ k0_t82 : Fin (k0_t82_loop i k0_t68 v137 v140).trips, ∀ (k0_h37 : k0_cond37 k0_t68 = 1#1), ∀ (k0_h44 : k0_cond44 i k0_t68 v137 v140 = 1#1), ∀ a, (k0_off644 i k0_t68 v137 v140 k0_t82) a + S1x16.size a ≤ S256x128.size a) ∧
  (∀ k0_t82 : Fin (k0_t82_loop i k0_t68 v137 v140).trips, ∀ (k0_h37 : k0_cond37 k0_t68 = 1#1), ∀ (k0_h44 : k0_cond44 i k0_t68 v137 v140 = 1#1), ∀ a, (k0_off645 i k0_t68 v137 v140 k0_t82) a + S1x16.size a ≤ S256x128.size a) ∧
  (∀ k0_t82 : Fin (k0_t82_loop i k0_t68 v137 v140).trips, ∀ (k0_h37 : k0_cond37 k0_t68 = 1#1), ∀ (k0_h44 : k0_cond44 i k0_t68 v137 v140 = 1#1), ∀ a, (k0_off646 i k0_t68 v137 v140 k0_t82) a + S1x16.size a ≤ S256x128.size a) ∧
  (∀ k0_t82 : Fin (k0_t82_loop i k0_t68 v137 v140).trips, ∀ (k0_h37 : k0_cond37 k0_t68 = 1#1), ∀ (k0_h44 : k0_cond44 i k0_t68 v137 v140 = 1#1), ∀ a, (k0_off647 i k0_t68 v137 v140 k0_t82) a + S1x16.size a ≤ S256x128.size a) ∧
  (∀ k0_t82 : Fin (k0_t82_loop i k0_t68 v137 v140).trips, ∀ (k0_h37 : k0_cond37 k0_t68 = 1#1), ∀ (k0_h44 : k0_cond44 i k0_t68 v137 v140 = 1#1), ∀ a, (k0_off648 i k0_t68 v137 v140 k0_t82) a + S1x16.size a ≤ S256x128.size a)
theorem k0_t81_ok : ∀ (i : grid0.Coords) (k0_t68 : Fin k0_t68_loop.trips) (v137 : BitVec 32) (v140 : BitVec 32) (k0_hw39 : k0_chk39 i k0_t68 v137 v140), ∀ (k0_h37 : k0_cond37 k0_t68 = 1#1), ∀ (k0_h44 : k0_cond44 i k0_t68 v137 v140 = 1#1), (k0_t81_loop i k0_t68 v137 v140).OK := fun i k0_t68 v137 v140 k0_hw39 k0_h37 k0_h44 => k0_hw39.1 k0_h37 k0_h44
theorem k0_off633_inb : ∀ (i : grid0.Coords) (k0_t68 : Fin k0_t68_loop.trips) (v137 : BitVec 32) (v140 : BitVec 32) (k0_hw39 : k0_chk39 i k0_t68 v137 v140) (k0_t81 : Fin (k0_t81_loop i k0_t68 v137 v140).trips), ∀ (k0_h37 : k0_cond37 k0_t68 = 1#1), ∀ (k0_h44 : k0_cond44 i k0_t68 v137 v140 = 1#1), ∀ a, (k0_off633 i k0_t68 v137 v140 k0_t81) a + S1x16.size a ≤ S256x128.size a := fun i k0_t68 v137 v140 k0_hw39 k0_t81 k0_h37 k0_h44 => k0_hw39.2.1 k0_t81 k0_h37 k0_h44
theorem k0_off634_inb : ∀ (i : grid0.Coords) (k0_t68 : Fin k0_t68_loop.trips) (v137 : BitVec 32) (v140 : BitVec 32) (k0_hw39 : k0_chk39 i k0_t68 v137 v140) (k0_t81 : Fin (k0_t81_loop i k0_t68 v137 v140).trips), ∀ (k0_h37 : k0_cond37 k0_t68 = 1#1), ∀ (k0_h44 : k0_cond44 i k0_t68 v137 v140 = 1#1), ∀ a, (k0_off634 i k0_t68 v137 v140 k0_t81) a + S1x16.size a ≤ S256x128.size a := fun i k0_t68 v137 v140 k0_hw39 k0_t81 k0_h37 k0_h44 => k0_hw39.2.2.1 k0_t81 k0_h37 k0_h44
theorem k0_off635_inb : ∀ (i : grid0.Coords) (k0_t68 : Fin k0_t68_loop.trips) (v137 : BitVec 32) (v140 : BitVec 32) (k0_hw39 : k0_chk39 i k0_t68 v137 v140) (k0_t81 : Fin (k0_t81_loop i k0_t68 v137 v140).trips), ∀ (k0_h37 : k0_cond37 k0_t68 = 1#1), ∀ (k0_h44 : k0_cond44 i k0_t68 v137 v140 = 1#1), ∀ a, (k0_off635 i k0_t68 v137 v140 k0_t81) a + S1x16.size a ≤ S256x128.size a := fun i k0_t68 v137 v140 k0_hw39 k0_t81 k0_h37 k0_h44 => k0_hw39.2.2.2.1 k0_t81 k0_h37 k0_h44
theorem k0_off636_inb : ∀ (i : grid0.Coords) (k0_t68 : Fin k0_t68_loop.trips) (v137 : BitVec 32) (v140 : BitVec 32) (k0_hw39 : k0_chk39 i k0_t68 v137 v140) (k0_t81 : Fin (k0_t81_loop i k0_t68 v137 v140).trips), ∀ (k0_h37 : k0_cond37 k0_t68 = 1#1), ∀ (k0_h44 : k0_cond44 i k0_t68 v137 v140 = 1#1), ∀ a, (k0_off636 i k0_t68 v137 v140 k0_t81) a + S1x16.size a ≤ S256x128.size a := fun i k0_t68 v137 v140 k0_hw39 k0_t81 k0_h37 k0_h44 => k0_hw39.2.2.2.2.1 k0_t81 k0_h37 k0_h44
theorem k0_off637_inb : ∀ (i : grid0.Coords) (k0_t68 : Fin k0_t68_loop.trips) (v137 : BitVec 32) (v140 : BitVec 32) (k0_hw39 : k0_chk39 i k0_t68 v137 v140) (k0_t81 : Fin (k0_t81_loop i k0_t68 v137 v140).trips), ∀ (k0_h37 : k0_cond37 k0_t68 = 1#1), ∀ (k0_h44 : k0_cond44 i k0_t68 v137 v140 = 1#1), ∀ a, (k0_off637 i k0_t68 v137 v140 k0_t81) a + S1x16.size a ≤ S256x128.size a := fun i k0_t68 v137 v140 k0_hw39 k0_t81 k0_h37 k0_h44 => k0_hw39.2.2.2.2.2.1 k0_t81 k0_h37 k0_h44
theorem k0_off638_inb : ∀ (i : grid0.Coords) (k0_t68 : Fin k0_t68_loop.trips) (v137 : BitVec 32) (v140 : BitVec 32) (k0_hw39 : k0_chk39 i k0_t68 v137 v140) (k0_t81 : Fin (k0_t81_loop i k0_t68 v137 v140).trips), ∀ (k0_h37 : k0_cond37 k0_t68 = 1#1), ∀ (k0_h44 : k0_cond44 i k0_t68 v137 v140 = 1#1), ∀ a, (k0_off638 i k0_t68 v137 v140 k0_t81) a + S1x16.size a ≤ S256x128.size a := fun i k0_t68 v137 v140 k0_hw39 k0_t81 k0_h37 k0_h44 => k0_hw39.2.2.2.2.2.2.1 k0_t81 k0_h37 k0_h44
theorem k0_off639_inb : ∀ (i : grid0.Coords) (k0_t68 : Fin k0_t68_loop.trips) (v137 : BitVec 32) (v140 : BitVec 32) (k0_hw39 : k0_chk39 i k0_t68 v137 v140) (k0_t81 : Fin (k0_t81_loop i k0_t68 v137 v140).trips), ∀ (k0_h37 : k0_cond37 k0_t68 = 1#1), ∀ (k0_h44 : k0_cond44 i k0_t68 v137 v140 = 1#1), ∀ a, (k0_off639 i k0_t68 v137 v140 k0_t81) a + S1x16.size a ≤ S256x128.size a := fun i k0_t68 v137 v140 k0_hw39 k0_t81 k0_h37 k0_h44 => k0_hw39.2.2.2.2.2.2.2.1 k0_t81 k0_h37 k0_h44
theorem k0_off640_inb : ∀ (i : grid0.Coords) (k0_t68 : Fin k0_t68_loop.trips) (v137 : BitVec 32) (v140 : BitVec 32) (k0_hw39 : k0_chk39 i k0_t68 v137 v140) (k0_t81 : Fin (k0_t81_loop i k0_t68 v137 v140).trips), ∀ (k0_h37 : k0_cond37 k0_t68 = 1#1), ∀ (k0_h44 : k0_cond44 i k0_t68 v137 v140 = 1#1), ∀ a, (k0_off640 i k0_t68 v137 v140 k0_t81) a + S1x16.size a ≤ S256x128.size a := fun i k0_t68 v137 v140 k0_hw39 k0_t81 k0_h37 k0_h44 => k0_hw39.2.2.2.2.2.2.2.2.1 k0_t81 k0_h37 k0_h44
theorem k0_t82_ok : ∀ (i : grid0.Coords) (k0_t68 : Fin k0_t68_loop.trips) (v137 : BitVec 32) (v140 : BitVec 32) (k0_hw39 : k0_chk39 i k0_t68 v137 v140), ∀ (k0_h37 : k0_cond37 k0_t68 = 1#1), ∀ (k0_h44 : k0_cond44 i k0_t68 v137 v140 = 1#1), (k0_t82_loop i k0_t68 v137 v140).OK := fun i k0_t68 v137 v140 k0_hw39 k0_h37 k0_h44 => k0_hw39.2.2.2.2.2.2.2.2.2.1 k0_h37 k0_h44
theorem k0_off641_inb : ∀ (i : grid0.Coords) (k0_t68 : Fin k0_t68_loop.trips) (v137 : BitVec 32) (v140 : BitVec 32) (k0_hw39 : k0_chk39 i k0_t68 v137 v140) (k0_t82 : Fin (k0_t82_loop i k0_t68 v137 v140).trips), ∀ (k0_h37 : k0_cond37 k0_t68 = 1#1), ∀ (k0_h44 : k0_cond44 i k0_t68 v137 v140 = 1#1), ∀ a, (k0_off641 i k0_t68 v137 v140 k0_t82) a + S1x16.size a ≤ S256x128.size a := fun i k0_t68 v137 v140 k0_hw39 k0_t82 k0_h37 k0_h44 => k0_hw39.2.2.2.2.2.2.2.2.2.2.1 k0_t82 k0_h37 k0_h44
theorem k0_off642_inb : ∀ (i : grid0.Coords) (k0_t68 : Fin k0_t68_loop.trips) (v137 : BitVec 32) (v140 : BitVec 32) (k0_hw39 : k0_chk39 i k0_t68 v137 v140) (k0_t82 : Fin (k0_t82_loop i k0_t68 v137 v140).trips), ∀ (k0_h37 : k0_cond37 k0_t68 = 1#1), ∀ (k0_h44 : k0_cond44 i k0_t68 v137 v140 = 1#1), ∀ a, (k0_off642 i k0_t68 v137 v140 k0_t82) a + S1x16.size a ≤ S256x128.size a := fun i k0_t68 v137 v140 k0_hw39 k0_t82 k0_h37 k0_h44 => k0_hw39.2.2.2.2.2.2.2.2.2.2.2.1 k0_t82 k0_h37 k0_h44
theorem k0_off643_inb : ∀ (i : grid0.Coords) (k0_t68 : Fin k0_t68_loop.trips) (v137 : BitVec 32) (v140 : BitVec 32) (k0_hw39 : k0_chk39 i k0_t68 v137 v140) (k0_t82 : Fin (k0_t82_loop i k0_t68 v137 v140).trips), ∀ (k0_h37 : k0_cond37 k0_t68 = 1#1), ∀ (k0_h44 : k0_cond44 i k0_t68 v137 v140 = 1#1), ∀ a, (k0_off643 i k0_t68 v137 v140 k0_t82) a + S1x16.size a ≤ S256x128.size a := fun i k0_t68 v137 v140 k0_hw39 k0_t82 k0_h37 k0_h44 => k0_hw39.2.2.2.2.2.2.2.2.2.2.2.2.1 k0_t82 k0_h37 k0_h44
theorem k0_off644_inb : ∀ (i : grid0.Coords) (k0_t68 : Fin k0_t68_loop.trips) (v137 : BitVec 32) (v140 : BitVec 32) (k0_hw39 : k0_chk39 i k0_t68 v137 v140) (k0_t82 : Fin (k0_t82_loop i k0_t68 v137 v140).trips), ∀ (k0_h37 : k0_cond37 k0_t68 = 1#1), ∀ (k0_h44 : k0_cond44 i k0_t68 v137 v140 = 1#1), ∀ a, (k0_off644 i k0_t68 v137 v140 k0_t82) a + S1x16.size a ≤ S256x128.size a := fun i k0_t68 v137 v140 k0_hw39 k0_t82 k0_h37 k0_h44 => k0_hw39.2.2.2.2.2.2.2.2.2.2.2.2.2.1 k0_t82 k0_h37 k0_h44
theorem k0_off645_inb : ∀ (i : grid0.Coords) (k0_t68 : Fin k0_t68_loop.trips) (v137 : BitVec 32) (v140 : BitVec 32) (k0_hw39 : k0_chk39 i k0_t68 v137 v140) (k0_t82 : Fin (k0_t82_loop i k0_t68 v137 v140).trips), ∀ (k0_h37 : k0_cond37 k0_t68 = 1#1), ∀ (k0_h44 : k0_cond44 i k0_t68 v137 v140 = 1#1), ∀ a, (k0_off645 i k0_t68 v137 v140 k0_t82) a + S1x16.size a ≤ S256x128.size a := fun i k0_t68 v137 v140 k0_hw39 k0_t82 k0_h37 k0_h44 => k0_hw39.2.2.2.2.2.2.2.2.2.2.2.2.2.2.1 k0_t82 k0_h37 k0_h44
theorem k0_off646_inb : ∀ (i : grid0.Coords) (k0_t68 : Fin k0_t68_loop.trips) (v137 : BitVec 32) (v140 : BitVec 32) (k0_hw39 : k0_chk39 i k0_t68 v137 v140) (k0_t82 : Fin (k0_t82_loop i k0_t68 v137 v140).trips), ∀ (k0_h37 : k0_cond37 k0_t68 = 1#1), ∀ (k0_h44 : k0_cond44 i k0_t68 v137 v140 = 1#1), ∀ a, (k0_off646 i k0_t68 v137 v140 k0_t82) a + S1x16.size a ≤ S256x128.size a := fun i k0_t68 v137 v140 k0_hw39 k0_t82 k0_h37 k0_h44 => k0_hw39.2.2.2.2.2.2.2.2.2.2.2.2.2.2.2.1 k0_t82 k0_h37 k0_h44
theorem k0_off647_inb : ∀ (i : grid0.Coords) (k0_t68 : Fin k0_t68_loop.trips) (v137 : BitVec 32) (v140 : BitVec 32) (k0_hw39 : k0_chk39 i k0_t68 v137 v140) (k0_t82 : Fin (k0_t82_loop i k0_t68 v137 v140).trips), ∀ (k0_h37 : k0_cond37 k0_t68 = 1#1), ∀ (k0_h44 : k0_cond44 i k0_t68 v137 v140 = 1#1), ∀ a, (k0_off647 i k0_t68 v137 v140 k0_t82) a + S1x16.size a ≤ S256x128.size a := fun i k0_t68 v137 v140 k0_hw39 k0_t82 k0_h37 k0_h44 => k0_hw39.2.2.2.2.2.2.2.2.2.2.2.2.2.2.2.2.1 k0_t82 k0_h37 k0_h44
theorem k0_off648_inb : ∀ (i : grid0.Coords) (k0_t68 : Fin k0_t68_loop.trips) (v137 : BitVec 32) (v140 : BitVec 32) (k0_hw39 : k0_chk39 i k0_t68 v137 v140) (k0_t82 : Fin (k0_t82_loop i k0_t68 v137 v140).trips), ∀ (k0_h37 : k0_cond37 k0_t68 = 1#1), ∀ (k0_h44 : k0_cond44 i k0_t68 v137 v140 = 1#1), ∀ a, (k0_off648 i k0_t68 v137 v140 k0_t82) a + S1x16.size a ≤ S256x128.size a := fun i k0_t68 v137 v140 k0_hw39 k0_t82 k0_h37 k0_h44 => k0_hw39.2.2.2.2.2.2.2.2.2.2.2.2.2.2.2.2.2 k0_t82 k0_h37 k0_h44

@[reducible] def k0_t83_loop (i : grid0.Coords) (k0_t68 : Fin k0_t68_loop.trips) (v146 : BitVec 32) (v149 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v147 : BitVec 32 := Scalar.maxsi v146 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_85 : BitVec 32 := 1#32
  ⟨v147, v234, c1_i32_85⟩
def k0_cond45 (i : grid0.Coords) (k0_t68 : Fin k0_t68_loop.trips) (v146 : BitVec 32) (v149 : BitVec 32) : BitVec 1 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v150 : BitVec 32 := Scalar.minsi v149 v77
  let v147 : BitVec 32 := Scalar.maxsi v146 v75
  let v151 : BitVec 1 := Scalar.cmpi .sgt v150 v147
  let v152 : BitVec 32 := Scalar.extui v151
  let c0_i32_72 : BitVec 32 := 0#32
  let v153 : BitVec 1 := Scalar.cmpi .ne v152 c0_i32_72
  v153

def k0_off649 (i : grid0.Coords) (k0_t68 : Fin k0_t68_loop.trips) (v146 : BitVec 32) (v149 : BitVec 32) (k0_t83 : Fin (k0_t83_loop i k0_t68 v146 v149).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v147 : BitVec 32 := Scalar.maxsi v146 v75
  let c1_i32_85 : BitVec 32 := 1#32
  let arg19 : BitVec 32 := Scf.iv v147 c1_i32_85 k0_t83
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off650 (i : grid0.Coords) (k0_t68 : Fin k0_t68_loop.trips) (v146 : BitVec 32) (v149 : BitVec 32) (k0_t83 : Fin (k0_t83_loop i k0_t68 v146 v149).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v147 : BitVec 32 := Scalar.maxsi v146 v75
  let c1_i32_85 : BitVec 32 := 1#32
  let arg19 : BitVec 32 := Scf.iv v147 c1_i32_85 k0_t83
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off651 (i : grid0.Coords) (k0_t68 : Fin k0_t68_loop.trips) (v146 : BitVec 32) (v149 : BitVec 32) (k0_t83 : Fin (k0_t83_loop i k0_t68 v146 v149).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v147 : BitVec 32 := Scalar.maxsi v146 v75
  let c1_i32_85 : BitVec 32 := 1#32
  let arg19 : BitVec 32 := Scf.iv v147 c1_i32_85 k0_t83
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off652 (i : grid0.Coords) (k0_t68 : Fin k0_t68_loop.trips) (v146 : BitVec 32) (v149 : BitVec 32) (k0_t83 : Fin (k0_t83_loop i k0_t68 v146 v149).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v147 : BitVec 32 := Scalar.maxsi v146 v75
  let c1_i32_85 : BitVec 32 := 1#32
  let arg19 : BitVec 32 := Scf.iv v147 c1_i32_85 k0_t83
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off653 (i : grid0.Coords) (k0_t68 : Fin k0_t68_loop.trips) (v146 : BitVec 32) (v149 : BitVec 32) (k0_t83 : Fin (k0_t83_loop i k0_t68 v146 v149).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v147 : BitVec 32 := Scalar.maxsi v146 v75
  let c1_i32_85 : BitVec 32 := 1#32
  let arg19 : BitVec 32 := Scf.iv v147 c1_i32_85 k0_t83
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off654 (i : grid0.Coords) (k0_t68 : Fin k0_t68_loop.trips) (v146 : BitVec 32) (v149 : BitVec 32) (k0_t83 : Fin (k0_t83_loop i k0_t68 v146 v149).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v147 : BitVec 32 := Scalar.maxsi v146 v75
  let c1_i32_85 : BitVec 32 := 1#32
  let arg19 : BitVec 32 := Scf.iv v147 c1_i32_85 k0_t83
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off655 (i : grid0.Coords) (k0_t68 : Fin k0_t68_loop.trips) (v146 : BitVec 32) (v149 : BitVec 32) (k0_t83 : Fin (k0_t83_loop i k0_t68 v146 v149).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v147 : BitVec 32 := Scalar.maxsi v146 v75
  let c1_i32_85 : BitVec 32 := 1#32
  let arg19 : BitVec 32 := Scf.iv v147 c1_i32_85 k0_t83
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off656 (i : grid0.Coords) (k0_t68 : Fin k0_t68_loop.trips) (v146 : BitVec 32) (v149 : BitVec 32) (k0_t83 : Fin (k0_t83_loop i k0_t68 v146 v149).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v147 : BitVec 32 := Scalar.maxsi v146 v75
  let c1_i32_85 : BitVec 32 := 1#32
  let arg19 : BitVec 32 := Scf.iv v147 c1_i32_85 k0_t83
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]
@[reducible] def k0_t84_loop (i : grid0.Coords) (k0_t68 : Fin k0_t68_loop.trips) (v146 : BitVec 32) (v149 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v147 : BitVec 32 := Scalar.maxsi v146 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let v231 : BitVec 32 := Scalar.addi v147 v230
  let c1_i32_86 : BitVec 32 := 1#32
  ⟨v234, v231, c1_i32_86⟩
def k0_off657 (i : grid0.Coords) (k0_t68 : Fin k0_t68_loop.trips) (v146 : BitVec 32) (v149 : BitVec 32) (k0_t84 : Fin (k0_t84_loop i k0_t68 v146 v149).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v147 : BitVec 32 := Scalar.maxsi v146 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_86 : BitVec 32 := 1#32
  let arg19 : BitVec 32 := Scf.iv v234 c1_i32_86 k0_t84
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off658 (i : grid0.Coords) (k0_t68 : Fin k0_t68_loop.trips) (v146 : BitVec 32) (v149 : BitVec 32) (k0_t84 : Fin (k0_t84_loop i k0_t68 v146 v149).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v147 : BitVec 32 := Scalar.maxsi v146 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_86 : BitVec 32 := 1#32
  let arg19 : BitVec 32 := Scf.iv v234 c1_i32_86 k0_t84
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off659 (i : grid0.Coords) (k0_t68 : Fin k0_t68_loop.trips) (v146 : BitVec 32) (v149 : BitVec 32) (k0_t84 : Fin (k0_t84_loop i k0_t68 v146 v149).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v147 : BitVec 32 := Scalar.maxsi v146 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_86 : BitVec 32 := 1#32
  let arg19 : BitVec 32 := Scf.iv v234 c1_i32_86 k0_t84
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off660 (i : grid0.Coords) (k0_t68 : Fin k0_t68_loop.trips) (v146 : BitVec 32) (v149 : BitVec 32) (k0_t84 : Fin (k0_t84_loop i k0_t68 v146 v149).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v147 : BitVec 32 := Scalar.maxsi v146 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_86 : BitVec 32 := 1#32
  let arg19 : BitVec 32 := Scf.iv v234 c1_i32_86 k0_t84
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off661 (i : grid0.Coords) (k0_t68 : Fin k0_t68_loop.trips) (v146 : BitVec 32) (v149 : BitVec 32) (k0_t84 : Fin (k0_t84_loop i k0_t68 v146 v149).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v147 : BitVec 32 := Scalar.maxsi v146 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_86 : BitVec 32 := 1#32
  let arg19 : BitVec 32 := Scf.iv v234 c1_i32_86 k0_t84
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off662 (i : grid0.Coords) (k0_t68 : Fin k0_t68_loop.trips) (v146 : BitVec 32) (v149 : BitVec 32) (k0_t84 : Fin (k0_t84_loop i k0_t68 v146 v149).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v147 : BitVec 32 := Scalar.maxsi v146 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_86 : BitVec 32 := 1#32
  let arg19 : BitVec 32 := Scf.iv v234 c1_i32_86 k0_t84
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off663 (i : grid0.Coords) (k0_t68 : Fin k0_t68_loop.trips) (v146 : BitVec 32) (v149 : BitVec 32) (k0_t84 : Fin (k0_t84_loop i k0_t68 v146 v149).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v147 : BitVec 32 := Scalar.maxsi v146 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_86 : BitVec 32 := 1#32
  let arg19 : BitVec 32 := Scf.iv v234 c1_i32_86 k0_t84
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off664 (i : grid0.Coords) (k0_t68 : Fin k0_t68_loop.trips) (v146 : BitVec 32) (v149 : BitVec 32) (k0_t84 : Fin (k0_t84_loop i k0_t68 v146 v149).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v147 : BitVec 32 := Scalar.maxsi v146 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_86 : BitVec 32 := 1#32
  let arg19 : BitVec 32 := Scf.iv v234 c1_i32_86 k0_t84
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]

def k0_chk40 (i : grid0.Coords) (k0_t68 : Fin k0_t68_loop.trips) (v146 : BitVec 32) (v149 : BitVec 32) : Prop :=
  (∀ (k0_h37 : k0_cond37 k0_t68 = 1#1), ∀ (k0_h45 : k0_cond45 i k0_t68 v146 v149 = 1#1), (k0_t83_loop i k0_t68 v146 v149).OK) ∧
  (∀ k0_t83 : Fin (k0_t83_loop i k0_t68 v146 v149).trips, ∀ (k0_h37 : k0_cond37 k0_t68 = 1#1), ∀ (k0_h45 : k0_cond45 i k0_t68 v146 v149 = 1#1), ∀ a, (k0_off649 i k0_t68 v146 v149 k0_t83) a + S1x16.size a ≤ S256x128.size a) ∧
  (∀ k0_t83 : Fin (k0_t83_loop i k0_t68 v146 v149).trips, ∀ (k0_h37 : k0_cond37 k0_t68 = 1#1), ∀ (k0_h45 : k0_cond45 i k0_t68 v146 v149 = 1#1), ∀ a, (k0_off650 i k0_t68 v146 v149 k0_t83) a + S1x16.size a ≤ S256x128.size a) ∧
  (∀ k0_t83 : Fin (k0_t83_loop i k0_t68 v146 v149).trips, ∀ (k0_h37 : k0_cond37 k0_t68 = 1#1), ∀ (k0_h45 : k0_cond45 i k0_t68 v146 v149 = 1#1), ∀ a, (k0_off651 i k0_t68 v146 v149 k0_t83) a + S1x16.size a ≤ S256x128.size a) ∧
  (∀ k0_t83 : Fin (k0_t83_loop i k0_t68 v146 v149).trips, ∀ (k0_h37 : k0_cond37 k0_t68 = 1#1), ∀ (k0_h45 : k0_cond45 i k0_t68 v146 v149 = 1#1), ∀ a, (k0_off652 i k0_t68 v146 v149 k0_t83) a + S1x16.size a ≤ S256x128.size a) ∧
  (∀ k0_t83 : Fin (k0_t83_loop i k0_t68 v146 v149).trips, ∀ (k0_h37 : k0_cond37 k0_t68 = 1#1), ∀ (k0_h45 : k0_cond45 i k0_t68 v146 v149 = 1#1), ∀ a, (k0_off653 i k0_t68 v146 v149 k0_t83) a + S1x16.size a ≤ S256x128.size a) ∧
  (∀ k0_t83 : Fin (k0_t83_loop i k0_t68 v146 v149).trips, ∀ (k0_h37 : k0_cond37 k0_t68 = 1#1), ∀ (k0_h45 : k0_cond45 i k0_t68 v146 v149 = 1#1), ∀ a, (k0_off654 i k0_t68 v146 v149 k0_t83) a + S1x16.size a ≤ S256x128.size a) ∧
  (∀ k0_t83 : Fin (k0_t83_loop i k0_t68 v146 v149).trips, ∀ (k0_h37 : k0_cond37 k0_t68 = 1#1), ∀ (k0_h45 : k0_cond45 i k0_t68 v146 v149 = 1#1), ∀ a, (k0_off655 i k0_t68 v146 v149 k0_t83) a + S1x16.size a ≤ S256x128.size a) ∧
  (∀ k0_t83 : Fin (k0_t83_loop i k0_t68 v146 v149).trips, ∀ (k0_h37 : k0_cond37 k0_t68 = 1#1), ∀ (k0_h45 : k0_cond45 i k0_t68 v146 v149 = 1#1), ∀ a, (k0_off656 i k0_t68 v146 v149 k0_t83) a + S1x16.size a ≤ S256x128.size a) ∧
  (∀ (k0_h37 : k0_cond37 k0_t68 = 1#1), ∀ (k0_h45 : k0_cond45 i k0_t68 v146 v149 = 1#1), (k0_t84_loop i k0_t68 v146 v149).OK) ∧
  (∀ k0_t84 : Fin (k0_t84_loop i k0_t68 v146 v149).trips, ∀ (k0_h37 : k0_cond37 k0_t68 = 1#1), ∀ (k0_h45 : k0_cond45 i k0_t68 v146 v149 = 1#1), ∀ a, (k0_off657 i k0_t68 v146 v149 k0_t84) a + S1x16.size a ≤ S256x128.size a) ∧
  (∀ k0_t84 : Fin (k0_t84_loop i k0_t68 v146 v149).trips, ∀ (k0_h37 : k0_cond37 k0_t68 = 1#1), ∀ (k0_h45 : k0_cond45 i k0_t68 v146 v149 = 1#1), ∀ a, (k0_off658 i k0_t68 v146 v149 k0_t84) a + S1x16.size a ≤ S256x128.size a) ∧
  (∀ k0_t84 : Fin (k0_t84_loop i k0_t68 v146 v149).trips, ∀ (k0_h37 : k0_cond37 k0_t68 = 1#1), ∀ (k0_h45 : k0_cond45 i k0_t68 v146 v149 = 1#1), ∀ a, (k0_off659 i k0_t68 v146 v149 k0_t84) a + S1x16.size a ≤ S256x128.size a) ∧
  (∀ k0_t84 : Fin (k0_t84_loop i k0_t68 v146 v149).trips, ∀ (k0_h37 : k0_cond37 k0_t68 = 1#1), ∀ (k0_h45 : k0_cond45 i k0_t68 v146 v149 = 1#1), ∀ a, (k0_off660 i k0_t68 v146 v149 k0_t84) a + S1x16.size a ≤ S256x128.size a) ∧
  (∀ k0_t84 : Fin (k0_t84_loop i k0_t68 v146 v149).trips, ∀ (k0_h37 : k0_cond37 k0_t68 = 1#1), ∀ (k0_h45 : k0_cond45 i k0_t68 v146 v149 = 1#1), ∀ a, (k0_off661 i k0_t68 v146 v149 k0_t84) a + S1x16.size a ≤ S256x128.size a) ∧
  (∀ k0_t84 : Fin (k0_t84_loop i k0_t68 v146 v149).trips, ∀ (k0_h37 : k0_cond37 k0_t68 = 1#1), ∀ (k0_h45 : k0_cond45 i k0_t68 v146 v149 = 1#1), ∀ a, (k0_off662 i k0_t68 v146 v149 k0_t84) a + S1x16.size a ≤ S256x128.size a) ∧
  (∀ k0_t84 : Fin (k0_t84_loop i k0_t68 v146 v149).trips, ∀ (k0_h37 : k0_cond37 k0_t68 = 1#1), ∀ (k0_h45 : k0_cond45 i k0_t68 v146 v149 = 1#1), ∀ a, (k0_off663 i k0_t68 v146 v149 k0_t84) a + S1x16.size a ≤ S256x128.size a) ∧
  (∀ k0_t84 : Fin (k0_t84_loop i k0_t68 v146 v149).trips, ∀ (k0_h37 : k0_cond37 k0_t68 = 1#1), ∀ (k0_h45 : k0_cond45 i k0_t68 v146 v149 = 1#1), ∀ a, (k0_off664 i k0_t68 v146 v149 k0_t84) a + S1x16.size a ≤ S256x128.size a)
theorem k0_t83_ok : ∀ (i : grid0.Coords) (k0_t68 : Fin k0_t68_loop.trips) (v146 : BitVec 32) (v149 : BitVec 32) (k0_hw40 : k0_chk40 i k0_t68 v146 v149), ∀ (k0_h37 : k0_cond37 k0_t68 = 1#1), ∀ (k0_h45 : k0_cond45 i k0_t68 v146 v149 = 1#1), (k0_t83_loop i k0_t68 v146 v149).OK := fun i k0_t68 v146 v149 k0_hw40 k0_h37 k0_h45 => k0_hw40.1 k0_h37 k0_h45
theorem k0_off649_inb : ∀ (i : grid0.Coords) (k0_t68 : Fin k0_t68_loop.trips) (v146 : BitVec 32) (v149 : BitVec 32) (k0_hw40 : k0_chk40 i k0_t68 v146 v149) (k0_t83 : Fin (k0_t83_loop i k0_t68 v146 v149).trips), ∀ (k0_h37 : k0_cond37 k0_t68 = 1#1), ∀ (k0_h45 : k0_cond45 i k0_t68 v146 v149 = 1#1), ∀ a, (k0_off649 i k0_t68 v146 v149 k0_t83) a + S1x16.size a ≤ S256x128.size a := fun i k0_t68 v146 v149 k0_hw40 k0_t83 k0_h37 k0_h45 => k0_hw40.2.1 k0_t83 k0_h37 k0_h45
theorem k0_off650_inb : ∀ (i : grid0.Coords) (k0_t68 : Fin k0_t68_loop.trips) (v146 : BitVec 32) (v149 : BitVec 32) (k0_hw40 : k0_chk40 i k0_t68 v146 v149) (k0_t83 : Fin (k0_t83_loop i k0_t68 v146 v149).trips), ∀ (k0_h37 : k0_cond37 k0_t68 = 1#1), ∀ (k0_h45 : k0_cond45 i k0_t68 v146 v149 = 1#1), ∀ a, (k0_off650 i k0_t68 v146 v149 k0_t83) a + S1x16.size a ≤ S256x128.size a := fun i k0_t68 v146 v149 k0_hw40 k0_t83 k0_h37 k0_h45 => k0_hw40.2.2.1 k0_t83 k0_h37 k0_h45
theorem k0_off651_inb : ∀ (i : grid0.Coords) (k0_t68 : Fin k0_t68_loop.trips) (v146 : BitVec 32) (v149 : BitVec 32) (k0_hw40 : k0_chk40 i k0_t68 v146 v149) (k0_t83 : Fin (k0_t83_loop i k0_t68 v146 v149).trips), ∀ (k0_h37 : k0_cond37 k0_t68 = 1#1), ∀ (k0_h45 : k0_cond45 i k0_t68 v146 v149 = 1#1), ∀ a, (k0_off651 i k0_t68 v146 v149 k0_t83) a + S1x16.size a ≤ S256x128.size a := fun i k0_t68 v146 v149 k0_hw40 k0_t83 k0_h37 k0_h45 => k0_hw40.2.2.2.1 k0_t83 k0_h37 k0_h45
theorem k0_off652_inb : ∀ (i : grid0.Coords) (k0_t68 : Fin k0_t68_loop.trips) (v146 : BitVec 32) (v149 : BitVec 32) (k0_hw40 : k0_chk40 i k0_t68 v146 v149) (k0_t83 : Fin (k0_t83_loop i k0_t68 v146 v149).trips), ∀ (k0_h37 : k0_cond37 k0_t68 = 1#1), ∀ (k0_h45 : k0_cond45 i k0_t68 v146 v149 = 1#1), ∀ a, (k0_off652 i k0_t68 v146 v149 k0_t83) a + S1x16.size a ≤ S256x128.size a := fun i k0_t68 v146 v149 k0_hw40 k0_t83 k0_h37 k0_h45 => k0_hw40.2.2.2.2.1 k0_t83 k0_h37 k0_h45
theorem k0_off653_inb : ∀ (i : grid0.Coords) (k0_t68 : Fin k0_t68_loop.trips) (v146 : BitVec 32) (v149 : BitVec 32) (k0_hw40 : k0_chk40 i k0_t68 v146 v149) (k0_t83 : Fin (k0_t83_loop i k0_t68 v146 v149).trips), ∀ (k0_h37 : k0_cond37 k0_t68 = 1#1), ∀ (k0_h45 : k0_cond45 i k0_t68 v146 v149 = 1#1), ∀ a, (k0_off653 i k0_t68 v146 v149 k0_t83) a + S1x16.size a ≤ S256x128.size a := fun i k0_t68 v146 v149 k0_hw40 k0_t83 k0_h37 k0_h45 => k0_hw40.2.2.2.2.2.1 k0_t83 k0_h37 k0_h45
theorem k0_off654_inb : ∀ (i : grid0.Coords) (k0_t68 : Fin k0_t68_loop.trips) (v146 : BitVec 32) (v149 : BitVec 32) (k0_hw40 : k0_chk40 i k0_t68 v146 v149) (k0_t83 : Fin (k0_t83_loop i k0_t68 v146 v149).trips), ∀ (k0_h37 : k0_cond37 k0_t68 = 1#1), ∀ (k0_h45 : k0_cond45 i k0_t68 v146 v149 = 1#1), ∀ a, (k0_off654 i k0_t68 v146 v149 k0_t83) a + S1x16.size a ≤ S256x128.size a := fun i k0_t68 v146 v149 k0_hw40 k0_t83 k0_h37 k0_h45 => k0_hw40.2.2.2.2.2.2.1 k0_t83 k0_h37 k0_h45
theorem k0_off655_inb : ∀ (i : grid0.Coords) (k0_t68 : Fin k0_t68_loop.trips) (v146 : BitVec 32) (v149 : BitVec 32) (k0_hw40 : k0_chk40 i k0_t68 v146 v149) (k0_t83 : Fin (k0_t83_loop i k0_t68 v146 v149).trips), ∀ (k0_h37 : k0_cond37 k0_t68 = 1#1), ∀ (k0_h45 : k0_cond45 i k0_t68 v146 v149 = 1#1), ∀ a, (k0_off655 i k0_t68 v146 v149 k0_t83) a + S1x16.size a ≤ S256x128.size a := fun i k0_t68 v146 v149 k0_hw40 k0_t83 k0_h37 k0_h45 => k0_hw40.2.2.2.2.2.2.2.1 k0_t83 k0_h37 k0_h45
theorem k0_off656_inb : ∀ (i : grid0.Coords) (k0_t68 : Fin k0_t68_loop.trips) (v146 : BitVec 32) (v149 : BitVec 32) (k0_hw40 : k0_chk40 i k0_t68 v146 v149) (k0_t83 : Fin (k0_t83_loop i k0_t68 v146 v149).trips), ∀ (k0_h37 : k0_cond37 k0_t68 = 1#1), ∀ (k0_h45 : k0_cond45 i k0_t68 v146 v149 = 1#1), ∀ a, (k0_off656 i k0_t68 v146 v149 k0_t83) a + S1x16.size a ≤ S256x128.size a := fun i k0_t68 v146 v149 k0_hw40 k0_t83 k0_h37 k0_h45 => k0_hw40.2.2.2.2.2.2.2.2.1 k0_t83 k0_h37 k0_h45
theorem k0_t84_ok : ∀ (i : grid0.Coords) (k0_t68 : Fin k0_t68_loop.trips) (v146 : BitVec 32) (v149 : BitVec 32) (k0_hw40 : k0_chk40 i k0_t68 v146 v149), ∀ (k0_h37 : k0_cond37 k0_t68 = 1#1), ∀ (k0_h45 : k0_cond45 i k0_t68 v146 v149 = 1#1), (k0_t84_loop i k0_t68 v146 v149).OK := fun i k0_t68 v146 v149 k0_hw40 k0_h37 k0_h45 => k0_hw40.2.2.2.2.2.2.2.2.2.1 k0_h37 k0_h45
theorem k0_off657_inb : ∀ (i : grid0.Coords) (k0_t68 : Fin k0_t68_loop.trips) (v146 : BitVec 32) (v149 : BitVec 32) (k0_hw40 : k0_chk40 i k0_t68 v146 v149) (k0_t84 : Fin (k0_t84_loop i k0_t68 v146 v149).trips), ∀ (k0_h37 : k0_cond37 k0_t68 = 1#1), ∀ (k0_h45 : k0_cond45 i k0_t68 v146 v149 = 1#1), ∀ a, (k0_off657 i k0_t68 v146 v149 k0_t84) a + S1x16.size a ≤ S256x128.size a := fun i k0_t68 v146 v149 k0_hw40 k0_t84 k0_h37 k0_h45 => k0_hw40.2.2.2.2.2.2.2.2.2.2.1 k0_t84 k0_h37 k0_h45
theorem k0_off658_inb : ∀ (i : grid0.Coords) (k0_t68 : Fin k0_t68_loop.trips) (v146 : BitVec 32) (v149 : BitVec 32) (k0_hw40 : k0_chk40 i k0_t68 v146 v149) (k0_t84 : Fin (k0_t84_loop i k0_t68 v146 v149).trips), ∀ (k0_h37 : k0_cond37 k0_t68 = 1#1), ∀ (k0_h45 : k0_cond45 i k0_t68 v146 v149 = 1#1), ∀ a, (k0_off658 i k0_t68 v146 v149 k0_t84) a + S1x16.size a ≤ S256x128.size a := fun i k0_t68 v146 v149 k0_hw40 k0_t84 k0_h37 k0_h45 => k0_hw40.2.2.2.2.2.2.2.2.2.2.2.1 k0_t84 k0_h37 k0_h45
theorem k0_off659_inb : ∀ (i : grid0.Coords) (k0_t68 : Fin k0_t68_loop.trips) (v146 : BitVec 32) (v149 : BitVec 32) (k0_hw40 : k0_chk40 i k0_t68 v146 v149) (k0_t84 : Fin (k0_t84_loop i k0_t68 v146 v149).trips), ∀ (k0_h37 : k0_cond37 k0_t68 = 1#1), ∀ (k0_h45 : k0_cond45 i k0_t68 v146 v149 = 1#1), ∀ a, (k0_off659 i k0_t68 v146 v149 k0_t84) a + S1x16.size a ≤ S256x128.size a := fun i k0_t68 v146 v149 k0_hw40 k0_t84 k0_h37 k0_h45 => k0_hw40.2.2.2.2.2.2.2.2.2.2.2.2.1 k0_t84 k0_h37 k0_h45
theorem k0_off660_inb : ∀ (i : grid0.Coords) (k0_t68 : Fin k0_t68_loop.trips) (v146 : BitVec 32) (v149 : BitVec 32) (k0_hw40 : k0_chk40 i k0_t68 v146 v149) (k0_t84 : Fin (k0_t84_loop i k0_t68 v146 v149).trips), ∀ (k0_h37 : k0_cond37 k0_t68 = 1#1), ∀ (k0_h45 : k0_cond45 i k0_t68 v146 v149 = 1#1), ∀ a, (k0_off660 i k0_t68 v146 v149 k0_t84) a + S1x16.size a ≤ S256x128.size a := fun i k0_t68 v146 v149 k0_hw40 k0_t84 k0_h37 k0_h45 => k0_hw40.2.2.2.2.2.2.2.2.2.2.2.2.2.1 k0_t84 k0_h37 k0_h45
theorem k0_off661_inb : ∀ (i : grid0.Coords) (k0_t68 : Fin k0_t68_loop.trips) (v146 : BitVec 32) (v149 : BitVec 32) (k0_hw40 : k0_chk40 i k0_t68 v146 v149) (k0_t84 : Fin (k0_t84_loop i k0_t68 v146 v149).trips), ∀ (k0_h37 : k0_cond37 k0_t68 = 1#1), ∀ (k0_h45 : k0_cond45 i k0_t68 v146 v149 = 1#1), ∀ a, (k0_off661 i k0_t68 v146 v149 k0_t84) a + S1x16.size a ≤ S256x128.size a := fun i k0_t68 v146 v149 k0_hw40 k0_t84 k0_h37 k0_h45 => k0_hw40.2.2.2.2.2.2.2.2.2.2.2.2.2.2.1 k0_t84 k0_h37 k0_h45
theorem k0_off662_inb : ∀ (i : grid0.Coords) (k0_t68 : Fin k0_t68_loop.trips) (v146 : BitVec 32) (v149 : BitVec 32) (k0_hw40 : k0_chk40 i k0_t68 v146 v149) (k0_t84 : Fin (k0_t84_loop i k0_t68 v146 v149).trips), ∀ (k0_h37 : k0_cond37 k0_t68 = 1#1), ∀ (k0_h45 : k0_cond45 i k0_t68 v146 v149 = 1#1), ∀ a, (k0_off662 i k0_t68 v146 v149 k0_t84) a + S1x16.size a ≤ S256x128.size a := fun i k0_t68 v146 v149 k0_hw40 k0_t84 k0_h37 k0_h45 => k0_hw40.2.2.2.2.2.2.2.2.2.2.2.2.2.2.2.1 k0_t84 k0_h37 k0_h45
theorem k0_off663_inb : ∀ (i : grid0.Coords) (k0_t68 : Fin k0_t68_loop.trips) (v146 : BitVec 32) (v149 : BitVec 32) (k0_hw40 : k0_chk40 i k0_t68 v146 v149) (k0_t84 : Fin (k0_t84_loop i k0_t68 v146 v149).trips), ∀ (k0_h37 : k0_cond37 k0_t68 = 1#1), ∀ (k0_h45 : k0_cond45 i k0_t68 v146 v149 = 1#1), ∀ a, (k0_off663 i k0_t68 v146 v149 k0_t84) a + S1x16.size a ≤ S256x128.size a := fun i k0_t68 v146 v149 k0_hw40 k0_t84 k0_h37 k0_h45 => k0_hw40.2.2.2.2.2.2.2.2.2.2.2.2.2.2.2.2.1 k0_t84 k0_h37 k0_h45
theorem k0_off664_inb : ∀ (i : grid0.Coords) (k0_t68 : Fin k0_t68_loop.trips) (v146 : BitVec 32) (v149 : BitVec 32) (k0_hw40 : k0_chk40 i k0_t68 v146 v149) (k0_t84 : Fin (k0_t84_loop i k0_t68 v146 v149).trips), ∀ (k0_h37 : k0_cond37 k0_t68 = 1#1), ∀ (k0_h45 : k0_cond45 i k0_t68 v146 v149 = 1#1), ∀ a, (k0_off664 i k0_t68 v146 v149 k0_t84) a + S1x16.size a ≤ S256x128.size a := fun i k0_t68 v146 v149 k0_hw40 k0_t84 k0_h37 k0_h45 => k0_hw40.2.2.2.2.2.2.2.2.2.2.2.2.2.2.2.2.2 k0_t84 k0_h37 k0_h45

@[reducible] def k0_t85_loop (i : grid0.Coords) (k0_t68 : Fin k0_t68_loop.trips) (v155 : BitVec 32) (v158 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v156 : BitVec 32 := Scalar.maxsi v155 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_85 : BitVec 32 := 1#32
  ⟨v156, v234, c1_i32_85⟩
def k0_cond46 (i : grid0.Coords) (k0_t68 : Fin k0_t68_loop.trips) (v155 : BitVec 32) (v158 : BitVec 32) : BitVec 1 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v159 : BitVec 32 := Scalar.minsi v158 v77
  let v156 : BitVec 32 := Scalar.maxsi v155 v75
  let v160 : BitVec 1 := Scalar.cmpi .sgt v159 v156
  let v161 : BitVec 32 := Scalar.extui v160
  let c0_i32_73 : BitVec 32 := 0#32
  let v162 : BitVec 1 := Scalar.cmpi .ne v161 c0_i32_73
  v162

def k0_off665 (i : grid0.Coords) (k0_t68 : Fin k0_t68_loop.trips) (v155 : BitVec 32) (v158 : BitVec 32) (k0_t85 : Fin (k0_t85_loop i k0_t68 v155 v158).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v156 : BitVec 32 := Scalar.maxsi v155 v75
  let c1_i32_85 : BitVec 32 := 1#32
  let arg19 : BitVec 32 := Scf.iv v156 c1_i32_85 k0_t85
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off666 (i : grid0.Coords) (k0_t68 : Fin k0_t68_loop.trips) (v155 : BitVec 32) (v158 : BitVec 32) (k0_t85 : Fin (k0_t85_loop i k0_t68 v155 v158).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v156 : BitVec 32 := Scalar.maxsi v155 v75
  let c1_i32_85 : BitVec 32 := 1#32
  let arg19 : BitVec 32 := Scf.iv v156 c1_i32_85 k0_t85
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off667 (i : grid0.Coords) (k0_t68 : Fin k0_t68_loop.trips) (v155 : BitVec 32) (v158 : BitVec 32) (k0_t85 : Fin (k0_t85_loop i k0_t68 v155 v158).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v156 : BitVec 32 := Scalar.maxsi v155 v75
  let c1_i32_85 : BitVec 32 := 1#32
  let arg19 : BitVec 32 := Scf.iv v156 c1_i32_85 k0_t85
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off668 (i : grid0.Coords) (k0_t68 : Fin k0_t68_loop.trips) (v155 : BitVec 32) (v158 : BitVec 32) (k0_t85 : Fin (k0_t85_loop i k0_t68 v155 v158).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v156 : BitVec 32 := Scalar.maxsi v155 v75
  let c1_i32_85 : BitVec 32 := 1#32
  let arg19 : BitVec 32 := Scf.iv v156 c1_i32_85 k0_t85
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off669 (i : grid0.Coords) (k0_t68 : Fin k0_t68_loop.trips) (v155 : BitVec 32) (v158 : BitVec 32) (k0_t85 : Fin (k0_t85_loop i k0_t68 v155 v158).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v156 : BitVec 32 := Scalar.maxsi v155 v75
  let c1_i32_85 : BitVec 32 := 1#32
  let arg19 : BitVec 32 := Scf.iv v156 c1_i32_85 k0_t85
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off670 (i : grid0.Coords) (k0_t68 : Fin k0_t68_loop.trips) (v155 : BitVec 32) (v158 : BitVec 32) (k0_t85 : Fin (k0_t85_loop i k0_t68 v155 v158).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v156 : BitVec 32 := Scalar.maxsi v155 v75
  let c1_i32_85 : BitVec 32 := 1#32
  let arg19 : BitVec 32 := Scf.iv v156 c1_i32_85 k0_t85
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off671 (i : grid0.Coords) (k0_t68 : Fin k0_t68_loop.trips) (v155 : BitVec 32) (v158 : BitVec 32) (k0_t85 : Fin (k0_t85_loop i k0_t68 v155 v158).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v156 : BitVec 32 := Scalar.maxsi v155 v75
  let c1_i32_85 : BitVec 32 := 1#32
  let arg19 : BitVec 32 := Scf.iv v156 c1_i32_85 k0_t85
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off672 (i : grid0.Coords) (k0_t68 : Fin k0_t68_loop.trips) (v155 : BitVec 32) (v158 : BitVec 32) (k0_t85 : Fin (k0_t85_loop i k0_t68 v155 v158).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v156 : BitVec 32 := Scalar.maxsi v155 v75
  let c1_i32_85 : BitVec 32 := 1#32
  let arg19 : BitVec 32 := Scf.iv v156 c1_i32_85 k0_t85
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]
@[reducible] def k0_t86_loop (i : grid0.Coords) (k0_t68 : Fin k0_t68_loop.trips) (v155 : BitVec 32) (v158 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v156 : BitVec 32 := Scalar.maxsi v155 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let v231 : BitVec 32 := Scalar.addi v156 v230
  let c1_i32_86 : BitVec 32 := 1#32
  ⟨v234, v231, c1_i32_86⟩
def k0_off673 (i : grid0.Coords) (k0_t68 : Fin k0_t68_loop.trips) (v155 : BitVec 32) (v158 : BitVec 32) (k0_t86 : Fin (k0_t86_loop i k0_t68 v155 v158).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v156 : BitVec 32 := Scalar.maxsi v155 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_86 : BitVec 32 := 1#32
  let arg19 : BitVec 32 := Scf.iv v234 c1_i32_86 k0_t86
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off674 (i : grid0.Coords) (k0_t68 : Fin k0_t68_loop.trips) (v155 : BitVec 32) (v158 : BitVec 32) (k0_t86 : Fin (k0_t86_loop i k0_t68 v155 v158).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v156 : BitVec 32 := Scalar.maxsi v155 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_86 : BitVec 32 := 1#32
  let arg19 : BitVec 32 := Scf.iv v234 c1_i32_86 k0_t86
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off675 (i : grid0.Coords) (k0_t68 : Fin k0_t68_loop.trips) (v155 : BitVec 32) (v158 : BitVec 32) (k0_t86 : Fin (k0_t86_loop i k0_t68 v155 v158).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v156 : BitVec 32 := Scalar.maxsi v155 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_86 : BitVec 32 := 1#32
  let arg19 : BitVec 32 := Scf.iv v234 c1_i32_86 k0_t86
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off676 (i : grid0.Coords) (k0_t68 : Fin k0_t68_loop.trips) (v155 : BitVec 32) (v158 : BitVec 32) (k0_t86 : Fin (k0_t86_loop i k0_t68 v155 v158).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v156 : BitVec 32 := Scalar.maxsi v155 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_86 : BitVec 32 := 1#32
  let arg19 : BitVec 32 := Scf.iv v234 c1_i32_86 k0_t86
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off677 (i : grid0.Coords) (k0_t68 : Fin k0_t68_loop.trips) (v155 : BitVec 32) (v158 : BitVec 32) (k0_t86 : Fin (k0_t86_loop i k0_t68 v155 v158).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v156 : BitVec 32 := Scalar.maxsi v155 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_86 : BitVec 32 := 1#32
  let arg19 : BitVec 32 := Scf.iv v234 c1_i32_86 k0_t86
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off678 (i : grid0.Coords) (k0_t68 : Fin k0_t68_loop.trips) (v155 : BitVec 32) (v158 : BitVec 32) (k0_t86 : Fin (k0_t86_loop i k0_t68 v155 v158).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v156 : BitVec 32 := Scalar.maxsi v155 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_86 : BitVec 32 := 1#32
  let arg19 : BitVec 32 := Scf.iv v234 c1_i32_86 k0_t86
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off679 (i : grid0.Coords) (k0_t68 : Fin k0_t68_loop.trips) (v155 : BitVec 32) (v158 : BitVec 32) (k0_t86 : Fin (k0_t86_loop i k0_t68 v155 v158).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v156 : BitVec 32 := Scalar.maxsi v155 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_86 : BitVec 32 := 1#32
  let arg19 : BitVec 32 := Scf.iv v234 c1_i32_86 k0_t86
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off680 (i : grid0.Coords) (k0_t68 : Fin k0_t68_loop.trips) (v155 : BitVec 32) (v158 : BitVec 32) (k0_t86 : Fin (k0_t86_loop i k0_t68 v155 v158).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v156 : BitVec 32 := Scalar.maxsi v155 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_86 : BitVec 32 := 1#32
  let arg19 : BitVec 32 := Scf.iv v234 c1_i32_86 k0_t86
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]

def k0_chk41 (i : grid0.Coords) (k0_t68 : Fin k0_t68_loop.trips) (v155 : BitVec 32) (v158 : BitVec 32) : Prop :=
  (∀ (k0_h37 : k0_cond37 k0_t68 = 1#1), ∀ (k0_h46 : k0_cond46 i k0_t68 v155 v158 = 1#1), (k0_t85_loop i k0_t68 v155 v158).OK) ∧
  (∀ k0_t85 : Fin (k0_t85_loop i k0_t68 v155 v158).trips, ∀ (k0_h37 : k0_cond37 k0_t68 = 1#1), ∀ (k0_h46 : k0_cond46 i k0_t68 v155 v158 = 1#1), ∀ a, (k0_off665 i k0_t68 v155 v158 k0_t85) a + S1x16.size a ≤ S256x128.size a) ∧
  (∀ k0_t85 : Fin (k0_t85_loop i k0_t68 v155 v158).trips, ∀ (k0_h37 : k0_cond37 k0_t68 = 1#1), ∀ (k0_h46 : k0_cond46 i k0_t68 v155 v158 = 1#1), ∀ a, (k0_off666 i k0_t68 v155 v158 k0_t85) a + S1x16.size a ≤ S256x128.size a) ∧
  (∀ k0_t85 : Fin (k0_t85_loop i k0_t68 v155 v158).trips, ∀ (k0_h37 : k0_cond37 k0_t68 = 1#1), ∀ (k0_h46 : k0_cond46 i k0_t68 v155 v158 = 1#1), ∀ a, (k0_off667 i k0_t68 v155 v158 k0_t85) a + S1x16.size a ≤ S256x128.size a) ∧
  (∀ k0_t85 : Fin (k0_t85_loop i k0_t68 v155 v158).trips, ∀ (k0_h37 : k0_cond37 k0_t68 = 1#1), ∀ (k0_h46 : k0_cond46 i k0_t68 v155 v158 = 1#1), ∀ a, (k0_off668 i k0_t68 v155 v158 k0_t85) a + S1x16.size a ≤ S256x128.size a) ∧
  (∀ k0_t85 : Fin (k0_t85_loop i k0_t68 v155 v158).trips, ∀ (k0_h37 : k0_cond37 k0_t68 = 1#1), ∀ (k0_h46 : k0_cond46 i k0_t68 v155 v158 = 1#1), ∀ a, (k0_off669 i k0_t68 v155 v158 k0_t85) a + S1x16.size a ≤ S256x128.size a) ∧
  (∀ k0_t85 : Fin (k0_t85_loop i k0_t68 v155 v158).trips, ∀ (k0_h37 : k0_cond37 k0_t68 = 1#1), ∀ (k0_h46 : k0_cond46 i k0_t68 v155 v158 = 1#1), ∀ a, (k0_off670 i k0_t68 v155 v158 k0_t85) a + S1x16.size a ≤ S256x128.size a) ∧
  (∀ k0_t85 : Fin (k0_t85_loop i k0_t68 v155 v158).trips, ∀ (k0_h37 : k0_cond37 k0_t68 = 1#1), ∀ (k0_h46 : k0_cond46 i k0_t68 v155 v158 = 1#1), ∀ a, (k0_off671 i k0_t68 v155 v158 k0_t85) a + S1x16.size a ≤ S256x128.size a) ∧
  (∀ k0_t85 : Fin (k0_t85_loop i k0_t68 v155 v158).trips, ∀ (k0_h37 : k0_cond37 k0_t68 = 1#1), ∀ (k0_h46 : k0_cond46 i k0_t68 v155 v158 = 1#1), ∀ a, (k0_off672 i k0_t68 v155 v158 k0_t85) a + S1x16.size a ≤ S256x128.size a) ∧
  (∀ (k0_h37 : k0_cond37 k0_t68 = 1#1), ∀ (k0_h46 : k0_cond46 i k0_t68 v155 v158 = 1#1), (k0_t86_loop i k0_t68 v155 v158).OK) ∧
  (∀ k0_t86 : Fin (k0_t86_loop i k0_t68 v155 v158).trips, ∀ (k0_h37 : k0_cond37 k0_t68 = 1#1), ∀ (k0_h46 : k0_cond46 i k0_t68 v155 v158 = 1#1), ∀ a, (k0_off673 i k0_t68 v155 v158 k0_t86) a + S1x16.size a ≤ S256x128.size a) ∧
  (∀ k0_t86 : Fin (k0_t86_loop i k0_t68 v155 v158).trips, ∀ (k0_h37 : k0_cond37 k0_t68 = 1#1), ∀ (k0_h46 : k0_cond46 i k0_t68 v155 v158 = 1#1), ∀ a, (k0_off674 i k0_t68 v155 v158 k0_t86) a + S1x16.size a ≤ S256x128.size a) ∧
  (∀ k0_t86 : Fin (k0_t86_loop i k0_t68 v155 v158).trips, ∀ (k0_h37 : k0_cond37 k0_t68 = 1#1), ∀ (k0_h46 : k0_cond46 i k0_t68 v155 v158 = 1#1), ∀ a, (k0_off675 i k0_t68 v155 v158 k0_t86) a + S1x16.size a ≤ S256x128.size a) ∧
  (∀ k0_t86 : Fin (k0_t86_loop i k0_t68 v155 v158).trips, ∀ (k0_h37 : k0_cond37 k0_t68 = 1#1), ∀ (k0_h46 : k0_cond46 i k0_t68 v155 v158 = 1#1), ∀ a, (k0_off676 i k0_t68 v155 v158 k0_t86) a + S1x16.size a ≤ S256x128.size a) ∧
  (∀ k0_t86 : Fin (k0_t86_loop i k0_t68 v155 v158).trips, ∀ (k0_h37 : k0_cond37 k0_t68 = 1#1), ∀ (k0_h46 : k0_cond46 i k0_t68 v155 v158 = 1#1), ∀ a, (k0_off677 i k0_t68 v155 v158 k0_t86) a + S1x16.size a ≤ S256x128.size a) ∧
  (∀ k0_t86 : Fin (k0_t86_loop i k0_t68 v155 v158).trips, ∀ (k0_h37 : k0_cond37 k0_t68 = 1#1), ∀ (k0_h46 : k0_cond46 i k0_t68 v155 v158 = 1#1), ∀ a, (k0_off678 i k0_t68 v155 v158 k0_t86) a + S1x16.size a ≤ S256x128.size a) ∧
  (∀ k0_t86 : Fin (k0_t86_loop i k0_t68 v155 v158).trips, ∀ (k0_h37 : k0_cond37 k0_t68 = 1#1), ∀ (k0_h46 : k0_cond46 i k0_t68 v155 v158 = 1#1), ∀ a, (k0_off679 i k0_t68 v155 v158 k0_t86) a + S1x16.size a ≤ S256x128.size a) ∧
  (∀ k0_t86 : Fin (k0_t86_loop i k0_t68 v155 v158).trips, ∀ (k0_h37 : k0_cond37 k0_t68 = 1#1), ∀ (k0_h46 : k0_cond46 i k0_t68 v155 v158 = 1#1), ∀ a, (k0_off680 i k0_t68 v155 v158 k0_t86) a + S1x16.size a ≤ S256x128.size a)
theorem k0_t85_ok : ∀ (i : grid0.Coords) (k0_t68 : Fin k0_t68_loop.trips) (v155 : BitVec 32) (v158 : BitVec 32) (k0_hw41 : k0_chk41 i k0_t68 v155 v158), ∀ (k0_h37 : k0_cond37 k0_t68 = 1#1), ∀ (k0_h46 : k0_cond46 i k0_t68 v155 v158 = 1#1), (k0_t85_loop i k0_t68 v155 v158).OK := fun i k0_t68 v155 v158 k0_hw41 k0_h37 k0_h46 => k0_hw41.1 k0_h37 k0_h46
theorem k0_off665_inb : ∀ (i : grid0.Coords) (k0_t68 : Fin k0_t68_loop.trips) (v155 : BitVec 32) (v158 : BitVec 32) (k0_hw41 : k0_chk41 i k0_t68 v155 v158) (k0_t85 : Fin (k0_t85_loop i k0_t68 v155 v158).trips), ∀ (k0_h37 : k0_cond37 k0_t68 = 1#1), ∀ (k0_h46 : k0_cond46 i k0_t68 v155 v158 = 1#1), ∀ a, (k0_off665 i k0_t68 v155 v158 k0_t85) a + S1x16.size a ≤ S256x128.size a := fun i k0_t68 v155 v158 k0_hw41 k0_t85 k0_h37 k0_h46 => k0_hw41.2.1 k0_t85 k0_h37 k0_h46
theorem k0_off666_inb : ∀ (i : grid0.Coords) (k0_t68 : Fin k0_t68_loop.trips) (v155 : BitVec 32) (v158 : BitVec 32) (k0_hw41 : k0_chk41 i k0_t68 v155 v158) (k0_t85 : Fin (k0_t85_loop i k0_t68 v155 v158).trips), ∀ (k0_h37 : k0_cond37 k0_t68 = 1#1), ∀ (k0_h46 : k0_cond46 i k0_t68 v155 v158 = 1#1), ∀ a, (k0_off666 i k0_t68 v155 v158 k0_t85) a + S1x16.size a ≤ S256x128.size a := fun i k0_t68 v155 v158 k0_hw41 k0_t85 k0_h37 k0_h46 => k0_hw41.2.2.1 k0_t85 k0_h37 k0_h46
theorem k0_off667_inb : ∀ (i : grid0.Coords) (k0_t68 : Fin k0_t68_loop.trips) (v155 : BitVec 32) (v158 : BitVec 32) (k0_hw41 : k0_chk41 i k0_t68 v155 v158) (k0_t85 : Fin (k0_t85_loop i k0_t68 v155 v158).trips), ∀ (k0_h37 : k0_cond37 k0_t68 = 1#1), ∀ (k0_h46 : k0_cond46 i k0_t68 v155 v158 = 1#1), ∀ a, (k0_off667 i k0_t68 v155 v158 k0_t85) a + S1x16.size a ≤ S256x128.size a := fun i k0_t68 v155 v158 k0_hw41 k0_t85 k0_h37 k0_h46 => k0_hw41.2.2.2.1 k0_t85 k0_h37 k0_h46
theorem k0_off668_inb : ∀ (i : grid0.Coords) (k0_t68 : Fin k0_t68_loop.trips) (v155 : BitVec 32) (v158 : BitVec 32) (k0_hw41 : k0_chk41 i k0_t68 v155 v158) (k0_t85 : Fin (k0_t85_loop i k0_t68 v155 v158).trips), ∀ (k0_h37 : k0_cond37 k0_t68 = 1#1), ∀ (k0_h46 : k0_cond46 i k0_t68 v155 v158 = 1#1), ∀ a, (k0_off668 i k0_t68 v155 v158 k0_t85) a + S1x16.size a ≤ S256x128.size a := fun i k0_t68 v155 v158 k0_hw41 k0_t85 k0_h37 k0_h46 => k0_hw41.2.2.2.2.1 k0_t85 k0_h37 k0_h46
theorem k0_off669_inb : ∀ (i : grid0.Coords) (k0_t68 : Fin k0_t68_loop.trips) (v155 : BitVec 32) (v158 : BitVec 32) (k0_hw41 : k0_chk41 i k0_t68 v155 v158) (k0_t85 : Fin (k0_t85_loop i k0_t68 v155 v158).trips), ∀ (k0_h37 : k0_cond37 k0_t68 = 1#1), ∀ (k0_h46 : k0_cond46 i k0_t68 v155 v158 = 1#1), ∀ a, (k0_off669 i k0_t68 v155 v158 k0_t85) a + S1x16.size a ≤ S256x128.size a := fun i k0_t68 v155 v158 k0_hw41 k0_t85 k0_h37 k0_h46 => k0_hw41.2.2.2.2.2.1 k0_t85 k0_h37 k0_h46
theorem k0_off670_inb : ∀ (i : grid0.Coords) (k0_t68 : Fin k0_t68_loop.trips) (v155 : BitVec 32) (v158 : BitVec 32) (k0_hw41 : k0_chk41 i k0_t68 v155 v158) (k0_t85 : Fin (k0_t85_loop i k0_t68 v155 v158).trips), ∀ (k0_h37 : k0_cond37 k0_t68 = 1#1), ∀ (k0_h46 : k0_cond46 i k0_t68 v155 v158 = 1#1), ∀ a, (k0_off670 i k0_t68 v155 v158 k0_t85) a + S1x16.size a ≤ S256x128.size a := fun i k0_t68 v155 v158 k0_hw41 k0_t85 k0_h37 k0_h46 => k0_hw41.2.2.2.2.2.2.1 k0_t85 k0_h37 k0_h46
theorem k0_off671_inb : ∀ (i : grid0.Coords) (k0_t68 : Fin k0_t68_loop.trips) (v155 : BitVec 32) (v158 : BitVec 32) (k0_hw41 : k0_chk41 i k0_t68 v155 v158) (k0_t85 : Fin (k0_t85_loop i k0_t68 v155 v158).trips), ∀ (k0_h37 : k0_cond37 k0_t68 = 1#1), ∀ (k0_h46 : k0_cond46 i k0_t68 v155 v158 = 1#1), ∀ a, (k0_off671 i k0_t68 v155 v158 k0_t85) a + S1x16.size a ≤ S256x128.size a := fun i k0_t68 v155 v158 k0_hw41 k0_t85 k0_h37 k0_h46 => k0_hw41.2.2.2.2.2.2.2.1 k0_t85 k0_h37 k0_h46
theorem k0_off672_inb : ∀ (i : grid0.Coords) (k0_t68 : Fin k0_t68_loop.trips) (v155 : BitVec 32) (v158 : BitVec 32) (k0_hw41 : k0_chk41 i k0_t68 v155 v158) (k0_t85 : Fin (k0_t85_loop i k0_t68 v155 v158).trips), ∀ (k0_h37 : k0_cond37 k0_t68 = 1#1), ∀ (k0_h46 : k0_cond46 i k0_t68 v155 v158 = 1#1), ∀ a, (k0_off672 i k0_t68 v155 v158 k0_t85) a + S1x16.size a ≤ S256x128.size a := fun i k0_t68 v155 v158 k0_hw41 k0_t85 k0_h37 k0_h46 => k0_hw41.2.2.2.2.2.2.2.2.1 k0_t85 k0_h37 k0_h46
theorem k0_t86_ok : ∀ (i : grid0.Coords) (k0_t68 : Fin k0_t68_loop.trips) (v155 : BitVec 32) (v158 : BitVec 32) (k0_hw41 : k0_chk41 i k0_t68 v155 v158), ∀ (k0_h37 : k0_cond37 k0_t68 = 1#1), ∀ (k0_h46 : k0_cond46 i k0_t68 v155 v158 = 1#1), (k0_t86_loop i k0_t68 v155 v158).OK := fun i k0_t68 v155 v158 k0_hw41 k0_h37 k0_h46 => k0_hw41.2.2.2.2.2.2.2.2.2.1 k0_h37 k0_h46
theorem k0_off673_inb : ∀ (i : grid0.Coords) (k0_t68 : Fin k0_t68_loop.trips) (v155 : BitVec 32) (v158 : BitVec 32) (k0_hw41 : k0_chk41 i k0_t68 v155 v158) (k0_t86 : Fin (k0_t86_loop i k0_t68 v155 v158).trips), ∀ (k0_h37 : k0_cond37 k0_t68 = 1#1), ∀ (k0_h46 : k0_cond46 i k0_t68 v155 v158 = 1#1), ∀ a, (k0_off673 i k0_t68 v155 v158 k0_t86) a + S1x16.size a ≤ S256x128.size a := fun i k0_t68 v155 v158 k0_hw41 k0_t86 k0_h37 k0_h46 => k0_hw41.2.2.2.2.2.2.2.2.2.2.1 k0_t86 k0_h37 k0_h46
theorem k0_off674_inb : ∀ (i : grid0.Coords) (k0_t68 : Fin k0_t68_loop.trips) (v155 : BitVec 32) (v158 : BitVec 32) (k0_hw41 : k0_chk41 i k0_t68 v155 v158) (k0_t86 : Fin (k0_t86_loop i k0_t68 v155 v158).trips), ∀ (k0_h37 : k0_cond37 k0_t68 = 1#1), ∀ (k0_h46 : k0_cond46 i k0_t68 v155 v158 = 1#1), ∀ a, (k0_off674 i k0_t68 v155 v158 k0_t86) a + S1x16.size a ≤ S256x128.size a := fun i k0_t68 v155 v158 k0_hw41 k0_t86 k0_h37 k0_h46 => k0_hw41.2.2.2.2.2.2.2.2.2.2.2.1 k0_t86 k0_h37 k0_h46
theorem k0_off675_inb : ∀ (i : grid0.Coords) (k0_t68 : Fin k0_t68_loop.trips) (v155 : BitVec 32) (v158 : BitVec 32) (k0_hw41 : k0_chk41 i k0_t68 v155 v158) (k0_t86 : Fin (k0_t86_loop i k0_t68 v155 v158).trips), ∀ (k0_h37 : k0_cond37 k0_t68 = 1#1), ∀ (k0_h46 : k0_cond46 i k0_t68 v155 v158 = 1#1), ∀ a, (k0_off675 i k0_t68 v155 v158 k0_t86) a + S1x16.size a ≤ S256x128.size a := fun i k0_t68 v155 v158 k0_hw41 k0_t86 k0_h37 k0_h46 => k0_hw41.2.2.2.2.2.2.2.2.2.2.2.2.1 k0_t86 k0_h37 k0_h46
theorem k0_off676_inb : ∀ (i : grid0.Coords) (k0_t68 : Fin k0_t68_loop.trips) (v155 : BitVec 32) (v158 : BitVec 32) (k0_hw41 : k0_chk41 i k0_t68 v155 v158) (k0_t86 : Fin (k0_t86_loop i k0_t68 v155 v158).trips), ∀ (k0_h37 : k0_cond37 k0_t68 = 1#1), ∀ (k0_h46 : k0_cond46 i k0_t68 v155 v158 = 1#1), ∀ a, (k0_off676 i k0_t68 v155 v158 k0_t86) a + S1x16.size a ≤ S256x128.size a := fun i k0_t68 v155 v158 k0_hw41 k0_t86 k0_h37 k0_h46 => k0_hw41.2.2.2.2.2.2.2.2.2.2.2.2.2.1 k0_t86 k0_h37 k0_h46
theorem k0_off677_inb : ∀ (i : grid0.Coords) (k0_t68 : Fin k0_t68_loop.trips) (v155 : BitVec 32) (v158 : BitVec 32) (k0_hw41 : k0_chk41 i k0_t68 v155 v158) (k0_t86 : Fin (k0_t86_loop i k0_t68 v155 v158).trips), ∀ (k0_h37 : k0_cond37 k0_t68 = 1#1), ∀ (k0_h46 : k0_cond46 i k0_t68 v155 v158 = 1#1), ∀ a, (k0_off677 i k0_t68 v155 v158 k0_t86) a + S1x16.size a ≤ S256x128.size a := fun i k0_t68 v155 v158 k0_hw41 k0_t86 k0_h37 k0_h46 => k0_hw41.2.2.2.2.2.2.2.2.2.2.2.2.2.2.1 k0_t86 k0_h37 k0_h46
theorem k0_off678_inb : ∀ (i : grid0.Coords) (k0_t68 : Fin k0_t68_loop.trips) (v155 : BitVec 32) (v158 : BitVec 32) (k0_hw41 : k0_chk41 i k0_t68 v155 v158) (k0_t86 : Fin (k0_t86_loop i k0_t68 v155 v158).trips), ∀ (k0_h37 : k0_cond37 k0_t68 = 1#1), ∀ (k0_h46 : k0_cond46 i k0_t68 v155 v158 = 1#1), ∀ a, (k0_off678 i k0_t68 v155 v158 k0_t86) a + S1x16.size a ≤ S256x128.size a := fun i k0_t68 v155 v158 k0_hw41 k0_t86 k0_h37 k0_h46 => k0_hw41.2.2.2.2.2.2.2.2.2.2.2.2.2.2.2.1 k0_t86 k0_h37 k0_h46
theorem k0_off679_inb : ∀ (i : grid0.Coords) (k0_t68 : Fin k0_t68_loop.trips) (v155 : BitVec 32) (v158 : BitVec 32) (k0_hw41 : k0_chk41 i k0_t68 v155 v158) (k0_t86 : Fin (k0_t86_loop i k0_t68 v155 v158).trips), ∀ (k0_h37 : k0_cond37 k0_t68 = 1#1), ∀ (k0_h46 : k0_cond46 i k0_t68 v155 v158 = 1#1), ∀ a, (k0_off679 i k0_t68 v155 v158 k0_t86) a + S1x16.size a ≤ S256x128.size a := fun i k0_t68 v155 v158 k0_hw41 k0_t86 k0_h37 k0_h46 => k0_hw41.2.2.2.2.2.2.2.2.2.2.2.2.2.2.2.2.1 k0_t86 k0_h37 k0_h46
theorem k0_off680_inb : ∀ (i : grid0.Coords) (k0_t68 : Fin k0_t68_loop.trips) (v155 : BitVec 32) (v158 : BitVec 32) (k0_hw41 : k0_chk41 i k0_t68 v155 v158) (k0_t86 : Fin (k0_t86_loop i k0_t68 v155 v158).trips), ∀ (k0_h37 : k0_cond37 k0_t68 = 1#1), ∀ (k0_h46 : k0_cond46 i k0_t68 v155 v158 = 1#1), ∀ a, (k0_off680 i k0_t68 v155 v158 k0_t86) a + S1x16.size a ≤ S256x128.size a := fun i k0_t68 v155 v158 k0_hw41 k0_t86 k0_h37 k0_h46 => k0_hw41.2.2.2.2.2.2.2.2.2.2.2.2.2.2.2.2.2 k0_t86 k0_h37 k0_h46

@[reducible] def k0_t87_loop (i : grid0.Coords) (k0_t68 : Fin k0_t68_loop.trips) (v164 : BitVec 32) (v167 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v165 : BitVec 32 := Scalar.maxsi v164 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_85 : BitVec 32 := 1#32
  ⟨v165, v234, c1_i32_85⟩
def k0_cond47 (i : grid0.Coords) (k0_t68 : Fin k0_t68_loop.trips) (v164 : BitVec 32) (v167 : BitVec 32) : BitVec 1 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v168 : BitVec 32 := Scalar.minsi v167 v77
  let v165 : BitVec 32 := Scalar.maxsi v164 v75
  let v169 : BitVec 1 := Scalar.cmpi .sgt v168 v165
  let v170 : BitVec 32 := Scalar.extui v169
  let c0_i32_74 : BitVec 32 := 0#32
  let v171 : BitVec 1 := Scalar.cmpi .ne v170 c0_i32_74
  v171

def k0_off681 (i : grid0.Coords) (k0_t68 : Fin k0_t68_loop.trips) (v164 : BitVec 32) (v167 : BitVec 32) (k0_t87 : Fin (k0_t87_loop i k0_t68 v164 v167).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v165 : BitVec 32 := Scalar.maxsi v164 v75
  let c1_i32_85 : BitVec 32 := 1#32
  let arg19 : BitVec 32 := Scf.iv v165 c1_i32_85 k0_t87
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off682 (i : grid0.Coords) (k0_t68 : Fin k0_t68_loop.trips) (v164 : BitVec 32) (v167 : BitVec 32) (k0_t87 : Fin (k0_t87_loop i k0_t68 v164 v167).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v165 : BitVec 32 := Scalar.maxsi v164 v75
  let c1_i32_85 : BitVec 32 := 1#32
  let arg19 : BitVec 32 := Scf.iv v165 c1_i32_85 k0_t87
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off683 (i : grid0.Coords) (k0_t68 : Fin k0_t68_loop.trips) (v164 : BitVec 32) (v167 : BitVec 32) (k0_t87 : Fin (k0_t87_loop i k0_t68 v164 v167).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v165 : BitVec 32 := Scalar.maxsi v164 v75
  let c1_i32_85 : BitVec 32 := 1#32
  let arg19 : BitVec 32 := Scf.iv v165 c1_i32_85 k0_t87
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off684 (i : grid0.Coords) (k0_t68 : Fin k0_t68_loop.trips) (v164 : BitVec 32) (v167 : BitVec 32) (k0_t87 : Fin (k0_t87_loop i k0_t68 v164 v167).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v165 : BitVec 32 := Scalar.maxsi v164 v75
  let c1_i32_85 : BitVec 32 := 1#32
  let arg19 : BitVec 32 := Scf.iv v165 c1_i32_85 k0_t87
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off685 (i : grid0.Coords) (k0_t68 : Fin k0_t68_loop.trips) (v164 : BitVec 32) (v167 : BitVec 32) (k0_t87 : Fin (k0_t87_loop i k0_t68 v164 v167).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v165 : BitVec 32 := Scalar.maxsi v164 v75
  let c1_i32_85 : BitVec 32 := 1#32
  let arg19 : BitVec 32 := Scf.iv v165 c1_i32_85 k0_t87
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off686 (i : grid0.Coords) (k0_t68 : Fin k0_t68_loop.trips) (v164 : BitVec 32) (v167 : BitVec 32) (k0_t87 : Fin (k0_t87_loop i k0_t68 v164 v167).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v165 : BitVec 32 := Scalar.maxsi v164 v75
  let c1_i32_85 : BitVec 32 := 1#32
  let arg19 : BitVec 32 := Scf.iv v165 c1_i32_85 k0_t87
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off687 (i : grid0.Coords) (k0_t68 : Fin k0_t68_loop.trips) (v164 : BitVec 32) (v167 : BitVec 32) (k0_t87 : Fin (k0_t87_loop i k0_t68 v164 v167).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v165 : BitVec 32 := Scalar.maxsi v164 v75
  let c1_i32_85 : BitVec 32 := 1#32
  let arg19 : BitVec 32 := Scf.iv v165 c1_i32_85 k0_t87
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off688 (i : grid0.Coords) (k0_t68 : Fin k0_t68_loop.trips) (v164 : BitVec 32) (v167 : BitVec 32) (k0_t87 : Fin (k0_t87_loop i k0_t68 v164 v167).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v165 : BitVec 32 := Scalar.maxsi v164 v75
  let c1_i32_85 : BitVec 32 := 1#32
  let arg19 : BitVec 32 := Scf.iv v165 c1_i32_85 k0_t87
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]
@[reducible] def k0_t88_loop (i : grid0.Coords) (k0_t68 : Fin k0_t68_loop.trips) (v164 : BitVec 32) (v167 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v165 : BitVec 32 := Scalar.maxsi v164 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let v231 : BitVec 32 := Scalar.addi v165 v230
  let c1_i32_86 : BitVec 32 := 1#32
  ⟨v234, v231, c1_i32_86⟩
def k0_off689 (i : grid0.Coords) (k0_t68 : Fin k0_t68_loop.trips) (v164 : BitVec 32) (v167 : BitVec 32) (k0_t88 : Fin (k0_t88_loop i k0_t68 v164 v167).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v165 : BitVec 32 := Scalar.maxsi v164 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_86 : BitVec 32 := 1#32
  let arg19 : BitVec 32 := Scf.iv v234 c1_i32_86 k0_t88
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off690 (i : grid0.Coords) (k0_t68 : Fin k0_t68_loop.trips) (v164 : BitVec 32) (v167 : BitVec 32) (k0_t88 : Fin (k0_t88_loop i k0_t68 v164 v167).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v165 : BitVec 32 := Scalar.maxsi v164 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_86 : BitVec 32 := 1#32
  let arg19 : BitVec 32 := Scf.iv v234 c1_i32_86 k0_t88
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off691 (i : grid0.Coords) (k0_t68 : Fin k0_t68_loop.trips) (v164 : BitVec 32) (v167 : BitVec 32) (k0_t88 : Fin (k0_t88_loop i k0_t68 v164 v167).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v165 : BitVec 32 := Scalar.maxsi v164 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_86 : BitVec 32 := 1#32
  let arg19 : BitVec 32 := Scf.iv v234 c1_i32_86 k0_t88
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off692 (i : grid0.Coords) (k0_t68 : Fin k0_t68_loop.trips) (v164 : BitVec 32) (v167 : BitVec 32) (k0_t88 : Fin (k0_t88_loop i k0_t68 v164 v167).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v165 : BitVec 32 := Scalar.maxsi v164 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_86 : BitVec 32 := 1#32
  let arg19 : BitVec 32 := Scf.iv v234 c1_i32_86 k0_t88
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off693 (i : grid0.Coords) (k0_t68 : Fin k0_t68_loop.trips) (v164 : BitVec 32) (v167 : BitVec 32) (k0_t88 : Fin (k0_t88_loop i k0_t68 v164 v167).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v165 : BitVec 32 := Scalar.maxsi v164 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_86 : BitVec 32 := 1#32
  let arg19 : BitVec 32 := Scf.iv v234 c1_i32_86 k0_t88
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off694 (i : grid0.Coords) (k0_t68 : Fin k0_t68_loop.trips) (v164 : BitVec 32) (v167 : BitVec 32) (k0_t88 : Fin (k0_t88_loop i k0_t68 v164 v167).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v165 : BitVec 32 := Scalar.maxsi v164 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_86 : BitVec 32 := 1#32
  let arg19 : BitVec 32 := Scf.iv v234 c1_i32_86 k0_t88
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off695 (i : grid0.Coords) (k0_t68 : Fin k0_t68_loop.trips) (v164 : BitVec 32) (v167 : BitVec 32) (k0_t88 : Fin (k0_t88_loop i k0_t68 v164 v167).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v165 : BitVec 32 := Scalar.maxsi v164 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_86 : BitVec 32 := 1#32
  let arg19 : BitVec 32 := Scf.iv v234 c1_i32_86 k0_t88
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off696 (i : grid0.Coords) (k0_t68 : Fin k0_t68_loop.trips) (v164 : BitVec 32) (v167 : BitVec 32) (k0_t88 : Fin (k0_t88_loop i k0_t68 v164 v167).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v165 : BitVec 32 := Scalar.maxsi v164 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_86 : BitVec 32 := 1#32
  let arg19 : BitVec 32 := Scf.iv v234 c1_i32_86 k0_t88
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]

def k0_chk42 (i : grid0.Coords) (k0_t68 : Fin k0_t68_loop.trips) (v164 : BitVec 32) (v167 : BitVec 32) : Prop :=
  (∀ (k0_h37 : k0_cond37 k0_t68 = 1#1), ∀ (k0_h47 : k0_cond47 i k0_t68 v164 v167 = 1#1), (k0_t87_loop i k0_t68 v164 v167).OK) ∧
  (∀ k0_t87 : Fin (k0_t87_loop i k0_t68 v164 v167).trips, ∀ (k0_h37 : k0_cond37 k0_t68 = 1#1), ∀ (k0_h47 : k0_cond47 i k0_t68 v164 v167 = 1#1), ∀ a, (k0_off681 i k0_t68 v164 v167 k0_t87) a + S1x16.size a ≤ S256x128.size a) ∧
  (∀ k0_t87 : Fin (k0_t87_loop i k0_t68 v164 v167).trips, ∀ (k0_h37 : k0_cond37 k0_t68 = 1#1), ∀ (k0_h47 : k0_cond47 i k0_t68 v164 v167 = 1#1), ∀ a, (k0_off682 i k0_t68 v164 v167 k0_t87) a + S1x16.size a ≤ S256x128.size a) ∧
  (∀ k0_t87 : Fin (k0_t87_loop i k0_t68 v164 v167).trips, ∀ (k0_h37 : k0_cond37 k0_t68 = 1#1), ∀ (k0_h47 : k0_cond47 i k0_t68 v164 v167 = 1#1), ∀ a, (k0_off683 i k0_t68 v164 v167 k0_t87) a + S1x16.size a ≤ S256x128.size a) ∧
  (∀ k0_t87 : Fin (k0_t87_loop i k0_t68 v164 v167).trips, ∀ (k0_h37 : k0_cond37 k0_t68 = 1#1), ∀ (k0_h47 : k0_cond47 i k0_t68 v164 v167 = 1#1), ∀ a, (k0_off684 i k0_t68 v164 v167 k0_t87) a + S1x16.size a ≤ S256x128.size a) ∧
  (∀ k0_t87 : Fin (k0_t87_loop i k0_t68 v164 v167).trips, ∀ (k0_h37 : k0_cond37 k0_t68 = 1#1), ∀ (k0_h47 : k0_cond47 i k0_t68 v164 v167 = 1#1), ∀ a, (k0_off685 i k0_t68 v164 v167 k0_t87) a + S1x16.size a ≤ S256x128.size a) ∧
  (∀ k0_t87 : Fin (k0_t87_loop i k0_t68 v164 v167).trips, ∀ (k0_h37 : k0_cond37 k0_t68 = 1#1), ∀ (k0_h47 : k0_cond47 i k0_t68 v164 v167 = 1#1), ∀ a, (k0_off686 i k0_t68 v164 v167 k0_t87) a + S1x16.size a ≤ S256x128.size a) ∧
  (∀ k0_t87 : Fin (k0_t87_loop i k0_t68 v164 v167).trips, ∀ (k0_h37 : k0_cond37 k0_t68 = 1#1), ∀ (k0_h47 : k0_cond47 i k0_t68 v164 v167 = 1#1), ∀ a, (k0_off687 i k0_t68 v164 v167 k0_t87) a + S1x16.size a ≤ S256x128.size a) ∧
  (∀ k0_t87 : Fin (k0_t87_loop i k0_t68 v164 v167).trips, ∀ (k0_h37 : k0_cond37 k0_t68 = 1#1), ∀ (k0_h47 : k0_cond47 i k0_t68 v164 v167 = 1#1), ∀ a, (k0_off688 i k0_t68 v164 v167 k0_t87) a + S1x16.size a ≤ S256x128.size a) ∧
  (∀ (k0_h37 : k0_cond37 k0_t68 = 1#1), ∀ (k0_h47 : k0_cond47 i k0_t68 v164 v167 = 1#1), (k0_t88_loop i k0_t68 v164 v167).OK) ∧
  (∀ k0_t88 : Fin (k0_t88_loop i k0_t68 v164 v167).trips, ∀ (k0_h37 : k0_cond37 k0_t68 = 1#1), ∀ (k0_h47 : k0_cond47 i k0_t68 v164 v167 = 1#1), ∀ a, (k0_off689 i k0_t68 v164 v167 k0_t88) a + S1x16.size a ≤ S256x128.size a) ∧
  (∀ k0_t88 : Fin (k0_t88_loop i k0_t68 v164 v167).trips, ∀ (k0_h37 : k0_cond37 k0_t68 = 1#1), ∀ (k0_h47 : k0_cond47 i k0_t68 v164 v167 = 1#1), ∀ a, (k0_off690 i k0_t68 v164 v167 k0_t88) a + S1x16.size a ≤ S256x128.size a) ∧
  (∀ k0_t88 : Fin (k0_t88_loop i k0_t68 v164 v167).trips, ∀ (k0_h37 : k0_cond37 k0_t68 = 1#1), ∀ (k0_h47 : k0_cond47 i k0_t68 v164 v167 = 1#1), ∀ a, (k0_off691 i k0_t68 v164 v167 k0_t88) a + S1x16.size a ≤ S256x128.size a) ∧
  (∀ k0_t88 : Fin (k0_t88_loop i k0_t68 v164 v167).trips, ∀ (k0_h37 : k0_cond37 k0_t68 = 1#1), ∀ (k0_h47 : k0_cond47 i k0_t68 v164 v167 = 1#1), ∀ a, (k0_off692 i k0_t68 v164 v167 k0_t88) a + S1x16.size a ≤ S256x128.size a) ∧
  (∀ k0_t88 : Fin (k0_t88_loop i k0_t68 v164 v167).trips, ∀ (k0_h37 : k0_cond37 k0_t68 = 1#1), ∀ (k0_h47 : k0_cond47 i k0_t68 v164 v167 = 1#1), ∀ a, (k0_off693 i k0_t68 v164 v167 k0_t88) a + S1x16.size a ≤ S256x128.size a) ∧
  (∀ k0_t88 : Fin (k0_t88_loop i k0_t68 v164 v167).trips, ∀ (k0_h37 : k0_cond37 k0_t68 = 1#1), ∀ (k0_h47 : k0_cond47 i k0_t68 v164 v167 = 1#1), ∀ a, (k0_off694 i k0_t68 v164 v167 k0_t88) a + S1x16.size a ≤ S256x128.size a) ∧
  (∀ k0_t88 : Fin (k0_t88_loop i k0_t68 v164 v167).trips, ∀ (k0_h37 : k0_cond37 k0_t68 = 1#1), ∀ (k0_h47 : k0_cond47 i k0_t68 v164 v167 = 1#1), ∀ a, (k0_off695 i k0_t68 v164 v167 k0_t88) a + S1x16.size a ≤ S256x128.size a) ∧
  (∀ k0_t88 : Fin (k0_t88_loop i k0_t68 v164 v167).trips, ∀ (k0_h37 : k0_cond37 k0_t68 = 1#1), ∀ (k0_h47 : k0_cond47 i k0_t68 v164 v167 = 1#1), ∀ a, (k0_off696 i k0_t68 v164 v167 k0_t88) a + S1x16.size a ≤ S256x128.size a)
theorem k0_t87_ok : ∀ (i : grid0.Coords) (k0_t68 : Fin k0_t68_loop.trips) (v164 : BitVec 32) (v167 : BitVec 32) (k0_hw42 : k0_chk42 i k0_t68 v164 v167), ∀ (k0_h37 : k0_cond37 k0_t68 = 1#1), ∀ (k0_h47 : k0_cond47 i k0_t68 v164 v167 = 1#1), (k0_t87_loop i k0_t68 v164 v167).OK := fun i k0_t68 v164 v167 k0_hw42 k0_h37 k0_h47 => k0_hw42.1 k0_h37 k0_h47
theorem k0_off681_inb : ∀ (i : grid0.Coords) (k0_t68 : Fin k0_t68_loop.trips) (v164 : BitVec 32) (v167 : BitVec 32) (k0_hw42 : k0_chk42 i k0_t68 v164 v167) (k0_t87 : Fin (k0_t87_loop i k0_t68 v164 v167).trips), ∀ (k0_h37 : k0_cond37 k0_t68 = 1#1), ∀ (k0_h47 : k0_cond47 i k0_t68 v164 v167 = 1#1), ∀ a, (k0_off681 i k0_t68 v164 v167 k0_t87) a + S1x16.size a ≤ S256x128.size a := fun i k0_t68 v164 v167 k0_hw42 k0_t87 k0_h37 k0_h47 => k0_hw42.2.1 k0_t87 k0_h37 k0_h47
theorem k0_off682_inb : ∀ (i : grid0.Coords) (k0_t68 : Fin k0_t68_loop.trips) (v164 : BitVec 32) (v167 : BitVec 32) (k0_hw42 : k0_chk42 i k0_t68 v164 v167) (k0_t87 : Fin (k0_t87_loop i k0_t68 v164 v167).trips), ∀ (k0_h37 : k0_cond37 k0_t68 = 1#1), ∀ (k0_h47 : k0_cond47 i k0_t68 v164 v167 = 1#1), ∀ a, (k0_off682 i k0_t68 v164 v167 k0_t87) a + S1x16.size a ≤ S256x128.size a := fun i k0_t68 v164 v167 k0_hw42 k0_t87 k0_h37 k0_h47 => k0_hw42.2.2.1 k0_t87 k0_h37 k0_h47
theorem k0_off683_inb : ∀ (i : grid0.Coords) (k0_t68 : Fin k0_t68_loop.trips) (v164 : BitVec 32) (v167 : BitVec 32) (k0_hw42 : k0_chk42 i k0_t68 v164 v167) (k0_t87 : Fin (k0_t87_loop i k0_t68 v164 v167).trips), ∀ (k0_h37 : k0_cond37 k0_t68 = 1#1), ∀ (k0_h47 : k0_cond47 i k0_t68 v164 v167 = 1#1), ∀ a, (k0_off683 i k0_t68 v164 v167 k0_t87) a + S1x16.size a ≤ S256x128.size a := fun i k0_t68 v164 v167 k0_hw42 k0_t87 k0_h37 k0_h47 => k0_hw42.2.2.2.1 k0_t87 k0_h37 k0_h47
theorem k0_off684_inb : ∀ (i : grid0.Coords) (k0_t68 : Fin k0_t68_loop.trips) (v164 : BitVec 32) (v167 : BitVec 32) (k0_hw42 : k0_chk42 i k0_t68 v164 v167) (k0_t87 : Fin (k0_t87_loop i k0_t68 v164 v167).trips), ∀ (k0_h37 : k0_cond37 k0_t68 = 1#1), ∀ (k0_h47 : k0_cond47 i k0_t68 v164 v167 = 1#1), ∀ a, (k0_off684 i k0_t68 v164 v167 k0_t87) a + S1x16.size a ≤ S256x128.size a := fun i k0_t68 v164 v167 k0_hw42 k0_t87 k0_h37 k0_h47 => k0_hw42.2.2.2.2.1 k0_t87 k0_h37 k0_h47
theorem k0_off685_inb : ∀ (i : grid0.Coords) (k0_t68 : Fin k0_t68_loop.trips) (v164 : BitVec 32) (v167 : BitVec 32) (k0_hw42 : k0_chk42 i k0_t68 v164 v167) (k0_t87 : Fin (k0_t87_loop i k0_t68 v164 v167).trips), ∀ (k0_h37 : k0_cond37 k0_t68 = 1#1), ∀ (k0_h47 : k0_cond47 i k0_t68 v164 v167 = 1#1), ∀ a, (k0_off685 i k0_t68 v164 v167 k0_t87) a + S1x16.size a ≤ S256x128.size a := fun i k0_t68 v164 v167 k0_hw42 k0_t87 k0_h37 k0_h47 => k0_hw42.2.2.2.2.2.1 k0_t87 k0_h37 k0_h47
theorem k0_off686_inb : ∀ (i : grid0.Coords) (k0_t68 : Fin k0_t68_loop.trips) (v164 : BitVec 32) (v167 : BitVec 32) (k0_hw42 : k0_chk42 i k0_t68 v164 v167) (k0_t87 : Fin (k0_t87_loop i k0_t68 v164 v167).trips), ∀ (k0_h37 : k0_cond37 k0_t68 = 1#1), ∀ (k0_h47 : k0_cond47 i k0_t68 v164 v167 = 1#1), ∀ a, (k0_off686 i k0_t68 v164 v167 k0_t87) a + S1x16.size a ≤ S256x128.size a := fun i k0_t68 v164 v167 k0_hw42 k0_t87 k0_h37 k0_h47 => k0_hw42.2.2.2.2.2.2.1 k0_t87 k0_h37 k0_h47
theorem k0_off687_inb : ∀ (i : grid0.Coords) (k0_t68 : Fin k0_t68_loop.trips) (v164 : BitVec 32) (v167 : BitVec 32) (k0_hw42 : k0_chk42 i k0_t68 v164 v167) (k0_t87 : Fin (k0_t87_loop i k0_t68 v164 v167).trips), ∀ (k0_h37 : k0_cond37 k0_t68 = 1#1), ∀ (k0_h47 : k0_cond47 i k0_t68 v164 v167 = 1#1), ∀ a, (k0_off687 i k0_t68 v164 v167 k0_t87) a + S1x16.size a ≤ S256x128.size a := fun i k0_t68 v164 v167 k0_hw42 k0_t87 k0_h37 k0_h47 => k0_hw42.2.2.2.2.2.2.2.1 k0_t87 k0_h37 k0_h47
theorem k0_off688_inb : ∀ (i : grid0.Coords) (k0_t68 : Fin k0_t68_loop.trips) (v164 : BitVec 32) (v167 : BitVec 32) (k0_hw42 : k0_chk42 i k0_t68 v164 v167) (k0_t87 : Fin (k0_t87_loop i k0_t68 v164 v167).trips), ∀ (k0_h37 : k0_cond37 k0_t68 = 1#1), ∀ (k0_h47 : k0_cond47 i k0_t68 v164 v167 = 1#1), ∀ a, (k0_off688 i k0_t68 v164 v167 k0_t87) a + S1x16.size a ≤ S256x128.size a := fun i k0_t68 v164 v167 k0_hw42 k0_t87 k0_h37 k0_h47 => k0_hw42.2.2.2.2.2.2.2.2.1 k0_t87 k0_h37 k0_h47
theorem k0_t88_ok : ∀ (i : grid0.Coords) (k0_t68 : Fin k0_t68_loop.trips) (v164 : BitVec 32) (v167 : BitVec 32) (k0_hw42 : k0_chk42 i k0_t68 v164 v167), ∀ (k0_h37 : k0_cond37 k0_t68 = 1#1), ∀ (k0_h47 : k0_cond47 i k0_t68 v164 v167 = 1#1), (k0_t88_loop i k0_t68 v164 v167).OK := fun i k0_t68 v164 v167 k0_hw42 k0_h37 k0_h47 => k0_hw42.2.2.2.2.2.2.2.2.2.1 k0_h37 k0_h47
theorem k0_off689_inb : ∀ (i : grid0.Coords) (k0_t68 : Fin k0_t68_loop.trips) (v164 : BitVec 32) (v167 : BitVec 32) (k0_hw42 : k0_chk42 i k0_t68 v164 v167) (k0_t88 : Fin (k0_t88_loop i k0_t68 v164 v167).trips), ∀ (k0_h37 : k0_cond37 k0_t68 = 1#1), ∀ (k0_h47 : k0_cond47 i k0_t68 v164 v167 = 1#1), ∀ a, (k0_off689 i k0_t68 v164 v167 k0_t88) a + S1x16.size a ≤ S256x128.size a := fun i k0_t68 v164 v167 k0_hw42 k0_t88 k0_h37 k0_h47 => k0_hw42.2.2.2.2.2.2.2.2.2.2.1 k0_t88 k0_h37 k0_h47
theorem k0_off690_inb : ∀ (i : grid0.Coords) (k0_t68 : Fin k0_t68_loop.trips) (v164 : BitVec 32) (v167 : BitVec 32) (k0_hw42 : k0_chk42 i k0_t68 v164 v167) (k0_t88 : Fin (k0_t88_loop i k0_t68 v164 v167).trips), ∀ (k0_h37 : k0_cond37 k0_t68 = 1#1), ∀ (k0_h47 : k0_cond47 i k0_t68 v164 v167 = 1#1), ∀ a, (k0_off690 i k0_t68 v164 v167 k0_t88) a + S1x16.size a ≤ S256x128.size a := fun i k0_t68 v164 v167 k0_hw42 k0_t88 k0_h37 k0_h47 => k0_hw42.2.2.2.2.2.2.2.2.2.2.2.1 k0_t88 k0_h37 k0_h47
theorem k0_off691_inb : ∀ (i : grid0.Coords) (k0_t68 : Fin k0_t68_loop.trips) (v164 : BitVec 32) (v167 : BitVec 32) (k0_hw42 : k0_chk42 i k0_t68 v164 v167) (k0_t88 : Fin (k0_t88_loop i k0_t68 v164 v167).trips), ∀ (k0_h37 : k0_cond37 k0_t68 = 1#1), ∀ (k0_h47 : k0_cond47 i k0_t68 v164 v167 = 1#1), ∀ a, (k0_off691 i k0_t68 v164 v167 k0_t88) a + S1x16.size a ≤ S256x128.size a := fun i k0_t68 v164 v167 k0_hw42 k0_t88 k0_h37 k0_h47 => k0_hw42.2.2.2.2.2.2.2.2.2.2.2.2.1 k0_t88 k0_h37 k0_h47
theorem k0_off692_inb : ∀ (i : grid0.Coords) (k0_t68 : Fin k0_t68_loop.trips) (v164 : BitVec 32) (v167 : BitVec 32) (k0_hw42 : k0_chk42 i k0_t68 v164 v167) (k0_t88 : Fin (k0_t88_loop i k0_t68 v164 v167).trips), ∀ (k0_h37 : k0_cond37 k0_t68 = 1#1), ∀ (k0_h47 : k0_cond47 i k0_t68 v164 v167 = 1#1), ∀ a, (k0_off692 i k0_t68 v164 v167 k0_t88) a + S1x16.size a ≤ S256x128.size a := fun i k0_t68 v164 v167 k0_hw42 k0_t88 k0_h37 k0_h47 => k0_hw42.2.2.2.2.2.2.2.2.2.2.2.2.2.1 k0_t88 k0_h37 k0_h47
theorem k0_off693_inb : ∀ (i : grid0.Coords) (k0_t68 : Fin k0_t68_loop.trips) (v164 : BitVec 32) (v167 : BitVec 32) (k0_hw42 : k0_chk42 i k0_t68 v164 v167) (k0_t88 : Fin (k0_t88_loop i k0_t68 v164 v167).trips), ∀ (k0_h37 : k0_cond37 k0_t68 = 1#1), ∀ (k0_h47 : k0_cond47 i k0_t68 v164 v167 = 1#1), ∀ a, (k0_off693 i k0_t68 v164 v167 k0_t88) a + S1x16.size a ≤ S256x128.size a := fun i k0_t68 v164 v167 k0_hw42 k0_t88 k0_h37 k0_h47 => k0_hw42.2.2.2.2.2.2.2.2.2.2.2.2.2.2.1 k0_t88 k0_h37 k0_h47
theorem k0_off694_inb : ∀ (i : grid0.Coords) (k0_t68 : Fin k0_t68_loop.trips) (v164 : BitVec 32) (v167 : BitVec 32) (k0_hw42 : k0_chk42 i k0_t68 v164 v167) (k0_t88 : Fin (k0_t88_loop i k0_t68 v164 v167).trips), ∀ (k0_h37 : k0_cond37 k0_t68 = 1#1), ∀ (k0_h47 : k0_cond47 i k0_t68 v164 v167 = 1#1), ∀ a, (k0_off694 i k0_t68 v164 v167 k0_t88) a + S1x16.size a ≤ S256x128.size a := fun i k0_t68 v164 v167 k0_hw42 k0_t88 k0_h37 k0_h47 => k0_hw42.2.2.2.2.2.2.2.2.2.2.2.2.2.2.2.1 k0_t88 k0_h37 k0_h47
theorem k0_off695_inb : ∀ (i : grid0.Coords) (k0_t68 : Fin k0_t68_loop.trips) (v164 : BitVec 32) (v167 : BitVec 32) (k0_hw42 : k0_chk42 i k0_t68 v164 v167) (k0_t88 : Fin (k0_t88_loop i k0_t68 v164 v167).trips), ∀ (k0_h37 : k0_cond37 k0_t68 = 1#1), ∀ (k0_h47 : k0_cond47 i k0_t68 v164 v167 = 1#1), ∀ a, (k0_off695 i k0_t68 v164 v167 k0_t88) a + S1x16.size a ≤ S256x128.size a := fun i k0_t68 v164 v167 k0_hw42 k0_t88 k0_h37 k0_h47 => k0_hw42.2.2.2.2.2.2.2.2.2.2.2.2.2.2.2.2.1 k0_t88 k0_h37 k0_h47
theorem k0_off696_inb : ∀ (i : grid0.Coords) (k0_t68 : Fin k0_t68_loop.trips) (v164 : BitVec 32) (v167 : BitVec 32) (k0_hw42 : k0_chk42 i k0_t68 v164 v167) (k0_t88 : Fin (k0_t88_loop i k0_t68 v164 v167).trips), ∀ (k0_h37 : k0_cond37 k0_t68 = 1#1), ∀ (k0_h47 : k0_cond47 i k0_t68 v164 v167 = 1#1), ∀ a, (k0_off696 i k0_t68 v164 v167 k0_t88) a + S1x16.size a ≤ S256x128.size a := fun i k0_t68 v164 v167 k0_hw42 k0_t88 k0_h37 k0_h47 => k0_hw42.2.2.2.2.2.2.2.2.2.2.2.2.2.2.2.2.2 k0_t88 k0_h37 k0_h47

@[reducible] def k0_t89_loop (i : grid0.Coords) (k0_t68 : Fin k0_t68_loop.trips) (v173 : BitVec 32) (v176 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v174 : BitVec 32 := Scalar.maxsi v173 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_85 : BitVec 32 := 1#32
  ⟨v174, v234, c1_i32_85⟩
def k0_cond48 (i : grid0.Coords) (k0_t68 : Fin k0_t68_loop.trips) (v173 : BitVec 32) (v176 : BitVec 32) : BitVec 1 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v177 : BitVec 32 := Scalar.minsi v176 v77
  let v174 : BitVec 32 := Scalar.maxsi v173 v75
  let v178 : BitVec 1 := Scalar.cmpi .sgt v177 v174
  let v179 : BitVec 32 := Scalar.extui v178
  let c0_i32_75 : BitVec 32 := 0#32
  let v180 : BitVec 1 := Scalar.cmpi .ne v179 c0_i32_75
  v180

def k0_off697 (i : grid0.Coords) (k0_t68 : Fin k0_t68_loop.trips) (v173 : BitVec 32) (v176 : BitVec 32) (k0_t89 : Fin (k0_t89_loop i k0_t68 v173 v176).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v174 : BitVec 32 := Scalar.maxsi v173 v75
  let c1_i32_85 : BitVec 32 := 1#32
  let arg19 : BitVec 32 := Scf.iv v174 c1_i32_85 k0_t89
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off698 (i : grid0.Coords) (k0_t68 : Fin k0_t68_loop.trips) (v173 : BitVec 32) (v176 : BitVec 32) (k0_t89 : Fin (k0_t89_loop i k0_t68 v173 v176).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v174 : BitVec 32 := Scalar.maxsi v173 v75
  let c1_i32_85 : BitVec 32 := 1#32
  let arg19 : BitVec 32 := Scf.iv v174 c1_i32_85 k0_t89
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off699 (i : grid0.Coords) (k0_t68 : Fin k0_t68_loop.trips) (v173 : BitVec 32) (v176 : BitVec 32) (k0_t89 : Fin (k0_t89_loop i k0_t68 v173 v176).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v174 : BitVec 32 := Scalar.maxsi v173 v75
  let c1_i32_85 : BitVec 32 := 1#32
  let arg19 : BitVec 32 := Scf.iv v174 c1_i32_85 k0_t89
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off700 (i : grid0.Coords) (k0_t68 : Fin k0_t68_loop.trips) (v173 : BitVec 32) (v176 : BitVec 32) (k0_t89 : Fin (k0_t89_loop i k0_t68 v173 v176).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v174 : BitVec 32 := Scalar.maxsi v173 v75
  let c1_i32_85 : BitVec 32 := 1#32
  let arg19 : BitVec 32 := Scf.iv v174 c1_i32_85 k0_t89
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off701 (i : grid0.Coords) (k0_t68 : Fin k0_t68_loop.trips) (v173 : BitVec 32) (v176 : BitVec 32) (k0_t89 : Fin (k0_t89_loop i k0_t68 v173 v176).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v174 : BitVec 32 := Scalar.maxsi v173 v75
  let c1_i32_85 : BitVec 32 := 1#32
  let arg19 : BitVec 32 := Scf.iv v174 c1_i32_85 k0_t89
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off702 (i : grid0.Coords) (k0_t68 : Fin k0_t68_loop.trips) (v173 : BitVec 32) (v176 : BitVec 32) (k0_t89 : Fin (k0_t89_loop i k0_t68 v173 v176).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v174 : BitVec 32 := Scalar.maxsi v173 v75
  let c1_i32_85 : BitVec 32 := 1#32
  let arg19 : BitVec 32 := Scf.iv v174 c1_i32_85 k0_t89
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off703 (i : grid0.Coords) (k0_t68 : Fin k0_t68_loop.trips) (v173 : BitVec 32) (v176 : BitVec 32) (k0_t89 : Fin (k0_t89_loop i k0_t68 v173 v176).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v174 : BitVec 32 := Scalar.maxsi v173 v75
  let c1_i32_85 : BitVec 32 := 1#32
  let arg19 : BitVec 32 := Scf.iv v174 c1_i32_85 k0_t89
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off704 (i : grid0.Coords) (k0_t68 : Fin k0_t68_loop.trips) (v173 : BitVec 32) (v176 : BitVec 32) (k0_t89 : Fin (k0_t89_loop i k0_t68 v173 v176).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v174 : BitVec 32 := Scalar.maxsi v173 v75
  let c1_i32_85 : BitVec 32 := 1#32
  let arg19 : BitVec 32 := Scf.iv v174 c1_i32_85 k0_t89
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]
@[reducible] def k0_t90_loop (i : grid0.Coords) (k0_t68 : Fin k0_t68_loop.trips) (v173 : BitVec 32) (v176 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v174 : BitVec 32 := Scalar.maxsi v173 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let v231 : BitVec 32 := Scalar.addi v174 v230
  let c1_i32_86 : BitVec 32 := 1#32
  ⟨v234, v231, c1_i32_86⟩
def k0_off705 (i : grid0.Coords) (k0_t68 : Fin k0_t68_loop.trips) (v173 : BitVec 32) (v176 : BitVec 32) (k0_t90 : Fin (k0_t90_loop i k0_t68 v173 v176).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v174 : BitVec 32 := Scalar.maxsi v173 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_86 : BitVec 32 := 1#32
  let arg19 : BitVec 32 := Scf.iv v234 c1_i32_86 k0_t90
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off706 (i : grid0.Coords) (k0_t68 : Fin k0_t68_loop.trips) (v173 : BitVec 32) (v176 : BitVec 32) (k0_t90 : Fin (k0_t90_loop i k0_t68 v173 v176).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v174 : BitVec 32 := Scalar.maxsi v173 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_86 : BitVec 32 := 1#32
  let arg19 : BitVec 32 := Scf.iv v234 c1_i32_86 k0_t90
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off707 (i : grid0.Coords) (k0_t68 : Fin k0_t68_loop.trips) (v173 : BitVec 32) (v176 : BitVec 32) (k0_t90 : Fin (k0_t90_loop i k0_t68 v173 v176).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v174 : BitVec 32 := Scalar.maxsi v173 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_86 : BitVec 32 := 1#32
  let arg19 : BitVec 32 := Scf.iv v234 c1_i32_86 k0_t90
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off708 (i : grid0.Coords) (k0_t68 : Fin k0_t68_loop.trips) (v173 : BitVec 32) (v176 : BitVec 32) (k0_t90 : Fin (k0_t90_loop i k0_t68 v173 v176).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v174 : BitVec 32 := Scalar.maxsi v173 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_86 : BitVec 32 := 1#32
  let arg19 : BitVec 32 := Scf.iv v234 c1_i32_86 k0_t90
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off709 (i : grid0.Coords) (k0_t68 : Fin k0_t68_loop.trips) (v173 : BitVec 32) (v176 : BitVec 32) (k0_t90 : Fin (k0_t90_loop i k0_t68 v173 v176).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v174 : BitVec 32 := Scalar.maxsi v173 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_86 : BitVec 32 := 1#32
  let arg19 : BitVec 32 := Scf.iv v234 c1_i32_86 k0_t90
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off710 (i : grid0.Coords) (k0_t68 : Fin k0_t68_loop.trips) (v173 : BitVec 32) (v176 : BitVec 32) (k0_t90 : Fin (k0_t90_loop i k0_t68 v173 v176).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v174 : BitVec 32 := Scalar.maxsi v173 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_86 : BitVec 32 := 1#32
  let arg19 : BitVec 32 := Scf.iv v234 c1_i32_86 k0_t90
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off711 (i : grid0.Coords) (k0_t68 : Fin k0_t68_loop.trips) (v173 : BitVec 32) (v176 : BitVec 32) (k0_t90 : Fin (k0_t90_loop i k0_t68 v173 v176).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v174 : BitVec 32 := Scalar.maxsi v173 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_86 : BitVec 32 := 1#32
  let arg19 : BitVec 32 := Scf.iv v234 c1_i32_86 k0_t90
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off712 (i : grid0.Coords) (k0_t68 : Fin k0_t68_loop.trips) (v173 : BitVec 32) (v176 : BitVec 32) (k0_t90 : Fin (k0_t90_loop i k0_t68 v173 v176).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v174 : BitVec 32 := Scalar.maxsi v173 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_86 : BitVec 32 := 1#32
  let arg19 : BitVec 32 := Scf.iv v234 c1_i32_86 k0_t90
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]

def k0_chk43 (i : grid0.Coords) (k0_t68 : Fin k0_t68_loop.trips) (v173 : BitVec 32) (v176 : BitVec 32) : Prop :=
  (∀ (k0_h37 : k0_cond37 k0_t68 = 1#1), ∀ (k0_h48 : k0_cond48 i k0_t68 v173 v176 = 1#1), (k0_t89_loop i k0_t68 v173 v176).OK) ∧
  (∀ k0_t89 : Fin (k0_t89_loop i k0_t68 v173 v176).trips, ∀ (k0_h37 : k0_cond37 k0_t68 = 1#1), ∀ (k0_h48 : k0_cond48 i k0_t68 v173 v176 = 1#1), ∀ a, (k0_off697 i k0_t68 v173 v176 k0_t89) a + S1x16.size a ≤ S256x128.size a) ∧
  (∀ k0_t89 : Fin (k0_t89_loop i k0_t68 v173 v176).trips, ∀ (k0_h37 : k0_cond37 k0_t68 = 1#1), ∀ (k0_h48 : k0_cond48 i k0_t68 v173 v176 = 1#1), ∀ a, (k0_off698 i k0_t68 v173 v176 k0_t89) a + S1x16.size a ≤ S256x128.size a) ∧
  (∀ k0_t89 : Fin (k0_t89_loop i k0_t68 v173 v176).trips, ∀ (k0_h37 : k0_cond37 k0_t68 = 1#1), ∀ (k0_h48 : k0_cond48 i k0_t68 v173 v176 = 1#1), ∀ a, (k0_off699 i k0_t68 v173 v176 k0_t89) a + S1x16.size a ≤ S256x128.size a) ∧
  (∀ k0_t89 : Fin (k0_t89_loop i k0_t68 v173 v176).trips, ∀ (k0_h37 : k0_cond37 k0_t68 = 1#1), ∀ (k0_h48 : k0_cond48 i k0_t68 v173 v176 = 1#1), ∀ a, (k0_off700 i k0_t68 v173 v176 k0_t89) a + S1x16.size a ≤ S256x128.size a) ∧
  (∀ k0_t89 : Fin (k0_t89_loop i k0_t68 v173 v176).trips, ∀ (k0_h37 : k0_cond37 k0_t68 = 1#1), ∀ (k0_h48 : k0_cond48 i k0_t68 v173 v176 = 1#1), ∀ a, (k0_off701 i k0_t68 v173 v176 k0_t89) a + S1x16.size a ≤ S256x128.size a) ∧
  (∀ k0_t89 : Fin (k0_t89_loop i k0_t68 v173 v176).trips, ∀ (k0_h37 : k0_cond37 k0_t68 = 1#1), ∀ (k0_h48 : k0_cond48 i k0_t68 v173 v176 = 1#1), ∀ a, (k0_off702 i k0_t68 v173 v176 k0_t89) a + S1x16.size a ≤ S256x128.size a) ∧
  (∀ k0_t89 : Fin (k0_t89_loop i k0_t68 v173 v176).trips, ∀ (k0_h37 : k0_cond37 k0_t68 = 1#1), ∀ (k0_h48 : k0_cond48 i k0_t68 v173 v176 = 1#1), ∀ a, (k0_off703 i k0_t68 v173 v176 k0_t89) a + S1x16.size a ≤ S256x128.size a) ∧
  (∀ k0_t89 : Fin (k0_t89_loop i k0_t68 v173 v176).trips, ∀ (k0_h37 : k0_cond37 k0_t68 = 1#1), ∀ (k0_h48 : k0_cond48 i k0_t68 v173 v176 = 1#1), ∀ a, (k0_off704 i k0_t68 v173 v176 k0_t89) a + S1x16.size a ≤ S256x128.size a) ∧
  (∀ (k0_h37 : k0_cond37 k0_t68 = 1#1), ∀ (k0_h48 : k0_cond48 i k0_t68 v173 v176 = 1#1), (k0_t90_loop i k0_t68 v173 v176).OK) ∧
  (∀ k0_t90 : Fin (k0_t90_loop i k0_t68 v173 v176).trips, ∀ (k0_h37 : k0_cond37 k0_t68 = 1#1), ∀ (k0_h48 : k0_cond48 i k0_t68 v173 v176 = 1#1), ∀ a, (k0_off705 i k0_t68 v173 v176 k0_t90) a + S1x16.size a ≤ S256x128.size a) ∧
  (∀ k0_t90 : Fin (k0_t90_loop i k0_t68 v173 v176).trips, ∀ (k0_h37 : k0_cond37 k0_t68 = 1#1), ∀ (k0_h48 : k0_cond48 i k0_t68 v173 v176 = 1#1), ∀ a, (k0_off706 i k0_t68 v173 v176 k0_t90) a + S1x16.size a ≤ S256x128.size a) ∧
  (∀ k0_t90 : Fin (k0_t90_loop i k0_t68 v173 v176).trips, ∀ (k0_h37 : k0_cond37 k0_t68 = 1#1), ∀ (k0_h48 : k0_cond48 i k0_t68 v173 v176 = 1#1), ∀ a, (k0_off707 i k0_t68 v173 v176 k0_t90) a + S1x16.size a ≤ S256x128.size a) ∧
  (∀ k0_t90 : Fin (k0_t90_loop i k0_t68 v173 v176).trips, ∀ (k0_h37 : k0_cond37 k0_t68 = 1#1), ∀ (k0_h48 : k0_cond48 i k0_t68 v173 v176 = 1#1), ∀ a, (k0_off708 i k0_t68 v173 v176 k0_t90) a + S1x16.size a ≤ S256x128.size a) ∧
  (∀ k0_t90 : Fin (k0_t90_loop i k0_t68 v173 v176).trips, ∀ (k0_h37 : k0_cond37 k0_t68 = 1#1), ∀ (k0_h48 : k0_cond48 i k0_t68 v173 v176 = 1#1), ∀ a, (k0_off709 i k0_t68 v173 v176 k0_t90) a + S1x16.size a ≤ S256x128.size a) ∧
  (∀ k0_t90 : Fin (k0_t90_loop i k0_t68 v173 v176).trips, ∀ (k0_h37 : k0_cond37 k0_t68 = 1#1), ∀ (k0_h48 : k0_cond48 i k0_t68 v173 v176 = 1#1), ∀ a, (k0_off710 i k0_t68 v173 v176 k0_t90) a + S1x16.size a ≤ S256x128.size a) ∧
  (∀ k0_t90 : Fin (k0_t90_loop i k0_t68 v173 v176).trips, ∀ (k0_h37 : k0_cond37 k0_t68 = 1#1), ∀ (k0_h48 : k0_cond48 i k0_t68 v173 v176 = 1#1), ∀ a, (k0_off711 i k0_t68 v173 v176 k0_t90) a + S1x16.size a ≤ S256x128.size a) ∧
  (∀ k0_t90 : Fin (k0_t90_loop i k0_t68 v173 v176).trips, ∀ (k0_h37 : k0_cond37 k0_t68 = 1#1), ∀ (k0_h48 : k0_cond48 i k0_t68 v173 v176 = 1#1), ∀ a, (k0_off712 i k0_t68 v173 v176 k0_t90) a + S1x16.size a ≤ S256x128.size a)
theorem k0_t89_ok : ∀ (i : grid0.Coords) (k0_t68 : Fin k0_t68_loop.trips) (v173 : BitVec 32) (v176 : BitVec 32) (k0_hw43 : k0_chk43 i k0_t68 v173 v176), ∀ (k0_h37 : k0_cond37 k0_t68 = 1#1), ∀ (k0_h48 : k0_cond48 i k0_t68 v173 v176 = 1#1), (k0_t89_loop i k0_t68 v173 v176).OK := fun i k0_t68 v173 v176 k0_hw43 k0_h37 k0_h48 => k0_hw43.1 k0_h37 k0_h48
theorem k0_off697_inb : ∀ (i : grid0.Coords) (k0_t68 : Fin k0_t68_loop.trips) (v173 : BitVec 32) (v176 : BitVec 32) (k0_hw43 : k0_chk43 i k0_t68 v173 v176) (k0_t89 : Fin (k0_t89_loop i k0_t68 v173 v176).trips), ∀ (k0_h37 : k0_cond37 k0_t68 = 1#1), ∀ (k0_h48 : k0_cond48 i k0_t68 v173 v176 = 1#1), ∀ a, (k0_off697 i k0_t68 v173 v176 k0_t89) a + S1x16.size a ≤ S256x128.size a := fun i k0_t68 v173 v176 k0_hw43 k0_t89 k0_h37 k0_h48 => k0_hw43.2.1 k0_t89 k0_h37 k0_h48
theorem k0_off698_inb : ∀ (i : grid0.Coords) (k0_t68 : Fin k0_t68_loop.trips) (v173 : BitVec 32) (v176 : BitVec 32) (k0_hw43 : k0_chk43 i k0_t68 v173 v176) (k0_t89 : Fin (k0_t89_loop i k0_t68 v173 v176).trips), ∀ (k0_h37 : k0_cond37 k0_t68 = 1#1), ∀ (k0_h48 : k0_cond48 i k0_t68 v173 v176 = 1#1), ∀ a, (k0_off698 i k0_t68 v173 v176 k0_t89) a + S1x16.size a ≤ S256x128.size a := fun i k0_t68 v173 v176 k0_hw43 k0_t89 k0_h37 k0_h48 => k0_hw43.2.2.1 k0_t89 k0_h37 k0_h48
theorem k0_off699_inb : ∀ (i : grid0.Coords) (k0_t68 : Fin k0_t68_loop.trips) (v173 : BitVec 32) (v176 : BitVec 32) (k0_hw43 : k0_chk43 i k0_t68 v173 v176) (k0_t89 : Fin (k0_t89_loop i k0_t68 v173 v176).trips), ∀ (k0_h37 : k0_cond37 k0_t68 = 1#1), ∀ (k0_h48 : k0_cond48 i k0_t68 v173 v176 = 1#1), ∀ a, (k0_off699 i k0_t68 v173 v176 k0_t89) a + S1x16.size a ≤ S256x128.size a := fun i k0_t68 v173 v176 k0_hw43 k0_t89 k0_h37 k0_h48 => k0_hw43.2.2.2.1 k0_t89 k0_h37 k0_h48
theorem k0_off700_inb : ∀ (i : grid0.Coords) (k0_t68 : Fin k0_t68_loop.trips) (v173 : BitVec 32) (v176 : BitVec 32) (k0_hw43 : k0_chk43 i k0_t68 v173 v176) (k0_t89 : Fin (k0_t89_loop i k0_t68 v173 v176).trips), ∀ (k0_h37 : k0_cond37 k0_t68 = 1#1), ∀ (k0_h48 : k0_cond48 i k0_t68 v173 v176 = 1#1), ∀ a, (k0_off700 i k0_t68 v173 v176 k0_t89) a + S1x16.size a ≤ S256x128.size a := fun i k0_t68 v173 v176 k0_hw43 k0_t89 k0_h37 k0_h48 => k0_hw43.2.2.2.2.1 k0_t89 k0_h37 k0_h48
theorem k0_off701_inb : ∀ (i : grid0.Coords) (k0_t68 : Fin k0_t68_loop.trips) (v173 : BitVec 32) (v176 : BitVec 32) (k0_hw43 : k0_chk43 i k0_t68 v173 v176) (k0_t89 : Fin (k0_t89_loop i k0_t68 v173 v176).trips), ∀ (k0_h37 : k0_cond37 k0_t68 = 1#1), ∀ (k0_h48 : k0_cond48 i k0_t68 v173 v176 = 1#1), ∀ a, (k0_off701 i k0_t68 v173 v176 k0_t89) a + S1x16.size a ≤ S256x128.size a := fun i k0_t68 v173 v176 k0_hw43 k0_t89 k0_h37 k0_h48 => k0_hw43.2.2.2.2.2.1 k0_t89 k0_h37 k0_h48
theorem k0_off702_inb : ∀ (i : grid0.Coords) (k0_t68 : Fin k0_t68_loop.trips) (v173 : BitVec 32) (v176 : BitVec 32) (k0_hw43 : k0_chk43 i k0_t68 v173 v176) (k0_t89 : Fin (k0_t89_loop i k0_t68 v173 v176).trips), ∀ (k0_h37 : k0_cond37 k0_t68 = 1#1), ∀ (k0_h48 : k0_cond48 i k0_t68 v173 v176 = 1#1), ∀ a, (k0_off702 i k0_t68 v173 v176 k0_t89) a + S1x16.size a ≤ S256x128.size a := fun i k0_t68 v173 v176 k0_hw43 k0_t89 k0_h37 k0_h48 => k0_hw43.2.2.2.2.2.2.1 k0_t89 k0_h37 k0_h48
theorem k0_off703_inb : ∀ (i : grid0.Coords) (k0_t68 : Fin k0_t68_loop.trips) (v173 : BitVec 32) (v176 : BitVec 32) (k0_hw43 : k0_chk43 i k0_t68 v173 v176) (k0_t89 : Fin (k0_t89_loop i k0_t68 v173 v176).trips), ∀ (k0_h37 : k0_cond37 k0_t68 = 1#1), ∀ (k0_h48 : k0_cond48 i k0_t68 v173 v176 = 1#1), ∀ a, (k0_off703 i k0_t68 v173 v176 k0_t89) a + S1x16.size a ≤ S256x128.size a := fun i k0_t68 v173 v176 k0_hw43 k0_t89 k0_h37 k0_h48 => k0_hw43.2.2.2.2.2.2.2.1 k0_t89 k0_h37 k0_h48
theorem k0_off704_inb : ∀ (i : grid0.Coords) (k0_t68 : Fin k0_t68_loop.trips) (v173 : BitVec 32) (v176 : BitVec 32) (k0_hw43 : k0_chk43 i k0_t68 v173 v176) (k0_t89 : Fin (k0_t89_loop i k0_t68 v173 v176).trips), ∀ (k0_h37 : k0_cond37 k0_t68 = 1#1), ∀ (k0_h48 : k0_cond48 i k0_t68 v173 v176 = 1#1), ∀ a, (k0_off704 i k0_t68 v173 v176 k0_t89) a + S1x16.size a ≤ S256x128.size a := fun i k0_t68 v173 v176 k0_hw43 k0_t89 k0_h37 k0_h48 => k0_hw43.2.2.2.2.2.2.2.2.1 k0_t89 k0_h37 k0_h48
theorem k0_t90_ok : ∀ (i : grid0.Coords) (k0_t68 : Fin k0_t68_loop.trips) (v173 : BitVec 32) (v176 : BitVec 32) (k0_hw43 : k0_chk43 i k0_t68 v173 v176), ∀ (k0_h37 : k0_cond37 k0_t68 = 1#1), ∀ (k0_h48 : k0_cond48 i k0_t68 v173 v176 = 1#1), (k0_t90_loop i k0_t68 v173 v176).OK := fun i k0_t68 v173 v176 k0_hw43 k0_h37 k0_h48 => k0_hw43.2.2.2.2.2.2.2.2.2.1 k0_h37 k0_h48
theorem k0_off705_inb : ∀ (i : grid0.Coords) (k0_t68 : Fin k0_t68_loop.trips) (v173 : BitVec 32) (v176 : BitVec 32) (k0_hw43 : k0_chk43 i k0_t68 v173 v176) (k0_t90 : Fin (k0_t90_loop i k0_t68 v173 v176).trips), ∀ (k0_h37 : k0_cond37 k0_t68 = 1#1), ∀ (k0_h48 : k0_cond48 i k0_t68 v173 v176 = 1#1), ∀ a, (k0_off705 i k0_t68 v173 v176 k0_t90) a + S1x16.size a ≤ S256x128.size a := fun i k0_t68 v173 v176 k0_hw43 k0_t90 k0_h37 k0_h48 => k0_hw43.2.2.2.2.2.2.2.2.2.2.1 k0_t90 k0_h37 k0_h48
theorem k0_off706_inb : ∀ (i : grid0.Coords) (k0_t68 : Fin k0_t68_loop.trips) (v173 : BitVec 32) (v176 : BitVec 32) (k0_hw43 : k0_chk43 i k0_t68 v173 v176) (k0_t90 : Fin (k0_t90_loop i k0_t68 v173 v176).trips), ∀ (k0_h37 : k0_cond37 k0_t68 = 1#1), ∀ (k0_h48 : k0_cond48 i k0_t68 v173 v176 = 1#1), ∀ a, (k0_off706 i k0_t68 v173 v176 k0_t90) a + S1x16.size a ≤ S256x128.size a := fun i k0_t68 v173 v176 k0_hw43 k0_t90 k0_h37 k0_h48 => k0_hw43.2.2.2.2.2.2.2.2.2.2.2.1 k0_t90 k0_h37 k0_h48
theorem k0_off707_inb : ∀ (i : grid0.Coords) (k0_t68 : Fin k0_t68_loop.trips) (v173 : BitVec 32) (v176 : BitVec 32) (k0_hw43 : k0_chk43 i k0_t68 v173 v176) (k0_t90 : Fin (k0_t90_loop i k0_t68 v173 v176).trips), ∀ (k0_h37 : k0_cond37 k0_t68 = 1#1), ∀ (k0_h48 : k0_cond48 i k0_t68 v173 v176 = 1#1), ∀ a, (k0_off707 i k0_t68 v173 v176 k0_t90) a + S1x16.size a ≤ S256x128.size a := fun i k0_t68 v173 v176 k0_hw43 k0_t90 k0_h37 k0_h48 => k0_hw43.2.2.2.2.2.2.2.2.2.2.2.2.1 k0_t90 k0_h37 k0_h48
theorem k0_off708_inb : ∀ (i : grid0.Coords) (k0_t68 : Fin k0_t68_loop.trips) (v173 : BitVec 32) (v176 : BitVec 32) (k0_hw43 : k0_chk43 i k0_t68 v173 v176) (k0_t90 : Fin (k0_t90_loop i k0_t68 v173 v176).trips), ∀ (k0_h37 : k0_cond37 k0_t68 = 1#1), ∀ (k0_h48 : k0_cond48 i k0_t68 v173 v176 = 1#1), ∀ a, (k0_off708 i k0_t68 v173 v176 k0_t90) a + S1x16.size a ≤ S256x128.size a := fun i k0_t68 v173 v176 k0_hw43 k0_t90 k0_h37 k0_h48 => k0_hw43.2.2.2.2.2.2.2.2.2.2.2.2.2.1 k0_t90 k0_h37 k0_h48
theorem k0_off709_inb : ∀ (i : grid0.Coords) (k0_t68 : Fin k0_t68_loop.trips) (v173 : BitVec 32) (v176 : BitVec 32) (k0_hw43 : k0_chk43 i k0_t68 v173 v176) (k0_t90 : Fin (k0_t90_loop i k0_t68 v173 v176).trips), ∀ (k0_h37 : k0_cond37 k0_t68 = 1#1), ∀ (k0_h48 : k0_cond48 i k0_t68 v173 v176 = 1#1), ∀ a, (k0_off709 i k0_t68 v173 v176 k0_t90) a + S1x16.size a ≤ S256x128.size a := fun i k0_t68 v173 v176 k0_hw43 k0_t90 k0_h37 k0_h48 => k0_hw43.2.2.2.2.2.2.2.2.2.2.2.2.2.2.1 k0_t90 k0_h37 k0_h48
theorem k0_off710_inb : ∀ (i : grid0.Coords) (k0_t68 : Fin k0_t68_loop.trips) (v173 : BitVec 32) (v176 : BitVec 32) (k0_hw43 : k0_chk43 i k0_t68 v173 v176) (k0_t90 : Fin (k0_t90_loop i k0_t68 v173 v176).trips), ∀ (k0_h37 : k0_cond37 k0_t68 = 1#1), ∀ (k0_h48 : k0_cond48 i k0_t68 v173 v176 = 1#1), ∀ a, (k0_off710 i k0_t68 v173 v176 k0_t90) a + S1x16.size a ≤ S256x128.size a := fun i k0_t68 v173 v176 k0_hw43 k0_t90 k0_h37 k0_h48 => k0_hw43.2.2.2.2.2.2.2.2.2.2.2.2.2.2.2.1 k0_t90 k0_h37 k0_h48
theorem k0_off711_inb : ∀ (i : grid0.Coords) (k0_t68 : Fin k0_t68_loop.trips) (v173 : BitVec 32) (v176 : BitVec 32) (k0_hw43 : k0_chk43 i k0_t68 v173 v176) (k0_t90 : Fin (k0_t90_loop i k0_t68 v173 v176).trips), ∀ (k0_h37 : k0_cond37 k0_t68 = 1#1), ∀ (k0_h48 : k0_cond48 i k0_t68 v173 v176 = 1#1), ∀ a, (k0_off711 i k0_t68 v173 v176 k0_t90) a + S1x16.size a ≤ S256x128.size a := fun i k0_t68 v173 v176 k0_hw43 k0_t90 k0_h37 k0_h48 => k0_hw43.2.2.2.2.2.2.2.2.2.2.2.2.2.2.2.2.1 k0_t90 k0_h37 k0_h48
theorem k0_off712_inb : ∀ (i : grid0.Coords) (k0_t68 : Fin k0_t68_loop.trips) (v173 : BitVec 32) (v176 : BitVec 32) (k0_hw43 : k0_chk43 i k0_t68 v173 v176) (k0_t90 : Fin (k0_t90_loop i k0_t68 v173 v176).trips), ∀ (k0_h37 : k0_cond37 k0_t68 = 1#1), ∀ (k0_h48 : k0_cond48 i k0_t68 v173 v176 = 1#1), ∀ a, (k0_off712 i k0_t68 v173 v176 k0_t90) a + S1x16.size a ≤ S256x128.size a := fun i k0_t68 v173 v176 k0_hw43 k0_t90 k0_h37 k0_h48 => k0_hw43.2.2.2.2.2.2.2.2.2.2.2.2.2.2.2.2.2 k0_t90 k0_h37 k0_h48

@[reducible] def k0_t91_loop (i : grid0.Coords) (k0_t68 : Fin k0_t68_loop.trips) (v182 : BitVec 32) (v185 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v183 : BitVec 32 := Scalar.maxsi v182 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_85 : BitVec 32 := 1#32
  ⟨v183, v234, c1_i32_85⟩
def k0_cond49 (i : grid0.Coords) (k0_t68 : Fin k0_t68_loop.trips) (v182 : BitVec 32) (v185 : BitVec 32) : BitVec 1 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v186 : BitVec 32 := Scalar.minsi v185 v77
  let v183 : BitVec 32 := Scalar.maxsi v182 v75
  let v187 : BitVec 1 := Scalar.cmpi .sgt v186 v183
  let v188 : BitVec 32 := Scalar.extui v187
  let c0_i32_76 : BitVec 32 := 0#32
  let v189 : BitVec 1 := Scalar.cmpi .ne v188 c0_i32_76
  v189

def k0_off713 (i : grid0.Coords) (k0_t68 : Fin k0_t68_loop.trips) (v182 : BitVec 32) (v185 : BitVec 32) (k0_t91 : Fin (k0_t91_loop i k0_t68 v182 v185).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v183 : BitVec 32 := Scalar.maxsi v182 v75
  let c1_i32_85 : BitVec 32 := 1#32
  let arg19 : BitVec 32 := Scf.iv v183 c1_i32_85 k0_t91
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off714 (i : grid0.Coords) (k0_t68 : Fin k0_t68_loop.trips) (v182 : BitVec 32) (v185 : BitVec 32) (k0_t91 : Fin (k0_t91_loop i k0_t68 v182 v185).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v183 : BitVec 32 := Scalar.maxsi v182 v75
  let c1_i32_85 : BitVec 32 := 1#32
  let arg19 : BitVec 32 := Scf.iv v183 c1_i32_85 k0_t91
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off715 (i : grid0.Coords) (k0_t68 : Fin k0_t68_loop.trips) (v182 : BitVec 32) (v185 : BitVec 32) (k0_t91 : Fin (k0_t91_loop i k0_t68 v182 v185).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v183 : BitVec 32 := Scalar.maxsi v182 v75
  let c1_i32_85 : BitVec 32 := 1#32
  let arg19 : BitVec 32 := Scf.iv v183 c1_i32_85 k0_t91
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off716 (i : grid0.Coords) (k0_t68 : Fin k0_t68_loop.trips) (v182 : BitVec 32) (v185 : BitVec 32) (k0_t91 : Fin (k0_t91_loop i k0_t68 v182 v185).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v183 : BitVec 32 := Scalar.maxsi v182 v75
  let c1_i32_85 : BitVec 32 := 1#32
  let arg19 : BitVec 32 := Scf.iv v183 c1_i32_85 k0_t91
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off717 (i : grid0.Coords) (k0_t68 : Fin k0_t68_loop.trips) (v182 : BitVec 32) (v185 : BitVec 32) (k0_t91 : Fin (k0_t91_loop i k0_t68 v182 v185).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v183 : BitVec 32 := Scalar.maxsi v182 v75
  let c1_i32_85 : BitVec 32 := 1#32
  let arg19 : BitVec 32 := Scf.iv v183 c1_i32_85 k0_t91
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off718 (i : grid0.Coords) (k0_t68 : Fin k0_t68_loop.trips) (v182 : BitVec 32) (v185 : BitVec 32) (k0_t91 : Fin (k0_t91_loop i k0_t68 v182 v185).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v183 : BitVec 32 := Scalar.maxsi v182 v75
  let c1_i32_85 : BitVec 32 := 1#32
  let arg19 : BitVec 32 := Scf.iv v183 c1_i32_85 k0_t91
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off719 (i : grid0.Coords) (k0_t68 : Fin k0_t68_loop.trips) (v182 : BitVec 32) (v185 : BitVec 32) (k0_t91 : Fin (k0_t91_loop i k0_t68 v182 v185).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v183 : BitVec 32 := Scalar.maxsi v182 v75
  let c1_i32_85 : BitVec 32 := 1#32
  let arg19 : BitVec 32 := Scf.iv v183 c1_i32_85 k0_t91
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off720 (i : grid0.Coords) (k0_t68 : Fin k0_t68_loop.trips) (v182 : BitVec 32) (v185 : BitVec 32) (k0_t91 : Fin (k0_t91_loop i k0_t68 v182 v185).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v183 : BitVec 32 := Scalar.maxsi v182 v75
  let c1_i32_85 : BitVec 32 := 1#32
  let arg19 : BitVec 32 := Scf.iv v183 c1_i32_85 k0_t91
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]
@[reducible] def k0_t92_loop (i : grid0.Coords) (k0_t68 : Fin k0_t68_loop.trips) (v182 : BitVec 32) (v185 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v183 : BitVec 32 := Scalar.maxsi v182 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let v231 : BitVec 32 := Scalar.addi v183 v230
  let c1_i32_86 : BitVec 32 := 1#32
  ⟨v234, v231, c1_i32_86⟩
def k0_off721 (i : grid0.Coords) (k0_t68 : Fin k0_t68_loop.trips) (v182 : BitVec 32) (v185 : BitVec 32) (k0_t92 : Fin (k0_t92_loop i k0_t68 v182 v185).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v183 : BitVec 32 := Scalar.maxsi v182 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_86 : BitVec 32 := 1#32
  let arg19 : BitVec 32 := Scf.iv v234 c1_i32_86 k0_t92
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off722 (i : grid0.Coords) (k0_t68 : Fin k0_t68_loop.trips) (v182 : BitVec 32) (v185 : BitVec 32) (k0_t92 : Fin (k0_t92_loop i k0_t68 v182 v185).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v183 : BitVec 32 := Scalar.maxsi v182 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_86 : BitVec 32 := 1#32
  let arg19 : BitVec 32 := Scf.iv v234 c1_i32_86 k0_t92
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off723 (i : grid0.Coords) (k0_t68 : Fin k0_t68_loop.trips) (v182 : BitVec 32) (v185 : BitVec 32) (k0_t92 : Fin (k0_t92_loop i k0_t68 v182 v185).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v183 : BitVec 32 := Scalar.maxsi v182 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_86 : BitVec 32 := 1#32
  let arg19 : BitVec 32 := Scf.iv v234 c1_i32_86 k0_t92
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off724 (i : grid0.Coords) (k0_t68 : Fin k0_t68_loop.trips) (v182 : BitVec 32) (v185 : BitVec 32) (k0_t92 : Fin (k0_t92_loop i k0_t68 v182 v185).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v183 : BitVec 32 := Scalar.maxsi v182 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_86 : BitVec 32 := 1#32
  let arg19 : BitVec 32 := Scf.iv v234 c1_i32_86 k0_t92
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off725 (i : grid0.Coords) (k0_t68 : Fin k0_t68_loop.trips) (v182 : BitVec 32) (v185 : BitVec 32) (k0_t92 : Fin (k0_t92_loop i k0_t68 v182 v185).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v183 : BitVec 32 := Scalar.maxsi v182 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_86 : BitVec 32 := 1#32
  let arg19 : BitVec 32 := Scf.iv v234 c1_i32_86 k0_t92
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off726 (i : grid0.Coords) (k0_t68 : Fin k0_t68_loop.trips) (v182 : BitVec 32) (v185 : BitVec 32) (k0_t92 : Fin (k0_t92_loop i k0_t68 v182 v185).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v183 : BitVec 32 := Scalar.maxsi v182 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_86 : BitVec 32 := 1#32
  let arg19 : BitVec 32 := Scf.iv v234 c1_i32_86 k0_t92
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off727 (i : grid0.Coords) (k0_t68 : Fin k0_t68_loop.trips) (v182 : BitVec 32) (v185 : BitVec 32) (k0_t92 : Fin (k0_t92_loop i k0_t68 v182 v185).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v183 : BitVec 32 := Scalar.maxsi v182 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_86 : BitVec 32 := 1#32
  let arg19 : BitVec 32 := Scf.iv v234 c1_i32_86 k0_t92
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off728 (i : grid0.Coords) (k0_t68 : Fin k0_t68_loop.trips) (v182 : BitVec 32) (v185 : BitVec 32) (k0_t92 : Fin (k0_t92_loop i k0_t68 v182 v185).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v183 : BitVec 32 := Scalar.maxsi v182 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_86 : BitVec 32 := 1#32
  let arg19 : BitVec 32 := Scf.iv v234 c1_i32_86 k0_t92
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]

def k0_chk44 (i : grid0.Coords) (k0_t68 : Fin k0_t68_loop.trips) (v182 : BitVec 32) (v185 : BitVec 32) : Prop :=
  (∀ (k0_h37 : k0_cond37 k0_t68 = 1#1), ∀ (k0_h49 : k0_cond49 i k0_t68 v182 v185 = 1#1), (k0_t91_loop i k0_t68 v182 v185).OK) ∧
  (∀ k0_t91 : Fin (k0_t91_loop i k0_t68 v182 v185).trips, ∀ (k0_h37 : k0_cond37 k0_t68 = 1#1), ∀ (k0_h49 : k0_cond49 i k0_t68 v182 v185 = 1#1), ∀ a, (k0_off713 i k0_t68 v182 v185 k0_t91) a + S1x16.size a ≤ S256x128.size a) ∧
  (∀ k0_t91 : Fin (k0_t91_loop i k0_t68 v182 v185).trips, ∀ (k0_h37 : k0_cond37 k0_t68 = 1#1), ∀ (k0_h49 : k0_cond49 i k0_t68 v182 v185 = 1#1), ∀ a, (k0_off714 i k0_t68 v182 v185 k0_t91) a + S1x16.size a ≤ S256x128.size a) ∧
  (∀ k0_t91 : Fin (k0_t91_loop i k0_t68 v182 v185).trips, ∀ (k0_h37 : k0_cond37 k0_t68 = 1#1), ∀ (k0_h49 : k0_cond49 i k0_t68 v182 v185 = 1#1), ∀ a, (k0_off715 i k0_t68 v182 v185 k0_t91) a + S1x16.size a ≤ S256x128.size a) ∧
  (∀ k0_t91 : Fin (k0_t91_loop i k0_t68 v182 v185).trips, ∀ (k0_h37 : k0_cond37 k0_t68 = 1#1), ∀ (k0_h49 : k0_cond49 i k0_t68 v182 v185 = 1#1), ∀ a, (k0_off716 i k0_t68 v182 v185 k0_t91) a + S1x16.size a ≤ S256x128.size a) ∧
  (∀ k0_t91 : Fin (k0_t91_loop i k0_t68 v182 v185).trips, ∀ (k0_h37 : k0_cond37 k0_t68 = 1#1), ∀ (k0_h49 : k0_cond49 i k0_t68 v182 v185 = 1#1), ∀ a, (k0_off717 i k0_t68 v182 v185 k0_t91) a + S1x16.size a ≤ S256x128.size a) ∧
  (∀ k0_t91 : Fin (k0_t91_loop i k0_t68 v182 v185).trips, ∀ (k0_h37 : k0_cond37 k0_t68 = 1#1), ∀ (k0_h49 : k0_cond49 i k0_t68 v182 v185 = 1#1), ∀ a, (k0_off718 i k0_t68 v182 v185 k0_t91) a + S1x16.size a ≤ S256x128.size a) ∧
  (∀ k0_t91 : Fin (k0_t91_loop i k0_t68 v182 v185).trips, ∀ (k0_h37 : k0_cond37 k0_t68 = 1#1), ∀ (k0_h49 : k0_cond49 i k0_t68 v182 v185 = 1#1), ∀ a, (k0_off719 i k0_t68 v182 v185 k0_t91) a + S1x16.size a ≤ S256x128.size a) ∧
  (∀ k0_t91 : Fin (k0_t91_loop i k0_t68 v182 v185).trips, ∀ (k0_h37 : k0_cond37 k0_t68 = 1#1), ∀ (k0_h49 : k0_cond49 i k0_t68 v182 v185 = 1#1), ∀ a, (k0_off720 i k0_t68 v182 v185 k0_t91) a + S1x16.size a ≤ S256x128.size a) ∧
  (∀ (k0_h37 : k0_cond37 k0_t68 = 1#1), ∀ (k0_h49 : k0_cond49 i k0_t68 v182 v185 = 1#1), (k0_t92_loop i k0_t68 v182 v185).OK) ∧
  (∀ k0_t92 : Fin (k0_t92_loop i k0_t68 v182 v185).trips, ∀ (k0_h37 : k0_cond37 k0_t68 = 1#1), ∀ (k0_h49 : k0_cond49 i k0_t68 v182 v185 = 1#1), ∀ a, (k0_off721 i k0_t68 v182 v185 k0_t92) a + S1x16.size a ≤ S256x128.size a) ∧
  (∀ k0_t92 : Fin (k0_t92_loop i k0_t68 v182 v185).trips, ∀ (k0_h37 : k0_cond37 k0_t68 = 1#1), ∀ (k0_h49 : k0_cond49 i k0_t68 v182 v185 = 1#1), ∀ a, (k0_off722 i k0_t68 v182 v185 k0_t92) a + S1x16.size a ≤ S256x128.size a) ∧
  (∀ k0_t92 : Fin (k0_t92_loop i k0_t68 v182 v185).trips, ∀ (k0_h37 : k0_cond37 k0_t68 = 1#1), ∀ (k0_h49 : k0_cond49 i k0_t68 v182 v185 = 1#1), ∀ a, (k0_off723 i k0_t68 v182 v185 k0_t92) a + S1x16.size a ≤ S256x128.size a) ∧
  (∀ k0_t92 : Fin (k0_t92_loop i k0_t68 v182 v185).trips, ∀ (k0_h37 : k0_cond37 k0_t68 = 1#1), ∀ (k0_h49 : k0_cond49 i k0_t68 v182 v185 = 1#1), ∀ a, (k0_off724 i k0_t68 v182 v185 k0_t92) a + S1x16.size a ≤ S256x128.size a) ∧
  (∀ k0_t92 : Fin (k0_t92_loop i k0_t68 v182 v185).trips, ∀ (k0_h37 : k0_cond37 k0_t68 = 1#1), ∀ (k0_h49 : k0_cond49 i k0_t68 v182 v185 = 1#1), ∀ a, (k0_off725 i k0_t68 v182 v185 k0_t92) a + S1x16.size a ≤ S256x128.size a) ∧
  (∀ k0_t92 : Fin (k0_t92_loop i k0_t68 v182 v185).trips, ∀ (k0_h37 : k0_cond37 k0_t68 = 1#1), ∀ (k0_h49 : k0_cond49 i k0_t68 v182 v185 = 1#1), ∀ a, (k0_off726 i k0_t68 v182 v185 k0_t92) a + S1x16.size a ≤ S256x128.size a) ∧
  (∀ k0_t92 : Fin (k0_t92_loop i k0_t68 v182 v185).trips, ∀ (k0_h37 : k0_cond37 k0_t68 = 1#1), ∀ (k0_h49 : k0_cond49 i k0_t68 v182 v185 = 1#1), ∀ a, (k0_off727 i k0_t68 v182 v185 k0_t92) a + S1x16.size a ≤ S256x128.size a) ∧
  (∀ k0_t92 : Fin (k0_t92_loop i k0_t68 v182 v185).trips, ∀ (k0_h37 : k0_cond37 k0_t68 = 1#1), ∀ (k0_h49 : k0_cond49 i k0_t68 v182 v185 = 1#1), ∀ a, (k0_off728 i k0_t68 v182 v185 k0_t92) a + S1x16.size a ≤ S256x128.size a)
theorem k0_t91_ok : ∀ (i : grid0.Coords) (k0_t68 : Fin k0_t68_loop.trips) (v182 : BitVec 32) (v185 : BitVec 32) (k0_hw44 : k0_chk44 i k0_t68 v182 v185), ∀ (k0_h37 : k0_cond37 k0_t68 = 1#1), ∀ (k0_h49 : k0_cond49 i k0_t68 v182 v185 = 1#1), (k0_t91_loop i k0_t68 v182 v185).OK := fun i k0_t68 v182 v185 k0_hw44 k0_h37 k0_h49 => k0_hw44.1 k0_h37 k0_h49
theorem k0_off713_inb : ∀ (i : grid0.Coords) (k0_t68 : Fin k0_t68_loop.trips) (v182 : BitVec 32) (v185 : BitVec 32) (k0_hw44 : k0_chk44 i k0_t68 v182 v185) (k0_t91 : Fin (k0_t91_loop i k0_t68 v182 v185).trips), ∀ (k0_h37 : k0_cond37 k0_t68 = 1#1), ∀ (k0_h49 : k0_cond49 i k0_t68 v182 v185 = 1#1), ∀ a, (k0_off713 i k0_t68 v182 v185 k0_t91) a + S1x16.size a ≤ S256x128.size a := fun i k0_t68 v182 v185 k0_hw44 k0_t91 k0_h37 k0_h49 => k0_hw44.2.1 k0_t91 k0_h37 k0_h49
theorem k0_off714_inb : ∀ (i : grid0.Coords) (k0_t68 : Fin k0_t68_loop.trips) (v182 : BitVec 32) (v185 : BitVec 32) (k0_hw44 : k0_chk44 i k0_t68 v182 v185) (k0_t91 : Fin (k0_t91_loop i k0_t68 v182 v185).trips), ∀ (k0_h37 : k0_cond37 k0_t68 = 1#1), ∀ (k0_h49 : k0_cond49 i k0_t68 v182 v185 = 1#1), ∀ a, (k0_off714 i k0_t68 v182 v185 k0_t91) a + S1x16.size a ≤ S256x128.size a := fun i k0_t68 v182 v185 k0_hw44 k0_t91 k0_h37 k0_h49 => k0_hw44.2.2.1 k0_t91 k0_h37 k0_h49
theorem k0_off715_inb : ∀ (i : grid0.Coords) (k0_t68 : Fin k0_t68_loop.trips) (v182 : BitVec 32) (v185 : BitVec 32) (k0_hw44 : k0_chk44 i k0_t68 v182 v185) (k0_t91 : Fin (k0_t91_loop i k0_t68 v182 v185).trips), ∀ (k0_h37 : k0_cond37 k0_t68 = 1#1), ∀ (k0_h49 : k0_cond49 i k0_t68 v182 v185 = 1#1), ∀ a, (k0_off715 i k0_t68 v182 v185 k0_t91) a + S1x16.size a ≤ S256x128.size a := fun i k0_t68 v182 v185 k0_hw44 k0_t91 k0_h37 k0_h49 => k0_hw44.2.2.2.1 k0_t91 k0_h37 k0_h49
theorem k0_off716_inb : ∀ (i : grid0.Coords) (k0_t68 : Fin k0_t68_loop.trips) (v182 : BitVec 32) (v185 : BitVec 32) (k0_hw44 : k0_chk44 i k0_t68 v182 v185) (k0_t91 : Fin (k0_t91_loop i k0_t68 v182 v185).trips), ∀ (k0_h37 : k0_cond37 k0_t68 = 1#1), ∀ (k0_h49 : k0_cond49 i k0_t68 v182 v185 = 1#1), ∀ a, (k0_off716 i k0_t68 v182 v185 k0_t91) a + S1x16.size a ≤ S256x128.size a := fun i k0_t68 v182 v185 k0_hw44 k0_t91 k0_h37 k0_h49 => k0_hw44.2.2.2.2.1 k0_t91 k0_h37 k0_h49
theorem k0_off717_inb : ∀ (i : grid0.Coords) (k0_t68 : Fin k0_t68_loop.trips) (v182 : BitVec 32) (v185 : BitVec 32) (k0_hw44 : k0_chk44 i k0_t68 v182 v185) (k0_t91 : Fin (k0_t91_loop i k0_t68 v182 v185).trips), ∀ (k0_h37 : k0_cond37 k0_t68 = 1#1), ∀ (k0_h49 : k0_cond49 i k0_t68 v182 v185 = 1#1), ∀ a, (k0_off717 i k0_t68 v182 v185 k0_t91) a + S1x16.size a ≤ S256x128.size a := fun i k0_t68 v182 v185 k0_hw44 k0_t91 k0_h37 k0_h49 => k0_hw44.2.2.2.2.2.1 k0_t91 k0_h37 k0_h49
theorem k0_off718_inb : ∀ (i : grid0.Coords) (k0_t68 : Fin k0_t68_loop.trips) (v182 : BitVec 32) (v185 : BitVec 32) (k0_hw44 : k0_chk44 i k0_t68 v182 v185) (k0_t91 : Fin (k0_t91_loop i k0_t68 v182 v185).trips), ∀ (k0_h37 : k0_cond37 k0_t68 = 1#1), ∀ (k0_h49 : k0_cond49 i k0_t68 v182 v185 = 1#1), ∀ a, (k0_off718 i k0_t68 v182 v185 k0_t91) a + S1x16.size a ≤ S256x128.size a := fun i k0_t68 v182 v185 k0_hw44 k0_t91 k0_h37 k0_h49 => k0_hw44.2.2.2.2.2.2.1 k0_t91 k0_h37 k0_h49
theorem k0_off719_inb : ∀ (i : grid0.Coords) (k0_t68 : Fin k0_t68_loop.trips) (v182 : BitVec 32) (v185 : BitVec 32) (k0_hw44 : k0_chk44 i k0_t68 v182 v185) (k0_t91 : Fin (k0_t91_loop i k0_t68 v182 v185).trips), ∀ (k0_h37 : k0_cond37 k0_t68 = 1#1), ∀ (k0_h49 : k0_cond49 i k0_t68 v182 v185 = 1#1), ∀ a, (k0_off719 i k0_t68 v182 v185 k0_t91) a + S1x16.size a ≤ S256x128.size a := fun i k0_t68 v182 v185 k0_hw44 k0_t91 k0_h37 k0_h49 => k0_hw44.2.2.2.2.2.2.2.1 k0_t91 k0_h37 k0_h49
theorem k0_off720_inb : ∀ (i : grid0.Coords) (k0_t68 : Fin k0_t68_loop.trips) (v182 : BitVec 32) (v185 : BitVec 32) (k0_hw44 : k0_chk44 i k0_t68 v182 v185) (k0_t91 : Fin (k0_t91_loop i k0_t68 v182 v185).trips), ∀ (k0_h37 : k0_cond37 k0_t68 = 1#1), ∀ (k0_h49 : k0_cond49 i k0_t68 v182 v185 = 1#1), ∀ a, (k0_off720 i k0_t68 v182 v185 k0_t91) a + S1x16.size a ≤ S256x128.size a := fun i k0_t68 v182 v185 k0_hw44 k0_t91 k0_h37 k0_h49 => k0_hw44.2.2.2.2.2.2.2.2.1 k0_t91 k0_h37 k0_h49
theorem k0_t92_ok : ∀ (i : grid0.Coords) (k0_t68 : Fin k0_t68_loop.trips) (v182 : BitVec 32) (v185 : BitVec 32) (k0_hw44 : k0_chk44 i k0_t68 v182 v185), ∀ (k0_h37 : k0_cond37 k0_t68 = 1#1), ∀ (k0_h49 : k0_cond49 i k0_t68 v182 v185 = 1#1), (k0_t92_loop i k0_t68 v182 v185).OK := fun i k0_t68 v182 v185 k0_hw44 k0_h37 k0_h49 => k0_hw44.2.2.2.2.2.2.2.2.2.1 k0_h37 k0_h49
theorem k0_off721_inb : ∀ (i : grid0.Coords) (k0_t68 : Fin k0_t68_loop.trips) (v182 : BitVec 32) (v185 : BitVec 32) (k0_hw44 : k0_chk44 i k0_t68 v182 v185) (k0_t92 : Fin (k0_t92_loop i k0_t68 v182 v185).trips), ∀ (k0_h37 : k0_cond37 k0_t68 = 1#1), ∀ (k0_h49 : k0_cond49 i k0_t68 v182 v185 = 1#1), ∀ a, (k0_off721 i k0_t68 v182 v185 k0_t92) a + S1x16.size a ≤ S256x128.size a := fun i k0_t68 v182 v185 k0_hw44 k0_t92 k0_h37 k0_h49 => k0_hw44.2.2.2.2.2.2.2.2.2.2.1 k0_t92 k0_h37 k0_h49
theorem k0_off722_inb : ∀ (i : grid0.Coords) (k0_t68 : Fin k0_t68_loop.trips) (v182 : BitVec 32) (v185 : BitVec 32) (k0_hw44 : k0_chk44 i k0_t68 v182 v185) (k0_t92 : Fin (k0_t92_loop i k0_t68 v182 v185).trips), ∀ (k0_h37 : k0_cond37 k0_t68 = 1#1), ∀ (k0_h49 : k0_cond49 i k0_t68 v182 v185 = 1#1), ∀ a, (k0_off722 i k0_t68 v182 v185 k0_t92) a + S1x16.size a ≤ S256x128.size a := fun i k0_t68 v182 v185 k0_hw44 k0_t92 k0_h37 k0_h49 => k0_hw44.2.2.2.2.2.2.2.2.2.2.2.1 k0_t92 k0_h37 k0_h49
theorem k0_off723_inb : ∀ (i : grid0.Coords) (k0_t68 : Fin k0_t68_loop.trips) (v182 : BitVec 32) (v185 : BitVec 32) (k0_hw44 : k0_chk44 i k0_t68 v182 v185) (k0_t92 : Fin (k0_t92_loop i k0_t68 v182 v185).trips), ∀ (k0_h37 : k0_cond37 k0_t68 = 1#1), ∀ (k0_h49 : k0_cond49 i k0_t68 v182 v185 = 1#1), ∀ a, (k0_off723 i k0_t68 v182 v185 k0_t92) a + S1x16.size a ≤ S256x128.size a := fun i k0_t68 v182 v185 k0_hw44 k0_t92 k0_h37 k0_h49 => k0_hw44.2.2.2.2.2.2.2.2.2.2.2.2.1 k0_t92 k0_h37 k0_h49
theorem k0_off724_inb : ∀ (i : grid0.Coords) (k0_t68 : Fin k0_t68_loop.trips) (v182 : BitVec 32) (v185 : BitVec 32) (k0_hw44 : k0_chk44 i k0_t68 v182 v185) (k0_t92 : Fin (k0_t92_loop i k0_t68 v182 v185).trips), ∀ (k0_h37 : k0_cond37 k0_t68 = 1#1), ∀ (k0_h49 : k0_cond49 i k0_t68 v182 v185 = 1#1), ∀ a, (k0_off724 i k0_t68 v182 v185 k0_t92) a + S1x16.size a ≤ S256x128.size a := fun i k0_t68 v182 v185 k0_hw44 k0_t92 k0_h37 k0_h49 => k0_hw44.2.2.2.2.2.2.2.2.2.2.2.2.2.1 k0_t92 k0_h37 k0_h49
theorem k0_off725_inb : ∀ (i : grid0.Coords) (k0_t68 : Fin k0_t68_loop.trips) (v182 : BitVec 32) (v185 : BitVec 32) (k0_hw44 : k0_chk44 i k0_t68 v182 v185) (k0_t92 : Fin (k0_t92_loop i k0_t68 v182 v185).trips), ∀ (k0_h37 : k0_cond37 k0_t68 = 1#1), ∀ (k0_h49 : k0_cond49 i k0_t68 v182 v185 = 1#1), ∀ a, (k0_off725 i k0_t68 v182 v185 k0_t92) a + S1x16.size a ≤ S256x128.size a := fun i k0_t68 v182 v185 k0_hw44 k0_t92 k0_h37 k0_h49 => k0_hw44.2.2.2.2.2.2.2.2.2.2.2.2.2.2.1 k0_t92 k0_h37 k0_h49
theorem k0_off726_inb : ∀ (i : grid0.Coords) (k0_t68 : Fin k0_t68_loop.trips) (v182 : BitVec 32) (v185 : BitVec 32) (k0_hw44 : k0_chk44 i k0_t68 v182 v185) (k0_t92 : Fin (k0_t92_loop i k0_t68 v182 v185).trips), ∀ (k0_h37 : k0_cond37 k0_t68 = 1#1), ∀ (k0_h49 : k0_cond49 i k0_t68 v182 v185 = 1#1), ∀ a, (k0_off726 i k0_t68 v182 v185 k0_t92) a + S1x16.size a ≤ S256x128.size a := fun i k0_t68 v182 v185 k0_hw44 k0_t92 k0_h37 k0_h49 => k0_hw44.2.2.2.2.2.2.2.2.2.2.2.2.2.2.2.1 k0_t92 k0_h37 k0_h49
theorem k0_off727_inb : ∀ (i : grid0.Coords) (k0_t68 : Fin k0_t68_loop.trips) (v182 : BitVec 32) (v185 : BitVec 32) (k0_hw44 : k0_chk44 i k0_t68 v182 v185) (k0_t92 : Fin (k0_t92_loop i k0_t68 v182 v185).trips), ∀ (k0_h37 : k0_cond37 k0_t68 = 1#1), ∀ (k0_h49 : k0_cond49 i k0_t68 v182 v185 = 1#1), ∀ a, (k0_off727 i k0_t68 v182 v185 k0_t92) a + S1x16.size a ≤ S256x128.size a := fun i k0_t68 v182 v185 k0_hw44 k0_t92 k0_h37 k0_h49 => k0_hw44.2.2.2.2.2.2.2.2.2.2.2.2.2.2.2.2.1 k0_t92 k0_h37 k0_h49
theorem k0_off728_inb : ∀ (i : grid0.Coords) (k0_t68 : Fin k0_t68_loop.trips) (v182 : BitVec 32) (v185 : BitVec 32) (k0_hw44 : k0_chk44 i k0_t68 v182 v185) (k0_t92 : Fin (k0_t92_loop i k0_t68 v182 v185).trips), ∀ (k0_h37 : k0_cond37 k0_t68 = 1#1), ∀ (k0_h49 : k0_cond49 i k0_t68 v182 v185 = 1#1), ∀ a, (k0_off728 i k0_t68 v182 v185 k0_t92) a + S1x16.size a ≤ S256x128.size a := fun i k0_t68 v182 v185 k0_hw44 k0_t92 k0_h37 k0_h49 => k0_hw44.2.2.2.2.2.2.2.2.2.2.2.2.2.2.2.2.2 k0_t92 k0_h37 k0_h49

@[reducible] def k0_t93_loop (i : grid0.Coords) (k0_t68 : Fin k0_t68_loop.trips) (v191 : BitVec 32) (v194 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v192 : BitVec 32 := Scalar.maxsi v191 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_85 : BitVec 32 := 1#32
  ⟨v192, v234, c1_i32_85⟩
def k0_cond50 (i : grid0.Coords) (k0_t68 : Fin k0_t68_loop.trips) (v191 : BitVec 32) (v194 : BitVec 32) : BitVec 1 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v195 : BitVec 32 := Scalar.minsi v194 v77
  let v192 : BitVec 32 := Scalar.maxsi v191 v75
  let v196 : BitVec 1 := Scalar.cmpi .sgt v195 v192
  let v197 : BitVec 32 := Scalar.extui v196
  let c0_i32_77 : BitVec 32 := 0#32
  let v198 : BitVec 1 := Scalar.cmpi .ne v197 c0_i32_77
  v198

def k0_off729 (i : grid0.Coords) (k0_t68 : Fin k0_t68_loop.trips) (v191 : BitVec 32) (v194 : BitVec 32) (k0_t93 : Fin (k0_t93_loop i k0_t68 v191 v194).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v192 : BitVec 32 := Scalar.maxsi v191 v75
  let c1_i32_85 : BitVec 32 := 1#32
  let arg19 : BitVec 32 := Scf.iv v192 c1_i32_85 k0_t93
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off730 (i : grid0.Coords) (k0_t68 : Fin k0_t68_loop.trips) (v191 : BitVec 32) (v194 : BitVec 32) (k0_t93 : Fin (k0_t93_loop i k0_t68 v191 v194).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v192 : BitVec 32 := Scalar.maxsi v191 v75
  let c1_i32_85 : BitVec 32 := 1#32
  let arg19 : BitVec 32 := Scf.iv v192 c1_i32_85 k0_t93
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off731 (i : grid0.Coords) (k0_t68 : Fin k0_t68_loop.trips) (v191 : BitVec 32) (v194 : BitVec 32) (k0_t93 : Fin (k0_t93_loop i k0_t68 v191 v194).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v192 : BitVec 32 := Scalar.maxsi v191 v75
  let c1_i32_85 : BitVec 32 := 1#32
  let arg19 : BitVec 32 := Scf.iv v192 c1_i32_85 k0_t93
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off732 (i : grid0.Coords) (k0_t68 : Fin k0_t68_loop.trips) (v191 : BitVec 32) (v194 : BitVec 32) (k0_t93 : Fin (k0_t93_loop i k0_t68 v191 v194).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v192 : BitVec 32 := Scalar.maxsi v191 v75
  let c1_i32_85 : BitVec 32 := 1#32
  let arg19 : BitVec 32 := Scf.iv v192 c1_i32_85 k0_t93
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off733 (i : grid0.Coords) (k0_t68 : Fin k0_t68_loop.trips) (v191 : BitVec 32) (v194 : BitVec 32) (k0_t93 : Fin (k0_t93_loop i k0_t68 v191 v194).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v192 : BitVec 32 := Scalar.maxsi v191 v75
  let c1_i32_85 : BitVec 32 := 1#32
  let arg19 : BitVec 32 := Scf.iv v192 c1_i32_85 k0_t93
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off734 (i : grid0.Coords) (k0_t68 : Fin k0_t68_loop.trips) (v191 : BitVec 32) (v194 : BitVec 32) (k0_t93 : Fin (k0_t93_loop i k0_t68 v191 v194).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v192 : BitVec 32 := Scalar.maxsi v191 v75
  let c1_i32_85 : BitVec 32 := 1#32
  let arg19 : BitVec 32 := Scf.iv v192 c1_i32_85 k0_t93
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off735 (i : grid0.Coords) (k0_t68 : Fin k0_t68_loop.trips) (v191 : BitVec 32) (v194 : BitVec 32) (k0_t93 : Fin (k0_t93_loop i k0_t68 v191 v194).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v192 : BitVec 32 := Scalar.maxsi v191 v75
  let c1_i32_85 : BitVec 32 := 1#32
  let arg19 : BitVec 32 := Scf.iv v192 c1_i32_85 k0_t93
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off736 (i : grid0.Coords) (k0_t68 : Fin k0_t68_loop.trips) (v191 : BitVec 32) (v194 : BitVec 32) (k0_t93 : Fin (k0_t93_loop i k0_t68 v191 v194).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v192 : BitVec 32 := Scalar.maxsi v191 v75
  let c1_i32_85 : BitVec 32 := 1#32
  let arg19 : BitVec 32 := Scf.iv v192 c1_i32_85 k0_t93
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]
@[reducible] def k0_t94_loop (i : grid0.Coords) (k0_t68 : Fin k0_t68_loop.trips) (v191 : BitVec 32) (v194 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v192 : BitVec 32 := Scalar.maxsi v191 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let v231 : BitVec 32 := Scalar.addi v192 v230
  let c1_i32_86 : BitVec 32 := 1#32
  ⟨v234, v231, c1_i32_86⟩
def k0_off737 (i : grid0.Coords) (k0_t68 : Fin k0_t68_loop.trips) (v191 : BitVec 32) (v194 : BitVec 32) (k0_t94 : Fin (k0_t94_loop i k0_t68 v191 v194).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v192 : BitVec 32 := Scalar.maxsi v191 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_86 : BitVec 32 := 1#32
  let arg19 : BitVec 32 := Scf.iv v234 c1_i32_86 k0_t94
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off738 (i : grid0.Coords) (k0_t68 : Fin k0_t68_loop.trips) (v191 : BitVec 32) (v194 : BitVec 32) (k0_t94 : Fin (k0_t94_loop i k0_t68 v191 v194).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v192 : BitVec 32 := Scalar.maxsi v191 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_86 : BitVec 32 := 1#32
  let arg19 : BitVec 32 := Scf.iv v234 c1_i32_86 k0_t94
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off739 (i : grid0.Coords) (k0_t68 : Fin k0_t68_loop.trips) (v191 : BitVec 32) (v194 : BitVec 32) (k0_t94 : Fin (k0_t94_loop i k0_t68 v191 v194).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v192 : BitVec 32 := Scalar.maxsi v191 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_86 : BitVec 32 := 1#32
  let arg19 : BitVec 32 := Scf.iv v234 c1_i32_86 k0_t94
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off740 (i : grid0.Coords) (k0_t68 : Fin k0_t68_loop.trips) (v191 : BitVec 32) (v194 : BitVec 32) (k0_t94 : Fin (k0_t94_loop i k0_t68 v191 v194).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v192 : BitVec 32 := Scalar.maxsi v191 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_86 : BitVec 32 := 1#32
  let arg19 : BitVec 32 := Scf.iv v234 c1_i32_86 k0_t94
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off741 (i : grid0.Coords) (k0_t68 : Fin k0_t68_loop.trips) (v191 : BitVec 32) (v194 : BitVec 32) (k0_t94 : Fin (k0_t94_loop i k0_t68 v191 v194).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v192 : BitVec 32 := Scalar.maxsi v191 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_86 : BitVec 32 := 1#32
  let arg19 : BitVec 32 := Scf.iv v234 c1_i32_86 k0_t94
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off742 (i : grid0.Coords) (k0_t68 : Fin k0_t68_loop.trips) (v191 : BitVec 32) (v194 : BitVec 32) (k0_t94 : Fin (k0_t94_loop i k0_t68 v191 v194).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v192 : BitVec 32 := Scalar.maxsi v191 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_86 : BitVec 32 := 1#32
  let arg19 : BitVec 32 := Scf.iv v234 c1_i32_86 k0_t94
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off743 (i : grid0.Coords) (k0_t68 : Fin k0_t68_loop.trips) (v191 : BitVec 32) (v194 : BitVec 32) (k0_t94 : Fin (k0_t94_loop i k0_t68 v191 v194).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v192 : BitVec 32 := Scalar.maxsi v191 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_86 : BitVec 32 := 1#32
  let arg19 : BitVec 32 := Scf.iv v234 c1_i32_86 k0_t94
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off744 (i : grid0.Coords) (k0_t68 : Fin k0_t68_loop.trips) (v191 : BitVec 32) (v194 : BitVec 32) (k0_t94 : Fin (k0_t94_loop i k0_t68 v191 v194).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v192 : BitVec 32 := Scalar.maxsi v191 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_86 : BitVec 32 := 1#32
  let arg19 : BitVec 32 := Scf.iv v234 c1_i32_86 k0_t94
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]

def k0_chk45 (i : grid0.Coords) (k0_t68 : Fin k0_t68_loop.trips) (v191 : BitVec 32) (v194 : BitVec 32) : Prop :=
  (∀ (k0_h37 : k0_cond37 k0_t68 = 1#1), ∀ (k0_h50 : k0_cond50 i k0_t68 v191 v194 = 1#1), (k0_t93_loop i k0_t68 v191 v194).OK) ∧
  (∀ k0_t93 : Fin (k0_t93_loop i k0_t68 v191 v194).trips, ∀ (k0_h37 : k0_cond37 k0_t68 = 1#1), ∀ (k0_h50 : k0_cond50 i k0_t68 v191 v194 = 1#1), ∀ a, (k0_off729 i k0_t68 v191 v194 k0_t93) a + S1x16.size a ≤ S256x128.size a) ∧
  (∀ k0_t93 : Fin (k0_t93_loop i k0_t68 v191 v194).trips, ∀ (k0_h37 : k0_cond37 k0_t68 = 1#1), ∀ (k0_h50 : k0_cond50 i k0_t68 v191 v194 = 1#1), ∀ a, (k0_off730 i k0_t68 v191 v194 k0_t93) a + S1x16.size a ≤ S256x128.size a) ∧
  (∀ k0_t93 : Fin (k0_t93_loop i k0_t68 v191 v194).trips, ∀ (k0_h37 : k0_cond37 k0_t68 = 1#1), ∀ (k0_h50 : k0_cond50 i k0_t68 v191 v194 = 1#1), ∀ a, (k0_off731 i k0_t68 v191 v194 k0_t93) a + S1x16.size a ≤ S256x128.size a) ∧
  (∀ k0_t93 : Fin (k0_t93_loop i k0_t68 v191 v194).trips, ∀ (k0_h37 : k0_cond37 k0_t68 = 1#1), ∀ (k0_h50 : k0_cond50 i k0_t68 v191 v194 = 1#1), ∀ a, (k0_off732 i k0_t68 v191 v194 k0_t93) a + S1x16.size a ≤ S256x128.size a) ∧
  (∀ k0_t93 : Fin (k0_t93_loop i k0_t68 v191 v194).trips, ∀ (k0_h37 : k0_cond37 k0_t68 = 1#1), ∀ (k0_h50 : k0_cond50 i k0_t68 v191 v194 = 1#1), ∀ a, (k0_off733 i k0_t68 v191 v194 k0_t93) a + S1x16.size a ≤ S256x128.size a) ∧
  (∀ k0_t93 : Fin (k0_t93_loop i k0_t68 v191 v194).trips, ∀ (k0_h37 : k0_cond37 k0_t68 = 1#1), ∀ (k0_h50 : k0_cond50 i k0_t68 v191 v194 = 1#1), ∀ a, (k0_off734 i k0_t68 v191 v194 k0_t93) a + S1x16.size a ≤ S256x128.size a) ∧
  (∀ k0_t93 : Fin (k0_t93_loop i k0_t68 v191 v194).trips, ∀ (k0_h37 : k0_cond37 k0_t68 = 1#1), ∀ (k0_h50 : k0_cond50 i k0_t68 v191 v194 = 1#1), ∀ a, (k0_off735 i k0_t68 v191 v194 k0_t93) a + S1x16.size a ≤ S256x128.size a) ∧
  (∀ k0_t93 : Fin (k0_t93_loop i k0_t68 v191 v194).trips, ∀ (k0_h37 : k0_cond37 k0_t68 = 1#1), ∀ (k0_h50 : k0_cond50 i k0_t68 v191 v194 = 1#1), ∀ a, (k0_off736 i k0_t68 v191 v194 k0_t93) a + S1x16.size a ≤ S256x128.size a) ∧
  (∀ (k0_h37 : k0_cond37 k0_t68 = 1#1), ∀ (k0_h50 : k0_cond50 i k0_t68 v191 v194 = 1#1), (k0_t94_loop i k0_t68 v191 v194).OK) ∧
  (∀ k0_t94 : Fin (k0_t94_loop i k0_t68 v191 v194).trips, ∀ (k0_h37 : k0_cond37 k0_t68 = 1#1), ∀ (k0_h50 : k0_cond50 i k0_t68 v191 v194 = 1#1), ∀ a, (k0_off737 i k0_t68 v191 v194 k0_t94) a + S1x16.size a ≤ S256x128.size a) ∧
  (∀ k0_t94 : Fin (k0_t94_loop i k0_t68 v191 v194).trips, ∀ (k0_h37 : k0_cond37 k0_t68 = 1#1), ∀ (k0_h50 : k0_cond50 i k0_t68 v191 v194 = 1#1), ∀ a, (k0_off738 i k0_t68 v191 v194 k0_t94) a + S1x16.size a ≤ S256x128.size a) ∧
  (∀ k0_t94 : Fin (k0_t94_loop i k0_t68 v191 v194).trips, ∀ (k0_h37 : k0_cond37 k0_t68 = 1#1), ∀ (k0_h50 : k0_cond50 i k0_t68 v191 v194 = 1#1), ∀ a, (k0_off739 i k0_t68 v191 v194 k0_t94) a + S1x16.size a ≤ S256x128.size a) ∧
  (∀ k0_t94 : Fin (k0_t94_loop i k0_t68 v191 v194).trips, ∀ (k0_h37 : k0_cond37 k0_t68 = 1#1), ∀ (k0_h50 : k0_cond50 i k0_t68 v191 v194 = 1#1), ∀ a, (k0_off740 i k0_t68 v191 v194 k0_t94) a + S1x16.size a ≤ S256x128.size a) ∧
  (∀ k0_t94 : Fin (k0_t94_loop i k0_t68 v191 v194).trips, ∀ (k0_h37 : k0_cond37 k0_t68 = 1#1), ∀ (k0_h50 : k0_cond50 i k0_t68 v191 v194 = 1#1), ∀ a, (k0_off741 i k0_t68 v191 v194 k0_t94) a + S1x16.size a ≤ S256x128.size a) ∧
  (∀ k0_t94 : Fin (k0_t94_loop i k0_t68 v191 v194).trips, ∀ (k0_h37 : k0_cond37 k0_t68 = 1#1), ∀ (k0_h50 : k0_cond50 i k0_t68 v191 v194 = 1#1), ∀ a, (k0_off742 i k0_t68 v191 v194 k0_t94) a + S1x16.size a ≤ S256x128.size a) ∧
  (∀ k0_t94 : Fin (k0_t94_loop i k0_t68 v191 v194).trips, ∀ (k0_h37 : k0_cond37 k0_t68 = 1#1), ∀ (k0_h50 : k0_cond50 i k0_t68 v191 v194 = 1#1), ∀ a, (k0_off743 i k0_t68 v191 v194 k0_t94) a + S1x16.size a ≤ S256x128.size a) ∧
  (∀ k0_t94 : Fin (k0_t94_loop i k0_t68 v191 v194).trips, ∀ (k0_h37 : k0_cond37 k0_t68 = 1#1), ∀ (k0_h50 : k0_cond50 i k0_t68 v191 v194 = 1#1), ∀ a, (k0_off744 i k0_t68 v191 v194 k0_t94) a + S1x16.size a ≤ S256x128.size a)
theorem k0_t93_ok : ∀ (i : grid0.Coords) (k0_t68 : Fin k0_t68_loop.trips) (v191 : BitVec 32) (v194 : BitVec 32) (k0_hw45 : k0_chk45 i k0_t68 v191 v194), ∀ (k0_h37 : k0_cond37 k0_t68 = 1#1), ∀ (k0_h50 : k0_cond50 i k0_t68 v191 v194 = 1#1), (k0_t93_loop i k0_t68 v191 v194).OK := fun i k0_t68 v191 v194 k0_hw45 k0_h37 k0_h50 => k0_hw45.1 k0_h37 k0_h50
theorem k0_off729_inb : ∀ (i : grid0.Coords) (k0_t68 : Fin k0_t68_loop.trips) (v191 : BitVec 32) (v194 : BitVec 32) (k0_hw45 : k0_chk45 i k0_t68 v191 v194) (k0_t93 : Fin (k0_t93_loop i k0_t68 v191 v194).trips), ∀ (k0_h37 : k0_cond37 k0_t68 = 1#1), ∀ (k0_h50 : k0_cond50 i k0_t68 v191 v194 = 1#1), ∀ a, (k0_off729 i k0_t68 v191 v194 k0_t93) a + S1x16.size a ≤ S256x128.size a := fun i k0_t68 v191 v194 k0_hw45 k0_t93 k0_h37 k0_h50 => k0_hw45.2.1 k0_t93 k0_h37 k0_h50
theorem k0_off730_inb : ∀ (i : grid0.Coords) (k0_t68 : Fin k0_t68_loop.trips) (v191 : BitVec 32) (v194 : BitVec 32) (k0_hw45 : k0_chk45 i k0_t68 v191 v194) (k0_t93 : Fin (k0_t93_loop i k0_t68 v191 v194).trips), ∀ (k0_h37 : k0_cond37 k0_t68 = 1#1), ∀ (k0_h50 : k0_cond50 i k0_t68 v191 v194 = 1#1), ∀ a, (k0_off730 i k0_t68 v191 v194 k0_t93) a + S1x16.size a ≤ S256x128.size a := fun i k0_t68 v191 v194 k0_hw45 k0_t93 k0_h37 k0_h50 => k0_hw45.2.2.1 k0_t93 k0_h37 k0_h50
theorem k0_off731_inb : ∀ (i : grid0.Coords) (k0_t68 : Fin k0_t68_loop.trips) (v191 : BitVec 32) (v194 : BitVec 32) (k0_hw45 : k0_chk45 i k0_t68 v191 v194) (k0_t93 : Fin (k0_t93_loop i k0_t68 v191 v194).trips), ∀ (k0_h37 : k0_cond37 k0_t68 = 1#1), ∀ (k0_h50 : k0_cond50 i k0_t68 v191 v194 = 1#1), ∀ a, (k0_off731 i k0_t68 v191 v194 k0_t93) a + S1x16.size a ≤ S256x128.size a := fun i k0_t68 v191 v194 k0_hw45 k0_t93 k0_h37 k0_h50 => k0_hw45.2.2.2.1 k0_t93 k0_h37 k0_h50
theorem k0_off732_inb : ∀ (i : grid0.Coords) (k0_t68 : Fin k0_t68_loop.trips) (v191 : BitVec 32) (v194 : BitVec 32) (k0_hw45 : k0_chk45 i k0_t68 v191 v194) (k0_t93 : Fin (k0_t93_loop i k0_t68 v191 v194).trips), ∀ (k0_h37 : k0_cond37 k0_t68 = 1#1), ∀ (k0_h50 : k0_cond50 i k0_t68 v191 v194 = 1#1), ∀ a, (k0_off732 i k0_t68 v191 v194 k0_t93) a + S1x16.size a ≤ S256x128.size a := fun i k0_t68 v191 v194 k0_hw45 k0_t93 k0_h37 k0_h50 => k0_hw45.2.2.2.2.1 k0_t93 k0_h37 k0_h50
theorem k0_off733_inb : ∀ (i : grid0.Coords) (k0_t68 : Fin k0_t68_loop.trips) (v191 : BitVec 32) (v194 : BitVec 32) (k0_hw45 : k0_chk45 i k0_t68 v191 v194) (k0_t93 : Fin (k0_t93_loop i k0_t68 v191 v194).trips), ∀ (k0_h37 : k0_cond37 k0_t68 = 1#1), ∀ (k0_h50 : k0_cond50 i k0_t68 v191 v194 = 1#1), ∀ a, (k0_off733 i k0_t68 v191 v194 k0_t93) a + S1x16.size a ≤ S256x128.size a := fun i k0_t68 v191 v194 k0_hw45 k0_t93 k0_h37 k0_h50 => k0_hw45.2.2.2.2.2.1 k0_t93 k0_h37 k0_h50
theorem k0_off734_inb : ∀ (i : grid0.Coords) (k0_t68 : Fin k0_t68_loop.trips) (v191 : BitVec 32) (v194 : BitVec 32) (k0_hw45 : k0_chk45 i k0_t68 v191 v194) (k0_t93 : Fin (k0_t93_loop i k0_t68 v191 v194).trips), ∀ (k0_h37 : k0_cond37 k0_t68 = 1#1), ∀ (k0_h50 : k0_cond50 i k0_t68 v191 v194 = 1#1), ∀ a, (k0_off734 i k0_t68 v191 v194 k0_t93) a + S1x16.size a ≤ S256x128.size a := fun i k0_t68 v191 v194 k0_hw45 k0_t93 k0_h37 k0_h50 => k0_hw45.2.2.2.2.2.2.1 k0_t93 k0_h37 k0_h50
theorem k0_off735_inb : ∀ (i : grid0.Coords) (k0_t68 : Fin k0_t68_loop.trips) (v191 : BitVec 32) (v194 : BitVec 32) (k0_hw45 : k0_chk45 i k0_t68 v191 v194) (k0_t93 : Fin (k0_t93_loop i k0_t68 v191 v194).trips), ∀ (k0_h37 : k0_cond37 k0_t68 = 1#1), ∀ (k0_h50 : k0_cond50 i k0_t68 v191 v194 = 1#1), ∀ a, (k0_off735 i k0_t68 v191 v194 k0_t93) a + S1x16.size a ≤ S256x128.size a := fun i k0_t68 v191 v194 k0_hw45 k0_t93 k0_h37 k0_h50 => k0_hw45.2.2.2.2.2.2.2.1 k0_t93 k0_h37 k0_h50
theorem k0_off736_inb : ∀ (i : grid0.Coords) (k0_t68 : Fin k0_t68_loop.trips) (v191 : BitVec 32) (v194 : BitVec 32) (k0_hw45 : k0_chk45 i k0_t68 v191 v194) (k0_t93 : Fin (k0_t93_loop i k0_t68 v191 v194).trips), ∀ (k0_h37 : k0_cond37 k0_t68 = 1#1), ∀ (k0_h50 : k0_cond50 i k0_t68 v191 v194 = 1#1), ∀ a, (k0_off736 i k0_t68 v191 v194 k0_t93) a + S1x16.size a ≤ S256x128.size a := fun i k0_t68 v191 v194 k0_hw45 k0_t93 k0_h37 k0_h50 => k0_hw45.2.2.2.2.2.2.2.2.1 k0_t93 k0_h37 k0_h50
theorem k0_t94_ok : ∀ (i : grid0.Coords) (k0_t68 : Fin k0_t68_loop.trips) (v191 : BitVec 32) (v194 : BitVec 32) (k0_hw45 : k0_chk45 i k0_t68 v191 v194), ∀ (k0_h37 : k0_cond37 k0_t68 = 1#1), ∀ (k0_h50 : k0_cond50 i k0_t68 v191 v194 = 1#1), (k0_t94_loop i k0_t68 v191 v194).OK := fun i k0_t68 v191 v194 k0_hw45 k0_h37 k0_h50 => k0_hw45.2.2.2.2.2.2.2.2.2.1 k0_h37 k0_h50
theorem k0_off737_inb : ∀ (i : grid0.Coords) (k0_t68 : Fin k0_t68_loop.trips) (v191 : BitVec 32) (v194 : BitVec 32) (k0_hw45 : k0_chk45 i k0_t68 v191 v194) (k0_t94 : Fin (k0_t94_loop i k0_t68 v191 v194).trips), ∀ (k0_h37 : k0_cond37 k0_t68 = 1#1), ∀ (k0_h50 : k0_cond50 i k0_t68 v191 v194 = 1#1), ∀ a, (k0_off737 i k0_t68 v191 v194 k0_t94) a + S1x16.size a ≤ S256x128.size a := fun i k0_t68 v191 v194 k0_hw45 k0_t94 k0_h37 k0_h50 => k0_hw45.2.2.2.2.2.2.2.2.2.2.1 k0_t94 k0_h37 k0_h50
theorem k0_off738_inb : ∀ (i : grid0.Coords) (k0_t68 : Fin k0_t68_loop.trips) (v191 : BitVec 32) (v194 : BitVec 32) (k0_hw45 : k0_chk45 i k0_t68 v191 v194) (k0_t94 : Fin (k0_t94_loop i k0_t68 v191 v194).trips), ∀ (k0_h37 : k0_cond37 k0_t68 = 1#1), ∀ (k0_h50 : k0_cond50 i k0_t68 v191 v194 = 1#1), ∀ a, (k0_off738 i k0_t68 v191 v194 k0_t94) a + S1x16.size a ≤ S256x128.size a := fun i k0_t68 v191 v194 k0_hw45 k0_t94 k0_h37 k0_h50 => k0_hw45.2.2.2.2.2.2.2.2.2.2.2.1 k0_t94 k0_h37 k0_h50
theorem k0_off739_inb : ∀ (i : grid0.Coords) (k0_t68 : Fin k0_t68_loop.trips) (v191 : BitVec 32) (v194 : BitVec 32) (k0_hw45 : k0_chk45 i k0_t68 v191 v194) (k0_t94 : Fin (k0_t94_loop i k0_t68 v191 v194).trips), ∀ (k0_h37 : k0_cond37 k0_t68 = 1#1), ∀ (k0_h50 : k0_cond50 i k0_t68 v191 v194 = 1#1), ∀ a, (k0_off739 i k0_t68 v191 v194 k0_t94) a + S1x16.size a ≤ S256x128.size a := fun i k0_t68 v191 v194 k0_hw45 k0_t94 k0_h37 k0_h50 => k0_hw45.2.2.2.2.2.2.2.2.2.2.2.2.1 k0_t94 k0_h37 k0_h50
theorem k0_off740_inb : ∀ (i : grid0.Coords) (k0_t68 : Fin k0_t68_loop.trips) (v191 : BitVec 32) (v194 : BitVec 32) (k0_hw45 : k0_chk45 i k0_t68 v191 v194) (k0_t94 : Fin (k0_t94_loop i k0_t68 v191 v194).trips), ∀ (k0_h37 : k0_cond37 k0_t68 = 1#1), ∀ (k0_h50 : k0_cond50 i k0_t68 v191 v194 = 1#1), ∀ a, (k0_off740 i k0_t68 v191 v194 k0_t94) a + S1x16.size a ≤ S256x128.size a := fun i k0_t68 v191 v194 k0_hw45 k0_t94 k0_h37 k0_h50 => k0_hw45.2.2.2.2.2.2.2.2.2.2.2.2.2.1 k0_t94 k0_h37 k0_h50
theorem k0_off741_inb : ∀ (i : grid0.Coords) (k0_t68 : Fin k0_t68_loop.trips) (v191 : BitVec 32) (v194 : BitVec 32) (k0_hw45 : k0_chk45 i k0_t68 v191 v194) (k0_t94 : Fin (k0_t94_loop i k0_t68 v191 v194).trips), ∀ (k0_h37 : k0_cond37 k0_t68 = 1#1), ∀ (k0_h50 : k0_cond50 i k0_t68 v191 v194 = 1#1), ∀ a, (k0_off741 i k0_t68 v191 v194 k0_t94) a + S1x16.size a ≤ S256x128.size a := fun i k0_t68 v191 v194 k0_hw45 k0_t94 k0_h37 k0_h50 => k0_hw45.2.2.2.2.2.2.2.2.2.2.2.2.2.2.1 k0_t94 k0_h37 k0_h50
theorem k0_off742_inb : ∀ (i : grid0.Coords) (k0_t68 : Fin k0_t68_loop.trips) (v191 : BitVec 32) (v194 : BitVec 32) (k0_hw45 : k0_chk45 i k0_t68 v191 v194) (k0_t94 : Fin (k0_t94_loop i k0_t68 v191 v194).trips), ∀ (k0_h37 : k0_cond37 k0_t68 = 1#1), ∀ (k0_h50 : k0_cond50 i k0_t68 v191 v194 = 1#1), ∀ a, (k0_off742 i k0_t68 v191 v194 k0_t94) a + S1x16.size a ≤ S256x128.size a := fun i k0_t68 v191 v194 k0_hw45 k0_t94 k0_h37 k0_h50 => k0_hw45.2.2.2.2.2.2.2.2.2.2.2.2.2.2.2.1 k0_t94 k0_h37 k0_h50
theorem k0_off743_inb : ∀ (i : grid0.Coords) (k0_t68 : Fin k0_t68_loop.trips) (v191 : BitVec 32) (v194 : BitVec 32) (k0_hw45 : k0_chk45 i k0_t68 v191 v194) (k0_t94 : Fin (k0_t94_loop i k0_t68 v191 v194).trips), ∀ (k0_h37 : k0_cond37 k0_t68 = 1#1), ∀ (k0_h50 : k0_cond50 i k0_t68 v191 v194 = 1#1), ∀ a, (k0_off743 i k0_t68 v191 v194 k0_t94) a + S1x16.size a ≤ S256x128.size a := fun i k0_t68 v191 v194 k0_hw45 k0_t94 k0_h37 k0_h50 => k0_hw45.2.2.2.2.2.2.2.2.2.2.2.2.2.2.2.2.1 k0_t94 k0_h37 k0_h50
theorem k0_off744_inb : ∀ (i : grid0.Coords) (k0_t68 : Fin k0_t68_loop.trips) (v191 : BitVec 32) (v194 : BitVec 32) (k0_hw45 : k0_chk45 i k0_t68 v191 v194) (k0_t94 : Fin (k0_t94_loop i k0_t68 v191 v194).trips), ∀ (k0_h37 : k0_cond37 k0_t68 = 1#1), ∀ (k0_h50 : k0_cond50 i k0_t68 v191 v194 = 1#1), ∀ a, (k0_off744 i k0_t68 v191 v194 k0_t94) a + S1x16.size a ≤ S256x128.size a := fun i k0_t68 v191 v194 k0_hw45 k0_t94 k0_h37 k0_h50 => k0_hw45.2.2.2.2.2.2.2.2.2.2.2.2.2.2.2.2.2 k0_t94 k0_h37 k0_h50

@[reducible] def k0_t95_loop (i : grid0.Coords) (k0_t68 : Fin k0_t68_loop.trips) (v200 : BitVec 32) (v203 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v201 : BitVec 32 := Scalar.maxsi v200 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_85 : BitVec 32 := 1#32
  ⟨v201, v234, c1_i32_85⟩
def k0_cond51 (i : grid0.Coords) (k0_t68 : Fin k0_t68_loop.trips) (v200 : BitVec 32) (v203 : BitVec 32) : BitVec 1 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v204 : BitVec 32 := Scalar.minsi v203 v77
  let v201 : BitVec 32 := Scalar.maxsi v200 v75
  let v205 : BitVec 1 := Scalar.cmpi .sgt v204 v201
  let v206 : BitVec 32 := Scalar.extui v205
  let c0_i32_78 : BitVec 32 := 0#32
  let v207 : BitVec 1 := Scalar.cmpi .ne v206 c0_i32_78
  v207

def k0_off745 (i : grid0.Coords) (k0_t68 : Fin k0_t68_loop.trips) (v200 : BitVec 32) (v203 : BitVec 32) (k0_t95 : Fin (k0_t95_loop i k0_t68 v200 v203).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v201 : BitVec 32 := Scalar.maxsi v200 v75
  let c1_i32_85 : BitVec 32 := 1#32
  let arg19 : BitVec 32 := Scf.iv v201 c1_i32_85 k0_t95
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off746 (i : grid0.Coords) (k0_t68 : Fin k0_t68_loop.trips) (v200 : BitVec 32) (v203 : BitVec 32) (k0_t95 : Fin (k0_t95_loop i k0_t68 v200 v203).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v201 : BitVec 32 := Scalar.maxsi v200 v75
  let c1_i32_85 : BitVec 32 := 1#32
  let arg19 : BitVec 32 := Scf.iv v201 c1_i32_85 k0_t95
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off747 (i : grid0.Coords) (k0_t68 : Fin k0_t68_loop.trips) (v200 : BitVec 32) (v203 : BitVec 32) (k0_t95 : Fin (k0_t95_loop i k0_t68 v200 v203).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v201 : BitVec 32 := Scalar.maxsi v200 v75
  let c1_i32_85 : BitVec 32 := 1#32
  let arg19 : BitVec 32 := Scf.iv v201 c1_i32_85 k0_t95
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off748 (i : grid0.Coords) (k0_t68 : Fin k0_t68_loop.trips) (v200 : BitVec 32) (v203 : BitVec 32) (k0_t95 : Fin (k0_t95_loop i k0_t68 v200 v203).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v201 : BitVec 32 := Scalar.maxsi v200 v75
  let c1_i32_85 : BitVec 32 := 1#32
  let arg19 : BitVec 32 := Scf.iv v201 c1_i32_85 k0_t95
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off749 (i : grid0.Coords) (k0_t68 : Fin k0_t68_loop.trips) (v200 : BitVec 32) (v203 : BitVec 32) (k0_t95 : Fin (k0_t95_loop i k0_t68 v200 v203).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v201 : BitVec 32 := Scalar.maxsi v200 v75
  let c1_i32_85 : BitVec 32 := 1#32
  let arg19 : BitVec 32 := Scf.iv v201 c1_i32_85 k0_t95
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off750 (i : grid0.Coords) (k0_t68 : Fin k0_t68_loop.trips) (v200 : BitVec 32) (v203 : BitVec 32) (k0_t95 : Fin (k0_t95_loop i k0_t68 v200 v203).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v201 : BitVec 32 := Scalar.maxsi v200 v75
  let c1_i32_85 : BitVec 32 := 1#32
  let arg19 : BitVec 32 := Scf.iv v201 c1_i32_85 k0_t95
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off751 (i : grid0.Coords) (k0_t68 : Fin k0_t68_loop.trips) (v200 : BitVec 32) (v203 : BitVec 32) (k0_t95 : Fin (k0_t95_loop i k0_t68 v200 v203).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v201 : BitVec 32 := Scalar.maxsi v200 v75
  let c1_i32_85 : BitVec 32 := 1#32
  let arg19 : BitVec 32 := Scf.iv v201 c1_i32_85 k0_t95
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off752 (i : grid0.Coords) (k0_t68 : Fin k0_t68_loop.trips) (v200 : BitVec 32) (v203 : BitVec 32) (k0_t95 : Fin (k0_t95_loop i k0_t68 v200 v203).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v201 : BitVec 32 := Scalar.maxsi v200 v75
  let c1_i32_85 : BitVec 32 := 1#32
  let arg19 : BitVec 32 := Scf.iv v201 c1_i32_85 k0_t95
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]
@[reducible] def k0_t96_loop (i : grid0.Coords) (k0_t68 : Fin k0_t68_loop.trips) (v200 : BitVec 32) (v203 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v201 : BitVec 32 := Scalar.maxsi v200 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let v231 : BitVec 32 := Scalar.addi v201 v230
  let c1_i32_86 : BitVec 32 := 1#32
  ⟨v234, v231, c1_i32_86⟩
def k0_off753 (i : grid0.Coords) (k0_t68 : Fin k0_t68_loop.trips) (v200 : BitVec 32) (v203 : BitVec 32) (k0_t96 : Fin (k0_t96_loop i k0_t68 v200 v203).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v201 : BitVec 32 := Scalar.maxsi v200 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_86 : BitVec 32 := 1#32
  let arg19 : BitVec 32 := Scf.iv v234 c1_i32_86 k0_t96
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off754 (i : grid0.Coords) (k0_t68 : Fin k0_t68_loop.trips) (v200 : BitVec 32) (v203 : BitVec 32) (k0_t96 : Fin (k0_t96_loop i k0_t68 v200 v203).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v201 : BitVec 32 := Scalar.maxsi v200 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_86 : BitVec 32 := 1#32
  let arg19 : BitVec 32 := Scf.iv v234 c1_i32_86 k0_t96
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off755 (i : grid0.Coords) (k0_t68 : Fin k0_t68_loop.trips) (v200 : BitVec 32) (v203 : BitVec 32) (k0_t96 : Fin (k0_t96_loop i k0_t68 v200 v203).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v201 : BitVec 32 := Scalar.maxsi v200 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_86 : BitVec 32 := 1#32
  let arg19 : BitVec 32 := Scf.iv v234 c1_i32_86 k0_t96
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off756 (i : grid0.Coords) (k0_t68 : Fin k0_t68_loop.trips) (v200 : BitVec 32) (v203 : BitVec 32) (k0_t96 : Fin (k0_t96_loop i k0_t68 v200 v203).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v201 : BitVec 32 := Scalar.maxsi v200 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_86 : BitVec 32 := 1#32
  let arg19 : BitVec 32 := Scf.iv v234 c1_i32_86 k0_t96
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off757 (i : grid0.Coords) (k0_t68 : Fin k0_t68_loop.trips) (v200 : BitVec 32) (v203 : BitVec 32) (k0_t96 : Fin (k0_t96_loop i k0_t68 v200 v203).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v201 : BitVec 32 := Scalar.maxsi v200 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_86 : BitVec 32 := 1#32
  let arg19 : BitVec 32 := Scf.iv v234 c1_i32_86 k0_t96
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off758 (i : grid0.Coords) (k0_t68 : Fin k0_t68_loop.trips) (v200 : BitVec 32) (v203 : BitVec 32) (k0_t96 : Fin (k0_t96_loop i k0_t68 v200 v203).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v201 : BitVec 32 := Scalar.maxsi v200 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_86 : BitVec 32 := 1#32
  let arg19 : BitVec 32 := Scf.iv v234 c1_i32_86 k0_t96
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off759 (i : grid0.Coords) (k0_t68 : Fin k0_t68_loop.trips) (v200 : BitVec 32) (v203 : BitVec 32) (k0_t96 : Fin (k0_t96_loop i k0_t68 v200 v203).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v201 : BitVec 32 := Scalar.maxsi v200 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_86 : BitVec 32 := 1#32
  let arg19 : BitVec 32 := Scf.iv v234 c1_i32_86 k0_t96
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off760 (i : grid0.Coords) (k0_t68 : Fin k0_t68_loop.trips) (v200 : BitVec 32) (v203 : BitVec 32) (k0_t96 : Fin (k0_t96_loop i k0_t68 v200 v203).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v201 : BitVec 32 := Scalar.maxsi v200 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_86 : BitVec 32 := 1#32
  let arg19 : BitVec 32 := Scf.iv v234 c1_i32_86 k0_t96
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]

def k0_chk46 (i : grid0.Coords) (k0_t68 : Fin k0_t68_loop.trips) (v200 : BitVec 32) (v203 : BitVec 32) : Prop :=
  (∀ (k0_h37 : k0_cond37 k0_t68 = 1#1), ∀ (k0_h51 : k0_cond51 i k0_t68 v200 v203 = 1#1), (k0_t95_loop i k0_t68 v200 v203).OK) ∧
  (∀ k0_t95 : Fin (k0_t95_loop i k0_t68 v200 v203).trips, ∀ (k0_h37 : k0_cond37 k0_t68 = 1#1), ∀ (k0_h51 : k0_cond51 i k0_t68 v200 v203 = 1#1), ∀ a, (k0_off745 i k0_t68 v200 v203 k0_t95) a + S1x16.size a ≤ S256x128.size a) ∧
  (∀ k0_t95 : Fin (k0_t95_loop i k0_t68 v200 v203).trips, ∀ (k0_h37 : k0_cond37 k0_t68 = 1#1), ∀ (k0_h51 : k0_cond51 i k0_t68 v200 v203 = 1#1), ∀ a, (k0_off746 i k0_t68 v200 v203 k0_t95) a + S1x16.size a ≤ S256x128.size a) ∧
  (∀ k0_t95 : Fin (k0_t95_loop i k0_t68 v200 v203).trips, ∀ (k0_h37 : k0_cond37 k0_t68 = 1#1), ∀ (k0_h51 : k0_cond51 i k0_t68 v200 v203 = 1#1), ∀ a, (k0_off747 i k0_t68 v200 v203 k0_t95) a + S1x16.size a ≤ S256x128.size a) ∧
  (∀ k0_t95 : Fin (k0_t95_loop i k0_t68 v200 v203).trips, ∀ (k0_h37 : k0_cond37 k0_t68 = 1#1), ∀ (k0_h51 : k0_cond51 i k0_t68 v200 v203 = 1#1), ∀ a, (k0_off748 i k0_t68 v200 v203 k0_t95) a + S1x16.size a ≤ S256x128.size a) ∧
  (∀ k0_t95 : Fin (k0_t95_loop i k0_t68 v200 v203).trips, ∀ (k0_h37 : k0_cond37 k0_t68 = 1#1), ∀ (k0_h51 : k0_cond51 i k0_t68 v200 v203 = 1#1), ∀ a, (k0_off749 i k0_t68 v200 v203 k0_t95) a + S1x16.size a ≤ S256x128.size a) ∧
  (∀ k0_t95 : Fin (k0_t95_loop i k0_t68 v200 v203).trips, ∀ (k0_h37 : k0_cond37 k0_t68 = 1#1), ∀ (k0_h51 : k0_cond51 i k0_t68 v200 v203 = 1#1), ∀ a, (k0_off750 i k0_t68 v200 v203 k0_t95) a + S1x16.size a ≤ S256x128.size a) ∧
  (∀ k0_t95 : Fin (k0_t95_loop i k0_t68 v200 v203).trips, ∀ (k0_h37 : k0_cond37 k0_t68 = 1#1), ∀ (k0_h51 : k0_cond51 i k0_t68 v200 v203 = 1#1), ∀ a, (k0_off751 i k0_t68 v200 v203 k0_t95) a + S1x16.size a ≤ S256x128.size a) ∧
  (∀ k0_t95 : Fin (k0_t95_loop i k0_t68 v200 v203).trips, ∀ (k0_h37 : k0_cond37 k0_t68 = 1#1), ∀ (k0_h51 : k0_cond51 i k0_t68 v200 v203 = 1#1), ∀ a, (k0_off752 i k0_t68 v200 v203 k0_t95) a + S1x16.size a ≤ S256x128.size a) ∧
  (∀ (k0_h37 : k0_cond37 k0_t68 = 1#1), ∀ (k0_h51 : k0_cond51 i k0_t68 v200 v203 = 1#1), (k0_t96_loop i k0_t68 v200 v203).OK) ∧
  (∀ k0_t96 : Fin (k0_t96_loop i k0_t68 v200 v203).trips, ∀ (k0_h37 : k0_cond37 k0_t68 = 1#1), ∀ (k0_h51 : k0_cond51 i k0_t68 v200 v203 = 1#1), ∀ a, (k0_off753 i k0_t68 v200 v203 k0_t96) a + S1x16.size a ≤ S256x128.size a) ∧
  (∀ k0_t96 : Fin (k0_t96_loop i k0_t68 v200 v203).trips, ∀ (k0_h37 : k0_cond37 k0_t68 = 1#1), ∀ (k0_h51 : k0_cond51 i k0_t68 v200 v203 = 1#1), ∀ a, (k0_off754 i k0_t68 v200 v203 k0_t96) a + S1x16.size a ≤ S256x128.size a) ∧
  (∀ k0_t96 : Fin (k0_t96_loop i k0_t68 v200 v203).trips, ∀ (k0_h37 : k0_cond37 k0_t68 = 1#1), ∀ (k0_h51 : k0_cond51 i k0_t68 v200 v203 = 1#1), ∀ a, (k0_off755 i k0_t68 v200 v203 k0_t96) a + S1x16.size a ≤ S256x128.size a) ∧
  (∀ k0_t96 : Fin (k0_t96_loop i k0_t68 v200 v203).trips, ∀ (k0_h37 : k0_cond37 k0_t68 = 1#1), ∀ (k0_h51 : k0_cond51 i k0_t68 v200 v203 = 1#1), ∀ a, (k0_off756 i k0_t68 v200 v203 k0_t96) a + S1x16.size a ≤ S256x128.size a) ∧
  (∀ k0_t96 : Fin (k0_t96_loop i k0_t68 v200 v203).trips, ∀ (k0_h37 : k0_cond37 k0_t68 = 1#1), ∀ (k0_h51 : k0_cond51 i k0_t68 v200 v203 = 1#1), ∀ a, (k0_off757 i k0_t68 v200 v203 k0_t96) a + S1x16.size a ≤ S256x128.size a) ∧
  (∀ k0_t96 : Fin (k0_t96_loop i k0_t68 v200 v203).trips, ∀ (k0_h37 : k0_cond37 k0_t68 = 1#1), ∀ (k0_h51 : k0_cond51 i k0_t68 v200 v203 = 1#1), ∀ a, (k0_off758 i k0_t68 v200 v203 k0_t96) a + S1x16.size a ≤ S256x128.size a) ∧
  (∀ k0_t96 : Fin (k0_t96_loop i k0_t68 v200 v203).trips, ∀ (k0_h37 : k0_cond37 k0_t68 = 1#1), ∀ (k0_h51 : k0_cond51 i k0_t68 v200 v203 = 1#1), ∀ a, (k0_off759 i k0_t68 v200 v203 k0_t96) a + S1x16.size a ≤ S256x128.size a) ∧
  (∀ k0_t96 : Fin (k0_t96_loop i k0_t68 v200 v203).trips, ∀ (k0_h37 : k0_cond37 k0_t68 = 1#1), ∀ (k0_h51 : k0_cond51 i k0_t68 v200 v203 = 1#1), ∀ a, (k0_off760 i k0_t68 v200 v203 k0_t96) a + S1x16.size a ≤ S256x128.size a)
theorem k0_t95_ok : ∀ (i : grid0.Coords) (k0_t68 : Fin k0_t68_loop.trips) (v200 : BitVec 32) (v203 : BitVec 32) (k0_hw46 : k0_chk46 i k0_t68 v200 v203), ∀ (k0_h37 : k0_cond37 k0_t68 = 1#1), ∀ (k0_h51 : k0_cond51 i k0_t68 v200 v203 = 1#1), (k0_t95_loop i k0_t68 v200 v203).OK := fun i k0_t68 v200 v203 k0_hw46 k0_h37 k0_h51 => k0_hw46.1 k0_h37 k0_h51
theorem k0_off745_inb : ∀ (i : grid0.Coords) (k0_t68 : Fin k0_t68_loop.trips) (v200 : BitVec 32) (v203 : BitVec 32) (k0_hw46 : k0_chk46 i k0_t68 v200 v203) (k0_t95 : Fin (k0_t95_loop i k0_t68 v200 v203).trips), ∀ (k0_h37 : k0_cond37 k0_t68 = 1#1), ∀ (k0_h51 : k0_cond51 i k0_t68 v200 v203 = 1#1), ∀ a, (k0_off745 i k0_t68 v200 v203 k0_t95) a + S1x16.size a ≤ S256x128.size a := fun i k0_t68 v200 v203 k0_hw46 k0_t95 k0_h37 k0_h51 => k0_hw46.2.1 k0_t95 k0_h37 k0_h51
theorem k0_off746_inb : ∀ (i : grid0.Coords) (k0_t68 : Fin k0_t68_loop.trips) (v200 : BitVec 32) (v203 : BitVec 32) (k0_hw46 : k0_chk46 i k0_t68 v200 v203) (k0_t95 : Fin (k0_t95_loop i k0_t68 v200 v203).trips), ∀ (k0_h37 : k0_cond37 k0_t68 = 1#1), ∀ (k0_h51 : k0_cond51 i k0_t68 v200 v203 = 1#1), ∀ a, (k0_off746 i k0_t68 v200 v203 k0_t95) a + S1x16.size a ≤ S256x128.size a := fun i k0_t68 v200 v203 k0_hw46 k0_t95 k0_h37 k0_h51 => k0_hw46.2.2.1 k0_t95 k0_h37 k0_h51
theorem k0_off747_inb : ∀ (i : grid0.Coords) (k0_t68 : Fin k0_t68_loop.trips) (v200 : BitVec 32) (v203 : BitVec 32) (k0_hw46 : k0_chk46 i k0_t68 v200 v203) (k0_t95 : Fin (k0_t95_loop i k0_t68 v200 v203).trips), ∀ (k0_h37 : k0_cond37 k0_t68 = 1#1), ∀ (k0_h51 : k0_cond51 i k0_t68 v200 v203 = 1#1), ∀ a, (k0_off747 i k0_t68 v200 v203 k0_t95) a + S1x16.size a ≤ S256x128.size a := fun i k0_t68 v200 v203 k0_hw46 k0_t95 k0_h37 k0_h51 => k0_hw46.2.2.2.1 k0_t95 k0_h37 k0_h51
theorem k0_off748_inb : ∀ (i : grid0.Coords) (k0_t68 : Fin k0_t68_loop.trips) (v200 : BitVec 32) (v203 : BitVec 32) (k0_hw46 : k0_chk46 i k0_t68 v200 v203) (k0_t95 : Fin (k0_t95_loop i k0_t68 v200 v203).trips), ∀ (k0_h37 : k0_cond37 k0_t68 = 1#1), ∀ (k0_h51 : k0_cond51 i k0_t68 v200 v203 = 1#1), ∀ a, (k0_off748 i k0_t68 v200 v203 k0_t95) a + S1x16.size a ≤ S256x128.size a := fun i k0_t68 v200 v203 k0_hw46 k0_t95 k0_h37 k0_h51 => k0_hw46.2.2.2.2.1 k0_t95 k0_h37 k0_h51
theorem k0_off749_inb : ∀ (i : grid0.Coords) (k0_t68 : Fin k0_t68_loop.trips) (v200 : BitVec 32) (v203 : BitVec 32) (k0_hw46 : k0_chk46 i k0_t68 v200 v203) (k0_t95 : Fin (k0_t95_loop i k0_t68 v200 v203).trips), ∀ (k0_h37 : k0_cond37 k0_t68 = 1#1), ∀ (k0_h51 : k0_cond51 i k0_t68 v200 v203 = 1#1), ∀ a, (k0_off749 i k0_t68 v200 v203 k0_t95) a + S1x16.size a ≤ S256x128.size a := fun i k0_t68 v200 v203 k0_hw46 k0_t95 k0_h37 k0_h51 => k0_hw46.2.2.2.2.2.1 k0_t95 k0_h37 k0_h51
theorem k0_off750_inb : ∀ (i : grid0.Coords) (k0_t68 : Fin k0_t68_loop.trips) (v200 : BitVec 32) (v203 : BitVec 32) (k0_hw46 : k0_chk46 i k0_t68 v200 v203) (k0_t95 : Fin (k0_t95_loop i k0_t68 v200 v203).trips), ∀ (k0_h37 : k0_cond37 k0_t68 = 1#1), ∀ (k0_h51 : k0_cond51 i k0_t68 v200 v203 = 1#1), ∀ a, (k0_off750 i k0_t68 v200 v203 k0_t95) a + S1x16.size a ≤ S256x128.size a := fun i k0_t68 v200 v203 k0_hw46 k0_t95 k0_h37 k0_h51 => k0_hw46.2.2.2.2.2.2.1 k0_t95 k0_h37 k0_h51
theorem k0_off751_inb : ∀ (i : grid0.Coords) (k0_t68 : Fin k0_t68_loop.trips) (v200 : BitVec 32) (v203 : BitVec 32) (k0_hw46 : k0_chk46 i k0_t68 v200 v203) (k0_t95 : Fin (k0_t95_loop i k0_t68 v200 v203).trips), ∀ (k0_h37 : k0_cond37 k0_t68 = 1#1), ∀ (k0_h51 : k0_cond51 i k0_t68 v200 v203 = 1#1), ∀ a, (k0_off751 i k0_t68 v200 v203 k0_t95) a + S1x16.size a ≤ S256x128.size a := fun i k0_t68 v200 v203 k0_hw46 k0_t95 k0_h37 k0_h51 => k0_hw46.2.2.2.2.2.2.2.1 k0_t95 k0_h37 k0_h51
theorem k0_off752_inb : ∀ (i : grid0.Coords) (k0_t68 : Fin k0_t68_loop.trips) (v200 : BitVec 32) (v203 : BitVec 32) (k0_hw46 : k0_chk46 i k0_t68 v200 v203) (k0_t95 : Fin (k0_t95_loop i k0_t68 v200 v203).trips), ∀ (k0_h37 : k0_cond37 k0_t68 = 1#1), ∀ (k0_h51 : k0_cond51 i k0_t68 v200 v203 = 1#1), ∀ a, (k0_off752 i k0_t68 v200 v203 k0_t95) a + S1x16.size a ≤ S256x128.size a := fun i k0_t68 v200 v203 k0_hw46 k0_t95 k0_h37 k0_h51 => k0_hw46.2.2.2.2.2.2.2.2.1 k0_t95 k0_h37 k0_h51
theorem k0_t96_ok : ∀ (i : grid0.Coords) (k0_t68 : Fin k0_t68_loop.trips) (v200 : BitVec 32) (v203 : BitVec 32) (k0_hw46 : k0_chk46 i k0_t68 v200 v203), ∀ (k0_h37 : k0_cond37 k0_t68 = 1#1), ∀ (k0_h51 : k0_cond51 i k0_t68 v200 v203 = 1#1), (k0_t96_loop i k0_t68 v200 v203).OK := fun i k0_t68 v200 v203 k0_hw46 k0_h37 k0_h51 => k0_hw46.2.2.2.2.2.2.2.2.2.1 k0_h37 k0_h51
theorem k0_off753_inb : ∀ (i : grid0.Coords) (k0_t68 : Fin k0_t68_loop.trips) (v200 : BitVec 32) (v203 : BitVec 32) (k0_hw46 : k0_chk46 i k0_t68 v200 v203) (k0_t96 : Fin (k0_t96_loop i k0_t68 v200 v203).trips), ∀ (k0_h37 : k0_cond37 k0_t68 = 1#1), ∀ (k0_h51 : k0_cond51 i k0_t68 v200 v203 = 1#1), ∀ a, (k0_off753 i k0_t68 v200 v203 k0_t96) a + S1x16.size a ≤ S256x128.size a := fun i k0_t68 v200 v203 k0_hw46 k0_t96 k0_h37 k0_h51 => k0_hw46.2.2.2.2.2.2.2.2.2.2.1 k0_t96 k0_h37 k0_h51
theorem k0_off754_inb : ∀ (i : grid0.Coords) (k0_t68 : Fin k0_t68_loop.trips) (v200 : BitVec 32) (v203 : BitVec 32) (k0_hw46 : k0_chk46 i k0_t68 v200 v203) (k0_t96 : Fin (k0_t96_loop i k0_t68 v200 v203).trips), ∀ (k0_h37 : k0_cond37 k0_t68 = 1#1), ∀ (k0_h51 : k0_cond51 i k0_t68 v200 v203 = 1#1), ∀ a, (k0_off754 i k0_t68 v200 v203 k0_t96) a + S1x16.size a ≤ S256x128.size a := fun i k0_t68 v200 v203 k0_hw46 k0_t96 k0_h37 k0_h51 => k0_hw46.2.2.2.2.2.2.2.2.2.2.2.1 k0_t96 k0_h37 k0_h51
theorem k0_off755_inb : ∀ (i : grid0.Coords) (k0_t68 : Fin k0_t68_loop.trips) (v200 : BitVec 32) (v203 : BitVec 32) (k0_hw46 : k0_chk46 i k0_t68 v200 v203) (k0_t96 : Fin (k0_t96_loop i k0_t68 v200 v203).trips), ∀ (k0_h37 : k0_cond37 k0_t68 = 1#1), ∀ (k0_h51 : k0_cond51 i k0_t68 v200 v203 = 1#1), ∀ a, (k0_off755 i k0_t68 v200 v203 k0_t96) a + S1x16.size a ≤ S256x128.size a := fun i k0_t68 v200 v203 k0_hw46 k0_t96 k0_h37 k0_h51 => k0_hw46.2.2.2.2.2.2.2.2.2.2.2.2.1 k0_t96 k0_h37 k0_h51
theorem k0_off756_inb : ∀ (i : grid0.Coords) (k0_t68 : Fin k0_t68_loop.trips) (v200 : BitVec 32) (v203 : BitVec 32) (k0_hw46 : k0_chk46 i k0_t68 v200 v203) (k0_t96 : Fin (k0_t96_loop i k0_t68 v200 v203).trips), ∀ (k0_h37 : k0_cond37 k0_t68 = 1#1), ∀ (k0_h51 : k0_cond51 i k0_t68 v200 v203 = 1#1), ∀ a, (k0_off756 i k0_t68 v200 v203 k0_t96) a + S1x16.size a ≤ S256x128.size a := fun i k0_t68 v200 v203 k0_hw46 k0_t96 k0_h37 k0_h51 => k0_hw46.2.2.2.2.2.2.2.2.2.2.2.2.2.1 k0_t96 k0_h37 k0_h51
theorem k0_off757_inb : ∀ (i : grid0.Coords) (k0_t68 : Fin k0_t68_loop.trips) (v200 : BitVec 32) (v203 : BitVec 32) (k0_hw46 : k0_chk46 i k0_t68 v200 v203) (k0_t96 : Fin (k0_t96_loop i k0_t68 v200 v203).trips), ∀ (k0_h37 : k0_cond37 k0_t68 = 1#1), ∀ (k0_h51 : k0_cond51 i k0_t68 v200 v203 = 1#1), ∀ a, (k0_off757 i k0_t68 v200 v203 k0_t96) a + S1x16.size a ≤ S256x128.size a := fun i k0_t68 v200 v203 k0_hw46 k0_t96 k0_h37 k0_h51 => k0_hw46.2.2.2.2.2.2.2.2.2.2.2.2.2.2.1 k0_t96 k0_h37 k0_h51
theorem k0_off758_inb : ∀ (i : grid0.Coords) (k0_t68 : Fin k0_t68_loop.trips) (v200 : BitVec 32) (v203 : BitVec 32) (k0_hw46 : k0_chk46 i k0_t68 v200 v203) (k0_t96 : Fin (k0_t96_loop i k0_t68 v200 v203).trips), ∀ (k0_h37 : k0_cond37 k0_t68 = 1#1), ∀ (k0_h51 : k0_cond51 i k0_t68 v200 v203 = 1#1), ∀ a, (k0_off758 i k0_t68 v200 v203 k0_t96) a + S1x16.size a ≤ S256x128.size a := fun i k0_t68 v200 v203 k0_hw46 k0_t96 k0_h37 k0_h51 => k0_hw46.2.2.2.2.2.2.2.2.2.2.2.2.2.2.2.1 k0_t96 k0_h37 k0_h51
theorem k0_off759_inb : ∀ (i : grid0.Coords) (k0_t68 : Fin k0_t68_loop.trips) (v200 : BitVec 32) (v203 : BitVec 32) (k0_hw46 : k0_chk46 i k0_t68 v200 v203) (k0_t96 : Fin (k0_t96_loop i k0_t68 v200 v203).trips), ∀ (k0_h37 : k0_cond37 k0_t68 = 1#1), ∀ (k0_h51 : k0_cond51 i k0_t68 v200 v203 = 1#1), ∀ a, (k0_off759 i k0_t68 v200 v203 k0_t96) a + S1x16.size a ≤ S256x128.size a := fun i k0_t68 v200 v203 k0_hw46 k0_t96 k0_h37 k0_h51 => k0_hw46.2.2.2.2.2.2.2.2.2.2.2.2.2.2.2.2.1 k0_t96 k0_h37 k0_h51
theorem k0_off760_inb : ∀ (i : grid0.Coords) (k0_t68 : Fin k0_t68_loop.trips) (v200 : BitVec 32) (v203 : BitVec 32) (k0_hw46 : k0_chk46 i k0_t68 v200 v203) (k0_t96 : Fin (k0_t96_loop i k0_t68 v200 v203).trips), ∀ (k0_h37 : k0_cond37 k0_t68 = 1#1), ∀ (k0_h51 : k0_cond51 i k0_t68 v200 v203 = 1#1), ∀ a, (k0_off760 i k0_t68 v200 v203 k0_t96) a + S1x16.size a ≤ S256x128.size a := fun i k0_t68 v200 v203 k0_hw46 k0_t96 k0_h37 k0_h51 => k0_hw46.2.2.2.2.2.2.2.2.2.2.2.2.2.2.2.2.2 k0_t96 k0_h37 k0_h51

@[reducible] def k0_t97_loop (i : grid0.Coords) (k0_t68 : Fin k0_t68_loop.trips) (v209 : BitVec 32) (v212 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v210 : BitVec 32 := Scalar.maxsi v209 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_85 : BitVec 32 := 1#32
  ⟨v210, v234, c1_i32_85⟩
def k0_cond52 (i : grid0.Coords) (k0_t68 : Fin k0_t68_loop.trips) (v209 : BitVec 32) (v212 : BitVec 32) : BitVec 1 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v213 : BitVec 32 := Scalar.minsi v212 v77
  let v210 : BitVec 32 := Scalar.maxsi v209 v75
  let v214 : BitVec 1 := Scalar.cmpi .sgt v213 v210
  let v215 : BitVec 32 := Scalar.extui v214
  let c0_i32_79 : BitVec 32 := 0#32
  let v216 : BitVec 1 := Scalar.cmpi .ne v215 c0_i32_79
  v216

def k0_off761 (i : grid0.Coords) (k0_t68 : Fin k0_t68_loop.trips) (v209 : BitVec 32) (v212 : BitVec 32) (k0_t97 : Fin (k0_t97_loop i k0_t68 v209 v212).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v210 : BitVec 32 := Scalar.maxsi v209 v75
  let c1_i32_85 : BitVec 32 := 1#32
  let arg19 : BitVec 32 := Scf.iv v210 c1_i32_85 k0_t97
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off762 (i : grid0.Coords) (k0_t68 : Fin k0_t68_loop.trips) (v209 : BitVec 32) (v212 : BitVec 32) (k0_t97 : Fin (k0_t97_loop i k0_t68 v209 v212).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v210 : BitVec 32 := Scalar.maxsi v209 v75
  let c1_i32_85 : BitVec 32 := 1#32
  let arg19 : BitVec 32 := Scf.iv v210 c1_i32_85 k0_t97
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off763 (i : grid0.Coords) (k0_t68 : Fin k0_t68_loop.trips) (v209 : BitVec 32) (v212 : BitVec 32) (k0_t97 : Fin (k0_t97_loop i k0_t68 v209 v212).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v210 : BitVec 32 := Scalar.maxsi v209 v75
  let c1_i32_85 : BitVec 32 := 1#32
  let arg19 : BitVec 32 := Scf.iv v210 c1_i32_85 k0_t97
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off764 (i : grid0.Coords) (k0_t68 : Fin k0_t68_loop.trips) (v209 : BitVec 32) (v212 : BitVec 32) (k0_t97 : Fin (k0_t97_loop i k0_t68 v209 v212).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v210 : BitVec 32 := Scalar.maxsi v209 v75
  let c1_i32_85 : BitVec 32 := 1#32
  let arg19 : BitVec 32 := Scf.iv v210 c1_i32_85 k0_t97
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off765 (i : grid0.Coords) (k0_t68 : Fin k0_t68_loop.trips) (v209 : BitVec 32) (v212 : BitVec 32) (k0_t97 : Fin (k0_t97_loop i k0_t68 v209 v212).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v210 : BitVec 32 := Scalar.maxsi v209 v75
  let c1_i32_85 : BitVec 32 := 1#32
  let arg19 : BitVec 32 := Scf.iv v210 c1_i32_85 k0_t97
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off766 (i : grid0.Coords) (k0_t68 : Fin k0_t68_loop.trips) (v209 : BitVec 32) (v212 : BitVec 32) (k0_t97 : Fin (k0_t97_loop i k0_t68 v209 v212).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v210 : BitVec 32 := Scalar.maxsi v209 v75
  let c1_i32_85 : BitVec 32 := 1#32
  let arg19 : BitVec 32 := Scf.iv v210 c1_i32_85 k0_t97
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off767 (i : grid0.Coords) (k0_t68 : Fin k0_t68_loop.trips) (v209 : BitVec 32) (v212 : BitVec 32) (k0_t97 : Fin (k0_t97_loop i k0_t68 v209 v212).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v210 : BitVec 32 := Scalar.maxsi v209 v75
  let c1_i32_85 : BitVec 32 := 1#32
  let arg19 : BitVec 32 := Scf.iv v210 c1_i32_85 k0_t97
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off768 (i : grid0.Coords) (k0_t68 : Fin k0_t68_loop.trips) (v209 : BitVec 32) (v212 : BitVec 32) (k0_t97 : Fin (k0_t97_loop i k0_t68 v209 v212).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v210 : BitVec 32 := Scalar.maxsi v209 v75
  let c1_i32_85 : BitVec 32 := 1#32
  let arg19 : BitVec 32 := Scf.iv v210 c1_i32_85 k0_t97
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]
@[reducible] def k0_t98_loop (i : grid0.Coords) (k0_t68 : Fin k0_t68_loop.trips) (v209 : BitVec 32) (v212 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v210 : BitVec 32 := Scalar.maxsi v209 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let v231 : BitVec 32 := Scalar.addi v210 v230
  let c1_i32_86 : BitVec 32 := 1#32
  ⟨v234, v231, c1_i32_86⟩
def k0_off769 (i : grid0.Coords) (k0_t68 : Fin k0_t68_loop.trips) (v209 : BitVec 32) (v212 : BitVec 32) (k0_t98 : Fin (k0_t98_loop i k0_t68 v209 v212).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v210 : BitVec 32 := Scalar.maxsi v209 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_86 : BitVec 32 := 1#32
  let arg19 : BitVec 32 := Scf.iv v234 c1_i32_86 k0_t98
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off770 (i : grid0.Coords) (k0_t68 : Fin k0_t68_loop.trips) (v209 : BitVec 32) (v212 : BitVec 32) (k0_t98 : Fin (k0_t98_loop i k0_t68 v209 v212).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v210 : BitVec 32 := Scalar.maxsi v209 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_86 : BitVec 32 := 1#32
  let arg19 : BitVec 32 := Scf.iv v234 c1_i32_86 k0_t98
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off771 (i : grid0.Coords) (k0_t68 : Fin k0_t68_loop.trips) (v209 : BitVec 32) (v212 : BitVec 32) (k0_t98 : Fin (k0_t98_loop i k0_t68 v209 v212).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v210 : BitVec 32 := Scalar.maxsi v209 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_86 : BitVec 32 := 1#32
  let arg19 : BitVec 32 := Scf.iv v234 c1_i32_86 k0_t98
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off772 (i : grid0.Coords) (k0_t68 : Fin k0_t68_loop.trips) (v209 : BitVec 32) (v212 : BitVec 32) (k0_t98 : Fin (k0_t98_loop i k0_t68 v209 v212).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v210 : BitVec 32 := Scalar.maxsi v209 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_86 : BitVec 32 := 1#32
  let arg19 : BitVec 32 := Scf.iv v234 c1_i32_86 k0_t98
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off773 (i : grid0.Coords) (k0_t68 : Fin k0_t68_loop.trips) (v209 : BitVec 32) (v212 : BitVec 32) (k0_t98 : Fin (k0_t98_loop i k0_t68 v209 v212).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v210 : BitVec 32 := Scalar.maxsi v209 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_86 : BitVec 32 := 1#32
  let arg19 : BitVec 32 := Scf.iv v234 c1_i32_86 k0_t98
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off774 (i : grid0.Coords) (k0_t68 : Fin k0_t68_loop.trips) (v209 : BitVec 32) (v212 : BitVec 32) (k0_t98 : Fin (k0_t98_loop i k0_t68 v209 v212).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v210 : BitVec 32 := Scalar.maxsi v209 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_86 : BitVec 32 := 1#32
  let arg19 : BitVec 32 := Scf.iv v234 c1_i32_86 k0_t98
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off775 (i : grid0.Coords) (k0_t68 : Fin k0_t68_loop.trips) (v209 : BitVec 32) (v212 : BitVec 32) (k0_t98 : Fin (k0_t98_loop i k0_t68 v209 v212).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v210 : BitVec 32 := Scalar.maxsi v209 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_86 : BitVec 32 := 1#32
  let arg19 : BitVec 32 := Scf.iv v234 c1_i32_86 k0_t98
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off776 (i : grid0.Coords) (k0_t68 : Fin k0_t68_loop.trips) (v209 : BitVec 32) (v212 : BitVec 32) (k0_t98 : Fin (k0_t98_loop i k0_t68 v209 v212).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v210 : BitVec 32 := Scalar.maxsi v209 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_86 : BitVec 32 := 1#32
  let arg19 : BitVec 32 := Scf.iv v234 c1_i32_86 k0_t98
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]

def k0_chk47 (i : grid0.Coords) (k0_t68 : Fin k0_t68_loop.trips) (v209 : BitVec 32) (v212 : BitVec 32) : Prop :=
  (∀ (k0_h37 : k0_cond37 k0_t68 = 1#1), ∀ (k0_h52 : k0_cond52 i k0_t68 v209 v212 = 1#1), (k0_t97_loop i k0_t68 v209 v212).OK) ∧
  (∀ k0_t97 : Fin (k0_t97_loop i k0_t68 v209 v212).trips, ∀ (k0_h37 : k0_cond37 k0_t68 = 1#1), ∀ (k0_h52 : k0_cond52 i k0_t68 v209 v212 = 1#1), ∀ a, (k0_off761 i k0_t68 v209 v212 k0_t97) a + S1x16.size a ≤ S256x128.size a) ∧
  (∀ k0_t97 : Fin (k0_t97_loop i k0_t68 v209 v212).trips, ∀ (k0_h37 : k0_cond37 k0_t68 = 1#1), ∀ (k0_h52 : k0_cond52 i k0_t68 v209 v212 = 1#1), ∀ a, (k0_off762 i k0_t68 v209 v212 k0_t97) a + S1x16.size a ≤ S256x128.size a) ∧
  (∀ k0_t97 : Fin (k0_t97_loop i k0_t68 v209 v212).trips, ∀ (k0_h37 : k0_cond37 k0_t68 = 1#1), ∀ (k0_h52 : k0_cond52 i k0_t68 v209 v212 = 1#1), ∀ a, (k0_off763 i k0_t68 v209 v212 k0_t97) a + S1x16.size a ≤ S256x128.size a) ∧
  (∀ k0_t97 : Fin (k0_t97_loop i k0_t68 v209 v212).trips, ∀ (k0_h37 : k0_cond37 k0_t68 = 1#1), ∀ (k0_h52 : k0_cond52 i k0_t68 v209 v212 = 1#1), ∀ a, (k0_off764 i k0_t68 v209 v212 k0_t97) a + S1x16.size a ≤ S256x128.size a) ∧
  (∀ k0_t97 : Fin (k0_t97_loop i k0_t68 v209 v212).trips, ∀ (k0_h37 : k0_cond37 k0_t68 = 1#1), ∀ (k0_h52 : k0_cond52 i k0_t68 v209 v212 = 1#1), ∀ a, (k0_off765 i k0_t68 v209 v212 k0_t97) a + S1x16.size a ≤ S256x128.size a) ∧
  (∀ k0_t97 : Fin (k0_t97_loop i k0_t68 v209 v212).trips, ∀ (k0_h37 : k0_cond37 k0_t68 = 1#1), ∀ (k0_h52 : k0_cond52 i k0_t68 v209 v212 = 1#1), ∀ a, (k0_off766 i k0_t68 v209 v212 k0_t97) a + S1x16.size a ≤ S256x128.size a) ∧
  (∀ k0_t97 : Fin (k0_t97_loop i k0_t68 v209 v212).trips, ∀ (k0_h37 : k0_cond37 k0_t68 = 1#1), ∀ (k0_h52 : k0_cond52 i k0_t68 v209 v212 = 1#1), ∀ a, (k0_off767 i k0_t68 v209 v212 k0_t97) a + S1x16.size a ≤ S256x128.size a) ∧
  (∀ k0_t97 : Fin (k0_t97_loop i k0_t68 v209 v212).trips, ∀ (k0_h37 : k0_cond37 k0_t68 = 1#1), ∀ (k0_h52 : k0_cond52 i k0_t68 v209 v212 = 1#1), ∀ a, (k0_off768 i k0_t68 v209 v212 k0_t97) a + S1x16.size a ≤ S256x128.size a) ∧
  (∀ (k0_h37 : k0_cond37 k0_t68 = 1#1), ∀ (k0_h52 : k0_cond52 i k0_t68 v209 v212 = 1#1), (k0_t98_loop i k0_t68 v209 v212).OK) ∧
  (∀ k0_t98 : Fin (k0_t98_loop i k0_t68 v209 v212).trips, ∀ (k0_h37 : k0_cond37 k0_t68 = 1#1), ∀ (k0_h52 : k0_cond52 i k0_t68 v209 v212 = 1#1), ∀ a, (k0_off769 i k0_t68 v209 v212 k0_t98) a + S1x16.size a ≤ S256x128.size a) ∧
  (∀ k0_t98 : Fin (k0_t98_loop i k0_t68 v209 v212).trips, ∀ (k0_h37 : k0_cond37 k0_t68 = 1#1), ∀ (k0_h52 : k0_cond52 i k0_t68 v209 v212 = 1#1), ∀ a, (k0_off770 i k0_t68 v209 v212 k0_t98) a + S1x16.size a ≤ S256x128.size a) ∧
  (∀ k0_t98 : Fin (k0_t98_loop i k0_t68 v209 v212).trips, ∀ (k0_h37 : k0_cond37 k0_t68 = 1#1), ∀ (k0_h52 : k0_cond52 i k0_t68 v209 v212 = 1#1), ∀ a, (k0_off771 i k0_t68 v209 v212 k0_t98) a + S1x16.size a ≤ S256x128.size a) ∧
  (∀ k0_t98 : Fin (k0_t98_loop i k0_t68 v209 v212).trips, ∀ (k0_h37 : k0_cond37 k0_t68 = 1#1), ∀ (k0_h52 : k0_cond52 i k0_t68 v209 v212 = 1#1), ∀ a, (k0_off772 i k0_t68 v209 v212 k0_t98) a + S1x16.size a ≤ S256x128.size a) ∧
  (∀ k0_t98 : Fin (k0_t98_loop i k0_t68 v209 v212).trips, ∀ (k0_h37 : k0_cond37 k0_t68 = 1#1), ∀ (k0_h52 : k0_cond52 i k0_t68 v209 v212 = 1#1), ∀ a, (k0_off773 i k0_t68 v209 v212 k0_t98) a + S1x16.size a ≤ S256x128.size a) ∧
  (∀ k0_t98 : Fin (k0_t98_loop i k0_t68 v209 v212).trips, ∀ (k0_h37 : k0_cond37 k0_t68 = 1#1), ∀ (k0_h52 : k0_cond52 i k0_t68 v209 v212 = 1#1), ∀ a, (k0_off774 i k0_t68 v209 v212 k0_t98) a + S1x16.size a ≤ S256x128.size a) ∧
  (∀ k0_t98 : Fin (k0_t98_loop i k0_t68 v209 v212).trips, ∀ (k0_h37 : k0_cond37 k0_t68 = 1#1), ∀ (k0_h52 : k0_cond52 i k0_t68 v209 v212 = 1#1), ∀ a, (k0_off775 i k0_t68 v209 v212 k0_t98) a + S1x16.size a ≤ S256x128.size a) ∧
  (∀ k0_t98 : Fin (k0_t98_loop i k0_t68 v209 v212).trips, ∀ (k0_h37 : k0_cond37 k0_t68 = 1#1), ∀ (k0_h52 : k0_cond52 i k0_t68 v209 v212 = 1#1), ∀ a, (k0_off776 i k0_t68 v209 v212 k0_t98) a + S1x16.size a ≤ S256x128.size a)
theorem k0_t97_ok : ∀ (i : grid0.Coords) (k0_t68 : Fin k0_t68_loop.trips) (v209 : BitVec 32) (v212 : BitVec 32) (k0_hw47 : k0_chk47 i k0_t68 v209 v212), ∀ (k0_h37 : k0_cond37 k0_t68 = 1#1), ∀ (k0_h52 : k0_cond52 i k0_t68 v209 v212 = 1#1), (k0_t97_loop i k0_t68 v209 v212).OK := fun i k0_t68 v209 v212 k0_hw47 k0_h37 k0_h52 => k0_hw47.1 k0_h37 k0_h52
theorem k0_off761_inb : ∀ (i : grid0.Coords) (k0_t68 : Fin k0_t68_loop.trips) (v209 : BitVec 32) (v212 : BitVec 32) (k0_hw47 : k0_chk47 i k0_t68 v209 v212) (k0_t97 : Fin (k0_t97_loop i k0_t68 v209 v212).trips), ∀ (k0_h37 : k0_cond37 k0_t68 = 1#1), ∀ (k0_h52 : k0_cond52 i k0_t68 v209 v212 = 1#1), ∀ a, (k0_off761 i k0_t68 v209 v212 k0_t97) a + S1x16.size a ≤ S256x128.size a := fun i k0_t68 v209 v212 k0_hw47 k0_t97 k0_h37 k0_h52 => k0_hw47.2.1 k0_t97 k0_h37 k0_h52
theorem k0_off762_inb : ∀ (i : grid0.Coords) (k0_t68 : Fin k0_t68_loop.trips) (v209 : BitVec 32) (v212 : BitVec 32) (k0_hw47 : k0_chk47 i k0_t68 v209 v212) (k0_t97 : Fin (k0_t97_loop i k0_t68 v209 v212).trips), ∀ (k0_h37 : k0_cond37 k0_t68 = 1#1), ∀ (k0_h52 : k0_cond52 i k0_t68 v209 v212 = 1#1), ∀ a, (k0_off762 i k0_t68 v209 v212 k0_t97) a + S1x16.size a ≤ S256x128.size a := fun i k0_t68 v209 v212 k0_hw47 k0_t97 k0_h37 k0_h52 => k0_hw47.2.2.1 k0_t97 k0_h37 k0_h52
theorem k0_off763_inb : ∀ (i : grid0.Coords) (k0_t68 : Fin k0_t68_loop.trips) (v209 : BitVec 32) (v212 : BitVec 32) (k0_hw47 : k0_chk47 i k0_t68 v209 v212) (k0_t97 : Fin (k0_t97_loop i k0_t68 v209 v212).trips), ∀ (k0_h37 : k0_cond37 k0_t68 = 1#1), ∀ (k0_h52 : k0_cond52 i k0_t68 v209 v212 = 1#1), ∀ a, (k0_off763 i k0_t68 v209 v212 k0_t97) a + S1x16.size a ≤ S256x128.size a := fun i k0_t68 v209 v212 k0_hw47 k0_t97 k0_h37 k0_h52 => k0_hw47.2.2.2.1 k0_t97 k0_h37 k0_h52
theorem k0_off764_inb : ∀ (i : grid0.Coords) (k0_t68 : Fin k0_t68_loop.trips) (v209 : BitVec 32) (v212 : BitVec 32) (k0_hw47 : k0_chk47 i k0_t68 v209 v212) (k0_t97 : Fin (k0_t97_loop i k0_t68 v209 v212).trips), ∀ (k0_h37 : k0_cond37 k0_t68 = 1#1), ∀ (k0_h52 : k0_cond52 i k0_t68 v209 v212 = 1#1), ∀ a, (k0_off764 i k0_t68 v209 v212 k0_t97) a + S1x16.size a ≤ S256x128.size a := fun i k0_t68 v209 v212 k0_hw47 k0_t97 k0_h37 k0_h52 => k0_hw47.2.2.2.2.1 k0_t97 k0_h37 k0_h52
theorem k0_off765_inb : ∀ (i : grid0.Coords) (k0_t68 : Fin k0_t68_loop.trips) (v209 : BitVec 32) (v212 : BitVec 32) (k0_hw47 : k0_chk47 i k0_t68 v209 v212) (k0_t97 : Fin (k0_t97_loop i k0_t68 v209 v212).trips), ∀ (k0_h37 : k0_cond37 k0_t68 = 1#1), ∀ (k0_h52 : k0_cond52 i k0_t68 v209 v212 = 1#1), ∀ a, (k0_off765 i k0_t68 v209 v212 k0_t97) a + S1x16.size a ≤ S256x128.size a := fun i k0_t68 v209 v212 k0_hw47 k0_t97 k0_h37 k0_h52 => k0_hw47.2.2.2.2.2.1 k0_t97 k0_h37 k0_h52
theorem k0_off766_inb : ∀ (i : grid0.Coords) (k0_t68 : Fin k0_t68_loop.trips) (v209 : BitVec 32) (v212 : BitVec 32) (k0_hw47 : k0_chk47 i k0_t68 v209 v212) (k0_t97 : Fin (k0_t97_loop i k0_t68 v209 v212).trips), ∀ (k0_h37 : k0_cond37 k0_t68 = 1#1), ∀ (k0_h52 : k0_cond52 i k0_t68 v209 v212 = 1#1), ∀ a, (k0_off766 i k0_t68 v209 v212 k0_t97) a + S1x16.size a ≤ S256x128.size a := fun i k0_t68 v209 v212 k0_hw47 k0_t97 k0_h37 k0_h52 => k0_hw47.2.2.2.2.2.2.1 k0_t97 k0_h37 k0_h52
theorem k0_off767_inb : ∀ (i : grid0.Coords) (k0_t68 : Fin k0_t68_loop.trips) (v209 : BitVec 32) (v212 : BitVec 32) (k0_hw47 : k0_chk47 i k0_t68 v209 v212) (k0_t97 : Fin (k0_t97_loop i k0_t68 v209 v212).trips), ∀ (k0_h37 : k0_cond37 k0_t68 = 1#1), ∀ (k0_h52 : k0_cond52 i k0_t68 v209 v212 = 1#1), ∀ a, (k0_off767 i k0_t68 v209 v212 k0_t97) a + S1x16.size a ≤ S256x128.size a := fun i k0_t68 v209 v212 k0_hw47 k0_t97 k0_h37 k0_h52 => k0_hw47.2.2.2.2.2.2.2.1 k0_t97 k0_h37 k0_h52
theorem k0_off768_inb : ∀ (i : grid0.Coords) (k0_t68 : Fin k0_t68_loop.trips) (v209 : BitVec 32) (v212 : BitVec 32) (k0_hw47 : k0_chk47 i k0_t68 v209 v212) (k0_t97 : Fin (k0_t97_loop i k0_t68 v209 v212).trips), ∀ (k0_h37 : k0_cond37 k0_t68 = 1#1), ∀ (k0_h52 : k0_cond52 i k0_t68 v209 v212 = 1#1), ∀ a, (k0_off768 i k0_t68 v209 v212 k0_t97) a + S1x16.size a ≤ S256x128.size a := fun i k0_t68 v209 v212 k0_hw47 k0_t97 k0_h37 k0_h52 => k0_hw47.2.2.2.2.2.2.2.2.1 k0_t97 k0_h37 k0_h52
theorem k0_t98_ok : ∀ (i : grid0.Coords) (k0_t68 : Fin k0_t68_loop.trips) (v209 : BitVec 32) (v212 : BitVec 32) (k0_hw47 : k0_chk47 i k0_t68 v209 v212), ∀ (k0_h37 : k0_cond37 k0_t68 = 1#1), ∀ (k0_h52 : k0_cond52 i k0_t68 v209 v212 = 1#1), (k0_t98_loop i k0_t68 v209 v212).OK := fun i k0_t68 v209 v212 k0_hw47 k0_h37 k0_h52 => k0_hw47.2.2.2.2.2.2.2.2.2.1 k0_h37 k0_h52
theorem k0_off769_inb : ∀ (i : grid0.Coords) (k0_t68 : Fin k0_t68_loop.trips) (v209 : BitVec 32) (v212 : BitVec 32) (k0_hw47 : k0_chk47 i k0_t68 v209 v212) (k0_t98 : Fin (k0_t98_loop i k0_t68 v209 v212).trips), ∀ (k0_h37 : k0_cond37 k0_t68 = 1#1), ∀ (k0_h52 : k0_cond52 i k0_t68 v209 v212 = 1#1), ∀ a, (k0_off769 i k0_t68 v209 v212 k0_t98) a + S1x16.size a ≤ S256x128.size a := fun i k0_t68 v209 v212 k0_hw47 k0_t98 k0_h37 k0_h52 => k0_hw47.2.2.2.2.2.2.2.2.2.2.1 k0_t98 k0_h37 k0_h52
theorem k0_off770_inb : ∀ (i : grid0.Coords) (k0_t68 : Fin k0_t68_loop.trips) (v209 : BitVec 32) (v212 : BitVec 32) (k0_hw47 : k0_chk47 i k0_t68 v209 v212) (k0_t98 : Fin (k0_t98_loop i k0_t68 v209 v212).trips), ∀ (k0_h37 : k0_cond37 k0_t68 = 1#1), ∀ (k0_h52 : k0_cond52 i k0_t68 v209 v212 = 1#1), ∀ a, (k0_off770 i k0_t68 v209 v212 k0_t98) a + S1x16.size a ≤ S256x128.size a := fun i k0_t68 v209 v212 k0_hw47 k0_t98 k0_h37 k0_h52 => k0_hw47.2.2.2.2.2.2.2.2.2.2.2.1 k0_t98 k0_h37 k0_h52
theorem k0_off771_inb : ∀ (i : grid0.Coords) (k0_t68 : Fin k0_t68_loop.trips) (v209 : BitVec 32) (v212 : BitVec 32) (k0_hw47 : k0_chk47 i k0_t68 v209 v212) (k0_t98 : Fin (k0_t98_loop i k0_t68 v209 v212).trips), ∀ (k0_h37 : k0_cond37 k0_t68 = 1#1), ∀ (k0_h52 : k0_cond52 i k0_t68 v209 v212 = 1#1), ∀ a, (k0_off771 i k0_t68 v209 v212 k0_t98) a + S1x16.size a ≤ S256x128.size a := fun i k0_t68 v209 v212 k0_hw47 k0_t98 k0_h37 k0_h52 => k0_hw47.2.2.2.2.2.2.2.2.2.2.2.2.1 k0_t98 k0_h37 k0_h52
theorem k0_off772_inb : ∀ (i : grid0.Coords) (k0_t68 : Fin k0_t68_loop.trips) (v209 : BitVec 32) (v212 : BitVec 32) (k0_hw47 : k0_chk47 i k0_t68 v209 v212) (k0_t98 : Fin (k0_t98_loop i k0_t68 v209 v212).trips), ∀ (k0_h37 : k0_cond37 k0_t68 = 1#1), ∀ (k0_h52 : k0_cond52 i k0_t68 v209 v212 = 1#1), ∀ a, (k0_off772 i k0_t68 v209 v212 k0_t98) a + S1x16.size a ≤ S256x128.size a := fun i k0_t68 v209 v212 k0_hw47 k0_t98 k0_h37 k0_h52 => k0_hw47.2.2.2.2.2.2.2.2.2.2.2.2.2.1 k0_t98 k0_h37 k0_h52
theorem k0_off773_inb : ∀ (i : grid0.Coords) (k0_t68 : Fin k0_t68_loop.trips) (v209 : BitVec 32) (v212 : BitVec 32) (k0_hw47 : k0_chk47 i k0_t68 v209 v212) (k0_t98 : Fin (k0_t98_loop i k0_t68 v209 v212).trips), ∀ (k0_h37 : k0_cond37 k0_t68 = 1#1), ∀ (k0_h52 : k0_cond52 i k0_t68 v209 v212 = 1#1), ∀ a, (k0_off773 i k0_t68 v209 v212 k0_t98) a + S1x16.size a ≤ S256x128.size a := fun i k0_t68 v209 v212 k0_hw47 k0_t98 k0_h37 k0_h52 => k0_hw47.2.2.2.2.2.2.2.2.2.2.2.2.2.2.1 k0_t98 k0_h37 k0_h52
theorem k0_off774_inb : ∀ (i : grid0.Coords) (k0_t68 : Fin k0_t68_loop.trips) (v209 : BitVec 32) (v212 : BitVec 32) (k0_hw47 : k0_chk47 i k0_t68 v209 v212) (k0_t98 : Fin (k0_t98_loop i k0_t68 v209 v212).trips), ∀ (k0_h37 : k0_cond37 k0_t68 = 1#1), ∀ (k0_h52 : k0_cond52 i k0_t68 v209 v212 = 1#1), ∀ a, (k0_off774 i k0_t68 v209 v212 k0_t98) a + S1x16.size a ≤ S256x128.size a := fun i k0_t68 v209 v212 k0_hw47 k0_t98 k0_h37 k0_h52 => k0_hw47.2.2.2.2.2.2.2.2.2.2.2.2.2.2.2.1 k0_t98 k0_h37 k0_h52
theorem k0_off775_inb : ∀ (i : grid0.Coords) (k0_t68 : Fin k0_t68_loop.trips) (v209 : BitVec 32) (v212 : BitVec 32) (k0_hw47 : k0_chk47 i k0_t68 v209 v212) (k0_t98 : Fin (k0_t98_loop i k0_t68 v209 v212).trips), ∀ (k0_h37 : k0_cond37 k0_t68 = 1#1), ∀ (k0_h52 : k0_cond52 i k0_t68 v209 v212 = 1#1), ∀ a, (k0_off775 i k0_t68 v209 v212 k0_t98) a + S1x16.size a ≤ S256x128.size a := fun i k0_t68 v209 v212 k0_hw47 k0_t98 k0_h37 k0_h52 => k0_hw47.2.2.2.2.2.2.2.2.2.2.2.2.2.2.2.2.1 k0_t98 k0_h37 k0_h52
theorem k0_off776_inb : ∀ (i : grid0.Coords) (k0_t68 : Fin k0_t68_loop.trips) (v209 : BitVec 32) (v212 : BitVec 32) (k0_hw47 : k0_chk47 i k0_t68 v209 v212) (k0_t98 : Fin (k0_t98_loop i k0_t68 v209 v212).trips), ∀ (k0_h37 : k0_cond37 k0_t68 = 1#1), ∀ (k0_h52 : k0_cond52 i k0_t68 v209 v212 = 1#1), ∀ a, (k0_off776 i k0_t68 v209 v212 k0_t98) a + S1x16.size a ≤ S256x128.size a := fun i k0_t68 v209 v212 k0_hw47 k0_t98 k0_h37 k0_h52 => k0_hw47.2.2.2.2.2.2.2.2.2.2.2.2.2.2.2.2.2 k0_t98 k0_h37 k0_h52

@[reducible] def k0_t99_loop (i : grid0.Coords) (k0_t68 : Fin k0_t68_loop.trips) (v218 : BitVec 32) (v221 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v219 : BitVec 32 := Scalar.maxsi v218 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_85 : BitVec 32 := 1#32
  ⟨v219, v234, c1_i32_85⟩
def k0_cond53 (i : grid0.Coords) (k0_t68 : Fin k0_t68_loop.trips) (v218 : BitVec 32) (v221 : BitVec 32) : BitVec 1 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v222 : BitVec 32 := Scalar.minsi v221 v77
  let v219 : BitVec 32 := Scalar.maxsi v218 v75
  let v223 : BitVec 1 := Scalar.cmpi .sgt v222 v219
  let v224 : BitVec 32 := Scalar.extui v223
  let c0_i32_80 : BitVec 32 := 0#32
  let v225 : BitVec 1 := Scalar.cmpi .ne v224 c0_i32_80
  v225

def k0_off777 (i : grid0.Coords) (k0_t68 : Fin k0_t68_loop.trips) (v218 : BitVec 32) (v221 : BitVec 32) (k0_t99 : Fin (k0_t99_loop i k0_t68 v218 v221).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v219 : BitVec 32 := Scalar.maxsi v218 v75
  let c1_i32_85 : BitVec 32 := 1#32
  let arg19 : BitVec 32 := Scf.iv v219 c1_i32_85 k0_t99
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off778 (i : grid0.Coords) (k0_t68 : Fin k0_t68_loop.trips) (v218 : BitVec 32) (v221 : BitVec 32) (k0_t99 : Fin (k0_t99_loop i k0_t68 v218 v221).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v219 : BitVec 32 := Scalar.maxsi v218 v75
  let c1_i32_85 : BitVec 32 := 1#32
  let arg19 : BitVec 32 := Scf.iv v219 c1_i32_85 k0_t99
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off779 (i : grid0.Coords) (k0_t68 : Fin k0_t68_loop.trips) (v218 : BitVec 32) (v221 : BitVec 32) (k0_t99 : Fin (k0_t99_loop i k0_t68 v218 v221).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v219 : BitVec 32 := Scalar.maxsi v218 v75
  let c1_i32_85 : BitVec 32 := 1#32
  let arg19 : BitVec 32 := Scf.iv v219 c1_i32_85 k0_t99
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off780 (i : grid0.Coords) (k0_t68 : Fin k0_t68_loop.trips) (v218 : BitVec 32) (v221 : BitVec 32) (k0_t99 : Fin (k0_t99_loop i k0_t68 v218 v221).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v219 : BitVec 32 := Scalar.maxsi v218 v75
  let c1_i32_85 : BitVec 32 := 1#32
  let arg19 : BitVec 32 := Scf.iv v219 c1_i32_85 k0_t99
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off781 (i : grid0.Coords) (k0_t68 : Fin k0_t68_loop.trips) (v218 : BitVec 32) (v221 : BitVec 32) (k0_t99 : Fin (k0_t99_loop i k0_t68 v218 v221).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v219 : BitVec 32 := Scalar.maxsi v218 v75
  let c1_i32_85 : BitVec 32 := 1#32
  let arg19 : BitVec 32 := Scf.iv v219 c1_i32_85 k0_t99
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off782 (i : grid0.Coords) (k0_t68 : Fin k0_t68_loop.trips) (v218 : BitVec 32) (v221 : BitVec 32) (k0_t99 : Fin (k0_t99_loop i k0_t68 v218 v221).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v219 : BitVec 32 := Scalar.maxsi v218 v75
  let c1_i32_85 : BitVec 32 := 1#32
  let arg19 : BitVec 32 := Scf.iv v219 c1_i32_85 k0_t99
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off783 (i : grid0.Coords) (k0_t68 : Fin k0_t68_loop.trips) (v218 : BitVec 32) (v221 : BitVec 32) (k0_t99 : Fin (k0_t99_loop i k0_t68 v218 v221).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v219 : BitVec 32 := Scalar.maxsi v218 v75
  let c1_i32_85 : BitVec 32 := 1#32
  let arg19 : BitVec 32 := Scf.iv v219 c1_i32_85 k0_t99
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off784 (i : grid0.Coords) (k0_t68 : Fin k0_t68_loop.trips) (v218 : BitVec 32) (v221 : BitVec 32) (k0_t99 : Fin (k0_t99_loop i k0_t68 v218 v221).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v219 : BitVec 32 := Scalar.maxsi v218 v75
  let c1_i32_85 : BitVec 32 := 1#32
  let arg19 : BitVec 32 := Scf.iv v219 c1_i32_85 k0_t99
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]
@[reducible] def k0_t100_loop (i : grid0.Coords) (k0_t68 : Fin k0_t68_loop.trips) (v218 : BitVec 32) (v221 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v219 : BitVec 32 := Scalar.maxsi v218 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let v231 : BitVec 32 := Scalar.addi v219 v230
  let c1_i32_86 : BitVec 32 := 1#32
  ⟨v234, v231, c1_i32_86⟩
def k0_off785 (i : grid0.Coords) (k0_t68 : Fin k0_t68_loop.trips) (v218 : BitVec 32) (v221 : BitVec 32) (k0_t100 : Fin (k0_t100_loop i k0_t68 v218 v221).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v219 : BitVec 32 := Scalar.maxsi v218 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_86 : BitVec 32 := 1#32
  let arg19 : BitVec 32 := Scf.iv v234 c1_i32_86 k0_t100
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off786 (i : grid0.Coords) (k0_t68 : Fin k0_t68_loop.trips) (v218 : BitVec 32) (v221 : BitVec 32) (k0_t100 : Fin (k0_t100_loop i k0_t68 v218 v221).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v219 : BitVec 32 := Scalar.maxsi v218 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_86 : BitVec 32 := 1#32
  let arg19 : BitVec 32 := Scf.iv v234 c1_i32_86 k0_t100
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off787 (i : grid0.Coords) (k0_t68 : Fin k0_t68_loop.trips) (v218 : BitVec 32) (v221 : BitVec 32) (k0_t100 : Fin (k0_t100_loop i k0_t68 v218 v221).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v219 : BitVec 32 := Scalar.maxsi v218 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_86 : BitVec 32 := 1#32
  let arg19 : BitVec 32 := Scf.iv v234 c1_i32_86 k0_t100
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off788 (i : grid0.Coords) (k0_t68 : Fin k0_t68_loop.trips) (v218 : BitVec 32) (v221 : BitVec 32) (k0_t100 : Fin (k0_t100_loop i k0_t68 v218 v221).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v219 : BitVec 32 := Scalar.maxsi v218 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_86 : BitVec 32 := 1#32
  let arg19 : BitVec 32 := Scf.iv v234 c1_i32_86 k0_t100
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off789 (i : grid0.Coords) (k0_t68 : Fin k0_t68_loop.trips) (v218 : BitVec 32) (v221 : BitVec 32) (k0_t100 : Fin (k0_t100_loop i k0_t68 v218 v221).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v219 : BitVec 32 := Scalar.maxsi v218 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_86 : BitVec 32 := 1#32
  let arg19 : BitVec 32 := Scf.iv v234 c1_i32_86 k0_t100
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off790 (i : grid0.Coords) (k0_t68 : Fin k0_t68_loop.trips) (v218 : BitVec 32) (v221 : BitVec 32) (k0_t100 : Fin (k0_t100_loop i k0_t68 v218 v221).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v219 : BitVec 32 := Scalar.maxsi v218 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_86 : BitVec 32 := 1#32
  let arg19 : BitVec 32 := Scf.iv v234 c1_i32_86 k0_t100
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off791 (i : grid0.Coords) (k0_t68 : Fin k0_t68_loop.trips) (v218 : BitVec 32) (v221 : BitVec 32) (k0_t100 : Fin (k0_t100_loop i k0_t68 v218 v221).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v219 : BitVec 32 := Scalar.maxsi v218 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_86 : BitVec 32 := 1#32
  let arg19 : BitVec 32 := Scf.iv v234 c1_i32_86 k0_t100
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off792 (i : grid0.Coords) (k0_t68 : Fin k0_t68_loop.trips) (v218 : BitVec 32) (v221 : BitVec 32) (k0_t100 : Fin (k0_t100_loop i k0_t68 v218 v221).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c256_i32_61 : BitVec 32 := 256#32
  let v74 : BitVec 32 := Scalar.muli v59 c256_i32_61
  let v75 : BitVec 32 := Scalar.addi v26 v74
  let v219 : BitVec 32 := Scalar.maxsi v218 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_86 : BitVec 32 := 1#32
  let arg19 : BitVec 32 := Scf.iv v234 c1_i32_86 k0_t100
  let c256_i32_63 : BitVec 32 := 256#32
  let v78 : BitVec 32 := Scalar.muli v59 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]

def k0_chk48 (i : grid0.Coords) (k0_t68 : Fin k0_t68_loop.trips) (v218 : BitVec 32) (v221 : BitVec 32) : Prop :=
  (∀ (k0_h37 : k0_cond37 k0_t68 = 1#1), ∀ (k0_h53 : k0_cond53 i k0_t68 v218 v221 = 1#1), (k0_t99_loop i k0_t68 v218 v221).OK) ∧
  (∀ k0_t99 : Fin (k0_t99_loop i k0_t68 v218 v221).trips, ∀ (k0_h37 : k0_cond37 k0_t68 = 1#1), ∀ (k0_h53 : k0_cond53 i k0_t68 v218 v221 = 1#1), ∀ a, (k0_off777 i k0_t68 v218 v221 k0_t99) a + S1x16.size a ≤ S256x128.size a) ∧
  (∀ k0_t99 : Fin (k0_t99_loop i k0_t68 v218 v221).trips, ∀ (k0_h37 : k0_cond37 k0_t68 = 1#1), ∀ (k0_h53 : k0_cond53 i k0_t68 v218 v221 = 1#1), ∀ a, (k0_off778 i k0_t68 v218 v221 k0_t99) a + S1x16.size a ≤ S256x128.size a) ∧
  (∀ k0_t99 : Fin (k0_t99_loop i k0_t68 v218 v221).trips, ∀ (k0_h37 : k0_cond37 k0_t68 = 1#1), ∀ (k0_h53 : k0_cond53 i k0_t68 v218 v221 = 1#1), ∀ a, (k0_off779 i k0_t68 v218 v221 k0_t99) a + S1x16.size a ≤ S256x128.size a) ∧
  (∀ k0_t99 : Fin (k0_t99_loop i k0_t68 v218 v221).trips, ∀ (k0_h37 : k0_cond37 k0_t68 = 1#1), ∀ (k0_h53 : k0_cond53 i k0_t68 v218 v221 = 1#1), ∀ a, (k0_off780 i k0_t68 v218 v221 k0_t99) a + S1x16.size a ≤ S256x128.size a) ∧
  (∀ k0_t99 : Fin (k0_t99_loop i k0_t68 v218 v221).trips, ∀ (k0_h37 : k0_cond37 k0_t68 = 1#1), ∀ (k0_h53 : k0_cond53 i k0_t68 v218 v221 = 1#1), ∀ a, (k0_off781 i k0_t68 v218 v221 k0_t99) a + S1x16.size a ≤ S256x128.size a) ∧
  (∀ k0_t99 : Fin (k0_t99_loop i k0_t68 v218 v221).trips, ∀ (k0_h37 : k0_cond37 k0_t68 = 1#1), ∀ (k0_h53 : k0_cond53 i k0_t68 v218 v221 = 1#1), ∀ a, (k0_off782 i k0_t68 v218 v221 k0_t99) a + S1x16.size a ≤ S256x128.size a) ∧
  (∀ k0_t99 : Fin (k0_t99_loop i k0_t68 v218 v221).trips, ∀ (k0_h37 : k0_cond37 k0_t68 = 1#1), ∀ (k0_h53 : k0_cond53 i k0_t68 v218 v221 = 1#1), ∀ a, (k0_off783 i k0_t68 v218 v221 k0_t99) a + S1x16.size a ≤ S256x128.size a) ∧
  (∀ k0_t99 : Fin (k0_t99_loop i k0_t68 v218 v221).trips, ∀ (k0_h37 : k0_cond37 k0_t68 = 1#1), ∀ (k0_h53 : k0_cond53 i k0_t68 v218 v221 = 1#1), ∀ a, (k0_off784 i k0_t68 v218 v221 k0_t99) a + S1x16.size a ≤ S256x128.size a) ∧
  (∀ (k0_h37 : k0_cond37 k0_t68 = 1#1), ∀ (k0_h53 : k0_cond53 i k0_t68 v218 v221 = 1#1), (k0_t100_loop i k0_t68 v218 v221).OK) ∧
  (∀ k0_t100 : Fin (k0_t100_loop i k0_t68 v218 v221).trips, ∀ (k0_h37 : k0_cond37 k0_t68 = 1#1), ∀ (k0_h53 : k0_cond53 i k0_t68 v218 v221 = 1#1), ∀ a, (k0_off785 i k0_t68 v218 v221 k0_t100) a + S1x16.size a ≤ S256x128.size a) ∧
  (∀ k0_t100 : Fin (k0_t100_loop i k0_t68 v218 v221).trips, ∀ (k0_h37 : k0_cond37 k0_t68 = 1#1), ∀ (k0_h53 : k0_cond53 i k0_t68 v218 v221 = 1#1), ∀ a, (k0_off786 i k0_t68 v218 v221 k0_t100) a + S1x16.size a ≤ S256x128.size a) ∧
  (∀ k0_t100 : Fin (k0_t100_loop i k0_t68 v218 v221).trips, ∀ (k0_h37 : k0_cond37 k0_t68 = 1#1), ∀ (k0_h53 : k0_cond53 i k0_t68 v218 v221 = 1#1), ∀ a, (k0_off787 i k0_t68 v218 v221 k0_t100) a + S1x16.size a ≤ S256x128.size a) ∧
  (∀ k0_t100 : Fin (k0_t100_loop i k0_t68 v218 v221).trips, ∀ (k0_h37 : k0_cond37 k0_t68 = 1#1), ∀ (k0_h53 : k0_cond53 i k0_t68 v218 v221 = 1#1), ∀ a, (k0_off788 i k0_t68 v218 v221 k0_t100) a + S1x16.size a ≤ S256x128.size a) ∧
  (∀ k0_t100 : Fin (k0_t100_loop i k0_t68 v218 v221).trips, ∀ (k0_h37 : k0_cond37 k0_t68 = 1#1), ∀ (k0_h53 : k0_cond53 i k0_t68 v218 v221 = 1#1), ∀ a, (k0_off789 i k0_t68 v218 v221 k0_t100) a + S1x16.size a ≤ S256x128.size a) ∧
  (∀ k0_t100 : Fin (k0_t100_loop i k0_t68 v218 v221).trips, ∀ (k0_h37 : k0_cond37 k0_t68 = 1#1), ∀ (k0_h53 : k0_cond53 i k0_t68 v218 v221 = 1#1), ∀ a, (k0_off790 i k0_t68 v218 v221 k0_t100) a + S1x16.size a ≤ S256x128.size a) ∧
  (∀ k0_t100 : Fin (k0_t100_loop i k0_t68 v218 v221).trips, ∀ (k0_h37 : k0_cond37 k0_t68 = 1#1), ∀ (k0_h53 : k0_cond53 i k0_t68 v218 v221 = 1#1), ∀ a, (k0_off791 i k0_t68 v218 v221 k0_t100) a + S1x16.size a ≤ S256x128.size a) ∧
  (∀ k0_t100 : Fin (k0_t100_loop i k0_t68 v218 v221).trips, ∀ (k0_h37 : k0_cond37 k0_t68 = 1#1), ∀ (k0_h53 : k0_cond53 i k0_t68 v218 v221 = 1#1), ∀ a, (k0_off792 i k0_t68 v218 v221 k0_t100) a + S1x16.size a ≤ S256x128.size a)
theorem k0_t99_ok : ∀ (i : grid0.Coords) (k0_t68 : Fin k0_t68_loop.trips) (v218 : BitVec 32) (v221 : BitVec 32) (k0_hw48 : k0_chk48 i k0_t68 v218 v221), ∀ (k0_h37 : k0_cond37 k0_t68 = 1#1), ∀ (k0_h53 : k0_cond53 i k0_t68 v218 v221 = 1#1), (k0_t99_loop i k0_t68 v218 v221).OK := fun i k0_t68 v218 v221 k0_hw48 k0_h37 k0_h53 => k0_hw48.1 k0_h37 k0_h53
theorem k0_off777_inb : ∀ (i : grid0.Coords) (k0_t68 : Fin k0_t68_loop.trips) (v218 : BitVec 32) (v221 : BitVec 32) (k0_hw48 : k0_chk48 i k0_t68 v218 v221) (k0_t99 : Fin (k0_t99_loop i k0_t68 v218 v221).trips), ∀ (k0_h37 : k0_cond37 k0_t68 = 1#1), ∀ (k0_h53 : k0_cond53 i k0_t68 v218 v221 = 1#1), ∀ a, (k0_off777 i k0_t68 v218 v221 k0_t99) a + S1x16.size a ≤ S256x128.size a := fun i k0_t68 v218 v221 k0_hw48 k0_t99 k0_h37 k0_h53 => k0_hw48.2.1 k0_t99 k0_h37 k0_h53
theorem k0_off778_inb : ∀ (i : grid0.Coords) (k0_t68 : Fin k0_t68_loop.trips) (v218 : BitVec 32) (v221 : BitVec 32) (k0_hw48 : k0_chk48 i k0_t68 v218 v221) (k0_t99 : Fin (k0_t99_loop i k0_t68 v218 v221).trips), ∀ (k0_h37 : k0_cond37 k0_t68 = 1#1), ∀ (k0_h53 : k0_cond53 i k0_t68 v218 v221 = 1#1), ∀ a, (k0_off778 i k0_t68 v218 v221 k0_t99) a + S1x16.size a ≤ S256x128.size a := fun i k0_t68 v218 v221 k0_hw48 k0_t99 k0_h37 k0_h53 => k0_hw48.2.2.1 k0_t99 k0_h37 k0_h53
theorem k0_off779_inb : ∀ (i : grid0.Coords) (k0_t68 : Fin k0_t68_loop.trips) (v218 : BitVec 32) (v221 : BitVec 32) (k0_hw48 : k0_chk48 i k0_t68 v218 v221) (k0_t99 : Fin (k0_t99_loop i k0_t68 v218 v221).trips), ∀ (k0_h37 : k0_cond37 k0_t68 = 1#1), ∀ (k0_h53 : k0_cond53 i k0_t68 v218 v221 = 1#1), ∀ a, (k0_off779 i k0_t68 v218 v221 k0_t99) a + S1x16.size a ≤ S256x128.size a := fun i k0_t68 v218 v221 k0_hw48 k0_t99 k0_h37 k0_h53 => k0_hw48.2.2.2.1 k0_t99 k0_h37 k0_h53
theorem k0_off780_inb : ∀ (i : grid0.Coords) (k0_t68 : Fin k0_t68_loop.trips) (v218 : BitVec 32) (v221 : BitVec 32) (k0_hw48 : k0_chk48 i k0_t68 v218 v221) (k0_t99 : Fin (k0_t99_loop i k0_t68 v218 v221).trips), ∀ (k0_h37 : k0_cond37 k0_t68 = 1#1), ∀ (k0_h53 : k0_cond53 i k0_t68 v218 v221 = 1#1), ∀ a, (k0_off780 i k0_t68 v218 v221 k0_t99) a + S1x16.size a ≤ S256x128.size a := fun i k0_t68 v218 v221 k0_hw48 k0_t99 k0_h37 k0_h53 => k0_hw48.2.2.2.2.1 k0_t99 k0_h37 k0_h53
theorem k0_off781_inb : ∀ (i : grid0.Coords) (k0_t68 : Fin k0_t68_loop.trips) (v218 : BitVec 32) (v221 : BitVec 32) (k0_hw48 : k0_chk48 i k0_t68 v218 v221) (k0_t99 : Fin (k0_t99_loop i k0_t68 v218 v221).trips), ∀ (k0_h37 : k0_cond37 k0_t68 = 1#1), ∀ (k0_h53 : k0_cond53 i k0_t68 v218 v221 = 1#1), ∀ a, (k0_off781 i k0_t68 v218 v221 k0_t99) a + S1x16.size a ≤ S256x128.size a := fun i k0_t68 v218 v221 k0_hw48 k0_t99 k0_h37 k0_h53 => k0_hw48.2.2.2.2.2.1 k0_t99 k0_h37 k0_h53
theorem k0_off782_inb : ∀ (i : grid0.Coords) (k0_t68 : Fin k0_t68_loop.trips) (v218 : BitVec 32) (v221 : BitVec 32) (k0_hw48 : k0_chk48 i k0_t68 v218 v221) (k0_t99 : Fin (k0_t99_loop i k0_t68 v218 v221).trips), ∀ (k0_h37 : k0_cond37 k0_t68 = 1#1), ∀ (k0_h53 : k0_cond53 i k0_t68 v218 v221 = 1#1), ∀ a, (k0_off782 i k0_t68 v218 v221 k0_t99) a + S1x16.size a ≤ S256x128.size a := fun i k0_t68 v218 v221 k0_hw48 k0_t99 k0_h37 k0_h53 => k0_hw48.2.2.2.2.2.2.1 k0_t99 k0_h37 k0_h53
theorem k0_off783_inb : ∀ (i : grid0.Coords) (k0_t68 : Fin k0_t68_loop.trips) (v218 : BitVec 32) (v221 : BitVec 32) (k0_hw48 : k0_chk48 i k0_t68 v218 v221) (k0_t99 : Fin (k0_t99_loop i k0_t68 v218 v221).trips), ∀ (k0_h37 : k0_cond37 k0_t68 = 1#1), ∀ (k0_h53 : k0_cond53 i k0_t68 v218 v221 = 1#1), ∀ a, (k0_off783 i k0_t68 v218 v221 k0_t99) a + S1x16.size a ≤ S256x128.size a := fun i k0_t68 v218 v221 k0_hw48 k0_t99 k0_h37 k0_h53 => k0_hw48.2.2.2.2.2.2.2.1 k0_t99 k0_h37 k0_h53
theorem k0_off784_inb : ∀ (i : grid0.Coords) (k0_t68 : Fin k0_t68_loop.trips) (v218 : BitVec 32) (v221 : BitVec 32) (k0_hw48 : k0_chk48 i k0_t68 v218 v221) (k0_t99 : Fin (k0_t99_loop i k0_t68 v218 v221).trips), ∀ (k0_h37 : k0_cond37 k0_t68 = 1#1), ∀ (k0_h53 : k0_cond53 i k0_t68 v218 v221 = 1#1), ∀ a, (k0_off784 i k0_t68 v218 v221 k0_t99) a + S1x16.size a ≤ S256x128.size a := fun i k0_t68 v218 v221 k0_hw48 k0_t99 k0_h37 k0_h53 => k0_hw48.2.2.2.2.2.2.2.2.1 k0_t99 k0_h37 k0_h53
theorem k0_t100_ok : ∀ (i : grid0.Coords) (k0_t68 : Fin k0_t68_loop.trips) (v218 : BitVec 32) (v221 : BitVec 32) (k0_hw48 : k0_chk48 i k0_t68 v218 v221), ∀ (k0_h37 : k0_cond37 k0_t68 = 1#1), ∀ (k0_h53 : k0_cond53 i k0_t68 v218 v221 = 1#1), (k0_t100_loop i k0_t68 v218 v221).OK := fun i k0_t68 v218 v221 k0_hw48 k0_h37 k0_h53 => k0_hw48.2.2.2.2.2.2.2.2.2.1 k0_h37 k0_h53
theorem k0_off785_inb : ∀ (i : grid0.Coords) (k0_t68 : Fin k0_t68_loop.trips) (v218 : BitVec 32) (v221 : BitVec 32) (k0_hw48 : k0_chk48 i k0_t68 v218 v221) (k0_t100 : Fin (k0_t100_loop i k0_t68 v218 v221).trips), ∀ (k0_h37 : k0_cond37 k0_t68 = 1#1), ∀ (k0_h53 : k0_cond53 i k0_t68 v218 v221 = 1#1), ∀ a, (k0_off785 i k0_t68 v218 v221 k0_t100) a + S1x16.size a ≤ S256x128.size a := fun i k0_t68 v218 v221 k0_hw48 k0_t100 k0_h37 k0_h53 => k0_hw48.2.2.2.2.2.2.2.2.2.2.1 k0_t100 k0_h37 k0_h53
theorem k0_off786_inb : ∀ (i : grid0.Coords) (k0_t68 : Fin k0_t68_loop.trips) (v218 : BitVec 32) (v221 : BitVec 32) (k0_hw48 : k0_chk48 i k0_t68 v218 v221) (k0_t100 : Fin (k0_t100_loop i k0_t68 v218 v221).trips), ∀ (k0_h37 : k0_cond37 k0_t68 = 1#1), ∀ (k0_h53 : k0_cond53 i k0_t68 v218 v221 = 1#1), ∀ a, (k0_off786 i k0_t68 v218 v221 k0_t100) a + S1x16.size a ≤ S256x128.size a := fun i k0_t68 v218 v221 k0_hw48 k0_t100 k0_h37 k0_h53 => k0_hw48.2.2.2.2.2.2.2.2.2.2.2.1 k0_t100 k0_h37 k0_h53
theorem k0_off787_inb : ∀ (i : grid0.Coords) (k0_t68 : Fin k0_t68_loop.trips) (v218 : BitVec 32) (v221 : BitVec 32) (k0_hw48 : k0_chk48 i k0_t68 v218 v221) (k0_t100 : Fin (k0_t100_loop i k0_t68 v218 v221).trips), ∀ (k0_h37 : k0_cond37 k0_t68 = 1#1), ∀ (k0_h53 : k0_cond53 i k0_t68 v218 v221 = 1#1), ∀ a, (k0_off787 i k0_t68 v218 v221 k0_t100) a + S1x16.size a ≤ S256x128.size a := fun i k0_t68 v218 v221 k0_hw48 k0_t100 k0_h37 k0_h53 => k0_hw48.2.2.2.2.2.2.2.2.2.2.2.2.1 k0_t100 k0_h37 k0_h53
theorem k0_off788_inb : ∀ (i : grid0.Coords) (k0_t68 : Fin k0_t68_loop.trips) (v218 : BitVec 32) (v221 : BitVec 32) (k0_hw48 : k0_chk48 i k0_t68 v218 v221) (k0_t100 : Fin (k0_t100_loop i k0_t68 v218 v221).trips), ∀ (k0_h37 : k0_cond37 k0_t68 = 1#1), ∀ (k0_h53 : k0_cond53 i k0_t68 v218 v221 = 1#1), ∀ a, (k0_off788 i k0_t68 v218 v221 k0_t100) a + S1x16.size a ≤ S256x128.size a := fun i k0_t68 v218 v221 k0_hw48 k0_t100 k0_h37 k0_h53 => k0_hw48.2.2.2.2.2.2.2.2.2.2.2.2.2.1 k0_t100 k0_h37 k0_h53
theorem k0_off789_inb : ∀ (i : grid0.Coords) (k0_t68 : Fin k0_t68_loop.trips) (v218 : BitVec 32) (v221 : BitVec 32) (k0_hw48 : k0_chk48 i k0_t68 v218 v221) (k0_t100 : Fin (k0_t100_loop i k0_t68 v218 v221).trips), ∀ (k0_h37 : k0_cond37 k0_t68 = 1#1), ∀ (k0_h53 : k0_cond53 i k0_t68 v218 v221 = 1#1), ∀ a, (k0_off789 i k0_t68 v218 v221 k0_t100) a + S1x16.size a ≤ S256x128.size a := fun i k0_t68 v218 v221 k0_hw48 k0_t100 k0_h37 k0_h53 => k0_hw48.2.2.2.2.2.2.2.2.2.2.2.2.2.2.1 k0_t100 k0_h37 k0_h53
theorem k0_off790_inb : ∀ (i : grid0.Coords) (k0_t68 : Fin k0_t68_loop.trips) (v218 : BitVec 32) (v221 : BitVec 32) (k0_hw48 : k0_chk48 i k0_t68 v218 v221) (k0_t100 : Fin (k0_t100_loop i k0_t68 v218 v221).trips), ∀ (k0_h37 : k0_cond37 k0_t68 = 1#1), ∀ (k0_h53 : k0_cond53 i k0_t68 v218 v221 = 1#1), ∀ a, (k0_off790 i k0_t68 v218 v221 k0_t100) a + S1x16.size a ≤ S256x128.size a := fun i k0_t68 v218 v221 k0_hw48 k0_t100 k0_h37 k0_h53 => k0_hw48.2.2.2.2.2.2.2.2.2.2.2.2.2.2.2.1 k0_t100 k0_h37 k0_h53
theorem k0_off791_inb : ∀ (i : grid0.Coords) (k0_t68 : Fin k0_t68_loop.trips) (v218 : BitVec 32) (v221 : BitVec 32) (k0_hw48 : k0_chk48 i k0_t68 v218 v221) (k0_t100 : Fin (k0_t100_loop i k0_t68 v218 v221).trips), ∀ (k0_h37 : k0_cond37 k0_t68 = 1#1), ∀ (k0_h53 : k0_cond53 i k0_t68 v218 v221 = 1#1), ∀ a, (k0_off791 i k0_t68 v218 v221 k0_t100) a + S1x16.size a ≤ S256x128.size a := fun i k0_t68 v218 v221 k0_hw48 k0_t100 k0_h37 k0_h53 => k0_hw48.2.2.2.2.2.2.2.2.2.2.2.2.2.2.2.2.1 k0_t100 k0_h37 k0_h53
theorem k0_off792_inb : ∀ (i : grid0.Coords) (k0_t68 : Fin k0_t68_loop.trips) (v218 : BitVec 32) (v221 : BitVec 32) (k0_hw48 : k0_chk48 i k0_t68 v218 v221) (k0_t100 : Fin (k0_t100_loop i k0_t68 v218 v221).trips), ∀ (k0_h37 : k0_cond37 k0_t68 = 1#1), ∀ (k0_h53 : k0_cond53 i k0_t68 v218 v221 = 1#1), ∀ a, (k0_off792 i k0_t68 v218 v221 k0_t100) a + S1x16.size a ≤ S256x128.size a := fun i k0_t68 v218 v221 k0_hw48 k0_t100 k0_h37 k0_h53 => k0_hw48.2.2.2.2.2.2.2.2.2.2.2.2.2.2.2.2.2 k0_t100 k0_h37 k0_h53

def k0_cond54 (k0_t68 : Fin k0_t68_loop.trips) : BitVec 1 :=
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c2_i32_81 : BitVec 32 := 2#32
  let v226 : BitVec 32 := Scalar.addi v59 c2_i32_81
  let c4_i32_82 : BitVec 32 := 4#32
  let v227 : BitVec 1 := Scalar.cmpi .slt v226 c4_i32_82
  let v228 : BitVec 32 := Scalar.extui v227
  let c0_i32_83 : BitVec 32 := 0#32
  let v229 : BitVec 1 := Scalar.cmpi .ne v228 c0_i32_83
  v229

def k0_mult13 (i : grid0.Coords) (k0_t68 : Fin k0_t68_loop.trips) : BitVec 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c2_i32_84 : BitVec 32 := 2#32
  let v230 : BitVec 32 := Scalar.addi v59 c2_i32_84
  let c256_i32_85 : BitVec 32 := 256#32
  let v231 : BitVec 32 := Scalar.muli v230 c256_i32_85
  let v232 : BitVec 32 := Scalar.addi v26 v231
  let c31744_i32_86 : BitVec 32 := 31744#32
  let v233 : BitVec 32 := Scalar.minsi v232 c31744_i32_86
  v233
def k0_off793 (i : grid0.Coords) (k0_t68 : Fin k0_t68_loop.trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_49 : BitVec 32 := 2#32
  let v58 : BitVec 32 := Scalar.muli arg17 c2_i32_49
  let c0_i32_50 : BitVec 32 := 0#32
  let v59 : BitVec 32 := Scalar.addi v58 c0_i32_50
  let c2_i32_84 : BitVec 32 := 2#32
  let v230 : BitVec 32 := Scalar.addi v59 c2_i32_84
  let c256_i32_85 : BitVec 32 := 256#32
  let v231 : BitVec 32 := Scalar.muli v230 c256_i32_85
  let v232 : BitVec 32 := Scalar.addi v26 v231
  let c31744_i32_86 : BitVec 32 := 31744#32
  let v233 : BitVec 32 := Scalar.minsi v232 c31744_i32_86
  let v234 : BitVec 32 := v233
  let c0_i32_87 : BitVec 32 := 0#32
  ![v234.toNat, 0]
def k0_cond55 (k0_t68 : Fin k0_t68_loop.trips) : BitVec 1 :=
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c4_i32_54 : BitVec 32 := 4#32
  let v65 : BitVec 1 := Scalar.cmpi .slt v64 c4_i32_54
  let v66 : BitVec 32 := Scalar.extui v65
  let c0_i32_55 : BitVec 32 := 0#32
  let v67 : BitVec 1 := Scalar.cmpi .ne v66 c0_i32_55
  v67

def k0_mult14 (i : grid0.Coords) (k0_t68 : Fin k0_t68_loop.trips) : BitVec 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_57 : BitVec 32 := 256#32
  let v68 : BitVec 32 := Scalar.muli v64 c256_i32_57
  let v69 : BitVec 32 := Scalar.addi v26 v68
  let c31744_i32_58 : BitVec 32 := 31744#32
  let v70 : BitVec 32 := Scalar.minsi v69 c31744_i32_58
  v70
def k0_off794 (i : grid0.Coords) (k0_t68 : Fin k0_t68_loop.trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_57 : BitVec 32 := 256#32
  let v68 : BitVec 32 := Scalar.muli v64 c256_i32_57
  let v69 : BitVec 32 := Scalar.addi v26 v68
  let c31744_i32_58 : BitVec 32 := 31744#32
  let v70 : BitVec 32 := Scalar.minsi v69 c31744_i32_58
  let v71 : BitVec 32 := v70
  let c0_i32_59 : BitVec 32 := 0#32
  ![v71.toNat, 0]
def k0_mult15 (i : grid0.Coords) (k0_t68 : Fin k0_t68_loop.trips) : BitVec 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  v80
@[reducible] def k0_t101_loop (i : grid0.Coords) (k0_t68 : Fin k0_t68_loop.trips) (v83 : BitVec 32) (v86 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v84 : BitVec 32 := Scalar.maxsi v83 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_85 : BitVec 32 := 1#32
  ⟨v84, v234, c1_i32_85⟩
def k0_cond56 (i : grid0.Coords) (k0_t68 : Fin k0_t68_loop.trips) (v83 : BitVec 32) (v86 : BitVec 32) : BitVec 1 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v87 : BitVec 32 := Scalar.minsi v86 v77
  let v84 : BitVec 32 := Scalar.maxsi v83 v75
  let v88 : BitVec 1 := Scalar.cmpi .sgt v87 v84
  let v89 : BitVec 32 := Scalar.extui v88
  let c0_i32_65 : BitVec 32 := 0#32
  let v90 : BitVec 1 := Scalar.cmpi .ne v89 c0_i32_65
  v90

def k0_off795 (i : grid0.Coords) (k0_t68 : Fin k0_t68_loop.trips) (v83 : BitVec 32) (v86 : BitVec 32) (k0_t101 : Fin (k0_t101_loop i k0_t68 v83 v86).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v84 : BitVec 32 := Scalar.maxsi v83 v75
  let c1_i32_85 : BitVec 32 := 1#32
  let arg19 : BitVec 32 := Scf.iv v84 c1_i32_85 k0_t101
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_113 : Index := 0#32
  ![v302.toNat, 0]
def k0_off796 (i : grid0.Coords) (k0_t68 : Fin k0_t68_loop.trips) (v83 : BitVec 32) (v86 : BitVec 32) (k0_t101 : Fin (k0_t101_loop i k0_t68 v83 v86).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v84 : BitVec 32 := Scalar.maxsi v83 v75
  let c1_i32_85 : BitVec 32 := 1#32
  let arg19 : BitVec 32 := Scf.iv v84 c1_i32_85 k0_t101
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_114 : Index := 16#32
  ![v306.toNat, 16]
def k0_off797 (i : grid0.Coords) (k0_t68 : Fin k0_t68_loop.trips) (v83 : BitVec 32) (v86 : BitVec 32) (k0_t101 : Fin (k0_t101_loop i k0_t68 v83 v86).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v84 : BitVec 32 := Scalar.maxsi v83 v75
  let c1_i32_85 : BitVec 32 := 1#32
  let arg19 : BitVec 32 := Scf.iv v84 c1_i32_85 k0_t101
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_115 : Index := 32#32
  ![v310.toNat, 32]
def k0_off798 (i : grid0.Coords) (k0_t68 : Fin k0_t68_loop.trips) (v83 : BitVec 32) (v86 : BitVec 32) (k0_t101 : Fin (k0_t101_loop i k0_t68 v83 v86).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v84 : BitVec 32 := Scalar.maxsi v83 v75
  let c1_i32_85 : BitVec 32 := 1#32
  let arg19 : BitVec 32 := Scf.iv v84 c1_i32_85 k0_t101
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_116 : Index := 48#32
  ![v314.toNat, 48]
def k0_off799 (i : grid0.Coords) (k0_t68 : Fin k0_t68_loop.trips) (v83 : BitVec 32) (v86 : BitVec 32) (k0_t101 : Fin (k0_t101_loop i k0_t68 v83 v86).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v84 : BitVec 32 := Scalar.maxsi v83 v75
  let c1_i32_85 : BitVec 32 := 1#32
  let arg19 : BitVec 32 := Scf.iv v84 c1_i32_85 k0_t101
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_117 : Index := 64#32
  ![v318.toNat, 64]
def k0_off800 (i : grid0.Coords) (k0_t68 : Fin k0_t68_loop.trips) (v83 : BitVec 32) (v86 : BitVec 32) (k0_t101 : Fin (k0_t101_loop i k0_t68 v83 v86).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v84 : BitVec 32 := Scalar.maxsi v83 v75
  let c1_i32_85 : BitVec 32 := 1#32
  let arg19 : BitVec 32 := Scf.iv v84 c1_i32_85 k0_t101
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_118 : Index := 80#32
  ![v322.toNat, 80]
def k0_off801 (i : grid0.Coords) (k0_t68 : Fin k0_t68_loop.trips) (v83 : BitVec 32) (v86 : BitVec 32) (k0_t101 : Fin (k0_t101_loop i k0_t68 v83 v86).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v84 : BitVec 32 := Scalar.maxsi v83 v75
  let c1_i32_85 : BitVec 32 := 1#32
  let arg19 : BitVec 32 := Scf.iv v84 c1_i32_85 k0_t101
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_119 : Index := 96#32
  ![v326.toNat, 96]
def k0_off802 (i : grid0.Coords) (k0_t68 : Fin k0_t68_loop.trips) (v83 : BitVec 32) (v86 : BitVec 32) (k0_t101 : Fin (k0_t101_loop i k0_t68 v83 v86).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v84 : BitVec 32 := Scalar.maxsi v83 v75
  let c1_i32_85 : BitVec 32 := 1#32
  let arg19 : BitVec 32 := Scf.iv v84 c1_i32_85 k0_t101
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_120 : Index := 112#32
  ![v330.toNat, 112]
@[reducible] def k0_t102_loop (i : grid0.Coords) (k0_t68 : Fin k0_t68_loop.trips) (v83 : BitVec 32) (v86 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v84 : BitVec 32 := Scalar.maxsi v83 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let v231 : BitVec 32 := Scalar.addi v84 v230
  let c1_i32_86 : BitVec 32 := 1#32
  ⟨v234, v231, c1_i32_86⟩
def k0_off803 (i : grid0.Coords) (k0_t68 : Fin k0_t68_loop.trips) (v83 : BitVec 32) (v86 : BitVec 32) (k0_t102 : Fin (k0_t102_loop i k0_t68 v83 v86).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v84 : BitVec 32 := Scalar.maxsi v83 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_86 : BitVec 32 := 1#32
  let arg19 : BitVec 32 := Scf.iv v234 c1_i32_86 k0_t102
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_113 : Index := 0#32
  ![v302.toNat, 0]
def k0_off804 (i : grid0.Coords) (k0_t68 : Fin k0_t68_loop.trips) (v83 : BitVec 32) (v86 : BitVec 32) (k0_t102 : Fin (k0_t102_loop i k0_t68 v83 v86).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v84 : BitVec 32 := Scalar.maxsi v83 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_86 : BitVec 32 := 1#32
  let arg19 : BitVec 32 := Scf.iv v234 c1_i32_86 k0_t102
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_114 : Index := 16#32
  ![v306.toNat, 16]
def k0_off805 (i : grid0.Coords) (k0_t68 : Fin k0_t68_loop.trips) (v83 : BitVec 32) (v86 : BitVec 32) (k0_t102 : Fin (k0_t102_loop i k0_t68 v83 v86).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v84 : BitVec 32 := Scalar.maxsi v83 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_86 : BitVec 32 := 1#32
  let arg19 : BitVec 32 := Scf.iv v234 c1_i32_86 k0_t102
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_115 : Index := 32#32
  ![v310.toNat, 32]
def k0_off806 (i : grid0.Coords) (k0_t68 : Fin k0_t68_loop.trips) (v83 : BitVec 32) (v86 : BitVec 32) (k0_t102 : Fin (k0_t102_loop i k0_t68 v83 v86).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v84 : BitVec 32 := Scalar.maxsi v83 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_86 : BitVec 32 := 1#32
  let arg19 : BitVec 32 := Scf.iv v234 c1_i32_86 k0_t102
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_116 : Index := 48#32
  ![v314.toNat, 48]
def k0_off807 (i : grid0.Coords) (k0_t68 : Fin k0_t68_loop.trips) (v83 : BitVec 32) (v86 : BitVec 32) (k0_t102 : Fin (k0_t102_loop i k0_t68 v83 v86).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v84 : BitVec 32 := Scalar.maxsi v83 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_86 : BitVec 32 := 1#32
  let arg19 : BitVec 32 := Scf.iv v234 c1_i32_86 k0_t102
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_117 : Index := 64#32
  ![v318.toNat, 64]
def k0_off808 (i : grid0.Coords) (k0_t68 : Fin k0_t68_loop.trips) (v83 : BitVec 32) (v86 : BitVec 32) (k0_t102 : Fin (k0_t102_loop i k0_t68 v83 v86).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v84 : BitVec 32 := Scalar.maxsi v83 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_86 : BitVec 32 := 1#32
  let arg19 : BitVec 32 := Scf.iv v234 c1_i32_86 k0_t102
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_118 : Index := 80#32
  ![v322.toNat, 80]
def k0_off809 (i : grid0.Coords) (k0_t68 : Fin k0_t68_loop.trips) (v83 : BitVec 32) (v86 : BitVec 32) (k0_t102 : Fin (k0_t102_loop i k0_t68 v83 v86).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v84 : BitVec 32 := Scalar.maxsi v83 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_86 : BitVec 32 := 1#32
  let arg19 : BitVec 32 := Scf.iv v234 c1_i32_86 k0_t102
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_119 : Index := 96#32
  ![v326.toNat, 96]
def k0_off810 (i : grid0.Coords) (k0_t68 : Fin k0_t68_loop.trips) (v83 : BitVec 32) (v86 : BitVec 32) (k0_t102 : Fin (k0_t102_loop i k0_t68 v83 v86).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v84 : BitVec 32 := Scalar.maxsi v83 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v87 : BitVec 32 := Scalar.minsi v86 v77
  let v230 : BitVec 32 := Scalar.subi v87 v84
  let c1_i32_84 : BitVec 32 := 1#32
  let v232 : BitVec 32 := Scalar.divsi v230 c1_i32_84
  let v233 : BitVec 32 := Scalar.muli v232 c1_i32_84
  let v234 : BitVec 32 := Scalar.addi v84 v233
  let c1_i32_86 : BitVec 32 := 1#32
  let arg19 : BitVec 32 := Scf.iv v234 c1_i32_86 k0_t102
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_120 : Index := 112#32
  ![v330.toNat, 112]

def k0_chk49 (i : grid0.Coords) (k0_t68 : Fin k0_t68_loop.trips) (v83 : BitVec 32) (v86 : BitVec 32) : Prop :=
  (∀ (k0_h55 : k0_cond55 k0_t68 = 1#1), ∀ (k0_h56 : k0_cond56 i k0_t68 v83 v86 = 1#1), (k0_t101_loop i k0_t68 v83 v86).OK) ∧
  (∀ k0_t101 : Fin (k0_t101_loop i k0_t68 v83 v86).trips, ∀ (k0_h55 : k0_cond55 k0_t68 = 1#1), ∀ (k0_h56 : k0_cond56 i k0_t68 v83 v86 = 1#1), ∀ a, (k0_off795 i k0_t68 v83 v86 k0_t101) a + S1x16.size a ≤ S256x128.size a) ∧
  (∀ k0_t101 : Fin (k0_t101_loop i k0_t68 v83 v86).trips, ∀ (k0_h55 : k0_cond55 k0_t68 = 1#1), ∀ (k0_h56 : k0_cond56 i k0_t68 v83 v86 = 1#1), ∀ a, (k0_off796 i k0_t68 v83 v86 k0_t101) a + S1x16.size a ≤ S256x128.size a) ∧
  (∀ k0_t101 : Fin (k0_t101_loop i k0_t68 v83 v86).trips, ∀ (k0_h55 : k0_cond55 k0_t68 = 1#1), ∀ (k0_h56 : k0_cond56 i k0_t68 v83 v86 = 1#1), ∀ a, (k0_off797 i k0_t68 v83 v86 k0_t101) a + S1x16.size a ≤ S256x128.size a) ∧
  (∀ k0_t101 : Fin (k0_t101_loop i k0_t68 v83 v86).trips, ∀ (k0_h55 : k0_cond55 k0_t68 = 1#1), ∀ (k0_h56 : k0_cond56 i k0_t68 v83 v86 = 1#1), ∀ a, (k0_off798 i k0_t68 v83 v86 k0_t101) a + S1x16.size a ≤ S256x128.size a) ∧
  (∀ k0_t101 : Fin (k0_t101_loop i k0_t68 v83 v86).trips, ∀ (k0_h55 : k0_cond55 k0_t68 = 1#1), ∀ (k0_h56 : k0_cond56 i k0_t68 v83 v86 = 1#1), ∀ a, (k0_off799 i k0_t68 v83 v86 k0_t101) a + S1x16.size a ≤ S256x128.size a) ∧
  (∀ k0_t101 : Fin (k0_t101_loop i k0_t68 v83 v86).trips, ∀ (k0_h55 : k0_cond55 k0_t68 = 1#1), ∀ (k0_h56 : k0_cond56 i k0_t68 v83 v86 = 1#1), ∀ a, (k0_off800 i k0_t68 v83 v86 k0_t101) a + S1x16.size a ≤ S256x128.size a) ∧
  (∀ k0_t101 : Fin (k0_t101_loop i k0_t68 v83 v86).trips, ∀ (k0_h55 : k0_cond55 k0_t68 = 1#1), ∀ (k0_h56 : k0_cond56 i k0_t68 v83 v86 = 1#1), ∀ a, (k0_off801 i k0_t68 v83 v86 k0_t101) a + S1x16.size a ≤ S256x128.size a) ∧
  (∀ k0_t101 : Fin (k0_t101_loop i k0_t68 v83 v86).trips, ∀ (k0_h55 : k0_cond55 k0_t68 = 1#1), ∀ (k0_h56 : k0_cond56 i k0_t68 v83 v86 = 1#1), ∀ a, (k0_off802 i k0_t68 v83 v86 k0_t101) a + S1x16.size a ≤ S256x128.size a) ∧
  (∀ (k0_h55 : k0_cond55 k0_t68 = 1#1), ∀ (k0_h56 : k0_cond56 i k0_t68 v83 v86 = 1#1), (k0_t102_loop i k0_t68 v83 v86).OK) ∧
  (∀ k0_t102 : Fin (k0_t102_loop i k0_t68 v83 v86).trips, ∀ (k0_h55 : k0_cond55 k0_t68 = 1#1), ∀ (k0_h56 : k0_cond56 i k0_t68 v83 v86 = 1#1), ∀ a, (k0_off803 i k0_t68 v83 v86 k0_t102) a + S1x16.size a ≤ S256x128.size a) ∧
  (∀ k0_t102 : Fin (k0_t102_loop i k0_t68 v83 v86).trips, ∀ (k0_h55 : k0_cond55 k0_t68 = 1#1), ∀ (k0_h56 : k0_cond56 i k0_t68 v83 v86 = 1#1), ∀ a, (k0_off804 i k0_t68 v83 v86 k0_t102) a + S1x16.size a ≤ S256x128.size a) ∧
  (∀ k0_t102 : Fin (k0_t102_loop i k0_t68 v83 v86).trips, ∀ (k0_h55 : k0_cond55 k0_t68 = 1#1), ∀ (k0_h56 : k0_cond56 i k0_t68 v83 v86 = 1#1), ∀ a, (k0_off805 i k0_t68 v83 v86 k0_t102) a + S1x16.size a ≤ S256x128.size a) ∧
  (∀ k0_t102 : Fin (k0_t102_loop i k0_t68 v83 v86).trips, ∀ (k0_h55 : k0_cond55 k0_t68 = 1#1), ∀ (k0_h56 : k0_cond56 i k0_t68 v83 v86 = 1#1), ∀ a, (k0_off806 i k0_t68 v83 v86 k0_t102) a + S1x16.size a ≤ S256x128.size a) ∧
  (∀ k0_t102 : Fin (k0_t102_loop i k0_t68 v83 v86).trips, ∀ (k0_h55 : k0_cond55 k0_t68 = 1#1), ∀ (k0_h56 : k0_cond56 i k0_t68 v83 v86 = 1#1), ∀ a, (k0_off807 i k0_t68 v83 v86 k0_t102) a + S1x16.size a ≤ S256x128.size a) ∧
  (∀ k0_t102 : Fin (k0_t102_loop i k0_t68 v83 v86).trips, ∀ (k0_h55 : k0_cond55 k0_t68 = 1#1), ∀ (k0_h56 : k0_cond56 i k0_t68 v83 v86 = 1#1), ∀ a, (k0_off808 i k0_t68 v83 v86 k0_t102) a + S1x16.size a ≤ S256x128.size a) ∧
  (∀ k0_t102 : Fin (k0_t102_loop i k0_t68 v83 v86).trips, ∀ (k0_h55 : k0_cond55 k0_t68 = 1#1), ∀ (k0_h56 : k0_cond56 i k0_t68 v83 v86 = 1#1), ∀ a, (k0_off809 i k0_t68 v83 v86 k0_t102) a + S1x16.size a ≤ S256x128.size a) ∧
  (∀ k0_t102 : Fin (k0_t102_loop i k0_t68 v83 v86).trips, ∀ (k0_h55 : k0_cond55 k0_t68 = 1#1), ∀ (k0_h56 : k0_cond56 i k0_t68 v83 v86 = 1#1), ∀ a, (k0_off810 i k0_t68 v83 v86 k0_t102) a + S1x16.size a ≤ S256x128.size a)
theorem k0_t101_ok : ∀ (i : grid0.Coords) (k0_t68 : Fin k0_t68_loop.trips) (v83 : BitVec 32) (v86 : BitVec 32) (k0_hw49 : k0_chk49 i k0_t68 v83 v86), ∀ (k0_h55 : k0_cond55 k0_t68 = 1#1), ∀ (k0_h56 : k0_cond56 i k0_t68 v83 v86 = 1#1), (k0_t101_loop i k0_t68 v83 v86).OK := fun i k0_t68 v83 v86 k0_hw49 k0_h55 k0_h56 => k0_hw49.1 k0_h55 k0_h56
theorem k0_off795_inb : ∀ (i : grid0.Coords) (k0_t68 : Fin k0_t68_loop.trips) (v83 : BitVec 32) (v86 : BitVec 32) (k0_hw49 : k0_chk49 i k0_t68 v83 v86) (k0_t101 : Fin (k0_t101_loop i k0_t68 v83 v86).trips), ∀ (k0_h55 : k0_cond55 k0_t68 = 1#1), ∀ (k0_h56 : k0_cond56 i k0_t68 v83 v86 = 1#1), ∀ a, (k0_off795 i k0_t68 v83 v86 k0_t101) a + S1x16.size a ≤ S256x128.size a := fun i k0_t68 v83 v86 k0_hw49 k0_t101 k0_h55 k0_h56 => k0_hw49.2.1 k0_t101 k0_h55 k0_h56
theorem k0_off796_inb : ∀ (i : grid0.Coords) (k0_t68 : Fin k0_t68_loop.trips) (v83 : BitVec 32) (v86 : BitVec 32) (k0_hw49 : k0_chk49 i k0_t68 v83 v86) (k0_t101 : Fin (k0_t101_loop i k0_t68 v83 v86).trips), ∀ (k0_h55 : k0_cond55 k0_t68 = 1#1), ∀ (k0_h56 : k0_cond56 i k0_t68 v83 v86 = 1#1), ∀ a, (k0_off796 i k0_t68 v83 v86 k0_t101) a + S1x16.size a ≤ S256x128.size a := fun i k0_t68 v83 v86 k0_hw49 k0_t101 k0_h55 k0_h56 => k0_hw49.2.2.1 k0_t101 k0_h55 k0_h56
theorem k0_off797_inb : ∀ (i : grid0.Coords) (k0_t68 : Fin k0_t68_loop.trips) (v83 : BitVec 32) (v86 : BitVec 32) (k0_hw49 : k0_chk49 i k0_t68 v83 v86) (k0_t101 : Fin (k0_t101_loop i k0_t68 v83 v86).trips), ∀ (k0_h55 : k0_cond55 k0_t68 = 1#1), ∀ (k0_h56 : k0_cond56 i k0_t68 v83 v86 = 1#1), ∀ a, (k0_off797 i k0_t68 v83 v86 k0_t101) a + S1x16.size a ≤ S256x128.size a := fun i k0_t68 v83 v86 k0_hw49 k0_t101 k0_h55 k0_h56 => k0_hw49.2.2.2.1 k0_t101 k0_h55 k0_h56
theorem k0_off798_inb : ∀ (i : grid0.Coords) (k0_t68 : Fin k0_t68_loop.trips) (v83 : BitVec 32) (v86 : BitVec 32) (k0_hw49 : k0_chk49 i k0_t68 v83 v86) (k0_t101 : Fin (k0_t101_loop i k0_t68 v83 v86).trips), ∀ (k0_h55 : k0_cond55 k0_t68 = 1#1), ∀ (k0_h56 : k0_cond56 i k0_t68 v83 v86 = 1#1), ∀ a, (k0_off798 i k0_t68 v83 v86 k0_t101) a + S1x16.size a ≤ S256x128.size a := fun i k0_t68 v83 v86 k0_hw49 k0_t101 k0_h55 k0_h56 => k0_hw49.2.2.2.2.1 k0_t101 k0_h55 k0_h56
theorem k0_off799_inb : ∀ (i : grid0.Coords) (k0_t68 : Fin k0_t68_loop.trips) (v83 : BitVec 32) (v86 : BitVec 32) (k0_hw49 : k0_chk49 i k0_t68 v83 v86) (k0_t101 : Fin (k0_t101_loop i k0_t68 v83 v86).trips), ∀ (k0_h55 : k0_cond55 k0_t68 = 1#1), ∀ (k0_h56 : k0_cond56 i k0_t68 v83 v86 = 1#1), ∀ a, (k0_off799 i k0_t68 v83 v86 k0_t101) a + S1x16.size a ≤ S256x128.size a := fun i k0_t68 v83 v86 k0_hw49 k0_t101 k0_h55 k0_h56 => k0_hw49.2.2.2.2.2.1 k0_t101 k0_h55 k0_h56
theorem k0_off800_inb : ∀ (i : grid0.Coords) (k0_t68 : Fin k0_t68_loop.trips) (v83 : BitVec 32) (v86 : BitVec 32) (k0_hw49 : k0_chk49 i k0_t68 v83 v86) (k0_t101 : Fin (k0_t101_loop i k0_t68 v83 v86).trips), ∀ (k0_h55 : k0_cond55 k0_t68 = 1#1), ∀ (k0_h56 : k0_cond56 i k0_t68 v83 v86 = 1#1), ∀ a, (k0_off800 i k0_t68 v83 v86 k0_t101) a + S1x16.size a ≤ S256x128.size a := fun i k0_t68 v83 v86 k0_hw49 k0_t101 k0_h55 k0_h56 => k0_hw49.2.2.2.2.2.2.1 k0_t101 k0_h55 k0_h56
theorem k0_off801_inb : ∀ (i : grid0.Coords) (k0_t68 : Fin k0_t68_loop.trips) (v83 : BitVec 32) (v86 : BitVec 32) (k0_hw49 : k0_chk49 i k0_t68 v83 v86) (k0_t101 : Fin (k0_t101_loop i k0_t68 v83 v86).trips), ∀ (k0_h55 : k0_cond55 k0_t68 = 1#1), ∀ (k0_h56 : k0_cond56 i k0_t68 v83 v86 = 1#1), ∀ a, (k0_off801 i k0_t68 v83 v86 k0_t101) a + S1x16.size a ≤ S256x128.size a := fun i k0_t68 v83 v86 k0_hw49 k0_t101 k0_h55 k0_h56 => k0_hw49.2.2.2.2.2.2.2.1 k0_t101 k0_h55 k0_h56
theorem k0_off802_inb : ∀ (i : grid0.Coords) (k0_t68 : Fin k0_t68_loop.trips) (v83 : BitVec 32) (v86 : BitVec 32) (k0_hw49 : k0_chk49 i k0_t68 v83 v86) (k0_t101 : Fin (k0_t101_loop i k0_t68 v83 v86).trips), ∀ (k0_h55 : k0_cond55 k0_t68 = 1#1), ∀ (k0_h56 : k0_cond56 i k0_t68 v83 v86 = 1#1), ∀ a, (k0_off802 i k0_t68 v83 v86 k0_t101) a + S1x16.size a ≤ S256x128.size a := fun i k0_t68 v83 v86 k0_hw49 k0_t101 k0_h55 k0_h56 => k0_hw49.2.2.2.2.2.2.2.2.1 k0_t101 k0_h55 k0_h56
theorem k0_t102_ok : ∀ (i : grid0.Coords) (k0_t68 : Fin k0_t68_loop.trips) (v83 : BitVec 32) (v86 : BitVec 32) (k0_hw49 : k0_chk49 i k0_t68 v83 v86), ∀ (k0_h55 : k0_cond55 k0_t68 = 1#1), ∀ (k0_h56 : k0_cond56 i k0_t68 v83 v86 = 1#1), (k0_t102_loop i k0_t68 v83 v86).OK := fun i k0_t68 v83 v86 k0_hw49 k0_h55 k0_h56 => k0_hw49.2.2.2.2.2.2.2.2.2.1 k0_h55 k0_h56
theorem k0_off803_inb : ∀ (i : grid0.Coords) (k0_t68 : Fin k0_t68_loop.trips) (v83 : BitVec 32) (v86 : BitVec 32) (k0_hw49 : k0_chk49 i k0_t68 v83 v86) (k0_t102 : Fin (k0_t102_loop i k0_t68 v83 v86).trips), ∀ (k0_h55 : k0_cond55 k0_t68 = 1#1), ∀ (k0_h56 : k0_cond56 i k0_t68 v83 v86 = 1#1), ∀ a, (k0_off803 i k0_t68 v83 v86 k0_t102) a + S1x16.size a ≤ S256x128.size a := fun i k0_t68 v83 v86 k0_hw49 k0_t102 k0_h55 k0_h56 => k0_hw49.2.2.2.2.2.2.2.2.2.2.1 k0_t102 k0_h55 k0_h56
theorem k0_off804_inb : ∀ (i : grid0.Coords) (k0_t68 : Fin k0_t68_loop.trips) (v83 : BitVec 32) (v86 : BitVec 32) (k0_hw49 : k0_chk49 i k0_t68 v83 v86) (k0_t102 : Fin (k0_t102_loop i k0_t68 v83 v86).trips), ∀ (k0_h55 : k0_cond55 k0_t68 = 1#1), ∀ (k0_h56 : k0_cond56 i k0_t68 v83 v86 = 1#1), ∀ a, (k0_off804 i k0_t68 v83 v86 k0_t102) a + S1x16.size a ≤ S256x128.size a := fun i k0_t68 v83 v86 k0_hw49 k0_t102 k0_h55 k0_h56 => k0_hw49.2.2.2.2.2.2.2.2.2.2.2.1 k0_t102 k0_h55 k0_h56
theorem k0_off805_inb : ∀ (i : grid0.Coords) (k0_t68 : Fin k0_t68_loop.trips) (v83 : BitVec 32) (v86 : BitVec 32) (k0_hw49 : k0_chk49 i k0_t68 v83 v86) (k0_t102 : Fin (k0_t102_loop i k0_t68 v83 v86).trips), ∀ (k0_h55 : k0_cond55 k0_t68 = 1#1), ∀ (k0_h56 : k0_cond56 i k0_t68 v83 v86 = 1#1), ∀ a, (k0_off805 i k0_t68 v83 v86 k0_t102) a + S1x16.size a ≤ S256x128.size a := fun i k0_t68 v83 v86 k0_hw49 k0_t102 k0_h55 k0_h56 => k0_hw49.2.2.2.2.2.2.2.2.2.2.2.2.1 k0_t102 k0_h55 k0_h56
theorem k0_off806_inb : ∀ (i : grid0.Coords) (k0_t68 : Fin k0_t68_loop.trips) (v83 : BitVec 32) (v86 : BitVec 32) (k0_hw49 : k0_chk49 i k0_t68 v83 v86) (k0_t102 : Fin (k0_t102_loop i k0_t68 v83 v86).trips), ∀ (k0_h55 : k0_cond55 k0_t68 = 1#1), ∀ (k0_h56 : k0_cond56 i k0_t68 v83 v86 = 1#1), ∀ a, (k0_off806 i k0_t68 v83 v86 k0_t102) a + S1x16.size a ≤ S256x128.size a := fun i k0_t68 v83 v86 k0_hw49 k0_t102 k0_h55 k0_h56 => k0_hw49.2.2.2.2.2.2.2.2.2.2.2.2.2.1 k0_t102 k0_h55 k0_h56
theorem k0_off807_inb : ∀ (i : grid0.Coords) (k0_t68 : Fin k0_t68_loop.trips) (v83 : BitVec 32) (v86 : BitVec 32) (k0_hw49 : k0_chk49 i k0_t68 v83 v86) (k0_t102 : Fin (k0_t102_loop i k0_t68 v83 v86).trips), ∀ (k0_h55 : k0_cond55 k0_t68 = 1#1), ∀ (k0_h56 : k0_cond56 i k0_t68 v83 v86 = 1#1), ∀ a, (k0_off807 i k0_t68 v83 v86 k0_t102) a + S1x16.size a ≤ S256x128.size a := fun i k0_t68 v83 v86 k0_hw49 k0_t102 k0_h55 k0_h56 => k0_hw49.2.2.2.2.2.2.2.2.2.2.2.2.2.2.1 k0_t102 k0_h55 k0_h56
theorem k0_off808_inb : ∀ (i : grid0.Coords) (k0_t68 : Fin k0_t68_loop.trips) (v83 : BitVec 32) (v86 : BitVec 32) (k0_hw49 : k0_chk49 i k0_t68 v83 v86) (k0_t102 : Fin (k0_t102_loop i k0_t68 v83 v86).trips), ∀ (k0_h55 : k0_cond55 k0_t68 = 1#1), ∀ (k0_h56 : k0_cond56 i k0_t68 v83 v86 = 1#1), ∀ a, (k0_off808 i k0_t68 v83 v86 k0_t102) a + S1x16.size a ≤ S256x128.size a := fun i k0_t68 v83 v86 k0_hw49 k0_t102 k0_h55 k0_h56 => k0_hw49.2.2.2.2.2.2.2.2.2.2.2.2.2.2.2.1 k0_t102 k0_h55 k0_h56
theorem k0_off809_inb : ∀ (i : grid0.Coords) (k0_t68 : Fin k0_t68_loop.trips) (v83 : BitVec 32) (v86 : BitVec 32) (k0_hw49 : k0_chk49 i k0_t68 v83 v86) (k0_t102 : Fin (k0_t102_loop i k0_t68 v83 v86).trips), ∀ (k0_h55 : k0_cond55 k0_t68 = 1#1), ∀ (k0_h56 : k0_cond56 i k0_t68 v83 v86 = 1#1), ∀ a, (k0_off809 i k0_t68 v83 v86 k0_t102) a + S1x16.size a ≤ S256x128.size a := fun i k0_t68 v83 v86 k0_hw49 k0_t102 k0_h55 k0_h56 => k0_hw49.2.2.2.2.2.2.2.2.2.2.2.2.2.2.2.2.1 k0_t102 k0_h55 k0_h56
theorem k0_off810_inb : ∀ (i : grid0.Coords) (k0_t68 : Fin k0_t68_loop.trips) (v83 : BitVec 32) (v86 : BitVec 32) (k0_hw49 : k0_chk49 i k0_t68 v83 v86) (k0_t102 : Fin (k0_t102_loop i k0_t68 v83 v86).trips), ∀ (k0_h55 : k0_cond55 k0_t68 = 1#1), ∀ (k0_h56 : k0_cond56 i k0_t68 v83 v86 = 1#1), ∀ a, (k0_off810 i k0_t68 v83 v86 k0_t102) a + S1x16.size a ≤ S256x128.size a := fun i k0_t68 v83 v86 k0_hw49 k0_t102 k0_h55 k0_h56 => k0_hw49.2.2.2.2.2.2.2.2.2.2.2.2.2.2.2.2.2 k0_t102 k0_h55 k0_h56

@[reducible] def k0_t103_loop (i : grid0.Coords) (k0_t68 : Fin k0_t68_loop.trips) (v92 : BitVec 32) (v95 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v93 : BitVec 32 := Scalar.maxsi v92 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_85 : BitVec 32 := 1#32
  ⟨v93, v234, c1_i32_85⟩
def k0_cond57 (i : grid0.Coords) (k0_t68 : Fin k0_t68_loop.trips) (v92 : BitVec 32) (v95 : BitVec 32) : BitVec 1 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v96 : BitVec 32 := Scalar.minsi v95 v77
  let v93 : BitVec 32 := Scalar.maxsi v92 v75
  let v97 : BitVec 1 := Scalar.cmpi .sgt v96 v93
  let v98 : BitVec 32 := Scalar.extui v97
  let c0_i32_66 : BitVec 32 := 0#32
  let v99 : BitVec 1 := Scalar.cmpi .ne v98 c0_i32_66
  v99

def k0_off811 (i : grid0.Coords) (k0_t68 : Fin k0_t68_loop.trips) (v92 : BitVec 32) (v95 : BitVec 32) (k0_t103 : Fin (k0_t103_loop i k0_t68 v92 v95).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v93 : BitVec 32 := Scalar.maxsi v92 v75
  let c1_i32_85 : BitVec 32 := 1#32
  let arg19 : BitVec 32 := Scf.iv v93 c1_i32_85 k0_t103
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_113 : Index := 0#32
  ![v302.toNat, 0]
def k0_off812 (i : grid0.Coords) (k0_t68 : Fin k0_t68_loop.trips) (v92 : BitVec 32) (v95 : BitVec 32) (k0_t103 : Fin (k0_t103_loop i k0_t68 v92 v95).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v93 : BitVec 32 := Scalar.maxsi v92 v75
  let c1_i32_85 : BitVec 32 := 1#32
  let arg19 : BitVec 32 := Scf.iv v93 c1_i32_85 k0_t103
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_114 : Index := 16#32
  ![v306.toNat, 16]
def k0_off813 (i : grid0.Coords) (k0_t68 : Fin k0_t68_loop.trips) (v92 : BitVec 32) (v95 : BitVec 32) (k0_t103 : Fin (k0_t103_loop i k0_t68 v92 v95).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v93 : BitVec 32 := Scalar.maxsi v92 v75
  let c1_i32_85 : BitVec 32 := 1#32
  let arg19 : BitVec 32 := Scf.iv v93 c1_i32_85 k0_t103
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_115 : Index := 32#32
  ![v310.toNat, 32]
def k0_off814 (i : grid0.Coords) (k0_t68 : Fin k0_t68_loop.trips) (v92 : BitVec 32) (v95 : BitVec 32) (k0_t103 : Fin (k0_t103_loop i k0_t68 v92 v95).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v93 : BitVec 32 := Scalar.maxsi v92 v75
  let c1_i32_85 : BitVec 32 := 1#32
  let arg19 : BitVec 32 := Scf.iv v93 c1_i32_85 k0_t103
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_116 : Index := 48#32
  ![v314.toNat, 48]
def k0_off815 (i : grid0.Coords) (k0_t68 : Fin k0_t68_loop.trips) (v92 : BitVec 32) (v95 : BitVec 32) (k0_t103 : Fin (k0_t103_loop i k0_t68 v92 v95).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v93 : BitVec 32 := Scalar.maxsi v92 v75
  let c1_i32_85 : BitVec 32 := 1#32
  let arg19 : BitVec 32 := Scf.iv v93 c1_i32_85 k0_t103
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_117 : Index := 64#32
  ![v318.toNat, 64]
def k0_off816 (i : grid0.Coords) (k0_t68 : Fin k0_t68_loop.trips) (v92 : BitVec 32) (v95 : BitVec 32) (k0_t103 : Fin (k0_t103_loop i k0_t68 v92 v95).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v93 : BitVec 32 := Scalar.maxsi v92 v75
  let c1_i32_85 : BitVec 32 := 1#32
  let arg19 : BitVec 32 := Scf.iv v93 c1_i32_85 k0_t103
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_118 : Index := 80#32
  ![v322.toNat, 80]
def k0_off817 (i : grid0.Coords) (k0_t68 : Fin k0_t68_loop.trips) (v92 : BitVec 32) (v95 : BitVec 32) (k0_t103 : Fin (k0_t103_loop i k0_t68 v92 v95).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v93 : BitVec 32 := Scalar.maxsi v92 v75
  let c1_i32_85 : BitVec 32 := 1#32
  let arg19 : BitVec 32 := Scf.iv v93 c1_i32_85 k0_t103
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_119 : Index := 96#32
  ![v326.toNat, 96]
def k0_off818 (i : grid0.Coords) (k0_t68 : Fin k0_t68_loop.trips) (v92 : BitVec 32) (v95 : BitVec 32) (k0_t103 : Fin (k0_t103_loop i k0_t68 v92 v95).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v93 : BitVec 32 := Scalar.maxsi v92 v75
  let c1_i32_85 : BitVec 32 := 1#32
  let arg19 : BitVec 32 := Scf.iv v93 c1_i32_85 k0_t103
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_120 : Index := 112#32
  ![v330.toNat, 112]
@[reducible] def k0_t104_loop (i : grid0.Coords) (k0_t68 : Fin k0_t68_loop.trips) (v92 : BitVec 32) (v95 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v93 : BitVec 32 := Scalar.maxsi v92 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let v231 : BitVec 32 := Scalar.addi v93 v230
  let c1_i32_86 : BitVec 32 := 1#32
  ⟨v234, v231, c1_i32_86⟩
def k0_off819 (i : grid0.Coords) (k0_t68 : Fin k0_t68_loop.trips) (v92 : BitVec 32) (v95 : BitVec 32) (k0_t104 : Fin (k0_t104_loop i k0_t68 v92 v95).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v93 : BitVec 32 := Scalar.maxsi v92 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_86 : BitVec 32 := 1#32
  let arg19 : BitVec 32 := Scf.iv v234 c1_i32_86 k0_t104
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_113 : Index := 0#32
  ![v302.toNat, 0]
def k0_off820 (i : grid0.Coords) (k0_t68 : Fin k0_t68_loop.trips) (v92 : BitVec 32) (v95 : BitVec 32) (k0_t104 : Fin (k0_t104_loop i k0_t68 v92 v95).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v93 : BitVec 32 := Scalar.maxsi v92 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_86 : BitVec 32 := 1#32
  let arg19 : BitVec 32 := Scf.iv v234 c1_i32_86 k0_t104
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_114 : Index := 16#32
  ![v306.toNat, 16]
def k0_off821 (i : grid0.Coords) (k0_t68 : Fin k0_t68_loop.trips) (v92 : BitVec 32) (v95 : BitVec 32) (k0_t104 : Fin (k0_t104_loop i k0_t68 v92 v95).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v93 : BitVec 32 := Scalar.maxsi v92 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_86 : BitVec 32 := 1#32
  let arg19 : BitVec 32 := Scf.iv v234 c1_i32_86 k0_t104
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_115 : Index := 32#32
  ![v310.toNat, 32]
def k0_off822 (i : grid0.Coords) (k0_t68 : Fin k0_t68_loop.trips) (v92 : BitVec 32) (v95 : BitVec 32) (k0_t104 : Fin (k0_t104_loop i k0_t68 v92 v95).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v93 : BitVec 32 := Scalar.maxsi v92 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_86 : BitVec 32 := 1#32
  let arg19 : BitVec 32 := Scf.iv v234 c1_i32_86 k0_t104
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_116 : Index := 48#32
  ![v314.toNat, 48]
def k0_off823 (i : grid0.Coords) (k0_t68 : Fin k0_t68_loop.trips) (v92 : BitVec 32) (v95 : BitVec 32) (k0_t104 : Fin (k0_t104_loop i k0_t68 v92 v95).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v93 : BitVec 32 := Scalar.maxsi v92 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_86 : BitVec 32 := 1#32
  let arg19 : BitVec 32 := Scf.iv v234 c1_i32_86 k0_t104
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_117 : Index := 64#32
  ![v318.toNat, 64]
def k0_off824 (i : grid0.Coords) (k0_t68 : Fin k0_t68_loop.trips) (v92 : BitVec 32) (v95 : BitVec 32) (k0_t104 : Fin (k0_t104_loop i k0_t68 v92 v95).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v93 : BitVec 32 := Scalar.maxsi v92 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_86 : BitVec 32 := 1#32
  let arg19 : BitVec 32 := Scf.iv v234 c1_i32_86 k0_t104
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_118 : Index := 80#32
  ![v322.toNat, 80]
def k0_off825 (i : grid0.Coords) (k0_t68 : Fin k0_t68_loop.trips) (v92 : BitVec 32) (v95 : BitVec 32) (k0_t104 : Fin (k0_t104_loop i k0_t68 v92 v95).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v93 : BitVec 32 := Scalar.maxsi v92 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_86 : BitVec 32 := 1#32
  let arg19 : BitVec 32 := Scf.iv v234 c1_i32_86 k0_t104
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_119 : Index := 96#32
  ![v326.toNat, 96]
def k0_off826 (i : grid0.Coords) (k0_t68 : Fin k0_t68_loop.trips) (v92 : BitVec 32) (v95 : BitVec 32) (k0_t104 : Fin (k0_t104_loop i k0_t68 v92 v95).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v93 : BitVec 32 := Scalar.maxsi v92 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v96 : BitVec 32 := Scalar.minsi v95 v77
  let v230 : BitVec 32 := Scalar.subi v96 v93
  let c1_i32_84 : BitVec 32 := 1#32
  let v232 : BitVec 32 := Scalar.divsi v230 c1_i32_84
  let v233 : BitVec 32 := Scalar.muli v232 c1_i32_84
  let v234 : BitVec 32 := Scalar.addi v93 v233
  let c1_i32_86 : BitVec 32 := 1#32
  let arg19 : BitVec 32 := Scf.iv v234 c1_i32_86 k0_t104
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_120 : Index := 112#32
  ![v330.toNat, 112]

def k0_chk50 (i : grid0.Coords) (k0_t68 : Fin k0_t68_loop.trips) (v92 : BitVec 32) (v95 : BitVec 32) : Prop :=
  (∀ (k0_h55 : k0_cond55 k0_t68 = 1#1), ∀ (k0_h57 : k0_cond57 i k0_t68 v92 v95 = 1#1), (k0_t103_loop i k0_t68 v92 v95).OK) ∧
  (∀ k0_t103 : Fin (k0_t103_loop i k0_t68 v92 v95).trips, ∀ (k0_h55 : k0_cond55 k0_t68 = 1#1), ∀ (k0_h57 : k0_cond57 i k0_t68 v92 v95 = 1#1), ∀ a, (k0_off811 i k0_t68 v92 v95 k0_t103) a + S1x16.size a ≤ S256x128.size a) ∧
  (∀ k0_t103 : Fin (k0_t103_loop i k0_t68 v92 v95).trips, ∀ (k0_h55 : k0_cond55 k0_t68 = 1#1), ∀ (k0_h57 : k0_cond57 i k0_t68 v92 v95 = 1#1), ∀ a, (k0_off812 i k0_t68 v92 v95 k0_t103) a + S1x16.size a ≤ S256x128.size a) ∧
  (∀ k0_t103 : Fin (k0_t103_loop i k0_t68 v92 v95).trips, ∀ (k0_h55 : k0_cond55 k0_t68 = 1#1), ∀ (k0_h57 : k0_cond57 i k0_t68 v92 v95 = 1#1), ∀ a, (k0_off813 i k0_t68 v92 v95 k0_t103) a + S1x16.size a ≤ S256x128.size a) ∧
  (∀ k0_t103 : Fin (k0_t103_loop i k0_t68 v92 v95).trips, ∀ (k0_h55 : k0_cond55 k0_t68 = 1#1), ∀ (k0_h57 : k0_cond57 i k0_t68 v92 v95 = 1#1), ∀ a, (k0_off814 i k0_t68 v92 v95 k0_t103) a + S1x16.size a ≤ S256x128.size a) ∧
  (∀ k0_t103 : Fin (k0_t103_loop i k0_t68 v92 v95).trips, ∀ (k0_h55 : k0_cond55 k0_t68 = 1#1), ∀ (k0_h57 : k0_cond57 i k0_t68 v92 v95 = 1#1), ∀ a, (k0_off815 i k0_t68 v92 v95 k0_t103) a + S1x16.size a ≤ S256x128.size a) ∧
  (∀ k0_t103 : Fin (k0_t103_loop i k0_t68 v92 v95).trips, ∀ (k0_h55 : k0_cond55 k0_t68 = 1#1), ∀ (k0_h57 : k0_cond57 i k0_t68 v92 v95 = 1#1), ∀ a, (k0_off816 i k0_t68 v92 v95 k0_t103) a + S1x16.size a ≤ S256x128.size a) ∧
  (∀ k0_t103 : Fin (k0_t103_loop i k0_t68 v92 v95).trips, ∀ (k0_h55 : k0_cond55 k0_t68 = 1#1), ∀ (k0_h57 : k0_cond57 i k0_t68 v92 v95 = 1#1), ∀ a, (k0_off817 i k0_t68 v92 v95 k0_t103) a + S1x16.size a ≤ S256x128.size a) ∧
  (∀ k0_t103 : Fin (k0_t103_loop i k0_t68 v92 v95).trips, ∀ (k0_h55 : k0_cond55 k0_t68 = 1#1), ∀ (k0_h57 : k0_cond57 i k0_t68 v92 v95 = 1#1), ∀ a, (k0_off818 i k0_t68 v92 v95 k0_t103) a + S1x16.size a ≤ S256x128.size a) ∧
  (∀ (k0_h55 : k0_cond55 k0_t68 = 1#1), ∀ (k0_h57 : k0_cond57 i k0_t68 v92 v95 = 1#1), (k0_t104_loop i k0_t68 v92 v95).OK) ∧
  (∀ k0_t104 : Fin (k0_t104_loop i k0_t68 v92 v95).trips, ∀ (k0_h55 : k0_cond55 k0_t68 = 1#1), ∀ (k0_h57 : k0_cond57 i k0_t68 v92 v95 = 1#1), ∀ a, (k0_off819 i k0_t68 v92 v95 k0_t104) a + S1x16.size a ≤ S256x128.size a) ∧
  (∀ k0_t104 : Fin (k0_t104_loop i k0_t68 v92 v95).trips, ∀ (k0_h55 : k0_cond55 k0_t68 = 1#1), ∀ (k0_h57 : k0_cond57 i k0_t68 v92 v95 = 1#1), ∀ a, (k0_off820 i k0_t68 v92 v95 k0_t104) a + S1x16.size a ≤ S256x128.size a) ∧
  (∀ k0_t104 : Fin (k0_t104_loop i k0_t68 v92 v95).trips, ∀ (k0_h55 : k0_cond55 k0_t68 = 1#1), ∀ (k0_h57 : k0_cond57 i k0_t68 v92 v95 = 1#1), ∀ a, (k0_off821 i k0_t68 v92 v95 k0_t104) a + S1x16.size a ≤ S256x128.size a) ∧
  (∀ k0_t104 : Fin (k0_t104_loop i k0_t68 v92 v95).trips, ∀ (k0_h55 : k0_cond55 k0_t68 = 1#1), ∀ (k0_h57 : k0_cond57 i k0_t68 v92 v95 = 1#1), ∀ a, (k0_off822 i k0_t68 v92 v95 k0_t104) a + S1x16.size a ≤ S256x128.size a) ∧
  (∀ k0_t104 : Fin (k0_t104_loop i k0_t68 v92 v95).trips, ∀ (k0_h55 : k0_cond55 k0_t68 = 1#1), ∀ (k0_h57 : k0_cond57 i k0_t68 v92 v95 = 1#1), ∀ a, (k0_off823 i k0_t68 v92 v95 k0_t104) a + S1x16.size a ≤ S256x128.size a) ∧
  (∀ k0_t104 : Fin (k0_t104_loop i k0_t68 v92 v95).trips, ∀ (k0_h55 : k0_cond55 k0_t68 = 1#1), ∀ (k0_h57 : k0_cond57 i k0_t68 v92 v95 = 1#1), ∀ a, (k0_off824 i k0_t68 v92 v95 k0_t104) a + S1x16.size a ≤ S256x128.size a) ∧
  (∀ k0_t104 : Fin (k0_t104_loop i k0_t68 v92 v95).trips, ∀ (k0_h55 : k0_cond55 k0_t68 = 1#1), ∀ (k0_h57 : k0_cond57 i k0_t68 v92 v95 = 1#1), ∀ a, (k0_off825 i k0_t68 v92 v95 k0_t104) a + S1x16.size a ≤ S256x128.size a) ∧
  (∀ k0_t104 : Fin (k0_t104_loop i k0_t68 v92 v95).trips, ∀ (k0_h55 : k0_cond55 k0_t68 = 1#1), ∀ (k0_h57 : k0_cond57 i k0_t68 v92 v95 = 1#1), ∀ a, (k0_off826 i k0_t68 v92 v95 k0_t104) a + S1x16.size a ≤ S256x128.size a)
theorem k0_t103_ok : ∀ (i : grid0.Coords) (k0_t68 : Fin k0_t68_loop.trips) (v92 : BitVec 32) (v95 : BitVec 32) (k0_hw50 : k0_chk50 i k0_t68 v92 v95), ∀ (k0_h55 : k0_cond55 k0_t68 = 1#1), ∀ (k0_h57 : k0_cond57 i k0_t68 v92 v95 = 1#1), (k0_t103_loop i k0_t68 v92 v95).OK := fun i k0_t68 v92 v95 k0_hw50 k0_h55 k0_h57 => k0_hw50.1 k0_h55 k0_h57
theorem k0_off811_inb : ∀ (i : grid0.Coords) (k0_t68 : Fin k0_t68_loop.trips) (v92 : BitVec 32) (v95 : BitVec 32) (k0_hw50 : k0_chk50 i k0_t68 v92 v95) (k0_t103 : Fin (k0_t103_loop i k0_t68 v92 v95).trips), ∀ (k0_h55 : k0_cond55 k0_t68 = 1#1), ∀ (k0_h57 : k0_cond57 i k0_t68 v92 v95 = 1#1), ∀ a, (k0_off811 i k0_t68 v92 v95 k0_t103) a + S1x16.size a ≤ S256x128.size a := fun i k0_t68 v92 v95 k0_hw50 k0_t103 k0_h55 k0_h57 => k0_hw50.2.1 k0_t103 k0_h55 k0_h57
theorem k0_off812_inb : ∀ (i : grid0.Coords) (k0_t68 : Fin k0_t68_loop.trips) (v92 : BitVec 32) (v95 : BitVec 32) (k0_hw50 : k0_chk50 i k0_t68 v92 v95) (k0_t103 : Fin (k0_t103_loop i k0_t68 v92 v95).trips), ∀ (k0_h55 : k0_cond55 k0_t68 = 1#1), ∀ (k0_h57 : k0_cond57 i k0_t68 v92 v95 = 1#1), ∀ a, (k0_off812 i k0_t68 v92 v95 k0_t103) a + S1x16.size a ≤ S256x128.size a := fun i k0_t68 v92 v95 k0_hw50 k0_t103 k0_h55 k0_h57 => k0_hw50.2.2.1 k0_t103 k0_h55 k0_h57
theorem k0_off813_inb : ∀ (i : grid0.Coords) (k0_t68 : Fin k0_t68_loop.trips) (v92 : BitVec 32) (v95 : BitVec 32) (k0_hw50 : k0_chk50 i k0_t68 v92 v95) (k0_t103 : Fin (k0_t103_loop i k0_t68 v92 v95).trips), ∀ (k0_h55 : k0_cond55 k0_t68 = 1#1), ∀ (k0_h57 : k0_cond57 i k0_t68 v92 v95 = 1#1), ∀ a, (k0_off813 i k0_t68 v92 v95 k0_t103) a + S1x16.size a ≤ S256x128.size a := fun i k0_t68 v92 v95 k0_hw50 k0_t103 k0_h55 k0_h57 => k0_hw50.2.2.2.1 k0_t103 k0_h55 k0_h57
theorem k0_off814_inb : ∀ (i : grid0.Coords) (k0_t68 : Fin k0_t68_loop.trips) (v92 : BitVec 32) (v95 : BitVec 32) (k0_hw50 : k0_chk50 i k0_t68 v92 v95) (k0_t103 : Fin (k0_t103_loop i k0_t68 v92 v95).trips), ∀ (k0_h55 : k0_cond55 k0_t68 = 1#1), ∀ (k0_h57 : k0_cond57 i k0_t68 v92 v95 = 1#1), ∀ a, (k0_off814 i k0_t68 v92 v95 k0_t103) a + S1x16.size a ≤ S256x128.size a := fun i k0_t68 v92 v95 k0_hw50 k0_t103 k0_h55 k0_h57 => k0_hw50.2.2.2.2.1 k0_t103 k0_h55 k0_h57
theorem k0_off815_inb : ∀ (i : grid0.Coords) (k0_t68 : Fin k0_t68_loop.trips) (v92 : BitVec 32) (v95 : BitVec 32) (k0_hw50 : k0_chk50 i k0_t68 v92 v95) (k0_t103 : Fin (k0_t103_loop i k0_t68 v92 v95).trips), ∀ (k0_h55 : k0_cond55 k0_t68 = 1#1), ∀ (k0_h57 : k0_cond57 i k0_t68 v92 v95 = 1#1), ∀ a, (k0_off815 i k0_t68 v92 v95 k0_t103) a + S1x16.size a ≤ S256x128.size a := fun i k0_t68 v92 v95 k0_hw50 k0_t103 k0_h55 k0_h57 => k0_hw50.2.2.2.2.2.1 k0_t103 k0_h55 k0_h57
theorem k0_off816_inb : ∀ (i : grid0.Coords) (k0_t68 : Fin k0_t68_loop.trips) (v92 : BitVec 32) (v95 : BitVec 32) (k0_hw50 : k0_chk50 i k0_t68 v92 v95) (k0_t103 : Fin (k0_t103_loop i k0_t68 v92 v95).trips), ∀ (k0_h55 : k0_cond55 k0_t68 = 1#1), ∀ (k0_h57 : k0_cond57 i k0_t68 v92 v95 = 1#1), ∀ a, (k0_off816 i k0_t68 v92 v95 k0_t103) a + S1x16.size a ≤ S256x128.size a := fun i k0_t68 v92 v95 k0_hw50 k0_t103 k0_h55 k0_h57 => k0_hw50.2.2.2.2.2.2.1 k0_t103 k0_h55 k0_h57
theorem k0_off817_inb : ∀ (i : grid0.Coords) (k0_t68 : Fin k0_t68_loop.trips) (v92 : BitVec 32) (v95 : BitVec 32) (k0_hw50 : k0_chk50 i k0_t68 v92 v95) (k0_t103 : Fin (k0_t103_loop i k0_t68 v92 v95).trips), ∀ (k0_h55 : k0_cond55 k0_t68 = 1#1), ∀ (k0_h57 : k0_cond57 i k0_t68 v92 v95 = 1#1), ∀ a, (k0_off817 i k0_t68 v92 v95 k0_t103) a + S1x16.size a ≤ S256x128.size a := fun i k0_t68 v92 v95 k0_hw50 k0_t103 k0_h55 k0_h57 => k0_hw50.2.2.2.2.2.2.2.1 k0_t103 k0_h55 k0_h57
theorem k0_off818_inb : ∀ (i : grid0.Coords) (k0_t68 : Fin k0_t68_loop.trips) (v92 : BitVec 32) (v95 : BitVec 32) (k0_hw50 : k0_chk50 i k0_t68 v92 v95) (k0_t103 : Fin (k0_t103_loop i k0_t68 v92 v95).trips), ∀ (k0_h55 : k0_cond55 k0_t68 = 1#1), ∀ (k0_h57 : k0_cond57 i k0_t68 v92 v95 = 1#1), ∀ a, (k0_off818 i k0_t68 v92 v95 k0_t103) a + S1x16.size a ≤ S256x128.size a := fun i k0_t68 v92 v95 k0_hw50 k0_t103 k0_h55 k0_h57 => k0_hw50.2.2.2.2.2.2.2.2.1 k0_t103 k0_h55 k0_h57
theorem k0_t104_ok : ∀ (i : grid0.Coords) (k0_t68 : Fin k0_t68_loop.trips) (v92 : BitVec 32) (v95 : BitVec 32) (k0_hw50 : k0_chk50 i k0_t68 v92 v95), ∀ (k0_h55 : k0_cond55 k0_t68 = 1#1), ∀ (k0_h57 : k0_cond57 i k0_t68 v92 v95 = 1#1), (k0_t104_loop i k0_t68 v92 v95).OK := fun i k0_t68 v92 v95 k0_hw50 k0_h55 k0_h57 => k0_hw50.2.2.2.2.2.2.2.2.2.1 k0_h55 k0_h57
theorem k0_off819_inb : ∀ (i : grid0.Coords) (k0_t68 : Fin k0_t68_loop.trips) (v92 : BitVec 32) (v95 : BitVec 32) (k0_hw50 : k0_chk50 i k0_t68 v92 v95) (k0_t104 : Fin (k0_t104_loop i k0_t68 v92 v95).trips), ∀ (k0_h55 : k0_cond55 k0_t68 = 1#1), ∀ (k0_h57 : k0_cond57 i k0_t68 v92 v95 = 1#1), ∀ a, (k0_off819 i k0_t68 v92 v95 k0_t104) a + S1x16.size a ≤ S256x128.size a := fun i k0_t68 v92 v95 k0_hw50 k0_t104 k0_h55 k0_h57 => k0_hw50.2.2.2.2.2.2.2.2.2.2.1 k0_t104 k0_h55 k0_h57
theorem k0_off820_inb : ∀ (i : grid0.Coords) (k0_t68 : Fin k0_t68_loop.trips) (v92 : BitVec 32) (v95 : BitVec 32) (k0_hw50 : k0_chk50 i k0_t68 v92 v95) (k0_t104 : Fin (k0_t104_loop i k0_t68 v92 v95).trips), ∀ (k0_h55 : k0_cond55 k0_t68 = 1#1), ∀ (k0_h57 : k0_cond57 i k0_t68 v92 v95 = 1#1), ∀ a, (k0_off820 i k0_t68 v92 v95 k0_t104) a + S1x16.size a ≤ S256x128.size a := fun i k0_t68 v92 v95 k0_hw50 k0_t104 k0_h55 k0_h57 => k0_hw50.2.2.2.2.2.2.2.2.2.2.2.1 k0_t104 k0_h55 k0_h57
theorem k0_off821_inb : ∀ (i : grid0.Coords) (k0_t68 : Fin k0_t68_loop.trips) (v92 : BitVec 32) (v95 : BitVec 32) (k0_hw50 : k0_chk50 i k0_t68 v92 v95) (k0_t104 : Fin (k0_t104_loop i k0_t68 v92 v95).trips), ∀ (k0_h55 : k0_cond55 k0_t68 = 1#1), ∀ (k0_h57 : k0_cond57 i k0_t68 v92 v95 = 1#1), ∀ a, (k0_off821 i k0_t68 v92 v95 k0_t104) a + S1x16.size a ≤ S256x128.size a := fun i k0_t68 v92 v95 k0_hw50 k0_t104 k0_h55 k0_h57 => k0_hw50.2.2.2.2.2.2.2.2.2.2.2.2.1 k0_t104 k0_h55 k0_h57
theorem k0_off822_inb : ∀ (i : grid0.Coords) (k0_t68 : Fin k0_t68_loop.trips) (v92 : BitVec 32) (v95 : BitVec 32) (k0_hw50 : k0_chk50 i k0_t68 v92 v95) (k0_t104 : Fin (k0_t104_loop i k0_t68 v92 v95).trips), ∀ (k0_h55 : k0_cond55 k0_t68 = 1#1), ∀ (k0_h57 : k0_cond57 i k0_t68 v92 v95 = 1#1), ∀ a, (k0_off822 i k0_t68 v92 v95 k0_t104) a + S1x16.size a ≤ S256x128.size a := fun i k0_t68 v92 v95 k0_hw50 k0_t104 k0_h55 k0_h57 => k0_hw50.2.2.2.2.2.2.2.2.2.2.2.2.2.1 k0_t104 k0_h55 k0_h57
theorem k0_off823_inb : ∀ (i : grid0.Coords) (k0_t68 : Fin k0_t68_loop.trips) (v92 : BitVec 32) (v95 : BitVec 32) (k0_hw50 : k0_chk50 i k0_t68 v92 v95) (k0_t104 : Fin (k0_t104_loop i k0_t68 v92 v95).trips), ∀ (k0_h55 : k0_cond55 k0_t68 = 1#1), ∀ (k0_h57 : k0_cond57 i k0_t68 v92 v95 = 1#1), ∀ a, (k0_off823 i k0_t68 v92 v95 k0_t104) a + S1x16.size a ≤ S256x128.size a := fun i k0_t68 v92 v95 k0_hw50 k0_t104 k0_h55 k0_h57 => k0_hw50.2.2.2.2.2.2.2.2.2.2.2.2.2.2.1 k0_t104 k0_h55 k0_h57
theorem k0_off824_inb : ∀ (i : grid0.Coords) (k0_t68 : Fin k0_t68_loop.trips) (v92 : BitVec 32) (v95 : BitVec 32) (k0_hw50 : k0_chk50 i k0_t68 v92 v95) (k0_t104 : Fin (k0_t104_loop i k0_t68 v92 v95).trips), ∀ (k0_h55 : k0_cond55 k0_t68 = 1#1), ∀ (k0_h57 : k0_cond57 i k0_t68 v92 v95 = 1#1), ∀ a, (k0_off824 i k0_t68 v92 v95 k0_t104) a + S1x16.size a ≤ S256x128.size a := fun i k0_t68 v92 v95 k0_hw50 k0_t104 k0_h55 k0_h57 => k0_hw50.2.2.2.2.2.2.2.2.2.2.2.2.2.2.2.1 k0_t104 k0_h55 k0_h57
theorem k0_off825_inb : ∀ (i : grid0.Coords) (k0_t68 : Fin k0_t68_loop.trips) (v92 : BitVec 32) (v95 : BitVec 32) (k0_hw50 : k0_chk50 i k0_t68 v92 v95) (k0_t104 : Fin (k0_t104_loop i k0_t68 v92 v95).trips), ∀ (k0_h55 : k0_cond55 k0_t68 = 1#1), ∀ (k0_h57 : k0_cond57 i k0_t68 v92 v95 = 1#1), ∀ a, (k0_off825 i k0_t68 v92 v95 k0_t104) a + S1x16.size a ≤ S256x128.size a := fun i k0_t68 v92 v95 k0_hw50 k0_t104 k0_h55 k0_h57 => k0_hw50.2.2.2.2.2.2.2.2.2.2.2.2.2.2.2.2.1 k0_t104 k0_h55 k0_h57
theorem k0_off826_inb : ∀ (i : grid0.Coords) (k0_t68 : Fin k0_t68_loop.trips) (v92 : BitVec 32) (v95 : BitVec 32) (k0_hw50 : k0_chk50 i k0_t68 v92 v95) (k0_t104 : Fin (k0_t104_loop i k0_t68 v92 v95).trips), ∀ (k0_h55 : k0_cond55 k0_t68 = 1#1), ∀ (k0_h57 : k0_cond57 i k0_t68 v92 v95 = 1#1), ∀ a, (k0_off826 i k0_t68 v92 v95 k0_t104) a + S1x16.size a ≤ S256x128.size a := fun i k0_t68 v92 v95 k0_hw50 k0_t104 k0_h55 k0_h57 => k0_hw50.2.2.2.2.2.2.2.2.2.2.2.2.2.2.2.2.2 k0_t104 k0_h55 k0_h57

@[reducible] def k0_t105_loop (i : grid0.Coords) (k0_t68 : Fin k0_t68_loop.trips) (v101 : BitVec 32) (v104 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v102 : BitVec 32 := Scalar.maxsi v101 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_85 : BitVec 32 := 1#32
  ⟨v102, v234, c1_i32_85⟩
def k0_cond58 (i : grid0.Coords) (k0_t68 : Fin k0_t68_loop.trips) (v101 : BitVec 32) (v104 : BitVec 32) : BitVec 1 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v105 : BitVec 32 := Scalar.minsi v104 v77
  let v102 : BitVec 32 := Scalar.maxsi v101 v75
  let v106 : BitVec 1 := Scalar.cmpi .sgt v105 v102
  let v107 : BitVec 32 := Scalar.extui v106
  let c0_i32_67 : BitVec 32 := 0#32
  let v108 : BitVec 1 := Scalar.cmpi .ne v107 c0_i32_67
  v108

def k0_off827 (i : grid0.Coords) (k0_t68 : Fin k0_t68_loop.trips) (v101 : BitVec 32) (v104 : BitVec 32) (k0_t105 : Fin (k0_t105_loop i k0_t68 v101 v104).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v102 : BitVec 32 := Scalar.maxsi v101 v75
  let c1_i32_85 : BitVec 32 := 1#32
  let arg19 : BitVec 32 := Scf.iv v102 c1_i32_85 k0_t105
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_113 : Index := 0#32
  ![v302.toNat, 0]
def k0_off828 (i : grid0.Coords) (k0_t68 : Fin k0_t68_loop.trips) (v101 : BitVec 32) (v104 : BitVec 32) (k0_t105 : Fin (k0_t105_loop i k0_t68 v101 v104).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v102 : BitVec 32 := Scalar.maxsi v101 v75
  let c1_i32_85 : BitVec 32 := 1#32
  let arg19 : BitVec 32 := Scf.iv v102 c1_i32_85 k0_t105
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_114 : Index := 16#32
  ![v306.toNat, 16]
def k0_off829 (i : grid0.Coords) (k0_t68 : Fin k0_t68_loop.trips) (v101 : BitVec 32) (v104 : BitVec 32) (k0_t105 : Fin (k0_t105_loop i k0_t68 v101 v104).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v102 : BitVec 32 := Scalar.maxsi v101 v75
  let c1_i32_85 : BitVec 32 := 1#32
  let arg19 : BitVec 32 := Scf.iv v102 c1_i32_85 k0_t105
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_115 : Index := 32#32
  ![v310.toNat, 32]
def k0_off830 (i : grid0.Coords) (k0_t68 : Fin k0_t68_loop.trips) (v101 : BitVec 32) (v104 : BitVec 32) (k0_t105 : Fin (k0_t105_loop i k0_t68 v101 v104).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v102 : BitVec 32 := Scalar.maxsi v101 v75
  let c1_i32_85 : BitVec 32 := 1#32
  let arg19 : BitVec 32 := Scf.iv v102 c1_i32_85 k0_t105
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_116 : Index := 48#32
  ![v314.toNat, 48]
def k0_off831 (i : grid0.Coords) (k0_t68 : Fin k0_t68_loop.trips) (v101 : BitVec 32) (v104 : BitVec 32) (k0_t105 : Fin (k0_t105_loop i k0_t68 v101 v104).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v102 : BitVec 32 := Scalar.maxsi v101 v75
  let c1_i32_85 : BitVec 32 := 1#32
  let arg19 : BitVec 32 := Scf.iv v102 c1_i32_85 k0_t105
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_117 : Index := 64#32
  ![v318.toNat, 64]
def k0_off832 (i : grid0.Coords) (k0_t68 : Fin k0_t68_loop.trips) (v101 : BitVec 32) (v104 : BitVec 32) (k0_t105 : Fin (k0_t105_loop i k0_t68 v101 v104).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v102 : BitVec 32 := Scalar.maxsi v101 v75
  let c1_i32_85 : BitVec 32 := 1#32
  let arg19 : BitVec 32 := Scf.iv v102 c1_i32_85 k0_t105
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_118 : Index := 80#32
  ![v322.toNat, 80]
def k0_off833 (i : grid0.Coords) (k0_t68 : Fin k0_t68_loop.trips) (v101 : BitVec 32) (v104 : BitVec 32) (k0_t105 : Fin (k0_t105_loop i k0_t68 v101 v104).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v102 : BitVec 32 := Scalar.maxsi v101 v75
  let c1_i32_85 : BitVec 32 := 1#32
  let arg19 : BitVec 32 := Scf.iv v102 c1_i32_85 k0_t105
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_119 : Index := 96#32
  ![v326.toNat, 96]
def k0_off834 (i : grid0.Coords) (k0_t68 : Fin k0_t68_loop.trips) (v101 : BitVec 32) (v104 : BitVec 32) (k0_t105 : Fin (k0_t105_loop i k0_t68 v101 v104).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v102 : BitVec 32 := Scalar.maxsi v101 v75
  let c1_i32_85 : BitVec 32 := 1#32
  let arg19 : BitVec 32 := Scf.iv v102 c1_i32_85 k0_t105
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_120 : Index := 112#32
  ![v330.toNat, 112]
@[reducible] def k0_t106_loop (i : grid0.Coords) (k0_t68 : Fin k0_t68_loop.trips) (v101 : BitVec 32) (v104 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v102 : BitVec 32 := Scalar.maxsi v101 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let v231 : BitVec 32 := Scalar.addi v102 v230
  let c1_i32_86 : BitVec 32 := 1#32
  ⟨v234, v231, c1_i32_86⟩
def k0_off835 (i : grid0.Coords) (k0_t68 : Fin k0_t68_loop.trips) (v101 : BitVec 32) (v104 : BitVec 32) (k0_t106 : Fin (k0_t106_loop i k0_t68 v101 v104).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v102 : BitVec 32 := Scalar.maxsi v101 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_86 : BitVec 32 := 1#32
  let arg19 : BitVec 32 := Scf.iv v234 c1_i32_86 k0_t106
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_113 : Index := 0#32
  ![v302.toNat, 0]
def k0_off836 (i : grid0.Coords) (k0_t68 : Fin k0_t68_loop.trips) (v101 : BitVec 32) (v104 : BitVec 32) (k0_t106 : Fin (k0_t106_loop i k0_t68 v101 v104).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v102 : BitVec 32 := Scalar.maxsi v101 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_86 : BitVec 32 := 1#32
  let arg19 : BitVec 32 := Scf.iv v234 c1_i32_86 k0_t106
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_114 : Index := 16#32
  ![v306.toNat, 16]
def k0_off837 (i : grid0.Coords) (k0_t68 : Fin k0_t68_loop.trips) (v101 : BitVec 32) (v104 : BitVec 32) (k0_t106 : Fin (k0_t106_loop i k0_t68 v101 v104).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v102 : BitVec 32 := Scalar.maxsi v101 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_86 : BitVec 32 := 1#32
  let arg19 : BitVec 32 := Scf.iv v234 c1_i32_86 k0_t106
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_115 : Index := 32#32
  ![v310.toNat, 32]
def k0_off838 (i : grid0.Coords) (k0_t68 : Fin k0_t68_loop.trips) (v101 : BitVec 32) (v104 : BitVec 32) (k0_t106 : Fin (k0_t106_loop i k0_t68 v101 v104).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v102 : BitVec 32 := Scalar.maxsi v101 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_86 : BitVec 32 := 1#32
  let arg19 : BitVec 32 := Scf.iv v234 c1_i32_86 k0_t106
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_116 : Index := 48#32
  ![v314.toNat, 48]
def k0_off839 (i : grid0.Coords) (k0_t68 : Fin k0_t68_loop.trips) (v101 : BitVec 32) (v104 : BitVec 32) (k0_t106 : Fin (k0_t106_loop i k0_t68 v101 v104).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v102 : BitVec 32 := Scalar.maxsi v101 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_86 : BitVec 32 := 1#32
  let arg19 : BitVec 32 := Scf.iv v234 c1_i32_86 k0_t106
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_117 : Index := 64#32
  ![v318.toNat, 64]
def k0_off840 (i : grid0.Coords) (k0_t68 : Fin k0_t68_loop.trips) (v101 : BitVec 32) (v104 : BitVec 32) (k0_t106 : Fin (k0_t106_loop i k0_t68 v101 v104).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v102 : BitVec 32 := Scalar.maxsi v101 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_86 : BitVec 32 := 1#32
  let arg19 : BitVec 32 := Scf.iv v234 c1_i32_86 k0_t106
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_118 : Index := 80#32
  ![v322.toNat, 80]
def k0_off841 (i : grid0.Coords) (k0_t68 : Fin k0_t68_loop.trips) (v101 : BitVec 32) (v104 : BitVec 32) (k0_t106 : Fin (k0_t106_loop i k0_t68 v101 v104).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v102 : BitVec 32 := Scalar.maxsi v101 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_86 : BitVec 32 := 1#32
  let arg19 : BitVec 32 := Scf.iv v234 c1_i32_86 k0_t106
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_119 : Index := 96#32
  ![v326.toNat, 96]
def k0_off842 (i : grid0.Coords) (k0_t68 : Fin k0_t68_loop.trips) (v101 : BitVec 32) (v104 : BitVec 32) (k0_t106 : Fin (k0_t106_loop i k0_t68 v101 v104).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v102 : BitVec 32 := Scalar.maxsi v101 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v105 : BitVec 32 := Scalar.minsi v104 v77
  let v230 : BitVec 32 := Scalar.subi v105 v102
  let c1_i32_84 : BitVec 32 := 1#32
  let v232 : BitVec 32 := Scalar.divsi v230 c1_i32_84
  let v233 : BitVec 32 := Scalar.muli v232 c1_i32_84
  let v234 : BitVec 32 := Scalar.addi v102 v233
  let c1_i32_86 : BitVec 32 := 1#32
  let arg19 : BitVec 32 := Scf.iv v234 c1_i32_86 k0_t106
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_120 : Index := 112#32
  ![v330.toNat, 112]

def k0_chk51 (i : grid0.Coords) (k0_t68 : Fin k0_t68_loop.trips) (v101 : BitVec 32) (v104 : BitVec 32) : Prop :=
  (∀ (k0_h55 : k0_cond55 k0_t68 = 1#1), ∀ (k0_h58 : k0_cond58 i k0_t68 v101 v104 = 1#1), (k0_t105_loop i k0_t68 v101 v104).OK) ∧
  (∀ k0_t105 : Fin (k0_t105_loop i k0_t68 v101 v104).trips, ∀ (k0_h55 : k0_cond55 k0_t68 = 1#1), ∀ (k0_h58 : k0_cond58 i k0_t68 v101 v104 = 1#1), ∀ a, (k0_off827 i k0_t68 v101 v104 k0_t105) a + S1x16.size a ≤ S256x128.size a) ∧
  (∀ k0_t105 : Fin (k0_t105_loop i k0_t68 v101 v104).trips, ∀ (k0_h55 : k0_cond55 k0_t68 = 1#1), ∀ (k0_h58 : k0_cond58 i k0_t68 v101 v104 = 1#1), ∀ a, (k0_off828 i k0_t68 v101 v104 k0_t105) a + S1x16.size a ≤ S256x128.size a) ∧
  (∀ k0_t105 : Fin (k0_t105_loop i k0_t68 v101 v104).trips, ∀ (k0_h55 : k0_cond55 k0_t68 = 1#1), ∀ (k0_h58 : k0_cond58 i k0_t68 v101 v104 = 1#1), ∀ a, (k0_off829 i k0_t68 v101 v104 k0_t105) a + S1x16.size a ≤ S256x128.size a) ∧
  (∀ k0_t105 : Fin (k0_t105_loop i k0_t68 v101 v104).trips, ∀ (k0_h55 : k0_cond55 k0_t68 = 1#1), ∀ (k0_h58 : k0_cond58 i k0_t68 v101 v104 = 1#1), ∀ a, (k0_off830 i k0_t68 v101 v104 k0_t105) a + S1x16.size a ≤ S256x128.size a) ∧
  (∀ k0_t105 : Fin (k0_t105_loop i k0_t68 v101 v104).trips, ∀ (k0_h55 : k0_cond55 k0_t68 = 1#1), ∀ (k0_h58 : k0_cond58 i k0_t68 v101 v104 = 1#1), ∀ a, (k0_off831 i k0_t68 v101 v104 k0_t105) a + S1x16.size a ≤ S256x128.size a) ∧
  (∀ k0_t105 : Fin (k0_t105_loop i k0_t68 v101 v104).trips, ∀ (k0_h55 : k0_cond55 k0_t68 = 1#1), ∀ (k0_h58 : k0_cond58 i k0_t68 v101 v104 = 1#1), ∀ a, (k0_off832 i k0_t68 v101 v104 k0_t105) a + S1x16.size a ≤ S256x128.size a) ∧
  (∀ k0_t105 : Fin (k0_t105_loop i k0_t68 v101 v104).trips, ∀ (k0_h55 : k0_cond55 k0_t68 = 1#1), ∀ (k0_h58 : k0_cond58 i k0_t68 v101 v104 = 1#1), ∀ a, (k0_off833 i k0_t68 v101 v104 k0_t105) a + S1x16.size a ≤ S256x128.size a) ∧
  (∀ k0_t105 : Fin (k0_t105_loop i k0_t68 v101 v104).trips, ∀ (k0_h55 : k0_cond55 k0_t68 = 1#1), ∀ (k0_h58 : k0_cond58 i k0_t68 v101 v104 = 1#1), ∀ a, (k0_off834 i k0_t68 v101 v104 k0_t105) a + S1x16.size a ≤ S256x128.size a) ∧
  (∀ (k0_h55 : k0_cond55 k0_t68 = 1#1), ∀ (k0_h58 : k0_cond58 i k0_t68 v101 v104 = 1#1), (k0_t106_loop i k0_t68 v101 v104).OK) ∧
  (∀ k0_t106 : Fin (k0_t106_loop i k0_t68 v101 v104).trips, ∀ (k0_h55 : k0_cond55 k0_t68 = 1#1), ∀ (k0_h58 : k0_cond58 i k0_t68 v101 v104 = 1#1), ∀ a, (k0_off835 i k0_t68 v101 v104 k0_t106) a + S1x16.size a ≤ S256x128.size a) ∧
  (∀ k0_t106 : Fin (k0_t106_loop i k0_t68 v101 v104).trips, ∀ (k0_h55 : k0_cond55 k0_t68 = 1#1), ∀ (k0_h58 : k0_cond58 i k0_t68 v101 v104 = 1#1), ∀ a, (k0_off836 i k0_t68 v101 v104 k0_t106) a + S1x16.size a ≤ S256x128.size a) ∧
  (∀ k0_t106 : Fin (k0_t106_loop i k0_t68 v101 v104).trips, ∀ (k0_h55 : k0_cond55 k0_t68 = 1#1), ∀ (k0_h58 : k0_cond58 i k0_t68 v101 v104 = 1#1), ∀ a, (k0_off837 i k0_t68 v101 v104 k0_t106) a + S1x16.size a ≤ S256x128.size a) ∧
  (∀ k0_t106 : Fin (k0_t106_loop i k0_t68 v101 v104).trips, ∀ (k0_h55 : k0_cond55 k0_t68 = 1#1), ∀ (k0_h58 : k0_cond58 i k0_t68 v101 v104 = 1#1), ∀ a, (k0_off838 i k0_t68 v101 v104 k0_t106) a + S1x16.size a ≤ S256x128.size a) ∧
  (∀ k0_t106 : Fin (k0_t106_loop i k0_t68 v101 v104).trips, ∀ (k0_h55 : k0_cond55 k0_t68 = 1#1), ∀ (k0_h58 : k0_cond58 i k0_t68 v101 v104 = 1#1), ∀ a, (k0_off839 i k0_t68 v101 v104 k0_t106) a + S1x16.size a ≤ S256x128.size a) ∧
  (∀ k0_t106 : Fin (k0_t106_loop i k0_t68 v101 v104).trips, ∀ (k0_h55 : k0_cond55 k0_t68 = 1#1), ∀ (k0_h58 : k0_cond58 i k0_t68 v101 v104 = 1#1), ∀ a, (k0_off840 i k0_t68 v101 v104 k0_t106) a + S1x16.size a ≤ S256x128.size a) ∧
  (∀ k0_t106 : Fin (k0_t106_loop i k0_t68 v101 v104).trips, ∀ (k0_h55 : k0_cond55 k0_t68 = 1#1), ∀ (k0_h58 : k0_cond58 i k0_t68 v101 v104 = 1#1), ∀ a, (k0_off841 i k0_t68 v101 v104 k0_t106) a + S1x16.size a ≤ S256x128.size a) ∧
  (∀ k0_t106 : Fin (k0_t106_loop i k0_t68 v101 v104).trips, ∀ (k0_h55 : k0_cond55 k0_t68 = 1#1), ∀ (k0_h58 : k0_cond58 i k0_t68 v101 v104 = 1#1), ∀ a, (k0_off842 i k0_t68 v101 v104 k0_t106) a + S1x16.size a ≤ S256x128.size a)
theorem k0_t105_ok : ∀ (i : grid0.Coords) (k0_t68 : Fin k0_t68_loop.trips) (v101 : BitVec 32) (v104 : BitVec 32) (k0_hw51 : k0_chk51 i k0_t68 v101 v104), ∀ (k0_h55 : k0_cond55 k0_t68 = 1#1), ∀ (k0_h58 : k0_cond58 i k0_t68 v101 v104 = 1#1), (k0_t105_loop i k0_t68 v101 v104).OK := fun i k0_t68 v101 v104 k0_hw51 k0_h55 k0_h58 => k0_hw51.1 k0_h55 k0_h58
theorem k0_off827_inb : ∀ (i : grid0.Coords) (k0_t68 : Fin k0_t68_loop.trips) (v101 : BitVec 32) (v104 : BitVec 32) (k0_hw51 : k0_chk51 i k0_t68 v101 v104) (k0_t105 : Fin (k0_t105_loop i k0_t68 v101 v104).trips), ∀ (k0_h55 : k0_cond55 k0_t68 = 1#1), ∀ (k0_h58 : k0_cond58 i k0_t68 v101 v104 = 1#1), ∀ a, (k0_off827 i k0_t68 v101 v104 k0_t105) a + S1x16.size a ≤ S256x128.size a := fun i k0_t68 v101 v104 k0_hw51 k0_t105 k0_h55 k0_h58 => k0_hw51.2.1 k0_t105 k0_h55 k0_h58
theorem k0_off828_inb : ∀ (i : grid0.Coords) (k0_t68 : Fin k0_t68_loop.trips) (v101 : BitVec 32) (v104 : BitVec 32) (k0_hw51 : k0_chk51 i k0_t68 v101 v104) (k0_t105 : Fin (k0_t105_loop i k0_t68 v101 v104).trips), ∀ (k0_h55 : k0_cond55 k0_t68 = 1#1), ∀ (k0_h58 : k0_cond58 i k0_t68 v101 v104 = 1#1), ∀ a, (k0_off828 i k0_t68 v101 v104 k0_t105) a + S1x16.size a ≤ S256x128.size a := fun i k0_t68 v101 v104 k0_hw51 k0_t105 k0_h55 k0_h58 => k0_hw51.2.2.1 k0_t105 k0_h55 k0_h58
theorem k0_off829_inb : ∀ (i : grid0.Coords) (k0_t68 : Fin k0_t68_loop.trips) (v101 : BitVec 32) (v104 : BitVec 32) (k0_hw51 : k0_chk51 i k0_t68 v101 v104) (k0_t105 : Fin (k0_t105_loop i k0_t68 v101 v104).trips), ∀ (k0_h55 : k0_cond55 k0_t68 = 1#1), ∀ (k0_h58 : k0_cond58 i k0_t68 v101 v104 = 1#1), ∀ a, (k0_off829 i k0_t68 v101 v104 k0_t105) a + S1x16.size a ≤ S256x128.size a := fun i k0_t68 v101 v104 k0_hw51 k0_t105 k0_h55 k0_h58 => k0_hw51.2.2.2.1 k0_t105 k0_h55 k0_h58
theorem k0_off830_inb : ∀ (i : grid0.Coords) (k0_t68 : Fin k0_t68_loop.trips) (v101 : BitVec 32) (v104 : BitVec 32) (k0_hw51 : k0_chk51 i k0_t68 v101 v104) (k0_t105 : Fin (k0_t105_loop i k0_t68 v101 v104).trips), ∀ (k0_h55 : k0_cond55 k0_t68 = 1#1), ∀ (k0_h58 : k0_cond58 i k0_t68 v101 v104 = 1#1), ∀ a, (k0_off830 i k0_t68 v101 v104 k0_t105) a + S1x16.size a ≤ S256x128.size a := fun i k0_t68 v101 v104 k0_hw51 k0_t105 k0_h55 k0_h58 => k0_hw51.2.2.2.2.1 k0_t105 k0_h55 k0_h58
theorem k0_off831_inb : ∀ (i : grid0.Coords) (k0_t68 : Fin k0_t68_loop.trips) (v101 : BitVec 32) (v104 : BitVec 32) (k0_hw51 : k0_chk51 i k0_t68 v101 v104) (k0_t105 : Fin (k0_t105_loop i k0_t68 v101 v104).trips), ∀ (k0_h55 : k0_cond55 k0_t68 = 1#1), ∀ (k0_h58 : k0_cond58 i k0_t68 v101 v104 = 1#1), ∀ a, (k0_off831 i k0_t68 v101 v104 k0_t105) a + S1x16.size a ≤ S256x128.size a := fun i k0_t68 v101 v104 k0_hw51 k0_t105 k0_h55 k0_h58 => k0_hw51.2.2.2.2.2.1 k0_t105 k0_h55 k0_h58
theorem k0_off832_inb : ∀ (i : grid0.Coords) (k0_t68 : Fin k0_t68_loop.trips) (v101 : BitVec 32) (v104 : BitVec 32) (k0_hw51 : k0_chk51 i k0_t68 v101 v104) (k0_t105 : Fin (k0_t105_loop i k0_t68 v101 v104).trips), ∀ (k0_h55 : k0_cond55 k0_t68 = 1#1), ∀ (k0_h58 : k0_cond58 i k0_t68 v101 v104 = 1#1), ∀ a, (k0_off832 i k0_t68 v101 v104 k0_t105) a + S1x16.size a ≤ S256x128.size a := fun i k0_t68 v101 v104 k0_hw51 k0_t105 k0_h55 k0_h58 => k0_hw51.2.2.2.2.2.2.1 k0_t105 k0_h55 k0_h58
theorem k0_off833_inb : ∀ (i : grid0.Coords) (k0_t68 : Fin k0_t68_loop.trips) (v101 : BitVec 32) (v104 : BitVec 32) (k0_hw51 : k0_chk51 i k0_t68 v101 v104) (k0_t105 : Fin (k0_t105_loop i k0_t68 v101 v104).trips), ∀ (k0_h55 : k0_cond55 k0_t68 = 1#1), ∀ (k0_h58 : k0_cond58 i k0_t68 v101 v104 = 1#1), ∀ a, (k0_off833 i k0_t68 v101 v104 k0_t105) a + S1x16.size a ≤ S256x128.size a := fun i k0_t68 v101 v104 k0_hw51 k0_t105 k0_h55 k0_h58 => k0_hw51.2.2.2.2.2.2.2.1 k0_t105 k0_h55 k0_h58
theorem k0_off834_inb : ∀ (i : grid0.Coords) (k0_t68 : Fin k0_t68_loop.trips) (v101 : BitVec 32) (v104 : BitVec 32) (k0_hw51 : k0_chk51 i k0_t68 v101 v104) (k0_t105 : Fin (k0_t105_loop i k0_t68 v101 v104).trips), ∀ (k0_h55 : k0_cond55 k0_t68 = 1#1), ∀ (k0_h58 : k0_cond58 i k0_t68 v101 v104 = 1#1), ∀ a, (k0_off834 i k0_t68 v101 v104 k0_t105) a + S1x16.size a ≤ S256x128.size a := fun i k0_t68 v101 v104 k0_hw51 k0_t105 k0_h55 k0_h58 => k0_hw51.2.2.2.2.2.2.2.2.1 k0_t105 k0_h55 k0_h58
theorem k0_t106_ok : ∀ (i : grid0.Coords) (k0_t68 : Fin k0_t68_loop.trips) (v101 : BitVec 32) (v104 : BitVec 32) (k0_hw51 : k0_chk51 i k0_t68 v101 v104), ∀ (k0_h55 : k0_cond55 k0_t68 = 1#1), ∀ (k0_h58 : k0_cond58 i k0_t68 v101 v104 = 1#1), (k0_t106_loop i k0_t68 v101 v104).OK := fun i k0_t68 v101 v104 k0_hw51 k0_h55 k0_h58 => k0_hw51.2.2.2.2.2.2.2.2.2.1 k0_h55 k0_h58
theorem k0_off835_inb : ∀ (i : grid0.Coords) (k0_t68 : Fin k0_t68_loop.trips) (v101 : BitVec 32) (v104 : BitVec 32) (k0_hw51 : k0_chk51 i k0_t68 v101 v104) (k0_t106 : Fin (k0_t106_loop i k0_t68 v101 v104).trips), ∀ (k0_h55 : k0_cond55 k0_t68 = 1#1), ∀ (k0_h58 : k0_cond58 i k0_t68 v101 v104 = 1#1), ∀ a, (k0_off835 i k0_t68 v101 v104 k0_t106) a + S1x16.size a ≤ S256x128.size a := fun i k0_t68 v101 v104 k0_hw51 k0_t106 k0_h55 k0_h58 => k0_hw51.2.2.2.2.2.2.2.2.2.2.1 k0_t106 k0_h55 k0_h58
theorem k0_off836_inb : ∀ (i : grid0.Coords) (k0_t68 : Fin k0_t68_loop.trips) (v101 : BitVec 32) (v104 : BitVec 32) (k0_hw51 : k0_chk51 i k0_t68 v101 v104) (k0_t106 : Fin (k0_t106_loop i k0_t68 v101 v104).trips), ∀ (k0_h55 : k0_cond55 k0_t68 = 1#1), ∀ (k0_h58 : k0_cond58 i k0_t68 v101 v104 = 1#1), ∀ a, (k0_off836 i k0_t68 v101 v104 k0_t106) a + S1x16.size a ≤ S256x128.size a := fun i k0_t68 v101 v104 k0_hw51 k0_t106 k0_h55 k0_h58 => k0_hw51.2.2.2.2.2.2.2.2.2.2.2.1 k0_t106 k0_h55 k0_h58
theorem k0_off837_inb : ∀ (i : grid0.Coords) (k0_t68 : Fin k0_t68_loop.trips) (v101 : BitVec 32) (v104 : BitVec 32) (k0_hw51 : k0_chk51 i k0_t68 v101 v104) (k0_t106 : Fin (k0_t106_loop i k0_t68 v101 v104).trips), ∀ (k0_h55 : k0_cond55 k0_t68 = 1#1), ∀ (k0_h58 : k0_cond58 i k0_t68 v101 v104 = 1#1), ∀ a, (k0_off837 i k0_t68 v101 v104 k0_t106) a + S1x16.size a ≤ S256x128.size a := fun i k0_t68 v101 v104 k0_hw51 k0_t106 k0_h55 k0_h58 => k0_hw51.2.2.2.2.2.2.2.2.2.2.2.2.1 k0_t106 k0_h55 k0_h58
theorem k0_off838_inb : ∀ (i : grid0.Coords) (k0_t68 : Fin k0_t68_loop.trips) (v101 : BitVec 32) (v104 : BitVec 32) (k0_hw51 : k0_chk51 i k0_t68 v101 v104) (k0_t106 : Fin (k0_t106_loop i k0_t68 v101 v104).trips), ∀ (k0_h55 : k0_cond55 k0_t68 = 1#1), ∀ (k0_h58 : k0_cond58 i k0_t68 v101 v104 = 1#1), ∀ a, (k0_off838 i k0_t68 v101 v104 k0_t106) a + S1x16.size a ≤ S256x128.size a := fun i k0_t68 v101 v104 k0_hw51 k0_t106 k0_h55 k0_h58 => k0_hw51.2.2.2.2.2.2.2.2.2.2.2.2.2.1 k0_t106 k0_h55 k0_h58
theorem k0_off839_inb : ∀ (i : grid0.Coords) (k0_t68 : Fin k0_t68_loop.trips) (v101 : BitVec 32) (v104 : BitVec 32) (k0_hw51 : k0_chk51 i k0_t68 v101 v104) (k0_t106 : Fin (k0_t106_loop i k0_t68 v101 v104).trips), ∀ (k0_h55 : k0_cond55 k0_t68 = 1#1), ∀ (k0_h58 : k0_cond58 i k0_t68 v101 v104 = 1#1), ∀ a, (k0_off839 i k0_t68 v101 v104 k0_t106) a + S1x16.size a ≤ S256x128.size a := fun i k0_t68 v101 v104 k0_hw51 k0_t106 k0_h55 k0_h58 => k0_hw51.2.2.2.2.2.2.2.2.2.2.2.2.2.2.1 k0_t106 k0_h55 k0_h58
theorem k0_off840_inb : ∀ (i : grid0.Coords) (k0_t68 : Fin k0_t68_loop.trips) (v101 : BitVec 32) (v104 : BitVec 32) (k0_hw51 : k0_chk51 i k0_t68 v101 v104) (k0_t106 : Fin (k0_t106_loop i k0_t68 v101 v104).trips), ∀ (k0_h55 : k0_cond55 k0_t68 = 1#1), ∀ (k0_h58 : k0_cond58 i k0_t68 v101 v104 = 1#1), ∀ a, (k0_off840 i k0_t68 v101 v104 k0_t106) a + S1x16.size a ≤ S256x128.size a := fun i k0_t68 v101 v104 k0_hw51 k0_t106 k0_h55 k0_h58 => k0_hw51.2.2.2.2.2.2.2.2.2.2.2.2.2.2.2.1 k0_t106 k0_h55 k0_h58
theorem k0_off841_inb : ∀ (i : grid0.Coords) (k0_t68 : Fin k0_t68_loop.trips) (v101 : BitVec 32) (v104 : BitVec 32) (k0_hw51 : k0_chk51 i k0_t68 v101 v104) (k0_t106 : Fin (k0_t106_loop i k0_t68 v101 v104).trips), ∀ (k0_h55 : k0_cond55 k0_t68 = 1#1), ∀ (k0_h58 : k0_cond58 i k0_t68 v101 v104 = 1#1), ∀ a, (k0_off841 i k0_t68 v101 v104 k0_t106) a + S1x16.size a ≤ S256x128.size a := fun i k0_t68 v101 v104 k0_hw51 k0_t106 k0_h55 k0_h58 => k0_hw51.2.2.2.2.2.2.2.2.2.2.2.2.2.2.2.2.1 k0_t106 k0_h55 k0_h58
theorem k0_off842_inb : ∀ (i : grid0.Coords) (k0_t68 : Fin k0_t68_loop.trips) (v101 : BitVec 32) (v104 : BitVec 32) (k0_hw51 : k0_chk51 i k0_t68 v101 v104) (k0_t106 : Fin (k0_t106_loop i k0_t68 v101 v104).trips), ∀ (k0_h55 : k0_cond55 k0_t68 = 1#1), ∀ (k0_h58 : k0_cond58 i k0_t68 v101 v104 = 1#1), ∀ a, (k0_off842 i k0_t68 v101 v104 k0_t106) a + S1x16.size a ≤ S256x128.size a := fun i k0_t68 v101 v104 k0_hw51 k0_t106 k0_h55 k0_h58 => k0_hw51.2.2.2.2.2.2.2.2.2.2.2.2.2.2.2.2.2 k0_t106 k0_h55 k0_h58

@[reducible] def k0_t107_loop (i : grid0.Coords) (k0_t68 : Fin k0_t68_loop.trips) (v110 : BitVec 32) (v113 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v111 : BitVec 32 := Scalar.maxsi v110 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_85 : BitVec 32 := 1#32
  ⟨v111, v234, c1_i32_85⟩
def k0_cond59 (i : grid0.Coords) (k0_t68 : Fin k0_t68_loop.trips) (v110 : BitVec 32) (v113 : BitVec 32) : BitVec 1 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v114 : BitVec 32 := Scalar.minsi v113 v77
  let v111 : BitVec 32 := Scalar.maxsi v110 v75
  let v115 : BitVec 1 := Scalar.cmpi .sgt v114 v111
  let v116 : BitVec 32 := Scalar.extui v115
  let c0_i32_68 : BitVec 32 := 0#32
  let v117 : BitVec 1 := Scalar.cmpi .ne v116 c0_i32_68
  v117

def k0_off843 (i : grid0.Coords) (k0_t68 : Fin k0_t68_loop.trips) (v110 : BitVec 32) (v113 : BitVec 32) (k0_t107 : Fin (k0_t107_loop i k0_t68 v110 v113).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v111 : BitVec 32 := Scalar.maxsi v110 v75
  let c1_i32_85 : BitVec 32 := 1#32
  let arg19 : BitVec 32 := Scf.iv v111 c1_i32_85 k0_t107
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off844 (i : grid0.Coords) (k0_t68 : Fin k0_t68_loop.trips) (v110 : BitVec 32) (v113 : BitVec 32) (k0_t107 : Fin (k0_t107_loop i k0_t68 v110 v113).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v111 : BitVec 32 := Scalar.maxsi v110 v75
  let c1_i32_85 : BitVec 32 := 1#32
  let arg19 : BitVec 32 := Scf.iv v111 c1_i32_85 k0_t107
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off845 (i : grid0.Coords) (k0_t68 : Fin k0_t68_loop.trips) (v110 : BitVec 32) (v113 : BitVec 32) (k0_t107 : Fin (k0_t107_loop i k0_t68 v110 v113).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v111 : BitVec 32 := Scalar.maxsi v110 v75
  let c1_i32_85 : BitVec 32 := 1#32
  let arg19 : BitVec 32 := Scf.iv v111 c1_i32_85 k0_t107
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off846 (i : grid0.Coords) (k0_t68 : Fin k0_t68_loop.trips) (v110 : BitVec 32) (v113 : BitVec 32) (k0_t107 : Fin (k0_t107_loop i k0_t68 v110 v113).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v111 : BitVec 32 := Scalar.maxsi v110 v75
  let c1_i32_85 : BitVec 32 := 1#32
  let arg19 : BitVec 32 := Scf.iv v111 c1_i32_85 k0_t107
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off847 (i : grid0.Coords) (k0_t68 : Fin k0_t68_loop.trips) (v110 : BitVec 32) (v113 : BitVec 32) (k0_t107 : Fin (k0_t107_loop i k0_t68 v110 v113).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v111 : BitVec 32 := Scalar.maxsi v110 v75
  let c1_i32_85 : BitVec 32 := 1#32
  let arg19 : BitVec 32 := Scf.iv v111 c1_i32_85 k0_t107
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off848 (i : grid0.Coords) (k0_t68 : Fin k0_t68_loop.trips) (v110 : BitVec 32) (v113 : BitVec 32) (k0_t107 : Fin (k0_t107_loop i k0_t68 v110 v113).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v111 : BitVec 32 := Scalar.maxsi v110 v75
  let c1_i32_85 : BitVec 32 := 1#32
  let arg19 : BitVec 32 := Scf.iv v111 c1_i32_85 k0_t107
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off849 (i : grid0.Coords) (k0_t68 : Fin k0_t68_loop.trips) (v110 : BitVec 32) (v113 : BitVec 32) (k0_t107 : Fin (k0_t107_loop i k0_t68 v110 v113).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v111 : BitVec 32 := Scalar.maxsi v110 v75
  let c1_i32_85 : BitVec 32 := 1#32
  let arg19 : BitVec 32 := Scf.iv v111 c1_i32_85 k0_t107
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off850 (i : grid0.Coords) (k0_t68 : Fin k0_t68_loop.trips) (v110 : BitVec 32) (v113 : BitVec 32) (k0_t107 : Fin (k0_t107_loop i k0_t68 v110 v113).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v111 : BitVec 32 := Scalar.maxsi v110 v75
  let c1_i32_85 : BitVec 32 := 1#32
  let arg19 : BitVec 32 := Scf.iv v111 c1_i32_85 k0_t107
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]
@[reducible] def k0_t108_loop (i : grid0.Coords) (k0_t68 : Fin k0_t68_loop.trips) (v110 : BitVec 32) (v113 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v111 : BitVec 32 := Scalar.maxsi v110 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let v231 : BitVec 32 := Scalar.addi v111 v230
  let c1_i32_86 : BitVec 32 := 1#32
  ⟨v234, v231, c1_i32_86⟩
def k0_off851 (i : grid0.Coords) (k0_t68 : Fin k0_t68_loop.trips) (v110 : BitVec 32) (v113 : BitVec 32) (k0_t108 : Fin (k0_t108_loop i k0_t68 v110 v113).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v111 : BitVec 32 := Scalar.maxsi v110 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_86 : BitVec 32 := 1#32
  let arg19 : BitVec 32 := Scf.iv v234 c1_i32_86 k0_t108
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off852 (i : grid0.Coords) (k0_t68 : Fin k0_t68_loop.trips) (v110 : BitVec 32) (v113 : BitVec 32) (k0_t108 : Fin (k0_t108_loop i k0_t68 v110 v113).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v111 : BitVec 32 := Scalar.maxsi v110 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_86 : BitVec 32 := 1#32
  let arg19 : BitVec 32 := Scf.iv v234 c1_i32_86 k0_t108
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off853 (i : grid0.Coords) (k0_t68 : Fin k0_t68_loop.trips) (v110 : BitVec 32) (v113 : BitVec 32) (k0_t108 : Fin (k0_t108_loop i k0_t68 v110 v113).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v111 : BitVec 32 := Scalar.maxsi v110 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_86 : BitVec 32 := 1#32
  let arg19 : BitVec 32 := Scf.iv v234 c1_i32_86 k0_t108
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off854 (i : grid0.Coords) (k0_t68 : Fin k0_t68_loop.trips) (v110 : BitVec 32) (v113 : BitVec 32) (k0_t108 : Fin (k0_t108_loop i k0_t68 v110 v113).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v111 : BitVec 32 := Scalar.maxsi v110 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_86 : BitVec 32 := 1#32
  let arg19 : BitVec 32 := Scf.iv v234 c1_i32_86 k0_t108
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off855 (i : grid0.Coords) (k0_t68 : Fin k0_t68_loop.trips) (v110 : BitVec 32) (v113 : BitVec 32) (k0_t108 : Fin (k0_t108_loop i k0_t68 v110 v113).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v111 : BitVec 32 := Scalar.maxsi v110 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_86 : BitVec 32 := 1#32
  let arg19 : BitVec 32 := Scf.iv v234 c1_i32_86 k0_t108
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off856 (i : grid0.Coords) (k0_t68 : Fin k0_t68_loop.trips) (v110 : BitVec 32) (v113 : BitVec 32) (k0_t108 : Fin (k0_t108_loop i k0_t68 v110 v113).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v111 : BitVec 32 := Scalar.maxsi v110 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_86 : BitVec 32 := 1#32
  let arg19 : BitVec 32 := Scf.iv v234 c1_i32_86 k0_t108
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off857 (i : grid0.Coords) (k0_t68 : Fin k0_t68_loop.trips) (v110 : BitVec 32) (v113 : BitVec 32) (k0_t108 : Fin (k0_t108_loop i k0_t68 v110 v113).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v111 : BitVec 32 := Scalar.maxsi v110 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_86 : BitVec 32 := 1#32
  let arg19 : BitVec 32 := Scf.iv v234 c1_i32_86 k0_t108
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off858 (i : grid0.Coords) (k0_t68 : Fin k0_t68_loop.trips) (v110 : BitVec 32) (v113 : BitVec 32) (k0_t108 : Fin (k0_t108_loop i k0_t68 v110 v113).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v111 : BitVec 32 := Scalar.maxsi v110 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v114 : BitVec 32 := Scalar.minsi v113 v77
  let v230 : BitVec 32 := Scalar.subi v114 v111
  let c1_i32_84 : BitVec 32 := 1#32
  let v232 : BitVec 32 := Scalar.divsi v230 c1_i32_84
  let v233 : BitVec 32 := Scalar.muli v232 c1_i32_84
  let v234 : BitVec 32 := Scalar.addi v111 v233
  let c1_i32_86 : BitVec 32 := 1#32
  let arg19 : BitVec 32 := Scf.iv v234 c1_i32_86 k0_t108
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]

def k0_chk52 (i : grid0.Coords) (k0_t68 : Fin k0_t68_loop.trips) (v110 : BitVec 32) (v113 : BitVec 32) : Prop :=
  (∀ (k0_h55 : k0_cond55 k0_t68 = 1#1), ∀ (k0_h59 : k0_cond59 i k0_t68 v110 v113 = 1#1), (k0_t107_loop i k0_t68 v110 v113).OK) ∧
  (∀ k0_t107 : Fin (k0_t107_loop i k0_t68 v110 v113).trips, ∀ (k0_h55 : k0_cond55 k0_t68 = 1#1), ∀ (k0_h59 : k0_cond59 i k0_t68 v110 v113 = 1#1), ∀ a, (k0_off843 i k0_t68 v110 v113 k0_t107) a + S1x16.size a ≤ S256x128.size a) ∧
  (∀ k0_t107 : Fin (k0_t107_loop i k0_t68 v110 v113).trips, ∀ (k0_h55 : k0_cond55 k0_t68 = 1#1), ∀ (k0_h59 : k0_cond59 i k0_t68 v110 v113 = 1#1), ∀ a, (k0_off844 i k0_t68 v110 v113 k0_t107) a + S1x16.size a ≤ S256x128.size a) ∧
  (∀ k0_t107 : Fin (k0_t107_loop i k0_t68 v110 v113).trips, ∀ (k0_h55 : k0_cond55 k0_t68 = 1#1), ∀ (k0_h59 : k0_cond59 i k0_t68 v110 v113 = 1#1), ∀ a, (k0_off845 i k0_t68 v110 v113 k0_t107) a + S1x16.size a ≤ S256x128.size a) ∧
  (∀ k0_t107 : Fin (k0_t107_loop i k0_t68 v110 v113).trips, ∀ (k0_h55 : k0_cond55 k0_t68 = 1#1), ∀ (k0_h59 : k0_cond59 i k0_t68 v110 v113 = 1#1), ∀ a, (k0_off846 i k0_t68 v110 v113 k0_t107) a + S1x16.size a ≤ S256x128.size a) ∧
  (∀ k0_t107 : Fin (k0_t107_loop i k0_t68 v110 v113).trips, ∀ (k0_h55 : k0_cond55 k0_t68 = 1#1), ∀ (k0_h59 : k0_cond59 i k0_t68 v110 v113 = 1#1), ∀ a, (k0_off847 i k0_t68 v110 v113 k0_t107) a + S1x16.size a ≤ S256x128.size a) ∧
  (∀ k0_t107 : Fin (k0_t107_loop i k0_t68 v110 v113).trips, ∀ (k0_h55 : k0_cond55 k0_t68 = 1#1), ∀ (k0_h59 : k0_cond59 i k0_t68 v110 v113 = 1#1), ∀ a, (k0_off848 i k0_t68 v110 v113 k0_t107) a + S1x16.size a ≤ S256x128.size a) ∧
  (∀ k0_t107 : Fin (k0_t107_loop i k0_t68 v110 v113).trips, ∀ (k0_h55 : k0_cond55 k0_t68 = 1#1), ∀ (k0_h59 : k0_cond59 i k0_t68 v110 v113 = 1#1), ∀ a, (k0_off849 i k0_t68 v110 v113 k0_t107) a + S1x16.size a ≤ S256x128.size a) ∧
  (∀ k0_t107 : Fin (k0_t107_loop i k0_t68 v110 v113).trips, ∀ (k0_h55 : k0_cond55 k0_t68 = 1#1), ∀ (k0_h59 : k0_cond59 i k0_t68 v110 v113 = 1#1), ∀ a, (k0_off850 i k0_t68 v110 v113 k0_t107) a + S1x16.size a ≤ S256x128.size a) ∧
  (∀ (k0_h55 : k0_cond55 k0_t68 = 1#1), ∀ (k0_h59 : k0_cond59 i k0_t68 v110 v113 = 1#1), (k0_t108_loop i k0_t68 v110 v113).OK) ∧
  (∀ k0_t108 : Fin (k0_t108_loop i k0_t68 v110 v113).trips, ∀ (k0_h55 : k0_cond55 k0_t68 = 1#1), ∀ (k0_h59 : k0_cond59 i k0_t68 v110 v113 = 1#1), ∀ a, (k0_off851 i k0_t68 v110 v113 k0_t108) a + S1x16.size a ≤ S256x128.size a) ∧
  (∀ k0_t108 : Fin (k0_t108_loop i k0_t68 v110 v113).trips, ∀ (k0_h55 : k0_cond55 k0_t68 = 1#1), ∀ (k0_h59 : k0_cond59 i k0_t68 v110 v113 = 1#1), ∀ a, (k0_off852 i k0_t68 v110 v113 k0_t108) a + S1x16.size a ≤ S256x128.size a) ∧
  (∀ k0_t108 : Fin (k0_t108_loop i k0_t68 v110 v113).trips, ∀ (k0_h55 : k0_cond55 k0_t68 = 1#1), ∀ (k0_h59 : k0_cond59 i k0_t68 v110 v113 = 1#1), ∀ a, (k0_off853 i k0_t68 v110 v113 k0_t108) a + S1x16.size a ≤ S256x128.size a) ∧
  (∀ k0_t108 : Fin (k0_t108_loop i k0_t68 v110 v113).trips, ∀ (k0_h55 : k0_cond55 k0_t68 = 1#1), ∀ (k0_h59 : k0_cond59 i k0_t68 v110 v113 = 1#1), ∀ a, (k0_off854 i k0_t68 v110 v113 k0_t108) a + S1x16.size a ≤ S256x128.size a) ∧
  (∀ k0_t108 : Fin (k0_t108_loop i k0_t68 v110 v113).trips, ∀ (k0_h55 : k0_cond55 k0_t68 = 1#1), ∀ (k0_h59 : k0_cond59 i k0_t68 v110 v113 = 1#1), ∀ a, (k0_off855 i k0_t68 v110 v113 k0_t108) a + S1x16.size a ≤ S256x128.size a) ∧
  (∀ k0_t108 : Fin (k0_t108_loop i k0_t68 v110 v113).trips, ∀ (k0_h55 : k0_cond55 k0_t68 = 1#1), ∀ (k0_h59 : k0_cond59 i k0_t68 v110 v113 = 1#1), ∀ a, (k0_off856 i k0_t68 v110 v113 k0_t108) a + S1x16.size a ≤ S256x128.size a) ∧
  (∀ k0_t108 : Fin (k0_t108_loop i k0_t68 v110 v113).trips, ∀ (k0_h55 : k0_cond55 k0_t68 = 1#1), ∀ (k0_h59 : k0_cond59 i k0_t68 v110 v113 = 1#1), ∀ a, (k0_off857 i k0_t68 v110 v113 k0_t108) a + S1x16.size a ≤ S256x128.size a) ∧
  (∀ k0_t108 : Fin (k0_t108_loop i k0_t68 v110 v113).trips, ∀ (k0_h55 : k0_cond55 k0_t68 = 1#1), ∀ (k0_h59 : k0_cond59 i k0_t68 v110 v113 = 1#1), ∀ a, (k0_off858 i k0_t68 v110 v113 k0_t108) a + S1x16.size a ≤ S256x128.size a)
theorem k0_t107_ok : ∀ (i : grid0.Coords) (k0_t68 : Fin k0_t68_loop.trips) (v110 : BitVec 32) (v113 : BitVec 32) (k0_hw52 : k0_chk52 i k0_t68 v110 v113), ∀ (k0_h55 : k0_cond55 k0_t68 = 1#1), ∀ (k0_h59 : k0_cond59 i k0_t68 v110 v113 = 1#1), (k0_t107_loop i k0_t68 v110 v113).OK := fun i k0_t68 v110 v113 k0_hw52 k0_h55 k0_h59 => k0_hw52.1 k0_h55 k0_h59
theorem k0_off843_inb : ∀ (i : grid0.Coords) (k0_t68 : Fin k0_t68_loop.trips) (v110 : BitVec 32) (v113 : BitVec 32) (k0_hw52 : k0_chk52 i k0_t68 v110 v113) (k0_t107 : Fin (k0_t107_loop i k0_t68 v110 v113).trips), ∀ (k0_h55 : k0_cond55 k0_t68 = 1#1), ∀ (k0_h59 : k0_cond59 i k0_t68 v110 v113 = 1#1), ∀ a, (k0_off843 i k0_t68 v110 v113 k0_t107) a + S1x16.size a ≤ S256x128.size a := fun i k0_t68 v110 v113 k0_hw52 k0_t107 k0_h55 k0_h59 => k0_hw52.2.1 k0_t107 k0_h55 k0_h59
theorem k0_off844_inb : ∀ (i : grid0.Coords) (k0_t68 : Fin k0_t68_loop.trips) (v110 : BitVec 32) (v113 : BitVec 32) (k0_hw52 : k0_chk52 i k0_t68 v110 v113) (k0_t107 : Fin (k0_t107_loop i k0_t68 v110 v113).trips), ∀ (k0_h55 : k0_cond55 k0_t68 = 1#1), ∀ (k0_h59 : k0_cond59 i k0_t68 v110 v113 = 1#1), ∀ a, (k0_off844 i k0_t68 v110 v113 k0_t107) a + S1x16.size a ≤ S256x128.size a := fun i k0_t68 v110 v113 k0_hw52 k0_t107 k0_h55 k0_h59 => k0_hw52.2.2.1 k0_t107 k0_h55 k0_h59
theorem k0_off845_inb : ∀ (i : grid0.Coords) (k0_t68 : Fin k0_t68_loop.trips) (v110 : BitVec 32) (v113 : BitVec 32) (k0_hw52 : k0_chk52 i k0_t68 v110 v113) (k0_t107 : Fin (k0_t107_loop i k0_t68 v110 v113).trips), ∀ (k0_h55 : k0_cond55 k0_t68 = 1#1), ∀ (k0_h59 : k0_cond59 i k0_t68 v110 v113 = 1#1), ∀ a, (k0_off845 i k0_t68 v110 v113 k0_t107) a + S1x16.size a ≤ S256x128.size a := fun i k0_t68 v110 v113 k0_hw52 k0_t107 k0_h55 k0_h59 => k0_hw52.2.2.2.1 k0_t107 k0_h55 k0_h59
theorem k0_off846_inb : ∀ (i : grid0.Coords) (k0_t68 : Fin k0_t68_loop.trips) (v110 : BitVec 32) (v113 : BitVec 32) (k0_hw52 : k0_chk52 i k0_t68 v110 v113) (k0_t107 : Fin (k0_t107_loop i k0_t68 v110 v113).trips), ∀ (k0_h55 : k0_cond55 k0_t68 = 1#1), ∀ (k0_h59 : k0_cond59 i k0_t68 v110 v113 = 1#1), ∀ a, (k0_off846 i k0_t68 v110 v113 k0_t107) a + S1x16.size a ≤ S256x128.size a := fun i k0_t68 v110 v113 k0_hw52 k0_t107 k0_h55 k0_h59 => k0_hw52.2.2.2.2.1 k0_t107 k0_h55 k0_h59
theorem k0_off847_inb : ∀ (i : grid0.Coords) (k0_t68 : Fin k0_t68_loop.trips) (v110 : BitVec 32) (v113 : BitVec 32) (k0_hw52 : k0_chk52 i k0_t68 v110 v113) (k0_t107 : Fin (k0_t107_loop i k0_t68 v110 v113).trips), ∀ (k0_h55 : k0_cond55 k0_t68 = 1#1), ∀ (k0_h59 : k0_cond59 i k0_t68 v110 v113 = 1#1), ∀ a, (k0_off847 i k0_t68 v110 v113 k0_t107) a + S1x16.size a ≤ S256x128.size a := fun i k0_t68 v110 v113 k0_hw52 k0_t107 k0_h55 k0_h59 => k0_hw52.2.2.2.2.2.1 k0_t107 k0_h55 k0_h59
theorem k0_off848_inb : ∀ (i : grid0.Coords) (k0_t68 : Fin k0_t68_loop.trips) (v110 : BitVec 32) (v113 : BitVec 32) (k0_hw52 : k0_chk52 i k0_t68 v110 v113) (k0_t107 : Fin (k0_t107_loop i k0_t68 v110 v113).trips), ∀ (k0_h55 : k0_cond55 k0_t68 = 1#1), ∀ (k0_h59 : k0_cond59 i k0_t68 v110 v113 = 1#1), ∀ a, (k0_off848 i k0_t68 v110 v113 k0_t107) a + S1x16.size a ≤ S256x128.size a := fun i k0_t68 v110 v113 k0_hw52 k0_t107 k0_h55 k0_h59 => k0_hw52.2.2.2.2.2.2.1 k0_t107 k0_h55 k0_h59
theorem k0_off849_inb : ∀ (i : grid0.Coords) (k0_t68 : Fin k0_t68_loop.trips) (v110 : BitVec 32) (v113 : BitVec 32) (k0_hw52 : k0_chk52 i k0_t68 v110 v113) (k0_t107 : Fin (k0_t107_loop i k0_t68 v110 v113).trips), ∀ (k0_h55 : k0_cond55 k0_t68 = 1#1), ∀ (k0_h59 : k0_cond59 i k0_t68 v110 v113 = 1#1), ∀ a, (k0_off849 i k0_t68 v110 v113 k0_t107) a + S1x16.size a ≤ S256x128.size a := fun i k0_t68 v110 v113 k0_hw52 k0_t107 k0_h55 k0_h59 => k0_hw52.2.2.2.2.2.2.2.1 k0_t107 k0_h55 k0_h59
theorem k0_off850_inb : ∀ (i : grid0.Coords) (k0_t68 : Fin k0_t68_loop.trips) (v110 : BitVec 32) (v113 : BitVec 32) (k0_hw52 : k0_chk52 i k0_t68 v110 v113) (k0_t107 : Fin (k0_t107_loop i k0_t68 v110 v113).trips), ∀ (k0_h55 : k0_cond55 k0_t68 = 1#1), ∀ (k0_h59 : k0_cond59 i k0_t68 v110 v113 = 1#1), ∀ a, (k0_off850 i k0_t68 v110 v113 k0_t107) a + S1x16.size a ≤ S256x128.size a := fun i k0_t68 v110 v113 k0_hw52 k0_t107 k0_h55 k0_h59 => k0_hw52.2.2.2.2.2.2.2.2.1 k0_t107 k0_h55 k0_h59
theorem k0_t108_ok : ∀ (i : grid0.Coords) (k0_t68 : Fin k0_t68_loop.trips) (v110 : BitVec 32) (v113 : BitVec 32) (k0_hw52 : k0_chk52 i k0_t68 v110 v113), ∀ (k0_h55 : k0_cond55 k0_t68 = 1#1), ∀ (k0_h59 : k0_cond59 i k0_t68 v110 v113 = 1#1), (k0_t108_loop i k0_t68 v110 v113).OK := fun i k0_t68 v110 v113 k0_hw52 k0_h55 k0_h59 => k0_hw52.2.2.2.2.2.2.2.2.2.1 k0_h55 k0_h59
theorem k0_off851_inb : ∀ (i : grid0.Coords) (k0_t68 : Fin k0_t68_loop.trips) (v110 : BitVec 32) (v113 : BitVec 32) (k0_hw52 : k0_chk52 i k0_t68 v110 v113) (k0_t108 : Fin (k0_t108_loop i k0_t68 v110 v113).trips), ∀ (k0_h55 : k0_cond55 k0_t68 = 1#1), ∀ (k0_h59 : k0_cond59 i k0_t68 v110 v113 = 1#1), ∀ a, (k0_off851 i k0_t68 v110 v113 k0_t108) a + S1x16.size a ≤ S256x128.size a := fun i k0_t68 v110 v113 k0_hw52 k0_t108 k0_h55 k0_h59 => k0_hw52.2.2.2.2.2.2.2.2.2.2.1 k0_t108 k0_h55 k0_h59
theorem k0_off852_inb : ∀ (i : grid0.Coords) (k0_t68 : Fin k0_t68_loop.trips) (v110 : BitVec 32) (v113 : BitVec 32) (k0_hw52 : k0_chk52 i k0_t68 v110 v113) (k0_t108 : Fin (k0_t108_loop i k0_t68 v110 v113).trips), ∀ (k0_h55 : k0_cond55 k0_t68 = 1#1), ∀ (k0_h59 : k0_cond59 i k0_t68 v110 v113 = 1#1), ∀ a, (k0_off852 i k0_t68 v110 v113 k0_t108) a + S1x16.size a ≤ S256x128.size a := fun i k0_t68 v110 v113 k0_hw52 k0_t108 k0_h55 k0_h59 => k0_hw52.2.2.2.2.2.2.2.2.2.2.2.1 k0_t108 k0_h55 k0_h59
theorem k0_off853_inb : ∀ (i : grid0.Coords) (k0_t68 : Fin k0_t68_loop.trips) (v110 : BitVec 32) (v113 : BitVec 32) (k0_hw52 : k0_chk52 i k0_t68 v110 v113) (k0_t108 : Fin (k0_t108_loop i k0_t68 v110 v113).trips), ∀ (k0_h55 : k0_cond55 k0_t68 = 1#1), ∀ (k0_h59 : k0_cond59 i k0_t68 v110 v113 = 1#1), ∀ a, (k0_off853 i k0_t68 v110 v113 k0_t108) a + S1x16.size a ≤ S256x128.size a := fun i k0_t68 v110 v113 k0_hw52 k0_t108 k0_h55 k0_h59 => k0_hw52.2.2.2.2.2.2.2.2.2.2.2.2.1 k0_t108 k0_h55 k0_h59
theorem k0_off854_inb : ∀ (i : grid0.Coords) (k0_t68 : Fin k0_t68_loop.trips) (v110 : BitVec 32) (v113 : BitVec 32) (k0_hw52 : k0_chk52 i k0_t68 v110 v113) (k0_t108 : Fin (k0_t108_loop i k0_t68 v110 v113).trips), ∀ (k0_h55 : k0_cond55 k0_t68 = 1#1), ∀ (k0_h59 : k0_cond59 i k0_t68 v110 v113 = 1#1), ∀ a, (k0_off854 i k0_t68 v110 v113 k0_t108) a + S1x16.size a ≤ S256x128.size a := fun i k0_t68 v110 v113 k0_hw52 k0_t108 k0_h55 k0_h59 => k0_hw52.2.2.2.2.2.2.2.2.2.2.2.2.2.1 k0_t108 k0_h55 k0_h59
theorem k0_off855_inb : ∀ (i : grid0.Coords) (k0_t68 : Fin k0_t68_loop.trips) (v110 : BitVec 32) (v113 : BitVec 32) (k0_hw52 : k0_chk52 i k0_t68 v110 v113) (k0_t108 : Fin (k0_t108_loop i k0_t68 v110 v113).trips), ∀ (k0_h55 : k0_cond55 k0_t68 = 1#1), ∀ (k0_h59 : k0_cond59 i k0_t68 v110 v113 = 1#1), ∀ a, (k0_off855 i k0_t68 v110 v113 k0_t108) a + S1x16.size a ≤ S256x128.size a := fun i k0_t68 v110 v113 k0_hw52 k0_t108 k0_h55 k0_h59 => k0_hw52.2.2.2.2.2.2.2.2.2.2.2.2.2.2.1 k0_t108 k0_h55 k0_h59
theorem k0_off856_inb : ∀ (i : grid0.Coords) (k0_t68 : Fin k0_t68_loop.trips) (v110 : BitVec 32) (v113 : BitVec 32) (k0_hw52 : k0_chk52 i k0_t68 v110 v113) (k0_t108 : Fin (k0_t108_loop i k0_t68 v110 v113).trips), ∀ (k0_h55 : k0_cond55 k0_t68 = 1#1), ∀ (k0_h59 : k0_cond59 i k0_t68 v110 v113 = 1#1), ∀ a, (k0_off856 i k0_t68 v110 v113 k0_t108) a + S1x16.size a ≤ S256x128.size a := fun i k0_t68 v110 v113 k0_hw52 k0_t108 k0_h55 k0_h59 => k0_hw52.2.2.2.2.2.2.2.2.2.2.2.2.2.2.2.1 k0_t108 k0_h55 k0_h59
theorem k0_off857_inb : ∀ (i : grid0.Coords) (k0_t68 : Fin k0_t68_loop.trips) (v110 : BitVec 32) (v113 : BitVec 32) (k0_hw52 : k0_chk52 i k0_t68 v110 v113) (k0_t108 : Fin (k0_t108_loop i k0_t68 v110 v113).trips), ∀ (k0_h55 : k0_cond55 k0_t68 = 1#1), ∀ (k0_h59 : k0_cond59 i k0_t68 v110 v113 = 1#1), ∀ a, (k0_off857 i k0_t68 v110 v113 k0_t108) a + S1x16.size a ≤ S256x128.size a := fun i k0_t68 v110 v113 k0_hw52 k0_t108 k0_h55 k0_h59 => k0_hw52.2.2.2.2.2.2.2.2.2.2.2.2.2.2.2.2.1 k0_t108 k0_h55 k0_h59
theorem k0_off858_inb : ∀ (i : grid0.Coords) (k0_t68 : Fin k0_t68_loop.trips) (v110 : BitVec 32) (v113 : BitVec 32) (k0_hw52 : k0_chk52 i k0_t68 v110 v113) (k0_t108 : Fin (k0_t108_loop i k0_t68 v110 v113).trips), ∀ (k0_h55 : k0_cond55 k0_t68 = 1#1), ∀ (k0_h59 : k0_cond59 i k0_t68 v110 v113 = 1#1), ∀ a, (k0_off858 i k0_t68 v110 v113 k0_t108) a + S1x16.size a ≤ S256x128.size a := fun i k0_t68 v110 v113 k0_hw52 k0_t108 k0_h55 k0_h59 => k0_hw52.2.2.2.2.2.2.2.2.2.2.2.2.2.2.2.2.2 k0_t108 k0_h55 k0_h59

@[reducible] def k0_t109_loop (i : grid0.Coords) (k0_t68 : Fin k0_t68_loop.trips) (v119 : BitVec 32) (v122 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v120 : BitVec 32 := Scalar.maxsi v119 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_85 : BitVec 32 := 1#32
  ⟨v120, v234, c1_i32_85⟩
def k0_cond60 (i : grid0.Coords) (k0_t68 : Fin k0_t68_loop.trips) (v119 : BitVec 32) (v122 : BitVec 32) : BitVec 1 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v123 : BitVec 32 := Scalar.minsi v122 v77
  let v120 : BitVec 32 := Scalar.maxsi v119 v75
  let v124 : BitVec 1 := Scalar.cmpi .sgt v123 v120
  let v125 : BitVec 32 := Scalar.extui v124
  let c0_i32_69 : BitVec 32 := 0#32
  let v126 : BitVec 1 := Scalar.cmpi .ne v125 c0_i32_69
  v126

def k0_off859 (i : grid0.Coords) (k0_t68 : Fin k0_t68_loop.trips) (v119 : BitVec 32) (v122 : BitVec 32) (k0_t109 : Fin (k0_t109_loop i k0_t68 v119 v122).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v120 : BitVec 32 := Scalar.maxsi v119 v75
  let c1_i32_85 : BitVec 32 := 1#32
  let arg19 : BitVec 32 := Scf.iv v120 c1_i32_85 k0_t109
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_113 : Index := 0#32
  ![v302.toNat, 0]
def k0_off860 (i : grid0.Coords) (k0_t68 : Fin k0_t68_loop.trips) (v119 : BitVec 32) (v122 : BitVec 32) (k0_t109 : Fin (k0_t109_loop i k0_t68 v119 v122).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v120 : BitVec 32 := Scalar.maxsi v119 v75
  let c1_i32_85 : BitVec 32 := 1#32
  let arg19 : BitVec 32 := Scf.iv v120 c1_i32_85 k0_t109
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_114 : Index := 16#32
  ![v306.toNat, 16]
def k0_off861 (i : grid0.Coords) (k0_t68 : Fin k0_t68_loop.trips) (v119 : BitVec 32) (v122 : BitVec 32) (k0_t109 : Fin (k0_t109_loop i k0_t68 v119 v122).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v120 : BitVec 32 := Scalar.maxsi v119 v75
  let c1_i32_85 : BitVec 32 := 1#32
  let arg19 : BitVec 32 := Scf.iv v120 c1_i32_85 k0_t109
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_115 : Index := 32#32
  ![v310.toNat, 32]
def k0_off862 (i : grid0.Coords) (k0_t68 : Fin k0_t68_loop.trips) (v119 : BitVec 32) (v122 : BitVec 32) (k0_t109 : Fin (k0_t109_loop i k0_t68 v119 v122).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v120 : BitVec 32 := Scalar.maxsi v119 v75
  let c1_i32_85 : BitVec 32 := 1#32
  let arg19 : BitVec 32 := Scf.iv v120 c1_i32_85 k0_t109
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_116 : Index := 48#32
  ![v314.toNat, 48]
def k0_off863 (i : grid0.Coords) (k0_t68 : Fin k0_t68_loop.trips) (v119 : BitVec 32) (v122 : BitVec 32) (k0_t109 : Fin (k0_t109_loop i k0_t68 v119 v122).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v120 : BitVec 32 := Scalar.maxsi v119 v75
  let c1_i32_85 : BitVec 32 := 1#32
  let arg19 : BitVec 32 := Scf.iv v120 c1_i32_85 k0_t109
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_117 : Index := 64#32
  ![v318.toNat, 64]
def k0_off864 (i : grid0.Coords) (k0_t68 : Fin k0_t68_loop.trips) (v119 : BitVec 32) (v122 : BitVec 32) (k0_t109 : Fin (k0_t109_loop i k0_t68 v119 v122).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v120 : BitVec 32 := Scalar.maxsi v119 v75
  let c1_i32_85 : BitVec 32 := 1#32
  let arg19 : BitVec 32 := Scf.iv v120 c1_i32_85 k0_t109
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_118 : Index := 80#32
  ![v322.toNat, 80]
def k0_off865 (i : grid0.Coords) (k0_t68 : Fin k0_t68_loop.trips) (v119 : BitVec 32) (v122 : BitVec 32) (k0_t109 : Fin (k0_t109_loop i k0_t68 v119 v122).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v120 : BitVec 32 := Scalar.maxsi v119 v75
  let c1_i32_85 : BitVec 32 := 1#32
  let arg19 : BitVec 32 := Scf.iv v120 c1_i32_85 k0_t109
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_119 : Index := 96#32
  ![v326.toNat, 96]
def k0_off866 (i : grid0.Coords) (k0_t68 : Fin k0_t68_loop.trips) (v119 : BitVec 32) (v122 : BitVec 32) (k0_t109 : Fin (k0_t109_loop i k0_t68 v119 v122).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v120 : BitVec 32 := Scalar.maxsi v119 v75
  let c1_i32_85 : BitVec 32 := 1#32
  let arg19 : BitVec 32 := Scf.iv v120 c1_i32_85 k0_t109
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_120 : Index := 112#32
  ![v330.toNat, 112]
@[reducible] def k0_t110_loop (i : grid0.Coords) (k0_t68 : Fin k0_t68_loop.trips) (v119 : BitVec 32) (v122 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v120 : BitVec 32 := Scalar.maxsi v119 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let v231 : BitVec 32 := Scalar.addi v120 v230
  let c1_i32_86 : BitVec 32 := 1#32
  ⟨v234, v231, c1_i32_86⟩
def k0_off867 (i : grid0.Coords) (k0_t68 : Fin k0_t68_loop.trips) (v119 : BitVec 32) (v122 : BitVec 32) (k0_t110 : Fin (k0_t110_loop i k0_t68 v119 v122).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v120 : BitVec 32 := Scalar.maxsi v119 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_86 : BitVec 32 := 1#32
  let arg19 : BitVec 32 := Scf.iv v234 c1_i32_86 k0_t110
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_113 : Index := 0#32
  ![v302.toNat, 0]
def k0_off868 (i : grid0.Coords) (k0_t68 : Fin k0_t68_loop.trips) (v119 : BitVec 32) (v122 : BitVec 32) (k0_t110 : Fin (k0_t110_loop i k0_t68 v119 v122).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v120 : BitVec 32 := Scalar.maxsi v119 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_86 : BitVec 32 := 1#32
  let arg19 : BitVec 32 := Scf.iv v234 c1_i32_86 k0_t110
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_114 : Index := 16#32
  ![v306.toNat, 16]
def k0_off869 (i : grid0.Coords) (k0_t68 : Fin k0_t68_loop.trips) (v119 : BitVec 32) (v122 : BitVec 32) (k0_t110 : Fin (k0_t110_loop i k0_t68 v119 v122).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v120 : BitVec 32 := Scalar.maxsi v119 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_86 : BitVec 32 := 1#32
  let arg19 : BitVec 32 := Scf.iv v234 c1_i32_86 k0_t110
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_115 : Index := 32#32
  ![v310.toNat, 32]
def k0_off870 (i : grid0.Coords) (k0_t68 : Fin k0_t68_loop.trips) (v119 : BitVec 32) (v122 : BitVec 32) (k0_t110 : Fin (k0_t110_loop i k0_t68 v119 v122).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v120 : BitVec 32 := Scalar.maxsi v119 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_86 : BitVec 32 := 1#32
  let arg19 : BitVec 32 := Scf.iv v234 c1_i32_86 k0_t110
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_116 : Index := 48#32
  ![v314.toNat, 48]
def k0_off871 (i : grid0.Coords) (k0_t68 : Fin k0_t68_loop.trips) (v119 : BitVec 32) (v122 : BitVec 32) (k0_t110 : Fin (k0_t110_loop i k0_t68 v119 v122).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v120 : BitVec 32 := Scalar.maxsi v119 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_86 : BitVec 32 := 1#32
  let arg19 : BitVec 32 := Scf.iv v234 c1_i32_86 k0_t110
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_117 : Index := 64#32
  ![v318.toNat, 64]
def k0_off872 (i : grid0.Coords) (k0_t68 : Fin k0_t68_loop.trips) (v119 : BitVec 32) (v122 : BitVec 32) (k0_t110 : Fin (k0_t110_loop i k0_t68 v119 v122).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v120 : BitVec 32 := Scalar.maxsi v119 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_86 : BitVec 32 := 1#32
  let arg19 : BitVec 32 := Scf.iv v234 c1_i32_86 k0_t110
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_118 : Index := 80#32
  ![v322.toNat, 80]
def k0_off873 (i : grid0.Coords) (k0_t68 : Fin k0_t68_loop.trips) (v119 : BitVec 32) (v122 : BitVec 32) (k0_t110 : Fin (k0_t110_loop i k0_t68 v119 v122).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v120 : BitVec 32 := Scalar.maxsi v119 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_86 : BitVec 32 := 1#32
  let arg19 : BitVec 32 := Scf.iv v234 c1_i32_86 k0_t110
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_119 : Index := 96#32
  ![v326.toNat, 96]
def k0_off874 (i : grid0.Coords) (k0_t68 : Fin k0_t68_loop.trips) (v119 : BitVec 32) (v122 : BitVec 32) (k0_t110 : Fin (k0_t110_loop i k0_t68 v119 v122).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v120 : BitVec 32 := Scalar.maxsi v119 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v123 : BitVec 32 := Scalar.minsi v122 v77
  let v230 : BitVec 32 := Scalar.subi v123 v120
  let c1_i32_84 : BitVec 32 := 1#32
  let v232 : BitVec 32 := Scalar.divsi v230 c1_i32_84
  let v233 : BitVec 32 := Scalar.muli v232 c1_i32_84
  let v234 : BitVec 32 := Scalar.addi v120 v233
  let c1_i32_86 : BitVec 32 := 1#32
  let arg19 : BitVec 32 := Scf.iv v234 c1_i32_86 k0_t110
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_120 : Index := 112#32
  ![v330.toNat, 112]

def k0_chk53 (i : grid0.Coords) (k0_t68 : Fin k0_t68_loop.trips) (v119 : BitVec 32) (v122 : BitVec 32) : Prop :=
  (∀ (k0_h55 : k0_cond55 k0_t68 = 1#1), ∀ (k0_h60 : k0_cond60 i k0_t68 v119 v122 = 1#1), (k0_t109_loop i k0_t68 v119 v122).OK) ∧
  (∀ k0_t109 : Fin (k0_t109_loop i k0_t68 v119 v122).trips, ∀ (k0_h55 : k0_cond55 k0_t68 = 1#1), ∀ (k0_h60 : k0_cond60 i k0_t68 v119 v122 = 1#1), ∀ a, (k0_off859 i k0_t68 v119 v122 k0_t109) a + S1x16.size a ≤ S256x128.size a) ∧
  (∀ k0_t109 : Fin (k0_t109_loop i k0_t68 v119 v122).trips, ∀ (k0_h55 : k0_cond55 k0_t68 = 1#1), ∀ (k0_h60 : k0_cond60 i k0_t68 v119 v122 = 1#1), ∀ a, (k0_off860 i k0_t68 v119 v122 k0_t109) a + S1x16.size a ≤ S256x128.size a) ∧
  (∀ k0_t109 : Fin (k0_t109_loop i k0_t68 v119 v122).trips, ∀ (k0_h55 : k0_cond55 k0_t68 = 1#1), ∀ (k0_h60 : k0_cond60 i k0_t68 v119 v122 = 1#1), ∀ a, (k0_off861 i k0_t68 v119 v122 k0_t109) a + S1x16.size a ≤ S256x128.size a) ∧
  (∀ k0_t109 : Fin (k0_t109_loop i k0_t68 v119 v122).trips, ∀ (k0_h55 : k0_cond55 k0_t68 = 1#1), ∀ (k0_h60 : k0_cond60 i k0_t68 v119 v122 = 1#1), ∀ a, (k0_off862 i k0_t68 v119 v122 k0_t109) a + S1x16.size a ≤ S256x128.size a) ∧
  (∀ k0_t109 : Fin (k0_t109_loop i k0_t68 v119 v122).trips, ∀ (k0_h55 : k0_cond55 k0_t68 = 1#1), ∀ (k0_h60 : k0_cond60 i k0_t68 v119 v122 = 1#1), ∀ a, (k0_off863 i k0_t68 v119 v122 k0_t109) a + S1x16.size a ≤ S256x128.size a) ∧
  (∀ k0_t109 : Fin (k0_t109_loop i k0_t68 v119 v122).trips, ∀ (k0_h55 : k0_cond55 k0_t68 = 1#1), ∀ (k0_h60 : k0_cond60 i k0_t68 v119 v122 = 1#1), ∀ a, (k0_off864 i k0_t68 v119 v122 k0_t109) a + S1x16.size a ≤ S256x128.size a) ∧
  (∀ k0_t109 : Fin (k0_t109_loop i k0_t68 v119 v122).trips, ∀ (k0_h55 : k0_cond55 k0_t68 = 1#1), ∀ (k0_h60 : k0_cond60 i k0_t68 v119 v122 = 1#1), ∀ a, (k0_off865 i k0_t68 v119 v122 k0_t109) a + S1x16.size a ≤ S256x128.size a) ∧
  (∀ k0_t109 : Fin (k0_t109_loop i k0_t68 v119 v122).trips, ∀ (k0_h55 : k0_cond55 k0_t68 = 1#1), ∀ (k0_h60 : k0_cond60 i k0_t68 v119 v122 = 1#1), ∀ a, (k0_off866 i k0_t68 v119 v122 k0_t109) a + S1x16.size a ≤ S256x128.size a) ∧
  (∀ (k0_h55 : k0_cond55 k0_t68 = 1#1), ∀ (k0_h60 : k0_cond60 i k0_t68 v119 v122 = 1#1), (k0_t110_loop i k0_t68 v119 v122).OK) ∧
  (∀ k0_t110 : Fin (k0_t110_loop i k0_t68 v119 v122).trips, ∀ (k0_h55 : k0_cond55 k0_t68 = 1#1), ∀ (k0_h60 : k0_cond60 i k0_t68 v119 v122 = 1#1), ∀ a, (k0_off867 i k0_t68 v119 v122 k0_t110) a + S1x16.size a ≤ S256x128.size a) ∧
  (∀ k0_t110 : Fin (k0_t110_loop i k0_t68 v119 v122).trips, ∀ (k0_h55 : k0_cond55 k0_t68 = 1#1), ∀ (k0_h60 : k0_cond60 i k0_t68 v119 v122 = 1#1), ∀ a, (k0_off868 i k0_t68 v119 v122 k0_t110) a + S1x16.size a ≤ S256x128.size a) ∧
  (∀ k0_t110 : Fin (k0_t110_loop i k0_t68 v119 v122).trips, ∀ (k0_h55 : k0_cond55 k0_t68 = 1#1), ∀ (k0_h60 : k0_cond60 i k0_t68 v119 v122 = 1#1), ∀ a, (k0_off869 i k0_t68 v119 v122 k0_t110) a + S1x16.size a ≤ S256x128.size a) ∧
  (∀ k0_t110 : Fin (k0_t110_loop i k0_t68 v119 v122).trips, ∀ (k0_h55 : k0_cond55 k0_t68 = 1#1), ∀ (k0_h60 : k0_cond60 i k0_t68 v119 v122 = 1#1), ∀ a, (k0_off870 i k0_t68 v119 v122 k0_t110) a + S1x16.size a ≤ S256x128.size a) ∧
  (∀ k0_t110 : Fin (k0_t110_loop i k0_t68 v119 v122).trips, ∀ (k0_h55 : k0_cond55 k0_t68 = 1#1), ∀ (k0_h60 : k0_cond60 i k0_t68 v119 v122 = 1#1), ∀ a, (k0_off871 i k0_t68 v119 v122 k0_t110) a + S1x16.size a ≤ S256x128.size a) ∧
  (∀ k0_t110 : Fin (k0_t110_loop i k0_t68 v119 v122).trips, ∀ (k0_h55 : k0_cond55 k0_t68 = 1#1), ∀ (k0_h60 : k0_cond60 i k0_t68 v119 v122 = 1#1), ∀ a, (k0_off872 i k0_t68 v119 v122 k0_t110) a + S1x16.size a ≤ S256x128.size a) ∧
  (∀ k0_t110 : Fin (k0_t110_loop i k0_t68 v119 v122).trips, ∀ (k0_h55 : k0_cond55 k0_t68 = 1#1), ∀ (k0_h60 : k0_cond60 i k0_t68 v119 v122 = 1#1), ∀ a, (k0_off873 i k0_t68 v119 v122 k0_t110) a + S1x16.size a ≤ S256x128.size a) ∧
  (∀ k0_t110 : Fin (k0_t110_loop i k0_t68 v119 v122).trips, ∀ (k0_h55 : k0_cond55 k0_t68 = 1#1), ∀ (k0_h60 : k0_cond60 i k0_t68 v119 v122 = 1#1), ∀ a, (k0_off874 i k0_t68 v119 v122 k0_t110) a + S1x16.size a ≤ S256x128.size a)
theorem k0_t109_ok : ∀ (i : grid0.Coords) (k0_t68 : Fin k0_t68_loop.trips) (v119 : BitVec 32) (v122 : BitVec 32) (k0_hw53 : k0_chk53 i k0_t68 v119 v122), ∀ (k0_h55 : k0_cond55 k0_t68 = 1#1), ∀ (k0_h60 : k0_cond60 i k0_t68 v119 v122 = 1#1), (k0_t109_loop i k0_t68 v119 v122).OK := fun i k0_t68 v119 v122 k0_hw53 k0_h55 k0_h60 => k0_hw53.1 k0_h55 k0_h60
theorem k0_off859_inb : ∀ (i : grid0.Coords) (k0_t68 : Fin k0_t68_loop.trips) (v119 : BitVec 32) (v122 : BitVec 32) (k0_hw53 : k0_chk53 i k0_t68 v119 v122) (k0_t109 : Fin (k0_t109_loop i k0_t68 v119 v122).trips), ∀ (k0_h55 : k0_cond55 k0_t68 = 1#1), ∀ (k0_h60 : k0_cond60 i k0_t68 v119 v122 = 1#1), ∀ a, (k0_off859 i k0_t68 v119 v122 k0_t109) a + S1x16.size a ≤ S256x128.size a := fun i k0_t68 v119 v122 k0_hw53 k0_t109 k0_h55 k0_h60 => k0_hw53.2.1 k0_t109 k0_h55 k0_h60
theorem k0_off860_inb : ∀ (i : grid0.Coords) (k0_t68 : Fin k0_t68_loop.trips) (v119 : BitVec 32) (v122 : BitVec 32) (k0_hw53 : k0_chk53 i k0_t68 v119 v122) (k0_t109 : Fin (k0_t109_loop i k0_t68 v119 v122).trips), ∀ (k0_h55 : k0_cond55 k0_t68 = 1#1), ∀ (k0_h60 : k0_cond60 i k0_t68 v119 v122 = 1#1), ∀ a, (k0_off860 i k0_t68 v119 v122 k0_t109) a + S1x16.size a ≤ S256x128.size a := fun i k0_t68 v119 v122 k0_hw53 k0_t109 k0_h55 k0_h60 => k0_hw53.2.2.1 k0_t109 k0_h55 k0_h60
theorem k0_off861_inb : ∀ (i : grid0.Coords) (k0_t68 : Fin k0_t68_loop.trips) (v119 : BitVec 32) (v122 : BitVec 32) (k0_hw53 : k0_chk53 i k0_t68 v119 v122) (k0_t109 : Fin (k0_t109_loop i k0_t68 v119 v122).trips), ∀ (k0_h55 : k0_cond55 k0_t68 = 1#1), ∀ (k0_h60 : k0_cond60 i k0_t68 v119 v122 = 1#1), ∀ a, (k0_off861 i k0_t68 v119 v122 k0_t109) a + S1x16.size a ≤ S256x128.size a := fun i k0_t68 v119 v122 k0_hw53 k0_t109 k0_h55 k0_h60 => k0_hw53.2.2.2.1 k0_t109 k0_h55 k0_h60
theorem k0_off862_inb : ∀ (i : grid0.Coords) (k0_t68 : Fin k0_t68_loop.trips) (v119 : BitVec 32) (v122 : BitVec 32) (k0_hw53 : k0_chk53 i k0_t68 v119 v122) (k0_t109 : Fin (k0_t109_loop i k0_t68 v119 v122).trips), ∀ (k0_h55 : k0_cond55 k0_t68 = 1#1), ∀ (k0_h60 : k0_cond60 i k0_t68 v119 v122 = 1#1), ∀ a, (k0_off862 i k0_t68 v119 v122 k0_t109) a + S1x16.size a ≤ S256x128.size a := fun i k0_t68 v119 v122 k0_hw53 k0_t109 k0_h55 k0_h60 => k0_hw53.2.2.2.2.1 k0_t109 k0_h55 k0_h60
theorem k0_off863_inb : ∀ (i : grid0.Coords) (k0_t68 : Fin k0_t68_loop.trips) (v119 : BitVec 32) (v122 : BitVec 32) (k0_hw53 : k0_chk53 i k0_t68 v119 v122) (k0_t109 : Fin (k0_t109_loop i k0_t68 v119 v122).trips), ∀ (k0_h55 : k0_cond55 k0_t68 = 1#1), ∀ (k0_h60 : k0_cond60 i k0_t68 v119 v122 = 1#1), ∀ a, (k0_off863 i k0_t68 v119 v122 k0_t109) a + S1x16.size a ≤ S256x128.size a := fun i k0_t68 v119 v122 k0_hw53 k0_t109 k0_h55 k0_h60 => k0_hw53.2.2.2.2.2.1 k0_t109 k0_h55 k0_h60
theorem k0_off864_inb : ∀ (i : grid0.Coords) (k0_t68 : Fin k0_t68_loop.trips) (v119 : BitVec 32) (v122 : BitVec 32) (k0_hw53 : k0_chk53 i k0_t68 v119 v122) (k0_t109 : Fin (k0_t109_loop i k0_t68 v119 v122).trips), ∀ (k0_h55 : k0_cond55 k0_t68 = 1#1), ∀ (k0_h60 : k0_cond60 i k0_t68 v119 v122 = 1#1), ∀ a, (k0_off864 i k0_t68 v119 v122 k0_t109) a + S1x16.size a ≤ S256x128.size a := fun i k0_t68 v119 v122 k0_hw53 k0_t109 k0_h55 k0_h60 => k0_hw53.2.2.2.2.2.2.1 k0_t109 k0_h55 k0_h60
theorem k0_off865_inb : ∀ (i : grid0.Coords) (k0_t68 : Fin k0_t68_loop.trips) (v119 : BitVec 32) (v122 : BitVec 32) (k0_hw53 : k0_chk53 i k0_t68 v119 v122) (k0_t109 : Fin (k0_t109_loop i k0_t68 v119 v122).trips), ∀ (k0_h55 : k0_cond55 k0_t68 = 1#1), ∀ (k0_h60 : k0_cond60 i k0_t68 v119 v122 = 1#1), ∀ a, (k0_off865 i k0_t68 v119 v122 k0_t109) a + S1x16.size a ≤ S256x128.size a := fun i k0_t68 v119 v122 k0_hw53 k0_t109 k0_h55 k0_h60 => k0_hw53.2.2.2.2.2.2.2.1 k0_t109 k0_h55 k0_h60
theorem k0_off866_inb : ∀ (i : grid0.Coords) (k0_t68 : Fin k0_t68_loop.trips) (v119 : BitVec 32) (v122 : BitVec 32) (k0_hw53 : k0_chk53 i k0_t68 v119 v122) (k0_t109 : Fin (k0_t109_loop i k0_t68 v119 v122).trips), ∀ (k0_h55 : k0_cond55 k0_t68 = 1#1), ∀ (k0_h60 : k0_cond60 i k0_t68 v119 v122 = 1#1), ∀ a, (k0_off866 i k0_t68 v119 v122 k0_t109) a + S1x16.size a ≤ S256x128.size a := fun i k0_t68 v119 v122 k0_hw53 k0_t109 k0_h55 k0_h60 => k0_hw53.2.2.2.2.2.2.2.2.1 k0_t109 k0_h55 k0_h60
theorem k0_t110_ok : ∀ (i : grid0.Coords) (k0_t68 : Fin k0_t68_loop.trips) (v119 : BitVec 32) (v122 : BitVec 32) (k0_hw53 : k0_chk53 i k0_t68 v119 v122), ∀ (k0_h55 : k0_cond55 k0_t68 = 1#1), ∀ (k0_h60 : k0_cond60 i k0_t68 v119 v122 = 1#1), (k0_t110_loop i k0_t68 v119 v122).OK := fun i k0_t68 v119 v122 k0_hw53 k0_h55 k0_h60 => k0_hw53.2.2.2.2.2.2.2.2.2.1 k0_h55 k0_h60
theorem k0_off867_inb : ∀ (i : grid0.Coords) (k0_t68 : Fin k0_t68_loop.trips) (v119 : BitVec 32) (v122 : BitVec 32) (k0_hw53 : k0_chk53 i k0_t68 v119 v122) (k0_t110 : Fin (k0_t110_loop i k0_t68 v119 v122).trips), ∀ (k0_h55 : k0_cond55 k0_t68 = 1#1), ∀ (k0_h60 : k0_cond60 i k0_t68 v119 v122 = 1#1), ∀ a, (k0_off867 i k0_t68 v119 v122 k0_t110) a + S1x16.size a ≤ S256x128.size a := fun i k0_t68 v119 v122 k0_hw53 k0_t110 k0_h55 k0_h60 => k0_hw53.2.2.2.2.2.2.2.2.2.2.1 k0_t110 k0_h55 k0_h60
theorem k0_off868_inb : ∀ (i : grid0.Coords) (k0_t68 : Fin k0_t68_loop.trips) (v119 : BitVec 32) (v122 : BitVec 32) (k0_hw53 : k0_chk53 i k0_t68 v119 v122) (k0_t110 : Fin (k0_t110_loop i k0_t68 v119 v122).trips), ∀ (k0_h55 : k0_cond55 k0_t68 = 1#1), ∀ (k0_h60 : k0_cond60 i k0_t68 v119 v122 = 1#1), ∀ a, (k0_off868 i k0_t68 v119 v122 k0_t110) a + S1x16.size a ≤ S256x128.size a := fun i k0_t68 v119 v122 k0_hw53 k0_t110 k0_h55 k0_h60 => k0_hw53.2.2.2.2.2.2.2.2.2.2.2.1 k0_t110 k0_h55 k0_h60
theorem k0_off869_inb : ∀ (i : grid0.Coords) (k0_t68 : Fin k0_t68_loop.trips) (v119 : BitVec 32) (v122 : BitVec 32) (k0_hw53 : k0_chk53 i k0_t68 v119 v122) (k0_t110 : Fin (k0_t110_loop i k0_t68 v119 v122).trips), ∀ (k0_h55 : k0_cond55 k0_t68 = 1#1), ∀ (k0_h60 : k0_cond60 i k0_t68 v119 v122 = 1#1), ∀ a, (k0_off869 i k0_t68 v119 v122 k0_t110) a + S1x16.size a ≤ S256x128.size a := fun i k0_t68 v119 v122 k0_hw53 k0_t110 k0_h55 k0_h60 => k0_hw53.2.2.2.2.2.2.2.2.2.2.2.2.1 k0_t110 k0_h55 k0_h60
theorem k0_off870_inb : ∀ (i : grid0.Coords) (k0_t68 : Fin k0_t68_loop.trips) (v119 : BitVec 32) (v122 : BitVec 32) (k0_hw53 : k0_chk53 i k0_t68 v119 v122) (k0_t110 : Fin (k0_t110_loop i k0_t68 v119 v122).trips), ∀ (k0_h55 : k0_cond55 k0_t68 = 1#1), ∀ (k0_h60 : k0_cond60 i k0_t68 v119 v122 = 1#1), ∀ a, (k0_off870 i k0_t68 v119 v122 k0_t110) a + S1x16.size a ≤ S256x128.size a := fun i k0_t68 v119 v122 k0_hw53 k0_t110 k0_h55 k0_h60 => k0_hw53.2.2.2.2.2.2.2.2.2.2.2.2.2.1 k0_t110 k0_h55 k0_h60
theorem k0_off871_inb : ∀ (i : grid0.Coords) (k0_t68 : Fin k0_t68_loop.trips) (v119 : BitVec 32) (v122 : BitVec 32) (k0_hw53 : k0_chk53 i k0_t68 v119 v122) (k0_t110 : Fin (k0_t110_loop i k0_t68 v119 v122).trips), ∀ (k0_h55 : k0_cond55 k0_t68 = 1#1), ∀ (k0_h60 : k0_cond60 i k0_t68 v119 v122 = 1#1), ∀ a, (k0_off871 i k0_t68 v119 v122 k0_t110) a + S1x16.size a ≤ S256x128.size a := fun i k0_t68 v119 v122 k0_hw53 k0_t110 k0_h55 k0_h60 => k0_hw53.2.2.2.2.2.2.2.2.2.2.2.2.2.2.1 k0_t110 k0_h55 k0_h60
theorem k0_off872_inb : ∀ (i : grid0.Coords) (k0_t68 : Fin k0_t68_loop.trips) (v119 : BitVec 32) (v122 : BitVec 32) (k0_hw53 : k0_chk53 i k0_t68 v119 v122) (k0_t110 : Fin (k0_t110_loop i k0_t68 v119 v122).trips), ∀ (k0_h55 : k0_cond55 k0_t68 = 1#1), ∀ (k0_h60 : k0_cond60 i k0_t68 v119 v122 = 1#1), ∀ a, (k0_off872 i k0_t68 v119 v122 k0_t110) a + S1x16.size a ≤ S256x128.size a := fun i k0_t68 v119 v122 k0_hw53 k0_t110 k0_h55 k0_h60 => k0_hw53.2.2.2.2.2.2.2.2.2.2.2.2.2.2.2.1 k0_t110 k0_h55 k0_h60
theorem k0_off873_inb : ∀ (i : grid0.Coords) (k0_t68 : Fin k0_t68_loop.trips) (v119 : BitVec 32) (v122 : BitVec 32) (k0_hw53 : k0_chk53 i k0_t68 v119 v122) (k0_t110 : Fin (k0_t110_loop i k0_t68 v119 v122).trips), ∀ (k0_h55 : k0_cond55 k0_t68 = 1#1), ∀ (k0_h60 : k0_cond60 i k0_t68 v119 v122 = 1#1), ∀ a, (k0_off873 i k0_t68 v119 v122 k0_t110) a + S1x16.size a ≤ S256x128.size a := fun i k0_t68 v119 v122 k0_hw53 k0_t110 k0_h55 k0_h60 => k0_hw53.2.2.2.2.2.2.2.2.2.2.2.2.2.2.2.2.1 k0_t110 k0_h55 k0_h60
theorem k0_off874_inb : ∀ (i : grid0.Coords) (k0_t68 : Fin k0_t68_loop.trips) (v119 : BitVec 32) (v122 : BitVec 32) (k0_hw53 : k0_chk53 i k0_t68 v119 v122) (k0_t110 : Fin (k0_t110_loop i k0_t68 v119 v122).trips), ∀ (k0_h55 : k0_cond55 k0_t68 = 1#1), ∀ (k0_h60 : k0_cond60 i k0_t68 v119 v122 = 1#1), ∀ a, (k0_off874 i k0_t68 v119 v122 k0_t110) a + S1x16.size a ≤ S256x128.size a := fun i k0_t68 v119 v122 k0_hw53 k0_t110 k0_h55 k0_h60 => k0_hw53.2.2.2.2.2.2.2.2.2.2.2.2.2.2.2.2.2 k0_t110 k0_h55 k0_h60

@[reducible] def k0_t111_loop (i : grid0.Coords) (k0_t68 : Fin k0_t68_loop.trips) (v128 : BitVec 32) (v131 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v129 : BitVec 32 := Scalar.maxsi v128 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_85 : BitVec 32 := 1#32
  ⟨v129, v234, c1_i32_85⟩
def k0_cond61 (i : grid0.Coords) (k0_t68 : Fin k0_t68_loop.trips) (v128 : BitVec 32) (v131 : BitVec 32) : BitVec 1 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v132 : BitVec 32 := Scalar.minsi v131 v77
  let v129 : BitVec 32 := Scalar.maxsi v128 v75
  let v133 : BitVec 1 := Scalar.cmpi .sgt v132 v129
  let v134 : BitVec 32 := Scalar.extui v133
  let c0_i32_70 : BitVec 32 := 0#32
  let v135 : BitVec 1 := Scalar.cmpi .ne v134 c0_i32_70
  v135

def k0_off875 (i : grid0.Coords) (k0_t68 : Fin k0_t68_loop.trips) (v128 : BitVec 32) (v131 : BitVec 32) (k0_t111 : Fin (k0_t111_loop i k0_t68 v128 v131).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v129 : BitVec 32 := Scalar.maxsi v128 v75
  let c1_i32_85 : BitVec 32 := 1#32
  let arg19 : BitVec 32 := Scf.iv v129 c1_i32_85 k0_t111
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off876 (i : grid0.Coords) (k0_t68 : Fin k0_t68_loop.trips) (v128 : BitVec 32) (v131 : BitVec 32) (k0_t111 : Fin (k0_t111_loop i k0_t68 v128 v131).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v129 : BitVec 32 := Scalar.maxsi v128 v75
  let c1_i32_85 : BitVec 32 := 1#32
  let arg19 : BitVec 32 := Scf.iv v129 c1_i32_85 k0_t111
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off877 (i : grid0.Coords) (k0_t68 : Fin k0_t68_loop.trips) (v128 : BitVec 32) (v131 : BitVec 32) (k0_t111 : Fin (k0_t111_loop i k0_t68 v128 v131).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v129 : BitVec 32 := Scalar.maxsi v128 v75
  let c1_i32_85 : BitVec 32 := 1#32
  let arg19 : BitVec 32 := Scf.iv v129 c1_i32_85 k0_t111
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off878 (i : grid0.Coords) (k0_t68 : Fin k0_t68_loop.trips) (v128 : BitVec 32) (v131 : BitVec 32) (k0_t111 : Fin (k0_t111_loop i k0_t68 v128 v131).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v129 : BitVec 32 := Scalar.maxsi v128 v75
  let c1_i32_85 : BitVec 32 := 1#32
  let arg19 : BitVec 32 := Scf.iv v129 c1_i32_85 k0_t111
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off879 (i : grid0.Coords) (k0_t68 : Fin k0_t68_loop.trips) (v128 : BitVec 32) (v131 : BitVec 32) (k0_t111 : Fin (k0_t111_loop i k0_t68 v128 v131).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v129 : BitVec 32 := Scalar.maxsi v128 v75
  let c1_i32_85 : BitVec 32 := 1#32
  let arg19 : BitVec 32 := Scf.iv v129 c1_i32_85 k0_t111
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off880 (i : grid0.Coords) (k0_t68 : Fin k0_t68_loop.trips) (v128 : BitVec 32) (v131 : BitVec 32) (k0_t111 : Fin (k0_t111_loop i k0_t68 v128 v131).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v129 : BitVec 32 := Scalar.maxsi v128 v75
  let c1_i32_85 : BitVec 32 := 1#32
  let arg19 : BitVec 32 := Scf.iv v129 c1_i32_85 k0_t111
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off881 (i : grid0.Coords) (k0_t68 : Fin k0_t68_loop.trips) (v128 : BitVec 32) (v131 : BitVec 32) (k0_t111 : Fin (k0_t111_loop i k0_t68 v128 v131).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v129 : BitVec 32 := Scalar.maxsi v128 v75
  let c1_i32_85 : BitVec 32 := 1#32
  let arg19 : BitVec 32 := Scf.iv v129 c1_i32_85 k0_t111
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off882 (i : grid0.Coords) (k0_t68 : Fin k0_t68_loop.trips) (v128 : BitVec 32) (v131 : BitVec 32) (k0_t111 : Fin (k0_t111_loop i k0_t68 v128 v131).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v129 : BitVec 32 := Scalar.maxsi v128 v75
  let c1_i32_85 : BitVec 32 := 1#32
  let arg19 : BitVec 32 := Scf.iv v129 c1_i32_85 k0_t111
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]
@[reducible] def k0_t112_loop (i : grid0.Coords) (k0_t68 : Fin k0_t68_loop.trips) (v128 : BitVec 32) (v131 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v129 : BitVec 32 := Scalar.maxsi v128 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let v231 : BitVec 32 := Scalar.addi v129 v230
  let c1_i32_86 : BitVec 32 := 1#32
  ⟨v234, v231, c1_i32_86⟩
def k0_off883 (i : grid0.Coords) (k0_t68 : Fin k0_t68_loop.trips) (v128 : BitVec 32) (v131 : BitVec 32) (k0_t112 : Fin (k0_t112_loop i k0_t68 v128 v131).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v129 : BitVec 32 := Scalar.maxsi v128 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_86 : BitVec 32 := 1#32
  let arg19 : BitVec 32 := Scf.iv v234 c1_i32_86 k0_t112
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off884 (i : grid0.Coords) (k0_t68 : Fin k0_t68_loop.trips) (v128 : BitVec 32) (v131 : BitVec 32) (k0_t112 : Fin (k0_t112_loop i k0_t68 v128 v131).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v129 : BitVec 32 := Scalar.maxsi v128 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_86 : BitVec 32 := 1#32
  let arg19 : BitVec 32 := Scf.iv v234 c1_i32_86 k0_t112
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off885 (i : grid0.Coords) (k0_t68 : Fin k0_t68_loop.trips) (v128 : BitVec 32) (v131 : BitVec 32) (k0_t112 : Fin (k0_t112_loop i k0_t68 v128 v131).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v129 : BitVec 32 := Scalar.maxsi v128 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_86 : BitVec 32 := 1#32
  let arg19 : BitVec 32 := Scf.iv v234 c1_i32_86 k0_t112
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off886 (i : grid0.Coords) (k0_t68 : Fin k0_t68_loop.trips) (v128 : BitVec 32) (v131 : BitVec 32) (k0_t112 : Fin (k0_t112_loop i k0_t68 v128 v131).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v129 : BitVec 32 := Scalar.maxsi v128 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_86 : BitVec 32 := 1#32
  let arg19 : BitVec 32 := Scf.iv v234 c1_i32_86 k0_t112
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off887 (i : grid0.Coords) (k0_t68 : Fin k0_t68_loop.trips) (v128 : BitVec 32) (v131 : BitVec 32) (k0_t112 : Fin (k0_t112_loop i k0_t68 v128 v131).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v129 : BitVec 32 := Scalar.maxsi v128 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_86 : BitVec 32 := 1#32
  let arg19 : BitVec 32 := Scf.iv v234 c1_i32_86 k0_t112
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off888 (i : grid0.Coords) (k0_t68 : Fin k0_t68_loop.trips) (v128 : BitVec 32) (v131 : BitVec 32) (k0_t112 : Fin (k0_t112_loop i k0_t68 v128 v131).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v129 : BitVec 32 := Scalar.maxsi v128 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_86 : BitVec 32 := 1#32
  let arg19 : BitVec 32 := Scf.iv v234 c1_i32_86 k0_t112
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off889 (i : grid0.Coords) (k0_t68 : Fin k0_t68_loop.trips) (v128 : BitVec 32) (v131 : BitVec 32) (k0_t112 : Fin (k0_t112_loop i k0_t68 v128 v131).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v129 : BitVec 32 := Scalar.maxsi v128 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_86 : BitVec 32 := 1#32
  let arg19 : BitVec 32 := Scf.iv v234 c1_i32_86 k0_t112
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off890 (i : grid0.Coords) (k0_t68 : Fin k0_t68_loop.trips) (v128 : BitVec 32) (v131 : BitVec 32) (k0_t112 : Fin (k0_t112_loop i k0_t68 v128 v131).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v129 : BitVec 32 := Scalar.maxsi v128 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v132 : BitVec 32 := Scalar.minsi v131 v77
  let v230 : BitVec 32 := Scalar.subi v132 v129
  let c1_i32_84 : BitVec 32 := 1#32
  let v232 : BitVec 32 := Scalar.divsi v230 c1_i32_84
  let v233 : BitVec 32 := Scalar.muli v232 c1_i32_84
  let v234 : BitVec 32 := Scalar.addi v129 v233
  let c1_i32_86 : BitVec 32 := 1#32
  let arg19 : BitVec 32 := Scf.iv v234 c1_i32_86 k0_t112
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]

def k0_chk54 (i : grid0.Coords) (k0_t68 : Fin k0_t68_loop.trips) (v128 : BitVec 32) (v131 : BitVec 32) : Prop :=
  (∀ (k0_h55 : k0_cond55 k0_t68 = 1#1), ∀ (k0_h61 : k0_cond61 i k0_t68 v128 v131 = 1#1), (k0_t111_loop i k0_t68 v128 v131).OK) ∧
  (∀ k0_t111 : Fin (k0_t111_loop i k0_t68 v128 v131).trips, ∀ (k0_h55 : k0_cond55 k0_t68 = 1#1), ∀ (k0_h61 : k0_cond61 i k0_t68 v128 v131 = 1#1), ∀ a, (k0_off875 i k0_t68 v128 v131 k0_t111) a + S1x16.size a ≤ S256x128.size a) ∧
  (∀ k0_t111 : Fin (k0_t111_loop i k0_t68 v128 v131).trips, ∀ (k0_h55 : k0_cond55 k0_t68 = 1#1), ∀ (k0_h61 : k0_cond61 i k0_t68 v128 v131 = 1#1), ∀ a, (k0_off876 i k0_t68 v128 v131 k0_t111) a + S1x16.size a ≤ S256x128.size a) ∧
  (∀ k0_t111 : Fin (k0_t111_loop i k0_t68 v128 v131).trips, ∀ (k0_h55 : k0_cond55 k0_t68 = 1#1), ∀ (k0_h61 : k0_cond61 i k0_t68 v128 v131 = 1#1), ∀ a, (k0_off877 i k0_t68 v128 v131 k0_t111) a + S1x16.size a ≤ S256x128.size a) ∧
  (∀ k0_t111 : Fin (k0_t111_loop i k0_t68 v128 v131).trips, ∀ (k0_h55 : k0_cond55 k0_t68 = 1#1), ∀ (k0_h61 : k0_cond61 i k0_t68 v128 v131 = 1#1), ∀ a, (k0_off878 i k0_t68 v128 v131 k0_t111) a + S1x16.size a ≤ S256x128.size a) ∧
  (∀ k0_t111 : Fin (k0_t111_loop i k0_t68 v128 v131).trips, ∀ (k0_h55 : k0_cond55 k0_t68 = 1#1), ∀ (k0_h61 : k0_cond61 i k0_t68 v128 v131 = 1#1), ∀ a, (k0_off879 i k0_t68 v128 v131 k0_t111) a + S1x16.size a ≤ S256x128.size a) ∧
  (∀ k0_t111 : Fin (k0_t111_loop i k0_t68 v128 v131).trips, ∀ (k0_h55 : k0_cond55 k0_t68 = 1#1), ∀ (k0_h61 : k0_cond61 i k0_t68 v128 v131 = 1#1), ∀ a, (k0_off880 i k0_t68 v128 v131 k0_t111) a + S1x16.size a ≤ S256x128.size a) ∧
  (∀ k0_t111 : Fin (k0_t111_loop i k0_t68 v128 v131).trips, ∀ (k0_h55 : k0_cond55 k0_t68 = 1#1), ∀ (k0_h61 : k0_cond61 i k0_t68 v128 v131 = 1#1), ∀ a, (k0_off881 i k0_t68 v128 v131 k0_t111) a + S1x16.size a ≤ S256x128.size a) ∧
  (∀ k0_t111 : Fin (k0_t111_loop i k0_t68 v128 v131).trips, ∀ (k0_h55 : k0_cond55 k0_t68 = 1#1), ∀ (k0_h61 : k0_cond61 i k0_t68 v128 v131 = 1#1), ∀ a, (k0_off882 i k0_t68 v128 v131 k0_t111) a + S1x16.size a ≤ S256x128.size a) ∧
  (∀ (k0_h55 : k0_cond55 k0_t68 = 1#1), ∀ (k0_h61 : k0_cond61 i k0_t68 v128 v131 = 1#1), (k0_t112_loop i k0_t68 v128 v131).OK) ∧
  (∀ k0_t112 : Fin (k0_t112_loop i k0_t68 v128 v131).trips, ∀ (k0_h55 : k0_cond55 k0_t68 = 1#1), ∀ (k0_h61 : k0_cond61 i k0_t68 v128 v131 = 1#1), ∀ a, (k0_off883 i k0_t68 v128 v131 k0_t112) a + S1x16.size a ≤ S256x128.size a) ∧
  (∀ k0_t112 : Fin (k0_t112_loop i k0_t68 v128 v131).trips, ∀ (k0_h55 : k0_cond55 k0_t68 = 1#1), ∀ (k0_h61 : k0_cond61 i k0_t68 v128 v131 = 1#1), ∀ a, (k0_off884 i k0_t68 v128 v131 k0_t112) a + S1x16.size a ≤ S256x128.size a) ∧
  (∀ k0_t112 : Fin (k0_t112_loop i k0_t68 v128 v131).trips, ∀ (k0_h55 : k0_cond55 k0_t68 = 1#1), ∀ (k0_h61 : k0_cond61 i k0_t68 v128 v131 = 1#1), ∀ a, (k0_off885 i k0_t68 v128 v131 k0_t112) a + S1x16.size a ≤ S256x128.size a) ∧
  (∀ k0_t112 : Fin (k0_t112_loop i k0_t68 v128 v131).trips, ∀ (k0_h55 : k0_cond55 k0_t68 = 1#1), ∀ (k0_h61 : k0_cond61 i k0_t68 v128 v131 = 1#1), ∀ a, (k0_off886 i k0_t68 v128 v131 k0_t112) a + S1x16.size a ≤ S256x128.size a) ∧
  (∀ k0_t112 : Fin (k0_t112_loop i k0_t68 v128 v131).trips, ∀ (k0_h55 : k0_cond55 k0_t68 = 1#1), ∀ (k0_h61 : k0_cond61 i k0_t68 v128 v131 = 1#1), ∀ a, (k0_off887 i k0_t68 v128 v131 k0_t112) a + S1x16.size a ≤ S256x128.size a) ∧
  (∀ k0_t112 : Fin (k0_t112_loop i k0_t68 v128 v131).trips, ∀ (k0_h55 : k0_cond55 k0_t68 = 1#1), ∀ (k0_h61 : k0_cond61 i k0_t68 v128 v131 = 1#1), ∀ a, (k0_off888 i k0_t68 v128 v131 k0_t112) a + S1x16.size a ≤ S256x128.size a) ∧
  (∀ k0_t112 : Fin (k0_t112_loop i k0_t68 v128 v131).trips, ∀ (k0_h55 : k0_cond55 k0_t68 = 1#1), ∀ (k0_h61 : k0_cond61 i k0_t68 v128 v131 = 1#1), ∀ a, (k0_off889 i k0_t68 v128 v131 k0_t112) a + S1x16.size a ≤ S256x128.size a) ∧
  (∀ k0_t112 : Fin (k0_t112_loop i k0_t68 v128 v131).trips, ∀ (k0_h55 : k0_cond55 k0_t68 = 1#1), ∀ (k0_h61 : k0_cond61 i k0_t68 v128 v131 = 1#1), ∀ a, (k0_off890 i k0_t68 v128 v131 k0_t112) a + S1x16.size a ≤ S256x128.size a)
theorem k0_t111_ok : ∀ (i : grid0.Coords) (k0_t68 : Fin k0_t68_loop.trips) (v128 : BitVec 32) (v131 : BitVec 32) (k0_hw54 : k0_chk54 i k0_t68 v128 v131), ∀ (k0_h55 : k0_cond55 k0_t68 = 1#1), ∀ (k0_h61 : k0_cond61 i k0_t68 v128 v131 = 1#1), (k0_t111_loop i k0_t68 v128 v131).OK := fun i k0_t68 v128 v131 k0_hw54 k0_h55 k0_h61 => k0_hw54.1 k0_h55 k0_h61
theorem k0_off875_inb : ∀ (i : grid0.Coords) (k0_t68 : Fin k0_t68_loop.trips) (v128 : BitVec 32) (v131 : BitVec 32) (k0_hw54 : k0_chk54 i k0_t68 v128 v131) (k0_t111 : Fin (k0_t111_loop i k0_t68 v128 v131).trips), ∀ (k0_h55 : k0_cond55 k0_t68 = 1#1), ∀ (k0_h61 : k0_cond61 i k0_t68 v128 v131 = 1#1), ∀ a, (k0_off875 i k0_t68 v128 v131 k0_t111) a + S1x16.size a ≤ S256x128.size a := fun i k0_t68 v128 v131 k0_hw54 k0_t111 k0_h55 k0_h61 => k0_hw54.2.1 k0_t111 k0_h55 k0_h61
theorem k0_off876_inb : ∀ (i : grid0.Coords) (k0_t68 : Fin k0_t68_loop.trips) (v128 : BitVec 32) (v131 : BitVec 32) (k0_hw54 : k0_chk54 i k0_t68 v128 v131) (k0_t111 : Fin (k0_t111_loop i k0_t68 v128 v131).trips), ∀ (k0_h55 : k0_cond55 k0_t68 = 1#1), ∀ (k0_h61 : k0_cond61 i k0_t68 v128 v131 = 1#1), ∀ a, (k0_off876 i k0_t68 v128 v131 k0_t111) a + S1x16.size a ≤ S256x128.size a := fun i k0_t68 v128 v131 k0_hw54 k0_t111 k0_h55 k0_h61 => k0_hw54.2.2.1 k0_t111 k0_h55 k0_h61
theorem k0_off877_inb : ∀ (i : grid0.Coords) (k0_t68 : Fin k0_t68_loop.trips) (v128 : BitVec 32) (v131 : BitVec 32) (k0_hw54 : k0_chk54 i k0_t68 v128 v131) (k0_t111 : Fin (k0_t111_loop i k0_t68 v128 v131).trips), ∀ (k0_h55 : k0_cond55 k0_t68 = 1#1), ∀ (k0_h61 : k0_cond61 i k0_t68 v128 v131 = 1#1), ∀ a, (k0_off877 i k0_t68 v128 v131 k0_t111) a + S1x16.size a ≤ S256x128.size a := fun i k0_t68 v128 v131 k0_hw54 k0_t111 k0_h55 k0_h61 => k0_hw54.2.2.2.1 k0_t111 k0_h55 k0_h61
theorem k0_off878_inb : ∀ (i : grid0.Coords) (k0_t68 : Fin k0_t68_loop.trips) (v128 : BitVec 32) (v131 : BitVec 32) (k0_hw54 : k0_chk54 i k0_t68 v128 v131) (k0_t111 : Fin (k0_t111_loop i k0_t68 v128 v131).trips), ∀ (k0_h55 : k0_cond55 k0_t68 = 1#1), ∀ (k0_h61 : k0_cond61 i k0_t68 v128 v131 = 1#1), ∀ a, (k0_off878 i k0_t68 v128 v131 k0_t111) a + S1x16.size a ≤ S256x128.size a := fun i k0_t68 v128 v131 k0_hw54 k0_t111 k0_h55 k0_h61 => k0_hw54.2.2.2.2.1 k0_t111 k0_h55 k0_h61
theorem k0_off879_inb : ∀ (i : grid0.Coords) (k0_t68 : Fin k0_t68_loop.trips) (v128 : BitVec 32) (v131 : BitVec 32) (k0_hw54 : k0_chk54 i k0_t68 v128 v131) (k0_t111 : Fin (k0_t111_loop i k0_t68 v128 v131).trips), ∀ (k0_h55 : k0_cond55 k0_t68 = 1#1), ∀ (k0_h61 : k0_cond61 i k0_t68 v128 v131 = 1#1), ∀ a, (k0_off879 i k0_t68 v128 v131 k0_t111) a + S1x16.size a ≤ S256x128.size a := fun i k0_t68 v128 v131 k0_hw54 k0_t111 k0_h55 k0_h61 => k0_hw54.2.2.2.2.2.1 k0_t111 k0_h55 k0_h61
theorem k0_off880_inb : ∀ (i : grid0.Coords) (k0_t68 : Fin k0_t68_loop.trips) (v128 : BitVec 32) (v131 : BitVec 32) (k0_hw54 : k0_chk54 i k0_t68 v128 v131) (k0_t111 : Fin (k0_t111_loop i k0_t68 v128 v131).trips), ∀ (k0_h55 : k0_cond55 k0_t68 = 1#1), ∀ (k0_h61 : k0_cond61 i k0_t68 v128 v131 = 1#1), ∀ a, (k0_off880 i k0_t68 v128 v131 k0_t111) a + S1x16.size a ≤ S256x128.size a := fun i k0_t68 v128 v131 k0_hw54 k0_t111 k0_h55 k0_h61 => k0_hw54.2.2.2.2.2.2.1 k0_t111 k0_h55 k0_h61
theorem k0_off881_inb : ∀ (i : grid0.Coords) (k0_t68 : Fin k0_t68_loop.trips) (v128 : BitVec 32) (v131 : BitVec 32) (k0_hw54 : k0_chk54 i k0_t68 v128 v131) (k0_t111 : Fin (k0_t111_loop i k0_t68 v128 v131).trips), ∀ (k0_h55 : k0_cond55 k0_t68 = 1#1), ∀ (k0_h61 : k0_cond61 i k0_t68 v128 v131 = 1#1), ∀ a, (k0_off881 i k0_t68 v128 v131 k0_t111) a + S1x16.size a ≤ S256x128.size a := fun i k0_t68 v128 v131 k0_hw54 k0_t111 k0_h55 k0_h61 => k0_hw54.2.2.2.2.2.2.2.1 k0_t111 k0_h55 k0_h61
theorem k0_off882_inb : ∀ (i : grid0.Coords) (k0_t68 : Fin k0_t68_loop.trips) (v128 : BitVec 32) (v131 : BitVec 32) (k0_hw54 : k0_chk54 i k0_t68 v128 v131) (k0_t111 : Fin (k0_t111_loop i k0_t68 v128 v131).trips), ∀ (k0_h55 : k0_cond55 k0_t68 = 1#1), ∀ (k0_h61 : k0_cond61 i k0_t68 v128 v131 = 1#1), ∀ a, (k0_off882 i k0_t68 v128 v131 k0_t111) a + S1x16.size a ≤ S256x128.size a := fun i k0_t68 v128 v131 k0_hw54 k0_t111 k0_h55 k0_h61 => k0_hw54.2.2.2.2.2.2.2.2.1 k0_t111 k0_h55 k0_h61
theorem k0_t112_ok : ∀ (i : grid0.Coords) (k0_t68 : Fin k0_t68_loop.trips) (v128 : BitVec 32) (v131 : BitVec 32) (k0_hw54 : k0_chk54 i k0_t68 v128 v131), ∀ (k0_h55 : k0_cond55 k0_t68 = 1#1), ∀ (k0_h61 : k0_cond61 i k0_t68 v128 v131 = 1#1), (k0_t112_loop i k0_t68 v128 v131).OK := fun i k0_t68 v128 v131 k0_hw54 k0_h55 k0_h61 => k0_hw54.2.2.2.2.2.2.2.2.2.1 k0_h55 k0_h61
theorem k0_off883_inb : ∀ (i : grid0.Coords) (k0_t68 : Fin k0_t68_loop.trips) (v128 : BitVec 32) (v131 : BitVec 32) (k0_hw54 : k0_chk54 i k0_t68 v128 v131) (k0_t112 : Fin (k0_t112_loop i k0_t68 v128 v131).trips), ∀ (k0_h55 : k0_cond55 k0_t68 = 1#1), ∀ (k0_h61 : k0_cond61 i k0_t68 v128 v131 = 1#1), ∀ a, (k0_off883 i k0_t68 v128 v131 k0_t112) a + S1x16.size a ≤ S256x128.size a := fun i k0_t68 v128 v131 k0_hw54 k0_t112 k0_h55 k0_h61 => k0_hw54.2.2.2.2.2.2.2.2.2.2.1 k0_t112 k0_h55 k0_h61
theorem k0_off884_inb : ∀ (i : grid0.Coords) (k0_t68 : Fin k0_t68_loop.trips) (v128 : BitVec 32) (v131 : BitVec 32) (k0_hw54 : k0_chk54 i k0_t68 v128 v131) (k0_t112 : Fin (k0_t112_loop i k0_t68 v128 v131).trips), ∀ (k0_h55 : k0_cond55 k0_t68 = 1#1), ∀ (k0_h61 : k0_cond61 i k0_t68 v128 v131 = 1#1), ∀ a, (k0_off884 i k0_t68 v128 v131 k0_t112) a + S1x16.size a ≤ S256x128.size a := fun i k0_t68 v128 v131 k0_hw54 k0_t112 k0_h55 k0_h61 => k0_hw54.2.2.2.2.2.2.2.2.2.2.2.1 k0_t112 k0_h55 k0_h61
theorem k0_off885_inb : ∀ (i : grid0.Coords) (k0_t68 : Fin k0_t68_loop.trips) (v128 : BitVec 32) (v131 : BitVec 32) (k0_hw54 : k0_chk54 i k0_t68 v128 v131) (k0_t112 : Fin (k0_t112_loop i k0_t68 v128 v131).trips), ∀ (k0_h55 : k0_cond55 k0_t68 = 1#1), ∀ (k0_h61 : k0_cond61 i k0_t68 v128 v131 = 1#1), ∀ a, (k0_off885 i k0_t68 v128 v131 k0_t112) a + S1x16.size a ≤ S256x128.size a := fun i k0_t68 v128 v131 k0_hw54 k0_t112 k0_h55 k0_h61 => k0_hw54.2.2.2.2.2.2.2.2.2.2.2.2.1 k0_t112 k0_h55 k0_h61
theorem k0_off886_inb : ∀ (i : grid0.Coords) (k0_t68 : Fin k0_t68_loop.trips) (v128 : BitVec 32) (v131 : BitVec 32) (k0_hw54 : k0_chk54 i k0_t68 v128 v131) (k0_t112 : Fin (k0_t112_loop i k0_t68 v128 v131).trips), ∀ (k0_h55 : k0_cond55 k0_t68 = 1#1), ∀ (k0_h61 : k0_cond61 i k0_t68 v128 v131 = 1#1), ∀ a, (k0_off886 i k0_t68 v128 v131 k0_t112) a + S1x16.size a ≤ S256x128.size a := fun i k0_t68 v128 v131 k0_hw54 k0_t112 k0_h55 k0_h61 => k0_hw54.2.2.2.2.2.2.2.2.2.2.2.2.2.1 k0_t112 k0_h55 k0_h61
theorem k0_off887_inb : ∀ (i : grid0.Coords) (k0_t68 : Fin k0_t68_loop.trips) (v128 : BitVec 32) (v131 : BitVec 32) (k0_hw54 : k0_chk54 i k0_t68 v128 v131) (k0_t112 : Fin (k0_t112_loop i k0_t68 v128 v131).trips), ∀ (k0_h55 : k0_cond55 k0_t68 = 1#1), ∀ (k0_h61 : k0_cond61 i k0_t68 v128 v131 = 1#1), ∀ a, (k0_off887 i k0_t68 v128 v131 k0_t112) a + S1x16.size a ≤ S256x128.size a := fun i k0_t68 v128 v131 k0_hw54 k0_t112 k0_h55 k0_h61 => k0_hw54.2.2.2.2.2.2.2.2.2.2.2.2.2.2.1 k0_t112 k0_h55 k0_h61
theorem k0_off888_inb : ∀ (i : grid0.Coords) (k0_t68 : Fin k0_t68_loop.trips) (v128 : BitVec 32) (v131 : BitVec 32) (k0_hw54 : k0_chk54 i k0_t68 v128 v131) (k0_t112 : Fin (k0_t112_loop i k0_t68 v128 v131).trips), ∀ (k0_h55 : k0_cond55 k0_t68 = 1#1), ∀ (k0_h61 : k0_cond61 i k0_t68 v128 v131 = 1#1), ∀ a, (k0_off888 i k0_t68 v128 v131 k0_t112) a + S1x16.size a ≤ S256x128.size a := fun i k0_t68 v128 v131 k0_hw54 k0_t112 k0_h55 k0_h61 => k0_hw54.2.2.2.2.2.2.2.2.2.2.2.2.2.2.2.1 k0_t112 k0_h55 k0_h61
theorem k0_off889_inb : ∀ (i : grid0.Coords) (k0_t68 : Fin k0_t68_loop.trips) (v128 : BitVec 32) (v131 : BitVec 32) (k0_hw54 : k0_chk54 i k0_t68 v128 v131) (k0_t112 : Fin (k0_t112_loop i k0_t68 v128 v131).trips), ∀ (k0_h55 : k0_cond55 k0_t68 = 1#1), ∀ (k0_h61 : k0_cond61 i k0_t68 v128 v131 = 1#1), ∀ a, (k0_off889 i k0_t68 v128 v131 k0_t112) a + S1x16.size a ≤ S256x128.size a := fun i k0_t68 v128 v131 k0_hw54 k0_t112 k0_h55 k0_h61 => k0_hw54.2.2.2.2.2.2.2.2.2.2.2.2.2.2.2.2.1 k0_t112 k0_h55 k0_h61
theorem k0_off890_inb : ∀ (i : grid0.Coords) (k0_t68 : Fin k0_t68_loop.trips) (v128 : BitVec 32) (v131 : BitVec 32) (k0_hw54 : k0_chk54 i k0_t68 v128 v131) (k0_t112 : Fin (k0_t112_loop i k0_t68 v128 v131).trips), ∀ (k0_h55 : k0_cond55 k0_t68 = 1#1), ∀ (k0_h61 : k0_cond61 i k0_t68 v128 v131 = 1#1), ∀ a, (k0_off890 i k0_t68 v128 v131 k0_t112) a + S1x16.size a ≤ S256x128.size a := fun i k0_t68 v128 v131 k0_hw54 k0_t112 k0_h55 k0_h61 => k0_hw54.2.2.2.2.2.2.2.2.2.2.2.2.2.2.2.2.2 k0_t112 k0_h55 k0_h61

@[reducible] def k0_t113_loop (i : grid0.Coords) (k0_t68 : Fin k0_t68_loop.trips) (v137 : BitVec 32) (v140 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v138 : BitVec 32 := Scalar.maxsi v137 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_85 : BitVec 32 := 1#32
  ⟨v138, v234, c1_i32_85⟩
def k0_cond62 (i : grid0.Coords) (k0_t68 : Fin k0_t68_loop.trips) (v137 : BitVec 32) (v140 : BitVec 32) : BitVec 1 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v141 : BitVec 32 := Scalar.minsi v140 v77
  let v138 : BitVec 32 := Scalar.maxsi v137 v75
  let v142 : BitVec 1 := Scalar.cmpi .sgt v141 v138
  let v143 : BitVec 32 := Scalar.extui v142
  let c0_i32_71 : BitVec 32 := 0#32
  let v144 : BitVec 1 := Scalar.cmpi .ne v143 c0_i32_71
  v144

def k0_off891 (i : grid0.Coords) (k0_t68 : Fin k0_t68_loop.trips) (v137 : BitVec 32) (v140 : BitVec 32) (k0_t113 : Fin (k0_t113_loop i k0_t68 v137 v140).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v138 : BitVec 32 := Scalar.maxsi v137 v75
  let c1_i32_85 : BitVec 32 := 1#32
  let arg19 : BitVec 32 := Scf.iv v138 c1_i32_85 k0_t113
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off892 (i : grid0.Coords) (k0_t68 : Fin k0_t68_loop.trips) (v137 : BitVec 32) (v140 : BitVec 32) (k0_t113 : Fin (k0_t113_loop i k0_t68 v137 v140).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v138 : BitVec 32 := Scalar.maxsi v137 v75
  let c1_i32_85 : BitVec 32 := 1#32
  let arg19 : BitVec 32 := Scf.iv v138 c1_i32_85 k0_t113
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off893 (i : grid0.Coords) (k0_t68 : Fin k0_t68_loop.trips) (v137 : BitVec 32) (v140 : BitVec 32) (k0_t113 : Fin (k0_t113_loop i k0_t68 v137 v140).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v138 : BitVec 32 := Scalar.maxsi v137 v75
  let c1_i32_85 : BitVec 32 := 1#32
  let arg19 : BitVec 32 := Scf.iv v138 c1_i32_85 k0_t113
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off894 (i : grid0.Coords) (k0_t68 : Fin k0_t68_loop.trips) (v137 : BitVec 32) (v140 : BitVec 32) (k0_t113 : Fin (k0_t113_loop i k0_t68 v137 v140).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v138 : BitVec 32 := Scalar.maxsi v137 v75
  let c1_i32_85 : BitVec 32 := 1#32
  let arg19 : BitVec 32 := Scf.iv v138 c1_i32_85 k0_t113
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off895 (i : grid0.Coords) (k0_t68 : Fin k0_t68_loop.trips) (v137 : BitVec 32) (v140 : BitVec 32) (k0_t113 : Fin (k0_t113_loop i k0_t68 v137 v140).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v138 : BitVec 32 := Scalar.maxsi v137 v75
  let c1_i32_85 : BitVec 32 := 1#32
  let arg19 : BitVec 32 := Scf.iv v138 c1_i32_85 k0_t113
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off896 (i : grid0.Coords) (k0_t68 : Fin k0_t68_loop.trips) (v137 : BitVec 32) (v140 : BitVec 32) (k0_t113 : Fin (k0_t113_loop i k0_t68 v137 v140).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v138 : BitVec 32 := Scalar.maxsi v137 v75
  let c1_i32_85 : BitVec 32 := 1#32
  let arg19 : BitVec 32 := Scf.iv v138 c1_i32_85 k0_t113
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off897 (i : grid0.Coords) (k0_t68 : Fin k0_t68_loop.trips) (v137 : BitVec 32) (v140 : BitVec 32) (k0_t113 : Fin (k0_t113_loop i k0_t68 v137 v140).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v138 : BitVec 32 := Scalar.maxsi v137 v75
  let c1_i32_85 : BitVec 32 := 1#32
  let arg19 : BitVec 32 := Scf.iv v138 c1_i32_85 k0_t113
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off898 (i : grid0.Coords) (k0_t68 : Fin k0_t68_loop.trips) (v137 : BitVec 32) (v140 : BitVec 32) (k0_t113 : Fin (k0_t113_loop i k0_t68 v137 v140).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v138 : BitVec 32 := Scalar.maxsi v137 v75
  let c1_i32_85 : BitVec 32 := 1#32
  let arg19 : BitVec 32 := Scf.iv v138 c1_i32_85 k0_t113
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]
@[reducible] def k0_t114_loop (i : grid0.Coords) (k0_t68 : Fin k0_t68_loop.trips) (v137 : BitVec 32) (v140 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v138 : BitVec 32 := Scalar.maxsi v137 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let v231 : BitVec 32 := Scalar.addi v138 v230
  let c1_i32_86 : BitVec 32 := 1#32
  ⟨v234, v231, c1_i32_86⟩
def k0_off899 (i : grid0.Coords) (k0_t68 : Fin k0_t68_loop.trips) (v137 : BitVec 32) (v140 : BitVec 32) (k0_t114 : Fin (k0_t114_loop i k0_t68 v137 v140).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v138 : BitVec 32 := Scalar.maxsi v137 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_86 : BitVec 32 := 1#32
  let arg19 : BitVec 32 := Scf.iv v234 c1_i32_86 k0_t114
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off900 (i : grid0.Coords) (k0_t68 : Fin k0_t68_loop.trips) (v137 : BitVec 32) (v140 : BitVec 32) (k0_t114 : Fin (k0_t114_loop i k0_t68 v137 v140).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v138 : BitVec 32 := Scalar.maxsi v137 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_86 : BitVec 32 := 1#32
  let arg19 : BitVec 32 := Scf.iv v234 c1_i32_86 k0_t114
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off901 (i : grid0.Coords) (k0_t68 : Fin k0_t68_loop.trips) (v137 : BitVec 32) (v140 : BitVec 32) (k0_t114 : Fin (k0_t114_loop i k0_t68 v137 v140).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v138 : BitVec 32 := Scalar.maxsi v137 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_86 : BitVec 32 := 1#32
  let arg19 : BitVec 32 := Scf.iv v234 c1_i32_86 k0_t114
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off902 (i : grid0.Coords) (k0_t68 : Fin k0_t68_loop.trips) (v137 : BitVec 32) (v140 : BitVec 32) (k0_t114 : Fin (k0_t114_loop i k0_t68 v137 v140).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v138 : BitVec 32 := Scalar.maxsi v137 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_86 : BitVec 32 := 1#32
  let arg19 : BitVec 32 := Scf.iv v234 c1_i32_86 k0_t114
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off903 (i : grid0.Coords) (k0_t68 : Fin k0_t68_loop.trips) (v137 : BitVec 32) (v140 : BitVec 32) (k0_t114 : Fin (k0_t114_loop i k0_t68 v137 v140).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v138 : BitVec 32 := Scalar.maxsi v137 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_86 : BitVec 32 := 1#32
  let arg19 : BitVec 32 := Scf.iv v234 c1_i32_86 k0_t114
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off904 (i : grid0.Coords) (k0_t68 : Fin k0_t68_loop.trips) (v137 : BitVec 32) (v140 : BitVec 32) (k0_t114 : Fin (k0_t114_loop i k0_t68 v137 v140).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v138 : BitVec 32 := Scalar.maxsi v137 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_86 : BitVec 32 := 1#32
  let arg19 : BitVec 32 := Scf.iv v234 c1_i32_86 k0_t114
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off905 (i : grid0.Coords) (k0_t68 : Fin k0_t68_loop.trips) (v137 : BitVec 32) (v140 : BitVec 32) (k0_t114 : Fin (k0_t114_loop i k0_t68 v137 v140).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v138 : BitVec 32 := Scalar.maxsi v137 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_86 : BitVec 32 := 1#32
  let arg19 : BitVec 32 := Scf.iv v234 c1_i32_86 k0_t114
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off906 (i : grid0.Coords) (k0_t68 : Fin k0_t68_loop.trips) (v137 : BitVec 32) (v140 : BitVec 32) (k0_t114 : Fin (k0_t114_loop i k0_t68 v137 v140).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v138 : BitVec 32 := Scalar.maxsi v137 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v141 : BitVec 32 := Scalar.minsi v140 v77
  let v230 : BitVec 32 := Scalar.subi v141 v138
  let c1_i32_84 : BitVec 32 := 1#32
  let v232 : BitVec 32 := Scalar.divsi v230 c1_i32_84
  let v233 : BitVec 32 := Scalar.muli v232 c1_i32_84
  let v234 : BitVec 32 := Scalar.addi v138 v233
  let c1_i32_86 : BitVec 32 := 1#32
  let arg19 : BitVec 32 := Scf.iv v234 c1_i32_86 k0_t114
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]

def k0_chk55 (i : grid0.Coords) (k0_t68 : Fin k0_t68_loop.trips) (v137 : BitVec 32) (v140 : BitVec 32) : Prop :=
  (∀ (k0_h55 : k0_cond55 k0_t68 = 1#1), ∀ (k0_h62 : k0_cond62 i k0_t68 v137 v140 = 1#1), (k0_t113_loop i k0_t68 v137 v140).OK) ∧
  (∀ k0_t113 : Fin (k0_t113_loop i k0_t68 v137 v140).trips, ∀ (k0_h55 : k0_cond55 k0_t68 = 1#1), ∀ (k0_h62 : k0_cond62 i k0_t68 v137 v140 = 1#1), ∀ a, (k0_off891 i k0_t68 v137 v140 k0_t113) a + S1x16.size a ≤ S256x128.size a) ∧
  (∀ k0_t113 : Fin (k0_t113_loop i k0_t68 v137 v140).trips, ∀ (k0_h55 : k0_cond55 k0_t68 = 1#1), ∀ (k0_h62 : k0_cond62 i k0_t68 v137 v140 = 1#1), ∀ a, (k0_off892 i k0_t68 v137 v140 k0_t113) a + S1x16.size a ≤ S256x128.size a) ∧
  (∀ k0_t113 : Fin (k0_t113_loop i k0_t68 v137 v140).trips, ∀ (k0_h55 : k0_cond55 k0_t68 = 1#1), ∀ (k0_h62 : k0_cond62 i k0_t68 v137 v140 = 1#1), ∀ a, (k0_off893 i k0_t68 v137 v140 k0_t113) a + S1x16.size a ≤ S256x128.size a) ∧
  (∀ k0_t113 : Fin (k0_t113_loop i k0_t68 v137 v140).trips, ∀ (k0_h55 : k0_cond55 k0_t68 = 1#1), ∀ (k0_h62 : k0_cond62 i k0_t68 v137 v140 = 1#1), ∀ a, (k0_off894 i k0_t68 v137 v140 k0_t113) a + S1x16.size a ≤ S256x128.size a) ∧
  (∀ k0_t113 : Fin (k0_t113_loop i k0_t68 v137 v140).trips, ∀ (k0_h55 : k0_cond55 k0_t68 = 1#1), ∀ (k0_h62 : k0_cond62 i k0_t68 v137 v140 = 1#1), ∀ a, (k0_off895 i k0_t68 v137 v140 k0_t113) a + S1x16.size a ≤ S256x128.size a) ∧
  (∀ k0_t113 : Fin (k0_t113_loop i k0_t68 v137 v140).trips, ∀ (k0_h55 : k0_cond55 k0_t68 = 1#1), ∀ (k0_h62 : k0_cond62 i k0_t68 v137 v140 = 1#1), ∀ a, (k0_off896 i k0_t68 v137 v140 k0_t113) a + S1x16.size a ≤ S256x128.size a) ∧
  (∀ k0_t113 : Fin (k0_t113_loop i k0_t68 v137 v140).trips, ∀ (k0_h55 : k0_cond55 k0_t68 = 1#1), ∀ (k0_h62 : k0_cond62 i k0_t68 v137 v140 = 1#1), ∀ a, (k0_off897 i k0_t68 v137 v140 k0_t113) a + S1x16.size a ≤ S256x128.size a) ∧
  (∀ k0_t113 : Fin (k0_t113_loop i k0_t68 v137 v140).trips, ∀ (k0_h55 : k0_cond55 k0_t68 = 1#1), ∀ (k0_h62 : k0_cond62 i k0_t68 v137 v140 = 1#1), ∀ a, (k0_off898 i k0_t68 v137 v140 k0_t113) a + S1x16.size a ≤ S256x128.size a) ∧
  (∀ (k0_h55 : k0_cond55 k0_t68 = 1#1), ∀ (k0_h62 : k0_cond62 i k0_t68 v137 v140 = 1#1), (k0_t114_loop i k0_t68 v137 v140).OK) ∧
  (∀ k0_t114 : Fin (k0_t114_loop i k0_t68 v137 v140).trips, ∀ (k0_h55 : k0_cond55 k0_t68 = 1#1), ∀ (k0_h62 : k0_cond62 i k0_t68 v137 v140 = 1#1), ∀ a, (k0_off899 i k0_t68 v137 v140 k0_t114) a + S1x16.size a ≤ S256x128.size a) ∧
  (∀ k0_t114 : Fin (k0_t114_loop i k0_t68 v137 v140).trips, ∀ (k0_h55 : k0_cond55 k0_t68 = 1#1), ∀ (k0_h62 : k0_cond62 i k0_t68 v137 v140 = 1#1), ∀ a, (k0_off900 i k0_t68 v137 v140 k0_t114) a + S1x16.size a ≤ S256x128.size a) ∧
  (∀ k0_t114 : Fin (k0_t114_loop i k0_t68 v137 v140).trips, ∀ (k0_h55 : k0_cond55 k0_t68 = 1#1), ∀ (k0_h62 : k0_cond62 i k0_t68 v137 v140 = 1#1), ∀ a, (k0_off901 i k0_t68 v137 v140 k0_t114) a + S1x16.size a ≤ S256x128.size a) ∧
  (∀ k0_t114 : Fin (k0_t114_loop i k0_t68 v137 v140).trips, ∀ (k0_h55 : k0_cond55 k0_t68 = 1#1), ∀ (k0_h62 : k0_cond62 i k0_t68 v137 v140 = 1#1), ∀ a, (k0_off902 i k0_t68 v137 v140 k0_t114) a + S1x16.size a ≤ S256x128.size a) ∧
  (∀ k0_t114 : Fin (k0_t114_loop i k0_t68 v137 v140).trips, ∀ (k0_h55 : k0_cond55 k0_t68 = 1#1), ∀ (k0_h62 : k0_cond62 i k0_t68 v137 v140 = 1#1), ∀ a, (k0_off903 i k0_t68 v137 v140 k0_t114) a + S1x16.size a ≤ S256x128.size a) ∧
  (∀ k0_t114 : Fin (k0_t114_loop i k0_t68 v137 v140).trips, ∀ (k0_h55 : k0_cond55 k0_t68 = 1#1), ∀ (k0_h62 : k0_cond62 i k0_t68 v137 v140 = 1#1), ∀ a, (k0_off904 i k0_t68 v137 v140 k0_t114) a + S1x16.size a ≤ S256x128.size a) ∧
  (∀ k0_t114 : Fin (k0_t114_loop i k0_t68 v137 v140).trips, ∀ (k0_h55 : k0_cond55 k0_t68 = 1#1), ∀ (k0_h62 : k0_cond62 i k0_t68 v137 v140 = 1#1), ∀ a, (k0_off905 i k0_t68 v137 v140 k0_t114) a + S1x16.size a ≤ S256x128.size a) ∧
  (∀ k0_t114 : Fin (k0_t114_loop i k0_t68 v137 v140).trips, ∀ (k0_h55 : k0_cond55 k0_t68 = 1#1), ∀ (k0_h62 : k0_cond62 i k0_t68 v137 v140 = 1#1), ∀ a, (k0_off906 i k0_t68 v137 v140 k0_t114) a + S1x16.size a ≤ S256x128.size a)
theorem k0_t113_ok : ∀ (i : grid0.Coords) (k0_t68 : Fin k0_t68_loop.trips) (v137 : BitVec 32) (v140 : BitVec 32) (k0_hw55 : k0_chk55 i k0_t68 v137 v140), ∀ (k0_h55 : k0_cond55 k0_t68 = 1#1), ∀ (k0_h62 : k0_cond62 i k0_t68 v137 v140 = 1#1), (k0_t113_loop i k0_t68 v137 v140).OK := fun i k0_t68 v137 v140 k0_hw55 k0_h55 k0_h62 => k0_hw55.1 k0_h55 k0_h62
theorem k0_off891_inb : ∀ (i : grid0.Coords) (k0_t68 : Fin k0_t68_loop.trips) (v137 : BitVec 32) (v140 : BitVec 32) (k0_hw55 : k0_chk55 i k0_t68 v137 v140) (k0_t113 : Fin (k0_t113_loop i k0_t68 v137 v140).trips), ∀ (k0_h55 : k0_cond55 k0_t68 = 1#1), ∀ (k0_h62 : k0_cond62 i k0_t68 v137 v140 = 1#1), ∀ a, (k0_off891 i k0_t68 v137 v140 k0_t113) a + S1x16.size a ≤ S256x128.size a := fun i k0_t68 v137 v140 k0_hw55 k0_t113 k0_h55 k0_h62 => k0_hw55.2.1 k0_t113 k0_h55 k0_h62
theorem k0_off892_inb : ∀ (i : grid0.Coords) (k0_t68 : Fin k0_t68_loop.trips) (v137 : BitVec 32) (v140 : BitVec 32) (k0_hw55 : k0_chk55 i k0_t68 v137 v140) (k0_t113 : Fin (k0_t113_loop i k0_t68 v137 v140).trips), ∀ (k0_h55 : k0_cond55 k0_t68 = 1#1), ∀ (k0_h62 : k0_cond62 i k0_t68 v137 v140 = 1#1), ∀ a, (k0_off892 i k0_t68 v137 v140 k0_t113) a + S1x16.size a ≤ S256x128.size a := fun i k0_t68 v137 v140 k0_hw55 k0_t113 k0_h55 k0_h62 => k0_hw55.2.2.1 k0_t113 k0_h55 k0_h62
theorem k0_off893_inb : ∀ (i : grid0.Coords) (k0_t68 : Fin k0_t68_loop.trips) (v137 : BitVec 32) (v140 : BitVec 32) (k0_hw55 : k0_chk55 i k0_t68 v137 v140) (k0_t113 : Fin (k0_t113_loop i k0_t68 v137 v140).trips), ∀ (k0_h55 : k0_cond55 k0_t68 = 1#1), ∀ (k0_h62 : k0_cond62 i k0_t68 v137 v140 = 1#1), ∀ a, (k0_off893 i k0_t68 v137 v140 k0_t113) a + S1x16.size a ≤ S256x128.size a := fun i k0_t68 v137 v140 k0_hw55 k0_t113 k0_h55 k0_h62 => k0_hw55.2.2.2.1 k0_t113 k0_h55 k0_h62
theorem k0_off894_inb : ∀ (i : grid0.Coords) (k0_t68 : Fin k0_t68_loop.trips) (v137 : BitVec 32) (v140 : BitVec 32) (k0_hw55 : k0_chk55 i k0_t68 v137 v140) (k0_t113 : Fin (k0_t113_loop i k0_t68 v137 v140).trips), ∀ (k0_h55 : k0_cond55 k0_t68 = 1#1), ∀ (k0_h62 : k0_cond62 i k0_t68 v137 v140 = 1#1), ∀ a, (k0_off894 i k0_t68 v137 v140 k0_t113) a + S1x16.size a ≤ S256x128.size a := fun i k0_t68 v137 v140 k0_hw55 k0_t113 k0_h55 k0_h62 => k0_hw55.2.2.2.2.1 k0_t113 k0_h55 k0_h62
theorem k0_off895_inb : ∀ (i : grid0.Coords) (k0_t68 : Fin k0_t68_loop.trips) (v137 : BitVec 32) (v140 : BitVec 32) (k0_hw55 : k0_chk55 i k0_t68 v137 v140) (k0_t113 : Fin (k0_t113_loop i k0_t68 v137 v140).trips), ∀ (k0_h55 : k0_cond55 k0_t68 = 1#1), ∀ (k0_h62 : k0_cond62 i k0_t68 v137 v140 = 1#1), ∀ a, (k0_off895 i k0_t68 v137 v140 k0_t113) a + S1x16.size a ≤ S256x128.size a := fun i k0_t68 v137 v140 k0_hw55 k0_t113 k0_h55 k0_h62 => k0_hw55.2.2.2.2.2.1 k0_t113 k0_h55 k0_h62
theorem k0_off896_inb : ∀ (i : grid0.Coords) (k0_t68 : Fin k0_t68_loop.trips) (v137 : BitVec 32) (v140 : BitVec 32) (k0_hw55 : k0_chk55 i k0_t68 v137 v140) (k0_t113 : Fin (k0_t113_loop i k0_t68 v137 v140).trips), ∀ (k0_h55 : k0_cond55 k0_t68 = 1#1), ∀ (k0_h62 : k0_cond62 i k0_t68 v137 v140 = 1#1), ∀ a, (k0_off896 i k0_t68 v137 v140 k0_t113) a + S1x16.size a ≤ S256x128.size a := fun i k0_t68 v137 v140 k0_hw55 k0_t113 k0_h55 k0_h62 => k0_hw55.2.2.2.2.2.2.1 k0_t113 k0_h55 k0_h62
theorem k0_off897_inb : ∀ (i : grid0.Coords) (k0_t68 : Fin k0_t68_loop.trips) (v137 : BitVec 32) (v140 : BitVec 32) (k0_hw55 : k0_chk55 i k0_t68 v137 v140) (k0_t113 : Fin (k0_t113_loop i k0_t68 v137 v140).trips), ∀ (k0_h55 : k0_cond55 k0_t68 = 1#1), ∀ (k0_h62 : k0_cond62 i k0_t68 v137 v140 = 1#1), ∀ a, (k0_off897 i k0_t68 v137 v140 k0_t113) a + S1x16.size a ≤ S256x128.size a := fun i k0_t68 v137 v140 k0_hw55 k0_t113 k0_h55 k0_h62 => k0_hw55.2.2.2.2.2.2.2.1 k0_t113 k0_h55 k0_h62
theorem k0_off898_inb : ∀ (i : grid0.Coords) (k0_t68 : Fin k0_t68_loop.trips) (v137 : BitVec 32) (v140 : BitVec 32) (k0_hw55 : k0_chk55 i k0_t68 v137 v140) (k0_t113 : Fin (k0_t113_loop i k0_t68 v137 v140).trips), ∀ (k0_h55 : k0_cond55 k0_t68 = 1#1), ∀ (k0_h62 : k0_cond62 i k0_t68 v137 v140 = 1#1), ∀ a, (k0_off898 i k0_t68 v137 v140 k0_t113) a + S1x16.size a ≤ S256x128.size a := fun i k0_t68 v137 v140 k0_hw55 k0_t113 k0_h55 k0_h62 => k0_hw55.2.2.2.2.2.2.2.2.1 k0_t113 k0_h55 k0_h62
theorem k0_t114_ok : ∀ (i : grid0.Coords) (k0_t68 : Fin k0_t68_loop.trips) (v137 : BitVec 32) (v140 : BitVec 32) (k0_hw55 : k0_chk55 i k0_t68 v137 v140), ∀ (k0_h55 : k0_cond55 k0_t68 = 1#1), ∀ (k0_h62 : k0_cond62 i k0_t68 v137 v140 = 1#1), (k0_t114_loop i k0_t68 v137 v140).OK := fun i k0_t68 v137 v140 k0_hw55 k0_h55 k0_h62 => k0_hw55.2.2.2.2.2.2.2.2.2.1 k0_h55 k0_h62
theorem k0_off899_inb : ∀ (i : grid0.Coords) (k0_t68 : Fin k0_t68_loop.trips) (v137 : BitVec 32) (v140 : BitVec 32) (k0_hw55 : k0_chk55 i k0_t68 v137 v140) (k0_t114 : Fin (k0_t114_loop i k0_t68 v137 v140).trips), ∀ (k0_h55 : k0_cond55 k0_t68 = 1#1), ∀ (k0_h62 : k0_cond62 i k0_t68 v137 v140 = 1#1), ∀ a, (k0_off899 i k0_t68 v137 v140 k0_t114) a + S1x16.size a ≤ S256x128.size a := fun i k0_t68 v137 v140 k0_hw55 k0_t114 k0_h55 k0_h62 => k0_hw55.2.2.2.2.2.2.2.2.2.2.1 k0_t114 k0_h55 k0_h62
theorem k0_off900_inb : ∀ (i : grid0.Coords) (k0_t68 : Fin k0_t68_loop.trips) (v137 : BitVec 32) (v140 : BitVec 32) (k0_hw55 : k0_chk55 i k0_t68 v137 v140) (k0_t114 : Fin (k0_t114_loop i k0_t68 v137 v140).trips), ∀ (k0_h55 : k0_cond55 k0_t68 = 1#1), ∀ (k0_h62 : k0_cond62 i k0_t68 v137 v140 = 1#1), ∀ a, (k0_off900 i k0_t68 v137 v140 k0_t114) a + S1x16.size a ≤ S256x128.size a := fun i k0_t68 v137 v140 k0_hw55 k0_t114 k0_h55 k0_h62 => k0_hw55.2.2.2.2.2.2.2.2.2.2.2.1 k0_t114 k0_h55 k0_h62
theorem k0_off901_inb : ∀ (i : grid0.Coords) (k0_t68 : Fin k0_t68_loop.trips) (v137 : BitVec 32) (v140 : BitVec 32) (k0_hw55 : k0_chk55 i k0_t68 v137 v140) (k0_t114 : Fin (k0_t114_loop i k0_t68 v137 v140).trips), ∀ (k0_h55 : k0_cond55 k0_t68 = 1#1), ∀ (k0_h62 : k0_cond62 i k0_t68 v137 v140 = 1#1), ∀ a, (k0_off901 i k0_t68 v137 v140 k0_t114) a + S1x16.size a ≤ S256x128.size a := fun i k0_t68 v137 v140 k0_hw55 k0_t114 k0_h55 k0_h62 => k0_hw55.2.2.2.2.2.2.2.2.2.2.2.2.1 k0_t114 k0_h55 k0_h62
theorem k0_off902_inb : ∀ (i : grid0.Coords) (k0_t68 : Fin k0_t68_loop.trips) (v137 : BitVec 32) (v140 : BitVec 32) (k0_hw55 : k0_chk55 i k0_t68 v137 v140) (k0_t114 : Fin (k0_t114_loop i k0_t68 v137 v140).trips), ∀ (k0_h55 : k0_cond55 k0_t68 = 1#1), ∀ (k0_h62 : k0_cond62 i k0_t68 v137 v140 = 1#1), ∀ a, (k0_off902 i k0_t68 v137 v140 k0_t114) a + S1x16.size a ≤ S256x128.size a := fun i k0_t68 v137 v140 k0_hw55 k0_t114 k0_h55 k0_h62 => k0_hw55.2.2.2.2.2.2.2.2.2.2.2.2.2.1 k0_t114 k0_h55 k0_h62
theorem k0_off903_inb : ∀ (i : grid0.Coords) (k0_t68 : Fin k0_t68_loop.trips) (v137 : BitVec 32) (v140 : BitVec 32) (k0_hw55 : k0_chk55 i k0_t68 v137 v140) (k0_t114 : Fin (k0_t114_loop i k0_t68 v137 v140).trips), ∀ (k0_h55 : k0_cond55 k0_t68 = 1#1), ∀ (k0_h62 : k0_cond62 i k0_t68 v137 v140 = 1#1), ∀ a, (k0_off903 i k0_t68 v137 v140 k0_t114) a + S1x16.size a ≤ S256x128.size a := fun i k0_t68 v137 v140 k0_hw55 k0_t114 k0_h55 k0_h62 => k0_hw55.2.2.2.2.2.2.2.2.2.2.2.2.2.2.1 k0_t114 k0_h55 k0_h62
theorem k0_off904_inb : ∀ (i : grid0.Coords) (k0_t68 : Fin k0_t68_loop.trips) (v137 : BitVec 32) (v140 : BitVec 32) (k0_hw55 : k0_chk55 i k0_t68 v137 v140) (k0_t114 : Fin (k0_t114_loop i k0_t68 v137 v140).trips), ∀ (k0_h55 : k0_cond55 k0_t68 = 1#1), ∀ (k0_h62 : k0_cond62 i k0_t68 v137 v140 = 1#1), ∀ a, (k0_off904 i k0_t68 v137 v140 k0_t114) a + S1x16.size a ≤ S256x128.size a := fun i k0_t68 v137 v140 k0_hw55 k0_t114 k0_h55 k0_h62 => k0_hw55.2.2.2.2.2.2.2.2.2.2.2.2.2.2.2.1 k0_t114 k0_h55 k0_h62
theorem k0_off905_inb : ∀ (i : grid0.Coords) (k0_t68 : Fin k0_t68_loop.trips) (v137 : BitVec 32) (v140 : BitVec 32) (k0_hw55 : k0_chk55 i k0_t68 v137 v140) (k0_t114 : Fin (k0_t114_loop i k0_t68 v137 v140).trips), ∀ (k0_h55 : k0_cond55 k0_t68 = 1#1), ∀ (k0_h62 : k0_cond62 i k0_t68 v137 v140 = 1#1), ∀ a, (k0_off905 i k0_t68 v137 v140 k0_t114) a + S1x16.size a ≤ S256x128.size a := fun i k0_t68 v137 v140 k0_hw55 k0_t114 k0_h55 k0_h62 => k0_hw55.2.2.2.2.2.2.2.2.2.2.2.2.2.2.2.2.1 k0_t114 k0_h55 k0_h62
theorem k0_off906_inb : ∀ (i : grid0.Coords) (k0_t68 : Fin k0_t68_loop.trips) (v137 : BitVec 32) (v140 : BitVec 32) (k0_hw55 : k0_chk55 i k0_t68 v137 v140) (k0_t114 : Fin (k0_t114_loop i k0_t68 v137 v140).trips), ∀ (k0_h55 : k0_cond55 k0_t68 = 1#1), ∀ (k0_h62 : k0_cond62 i k0_t68 v137 v140 = 1#1), ∀ a, (k0_off906 i k0_t68 v137 v140 k0_t114) a + S1x16.size a ≤ S256x128.size a := fun i k0_t68 v137 v140 k0_hw55 k0_t114 k0_h55 k0_h62 => k0_hw55.2.2.2.2.2.2.2.2.2.2.2.2.2.2.2.2.2 k0_t114 k0_h55 k0_h62

@[reducible] def k0_t115_loop (i : grid0.Coords) (k0_t68 : Fin k0_t68_loop.trips) (v146 : BitVec 32) (v149 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v147 : BitVec 32 := Scalar.maxsi v146 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_85 : BitVec 32 := 1#32
  ⟨v147, v234, c1_i32_85⟩
def k0_cond63 (i : grid0.Coords) (k0_t68 : Fin k0_t68_loop.trips) (v146 : BitVec 32) (v149 : BitVec 32) : BitVec 1 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v150 : BitVec 32 := Scalar.minsi v149 v77
  let v147 : BitVec 32 := Scalar.maxsi v146 v75
  let v151 : BitVec 1 := Scalar.cmpi .sgt v150 v147
  let v152 : BitVec 32 := Scalar.extui v151
  let c0_i32_72 : BitVec 32 := 0#32
  let v153 : BitVec 1 := Scalar.cmpi .ne v152 c0_i32_72
  v153

def k0_off907 (i : grid0.Coords) (k0_t68 : Fin k0_t68_loop.trips) (v146 : BitVec 32) (v149 : BitVec 32) (k0_t115 : Fin (k0_t115_loop i k0_t68 v146 v149).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v147 : BitVec 32 := Scalar.maxsi v146 v75
  let c1_i32_85 : BitVec 32 := 1#32
  let arg19 : BitVec 32 := Scf.iv v147 c1_i32_85 k0_t115
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off908 (i : grid0.Coords) (k0_t68 : Fin k0_t68_loop.trips) (v146 : BitVec 32) (v149 : BitVec 32) (k0_t115 : Fin (k0_t115_loop i k0_t68 v146 v149).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v147 : BitVec 32 := Scalar.maxsi v146 v75
  let c1_i32_85 : BitVec 32 := 1#32
  let arg19 : BitVec 32 := Scf.iv v147 c1_i32_85 k0_t115
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off909 (i : grid0.Coords) (k0_t68 : Fin k0_t68_loop.trips) (v146 : BitVec 32) (v149 : BitVec 32) (k0_t115 : Fin (k0_t115_loop i k0_t68 v146 v149).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v147 : BitVec 32 := Scalar.maxsi v146 v75
  let c1_i32_85 : BitVec 32 := 1#32
  let arg19 : BitVec 32 := Scf.iv v147 c1_i32_85 k0_t115
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off910 (i : grid0.Coords) (k0_t68 : Fin k0_t68_loop.trips) (v146 : BitVec 32) (v149 : BitVec 32) (k0_t115 : Fin (k0_t115_loop i k0_t68 v146 v149).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v147 : BitVec 32 := Scalar.maxsi v146 v75
  let c1_i32_85 : BitVec 32 := 1#32
  let arg19 : BitVec 32 := Scf.iv v147 c1_i32_85 k0_t115
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off911 (i : grid0.Coords) (k0_t68 : Fin k0_t68_loop.trips) (v146 : BitVec 32) (v149 : BitVec 32) (k0_t115 : Fin (k0_t115_loop i k0_t68 v146 v149).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v147 : BitVec 32 := Scalar.maxsi v146 v75
  let c1_i32_85 : BitVec 32 := 1#32
  let arg19 : BitVec 32 := Scf.iv v147 c1_i32_85 k0_t115
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off912 (i : grid0.Coords) (k0_t68 : Fin k0_t68_loop.trips) (v146 : BitVec 32) (v149 : BitVec 32) (k0_t115 : Fin (k0_t115_loop i k0_t68 v146 v149).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v147 : BitVec 32 := Scalar.maxsi v146 v75
  let c1_i32_85 : BitVec 32 := 1#32
  let arg19 : BitVec 32 := Scf.iv v147 c1_i32_85 k0_t115
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off913 (i : grid0.Coords) (k0_t68 : Fin k0_t68_loop.trips) (v146 : BitVec 32) (v149 : BitVec 32) (k0_t115 : Fin (k0_t115_loop i k0_t68 v146 v149).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v147 : BitVec 32 := Scalar.maxsi v146 v75
  let c1_i32_85 : BitVec 32 := 1#32
  let arg19 : BitVec 32 := Scf.iv v147 c1_i32_85 k0_t115
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off914 (i : grid0.Coords) (k0_t68 : Fin k0_t68_loop.trips) (v146 : BitVec 32) (v149 : BitVec 32) (k0_t115 : Fin (k0_t115_loop i k0_t68 v146 v149).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v147 : BitVec 32 := Scalar.maxsi v146 v75
  let c1_i32_85 : BitVec 32 := 1#32
  let arg19 : BitVec 32 := Scf.iv v147 c1_i32_85 k0_t115
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]
@[reducible] def k0_t116_loop (i : grid0.Coords) (k0_t68 : Fin k0_t68_loop.trips) (v146 : BitVec 32) (v149 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v147 : BitVec 32 := Scalar.maxsi v146 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let v231 : BitVec 32 := Scalar.addi v147 v230
  let c1_i32_86 : BitVec 32 := 1#32
  ⟨v234, v231, c1_i32_86⟩
def k0_off915 (i : grid0.Coords) (k0_t68 : Fin k0_t68_loop.trips) (v146 : BitVec 32) (v149 : BitVec 32) (k0_t116 : Fin (k0_t116_loop i k0_t68 v146 v149).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v147 : BitVec 32 := Scalar.maxsi v146 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_86 : BitVec 32 := 1#32
  let arg19 : BitVec 32 := Scf.iv v234 c1_i32_86 k0_t116
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off916 (i : grid0.Coords) (k0_t68 : Fin k0_t68_loop.trips) (v146 : BitVec 32) (v149 : BitVec 32) (k0_t116 : Fin (k0_t116_loop i k0_t68 v146 v149).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v147 : BitVec 32 := Scalar.maxsi v146 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_86 : BitVec 32 := 1#32
  let arg19 : BitVec 32 := Scf.iv v234 c1_i32_86 k0_t116
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off917 (i : grid0.Coords) (k0_t68 : Fin k0_t68_loop.trips) (v146 : BitVec 32) (v149 : BitVec 32) (k0_t116 : Fin (k0_t116_loop i k0_t68 v146 v149).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v147 : BitVec 32 := Scalar.maxsi v146 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_86 : BitVec 32 := 1#32
  let arg19 : BitVec 32 := Scf.iv v234 c1_i32_86 k0_t116
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off918 (i : grid0.Coords) (k0_t68 : Fin k0_t68_loop.trips) (v146 : BitVec 32) (v149 : BitVec 32) (k0_t116 : Fin (k0_t116_loop i k0_t68 v146 v149).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v147 : BitVec 32 := Scalar.maxsi v146 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_86 : BitVec 32 := 1#32
  let arg19 : BitVec 32 := Scf.iv v234 c1_i32_86 k0_t116
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off919 (i : grid0.Coords) (k0_t68 : Fin k0_t68_loop.trips) (v146 : BitVec 32) (v149 : BitVec 32) (k0_t116 : Fin (k0_t116_loop i k0_t68 v146 v149).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v147 : BitVec 32 := Scalar.maxsi v146 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_86 : BitVec 32 := 1#32
  let arg19 : BitVec 32 := Scf.iv v234 c1_i32_86 k0_t116
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off920 (i : grid0.Coords) (k0_t68 : Fin k0_t68_loop.trips) (v146 : BitVec 32) (v149 : BitVec 32) (k0_t116 : Fin (k0_t116_loop i k0_t68 v146 v149).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v147 : BitVec 32 := Scalar.maxsi v146 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_86 : BitVec 32 := 1#32
  let arg19 : BitVec 32 := Scf.iv v234 c1_i32_86 k0_t116
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off921 (i : grid0.Coords) (k0_t68 : Fin k0_t68_loop.trips) (v146 : BitVec 32) (v149 : BitVec 32) (k0_t116 : Fin (k0_t116_loop i k0_t68 v146 v149).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v147 : BitVec 32 := Scalar.maxsi v146 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_86 : BitVec 32 := 1#32
  let arg19 : BitVec 32 := Scf.iv v234 c1_i32_86 k0_t116
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off922 (i : grid0.Coords) (k0_t68 : Fin k0_t68_loop.trips) (v146 : BitVec 32) (v149 : BitVec 32) (k0_t116 : Fin (k0_t116_loop i k0_t68 v146 v149).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v147 : BitVec 32 := Scalar.maxsi v146 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v150 : BitVec 32 := Scalar.minsi v149 v77
  let v230 : BitVec 32 := Scalar.subi v150 v147
  let c1_i32_84 : BitVec 32 := 1#32
  let v232 : BitVec 32 := Scalar.divsi v230 c1_i32_84
  let v233 : BitVec 32 := Scalar.muli v232 c1_i32_84
  let v234 : BitVec 32 := Scalar.addi v147 v233
  let c1_i32_86 : BitVec 32 := 1#32
  let arg19 : BitVec 32 := Scf.iv v234 c1_i32_86 k0_t116
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]

def k0_chk56 (i : grid0.Coords) (k0_t68 : Fin k0_t68_loop.trips) (v146 : BitVec 32) (v149 : BitVec 32) : Prop :=
  (∀ (k0_h55 : k0_cond55 k0_t68 = 1#1), ∀ (k0_h63 : k0_cond63 i k0_t68 v146 v149 = 1#1), (k0_t115_loop i k0_t68 v146 v149).OK) ∧
  (∀ k0_t115 : Fin (k0_t115_loop i k0_t68 v146 v149).trips, ∀ (k0_h55 : k0_cond55 k0_t68 = 1#1), ∀ (k0_h63 : k0_cond63 i k0_t68 v146 v149 = 1#1), ∀ a, (k0_off907 i k0_t68 v146 v149 k0_t115) a + S1x16.size a ≤ S256x128.size a) ∧
  (∀ k0_t115 : Fin (k0_t115_loop i k0_t68 v146 v149).trips, ∀ (k0_h55 : k0_cond55 k0_t68 = 1#1), ∀ (k0_h63 : k0_cond63 i k0_t68 v146 v149 = 1#1), ∀ a, (k0_off908 i k0_t68 v146 v149 k0_t115) a + S1x16.size a ≤ S256x128.size a) ∧
  (∀ k0_t115 : Fin (k0_t115_loop i k0_t68 v146 v149).trips, ∀ (k0_h55 : k0_cond55 k0_t68 = 1#1), ∀ (k0_h63 : k0_cond63 i k0_t68 v146 v149 = 1#1), ∀ a, (k0_off909 i k0_t68 v146 v149 k0_t115) a + S1x16.size a ≤ S256x128.size a) ∧
  (∀ k0_t115 : Fin (k0_t115_loop i k0_t68 v146 v149).trips, ∀ (k0_h55 : k0_cond55 k0_t68 = 1#1), ∀ (k0_h63 : k0_cond63 i k0_t68 v146 v149 = 1#1), ∀ a, (k0_off910 i k0_t68 v146 v149 k0_t115) a + S1x16.size a ≤ S256x128.size a) ∧
  (∀ k0_t115 : Fin (k0_t115_loop i k0_t68 v146 v149).trips, ∀ (k0_h55 : k0_cond55 k0_t68 = 1#1), ∀ (k0_h63 : k0_cond63 i k0_t68 v146 v149 = 1#1), ∀ a, (k0_off911 i k0_t68 v146 v149 k0_t115) a + S1x16.size a ≤ S256x128.size a) ∧
  (∀ k0_t115 : Fin (k0_t115_loop i k0_t68 v146 v149).trips, ∀ (k0_h55 : k0_cond55 k0_t68 = 1#1), ∀ (k0_h63 : k0_cond63 i k0_t68 v146 v149 = 1#1), ∀ a, (k0_off912 i k0_t68 v146 v149 k0_t115) a + S1x16.size a ≤ S256x128.size a) ∧
  (∀ k0_t115 : Fin (k0_t115_loop i k0_t68 v146 v149).trips, ∀ (k0_h55 : k0_cond55 k0_t68 = 1#1), ∀ (k0_h63 : k0_cond63 i k0_t68 v146 v149 = 1#1), ∀ a, (k0_off913 i k0_t68 v146 v149 k0_t115) a + S1x16.size a ≤ S256x128.size a) ∧
  (∀ k0_t115 : Fin (k0_t115_loop i k0_t68 v146 v149).trips, ∀ (k0_h55 : k0_cond55 k0_t68 = 1#1), ∀ (k0_h63 : k0_cond63 i k0_t68 v146 v149 = 1#1), ∀ a, (k0_off914 i k0_t68 v146 v149 k0_t115) a + S1x16.size a ≤ S256x128.size a) ∧
  (∀ (k0_h55 : k0_cond55 k0_t68 = 1#1), ∀ (k0_h63 : k0_cond63 i k0_t68 v146 v149 = 1#1), (k0_t116_loop i k0_t68 v146 v149).OK) ∧
  (∀ k0_t116 : Fin (k0_t116_loop i k0_t68 v146 v149).trips, ∀ (k0_h55 : k0_cond55 k0_t68 = 1#1), ∀ (k0_h63 : k0_cond63 i k0_t68 v146 v149 = 1#1), ∀ a, (k0_off915 i k0_t68 v146 v149 k0_t116) a + S1x16.size a ≤ S256x128.size a) ∧
  (∀ k0_t116 : Fin (k0_t116_loop i k0_t68 v146 v149).trips, ∀ (k0_h55 : k0_cond55 k0_t68 = 1#1), ∀ (k0_h63 : k0_cond63 i k0_t68 v146 v149 = 1#1), ∀ a, (k0_off916 i k0_t68 v146 v149 k0_t116) a + S1x16.size a ≤ S256x128.size a) ∧
  (∀ k0_t116 : Fin (k0_t116_loop i k0_t68 v146 v149).trips, ∀ (k0_h55 : k0_cond55 k0_t68 = 1#1), ∀ (k0_h63 : k0_cond63 i k0_t68 v146 v149 = 1#1), ∀ a, (k0_off917 i k0_t68 v146 v149 k0_t116) a + S1x16.size a ≤ S256x128.size a) ∧
  (∀ k0_t116 : Fin (k0_t116_loop i k0_t68 v146 v149).trips, ∀ (k0_h55 : k0_cond55 k0_t68 = 1#1), ∀ (k0_h63 : k0_cond63 i k0_t68 v146 v149 = 1#1), ∀ a, (k0_off918 i k0_t68 v146 v149 k0_t116) a + S1x16.size a ≤ S256x128.size a) ∧
  (∀ k0_t116 : Fin (k0_t116_loop i k0_t68 v146 v149).trips, ∀ (k0_h55 : k0_cond55 k0_t68 = 1#1), ∀ (k0_h63 : k0_cond63 i k0_t68 v146 v149 = 1#1), ∀ a, (k0_off919 i k0_t68 v146 v149 k0_t116) a + S1x16.size a ≤ S256x128.size a) ∧
  (∀ k0_t116 : Fin (k0_t116_loop i k0_t68 v146 v149).trips, ∀ (k0_h55 : k0_cond55 k0_t68 = 1#1), ∀ (k0_h63 : k0_cond63 i k0_t68 v146 v149 = 1#1), ∀ a, (k0_off920 i k0_t68 v146 v149 k0_t116) a + S1x16.size a ≤ S256x128.size a) ∧
  (∀ k0_t116 : Fin (k0_t116_loop i k0_t68 v146 v149).trips, ∀ (k0_h55 : k0_cond55 k0_t68 = 1#1), ∀ (k0_h63 : k0_cond63 i k0_t68 v146 v149 = 1#1), ∀ a, (k0_off921 i k0_t68 v146 v149 k0_t116) a + S1x16.size a ≤ S256x128.size a) ∧
  (∀ k0_t116 : Fin (k0_t116_loop i k0_t68 v146 v149).trips, ∀ (k0_h55 : k0_cond55 k0_t68 = 1#1), ∀ (k0_h63 : k0_cond63 i k0_t68 v146 v149 = 1#1), ∀ a, (k0_off922 i k0_t68 v146 v149 k0_t116) a + S1x16.size a ≤ S256x128.size a)
theorem k0_t115_ok : ∀ (i : grid0.Coords) (k0_t68 : Fin k0_t68_loop.trips) (v146 : BitVec 32) (v149 : BitVec 32) (k0_hw56 : k0_chk56 i k0_t68 v146 v149), ∀ (k0_h55 : k0_cond55 k0_t68 = 1#1), ∀ (k0_h63 : k0_cond63 i k0_t68 v146 v149 = 1#1), (k0_t115_loop i k0_t68 v146 v149).OK := fun i k0_t68 v146 v149 k0_hw56 k0_h55 k0_h63 => k0_hw56.1 k0_h55 k0_h63
theorem k0_off907_inb : ∀ (i : grid0.Coords) (k0_t68 : Fin k0_t68_loop.trips) (v146 : BitVec 32) (v149 : BitVec 32) (k0_hw56 : k0_chk56 i k0_t68 v146 v149) (k0_t115 : Fin (k0_t115_loop i k0_t68 v146 v149).trips), ∀ (k0_h55 : k0_cond55 k0_t68 = 1#1), ∀ (k0_h63 : k0_cond63 i k0_t68 v146 v149 = 1#1), ∀ a, (k0_off907 i k0_t68 v146 v149 k0_t115) a + S1x16.size a ≤ S256x128.size a := fun i k0_t68 v146 v149 k0_hw56 k0_t115 k0_h55 k0_h63 => k0_hw56.2.1 k0_t115 k0_h55 k0_h63
theorem k0_off908_inb : ∀ (i : grid0.Coords) (k0_t68 : Fin k0_t68_loop.trips) (v146 : BitVec 32) (v149 : BitVec 32) (k0_hw56 : k0_chk56 i k0_t68 v146 v149) (k0_t115 : Fin (k0_t115_loop i k0_t68 v146 v149).trips), ∀ (k0_h55 : k0_cond55 k0_t68 = 1#1), ∀ (k0_h63 : k0_cond63 i k0_t68 v146 v149 = 1#1), ∀ a, (k0_off908 i k0_t68 v146 v149 k0_t115) a + S1x16.size a ≤ S256x128.size a := fun i k0_t68 v146 v149 k0_hw56 k0_t115 k0_h55 k0_h63 => k0_hw56.2.2.1 k0_t115 k0_h55 k0_h63
theorem k0_off909_inb : ∀ (i : grid0.Coords) (k0_t68 : Fin k0_t68_loop.trips) (v146 : BitVec 32) (v149 : BitVec 32) (k0_hw56 : k0_chk56 i k0_t68 v146 v149) (k0_t115 : Fin (k0_t115_loop i k0_t68 v146 v149).trips), ∀ (k0_h55 : k0_cond55 k0_t68 = 1#1), ∀ (k0_h63 : k0_cond63 i k0_t68 v146 v149 = 1#1), ∀ a, (k0_off909 i k0_t68 v146 v149 k0_t115) a + S1x16.size a ≤ S256x128.size a := fun i k0_t68 v146 v149 k0_hw56 k0_t115 k0_h55 k0_h63 => k0_hw56.2.2.2.1 k0_t115 k0_h55 k0_h63
theorem k0_off910_inb : ∀ (i : grid0.Coords) (k0_t68 : Fin k0_t68_loop.trips) (v146 : BitVec 32) (v149 : BitVec 32) (k0_hw56 : k0_chk56 i k0_t68 v146 v149) (k0_t115 : Fin (k0_t115_loop i k0_t68 v146 v149).trips), ∀ (k0_h55 : k0_cond55 k0_t68 = 1#1), ∀ (k0_h63 : k0_cond63 i k0_t68 v146 v149 = 1#1), ∀ a, (k0_off910 i k0_t68 v146 v149 k0_t115) a + S1x16.size a ≤ S256x128.size a := fun i k0_t68 v146 v149 k0_hw56 k0_t115 k0_h55 k0_h63 => k0_hw56.2.2.2.2.1 k0_t115 k0_h55 k0_h63
theorem k0_off911_inb : ∀ (i : grid0.Coords) (k0_t68 : Fin k0_t68_loop.trips) (v146 : BitVec 32) (v149 : BitVec 32) (k0_hw56 : k0_chk56 i k0_t68 v146 v149) (k0_t115 : Fin (k0_t115_loop i k0_t68 v146 v149).trips), ∀ (k0_h55 : k0_cond55 k0_t68 = 1#1), ∀ (k0_h63 : k0_cond63 i k0_t68 v146 v149 = 1#1), ∀ a, (k0_off911 i k0_t68 v146 v149 k0_t115) a + S1x16.size a ≤ S256x128.size a := fun i k0_t68 v146 v149 k0_hw56 k0_t115 k0_h55 k0_h63 => k0_hw56.2.2.2.2.2.1 k0_t115 k0_h55 k0_h63
theorem k0_off912_inb : ∀ (i : grid0.Coords) (k0_t68 : Fin k0_t68_loop.trips) (v146 : BitVec 32) (v149 : BitVec 32) (k0_hw56 : k0_chk56 i k0_t68 v146 v149) (k0_t115 : Fin (k0_t115_loop i k0_t68 v146 v149).trips), ∀ (k0_h55 : k0_cond55 k0_t68 = 1#1), ∀ (k0_h63 : k0_cond63 i k0_t68 v146 v149 = 1#1), ∀ a, (k0_off912 i k0_t68 v146 v149 k0_t115) a + S1x16.size a ≤ S256x128.size a := fun i k0_t68 v146 v149 k0_hw56 k0_t115 k0_h55 k0_h63 => k0_hw56.2.2.2.2.2.2.1 k0_t115 k0_h55 k0_h63
theorem k0_off913_inb : ∀ (i : grid0.Coords) (k0_t68 : Fin k0_t68_loop.trips) (v146 : BitVec 32) (v149 : BitVec 32) (k0_hw56 : k0_chk56 i k0_t68 v146 v149) (k0_t115 : Fin (k0_t115_loop i k0_t68 v146 v149).trips), ∀ (k0_h55 : k0_cond55 k0_t68 = 1#1), ∀ (k0_h63 : k0_cond63 i k0_t68 v146 v149 = 1#1), ∀ a, (k0_off913 i k0_t68 v146 v149 k0_t115) a + S1x16.size a ≤ S256x128.size a := fun i k0_t68 v146 v149 k0_hw56 k0_t115 k0_h55 k0_h63 => k0_hw56.2.2.2.2.2.2.2.1 k0_t115 k0_h55 k0_h63
theorem k0_off914_inb : ∀ (i : grid0.Coords) (k0_t68 : Fin k0_t68_loop.trips) (v146 : BitVec 32) (v149 : BitVec 32) (k0_hw56 : k0_chk56 i k0_t68 v146 v149) (k0_t115 : Fin (k0_t115_loop i k0_t68 v146 v149).trips), ∀ (k0_h55 : k0_cond55 k0_t68 = 1#1), ∀ (k0_h63 : k0_cond63 i k0_t68 v146 v149 = 1#1), ∀ a, (k0_off914 i k0_t68 v146 v149 k0_t115) a + S1x16.size a ≤ S256x128.size a := fun i k0_t68 v146 v149 k0_hw56 k0_t115 k0_h55 k0_h63 => k0_hw56.2.2.2.2.2.2.2.2.1 k0_t115 k0_h55 k0_h63
theorem k0_t116_ok : ∀ (i : grid0.Coords) (k0_t68 : Fin k0_t68_loop.trips) (v146 : BitVec 32) (v149 : BitVec 32) (k0_hw56 : k0_chk56 i k0_t68 v146 v149), ∀ (k0_h55 : k0_cond55 k0_t68 = 1#1), ∀ (k0_h63 : k0_cond63 i k0_t68 v146 v149 = 1#1), (k0_t116_loop i k0_t68 v146 v149).OK := fun i k0_t68 v146 v149 k0_hw56 k0_h55 k0_h63 => k0_hw56.2.2.2.2.2.2.2.2.2.1 k0_h55 k0_h63
theorem k0_off915_inb : ∀ (i : grid0.Coords) (k0_t68 : Fin k0_t68_loop.trips) (v146 : BitVec 32) (v149 : BitVec 32) (k0_hw56 : k0_chk56 i k0_t68 v146 v149) (k0_t116 : Fin (k0_t116_loop i k0_t68 v146 v149).trips), ∀ (k0_h55 : k0_cond55 k0_t68 = 1#1), ∀ (k0_h63 : k0_cond63 i k0_t68 v146 v149 = 1#1), ∀ a, (k0_off915 i k0_t68 v146 v149 k0_t116) a + S1x16.size a ≤ S256x128.size a := fun i k0_t68 v146 v149 k0_hw56 k0_t116 k0_h55 k0_h63 => k0_hw56.2.2.2.2.2.2.2.2.2.2.1 k0_t116 k0_h55 k0_h63
theorem k0_off916_inb : ∀ (i : grid0.Coords) (k0_t68 : Fin k0_t68_loop.trips) (v146 : BitVec 32) (v149 : BitVec 32) (k0_hw56 : k0_chk56 i k0_t68 v146 v149) (k0_t116 : Fin (k0_t116_loop i k0_t68 v146 v149).trips), ∀ (k0_h55 : k0_cond55 k0_t68 = 1#1), ∀ (k0_h63 : k0_cond63 i k0_t68 v146 v149 = 1#1), ∀ a, (k0_off916 i k0_t68 v146 v149 k0_t116) a + S1x16.size a ≤ S256x128.size a := fun i k0_t68 v146 v149 k0_hw56 k0_t116 k0_h55 k0_h63 => k0_hw56.2.2.2.2.2.2.2.2.2.2.2.1 k0_t116 k0_h55 k0_h63
theorem k0_off917_inb : ∀ (i : grid0.Coords) (k0_t68 : Fin k0_t68_loop.trips) (v146 : BitVec 32) (v149 : BitVec 32) (k0_hw56 : k0_chk56 i k0_t68 v146 v149) (k0_t116 : Fin (k0_t116_loop i k0_t68 v146 v149).trips), ∀ (k0_h55 : k0_cond55 k0_t68 = 1#1), ∀ (k0_h63 : k0_cond63 i k0_t68 v146 v149 = 1#1), ∀ a, (k0_off917 i k0_t68 v146 v149 k0_t116) a + S1x16.size a ≤ S256x128.size a := fun i k0_t68 v146 v149 k0_hw56 k0_t116 k0_h55 k0_h63 => k0_hw56.2.2.2.2.2.2.2.2.2.2.2.2.1 k0_t116 k0_h55 k0_h63
theorem k0_off918_inb : ∀ (i : grid0.Coords) (k0_t68 : Fin k0_t68_loop.trips) (v146 : BitVec 32) (v149 : BitVec 32) (k0_hw56 : k0_chk56 i k0_t68 v146 v149) (k0_t116 : Fin (k0_t116_loop i k0_t68 v146 v149).trips), ∀ (k0_h55 : k0_cond55 k0_t68 = 1#1), ∀ (k0_h63 : k0_cond63 i k0_t68 v146 v149 = 1#1), ∀ a, (k0_off918 i k0_t68 v146 v149 k0_t116) a + S1x16.size a ≤ S256x128.size a := fun i k0_t68 v146 v149 k0_hw56 k0_t116 k0_h55 k0_h63 => k0_hw56.2.2.2.2.2.2.2.2.2.2.2.2.2.1 k0_t116 k0_h55 k0_h63
theorem k0_off919_inb : ∀ (i : grid0.Coords) (k0_t68 : Fin k0_t68_loop.trips) (v146 : BitVec 32) (v149 : BitVec 32) (k0_hw56 : k0_chk56 i k0_t68 v146 v149) (k0_t116 : Fin (k0_t116_loop i k0_t68 v146 v149).trips), ∀ (k0_h55 : k0_cond55 k0_t68 = 1#1), ∀ (k0_h63 : k0_cond63 i k0_t68 v146 v149 = 1#1), ∀ a, (k0_off919 i k0_t68 v146 v149 k0_t116) a + S1x16.size a ≤ S256x128.size a := fun i k0_t68 v146 v149 k0_hw56 k0_t116 k0_h55 k0_h63 => k0_hw56.2.2.2.2.2.2.2.2.2.2.2.2.2.2.1 k0_t116 k0_h55 k0_h63
theorem k0_off920_inb : ∀ (i : grid0.Coords) (k0_t68 : Fin k0_t68_loop.trips) (v146 : BitVec 32) (v149 : BitVec 32) (k0_hw56 : k0_chk56 i k0_t68 v146 v149) (k0_t116 : Fin (k0_t116_loop i k0_t68 v146 v149).trips), ∀ (k0_h55 : k0_cond55 k0_t68 = 1#1), ∀ (k0_h63 : k0_cond63 i k0_t68 v146 v149 = 1#1), ∀ a, (k0_off920 i k0_t68 v146 v149 k0_t116) a + S1x16.size a ≤ S256x128.size a := fun i k0_t68 v146 v149 k0_hw56 k0_t116 k0_h55 k0_h63 => k0_hw56.2.2.2.2.2.2.2.2.2.2.2.2.2.2.2.1 k0_t116 k0_h55 k0_h63
theorem k0_off921_inb : ∀ (i : grid0.Coords) (k0_t68 : Fin k0_t68_loop.trips) (v146 : BitVec 32) (v149 : BitVec 32) (k0_hw56 : k0_chk56 i k0_t68 v146 v149) (k0_t116 : Fin (k0_t116_loop i k0_t68 v146 v149).trips), ∀ (k0_h55 : k0_cond55 k0_t68 = 1#1), ∀ (k0_h63 : k0_cond63 i k0_t68 v146 v149 = 1#1), ∀ a, (k0_off921 i k0_t68 v146 v149 k0_t116) a + S1x16.size a ≤ S256x128.size a := fun i k0_t68 v146 v149 k0_hw56 k0_t116 k0_h55 k0_h63 => k0_hw56.2.2.2.2.2.2.2.2.2.2.2.2.2.2.2.2.1 k0_t116 k0_h55 k0_h63
theorem k0_off922_inb : ∀ (i : grid0.Coords) (k0_t68 : Fin k0_t68_loop.trips) (v146 : BitVec 32) (v149 : BitVec 32) (k0_hw56 : k0_chk56 i k0_t68 v146 v149) (k0_t116 : Fin (k0_t116_loop i k0_t68 v146 v149).trips), ∀ (k0_h55 : k0_cond55 k0_t68 = 1#1), ∀ (k0_h63 : k0_cond63 i k0_t68 v146 v149 = 1#1), ∀ a, (k0_off922 i k0_t68 v146 v149 k0_t116) a + S1x16.size a ≤ S256x128.size a := fun i k0_t68 v146 v149 k0_hw56 k0_t116 k0_h55 k0_h63 => k0_hw56.2.2.2.2.2.2.2.2.2.2.2.2.2.2.2.2.2 k0_t116 k0_h55 k0_h63

@[reducible] def k0_t117_loop (i : grid0.Coords) (k0_t68 : Fin k0_t68_loop.trips) (v155 : BitVec 32) (v158 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v156 : BitVec 32 := Scalar.maxsi v155 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_85 : BitVec 32 := 1#32
  ⟨v156, v234, c1_i32_85⟩
def k0_cond64 (i : grid0.Coords) (k0_t68 : Fin k0_t68_loop.trips) (v155 : BitVec 32) (v158 : BitVec 32) : BitVec 1 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v159 : BitVec 32 := Scalar.minsi v158 v77
  let v156 : BitVec 32 := Scalar.maxsi v155 v75
  let v160 : BitVec 1 := Scalar.cmpi .sgt v159 v156
  let v161 : BitVec 32 := Scalar.extui v160
  let c0_i32_73 : BitVec 32 := 0#32
  let v162 : BitVec 1 := Scalar.cmpi .ne v161 c0_i32_73
  v162

def k0_off923 (i : grid0.Coords) (k0_t68 : Fin k0_t68_loop.trips) (v155 : BitVec 32) (v158 : BitVec 32) (k0_t117 : Fin (k0_t117_loop i k0_t68 v155 v158).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v156 : BitVec 32 := Scalar.maxsi v155 v75
  let c1_i32_85 : BitVec 32 := 1#32
  let arg19 : BitVec 32 := Scf.iv v156 c1_i32_85 k0_t117
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off924 (i : grid0.Coords) (k0_t68 : Fin k0_t68_loop.trips) (v155 : BitVec 32) (v158 : BitVec 32) (k0_t117 : Fin (k0_t117_loop i k0_t68 v155 v158).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v156 : BitVec 32 := Scalar.maxsi v155 v75
  let c1_i32_85 : BitVec 32 := 1#32
  let arg19 : BitVec 32 := Scf.iv v156 c1_i32_85 k0_t117
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off925 (i : grid0.Coords) (k0_t68 : Fin k0_t68_loop.trips) (v155 : BitVec 32) (v158 : BitVec 32) (k0_t117 : Fin (k0_t117_loop i k0_t68 v155 v158).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v156 : BitVec 32 := Scalar.maxsi v155 v75
  let c1_i32_85 : BitVec 32 := 1#32
  let arg19 : BitVec 32 := Scf.iv v156 c1_i32_85 k0_t117
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off926 (i : grid0.Coords) (k0_t68 : Fin k0_t68_loop.trips) (v155 : BitVec 32) (v158 : BitVec 32) (k0_t117 : Fin (k0_t117_loop i k0_t68 v155 v158).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v156 : BitVec 32 := Scalar.maxsi v155 v75
  let c1_i32_85 : BitVec 32 := 1#32
  let arg19 : BitVec 32 := Scf.iv v156 c1_i32_85 k0_t117
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off927 (i : grid0.Coords) (k0_t68 : Fin k0_t68_loop.trips) (v155 : BitVec 32) (v158 : BitVec 32) (k0_t117 : Fin (k0_t117_loop i k0_t68 v155 v158).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v156 : BitVec 32 := Scalar.maxsi v155 v75
  let c1_i32_85 : BitVec 32 := 1#32
  let arg19 : BitVec 32 := Scf.iv v156 c1_i32_85 k0_t117
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off928 (i : grid0.Coords) (k0_t68 : Fin k0_t68_loop.trips) (v155 : BitVec 32) (v158 : BitVec 32) (k0_t117 : Fin (k0_t117_loop i k0_t68 v155 v158).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v156 : BitVec 32 := Scalar.maxsi v155 v75
  let c1_i32_85 : BitVec 32 := 1#32
  let arg19 : BitVec 32 := Scf.iv v156 c1_i32_85 k0_t117
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off929 (i : grid0.Coords) (k0_t68 : Fin k0_t68_loop.trips) (v155 : BitVec 32) (v158 : BitVec 32) (k0_t117 : Fin (k0_t117_loop i k0_t68 v155 v158).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v156 : BitVec 32 := Scalar.maxsi v155 v75
  let c1_i32_85 : BitVec 32 := 1#32
  let arg19 : BitVec 32 := Scf.iv v156 c1_i32_85 k0_t117
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off930 (i : grid0.Coords) (k0_t68 : Fin k0_t68_loop.trips) (v155 : BitVec 32) (v158 : BitVec 32) (k0_t117 : Fin (k0_t117_loop i k0_t68 v155 v158).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v156 : BitVec 32 := Scalar.maxsi v155 v75
  let c1_i32_85 : BitVec 32 := 1#32
  let arg19 : BitVec 32 := Scf.iv v156 c1_i32_85 k0_t117
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]
@[reducible] def k0_t118_loop (i : grid0.Coords) (k0_t68 : Fin k0_t68_loop.trips) (v155 : BitVec 32) (v158 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v156 : BitVec 32 := Scalar.maxsi v155 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let v231 : BitVec 32 := Scalar.addi v156 v230
  let c1_i32_86 : BitVec 32 := 1#32
  ⟨v234, v231, c1_i32_86⟩
def k0_off931 (i : grid0.Coords) (k0_t68 : Fin k0_t68_loop.trips) (v155 : BitVec 32) (v158 : BitVec 32) (k0_t118 : Fin (k0_t118_loop i k0_t68 v155 v158).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v156 : BitVec 32 := Scalar.maxsi v155 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_86 : BitVec 32 := 1#32
  let arg19 : BitVec 32 := Scf.iv v234 c1_i32_86 k0_t118
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off932 (i : grid0.Coords) (k0_t68 : Fin k0_t68_loop.trips) (v155 : BitVec 32) (v158 : BitVec 32) (k0_t118 : Fin (k0_t118_loop i k0_t68 v155 v158).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v156 : BitVec 32 := Scalar.maxsi v155 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_86 : BitVec 32 := 1#32
  let arg19 : BitVec 32 := Scf.iv v234 c1_i32_86 k0_t118
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off933 (i : grid0.Coords) (k0_t68 : Fin k0_t68_loop.trips) (v155 : BitVec 32) (v158 : BitVec 32) (k0_t118 : Fin (k0_t118_loop i k0_t68 v155 v158).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v156 : BitVec 32 := Scalar.maxsi v155 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_86 : BitVec 32 := 1#32
  let arg19 : BitVec 32 := Scf.iv v234 c1_i32_86 k0_t118
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off934 (i : grid0.Coords) (k0_t68 : Fin k0_t68_loop.trips) (v155 : BitVec 32) (v158 : BitVec 32) (k0_t118 : Fin (k0_t118_loop i k0_t68 v155 v158).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v156 : BitVec 32 := Scalar.maxsi v155 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_86 : BitVec 32 := 1#32
  let arg19 : BitVec 32 := Scf.iv v234 c1_i32_86 k0_t118
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off935 (i : grid0.Coords) (k0_t68 : Fin k0_t68_loop.trips) (v155 : BitVec 32) (v158 : BitVec 32) (k0_t118 : Fin (k0_t118_loop i k0_t68 v155 v158).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v156 : BitVec 32 := Scalar.maxsi v155 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_86 : BitVec 32 := 1#32
  let arg19 : BitVec 32 := Scf.iv v234 c1_i32_86 k0_t118
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off936 (i : grid0.Coords) (k0_t68 : Fin k0_t68_loop.trips) (v155 : BitVec 32) (v158 : BitVec 32) (k0_t118 : Fin (k0_t118_loop i k0_t68 v155 v158).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v156 : BitVec 32 := Scalar.maxsi v155 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_86 : BitVec 32 := 1#32
  let arg19 : BitVec 32 := Scf.iv v234 c1_i32_86 k0_t118
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off937 (i : grid0.Coords) (k0_t68 : Fin k0_t68_loop.trips) (v155 : BitVec 32) (v158 : BitVec 32) (k0_t118 : Fin (k0_t118_loop i k0_t68 v155 v158).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v156 : BitVec 32 := Scalar.maxsi v155 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_86 : BitVec 32 := 1#32
  let arg19 : BitVec 32 := Scf.iv v234 c1_i32_86 k0_t118
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off938 (i : grid0.Coords) (k0_t68 : Fin k0_t68_loop.trips) (v155 : BitVec 32) (v158 : BitVec 32) (k0_t118 : Fin (k0_t118_loop i k0_t68 v155 v158).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v156 : BitVec 32 := Scalar.maxsi v155 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v159 : BitVec 32 := Scalar.minsi v158 v77
  let v230 : BitVec 32 := Scalar.subi v159 v156
  let c1_i32_84 : BitVec 32 := 1#32
  let v232 : BitVec 32 := Scalar.divsi v230 c1_i32_84
  let v233 : BitVec 32 := Scalar.muli v232 c1_i32_84
  let v234 : BitVec 32 := Scalar.addi v156 v233
  let c1_i32_86 : BitVec 32 := 1#32
  let arg19 : BitVec 32 := Scf.iv v234 c1_i32_86 k0_t118
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]

def k0_chk57 (i : grid0.Coords) (k0_t68 : Fin k0_t68_loop.trips) (v155 : BitVec 32) (v158 : BitVec 32) : Prop :=
  (∀ (k0_h55 : k0_cond55 k0_t68 = 1#1), ∀ (k0_h64 : k0_cond64 i k0_t68 v155 v158 = 1#1), (k0_t117_loop i k0_t68 v155 v158).OK) ∧
  (∀ k0_t117 : Fin (k0_t117_loop i k0_t68 v155 v158).trips, ∀ (k0_h55 : k0_cond55 k0_t68 = 1#1), ∀ (k0_h64 : k0_cond64 i k0_t68 v155 v158 = 1#1), ∀ a, (k0_off923 i k0_t68 v155 v158 k0_t117) a + S1x16.size a ≤ S256x128.size a) ∧
  (∀ k0_t117 : Fin (k0_t117_loop i k0_t68 v155 v158).trips, ∀ (k0_h55 : k0_cond55 k0_t68 = 1#1), ∀ (k0_h64 : k0_cond64 i k0_t68 v155 v158 = 1#1), ∀ a, (k0_off924 i k0_t68 v155 v158 k0_t117) a + S1x16.size a ≤ S256x128.size a) ∧
  (∀ k0_t117 : Fin (k0_t117_loop i k0_t68 v155 v158).trips, ∀ (k0_h55 : k0_cond55 k0_t68 = 1#1), ∀ (k0_h64 : k0_cond64 i k0_t68 v155 v158 = 1#1), ∀ a, (k0_off925 i k0_t68 v155 v158 k0_t117) a + S1x16.size a ≤ S256x128.size a) ∧
  (∀ k0_t117 : Fin (k0_t117_loop i k0_t68 v155 v158).trips, ∀ (k0_h55 : k0_cond55 k0_t68 = 1#1), ∀ (k0_h64 : k0_cond64 i k0_t68 v155 v158 = 1#1), ∀ a, (k0_off926 i k0_t68 v155 v158 k0_t117) a + S1x16.size a ≤ S256x128.size a) ∧
  (∀ k0_t117 : Fin (k0_t117_loop i k0_t68 v155 v158).trips, ∀ (k0_h55 : k0_cond55 k0_t68 = 1#1), ∀ (k0_h64 : k0_cond64 i k0_t68 v155 v158 = 1#1), ∀ a, (k0_off927 i k0_t68 v155 v158 k0_t117) a + S1x16.size a ≤ S256x128.size a) ∧
  (∀ k0_t117 : Fin (k0_t117_loop i k0_t68 v155 v158).trips, ∀ (k0_h55 : k0_cond55 k0_t68 = 1#1), ∀ (k0_h64 : k0_cond64 i k0_t68 v155 v158 = 1#1), ∀ a, (k0_off928 i k0_t68 v155 v158 k0_t117) a + S1x16.size a ≤ S256x128.size a) ∧
  (∀ k0_t117 : Fin (k0_t117_loop i k0_t68 v155 v158).trips, ∀ (k0_h55 : k0_cond55 k0_t68 = 1#1), ∀ (k0_h64 : k0_cond64 i k0_t68 v155 v158 = 1#1), ∀ a, (k0_off929 i k0_t68 v155 v158 k0_t117) a + S1x16.size a ≤ S256x128.size a) ∧
  (∀ k0_t117 : Fin (k0_t117_loop i k0_t68 v155 v158).trips, ∀ (k0_h55 : k0_cond55 k0_t68 = 1#1), ∀ (k0_h64 : k0_cond64 i k0_t68 v155 v158 = 1#1), ∀ a, (k0_off930 i k0_t68 v155 v158 k0_t117) a + S1x16.size a ≤ S256x128.size a) ∧
  (∀ (k0_h55 : k0_cond55 k0_t68 = 1#1), ∀ (k0_h64 : k0_cond64 i k0_t68 v155 v158 = 1#1), (k0_t118_loop i k0_t68 v155 v158).OK) ∧
  (∀ k0_t118 : Fin (k0_t118_loop i k0_t68 v155 v158).trips, ∀ (k0_h55 : k0_cond55 k0_t68 = 1#1), ∀ (k0_h64 : k0_cond64 i k0_t68 v155 v158 = 1#1), ∀ a, (k0_off931 i k0_t68 v155 v158 k0_t118) a + S1x16.size a ≤ S256x128.size a) ∧
  (∀ k0_t118 : Fin (k0_t118_loop i k0_t68 v155 v158).trips, ∀ (k0_h55 : k0_cond55 k0_t68 = 1#1), ∀ (k0_h64 : k0_cond64 i k0_t68 v155 v158 = 1#1), ∀ a, (k0_off932 i k0_t68 v155 v158 k0_t118) a + S1x16.size a ≤ S256x128.size a) ∧
  (∀ k0_t118 : Fin (k0_t118_loop i k0_t68 v155 v158).trips, ∀ (k0_h55 : k0_cond55 k0_t68 = 1#1), ∀ (k0_h64 : k0_cond64 i k0_t68 v155 v158 = 1#1), ∀ a, (k0_off933 i k0_t68 v155 v158 k0_t118) a + S1x16.size a ≤ S256x128.size a) ∧
  (∀ k0_t118 : Fin (k0_t118_loop i k0_t68 v155 v158).trips, ∀ (k0_h55 : k0_cond55 k0_t68 = 1#1), ∀ (k0_h64 : k0_cond64 i k0_t68 v155 v158 = 1#1), ∀ a, (k0_off934 i k0_t68 v155 v158 k0_t118) a + S1x16.size a ≤ S256x128.size a) ∧
  (∀ k0_t118 : Fin (k0_t118_loop i k0_t68 v155 v158).trips, ∀ (k0_h55 : k0_cond55 k0_t68 = 1#1), ∀ (k0_h64 : k0_cond64 i k0_t68 v155 v158 = 1#1), ∀ a, (k0_off935 i k0_t68 v155 v158 k0_t118) a + S1x16.size a ≤ S256x128.size a) ∧
  (∀ k0_t118 : Fin (k0_t118_loop i k0_t68 v155 v158).trips, ∀ (k0_h55 : k0_cond55 k0_t68 = 1#1), ∀ (k0_h64 : k0_cond64 i k0_t68 v155 v158 = 1#1), ∀ a, (k0_off936 i k0_t68 v155 v158 k0_t118) a + S1x16.size a ≤ S256x128.size a) ∧
  (∀ k0_t118 : Fin (k0_t118_loop i k0_t68 v155 v158).trips, ∀ (k0_h55 : k0_cond55 k0_t68 = 1#1), ∀ (k0_h64 : k0_cond64 i k0_t68 v155 v158 = 1#1), ∀ a, (k0_off937 i k0_t68 v155 v158 k0_t118) a + S1x16.size a ≤ S256x128.size a) ∧
  (∀ k0_t118 : Fin (k0_t118_loop i k0_t68 v155 v158).trips, ∀ (k0_h55 : k0_cond55 k0_t68 = 1#1), ∀ (k0_h64 : k0_cond64 i k0_t68 v155 v158 = 1#1), ∀ a, (k0_off938 i k0_t68 v155 v158 k0_t118) a + S1x16.size a ≤ S256x128.size a)
theorem k0_t117_ok : ∀ (i : grid0.Coords) (k0_t68 : Fin k0_t68_loop.trips) (v155 : BitVec 32) (v158 : BitVec 32) (k0_hw57 : k0_chk57 i k0_t68 v155 v158), ∀ (k0_h55 : k0_cond55 k0_t68 = 1#1), ∀ (k0_h64 : k0_cond64 i k0_t68 v155 v158 = 1#1), (k0_t117_loop i k0_t68 v155 v158).OK := fun i k0_t68 v155 v158 k0_hw57 k0_h55 k0_h64 => k0_hw57.1 k0_h55 k0_h64
theorem k0_off923_inb : ∀ (i : grid0.Coords) (k0_t68 : Fin k0_t68_loop.trips) (v155 : BitVec 32) (v158 : BitVec 32) (k0_hw57 : k0_chk57 i k0_t68 v155 v158) (k0_t117 : Fin (k0_t117_loop i k0_t68 v155 v158).trips), ∀ (k0_h55 : k0_cond55 k0_t68 = 1#1), ∀ (k0_h64 : k0_cond64 i k0_t68 v155 v158 = 1#1), ∀ a, (k0_off923 i k0_t68 v155 v158 k0_t117) a + S1x16.size a ≤ S256x128.size a := fun i k0_t68 v155 v158 k0_hw57 k0_t117 k0_h55 k0_h64 => k0_hw57.2.1 k0_t117 k0_h55 k0_h64
theorem k0_off924_inb : ∀ (i : grid0.Coords) (k0_t68 : Fin k0_t68_loop.trips) (v155 : BitVec 32) (v158 : BitVec 32) (k0_hw57 : k0_chk57 i k0_t68 v155 v158) (k0_t117 : Fin (k0_t117_loop i k0_t68 v155 v158).trips), ∀ (k0_h55 : k0_cond55 k0_t68 = 1#1), ∀ (k0_h64 : k0_cond64 i k0_t68 v155 v158 = 1#1), ∀ a, (k0_off924 i k0_t68 v155 v158 k0_t117) a + S1x16.size a ≤ S256x128.size a := fun i k0_t68 v155 v158 k0_hw57 k0_t117 k0_h55 k0_h64 => k0_hw57.2.2.1 k0_t117 k0_h55 k0_h64
theorem k0_off925_inb : ∀ (i : grid0.Coords) (k0_t68 : Fin k0_t68_loop.trips) (v155 : BitVec 32) (v158 : BitVec 32) (k0_hw57 : k0_chk57 i k0_t68 v155 v158) (k0_t117 : Fin (k0_t117_loop i k0_t68 v155 v158).trips), ∀ (k0_h55 : k0_cond55 k0_t68 = 1#1), ∀ (k0_h64 : k0_cond64 i k0_t68 v155 v158 = 1#1), ∀ a, (k0_off925 i k0_t68 v155 v158 k0_t117) a + S1x16.size a ≤ S256x128.size a := fun i k0_t68 v155 v158 k0_hw57 k0_t117 k0_h55 k0_h64 => k0_hw57.2.2.2.1 k0_t117 k0_h55 k0_h64
theorem k0_off926_inb : ∀ (i : grid0.Coords) (k0_t68 : Fin k0_t68_loop.trips) (v155 : BitVec 32) (v158 : BitVec 32) (k0_hw57 : k0_chk57 i k0_t68 v155 v158) (k0_t117 : Fin (k0_t117_loop i k0_t68 v155 v158).trips), ∀ (k0_h55 : k0_cond55 k0_t68 = 1#1), ∀ (k0_h64 : k0_cond64 i k0_t68 v155 v158 = 1#1), ∀ a, (k0_off926 i k0_t68 v155 v158 k0_t117) a + S1x16.size a ≤ S256x128.size a := fun i k0_t68 v155 v158 k0_hw57 k0_t117 k0_h55 k0_h64 => k0_hw57.2.2.2.2.1 k0_t117 k0_h55 k0_h64
theorem k0_off927_inb : ∀ (i : grid0.Coords) (k0_t68 : Fin k0_t68_loop.trips) (v155 : BitVec 32) (v158 : BitVec 32) (k0_hw57 : k0_chk57 i k0_t68 v155 v158) (k0_t117 : Fin (k0_t117_loop i k0_t68 v155 v158).trips), ∀ (k0_h55 : k0_cond55 k0_t68 = 1#1), ∀ (k0_h64 : k0_cond64 i k0_t68 v155 v158 = 1#1), ∀ a, (k0_off927 i k0_t68 v155 v158 k0_t117) a + S1x16.size a ≤ S256x128.size a := fun i k0_t68 v155 v158 k0_hw57 k0_t117 k0_h55 k0_h64 => k0_hw57.2.2.2.2.2.1 k0_t117 k0_h55 k0_h64
theorem k0_off928_inb : ∀ (i : grid0.Coords) (k0_t68 : Fin k0_t68_loop.trips) (v155 : BitVec 32) (v158 : BitVec 32) (k0_hw57 : k0_chk57 i k0_t68 v155 v158) (k0_t117 : Fin (k0_t117_loop i k0_t68 v155 v158).trips), ∀ (k0_h55 : k0_cond55 k0_t68 = 1#1), ∀ (k0_h64 : k0_cond64 i k0_t68 v155 v158 = 1#1), ∀ a, (k0_off928 i k0_t68 v155 v158 k0_t117) a + S1x16.size a ≤ S256x128.size a := fun i k0_t68 v155 v158 k0_hw57 k0_t117 k0_h55 k0_h64 => k0_hw57.2.2.2.2.2.2.1 k0_t117 k0_h55 k0_h64
theorem k0_off929_inb : ∀ (i : grid0.Coords) (k0_t68 : Fin k0_t68_loop.trips) (v155 : BitVec 32) (v158 : BitVec 32) (k0_hw57 : k0_chk57 i k0_t68 v155 v158) (k0_t117 : Fin (k0_t117_loop i k0_t68 v155 v158).trips), ∀ (k0_h55 : k0_cond55 k0_t68 = 1#1), ∀ (k0_h64 : k0_cond64 i k0_t68 v155 v158 = 1#1), ∀ a, (k0_off929 i k0_t68 v155 v158 k0_t117) a + S1x16.size a ≤ S256x128.size a := fun i k0_t68 v155 v158 k0_hw57 k0_t117 k0_h55 k0_h64 => k0_hw57.2.2.2.2.2.2.2.1 k0_t117 k0_h55 k0_h64
theorem k0_off930_inb : ∀ (i : grid0.Coords) (k0_t68 : Fin k0_t68_loop.trips) (v155 : BitVec 32) (v158 : BitVec 32) (k0_hw57 : k0_chk57 i k0_t68 v155 v158) (k0_t117 : Fin (k0_t117_loop i k0_t68 v155 v158).trips), ∀ (k0_h55 : k0_cond55 k0_t68 = 1#1), ∀ (k0_h64 : k0_cond64 i k0_t68 v155 v158 = 1#1), ∀ a, (k0_off930 i k0_t68 v155 v158 k0_t117) a + S1x16.size a ≤ S256x128.size a := fun i k0_t68 v155 v158 k0_hw57 k0_t117 k0_h55 k0_h64 => k0_hw57.2.2.2.2.2.2.2.2.1 k0_t117 k0_h55 k0_h64
theorem k0_t118_ok : ∀ (i : grid0.Coords) (k0_t68 : Fin k0_t68_loop.trips) (v155 : BitVec 32) (v158 : BitVec 32) (k0_hw57 : k0_chk57 i k0_t68 v155 v158), ∀ (k0_h55 : k0_cond55 k0_t68 = 1#1), ∀ (k0_h64 : k0_cond64 i k0_t68 v155 v158 = 1#1), (k0_t118_loop i k0_t68 v155 v158).OK := fun i k0_t68 v155 v158 k0_hw57 k0_h55 k0_h64 => k0_hw57.2.2.2.2.2.2.2.2.2.1 k0_h55 k0_h64
theorem k0_off931_inb : ∀ (i : grid0.Coords) (k0_t68 : Fin k0_t68_loop.trips) (v155 : BitVec 32) (v158 : BitVec 32) (k0_hw57 : k0_chk57 i k0_t68 v155 v158) (k0_t118 : Fin (k0_t118_loop i k0_t68 v155 v158).trips), ∀ (k0_h55 : k0_cond55 k0_t68 = 1#1), ∀ (k0_h64 : k0_cond64 i k0_t68 v155 v158 = 1#1), ∀ a, (k0_off931 i k0_t68 v155 v158 k0_t118) a + S1x16.size a ≤ S256x128.size a := fun i k0_t68 v155 v158 k0_hw57 k0_t118 k0_h55 k0_h64 => k0_hw57.2.2.2.2.2.2.2.2.2.2.1 k0_t118 k0_h55 k0_h64
theorem k0_off932_inb : ∀ (i : grid0.Coords) (k0_t68 : Fin k0_t68_loop.trips) (v155 : BitVec 32) (v158 : BitVec 32) (k0_hw57 : k0_chk57 i k0_t68 v155 v158) (k0_t118 : Fin (k0_t118_loop i k0_t68 v155 v158).trips), ∀ (k0_h55 : k0_cond55 k0_t68 = 1#1), ∀ (k0_h64 : k0_cond64 i k0_t68 v155 v158 = 1#1), ∀ a, (k0_off932 i k0_t68 v155 v158 k0_t118) a + S1x16.size a ≤ S256x128.size a := fun i k0_t68 v155 v158 k0_hw57 k0_t118 k0_h55 k0_h64 => k0_hw57.2.2.2.2.2.2.2.2.2.2.2.1 k0_t118 k0_h55 k0_h64
theorem k0_off933_inb : ∀ (i : grid0.Coords) (k0_t68 : Fin k0_t68_loop.trips) (v155 : BitVec 32) (v158 : BitVec 32) (k0_hw57 : k0_chk57 i k0_t68 v155 v158) (k0_t118 : Fin (k0_t118_loop i k0_t68 v155 v158).trips), ∀ (k0_h55 : k0_cond55 k0_t68 = 1#1), ∀ (k0_h64 : k0_cond64 i k0_t68 v155 v158 = 1#1), ∀ a, (k0_off933 i k0_t68 v155 v158 k0_t118) a + S1x16.size a ≤ S256x128.size a := fun i k0_t68 v155 v158 k0_hw57 k0_t118 k0_h55 k0_h64 => k0_hw57.2.2.2.2.2.2.2.2.2.2.2.2.1 k0_t118 k0_h55 k0_h64
theorem k0_off934_inb : ∀ (i : grid0.Coords) (k0_t68 : Fin k0_t68_loop.trips) (v155 : BitVec 32) (v158 : BitVec 32) (k0_hw57 : k0_chk57 i k0_t68 v155 v158) (k0_t118 : Fin (k0_t118_loop i k0_t68 v155 v158).trips), ∀ (k0_h55 : k0_cond55 k0_t68 = 1#1), ∀ (k0_h64 : k0_cond64 i k0_t68 v155 v158 = 1#1), ∀ a, (k0_off934 i k0_t68 v155 v158 k0_t118) a + S1x16.size a ≤ S256x128.size a := fun i k0_t68 v155 v158 k0_hw57 k0_t118 k0_h55 k0_h64 => k0_hw57.2.2.2.2.2.2.2.2.2.2.2.2.2.1 k0_t118 k0_h55 k0_h64
theorem k0_off935_inb : ∀ (i : grid0.Coords) (k0_t68 : Fin k0_t68_loop.trips) (v155 : BitVec 32) (v158 : BitVec 32) (k0_hw57 : k0_chk57 i k0_t68 v155 v158) (k0_t118 : Fin (k0_t118_loop i k0_t68 v155 v158).trips), ∀ (k0_h55 : k0_cond55 k0_t68 = 1#1), ∀ (k0_h64 : k0_cond64 i k0_t68 v155 v158 = 1#1), ∀ a, (k0_off935 i k0_t68 v155 v158 k0_t118) a + S1x16.size a ≤ S256x128.size a := fun i k0_t68 v155 v158 k0_hw57 k0_t118 k0_h55 k0_h64 => k0_hw57.2.2.2.2.2.2.2.2.2.2.2.2.2.2.1 k0_t118 k0_h55 k0_h64
theorem k0_off936_inb : ∀ (i : grid0.Coords) (k0_t68 : Fin k0_t68_loop.trips) (v155 : BitVec 32) (v158 : BitVec 32) (k0_hw57 : k0_chk57 i k0_t68 v155 v158) (k0_t118 : Fin (k0_t118_loop i k0_t68 v155 v158).trips), ∀ (k0_h55 : k0_cond55 k0_t68 = 1#1), ∀ (k0_h64 : k0_cond64 i k0_t68 v155 v158 = 1#1), ∀ a, (k0_off936 i k0_t68 v155 v158 k0_t118) a + S1x16.size a ≤ S256x128.size a := fun i k0_t68 v155 v158 k0_hw57 k0_t118 k0_h55 k0_h64 => k0_hw57.2.2.2.2.2.2.2.2.2.2.2.2.2.2.2.1 k0_t118 k0_h55 k0_h64
theorem k0_off937_inb : ∀ (i : grid0.Coords) (k0_t68 : Fin k0_t68_loop.trips) (v155 : BitVec 32) (v158 : BitVec 32) (k0_hw57 : k0_chk57 i k0_t68 v155 v158) (k0_t118 : Fin (k0_t118_loop i k0_t68 v155 v158).trips), ∀ (k0_h55 : k0_cond55 k0_t68 = 1#1), ∀ (k0_h64 : k0_cond64 i k0_t68 v155 v158 = 1#1), ∀ a, (k0_off937 i k0_t68 v155 v158 k0_t118) a + S1x16.size a ≤ S256x128.size a := fun i k0_t68 v155 v158 k0_hw57 k0_t118 k0_h55 k0_h64 => k0_hw57.2.2.2.2.2.2.2.2.2.2.2.2.2.2.2.2.1 k0_t118 k0_h55 k0_h64
theorem k0_off938_inb : ∀ (i : grid0.Coords) (k0_t68 : Fin k0_t68_loop.trips) (v155 : BitVec 32) (v158 : BitVec 32) (k0_hw57 : k0_chk57 i k0_t68 v155 v158) (k0_t118 : Fin (k0_t118_loop i k0_t68 v155 v158).trips), ∀ (k0_h55 : k0_cond55 k0_t68 = 1#1), ∀ (k0_h64 : k0_cond64 i k0_t68 v155 v158 = 1#1), ∀ a, (k0_off938 i k0_t68 v155 v158 k0_t118) a + S1x16.size a ≤ S256x128.size a := fun i k0_t68 v155 v158 k0_hw57 k0_t118 k0_h55 k0_h64 => k0_hw57.2.2.2.2.2.2.2.2.2.2.2.2.2.2.2.2.2 k0_t118 k0_h55 k0_h64

@[reducible] def k0_t119_loop (i : grid0.Coords) (k0_t68 : Fin k0_t68_loop.trips) (v164 : BitVec 32) (v167 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v165 : BitVec 32 := Scalar.maxsi v164 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_85 : BitVec 32 := 1#32
  ⟨v165, v234, c1_i32_85⟩
def k0_cond65 (i : grid0.Coords) (k0_t68 : Fin k0_t68_loop.trips) (v164 : BitVec 32) (v167 : BitVec 32) : BitVec 1 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v168 : BitVec 32 := Scalar.minsi v167 v77
  let v165 : BitVec 32 := Scalar.maxsi v164 v75
  let v169 : BitVec 1 := Scalar.cmpi .sgt v168 v165
  let v170 : BitVec 32 := Scalar.extui v169
  let c0_i32_74 : BitVec 32 := 0#32
  let v171 : BitVec 1 := Scalar.cmpi .ne v170 c0_i32_74
  v171

def k0_off939 (i : grid0.Coords) (k0_t68 : Fin k0_t68_loop.trips) (v164 : BitVec 32) (v167 : BitVec 32) (k0_t119 : Fin (k0_t119_loop i k0_t68 v164 v167).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v165 : BitVec 32 := Scalar.maxsi v164 v75
  let c1_i32_85 : BitVec 32 := 1#32
  let arg19 : BitVec 32 := Scf.iv v165 c1_i32_85 k0_t119
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off940 (i : grid0.Coords) (k0_t68 : Fin k0_t68_loop.trips) (v164 : BitVec 32) (v167 : BitVec 32) (k0_t119 : Fin (k0_t119_loop i k0_t68 v164 v167).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v165 : BitVec 32 := Scalar.maxsi v164 v75
  let c1_i32_85 : BitVec 32 := 1#32
  let arg19 : BitVec 32 := Scf.iv v165 c1_i32_85 k0_t119
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off941 (i : grid0.Coords) (k0_t68 : Fin k0_t68_loop.trips) (v164 : BitVec 32) (v167 : BitVec 32) (k0_t119 : Fin (k0_t119_loop i k0_t68 v164 v167).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v165 : BitVec 32 := Scalar.maxsi v164 v75
  let c1_i32_85 : BitVec 32 := 1#32
  let arg19 : BitVec 32 := Scf.iv v165 c1_i32_85 k0_t119
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off942 (i : grid0.Coords) (k0_t68 : Fin k0_t68_loop.trips) (v164 : BitVec 32) (v167 : BitVec 32) (k0_t119 : Fin (k0_t119_loop i k0_t68 v164 v167).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v165 : BitVec 32 := Scalar.maxsi v164 v75
  let c1_i32_85 : BitVec 32 := 1#32
  let arg19 : BitVec 32 := Scf.iv v165 c1_i32_85 k0_t119
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off943 (i : grid0.Coords) (k0_t68 : Fin k0_t68_loop.trips) (v164 : BitVec 32) (v167 : BitVec 32) (k0_t119 : Fin (k0_t119_loop i k0_t68 v164 v167).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v165 : BitVec 32 := Scalar.maxsi v164 v75
  let c1_i32_85 : BitVec 32 := 1#32
  let arg19 : BitVec 32 := Scf.iv v165 c1_i32_85 k0_t119
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off944 (i : grid0.Coords) (k0_t68 : Fin k0_t68_loop.trips) (v164 : BitVec 32) (v167 : BitVec 32) (k0_t119 : Fin (k0_t119_loop i k0_t68 v164 v167).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v165 : BitVec 32 := Scalar.maxsi v164 v75
  let c1_i32_85 : BitVec 32 := 1#32
  let arg19 : BitVec 32 := Scf.iv v165 c1_i32_85 k0_t119
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off945 (i : grid0.Coords) (k0_t68 : Fin k0_t68_loop.trips) (v164 : BitVec 32) (v167 : BitVec 32) (k0_t119 : Fin (k0_t119_loop i k0_t68 v164 v167).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v165 : BitVec 32 := Scalar.maxsi v164 v75
  let c1_i32_85 : BitVec 32 := 1#32
  let arg19 : BitVec 32 := Scf.iv v165 c1_i32_85 k0_t119
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off946 (i : grid0.Coords) (k0_t68 : Fin k0_t68_loop.trips) (v164 : BitVec 32) (v167 : BitVec 32) (k0_t119 : Fin (k0_t119_loop i k0_t68 v164 v167).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v165 : BitVec 32 := Scalar.maxsi v164 v75
  let c1_i32_85 : BitVec 32 := 1#32
  let arg19 : BitVec 32 := Scf.iv v165 c1_i32_85 k0_t119
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]
@[reducible] def k0_t120_loop (i : grid0.Coords) (k0_t68 : Fin k0_t68_loop.trips) (v164 : BitVec 32) (v167 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v165 : BitVec 32 := Scalar.maxsi v164 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let v231 : BitVec 32 := Scalar.addi v165 v230
  let c1_i32_86 : BitVec 32 := 1#32
  ⟨v234, v231, c1_i32_86⟩
def k0_off947 (i : grid0.Coords) (k0_t68 : Fin k0_t68_loop.trips) (v164 : BitVec 32) (v167 : BitVec 32) (k0_t120 : Fin (k0_t120_loop i k0_t68 v164 v167).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v165 : BitVec 32 := Scalar.maxsi v164 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_86 : BitVec 32 := 1#32
  let arg19 : BitVec 32 := Scf.iv v234 c1_i32_86 k0_t120
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off948 (i : grid0.Coords) (k0_t68 : Fin k0_t68_loop.trips) (v164 : BitVec 32) (v167 : BitVec 32) (k0_t120 : Fin (k0_t120_loop i k0_t68 v164 v167).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v165 : BitVec 32 := Scalar.maxsi v164 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_86 : BitVec 32 := 1#32
  let arg19 : BitVec 32 := Scf.iv v234 c1_i32_86 k0_t120
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off949 (i : grid0.Coords) (k0_t68 : Fin k0_t68_loop.trips) (v164 : BitVec 32) (v167 : BitVec 32) (k0_t120 : Fin (k0_t120_loop i k0_t68 v164 v167).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v165 : BitVec 32 := Scalar.maxsi v164 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_86 : BitVec 32 := 1#32
  let arg19 : BitVec 32 := Scf.iv v234 c1_i32_86 k0_t120
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off950 (i : grid0.Coords) (k0_t68 : Fin k0_t68_loop.trips) (v164 : BitVec 32) (v167 : BitVec 32) (k0_t120 : Fin (k0_t120_loop i k0_t68 v164 v167).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v165 : BitVec 32 := Scalar.maxsi v164 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_86 : BitVec 32 := 1#32
  let arg19 : BitVec 32 := Scf.iv v234 c1_i32_86 k0_t120
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off951 (i : grid0.Coords) (k0_t68 : Fin k0_t68_loop.trips) (v164 : BitVec 32) (v167 : BitVec 32) (k0_t120 : Fin (k0_t120_loop i k0_t68 v164 v167).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v165 : BitVec 32 := Scalar.maxsi v164 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_86 : BitVec 32 := 1#32
  let arg19 : BitVec 32 := Scf.iv v234 c1_i32_86 k0_t120
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off952 (i : grid0.Coords) (k0_t68 : Fin k0_t68_loop.trips) (v164 : BitVec 32) (v167 : BitVec 32) (k0_t120 : Fin (k0_t120_loop i k0_t68 v164 v167).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v165 : BitVec 32 := Scalar.maxsi v164 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_86 : BitVec 32 := 1#32
  let arg19 : BitVec 32 := Scf.iv v234 c1_i32_86 k0_t120
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off953 (i : grid0.Coords) (k0_t68 : Fin k0_t68_loop.trips) (v164 : BitVec 32) (v167 : BitVec 32) (k0_t120 : Fin (k0_t120_loop i k0_t68 v164 v167).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v165 : BitVec 32 := Scalar.maxsi v164 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_86 : BitVec 32 := 1#32
  let arg19 : BitVec 32 := Scf.iv v234 c1_i32_86 k0_t120
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off954 (i : grid0.Coords) (k0_t68 : Fin k0_t68_loop.trips) (v164 : BitVec 32) (v167 : BitVec 32) (k0_t120 : Fin (k0_t120_loop i k0_t68 v164 v167).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v165 : BitVec 32 := Scalar.maxsi v164 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v168 : BitVec 32 := Scalar.minsi v167 v77
  let v230 : BitVec 32 := Scalar.subi v168 v165
  let c1_i32_84 : BitVec 32 := 1#32
  let v232 : BitVec 32 := Scalar.divsi v230 c1_i32_84
  let v233 : BitVec 32 := Scalar.muli v232 c1_i32_84
  let v234 : BitVec 32 := Scalar.addi v165 v233
  let c1_i32_86 : BitVec 32 := 1#32
  let arg19 : BitVec 32 := Scf.iv v234 c1_i32_86 k0_t120
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]

def k0_chk58 (i : grid0.Coords) (k0_t68 : Fin k0_t68_loop.trips) (v164 : BitVec 32) (v167 : BitVec 32) : Prop :=
  (∀ (k0_h55 : k0_cond55 k0_t68 = 1#1), ∀ (k0_h65 : k0_cond65 i k0_t68 v164 v167 = 1#1), (k0_t119_loop i k0_t68 v164 v167).OK) ∧
  (∀ k0_t119 : Fin (k0_t119_loop i k0_t68 v164 v167).trips, ∀ (k0_h55 : k0_cond55 k0_t68 = 1#1), ∀ (k0_h65 : k0_cond65 i k0_t68 v164 v167 = 1#1), ∀ a, (k0_off939 i k0_t68 v164 v167 k0_t119) a + S1x16.size a ≤ S256x128.size a) ∧
  (∀ k0_t119 : Fin (k0_t119_loop i k0_t68 v164 v167).trips, ∀ (k0_h55 : k0_cond55 k0_t68 = 1#1), ∀ (k0_h65 : k0_cond65 i k0_t68 v164 v167 = 1#1), ∀ a, (k0_off940 i k0_t68 v164 v167 k0_t119) a + S1x16.size a ≤ S256x128.size a) ∧
  (∀ k0_t119 : Fin (k0_t119_loop i k0_t68 v164 v167).trips, ∀ (k0_h55 : k0_cond55 k0_t68 = 1#1), ∀ (k0_h65 : k0_cond65 i k0_t68 v164 v167 = 1#1), ∀ a, (k0_off941 i k0_t68 v164 v167 k0_t119) a + S1x16.size a ≤ S256x128.size a) ∧
  (∀ k0_t119 : Fin (k0_t119_loop i k0_t68 v164 v167).trips, ∀ (k0_h55 : k0_cond55 k0_t68 = 1#1), ∀ (k0_h65 : k0_cond65 i k0_t68 v164 v167 = 1#1), ∀ a, (k0_off942 i k0_t68 v164 v167 k0_t119) a + S1x16.size a ≤ S256x128.size a) ∧
  (∀ k0_t119 : Fin (k0_t119_loop i k0_t68 v164 v167).trips, ∀ (k0_h55 : k0_cond55 k0_t68 = 1#1), ∀ (k0_h65 : k0_cond65 i k0_t68 v164 v167 = 1#1), ∀ a, (k0_off943 i k0_t68 v164 v167 k0_t119) a + S1x16.size a ≤ S256x128.size a) ∧
  (∀ k0_t119 : Fin (k0_t119_loop i k0_t68 v164 v167).trips, ∀ (k0_h55 : k0_cond55 k0_t68 = 1#1), ∀ (k0_h65 : k0_cond65 i k0_t68 v164 v167 = 1#1), ∀ a, (k0_off944 i k0_t68 v164 v167 k0_t119) a + S1x16.size a ≤ S256x128.size a) ∧
  (∀ k0_t119 : Fin (k0_t119_loop i k0_t68 v164 v167).trips, ∀ (k0_h55 : k0_cond55 k0_t68 = 1#1), ∀ (k0_h65 : k0_cond65 i k0_t68 v164 v167 = 1#1), ∀ a, (k0_off945 i k0_t68 v164 v167 k0_t119) a + S1x16.size a ≤ S256x128.size a) ∧
  (∀ k0_t119 : Fin (k0_t119_loop i k0_t68 v164 v167).trips, ∀ (k0_h55 : k0_cond55 k0_t68 = 1#1), ∀ (k0_h65 : k0_cond65 i k0_t68 v164 v167 = 1#1), ∀ a, (k0_off946 i k0_t68 v164 v167 k0_t119) a + S1x16.size a ≤ S256x128.size a) ∧
  (∀ (k0_h55 : k0_cond55 k0_t68 = 1#1), ∀ (k0_h65 : k0_cond65 i k0_t68 v164 v167 = 1#1), (k0_t120_loop i k0_t68 v164 v167).OK) ∧
  (∀ k0_t120 : Fin (k0_t120_loop i k0_t68 v164 v167).trips, ∀ (k0_h55 : k0_cond55 k0_t68 = 1#1), ∀ (k0_h65 : k0_cond65 i k0_t68 v164 v167 = 1#1), ∀ a, (k0_off947 i k0_t68 v164 v167 k0_t120) a + S1x16.size a ≤ S256x128.size a) ∧
  (∀ k0_t120 : Fin (k0_t120_loop i k0_t68 v164 v167).trips, ∀ (k0_h55 : k0_cond55 k0_t68 = 1#1), ∀ (k0_h65 : k0_cond65 i k0_t68 v164 v167 = 1#1), ∀ a, (k0_off948 i k0_t68 v164 v167 k0_t120) a + S1x16.size a ≤ S256x128.size a) ∧
  (∀ k0_t120 : Fin (k0_t120_loop i k0_t68 v164 v167).trips, ∀ (k0_h55 : k0_cond55 k0_t68 = 1#1), ∀ (k0_h65 : k0_cond65 i k0_t68 v164 v167 = 1#1), ∀ a, (k0_off949 i k0_t68 v164 v167 k0_t120) a + S1x16.size a ≤ S256x128.size a) ∧
  (∀ k0_t120 : Fin (k0_t120_loop i k0_t68 v164 v167).trips, ∀ (k0_h55 : k0_cond55 k0_t68 = 1#1), ∀ (k0_h65 : k0_cond65 i k0_t68 v164 v167 = 1#1), ∀ a, (k0_off950 i k0_t68 v164 v167 k0_t120) a + S1x16.size a ≤ S256x128.size a) ∧
  (∀ k0_t120 : Fin (k0_t120_loop i k0_t68 v164 v167).trips, ∀ (k0_h55 : k0_cond55 k0_t68 = 1#1), ∀ (k0_h65 : k0_cond65 i k0_t68 v164 v167 = 1#1), ∀ a, (k0_off951 i k0_t68 v164 v167 k0_t120) a + S1x16.size a ≤ S256x128.size a) ∧
  (∀ k0_t120 : Fin (k0_t120_loop i k0_t68 v164 v167).trips, ∀ (k0_h55 : k0_cond55 k0_t68 = 1#1), ∀ (k0_h65 : k0_cond65 i k0_t68 v164 v167 = 1#1), ∀ a, (k0_off952 i k0_t68 v164 v167 k0_t120) a + S1x16.size a ≤ S256x128.size a) ∧
  (∀ k0_t120 : Fin (k0_t120_loop i k0_t68 v164 v167).trips, ∀ (k0_h55 : k0_cond55 k0_t68 = 1#1), ∀ (k0_h65 : k0_cond65 i k0_t68 v164 v167 = 1#1), ∀ a, (k0_off953 i k0_t68 v164 v167 k0_t120) a + S1x16.size a ≤ S256x128.size a) ∧
  (∀ k0_t120 : Fin (k0_t120_loop i k0_t68 v164 v167).trips, ∀ (k0_h55 : k0_cond55 k0_t68 = 1#1), ∀ (k0_h65 : k0_cond65 i k0_t68 v164 v167 = 1#1), ∀ a, (k0_off954 i k0_t68 v164 v167 k0_t120) a + S1x16.size a ≤ S256x128.size a)
theorem k0_t119_ok : ∀ (i : grid0.Coords) (k0_t68 : Fin k0_t68_loop.trips) (v164 : BitVec 32) (v167 : BitVec 32) (k0_hw58 : k0_chk58 i k0_t68 v164 v167), ∀ (k0_h55 : k0_cond55 k0_t68 = 1#1), ∀ (k0_h65 : k0_cond65 i k0_t68 v164 v167 = 1#1), (k0_t119_loop i k0_t68 v164 v167).OK := fun i k0_t68 v164 v167 k0_hw58 k0_h55 k0_h65 => k0_hw58.1 k0_h55 k0_h65
theorem k0_off939_inb : ∀ (i : grid0.Coords) (k0_t68 : Fin k0_t68_loop.trips) (v164 : BitVec 32) (v167 : BitVec 32) (k0_hw58 : k0_chk58 i k0_t68 v164 v167) (k0_t119 : Fin (k0_t119_loop i k0_t68 v164 v167).trips), ∀ (k0_h55 : k0_cond55 k0_t68 = 1#1), ∀ (k0_h65 : k0_cond65 i k0_t68 v164 v167 = 1#1), ∀ a, (k0_off939 i k0_t68 v164 v167 k0_t119) a + S1x16.size a ≤ S256x128.size a := fun i k0_t68 v164 v167 k0_hw58 k0_t119 k0_h55 k0_h65 => k0_hw58.2.1 k0_t119 k0_h55 k0_h65
theorem k0_off940_inb : ∀ (i : grid0.Coords) (k0_t68 : Fin k0_t68_loop.trips) (v164 : BitVec 32) (v167 : BitVec 32) (k0_hw58 : k0_chk58 i k0_t68 v164 v167) (k0_t119 : Fin (k0_t119_loop i k0_t68 v164 v167).trips), ∀ (k0_h55 : k0_cond55 k0_t68 = 1#1), ∀ (k0_h65 : k0_cond65 i k0_t68 v164 v167 = 1#1), ∀ a, (k0_off940 i k0_t68 v164 v167 k0_t119) a + S1x16.size a ≤ S256x128.size a := fun i k0_t68 v164 v167 k0_hw58 k0_t119 k0_h55 k0_h65 => k0_hw58.2.2.1 k0_t119 k0_h55 k0_h65
theorem k0_off941_inb : ∀ (i : grid0.Coords) (k0_t68 : Fin k0_t68_loop.trips) (v164 : BitVec 32) (v167 : BitVec 32) (k0_hw58 : k0_chk58 i k0_t68 v164 v167) (k0_t119 : Fin (k0_t119_loop i k0_t68 v164 v167).trips), ∀ (k0_h55 : k0_cond55 k0_t68 = 1#1), ∀ (k0_h65 : k0_cond65 i k0_t68 v164 v167 = 1#1), ∀ a, (k0_off941 i k0_t68 v164 v167 k0_t119) a + S1x16.size a ≤ S256x128.size a := fun i k0_t68 v164 v167 k0_hw58 k0_t119 k0_h55 k0_h65 => k0_hw58.2.2.2.1 k0_t119 k0_h55 k0_h65
theorem k0_off942_inb : ∀ (i : grid0.Coords) (k0_t68 : Fin k0_t68_loop.trips) (v164 : BitVec 32) (v167 : BitVec 32) (k0_hw58 : k0_chk58 i k0_t68 v164 v167) (k0_t119 : Fin (k0_t119_loop i k0_t68 v164 v167).trips), ∀ (k0_h55 : k0_cond55 k0_t68 = 1#1), ∀ (k0_h65 : k0_cond65 i k0_t68 v164 v167 = 1#1), ∀ a, (k0_off942 i k0_t68 v164 v167 k0_t119) a + S1x16.size a ≤ S256x128.size a := fun i k0_t68 v164 v167 k0_hw58 k0_t119 k0_h55 k0_h65 => k0_hw58.2.2.2.2.1 k0_t119 k0_h55 k0_h65
theorem k0_off943_inb : ∀ (i : grid0.Coords) (k0_t68 : Fin k0_t68_loop.trips) (v164 : BitVec 32) (v167 : BitVec 32) (k0_hw58 : k0_chk58 i k0_t68 v164 v167) (k0_t119 : Fin (k0_t119_loop i k0_t68 v164 v167).trips), ∀ (k0_h55 : k0_cond55 k0_t68 = 1#1), ∀ (k0_h65 : k0_cond65 i k0_t68 v164 v167 = 1#1), ∀ a, (k0_off943 i k0_t68 v164 v167 k0_t119) a + S1x16.size a ≤ S256x128.size a := fun i k0_t68 v164 v167 k0_hw58 k0_t119 k0_h55 k0_h65 => k0_hw58.2.2.2.2.2.1 k0_t119 k0_h55 k0_h65
theorem k0_off944_inb : ∀ (i : grid0.Coords) (k0_t68 : Fin k0_t68_loop.trips) (v164 : BitVec 32) (v167 : BitVec 32) (k0_hw58 : k0_chk58 i k0_t68 v164 v167) (k0_t119 : Fin (k0_t119_loop i k0_t68 v164 v167).trips), ∀ (k0_h55 : k0_cond55 k0_t68 = 1#1), ∀ (k0_h65 : k0_cond65 i k0_t68 v164 v167 = 1#1), ∀ a, (k0_off944 i k0_t68 v164 v167 k0_t119) a + S1x16.size a ≤ S256x128.size a := fun i k0_t68 v164 v167 k0_hw58 k0_t119 k0_h55 k0_h65 => k0_hw58.2.2.2.2.2.2.1 k0_t119 k0_h55 k0_h65
theorem k0_off945_inb : ∀ (i : grid0.Coords) (k0_t68 : Fin k0_t68_loop.trips) (v164 : BitVec 32) (v167 : BitVec 32) (k0_hw58 : k0_chk58 i k0_t68 v164 v167) (k0_t119 : Fin (k0_t119_loop i k0_t68 v164 v167).trips), ∀ (k0_h55 : k0_cond55 k0_t68 = 1#1), ∀ (k0_h65 : k0_cond65 i k0_t68 v164 v167 = 1#1), ∀ a, (k0_off945 i k0_t68 v164 v167 k0_t119) a + S1x16.size a ≤ S256x128.size a := fun i k0_t68 v164 v167 k0_hw58 k0_t119 k0_h55 k0_h65 => k0_hw58.2.2.2.2.2.2.2.1 k0_t119 k0_h55 k0_h65
theorem k0_off946_inb : ∀ (i : grid0.Coords) (k0_t68 : Fin k0_t68_loop.trips) (v164 : BitVec 32) (v167 : BitVec 32) (k0_hw58 : k0_chk58 i k0_t68 v164 v167) (k0_t119 : Fin (k0_t119_loop i k0_t68 v164 v167).trips), ∀ (k0_h55 : k0_cond55 k0_t68 = 1#1), ∀ (k0_h65 : k0_cond65 i k0_t68 v164 v167 = 1#1), ∀ a, (k0_off946 i k0_t68 v164 v167 k0_t119) a + S1x16.size a ≤ S256x128.size a := fun i k0_t68 v164 v167 k0_hw58 k0_t119 k0_h55 k0_h65 => k0_hw58.2.2.2.2.2.2.2.2.1 k0_t119 k0_h55 k0_h65
theorem k0_t120_ok : ∀ (i : grid0.Coords) (k0_t68 : Fin k0_t68_loop.trips) (v164 : BitVec 32) (v167 : BitVec 32) (k0_hw58 : k0_chk58 i k0_t68 v164 v167), ∀ (k0_h55 : k0_cond55 k0_t68 = 1#1), ∀ (k0_h65 : k0_cond65 i k0_t68 v164 v167 = 1#1), (k0_t120_loop i k0_t68 v164 v167).OK := fun i k0_t68 v164 v167 k0_hw58 k0_h55 k0_h65 => k0_hw58.2.2.2.2.2.2.2.2.2.1 k0_h55 k0_h65
theorem k0_off947_inb : ∀ (i : grid0.Coords) (k0_t68 : Fin k0_t68_loop.trips) (v164 : BitVec 32) (v167 : BitVec 32) (k0_hw58 : k0_chk58 i k0_t68 v164 v167) (k0_t120 : Fin (k0_t120_loop i k0_t68 v164 v167).trips), ∀ (k0_h55 : k0_cond55 k0_t68 = 1#1), ∀ (k0_h65 : k0_cond65 i k0_t68 v164 v167 = 1#1), ∀ a, (k0_off947 i k0_t68 v164 v167 k0_t120) a + S1x16.size a ≤ S256x128.size a := fun i k0_t68 v164 v167 k0_hw58 k0_t120 k0_h55 k0_h65 => k0_hw58.2.2.2.2.2.2.2.2.2.2.1 k0_t120 k0_h55 k0_h65
theorem k0_off948_inb : ∀ (i : grid0.Coords) (k0_t68 : Fin k0_t68_loop.trips) (v164 : BitVec 32) (v167 : BitVec 32) (k0_hw58 : k0_chk58 i k0_t68 v164 v167) (k0_t120 : Fin (k0_t120_loop i k0_t68 v164 v167).trips), ∀ (k0_h55 : k0_cond55 k0_t68 = 1#1), ∀ (k0_h65 : k0_cond65 i k0_t68 v164 v167 = 1#1), ∀ a, (k0_off948 i k0_t68 v164 v167 k0_t120) a + S1x16.size a ≤ S256x128.size a := fun i k0_t68 v164 v167 k0_hw58 k0_t120 k0_h55 k0_h65 => k0_hw58.2.2.2.2.2.2.2.2.2.2.2.1 k0_t120 k0_h55 k0_h65
theorem k0_off949_inb : ∀ (i : grid0.Coords) (k0_t68 : Fin k0_t68_loop.trips) (v164 : BitVec 32) (v167 : BitVec 32) (k0_hw58 : k0_chk58 i k0_t68 v164 v167) (k0_t120 : Fin (k0_t120_loop i k0_t68 v164 v167).trips), ∀ (k0_h55 : k0_cond55 k0_t68 = 1#1), ∀ (k0_h65 : k0_cond65 i k0_t68 v164 v167 = 1#1), ∀ a, (k0_off949 i k0_t68 v164 v167 k0_t120) a + S1x16.size a ≤ S256x128.size a := fun i k0_t68 v164 v167 k0_hw58 k0_t120 k0_h55 k0_h65 => k0_hw58.2.2.2.2.2.2.2.2.2.2.2.2.1 k0_t120 k0_h55 k0_h65
theorem k0_off950_inb : ∀ (i : grid0.Coords) (k0_t68 : Fin k0_t68_loop.trips) (v164 : BitVec 32) (v167 : BitVec 32) (k0_hw58 : k0_chk58 i k0_t68 v164 v167) (k0_t120 : Fin (k0_t120_loop i k0_t68 v164 v167).trips), ∀ (k0_h55 : k0_cond55 k0_t68 = 1#1), ∀ (k0_h65 : k0_cond65 i k0_t68 v164 v167 = 1#1), ∀ a, (k0_off950 i k0_t68 v164 v167 k0_t120) a + S1x16.size a ≤ S256x128.size a := fun i k0_t68 v164 v167 k0_hw58 k0_t120 k0_h55 k0_h65 => k0_hw58.2.2.2.2.2.2.2.2.2.2.2.2.2.1 k0_t120 k0_h55 k0_h65
theorem k0_off951_inb : ∀ (i : grid0.Coords) (k0_t68 : Fin k0_t68_loop.trips) (v164 : BitVec 32) (v167 : BitVec 32) (k0_hw58 : k0_chk58 i k0_t68 v164 v167) (k0_t120 : Fin (k0_t120_loop i k0_t68 v164 v167).trips), ∀ (k0_h55 : k0_cond55 k0_t68 = 1#1), ∀ (k0_h65 : k0_cond65 i k0_t68 v164 v167 = 1#1), ∀ a, (k0_off951 i k0_t68 v164 v167 k0_t120) a + S1x16.size a ≤ S256x128.size a := fun i k0_t68 v164 v167 k0_hw58 k0_t120 k0_h55 k0_h65 => k0_hw58.2.2.2.2.2.2.2.2.2.2.2.2.2.2.1 k0_t120 k0_h55 k0_h65
theorem k0_off952_inb : ∀ (i : grid0.Coords) (k0_t68 : Fin k0_t68_loop.trips) (v164 : BitVec 32) (v167 : BitVec 32) (k0_hw58 : k0_chk58 i k0_t68 v164 v167) (k0_t120 : Fin (k0_t120_loop i k0_t68 v164 v167).trips), ∀ (k0_h55 : k0_cond55 k0_t68 = 1#1), ∀ (k0_h65 : k0_cond65 i k0_t68 v164 v167 = 1#1), ∀ a, (k0_off952 i k0_t68 v164 v167 k0_t120) a + S1x16.size a ≤ S256x128.size a := fun i k0_t68 v164 v167 k0_hw58 k0_t120 k0_h55 k0_h65 => k0_hw58.2.2.2.2.2.2.2.2.2.2.2.2.2.2.2.1 k0_t120 k0_h55 k0_h65
theorem k0_off953_inb : ∀ (i : grid0.Coords) (k0_t68 : Fin k0_t68_loop.trips) (v164 : BitVec 32) (v167 : BitVec 32) (k0_hw58 : k0_chk58 i k0_t68 v164 v167) (k0_t120 : Fin (k0_t120_loop i k0_t68 v164 v167).trips), ∀ (k0_h55 : k0_cond55 k0_t68 = 1#1), ∀ (k0_h65 : k0_cond65 i k0_t68 v164 v167 = 1#1), ∀ a, (k0_off953 i k0_t68 v164 v167 k0_t120) a + S1x16.size a ≤ S256x128.size a := fun i k0_t68 v164 v167 k0_hw58 k0_t120 k0_h55 k0_h65 => k0_hw58.2.2.2.2.2.2.2.2.2.2.2.2.2.2.2.2.1 k0_t120 k0_h55 k0_h65
theorem k0_off954_inb : ∀ (i : grid0.Coords) (k0_t68 : Fin k0_t68_loop.trips) (v164 : BitVec 32) (v167 : BitVec 32) (k0_hw58 : k0_chk58 i k0_t68 v164 v167) (k0_t120 : Fin (k0_t120_loop i k0_t68 v164 v167).trips), ∀ (k0_h55 : k0_cond55 k0_t68 = 1#1), ∀ (k0_h65 : k0_cond65 i k0_t68 v164 v167 = 1#1), ∀ a, (k0_off954 i k0_t68 v164 v167 k0_t120) a + S1x16.size a ≤ S256x128.size a := fun i k0_t68 v164 v167 k0_hw58 k0_t120 k0_h55 k0_h65 => k0_hw58.2.2.2.2.2.2.2.2.2.2.2.2.2.2.2.2.2 k0_t120 k0_h55 k0_h65

@[reducible] def k0_t121_loop (i : grid0.Coords) (k0_t68 : Fin k0_t68_loop.trips) (v173 : BitVec 32) (v176 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v174 : BitVec 32 := Scalar.maxsi v173 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_85 : BitVec 32 := 1#32
  ⟨v174, v234, c1_i32_85⟩
def k0_cond66 (i : grid0.Coords) (k0_t68 : Fin k0_t68_loop.trips) (v173 : BitVec 32) (v176 : BitVec 32) : BitVec 1 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v177 : BitVec 32 := Scalar.minsi v176 v77
  let v174 : BitVec 32 := Scalar.maxsi v173 v75
  let v178 : BitVec 1 := Scalar.cmpi .sgt v177 v174
  let v179 : BitVec 32 := Scalar.extui v178
  let c0_i32_75 : BitVec 32 := 0#32
  let v180 : BitVec 1 := Scalar.cmpi .ne v179 c0_i32_75
  v180

def k0_off955 (i : grid0.Coords) (k0_t68 : Fin k0_t68_loop.trips) (v173 : BitVec 32) (v176 : BitVec 32) (k0_t121 : Fin (k0_t121_loop i k0_t68 v173 v176).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v174 : BitVec 32 := Scalar.maxsi v173 v75
  let c1_i32_85 : BitVec 32 := 1#32
  let arg19 : BitVec 32 := Scf.iv v174 c1_i32_85 k0_t121
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off956 (i : grid0.Coords) (k0_t68 : Fin k0_t68_loop.trips) (v173 : BitVec 32) (v176 : BitVec 32) (k0_t121 : Fin (k0_t121_loop i k0_t68 v173 v176).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v174 : BitVec 32 := Scalar.maxsi v173 v75
  let c1_i32_85 : BitVec 32 := 1#32
  let arg19 : BitVec 32 := Scf.iv v174 c1_i32_85 k0_t121
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off957 (i : grid0.Coords) (k0_t68 : Fin k0_t68_loop.trips) (v173 : BitVec 32) (v176 : BitVec 32) (k0_t121 : Fin (k0_t121_loop i k0_t68 v173 v176).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v174 : BitVec 32 := Scalar.maxsi v173 v75
  let c1_i32_85 : BitVec 32 := 1#32
  let arg19 : BitVec 32 := Scf.iv v174 c1_i32_85 k0_t121
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off958 (i : grid0.Coords) (k0_t68 : Fin k0_t68_loop.trips) (v173 : BitVec 32) (v176 : BitVec 32) (k0_t121 : Fin (k0_t121_loop i k0_t68 v173 v176).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v174 : BitVec 32 := Scalar.maxsi v173 v75
  let c1_i32_85 : BitVec 32 := 1#32
  let arg19 : BitVec 32 := Scf.iv v174 c1_i32_85 k0_t121
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off959 (i : grid0.Coords) (k0_t68 : Fin k0_t68_loop.trips) (v173 : BitVec 32) (v176 : BitVec 32) (k0_t121 : Fin (k0_t121_loop i k0_t68 v173 v176).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v174 : BitVec 32 := Scalar.maxsi v173 v75
  let c1_i32_85 : BitVec 32 := 1#32
  let arg19 : BitVec 32 := Scf.iv v174 c1_i32_85 k0_t121
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off960 (i : grid0.Coords) (k0_t68 : Fin k0_t68_loop.trips) (v173 : BitVec 32) (v176 : BitVec 32) (k0_t121 : Fin (k0_t121_loop i k0_t68 v173 v176).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v174 : BitVec 32 := Scalar.maxsi v173 v75
  let c1_i32_85 : BitVec 32 := 1#32
  let arg19 : BitVec 32 := Scf.iv v174 c1_i32_85 k0_t121
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off961 (i : grid0.Coords) (k0_t68 : Fin k0_t68_loop.trips) (v173 : BitVec 32) (v176 : BitVec 32) (k0_t121 : Fin (k0_t121_loop i k0_t68 v173 v176).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v174 : BitVec 32 := Scalar.maxsi v173 v75
  let c1_i32_85 : BitVec 32 := 1#32
  let arg19 : BitVec 32 := Scf.iv v174 c1_i32_85 k0_t121
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off962 (i : grid0.Coords) (k0_t68 : Fin k0_t68_loop.trips) (v173 : BitVec 32) (v176 : BitVec 32) (k0_t121 : Fin (k0_t121_loop i k0_t68 v173 v176).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v174 : BitVec 32 := Scalar.maxsi v173 v75
  let c1_i32_85 : BitVec 32 := 1#32
  let arg19 : BitVec 32 := Scf.iv v174 c1_i32_85 k0_t121
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]
@[reducible] def k0_t122_loop (i : grid0.Coords) (k0_t68 : Fin k0_t68_loop.trips) (v173 : BitVec 32) (v176 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v174 : BitVec 32 := Scalar.maxsi v173 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let v231 : BitVec 32 := Scalar.addi v174 v230
  let c1_i32_86 : BitVec 32 := 1#32
  ⟨v234, v231, c1_i32_86⟩
def k0_off963 (i : grid0.Coords) (k0_t68 : Fin k0_t68_loop.trips) (v173 : BitVec 32) (v176 : BitVec 32) (k0_t122 : Fin (k0_t122_loop i k0_t68 v173 v176).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v174 : BitVec 32 := Scalar.maxsi v173 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_86 : BitVec 32 := 1#32
  let arg19 : BitVec 32 := Scf.iv v234 c1_i32_86 k0_t122
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off964 (i : grid0.Coords) (k0_t68 : Fin k0_t68_loop.trips) (v173 : BitVec 32) (v176 : BitVec 32) (k0_t122 : Fin (k0_t122_loop i k0_t68 v173 v176).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v174 : BitVec 32 := Scalar.maxsi v173 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_86 : BitVec 32 := 1#32
  let arg19 : BitVec 32 := Scf.iv v234 c1_i32_86 k0_t122
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off965 (i : grid0.Coords) (k0_t68 : Fin k0_t68_loop.trips) (v173 : BitVec 32) (v176 : BitVec 32) (k0_t122 : Fin (k0_t122_loop i k0_t68 v173 v176).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v174 : BitVec 32 := Scalar.maxsi v173 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_86 : BitVec 32 := 1#32
  let arg19 : BitVec 32 := Scf.iv v234 c1_i32_86 k0_t122
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off966 (i : grid0.Coords) (k0_t68 : Fin k0_t68_loop.trips) (v173 : BitVec 32) (v176 : BitVec 32) (k0_t122 : Fin (k0_t122_loop i k0_t68 v173 v176).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v174 : BitVec 32 := Scalar.maxsi v173 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_86 : BitVec 32 := 1#32
  let arg19 : BitVec 32 := Scf.iv v234 c1_i32_86 k0_t122
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off967 (i : grid0.Coords) (k0_t68 : Fin k0_t68_loop.trips) (v173 : BitVec 32) (v176 : BitVec 32) (k0_t122 : Fin (k0_t122_loop i k0_t68 v173 v176).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v174 : BitVec 32 := Scalar.maxsi v173 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_86 : BitVec 32 := 1#32
  let arg19 : BitVec 32 := Scf.iv v234 c1_i32_86 k0_t122
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off968 (i : grid0.Coords) (k0_t68 : Fin k0_t68_loop.trips) (v173 : BitVec 32) (v176 : BitVec 32) (k0_t122 : Fin (k0_t122_loop i k0_t68 v173 v176).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v174 : BitVec 32 := Scalar.maxsi v173 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_86 : BitVec 32 := 1#32
  let arg19 : BitVec 32 := Scf.iv v234 c1_i32_86 k0_t122
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off969 (i : grid0.Coords) (k0_t68 : Fin k0_t68_loop.trips) (v173 : BitVec 32) (v176 : BitVec 32) (k0_t122 : Fin (k0_t122_loop i k0_t68 v173 v176).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v174 : BitVec 32 := Scalar.maxsi v173 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_86 : BitVec 32 := 1#32
  let arg19 : BitVec 32 := Scf.iv v234 c1_i32_86 k0_t122
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off970 (i : grid0.Coords) (k0_t68 : Fin k0_t68_loop.trips) (v173 : BitVec 32) (v176 : BitVec 32) (k0_t122 : Fin (k0_t122_loop i k0_t68 v173 v176).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v174 : BitVec 32 := Scalar.maxsi v173 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v177 : BitVec 32 := Scalar.minsi v176 v77
  let v230 : BitVec 32 := Scalar.subi v177 v174
  let c1_i32_84 : BitVec 32 := 1#32
  let v232 : BitVec 32 := Scalar.divsi v230 c1_i32_84
  let v233 : BitVec 32 := Scalar.muli v232 c1_i32_84
  let v234 : BitVec 32 := Scalar.addi v174 v233
  let c1_i32_86 : BitVec 32 := 1#32
  let arg19 : BitVec 32 := Scf.iv v234 c1_i32_86 k0_t122
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]

def k0_chk59 (i : grid0.Coords) (k0_t68 : Fin k0_t68_loop.trips) (v173 : BitVec 32) (v176 : BitVec 32) : Prop :=
  (∀ (k0_h55 : k0_cond55 k0_t68 = 1#1), ∀ (k0_h66 : k0_cond66 i k0_t68 v173 v176 = 1#1), (k0_t121_loop i k0_t68 v173 v176).OK) ∧
  (∀ k0_t121 : Fin (k0_t121_loop i k0_t68 v173 v176).trips, ∀ (k0_h55 : k0_cond55 k0_t68 = 1#1), ∀ (k0_h66 : k0_cond66 i k0_t68 v173 v176 = 1#1), ∀ a, (k0_off955 i k0_t68 v173 v176 k0_t121) a + S1x16.size a ≤ S256x128.size a) ∧
  (∀ k0_t121 : Fin (k0_t121_loop i k0_t68 v173 v176).trips, ∀ (k0_h55 : k0_cond55 k0_t68 = 1#1), ∀ (k0_h66 : k0_cond66 i k0_t68 v173 v176 = 1#1), ∀ a, (k0_off956 i k0_t68 v173 v176 k0_t121) a + S1x16.size a ≤ S256x128.size a) ∧
  (∀ k0_t121 : Fin (k0_t121_loop i k0_t68 v173 v176).trips, ∀ (k0_h55 : k0_cond55 k0_t68 = 1#1), ∀ (k0_h66 : k0_cond66 i k0_t68 v173 v176 = 1#1), ∀ a, (k0_off957 i k0_t68 v173 v176 k0_t121) a + S1x16.size a ≤ S256x128.size a) ∧
  (∀ k0_t121 : Fin (k0_t121_loop i k0_t68 v173 v176).trips, ∀ (k0_h55 : k0_cond55 k0_t68 = 1#1), ∀ (k0_h66 : k0_cond66 i k0_t68 v173 v176 = 1#1), ∀ a, (k0_off958 i k0_t68 v173 v176 k0_t121) a + S1x16.size a ≤ S256x128.size a) ∧
  (∀ k0_t121 : Fin (k0_t121_loop i k0_t68 v173 v176).trips, ∀ (k0_h55 : k0_cond55 k0_t68 = 1#1), ∀ (k0_h66 : k0_cond66 i k0_t68 v173 v176 = 1#1), ∀ a, (k0_off959 i k0_t68 v173 v176 k0_t121) a + S1x16.size a ≤ S256x128.size a) ∧
  (∀ k0_t121 : Fin (k0_t121_loop i k0_t68 v173 v176).trips, ∀ (k0_h55 : k0_cond55 k0_t68 = 1#1), ∀ (k0_h66 : k0_cond66 i k0_t68 v173 v176 = 1#1), ∀ a, (k0_off960 i k0_t68 v173 v176 k0_t121) a + S1x16.size a ≤ S256x128.size a) ∧
  (∀ k0_t121 : Fin (k0_t121_loop i k0_t68 v173 v176).trips, ∀ (k0_h55 : k0_cond55 k0_t68 = 1#1), ∀ (k0_h66 : k0_cond66 i k0_t68 v173 v176 = 1#1), ∀ a, (k0_off961 i k0_t68 v173 v176 k0_t121) a + S1x16.size a ≤ S256x128.size a) ∧
  (∀ k0_t121 : Fin (k0_t121_loop i k0_t68 v173 v176).trips, ∀ (k0_h55 : k0_cond55 k0_t68 = 1#1), ∀ (k0_h66 : k0_cond66 i k0_t68 v173 v176 = 1#1), ∀ a, (k0_off962 i k0_t68 v173 v176 k0_t121) a + S1x16.size a ≤ S256x128.size a) ∧
  (∀ (k0_h55 : k0_cond55 k0_t68 = 1#1), ∀ (k0_h66 : k0_cond66 i k0_t68 v173 v176 = 1#1), (k0_t122_loop i k0_t68 v173 v176).OK) ∧
  (∀ k0_t122 : Fin (k0_t122_loop i k0_t68 v173 v176).trips, ∀ (k0_h55 : k0_cond55 k0_t68 = 1#1), ∀ (k0_h66 : k0_cond66 i k0_t68 v173 v176 = 1#1), ∀ a, (k0_off963 i k0_t68 v173 v176 k0_t122) a + S1x16.size a ≤ S256x128.size a) ∧
  (∀ k0_t122 : Fin (k0_t122_loop i k0_t68 v173 v176).trips, ∀ (k0_h55 : k0_cond55 k0_t68 = 1#1), ∀ (k0_h66 : k0_cond66 i k0_t68 v173 v176 = 1#1), ∀ a, (k0_off964 i k0_t68 v173 v176 k0_t122) a + S1x16.size a ≤ S256x128.size a) ∧
  (∀ k0_t122 : Fin (k0_t122_loop i k0_t68 v173 v176).trips, ∀ (k0_h55 : k0_cond55 k0_t68 = 1#1), ∀ (k0_h66 : k0_cond66 i k0_t68 v173 v176 = 1#1), ∀ a, (k0_off965 i k0_t68 v173 v176 k0_t122) a + S1x16.size a ≤ S256x128.size a) ∧
  (∀ k0_t122 : Fin (k0_t122_loop i k0_t68 v173 v176).trips, ∀ (k0_h55 : k0_cond55 k0_t68 = 1#1), ∀ (k0_h66 : k0_cond66 i k0_t68 v173 v176 = 1#1), ∀ a, (k0_off966 i k0_t68 v173 v176 k0_t122) a + S1x16.size a ≤ S256x128.size a) ∧
  (∀ k0_t122 : Fin (k0_t122_loop i k0_t68 v173 v176).trips, ∀ (k0_h55 : k0_cond55 k0_t68 = 1#1), ∀ (k0_h66 : k0_cond66 i k0_t68 v173 v176 = 1#1), ∀ a, (k0_off967 i k0_t68 v173 v176 k0_t122) a + S1x16.size a ≤ S256x128.size a) ∧
  (∀ k0_t122 : Fin (k0_t122_loop i k0_t68 v173 v176).trips, ∀ (k0_h55 : k0_cond55 k0_t68 = 1#1), ∀ (k0_h66 : k0_cond66 i k0_t68 v173 v176 = 1#1), ∀ a, (k0_off968 i k0_t68 v173 v176 k0_t122) a + S1x16.size a ≤ S256x128.size a) ∧
  (∀ k0_t122 : Fin (k0_t122_loop i k0_t68 v173 v176).trips, ∀ (k0_h55 : k0_cond55 k0_t68 = 1#1), ∀ (k0_h66 : k0_cond66 i k0_t68 v173 v176 = 1#1), ∀ a, (k0_off969 i k0_t68 v173 v176 k0_t122) a + S1x16.size a ≤ S256x128.size a) ∧
  (∀ k0_t122 : Fin (k0_t122_loop i k0_t68 v173 v176).trips, ∀ (k0_h55 : k0_cond55 k0_t68 = 1#1), ∀ (k0_h66 : k0_cond66 i k0_t68 v173 v176 = 1#1), ∀ a, (k0_off970 i k0_t68 v173 v176 k0_t122) a + S1x16.size a ≤ S256x128.size a)
theorem k0_t121_ok : ∀ (i : grid0.Coords) (k0_t68 : Fin k0_t68_loop.trips) (v173 : BitVec 32) (v176 : BitVec 32) (k0_hw59 : k0_chk59 i k0_t68 v173 v176), ∀ (k0_h55 : k0_cond55 k0_t68 = 1#1), ∀ (k0_h66 : k0_cond66 i k0_t68 v173 v176 = 1#1), (k0_t121_loop i k0_t68 v173 v176).OK := fun i k0_t68 v173 v176 k0_hw59 k0_h55 k0_h66 => k0_hw59.1 k0_h55 k0_h66
theorem k0_off955_inb : ∀ (i : grid0.Coords) (k0_t68 : Fin k0_t68_loop.trips) (v173 : BitVec 32) (v176 : BitVec 32) (k0_hw59 : k0_chk59 i k0_t68 v173 v176) (k0_t121 : Fin (k0_t121_loop i k0_t68 v173 v176).trips), ∀ (k0_h55 : k0_cond55 k0_t68 = 1#1), ∀ (k0_h66 : k0_cond66 i k0_t68 v173 v176 = 1#1), ∀ a, (k0_off955 i k0_t68 v173 v176 k0_t121) a + S1x16.size a ≤ S256x128.size a := fun i k0_t68 v173 v176 k0_hw59 k0_t121 k0_h55 k0_h66 => k0_hw59.2.1 k0_t121 k0_h55 k0_h66
theorem k0_off956_inb : ∀ (i : grid0.Coords) (k0_t68 : Fin k0_t68_loop.trips) (v173 : BitVec 32) (v176 : BitVec 32) (k0_hw59 : k0_chk59 i k0_t68 v173 v176) (k0_t121 : Fin (k0_t121_loop i k0_t68 v173 v176).trips), ∀ (k0_h55 : k0_cond55 k0_t68 = 1#1), ∀ (k0_h66 : k0_cond66 i k0_t68 v173 v176 = 1#1), ∀ a, (k0_off956 i k0_t68 v173 v176 k0_t121) a + S1x16.size a ≤ S256x128.size a := fun i k0_t68 v173 v176 k0_hw59 k0_t121 k0_h55 k0_h66 => k0_hw59.2.2.1 k0_t121 k0_h55 k0_h66
theorem k0_off957_inb : ∀ (i : grid0.Coords) (k0_t68 : Fin k0_t68_loop.trips) (v173 : BitVec 32) (v176 : BitVec 32) (k0_hw59 : k0_chk59 i k0_t68 v173 v176) (k0_t121 : Fin (k0_t121_loop i k0_t68 v173 v176).trips), ∀ (k0_h55 : k0_cond55 k0_t68 = 1#1), ∀ (k0_h66 : k0_cond66 i k0_t68 v173 v176 = 1#1), ∀ a, (k0_off957 i k0_t68 v173 v176 k0_t121) a + S1x16.size a ≤ S256x128.size a := fun i k0_t68 v173 v176 k0_hw59 k0_t121 k0_h55 k0_h66 => k0_hw59.2.2.2.1 k0_t121 k0_h55 k0_h66
theorem k0_off958_inb : ∀ (i : grid0.Coords) (k0_t68 : Fin k0_t68_loop.trips) (v173 : BitVec 32) (v176 : BitVec 32) (k0_hw59 : k0_chk59 i k0_t68 v173 v176) (k0_t121 : Fin (k0_t121_loop i k0_t68 v173 v176).trips), ∀ (k0_h55 : k0_cond55 k0_t68 = 1#1), ∀ (k0_h66 : k0_cond66 i k0_t68 v173 v176 = 1#1), ∀ a, (k0_off958 i k0_t68 v173 v176 k0_t121) a + S1x16.size a ≤ S256x128.size a := fun i k0_t68 v173 v176 k0_hw59 k0_t121 k0_h55 k0_h66 => k0_hw59.2.2.2.2.1 k0_t121 k0_h55 k0_h66
theorem k0_off959_inb : ∀ (i : grid0.Coords) (k0_t68 : Fin k0_t68_loop.trips) (v173 : BitVec 32) (v176 : BitVec 32) (k0_hw59 : k0_chk59 i k0_t68 v173 v176) (k0_t121 : Fin (k0_t121_loop i k0_t68 v173 v176).trips), ∀ (k0_h55 : k0_cond55 k0_t68 = 1#1), ∀ (k0_h66 : k0_cond66 i k0_t68 v173 v176 = 1#1), ∀ a, (k0_off959 i k0_t68 v173 v176 k0_t121) a + S1x16.size a ≤ S256x128.size a := fun i k0_t68 v173 v176 k0_hw59 k0_t121 k0_h55 k0_h66 => k0_hw59.2.2.2.2.2.1 k0_t121 k0_h55 k0_h66
theorem k0_off960_inb : ∀ (i : grid0.Coords) (k0_t68 : Fin k0_t68_loop.trips) (v173 : BitVec 32) (v176 : BitVec 32) (k0_hw59 : k0_chk59 i k0_t68 v173 v176) (k0_t121 : Fin (k0_t121_loop i k0_t68 v173 v176).trips), ∀ (k0_h55 : k0_cond55 k0_t68 = 1#1), ∀ (k0_h66 : k0_cond66 i k0_t68 v173 v176 = 1#1), ∀ a, (k0_off960 i k0_t68 v173 v176 k0_t121) a + S1x16.size a ≤ S256x128.size a := fun i k0_t68 v173 v176 k0_hw59 k0_t121 k0_h55 k0_h66 => k0_hw59.2.2.2.2.2.2.1 k0_t121 k0_h55 k0_h66
theorem k0_off961_inb : ∀ (i : grid0.Coords) (k0_t68 : Fin k0_t68_loop.trips) (v173 : BitVec 32) (v176 : BitVec 32) (k0_hw59 : k0_chk59 i k0_t68 v173 v176) (k0_t121 : Fin (k0_t121_loop i k0_t68 v173 v176).trips), ∀ (k0_h55 : k0_cond55 k0_t68 = 1#1), ∀ (k0_h66 : k0_cond66 i k0_t68 v173 v176 = 1#1), ∀ a, (k0_off961 i k0_t68 v173 v176 k0_t121) a + S1x16.size a ≤ S256x128.size a := fun i k0_t68 v173 v176 k0_hw59 k0_t121 k0_h55 k0_h66 => k0_hw59.2.2.2.2.2.2.2.1 k0_t121 k0_h55 k0_h66
theorem k0_off962_inb : ∀ (i : grid0.Coords) (k0_t68 : Fin k0_t68_loop.trips) (v173 : BitVec 32) (v176 : BitVec 32) (k0_hw59 : k0_chk59 i k0_t68 v173 v176) (k0_t121 : Fin (k0_t121_loop i k0_t68 v173 v176).trips), ∀ (k0_h55 : k0_cond55 k0_t68 = 1#1), ∀ (k0_h66 : k0_cond66 i k0_t68 v173 v176 = 1#1), ∀ a, (k0_off962 i k0_t68 v173 v176 k0_t121) a + S1x16.size a ≤ S256x128.size a := fun i k0_t68 v173 v176 k0_hw59 k0_t121 k0_h55 k0_h66 => k0_hw59.2.2.2.2.2.2.2.2.1 k0_t121 k0_h55 k0_h66
theorem k0_t122_ok : ∀ (i : grid0.Coords) (k0_t68 : Fin k0_t68_loop.trips) (v173 : BitVec 32) (v176 : BitVec 32) (k0_hw59 : k0_chk59 i k0_t68 v173 v176), ∀ (k0_h55 : k0_cond55 k0_t68 = 1#1), ∀ (k0_h66 : k0_cond66 i k0_t68 v173 v176 = 1#1), (k0_t122_loop i k0_t68 v173 v176).OK := fun i k0_t68 v173 v176 k0_hw59 k0_h55 k0_h66 => k0_hw59.2.2.2.2.2.2.2.2.2.1 k0_h55 k0_h66
theorem k0_off963_inb : ∀ (i : grid0.Coords) (k0_t68 : Fin k0_t68_loop.trips) (v173 : BitVec 32) (v176 : BitVec 32) (k0_hw59 : k0_chk59 i k0_t68 v173 v176) (k0_t122 : Fin (k0_t122_loop i k0_t68 v173 v176).trips), ∀ (k0_h55 : k0_cond55 k0_t68 = 1#1), ∀ (k0_h66 : k0_cond66 i k0_t68 v173 v176 = 1#1), ∀ a, (k0_off963 i k0_t68 v173 v176 k0_t122) a + S1x16.size a ≤ S256x128.size a := fun i k0_t68 v173 v176 k0_hw59 k0_t122 k0_h55 k0_h66 => k0_hw59.2.2.2.2.2.2.2.2.2.2.1 k0_t122 k0_h55 k0_h66
theorem k0_off964_inb : ∀ (i : grid0.Coords) (k0_t68 : Fin k0_t68_loop.trips) (v173 : BitVec 32) (v176 : BitVec 32) (k0_hw59 : k0_chk59 i k0_t68 v173 v176) (k0_t122 : Fin (k0_t122_loop i k0_t68 v173 v176).trips), ∀ (k0_h55 : k0_cond55 k0_t68 = 1#1), ∀ (k0_h66 : k0_cond66 i k0_t68 v173 v176 = 1#1), ∀ a, (k0_off964 i k0_t68 v173 v176 k0_t122) a + S1x16.size a ≤ S256x128.size a := fun i k0_t68 v173 v176 k0_hw59 k0_t122 k0_h55 k0_h66 => k0_hw59.2.2.2.2.2.2.2.2.2.2.2.1 k0_t122 k0_h55 k0_h66
theorem k0_off965_inb : ∀ (i : grid0.Coords) (k0_t68 : Fin k0_t68_loop.trips) (v173 : BitVec 32) (v176 : BitVec 32) (k0_hw59 : k0_chk59 i k0_t68 v173 v176) (k0_t122 : Fin (k0_t122_loop i k0_t68 v173 v176).trips), ∀ (k0_h55 : k0_cond55 k0_t68 = 1#1), ∀ (k0_h66 : k0_cond66 i k0_t68 v173 v176 = 1#1), ∀ a, (k0_off965 i k0_t68 v173 v176 k0_t122) a + S1x16.size a ≤ S256x128.size a := fun i k0_t68 v173 v176 k0_hw59 k0_t122 k0_h55 k0_h66 => k0_hw59.2.2.2.2.2.2.2.2.2.2.2.2.1 k0_t122 k0_h55 k0_h66
theorem k0_off966_inb : ∀ (i : grid0.Coords) (k0_t68 : Fin k0_t68_loop.trips) (v173 : BitVec 32) (v176 : BitVec 32) (k0_hw59 : k0_chk59 i k0_t68 v173 v176) (k0_t122 : Fin (k0_t122_loop i k0_t68 v173 v176).trips), ∀ (k0_h55 : k0_cond55 k0_t68 = 1#1), ∀ (k0_h66 : k0_cond66 i k0_t68 v173 v176 = 1#1), ∀ a, (k0_off966 i k0_t68 v173 v176 k0_t122) a + S1x16.size a ≤ S256x128.size a := fun i k0_t68 v173 v176 k0_hw59 k0_t122 k0_h55 k0_h66 => k0_hw59.2.2.2.2.2.2.2.2.2.2.2.2.2.1 k0_t122 k0_h55 k0_h66
theorem k0_off967_inb : ∀ (i : grid0.Coords) (k0_t68 : Fin k0_t68_loop.trips) (v173 : BitVec 32) (v176 : BitVec 32) (k0_hw59 : k0_chk59 i k0_t68 v173 v176) (k0_t122 : Fin (k0_t122_loop i k0_t68 v173 v176).trips), ∀ (k0_h55 : k0_cond55 k0_t68 = 1#1), ∀ (k0_h66 : k0_cond66 i k0_t68 v173 v176 = 1#1), ∀ a, (k0_off967 i k0_t68 v173 v176 k0_t122) a + S1x16.size a ≤ S256x128.size a := fun i k0_t68 v173 v176 k0_hw59 k0_t122 k0_h55 k0_h66 => k0_hw59.2.2.2.2.2.2.2.2.2.2.2.2.2.2.1 k0_t122 k0_h55 k0_h66
theorem k0_off968_inb : ∀ (i : grid0.Coords) (k0_t68 : Fin k0_t68_loop.trips) (v173 : BitVec 32) (v176 : BitVec 32) (k0_hw59 : k0_chk59 i k0_t68 v173 v176) (k0_t122 : Fin (k0_t122_loop i k0_t68 v173 v176).trips), ∀ (k0_h55 : k0_cond55 k0_t68 = 1#1), ∀ (k0_h66 : k0_cond66 i k0_t68 v173 v176 = 1#1), ∀ a, (k0_off968 i k0_t68 v173 v176 k0_t122) a + S1x16.size a ≤ S256x128.size a := fun i k0_t68 v173 v176 k0_hw59 k0_t122 k0_h55 k0_h66 => k0_hw59.2.2.2.2.2.2.2.2.2.2.2.2.2.2.2.1 k0_t122 k0_h55 k0_h66
theorem k0_off969_inb : ∀ (i : grid0.Coords) (k0_t68 : Fin k0_t68_loop.trips) (v173 : BitVec 32) (v176 : BitVec 32) (k0_hw59 : k0_chk59 i k0_t68 v173 v176) (k0_t122 : Fin (k0_t122_loop i k0_t68 v173 v176).trips), ∀ (k0_h55 : k0_cond55 k0_t68 = 1#1), ∀ (k0_h66 : k0_cond66 i k0_t68 v173 v176 = 1#1), ∀ a, (k0_off969 i k0_t68 v173 v176 k0_t122) a + S1x16.size a ≤ S256x128.size a := fun i k0_t68 v173 v176 k0_hw59 k0_t122 k0_h55 k0_h66 => k0_hw59.2.2.2.2.2.2.2.2.2.2.2.2.2.2.2.2.1 k0_t122 k0_h55 k0_h66
theorem k0_off970_inb : ∀ (i : grid0.Coords) (k0_t68 : Fin k0_t68_loop.trips) (v173 : BitVec 32) (v176 : BitVec 32) (k0_hw59 : k0_chk59 i k0_t68 v173 v176) (k0_t122 : Fin (k0_t122_loop i k0_t68 v173 v176).trips), ∀ (k0_h55 : k0_cond55 k0_t68 = 1#1), ∀ (k0_h66 : k0_cond66 i k0_t68 v173 v176 = 1#1), ∀ a, (k0_off970 i k0_t68 v173 v176 k0_t122) a + S1x16.size a ≤ S256x128.size a := fun i k0_t68 v173 v176 k0_hw59 k0_t122 k0_h55 k0_h66 => k0_hw59.2.2.2.2.2.2.2.2.2.2.2.2.2.2.2.2.2 k0_t122 k0_h55 k0_h66

@[reducible] def k0_t123_loop (i : grid0.Coords) (k0_t68 : Fin k0_t68_loop.trips) (v182 : BitVec 32) (v185 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v183 : BitVec 32 := Scalar.maxsi v182 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_85 : BitVec 32 := 1#32
  ⟨v183, v234, c1_i32_85⟩
def k0_cond67 (i : grid0.Coords) (k0_t68 : Fin k0_t68_loop.trips) (v182 : BitVec 32) (v185 : BitVec 32) : BitVec 1 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v186 : BitVec 32 := Scalar.minsi v185 v77
  let v183 : BitVec 32 := Scalar.maxsi v182 v75
  let v187 : BitVec 1 := Scalar.cmpi .sgt v186 v183
  let v188 : BitVec 32 := Scalar.extui v187
  let c0_i32_76 : BitVec 32 := 0#32
  let v189 : BitVec 1 := Scalar.cmpi .ne v188 c0_i32_76
  v189

def k0_off971 (i : grid0.Coords) (k0_t68 : Fin k0_t68_loop.trips) (v182 : BitVec 32) (v185 : BitVec 32) (k0_t123 : Fin (k0_t123_loop i k0_t68 v182 v185).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v183 : BitVec 32 := Scalar.maxsi v182 v75
  let c1_i32_85 : BitVec 32 := 1#32
  let arg19 : BitVec 32 := Scf.iv v183 c1_i32_85 k0_t123
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off972 (i : grid0.Coords) (k0_t68 : Fin k0_t68_loop.trips) (v182 : BitVec 32) (v185 : BitVec 32) (k0_t123 : Fin (k0_t123_loop i k0_t68 v182 v185).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v183 : BitVec 32 := Scalar.maxsi v182 v75
  let c1_i32_85 : BitVec 32 := 1#32
  let arg19 : BitVec 32 := Scf.iv v183 c1_i32_85 k0_t123
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off973 (i : grid0.Coords) (k0_t68 : Fin k0_t68_loop.trips) (v182 : BitVec 32) (v185 : BitVec 32) (k0_t123 : Fin (k0_t123_loop i k0_t68 v182 v185).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v183 : BitVec 32 := Scalar.maxsi v182 v75
  let c1_i32_85 : BitVec 32 := 1#32
  let arg19 : BitVec 32 := Scf.iv v183 c1_i32_85 k0_t123
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off974 (i : grid0.Coords) (k0_t68 : Fin k0_t68_loop.trips) (v182 : BitVec 32) (v185 : BitVec 32) (k0_t123 : Fin (k0_t123_loop i k0_t68 v182 v185).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v183 : BitVec 32 := Scalar.maxsi v182 v75
  let c1_i32_85 : BitVec 32 := 1#32
  let arg19 : BitVec 32 := Scf.iv v183 c1_i32_85 k0_t123
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off975 (i : grid0.Coords) (k0_t68 : Fin k0_t68_loop.trips) (v182 : BitVec 32) (v185 : BitVec 32) (k0_t123 : Fin (k0_t123_loop i k0_t68 v182 v185).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v183 : BitVec 32 := Scalar.maxsi v182 v75
  let c1_i32_85 : BitVec 32 := 1#32
  let arg19 : BitVec 32 := Scf.iv v183 c1_i32_85 k0_t123
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off976 (i : grid0.Coords) (k0_t68 : Fin k0_t68_loop.trips) (v182 : BitVec 32) (v185 : BitVec 32) (k0_t123 : Fin (k0_t123_loop i k0_t68 v182 v185).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v183 : BitVec 32 := Scalar.maxsi v182 v75
  let c1_i32_85 : BitVec 32 := 1#32
  let arg19 : BitVec 32 := Scf.iv v183 c1_i32_85 k0_t123
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off977 (i : grid0.Coords) (k0_t68 : Fin k0_t68_loop.trips) (v182 : BitVec 32) (v185 : BitVec 32) (k0_t123 : Fin (k0_t123_loop i k0_t68 v182 v185).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v183 : BitVec 32 := Scalar.maxsi v182 v75
  let c1_i32_85 : BitVec 32 := 1#32
  let arg19 : BitVec 32 := Scf.iv v183 c1_i32_85 k0_t123
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off978 (i : grid0.Coords) (k0_t68 : Fin k0_t68_loop.trips) (v182 : BitVec 32) (v185 : BitVec 32) (k0_t123 : Fin (k0_t123_loop i k0_t68 v182 v185).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v183 : BitVec 32 := Scalar.maxsi v182 v75
  let c1_i32_85 : BitVec 32 := 1#32
  let arg19 : BitVec 32 := Scf.iv v183 c1_i32_85 k0_t123
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]
@[reducible] def k0_t124_loop (i : grid0.Coords) (k0_t68 : Fin k0_t68_loop.trips) (v182 : BitVec 32) (v185 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v183 : BitVec 32 := Scalar.maxsi v182 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let v231 : BitVec 32 := Scalar.addi v183 v230
  let c1_i32_86 : BitVec 32 := 1#32
  ⟨v234, v231, c1_i32_86⟩
def k0_off979 (i : grid0.Coords) (k0_t68 : Fin k0_t68_loop.trips) (v182 : BitVec 32) (v185 : BitVec 32) (k0_t124 : Fin (k0_t124_loop i k0_t68 v182 v185).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v183 : BitVec 32 := Scalar.maxsi v182 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_86 : BitVec 32 := 1#32
  let arg19 : BitVec 32 := Scf.iv v234 c1_i32_86 k0_t124
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off980 (i : grid0.Coords) (k0_t68 : Fin k0_t68_loop.trips) (v182 : BitVec 32) (v185 : BitVec 32) (k0_t124 : Fin (k0_t124_loop i k0_t68 v182 v185).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v183 : BitVec 32 := Scalar.maxsi v182 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_86 : BitVec 32 := 1#32
  let arg19 : BitVec 32 := Scf.iv v234 c1_i32_86 k0_t124
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off981 (i : grid0.Coords) (k0_t68 : Fin k0_t68_loop.trips) (v182 : BitVec 32) (v185 : BitVec 32) (k0_t124 : Fin (k0_t124_loop i k0_t68 v182 v185).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v183 : BitVec 32 := Scalar.maxsi v182 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_86 : BitVec 32 := 1#32
  let arg19 : BitVec 32 := Scf.iv v234 c1_i32_86 k0_t124
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off982 (i : grid0.Coords) (k0_t68 : Fin k0_t68_loop.trips) (v182 : BitVec 32) (v185 : BitVec 32) (k0_t124 : Fin (k0_t124_loop i k0_t68 v182 v185).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v183 : BitVec 32 := Scalar.maxsi v182 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_86 : BitVec 32 := 1#32
  let arg19 : BitVec 32 := Scf.iv v234 c1_i32_86 k0_t124
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off983 (i : grid0.Coords) (k0_t68 : Fin k0_t68_loop.trips) (v182 : BitVec 32) (v185 : BitVec 32) (k0_t124 : Fin (k0_t124_loop i k0_t68 v182 v185).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v183 : BitVec 32 := Scalar.maxsi v182 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_86 : BitVec 32 := 1#32
  let arg19 : BitVec 32 := Scf.iv v234 c1_i32_86 k0_t124
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off984 (i : grid0.Coords) (k0_t68 : Fin k0_t68_loop.trips) (v182 : BitVec 32) (v185 : BitVec 32) (k0_t124 : Fin (k0_t124_loop i k0_t68 v182 v185).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v183 : BitVec 32 := Scalar.maxsi v182 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_86 : BitVec 32 := 1#32
  let arg19 : BitVec 32 := Scf.iv v234 c1_i32_86 k0_t124
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off985 (i : grid0.Coords) (k0_t68 : Fin k0_t68_loop.trips) (v182 : BitVec 32) (v185 : BitVec 32) (k0_t124 : Fin (k0_t124_loop i k0_t68 v182 v185).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v183 : BitVec 32 := Scalar.maxsi v182 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_86 : BitVec 32 := 1#32
  let arg19 : BitVec 32 := Scf.iv v234 c1_i32_86 k0_t124
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off986 (i : grid0.Coords) (k0_t68 : Fin k0_t68_loop.trips) (v182 : BitVec 32) (v185 : BitVec 32) (k0_t124 : Fin (k0_t124_loop i k0_t68 v182 v185).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v183 : BitVec 32 := Scalar.maxsi v182 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v186 : BitVec 32 := Scalar.minsi v185 v77
  let v230 : BitVec 32 := Scalar.subi v186 v183
  let c1_i32_84 : BitVec 32 := 1#32
  let v232 : BitVec 32 := Scalar.divsi v230 c1_i32_84
  let v233 : BitVec 32 := Scalar.muli v232 c1_i32_84
  let v234 : BitVec 32 := Scalar.addi v183 v233
  let c1_i32_86 : BitVec 32 := 1#32
  let arg19 : BitVec 32 := Scf.iv v234 c1_i32_86 k0_t124
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]

def k0_chk60 (i : grid0.Coords) (k0_t68 : Fin k0_t68_loop.trips) (v182 : BitVec 32) (v185 : BitVec 32) : Prop :=
  (∀ (k0_h55 : k0_cond55 k0_t68 = 1#1), ∀ (k0_h67 : k0_cond67 i k0_t68 v182 v185 = 1#1), (k0_t123_loop i k0_t68 v182 v185).OK) ∧
  (∀ k0_t123 : Fin (k0_t123_loop i k0_t68 v182 v185).trips, ∀ (k0_h55 : k0_cond55 k0_t68 = 1#1), ∀ (k0_h67 : k0_cond67 i k0_t68 v182 v185 = 1#1), ∀ a, (k0_off971 i k0_t68 v182 v185 k0_t123) a + S1x16.size a ≤ S256x128.size a) ∧
  (∀ k0_t123 : Fin (k0_t123_loop i k0_t68 v182 v185).trips, ∀ (k0_h55 : k0_cond55 k0_t68 = 1#1), ∀ (k0_h67 : k0_cond67 i k0_t68 v182 v185 = 1#1), ∀ a, (k0_off972 i k0_t68 v182 v185 k0_t123) a + S1x16.size a ≤ S256x128.size a) ∧
  (∀ k0_t123 : Fin (k0_t123_loop i k0_t68 v182 v185).trips, ∀ (k0_h55 : k0_cond55 k0_t68 = 1#1), ∀ (k0_h67 : k0_cond67 i k0_t68 v182 v185 = 1#1), ∀ a, (k0_off973 i k0_t68 v182 v185 k0_t123) a + S1x16.size a ≤ S256x128.size a) ∧
  (∀ k0_t123 : Fin (k0_t123_loop i k0_t68 v182 v185).trips, ∀ (k0_h55 : k0_cond55 k0_t68 = 1#1), ∀ (k0_h67 : k0_cond67 i k0_t68 v182 v185 = 1#1), ∀ a, (k0_off974 i k0_t68 v182 v185 k0_t123) a + S1x16.size a ≤ S256x128.size a) ∧
  (∀ k0_t123 : Fin (k0_t123_loop i k0_t68 v182 v185).trips, ∀ (k0_h55 : k0_cond55 k0_t68 = 1#1), ∀ (k0_h67 : k0_cond67 i k0_t68 v182 v185 = 1#1), ∀ a, (k0_off975 i k0_t68 v182 v185 k0_t123) a + S1x16.size a ≤ S256x128.size a) ∧
  (∀ k0_t123 : Fin (k0_t123_loop i k0_t68 v182 v185).trips, ∀ (k0_h55 : k0_cond55 k0_t68 = 1#1), ∀ (k0_h67 : k0_cond67 i k0_t68 v182 v185 = 1#1), ∀ a, (k0_off976 i k0_t68 v182 v185 k0_t123) a + S1x16.size a ≤ S256x128.size a) ∧
  (∀ k0_t123 : Fin (k0_t123_loop i k0_t68 v182 v185).trips, ∀ (k0_h55 : k0_cond55 k0_t68 = 1#1), ∀ (k0_h67 : k0_cond67 i k0_t68 v182 v185 = 1#1), ∀ a, (k0_off977 i k0_t68 v182 v185 k0_t123) a + S1x16.size a ≤ S256x128.size a) ∧
  (∀ k0_t123 : Fin (k0_t123_loop i k0_t68 v182 v185).trips, ∀ (k0_h55 : k0_cond55 k0_t68 = 1#1), ∀ (k0_h67 : k0_cond67 i k0_t68 v182 v185 = 1#1), ∀ a, (k0_off978 i k0_t68 v182 v185 k0_t123) a + S1x16.size a ≤ S256x128.size a) ∧
  (∀ (k0_h55 : k0_cond55 k0_t68 = 1#1), ∀ (k0_h67 : k0_cond67 i k0_t68 v182 v185 = 1#1), (k0_t124_loop i k0_t68 v182 v185).OK) ∧
  (∀ k0_t124 : Fin (k0_t124_loop i k0_t68 v182 v185).trips, ∀ (k0_h55 : k0_cond55 k0_t68 = 1#1), ∀ (k0_h67 : k0_cond67 i k0_t68 v182 v185 = 1#1), ∀ a, (k0_off979 i k0_t68 v182 v185 k0_t124) a + S1x16.size a ≤ S256x128.size a) ∧
  (∀ k0_t124 : Fin (k0_t124_loop i k0_t68 v182 v185).trips, ∀ (k0_h55 : k0_cond55 k0_t68 = 1#1), ∀ (k0_h67 : k0_cond67 i k0_t68 v182 v185 = 1#1), ∀ a, (k0_off980 i k0_t68 v182 v185 k0_t124) a + S1x16.size a ≤ S256x128.size a) ∧
  (∀ k0_t124 : Fin (k0_t124_loop i k0_t68 v182 v185).trips, ∀ (k0_h55 : k0_cond55 k0_t68 = 1#1), ∀ (k0_h67 : k0_cond67 i k0_t68 v182 v185 = 1#1), ∀ a, (k0_off981 i k0_t68 v182 v185 k0_t124) a + S1x16.size a ≤ S256x128.size a) ∧
  (∀ k0_t124 : Fin (k0_t124_loop i k0_t68 v182 v185).trips, ∀ (k0_h55 : k0_cond55 k0_t68 = 1#1), ∀ (k0_h67 : k0_cond67 i k0_t68 v182 v185 = 1#1), ∀ a, (k0_off982 i k0_t68 v182 v185 k0_t124) a + S1x16.size a ≤ S256x128.size a) ∧
  (∀ k0_t124 : Fin (k0_t124_loop i k0_t68 v182 v185).trips, ∀ (k0_h55 : k0_cond55 k0_t68 = 1#1), ∀ (k0_h67 : k0_cond67 i k0_t68 v182 v185 = 1#1), ∀ a, (k0_off983 i k0_t68 v182 v185 k0_t124) a + S1x16.size a ≤ S256x128.size a) ∧
  (∀ k0_t124 : Fin (k0_t124_loop i k0_t68 v182 v185).trips, ∀ (k0_h55 : k0_cond55 k0_t68 = 1#1), ∀ (k0_h67 : k0_cond67 i k0_t68 v182 v185 = 1#1), ∀ a, (k0_off984 i k0_t68 v182 v185 k0_t124) a + S1x16.size a ≤ S256x128.size a) ∧
  (∀ k0_t124 : Fin (k0_t124_loop i k0_t68 v182 v185).trips, ∀ (k0_h55 : k0_cond55 k0_t68 = 1#1), ∀ (k0_h67 : k0_cond67 i k0_t68 v182 v185 = 1#1), ∀ a, (k0_off985 i k0_t68 v182 v185 k0_t124) a + S1x16.size a ≤ S256x128.size a) ∧
  (∀ k0_t124 : Fin (k0_t124_loop i k0_t68 v182 v185).trips, ∀ (k0_h55 : k0_cond55 k0_t68 = 1#1), ∀ (k0_h67 : k0_cond67 i k0_t68 v182 v185 = 1#1), ∀ a, (k0_off986 i k0_t68 v182 v185 k0_t124) a + S1x16.size a ≤ S256x128.size a)
theorem k0_t123_ok : ∀ (i : grid0.Coords) (k0_t68 : Fin k0_t68_loop.trips) (v182 : BitVec 32) (v185 : BitVec 32) (k0_hw60 : k0_chk60 i k0_t68 v182 v185), ∀ (k0_h55 : k0_cond55 k0_t68 = 1#1), ∀ (k0_h67 : k0_cond67 i k0_t68 v182 v185 = 1#1), (k0_t123_loop i k0_t68 v182 v185).OK := fun i k0_t68 v182 v185 k0_hw60 k0_h55 k0_h67 => k0_hw60.1 k0_h55 k0_h67
theorem k0_off971_inb : ∀ (i : grid0.Coords) (k0_t68 : Fin k0_t68_loop.trips) (v182 : BitVec 32) (v185 : BitVec 32) (k0_hw60 : k0_chk60 i k0_t68 v182 v185) (k0_t123 : Fin (k0_t123_loop i k0_t68 v182 v185).trips), ∀ (k0_h55 : k0_cond55 k0_t68 = 1#1), ∀ (k0_h67 : k0_cond67 i k0_t68 v182 v185 = 1#1), ∀ a, (k0_off971 i k0_t68 v182 v185 k0_t123) a + S1x16.size a ≤ S256x128.size a := fun i k0_t68 v182 v185 k0_hw60 k0_t123 k0_h55 k0_h67 => k0_hw60.2.1 k0_t123 k0_h55 k0_h67
theorem k0_off972_inb : ∀ (i : grid0.Coords) (k0_t68 : Fin k0_t68_loop.trips) (v182 : BitVec 32) (v185 : BitVec 32) (k0_hw60 : k0_chk60 i k0_t68 v182 v185) (k0_t123 : Fin (k0_t123_loop i k0_t68 v182 v185).trips), ∀ (k0_h55 : k0_cond55 k0_t68 = 1#1), ∀ (k0_h67 : k0_cond67 i k0_t68 v182 v185 = 1#1), ∀ a, (k0_off972 i k0_t68 v182 v185 k0_t123) a + S1x16.size a ≤ S256x128.size a := fun i k0_t68 v182 v185 k0_hw60 k0_t123 k0_h55 k0_h67 => k0_hw60.2.2.1 k0_t123 k0_h55 k0_h67
theorem k0_off973_inb : ∀ (i : grid0.Coords) (k0_t68 : Fin k0_t68_loop.trips) (v182 : BitVec 32) (v185 : BitVec 32) (k0_hw60 : k0_chk60 i k0_t68 v182 v185) (k0_t123 : Fin (k0_t123_loop i k0_t68 v182 v185).trips), ∀ (k0_h55 : k0_cond55 k0_t68 = 1#1), ∀ (k0_h67 : k0_cond67 i k0_t68 v182 v185 = 1#1), ∀ a, (k0_off973 i k0_t68 v182 v185 k0_t123) a + S1x16.size a ≤ S256x128.size a := fun i k0_t68 v182 v185 k0_hw60 k0_t123 k0_h55 k0_h67 => k0_hw60.2.2.2.1 k0_t123 k0_h55 k0_h67
theorem k0_off974_inb : ∀ (i : grid0.Coords) (k0_t68 : Fin k0_t68_loop.trips) (v182 : BitVec 32) (v185 : BitVec 32) (k0_hw60 : k0_chk60 i k0_t68 v182 v185) (k0_t123 : Fin (k0_t123_loop i k0_t68 v182 v185).trips), ∀ (k0_h55 : k0_cond55 k0_t68 = 1#1), ∀ (k0_h67 : k0_cond67 i k0_t68 v182 v185 = 1#1), ∀ a, (k0_off974 i k0_t68 v182 v185 k0_t123) a + S1x16.size a ≤ S256x128.size a := fun i k0_t68 v182 v185 k0_hw60 k0_t123 k0_h55 k0_h67 => k0_hw60.2.2.2.2.1 k0_t123 k0_h55 k0_h67
theorem k0_off975_inb : ∀ (i : grid0.Coords) (k0_t68 : Fin k0_t68_loop.trips) (v182 : BitVec 32) (v185 : BitVec 32) (k0_hw60 : k0_chk60 i k0_t68 v182 v185) (k0_t123 : Fin (k0_t123_loop i k0_t68 v182 v185).trips), ∀ (k0_h55 : k0_cond55 k0_t68 = 1#1), ∀ (k0_h67 : k0_cond67 i k0_t68 v182 v185 = 1#1), ∀ a, (k0_off975 i k0_t68 v182 v185 k0_t123) a + S1x16.size a ≤ S256x128.size a := fun i k0_t68 v182 v185 k0_hw60 k0_t123 k0_h55 k0_h67 => k0_hw60.2.2.2.2.2.1 k0_t123 k0_h55 k0_h67
theorem k0_off976_inb : ∀ (i : grid0.Coords) (k0_t68 : Fin k0_t68_loop.trips) (v182 : BitVec 32) (v185 : BitVec 32) (k0_hw60 : k0_chk60 i k0_t68 v182 v185) (k0_t123 : Fin (k0_t123_loop i k0_t68 v182 v185).trips), ∀ (k0_h55 : k0_cond55 k0_t68 = 1#1), ∀ (k0_h67 : k0_cond67 i k0_t68 v182 v185 = 1#1), ∀ a, (k0_off976 i k0_t68 v182 v185 k0_t123) a + S1x16.size a ≤ S256x128.size a := fun i k0_t68 v182 v185 k0_hw60 k0_t123 k0_h55 k0_h67 => k0_hw60.2.2.2.2.2.2.1 k0_t123 k0_h55 k0_h67
theorem k0_off977_inb : ∀ (i : grid0.Coords) (k0_t68 : Fin k0_t68_loop.trips) (v182 : BitVec 32) (v185 : BitVec 32) (k0_hw60 : k0_chk60 i k0_t68 v182 v185) (k0_t123 : Fin (k0_t123_loop i k0_t68 v182 v185).trips), ∀ (k0_h55 : k0_cond55 k0_t68 = 1#1), ∀ (k0_h67 : k0_cond67 i k0_t68 v182 v185 = 1#1), ∀ a, (k0_off977 i k0_t68 v182 v185 k0_t123) a + S1x16.size a ≤ S256x128.size a := fun i k0_t68 v182 v185 k0_hw60 k0_t123 k0_h55 k0_h67 => k0_hw60.2.2.2.2.2.2.2.1 k0_t123 k0_h55 k0_h67
theorem k0_off978_inb : ∀ (i : grid0.Coords) (k0_t68 : Fin k0_t68_loop.trips) (v182 : BitVec 32) (v185 : BitVec 32) (k0_hw60 : k0_chk60 i k0_t68 v182 v185) (k0_t123 : Fin (k0_t123_loop i k0_t68 v182 v185).trips), ∀ (k0_h55 : k0_cond55 k0_t68 = 1#1), ∀ (k0_h67 : k0_cond67 i k0_t68 v182 v185 = 1#1), ∀ a, (k0_off978 i k0_t68 v182 v185 k0_t123) a + S1x16.size a ≤ S256x128.size a := fun i k0_t68 v182 v185 k0_hw60 k0_t123 k0_h55 k0_h67 => k0_hw60.2.2.2.2.2.2.2.2.1 k0_t123 k0_h55 k0_h67
theorem k0_t124_ok : ∀ (i : grid0.Coords) (k0_t68 : Fin k0_t68_loop.trips) (v182 : BitVec 32) (v185 : BitVec 32) (k0_hw60 : k0_chk60 i k0_t68 v182 v185), ∀ (k0_h55 : k0_cond55 k0_t68 = 1#1), ∀ (k0_h67 : k0_cond67 i k0_t68 v182 v185 = 1#1), (k0_t124_loop i k0_t68 v182 v185).OK := fun i k0_t68 v182 v185 k0_hw60 k0_h55 k0_h67 => k0_hw60.2.2.2.2.2.2.2.2.2.1 k0_h55 k0_h67
theorem k0_off979_inb : ∀ (i : grid0.Coords) (k0_t68 : Fin k0_t68_loop.trips) (v182 : BitVec 32) (v185 : BitVec 32) (k0_hw60 : k0_chk60 i k0_t68 v182 v185) (k0_t124 : Fin (k0_t124_loop i k0_t68 v182 v185).trips), ∀ (k0_h55 : k0_cond55 k0_t68 = 1#1), ∀ (k0_h67 : k0_cond67 i k0_t68 v182 v185 = 1#1), ∀ a, (k0_off979 i k0_t68 v182 v185 k0_t124) a + S1x16.size a ≤ S256x128.size a := fun i k0_t68 v182 v185 k0_hw60 k0_t124 k0_h55 k0_h67 => k0_hw60.2.2.2.2.2.2.2.2.2.2.1 k0_t124 k0_h55 k0_h67
theorem k0_off980_inb : ∀ (i : grid0.Coords) (k0_t68 : Fin k0_t68_loop.trips) (v182 : BitVec 32) (v185 : BitVec 32) (k0_hw60 : k0_chk60 i k0_t68 v182 v185) (k0_t124 : Fin (k0_t124_loop i k0_t68 v182 v185).trips), ∀ (k0_h55 : k0_cond55 k0_t68 = 1#1), ∀ (k0_h67 : k0_cond67 i k0_t68 v182 v185 = 1#1), ∀ a, (k0_off980 i k0_t68 v182 v185 k0_t124) a + S1x16.size a ≤ S256x128.size a := fun i k0_t68 v182 v185 k0_hw60 k0_t124 k0_h55 k0_h67 => k0_hw60.2.2.2.2.2.2.2.2.2.2.2.1 k0_t124 k0_h55 k0_h67
theorem k0_off981_inb : ∀ (i : grid0.Coords) (k0_t68 : Fin k0_t68_loop.trips) (v182 : BitVec 32) (v185 : BitVec 32) (k0_hw60 : k0_chk60 i k0_t68 v182 v185) (k0_t124 : Fin (k0_t124_loop i k0_t68 v182 v185).trips), ∀ (k0_h55 : k0_cond55 k0_t68 = 1#1), ∀ (k0_h67 : k0_cond67 i k0_t68 v182 v185 = 1#1), ∀ a, (k0_off981 i k0_t68 v182 v185 k0_t124) a + S1x16.size a ≤ S256x128.size a := fun i k0_t68 v182 v185 k0_hw60 k0_t124 k0_h55 k0_h67 => k0_hw60.2.2.2.2.2.2.2.2.2.2.2.2.1 k0_t124 k0_h55 k0_h67
theorem k0_off982_inb : ∀ (i : grid0.Coords) (k0_t68 : Fin k0_t68_loop.trips) (v182 : BitVec 32) (v185 : BitVec 32) (k0_hw60 : k0_chk60 i k0_t68 v182 v185) (k0_t124 : Fin (k0_t124_loop i k0_t68 v182 v185).trips), ∀ (k0_h55 : k0_cond55 k0_t68 = 1#1), ∀ (k0_h67 : k0_cond67 i k0_t68 v182 v185 = 1#1), ∀ a, (k0_off982 i k0_t68 v182 v185 k0_t124) a + S1x16.size a ≤ S256x128.size a := fun i k0_t68 v182 v185 k0_hw60 k0_t124 k0_h55 k0_h67 => k0_hw60.2.2.2.2.2.2.2.2.2.2.2.2.2.1 k0_t124 k0_h55 k0_h67
theorem k0_off983_inb : ∀ (i : grid0.Coords) (k0_t68 : Fin k0_t68_loop.trips) (v182 : BitVec 32) (v185 : BitVec 32) (k0_hw60 : k0_chk60 i k0_t68 v182 v185) (k0_t124 : Fin (k0_t124_loop i k0_t68 v182 v185).trips), ∀ (k0_h55 : k0_cond55 k0_t68 = 1#1), ∀ (k0_h67 : k0_cond67 i k0_t68 v182 v185 = 1#1), ∀ a, (k0_off983 i k0_t68 v182 v185 k0_t124) a + S1x16.size a ≤ S256x128.size a := fun i k0_t68 v182 v185 k0_hw60 k0_t124 k0_h55 k0_h67 => k0_hw60.2.2.2.2.2.2.2.2.2.2.2.2.2.2.1 k0_t124 k0_h55 k0_h67
theorem k0_off984_inb : ∀ (i : grid0.Coords) (k0_t68 : Fin k0_t68_loop.trips) (v182 : BitVec 32) (v185 : BitVec 32) (k0_hw60 : k0_chk60 i k0_t68 v182 v185) (k0_t124 : Fin (k0_t124_loop i k0_t68 v182 v185).trips), ∀ (k0_h55 : k0_cond55 k0_t68 = 1#1), ∀ (k0_h67 : k0_cond67 i k0_t68 v182 v185 = 1#1), ∀ a, (k0_off984 i k0_t68 v182 v185 k0_t124) a + S1x16.size a ≤ S256x128.size a := fun i k0_t68 v182 v185 k0_hw60 k0_t124 k0_h55 k0_h67 => k0_hw60.2.2.2.2.2.2.2.2.2.2.2.2.2.2.2.1 k0_t124 k0_h55 k0_h67
theorem k0_off985_inb : ∀ (i : grid0.Coords) (k0_t68 : Fin k0_t68_loop.trips) (v182 : BitVec 32) (v185 : BitVec 32) (k0_hw60 : k0_chk60 i k0_t68 v182 v185) (k0_t124 : Fin (k0_t124_loop i k0_t68 v182 v185).trips), ∀ (k0_h55 : k0_cond55 k0_t68 = 1#1), ∀ (k0_h67 : k0_cond67 i k0_t68 v182 v185 = 1#1), ∀ a, (k0_off985 i k0_t68 v182 v185 k0_t124) a + S1x16.size a ≤ S256x128.size a := fun i k0_t68 v182 v185 k0_hw60 k0_t124 k0_h55 k0_h67 => k0_hw60.2.2.2.2.2.2.2.2.2.2.2.2.2.2.2.2.1 k0_t124 k0_h55 k0_h67
theorem k0_off986_inb : ∀ (i : grid0.Coords) (k0_t68 : Fin k0_t68_loop.trips) (v182 : BitVec 32) (v185 : BitVec 32) (k0_hw60 : k0_chk60 i k0_t68 v182 v185) (k0_t124 : Fin (k0_t124_loop i k0_t68 v182 v185).trips), ∀ (k0_h55 : k0_cond55 k0_t68 = 1#1), ∀ (k0_h67 : k0_cond67 i k0_t68 v182 v185 = 1#1), ∀ a, (k0_off986 i k0_t68 v182 v185 k0_t124) a + S1x16.size a ≤ S256x128.size a := fun i k0_t68 v182 v185 k0_hw60 k0_t124 k0_h55 k0_h67 => k0_hw60.2.2.2.2.2.2.2.2.2.2.2.2.2.2.2.2.2 k0_t124 k0_h55 k0_h67

@[reducible] def k0_t125_loop (i : grid0.Coords) (k0_t68 : Fin k0_t68_loop.trips) (v191 : BitVec 32) (v194 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v192 : BitVec 32 := Scalar.maxsi v191 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_85 : BitVec 32 := 1#32
  ⟨v192, v234, c1_i32_85⟩
def k0_cond68 (i : grid0.Coords) (k0_t68 : Fin k0_t68_loop.trips) (v191 : BitVec 32) (v194 : BitVec 32) : BitVec 1 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v195 : BitVec 32 := Scalar.minsi v194 v77
  let v192 : BitVec 32 := Scalar.maxsi v191 v75
  let v196 : BitVec 1 := Scalar.cmpi .sgt v195 v192
  let v197 : BitVec 32 := Scalar.extui v196
  let c0_i32_77 : BitVec 32 := 0#32
  let v198 : BitVec 1 := Scalar.cmpi .ne v197 c0_i32_77
  v198

def k0_off987 (i : grid0.Coords) (k0_t68 : Fin k0_t68_loop.trips) (v191 : BitVec 32) (v194 : BitVec 32) (k0_t125 : Fin (k0_t125_loop i k0_t68 v191 v194).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v192 : BitVec 32 := Scalar.maxsi v191 v75
  let c1_i32_85 : BitVec 32 := 1#32
  let arg19 : BitVec 32 := Scf.iv v192 c1_i32_85 k0_t125
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off988 (i : grid0.Coords) (k0_t68 : Fin k0_t68_loop.trips) (v191 : BitVec 32) (v194 : BitVec 32) (k0_t125 : Fin (k0_t125_loop i k0_t68 v191 v194).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v192 : BitVec 32 := Scalar.maxsi v191 v75
  let c1_i32_85 : BitVec 32 := 1#32
  let arg19 : BitVec 32 := Scf.iv v192 c1_i32_85 k0_t125
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off989 (i : grid0.Coords) (k0_t68 : Fin k0_t68_loop.trips) (v191 : BitVec 32) (v194 : BitVec 32) (k0_t125 : Fin (k0_t125_loop i k0_t68 v191 v194).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v192 : BitVec 32 := Scalar.maxsi v191 v75
  let c1_i32_85 : BitVec 32 := 1#32
  let arg19 : BitVec 32 := Scf.iv v192 c1_i32_85 k0_t125
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off990 (i : grid0.Coords) (k0_t68 : Fin k0_t68_loop.trips) (v191 : BitVec 32) (v194 : BitVec 32) (k0_t125 : Fin (k0_t125_loop i k0_t68 v191 v194).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v192 : BitVec 32 := Scalar.maxsi v191 v75
  let c1_i32_85 : BitVec 32 := 1#32
  let arg19 : BitVec 32 := Scf.iv v192 c1_i32_85 k0_t125
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off991 (i : grid0.Coords) (k0_t68 : Fin k0_t68_loop.trips) (v191 : BitVec 32) (v194 : BitVec 32) (k0_t125 : Fin (k0_t125_loop i k0_t68 v191 v194).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v192 : BitVec 32 := Scalar.maxsi v191 v75
  let c1_i32_85 : BitVec 32 := 1#32
  let arg19 : BitVec 32 := Scf.iv v192 c1_i32_85 k0_t125
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off992 (i : grid0.Coords) (k0_t68 : Fin k0_t68_loop.trips) (v191 : BitVec 32) (v194 : BitVec 32) (k0_t125 : Fin (k0_t125_loop i k0_t68 v191 v194).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v192 : BitVec 32 := Scalar.maxsi v191 v75
  let c1_i32_85 : BitVec 32 := 1#32
  let arg19 : BitVec 32 := Scf.iv v192 c1_i32_85 k0_t125
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off993 (i : grid0.Coords) (k0_t68 : Fin k0_t68_loop.trips) (v191 : BitVec 32) (v194 : BitVec 32) (k0_t125 : Fin (k0_t125_loop i k0_t68 v191 v194).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v192 : BitVec 32 := Scalar.maxsi v191 v75
  let c1_i32_85 : BitVec 32 := 1#32
  let arg19 : BitVec 32 := Scf.iv v192 c1_i32_85 k0_t125
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off994 (i : grid0.Coords) (k0_t68 : Fin k0_t68_loop.trips) (v191 : BitVec 32) (v194 : BitVec 32) (k0_t125 : Fin (k0_t125_loop i k0_t68 v191 v194).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v192 : BitVec 32 := Scalar.maxsi v191 v75
  let c1_i32_85 : BitVec 32 := 1#32
  let arg19 : BitVec 32 := Scf.iv v192 c1_i32_85 k0_t125
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]
@[reducible] def k0_t126_loop (i : grid0.Coords) (k0_t68 : Fin k0_t68_loop.trips) (v191 : BitVec 32) (v194 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v192 : BitVec 32 := Scalar.maxsi v191 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let v231 : BitVec 32 := Scalar.addi v192 v230
  let c1_i32_86 : BitVec 32 := 1#32
  ⟨v234, v231, c1_i32_86⟩
def k0_off995 (i : grid0.Coords) (k0_t68 : Fin k0_t68_loop.trips) (v191 : BitVec 32) (v194 : BitVec 32) (k0_t126 : Fin (k0_t126_loop i k0_t68 v191 v194).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v192 : BitVec 32 := Scalar.maxsi v191 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_86 : BitVec 32 := 1#32
  let arg19 : BitVec 32 := Scf.iv v234 c1_i32_86 k0_t126
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off996 (i : grid0.Coords) (k0_t68 : Fin k0_t68_loop.trips) (v191 : BitVec 32) (v194 : BitVec 32) (k0_t126 : Fin (k0_t126_loop i k0_t68 v191 v194).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v192 : BitVec 32 := Scalar.maxsi v191 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_86 : BitVec 32 := 1#32
  let arg19 : BitVec 32 := Scf.iv v234 c1_i32_86 k0_t126
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off997 (i : grid0.Coords) (k0_t68 : Fin k0_t68_loop.trips) (v191 : BitVec 32) (v194 : BitVec 32) (k0_t126 : Fin (k0_t126_loop i k0_t68 v191 v194).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v192 : BitVec 32 := Scalar.maxsi v191 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_86 : BitVec 32 := 1#32
  let arg19 : BitVec 32 := Scf.iv v234 c1_i32_86 k0_t126
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off998 (i : grid0.Coords) (k0_t68 : Fin k0_t68_loop.trips) (v191 : BitVec 32) (v194 : BitVec 32) (k0_t126 : Fin (k0_t126_loop i k0_t68 v191 v194).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v192 : BitVec 32 := Scalar.maxsi v191 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_86 : BitVec 32 := 1#32
  let arg19 : BitVec 32 := Scf.iv v234 c1_i32_86 k0_t126
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off999 (i : grid0.Coords) (k0_t68 : Fin k0_t68_loop.trips) (v191 : BitVec 32) (v194 : BitVec 32) (k0_t126 : Fin (k0_t126_loop i k0_t68 v191 v194).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v192 : BitVec 32 := Scalar.maxsi v191 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_86 : BitVec 32 := 1#32
  let arg19 : BitVec 32 := Scf.iv v234 c1_i32_86 k0_t126
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off1000 (i : grid0.Coords) (k0_t68 : Fin k0_t68_loop.trips) (v191 : BitVec 32) (v194 : BitVec 32) (k0_t126 : Fin (k0_t126_loop i k0_t68 v191 v194).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v192 : BitVec 32 := Scalar.maxsi v191 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_86 : BitVec 32 := 1#32
  let arg19 : BitVec 32 := Scf.iv v234 c1_i32_86 k0_t126
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off1001 (i : grid0.Coords) (k0_t68 : Fin k0_t68_loop.trips) (v191 : BitVec 32) (v194 : BitVec 32) (k0_t126 : Fin (k0_t126_loop i k0_t68 v191 v194).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v192 : BitVec 32 := Scalar.maxsi v191 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_86 : BitVec 32 := 1#32
  let arg19 : BitVec 32 := Scf.iv v234 c1_i32_86 k0_t126
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off1002 (i : grid0.Coords) (k0_t68 : Fin k0_t68_loop.trips) (v191 : BitVec 32) (v194 : BitVec 32) (k0_t126 : Fin (k0_t126_loop i k0_t68 v191 v194).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v192 : BitVec 32 := Scalar.maxsi v191 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v195 : BitVec 32 := Scalar.minsi v194 v77
  let v230 : BitVec 32 := Scalar.subi v195 v192
  let c1_i32_84 : BitVec 32 := 1#32
  let v232 : BitVec 32 := Scalar.divsi v230 c1_i32_84
  let v233 : BitVec 32 := Scalar.muli v232 c1_i32_84
  let v234 : BitVec 32 := Scalar.addi v192 v233
  let c1_i32_86 : BitVec 32 := 1#32
  let arg19 : BitVec 32 := Scf.iv v234 c1_i32_86 k0_t126
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]

def k0_chk61 (i : grid0.Coords) (k0_t68 : Fin k0_t68_loop.trips) (v191 : BitVec 32) (v194 : BitVec 32) : Prop :=
  (∀ (k0_h55 : k0_cond55 k0_t68 = 1#1), ∀ (k0_h68 : k0_cond68 i k0_t68 v191 v194 = 1#1), (k0_t125_loop i k0_t68 v191 v194).OK) ∧
  (∀ k0_t125 : Fin (k0_t125_loop i k0_t68 v191 v194).trips, ∀ (k0_h55 : k0_cond55 k0_t68 = 1#1), ∀ (k0_h68 : k0_cond68 i k0_t68 v191 v194 = 1#1), ∀ a, (k0_off987 i k0_t68 v191 v194 k0_t125) a + S1x16.size a ≤ S256x128.size a) ∧
  (∀ k0_t125 : Fin (k0_t125_loop i k0_t68 v191 v194).trips, ∀ (k0_h55 : k0_cond55 k0_t68 = 1#1), ∀ (k0_h68 : k0_cond68 i k0_t68 v191 v194 = 1#1), ∀ a, (k0_off988 i k0_t68 v191 v194 k0_t125) a + S1x16.size a ≤ S256x128.size a) ∧
  (∀ k0_t125 : Fin (k0_t125_loop i k0_t68 v191 v194).trips, ∀ (k0_h55 : k0_cond55 k0_t68 = 1#1), ∀ (k0_h68 : k0_cond68 i k0_t68 v191 v194 = 1#1), ∀ a, (k0_off989 i k0_t68 v191 v194 k0_t125) a + S1x16.size a ≤ S256x128.size a) ∧
  (∀ k0_t125 : Fin (k0_t125_loop i k0_t68 v191 v194).trips, ∀ (k0_h55 : k0_cond55 k0_t68 = 1#1), ∀ (k0_h68 : k0_cond68 i k0_t68 v191 v194 = 1#1), ∀ a, (k0_off990 i k0_t68 v191 v194 k0_t125) a + S1x16.size a ≤ S256x128.size a) ∧
  (∀ k0_t125 : Fin (k0_t125_loop i k0_t68 v191 v194).trips, ∀ (k0_h55 : k0_cond55 k0_t68 = 1#1), ∀ (k0_h68 : k0_cond68 i k0_t68 v191 v194 = 1#1), ∀ a, (k0_off991 i k0_t68 v191 v194 k0_t125) a + S1x16.size a ≤ S256x128.size a) ∧
  (∀ k0_t125 : Fin (k0_t125_loop i k0_t68 v191 v194).trips, ∀ (k0_h55 : k0_cond55 k0_t68 = 1#1), ∀ (k0_h68 : k0_cond68 i k0_t68 v191 v194 = 1#1), ∀ a, (k0_off992 i k0_t68 v191 v194 k0_t125) a + S1x16.size a ≤ S256x128.size a) ∧
  (∀ k0_t125 : Fin (k0_t125_loop i k0_t68 v191 v194).trips, ∀ (k0_h55 : k0_cond55 k0_t68 = 1#1), ∀ (k0_h68 : k0_cond68 i k0_t68 v191 v194 = 1#1), ∀ a, (k0_off993 i k0_t68 v191 v194 k0_t125) a + S1x16.size a ≤ S256x128.size a) ∧
  (∀ k0_t125 : Fin (k0_t125_loop i k0_t68 v191 v194).trips, ∀ (k0_h55 : k0_cond55 k0_t68 = 1#1), ∀ (k0_h68 : k0_cond68 i k0_t68 v191 v194 = 1#1), ∀ a, (k0_off994 i k0_t68 v191 v194 k0_t125) a + S1x16.size a ≤ S256x128.size a) ∧
  (∀ (k0_h55 : k0_cond55 k0_t68 = 1#1), ∀ (k0_h68 : k0_cond68 i k0_t68 v191 v194 = 1#1), (k0_t126_loop i k0_t68 v191 v194).OK) ∧
  (∀ k0_t126 : Fin (k0_t126_loop i k0_t68 v191 v194).trips, ∀ (k0_h55 : k0_cond55 k0_t68 = 1#1), ∀ (k0_h68 : k0_cond68 i k0_t68 v191 v194 = 1#1), ∀ a, (k0_off995 i k0_t68 v191 v194 k0_t126) a + S1x16.size a ≤ S256x128.size a) ∧
  (∀ k0_t126 : Fin (k0_t126_loop i k0_t68 v191 v194).trips, ∀ (k0_h55 : k0_cond55 k0_t68 = 1#1), ∀ (k0_h68 : k0_cond68 i k0_t68 v191 v194 = 1#1), ∀ a, (k0_off996 i k0_t68 v191 v194 k0_t126) a + S1x16.size a ≤ S256x128.size a) ∧
  (∀ k0_t126 : Fin (k0_t126_loop i k0_t68 v191 v194).trips, ∀ (k0_h55 : k0_cond55 k0_t68 = 1#1), ∀ (k0_h68 : k0_cond68 i k0_t68 v191 v194 = 1#1), ∀ a, (k0_off997 i k0_t68 v191 v194 k0_t126) a + S1x16.size a ≤ S256x128.size a) ∧
  (∀ k0_t126 : Fin (k0_t126_loop i k0_t68 v191 v194).trips, ∀ (k0_h55 : k0_cond55 k0_t68 = 1#1), ∀ (k0_h68 : k0_cond68 i k0_t68 v191 v194 = 1#1), ∀ a, (k0_off998 i k0_t68 v191 v194 k0_t126) a + S1x16.size a ≤ S256x128.size a) ∧
  (∀ k0_t126 : Fin (k0_t126_loop i k0_t68 v191 v194).trips, ∀ (k0_h55 : k0_cond55 k0_t68 = 1#1), ∀ (k0_h68 : k0_cond68 i k0_t68 v191 v194 = 1#1), ∀ a, (k0_off999 i k0_t68 v191 v194 k0_t126) a + S1x16.size a ≤ S256x128.size a) ∧
  (∀ k0_t126 : Fin (k0_t126_loop i k0_t68 v191 v194).trips, ∀ (k0_h55 : k0_cond55 k0_t68 = 1#1), ∀ (k0_h68 : k0_cond68 i k0_t68 v191 v194 = 1#1), ∀ a, (k0_off1000 i k0_t68 v191 v194 k0_t126) a + S1x16.size a ≤ S256x128.size a) ∧
  (∀ k0_t126 : Fin (k0_t126_loop i k0_t68 v191 v194).trips, ∀ (k0_h55 : k0_cond55 k0_t68 = 1#1), ∀ (k0_h68 : k0_cond68 i k0_t68 v191 v194 = 1#1), ∀ a, (k0_off1001 i k0_t68 v191 v194 k0_t126) a + S1x16.size a ≤ S256x128.size a) ∧
  (∀ k0_t126 : Fin (k0_t126_loop i k0_t68 v191 v194).trips, ∀ (k0_h55 : k0_cond55 k0_t68 = 1#1), ∀ (k0_h68 : k0_cond68 i k0_t68 v191 v194 = 1#1), ∀ a, (k0_off1002 i k0_t68 v191 v194 k0_t126) a + S1x16.size a ≤ S256x128.size a)
theorem k0_t125_ok : ∀ (i : grid0.Coords) (k0_t68 : Fin k0_t68_loop.trips) (v191 : BitVec 32) (v194 : BitVec 32) (k0_hw61 : k0_chk61 i k0_t68 v191 v194), ∀ (k0_h55 : k0_cond55 k0_t68 = 1#1), ∀ (k0_h68 : k0_cond68 i k0_t68 v191 v194 = 1#1), (k0_t125_loop i k0_t68 v191 v194).OK := fun i k0_t68 v191 v194 k0_hw61 k0_h55 k0_h68 => k0_hw61.1 k0_h55 k0_h68
theorem k0_off987_inb : ∀ (i : grid0.Coords) (k0_t68 : Fin k0_t68_loop.trips) (v191 : BitVec 32) (v194 : BitVec 32) (k0_hw61 : k0_chk61 i k0_t68 v191 v194) (k0_t125 : Fin (k0_t125_loop i k0_t68 v191 v194).trips), ∀ (k0_h55 : k0_cond55 k0_t68 = 1#1), ∀ (k0_h68 : k0_cond68 i k0_t68 v191 v194 = 1#1), ∀ a, (k0_off987 i k0_t68 v191 v194 k0_t125) a + S1x16.size a ≤ S256x128.size a := fun i k0_t68 v191 v194 k0_hw61 k0_t125 k0_h55 k0_h68 => k0_hw61.2.1 k0_t125 k0_h55 k0_h68
theorem k0_off988_inb : ∀ (i : grid0.Coords) (k0_t68 : Fin k0_t68_loop.trips) (v191 : BitVec 32) (v194 : BitVec 32) (k0_hw61 : k0_chk61 i k0_t68 v191 v194) (k0_t125 : Fin (k0_t125_loop i k0_t68 v191 v194).trips), ∀ (k0_h55 : k0_cond55 k0_t68 = 1#1), ∀ (k0_h68 : k0_cond68 i k0_t68 v191 v194 = 1#1), ∀ a, (k0_off988 i k0_t68 v191 v194 k0_t125) a + S1x16.size a ≤ S256x128.size a := fun i k0_t68 v191 v194 k0_hw61 k0_t125 k0_h55 k0_h68 => k0_hw61.2.2.1 k0_t125 k0_h55 k0_h68
theorem k0_off989_inb : ∀ (i : grid0.Coords) (k0_t68 : Fin k0_t68_loop.trips) (v191 : BitVec 32) (v194 : BitVec 32) (k0_hw61 : k0_chk61 i k0_t68 v191 v194) (k0_t125 : Fin (k0_t125_loop i k0_t68 v191 v194).trips), ∀ (k0_h55 : k0_cond55 k0_t68 = 1#1), ∀ (k0_h68 : k0_cond68 i k0_t68 v191 v194 = 1#1), ∀ a, (k0_off989 i k0_t68 v191 v194 k0_t125) a + S1x16.size a ≤ S256x128.size a := fun i k0_t68 v191 v194 k0_hw61 k0_t125 k0_h55 k0_h68 => k0_hw61.2.2.2.1 k0_t125 k0_h55 k0_h68
theorem k0_off990_inb : ∀ (i : grid0.Coords) (k0_t68 : Fin k0_t68_loop.trips) (v191 : BitVec 32) (v194 : BitVec 32) (k0_hw61 : k0_chk61 i k0_t68 v191 v194) (k0_t125 : Fin (k0_t125_loop i k0_t68 v191 v194).trips), ∀ (k0_h55 : k0_cond55 k0_t68 = 1#1), ∀ (k0_h68 : k0_cond68 i k0_t68 v191 v194 = 1#1), ∀ a, (k0_off990 i k0_t68 v191 v194 k0_t125) a + S1x16.size a ≤ S256x128.size a := fun i k0_t68 v191 v194 k0_hw61 k0_t125 k0_h55 k0_h68 => k0_hw61.2.2.2.2.1 k0_t125 k0_h55 k0_h68
theorem k0_off991_inb : ∀ (i : grid0.Coords) (k0_t68 : Fin k0_t68_loop.trips) (v191 : BitVec 32) (v194 : BitVec 32) (k0_hw61 : k0_chk61 i k0_t68 v191 v194) (k0_t125 : Fin (k0_t125_loop i k0_t68 v191 v194).trips), ∀ (k0_h55 : k0_cond55 k0_t68 = 1#1), ∀ (k0_h68 : k0_cond68 i k0_t68 v191 v194 = 1#1), ∀ a, (k0_off991 i k0_t68 v191 v194 k0_t125) a + S1x16.size a ≤ S256x128.size a := fun i k0_t68 v191 v194 k0_hw61 k0_t125 k0_h55 k0_h68 => k0_hw61.2.2.2.2.2.1 k0_t125 k0_h55 k0_h68
theorem k0_off992_inb : ∀ (i : grid0.Coords) (k0_t68 : Fin k0_t68_loop.trips) (v191 : BitVec 32) (v194 : BitVec 32) (k0_hw61 : k0_chk61 i k0_t68 v191 v194) (k0_t125 : Fin (k0_t125_loop i k0_t68 v191 v194).trips), ∀ (k0_h55 : k0_cond55 k0_t68 = 1#1), ∀ (k0_h68 : k0_cond68 i k0_t68 v191 v194 = 1#1), ∀ a, (k0_off992 i k0_t68 v191 v194 k0_t125) a + S1x16.size a ≤ S256x128.size a := fun i k0_t68 v191 v194 k0_hw61 k0_t125 k0_h55 k0_h68 => k0_hw61.2.2.2.2.2.2.1 k0_t125 k0_h55 k0_h68
theorem k0_off993_inb : ∀ (i : grid0.Coords) (k0_t68 : Fin k0_t68_loop.trips) (v191 : BitVec 32) (v194 : BitVec 32) (k0_hw61 : k0_chk61 i k0_t68 v191 v194) (k0_t125 : Fin (k0_t125_loop i k0_t68 v191 v194).trips), ∀ (k0_h55 : k0_cond55 k0_t68 = 1#1), ∀ (k0_h68 : k0_cond68 i k0_t68 v191 v194 = 1#1), ∀ a, (k0_off993 i k0_t68 v191 v194 k0_t125) a + S1x16.size a ≤ S256x128.size a := fun i k0_t68 v191 v194 k0_hw61 k0_t125 k0_h55 k0_h68 => k0_hw61.2.2.2.2.2.2.2.1 k0_t125 k0_h55 k0_h68
theorem k0_off994_inb : ∀ (i : grid0.Coords) (k0_t68 : Fin k0_t68_loop.trips) (v191 : BitVec 32) (v194 : BitVec 32) (k0_hw61 : k0_chk61 i k0_t68 v191 v194) (k0_t125 : Fin (k0_t125_loop i k0_t68 v191 v194).trips), ∀ (k0_h55 : k0_cond55 k0_t68 = 1#1), ∀ (k0_h68 : k0_cond68 i k0_t68 v191 v194 = 1#1), ∀ a, (k0_off994 i k0_t68 v191 v194 k0_t125) a + S1x16.size a ≤ S256x128.size a := fun i k0_t68 v191 v194 k0_hw61 k0_t125 k0_h55 k0_h68 => k0_hw61.2.2.2.2.2.2.2.2.1 k0_t125 k0_h55 k0_h68
theorem k0_t126_ok : ∀ (i : grid0.Coords) (k0_t68 : Fin k0_t68_loop.trips) (v191 : BitVec 32) (v194 : BitVec 32) (k0_hw61 : k0_chk61 i k0_t68 v191 v194), ∀ (k0_h55 : k0_cond55 k0_t68 = 1#1), ∀ (k0_h68 : k0_cond68 i k0_t68 v191 v194 = 1#1), (k0_t126_loop i k0_t68 v191 v194).OK := fun i k0_t68 v191 v194 k0_hw61 k0_h55 k0_h68 => k0_hw61.2.2.2.2.2.2.2.2.2.1 k0_h55 k0_h68
theorem k0_off995_inb : ∀ (i : grid0.Coords) (k0_t68 : Fin k0_t68_loop.trips) (v191 : BitVec 32) (v194 : BitVec 32) (k0_hw61 : k0_chk61 i k0_t68 v191 v194) (k0_t126 : Fin (k0_t126_loop i k0_t68 v191 v194).trips), ∀ (k0_h55 : k0_cond55 k0_t68 = 1#1), ∀ (k0_h68 : k0_cond68 i k0_t68 v191 v194 = 1#1), ∀ a, (k0_off995 i k0_t68 v191 v194 k0_t126) a + S1x16.size a ≤ S256x128.size a := fun i k0_t68 v191 v194 k0_hw61 k0_t126 k0_h55 k0_h68 => k0_hw61.2.2.2.2.2.2.2.2.2.2.1 k0_t126 k0_h55 k0_h68
theorem k0_off996_inb : ∀ (i : grid0.Coords) (k0_t68 : Fin k0_t68_loop.trips) (v191 : BitVec 32) (v194 : BitVec 32) (k0_hw61 : k0_chk61 i k0_t68 v191 v194) (k0_t126 : Fin (k0_t126_loop i k0_t68 v191 v194).trips), ∀ (k0_h55 : k0_cond55 k0_t68 = 1#1), ∀ (k0_h68 : k0_cond68 i k0_t68 v191 v194 = 1#1), ∀ a, (k0_off996 i k0_t68 v191 v194 k0_t126) a + S1x16.size a ≤ S256x128.size a := fun i k0_t68 v191 v194 k0_hw61 k0_t126 k0_h55 k0_h68 => k0_hw61.2.2.2.2.2.2.2.2.2.2.2.1 k0_t126 k0_h55 k0_h68
theorem k0_off997_inb : ∀ (i : grid0.Coords) (k0_t68 : Fin k0_t68_loop.trips) (v191 : BitVec 32) (v194 : BitVec 32) (k0_hw61 : k0_chk61 i k0_t68 v191 v194) (k0_t126 : Fin (k0_t126_loop i k0_t68 v191 v194).trips), ∀ (k0_h55 : k0_cond55 k0_t68 = 1#1), ∀ (k0_h68 : k0_cond68 i k0_t68 v191 v194 = 1#1), ∀ a, (k0_off997 i k0_t68 v191 v194 k0_t126) a + S1x16.size a ≤ S256x128.size a := fun i k0_t68 v191 v194 k0_hw61 k0_t126 k0_h55 k0_h68 => k0_hw61.2.2.2.2.2.2.2.2.2.2.2.2.1 k0_t126 k0_h55 k0_h68
theorem k0_off998_inb : ∀ (i : grid0.Coords) (k0_t68 : Fin k0_t68_loop.trips) (v191 : BitVec 32) (v194 : BitVec 32) (k0_hw61 : k0_chk61 i k0_t68 v191 v194) (k0_t126 : Fin (k0_t126_loop i k0_t68 v191 v194).trips), ∀ (k0_h55 : k0_cond55 k0_t68 = 1#1), ∀ (k0_h68 : k0_cond68 i k0_t68 v191 v194 = 1#1), ∀ a, (k0_off998 i k0_t68 v191 v194 k0_t126) a + S1x16.size a ≤ S256x128.size a := fun i k0_t68 v191 v194 k0_hw61 k0_t126 k0_h55 k0_h68 => k0_hw61.2.2.2.2.2.2.2.2.2.2.2.2.2.1 k0_t126 k0_h55 k0_h68
theorem k0_off999_inb : ∀ (i : grid0.Coords) (k0_t68 : Fin k0_t68_loop.trips) (v191 : BitVec 32) (v194 : BitVec 32) (k0_hw61 : k0_chk61 i k0_t68 v191 v194) (k0_t126 : Fin (k0_t126_loop i k0_t68 v191 v194).trips), ∀ (k0_h55 : k0_cond55 k0_t68 = 1#1), ∀ (k0_h68 : k0_cond68 i k0_t68 v191 v194 = 1#1), ∀ a, (k0_off999 i k0_t68 v191 v194 k0_t126) a + S1x16.size a ≤ S256x128.size a := fun i k0_t68 v191 v194 k0_hw61 k0_t126 k0_h55 k0_h68 => k0_hw61.2.2.2.2.2.2.2.2.2.2.2.2.2.2.1 k0_t126 k0_h55 k0_h68
theorem k0_off1000_inb : ∀ (i : grid0.Coords) (k0_t68 : Fin k0_t68_loop.trips) (v191 : BitVec 32) (v194 : BitVec 32) (k0_hw61 : k0_chk61 i k0_t68 v191 v194) (k0_t126 : Fin (k0_t126_loop i k0_t68 v191 v194).trips), ∀ (k0_h55 : k0_cond55 k0_t68 = 1#1), ∀ (k0_h68 : k0_cond68 i k0_t68 v191 v194 = 1#1), ∀ a, (k0_off1000 i k0_t68 v191 v194 k0_t126) a + S1x16.size a ≤ S256x128.size a := fun i k0_t68 v191 v194 k0_hw61 k0_t126 k0_h55 k0_h68 => k0_hw61.2.2.2.2.2.2.2.2.2.2.2.2.2.2.2.1 k0_t126 k0_h55 k0_h68
theorem k0_off1001_inb : ∀ (i : grid0.Coords) (k0_t68 : Fin k0_t68_loop.trips) (v191 : BitVec 32) (v194 : BitVec 32) (k0_hw61 : k0_chk61 i k0_t68 v191 v194) (k0_t126 : Fin (k0_t126_loop i k0_t68 v191 v194).trips), ∀ (k0_h55 : k0_cond55 k0_t68 = 1#1), ∀ (k0_h68 : k0_cond68 i k0_t68 v191 v194 = 1#1), ∀ a, (k0_off1001 i k0_t68 v191 v194 k0_t126) a + S1x16.size a ≤ S256x128.size a := fun i k0_t68 v191 v194 k0_hw61 k0_t126 k0_h55 k0_h68 => k0_hw61.2.2.2.2.2.2.2.2.2.2.2.2.2.2.2.2.1 k0_t126 k0_h55 k0_h68
theorem k0_off1002_inb : ∀ (i : grid0.Coords) (k0_t68 : Fin k0_t68_loop.trips) (v191 : BitVec 32) (v194 : BitVec 32) (k0_hw61 : k0_chk61 i k0_t68 v191 v194) (k0_t126 : Fin (k0_t126_loop i k0_t68 v191 v194).trips), ∀ (k0_h55 : k0_cond55 k0_t68 = 1#1), ∀ (k0_h68 : k0_cond68 i k0_t68 v191 v194 = 1#1), ∀ a, (k0_off1002 i k0_t68 v191 v194 k0_t126) a + S1x16.size a ≤ S256x128.size a := fun i k0_t68 v191 v194 k0_hw61 k0_t126 k0_h55 k0_h68 => k0_hw61.2.2.2.2.2.2.2.2.2.2.2.2.2.2.2.2.2 k0_t126 k0_h55 k0_h68

@[reducible] def k0_t127_loop (i : grid0.Coords) (k0_t68 : Fin k0_t68_loop.trips) (v200 : BitVec 32) (v203 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v201 : BitVec 32 := Scalar.maxsi v200 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_85 : BitVec 32 := 1#32
  ⟨v201, v234, c1_i32_85⟩
def k0_cond69 (i : grid0.Coords) (k0_t68 : Fin k0_t68_loop.trips) (v200 : BitVec 32) (v203 : BitVec 32) : BitVec 1 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v204 : BitVec 32 := Scalar.minsi v203 v77
  let v201 : BitVec 32 := Scalar.maxsi v200 v75
  let v205 : BitVec 1 := Scalar.cmpi .sgt v204 v201
  let v206 : BitVec 32 := Scalar.extui v205
  let c0_i32_78 : BitVec 32 := 0#32
  let v207 : BitVec 1 := Scalar.cmpi .ne v206 c0_i32_78
  v207

def k0_off1003 (i : grid0.Coords) (k0_t68 : Fin k0_t68_loop.trips) (v200 : BitVec 32) (v203 : BitVec 32) (k0_t127 : Fin (k0_t127_loop i k0_t68 v200 v203).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v201 : BitVec 32 := Scalar.maxsi v200 v75
  let c1_i32_85 : BitVec 32 := 1#32
  let arg19 : BitVec 32 := Scf.iv v201 c1_i32_85 k0_t127
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off1004 (i : grid0.Coords) (k0_t68 : Fin k0_t68_loop.trips) (v200 : BitVec 32) (v203 : BitVec 32) (k0_t127 : Fin (k0_t127_loop i k0_t68 v200 v203).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v201 : BitVec 32 := Scalar.maxsi v200 v75
  let c1_i32_85 : BitVec 32 := 1#32
  let arg19 : BitVec 32 := Scf.iv v201 c1_i32_85 k0_t127
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off1005 (i : grid0.Coords) (k0_t68 : Fin k0_t68_loop.trips) (v200 : BitVec 32) (v203 : BitVec 32) (k0_t127 : Fin (k0_t127_loop i k0_t68 v200 v203).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v201 : BitVec 32 := Scalar.maxsi v200 v75
  let c1_i32_85 : BitVec 32 := 1#32
  let arg19 : BitVec 32 := Scf.iv v201 c1_i32_85 k0_t127
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off1006 (i : grid0.Coords) (k0_t68 : Fin k0_t68_loop.trips) (v200 : BitVec 32) (v203 : BitVec 32) (k0_t127 : Fin (k0_t127_loop i k0_t68 v200 v203).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v201 : BitVec 32 := Scalar.maxsi v200 v75
  let c1_i32_85 : BitVec 32 := 1#32
  let arg19 : BitVec 32 := Scf.iv v201 c1_i32_85 k0_t127
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off1007 (i : grid0.Coords) (k0_t68 : Fin k0_t68_loop.trips) (v200 : BitVec 32) (v203 : BitVec 32) (k0_t127 : Fin (k0_t127_loop i k0_t68 v200 v203).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v201 : BitVec 32 := Scalar.maxsi v200 v75
  let c1_i32_85 : BitVec 32 := 1#32
  let arg19 : BitVec 32 := Scf.iv v201 c1_i32_85 k0_t127
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off1008 (i : grid0.Coords) (k0_t68 : Fin k0_t68_loop.trips) (v200 : BitVec 32) (v203 : BitVec 32) (k0_t127 : Fin (k0_t127_loop i k0_t68 v200 v203).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v201 : BitVec 32 := Scalar.maxsi v200 v75
  let c1_i32_85 : BitVec 32 := 1#32
  let arg19 : BitVec 32 := Scf.iv v201 c1_i32_85 k0_t127
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off1009 (i : grid0.Coords) (k0_t68 : Fin k0_t68_loop.trips) (v200 : BitVec 32) (v203 : BitVec 32) (k0_t127 : Fin (k0_t127_loop i k0_t68 v200 v203).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v201 : BitVec 32 := Scalar.maxsi v200 v75
  let c1_i32_85 : BitVec 32 := 1#32
  let arg19 : BitVec 32 := Scf.iv v201 c1_i32_85 k0_t127
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off1010 (i : grid0.Coords) (k0_t68 : Fin k0_t68_loop.trips) (v200 : BitVec 32) (v203 : BitVec 32) (k0_t127 : Fin (k0_t127_loop i k0_t68 v200 v203).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v201 : BitVec 32 := Scalar.maxsi v200 v75
  let c1_i32_85 : BitVec 32 := 1#32
  let arg19 : BitVec 32 := Scf.iv v201 c1_i32_85 k0_t127
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]
@[reducible] def k0_t128_loop (i : grid0.Coords) (k0_t68 : Fin k0_t68_loop.trips) (v200 : BitVec 32) (v203 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v201 : BitVec 32 := Scalar.maxsi v200 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let v231 : BitVec 32 := Scalar.addi v201 v230
  let c1_i32_86 : BitVec 32 := 1#32
  ⟨v234, v231, c1_i32_86⟩
def k0_off1011 (i : grid0.Coords) (k0_t68 : Fin k0_t68_loop.trips) (v200 : BitVec 32) (v203 : BitVec 32) (k0_t128 : Fin (k0_t128_loop i k0_t68 v200 v203).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v201 : BitVec 32 := Scalar.maxsi v200 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_86 : BitVec 32 := 1#32
  let arg19 : BitVec 32 := Scf.iv v234 c1_i32_86 k0_t128
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off1012 (i : grid0.Coords) (k0_t68 : Fin k0_t68_loop.trips) (v200 : BitVec 32) (v203 : BitVec 32) (k0_t128 : Fin (k0_t128_loop i k0_t68 v200 v203).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v201 : BitVec 32 := Scalar.maxsi v200 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_86 : BitVec 32 := 1#32
  let arg19 : BitVec 32 := Scf.iv v234 c1_i32_86 k0_t128
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off1013 (i : grid0.Coords) (k0_t68 : Fin k0_t68_loop.trips) (v200 : BitVec 32) (v203 : BitVec 32) (k0_t128 : Fin (k0_t128_loop i k0_t68 v200 v203).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v201 : BitVec 32 := Scalar.maxsi v200 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_86 : BitVec 32 := 1#32
  let arg19 : BitVec 32 := Scf.iv v234 c1_i32_86 k0_t128
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off1014 (i : grid0.Coords) (k0_t68 : Fin k0_t68_loop.trips) (v200 : BitVec 32) (v203 : BitVec 32) (k0_t128 : Fin (k0_t128_loop i k0_t68 v200 v203).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v201 : BitVec 32 := Scalar.maxsi v200 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_86 : BitVec 32 := 1#32
  let arg19 : BitVec 32 := Scf.iv v234 c1_i32_86 k0_t128
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off1015 (i : grid0.Coords) (k0_t68 : Fin k0_t68_loop.trips) (v200 : BitVec 32) (v203 : BitVec 32) (k0_t128 : Fin (k0_t128_loop i k0_t68 v200 v203).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v201 : BitVec 32 := Scalar.maxsi v200 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_86 : BitVec 32 := 1#32
  let arg19 : BitVec 32 := Scf.iv v234 c1_i32_86 k0_t128
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off1016 (i : grid0.Coords) (k0_t68 : Fin k0_t68_loop.trips) (v200 : BitVec 32) (v203 : BitVec 32) (k0_t128 : Fin (k0_t128_loop i k0_t68 v200 v203).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v201 : BitVec 32 := Scalar.maxsi v200 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_86 : BitVec 32 := 1#32
  let arg19 : BitVec 32 := Scf.iv v234 c1_i32_86 k0_t128
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off1017 (i : grid0.Coords) (k0_t68 : Fin k0_t68_loop.trips) (v200 : BitVec 32) (v203 : BitVec 32) (k0_t128 : Fin (k0_t128_loop i k0_t68 v200 v203).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v201 : BitVec 32 := Scalar.maxsi v200 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_86 : BitVec 32 := 1#32
  let arg19 : BitVec 32 := Scf.iv v234 c1_i32_86 k0_t128
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off1018 (i : grid0.Coords) (k0_t68 : Fin k0_t68_loop.trips) (v200 : BitVec 32) (v203 : BitVec 32) (k0_t128 : Fin (k0_t128_loop i k0_t68 v200 v203).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v201 : BitVec 32 := Scalar.maxsi v200 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v204 : BitVec 32 := Scalar.minsi v203 v77
  let v230 : BitVec 32 := Scalar.subi v204 v201
  let c1_i32_84 : BitVec 32 := 1#32
  let v232 : BitVec 32 := Scalar.divsi v230 c1_i32_84
  let v233 : BitVec 32 := Scalar.muli v232 c1_i32_84
  let v234 : BitVec 32 := Scalar.addi v201 v233
  let c1_i32_86 : BitVec 32 := 1#32
  let arg19 : BitVec 32 := Scf.iv v234 c1_i32_86 k0_t128
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]

def k0_chk62 (i : grid0.Coords) (k0_t68 : Fin k0_t68_loop.trips) (v200 : BitVec 32) (v203 : BitVec 32) : Prop :=
  (∀ (k0_h55 : k0_cond55 k0_t68 = 1#1), ∀ (k0_h69 : k0_cond69 i k0_t68 v200 v203 = 1#1), (k0_t127_loop i k0_t68 v200 v203).OK) ∧
  (∀ k0_t127 : Fin (k0_t127_loop i k0_t68 v200 v203).trips, ∀ (k0_h55 : k0_cond55 k0_t68 = 1#1), ∀ (k0_h69 : k0_cond69 i k0_t68 v200 v203 = 1#1), ∀ a, (k0_off1003 i k0_t68 v200 v203 k0_t127) a + S1x16.size a ≤ S256x128.size a) ∧
  (∀ k0_t127 : Fin (k0_t127_loop i k0_t68 v200 v203).trips, ∀ (k0_h55 : k0_cond55 k0_t68 = 1#1), ∀ (k0_h69 : k0_cond69 i k0_t68 v200 v203 = 1#1), ∀ a, (k0_off1004 i k0_t68 v200 v203 k0_t127) a + S1x16.size a ≤ S256x128.size a) ∧
  (∀ k0_t127 : Fin (k0_t127_loop i k0_t68 v200 v203).trips, ∀ (k0_h55 : k0_cond55 k0_t68 = 1#1), ∀ (k0_h69 : k0_cond69 i k0_t68 v200 v203 = 1#1), ∀ a, (k0_off1005 i k0_t68 v200 v203 k0_t127) a + S1x16.size a ≤ S256x128.size a) ∧
  (∀ k0_t127 : Fin (k0_t127_loop i k0_t68 v200 v203).trips, ∀ (k0_h55 : k0_cond55 k0_t68 = 1#1), ∀ (k0_h69 : k0_cond69 i k0_t68 v200 v203 = 1#1), ∀ a, (k0_off1006 i k0_t68 v200 v203 k0_t127) a + S1x16.size a ≤ S256x128.size a) ∧
  (∀ k0_t127 : Fin (k0_t127_loop i k0_t68 v200 v203).trips, ∀ (k0_h55 : k0_cond55 k0_t68 = 1#1), ∀ (k0_h69 : k0_cond69 i k0_t68 v200 v203 = 1#1), ∀ a, (k0_off1007 i k0_t68 v200 v203 k0_t127) a + S1x16.size a ≤ S256x128.size a) ∧
  (∀ k0_t127 : Fin (k0_t127_loop i k0_t68 v200 v203).trips, ∀ (k0_h55 : k0_cond55 k0_t68 = 1#1), ∀ (k0_h69 : k0_cond69 i k0_t68 v200 v203 = 1#1), ∀ a, (k0_off1008 i k0_t68 v200 v203 k0_t127) a + S1x16.size a ≤ S256x128.size a) ∧
  (∀ k0_t127 : Fin (k0_t127_loop i k0_t68 v200 v203).trips, ∀ (k0_h55 : k0_cond55 k0_t68 = 1#1), ∀ (k0_h69 : k0_cond69 i k0_t68 v200 v203 = 1#1), ∀ a, (k0_off1009 i k0_t68 v200 v203 k0_t127) a + S1x16.size a ≤ S256x128.size a) ∧
  (∀ k0_t127 : Fin (k0_t127_loop i k0_t68 v200 v203).trips, ∀ (k0_h55 : k0_cond55 k0_t68 = 1#1), ∀ (k0_h69 : k0_cond69 i k0_t68 v200 v203 = 1#1), ∀ a, (k0_off1010 i k0_t68 v200 v203 k0_t127) a + S1x16.size a ≤ S256x128.size a) ∧
  (∀ (k0_h55 : k0_cond55 k0_t68 = 1#1), ∀ (k0_h69 : k0_cond69 i k0_t68 v200 v203 = 1#1), (k0_t128_loop i k0_t68 v200 v203).OK) ∧
  (∀ k0_t128 : Fin (k0_t128_loop i k0_t68 v200 v203).trips, ∀ (k0_h55 : k0_cond55 k0_t68 = 1#1), ∀ (k0_h69 : k0_cond69 i k0_t68 v200 v203 = 1#1), ∀ a, (k0_off1011 i k0_t68 v200 v203 k0_t128) a + S1x16.size a ≤ S256x128.size a) ∧
  (∀ k0_t128 : Fin (k0_t128_loop i k0_t68 v200 v203).trips, ∀ (k0_h55 : k0_cond55 k0_t68 = 1#1), ∀ (k0_h69 : k0_cond69 i k0_t68 v200 v203 = 1#1), ∀ a, (k0_off1012 i k0_t68 v200 v203 k0_t128) a + S1x16.size a ≤ S256x128.size a) ∧
  (∀ k0_t128 : Fin (k0_t128_loop i k0_t68 v200 v203).trips, ∀ (k0_h55 : k0_cond55 k0_t68 = 1#1), ∀ (k0_h69 : k0_cond69 i k0_t68 v200 v203 = 1#1), ∀ a, (k0_off1013 i k0_t68 v200 v203 k0_t128) a + S1x16.size a ≤ S256x128.size a) ∧
  (∀ k0_t128 : Fin (k0_t128_loop i k0_t68 v200 v203).trips, ∀ (k0_h55 : k0_cond55 k0_t68 = 1#1), ∀ (k0_h69 : k0_cond69 i k0_t68 v200 v203 = 1#1), ∀ a, (k0_off1014 i k0_t68 v200 v203 k0_t128) a + S1x16.size a ≤ S256x128.size a) ∧
  (∀ k0_t128 : Fin (k0_t128_loop i k0_t68 v200 v203).trips, ∀ (k0_h55 : k0_cond55 k0_t68 = 1#1), ∀ (k0_h69 : k0_cond69 i k0_t68 v200 v203 = 1#1), ∀ a, (k0_off1015 i k0_t68 v200 v203 k0_t128) a + S1x16.size a ≤ S256x128.size a) ∧
  (∀ k0_t128 : Fin (k0_t128_loop i k0_t68 v200 v203).trips, ∀ (k0_h55 : k0_cond55 k0_t68 = 1#1), ∀ (k0_h69 : k0_cond69 i k0_t68 v200 v203 = 1#1), ∀ a, (k0_off1016 i k0_t68 v200 v203 k0_t128) a + S1x16.size a ≤ S256x128.size a) ∧
  (∀ k0_t128 : Fin (k0_t128_loop i k0_t68 v200 v203).trips, ∀ (k0_h55 : k0_cond55 k0_t68 = 1#1), ∀ (k0_h69 : k0_cond69 i k0_t68 v200 v203 = 1#1), ∀ a, (k0_off1017 i k0_t68 v200 v203 k0_t128) a + S1x16.size a ≤ S256x128.size a) ∧
  (∀ k0_t128 : Fin (k0_t128_loop i k0_t68 v200 v203).trips, ∀ (k0_h55 : k0_cond55 k0_t68 = 1#1), ∀ (k0_h69 : k0_cond69 i k0_t68 v200 v203 = 1#1), ∀ a, (k0_off1018 i k0_t68 v200 v203 k0_t128) a + S1x16.size a ≤ S256x128.size a)
theorem k0_t127_ok : ∀ (i : grid0.Coords) (k0_t68 : Fin k0_t68_loop.trips) (v200 : BitVec 32) (v203 : BitVec 32) (k0_hw62 : k0_chk62 i k0_t68 v200 v203), ∀ (k0_h55 : k0_cond55 k0_t68 = 1#1), ∀ (k0_h69 : k0_cond69 i k0_t68 v200 v203 = 1#1), (k0_t127_loop i k0_t68 v200 v203).OK := fun i k0_t68 v200 v203 k0_hw62 k0_h55 k0_h69 => k0_hw62.1 k0_h55 k0_h69
theorem k0_off1003_inb : ∀ (i : grid0.Coords) (k0_t68 : Fin k0_t68_loop.trips) (v200 : BitVec 32) (v203 : BitVec 32) (k0_hw62 : k0_chk62 i k0_t68 v200 v203) (k0_t127 : Fin (k0_t127_loop i k0_t68 v200 v203).trips), ∀ (k0_h55 : k0_cond55 k0_t68 = 1#1), ∀ (k0_h69 : k0_cond69 i k0_t68 v200 v203 = 1#1), ∀ a, (k0_off1003 i k0_t68 v200 v203 k0_t127) a + S1x16.size a ≤ S256x128.size a := fun i k0_t68 v200 v203 k0_hw62 k0_t127 k0_h55 k0_h69 => k0_hw62.2.1 k0_t127 k0_h55 k0_h69
theorem k0_off1004_inb : ∀ (i : grid0.Coords) (k0_t68 : Fin k0_t68_loop.trips) (v200 : BitVec 32) (v203 : BitVec 32) (k0_hw62 : k0_chk62 i k0_t68 v200 v203) (k0_t127 : Fin (k0_t127_loop i k0_t68 v200 v203).trips), ∀ (k0_h55 : k0_cond55 k0_t68 = 1#1), ∀ (k0_h69 : k0_cond69 i k0_t68 v200 v203 = 1#1), ∀ a, (k0_off1004 i k0_t68 v200 v203 k0_t127) a + S1x16.size a ≤ S256x128.size a := fun i k0_t68 v200 v203 k0_hw62 k0_t127 k0_h55 k0_h69 => k0_hw62.2.2.1 k0_t127 k0_h55 k0_h69
theorem k0_off1005_inb : ∀ (i : grid0.Coords) (k0_t68 : Fin k0_t68_loop.trips) (v200 : BitVec 32) (v203 : BitVec 32) (k0_hw62 : k0_chk62 i k0_t68 v200 v203) (k0_t127 : Fin (k0_t127_loop i k0_t68 v200 v203).trips), ∀ (k0_h55 : k0_cond55 k0_t68 = 1#1), ∀ (k0_h69 : k0_cond69 i k0_t68 v200 v203 = 1#1), ∀ a, (k0_off1005 i k0_t68 v200 v203 k0_t127) a + S1x16.size a ≤ S256x128.size a := fun i k0_t68 v200 v203 k0_hw62 k0_t127 k0_h55 k0_h69 => k0_hw62.2.2.2.1 k0_t127 k0_h55 k0_h69
theorem k0_off1006_inb : ∀ (i : grid0.Coords) (k0_t68 : Fin k0_t68_loop.trips) (v200 : BitVec 32) (v203 : BitVec 32) (k0_hw62 : k0_chk62 i k0_t68 v200 v203) (k0_t127 : Fin (k0_t127_loop i k0_t68 v200 v203).trips), ∀ (k0_h55 : k0_cond55 k0_t68 = 1#1), ∀ (k0_h69 : k0_cond69 i k0_t68 v200 v203 = 1#1), ∀ a, (k0_off1006 i k0_t68 v200 v203 k0_t127) a + S1x16.size a ≤ S256x128.size a := fun i k0_t68 v200 v203 k0_hw62 k0_t127 k0_h55 k0_h69 => k0_hw62.2.2.2.2.1 k0_t127 k0_h55 k0_h69
theorem k0_off1007_inb : ∀ (i : grid0.Coords) (k0_t68 : Fin k0_t68_loop.trips) (v200 : BitVec 32) (v203 : BitVec 32) (k0_hw62 : k0_chk62 i k0_t68 v200 v203) (k0_t127 : Fin (k0_t127_loop i k0_t68 v200 v203).trips), ∀ (k0_h55 : k0_cond55 k0_t68 = 1#1), ∀ (k0_h69 : k0_cond69 i k0_t68 v200 v203 = 1#1), ∀ a, (k0_off1007 i k0_t68 v200 v203 k0_t127) a + S1x16.size a ≤ S256x128.size a := fun i k0_t68 v200 v203 k0_hw62 k0_t127 k0_h55 k0_h69 => k0_hw62.2.2.2.2.2.1 k0_t127 k0_h55 k0_h69
theorem k0_off1008_inb : ∀ (i : grid0.Coords) (k0_t68 : Fin k0_t68_loop.trips) (v200 : BitVec 32) (v203 : BitVec 32) (k0_hw62 : k0_chk62 i k0_t68 v200 v203) (k0_t127 : Fin (k0_t127_loop i k0_t68 v200 v203).trips), ∀ (k0_h55 : k0_cond55 k0_t68 = 1#1), ∀ (k0_h69 : k0_cond69 i k0_t68 v200 v203 = 1#1), ∀ a, (k0_off1008 i k0_t68 v200 v203 k0_t127) a + S1x16.size a ≤ S256x128.size a := fun i k0_t68 v200 v203 k0_hw62 k0_t127 k0_h55 k0_h69 => k0_hw62.2.2.2.2.2.2.1 k0_t127 k0_h55 k0_h69
theorem k0_off1009_inb : ∀ (i : grid0.Coords) (k0_t68 : Fin k0_t68_loop.trips) (v200 : BitVec 32) (v203 : BitVec 32) (k0_hw62 : k0_chk62 i k0_t68 v200 v203) (k0_t127 : Fin (k0_t127_loop i k0_t68 v200 v203).trips), ∀ (k0_h55 : k0_cond55 k0_t68 = 1#1), ∀ (k0_h69 : k0_cond69 i k0_t68 v200 v203 = 1#1), ∀ a, (k0_off1009 i k0_t68 v200 v203 k0_t127) a + S1x16.size a ≤ S256x128.size a := fun i k0_t68 v200 v203 k0_hw62 k0_t127 k0_h55 k0_h69 => k0_hw62.2.2.2.2.2.2.2.1 k0_t127 k0_h55 k0_h69
theorem k0_off1010_inb : ∀ (i : grid0.Coords) (k0_t68 : Fin k0_t68_loop.trips) (v200 : BitVec 32) (v203 : BitVec 32) (k0_hw62 : k0_chk62 i k0_t68 v200 v203) (k0_t127 : Fin (k0_t127_loop i k0_t68 v200 v203).trips), ∀ (k0_h55 : k0_cond55 k0_t68 = 1#1), ∀ (k0_h69 : k0_cond69 i k0_t68 v200 v203 = 1#1), ∀ a, (k0_off1010 i k0_t68 v200 v203 k0_t127) a + S1x16.size a ≤ S256x128.size a := fun i k0_t68 v200 v203 k0_hw62 k0_t127 k0_h55 k0_h69 => k0_hw62.2.2.2.2.2.2.2.2.1 k0_t127 k0_h55 k0_h69
theorem k0_t128_ok : ∀ (i : grid0.Coords) (k0_t68 : Fin k0_t68_loop.trips) (v200 : BitVec 32) (v203 : BitVec 32) (k0_hw62 : k0_chk62 i k0_t68 v200 v203), ∀ (k0_h55 : k0_cond55 k0_t68 = 1#1), ∀ (k0_h69 : k0_cond69 i k0_t68 v200 v203 = 1#1), (k0_t128_loop i k0_t68 v200 v203).OK := fun i k0_t68 v200 v203 k0_hw62 k0_h55 k0_h69 => k0_hw62.2.2.2.2.2.2.2.2.2.1 k0_h55 k0_h69
theorem k0_off1011_inb : ∀ (i : grid0.Coords) (k0_t68 : Fin k0_t68_loop.trips) (v200 : BitVec 32) (v203 : BitVec 32) (k0_hw62 : k0_chk62 i k0_t68 v200 v203) (k0_t128 : Fin (k0_t128_loop i k0_t68 v200 v203).trips), ∀ (k0_h55 : k0_cond55 k0_t68 = 1#1), ∀ (k0_h69 : k0_cond69 i k0_t68 v200 v203 = 1#1), ∀ a, (k0_off1011 i k0_t68 v200 v203 k0_t128) a + S1x16.size a ≤ S256x128.size a := fun i k0_t68 v200 v203 k0_hw62 k0_t128 k0_h55 k0_h69 => k0_hw62.2.2.2.2.2.2.2.2.2.2.1 k0_t128 k0_h55 k0_h69
theorem k0_off1012_inb : ∀ (i : grid0.Coords) (k0_t68 : Fin k0_t68_loop.trips) (v200 : BitVec 32) (v203 : BitVec 32) (k0_hw62 : k0_chk62 i k0_t68 v200 v203) (k0_t128 : Fin (k0_t128_loop i k0_t68 v200 v203).trips), ∀ (k0_h55 : k0_cond55 k0_t68 = 1#1), ∀ (k0_h69 : k0_cond69 i k0_t68 v200 v203 = 1#1), ∀ a, (k0_off1012 i k0_t68 v200 v203 k0_t128) a + S1x16.size a ≤ S256x128.size a := fun i k0_t68 v200 v203 k0_hw62 k0_t128 k0_h55 k0_h69 => k0_hw62.2.2.2.2.2.2.2.2.2.2.2.1 k0_t128 k0_h55 k0_h69
theorem k0_off1013_inb : ∀ (i : grid0.Coords) (k0_t68 : Fin k0_t68_loop.trips) (v200 : BitVec 32) (v203 : BitVec 32) (k0_hw62 : k0_chk62 i k0_t68 v200 v203) (k0_t128 : Fin (k0_t128_loop i k0_t68 v200 v203).trips), ∀ (k0_h55 : k0_cond55 k0_t68 = 1#1), ∀ (k0_h69 : k0_cond69 i k0_t68 v200 v203 = 1#1), ∀ a, (k0_off1013 i k0_t68 v200 v203 k0_t128) a + S1x16.size a ≤ S256x128.size a := fun i k0_t68 v200 v203 k0_hw62 k0_t128 k0_h55 k0_h69 => k0_hw62.2.2.2.2.2.2.2.2.2.2.2.2.1 k0_t128 k0_h55 k0_h69
theorem k0_off1014_inb : ∀ (i : grid0.Coords) (k0_t68 : Fin k0_t68_loop.trips) (v200 : BitVec 32) (v203 : BitVec 32) (k0_hw62 : k0_chk62 i k0_t68 v200 v203) (k0_t128 : Fin (k0_t128_loop i k0_t68 v200 v203).trips), ∀ (k0_h55 : k0_cond55 k0_t68 = 1#1), ∀ (k0_h69 : k0_cond69 i k0_t68 v200 v203 = 1#1), ∀ a, (k0_off1014 i k0_t68 v200 v203 k0_t128) a + S1x16.size a ≤ S256x128.size a := fun i k0_t68 v200 v203 k0_hw62 k0_t128 k0_h55 k0_h69 => k0_hw62.2.2.2.2.2.2.2.2.2.2.2.2.2.1 k0_t128 k0_h55 k0_h69
theorem k0_off1015_inb : ∀ (i : grid0.Coords) (k0_t68 : Fin k0_t68_loop.trips) (v200 : BitVec 32) (v203 : BitVec 32) (k0_hw62 : k0_chk62 i k0_t68 v200 v203) (k0_t128 : Fin (k0_t128_loop i k0_t68 v200 v203).trips), ∀ (k0_h55 : k0_cond55 k0_t68 = 1#1), ∀ (k0_h69 : k0_cond69 i k0_t68 v200 v203 = 1#1), ∀ a, (k0_off1015 i k0_t68 v200 v203 k0_t128) a + S1x16.size a ≤ S256x128.size a := fun i k0_t68 v200 v203 k0_hw62 k0_t128 k0_h55 k0_h69 => k0_hw62.2.2.2.2.2.2.2.2.2.2.2.2.2.2.1 k0_t128 k0_h55 k0_h69
theorem k0_off1016_inb : ∀ (i : grid0.Coords) (k0_t68 : Fin k0_t68_loop.trips) (v200 : BitVec 32) (v203 : BitVec 32) (k0_hw62 : k0_chk62 i k0_t68 v200 v203) (k0_t128 : Fin (k0_t128_loop i k0_t68 v200 v203).trips), ∀ (k0_h55 : k0_cond55 k0_t68 = 1#1), ∀ (k0_h69 : k0_cond69 i k0_t68 v200 v203 = 1#1), ∀ a, (k0_off1016 i k0_t68 v200 v203 k0_t128) a + S1x16.size a ≤ S256x128.size a := fun i k0_t68 v200 v203 k0_hw62 k0_t128 k0_h55 k0_h69 => k0_hw62.2.2.2.2.2.2.2.2.2.2.2.2.2.2.2.1 k0_t128 k0_h55 k0_h69
theorem k0_off1017_inb : ∀ (i : grid0.Coords) (k0_t68 : Fin k0_t68_loop.trips) (v200 : BitVec 32) (v203 : BitVec 32) (k0_hw62 : k0_chk62 i k0_t68 v200 v203) (k0_t128 : Fin (k0_t128_loop i k0_t68 v200 v203).trips), ∀ (k0_h55 : k0_cond55 k0_t68 = 1#1), ∀ (k0_h69 : k0_cond69 i k0_t68 v200 v203 = 1#1), ∀ a, (k0_off1017 i k0_t68 v200 v203 k0_t128) a + S1x16.size a ≤ S256x128.size a := fun i k0_t68 v200 v203 k0_hw62 k0_t128 k0_h55 k0_h69 => k0_hw62.2.2.2.2.2.2.2.2.2.2.2.2.2.2.2.2.1 k0_t128 k0_h55 k0_h69
theorem k0_off1018_inb : ∀ (i : grid0.Coords) (k0_t68 : Fin k0_t68_loop.trips) (v200 : BitVec 32) (v203 : BitVec 32) (k0_hw62 : k0_chk62 i k0_t68 v200 v203) (k0_t128 : Fin (k0_t128_loop i k0_t68 v200 v203).trips), ∀ (k0_h55 : k0_cond55 k0_t68 = 1#1), ∀ (k0_h69 : k0_cond69 i k0_t68 v200 v203 = 1#1), ∀ a, (k0_off1018 i k0_t68 v200 v203 k0_t128) a + S1x16.size a ≤ S256x128.size a := fun i k0_t68 v200 v203 k0_hw62 k0_t128 k0_h55 k0_h69 => k0_hw62.2.2.2.2.2.2.2.2.2.2.2.2.2.2.2.2.2 k0_t128 k0_h55 k0_h69

@[reducible] def k0_t129_loop (i : grid0.Coords) (k0_t68 : Fin k0_t68_loop.trips) (v209 : BitVec 32) (v212 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v210 : BitVec 32 := Scalar.maxsi v209 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_85 : BitVec 32 := 1#32
  ⟨v210, v234, c1_i32_85⟩
def k0_cond70 (i : grid0.Coords) (k0_t68 : Fin k0_t68_loop.trips) (v209 : BitVec 32) (v212 : BitVec 32) : BitVec 1 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v213 : BitVec 32 := Scalar.minsi v212 v77
  let v210 : BitVec 32 := Scalar.maxsi v209 v75
  let v214 : BitVec 1 := Scalar.cmpi .sgt v213 v210
  let v215 : BitVec 32 := Scalar.extui v214
  let c0_i32_79 : BitVec 32 := 0#32
  let v216 : BitVec 1 := Scalar.cmpi .ne v215 c0_i32_79
  v216

def k0_off1019 (i : grid0.Coords) (k0_t68 : Fin k0_t68_loop.trips) (v209 : BitVec 32) (v212 : BitVec 32) (k0_t129 : Fin (k0_t129_loop i k0_t68 v209 v212).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v210 : BitVec 32 := Scalar.maxsi v209 v75
  let c1_i32_85 : BitVec 32 := 1#32
  let arg19 : BitVec 32 := Scf.iv v210 c1_i32_85 k0_t129
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off1020 (i : grid0.Coords) (k0_t68 : Fin k0_t68_loop.trips) (v209 : BitVec 32) (v212 : BitVec 32) (k0_t129 : Fin (k0_t129_loop i k0_t68 v209 v212).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v210 : BitVec 32 := Scalar.maxsi v209 v75
  let c1_i32_85 : BitVec 32 := 1#32
  let arg19 : BitVec 32 := Scf.iv v210 c1_i32_85 k0_t129
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off1021 (i : grid0.Coords) (k0_t68 : Fin k0_t68_loop.trips) (v209 : BitVec 32) (v212 : BitVec 32) (k0_t129 : Fin (k0_t129_loop i k0_t68 v209 v212).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v210 : BitVec 32 := Scalar.maxsi v209 v75
  let c1_i32_85 : BitVec 32 := 1#32
  let arg19 : BitVec 32 := Scf.iv v210 c1_i32_85 k0_t129
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off1022 (i : grid0.Coords) (k0_t68 : Fin k0_t68_loop.trips) (v209 : BitVec 32) (v212 : BitVec 32) (k0_t129 : Fin (k0_t129_loop i k0_t68 v209 v212).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v210 : BitVec 32 := Scalar.maxsi v209 v75
  let c1_i32_85 : BitVec 32 := 1#32
  let arg19 : BitVec 32 := Scf.iv v210 c1_i32_85 k0_t129
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off1023 (i : grid0.Coords) (k0_t68 : Fin k0_t68_loop.trips) (v209 : BitVec 32) (v212 : BitVec 32) (k0_t129 : Fin (k0_t129_loop i k0_t68 v209 v212).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v210 : BitVec 32 := Scalar.maxsi v209 v75
  let c1_i32_85 : BitVec 32 := 1#32
  let arg19 : BitVec 32 := Scf.iv v210 c1_i32_85 k0_t129
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off1024 (i : grid0.Coords) (k0_t68 : Fin k0_t68_loop.trips) (v209 : BitVec 32) (v212 : BitVec 32) (k0_t129 : Fin (k0_t129_loop i k0_t68 v209 v212).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v210 : BitVec 32 := Scalar.maxsi v209 v75
  let c1_i32_85 : BitVec 32 := 1#32
  let arg19 : BitVec 32 := Scf.iv v210 c1_i32_85 k0_t129
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off1025 (i : grid0.Coords) (k0_t68 : Fin k0_t68_loop.trips) (v209 : BitVec 32) (v212 : BitVec 32) (k0_t129 : Fin (k0_t129_loop i k0_t68 v209 v212).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v210 : BitVec 32 := Scalar.maxsi v209 v75
  let c1_i32_85 : BitVec 32 := 1#32
  let arg19 : BitVec 32 := Scf.iv v210 c1_i32_85 k0_t129
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off1026 (i : grid0.Coords) (k0_t68 : Fin k0_t68_loop.trips) (v209 : BitVec 32) (v212 : BitVec 32) (k0_t129 : Fin (k0_t129_loop i k0_t68 v209 v212).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v210 : BitVec 32 := Scalar.maxsi v209 v75
  let c1_i32_85 : BitVec 32 := 1#32
  let arg19 : BitVec 32 := Scf.iv v210 c1_i32_85 k0_t129
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]
@[reducible] def k0_t130_loop (i : grid0.Coords) (k0_t68 : Fin k0_t68_loop.trips) (v209 : BitVec 32) (v212 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v210 : BitVec 32 := Scalar.maxsi v209 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let v231 : BitVec 32 := Scalar.addi v210 v230
  let c1_i32_86 : BitVec 32 := 1#32
  ⟨v234, v231, c1_i32_86⟩
def k0_off1027 (i : grid0.Coords) (k0_t68 : Fin k0_t68_loop.trips) (v209 : BitVec 32) (v212 : BitVec 32) (k0_t130 : Fin (k0_t130_loop i k0_t68 v209 v212).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v210 : BitVec 32 := Scalar.maxsi v209 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_86 : BitVec 32 := 1#32
  let arg19 : BitVec 32 := Scf.iv v234 c1_i32_86 k0_t130
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off1028 (i : grid0.Coords) (k0_t68 : Fin k0_t68_loop.trips) (v209 : BitVec 32) (v212 : BitVec 32) (k0_t130 : Fin (k0_t130_loop i k0_t68 v209 v212).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v210 : BitVec 32 := Scalar.maxsi v209 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_86 : BitVec 32 := 1#32
  let arg19 : BitVec 32 := Scf.iv v234 c1_i32_86 k0_t130
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off1029 (i : grid0.Coords) (k0_t68 : Fin k0_t68_loop.trips) (v209 : BitVec 32) (v212 : BitVec 32) (k0_t130 : Fin (k0_t130_loop i k0_t68 v209 v212).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v210 : BitVec 32 := Scalar.maxsi v209 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_86 : BitVec 32 := 1#32
  let arg19 : BitVec 32 := Scf.iv v234 c1_i32_86 k0_t130
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off1030 (i : grid0.Coords) (k0_t68 : Fin k0_t68_loop.trips) (v209 : BitVec 32) (v212 : BitVec 32) (k0_t130 : Fin (k0_t130_loop i k0_t68 v209 v212).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v210 : BitVec 32 := Scalar.maxsi v209 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_86 : BitVec 32 := 1#32
  let arg19 : BitVec 32 := Scf.iv v234 c1_i32_86 k0_t130
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off1031 (i : grid0.Coords) (k0_t68 : Fin k0_t68_loop.trips) (v209 : BitVec 32) (v212 : BitVec 32) (k0_t130 : Fin (k0_t130_loop i k0_t68 v209 v212).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v210 : BitVec 32 := Scalar.maxsi v209 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_86 : BitVec 32 := 1#32
  let arg19 : BitVec 32 := Scf.iv v234 c1_i32_86 k0_t130
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off1032 (i : grid0.Coords) (k0_t68 : Fin k0_t68_loop.trips) (v209 : BitVec 32) (v212 : BitVec 32) (k0_t130 : Fin (k0_t130_loop i k0_t68 v209 v212).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v210 : BitVec 32 := Scalar.maxsi v209 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_86 : BitVec 32 := 1#32
  let arg19 : BitVec 32 := Scf.iv v234 c1_i32_86 k0_t130
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off1033 (i : grid0.Coords) (k0_t68 : Fin k0_t68_loop.trips) (v209 : BitVec 32) (v212 : BitVec 32) (k0_t130 : Fin (k0_t130_loop i k0_t68 v209 v212).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v210 : BitVec 32 := Scalar.maxsi v209 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_86 : BitVec 32 := 1#32
  let arg19 : BitVec 32 := Scf.iv v234 c1_i32_86 k0_t130
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off1034 (i : grid0.Coords) (k0_t68 : Fin k0_t68_loop.trips) (v209 : BitVec 32) (v212 : BitVec 32) (k0_t130 : Fin (k0_t130_loop i k0_t68 v209 v212).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v210 : BitVec 32 := Scalar.maxsi v209 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v213 : BitVec 32 := Scalar.minsi v212 v77
  let v230 : BitVec 32 := Scalar.subi v213 v210
  let c1_i32_84 : BitVec 32 := 1#32
  let v232 : BitVec 32 := Scalar.divsi v230 c1_i32_84
  let v233 : BitVec 32 := Scalar.muli v232 c1_i32_84
  let v234 : BitVec 32 := Scalar.addi v210 v233
  let c1_i32_86 : BitVec 32 := 1#32
  let arg19 : BitVec 32 := Scf.iv v234 c1_i32_86 k0_t130
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]

def k0_chk63 (i : grid0.Coords) (k0_t68 : Fin k0_t68_loop.trips) (v209 : BitVec 32) (v212 : BitVec 32) : Prop :=
  (∀ (k0_h55 : k0_cond55 k0_t68 = 1#1), ∀ (k0_h70 : k0_cond70 i k0_t68 v209 v212 = 1#1), (k0_t129_loop i k0_t68 v209 v212).OK) ∧
  (∀ k0_t129 : Fin (k0_t129_loop i k0_t68 v209 v212).trips, ∀ (k0_h55 : k0_cond55 k0_t68 = 1#1), ∀ (k0_h70 : k0_cond70 i k0_t68 v209 v212 = 1#1), ∀ a, (k0_off1019 i k0_t68 v209 v212 k0_t129) a + S1x16.size a ≤ S256x128.size a) ∧
  (∀ k0_t129 : Fin (k0_t129_loop i k0_t68 v209 v212).trips, ∀ (k0_h55 : k0_cond55 k0_t68 = 1#1), ∀ (k0_h70 : k0_cond70 i k0_t68 v209 v212 = 1#1), ∀ a, (k0_off1020 i k0_t68 v209 v212 k0_t129) a + S1x16.size a ≤ S256x128.size a) ∧
  (∀ k0_t129 : Fin (k0_t129_loop i k0_t68 v209 v212).trips, ∀ (k0_h55 : k0_cond55 k0_t68 = 1#1), ∀ (k0_h70 : k0_cond70 i k0_t68 v209 v212 = 1#1), ∀ a, (k0_off1021 i k0_t68 v209 v212 k0_t129) a + S1x16.size a ≤ S256x128.size a) ∧
  (∀ k0_t129 : Fin (k0_t129_loop i k0_t68 v209 v212).trips, ∀ (k0_h55 : k0_cond55 k0_t68 = 1#1), ∀ (k0_h70 : k0_cond70 i k0_t68 v209 v212 = 1#1), ∀ a, (k0_off1022 i k0_t68 v209 v212 k0_t129) a + S1x16.size a ≤ S256x128.size a) ∧
  (∀ k0_t129 : Fin (k0_t129_loop i k0_t68 v209 v212).trips, ∀ (k0_h55 : k0_cond55 k0_t68 = 1#1), ∀ (k0_h70 : k0_cond70 i k0_t68 v209 v212 = 1#1), ∀ a, (k0_off1023 i k0_t68 v209 v212 k0_t129) a + S1x16.size a ≤ S256x128.size a) ∧
  (∀ k0_t129 : Fin (k0_t129_loop i k0_t68 v209 v212).trips, ∀ (k0_h55 : k0_cond55 k0_t68 = 1#1), ∀ (k0_h70 : k0_cond70 i k0_t68 v209 v212 = 1#1), ∀ a, (k0_off1024 i k0_t68 v209 v212 k0_t129) a + S1x16.size a ≤ S256x128.size a) ∧
  (∀ k0_t129 : Fin (k0_t129_loop i k0_t68 v209 v212).trips, ∀ (k0_h55 : k0_cond55 k0_t68 = 1#1), ∀ (k0_h70 : k0_cond70 i k0_t68 v209 v212 = 1#1), ∀ a, (k0_off1025 i k0_t68 v209 v212 k0_t129) a + S1x16.size a ≤ S256x128.size a) ∧
  (∀ k0_t129 : Fin (k0_t129_loop i k0_t68 v209 v212).trips, ∀ (k0_h55 : k0_cond55 k0_t68 = 1#1), ∀ (k0_h70 : k0_cond70 i k0_t68 v209 v212 = 1#1), ∀ a, (k0_off1026 i k0_t68 v209 v212 k0_t129) a + S1x16.size a ≤ S256x128.size a) ∧
  (∀ (k0_h55 : k0_cond55 k0_t68 = 1#1), ∀ (k0_h70 : k0_cond70 i k0_t68 v209 v212 = 1#1), (k0_t130_loop i k0_t68 v209 v212).OK) ∧
  (∀ k0_t130 : Fin (k0_t130_loop i k0_t68 v209 v212).trips, ∀ (k0_h55 : k0_cond55 k0_t68 = 1#1), ∀ (k0_h70 : k0_cond70 i k0_t68 v209 v212 = 1#1), ∀ a, (k0_off1027 i k0_t68 v209 v212 k0_t130) a + S1x16.size a ≤ S256x128.size a) ∧
  (∀ k0_t130 : Fin (k0_t130_loop i k0_t68 v209 v212).trips, ∀ (k0_h55 : k0_cond55 k0_t68 = 1#1), ∀ (k0_h70 : k0_cond70 i k0_t68 v209 v212 = 1#1), ∀ a, (k0_off1028 i k0_t68 v209 v212 k0_t130) a + S1x16.size a ≤ S256x128.size a) ∧
  (∀ k0_t130 : Fin (k0_t130_loop i k0_t68 v209 v212).trips, ∀ (k0_h55 : k0_cond55 k0_t68 = 1#1), ∀ (k0_h70 : k0_cond70 i k0_t68 v209 v212 = 1#1), ∀ a, (k0_off1029 i k0_t68 v209 v212 k0_t130) a + S1x16.size a ≤ S256x128.size a) ∧
  (∀ k0_t130 : Fin (k0_t130_loop i k0_t68 v209 v212).trips, ∀ (k0_h55 : k0_cond55 k0_t68 = 1#1), ∀ (k0_h70 : k0_cond70 i k0_t68 v209 v212 = 1#1), ∀ a, (k0_off1030 i k0_t68 v209 v212 k0_t130) a + S1x16.size a ≤ S256x128.size a) ∧
  (∀ k0_t130 : Fin (k0_t130_loop i k0_t68 v209 v212).trips, ∀ (k0_h55 : k0_cond55 k0_t68 = 1#1), ∀ (k0_h70 : k0_cond70 i k0_t68 v209 v212 = 1#1), ∀ a, (k0_off1031 i k0_t68 v209 v212 k0_t130) a + S1x16.size a ≤ S256x128.size a) ∧
  (∀ k0_t130 : Fin (k0_t130_loop i k0_t68 v209 v212).trips, ∀ (k0_h55 : k0_cond55 k0_t68 = 1#1), ∀ (k0_h70 : k0_cond70 i k0_t68 v209 v212 = 1#1), ∀ a, (k0_off1032 i k0_t68 v209 v212 k0_t130) a + S1x16.size a ≤ S256x128.size a) ∧
  (∀ k0_t130 : Fin (k0_t130_loop i k0_t68 v209 v212).trips, ∀ (k0_h55 : k0_cond55 k0_t68 = 1#1), ∀ (k0_h70 : k0_cond70 i k0_t68 v209 v212 = 1#1), ∀ a, (k0_off1033 i k0_t68 v209 v212 k0_t130) a + S1x16.size a ≤ S256x128.size a) ∧
  (∀ k0_t130 : Fin (k0_t130_loop i k0_t68 v209 v212).trips, ∀ (k0_h55 : k0_cond55 k0_t68 = 1#1), ∀ (k0_h70 : k0_cond70 i k0_t68 v209 v212 = 1#1), ∀ a, (k0_off1034 i k0_t68 v209 v212 k0_t130) a + S1x16.size a ≤ S256x128.size a)
theorem k0_t129_ok : ∀ (i : grid0.Coords) (k0_t68 : Fin k0_t68_loop.trips) (v209 : BitVec 32) (v212 : BitVec 32) (k0_hw63 : k0_chk63 i k0_t68 v209 v212), ∀ (k0_h55 : k0_cond55 k0_t68 = 1#1), ∀ (k0_h70 : k0_cond70 i k0_t68 v209 v212 = 1#1), (k0_t129_loop i k0_t68 v209 v212).OK := fun i k0_t68 v209 v212 k0_hw63 k0_h55 k0_h70 => k0_hw63.1 k0_h55 k0_h70
theorem k0_off1019_inb : ∀ (i : grid0.Coords) (k0_t68 : Fin k0_t68_loop.trips) (v209 : BitVec 32) (v212 : BitVec 32) (k0_hw63 : k0_chk63 i k0_t68 v209 v212) (k0_t129 : Fin (k0_t129_loop i k0_t68 v209 v212).trips), ∀ (k0_h55 : k0_cond55 k0_t68 = 1#1), ∀ (k0_h70 : k0_cond70 i k0_t68 v209 v212 = 1#1), ∀ a, (k0_off1019 i k0_t68 v209 v212 k0_t129) a + S1x16.size a ≤ S256x128.size a := fun i k0_t68 v209 v212 k0_hw63 k0_t129 k0_h55 k0_h70 => k0_hw63.2.1 k0_t129 k0_h55 k0_h70
theorem k0_off1020_inb : ∀ (i : grid0.Coords) (k0_t68 : Fin k0_t68_loop.trips) (v209 : BitVec 32) (v212 : BitVec 32) (k0_hw63 : k0_chk63 i k0_t68 v209 v212) (k0_t129 : Fin (k0_t129_loop i k0_t68 v209 v212).trips), ∀ (k0_h55 : k0_cond55 k0_t68 = 1#1), ∀ (k0_h70 : k0_cond70 i k0_t68 v209 v212 = 1#1), ∀ a, (k0_off1020 i k0_t68 v209 v212 k0_t129) a + S1x16.size a ≤ S256x128.size a := fun i k0_t68 v209 v212 k0_hw63 k0_t129 k0_h55 k0_h70 => k0_hw63.2.2.1 k0_t129 k0_h55 k0_h70
theorem k0_off1021_inb : ∀ (i : grid0.Coords) (k0_t68 : Fin k0_t68_loop.trips) (v209 : BitVec 32) (v212 : BitVec 32) (k0_hw63 : k0_chk63 i k0_t68 v209 v212) (k0_t129 : Fin (k0_t129_loop i k0_t68 v209 v212).trips), ∀ (k0_h55 : k0_cond55 k0_t68 = 1#1), ∀ (k0_h70 : k0_cond70 i k0_t68 v209 v212 = 1#1), ∀ a, (k0_off1021 i k0_t68 v209 v212 k0_t129) a + S1x16.size a ≤ S256x128.size a := fun i k0_t68 v209 v212 k0_hw63 k0_t129 k0_h55 k0_h70 => k0_hw63.2.2.2.1 k0_t129 k0_h55 k0_h70
theorem k0_off1022_inb : ∀ (i : grid0.Coords) (k0_t68 : Fin k0_t68_loop.trips) (v209 : BitVec 32) (v212 : BitVec 32) (k0_hw63 : k0_chk63 i k0_t68 v209 v212) (k0_t129 : Fin (k0_t129_loop i k0_t68 v209 v212).trips), ∀ (k0_h55 : k0_cond55 k0_t68 = 1#1), ∀ (k0_h70 : k0_cond70 i k0_t68 v209 v212 = 1#1), ∀ a, (k0_off1022 i k0_t68 v209 v212 k0_t129) a + S1x16.size a ≤ S256x128.size a := fun i k0_t68 v209 v212 k0_hw63 k0_t129 k0_h55 k0_h70 => k0_hw63.2.2.2.2.1 k0_t129 k0_h55 k0_h70
theorem k0_off1023_inb : ∀ (i : grid0.Coords) (k0_t68 : Fin k0_t68_loop.trips) (v209 : BitVec 32) (v212 : BitVec 32) (k0_hw63 : k0_chk63 i k0_t68 v209 v212) (k0_t129 : Fin (k0_t129_loop i k0_t68 v209 v212).trips), ∀ (k0_h55 : k0_cond55 k0_t68 = 1#1), ∀ (k0_h70 : k0_cond70 i k0_t68 v209 v212 = 1#1), ∀ a, (k0_off1023 i k0_t68 v209 v212 k0_t129) a + S1x16.size a ≤ S256x128.size a := fun i k0_t68 v209 v212 k0_hw63 k0_t129 k0_h55 k0_h70 => k0_hw63.2.2.2.2.2.1 k0_t129 k0_h55 k0_h70
theorem k0_off1024_inb : ∀ (i : grid0.Coords) (k0_t68 : Fin k0_t68_loop.trips) (v209 : BitVec 32) (v212 : BitVec 32) (k0_hw63 : k0_chk63 i k0_t68 v209 v212) (k0_t129 : Fin (k0_t129_loop i k0_t68 v209 v212).trips), ∀ (k0_h55 : k0_cond55 k0_t68 = 1#1), ∀ (k0_h70 : k0_cond70 i k0_t68 v209 v212 = 1#1), ∀ a, (k0_off1024 i k0_t68 v209 v212 k0_t129) a + S1x16.size a ≤ S256x128.size a := fun i k0_t68 v209 v212 k0_hw63 k0_t129 k0_h55 k0_h70 => k0_hw63.2.2.2.2.2.2.1 k0_t129 k0_h55 k0_h70
theorem k0_off1025_inb : ∀ (i : grid0.Coords) (k0_t68 : Fin k0_t68_loop.trips) (v209 : BitVec 32) (v212 : BitVec 32) (k0_hw63 : k0_chk63 i k0_t68 v209 v212) (k0_t129 : Fin (k0_t129_loop i k0_t68 v209 v212).trips), ∀ (k0_h55 : k0_cond55 k0_t68 = 1#1), ∀ (k0_h70 : k0_cond70 i k0_t68 v209 v212 = 1#1), ∀ a, (k0_off1025 i k0_t68 v209 v212 k0_t129) a + S1x16.size a ≤ S256x128.size a := fun i k0_t68 v209 v212 k0_hw63 k0_t129 k0_h55 k0_h70 => k0_hw63.2.2.2.2.2.2.2.1 k0_t129 k0_h55 k0_h70
theorem k0_off1026_inb : ∀ (i : grid0.Coords) (k0_t68 : Fin k0_t68_loop.trips) (v209 : BitVec 32) (v212 : BitVec 32) (k0_hw63 : k0_chk63 i k0_t68 v209 v212) (k0_t129 : Fin (k0_t129_loop i k0_t68 v209 v212).trips), ∀ (k0_h55 : k0_cond55 k0_t68 = 1#1), ∀ (k0_h70 : k0_cond70 i k0_t68 v209 v212 = 1#1), ∀ a, (k0_off1026 i k0_t68 v209 v212 k0_t129) a + S1x16.size a ≤ S256x128.size a := fun i k0_t68 v209 v212 k0_hw63 k0_t129 k0_h55 k0_h70 => k0_hw63.2.2.2.2.2.2.2.2.1 k0_t129 k0_h55 k0_h70
theorem k0_t130_ok : ∀ (i : grid0.Coords) (k0_t68 : Fin k0_t68_loop.trips) (v209 : BitVec 32) (v212 : BitVec 32) (k0_hw63 : k0_chk63 i k0_t68 v209 v212), ∀ (k0_h55 : k0_cond55 k0_t68 = 1#1), ∀ (k0_h70 : k0_cond70 i k0_t68 v209 v212 = 1#1), (k0_t130_loop i k0_t68 v209 v212).OK := fun i k0_t68 v209 v212 k0_hw63 k0_h55 k0_h70 => k0_hw63.2.2.2.2.2.2.2.2.2.1 k0_h55 k0_h70
theorem k0_off1027_inb : ∀ (i : grid0.Coords) (k0_t68 : Fin k0_t68_loop.trips) (v209 : BitVec 32) (v212 : BitVec 32) (k0_hw63 : k0_chk63 i k0_t68 v209 v212) (k0_t130 : Fin (k0_t130_loop i k0_t68 v209 v212).trips), ∀ (k0_h55 : k0_cond55 k0_t68 = 1#1), ∀ (k0_h70 : k0_cond70 i k0_t68 v209 v212 = 1#1), ∀ a, (k0_off1027 i k0_t68 v209 v212 k0_t130) a + S1x16.size a ≤ S256x128.size a := fun i k0_t68 v209 v212 k0_hw63 k0_t130 k0_h55 k0_h70 => k0_hw63.2.2.2.2.2.2.2.2.2.2.1 k0_t130 k0_h55 k0_h70
theorem k0_off1028_inb : ∀ (i : grid0.Coords) (k0_t68 : Fin k0_t68_loop.trips) (v209 : BitVec 32) (v212 : BitVec 32) (k0_hw63 : k0_chk63 i k0_t68 v209 v212) (k0_t130 : Fin (k0_t130_loop i k0_t68 v209 v212).trips), ∀ (k0_h55 : k0_cond55 k0_t68 = 1#1), ∀ (k0_h70 : k0_cond70 i k0_t68 v209 v212 = 1#1), ∀ a, (k0_off1028 i k0_t68 v209 v212 k0_t130) a + S1x16.size a ≤ S256x128.size a := fun i k0_t68 v209 v212 k0_hw63 k0_t130 k0_h55 k0_h70 => k0_hw63.2.2.2.2.2.2.2.2.2.2.2.1 k0_t130 k0_h55 k0_h70
theorem k0_off1029_inb : ∀ (i : grid0.Coords) (k0_t68 : Fin k0_t68_loop.trips) (v209 : BitVec 32) (v212 : BitVec 32) (k0_hw63 : k0_chk63 i k0_t68 v209 v212) (k0_t130 : Fin (k0_t130_loop i k0_t68 v209 v212).trips), ∀ (k0_h55 : k0_cond55 k0_t68 = 1#1), ∀ (k0_h70 : k0_cond70 i k0_t68 v209 v212 = 1#1), ∀ a, (k0_off1029 i k0_t68 v209 v212 k0_t130) a + S1x16.size a ≤ S256x128.size a := fun i k0_t68 v209 v212 k0_hw63 k0_t130 k0_h55 k0_h70 => k0_hw63.2.2.2.2.2.2.2.2.2.2.2.2.1 k0_t130 k0_h55 k0_h70
theorem k0_off1030_inb : ∀ (i : grid0.Coords) (k0_t68 : Fin k0_t68_loop.trips) (v209 : BitVec 32) (v212 : BitVec 32) (k0_hw63 : k0_chk63 i k0_t68 v209 v212) (k0_t130 : Fin (k0_t130_loop i k0_t68 v209 v212).trips), ∀ (k0_h55 : k0_cond55 k0_t68 = 1#1), ∀ (k0_h70 : k0_cond70 i k0_t68 v209 v212 = 1#1), ∀ a, (k0_off1030 i k0_t68 v209 v212 k0_t130) a + S1x16.size a ≤ S256x128.size a := fun i k0_t68 v209 v212 k0_hw63 k0_t130 k0_h55 k0_h70 => k0_hw63.2.2.2.2.2.2.2.2.2.2.2.2.2.1 k0_t130 k0_h55 k0_h70
theorem k0_off1031_inb : ∀ (i : grid0.Coords) (k0_t68 : Fin k0_t68_loop.trips) (v209 : BitVec 32) (v212 : BitVec 32) (k0_hw63 : k0_chk63 i k0_t68 v209 v212) (k0_t130 : Fin (k0_t130_loop i k0_t68 v209 v212).trips), ∀ (k0_h55 : k0_cond55 k0_t68 = 1#1), ∀ (k0_h70 : k0_cond70 i k0_t68 v209 v212 = 1#1), ∀ a, (k0_off1031 i k0_t68 v209 v212 k0_t130) a + S1x16.size a ≤ S256x128.size a := fun i k0_t68 v209 v212 k0_hw63 k0_t130 k0_h55 k0_h70 => k0_hw63.2.2.2.2.2.2.2.2.2.2.2.2.2.2.1 k0_t130 k0_h55 k0_h70
theorem k0_off1032_inb : ∀ (i : grid0.Coords) (k0_t68 : Fin k0_t68_loop.trips) (v209 : BitVec 32) (v212 : BitVec 32) (k0_hw63 : k0_chk63 i k0_t68 v209 v212) (k0_t130 : Fin (k0_t130_loop i k0_t68 v209 v212).trips), ∀ (k0_h55 : k0_cond55 k0_t68 = 1#1), ∀ (k0_h70 : k0_cond70 i k0_t68 v209 v212 = 1#1), ∀ a, (k0_off1032 i k0_t68 v209 v212 k0_t130) a + S1x16.size a ≤ S256x128.size a := fun i k0_t68 v209 v212 k0_hw63 k0_t130 k0_h55 k0_h70 => k0_hw63.2.2.2.2.2.2.2.2.2.2.2.2.2.2.2.1 k0_t130 k0_h55 k0_h70
theorem k0_off1033_inb : ∀ (i : grid0.Coords) (k0_t68 : Fin k0_t68_loop.trips) (v209 : BitVec 32) (v212 : BitVec 32) (k0_hw63 : k0_chk63 i k0_t68 v209 v212) (k0_t130 : Fin (k0_t130_loop i k0_t68 v209 v212).trips), ∀ (k0_h55 : k0_cond55 k0_t68 = 1#1), ∀ (k0_h70 : k0_cond70 i k0_t68 v209 v212 = 1#1), ∀ a, (k0_off1033 i k0_t68 v209 v212 k0_t130) a + S1x16.size a ≤ S256x128.size a := fun i k0_t68 v209 v212 k0_hw63 k0_t130 k0_h55 k0_h70 => k0_hw63.2.2.2.2.2.2.2.2.2.2.2.2.2.2.2.2.1 k0_t130 k0_h55 k0_h70
theorem k0_off1034_inb : ∀ (i : grid0.Coords) (k0_t68 : Fin k0_t68_loop.trips) (v209 : BitVec 32) (v212 : BitVec 32) (k0_hw63 : k0_chk63 i k0_t68 v209 v212) (k0_t130 : Fin (k0_t130_loop i k0_t68 v209 v212).trips), ∀ (k0_h55 : k0_cond55 k0_t68 = 1#1), ∀ (k0_h70 : k0_cond70 i k0_t68 v209 v212 = 1#1), ∀ a, (k0_off1034 i k0_t68 v209 v212 k0_t130) a + S1x16.size a ≤ S256x128.size a := fun i k0_t68 v209 v212 k0_hw63 k0_t130 k0_h55 k0_h70 => k0_hw63.2.2.2.2.2.2.2.2.2.2.2.2.2.2.2.2.2 k0_t130 k0_h55 k0_h70

@[reducible] def k0_t131_loop (i : grid0.Coords) (k0_t68 : Fin k0_t68_loop.trips) (v218 : BitVec 32) (v221 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v219 : BitVec 32 := Scalar.maxsi v218 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_85 : BitVec 32 := 1#32
  ⟨v219, v234, c1_i32_85⟩
def k0_cond71 (i : grid0.Coords) (k0_t68 : Fin k0_t68_loop.trips) (v218 : BitVec 32) (v221 : BitVec 32) : BitVec 1 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v222 : BitVec 32 := Scalar.minsi v221 v77
  let v219 : BitVec 32 := Scalar.maxsi v218 v75
  let v223 : BitVec 1 := Scalar.cmpi .sgt v222 v219
  let v224 : BitVec 32 := Scalar.extui v223
  let c0_i32_80 : BitVec 32 := 0#32
  let v225 : BitVec 1 := Scalar.cmpi .ne v224 c0_i32_80
  v225

def k0_off1035 (i : grid0.Coords) (k0_t68 : Fin k0_t68_loop.trips) (v218 : BitVec 32) (v221 : BitVec 32) (k0_t131 : Fin (k0_t131_loop i k0_t68 v218 v221).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v219 : BitVec 32 := Scalar.maxsi v218 v75
  let c1_i32_85 : BitVec 32 := 1#32
  let arg19 : BitVec 32 := Scf.iv v219 c1_i32_85 k0_t131
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off1036 (i : grid0.Coords) (k0_t68 : Fin k0_t68_loop.trips) (v218 : BitVec 32) (v221 : BitVec 32) (k0_t131 : Fin (k0_t131_loop i k0_t68 v218 v221).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v219 : BitVec 32 := Scalar.maxsi v218 v75
  let c1_i32_85 : BitVec 32 := 1#32
  let arg19 : BitVec 32 := Scf.iv v219 c1_i32_85 k0_t131
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off1037 (i : grid0.Coords) (k0_t68 : Fin k0_t68_loop.trips) (v218 : BitVec 32) (v221 : BitVec 32) (k0_t131 : Fin (k0_t131_loop i k0_t68 v218 v221).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v219 : BitVec 32 := Scalar.maxsi v218 v75
  let c1_i32_85 : BitVec 32 := 1#32
  let arg19 : BitVec 32 := Scf.iv v219 c1_i32_85 k0_t131
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off1038 (i : grid0.Coords) (k0_t68 : Fin k0_t68_loop.trips) (v218 : BitVec 32) (v221 : BitVec 32) (k0_t131 : Fin (k0_t131_loop i k0_t68 v218 v221).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v219 : BitVec 32 := Scalar.maxsi v218 v75
  let c1_i32_85 : BitVec 32 := 1#32
  let arg19 : BitVec 32 := Scf.iv v219 c1_i32_85 k0_t131
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off1039 (i : grid0.Coords) (k0_t68 : Fin k0_t68_loop.trips) (v218 : BitVec 32) (v221 : BitVec 32) (k0_t131 : Fin (k0_t131_loop i k0_t68 v218 v221).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v219 : BitVec 32 := Scalar.maxsi v218 v75
  let c1_i32_85 : BitVec 32 := 1#32
  let arg19 : BitVec 32 := Scf.iv v219 c1_i32_85 k0_t131
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off1040 (i : grid0.Coords) (k0_t68 : Fin k0_t68_loop.trips) (v218 : BitVec 32) (v221 : BitVec 32) (k0_t131 : Fin (k0_t131_loop i k0_t68 v218 v221).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v219 : BitVec 32 := Scalar.maxsi v218 v75
  let c1_i32_85 : BitVec 32 := 1#32
  let arg19 : BitVec 32 := Scf.iv v219 c1_i32_85 k0_t131
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off1041 (i : grid0.Coords) (k0_t68 : Fin k0_t68_loop.trips) (v218 : BitVec 32) (v221 : BitVec 32) (k0_t131 : Fin (k0_t131_loop i k0_t68 v218 v221).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v219 : BitVec 32 := Scalar.maxsi v218 v75
  let c1_i32_85 : BitVec 32 := 1#32
  let arg19 : BitVec 32 := Scf.iv v219 c1_i32_85 k0_t131
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off1042 (i : grid0.Coords) (k0_t68 : Fin k0_t68_loop.trips) (v218 : BitVec 32) (v221 : BitVec 32) (k0_t131 : Fin (k0_t131_loop i k0_t68 v218 v221).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v219 : BitVec 32 := Scalar.maxsi v218 v75
  let c1_i32_85 : BitVec 32 := 1#32
  let arg19 : BitVec 32 := Scf.iv v219 c1_i32_85 k0_t131
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]
@[reducible] def k0_t132_loop (i : grid0.Coords) (k0_t68 : Fin k0_t68_loop.trips) (v218 : BitVec 32) (v221 : BitVec 32) : Scf.Loop 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v219 : BitVec 32 := Scalar.maxsi v218 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let v231 : BitVec 32 := Scalar.addi v219 v230
  let c1_i32_86 : BitVec 32 := 1#32
  ⟨v234, v231, c1_i32_86⟩
def k0_off1043 (i : grid0.Coords) (k0_t68 : Fin k0_t68_loop.trips) (v218 : BitVec 32) (v221 : BitVec 32) (k0_t132 : Fin (k0_t132_loop i k0_t68 v218 v221).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v219 : BitVec 32 := Scalar.maxsi v218 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_86 : BitVec 32 := 1#32
  let arg19 : BitVec 32 := Scf.iv v234 c1_i32_86 k0_t132
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v302 : Index := Scalar.indexCast v301
  let c0_112 : Index := 0#32
  ![v302.toNat, 0]
def k0_off1044 (i : grid0.Coords) (k0_t68 : Fin k0_t68_loop.trips) (v218 : BitVec 32) (v221 : BitVec 32) (k0_t132 : Fin (k0_t132_loop i k0_t68 v218 v221).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v219 : BitVec 32 := Scalar.maxsi v218 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_86 : BitVec 32 := 1#32
  let arg19 : BitVec 32 := Scf.iv v234 c1_i32_86 k0_t132
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v306 : Index := Scalar.indexCast v301
  let c16_113 : Index := 16#32
  ![v306.toNat, 16]
def k0_off1045 (i : grid0.Coords) (k0_t68 : Fin k0_t68_loop.trips) (v218 : BitVec 32) (v221 : BitVec 32) (k0_t132 : Fin (k0_t132_loop i k0_t68 v218 v221).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v219 : BitVec 32 := Scalar.maxsi v218 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_86 : BitVec 32 := 1#32
  let arg19 : BitVec 32 := Scf.iv v234 c1_i32_86 k0_t132
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v310 : Index := Scalar.indexCast v301
  let c32_114 : Index := 32#32
  ![v310.toNat, 32]
def k0_off1046 (i : grid0.Coords) (k0_t68 : Fin k0_t68_loop.trips) (v218 : BitVec 32) (v221 : BitVec 32) (k0_t132 : Fin (k0_t132_loop i k0_t68 v218 v221).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v219 : BitVec 32 := Scalar.maxsi v218 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_86 : BitVec 32 := 1#32
  let arg19 : BitVec 32 := Scf.iv v234 c1_i32_86 k0_t132
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v314 : Index := Scalar.indexCast v301
  let c48_115 : Index := 48#32
  ![v314.toNat, 48]
def k0_off1047 (i : grid0.Coords) (k0_t68 : Fin k0_t68_loop.trips) (v218 : BitVec 32) (v221 : BitVec 32) (k0_t132 : Fin (k0_t132_loop i k0_t68 v218 v221).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v219 : BitVec 32 := Scalar.maxsi v218 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_86 : BitVec 32 := 1#32
  let arg19 : BitVec 32 := Scf.iv v234 c1_i32_86 k0_t132
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v318 : Index := Scalar.indexCast v301
  let c64_116 : Index := 64#32
  ![v318.toNat, 64]
def k0_off1048 (i : grid0.Coords) (k0_t68 : Fin k0_t68_loop.trips) (v218 : BitVec 32) (v221 : BitVec 32) (k0_t132 : Fin (k0_t132_loop i k0_t68 v218 v221).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v219 : BitVec 32 := Scalar.maxsi v218 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_86 : BitVec 32 := 1#32
  let arg19 : BitVec 32 := Scf.iv v234 c1_i32_86 k0_t132
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v322 : Index := Scalar.indexCast v301
  let c80_117 : Index := 80#32
  ![v322.toNat, 80]
def k0_off1049 (i : grid0.Coords) (k0_t68 : Fin k0_t68_loop.trips) (v218 : BitVec 32) (v221 : BitVec 32) (k0_t132 : Fin (k0_t132_loop i k0_t68 v218 v221).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v219 : BitVec 32 := Scalar.maxsi v218 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_86 : BitVec 32 := 1#32
  let arg19 : BitVec 32 := Scf.iv v234 c1_i32_86 k0_t132
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v326 : Index := Scalar.indexCast v301
  let c96_118 : Index := 96#32
  ![v326.toNat, 96]
def k0_off1050 (i : grid0.Coords) (k0_t68 : Fin k0_t68_loop.trips) (v218 : BitVec 32) (v221 : BitVec 32) (k0_t132 : Fin (k0_t132_loop i k0_t68 v218 v221).trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c256_i32_61 : BitVec 32 := 256#32
  let v74 : BitVec 32 := Scalar.muli v64 c256_i32_61
  let v75 : BitVec 32 := Scalar.addi v26 v74
  let v219 : BitVec 32 := Scalar.maxsi v218 v75
  let c256_i32_62 : BitVec 32 := 256#32
  let v76 : BitVec 32 := Scalar.addi v75 c256_i32_62
  let c1000_i32_16 : BitVec 32 := 1000#32
  let v27 : BitVec 32 := Scalar.addi v26 c1000_i32_16
  let c32000_i32 : BitVec 32 := 32000#32
  let v28 : BitVec 32 := Scalar.minsi v27 c32000_i32
  let v77 : BitVec 32 := Scalar.minsi v76 v28
  let v222 : BitVec 32 := Scalar.minsi v221 v77
  let v230 : BitVec 32 := Scalar.subi v222 v219
  let c1_i32_84 : BitVec 32 := 1#32
  let v232 : BitVec 32 := Scalar.divsi v230 c1_i32_84
  let v233 : BitVec 32 := Scalar.muli v232 c1_i32_84
  let v234 : BitVec 32 := Scalar.addi v219 v233
  let c1_i32_86 : BitVec 32 := 1#32
  let arg19 : BitVec 32 := Scf.iv v234 c1_i32_86 k0_t132
  let c256_i32_63 : BitVec 32 := 256#32
  let v78 : BitVec 32 := Scalar.muli v64 c256_i32_63
  let v79 : BitVec 32 := Scalar.addi v26 v78
  let c31744_i32_64 : BitVec 32 := 31744#32
  let v80 : BitVec 32 := Scalar.minsi v79 c31744_i32_64
  let v81 : BitVec 32 := v80
  let v301 : BitVec 32 := Scalar.subi arg19 v81
  let v330 : Index := Scalar.indexCast v301
  let c112_119 : Index := 112#32
  ![v330.toNat, 112]

def k0_chk64 (i : grid0.Coords) (k0_t68 : Fin k0_t68_loop.trips) (v218 : BitVec 32) (v221 : BitVec 32) : Prop :=
  (∀ (k0_h55 : k0_cond55 k0_t68 = 1#1), ∀ (k0_h71 : k0_cond71 i k0_t68 v218 v221 = 1#1), (k0_t131_loop i k0_t68 v218 v221).OK) ∧
  (∀ k0_t131 : Fin (k0_t131_loop i k0_t68 v218 v221).trips, ∀ (k0_h55 : k0_cond55 k0_t68 = 1#1), ∀ (k0_h71 : k0_cond71 i k0_t68 v218 v221 = 1#1), ∀ a, (k0_off1035 i k0_t68 v218 v221 k0_t131) a + S1x16.size a ≤ S256x128.size a) ∧
  (∀ k0_t131 : Fin (k0_t131_loop i k0_t68 v218 v221).trips, ∀ (k0_h55 : k0_cond55 k0_t68 = 1#1), ∀ (k0_h71 : k0_cond71 i k0_t68 v218 v221 = 1#1), ∀ a, (k0_off1036 i k0_t68 v218 v221 k0_t131) a + S1x16.size a ≤ S256x128.size a) ∧
  (∀ k0_t131 : Fin (k0_t131_loop i k0_t68 v218 v221).trips, ∀ (k0_h55 : k0_cond55 k0_t68 = 1#1), ∀ (k0_h71 : k0_cond71 i k0_t68 v218 v221 = 1#1), ∀ a, (k0_off1037 i k0_t68 v218 v221 k0_t131) a + S1x16.size a ≤ S256x128.size a) ∧
  (∀ k0_t131 : Fin (k0_t131_loop i k0_t68 v218 v221).trips, ∀ (k0_h55 : k0_cond55 k0_t68 = 1#1), ∀ (k0_h71 : k0_cond71 i k0_t68 v218 v221 = 1#1), ∀ a, (k0_off1038 i k0_t68 v218 v221 k0_t131) a + S1x16.size a ≤ S256x128.size a) ∧
  (∀ k0_t131 : Fin (k0_t131_loop i k0_t68 v218 v221).trips, ∀ (k0_h55 : k0_cond55 k0_t68 = 1#1), ∀ (k0_h71 : k0_cond71 i k0_t68 v218 v221 = 1#1), ∀ a, (k0_off1039 i k0_t68 v218 v221 k0_t131) a + S1x16.size a ≤ S256x128.size a) ∧
  (∀ k0_t131 : Fin (k0_t131_loop i k0_t68 v218 v221).trips, ∀ (k0_h55 : k0_cond55 k0_t68 = 1#1), ∀ (k0_h71 : k0_cond71 i k0_t68 v218 v221 = 1#1), ∀ a, (k0_off1040 i k0_t68 v218 v221 k0_t131) a + S1x16.size a ≤ S256x128.size a) ∧
  (∀ k0_t131 : Fin (k0_t131_loop i k0_t68 v218 v221).trips, ∀ (k0_h55 : k0_cond55 k0_t68 = 1#1), ∀ (k0_h71 : k0_cond71 i k0_t68 v218 v221 = 1#1), ∀ a, (k0_off1041 i k0_t68 v218 v221 k0_t131) a + S1x16.size a ≤ S256x128.size a) ∧
  (∀ k0_t131 : Fin (k0_t131_loop i k0_t68 v218 v221).trips, ∀ (k0_h55 : k0_cond55 k0_t68 = 1#1), ∀ (k0_h71 : k0_cond71 i k0_t68 v218 v221 = 1#1), ∀ a, (k0_off1042 i k0_t68 v218 v221 k0_t131) a + S1x16.size a ≤ S256x128.size a) ∧
  (∀ (k0_h55 : k0_cond55 k0_t68 = 1#1), ∀ (k0_h71 : k0_cond71 i k0_t68 v218 v221 = 1#1), (k0_t132_loop i k0_t68 v218 v221).OK) ∧
  (∀ k0_t132 : Fin (k0_t132_loop i k0_t68 v218 v221).trips, ∀ (k0_h55 : k0_cond55 k0_t68 = 1#1), ∀ (k0_h71 : k0_cond71 i k0_t68 v218 v221 = 1#1), ∀ a, (k0_off1043 i k0_t68 v218 v221 k0_t132) a + S1x16.size a ≤ S256x128.size a) ∧
  (∀ k0_t132 : Fin (k0_t132_loop i k0_t68 v218 v221).trips, ∀ (k0_h55 : k0_cond55 k0_t68 = 1#1), ∀ (k0_h71 : k0_cond71 i k0_t68 v218 v221 = 1#1), ∀ a, (k0_off1044 i k0_t68 v218 v221 k0_t132) a + S1x16.size a ≤ S256x128.size a) ∧
  (∀ k0_t132 : Fin (k0_t132_loop i k0_t68 v218 v221).trips, ∀ (k0_h55 : k0_cond55 k0_t68 = 1#1), ∀ (k0_h71 : k0_cond71 i k0_t68 v218 v221 = 1#1), ∀ a, (k0_off1045 i k0_t68 v218 v221 k0_t132) a + S1x16.size a ≤ S256x128.size a) ∧
  (∀ k0_t132 : Fin (k0_t132_loop i k0_t68 v218 v221).trips, ∀ (k0_h55 : k0_cond55 k0_t68 = 1#1), ∀ (k0_h71 : k0_cond71 i k0_t68 v218 v221 = 1#1), ∀ a, (k0_off1046 i k0_t68 v218 v221 k0_t132) a + S1x16.size a ≤ S256x128.size a) ∧
  (∀ k0_t132 : Fin (k0_t132_loop i k0_t68 v218 v221).trips, ∀ (k0_h55 : k0_cond55 k0_t68 = 1#1), ∀ (k0_h71 : k0_cond71 i k0_t68 v218 v221 = 1#1), ∀ a, (k0_off1047 i k0_t68 v218 v221 k0_t132) a + S1x16.size a ≤ S256x128.size a) ∧
  (∀ k0_t132 : Fin (k0_t132_loop i k0_t68 v218 v221).trips, ∀ (k0_h55 : k0_cond55 k0_t68 = 1#1), ∀ (k0_h71 : k0_cond71 i k0_t68 v218 v221 = 1#1), ∀ a, (k0_off1048 i k0_t68 v218 v221 k0_t132) a + S1x16.size a ≤ S256x128.size a) ∧
  (∀ k0_t132 : Fin (k0_t132_loop i k0_t68 v218 v221).trips, ∀ (k0_h55 : k0_cond55 k0_t68 = 1#1), ∀ (k0_h71 : k0_cond71 i k0_t68 v218 v221 = 1#1), ∀ a, (k0_off1049 i k0_t68 v218 v221 k0_t132) a + S1x16.size a ≤ S256x128.size a) ∧
  (∀ k0_t132 : Fin (k0_t132_loop i k0_t68 v218 v221).trips, ∀ (k0_h55 : k0_cond55 k0_t68 = 1#1), ∀ (k0_h71 : k0_cond71 i k0_t68 v218 v221 = 1#1), ∀ a, (k0_off1050 i k0_t68 v218 v221 k0_t132) a + S1x16.size a ≤ S256x128.size a)
theorem k0_t131_ok : ∀ (i : grid0.Coords) (k0_t68 : Fin k0_t68_loop.trips) (v218 : BitVec 32) (v221 : BitVec 32) (k0_hw64 : k0_chk64 i k0_t68 v218 v221), ∀ (k0_h55 : k0_cond55 k0_t68 = 1#1), ∀ (k0_h71 : k0_cond71 i k0_t68 v218 v221 = 1#1), (k0_t131_loop i k0_t68 v218 v221).OK := fun i k0_t68 v218 v221 k0_hw64 k0_h55 k0_h71 => k0_hw64.1 k0_h55 k0_h71
theorem k0_off1035_inb : ∀ (i : grid0.Coords) (k0_t68 : Fin k0_t68_loop.trips) (v218 : BitVec 32) (v221 : BitVec 32) (k0_hw64 : k0_chk64 i k0_t68 v218 v221) (k0_t131 : Fin (k0_t131_loop i k0_t68 v218 v221).trips), ∀ (k0_h55 : k0_cond55 k0_t68 = 1#1), ∀ (k0_h71 : k0_cond71 i k0_t68 v218 v221 = 1#1), ∀ a, (k0_off1035 i k0_t68 v218 v221 k0_t131) a + S1x16.size a ≤ S256x128.size a := fun i k0_t68 v218 v221 k0_hw64 k0_t131 k0_h55 k0_h71 => k0_hw64.2.1 k0_t131 k0_h55 k0_h71
theorem k0_off1036_inb : ∀ (i : grid0.Coords) (k0_t68 : Fin k0_t68_loop.trips) (v218 : BitVec 32) (v221 : BitVec 32) (k0_hw64 : k0_chk64 i k0_t68 v218 v221) (k0_t131 : Fin (k0_t131_loop i k0_t68 v218 v221).trips), ∀ (k0_h55 : k0_cond55 k0_t68 = 1#1), ∀ (k0_h71 : k0_cond71 i k0_t68 v218 v221 = 1#1), ∀ a, (k0_off1036 i k0_t68 v218 v221 k0_t131) a + S1x16.size a ≤ S256x128.size a := fun i k0_t68 v218 v221 k0_hw64 k0_t131 k0_h55 k0_h71 => k0_hw64.2.2.1 k0_t131 k0_h55 k0_h71
theorem k0_off1037_inb : ∀ (i : grid0.Coords) (k0_t68 : Fin k0_t68_loop.trips) (v218 : BitVec 32) (v221 : BitVec 32) (k0_hw64 : k0_chk64 i k0_t68 v218 v221) (k0_t131 : Fin (k0_t131_loop i k0_t68 v218 v221).trips), ∀ (k0_h55 : k0_cond55 k0_t68 = 1#1), ∀ (k0_h71 : k0_cond71 i k0_t68 v218 v221 = 1#1), ∀ a, (k0_off1037 i k0_t68 v218 v221 k0_t131) a + S1x16.size a ≤ S256x128.size a := fun i k0_t68 v218 v221 k0_hw64 k0_t131 k0_h55 k0_h71 => k0_hw64.2.2.2.1 k0_t131 k0_h55 k0_h71
theorem k0_off1038_inb : ∀ (i : grid0.Coords) (k0_t68 : Fin k0_t68_loop.trips) (v218 : BitVec 32) (v221 : BitVec 32) (k0_hw64 : k0_chk64 i k0_t68 v218 v221) (k0_t131 : Fin (k0_t131_loop i k0_t68 v218 v221).trips), ∀ (k0_h55 : k0_cond55 k0_t68 = 1#1), ∀ (k0_h71 : k0_cond71 i k0_t68 v218 v221 = 1#1), ∀ a, (k0_off1038 i k0_t68 v218 v221 k0_t131) a + S1x16.size a ≤ S256x128.size a := fun i k0_t68 v218 v221 k0_hw64 k0_t131 k0_h55 k0_h71 => k0_hw64.2.2.2.2.1 k0_t131 k0_h55 k0_h71
theorem k0_off1039_inb : ∀ (i : grid0.Coords) (k0_t68 : Fin k0_t68_loop.trips) (v218 : BitVec 32) (v221 : BitVec 32) (k0_hw64 : k0_chk64 i k0_t68 v218 v221) (k0_t131 : Fin (k0_t131_loop i k0_t68 v218 v221).trips), ∀ (k0_h55 : k0_cond55 k0_t68 = 1#1), ∀ (k0_h71 : k0_cond71 i k0_t68 v218 v221 = 1#1), ∀ a, (k0_off1039 i k0_t68 v218 v221 k0_t131) a + S1x16.size a ≤ S256x128.size a := fun i k0_t68 v218 v221 k0_hw64 k0_t131 k0_h55 k0_h71 => k0_hw64.2.2.2.2.2.1 k0_t131 k0_h55 k0_h71
theorem k0_off1040_inb : ∀ (i : grid0.Coords) (k0_t68 : Fin k0_t68_loop.trips) (v218 : BitVec 32) (v221 : BitVec 32) (k0_hw64 : k0_chk64 i k0_t68 v218 v221) (k0_t131 : Fin (k0_t131_loop i k0_t68 v218 v221).trips), ∀ (k0_h55 : k0_cond55 k0_t68 = 1#1), ∀ (k0_h71 : k0_cond71 i k0_t68 v218 v221 = 1#1), ∀ a, (k0_off1040 i k0_t68 v218 v221 k0_t131) a + S1x16.size a ≤ S256x128.size a := fun i k0_t68 v218 v221 k0_hw64 k0_t131 k0_h55 k0_h71 => k0_hw64.2.2.2.2.2.2.1 k0_t131 k0_h55 k0_h71
theorem k0_off1041_inb : ∀ (i : grid0.Coords) (k0_t68 : Fin k0_t68_loop.trips) (v218 : BitVec 32) (v221 : BitVec 32) (k0_hw64 : k0_chk64 i k0_t68 v218 v221) (k0_t131 : Fin (k0_t131_loop i k0_t68 v218 v221).trips), ∀ (k0_h55 : k0_cond55 k0_t68 = 1#1), ∀ (k0_h71 : k0_cond71 i k0_t68 v218 v221 = 1#1), ∀ a, (k0_off1041 i k0_t68 v218 v221 k0_t131) a + S1x16.size a ≤ S256x128.size a := fun i k0_t68 v218 v221 k0_hw64 k0_t131 k0_h55 k0_h71 => k0_hw64.2.2.2.2.2.2.2.1 k0_t131 k0_h55 k0_h71
theorem k0_off1042_inb : ∀ (i : grid0.Coords) (k0_t68 : Fin k0_t68_loop.trips) (v218 : BitVec 32) (v221 : BitVec 32) (k0_hw64 : k0_chk64 i k0_t68 v218 v221) (k0_t131 : Fin (k0_t131_loop i k0_t68 v218 v221).trips), ∀ (k0_h55 : k0_cond55 k0_t68 = 1#1), ∀ (k0_h71 : k0_cond71 i k0_t68 v218 v221 = 1#1), ∀ a, (k0_off1042 i k0_t68 v218 v221 k0_t131) a + S1x16.size a ≤ S256x128.size a := fun i k0_t68 v218 v221 k0_hw64 k0_t131 k0_h55 k0_h71 => k0_hw64.2.2.2.2.2.2.2.2.1 k0_t131 k0_h55 k0_h71
theorem k0_t132_ok : ∀ (i : grid0.Coords) (k0_t68 : Fin k0_t68_loop.trips) (v218 : BitVec 32) (v221 : BitVec 32) (k0_hw64 : k0_chk64 i k0_t68 v218 v221), ∀ (k0_h55 : k0_cond55 k0_t68 = 1#1), ∀ (k0_h71 : k0_cond71 i k0_t68 v218 v221 = 1#1), (k0_t132_loop i k0_t68 v218 v221).OK := fun i k0_t68 v218 v221 k0_hw64 k0_h55 k0_h71 => k0_hw64.2.2.2.2.2.2.2.2.2.1 k0_h55 k0_h71
theorem k0_off1043_inb : ∀ (i : grid0.Coords) (k0_t68 : Fin k0_t68_loop.trips) (v218 : BitVec 32) (v221 : BitVec 32) (k0_hw64 : k0_chk64 i k0_t68 v218 v221) (k0_t132 : Fin (k0_t132_loop i k0_t68 v218 v221).trips), ∀ (k0_h55 : k0_cond55 k0_t68 = 1#1), ∀ (k0_h71 : k0_cond71 i k0_t68 v218 v221 = 1#1), ∀ a, (k0_off1043 i k0_t68 v218 v221 k0_t132) a + S1x16.size a ≤ S256x128.size a := fun i k0_t68 v218 v221 k0_hw64 k0_t132 k0_h55 k0_h71 => k0_hw64.2.2.2.2.2.2.2.2.2.2.1 k0_t132 k0_h55 k0_h71
theorem k0_off1044_inb : ∀ (i : grid0.Coords) (k0_t68 : Fin k0_t68_loop.trips) (v218 : BitVec 32) (v221 : BitVec 32) (k0_hw64 : k0_chk64 i k0_t68 v218 v221) (k0_t132 : Fin (k0_t132_loop i k0_t68 v218 v221).trips), ∀ (k0_h55 : k0_cond55 k0_t68 = 1#1), ∀ (k0_h71 : k0_cond71 i k0_t68 v218 v221 = 1#1), ∀ a, (k0_off1044 i k0_t68 v218 v221 k0_t132) a + S1x16.size a ≤ S256x128.size a := fun i k0_t68 v218 v221 k0_hw64 k0_t132 k0_h55 k0_h71 => k0_hw64.2.2.2.2.2.2.2.2.2.2.2.1 k0_t132 k0_h55 k0_h71
theorem k0_off1045_inb : ∀ (i : grid0.Coords) (k0_t68 : Fin k0_t68_loop.trips) (v218 : BitVec 32) (v221 : BitVec 32) (k0_hw64 : k0_chk64 i k0_t68 v218 v221) (k0_t132 : Fin (k0_t132_loop i k0_t68 v218 v221).trips), ∀ (k0_h55 : k0_cond55 k0_t68 = 1#1), ∀ (k0_h71 : k0_cond71 i k0_t68 v218 v221 = 1#1), ∀ a, (k0_off1045 i k0_t68 v218 v221 k0_t132) a + S1x16.size a ≤ S256x128.size a := fun i k0_t68 v218 v221 k0_hw64 k0_t132 k0_h55 k0_h71 => k0_hw64.2.2.2.2.2.2.2.2.2.2.2.2.1 k0_t132 k0_h55 k0_h71
theorem k0_off1046_inb : ∀ (i : grid0.Coords) (k0_t68 : Fin k0_t68_loop.trips) (v218 : BitVec 32) (v221 : BitVec 32) (k0_hw64 : k0_chk64 i k0_t68 v218 v221) (k0_t132 : Fin (k0_t132_loop i k0_t68 v218 v221).trips), ∀ (k0_h55 : k0_cond55 k0_t68 = 1#1), ∀ (k0_h71 : k0_cond71 i k0_t68 v218 v221 = 1#1), ∀ a, (k0_off1046 i k0_t68 v218 v221 k0_t132) a + S1x16.size a ≤ S256x128.size a := fun i k0_t68 v218 v221 k0_hw64 k0_t132 k0_h55 k0_h71 => k0_hw64.2.2.2.2.2.2.2.2.2.2.2.2.2.1 k0_t132 k0_h55 k0_h71
theorem k0_off1047_inb : ∀ (i : grid0.Coords) (k0_t68 : Fin k0_t68_loop.trips) (v218 : BitVec 32) (v221 : BitVec 32) (k0_hw64 : k0_chk64 i k0_t68 v218 v221) (k0_t132 : Fin (k0_t132_loop i k0_t68 v218 v221).trips), ∀ (k0_h55 : k0_cond55 k0_t68 = 1#1), ∀ (k0_h71 : k0_cond71 i k0_t68 v218 v221 = 1#1), ∀ a, (k0_off1047 i k0_t68 v218 v221 k0_t132) a + S1x16.size a ≤ S256x128.size a := fun i k0_t68 v218 v221 k0_hw64 k0_t132 k0_h55 k0_h71 => k0_hw64.2.2.2.2.2.2.2.2.2.2.2.2.2.2.1 k0_t132 k0_h55 k0_h71
theorem k0_off1048_inb : ∀ (i : grid0.Coords) (k0_t68 : Fin k0_t68_loop.trips) (v218 : BitVec 32) (v221 : BitVec 32) (k0_hw64 : k0_chk64 i k0_t68 v218 v221) (k0_t132 : Fin (k0_t132_loop i k0_t68 v218 v221).trips), ∀ (k0_h55 : k0_cond55 k0_t68 = 1#1), ∀ (k0_h71 : k0_cond71 i k0_t68 v218 v221 = 1#1), ∀ a, (k0_off1048 i k0_t68 v218 v221 k0_t132) a + S1x16.size a ≤ S256x128.size a := fun i k0_t68 v218 v221 k0_hw64 k0_t132 k0_h55 k0_h71 => k0_hw64.2.2.2.2.2.2.2.2.2.2.2.2.2.2.2.1 k0_t132 k0_h55 k0_h71
theorem k0_off1049_inb : ∀ (i : grid0.Coords) (k0_t68 : Fin k0_t68_loop.trips) (v218 : BitVec 32) (v221 : BitVec 32) (k0_hw64 : k0_chk64 i k0_t68 v218 v221) (k0_t132 : Fin (k0_t132_loop i k0_t68 v218 v221).trips), ∀ (k0_h55 : k0_cond55 k0_t68 = 1#1), ∀ (k0_h71 : k0_cond71 i k0_t68 v218 v221 = 1#1), ∀ a, (k0_off1049 i k0_t68 v218 v221 k0_t132) a + S1x16.size a ≤ S256x128.size a := fun i k0_t68 v218 v221 k0_hw64 k0_t132 k0_h55 k0_h71 => k0_hw64.2.2.2.2.2.2.2.2.2.2.2.2.2.2.2.2.1 k0_t132 k0_h55 k0_h71
theorem k0_off1050_inb : ∀ (i : grid0.Coords) (k0_t68 : Fin k0_t68_loop.trips) (v218 : BitVec 32) (v221 : BitVec 32) (k0_hw64 : k0_chk64 i k0_t68 v218 v221) (k0_t132 : Fin (k0_t132_loop i k0_t68 v218 v221).trips), ∀ (k0_h55 : k0_cond55 k0_t68 = 1#1), ∀ (k0_h71 : k0_cond71 i k0_t68 v218 v221 = 1#1), ∀ a, (k0_off1050 i k0_t68 v218 v221 k0_t132) a + S1x16.size a ≤ S256x128.size a := fun i k0_t68 v218 v221 k0_hw64 k0_t132 k0_h55 k0_h71 => k0_hw64.2.2.2.2.2.2.2.2.2.2.2.2.2.2.2.2.2 k0_t132 k0_h55 k0_h71

def k0_cond72 (k0_t68 : Fin k0_t68_loop.trips) : BitVec 1 :=
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c2_i32_81 : BitVec 32 := 2#32
  let v226 : BitVec 32 := Scalar.addi v64 c2_i32_81
  let c4_i32_82 : BitVec 32 := 4#32
  let v227 : BitVec 1 := Scalar.cmpi .slt v226 c4_i32_82
  let v228 : BitVec 32 := Scalar.extui v227
  let c0_i32_83 : BitVec 32 := 0#32
  let v229 : BitVec 1 := Scalar.cmpi .ne v228 c0_i32_83
  v229

def k0_mult16 (i : grid0.Coords) (k0_t68 : Fin k0_t68_loop.trips) : BitVec 32 :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c2_i32_84 : BitVec 32 := 2#32
  let v230 : BitVec 32 := Scalar.addi v64 c2_i32_84
  let c256_i32_85 : BitVec 32 := 256#32
  let v231 : BitVec 32 := Scalar.muli v230 c256_i32_85
  let v232 : BitVec 32 := Scalar.addi v26 v231
  let c31744_i32_86 : BitVec 32 := 31744#32
  let v233 : BitVec 32 := Scalar.minsi v232 c31744_i32_86
  v233
def k0_off1051 (i : grid0.Coords) (k0_t68 : Fin k0_t68_loop.trips) : Fin 2 → Nat :=
  let c0_i32_15 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1000_i32 : BitVec 32 := 1000#32
  let v25 : BitVec 32 := Scalar.muli v1 c1000_i32
  let v26 : BitVec 32 := Scalar.addi c0_i32_15 v25
  let c0_i32_32 : BitVec 32 := 0#32
  let c1_i32_33 : BitVec 32 := 1#32
  let arg17 : BitVec 32 := Scf.iv c0_i32_32 c1_i32_33 k0_t68
  let c2_i32_52 : BitVec 32 := 2#32
  let v63 : BitVec 32 := Scalar.muli arg17 c2_i32_52
  let c1_i32_53 : BitVec 32 := 1#32
  let v64 : BitVec 32 := Scalar.addi v63 c1_i32_53
  let c2_i32_84 : BitVec 32 := 2#32
  let v230 : BitVec 32 := Scalar.addi v64 c2_i32_84
  let c256_i32_85 : BitVec 32 := 256#32
  let v231 : BitVec 32 := Scalar.muli v230 c256_i32_85
  let v232 : BitVec 32 := Scalar.addi v26 v231
  let c31744_i32_86 : BitVec 32 := 31744#32
  let v233 : BitVec 32 := Scalar.minsi v232 c31744_i32_86
  let v234 : BitVec 32 := v233
  let c0_i32_87 : BitVec 32 := 0#32
  ![v234.toNat, 0]
@[reducible] def k0_t133_loop : Scf.Loop 32 :=
  let c0_i32_39 : BitVec 32 := 0#32
  let c16_i32_40 : BitVec 32 := 16#32
  let v51 : BitVec 32 := Scalar.addi c0_i32_39 c16_i32_40
  let c1_i32_41 : BitVec 32 := 1#32
  ⟨c0_i32_39, v51, c1_i32_41⟩
def k0_off1052 (k0_t133 : Fin k0_t133_loop.trips) : Fin 2 → Nat :=
  let c0_i32_39 : BitVec 32 := 0#32
  let c1_i32_41 : BitVec 32 := 1#32
  let arg17 : BitVec 32 := Scf.iv c0_i32_39 c1_i32_41 k0_t133
  let v58 : Index := Scalar.indexCast arg17
  let c0_49 : Index := 0#32
  ![v58.toNat, 0]
def k0_off1053 (k0_t133 : Fin k0_t133_loop.trips) : Fin 2 → Nat :=
  let c0_i32_39 : BitVec 32 := 0#32
  let c1_i32_41 : BitVec 32 := 1#32
  let arg17 : BitVec 32 := Scf.iv c0_i32_39 c1_i32_41 k0_t133
  let v62 : Index := Scalar.indexCast arg17
  let c16_50 : Index := 16#32
  ![v62.toNat, 16]
def k0_off1054 (k0_t133 : Fin k0_t133_loop.trips) : Fin 2 → Nat :=
  let c0_i32_39 : BitVec 32 := 0#32
  let c1_i32_41 : BitVec 32 := 1#32
  let arg17 : BitVec 32 := Scf.iv c0_i32_39 c1_i32_41 k0_t133
  let v66 : Index := Scalar.indexCast arg17
  let c32 : Index := 32#32
  ![v66.toNat, 32]
def k0_off1055 (k0_t133 : Fin k0_t133_loop.trips) : Fin 2 → Nat :=
  let c0_i32_39 : BitVec 32 := 0#32
  let c1_i32_41 : BitVec 32 := 1#32
  let arg17 : BitVec 32 := Scf.iv c0_i32_39 c1_i32_41 k0_t133
  let v70 : Index := Scalar.indexCast arg17
  let c48 : Index := 48#32
  ![v70.toNat, 48]
def k0_off1056 (k0_t133 : Fin k0_t133_loop.trips) : Fin 2 → Nat :=
  let c0_i32_39 : BitVec 32 := 0#32
  let c1_i32_41 : BitVec 32 := 1#32
  let arg17 : BitVec 32 := Scf.iv c0_i32_39 c1_i32_41 k0_t133
  let v74 : Index := Scalar.indexCast arg17
  let c64 : Index := 64#32
  ![v74.toNat, 64]
def k0_off1057 (k0_t133 : Fin k0_t133_loop.trips) : Fin 2 → Nat :=
  let c0_i32_39 : BitVec 32 := 0#32
  let c1_i32_41 : BitVec 32 := 1#32
  let arg17 : BitVec 32 := Scf.iv c0_i32_39 c1_i32_41 k0_t133
  let v78 : Index := Scalar.indexCast arg17
  let c80 : Index := 80#32
  ![v78.toNat, 80]
def k0_off1058 (k0_t133 : Fin k0_t133_loop.trips) : Fin 2 → Nat :=
  let c0_i32_39 : BitVec 32 := 0#32
  let c1_i32_41 : BitVec 32 := 1#32
  let arg17 : BitVec 32 := Scf.iv c0_i32_39 c1_i32_41 k0_t133
  let v82 : Index := Scalar.indexCast arg17
  let c96 : Index := 96#32
  ![v82.toNat, 96]
def k0_off1059 (k0_t133 : Fin k0_t133_loop.trips) : Fin 2 → Nat :=
  let c0_i32_39 : BitVec 32 := 0#32
  let c1_i32_41 : BitVec 32 := 1#32
  let arg17 : BitVec 32 := Scf.iv c0_i32_39 c1_i32_41 k0_t133
  let v86 : Index := Scalar.indexCast arg17
  let c112 : Index := 112#32
  ![v86.toNat, 112]
abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1x16000 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := .none

abbrev stage2_0 : Fin 1 → Memref sig .tc .vmem S32x16x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S16x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S32x16x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S32x16x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S16x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S16x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S16x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev stage2_11 : Fin 1 → Memref sig .tc .vmem S16x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))

abbrev stage2_12 : Fin 1 → Memref sig .tc .vmem S16x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))

abbrev stage2_13 : Fin 1 → Memref sig .tc .vmem S16x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))

abbrev stage2_14 : Fin 1 → Memref sig .tc .vmem S16x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S320000x128 : Shape := ⟨2, ![320000, 128]⟩
abbrev S400000x128 : Shape := ⟨2, ![400000, 128]⟩
abbrev S32000x128 : Shape := ⟨2, ![32000, 128]⟩
abbrev S1x32 : Shape := ⟨2, ![1, 32]⟩
abbrev S16x128 : Shape := ⟨2, ![16, 128]⟩
abbrev S400000 : Shape := ⟨1, ![400000]⟩
abbrev S128x128 : Shape := ⟨2, ![128, 128]⟩
abbrev S128 : Shape := ⟨1, ![128]⟩
abbrev S16 : Shape := ⟨1, ![16]⟩
abbrev S320000 : Shape := ⟨1, ![320000]⟩
abbrev S1x320000x1 : Shape := ⟨3, ![1, 320000, 1]⟩
abbrev S1x16 : Shape := ⟨2, ![1, 16]⟩
abbrev S16x1x1 : Shape := ⟨3, ![16, 1, 1]⟩
abbrev S16x320000x1 : Shape := ⟨3, ![16, 320000, 1]⟩
abbrev S1x320000x128 : Shape := ⟨3, ![1, 320000, 128]⟩
abbrev S_ : Shape := ⟨0, ![]⟩
abbrev S16x320000x128 : Shape := ⟨3, ![16, 320000, 128]⟩
abbrev S32000 : Shape := ⟨1, ![32000]⟩
abbrev S1x32000x1 : Shape := ⟨3, ![1, 32000, 1]⟩
abbrev S16x32000x1 : Shape := ⟨3, ![16, 32000, 1]⟩
abbrev S1x32000x128 : Shape := ⟨3, ![1, 32000, 128]⟩
abbrev S16x32000x128 : Shape := ⟨3, ![16, 32000, 128]⟩
abbrev S1x400000x1 : Shape := ⟨3, ![1, 400000, 1]⟩
abbrev S16x400000x1 : Shape := ⟨3, ![16, 400000, 1]⟩
abbrev S1x400000x128 : Shape := ⟨3, ![1, 400000, 128]⟩
abbrev S16x400000x128 : Shape := ⟨3, ![16, 400000, 128]⟩
abbrev S16x1 : Shape := ⟨2, ![16, 1]⟩
abbrev S1x128 : Shape := ⟨2, ![1, 128]⟩

abbrev nBuf : Space → Nat
  | .hbm => 106
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S400000x128, .f32⟩
  | .hbm, ⟨2, _⟩ => ⟨S32000x128, .f32⟩
  | .hbm, ⟨3, _⟩ => ⟨S1x32, .i32⟩
  | .hbm, ⟨4, _⟩ => ⟨S1x32, .i32⟩
  | .hbm, ⟨5, _⟩ => ⟨S16x128, .f32⟩
  | .hbm, ⟨6, _⟩ => ⟨S16x128, .f32⟩
  | .hbm, ⟨7, _⟩ => ⟨S400000, .i32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S16, .i32⟩
  | .hbm, ⟨13, _⟩ => ⟨S320000, .i32⟩
  | .hbm, ⟨14, _⟩ => ⟨S1x320000x1, .i32⟩
  | .hbm, ⟨15, _⟩ => ⟨S1x16, .i32⟩
  | .hbm, ⟨16, _⟩ => ⟨S16, .i32⟩
  | .hbm, ⟨17, _⟩ => ⟨S16x1x1, .i32⟩
  | .hbm, ⟨18, _⟩ => ⟨S1x16, .i32⟩
  | .hbm, ⟨19, _⟩ => ⟨S16, .i32⟩
  | .hbm, ⟨20, _⟩ => ⟨S16x1x1, .i32⟩
  | .hbm, ⟨21, _⟩ => ⟨S16x320000x1, .i32⟩
  | .hbm, ⟨22, _⟩ => ⟨S16x320000x1, .i32⟩
  | .hbm, ⟨23, _⟩ => ⟨S16x320000x1, .i1⟩
  | .hbm, ⟨24, _⟩ => ⟨S16x320000x1, .i32⟩
  | .hbm, ⟨25, _⟩ => ⟨S16x320000x1, .i32⟩
  | .hbm, ⟨26, _⟩ => ⟨S16x320000x1, .i1⟩
  | .hbm, ⟨27, _⟩ => ⟨S16x320000x1, .i1⟩
  | .hbm, ⟨28, _⟩ => ⟨S1x320000x128, .f32⟩
  | .hbm, ⟨29, _⟩ => ⟨S_, .f32⟩
  | .hbm, ⟨30, _⟩ => ⟨S_, .f32⟩
  | .hbm, ⟨31, _⟩ => ⟨S16x320000x128, .i1⟩
  | .hbm, ⟨32, _⟩ => ⟨S16x320000x128, .f32⟩
  | .hbm, ⟨33, _⟩ => ⟨S16x320000x128, .f32⟩
  | .hbm, ⟨34, _⟩ => ⟨S16x320000x128, .f32⟩
  | .hbm, ⟨35, _⟩ => ⟨S_, .f32⟩
  | .hbm, ⟨36, _⟩ => ⟨S16x128, .f32⟩
  | .hbm, ⟨37, _⟩ => ⟨S_, .f32⟩
  | .hbm, ⟨38, _⟩ => ⟨S16x128, .f32⟩
  | .hbm, ⟨39, _⟩ => ⟨S16x128, .f32⟩
  | .hbm, ⟨40, _⟩ => ⟨S16x128, .f32⟩
  | .hbm, ⟨41, _⟩ => ⟨S32000, .i32⟩
  | .hbm, ⟨42, _⟩ => ⟨S1x32000x1, .i32⟩
  | .hbm, ⟨43, _⟩ => ⟨S1x16, .i32⟩
  | .hbm, ⟨44, _⟩ => ⟨S16, .i32⟩
  | .hbm, ⟨45, _⟩ => ⟨S16x1x1, .i32⟩
  | .hbm, ⟨46, _⟩ => ⟨S1x16, .i32⟩
  | .hbm, ⟨47, _⟩ => ⟨S16, .i32⟩
  | .hbm, ⟨48, _⟩ => ⟨S16x1x1, .i32⟩
  | .hbm, ⟨49, _⟩ => ⟨S16x32000x1, .i32⟩
  | .hbm, ⟨50, _⟩ => ⟨S16x32000x1, .i32⟩
  | .hbm, ⟨51, _⟩ => ⟨S16x32000x1, .i1⟩
  | .hbm, ⟨52, _⟩ => ⟨S16x32000x1, .i32⟩
  | .hbm, ⟨53, _⟩ => ⟨S16x32000x1, .i32⟩
  | .hbm, ⟨54, _⟩ => ⟨S16x32000x1, .i1⟩
  | .hbm, ⟨55, _⟩ => ⟨S16x32000x1, .i1⟩
  | .hbm, ⟨56, _⟩ => ⟨S1x32000x128, .f32⟩
  | .hbm, ⟨57, _⟩ => ⟨S_, .f32⟩
  | .hbm, ⟨58, _⟩ => ⟨S_, .f32⟩
  | .hbm, ⟨59, _⟩ => ⟨S16x32000x128, .i1⟩
  | .hbm, ⟨60, _⟩ => ⟨S16x32000x128, .f32⟩
  | .hbm, ⟨61, _⟩ => ⟨S16x32000x128, .f32⟩
  | .hbm, ⟨62, _⟩ => ⟨S16x32000x128, .f32⟩
  | .hbm, ⟨63, _⟩ => ⟨S_, .f32⟩
  | .hbm, ⟨64, _⟩ => ⟨S16x128, .f32⟩
  | .hbm, ⟨65, _⟩ => ⟨S_, .f32⟩
  | .hbm, ⟨66, _⟩ => ⟨S16x128, .f32⟩
  | .hbm, ⟨67, _⟩ => ⟨S16x128, .f32⟩
  | .hbm, ⟨68, _⟩ => ⟨S16x128, .f32⟩
  | .hbm, ⟨69, _⟩ => ⟨S16x1x1, .i32⟩
  | .hbm, ⟨70, _⟩ => ⟨S1x400000x1, .i32⟩
  | .hbm, ⟨71, _⟩ => ⟨S16x400000x1, .i32⟩
  | .hbm, ⟨72, _⟩ => ⟨S16x400000x1, .i32⟩
  | .hbm, ⟨73, _⟩ => ⟨S16x400000x1, .i1⟩
  | .hbm, ⟨74, _⟩ => ⟨S1x400000x128, .f32⟩
  | .hbm, ⟨75, _⟩ => ⟨S_, .f32⟩
  | .hbm, ⟨76, _⟩ => ⟨S_, .f32⟩
  | .hbm, ⟨77, _⟩ => ⟨S16x400000x128, .i1⟩
  | .hbm, ⟨78, _⟩ => ⟨S16x400000x128, .f32⟩
  | .hbm, ⟨79, _⟩ => ⟨S16x400000x128, .f32⟩
  | .hbm, ⟨80, _⟩ => ⟨S16x400000x128, .f32⟩
  | .hbm, ⟨81, _⟩ => ⟨S_, .f32⟩
  | .hbm, ⟨82, _⟩ => ⟨S16x128, .f32⟩
  | .hbm, ⟨83, _⟩ => ⟨S_, .f32⟩
  | .hbm, ⟨84, _⟩ => ⟨S_, .f32⟩
  | .hbm, ⟨85, _⟩ => ⟨S16x400000x1, .f32⟩
  | .hbm, ⟨86, _⟩ => ⟨S16x400000x1, .f32⟩
  | .hbm, ⟨87, _⟩ => ⟨S16x400000x1, .f32⟩
  | .hbm, ⟨88, _⟩ => ⟨S16x400000x1, .f32⟩
  | .hbm, ⟨89, _⟩ => ⟨S_, .f32⟩
  | .hbm, ⟨90, _⟩ => ⟨S16x1, .f32⟩
  | .hbm, ⟨91, _⟩ => ⟨S128x128, .f32⟩
  | .hbm, ⟨92, _⟩ => ⟨S16x128, .f32⟩
  | .hbm, ⟨93, _⟩ => ⟨S1x128, .f32⟩
  | .hbm, ⟨94, _⟩ => ⟨S16x128, .f32⟩
  | .hbm, ⟨95, _⟩ => ⟨S16x128, .f32⟩
  | .hbm, ⟨96, _⟩ => ⟨S128x128, .f32⟩
  | .hbm, ⟨97, _⟩ => ⟨S16x128, .f32⟩
  | .hbm, ⟨98, _⟩ => ⟨S1x128, .f32⟩
  | .hbm, ⟨99, _⟩ => ⟨S16x128, .f32⟩
  | .hbm, ⟨100, _⟩ => ⟨S16x128, .f32⟩
  | .hbm, ⟨101, _⟩ => ⟨S_, .f32⟩
  | .hbm, ⟨102, _⟩ => ⟨S16x1, .f32⟩
  | .hbm, ⟨103, _⟩ => ⟨S16x1, .f32⟩
  | .hbm, ⟨104, _⟩ => ⟨S16x128, .f32⟩
  | .hbm, ⟨105, _⟩ => ⟨S16x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_v17 : Ref sig .tc := ⟨.hbm, 34, rfl⟩
abbrev main_cst_0 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_2 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_v38 : Ref sig .tc := ⟨.hbm, 62, rfl⟩
abbrev main_cst_3 : Ref sig .tc := ⟨.hbm, 63, rfl⟩
abbrev main_v39 : Ref sig .tc := ⟨.hbm, 64, rfl⟩
abbrev main_cst_4 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_5 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_v49 : Ref sig .tc := ⟨.hbm, 80, rfl⟩
abbrev main_cst_6 : Ref sig .tc := ⟨.hbm, 81, rfl⟩
abbrev main_v50 : Ref sig .tc := ⟨.hbm, 82, rfl⟩
abbrev main_cst_7 : Ref sig .tc := ⟨.hbm, 83, rfl⟩
abbrev main_cst_8 : Ref sig .tc := ⟨.hbm, 84, rfl⟩
abbrev main_call3_v0 : Ref sig .tc := ⟨.hbm, 85, rfl⟩
abbrev main_call3_v1 : Ref sig .tc := ⟨.hbm, 86, rfl⟩
abbrev main_v51 : Ref sig .tc := ⟨.hbm, 87, rfl⟩
abbrev main_v52 : Ref sig .tc := ⟨.hbm, 88, rfl⟩
abbrev main_cst_9 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_10 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩

abbrev nD : Nat := 1
abbrev τ : Topo := Topo.v7x

variable {F : FTy → Type} [FloatOps F]
-- ==== Proof.Words.lean ====
/- The words of one segment of one chunk: the loops over its rows have a meaning and every load is inside the buffer, whatever the bounds. -/
module

public import proofs.«01_k».proof.KernelIdeal.P02
public import Idealize.ShloMosaic.Lib.SparseCore.Quiescent
public import Idealize.ShloMosaic.Lib.Tactic
public import Idealize.ShloMosaic.Lib.LoopRemainder
public import Idealize.ShloMosaic.Lib.VecWindow
public import Idealize.ShloMosaic.Lib.ValueLayout

@[expose] public section

noncomputable section

namespace Cert.Proof.Pool

open Cert.KernelIdeal
open Facts₀ Facts
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.VecWindow
open Idealize.ShloMosaic.ValueIdx

variable {F : FTy → Type} [FloatOps F]
variable [Facts]

/-! ## The words of a segment -/

/-- The upper bound of the counted loop, as the program computes it. -/
def gMid (r0 r1 : BitVec 32) : BitVec 32 := Scalar.addi r0 (Scalar.muli (Scalar.divsi (Scalar.subi r1 r0) 1#32) 1#32)
/-- The loop over the rows `r0 … r1 - 1`. -/
@[reducible] def gLoop1 (r0 r1 : BitVec 32) : Scf.Loop 32 := ⟨r0, Scalar.addi r0 (Scalar.muli (Scalar.divsi (Scalar.subi r1 r0) 1#32) 1#32), 1#32⟩
/-- The remainder loop behind it, which has no trip. -/
@[reducible] def gLoop2 (r0 r1 : BitVec 32) : Scf.Loop 32 :=
  ⟨Scalar.addi r0 (Scalar.muli (Scalar.divsi (Scalar.subi r1 r0) 1#32) 1#32), Scalar.addi r0 (Scalar.subi r1 r0), 1#32⟩
/-- Where the load of lane group `g` of row `r0 + t` starts in the buffer. -/
def gOff (r0 base : BitVec 32) (t g : ℕ) : Fin 2 → ℕ := ![(Scalar.indexCast (Scalar.subi (Scf.iv r0 1#32 t) base)).toNat, g]
/-- Whether a segment has a row in the chunk, as the program tests it. -/
def gCond (r0 r1 : BitVec 32) : BitVec 1 := Scalar.cmpi .ne (Scalar.extui (Scalar.cmpi .sgt r1 r0)) 0#32

/-- The loops have a meaning and every load is inside the buffer. -/
structure SegOK (r0 r1 base : BitVec 32) : Prop where
  ok1 : (gLoop1 r0 r1).OK
  inb1 : ∀ (t : Fin (gLoop1 r0 r1).trips), ∀ g ≤ 112, ∀ a, gOff r0 base t g a + S1x16.size a ≤ S256x128.size a
  ok2 : (gLoop2 r0 r1).OK
  inb2 : ∀ (t : Fin (gLoop2 r0 r1).trips), ∀ g ≤ 112, ∀ a, gOff (gMid r0 r1) base t g a + S1x16.size a ≤ S256x128.size a

/-- What the program asks of a segment's words before it adds the segment's rows (`C`: the condition it does so under). -/
def gChk (C : Prop) (r0 r1 base : BitVec 32) : Prop :=
  (∀ (_ : C), ∀ (_ : gCond r0 r1 = 1#1), (gLoop1 r0 r1).OK) ∧
  (∀ t : Fin (gLoop1 r0 r1).trips, ∀ (_ : C), ∀ (_ : gCond r0 r1 = 1#1), ∀ a, gOff r0 base t 0 a + S1x16.size a ≤ S256x128.size a) ∧
  (∀ t : Fin (gLoop1 r0 r1).trips, ∀ (_ : C), ∀ (_ : gCond r0 r1 = 1#1), ∀ a, gOff r0 base t 16 a + S1x16.size a ≤ S256x128.size a) ∧
  (∀ t : Fin (gLoop1 r0 r1).trips, ∀ (_ : C), ∀ (_ : gCond r0 r1 = 1#1), ∀ a, gOff r0 base t 32 a + S1x16.size a ≤ S256x128.size a) ∧
  (∀ t : Fin (gLoop1 r0 r1).trips, ∀ (_ : C), ∀ (_ : gCond r0 r1 = 1#1), ∀ a, gOff r0 base t 48 a + S1x16.size a ≤ S256x128.size a) ∧
  (∀ t : Fin (gLoop1 r0 r1).trips, ∀ (_ : C), ∀ (_ : gCond r0 r1 = 1#1), ∀ a, gOff r0 base t 64 a + S1x16.size a ≤ S256x128.size a) ∧
  (∀ t : Fin (gLoop1 r0 r1).trips, ∀ (_ : C), ∀ (_ : gCond r0 r1 = 1#1), ∀ a, gOff r0 base t 80 a + S1x16.size a ≤ S256x128.size a) ∧
  (∀ t : Fin (gLoop1 r0 r1).trips, ∀ (_ : C), ∀ (_ : gCond r0 r1 = 1#1), ∀ a, gOff r0 base t 96 a + S1x16.size a ≤ S256x128.size a) ∧
  (∀ t : Fin (gLoop1 r0 r1).trips, ∀ (_ : C), ∀ (_ : gCond r0 r1 = 1#1), ∀ a, gOff r0 base t 112 a + S1x16.size a ≤ S256x128.size a) ∧
  (∀ (_ : C), ∀ (_ : gCond r0 r1 = 1#1), (gLoop2 r0 r1).OK) ∧
  (∀ t : Fin (gLoop2 r0 r1).trips, ∀ (_ : C), ∀ (_ : gCond r0 r1 = 1#1), ∀ a, gOff (gMid r0 r1) base t 0 a + S1x16.size a ≤ S256x128.size a) ∧
  (∀ t : Fin (gLoop2 r0 r1).trips, ∀ (_ : C), ∀ (_ : gCond r0 r1 = 1#1), ∀ a, gOff (gMid r0 r1) base t 16 a + S1x16.size a ≤ S256x128.size a) ∧
  (∀ t : Fin (gLoop2 r0 r1).trips, ∀ (_ : C), ∀ (_ : gCond r0 r1 = 1#1), ∀ a, gOff (gMid r0 r1) base t 32 a + S1x16.size a ≤ S256x128.size a) ∧
  (∀ t : Fin (gLoop2 r0 r1).trips, ∀ (_ : C), ∀ (_ : gCond r0 r1 = 1#1), ∀ a, gOff (gMid r0 r1) base t 48 a + S1x16.size a ≤ S256x128.size a) ∧
  (∀ t : Fin (gLoop2 r0 r1).trips, ∀ (_ : C), ∀ (_ : gCond r0 r1 = 1#1), ∀ a, gOff (gMid r0 r1) base t 64 a + S1x16.size a ≤ S256x128.size a) ∧
  (∀ t : Fin (gLoop2 r0 r1).trips, ∀ (_ : C), ∀ (_ : gCond r0 r1 = 1#1), ∀ a, gOff (gMid r0 r1) base t 80 a + S1x16.size a ≤ S256x128.size a) ∧
  (∀ t : Fin (gLoop2 r0 r1).trips, ∀ (_ : C), ∀ (_ : gCond r0 r1 = 1#1), ∀ a, gOff (gMid r0 r1) base t 96 a + S1x16.size a ≤ S256x128.size a) ∧
  (∀ t : Fin (gLoop2 r0 r1).trips, ∀ (_ : C), ∀ (_ : gCond r0 r1 = 1#1), ∀ a, gOff (gMid r0 r1) base t 112 a + S1x16.size a ≤ S256x128.size a)

theorem gChk_of {C : Prop} {r0 r1 base : BitVec 32} (h : gCond r0 r1 = 1#1 → SegOK r0 r1 base) : gChk C r0 r1 base :=
  ⟨fun _ c => (h c).ok1, fun t _ c => (h c).inb1 t 0 (by decide), fun t _ c => (h c).inb1 t 16 (by decide), fun t _ c => (h c).inb1 t 32 (by decide), fun t _ c => (h c).inb1 t 48 (by decide), fun t _ c => (h c).inb1 t 64 (by decide), fun t _ c => (h c).inb1 t 80 (by decide), fun t _ c => (h c).inb1 t 96 (by decide), fun t _ c => (h c).inb1 t 112 (by decide),
    fun _ c => (h c).ok2, fun t _ c => (h c).inb2 t 0 (by decide), fun t _ c => (h c).inb2 t 16 (by decide), fun t _ c => (h c).inb2 t 32 (by decide), fun t _ c => (h c).inb2 t 48 (by decide), fun t _ c => (h c).inb2 t 64 (by decide), fun t _ c => (h c).inb2 t 80 (by decide), fun t _ c => (h c).inb2 t 96 (by decide), fun t _ c => (h c).inb2 t 112 (by decide)⟩

/-- A chunk: the first row of it that counts, the row after its last, and the row its buffer starts at. -/
structure Geo (cs ce base : BitVec 32) : Prop where
  lo : base.toInt ≤ cs.toInt
  hi : ce.toInt ≤ base.toInt + 256
  nonneg : 0 ≤ base.toInt
  small : base.toInt ≤ 400000

theorem toInt_maxsi (a b : BitVec 32) : (Scalar.maxsi a b).toInt = max a.toInt b.toInt := by
  unfold Scalar.maxsi IntOp.maxsi
  split <;> rename_i h <;> rw [BitVec.slt_iff_toInt_lt] at h <;> omega

theorem toInt_minsi (a b : BitVec 32) : (Scalar.minsi a b).toInt = min a.toInt b.toInt := by
  unfold Scalar.minsi IntOp.minsi
  split <;> rename_i h <;> rw [BitVec.slt_iff_toInt_lt] at h <;> omega

theorem gCond_eq_one {r0 r1 : BitVec 32} : gCond r0 r1 = 1#1 ↔ r0.toInt < r1.toInt := by
  have h : ∀ b : BitVec 1, Scalar.cmpi .ne (Scalar.extui b : BitVec 32) 0#32 = 1#1 ↔ b = 1#1 := by decide
  unfold gCond
  rw [h]
  show BitVec.ofBool (r0.slt r1) = 1#1 ↔ _
  rw [← BitVec.slt_iff_toInt_lt]
  cases r0.slt r1 <;> simp

/-- The counted loop's upper bound is the segment's. -/
theorem gMid_eq (r0 r1 : BitVec 32) : gMid r0 r1 = r1 := by
  unfold gMid
  rw [Scalar.muli_divsi_one]
  show r0 + (r1 - r0) = r1
  exact add_sub_cancel r0 r1

theorem gLoop1_eq (r0 r1 : BitVec 32) : gLoop1 r0 r1 = ⟨r0, r1, 1#32⟩ := by
  show (⟨r0, gMid r0 r1, 1#32⟩ : Scf.Loop 32) = _
  rw [gMid_eq]

theorem gLoop2_eq (r0 r1 : BitVec 32) : gLoop2 r0 r1 = ⟨r1, r1, 1#32⟩ := by
  show (⟨gMid r0 r1, r0 + (r1 - r0), 1#32⟩ : Scf.Loop 32) = _
  rw [gMid_eq, show r0 + (r1 - r0) = r1 from add_sub_cancel r0 r1]

theorem trips_one (r0 r1 : BitVec 32) : Scf.trips r0 r1 1#32 = (r1.toInt - r0.toInt).toNat := by
  unfold Scf.trips
  rw [show (1#32 : BitVec 32).toInt = 1 by decide]
  congr 1
  omega

theorem gLoop1_trips (r0 r1 : BitVec 32) : (gLoop1 r0 r1).trips = (r1.toInt - r0.toInt).toNat := by
  rw [gLoop1_eq]; exact trips_one r0 r1

theorem gLoop2_trips (r0 r1 : BitVec 32) : (gLoop2 r0 r1).trips = 0 := by
  rw [gLoop2_eq]; exact Scf.trips_self r1

theorem ok_one (r0 r1 : BitVec 32) (h : r0.toInt ≤ r1.toInt) : Scf.OK r0 r1 1#32 := by
  refine ⟨by decide, ?_⟩
  rw [trips_one, show (1#32 : BitVec 32).toInt = 1 by decide]
  have := BitVec.toInt_lt (x := r1)
  omega

/-- The row of the buffer trip `t` reads. -/
theorem off_row {r0 r1 base : BitVec 32} (hb : 0 ≤ base.toInt) (hb' : base.toInt ≤ 400000) (h0 : base.toInt ≤ r0.toInt) (h1 : r1.toInt ≤ base.toInt + 256)
    (t : ℕ) (ht : t < (r1.toInt - r0.toInt).toNat) :
    (Scalar.indexCast (Scalar.subi (Scf.iv r0 1#32 t) base)).toNat = (r0.toInt - base.toInt).toNat + t
      ∧ (r0.toInt - base.toInt).toNat + t < 256 := by
  have hiv : (Scf.iv r0 1#32 t).toInt = r0.toInt + t := by
    rw [Scf.toInt_iv (ok_one r0 r1 (by omega)) (by rw [trips_one]; omega), show (1#32 : BitVec 32).toInt = 1 by decide, mul_one]
  have hs : (Scalar.subi (Scf.iv r0 1#32 t) base).toInt = r0.toInt + t - base.toInt := by
    show (Scf.iv r0 1#32 t - base).toInt = _
    rw [BitVec.toInt_sub, hiv]
    exact Int.bmod_eq_of_le (by omega) (by omega)
  refine ⟨?_, by omega⟩
  rw [show Scalar.indexCast (Scalar.subi (Scf.iv r0 1#32 t) base) = Scalar.subi (Scf.iv r0 1#32 t) base from rfl]
  have h2 := BitVec.toInt_eq_toNat_cond (Scalar.subi (Scf.iv r0 1#32 t) base)
  split at h2 <;> omega

theorem segOK {cs ce base : BitVec 32} (G : Geo cs ce base) (w w' : BitVec 32) (h : gCond (Scalar.maxsi w cs) (Scalar.minsi w' ce) = 1#1) :
    SegOK (Scalar.maxsi w cs) (Scalar.minsi w' ce) base := by
  have hc := gCond_eq_one.1 h
  have h0 : base.toInt ≤ (Scalar.maxsi w cs).toInt := by rw [toInt_maxsi]; have := G.lo; omega
  have h1 : (Scalar.minsi w' ce).toInt ≤ base.toInt + 256 := by rw [toInt_minsi]; have := G.hi; omega
  refine ⟨by rw [gLoop1_eq]; exact ok_one _ _ hc.le, fun t g hg a => ?_, by rw [gLoop2_eq]; exact ok_one _ _ le_rfl, fun t => ?_⟩
  · have ht := t.isLt.trans_eq (gLoop1_trips _ _)
    have := off_row G.nonneg G.small h0 h1 t ht
    match a with
    | 0 => show _ + 1 ≤ 256; exact (this.1 ▸ this.2 : _ < 256)
    | 1 => show g + 16 ≤ 128; omega
  · exact absurd (t.isLt.trans_eq (gLoop2_trips _ _)) (Nat.not_lt_zero _)

end Cert.Proof.Pool

end
-- ==== Proof.Seg.lean ====
/- The program text of one segment of one chunk, stated once for every segment, chunk, buffer and pool. -/
module

public import proofs.«01_k».proof.Proof.Words
public import Idealize.ShloMosaic.Lib.SparseCore.Quiescent
public import Idealize.ShloMosaic.Lib.Tactic
public import Idealize.ShloMosaic.Lib.LoopRemainder
public import Idealize.ShloMosaic.Lib.VecWindow
public import Idealize.ShloMosaic.Lib.ValueLayout

@[expose] public section

noncomputable section

namespace Cert.Proof.Pool

open Cert.KernelIdeal
open Facts₀ Facts
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.VecWindow
open Idealize.ShloMosaic.ValueIdx

variable {F : FTy → Type} [FloatOps F]
variable [Facts]

/-! ## The program -/

/-- The programs of the tile at grid coordinates `i`. -/
abbrev TileProg (F : FTy → Type) [FloatOps F] (i : grid0.Coords) (α : Type) : Type _ :=
  Prog (TpuEff nD τ sig (Elt F) Λ₀ (.scVector ((i 0).castLE hcore0) ((i 1).castLE hsub0))) α

variable {i : grid0.Coords}

/-- The loop's middle bound and step, as words. -/
def gP1 (r0 r1 : BitVec 32) : TileProg F i (Σ' (_ : BitVec 32), BitVec 32) := do
  pure ⟨Scalar.addi r0 (Scalar.muli (Scalar.divsi (Scalar.subi r1 r0) 1#32) 1#32), 1#32⟩

/-- The sums of the segment's rows, in eight lane groups. -/
def gP2 (buf : Memref sig .scVector .vmem S256x128 .f32) (v2 : FVec F S16 .f32) (r0 r1 base : BitVec 32) (h : SegOK r0 r1 base) : TileProg F i (Σ' (_ : FVec F S16 .f32) (_ : FVec F S16 .f32) (_ : FVec F S16 .f32) (_ : FVec F S16 .f32) (_ : FVec F S16 .f32) (_ : FVec F S16 .f32) (_ : FVec F S16 .f32), FVec F S16 .f32) := do
  let (a0, a1, a2, a3, a4, a5, a6, a7) ← Scf.Loop.for (gLoop1 r0 r1) h.ok1 (v2, v2, v2, v2, v2, v2, v2, v2) fun t (b0, b1, b2, b3, b4, b5, b6, b7) => do
    let x0 : Vec F S1x16 .f32 ← Prog.lift (.load buf (Rect.unit (s := S256x128) (gOff r0 base t 0) S1x16.size (h.inb1 t 0 (by decide))).toLoadRect (View.loadsAt_vmem h_S1x16))
    have y0 : FVec F S16 .f32 := addf b0 (shapeCast S16 x0 shapeCasts_S1x16_S16)
    let x1 : Vec F S1x16 .f32 ← Prog.lift (.load buf (Rect.unit (s := S256x128) (gOff r0 base t 16) S1x16.size (h.inb1 t 16 (by decide))).toLoadRect (View.loadsAt_vmem h_S1x16))
    have y1 : FVec F S16 .f32 := addf b1 (shapeCast S16 x1 shapeCasts_S1x16_S16)
    let x2 : Vec F S1x16 .f32 ← Prog.lift (.load buf (Rect.unit (s := S256x128) (gOff r0 base t 32) S1x16.size (h.inb1 t 32 (by decide))).toLoadRect (View.loadsAt_vmem h_S1x16))
    have y2 : FVec F S16 .f32 := addf b2 (shapeCast S16 x2 shapeCasts_S1x16_S16)
    let x3 : Vec F S1x16 .f32 ← Prog.lift (.load buf (Rect.unit (s := S256x128) (gOff r0 base t 48) S1x16.size (h.inb1 t 48 (by decide))).toLoadRect (View.loadsAt_vmem h_S1x16))
    have y3 : FVec F S16 .f32 := addf b3 (shapeCast S16 x3 shapeCasts_S1x16_S16)
    let x4 : Vec F S1x16 .f32 ← Prog.lift (.load buf (Rect.unit (s := S256x128) (gOff r0 base t 64) S1x16.size (h.inb1 t 64 (by decide))).toLoadRect (View.loadsAt_vmem h_S1x16))
    have y4 : FVec F S16 .f32 := addf b4 (shapeCast S16 x4 shapeCasts_S1x16_S16)
    let x5 : Vec F S1x16 .f32 ← Prog.lift (.load buf (Rect.unit (s := S256x128) (gOff r0 base t 80) S1x16.size (h.inb1 t 80 (by decide))).toLoadRect (View.loadsAt_vmem h_S1x16))
    have y5 : FVec F S16 .f32 := addf b5 (shapeCast S16 x5 shapeCasts_S1x16_S16)
    let x6 : Vec F S1x16 .f32 ← Prog.lift (.load buf (Rect.unit (s := S256x128) (gOff r0 base t 96) S1x16.size (h.inb1 t 96 (by decide))).toLoadRect (View.loadsAt_vmem h_S1x16))
    have y6 : FVec F S16 .f32 := addf b6 (shapeCast S16 x6 shapeCasts_S1x16_S16)
    let x7 : Vec F S1x16 .f32 ← Prog.lift (.load buf (Rect.unit (s := S256x128) (gOff r0 base t 112) S1x16.size (h.inb1 t 112 (by decide))).toLoadRect (View.loadsAt_vmem h_S1x16))
    have y7 : FVec F S16 .f32 := addf b7 (shapeCast S16 x7 shapeCasts_S1x16_S16)
    pure (y0, y1, y2, y3, y4, y5, y6, y7)
  pure ⟨a0, a1, a2, a3, a4, a5, a6, a7⟩

/-- The remainder loop's step, as a word. -/
def gP3 : TileProg F i (BitVec 32) := do
  pure 1#32

/-- The remainder loop. -/
def gP4 (buf : Memref sig .scVector .vmem S256x128 .f32) (r0 r1 base : BitVec 32) (h : SegOK r0 r1 base) (c0 c1 c2 c3 c4 c5 c6 c7 : FVec F S16 .f32) : TileProg F i (Σ' (_ : FVec F S16 .f32) (_ : FVec F S16 .f32) (_ : FVec F S16 .f32) (_ : FVec F S16 .f32) (_ : FVec F S16 .f32) (_ : FVec F S16 .f32) (_ : FVec F S16 .f32), FVec F S16 .f32) := do
  let (a0, a1, a2, a3, a4, a5, a6, a7) ← Scf.Loop.for (gLoop2 r0 r1) h.ok2 (c0, c1, c2, c3, c4, c5, c6, c7) fun t (b0, b1, b2, b3, b4, b5, b6, b7) => do
    let x0 : Vec F S1x16 .f32 ← Prog.lift (.load buf (Rect.unit (s := S256x128) (gOff (gMid r0 r1) base t 0) S1x16.size (h.inb2 t 0 (by decide))).toLoadRect (View.loadsAt_vmem h_S1x16))
    have y0 : FVec F S16 .f32 := addf b0 (shapeCast S16 x0 shapeCasts_S1x16_S16)
    let x1 : Vec F S1x16 .f32 ← Prog.lift (.load buf (Rect.unit (s := S256x128) (gOff (gMid r0 r1) base t 16) S1x16.size (h.inb2 t 16 (by decide))).toLoadRect (View.loadsAt_vmem h_S1x16))
    have y1 : FVec F S16 .f32 := addf b1 (shapeCast S16 x1 shapeCasts_S1x16_S16)
    let x2 : Vec F S1x16 .f32 ← Prog.lift (.load buf (Rect.unit (s := S256x128) (gOff (gMid r0 r1) base t 32) S1x16.size (h.inb2 t 32 (by decide))).toLoadRect (View.loadsAt_vmem h_S1x16))
    have y2 : FVec F S16 .f32 := addf b2 (shapeCast S16 x2 shapeCasts_S1x16_S16)
    let x3 : Vec F S1x16 .f32 ← Prog.lift (.load buf (Rect.unit (s := S256x128) (gOff (gMid r0 r1) base t 48) S1x16.size (h.inb2 t 48 (by decide))).toLoadRect (View.loadsAt_vmem h_S1x16))
    have y3 : FVec F S16 .f32 := addf b3 (shapeCast S16 x3 shapeCasts_S1x16_S16)
    let x4 : Vec F S1x16 .f32 ← Prog.lift (.load buf (Rect.unit (s := S256x128) (gOff (gMid r0 r1) base t 64) S1x16.size (h.inb2 t 64 (by decide))).toLoadRect (View.loadsAt_vmem h_S1x16))
    have y4 : FVec F S16 .f32 := addf b4 (shapeCast S16 x4 shapeCasts_S1x16_S16)
    let x5 : Vec F S1x16 .f32 ← Prog.lift (.load buf (Rect.unit (s := S256x128) (gOff (gMid r0 r1) base t 80) S1x16.size (h.inb2 t 80 (by decide))).toLoadRect (View.loadsAt_vmem h_S1x16))
    have y5 : FVec F S16 .f32 := addf b5 (shapeCast S16 x5 shapeCasts_S1x16_S16)
    let x6 : Vec F S1x16 .f32 ← Prog.lift (.load buf (Rect.unit (s := S256x128) (gOff (gMid r0 r1) base t 96) S1x16.size (h.inb2 t 96 (by decide))).toLoadRect (View.loadsAt_vmem h_S1x16))
    have y6 : FVec F S16 .f32 := addf b6 (shapeCast S16 x6 shapeCasts_S1x16_S16)
    let x7 : Vec F S1x16 .f32 ← Prog.lift (.load buf (Rect.unit (s := S256x128) (gOff (gMid r0 r1) base t 112) S1x16.size (h.inb2 t 112 (by decide))).toLoadRect (View.loadsAt_vmem h_S1x16))
    have y7 : FVec F S16 .f32 := addf b7 (shapeCast S16 x7 shapeCasts_S1x16_S16)
    pure (y0, y1, y2, y3, y4, y5, y6, y7)
  pure ⟨a0, a1, a2, a3, a4, a5, a6, a7⟩

/-- Lane groups 0 to 3 added into the accumulator's row, and group 4's sum. -/
def gP5 (acc : Memref sig .scVector .vmem S16x128 .f32) (s : ℕ) (hs : ∀ g ≤ 112, ∀ a, (![s, g] : Fin 2 → ℕ) a + S1x16.size a ≤ S16x128.size a) (a0 a1 a2 a3 a4 : FVec F S16 .f32) : TileProg F i (FVec F S16 .f32) := do
  let p0 : Vec F S1x16 .f32 ← Prog.lift (.load acc (Rect.unit (s := S16x128) ![s, 0] S1x16.size (hs 0 (by decide))).toLoadRect (View.loadsAt_vmem h_S1x16))
  have q0 : FVec F S16 .f32 := addf (shapeCast S16 p0 shapeCasts_S1x16_S16) a0
  let _ : Vec F S1x16 .f32 ← Prog.lift (.load acc (Rect.unit (s := S16x128) ![s, 0] S1x16.size (hs 0 (by decide))).toLoadRect (View.loadsAt_vmem h_S1x16))
  Prog.lift (.store acc (Rect.unit (s := S16x128) ![s, 0] S1x16.size (hs 0 (by decide))) (shapeCast S1x16 q0 shapeCasts_S16_S1x16) Finset.univ (View.stores_vmem_bits_univ h_S1x16 rfl) (.inl rfl))
  let p1 : Vec F S1x16 .f32 ← Prog.lift (.load acc (Rect.unit (s := S16x128) ![s, 16] S1x16.size (hs 16 (by decide))).toLoadRect (View.loadsAt_vmem h_S1x16))
  have q1 : FVec F S16 .f32 := addf (shapeCast S16 p1 shapeCasts_S1x16_S16) a1
  let _ : Vec F S1x16 .f32 ← Prog.lift (.load acc (Rect.unit (s := S16x128) ![s, 16] S1x16.size (hs 16 (by decide))).toLoadRect (View.loadsAt_vmem h_S1x16))
  Prog.lift (.store acc (Rect.unit (s := S16x128) ![s, 16] S1x16.size (hs 16 (by decide))) (shapeCast S1x16 q1 shapeCasts_S16_S1x16) Finset.univ (View.stores_vmem_bits_univ h_S1x16 rfl) (.inl rfl))
  let p2 : Vec F S1x16 .f32 ← Prog.lift (.load acc (Rect.unit (s := S16x128) ![s, 32] S1x16.size (hs 32 (by decide))).toLoadRect (View.loadsAt_vmem h_S1x16))
  have q2 : FVec F S16 .f32 := addf (shapeCast S16 p2 shapeCasts_S1x16_S16) a2
  let _ : Vec F S1x16 .f32 ← Prog.lift (.load acc (Rect.unit (s := S16x128) ![s, 32] S1x16.size (hs 32 (by decide))).toLoadRect (View.loadsAt_vmem h_S1x16))
  Prog.lift (.store acc (Rect.unit (s := S16x128) ![s, 32] S1x16.size (hs 32 (by decide))) (shapeCast S1x16 q2 shapeCasts_S16_S1x16) Finset.univ (View.stores_vmem_bits_univ h_S1x16 rfl) (.inl rfl))
  let p3 : Vec F S1x16 .f32 ← Prog.lift (.load acc (Rect.unit (s := S16x128) ![s, 48] S1x16.size (hs 48 (by decide))).toLoadRect (View.loadsAt_vmem h_S1x16))
  have q3 : FVec F S16 .f32 := addf (shapeCast S16 p3 shapeCasts_S1x16_S16) a3
  let _ : Vec F S1x16 .f32 ← Prog.lift (.load acc (Rect.unit (s := S16x128) ![s, 48] S1x16.size (hs 48 (by decide))).toLoadRect (View.loadsAt_vmem h_S1x16))
  Prog.lift (.store acc (Rect.unit (s := S16x128) ![s, 48] S1x16.size (hs 48 (by decide))) (shapeCast S1x16 q3 shapeCasts_S16_S1x16) Finset.univ (View.stores_vmem_bits_univ h_S1x16 rfl) (.inl rfl))
  let p4 : Vec F S1x16 .f32 ← Prog.lift (.load acc (Rect.unit (s := S16x128) ![s, 64] S1x16.size (hs 64 (by decide))).toLoadRect (View.loadsAt_vmem h_S1x16))
  have q4 : FVec F S16 .f32 := addf (shapeCast S16 p4 shapeCasts_S1x16_S16) a4
  pure q4

/-- One segment of a chunk: nothing when no row of the chunk is the segment's, else its rows' sums added into the accumulator's row. -/
def gIf (buf : Memref sig .scVector .vmem S256x128 .f32) (acc : Memref sig .scVector .vmem S16x128 .f32) (s : ℕ) (hs : ∀ g ≤ 112, ∀ a, (![s, g] : Fin 2 → ℕ) a + S1x16.size a ≤ S16x128.size a) (v2 : FVec F S16 .f32) (r0 r1 base : BitVec 32)
    (h : gCond r0 r1 = 1#1 → SegOK r0 r1 base) : TileProg F i PUnit := do
  if hc : gCond r0 r1 = 1#1 then do
    let ⟨m1, c1⟩ : Σ' (_ : BitVec 32), BitVec 32 ← gP1 r0 r1
    let ⟨b0, b1, b2, b3, b4, b5, b6, b7⟩ : Σ' (_ : FVec F S16 .f32) (_ : FVec F S16 .f32) (_ : FVec F S16 .f32) (_ : FVec F S16 .f32) (_ : FVec F S16 .f32) (_ : FVec F S16 .f32) (_ : FVec F S16 .f32), FVec F S16 .f32 ← gP2 buf v2 r0 r1 base (h hc)
    let c2 : BitVec 32 ← gP3
    let ⟨a0, a1, a2, a3, a4, a5, a6, a7⟩ : Σ' (_ : FVec F S16 .f32) (_ : FVec F S16 .f32) (_ : FVec F S16 .f32) (_ : FVec F S16 .f32) (_ : FVec F S16 .f32) (_ : FVec F S16 .f32) (_ : FVec F S16 .f32), FVec F S16 .f32 ← gP4 buf r0 r1 base (h hc) b0 b1 b2 b3 b4 b5 b6 b7
    let q4 : FVec F S16 .f32 ← gP5 acc s hs a0 a1 a2 a3 a4
    let _ : Vec F S1x16 .f32 ← Prog.lift (.load acc (Rect.unit (s := S16x128) ![s, 64] S1x16.size (hs 64 (by decide))).toLoadRect (View.loadsAt_vmem h_S1x16))
    Prog.lift (.store acc (Rect.unit (s := S16x128) ![s, 64] S1x16.size (hs 64 (by decide))) (shapeCast S1x16 q4 shapeCasts_S16_S1x16) Finset.univ (View.stores_vmem_bits_univ h_S1x16 rfl) (.inl rfl))
    let p5 : Vec F S1x16 .f32 ← Prog.lift (.load acc (Rect.unit (s := S16x128) ![s, 80] S1x16.size (hs 80 (by decide))).toLoadRect (View.loadsAt_vmem h_S1x16))
    have q5 : FVec F S16 .f32 := addf (shapeCast S16 p5 shapeCasts_S1x16_S16) a5
    let _ : Vec F S1x16 .f32 ← Prog.lift (.load acc (Rect.unit (s := S16x128) ![s, 80] S1x16.size (hs 80 (by decide))).toLoadRect (View.loadsAt_vmem h_S1x16))
    Prog.lift (.store acc (Rect.unit (s := S16x128) ![s, 80] S1x16.size (hs 80 (by decide))) (shapeCast S1x16 q5 shapeCasts_S16_S1x16) Finset.univ (View.stores_vmem_bits_univ h_S1x16 rfl) (.inl rfl))
    let p6 : Vec F S1x16 .f32 ← Prog.lift (.load acc (Rect.unit (s := S16x128) ![s, 96] S1x16.size (hs 96 (by decide))).toLoadRect (View.loadsAt_vmem h_S1x16))
    have q6 : FVec F S16 .f32 := addf (shapeCast S16 p6 shapeCasts_S1x16_S16) a6
    let _ : Vec F S1x16 .f32 ← Prog.lift (.load acc (Rect.unit (s := S16x128) ![s, 96] S1x16.size (hs 96 (by decide))).toLoadRect (View.loadsAt_vmem h_S1x16))
    Prog.lift (.store acc (Rect.unit (s := S16x128) ![s, 96] S1x16.size (hs 96 (by decide))) (shapeCast S1x16 q6 shapeCasts_S16_S1x16) Finset.univ (View.stores_vmem_bits_univ h_S1x16 rfl) (.inl rfl))
    let p7 : Vec F S1x16 .f32 ← Prog.lift (.load acc (Rect.unit (s := S16x128) ![s, 112] S1x16.size (hs 112 (by decide))).toLoadRect (View.loadsAt_vmem h_S1x16))
    have q7 : FVec F S16 .f32 := addf (shapeCast S16 p7 shapeCasts_S1x16_S16) a7
    let _ : Vec F S1x16 .f32 ← Prog.lift (.load acc (Rect.unit (s := S16x128) ![s, 112] S1x16.size (hs 112 (by decide))).toLoadRect (View.loadsAt_vmem h_S1x16))
    Prog.lift (.store acc (Rect.unit (s := S16x128) ![s, 112] S1x16.size (hs 112 (by decide))) (shapeCast S1x16 q7 shapeCasts_S16_S1x16) Finset.univ (View.stores_vmem_bits_univ h_S1x16 rfl) (.inl rfl))
    pure ⟨⟩
  else do
    pure ⟨⟩
  pure ⟨⟩

/-- The words of a segment: two bounds, cut to the chunk, once the program's demand on them is met. -/
def gW (C : BitVec 32 → BitVec 32 → Prop) (dec : ∀ a b, Decidable (C a b)) (w w' cs ce : BitVec 32) :
    TileProg F i (Σ' (v92 : BitVec 32) (_ : BitVec 32) (v95 : BitVec 32) (_ : C v92 v95), BitVec 32) := do
  have hw : C w w' := (← Prog.lift (TpuEff.assume (C w w') (dec w w'))).down
  pure ⟨w, Scalar.maxsi w cs, w', hw, Scalar.minsi w' ce⟩

end Cert.Proof.Pool

end
-- ==== Proof.Vals.lean ====
/- What one segment of one chunk leaves in the accumulator. -/
module

public import proofs.«01_k».proof.Proof.Seg
public import Idealize.ShloMosaic.Lib.SparseCore.Quiescent
public import Idealize.ShloMosaic.Lib.Tactic
public import Idealize.ShloMosaic.Lib.LoopRemainder
public import Idealize.ShloMosaic.Lib.VecWindow
public import Idealize.ShloMosaic.Lib.ValueLayout

@[expose] public section

noncomputable section

namespace Cert.Proof.Pool

open Cert.KernelIdeal
open Facts₀ Facts
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.VecWindow
open Idealize.ShloMosaic.ValueIdx

variable {F : FTy → Type} [FloatOps F]
variable [Facts]

variable {i : grid0.Coords}

/-! ## Values -/

/-- The index of row `r` (taken modulo the rows, so every number names one) and column `c`. -/
def bix (r : ℕ) (c : Fin 128) : S256x128.Idx := ix2 ⟨r % 256, Nat.mod_lt _ (by decide)⟩ c

/-- The sum of `n` rows of the buffer from row `rl` on, in column `c`, from `z` and in order. -/
def rowSum (z : F .f32) (B : Vec F S256x128 .f32) (rl : ℕ) (c : Fin 128) : ℕ → F .f32
  | 0 => z
  | n + 1 => FloatOps.addf (rowSum z B rl c n) (B (bix (rl + n) c))

/-- Lane `j` of the lane group at column `g`. -/
def lane (g : ℕ) (j : S16.Idx) : Fin 128 := ⟨(g + (j 0).val) % 128, Nat.mod_lt _ (by decide)⟩

/-- Sixteen lanes of `rowSum`. -/
def laneSum (z : F .f32) (B : Vec F S256x128 .f32) (rl g n : ℕ) : FVec F S16 .f32 := fun j => rowSum z B rl (lane g j) n

/-- The accumulator with the row sums added into the first `k` columns of row `s`. -/
def grpAdd (z : F .f32) (B : Vec F S256x128 .f32) (s rl n k : ℕ) (A : Vec F S16x128 .f32) : Vec F S16x128 .f32 :=
  fun p => if (p 0).val = s ∧ (p 1).val < k then FloatOps.addf (A p) (rowSum z B rl (p 1) n) else A p

/-- One more row into the sums of a lane group. -/
theorem laneSum_succ (z : F .f32) (B : Vec F S256x128 .f32) (rl g n row : ℕ) (hrow : row = rl + n) (hr : row < 256) (hg : g ≤ 112)
    (inb : ∀ a, (![row, g] : Fin 2 → ℕ) a + S1x16.size a ≤ S256x128.size a) :
    addf (laneSum z B rl g n) (shapeCast S16 (window B ![row, g] S1x16.size inb) shapeCasts_S1x16_S16) = laneSum z B rl g (n + 1) := by
  subst hrow
  funext j
  show FloatOps.addf (laneSum z B rl g n j) (shapeCast S16 _ _ j) = FloatOps.addf (rowSum z B rl (lane g j) n) (B (bix (rl + n) (lane g j)))
  refine congrArg (FloatOps.addf _) ?_
  rw [show j = ix1 (j 0) from funext fun a => by fin_cases a; rfl]
  refine (shapeCast_1a_a_apply _ _ _).trans ?_
  show B _ = B _
  refine congrArg B (funext fun a => ?_)
  have hj : (j 0).val < 16 := (j 0).isLt
  match a with
  | 0 => exact Fin.ext (by show rl + n + 1 * 0 = (rl + n) % 256; rw [Nat.mod_eq_of_lt hr]; omega)
  | 1 => exact Fin.ext (by show g + 1 * (j 0).val = (g + (j 0).val) % 128; rw [Nat.mod_eq_of_lt (by omega)]; omega)

/-- One lane group more into the accumulator's row. -/
theorem grpAdd_succ (z : F .f32) (B : Vec F S256x128 .f32) (s rl n g : ℕ) (hg : g ≤ 112) (A : Vec F S16x128 .f32)
    (inb : ∀ a, (![s, g] : Fin 2 → ℕ) a + S1x16.size a ≤ S16x128.size a) :
    put (grpAdd z B s rl n g A) ![s, g] S1x16.size
        (shapeCast S1x16 (addf (shapeCast S16 (window (grpAdd z B s rl n g A) ![s, g] S1x16.size inb) shapeCasts_S1x16_S16) (laneSum z B rl g n)) shapeCasts_S16_S1x16)
      = grpAdd z B s rl n (g + 16) A := by
  funext p
  unfold put
  split
  · rename_i h
    have h0 := h 0
    have h1 := h 1
    simp only [Matrix.cons_val_zero, Matrix.cons_val_one] at h0 h1
    change s ≤ (p 0).val ∧ (p 0).val < s + 1 at h0
    change g ≤ (p 1).val ∧ (p 1).val < g + 16 at h1
    have hp0 : (p 0).val = s := by omega
    set j : Fin 16 := ⟨(p 1).val - g, by omega⟩ with hj
    have hu : (Rect.unitLocal (s := S16x128) (off := ![s, g]) (size := S1x16.size) p h) = ix2 (0 : Fin 1) j := by
      funext a
      match a with
      | 0 => exact Fin.ext (by show (p 0).val - s = 0; omega)
      | 1 => exact Fin.ext (by show (p 1).val - g = (p 1).val - g; rfl)
    rw [hu]
    refine (shapeCast_a_1a_apply _ _ _ _).trans ?_
    show FloatOps.addf (shapeCast S16 _ _ (ix1 j)) (rowSum z B rl (lane g (ix1 j)) n) = _
    have hl : lane g (ix1 j) = p 1 := Fin.ext (by
      show (g + ((p 1).val - g)) % 128 = (p 1).val
      have : (p 1).val < 128 := (p 1).isLt
      rw [Nat.mod_eq_of_lt (by omega)]; omega)
    have hw : shapeCast S16 (window (grpAdd z B s rl n g A) ![s, g] S1x16.size inb) shapeCasts_S1x16_S16 (ix1 j) = A p := by
      refine (shapeCast_1a_a_apply _ _ _).trans ?_
      show grpAdd z B s rl n g A _ = A p
      have he : (Rect.unit (s := S16x128) ![s, g] S1x16.size inb).emb (ix2 (0 : Fin 1) j) = p := by
        funext a
        match a with
        | 0 => exact Fin.ext (by show s + 1 * 0 = (p 0).val; omega)
        | 1 => exact Fin.ext (by show g + 1 * ((p 1).val - g) = (p 1).val; omega)
      rw [he]
      exact if_neg (by omega)
    rw [hw, hl]
    exact (if_pos ⟨hp0, by omega⟩).symm
  · rename_i h
    have hn : ¬ ((p 0).val = s ∧ g ≤ (p 1).val ∧ (p 1).val < g + 16) := fun hc => h fun a => by
      match a with
      | 0 => show s ≤ (p 0).val ∧ (p 0).val < s + 1; omega
      | 1 => show g ≤ (p 1).val ∧ (p 1).val < g + 16; omega
    unfold grpAdd
    by_cases hc : (p 0).val = s ∧ (p 1).val < g
    · rw [if_pos hc, if_pos ⟨hc.1, by omega⟩]
    · rw [if_neg hc, if_neg (by omega)]

theorem grpAdd_zero (z : F .f32) (B : Vec F S256x128 .f32) (s rl n : ℕ) (A : Vec F S16x128 .f32) : grpAdd z B s rl n 0 A = A :=
  funext fun _ => if_neg (by omega)

/-- What a chunk's rows add to the accumulator, given the segments' bounds `w` and the chunk's `cs`, `ce`, `base`. -/
def chunkAdd (z : F .f32) (w : ℕ → ℤ) (cs ce base : ℤ) (B : Vec F S256x128 .f32) (A : Vec F S16x128 .f32) : Vec F S16x128 .f32 :=
  fun p => if max (w (p 0).val) cs < min (w ((p 0).val + 1)) ce then
      FloatOps.addf (A p) (rowSum z B (max (w (p 0).val) cs - base).toNat (p 1) (min (w ((p 0).val + 1)) ce - max (w (p 0).val) cs).toNat)
    else A p

/-- The same of the segments before `s` alone. -/
def chunkTo (z : F .f32) (w : ℕ → ℤ) (cs ce base : ℤ) (B : Vec F S256x128 .f32) (A : Vec F S16x128 .f32) (s : ℕ) : Vec F S16x128 .f32 :=
  fun p => if (p 0).val < s then chunkAdd z w cs ce base B A p else A p

theorem chunkTo_zero (z : F .f32) (w : ℕ → ℤ) (cs ce base : ℤ) (B : Vec F S256x128 .f32) (A : Vec F S16x128 .f32) : chunkTo z w cs ce base B A 0 = A :=
  funext fun _ => if_neg (by omega)

theorem chunkTo_all (z : F .f32) (w : ℕ → ℤ) (cs ce base : ℤ) (B : Vec F S256x128 .f32) (A : Vec F S16x128 .f32) :
    chunkTo z w cs ce base B A 16 = chunkAdd z w cs ce base B A := funext fun p => if_pos (p 0).isLt

theorem chunkTo_succ_pos (z : F .f32) (w : ℕ → ℤ) (cs ce base : ℤ) (B : Vec F S256x128 .f32) (A : Vec F S16x128 .f32) (s : ℕ)
    (h : max (w s) cs < min (w (s + 1)) ce) :
    grpAdd z B s (max (w s) cs - base).toNat (min (w (s + 1)) ce - max (w s) cs).toNat 128 (chunkTo z w cs ce base B A s)
      = chunkTo z w cs ce base B A (s + 1) := by
  funext p
  have hp1 : (p 1).val < 128 := (p 1).isLt
  unfold grpAdd
  by_cases hs : (p 0).val = s
  · rw [if_pos ⟨hs, hp1⟩]
    have e1 : chunkTo z w cs ce base B A s p = A p := if_neg (by omega)
    have e2 : chunkTo z w cs ce base B A (s + 1) p = chunkAdd z w cs ce base B A p := if_pos (by omega)
    rw [e1, e2]
    unfold chunkAdd
    rw [hs, if_pos h]
  · rw [if_neg (by omega)]
    unfold chunkTo
    by_cases hl : (p 0).val < s
    · rw [if_pos hl, if_pos (by omega)]
    · rw [if_neg hl, if_neg (by omega)]

theorem chunkTo_succ_neg (z : F .f32) (w : ℕ → ℤ) (cs ce base : ℤ) (B : Vec F S256x128 .f32) (A : Vec F S16x128 .f32) (s : ℕ)
    (h : ¬ max (w s) cs < min (w (s + 1)) ce) : chunkTo z w cs ce base B A (s + 1) = chunkTo z w cs ce base B A s := by
  funext p
  unfold chunkTo
  by_cases hl : (p 0).val < s
  · rw [if_pos hl, if_pos (by omega)]
  · rw [if_neg hl]
    by_cases hs : (p 0).val = s
    · rw [if_pos (by omega)]
      exact if_neg (by rw [hs]; exact h)
    · rw [if_neg (by omega)]

end Cert.Proof.Pool

end
-- ==== Proof.SegWp.lean ====
/- The run of one segment of one chunk, at every segment, chunk, buffer and pool. -/
module

public import proofs.«01_k».proof.Proof.Vals
public import proofs.«01_k».proof.KernelIdeal
public import Idealize.ShloMosaic.Lib.SparseCore.Quiescent
public import Idealize.ShloMosaic.Lib.Tactic
public import Idealize.ShloMosaic.Lib.LoopRemainder
public import Idealize.ShloMosaic.Lib.VecWindow
public import Idealize.ShloMosaic.Lib.ValueLayout

@[expose] public section

noncomputable section

namespace Cert.Proof.Pool

open Cert.KernelIdeal
open Facts₀ Facts
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.VecWindow
open Idealize.ShloMosaic.ValueIdx

variable {F : FTy → Type} [FloatOps F]
variable [Facts]

/-! ## Loads and stores of whole buffers held at their contents -/

abbrev UU : Type := URounds (GSem nD τ sig) ℕ × (URounds (GSem nD τ sig) Unit × Counters)
local notation "𝕄" => MT nD τ sig (HIx 1) (Elt F) ℕ UU ℕ

abbrev 𝒱₀ : Variants := Variants.none

/-- The tile at grid coordinates `i` of device `d`. -/
abbrev thr (d : Dev nD) (i : grid0.Coords) : Thread nD τ := V d ((i 0).castLE hcore0) ((i 1).castLE hsub0)

/-- The view's cells hold the array `X`. -/
def at' (c : Thread nD τ) {sp : Space} {s : Shape} {e : EltTy} (m : Memref sig c.2.kind sp s e) (X : Vec F s e) : sProp 𝕄 :=
  iprop(m.view.loc c ↦[m.view.set]{fullShare} m.view.rep X)

section rules

variable {c : Thread nD τ}

theorem wp_ld {cs : CoreSpace} {s : Shape} {e : EltTy} (m : Memref sig c.2.kind cs s e) (X : Vec F s e) (off size : Fin s.rank → ℕ)
    (inb : ∀ a, off a + size a ≤ s.size a) (hl : m.view.LoadsAt (Rect.unit off size inb).toLoadRect) {α : Type}
    {k : ((Rect.unit off size inb).toLoadRect.shape.Idx → Elt F e) → Prog (TpuEff nD τ sig (Elt F) Λ₀ c.2) α} {Q : α → sProp 𝕄} :
    at' c m X ⊢ iprop((at' c m X -∗ wp frame (wpE defs₀ 𝒱₀ c none) Set.univ (k (window X off size inb)) Q)
      -∗ wp frame (wpE defs₀ 𝒱₀ c none) Set.univ (Prog.lift (.load m (Rect.unit off size inb).toLoadRect hl) >>= k) Q) := by
  have h := wp_load (defs := defs₀) (Γ := .empty) 𝒱₀ c none Set.univ (m := m) (r := (Rect.unit off size inb).toLoadRect) (hl := hl) (k := k) (Q := Q)
    (S := m.view.set) (q := fullShare) (f := m.view.rep X) (View.setOn_subset_set _ _)
  rw [View.readAt_rep_unit m.view X inb rfl inb] at h
  exact h

theorem wp_st {cs : CoreSpace} {s : Shape} {e : EltTy} (m : Memref sig c.2.kind cs s e) (X : Vec F s e) (off size : Fin s.rank → ℕ)
    (inb : ∀ a, off a + size a ≤ s.size a) (w : (Rect.unit off size inb).shape.Idx → Elt F e) (hx) (hm) {α : Type}
    {k : PUnit → Prog (TpuEff nD τ sig (Elt F) Λ₀ c.2) α} {Q : α → sProp 𝕄} :
    at' c m X ⊢ iprop((at' c m (put X off size w) -∗ wp frame (wpE defs₀ 𝒱₀ c none) Set.univ (k ⟨⟩) Q)
      -∗ wp frame (wpE defs₀ 𝒱₀ c none) Set.univ (Prog.lift (.store m (Rect.unit off size inb) w Finset.univ hx hm) >>= k) Q) := by
  have h := wp_store (defs := defs₀) (Γ := .empty) 𝒱₀ c none Set.univ (m := m) (r := Rect.unit off size inb) (w := w) (Mk := Finset.univ) (hx := hx) (hm := hm) (k := k) (Q := Q)
    (S := m.view.set) (f := m.view.rep X) ((View.setOn_subset_set _ _).trans (View.set_slice_subset _ _))
  refine h.trans (wand_mono_left (wand_mono_left ?_))
  exact pointsTo_rep_of_read c m _ fullShare (put X off size w) (View.read_writes_rep_unit m.view X inb w rfl)

end rules

variable (d : Dev nD) {i : grid0.Coords}

theorem wp_gP2 (buf : Memref sig .scVector .vmem S256x128 .f32) (z : F .f32) (B : Vec F S256x128 .f32) (r0 r1 base : BitVec 32) (h : SegOK r0 r1 base)
    (hb : 0 ≤ base.toInt) (hb' : base.toInt ≤ 400000) (h0 : base.toInt ≤ r0.toInt) (h1 : r1.toInt ≤ base.toInt + 256) {Q : _ → sProp 𝕄} :
    at' (thr d i) buf B ⊢ iprop((at' (thr d i) buf B -∗ Q ⟨laneSum z B (r0.toInt - base.toInt).toNat 0 (r1.toInt - r0.toInt).toNat,
        laneSum z B (r0.toInt - base.toInt).toNat 16 (r1.toInt - r0.toInt).toNat, laneSum z B (r0.toInt - base.toInt).toNat 32 (r1.toInt - r0.toInt).toNat,
        laneSum z B (r0.toInt - base.toInt).toNat 48 (r1.toInt - r0.toInt).toNat, laneSum z B (r0.toInt - base.toInt).toNat 64 (r1.toInt - r0.toInt).toNat,
        laneSum z B (r0.toInt - base.toInt).toNat 80 (r1.toInt - r0.toInt).toNat, laneSum z B (r0.toInt - base.toInt).toNat 96 (r1.toInt - r0.toInt).toNat,
        laneSum z B (r0.toInt - base.toInt).toNat 112 (r1.toInt - r0.toInt).toNat⟩)
      -∗ wp frame (wpE defs₀ 𝒱₀ (thr d i) none) Set.univ (gP2 (i := i) buf (broadcast S16 z) r0 r1 base h) Q) := by
  set rl := (r0.toInt - base.toInt).toNat with hrl
  unfold gP2
  iintro Hb HQ
  iapply (Scf.wp_for_bind frame (wpE defs₀ 𝒱₀ (thr d i) none) Set.univ _ _ _ h.ok1 _ _
    (fun n (a : FVec F S16 .f32 × FVec F S16 .f32 × FVec F S16 .f32 × FVec F S16 .f32 × FVec F S16 .f32 × FVec F S16 .f32 × FVec F S16 .f32 × FVec F S16 .f32) =>
      iprop(⌜a = (laneSum z B rl 0 n, laneSum z B rl 16 n, laneSum z B rl 32 n, laneSum z B rl 48 n, laneSum z B rl 64 n, laneSum z B rl 80 n,
        laneSum z B rl 96 n, laneSum z B rl 112 n)⌝ ∗ at' (thr d i) buf B)) ?_) $$ [Hb]
  · intro t acc
    have ht := t.isLt.trans_eq (gLoop1_trips _ _)
    obtain ⟨e, hlt⟩ := off_row hb hb' h0 h1 t ht
    iintro ⟨%ha, Hb⟩
    subst ha
    have key : ∀ g (hg : g ≤ 112), addf (laneSum z B rl g t) (shapeCast S16 (window B (gOff r0 base t g) S1x16.size (h.inb1 t g hg)) shapeCasts_S1x16_S16) = laneSum z B rl g (t + 1) :=
      fun g hg => laneSum_succ z B rl g t _ e (by omega) hg (h.inb1 t g hg)
    iapply (wp_ld (c := thr d i) buf B _ _ _ _) $$ Hb; iintro Hb
    iapply (wp_ld (c := thr d i) buf B _ _ _ _) $$ Hb; iintro Hb
    iapply (wp_ld (c := thr d i) buf B _ _ _ _) $$ Hb; iintro Hb
    iapply (wp_ld (c := thr d i) buf B _ _ _ _) $$ Hb; iintro Hb
    iapply (wp_ld (c := thr d i) buf B _ _ _ _) $$ Hb; iintro Hb
    iapply (wp_ld (c := thr d i) buf B _ _ _ _) $$ Hb; iintro Hb
    iapply (wp_ld (c := thr d i) buf B _ _ _ _) $$ Hb; iintro Hb
    iapply (wp_ld (c := thr d i) buf B _ _ _ _) $$ Hb; iintro Hb
    simp only [wp_pure, key]
    imodintro
    isplitr
    · ipureintro
      exact Prod.ext (key 0 (by decide)) (Prod.ext (key 16 (by decide)) (Prod.ext (key 32 (by decide)) (Prod.ext (key 48 (by decide))
        (Prod.ext (key 64 (by decide)) (Prod.ext (key 80 (by decide)) (Prod.ext (key 96 (by decide)) (key 112 (by decide))))))))
    · iexact Hb
  · isplitr
    · ipureintro; rfl
    · iexact Hb
  · iintro %acc ⟨%ha, Hb⟩
    subst ha
    simp only [wp_pure]
    imodintro
    rw [show Scf.trips (gLoop1 r0 r1).lb (gLoop1 r0 r1).ub (gLoop1 r0 r1).st = (r1.toInt - r0.toInt).toNat from gLoop1_trips r0 r1]
    iapply HQ
    iexact Hb

/-- The remainder loop has no trip. -/
theorem gP4_eq (buf : Memref sig .scVector .vmem S256x128 .f32) (r0 r1 base : BitVec 32) (h : SegOK r0 r1 base) (c0 c1 c2 c3 c4 c5 c6 c7 : FVec F S16 .f32) :
    gP4 (i := i) buf r0 r1 base h c0 c1 c2 c3 c4 c5 c6 c7 = pure ⟨c0, c1, c2, c3, c4, c5, c6, c7⟩ := by
  unfold gP4 Scf.Loop.for
  rw [Scf.for_eq_ret _ _ _ _ _ _ (gLoop2_trips r0 r1)]
  rfl

/-- One lane group of a segment's sums added into the accumulator's row. -/
theorem wp_grp (acc : Memref sig .scVector .vmem S16x128 .f32) (s g : ℕ) (hg : g ≤ 112)
    (inb : ∀ a, (![s, g] : Fin 2 → ℕ) a + S1x16.size a ≤ S16x128.size a) (z : F .f32) (B : Vec F S256x128 .f32) (A : Vec F S16x128 .f32) (rl n : ℕ) (hl) (hl') (hx) (hm)
    {α : Type} {k : PUnit → TileProg F i α} {Q : α → sProp 𝕄} :
    at' (thr d i) acc (grpAdd z B s rl n g A) ⊢
      iprop((at' (thr d i) acc (grpAdd z B s rl n (g + 16) A) -∗ wp frame (wpE defs₀ 𝒱₀ (thr d i) none) Set.univ (k ⟨⟩) Q)
      -∗ wp frame (wpE defs₀ 𝒱₀ (thr d i) none) Set.univ
        (Prog.lift (.load acc (Rect.unit (s := S16x128) ![s, g] S1x16.size inb).toLoadRect hl) >>= fun p : Vec F S1x16 .f32 =>
          Prog.lift (.load acc (Rect.unit (s := S16x128) ![s, g] S1x16.size inb).toLoadRect hl') >>= fun _ : Vec F S1x16 .f32 =>
          Prog.lift (.store acc (Rect.unit (s := S16x128) ![s, g] S1x16.size inb)
            (shapeCast S1x16 (addf (shapeCast S16 p shapeCasts_S1x16_S16) (laneSum z B rl g n)) shapeCasts_S16_S1x16) Finset.univ hx hm) >>= k) Q) := by
  rw [← grpAdd_succ z B s rl n g hg A inb]
  iintro Ha HQ
  iapply (wp_ld (c := thr d i) acc _ _ _ _) $$ Ha; iintro Ha
  iapply (wp_ld (c := thr d i) acc _ _ _ _) $$ Ha; iintro Ha
  iapply (wp_st (c := thr d i) acc _ _ _ _) $$ Ha
  iexact HQ

theorem wp_gIf (buf : Memref sig .scVector .vmem S256x128 .f32) (acc : Memref sig .scVector .vmem S16x128 .f32) (s : ℕ)
    (hs : ∀ g ≤ 112, ∀ a, (![s, g] : Fin 2 → ℕ) a + S1x16.size a ≤ S16x128.size a) (z : F .f32) (bw : ℕ → BitVec 32) {cs ce base : BitVec 32} (G : Geo cs ce base)
    (B : Vec F S256x128 .f32) (A : Vec F S16x128 .f32) (h : gCond (Scalar.maxsi (bw s) cs) (Scalar.minsi (bw (s + 1)) ce) = 1#1 → SegOK (Scalar.maxsi (bw s) cs) (Scalar.minsi (bw (s + 1)) ce) base)
    {Q : PUnit → sProp 𝕄} :
    iprop(at' (thr d i) acc (chunkTo z (fun k => (bw k).toInt) cs.toInt ce.toInt base.toInt B A s) ∗ at' (thr d i) buf B) ⊢
      iprop((at' (thr d i) acc (chunkTo z (fun k => (bw k).toInt) cs.toInt ce.toInt base.toInt B A (s + 1)) ∗ at' (thr d i) buf B -∗ Q ⟨⟩)
      -∗ wp frame (wpE defs₀ 𝒱₀ (thr d i) none) Set.univ (gIf (i := i) buf acc s hs (broadcast S16 z) (Scalar.maxsi (bw s) cs) (Scalar.minsi (bw (s + 1)) ce) base h) Q) := by
  unfold gIf
  by_cases hc : gCond (Scalar.maxsi (bw s) cs) (Scalar.minsi (bw (s + 1)) ce) = 1#1
  · have hlt := gCond_eq_one.1 hc
    have h0 : base.toInt ≤ (Scalar.maxsi (bw s) cs).toInt := by rw [toInt_maxsi]; have := G.lo; omega
    have h1 : (Scalar.minsi (bw (s + 1)) ce).toInt ≤ base.toInt + 256 := by rw [toInt_minsi]; have := G.hi; omega
    have hto := chunkTo_succ_pos z (fun k => (bw k).toInt) cs.toInt ce.toInt base.toInt B A s (by rw [toInt_maxsi, toInt_minsi] at hlt; exact hlt)
    rw [← toInt_maxsi, ← toInt_minsi] at hto
    rw [← hto]
    generalize chunkTo z (fun k => (bw k).toInt) cs.toInt ce.toInt base.toInt B A s = A0
    generalize hr0 : Scalar.maxsi (bw s) cs = r0 at *
    generalize hr1 : Scalar.minsi (bw (s + 1)) ce = r1 at *
    rw [dif_pos hc]
    unfold gP1 gP3 gP5
    simp only [pure_bind, bind_assoc, gP4_eq]
    rw [wp_bind]
    iintro ⟨Ha, Hb⟩ HQ
    iapply (wp_gP2 d buf z B r0 r1 base (h hc) G.nonneg G.small h0 h1) $$ Hb
    iintro Hb
    ihave Ha := (show at' (thr d i) acc A0 ⊢ at' (thr d i) acc (grpAdd z B s (r0.toInt - base.toInt).toNat (r1.toInt - r0.toInt).toNat 0 A0) from by rw [grpAdd_zero]) $$ Ha
    iapply (wp_grp d acc s 0 (by decide) _ z B A0 _ _ _ _ _ _) $$ Ha; iintro Ha
    iapply (wp_grp d acc s 16 (by decide) _ z B A0 _ _ _ _ _ _) $$ Ha; iintro Ha
    iapply (wp_grp d acc s 32 (by decide) _ z B A0 _ _ _ _ _ _) $$ Ha; iintro Ha
    iapply (wp_grp d acc s 48 (by decide) _ z B A0 _ _ _ _ _ _) $$ Ha; iintro Ha
    iapply (wp_grp d acc s 64 (by decide) _ z B A0 _ _ _ _ _ _) $$ Ha; iintro Ha
    iapply (wp_grp d acc s 80 (by decide) _ z B A0 _ _ _ _ _ _) $$ Ha; iintro Ha
    iapply (wp_grp d acc s 96 (by decide) _ z B A0 _ _ _ _ _ _) $$ Ha; iintro Ha
    iapply (wp_grp d acc s 112 (by decide) _ z B A0 _ _ _ _ _ _) $$ Ha; iintro Ha
    simp only [wp_pure]
    imodintro
    iapply HQ
    isplitl [Ha]
    · iexact Ha
    · iexact Hb
  · rw [dif_neg hc]
    rw [chunkTo_succ_neg _ _ _ _ _ _ _ _ (fun hl => hc (gCond_eq_one.2 (by rw [toInt_maxsi, toInt_minsi]; exact hl)))]
    simp only [pure_bind, wp_pure]
    iintro H HQ
    imodintro
    iapply HQ
    iexact H

end Cert.Proof.Pool

end
-- ==== Proof.Dma.lean ====
/- Copies of the tile: a copy on its way, its start and its wait. -/
module

public import proofs.«01_k».proof.Proof.SegWp
public import Idealize.ShloMosaic.Lib.SparseCore.Quiescent
public import Idealize.ShloMosaic.Lib.Tactic
public import Idealize.ShloMosaic.Lib.LoopRemainder
public import Idealize.ShloMosaic.Lib.VecWindow
public import Idealize.ShloMosaic.Lib.ValueLayout

@[expose] public section

noncomputable section

namespace Cert.Proof.Pool

open Cert.KernelIdeal
open Facts₀ Facts
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Idealize.ShloMosaic.VecWindow
open Idealize.ShloMosaic.ValueIdx

variable {F : FTy → Type} [FloatOps F]
variable [Facts]

/-! ## Copies -/

local notation "𝕄" => MT nD τ sig (HIx 1) (Elt F) ℕ UU ℕ

abbrev EC : UEmb Counters 𝕄 := countersEmb

/-- A read share `q` of the view's cells, which hold the array `X`. -/
def tok (q : PosShare TreeShare) (c : Thread nD τ) {sp : Space} {s : Shape} {e : EltTy} (m : Memref sig c.2.kind sp s e) (X : Vec F s e) : sProp 𝕄 :=
  iprop(m.view.loc c ↦[m.view.set]{q} m.view.rep X)

/-- The view's cells, holding anything. -/
def any' (c : Thread nD τ) {sp : Space} {s : Shape} {e : EltTy} (m : Memref sig c.2.kind sp s e) : sProp 𝕄 :=
  iprop(∃ f : Buf (Elt F) (m.view.loc c), m.view.loc c ↦[m.view.set]{fullShare} f)

/-- What the tile owes, its own waits so far apart. -/
def Ow (c : Thread nD τ) (O : CellTallies nD τ sig (HIx 1)) (W : Waits sig (HIx 1)) : sProp 𝕄 :=
  iprop(∃ W', ⌜∀ p ∈ W', p ∈ W ∨ p.2 = none⌝ ∗ owes c O W')

section rules

variable {c : Thread nD τ}

theorem any_of_at {sp : Space} {s : Shape} {e : EltTy} (m : Memref sig c.2.kind sp s e) (X : Vec F s e) : at' c m X ⊢ any' (F := F) c m := by
  unfold at' any'
  iintro H
  iexists m.view.rep X
  iexact H

/-- What a copy on its way will deliver can be had together with what is held beside it. -/
theorem Flight_frame {sm : SemLoc sig} {N : ℕ} {D P : sProp 𝕄} :
    iprop(Flight EC c sm none N D ∗ P) ⊢ Flight EC c sm none N iprop(D ∗ P) := by
  unfold Flight
  iintro ⟨⟨⟨%R, HR, %hcap, %hpeek⟩, Hcred⟩, HP⟩
  isplitl [HR HP]
  · iexists iprop(R ∗ P)
    isplitl [HR HP]
    · isplitl [HR] <;> iassumption
    isplit <;> ipureintro
    · intro K
      refine BIBase.Entails.trans ?_ (hcap K)
      iintro ⟨⟨HR, HP⟩, HK⟩
      isplitl [HR]; · iexact HR
      iintro ⟨Hv, HD⟩
      iapply HK
      isplitl [Hv]; · iexact Hv
      isplitl [HD] <;> iassumption
    · intro K
      refine BIBase.Entails.trans ?_ (hpeek K)
      iintro ⟨⟨HR, HP⟩, HK⟩
      isplitl [HR]; · iexact HR
      iintro HR
      iapply HK
      isplitl [HR] <;> iassumption
  · iexact Hcred

theorem wp_enq {sp sp' : Space} {s : Shape} {e : EltTy} (src : Memref sig c.2.kind sp s e) (dst : Memref sig c.2.kind sp' s e) (sem : DmaSem sig)
    (q : PosShare TreeShare) (fs : Buf (Elt F) (src.view.loc c)) (hN0 : 0 < dst.view.dmaCredit) (h1) (h2) (h3) {α : Type}
    {k : PUnit → Prog (TpuEff nD τ sig (Elt F) Λ₀ c.2) α} {Q : α → sProp 𝕄} :
    iprop((src.view.loc c ↦[src.view.set]{q} fs) ∗ any' c dst ∗ semVal (c, .dma sem) 0) ⊢
      iprop((Flight EC c (.dma sem) none dst.view.dmaCredit iprop(at' c dst (src.view.read (Elt F) fs) ∗ (src.view.loc c ↦[src.view.set]{q} fs))
          -∗ wp frame (wpE defs₀ 𝒱₀ c none) Set.univ (k ⟨⟩) Q)
      -∗ wp frame (wpE defs₀ 𝒱₀ c none) Set.univ (Prog.lift (.enqueueDma src (.here dst) (.dma sem) h1 h2 h3) >>= k) Q) := by
  unfold any'
  iintro ⟨Hs, ⟨%fd, Hd⟩, Hv⟩ HQ
  iapply (wp_dmaLocal EC 𝒱₀ c none (defs := defs₀) (src := src) (dst := dst) (sm := .dma sem) (k := k) none dst.view.dmaCredit rfl hN0 (Finset.Subset.refl _)) $$ [Hs Hd Hv]
  · isplitl [Hs]; · iexact Hs
    isplitl [Hd]; · iexact Hd
    iexact Hv
  iintro HF
  iapply HQ
  iapply (Flight_mono EC c (sep_mono_left (pointsTo_rep_of_read c dst _ fullShare (src.view.read (Elt F) fs) (View.read_write_univ _ _)))) $$ HF

/-- The start of a copy out of a window of an array of which a read share is held. -/
theorem wp_enqS {sp sp' : Space} {s : Shape} {e : EltTy} (m : Memref sig c.2.kind sp s e) (off size : Fin s.rank → ℕ) (inb : ∀ a, off a + size a ≤ s.size a)
    (hst) (dst : Memref sig c.2.kind sp' ⟨s.rank, size⟩ e) (sem : DmaSem sig)
    (q : PosShare TreeShare) (X : Vec F s e) (hN0 : 0 < dst.view.dmaCredit) (h1) (h2) (h3) {α : Type}
    {k : PUnit → Prog (TpuEff nD τ sig (Elt F) Λ₀ c.2) α} {Q : α → sProp 𝕄} :
    iprop(tok q c m X ∗ any' c dst ∗ semVal (c, .dma sem) 0) ⊢
      iprop((Flight EC c (.dma sem) none dst.view.dmaCredit iprop(at' c dst (window X off size inb) ∗ tok q c m X)
          -∗ wp frame (wpE defs₀ 𝒱₀ c none) Set.univ (k ⟨⟩) Q)
      -∗ wp frame (wpE defs₀ 𝒱₀ c none) Set.univ (Prog.lift (.enqueueDma (m.slice (Rect.unit off size inb) hst) (.here dst) (.dma sem) h1 h2 h3) >>= k) Q) := by
  have hr : (m.slice (Rect.unit off size inb) hst).view.read (Elt F) (m.view.rep X) = window X off size inb := View.readAt_rep_unit m.view X inb rfl inb
  have hsub : (m.slice (Rect.unit off size inb) hst).view.set ⊆ m.view.set := View.set_slice_subset _ _
  unfold tok
  iintro ⟨Hs, Hd, Hv⟩ HQ
  ihave Hs := (pointsTo_split_subset hsub).1 $$ Hs
  icases Hs with ⟨Hs, Hr⟩
  iapply (wp_enq (m.slice (Rect.unit off size inb) hst) dst sem q (m.view.rep X) hN0 h1 h2 h3) $$ [Hs Hd Hv]
  · isplitl [Hs]; · iexact Hs
    isplitl [Hd]; · iexact Hd
    iexact Hv
  iintro HF
  iapply HQ
  rw [hr]
  ihave HF := Flight_frame $$ [HF Hr]
  · isplitl [HF]; · iexact HF
    iexact Hr
  iapply (Flight_mono EC c (D := _) ?_) $$ HF
  iintro ⟨⟨Hd, Hs⟩, Hr⟩
  isplitl [Hd]; · iexact Hd
  iapply (pointsTo_split_subset hsub).2
  isplitl [Hs]; · iexact Hs
  iexact Hr

theorem wp_await {sp sp' : Space} {s s' : Shape} {e e' : EltTy} {κ' : Kind} (srcw : Memref sig c.2.kind sp' s' e') (dstw : Memref sig κ' sp s e) (sem : DmaSem sig) {N : ℕ}
    (hN : dstw.view.dmaCredit = N) (h1) (h2) {D : sProp 𝕄} {O : CellTallies nD τ sig (HIx 1)} {W : Waits sig (HIx 1)} {α : Type}
    {k : PUnit → Prog (TpuEff nD τ sig (Elt F) Λ₀ c.2) α} {Q : α → sProp 𝕄} :
    iprop(Flight EC c (.dma sem) none N D ∗ Ow c O W ∗ MayWaits c none O) ⊢
      iprop((D ∗ semVal (c, .dma sem) 0 ∗ Ow c O W -∗ wp frame (wpE defs₀ 𝒱₀ c none) Set.univ (k ⟨⟩) Q)
      -∗ wp frame (wpE defs₀ 𝒱₀ c none) Set.univ (Prog.lift (.waitDma2 sem srcw dstw h1 h2) >>= k) Q) := by
  unfold Ow
  iintro ⟨HF, ⟨%W', %hW, HO⟩, Hmw⟩ HQ
  iapply (wp_waitLocalO EC 𝒱₀ c none (defs := defs₀) (srcw := srcw) (dstw := dstw) (k := k) none hN) $$ [HF HO Hmw]
  · isplitl [HF]; · iexact HF
    isplitl [HO]; · iexact HO
    iapply (MayWaits.elim _) $$ Hmw
  iintro ⟨HD, Hv, HO⟩
  iapply HQ
  isplitl [HD]; · iexact HD
  isplitl [Hv]; · iexact Hv
  iexists _
  isplitr
  · ipureintro
    show ∀ p ∈ insert (SemLoc.dma sem, none) W', p ∈ W ∨ p.2 = none
    intro p hp
    rcases Finset.mem_insert.1 hp with h | h
    · exact Or.inr (by rw [h])
    · exact hW p h
  · iexact HO

end rules

end Cert.Proof.Pool

end
-- ==== Proof.Geom.lean ====
/- The chunks of a tile: where they lie, as words and as numbers. -/
module

public import proofs.«01_k».proof.Proof.Vals
public import Idealize.ShloMosaic.Lib.SparseCore.Quiescent
public import Idealize.ShloMosaic.Lib.Tactic
public import Idealize.ShloMosaic.Lib.LoopRemainder
public import Idealize.ShloMosaic.Lib.VecWindow
public import Idealize.ShloMosaic.Lib.ValueLayout

@[expose] public section

noncomputable section

namespace Cert.Proof.Pool

open Cert.KernelIdeal
open Facts₀ Facts
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.VecWindow
open Idealize.ShloMosaic.ValueIdx

variable {F : FTy → Type} [FloatOps F]
variable [Facts]

/-! ## Words of the geometry -/

/-- The tile's number, as a word. -/
def tileW (i : grid0.Coords) : BitVec 32 := Scalar.addi (Scalar.muli (BitVec.ofNat 32 (i 0).val) 16#32) (BitVec.ofNat 32 (i 1).val)
/-- The tile's first row, of `K` rows each. -/
def loW (K : BitVec 32) (i : grid0.Coords) : BitVec 32 := Scalar.addi 0#32 (Scalar.muli (tileW i) K)
/-- The chunk's first row. -/
def csW (K : BitVec 32) (i : grid0.Coords) (ck : BitVec 32) : BitVec 32 := Scalar.addi (loW K i) (Scalar.muli ck 256#32)
/-- The row after the chunk's last. -/
def ceW (K N : BitVec 32) (i : grid0.Coords) (ck : BitVec 32) : BitVec 32 := Scalar.minsi (Scalar.addi (csW K i ck) 256#32) (Scalar.minsi (Scalar.addi (loW K i) K) N)
/-- The row its buffer starts at. -/
def baW (K M : BitVec 32) (i : grid0.Coords) (ck : BitVec 32) : BitVec 32 := Scalar.minsi (csW K i ck) M
/-- The chunk handled by a trip of the main loop: `b` is 0 in its first half and 1 in its second. -/
def ckW (t : ℕ) (b : BitVec 32) : BitVec 32 := Scalar.addi (Scalar.muli (Scf.iv 0#32 1#32 t) 2#32) b

/-- The tile's number. -/
def tl (i : grid0.Coords) : ℕ := 16 * (i 0).val + (i 1).val

theorem tl_lt (i : grid0.Coords) : tl i < 32 := by
  have h0 : (i 0).val < 2 := (i 0).isLt
  have h1 : (i 1).val < 16 := (i 1).isLt
  unfold tl; omega

theorem toInt_addi {a b : BitVec 32} (h0 : -1073741824 ≤ a.toInt + b.toInt) (h1 : a.toInt + b.toInt ≤ 1073741824) : (Scalar.addi a b).toInt = a.toInt + b.toInt := by
  show (a + b).toInt = _
  rw [BitVec.toInt_add]
  exact Int.bmod_eq_of_le (by omega) (by omega)

theorem toInt_muli {a b : BitVec 32} (h0 : -1073741824 ≤ a.toInt * b.toInt) (h1 : a.toInt * b.toInt ≤ 1073741824) : (Scalar.muli a b).toInt = a.toInt * b.toInt := by
  show (a * b).toInt = _
  rw [BitVec.toInt_mul]
  exact Int.bmod_eq_of_le (by omega) (by omega)

theorem toInt_ofNat' {n : ℕ} (h : n ≤ 1073741824) : (BitVec.ofNat 32 n).toInt = n := by
  have h2 := BitVec.toInt_eq_toNat_cond (BitVec.ofNat 32 n)
  have h3 : (BitVec.ofNat 32 n).toNat = n := by rw [BitVec.toNat_ofNat]; exact Nat.mod_eq_of_lt (by omega)
  split at h2 <;> omega

theorem tileW_toInt (i : grid0.Coords) : (tileW i).toInt = tl i := by
  have h0 : (i 0).val < 2 := (i 0).isLt
  have h1 : (i 1).val < 16 := (i 1).isLt
  have e0 : (BitVec.ofNat 32 (i 0).val).toInt = (i 0).val := toInt_ofNat' (by omega)
  have e1 : (BitVec.ofNat 32 (i 1).val).toInt = (i 1).val := toInt_ofNat' (by omega)
  have e2 : (16#32 : BitVec 32).toInt = 16 := by decide
  have e3 : (Scalar.muli (BitVec.ofNat 32 (i 0).val) 16#32).toInt = (i 0).val * 16 := by
    rw [toInt_muli] <;> rw [e0, e2] <;> omega
  unfold tileW tl
  rw [toInt_addi] <;> rw [e3, e1]
  · push_cast; omega
  · omega
  · omega

/-- The rows of a tile's chunks, in numbers. -/
def csN (K t n : ℕ) : ℕ := t * K + 256 * n
def ceN (K t n : ℕ) : ℕ := min (csN K t n + 256) (t * K + K)
def baN (K t n : ℕ) : ℕ := min (csN K t n) (32 * K - 256)

section

variable (i : grid0.Coords) {K n : ℕ} (hK : K ≤ 10000) (hK' : 256 ≤ K) (hn : n ≤ 64)

include hK

theorem loW_toInt : (loW (BitVec.ofNat 32 K) i).toInt = tl i * K := by
  have hb : tl i * K ≤ 31 * 10000 := Nat.mul_le_mul (by have := tl_lt i; omega) hK
  have hz : ((tl i * K : ℕ) : ℤ) = (tl i : ℤ) * (K : ℤ) := by push_cast; rfl
  have e1 : (Scalar.muli (tileW i) (BitVec.ofNat 32 K)).toInt = tl i * K := by
    rw [toInt_muli] <;> rw [tileW_toInt, toInt_ofNat' (by omega)] <;> omega
  unfold loW
  rw [toInt_addi] <;> rw [e1, show (0#32 : BitVec 32).toInt = 0 by decide] <;> omega

include hn

theorem csW_toInt : (csW (BitVec.ofNat 32 K) i (BitVec.ofNat 32 n)).toInt = csN K (tl i) n := by
  have hb : tl i * K ≤ 31 * 10000 := Nat.mul_le_mul (by have := tl_lt i; omega) hK
  have hz : ((tl i * K : ℕ) : ℤ) = (tl i : ℤ) * (K : ℤ) := by push_cast; rfl
  have e1 : (Scalar.muli (BitVec.ofNat 32 n) 256#32).toInt = n * 256 := by
    rw [toInt_muli] <;> rw [toInt_ofNat' (by omega), show (256#32 : BitVec 32).toInt = 256 by decide] <;> omega
  unfold csW csN
  rw [toInt_addi] <;> rw [e1, loW_toInt i hK]
  · push_cast; omega
  · omega
  · omega

theorem ceW_toInt : (ceW (BitVec.ofNat 32 K) (BitVec.ofNat 32 (32 * K)) i (BitVec.ofNat 32 n)).toInt = ceN K (tl i) n := by
  have ht := tl_lt i
  have hb : tl i * K ≤ 31 * 10000 := Nat.mul_le_mul (by omega) hK
  have hb' : tl i * K ≤ 31 * K := Nat.mul_le_mul_right K (by omega)
  have hz : ((tl i * K : ℕ) : ℤ) = (tl i : ℤ) * (K : ℤ) := by push_cast; rfl
  have e1 : (Scalar.addi (csW (BitVec.ofNat 32 K) i (BitVec.ofNat 32 n)) 256#32).toInt = csN K (tl i) n + 256 := by
    rw [toInt_addi] <;> rw [csW_toInt i hK hn, show (256#32 : BitVec 32).toInt = 256 by decide] <;> unfold csN <;> omega
  have e2 : (Scalar.addi (loW (BitVec.ofNat 32 K) i) (BitVec.ofNat 32 K)).toInt = tl i * K + K := by
    rw [toInt_addi] <;> rw [loW_toInt i hK, toInt_ofNat' (by omega)] <;> omega
  unfold ceW ceN
  rw [toInt_minsi, toInt_minsi, e1, e2, toInt_ofNat' (by omega)]
  omega

include hK'

theorem baW_toInt : (baW (BitVec.ofNat 32 K) (BitVec.ofNat 32 (32 * K - 256)) i (BitVec.ofNat 32 n)).toInt = baN K (tl i) n := by
  unfold baW baN
  rw [toInt_minsi, csW_toInt i hK hn, toInt_ofNat' (by omega)]
  omega

theorem geo : Geo (csW (BitVec.ofNat 32 K) i (BitVec.ofNat 32 n)) (ceW (BitVec.ofNat 32 K) (BitVec.ofNat 32 (32 * K)) i (BitVec.ofNat 32 n))
    (baW (BitVec.ofNat 32 K) (BitVec.ofNat 32 (32 * K - 256)) i (BitVec.ofNat 32 n)) := by
  have ht := tl_lt i
  have hb' : tl i * K ≤ 31 * K := Nat.mul_le_mul_right K (by omega)
  constructor
  · rw [baW_toInt i hK hK' hn, csW_toInt i hK hn]; unfold baN; omega
  · rw [baW_toInt i hK hK' hn, ceW_toInt i hK hn]; unfold baN ceN; omega
  · rw [baW_toInt i hK hK' hn]; omega
  · rw [baW_toInt i hK hK' hn]; unfold baN; omega

end

theorem ckW_eq (t b : ℕ) : ckW t (BitVec.ofNat 32 b) = BitVec.ofNat 32 (2 * t + b) := by
  unfold ckW Scf.iv
  show (0#32 + BitVec.ofNat 32 t * 1#32) * 2#32 + BitVec.ofNat 32 b = _
  rw [BitVec.ofNat_add, BitVec.ofNat_mul, BitVec.zero_add, BitVec.mul_one, BitVec.mul_comm]

/-- 256 rows of the array from row `o` on (taken modulo the rows, so every number names one). -/
def rowsAt {R : ℕ} [NeZero R] (X : Vec F ⟨2, ![R, 128]⟩ .f32) (o : ℕ) : Vec F S256x128 .f32 :=
  fun p => X (ix2 ⟨(o + (p 0).val) % R, Nat.mod_lt _ (Nat.pos_of_ne_zero (NeZero.ne R))⟩ (p 1))

theorem window_rows {R : ℕ} [NeZero R] (X : Vec F ⟨2, ![R, 128]⟩ .f32) (off : Fin 2 → ℕ) (o : ℕ) (he : off = ![o, 0]) (inb : ∀ a, off a + S256x128.size a ≤ (⟨2, ![R, 128]⟩ : Shape).size a) :
    window X off S256x128.size inb = rowsAt X o := by
  subst he
  funext p
  have h0 := inb 0
  change o + 256 ≤ R at h0
  have hp0 : (p 0).val < 256 := (p 0).isLt
  show X _ = X _
  refine congrArg X (funext fun a => ?_)
  match a with
  | 0 => exact Fin.ext (by show o + 1 * (p 0).val = (o + (p 0).val) % R; rw [Nat.mod_eq_of_lt (by omega)]; omega)
  | 1 => exact Fin.ext (by show 0 + 1 * (p 1).val = (p 1).val; omega)

/-- The accumulator after the first chunks of a tile's range. -/
def poolTo (z : F .f32) (w : ℕ → ℤ) {R : ℕ} [NeZero R] (K : ℕ) (X : Vec F ⟨2, ![R, 128]⟩ .f32) (t : ℕ) : ℕ → Vec F S16x128 .f32
  | 0 => fun _ => z
  | n + 1 => chunkAdd z w (csN K t n) (ceN K t n) (baN K t n) (rowsAt X (baN K t n)) (poolTo z w K X t n)

/-- The seventeen words that bound the segments, read off the two vectors the program loads them in. -/
def bwOf (v10 v12 : IVec S16 32) : ℕ → BitVec 32
  | 0 => extractAt ![0] (extractStridedSlice S1 ![0] v10 slices_S16_o0_S1) inpos_S1_p0
  | 1 => extractAt ![0] (extractStridedSlice S1 ![1] v10 slices_S16_o1_S1) inpos_S1_p0
  | 2 => extractAt ![0] (extractStridedSlice S1 ![2] v10 slices_S16_o2_S1) inpos_S1_p0
  | 3 => extractAt ![0] (extractStridedSlice S1 ![3] v10 slices_S16_o3_S1) inpos_S1_p0
  | 4 => extractAt ![0] (extractStridedSlice S1 ![4] v10 slices_S16_o4_S1) inpos_S1_p0
  | 5 => extractAt ![0] (extractStridedSlice S1 ![5] v10 slices_S16_o5_S1) inpos_S1_p0
  | 6 => extractAt ![0] (extractStridedSlice S1 ![6] v10 slices_S16_o6_S1) inpos_S1_p0
  | 7 => extractAt ![0] (extractStridedSlice S1 ![7] v10 slices_S16_o7_S1) inpos_S1_p0
  | 8 => extractAt ![0] (extractStridedSlice S1 ![8] v10 slices_S16_o8_S1) inpos_S1_p0
  | 9 => extractAt ![0] (extractStridedSlice S1 ![9] v10 slices_S16_o9_S1) inpos_S1_p0
  | 10 => extractAt ![0] (extractStridedSlice S1 ![10] v10 slices_S16_o10_S1) inpos_S1_p0
  | 11 => extractAt ![0] (extractStridedSlice S1 ![11] v10 slices_S16_o11_S1) inpos_S1_p0
  | 12 => extractAt ![0] (extractStridedSlice S1 ![12] v10 slices_S16_o12_S1) inpos_S1_p0
  | 13 => extractAt ![0] (extractStridedSlice S1 ![13] v10 slices_S16_o13_S1) inpos_S1_p0
  | 14 => extractAt ![0] (extractStridedSlice S1 ![14] v10 slices_S16_o14_S1) inpos_S1_p0
  | 15 => extractAt ![0] (extractStridedSlice S1 ![15] v10 slices_S16_o15_S1) inpos_S1_p0
  | _ => extractAt ![0] (extractStridedSlice S1 ![0] v12 slices_S16_o0_S1) inpos_S1_p0

end Cert.Proof.Pool

end
-- ==== Proof.Chain.lean ====
/- The steps of a chunk: its words, its segments, the wait before it and the copy started after it. -/
module

public import proofs.«01_k».proof.Proof.Dma
public import proofs.«01_k».proof.Proof.Geom
public import Idealize.ShloMosaic.Lib.SparseCore.Quiescent
public import Idealize.ShloMosaic.Lib.Tactic
public import Idealize.ShloMosaic.Lib.LoopRemainder
public import Idealize.ShloMosaic.Lib.VecWindow
public import Idealize.ShloMosaic.Lib.ValueLayout

@[expose] public section

noncomputable section

namespace Cert.Proof.Pool

open Cert.KernelIdeal
open Facts₀ Facts
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Idealize.ShloMosaic.VecWindow
open Idealize.ShloMosaic.ValueIdx

variable {F : FTy → Type} [FloatOps F]
variable [Facts]

local notation "𝕄" => MT nD τ sig (HIx 1) (Elt F) ℕ UU ℕ

variable (d : Dev nD) {i : grid0.Coords}

theorem hs {s : ℕ} (h : s < 16) : ∀ g ≤ 112, ∀ a, (![s, g] : Fin 2 → ℕ) a + S1x16.size a ≤ S16x128.size a := fun g hg a => by
  match a with
  | 0 => show s + 1 ≤ 16; omega
  | 1 => show g + 16 ≤ 128; omega

theorem wp_asm {R : sProp 𝕄} {c : Thread nD τ} {C : Prop} {dc : Decidable C} {α : Type} {k : PLift C → Prog (TpuEff nD τ sig (Elt F) Λ₀ c.2) α} {Q : α → sProp 𝕄} (h : C)
    (hk : R ⊢ wp frame (wpE defs₀ 𝒱₀ c none) Set.univ (k ⟨h⟩) Q) : R ⊢ wp frame (wpE defs₀ 𝒱₀ c none) Set.univ (Prog.lift (TpuEff.assume C dc) >>= k) Q :=
  hk.trans (wp_assume (defs := defs₀) (Γ := .empty) 𝒱₀ c none Set.univ (k := k) h)

/-- From `R`, the program `p` on tile `i` ends in `Q`. Kept as a structure, so that it is never unfolded on the way. -/
structure Tri (d : Dev nD) (i : grid0.Coords) {α : Type} (R : sProp 𝕄) (p : TileProg F i α) (Q : α → sProp 𝕄) : Prop where
  out : R ⊢ wp frame (wpE defs₀ 𝒱₀ (thr d i) none) Set.univ p Q

/-- The words of a segment. -/
theorem step_w {P : sProp 𝕄} (buf : Memref sig .scVector .vmem S256x128 .f32) (acc : Memref sig .scVector .vmem S16x128 .f32) (s : ℕ) (z : F .f32) (bw : ℕ → BitVec 32) {cs ce base : BitVec 32}
    {B : Vec F S256x128 .f32} {A : Vec F S16x128 .f32} {C : BitVec 32 → BitVec 32 → Prop} {dec : ∀ a b, Decidable (C a b)} {α : Type}
    {p : TileProg F i (Σ' (v92 : BitVec 32) (_ : BitVec 32) (v95 : BitVec 32) (_ : C v92 v95), BitVec 32)} {k : _ → TileProg F i α} {Q : α → sProp 𝕄}
    (hC : C (bw s) (bw (s + 1))) (hp : p = gW C dec (bw s) (bw (s + 1)) cs ce)
    (hk : Tri d i iprop(P ∗ at' (thr d i) acc (chunkTo z (fun k => (bw k).toInt) cs.toInt ce.toInt base.toInt B A s) ∗ at' (thr d i) buf B) (k ⟨bw s, Scalar.maxsi (bw s) cs, bw (s + 1), hC, Scalar.minsi (bw (s + 1)) ce⟩) Q) :
    Tri d i iprop(P ∗ at' (thr d i) acc (chunkTo z (fun k => (bw k).toInt) cs.toInt ce.toInt base.toInt B A s) ∗ at' (thr d i) buf B) (p >>= k) Q := by
  have hk := hk.out
  refine ⟨?_⟩
  subst hp
  unfold gW
  simp only [bind_assoc, pure_bind]
  exact wp_asm (c := thr d i) (k := fun x => k ⟨bw s, Scalar.maxsi (bw s) cs, bw (s + 1), x.down, Scalar.minsi (bw (s + 1)) ce⟩) hC hk

/-- A segment. -/
theorem step_if {P : sProp 𝕄} (buf : Memref sig .scVector .vmem S256x128 .f32) (acc : Memref sig .scVector .vmem S16x128 .f32) (s : ℕ) (hs : s < 16) (z : F .f32) (bw : ℕ → BitVec 32) {cs ce base : BitVec 32}
    (G : Geo cs ce base) {B : Vec F S256x128 .f32} {A : Vec F S16x128 .f32} {α : Type} {p : TileProg F i PUnit} {k : PUnit → TileProg F i α} {Q : α → sProp 𝕄}
    (hp : p = gIf buf acc s (Pool.hs hs) (broadcast S16 z) (Scalar.maxsi (bw s) cs) (Scalar.minsi (bw (s + 1)) ce) base (segOK G _ _))
    (hk : Tri d i iprop(P ∗ at' (thr d i) acc (chunkTo z (fun k => (bw k).toInt) cs.toInt ce.toInt base.toInt B A (s + 1)) ∗ at' (thr d i) buf B) (k ⟨⟩) Q) :
    Tri d i iprop(P ∗ at' (thr d i) acc (chunkTo z (fun k => (bw k).toInt) cs.toInt ce.toInt base.toInt B A s) ∗ at' (thr d i) buf B) (p >>= k) Q := by
  have hk := hk.out
  refine ⟨?_⟩
  subst hp
  rw [wp_bind]
  iintro ⟨HP, H⟩
  iapply (wp_gIf d buf acc s (Pool.hs hs) z bw G B A (segOK G _ _)) $$ H
  iintro H
  iapply hk
  isplitl [HP]; · iexact HP
  iexact H

/-- A loop whose carried word says nothing: what holds before each trip, said once. -/
theorem wp_forB {lb ub st : BitVec 32} (hok : Scf.OK lb ub st) (init : BitVec 32) (body : Fin (Scf.trips lb ub st) → BitVec 32 → TileProg F i (BitVec 32)) (I : ℕ → sProp 𝕄)
    (hbody : ∀ (t : Fin (Scf.trips lb ub st)) (acc : BitVec 32), Tri d i (I t.val) (body t acc) (fun _ => I (t.val + 1)))
    {β : Type} {kk : BitVec 32 → TileProg F i β} {Q : β → sProp 𝕄} :
    I 0 ⊢ iprop((∀ acc, I (Scf.trips lb ub st) -∗ wp frame (wpE defs₀ 𝒱₀ (thr d i) none) Set.univ (kk acc) Q)
      -∗ wp frame (wpE defs₀ 𝒱₀ (thr d i) none) Set.univ (Scf.for lb ub st hok init body >>= kk) Q) :=
  Scf.wp_for_bind frame (wpE defs₀ 𝒱₀ (thr d i) none) Set.univ lb ub st hok init body (fun n _ => I n) (fun t acc => (hbody t acc).out)

theorem wp_chg {A B : sProp 𝕄} {α : Type} {p : TileProg F i α} {Q : α → sProp 𝕄} (hab : A ⊢ B) (hk : Tri d i B p Q) :
    Tri d i A p Q := ⟨hab.trans hk.out⟩

/-- What a chunk starts with: the wait for its rows, its bounds, and the words of its first segment. -/
def gPre {s' : Shape} {e' : EltTy} {sp' : Space} (buf : Memref sig .scVector .vmem S256x128 .f32) (sem : DmaSem sig) (srcw : Memref sig .scVector sp' s' e') (h1 : srcw.view.WordExact) (h2 : buf.view.WordExact)
    (C : BitVec 32 → BitVec 32 → Prop) (dec : ∀ a b, Decidable (C a b)) (w w' cs ce base : BitVec 32) :
    TileProg F i (Σ' (_ : BitVec 32) (_ : BitVec 32) (_ : BitVec 32) (v83 : BitVec 32) (_ : BitVec 32) (v86 : BitVec 32) (_ : C v83 v86), BitVec 32) := do
  Prog.lift (.waitDma2 sem srcw buf h1 h2)
  have hw : C w w' := (← Prog.lift (TpuEff.assume (C w w') (dec w w'))).down
  pure ⟨cs, ce, base, w, Scalar.maxsi w cs, w', hw, Scalar.minsi w' ce⟩

theorem step_pre {P D : sProp 𝕄} {s' : Shape} {e' : EltTy} {sp' : Space} (buf : Memref sig .scVector .vmem S256x128 .f32) (sem : DmaSem sig) (srcw : Memref sig .scVector sp' s' e') (h1 : srcw.view.WordExact) (h2 : buf.view.WordExact)
    {N : ℕ} (hN : buf.view.dmaCredit = N) {O : CellTallies nD τ sig (HIx 1)} {W : Waits sig (HIx 1)}
    {cs ce base w w' : BitVec 32} {C : BitVec 32 → BitVec 32 → Prop} {dec : ∀ a b, Decidable (C a b)} {α : Type}
    {p : TileProg F i (Σ' (_ : BitVec 32) (_ : BitVec 32) (_ : BitVec 32) (v83 : BitVec 32) (_ : BitVec 32) (v86 : BitVec 32) (_ : C v83 v86), BitVec 32)} {k : _ → TileProg F i α} {Q : α → sProp 𝕄}
    (hC : C w w') (hp : p = gPre buf sem srcw h1 h2 C dec w w' cs ce base)
    (hk : Tri d i iprop(P ∗ D ∗ semVal (thr d i, .dma sem) 0 ∗ Ow (thr d i) O W) (k ⟨cs, ce, base, w, Scalar.maxsi w cs, w', hC, Scalar.minsi w' ce⟩) Q) :
    Tri d i iprop(P ∗ Flight EC (thr d i) (.dma sem) none N D ∗ Ow (thr d i) O W ∗ MayWaits (thr d i) none O) (p >>= k) Q := by
  have hk := hk.out
  refine ⟨?_⟩
  subst hp
  unfold gPre
  simp only [bind_assoc, pure_bind]
  have hk' := wp_asm (c := thr d i) (dc := dec w w') (k := fun x => k ⟨cs, ce, base, w, Scalar.maxsi w cs, w', x.down, Scalar.minsi w' ce⟩) hC hk
  iintro ⟨HP, H⟩
  iapply (wp_await (c := thr d i) srcw buf sem hN h1 h2) $$ H
  iintro H
  iapply hk'
  isplitl [HP]; · iexact HP
  iexact H

/-- A buffer between chunks: its copy on its way when it has a chunk still to bring, else the buffer, its read share and its semaphore. -/
def slot (d : Dev nD) (i : grid0.Coords) (q : PosShare TreeShare) {R : ℕ} [NeZero R] (m : Memref sig .scVector .hbm ⟨2, ![R, 128]⟩ .f32) (X : Vec F ⟨2, ![R, 128]⟩ .f32) (buf : Memref sig .scVector .vmem S256x128 .f32) (sem : DmaSem sig)
    (K NC n : ℕ) : sProp 𝕄 :=
  if n < NC then Flight EC (thr d i) (.dma sem) none buf.view.dmaCredit iprop(at' (thr d i) buf (rowsAt X (baN K (tl i) n)) ∗ tok q (thr d i) m X)
  else iprop(any' (thr d i) buf ∗ tok q (thr d i) m X ∗ semVal (thr d i, .dma sem) 0)

/-- The copy started behind a chunk, when there is one. -/
def gEnq {R : ℕ} (m : Memref sig .scVector .hbm ⟨2, ![R, 128]⟩ .f32) (buf : Memref sig .scVector .vmem S256x128 .f32) (sem : DmaSem sig) (C : Prop) (dC : Decidable C) (off : Fin 2 → ℕ)
    (inb : C → ∀ a, off a + S256x128.size a ≤ (⟨2, ![R, 128]⟩ : Shape).size a) (hst : ∀ a, (1 : ℕ) = 1) (h1 : ∀ h : C, (m.slice (Rect.unit off S256x128.size (inb h)) hst).view.WordExact)
    (h2 : buf.view.WordExact) : TileProg F i PUnit := do
  if h : C then do
    Prog.lift (.enqueueDma (m.slice (Rect.unit off S256x128.size (inb h)) hst) (.here buf) (.dma sem) (h1 h) h2 ⟨Or.inl rfl, trivial⟩)
    pure ⟨⟩
  else do
    pure ⟨⟩
  pure ⟨⟩

theorem step_enq {P : sProp 𝕄} (q : PosShare TreeShare) {R : ℕ} [NeZero R] (m : Memref sig .scVector .hbm ⟨2, ![R, 128]⟩ .f32) (X : Vec F ⟨2, ![R, 128]⟩ .f32) (buf : Memref sig .scVector .vmem S256x128 .f32) (sem : DmaSem sig)
    (hN0 : 0 < buf.view.dmaCredit) (K NC n : ℕ) {C : Prop} {dC : Decidable C} {off : Fin 2 → ℕ}
    {inb : C → ∀ a, off a + S256x128.size a ≤ (⟨2, ![R, 128]⟩ : Shape).size a} {hst : ∀ a : Fin (⟨2, ![R, 128]⟩ : Shape).rank, (1 : ℕ) = 1} {h1 : ∀ h : C, (m.slice (Rect.unit off S256x128.size (inb h)) hst).view.WordExact}
    {h2 : buf.view.WordExact} (hC : C ↔ n < NC) (hoff : C → off = ![baN K (tl i) n, 0])
    {α : Type} {p : TileProg F i PUnit} {k : PUnit → TileProg F i α} {Q : α → sProp 𝕄} (hp : p = gEnq m buf sem C dC off inb hst h1 h2)
    (hk : Tri d i iprop(P ∗ slot d i q m X buf sem K NC n) (k ⟨⟩) Q) :
    Tri d i iprop(P ∗ tok q (thr d i) m X ∗ any' (thr d i) buf ∗ semVal (thr d i, .dma sem) 0) (p >>= k) Q := by
  have hk := hk.out
  refine ⟨?_⟩
  subst hp
  unfold gEnq
  by_cases h : C
  · have hw := window_rows X off _ (hoff h) (inb h)
    unfold slot at hk
    rw [if_pos (hC.1 h), ← hw] at hk
    rw [dif_pos h]
    simp only [bind_assoc, pure_bind]
    iintro ⟨HP, H⟩
    iapply (wp_enqS (c := thr d i) m off S256x128.size (inb h) hst buf sem q X hN0 (h1 h) h2 ⟨Or.inl rfl, trivial⟩) $$ H
    iintro HF
    iapply hk
    isplitl [HP]; · iexact HP
    iexact HF
  · unfold slot at hk
    rw [if_neg (fun h' => h (hC.2 h'))] at hk
    rw [dif_neg h]
    simp only [pure_bind]
    iintro ⟨HP, H1, H2, H3⟩
    iapply hk
    isplitl [HP]; · iexact HP
    isplitl [H2]; · iexact H2
    isplitl [H1]; · iexact H1
    iexact H3

theorem step_nop {R : sProp 𝕄} {α : Type} {p : TileProg F i PUnit} {k : PUnit → TileProg F i α} {Q : α → sProp 𝕄} (hp : p = pure ⟨⟩)
    (hk : Tri d i R (k ⟨⟩) Q) :
    Tri d i R (p >>= k) Q := by
  have hk := hk.out
  refine ⟨?_⟩
  subst hp
  exact hk

end Cert.Proof.Pool

end
-- ==== Proof.Steps.lean ====
/- The steps of a tile's body around the main loops: the zeroed accumulator, the copies awaited at once, the first two chunks started. -/
module

public import proofs.«01_k».proof.Proof.Gen.KernelIdeal
public import proofs.«01_k».proof.Proof.Chain
public import Idealize.ShloMosaic.Lib.SparseCore.Quiescent
public import Idealize.ShloMosaic.Lib.Tactic
public import Idealize.ShloMosaic.Lib.VecWindow
public import Idealize.ShloMosaic.Lib.ValueLayout

@[expose] public section

noncomputable section

namespace Cert.Proof.Pool

open Cert.KernelIdeal
open Facts₀ Facts
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Idealize.ShloMosaic.VecWindow
open Idealize.ShloMosaic.ValueIdx

variable {F : FTy → Type} [FloatOps F]
variable [Facts]

local notation "𝕄" => MT nD τ sig (HIx 1) (Elt F) ℕ UU ℕ

section rules

variable {c : Thread nD τ}

theorem at_of_any {sp : Space} {s : Shape} {e : EltTy} (m : Memref sig c.2.kind sp s e) : any' (F := F) c m ⊢ iprop(∃ A : Vec F s e, at' c m A) := by
  unfold any'
  iintro ⟨%f, H⟩
  iexists (m.view.read (Elt F) f)
  unfold at'
  iapply (pointsTo_rep_of_read c m _ fullShare (m.view.read (Elt F) f) rfl) $$ H

/-- A copy of a whole array, awaited at once. -/
theorem wp_sync {sp sp' sp1 sp2 : Space} {s s1 s2 : Shape} {e e1 e2 : EltTy} {κ' : Kind} (src : Memref sig c.2.kind sp s e) (dst : Memref sig c.2.kind sp' s e) (sem : DmaSem sig)
    (srcw : Memref sig c.2.kind sp1 s1 e1) (dstw : Memref sig κ' sp2 s2 e2) (hN : dstw.view.dmaCredit = dst.view.dmaCredit)
    (q : PosShare TreeShare) (X : Vec F s e) (hN0 : 0 < dst.view.dmaCredit) (h1) (h2) (h3) (h4) (h5) {O : CellTallies nD τ sig (HIx 1)} {W : Waits sig (HIx 1)} {α : Type}
    {k : PUnit → Prog (TpuEff nD τ sig (Elt F) Λ₀ c.2) α} {Q : α → sProp 𝕄} :
    iprop(tok q c src X ∗ any' c dst ∗ semVal (c, .dma sem) 0 ∗ Ow c O W ∗ MayWaits c none O) ⊢
      iprop((at' c dst X ∗ tok q c src X ∗ semVal (c, .dma sem) 0 ∗ Ow c O W -∗ wp frame (wpE defs₀ 𝒱₀ c none) Set.univ (k ⟨⟩) Q)
      -∗ wp frame (wpE defs₀ 𝒱₀ c none) Set.univ (Prog.lift (.enqueueDma src (.here dst) (.dma sem) h1 h2 h3) >>= fun _ => Prog.lift (.waitDma2 sem srcw dstw h4 h5) >>= k) Q) := by
  unfold tok
  iintro ⟨Hs, Hd, Hv, HO, Hmw⟩ HQ
  iapply (wp_enq src dst sem q (src.view.rep X) hN0 h1 h2 h3) $$ [Hs Hd Hv]
  · isplitl [Hs]; · iexact Hs
    isplitl [Hd]; · iexact Hd
    iexact Hv
  iintro HF
  iapply (wp_await srcw dstw sem hN h4 h5) $$ [HF HO Hmw]
  · isplitl [HF]; · iexact HF
    isplitl [HO]; · iexact HO
    iexact Hmw
  iintro ⟨⟨Hd, Hs⟩, Hv, HO⟩
  iapply HQ
  rw [View.read_rep]
  isplitl [Hd]; · iexact Hd
  isplitl [Hs]; · iexact Hs
  isplitl [Hv]; · iexact Hv
  iexact HO

end rules

/-! ## The accumulator set to one value -/

/-- Rows before `n`, and in row `n` the columns before `g`, hold `z`. -/
def fillTo (z : F .f32) (A : Vec F S16x128 .f32) (n g : ℕ) : Vec F S16x128 .f32 :=
  fun p => if (p 0).val < n ∨ ((p 0).val = n ∧ (p 1).val < g) then z else A p

theorem fillTo_zero (z : F .f32) (A : Vec F S16x128 .f32) : fillTo z A 0 0 = A := funext fun _ => if_neg (by omega)

theorem fillTo_row (z : F .f32) (A : Vec F S16x128 .f32) (n : ℕ) : fillTo z A n 128 = fillTo z A (n + 1) 0 := funext fun p => by
  have : (p 1).val < 128 := (p 1).isLt
  unfold fillTo
  by_cases h : (p 0).val < n + 1
  · rw [if_pos (by omega), if_pos (by omega)]
  · rw [if_neg (by omega), if_neg (by omega)]

theorem fillTo_all (z : F .f32) (A : Vec F S16x128 .f32) : fillTo z A 16 0 = fun _ => z := funext fun p => by
  have : (p 0).val < 16 := (p 0).isLt
  exact if_pos (by omega)

theorem fillTo_put (z : F .f32) (A : Vec F S16x128 .f32) (n g : ℕ) (hg : g ≤ 112) :
    put (fillTo z A n g) ![n, g] S1x16.size (shapeCast S1x16 (broadcast S16 z) shapeCasts_S16_S1x16) = fillTo z A n (g + 16) := by
  funext p
  unfold put
  split
  · rename_i h
    have h0 := h 0
    have h1 := h 1
    change n ≤ (p 0).val ∧ (p 0).val < n + 1 at h0
    change g ≤ (p 1).val ∧ (p 1).val < g + 16 at h1
    exact (if_pos (by omega)).symm
  · rename_i h
    have hn : ¬ ((p 0).val = n ∧ g ≤ (p 1).val ∧ (p 1).val < g + 16) := fun hc => h fun a => by
      match a with
      | 0 => show n ≤ (p 0).val ∧ (p 0).val < n + 1; omega
      | 1 => show g ≤ (p 1).val ∧ (p 1).val < g + 16; omega
    unfold fillTo
    by_cases hc : (p 0).val < n ∨ ((p 0).val = n ∧ (p 1).val < g)
    · rw [if_pos hc, if_pos (by omega)]
    · rw [if_neg hc, if_neg (by omega)]

variable (d : Dev nD) {i : grid0.Coords}

theorem wp_fill (acc : Memref sig .scVector .vmem S16x128 .f32) (z : F .f32) (A : Vec F S16x128 .f32) (n g : ℕ) (hg : g ≤ 112) (off : Fin 2 → ℕ) (he : off = ![n, g])
    (inb : ∀ a, off a + S1x16.size a ≤ S16x128.size a) (hl) (hx) (hm)
    {α : Type} {k : PUnit → TileProg F i α} {Q : α → sProp 𝕄} :
    at' (thr d i) acc (fillTo z A n g) ⊢
      iprop((at' (thr d i) acc (fillTo z A n (g + 16)) -∗ wp frame (wpE defs₀ 𝒱₀ (thr d i) none) Set.univ (k ⟨⟩) Q)
      -∗ wp frame (wpE defs₀ 𝒱₀ (thr d i) none) Set.univ (Prog.lift (.load acc (Rect.unit (s := S16x128) off S1x16.size inb).toLoadRect hl) >>= fun _ =>
          Prog.lift (.store acc (Rect.unit (s := S16x128) off S1x16.size inb) (shapeCast S1x16 (broadcast S16 z) shapeCasts_S16_S1x16) Finset.univ hx hm) >>= k) Q) := by
  subst he
  iintro Ha HQ
  iapply (wp_ld (c := thr d i) acc _ _ _ inb hl) $$ Ha; iintro Ha
  iapply (wp_st (c := thr d i) acc _ _ _ inb _ hx hm) $$ Ha; iintro Ha
  iapply HQ
  rw [fillTo_put z A n g hg]
  iexact Ha

section parts

variable (arg2 : Memref sig .scVector .hbm S320000x128 .f32) (harg2 : arg2.IsWhole) (arg3 : Memref sig .scVector .hbm S32000x128 .f32) (harg3 : arg3.IsWhole) (arg4 : Memref sig .scVector .hbm S400000x128 .f32) (harg4 : arg4.IsWhole) (arg5 : Memref sig .scVector .hbm S32 .i32) (harg5 : arg5.IsWhole) (arg6 : Memref sig .scVector .hbm S32 .i32) (harg6 : arg6.IsWhole) (arg7 : Memref sig .scVector .hbm S32 .i32) (harg7 : arg7.IsWhole) (arg8 : Memref sig .scVector .hbm S32x16x128 .f32) (harg8 : arg8.IsWhole) (arg9 : Memref sig .scVector .hbm S32x16x128 .f32) (harg9 : arg9.IsWhole) (arg10 : Memref sig .scVector .hbm S32x16x128 .f32) (harg10 : arg10.IsWhole) (arg11 : Memref sig .scVector .vmem S256x128 .f32) (harg11 : arg11.IsWhole) (arg12 : Memref sig .scVector .vmem S256x128 .f32) (harg12 : arg12.IsWhole) (arg13 : Memref sig .scVector .vmem S32 .i32) (harg13 : arg13.IsWhole) (arg14 : Memref sig .scVector .vmem S16x128 .f32) (harg14 : arg14.IsWhole) (arg15 : DmaSems sig S_) (arg16 : DmaSems sig S_) (v58_r0 : DmaSems sig S_) (v58_r1 : DmaSems sig S_) (v58_r2 : DmaSems sig S_) (v58_r3 : DmaSems sig S_) (v58_r4 : DmaSems sig S_) (v58_r5 : DmaSems sig S_)

omit d i in
theorem zero_trips : k0_t1_loop.trips = 16 := by decide

/-- The zero loop: the accumulator holds `z` everywhere. -/
theorem part_zero (z : F .f32) {Q : PUnit → sProp 𝕄} :
    any' (thr d i) arg14 ⊢ iprop((at' (thr d i) arg14 (fun _ => z) -∗ Q ⟨⟩)
      -∗ wp frame (wpE defs₀ 𝒱₀ (thr d i) none) Set.univ (k0_part458 i arg2 harg2 arg3 harg3 arg4 harg4 arg5 harg5 arg6 harg6 arg7 harg7 arg8 harg8 arg9 harg9 arg10 harg10 arg11 harg11 arg12 harg12 arg13 harg13 arg14 harg14 arg15 arg16 v58_r0 v58_r1 v58_r2 v58_r3 v58_r4 v58_r5 (broadcast S16 z) 0#32 0#32 1#32) Q) := by
  unfold k0_part458
  iintro Ha HQ
  ihave Ha := (at_of_any (c := thr d i) arg14) $$ Ha
  icases Ha with ⟨%A, Ha⟩
  iapply (wp_forB (F := F) (i := i) d _ _ _ (fun n => at' (thr d i) arg14 (fillTo z A n 0)) ?_) $$ [Ha]
  · intro t acc
    refine ⟨?_⟩
    iintro Ha
    iapply (wp_fill d arg14 z A t.val 0 (by decide) _ (Gen.k0_off1_eq t) _ _ _ _) $$ Ha; iintro Ha
    iapply (wp_fill d arg14 z A t.val 16 (by decide) _ (Gen.k0_off2_eq t) _ _ _ _) $$ Ha; iintro Ha
    iapply (wp_fill d arg14 z A t.val 32 (by decide) _ (Gen.k0_off3_eq t) _ _ _ _) $$ Ha; iintro Ha
    iapply (wp_fill d arg14 z A t.val 48 (by decide) _ (Gen.k0_off4_eq t) _ _ _ _) $$ Ha; iintro Ha
    iapply (wp_fill d arg14 z A t.val 64 (by decide) _ (Gen.k0_off5_eq t) _ _ _ _) $$ Ha; iintro Ha
    iapply (wp_fill d arg14 z A t.val 80 (by decide) _ (Gen.k0_off6_eq t) _ _ _ _) $$ Ha; iintro Ha
    iapply (wp_fill d arg14 z A t.val 96 (by decide) _ (Gen.k0_off7_eq t) _ _ _ _) $$ Ha; iintro Ha
    iapply (wp_fill d arg14 z A t.val 112 (by decide) _ (Gen.k0_off8_eq t) _ _ _ _) $$ Ha; iintro Ha
    simp only [wp_pure]
    imodintro
    rw [← fillTo_row]
    iexact Ha
  · rw [fillTo_zero]; iexact Ha
  · iintro %acc Ha
    simp only [wp_pure]
    imodintro
    iapply HQ
    rw [show Scf.trips k0_t1_loop.lb k0_t1_loop.ub k0_t1_loop.st = 16 from zero_trips, fillTo_all]
    iexact Ha

/-- The three zero loops are one program. -/
theorem part462_eq (v2 : FVec F S16 .f32) : k0_part462 i arg2 harg2 arg3 harg3 arg4 harg4 arg5 harg5 arg6 harg6 arg7 harg7 arg8 harg8 arg9 harg9 arg10 harg10 arg11 harg11 arg12 harg12 arg13 harg13 arg14 harg14 arg15 arg16 v58_r0 v58_r1 v58_r2 v58_r3 v58_r4 v58_r5 v2 0#32 0#32 1#32 = k0_part458 i arg2 harg2 arg3 harg3 arg4 harg4 arg5 harg5 arg6 harg6 arg7 harg7 arg8 harg8 arg9 harg9 arg10 harg10 arg11 harg11 arg12 harg12 arg13 harg13 arg14 harg14 arg15 arg16 v58_r0 v58_r1 v58_r2 v58_r3 v58_r4 v58_r5 v2 0#32 0#32 1#32 := rfl

theorem part466_eq (v2 : FVec F S16 .f32) : k0_part466 i arg2 harg2 arg3 harg3 arg4 harg4 arg5 harg5 arg6 harg6 arg7 harg7 arg8 harg8 arg9 harg9 arg10 harg10 arg11 harg11 arg12 harg12 arg13 harg13 arg14 harg14 arg15 arg16 v58_r0 v58_r1 v58_r2 v58_r3 v58_r4 v58_r5 v2 0#32 0#32 1#32 = k0_part458 i arg2 harg2 arg3 harg3 arg4 harg4 arg5 harg5 arg6 harg6 arg7 harg7 arg8 harg8 arg9 harg9 arg10 harg10 arg11 harg11 arg12 harg12 arg13 harg13 arg14 harg14 arg15 arg16 v58_r0 v58_r1 v58_r2 v58_r3 v58_r4 v58_r5 v2 0#32 0#32 1#32 := rfl

end parts

end Cert.Proof.Pool

end
-- ==== Proof.MainG.lean ====
/- The main loop of the gene pool. -/
module

public import proofs.«01_k».proof.Proof.Chain
public import proofs.«01_k».proof.Proof.Gen.KernelIdeal
public import Idealize.ShloMosaic.Lib.SparseCore.Quiescent
public import Idealize.ShloMosaic.Lib.Tactic
public import Idealize.ShloMosaic.Lib.LoopRemainder
public import Idealize.ShloMosaic.Lib.VecWindow
public import Idealize.ShloMosaic.Lib.ValueLayout

@[expose] public section

noncomputable section

namespace Cert.Proof.Pool

open Cert.KernelIdeal
open Facts₀ Facts
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Idealize.ShloMosaic.VecWindow
open Idealize.ShloMosaic.ValueIdx

variable {F : FTy → Type} [FloatOps F]
variable [Facts]

local notation "𝕄" => MT nD τ sig (HIx 1) (Elt F) ℕ UU ℕ

theorem main_gene_off0 (i : grid0.Coords) (t : Fin k0_t2_loop.trips) : k0_off267 i t = ![baN 10000 (tl i) (2 * t.val + 0 + 2), 0] := by
  rw [Gen.k0_off267_eq]
  have e : min (160000 * (i 0).val + 10000 * (i 1).val + 512 * t.val + 512) 319744 = baN 10000 (tl i) (2 * t.val + 0 + 2) := by unfold baN csN tl; omega
  rw [e]
theorem main_gene_off1 (i : grid0.Coords) (t : Fin k0_t2_loop.trips) : k0_off525 i t = ![baN 10000 (tl i) (2 * t.val + 1 + 2), 0] := by
  rw [Gen.k0_off525_eq]
  have e : min (160000 * (i 0).val + 10000 * (i 1).val + 512 * t.val + 768) 319744 = baN 10000 (tl i) (2 * t.val + 1 + 2) := by unfold baN csN tl; omega
  rw [e]
theorem main_gene_trips : k0_t2_loop.trips = 20 := by decide
theorem main_gene_conda : ∀ t : Fin k0_t2_loop.trips, k0_cond1 t = 1#1 := by decide +kernel
theorem main_gene_condb : ∀ t : Fin k0_t2_loop.trips, k0_cond19 t = 1#1 := by decide +kernel
theorem main_gene_enq0 : ∀ t : Fin k0_t2_loop.trips, k0_cond18 t = 1#1 ↔ 2 * t.val + 0 + 2 < 40 := by decide +kernel
theorem main_gene_enq1 : ∀ t : Fin k0_t2_loop.trips, k0_cond36 t = 1#1 ↔ 2 * t.val + 1 + 2 < 40 := by decide +kernel

section

variable (d : Dev nD) (i : grid0.Coords) (arg2 : Memref sig .scVector .hbm S320000x128 .f32) (harg2 : arg2.IsWhole) (arg3 : Memref sig .scVector .hbm S32000x128 .f32) (harg3 : arg3.IsWhole) (arg4 : Memref sig .scVector .hbm S400000x128 .f32) (harg4 : arg4.IsWhole) (arg5 : Memref sig .scVector .hbm S32 .i32) (harg5 : arg5.IsWhole) (arg6 : Memref sig .scVector .hbm S32 .i32) (harg6 : arg6.IsWhole) (arg7 : Memref sig .scVector .hbm S32 .i32) (harg7 : arg7.IsWhole) (arg8 : Memref sig .scVector .hbm S32x16x128 .f32) (harg8 : arg8.IsWhole) (arg9 : Memref sig .scVector .hbm S32x16x128 .f32) (harg9 : arg9.IsWhole) (arg10 : Memref sig .scVector .hbm S32x16x128 .f32) (harg10 : arg10.IsWhole) (arg11 : Memref sig .scVector .vmem S256x128 .f32) (harg11 : arg11.IsWhole) (arg12 : Memref sig .scVector .vmem S256x128 .f32) (harg12 : arg12.IsWhole) (arg13 : Memref sig .scVector .vmem S32 .i32) (harg13 : arg13.IsWhole) (arg14 : Memref sig .scVector .vmem S16x128 .f32) (harg14 : arg14.IsWhole) (arg15 : DmaSems sig S_) (arg16 : DmaSems sig S_) (v58_r0 : DmaSems sig S_) (v58_r1 : DmaSems sig S_) (v58_r2 : DmaSems sig S_) (v58_r3 : DmaSems sig S_) (v58_r4 : DmaSems sig S_) (v58_r5 : DmaSems sig S_)

set_option maxRecDepth 4000 in
set_option maxHeartbeats 2000000 in
/-- The main loop: every chunk of the tile's range, two to a trip, each added into the accumulator. -/
theorem main_gene (q1 q2 : PosShare TreeShare) (X : Vec F S320000x128 .f32) (z : F .f32) (v10 v12 : IVec S16 32) {O : CellTallies nD τ sig (HIx 1)} {W : Waits sig (HIx 1)} {Q : PUnit → sProp 𝕄} :
    iprop(MayWaits (thr d i) none O ∗ Ow (thr d i) O W ∗ at' (thr d i) arg14 (fun _ => z) ∗ slot d i q1 arg2 X arg11 arg15.sem 10000 40 0 ∗ slot d i q2 arg2 X arg12 arg16.sem 10000 40 1)
    ⊢ iprop((Ow (thr d i) O W ∗ at' (thr d i) arg14 (poolTo z (fun k => (bwOf v10 v12 k).toInt) 10000 X (tl i) 40)
        ∗ (any' (thr d i) arg11 ∗ tok q1 (thr d i) arg2 X ∗ semVal (thr d i, .dma arg15.sem) 0)
        ∗ (any' (thr d i) arg12 ∗ tok q2 (thr d i) arg2 X ∗ semVal (thr d i, .dma arg16.sem) 0) -∗ Q ⟨⟩)
      -∗ wp frame (wpE defs₀ 𝒱₀ (thr d i) none) Set.univ (k0_part460 i arg2 harg2 arg3 harg3 arg4 harg4 arg5 harg5 arg6 harg6 arg7 harg7 arg8 harg8 arg9 harg9 arg10 harg10 arg11 harg11 arg12 harg12 arg13 harg13 arg14 harg14 arg15 arg16 v58_r0 v58_r1 v58_r2 v58_r3 v58_r4 v58_r5 (broadcast S16 z) (loW 10000#32 i) (Scalar.minsi (Scalar.addi (loW 10000#32 i) 10000#32) 320000#32) v10 v12 0#32 0#32 1#32) Q) := by
  unfold k0_part460
  iintro ⟨Hmw, HO, Ha, H1, H2⟩ HQ
  iapply (wp_forB (F := F) (i := i) d _ _ _
    (fun n => iprop(MayWaits (thr d i) none O ∗ Ow (thr d i) O W ∗ at' (thr d i) arg14 (poolTo z (fun k => (bwOf v10 v12 k).toInt) 10000 X (tl i) (2 * n))
      ∗ slot d i q1 arg2 X arg11 arg15.sem 10000 40 (2 * n) ∗ slot d i q2 arg2 X arg12 arg16.sem 10000 40 (2 * n + 1))) ?_) $$ [Hmw HO Ha H1 H2]
  · intro t acc
    have ht : t.val < 20 := t.isLt.trans_eq main_gene_trips
    -- the chunk in the buffer `arg11`
    have hck : ckW t 0#32 = BitVec.ofNat 32 (2 * t.val + 0) := ckW_eq t.val 0
    have G : Geo (csW 10000#32 i (ckW t 0#32)) (ceW 10000#32 320000#32 i (ckW t 0#32)) (baW 10000#32 319744#32 i (ckW t 0#32)) := by
      rw [hck]; exact geo i (K := 10000) (by omega) (by omega) (by omega)
    have ecs : (csW 10000#32 i (ckW t 0#32)).toInt = csN 10000 (tl i) (2 * t.val + 0) := by rw [hck]; exact csW_toInt i (K := 10000) (by omega) (by omega)
    have ece : (ceW 10000#32 320000#32 i (ckW t 0#32)).toInt = ceN 10000 (tl i) (2 * t.val + 0) := by rw [hck]; exact ceW_toInt i (K := 10000) (by omega) (by omega)
    have eba : (baW 10000#32 319744#32 i (ckW t 0#32)).toInt = baN 10000 (tl i) (2 * t.val + 0) := by rw [hck]; exact baW_toInt i (K := 10000) (by omega) (by omega) (by omega)
    have hchk : ∀ w w' : BitVec 32, gChk (k0_cond1 t = 1#1) (Scalar.maxsi w (csW 10000#32 i (ckW t 0#32))) (Scalar.minsi w' (ceW 10000#32 320000#32 i (ckW t 0#32))) (baW 10000#32 319744#32 i (ckW t 0#32)) := fun w w' => gChk_of (segOK G w w')
    rw [dif_pos (main_gene_conda t)]
    apply wp_chg (B := iprop((MayWaits (thr d i) none O ∗ slot d i q2 arg2 X arg12 arg16.sem 10000 40 (2 * t.val + 1) ∗ at' (thr d i) arg14 (poolTo z (fun k => (bwOf v10 v12 k).toInt) 10000 X (tl i) (2 * t.val + 0)))
      ∗ Flight EC (thr d i) (.dma arg15.sem) none arg11.view.dmaCredit iprop(at' (thr d i) arg11 (rowsAt X (baN 10000 (tl i) (2 * t.val + 0))) ∗ tok q1 (thr d i) arg2 X) ∗ Ow (thr d i) O W ∗ MayWaits (thr d i) none O))
    case hab =>
      iintro ⟨Hmw, HO, Ha, H1, H2⟩
      ihave H1 := (show slot d i q1 arg2 X arg11 arg15.sem 10000 40 (2 * t.val) ⊢ Flight EC (thr d i) (.dma arg15.sem) none arg11.view.dmaCredit iprop(at' (thr d i) arg11 (rowsAt X (baN 10000 (tl i) (2 * t.val + 0))) ∗ tok q1 (thr d i) arg2 X) from by
        unfold slot; rw [if_pos (by omega)]; exact .rfl) $$ H1
      icases Hmw with #Hmw
      isplitl [H2 Ha]
      · isplitl []; · iexact Hmw
        isplitl [H2]; · iexact H2
        iexact Ha
      · isplitl [H1]; · iexact H1
        isplitl [HO]; · iexact HO
        iexact Hmw
    apply step_pre d arg11 arg15.sem _ _ _ rfl (C := fun a b => gChk (k0_cond1 t = 1#1) (Scalar.maxsi a (csW 10000#32 i (ckW t 0#32))) (Scalar.minsi b (ceW 10000#32 320000#32 i (ckW t 0#32))) (baW 10000#32 319744#32 i (ckW t 0#32))) (cs := csW 10000#32 i (ckW t 0#32)) (ce := ceW 10000#32 320000#32 i (ckW t 0#32)) (base := baW 10000#32 319744#32 i (ckW t 0#32)) (w := bwOf v10 v12 0) (w' := bwOf v10 v12 1)
    case hp => rfl
    case hC => exact hchk _ _
    apply wp_chg (B := iprop((MayWaits (thr d i) none O ∗ slot d i q2 arg2 X arg12 arg16.sem 10000 40 (2 * t.val + 1) ∗ tok q1 (thr d i) arg2 X ∗ semVal (thr d i, .dma arg15.sem) 0 ∗ Ow (thr d i) O W)
      ∗ at' (thr d i) arg14 (chunkTo z (fun k => (bwOf v10 v12 k).toInt) (csW 10000#32 i (ckW t 0#32)).toInt (ceW 10000#32 320000#32 i (ckW t 0#32)).toInt (baW 10000#32 319744#32 i (ckW t 0#32)).toInt (rowsAt X (baN 10000 (tl i) (2 * t.val + 0))) (poolTo z (fun k => (bwOf v10 v12 k).toInt) 10000 X (tl i) (2 * t.val + 0)) 0)
      ∗ at' (thr d i) arg11 (rowsAt X (baN 10000 (tl i) (2 * t.val + 0)))))
    case hab =>
      rw [chunkTo_zero]
      iintro ⟨⟨Hmw, Ho, Ha⟩, ⟨Hb, Ht⟩, Hv, HO⟩
      isplitr [Ha Hb]
      · isplitl [Hmw]; · iexact Hmw
        isplitl [Ho]; · iexact Ho
        isplitl [Ht]; · iexact Ht
        isplitl [Hv] <;> iassumption
      · isplitl [Ha] <;> iassumption
    apply step_if
    case G => exact G
    case hs => omega
    case hp => rfl
    iterate 15
      apply step_w
      case hp => rfl
      case hC => exact hchk _ _
      apply step_if
      case G => exact G
      case hs => omega
      case hp => rfl
    apply step_nop
    case hp => rfl
    apply wp_chg (B := iprop((MayWaits (thr d i) none O ∗ slot d i q2 arg2 X arg12 arg16.sem 10000 40 (2 * t.val + 1) ∗ Ow (thr d i) O W
        ∗ at' (thr d i) arg14 (poolTo z (fun k => (bwOf v10 v12 k).toInt) 10000 X (tl i) (2 * t.val + 0 + 1)))
      ∗ tok q1 (thr d i) arg2 X ∗ any' (thr d i) arg11 ∗ semVal (thr d i, .dma arg15.sem) 0))
    case hab =>
      iintro ⟨⟨Hmw, Ho, Ht, Hv, HO⟩, Ha, Hb⟩
      ihave Ha := (show at' (thr d i) arg14 (chunkTo z (fun k => (bwOf v10 v12 k).toInt) _ _ _ _ _ 16) ⊢ at' (thr d i) arg14 (poolTo z (fun k => (bwOf v10 v12 k).toInt) 10000 X (tl i) (2 * t.val + 0 + 1)) from by
        rw [chunkTo_all, ecs, ece, eba]; exact .rfl) $$ Ha
      ihave Hb := any_of_at $$ Hb
      isplitr [Ht Hb Hv]
      · isplitl [Hmw]; · iexact Hmw
        isplitl [Ho]; · iexact Ho
        isplitl [HO] <;> iassumption
      · isplitl [Ht]; · iexact Ht
        isplitl [Hb] <;> iassumption
    apply step_enq
    case hp => rfl
    case hN0 => exact View.amount_pos _ (.dma arg15.sem) (by decide)
    case hC => exact main_gene_enq0 t
    case hoff => exact fun _ => main_gene_off0 i t
    -- the chunk in the buffer `arg12`
    have hck : ckW t 1#32 = BitVec.ofNat 32 (2 * t.val + 1) := ckW_eq t.val 1
    have G : Geo (csW 10000#32 i (ckW t 1#32)) (ceW 10000#32 320000#32 i (ckW t 1#32)) (baW 10000#32 319744#32 i (ckW t 1#32)) := by
      rw [hck]; exact geo i (K := 10000) (by omega) (by omega) (by omega)
    have ecs : (csW 10000#32 i (ckW t 1#32)).toInt = csN 10000 (tl i) (2 * t.val + 1) := by rw [hck]; exact csW_toInt i (K := 10000) (by omega) (by omega)
    have ece : (ceW 10000#32 320000#32 i (ckW t 1#32)).toInt = ceN 10000 (tl i) (2 * t.val + 1) := by rw [hck]; exact ceW_toInt i (K := 10000) (by omega) (by omega)
    have eba : (baW 10000#32 319744#32 i (ckW t 1#32)).toInt = baN 10000 (tl i) (2 * t.val + 1) := by rw [hck]; exact baW_toInt i (K := 10000) (by omega) (by omega) (by omega)
    have hchk : ∀ w w' : BitVec 32, gChk (k0_cond19 t = 1#1) (Scalar.maxsi w (csW 10000#32 i (ckW t 1#32))) (Scalar.minsi w' (ceW 10000#32 320000#32 i (ckW t 1#32))) (baW 10000#32 319744#32 i (ckW t 1#32)) := fun w w' => gChk_of (segOK G w w')
    rw [dif_pos (main_gene_condb t)]
    apply wp_chg (B := iprop((MayWaits (thr d i) none O ∗ slot d i q1 arg2 X arg11 arg15.sem 10000 40 (2 * t.val + 0 + 2) ∗ at' (thr d i) arg14 (poolTo z (fun k => (bwOf v10 v12 k).toInt) 10000 X (tl i) (2 * t.val + 1)))
      ∗ Flight EC (thr d i) (.dma arg16.sem) none arg12.view.dmaCredit iprop(at' (thr d i) arg12 (rowsAt X (baN 10000 (tl i) (2 * t.val + 1))) ∗ tok q2 (thr d i) arg2 X) ∗ Ow (thr d i) O W ∗ MayWaits (thr d i) none O))
    case hab =>
      iintro ⟨⟨Hmw, H2, HO, Ha⟩, H1⟩
      ihave H2 := (show slot d i q2 arg2 X arg12 arg16.sem 10000 40 (2 * t.val + 1) ⊢ Flight EC (thr d i) (.dma arg16.sem) none arg12.view.dmaCredit iprop(at' (thr d i) arg12 (rowsAt X (baN 10000 (tl i) (2 * t.val + 1))) ∗ tok q2 (thr d i) arg2 X) from by
        unfold slot; rw [if_pos (by omega)]) $$ H2
      icases Hmw with #Hmw
      isplitl [H1 Ha]
      · isplitl []; · iexact Hmw
        isplitl [H1]; · iexact H1
        iexact Ha
      · isplitl [H2]; · iexact H2
        isplitl [HO]; · iexact HO
        iexact Hmw
    apply step_pre d arg12 arg16.sem _ _ _ rfl (C := fun a b => gChk (k0_cond19 t = 1#1) (Scalar.maxsi a (csW 10000#32 i (ckW t 1#32))) (Scalar.minsi b (ceW 10000#32 320000#32 i (ckW t 1#32))) (baW 10000#32 319744#32 i (ckW t 1#32))) (cs := csW 10000#32 i (ckW t 1#32)) (ce := ceW 10000#32 320000#32 i (ckW t 1#32)) (base := baW 10000#32 319744#32 i (ckW t 1#32)) (w := bwOf v10 v12 0) (w' := bwOf v10 v12 1)
    case hp => rfl
    case hC => exact hchk _ _
    apply wp_chg (B := iprop((MayWaits (thr d i) none O ∗ slot d i q1 arg2 X arg11 arg15.sem 10000 40 (2 * t.val + 0 + 2) ∗ tok q2 (thr d i) arg2 X ∗ semVal (thr d i, .dma arg16.sem) 0 ∗ Ow (thr d i) O W)
      ∗ at' (thr d i) arg14 (chunkTo z (fun k => (bwOf v10 v12 k).toInt) (csW 10000#32 i (ckW t 1#32)).toInt (ceW 10000#32 320000#32 i (ckW t 1#32)).toInt (baW 10000#32 319744#32 i (ckW t 1#32)).toInt (rowsAt X (baN 10000 (tl i) (2 * t.val + 1))) (poolTo z (fun k => (bwOf v10 v12 k).toInt) 10000 X (tl i) (2 * t.val + 1)) 0)
      ∗ at' (thr d i) arg12 (rowsAt X (baN 10000 (tl i) (2 * t.val + 1)))))
    case hab =>
      rw [chunkTo_zero]
      iintro ⟨⟨Hmw, Ho, Ha⟩, ⟨Hb, Ht⟩, Hv, HO⟩
      isplitr [Ha Hb]
      · isplitl [Hmw]; · iexact Hmw
        isplitl [Ho]; · iexact Ho
        isplitl [Ht]; · iexact Ht
        isplitl [Hv] <;> iassumption
      · isplitl [Ha] <;> iassumption
    apply step_if
    case G => exact G
    case hs => omega
    case hp => rfl
    iterate 15
      apply step_w
      case hp => rfl
      case hC => exact hchk _ _
      apply step_if
      case G => exact G
      case hs => omega
      case hp => rfl
    apply step_nop
    case hp => rfl
    apply wp_chg (B := iprop((MayWaits (thr d i) none O ∗ slot d i q1 arg2 X arg11 arg15.sem 10000 40 (2 * t.val + 0 + 2) ∗ Ow (thr d i) O W
        ∗ at' (thr d i) arg14 (poolTo z (fun k => (bwOf v10 v12 k).toInt) 10000 X (tl i) (2 * t.val + 1 + 1)))
      ∗ tok q2 (thr d i) arg2 X ∗ any' (thr d i) arg12 ∗ semVal (thr d i, .dma arg16.sem) 0))
    case hab =>
      iintro ⟨⟨Hmw, Ho, Ht, Hv, HO⟩, Ha, Hb⟩
      ihave Ha := (show at' (thr d i) arg14 (chunkTo z (fun k => (bwOf v10 v12 k).toInt) _ _ _ _ _ 16) ⊢ at' (thr d i) arg14 (poolTo z (fun k => (bwOf v10 v12 k).toInt) 10000 X (tl i) (2 * t.val + 1 + 1)) from by
        rw [chunkTo_all, ecs, ece, eba]; exact .rfl) $$ Ha
      ihave Hb := any_of_at $$ Hb
      isplitr [Ht Hb Hv]
      · isplitl [Hmw]; · iexact Hmw
        isplitl [Ho]; · iexact Ho
        isplitl [HO] <;> iassumption
      · isplitl [Ht]; · iexact Ht
        isplitl [Hb] <;> iassumption
    apply step_enq
    case hp => rfl
    case hN0 => exact View.amount_pos _ (.dma arg16.sem) (by decide)
    case hC => exact main_gene_enq1 t
    case hoff => exact fun _ => main_gene_off1 i t
    refine ⟨?_⟩
    simp only [pure_bind, wp_pure]
    iintro ⟨⟨Hmw, H1, HO, Ha⟩, H2⟩
    imodintro
    isplitl [Hmw]; · iexact Hmw
    isplitl [HO]; · iexact HO
    isplitl [Ha]; · iexact Ha
    isplitl [H1]; · iexact H1
    iexact H2
    all_goals exact fun _ => rfl
  · isplitl [Hmw]; · iexact Hmw
    isplitl [HO]; · iexact HO
    isplitl [Ha]; · iexact Ha
    isplitl [H1]; · iexact H1
    iexact H2
  · iintro %acc ⟨Hmw, HO, Ha, H1, H2⟩
    simp only [wp_pure]
    imodintro
    iapply HQ
    rw [show Scf.trips k0_t2_loop.lb k0_t2_loop.ub k0_t2_loop.st = 20 from main_gene_trips]
    isplitl [HO]; · iexact HO
    isplitl [Ha]; · iexact Ha
    isplitl [H1]
    · iapply (show slot d i q1 arg2 X arg11 arg15.sem 10000 40 (2 * 20) ⊢ _ from by unfold slot; rw [if_neg (by omega)]) $$ H1
    · iapply (show slot d i q2 arg2 X arg12 arg16.sem 10000 40 (2 * 20 + 1) ⊢ _ from by unfold slot; rw [if_neg (by omega)]) $$ H2

end

end Cert.Proof.Pool

end
-- ==== Proof.MainM.lean ====
/- The main loop of the mirna pool. -/
module

public import proofs.«01_k».proof.Proof.Chain
public import proofs.«01_k».proof.Proof.Gen.KernelIdeal
public import Idealize.ShloMosaic.Lib.SparseCore.Quiescent
public import Idealize.ShloMosaic.Lib.Tactic
public import Idealize.ShloMosaic.Lib.LoopRemainder
public import Idealize.ShloMosaic.Lib.VecWindow
public import Idealize.ShloMosaic.Lib.ValueLayout

@[expose] public section

noncomputable section

namespace Cert.Proof.Pool

open Cert.KernelIdeal
open Facts₀ Facts
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Idealize.ShloMosaic.VecWindow
open Idealize.ShloMosaic.ValueIdx

variable {F : FTy → Type} [FloatOps F]
variable [Facts]

local notation "𝕄" => MT nD τ sig (HIx 1) (Elt F) ℕ UU ℕ

theorem main_mirna_off0 (i : grid0.Coords) (t : Fin k0_t68_loop.trips) : k0_off793 i t = ![baN 1000 (tl i) (2 * t.val + 0 + 2), 0] := by
  rw [Gen.k0_off793_eq]
  have e : min (16000 * (i 0).val + 1000 * (i 1).val + 512 * t.val + 512) 31744 = baN 1000 (tl i) (2 * t.val + 0 + 2) := by unfold baN csN tl; omega
  rw [e]
theorem main_mirna_off1 (i : grid0.Coords) (t : Fin k0_t68_loop.trips) : k0_off1051 i t = ![baN 1000 (tl i) (2 * t.val + 1 + 2), 0] := by
  rw [Gen.k0_off1051_eq]
  have e : min (16000 * (i 0).val + 1000 * (i 1).val + 512 * t.val + 768) 31744 = baN 1000 (tl i) (2 * t.val + 1 + 2) := by unfold baN csN tl; omega
  rw [e]
theorem main_mirna_trips : k0_t68_loop.trips = 2 := by decide
theorem main_mirna_conda : ∀ t : Fin k0_t68_loop.trips, k0_cond37 t = 1#1 := by decide +kernel
theorem main_mirna_condb : ∀ t : Fin k0_t68_loop.trips, k0_cond55 t = 1#1 := by decide +kernel
theorem main_mirna_enq0 : ∀ t : Fin k0_t68_loop.trips, k0_cond54 t = 1#1 ↔ 2 * t.val + 0 + 2 < 4 := by decide +kernel
theorem main_mirna_enq1 : ∀ t : Fin k0_t68_loop.trips, k0_cond72 t = 1#1 ↔ 2 * t.val + 1 + 2 < 4 := by decide +kernel

section

variable (d : Dev nD) (i : grid0.Coords) (arg2 : Memref sig .scVector .hbm S320000x128 .f32) (harg2 : arg2.IsWhole) (arg3 : Memref sig .scVector .hbm S32000x128 .f32) (harg3 : arg3.IsWhole) (arg4 : Memref sig .scVector .hbm S400000x128 .f32) (harg4 : arg4.IsWhole) (arg5 : Memref sig .scVector .hbm S32 .i32) (harg5 : arg5.IsWhole) (arg6 : Memref sig .scVector .hbm S32 .i32) (harg6 : arg6.IsWhole) (arg7 : Memref sig .scVector .hbm S32 .i32) (harg7 : arg7.IsWhole) (arg8 : Memref sig .scVector .hbm S32x16x128 .f32) (harg8 : arg8.IsWhole) (arg9 : Memref sig .scVector .hbm S32x16x128 .f32) (harg9 : arg9.IsWhole) (arg10 : Memref sig .scVector .hbm S32x16x128 .f32) (harg10 : arg10.IsWhole) (arg11 : Memref sig .scVector .vmem S256x128 .f32) (harg11 : arg11.IsWhole) (arg12 : Memref sig .scVector .vmem S256x128 .f32) (harg12 : arg12.IsWhole) (arg13 : Memref sig .scVector .vmem S32 .i32) (harg13 : arg13.IsWhole) (arg14 : Memref sig .scVector .vmem S16x128 .f32) (harg14 : arg14.IsWhole) (arg15 : DmaSems sig S_) (arg16 : DmaSems sig S_) (v58_r0 : DmaSems sig S_) (v58_r1 : DmaSems sig S_) (v58_r2 : DmaSems sig S_) (v58_r3 : DmaSems sig S_) (v58_r4 : DmaSems sig S_) (v58_r5 : DmaSems sig S_)

set_option maxRecDepth 4000 in
set_option maxHeartbeats 2000000 in
/-- The main loop: every chunk of the tile's range, two to a trip, each added into the accumulator. -/
theorem main_mirna (q1 q2 : PosShare TreeShare) (X : Vec F S32000x128 .f32) (z : F .f32) (v10 v12 : IVec S16 32) {O : CellTallies nD τ sig (HIx 1)} {W : Waits sig (HIx 1)} {Q : PUnit → sProp 𝕄} :
    iprop(MayWaits (thr d i) none O ∗ Ow (thr d i) O W ∗ at' (thr d i) arg14 (fun _ => z) ∗ slot d i q1 arg3 X arg11 arg15.sem 1000 4 0 ∗ slot d i q2 arg3 X arg12 arg16.sem 1000 4 1)
    ⊢ iprop((Ow (thr d i) O W ∗ at' (thr d i) arg14 (poolTo z (fun k => (bwOf v10 v12 k).toInt) 1000 X (tl i) 4)
        ∗ (any' (thr d i) arg11 ∗ tok q1 (thr d i) arg3 X ∗ semVal (thr d i, .dma arg15.sem) 0)
        ∗ (any' (thr d i) arg12 ∗ tok q2 (thr d i) arg3 X ∗ semVal (thr d i, .dma arg16.sem) 0) -∗ Q ⟨⟩)
      -∗ wp frame (wpE defs₀ 𝒱₀ (thr d i) none) Set.univ (k0_part464 i arg2 harg2 arg3 harg3 arg4 harg4 arg5 harg5 arg6 harg6 arg7 harg7 arg8 harg8 arg9 harg9 arg10 harg10 arg11 harg11 arg12 harg12 arg13 harg13 arg14 harg14 arg15 arg16 v58_r0 v58_r1 v58_r2 v58_r3 v58_r4 v58_r5 (broadcast S16 z) (loW 1000#32 i) (Scalar.minsi (Scalar.addi (loW 1000#32 i) 1000#32) 32000#32) v10 v12 0#32 0#32 1#32) Q) := by
  unfold k0_part464
  iintro ⟨Hmw, HO, Ha, H1, H2⟩ HQ
  iapply (wp_forB (F := F) (i := i) d _ _ _
    (fun n => iprop(MayWaits (thr d i) none O ∗ Ow (thr d i) O W ∗ at' (thr d i) arg14 (poolTo z (fun k => (bwOf v10 v12 k).toInt) 1000 X (tl i) (2 * n))
      ∗ slot d i q1 arg3 X arg11 arg15.sem 1000 4 (2 * n) ∗ slot d i q2 arg3 X arg12 arg16.sem 1000 4 (2 * n + 1))) ?_) $$ [Hmw HO Ha H1 H2]
  · intro t acc
    have ht : t.val < 2 := t.isLt.trans_eq main_mirna_trips
    -- the chunk in the buffer `arg11`
    have hck : ckW t 0#32 = BitVec.ofNat 32 (2 * t.val + 0) := ckW_eq t.val 0
    have G : Geo (csW 1000#32 i (ckW t 0#32)) (ceW 1000#32 32000#32 i (ckW t 0#32)) (baW 1000#32 31744#32 i (ckW t 0#32)) := by
      rw [hck]; exact geo i (K := 1000) (by omega) (by omega) (by omega)
    have ecs : (csW 1000#32 i (ckW t 0#32)).toInt = csN 1000 (tl i) (2 * t.val + 0) := by rw [hck]; exact csW_toInt i (K := 1000) (by omega) (by omega)
    have ece : (ceW 1000#32 32000#32 i (ckW t 0#32)).toInt = ceN 1000 (tl i) (2 * t.val + 0) := by rw [hck]; exact ceW_toInt i (K := 1000) (by omega) (by omega)
    have eba : (baW 1000#32 31744#32 i (ckW t 0#32)).toInt = baN 1000 (tl i) (2 * t.val + 0) := by rw [hck]; exact baW_toInt i (K := 1000) (by omega) (by omega) (by omega)
    have hchk : ∀ w w' : BitVec 32, gChk (k0_cond37 t = 1#1) (Scalar.maxsi w (csW 1000#32 i (ckW t 0#32))) (Scalar.minsi w' (ceW 1000#32 32000#32 i (ckW t 0#32))) (baW 1000#32 31744#32 i (ckW t 0#32)) := fun w w' => gChk_of (segOK G w w')
    rw [dif_pos (main_mirna_conda t)]
    apply wp_chg (B := iprop((MayWaits (thr d i) none O ∗ slot d i q2 arg3 X arg12 arg16.sem 1000 4 (2 * t.val + 1) ∗ at' (thr d i) arg14 (poolTo z (fun k => (bwOf v10 v12 k).toInt) 1000 X (tl i) (2 * t.val + 0)))
      ∗ Flight EC (thr d i) (.dma arg15.sem) none arg11.view.dmaCredit iprop(at' (thr d i) arg11 (rowsAt X (baN 1000 (tl i) (2 * t.val + 0))) ∗ tok q1 (thr d i) arg3 X) ∗ Ow (thr d i) O W ∗ MayWaits (thr d i) none O))
    case hab =>
      iintro ⟨Hmw, HO, Ha, H1, H2⟩
      ihave H1 := (show slot d i q1 arg3 X arg11 arg15.sem 1000 4 (2 * t.val) ⊢ Flight EC (thr d i) (.dma arg15.sem) none arg11.view.dmaCredit iprop(at' (thr d i) arg11 (rowsAt X (baN 1000 (tl i) (2 * t.val + 0))) ∗ tok q1 (thr d i) arg3 X) from by
        unfold slot; rw [if_pos (by omega)]; exact .rfl) $$ H1
      icases Hmw with #Hmw
      isplitl [H2 Ha]
      · isplitl []; · iexact Hmw
        isplitl [H2]; · iexact H2
        iexact Ha
      · isplitl [H1]; · iexact H1
        isplitl [HO]; · iexact HO
        iexact Hmw
    apply step_pre d arg11 arg15.sem _ _ _ rfl (C := fun a b => gChk (k0_cond37 t = 1#1) (Scalar.maxsi a (csW 1000#32 i (ckW t 0#32))) (Scalar.minsi b (ceW 1000#32 32000#32 i (ckW t 0#32))) (baW 1000#32 31744#32 i (ckW t 0#32))) (cs := csW 1000#32 i (ckW t 0#32)) (ce := ceW 1000#32 32000#32 i (ckW t 0#32)) (base := baW 1000#32 31744#32 i (ckW t 0#32)) (w := bwOf v10 v12 0) (w' := bwOf v10 v12 1)
    case hp => rfl
    case hC => exact hchk _ _
    apply wp_chg (B := iprop((MayWaits (thr d i) none O ∗ slot d i q2 arg3 X arg12 arg16.sem 1000 4 (2 * t.val + 1) ∗ tok q1 (thr d i) arg3 X ∗ semVal (thr d i, .dma arg15.sem) 0 ∗ Ow (thr d i) O W)
      ∗ at' (thr d i) arg14 (chunkTo z (fun k => (bwOf v10 v12 k).toInt) (csW 1000#32 i (ckW t 0#32)).toInt (ceW 1000#32 32000#32 i (ckW t 0#32)).toInt (baW 1000#32 31744#32 i (ckW t 0#32)).toInt (rowsAt X (baN 1000 (tl i) (2 * t.val + 0))) (poolTo z (fun k => (bwOf v10 v12 k).toInt) 1000 X (tl i) (2 * t.val + 0)) 0)
      ∗ at' (thr d i) arg11 (rowsAt X (baN 1000 (tl i) (2 * t.val + 0)))))
    case hab =>
      rw [chunkTo_zero]
      iintro ⟨⟨Hmw, Ho, Ha⟩, ⟨Hb, Ht⟩, Hv, HO⟩
      isplitr [Ha Hb]
      · isplitl [Hmw]; · iexact Hmw
        isplitl [Ho]; · iexact Ho
        isplitl [Ht]; · iexact Ht
        isplitl [Hv] <;> iassumption
      · isplitl [Ha] <;> iassumption
    apply step_if
    case G => exact G
    case hs => omega
    case hp => rfl
    iterate 15
      apply step_w
      case hp => rfl
      case hC => exact hchk _ _
      apply step_if
      case G => exact G
      case hs => omega
      case hp => rfl
    apply step_nop
    case hp => rfl
    apply wp_chg (B := iprop((MayWaits (thr d i) none O ∗ slot d i q2 arg3 X arg12 arg16.sem 1000 4 (2 * t.val + 1) ∗ Ow (thr d i) O W
        ∗ at' (thr d i) arg14 (poolTo z (fun k => (bwOf v10 v12 k).toInt) 1000 X (tl i) (2 * t.val + 0 + 1)))
      ∗ tok q1 (thr d i) arg3 X ∗ any' (thr d i) arg11 ∗ semVal (thr d i, .dma arg15.sem) 0))
    case hab =>
      iintro ⟨⟨Hmw, Ho, Ht, Hv, HO⟩, Ha, Hb⟩
      ihave Ha := (show at' (thr d i) arg14 (chunkTo z (fun k => (bwOf v10 v12 k).toInt) _ _ _ _ _ 16) ⊢ at' (thr d i) arg14 (poolTo z (fun k => (bwOf v10 v12 k).toInt) 1000 X (tl i) (2 * t.val + 0 + 1)) from by
        rw [chunkTo_all, ecs, ece, eba]; exact .rfl) $$ Ha
      ihave Hb := any_of_at $$ Hb
      isplitr [Ht Hb Hv]
      · isplitl [Hmw]; · iexact Hmw
        isplitl [Ho]; · iexact Ho
        isplitl [HO] <;> iassumption
      · isplitl [Ht]; · iexact Ht
        isplitl [Hb] <;> iassumption
    apply step_enq
    case hp => rfl
    case hN0 => exact View.amount_pos _ (.dma arg15.sem) (by decide)
    case hC => exact main_mirna_enq0 t
    case hoff => exact fun _ => main_mirna_off0 i t
    -- the chunk in the buffer `arg12`
    have hck : ckW t 1#32 = BitVec.ofNat 32 (2 * t.val + 1) := ckW_eq t.val 1
    have G : Geo (csW 1000#32 i (ckW t 1#32)) (ceW 1000#32 32000#32 i (ckW t 1#32)) (baW 1000#32 31744#32 i (ckW t 1#32)) := by
      rw [hck]; exact geo i (K := 1000) (by omega) (by omega) (by omega)
    have ecs : (csW 1000#32 i (ckW t 1#32)).toInt = csN 1000 (tl i) (2 * t.val + 1) := by rw [hck]; exact csW_toInt i (K := 1000) (by omega) (by omega)
    have ece : (ceW 1000#32 32000#32 i (ckW t 1#32)).toInt = ceN 1000 (tl i) (2 * t.val + 1) := by rw [hck]; exact ceW_toInt i (K := 1000) (by omega) (by omega)
    have eba : (baW 1000#32 31744#32 i (ckW t 1#32)).toInt = baN 1000 (tl i) (2 * t.val + 1) := by rw [hck]; exact baW_toInt i (K := 1000) (by omega) (by omega) (by omega)
    have hchk : ∀ w w' : BitVec 32, gChk (k0_cond55 t = 1#1) (Scalar.maxsi w (csW 1000#32 i (ckW t 1#32))) (Scalar.minsi w' (ceW 1000#32 32000#32 i (ckW t 1#32))) (baW 1000#32 31744#32 i (ckW t 1#32)) := fun w w' => gChk_of (segOK G w w')
    rw [dif_pos (main_mirna_condb t)]
    apply wp_chg (B := iprop((MayWaits (thr d i) none O ∗ slot d i q1 arg3 X arg11 arg15.sem 1000 4 (2 * t.val + 0 + 2) ∗ at' (thr d i) arg14 (poolTo z (fun k => (bwOf v10 v12 k).toInt) 1000 X (tl i) (2 * t.val + 1)))
      ∗ Flight EC (thr d i) (.dma arg16.sem) none arg12.view.dmaCredit iprop(at' (thr d i) arg12 (rowsAt X (baN 1000 (tl i) (2 * t.val + 1))) ∗ tok q2 (thr d i) arg3 X) ∗ Ow (thr d i) O W ∗ MayWaits (thr d i) none O))
    case hab =>
      iintro ⟨⟨Hmw, H2, HO, Ha⟩, H1⟩
      ihave H2 := (show slot d i q2 arg3 X arg12 arg16.sem 1000 4 (2 * t.val + 1) ⊢ Flight EC (thr d i) (.dma arg16.sem) none arg12.view.dmaCredit iprop(at' (thr d i) arg12 (rowsAt X (baN 1000 (tl i) (2 * t.val + 1))) ∗ tok q2 (thr d i) arg3 X) from by
        unfold slot; rw [if_pos (by omega)]) $$ H2
      icases Hmw with #Hmw
      isplitl [H1 Ha]
      · isplitl []; · iexact Hmw
        isplitl [H1]; · iexact H1
        iexact Ha
      · isplitl [H2]; · iexact H2
        isplitl [HO]; · iexact HO
        iexact Hmw
    apply step_pre d arg12 arg16.sem _ _ _ rfl (C := fun a b => gChk (k0_cond55 t = 1#1) (Scalar.maxsi a (csW 1000#32 i (ckW t 1#32))) (Scalar.minsi b (ceW 1000#32 32000#32 i (ckW t 1#32))) (baW 1000#32 31744#32 i (ckW t 1#32))) (cs := csW 1000#32 i (ckW t 1#32)) (ce := ceW 1000#32 32000#32 i (ckW t 1#32)) (base := baW 1000#32 31744#32 i (ckW t 1#32)) (w := bwOf v10 v12 0) (w' := bwOf v10 v12 1)
    case hp => rfl
    case hC => exact hchk _ _
    apply wp_chg (B := iprop((MayWaits (thr d i) none O ∗ slot d i q1 arg3 X arg11 arg15.sem 1000 4 (2 * t.val + 0 + 2) ∗ tok q2 (thr d i) arg3 X ∗ semVal (thr d i, .dma arg16.sem) 0 ∗ Ow (thr d i) O W)
      ∗ at' (thr d i) arg14 (chunkTo z (fun k => (bwOf v10 v12 k).toInt) (csW 1000#32 i (ckW t 1#32)).toInt (ceW 1000#32 32000#32 i (ckW t 1#32)).toInt (baW 1000#32 31744#32 i (ckW t 1#32)).toInt (rowsAt X (baN 1000 (tl i) (2 * t.val + 1))) (poolTo z (fun k => (bwOf v10 v12 k).toInt) 1000 X (tl i) (2 * t.val + 1)) 0)
      ∗ at' (thr d i) arg12 (rowsAt X (baN 1000 (tl i) (2 * t.val + 1)))))
    case hab =>
      rw [chunkTo_zero]
      iintro ⟨⟨Hmw, Ho, Ha⟩, ⟨Hb, Ht⟩, Hv, HO⟩
      isplitr [Ha Hb]
      · isplitl [Hmw]; · iexact Hmw
        isplitl [Ho]; · iexact Ho
        isplitl [Ht]; · iexact Ht
        isplitl [Hv] <;> iassumption
      · isplitl [Ha] <;> iassumption
    apply step_if
    case G => exact G
    case hs => omega
    case hp => rfl
    iterate 15
      apply step_w
      case hp => rfl
      case hC => exact hchk _ _
      apply step_if
      case G => exact G
      case hs => omega
      case hp => rfl
    apply step_nop
    case hp => rfl
    apply wp_chg (B := iprop((MayWaits (thr d i) none O ∗ slot d i q1 arg3 X arg11 arg15.sem 1000 4 (2 * t.val + 0 + 2) ∗ Ow (thr d i) O W
        ∗ at' (thr d i) arg14 (poolTo z (fun k => (bwOf v10 v12 k).toInt) 1000 X (tl i) (2 * t.val + 1 + 1)))
      ∗ tok q2 (thr d i) arg3 X ∗ any' (thr d i) arg12 ∗ semVal (thr d i, .dma arg16.sem) 0))
    case hab =>
      iintro ⟨⟨Hmw, Ho, Ht, Hv, HO⟩, Ha, Hb⟩
      ihave Ha := (show at' (thr d i) arg14 (chunkTo z (fun k => (bwOf v10 v12 k).toInt) _ _ _ _ _ 16) ⊢ at' (thr d i) arg14 (poolTo z (fun k => (bwOf v10 v12 k).toInt) 1000 X (tl i) (2 * t.val + 1 + 1)) from by
        rw [chunkTo_all, ecs, ece, eba]; exact .rfl) $$ Ha
      ihave Hb := any_of_at $$ Hb
      isplitr [Ht Hb Hv]
      · isplitl [Hmw]; · iexact Hmw
        isplitl [Ho]; · iexact Ho
        isplitl [HO] <;> iassumption
      · isplitl [Ht]; · iexact Ht
        isplitl [Hb] <;> iassumption
    apply step_enq
    case hp => rfl
    case hN0 => exact View.amount_pos _ (.dma arg16.sem) (by decide)
    case hC => exact main_mirna_enq1 t
    case hoff => exact fun _ => main_mirna_off1 i t
    refine ⟨?_⟩
    simp only [pure_bind, wp_pure]
    iintro ⟨⟨Hmw, H1, HO, Ha⟩, H2⟩
    imodintro
    isplitl [Hmw]; · iexact Hmw
    isplitl [HO]; · iexact HO
    isplitl [Ha]; · iexact Ha
    isplitl [H1]; · iexact H1
    iexact H2
    all_goals exact fun _ => rfl
  · isplitl [Hmw]; · iexact Hmw
    isplitl [HO]; · iexact HO
    isplitl [Ha]; · iexact Ha
    isplitl [H1]; · iexact H1
    iexact H2
  · iintro %acc ⟨Hmw, HO, Ha, H1, H2⟩
    simp only [wp_pure]
    imodintro
    iapply HQ
    rw [show Scf.trips k0_t68_loop.lb k0_t68_loop.ub k0_t68_loop.st = 2 from main_mirna_trips]
    isplitl [HO]; · iexact HO
    isplitl [Ha]; · iexact Ha
    isplitl [H1]
    · iapply (show slot d i q1 arg3 X arg11 arg15.sem 1000 4 (2 * 2) ⊢ _ from by unfold slot; rw [if_neg (by omega)]) $$ H1
    · iapply (show slot d i q2 arg3 X arg12 arg16.sem 1000 4 (2 * 2 + 1) ⊢ _ from by unfold slot; rw [if_neg (by omega)]) $$ H2

end

end Cert.Proof.Pool

end
-- ==== Proof.Body.lean ====
/- The whole of a tile's body: from the arrays it reads and its own buffers to its rows of the three results. -/
module

public import proofs.«01_k».proof.Proof.Gen.KernelIdeal
public import proofs.«01_k».proof.Proof.Gen.KernelIdeal
public import proofs.«01_k».proof.Proof.Steps
public import proofs.«01_k».proof.Proof.MainG
public import proofs.«01_k».proof.Proof.MainM
public import Idealize.ShloMosaic.Lib.SparseCore.Quiescent
public import Idealize.ShloMosaic.Lib.Tactic
public import Idealize.ShloMosaic.Lib.VecWindow
public import Idealize.ShloMosaic.Lib.ValueLayout

@[expose] public section

noncomputable section

namespace Cert.Proof.Pool

open Cert.KernelIdeal
open Facts₀ Facts
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Idealize.ShloMosaic.VecWindow
open Idealize.ShloMosaic.ValueIdx

variable {F : FTy → Type} [FloatOps F]
variable [Facts]

local notation "𝕄" => MT nD τ sig (HIx 1) (Elt F) ℕ UU ℕ

/-- The value both printed accumulators start at. -/
abbrev zr : F .f32 := Scalar.ofBits .f32 0x00000000#32

/-- The first and the second sixteen of the thirty-two bounds. -/
def loV (b : Vec F S32 .i32) : IVec S16 32 := shapeCast S16 (window b ![0] S16.size inb_S32_S16_0) shapeCasts_S16_S16
def hiV (b : Vec F S32 .i32) : IVec S16 32 := shapeCast S16 (window b ![16] S16.size inb_S32_S16_16) shapeCasts_S16_S16

/-- Tile `i`'s rows of a result. -/
abbrev outM (m : Memref sig .scVector .hbm S32x16x128 .f32) (i : grid0.Coords) : Memref sig .scVector .hbm S16x128 .f32 :=
  (m.slice (Rect.unit (s := S32x16x128) (k0_off526 i) S1x16x128.size (k0_off526_inb i)) (fun _ => rfl)).squeeze S16x128 squeezes_S1x16x128_S16x128

theorem wp_bi {c : Thread nD τ} {α β : Type} {p : Prog (TpuEff nD τ sig (Elt F) Λ₀ c.2) α} {k : α → Prog (TpuEff nD τ sig (Elt F) Λ₀ c.2) β} {Q : β → sProp 𝕄} :
    wp frame (wpE defs₀ 𝒱₀ c none) Set.univ p (fun x => wp frame (wpE defs₀ 𝒱₀ c none) Set.univ (k x) Q) ⊢ wp frame (wpE defs₀ 𝒱₀ c none) Set.univ (p >>= k) Q := by
  rw [wp_bind]

/-- The same out of an array held whole. -/
theorem wp_out {c : Thread nD τ} {sp sp' sp1 sp2 : Space} {s s1 s2 : Shape} {e e1 e2 : EltTy} {κ' : Kind} (src : Memref sig c.2.kind sp s e) (dst : Memref sig c.2.kind sp' s e) (sem : DmaSem sig)
    (srcw : Memref sig c.2.kind sp1 s1 e1) (dstw : Memref sig κ' sp2 s2 e2) (hN : dstw.view.dmaCredit = dst.view.dmaCredit)
    (X : Vec F s e) (hN0 : 0 < dst.view.dmaCredit) (h1) (h2) (h3) (h4) (h5) {O : CellTallies nD τ sig (HIx 1)} {W : Waits sig (HIx 1)} {α : Type}
    {k : PUnit → Prog (TpuEff nD τ sig (Elt F) Λ₀ c.2) α} {Q : α → sProp 𝕄} :
    iprop(at' c src X ∗ any' c dst ∗ semVal (c, .dma sem) 0 ∗ Ow c O W ∗ MayWaits c none O) ⊢
      iprop((at' c dst X ∗ at' c src X ∗ semVal (c, .dma sem) 0 ∗ Ow c O W -∗ wp frame (wpE defs₀ 𝒱₀ c none) Set.univ (k ⟨⟩) Q)
      -∗ wp frame (wpE defs₀ 𝒱₀ c none) Set.univ (Prog.lift (.enqueueDma src (.here dst) (.dma sem) h1 h2 h3) >>= fun _ => Prog.lift (.waitDma2 sem srcw dstw h4 h5) >>= k) Q) :=
  wp_sync src dst sem srcw dstw hN fullShare X hN0 h1 h2 h3 h4 h5

variable (d : Dev nD)

/-- A chunk started before the loop. -/
theorem wp_start {i : grid0.Coords} (q : PosShare TreeShare) {R : ℕ} [NeZero R] (m : Memref sig .scVector .hbm ⟨2, ![R, 128]⟩ .f32) (X : Vec F ⟨2, ![R, 128]⟩ .f32)
    (buf : Memref sig .scVector .vmem S256x128 .f32) (sem : DmaSem sig) (K NC n : ℕ) (hn : n < NC) (off : Fin 2 → ℕ) (he : off = ![baN K (tl i) n, 0])
    (inb : ∀ a, off a + S256x128.size a ≤ (⟨2, ![R, 128]⟩ : Shape).size a) (hst) (hN0 : 0 < buf.view.dmaCredit) (h1) (h2) (h3) {α : Type} {k : PUnit → TileProg F i α} {Q : α → sProp 𝕄} :
    iprop(tok q (thr d i) m X ∗ any' (thr d i) buf ∗ semVal (thr d i, .dma sem) 0) ⊢
      iprop((slot d i q m X buf sem K NC n -∗ wp frame (wpE defs₀ 𝒱₀ (thr d i) none) Set.univ (k ⟨⟩) Q)
      -∗ wp frame (wpE defs₀ 𝒱₀ (thr d i) none) Set.univ
          (Prog.lift (.enqueueDma (m.slice (Rect.unit (s := ⟨2, ![R, 128]⟩) off S256x128.size inb) hst) (.here buf) (.dma sem) h1 h2 h3) >>= k) Q) := by
  iintro HR HQ
  iapply (wp_enqS (c := thr d i) m off S256x128.size inb hst buf sem q X hN0 h1 h2 h3) $$ HR
  iintro HF
  iapply HQ
  unfold slot
  rw [if_pos hn, window_rows X off _ he inb]
  iexact HF

section parts

variable (i : grid0.Coords) (arg2 : Memref sig .scVector .hbm S320000x128 .f32) (harg2 : arg2.IsWhole) (arg3 : Memref sig .scVector .hbm S32000x128 .f32) (harg3 : arg3.IsWhole) (arg4 : Memref sig .scVector .hbm S400000x128 .f32) (harg4 : arg4.IsWhole) (arg5 : Memref sig .scVector .hbm S32 .i32) (harg5 : arg5.IsWhole) (arg6 : Memref sig .scVector .hbm S32 .i32) (harg6 : arg6.IsWhole) (arg7 : Memref sig .scVector .hbm S32 .i32) (harg7 : arg7.IsWhole) (arg8 : Memref sig .scVector .hbm S32x16x128 .f32) (harg8 : arg8.IsWhole) (arg9 : Memref sig .scVector .hbm S32x16x128 .f32) (harg9 : arg9.IsWhole) (arg10 : Memref sig .scVector .hbm S32x16x128 .f32) (harg10 : arg10.IsWhole) (arg11 : Memref sig .scVector .vmem S256x128 .f32) (harg11 : arg11.IsWhole) (arg12 : Memref sig .scVector .vmem S256x128 .f32) (harg12 : arg12.IsWhole) (arg13 : Memref sig .scVector .vmem S32 .i32) (harg13 : arg13.IsWhole) (arg14 : Memref sig .scVector .vmem S16x128 .f32) (harg14 : arg14.IsWhole) (arg15 : DmaSems sig S_) (arg16 : DmaSems sig S_) (v58_r0 : DmaSems sig S_) (v58_r1 : DmaSems sig S_) (v58_r2 : DmaSems sig S_) (v58_r3 : DmaSems sig S_) (v58_r4 : DmaSems sig S_) (v58_r5 : DmaSems sig S_)

theorem off9_at (r : Fin 2) : k0_off9 i (BitVec.ofNat 32 (256 * r.val)) = ![baN 10000 (tl i) r.val, 0] := by
  rw [Gen.k0_off9_eq]
  have h0 : (i 0).val < 2 := (i 0).isLt
  have h1 : (i 1).val < 16 := (i 1).isLt
  have hr := r.isLt
  unfold baN csN tl
  congr 1
  omega

theorem off535_at (r : Fin 2) : k0_off535 i (BitVec.ofNat 32 (256 * r.val)) = ![baN 1000 (tl i) r.val, 0] := by
  rw [Gen.k0_off535_eq]
  have h0 : (i 0).val < 2 := (i 0).isLt
  have h1 : (i 1).val < 16 := (i 1).isLt
  have hr := r.isLt
  unfold baN csN tl
  congr 1
  omega

variable {O : CellTallies nD τ sig (HIx 1)} {W : Waits sig (HIx 1)}

theorem part457 (q : PosShare TreeShare) (b : Vec F S32 .i32) {Q : _ → sProp 𝕄} :
    iprop(MayWaits (thr d i) none O ∗ Ow (thr d i) O W ∗ tok q (thr d i) arg5 b ∗ any' (thr d i) arg13 ∗ semVal (thr d i, .dma v58_r0.sem) 0)
    ⊢ iprop((Ow (thr d i) O W ∗ tok q (thr d i) arg5 b ∗ at' (thr d i) arg13 b ∗ semVal (thr d i, .dma v58_r0.sem) 0
        -∗ Q ⟨tileW i, broadcast S16 zr, loW 10000#32 i, Scalar.minsi (Scalar.addi (loW 10000#32 i) 10000#32) 320000#32, 0#32, 0#32, 1#32⟩)
      -∗ wp frame (wpE defs₀ 𝒱₀ (thr d i) none) Set.univ (k0_part457 i arg2 harg2 arg3 harg3 arg4 harg4 arg5 harg5 arg6 harg6 arg7 harg7 arg8 harg8 arg9 harg9 arg10 harg10 arg11 harg11 arg12 harg12 arg13 harg13 arg14 harg14 arg15 arg16 v58_r0 v58_r1 v58_r2 v58_r3 v58_r4 v58_r5) Q) := by
  unfold k0_part457 loW tileW
  iintro ⟨Hmw, HO, Hs, Hd, Hv⟩ HQ
  iapply (wp_sync (c := thr d i) arg5 arg13 v58_r0.sem arg5 arg13 rfl q b (View.amount_pos _ (.dma v58_r0.sem) (by decide)) _ _ _ _ _) $$ [Hs Hd Hv HO Hmw]
  · isplitl [Hs]; · iexact Hs
    isplitl [Hd]; · iexact Hd
    isplitl [Hv]; · iexact Hv
    isplitl [HO] <;> iassumption
  iintro ⟨Hd, Hs, Hv, HO⟩
  simp only [wp_pure]
  imodintro
  iapply HQ
  isplitl [HO]; · iexact HO
  isplitl [Hs]; · iexact Hs
  isplitl [Hd] <;> iassumption

theorem part459 (q1 q2 : PosShare TreeShare) (X : Vec F S320000x128 .f32) (b : Vec F S32 .i32) {Q : _ → sProp 𝕄} :
    iprop(at' (thr d i) arg13 b ∗ (tok q1 (thr d i) arg2 X ∗ any' (thr d i) arg11 ∗ semVal (thr d i, .dma arg15.sem) 0)
        ∗ (tok q2 (thr d i) arg2 X ∗ any' (thr d i) arg12 ∗ semVal (thr d i, .dma arg16.sem) 0))
    ⊢ iprop((at' (thr d i) arg13 b ∗ slot d i q1 arg2 X arg11 arg15.sem 10000 40 0 ∗ slot d i q2 arg2 X arg12 arg16.sem 10000 40 1
        -∗ Q ⟨loV b, hiV b, 0#32, 0#32, 1#32⟩)
      -∗ wp frame (wpE defs₀ 𝒱₀ (thr d i) none) Set.univ (k0_part459 i arg2 harg2 arg3 harg3 arg4 harg4 arg5 harg5 arg6 harg6 arg7 harg7 arg8 harg8 arg9 harg9 arg10 harg10 arg11 harg11 arg12 harg12 arg13 harg13 arg14 harg14 arg15 arg16 v58_r0 v58_r1 v58_r2 v58_r3 v58_r4 v58_r5 (loW 10000#32 i)) Q) := by
  unfold k0_part459 loV hiV
  iintro ⟨Hb, H1, H2⟩ HQ
  iapply (wp_ld (c := thr d i) arg13 b _ _ _ _) $$ Hb; iintro Hb
  iapply (wp_ld (c := thr d i) arg13 b _ _ _ _) $$ Hb; iintro Hb
  iapply (wp_start d q1 arg2 X arg11 arg15.sem 10000 40 0 (by decide) _ (off9_at i 0) _ _ (View.amount_pos _ (.dma arg15.sem) (by decide)) _ _ _) $$ H1; iintro H1
  iapply (wp_start d q2 arg2 X arg12 arg16.sem 10000 40 1 (by decide) _ (off9_at i 1) _ _ (View.amount_pos _ (.dma arg16.sem) (by decide)) _ _ _) $$ H2; iintro H2
  simp only [wp_pure]
  imodintro
  iapply HQ
  isplitl [Hb]; · iexact Hb
  isplitl [H1] <;> iassumption

theorem part463 (q1 q2 : PosShare TreeShare) (X : Vec F S32000x128 .f32) (b : Vec F S32 .i32) {Q : _ → sProp 𝕄} :
    iprop(at' (thr d i) arg13 b ∗ (tok q1 (thr d i) arg3 X ∗ any' (thr d i) arg11 ∗ semVal (thr d i, .dma arg15.sem) 0)
        ∗ (tok q2 (thr d i) arg3 X ∗ any' (thr d i) arg12 ∗ semVal (thr d i, .dma arg16.sem) 0))
    ⊢ iprop((at' (thr d i) arg13 b ∗ slot d i q1 arg3 X arg11 arg15.sem 1000 4 0 ∗ slot d i q2 arg3 X arg12 arg16.sem 1000 4 1
        -∗ Q ⟨loV b, hiV b, 0#32, 0#32, 1#32⟩)
      -∗ wp frame (wpE defs₀ 𝒱₀ (thr d i) none) Set.univ (k0_part463 i arg2 harg2 arg3 harg3 arg4 harg4 arg5 harg5 arg6 harg6 arg7 harg7 arg8 harg8 arg9 harg9 arg10 harg10 arg11 harg11 arg12 harg12 arg13 harg13 arg14 harg14 arg15 arg16 v58_r0 v58_r1 v58_r2 v58_r3 v58_r4 v58_r5 (loW 1000#32 i)) Q) := by
  unfold k0_part463 loV hiV
  iintro ⟨Hb, H1, H2⟩ HQ
  iapply (wp_ld (c := thr d i) arg13 b _ _ _ _) $$ Hb; iintro Hb
  iapply (wp_ld (c := thr d i) arg13 b _ _ _ _) $$ Hb; iintro Hb
  iapply (wp_start d q1 arg3 X arg11 arg15.sem 1000 4 0 (by decide) _ (off535_at i 0) _ _ (View.amount_pos _ (.dma arg15.sem) (by decide)) _ _ _) $$ H1; iintro H1
  iapply (wp_start d q2 arg3 X arg12 arg16.sem 1000 4 1 (by decide) _ (off535_at i 1) _ _ (View.amount_pos _ (.dma arg16.sem) (by decide)) _ _ _) $$ H2; iintro H2
  simp only [wp_pure]
  imodintro
  iapply HQ
  isplitl [Hb]; · iexact Hb
  isplitl [H1] <;> iassumption

/-- A result's rows written, and the next bounds read. -/
theorem part461 (q : PosShare TreeShare) (b : Vec F S32 .i32) (A : Vec F S16x128 .f32) {Q : _ → sProp 𝕄} :
    iprop(MayWaits (thr d i) none O ∗ Ow (thr d i) O W ∗ (at' (thr d i) arg14 A ∗ any' (thr d i) (outM arg8 i) ∗ semVal (thr d i, .dma v58_r1.sem) 0)
        ∗ (tok q (thr d i) arg6 b ∗ any' (thr d i) arg13 ∗ semVal (thr d i, .dma v58_r2.sem) 0))
    ⊢ iprop((Ow (thr d i) O W ∗ (at' (thr d i) arg14 A ∗ at' (thr d i) (outM arg8 i) A ∗ semVal (thr d i, .dma v58_r1.sem) 0)
        ∗ (tok q (thr d i) arg6 b ∗ at' (thr d i) arg13 b ∗ semVal (thr d i, .dma v58_r2.sem) 0)
        -∗ Q ⟨loW 1000#32 i, Scalar.minsi (Scalar.addi (loW 1000#32 i) 1000#32) 32000#32, 0#32, 0#32, 1#32⟩)
      -∗ wp frame (wpE defs₀ 𝒱₀ (thr d i) none) Set.univ (k0_part461 i arg2 harg2 arg3 harg3 arg4 harg4 arg5 harg5 arg6 harg6 arg7 harg7 arg8 harg8 arg9 harg9 arg10 harg10 arg11 harg11 arg12 harg12 arg13 harg13 arg14 harg14 arg15 arg16 v58_r0 v58_r1 v58_r2 v58_r3 v58_r4 v58_r5 (tileW i)) Q) := by
  unfold k0_part461 loW
  iintro ⟨Hmw, HO, ⟨Ha, Hd', Hv'⟩, Hs, Hd, Hv⟩ HQ
  icases Hmw with #Hmw
  iapply (wp_out (c := thr d i) arg14 (outM arg8 i) v58_r1.sem arg14 (outM arg8 i) rfl A (View.amount_pos _ (.dma v58_r1.sem) (by decide)) _ _ _ _ _) $$ [Ha Hd' Hv' HO]
  · isplitl [Ha]; · iexact Ha
    isplitl [Hd']; · iexact Hd'
    isplitl [Hv']; · iexact Hv'
    isplitl [HO]; · iexact HO
    iexact Hmw
  iintro ⟨Hd', Ha, Hv', HO⟩
  iapply (wp_sync (c := thr d i) arg6 arg13 v58_r2.sem arg6 arg13 rfl q b (View.amount_pos _ (.dma v58_r2.sem) (by decide)) _ _ _ _ _) $$ [Hs Hd Hv HO]
  · isplitl [Hs]; · iexact Hs
    isplitl [Hd]; · iexact Hd
    isplitl [Hv]; · iexact Hv
    isplitl [HO]; · iexact HO
    iexact Hmw
  iintro ⟨Hd, Hs, Hv, HO⟩
  simp only [wp_pure]
  imodintro
  iapply HQ
  isplitl [HO]; · iexact HO
  isplitl [Ha Hd' Hv']
  · isplitl [Ha]; · iexact Ha
    isplitl [Hd'] <;> iassumption
  · isplitl [Hs]; · iexact Hs
    isplitl [Hd] <;> iassumption

theorem part465 (q : PosShare TreeShare) (b : Vec F S32 .i32) (A : Vec F S16x128 .f32) {Q : _ → sProp 𝕄} :
    iprop(MayWaits (thr d i) none O ∗ Ow (thr d i) O W ∗ (at' (thr d i) arg14 A ∗ any' (thr d i) (outM arg9 i) ∗ semVal (thr d i, .dma v58_r3.sem) 0)
        ∗ (tok q (thr d i) arg7 b ∗ any' (thr d i) arg13 ∗ semVal (thr d i, .dma v58_r4.sem) 0))
    ⊢ iprop((Ow (thr d i) O W ∗ (at' (thr d i) arg14 A ∗ at' (thr d i) (outM arg9 i) A ∗ semVal (thr d i, .dma v58_r3.sem) 0)
        ∗ (tok q (thr d i) arg7 b ∗ at' (thr d i) arg13 b ∗ semVal (thr d i, .dma v58_r4.sem) 0)
        -∗ Q ⟨0#32, 0#32, 1#32⟩)
      -∗ wp frame (wpE defs₀ 𝒱₀ (thr d i) none) Set.univ (k0_part465 i arg2 harg2 arg3 harg3 arg4 harg4 arg5 harg5 arg6 harg6 arg7 harg7 arg8 harg8 arg9 harg9 arg10 harg10 arg11 harg11 arg12 harg12 arg13 harg13 arg14 harg14 arg15 arg16 v58_r0 v58_r1 v58_r2 v58_r3 v58_r4 v58_r5 (tileW i)) Q) := by
  unfold k0_part465
  iintro ⟨Hmw, HO, ⟨Ha, Hd', Hv'⟩, Hs, Hd, Hv⟩ HQ
  icases Hmw with #Hmw
  iapply (wp_out (c := thr d i) arg14 (outM arg9 i) v58_r3.sem arg14 (outM arg9 i) rfl A (View.amount_pos _ (.dma v58_r3.sem) (by decide)) _ _ _ _ _) $$ [Ha Hd' Hv' HO]
  · isplitl [Ha]; · iexact Ha
    isplitl [Hd']; · iexact Hd'
    isplitl [Hv']; · iexact Hv'
    isplitl [HO]; · iexact HO
    iexact Hmw
  iintro ⟨Hd', Ha, Hv', HO⟩
  iapply (wp_sync (c := thr d i) arg7 arg13 v58_r4.sem arg7 arg13 rfl q b (View.amount_pos _ (.dma v58_r4.sem) (by decide)) _ _ _ _ _) $$ [Hs Hd Hv HO]
  · isplitl [Hs]; · iexact Hs
    isplitl [Hd]; · iexact Hd
    isplitl [Hv]; · iexact Hv
    isplitl [HO]; · iexact HO
    iexact Hmw
  iintro ⟨Hd, Hs, Hv, HO⟩
  simp only [wp_pure]
  imodintro
  iapply HQ
  isplitl [HO]; · iexact HO
  isplitl [Ha Hd' Hv']
  · isplitl [Ha]; · iexact Ha
    isplitl [Hd'] <;> iassumption
  · isplitl [Hs]; · iexact Hs
    isplitl [Hd] <;> iassumption

/-- What a tile's rows of the first two results hold at the end. -/
def poolG (X : Vec F S320000x128 .f32) (b : Vec F S32 .i32) (t : ℕ) : Vec F S16x128 .f32 := poolTo zr (fun k => (bwOf (loV b) (hiV b) k).toInt) 10000 X t 40
def poolM (X : Vec F S32000x128 .f32) (b : Vec F S32 .i32) (t : ℕ) : Vec F S16x128 .f32 := poolTo zr (fun k => (bwOf (loV b) (hiV b) k).toInt) 1000 X t 4

/-- The buffers and semaphores of a tile, all at rest. -/
def rest : sProp 𝕄 :=
  iprop(any' (thr d i) arg11 ∗ any' (thr d i) arg12 ∗ any' (thr d i) arg13 ∗ any' (thr d i) arg14
    ∗ semVal (thr d i, .dma arg15.sem) 0 ∗ semVal (thr d i, .dma arg16.sem) 0
    ∗ semVal (thr d i, .dma v58_r0.sem) 0 ∗ semVal (thr d i, .dma v58_r1.sem) 0 ∗ semVal (thr d i, .dma v58_r2.sem) 0
    ∗ semVal (thr d i, .dma v58_r3.sem) 0 ∗ semVal (thr d i, .dma v58_r4.sem) 0 ∗ semVal (thr d i, .dma v58_r5.sem) 0)

/-- The read shares a tile holds. -/
def reads (q1 q2 q3 q4 q5 q6 q7 : PosShare TreeShare) (X : Vec F S320000x128 .f32) (Y : Vec F S32000x128 .f32) (b5 b6 b7 : Vec F S32 .i32) : sProp 𝕄 :=
  iprop(tok q1 (thr d i) arg2 X ∗ tok q2 (thr d i) arg2 X ∗ tok q3 (thr d i) arg3 Y ∗ tok q4 (thr d i) arg3 Y
    ∗ tok q5 (thr d i) arg5 b5 ∗ tok q6 (thr d i) arg6 b6 ∗ tok q7 (thr d i) arg7 b7)

set_option maxHeartbeats 2000000 in
theorem wp_tile (q1 q2 q3 q4 q5 q6 q7 : PosShare TreeShare) (X : Vec F S320000x128 .f32) (Y : Vec F S32000x128 .f32) (b5 b6 b7 : Vec F S32 .i32) {Q : PUnit → sProp 𝕄} :
    iprop(MayWaits (thr d i) none O ∗ Ow (thr d i) O W ∗ rest d i arg11 arg12 arg13 arg14 arg15 arg16 v58_r0 v58_r1 v58_r2 v58_r3 v58_r4 v58_r5 ∗ reads d i arg2 arg3 arg5 arg6 arg7 q1 q2 q3 q4 q5 q6 q7 X Y b5 b6 b7
        ∗ any' (thr d i) (outM arg8 i) ∗ any' (thr d i) (outM arg9 i) ∗ any' (thr d i) (outM arg10 i))
    ⊢ iprop((Ow (thr d i) O W ∗ rest d i arg11 arg12 arg13 arg14 arg15 arg16 v58_r0 v58_r1 v58_r2 v58_r3 v58_r4 v58_r5 ∗ reads d i arg2 arg3 arg5 arg6 arg7 q1 q2 q3 q4 q5 q6 q7 X Y b5 b6 b7
        ∗ at' (thr d i) (outM arg8 i) (poolG X b5 (tl i)) ∗ at' (thr d i) (outM arg9 i) (poolM Y b6 (tl i)) ∗ at' (thr d i) (outM arg10 i) (fun _ => zr)
        -∗ Q ⟨⟩)
      -∗ wp frame (wpE defs₀ 𝒱₀ (thr d i) none) Set.univ (cc0_sc_pool i arg2 harg2 arg3 harg3 arg4 harg4 arg5 harg5 arg6 harg6 arg7 harg7 arg8 harg8 arg9 harg9 arg10 harg10 arg11 harg11 arg12 harg12 arg13 harg13 arg14 harg14 arg15 arg16 v58_r0 v58_r1 v58_r2 v58_r3 v58_r4 v58_r5) Q) := by
  unfold cc0_sc_pool rest reads
  iintro ⟨Hmw, HO, ⟨H11, H12, H13, H14, S15, S16, R0, R1, R2, R3, R4, R5⟩, ⟨T1, T2, T3, T4, T5, T6, T7⟩, O8, O9, O10⟩ HQ
  icases Hmw with #Hmw
  iapply wp_bi
  iapply (part457 d i arg2 harg2 arg3 harg3 arg4 harg4 arg5 harg5 arg6 harg6 arg7 harg7 arg8 harg8 arg9 harg9 arg10 harg10 arg11 harg11 arg12 harg12 arg13 harg13 arg14 harg14 arg15 arg16 v58_r0 v58_r1 v58_r2 v58_r3 v58_r4 v58_r5 q5 b5) $$ [HO T5 H13 R0]
  · isplitr; · iexact Hmw
    isplitl [HO]; · iexact HO
    isplitl [T5]; · iexact T5
    isplitl [H13] <;> iassumption
  iintro ⟨HO, T5, H13, R0⟩
  dsimp only
  iapply wp_bi
  iapply (part_zero d arg2 harg2 arg3 harg3 arg4 harg4 arg5 harg5 arg6 harg6 arg7 harg7 arg8 harg8 arg9 harg9 arg10 harg10 arg11 harg11 arg12 harg12 arg13 harg13 arg14 harg14 arg15 arg16 v58_r0 v58_r1 v58_r2 v58_r3 v58_r4 v58_r5 zr) $$ H14; iintro H14
  iapply wp_bi
  iapply (part459 d i arg2 harg2 arg3 harg3 arg4 harg4 arg5 harg5 arg6 harg6 arg7 harg7 arg8 harg8 arg9 harg9 arg10 harg10 arg11 harg11 arg12 harg12 arg13 harg13 arg14 harg14 arg15 arg16 v58_r0 v58_r1 v58_r2 v58_r3 v58_r4 v58_r5 q1 q2 X b5) $$ [H13 T1 H11 S15 T2 H12 S16]
  · isplitl [H13]; · iexact H13
    isplitl [T1 H11 S15]
    · isplitl [T1]; · iexact T1
      isplitl [H11] <;> iassumption
    · isplitl [T2]; · iexact T2
      isplitl [H12] <;> iassumption
  iintro ⟨H13, L1, L2⟩
  dsimp only
  iapply wp_bi
  iapply (main_gene d i arg2 harg2 arg3 harg3 arg4 harg4 arg5 harg5 arg6 harg6 arg7 harg7 arg8 harg8 arg9 harg9 arg10 harg10 arg11 harg11 arg12 harg12 arg13 harg13 arg14 harg14 arg15 arg16 v58_r0 v58_r1 v58_r2 v58_r3 v58_r4 v58_r5 q1 q2 X zr (loV b5) (hiV b5)) $$ [HO H14 L1 L2]
  · isplitr; · iexact Hmw
    isplitl [HO]; · iexact HO
    isplitl [H14]; · iexact H14
    isplitl [L1] <;> iassumption
  iintro ⟨HO, H14, ⟨H11, T1, S15⟩, H12, T2, S16⟩
  iapply wp_bi
  ihave H13 := (any_of_at (c := thr d i) arg13 b5) $$ H13
  iapply (part461 d i arg2 harg2 arg3 harg3 arg4 harg4 arg5 harg5 arg6 harg6 arg7 harg7 arg8 harg8 arg9 harg9 arg10 harg10 arg11 harg11 arg12 harg12 arg13 harg13 arg14 harg14 arg15 arg16 v58_r0 v58_r1 v58_r2 v58_r3 v58_r4 v58_r5 q6 b6 _) $$ [HO H14 O8 R1 T6 H13 R2]
  · isplitr; · iexact Hmw
    isplitl [HO]; · iexact HO
    isplitl [H14 O8 R1]
    · isplitl [H14]; · iexact H14
      isplitl [O8] <;> iassumption
    · isplitl [T6]; · iexact T6
      isplitl [H13] <;> iassumption
  iintro ⟨HO, ⟨H14, O8, R1⟩, T6, H13, R2⟩
  dsimp only
  iapply wp_bi
  ihave H14 := (any_of_at (c := thr d i) arg14 _) $$ H14
  iapply (show _ ⊢ iprop(_ -∗ wp frame (wpE defs₀ 𝒱₀ (thr d i) none) Set.univ (k0_part462 i arg2 harg2 arg3 harg3 arg4 harg4 arg5 harg5 arg6 harg6 arg7 harg7 arg8 harg8 arg9 harg9 arg10 harg10 arg11 harg11 arg12 harg12 arg13 harg13 arg14 harg14 arg15 arg16 v58_r0 v58_r1 v58_r2 v58_r3 v58_r4 v58_r5 (broadcast S16 zr) 0#32 0#32 1#32) _) from part462_eq (F := F) arg2 harg2 arg3 harg3 arg4 harg4 arg5 harg5 arg6 harg6 arg7 harg7 arg8 harg8 arg9 harg9 arg10 harg10 arg11 harg11 arg12 harg12 arg13 harg13 arg14 harg14 arg15 arg16 v58_r0 v58_r1 v58_r2 v58_r3 v58_r4 v58_r5 _ ▸ part_zero d arg2 harg2 arg3 harg3 arg4 harg4 arg5 harg5 arg6 harg6 arg7 harg7 arg8 harg8 arg9 harg9 arg10 harg10 arg11 harg11 arg12 harg12 arg13 harg13 arg14 harg14 arg15 arg16 v58_r0 v58_r1 v58_r2 v58_r3 v58_r4 v58_r5 zr) $$ H14
  iintro H14
  iapply wp_bi
  iapply (part463 d i arg2 harg2 arg3 harg3 arg4 harg4 arg5 harg5 arg6 harg6 arg7 harg7 arg8 harg8 arg9 harg9 arg10 harg10 arg11 harg11 arg12 harg12 arg13 harg13 arg14 harg14 arg15 arg16 v58_r0 v58_r1 v58_r2 v58_r3 v58_r4 v58_r5 q3 q4 Y b6) $$ [H13 T3 H11 S15 T4 H12 S16]
  · isplitl [H13]; · iexact H13
    isplitl [T3 H11 S15]
    · isplitl [T3]; · iexact T3
      isplitl [H11] <;> iassumption
    · isplitl [T4]; · iexact T4
      isplitl [H12] <;> iassumption
  iintro ⟨H13, L1, L2⟩
  dsimp only
  iapply wp_bi
  iapply (main_mirna d i arg2 harg2 arg3 harg3 arg4 harg4 arg5 harg5 arg6 harg6 arg7 harg7 arg8 harg8 arg9 harg9 arg10 harg10 arg11 harg11 arg12 harg12 arg13 harg13 arg14 harg14 arg15 arg16 v58_r0 v58_r1 v58_r2 v58_r3 v58_r4 v58_r5 q3 q4 Y zr (loV b6) (hiV b6)) $$ [HO H14 L1 L2]
  · isplitr; · iexact Hmw
    isplitl [HO]; · iexact HO
    isplitl [H14]; · iexact H14
    isplitl [L1] <;> iassumption
  iintro ⟨HO, H14, ⟨H11, T3, S15⟩, H12, T4, S16⟩
  iapply wp_bi
  ihave H13 := (any_of_at (c := thr d i) arg13 b6) $$ H13
  iapply (part465 d i arg2 harg2 arg3 harg3 arg4 harg4 arg5 harg5 arg6 harg6 arg7 harg7 arg8 harg8 arg9 harg9 arg10 harg10 arg11 harg11 arg12 harg12 arg13 harg13 arg14 harg14 arg15 arg16 v58_r0 v58_r1 v58_r2 v58_r3 v58_r4 v58_r5 q7 b7 _) $$ [HO H14 O9 R3 T7 H13 R4]
  · isplitr; · iexact Hmw
    isplitl [HO]; · iexact HO
    isplitl [H14 O9 R3]
    · isplitl [H14]; · iexact H14
      isplitl [O9] <;> iassumption
    · isplitl [T7]; · iexact T7
      isplitl [H13] <;> iassumption
  iintro ⟨HO, ⟨H14, O9, R3⟩, T7, H13, R4⟩
  dsimp only
  iapply wp_bi
  ihave H14 := (any_of_at (c := thr d i) arg14 _) $$ H14
  iapply (show _ ⊢ iprop(_ -∗ wp frame (wpE defs₀ 𝒱₀ (thr d i) none) Set.univ (k0_part466 i arg2 harg2 arg3 harg3 arg4 harg4 arg5 harg5 arg6 harg6 arg7 harg7 arg8 harg8 arg9 harg9 arg10 harg10 arg11 harg11 arg12 harg12 arg13 harg13 arg14 harg14 arg15 arg16 v58_r0 v58_r1 v58_r2 v58_r3 v58_r4 v58_r5 (broadcast S16 zr) 0#32 0#32 1#32) _) from part466_eq (F := F) arg2 harg2 arg3 harg3 arg4 harg4 arg5 harg5 arg6 harg6 arg7 harg7 arg8 harg8 arg9 harg9 arg10 harg10 arg11 harg11 arg12 harg12 arg13 harg13 arg14 harg14 arg15 arg16 v58_r0 v58_r1 v58_r2 v58_r3 v58_r4 v58_r5 _ ▸ part_zero d arg2 harg2 arg3 harg3 arg4 harg4 arg5 harg5 arg6 harg6 arg7 harg7 arg8 harg8 arg9 harg9 arg10 harg10 arg11 harg11 arg12 harg12 arg13 harg13 arg14 harg14 arg15 arg16 v58_r0 v58_r1 v58_r2 v58_r3 v58_r4 v58_r5 zr) $$ H14
  iintro H14
  iapply (wp_ld (c := thr d i) arg13 b7 _ _ _ _) $$ H13; iintro H13
  iapply (wp_ld (c := thr d i) arg13 b7 _ _ _ _) $$ H13; iintro H13
  iapply (wp_out (c := thr d i) arg14 (outM arg10 i) v58_r5.sem arg14 (outM arg10 i) rfl (fun _ => zr) (View.amount_pos _ (.dma v58_r5.sem) (by decide)) _ _ _ _ _) $$ [H14 O10 R5 HO]
  · isplitl [H14]; · iexact H14
    isplitl [O10]; · iexact O10
    isplitl [R5]; · iexact R5
    isplitl [HO]; · iexact HO
    iexact Hmw
  iintro ⟨O10, H14, R5, HO⟩
  simp only [wp_pure]
  imodintro
  ihave H13 := (any_of_at (c := thr d i) arg13 b7) $$ H13
  ihave H14 := (any_of_at (c := thr d i) arg14 _) $$ H14
  iapply HQ
  isplitl [HO]; · iexact HO
  isplitl [H11 H12 H13 H14 S15 S16 R0 R1 R2 R3 R4 R5]
  · isplitl [H11]; · iexact H11
    isplitl [H12]; · iexact H12
    isplitl [H13]; · iexact H13
    isplitl [H14]; · iexact H14
    isplitl [S15]; · iexact S15
    isplitl [S16]; · iexact S16
    isplitl [R0]; · iexact R0
    isplitl [R1]; · iexact R1
    isplitl [R2]; · iexact R2
    isplitl [R3]; · iexact R3
    isplitl [R4] <;> iassumption
  isplitl [T1 T2 T3 T4 T5 T6 T7]
  · isplitl [T1]; · iexact T1
    isplitl [T2]; · iexact T2
    isplitl [T3]; · iexact T3
    isplitl [T4]; · iexact T4
    isplitl [T5]; · iexact T5
    isplitl [T6] <;> iassumption
  isplitl [O8]; · unfold poolG; iexact O8
  isplitl [O9]; · unfold poolM; iexact O9
  iexact O10

end parts

end Cert.Proof.Pool

end
-- ==== Proof.Tile.lean ====
/- What a tile is dealt and hands back, and its body from one to the other. -/
module

public import proofs.«01_k».proof.KernelIdeal
public import proofs.«01_k».proof.Proof.Body
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ValueLayout

@[expose] public section

noncomputable section

namespace Cert.Proof.Pool

open Cert.KernelIdeal
open Facts₀ Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Idealize.ShloMosaic.VecWindow
open Idealize.ShloMosaic.ValueIdx

variable {F : FTy → Type} [FloatOps F]
variable [Facts]

/-! ## The program as the launch sees it -/

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

omit [FloatOps F] in
theorem launch_facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-- An array of the TensorCore's on device `d`. -/
abbrev tcLoc (d : Dev nD) (b : Ref sig .tc) : Loc nD τ sig := (SparseCore.T d).loc b

/-! ## The host's arrays at the call -/

/-- What the arrays the tiles read hold when the call starts, on one device. -/
structure Arr (F : FTy → Type) where
  gX : Vec F S320000x128 .f32
  gM : Vec F S32000x128 .f32
  bG : Vec F S32 .i32
  bM : Vec F S32 .i32
  bC : Vec F S32 .i32

/-- The three results. -/
def resG (A : Arr F) : Vec F S32x16x128 .f32 := fun p => poolG A.gX A.bG (p 0).val (ix2 (p 1) (p 2))
def resM (A : Arr F) : Vec F S32x16x128 .f32 := fun p => poolM A.gM A.bM (p 0).val (ix2 (p 1) (p 2))
def resC : Vec F S32x16x128 .f32 := fun _ => zr

/-- Row `t` of a result. -/
def row (t : ℕ) : Finset S32x16x128.Idx := Finset.univ.filter fun p => (p 0).val = t

/-- Tile number `t`'s read shares of the five arrays it reads. -/
abbrev σ (t : ℕ) : PosShare TreeShare := shareTokN fullShare t

def readsT (A : Arr F) (d : Dev nD) (q : PosShare TreeShare) : sProp 𝕄 :=
  iprop((tcLoc d main_arg0 ↦{q} A.gX) ∗ (tcLoc d main_arg2 ↦{q} A.gM) ∗ (tcLoc d main_v0 ↦{q} A.bG) ∗ (tcLoc d main_v1 ↦{q} A.bM) ∗ (tcLoc d main_v2 ↦{q} A.bC))

def rowAny (d : Dev nD) (b : Ref sig .tc) (R : Finset (Idx (tcLoc d b))) : sProp 𝕄 := iprop(∃ f, tcLoc d b ↦[R]{fullShare} f)

/-- What tile `t` is dealt: its read shares and its row of each result, at any contents; what it hands back. -/
def goT (A : Arr F) (d : Dev nD) (t : ℕ) : sProp 𝕄 :=
  iprop(readsT A d (σ t) ∗ rowAny d main_v3_0 (row t) ∗ rowAny d main_v3_1 (row t) ∗ rowAny d main_v3_2 (row t))
def tdT (A : Arr F) (d : Dev nD) (t : ℕ) : sProp 𝕄 :=
  iprop(readsT A d (σ t) ∗ (tcLoc d main_v3_0 ↦[row t]{fullShare} resG A) ∗ (tcLoc d main_v3_1 ↦[row t]{fullShare} resM A) ∗ (tcLoc d main_v3_2 ↦[row t]{fullShare} resC))

instance goT_storable (A : Arr F) (d : Dev nD) (t : ℕ) : BI.Storable (upEmb : UEmb _ 𝕄) (goT A d t) := by unfold goT readsT rowAny; infer_instance
instance tdT_storable (A : Arr F) (d : Dev nD) (t : ℕ) : BI.Storable (upEmb : UEmb _ 𝕄) (tdT A d t) := by unfold tdT readsT; infer_instance

/-! ## The views of the body on those arrays -/

section views

variable (d : Dev nD) (i : grid0.Coords)

theorem tok_whole (q : PosShare TreeShare) (r : Ref sig .scVector) (f : Buf (Elt F) ((thr d i).loc r)) :
    ((thr d i).loc r ↦{q} f : sProp 𝕄) = tok q (thr d i) (Memref.whole r) f := by
  have h := pointsTo_rep (Ix := HIx 1) (Name := ℕ) (U := UU) (Lvl := ℕ) (thr d i) (Memref.whole r) f q
  exact (congrArg (fun S : Finset (Idx ((thr d i).loc r)) => ((thr d i).loc r ↦[S]{q} f : sProp 𝕄)) (View.set_whole r)).symm.trans h

theorem any_whole (r : Ref sig .scVector) :
    (iprop(∃ f, (thr d i).loc r ↦{fullShare} f) : sProp 𝕄) = any' (thr d i) (Memref.whole r) := by
  exact (congrArg (fun S : Finset (Idx ((thr d i).loc r)) => (iprop(∃ f, (thr d i).loc r ↦[S]{fullShare} f) : sProp 𝕄)) (View.set_whole r)).symm

/-- A tile's rows of a result are row `tl i` of it. -/
theorem mem_rect (p : S32x16x128.Idx) :
    p ∈ (Rect.unit (s := S32x16x128) (k0_off526 i) S1x16x128.size (k0_off526_inb i)).set ↔ (p 0).val = tl i := by
  have h1 : (p 1).val < 16 := (p 1).isLt
  have h2 : (p 2).val < 128 := (p 2).isLt
  rw [Rect.mem_set_unit, Gen.k0_off526_eq]
  constructor
  · intro h
    have h0 := h 0
    change 16 * (i 0).val + (i 1).val ≤ (p 0).val ∧ (p 0).val < 16 * (i 0).val + (i 1).val + 1 at h0
    unfold tl
    omega
  · intro h a
    unfold tl at h
    match a with
    | 0 => show 16 * (i 0).val + (i 1).val ≤ (p 0).val ∧ (p 0).val < 16 * (i 0).val + (i 1).val + 1; omega
    | 1 => show 0 ≤ (p 1).val ∧ (p 1).val < 0 + 16; omega
    | 2 => show 0 ≤ (p 2).val ∧ (p 2).val < 0 + 128; omega

theorem rect_set : (Rect.unit (s := S32x16x128) (k0_off526 i) S1x16x128.size (k0_off526_inb i)).set = row (tl i) := by
  ext p
  rw [mem_rect]
  unfold row
  simp

theorem out0_set : (outM (Memref.whole main_v3_0_scv) i).view.set = row (tl i) := by
  show (((View.whole main_v3_0_scv).slice (Rect.unit (s := S32x16x128) (k0_off526 i) S1x16x128.size (k0_off526_inb i))).reshape S16x128 squeezes_S1x16x128_S16x128.numel_eq).set = _
  rw [View.set_reshape, View.set_slice, ← rect_set]; exact Finset.map_refl
theorem out1_set : (outM (Memref.whole main_v3_1_scv) i).view.set = row (tl i) := by
  show (((View.whole main_v3_1_scv).slice (Rect.unit (s := S32x16x128) (k0_off526 i) S1x16x128.size (k0_off526_inb i))).reshape S16x128 squeezes_S1x16x128_S16x128.numel_eq).set = _
  rw [View.set_reshape, View.set_slice, ← rect_set]; exact Finset.map_refl
theorem out2_set : (outM (Memref.whole main_v3_2_scv) i).view.set = row (tl i) := by
  show (((View.whole main_v3_2_scv).slice (Rect.unit (s := S32x16x128) (k0_off526 i) S1x16x128.size (k0_off526_inb i))).reshape S16x128 squeezes_S1x16x128_S16x128.numel_eq).set = _
  rw [View.set_reshape, View.set_slice, ← rect_set]; exact Finset.map_refl

/-- The rectangle of a tile's rows, read through the squeeze. -/
theorem out_read (G : Vec F S32x16x128 .f32) (P : ℕ → Vec F S16x128 .f32) (hG : ∀ p, G p = P (p 0).val (ix2 (p 1) (p 2))) (y : S16x128.Idx) :
    G ((Rect.unit (s := S32x16x128) (k0_off526 i) S1x16x128.size (k0_off526_inb i)).emb (Shape.reshapeEquiv squeezes_S1x16x128_S16x128.numel_eq y)) = P (tl i) y := by
  have hy : y = ix2 (y 0 : Fin 16) (y 1 : Fin 128) := by funext a; match a with | 0 => rfl | 1 => rfl
  have e := shapeCast_1ab_ab_apply (α := F .f32) (window G (k0_off526 i) S1x16x128.size (k0_off526_inb i)) squeezes_S1x16x128_S16x128.numel_eq (y 0) (y 1)
  refine (congrArg (fun z => G ((Rect.unit (s := S32x16x128) (k0_off526 i) S1x16x128.size (k0_off526_inb i)).emb (Shape.reshapeEquiv squeezes_S1x16x128_S16x128.numel_eq z))) hy).trans ?_
  refine Eq.trans e ?_
  show G _ = _
  rw [hG]
  have h0 : ((Rect.unit (s := S32x16x128) (k0_off526 i) S1x16x128.size (k0_off526_inb i)).emb (ix3 (0 : Fin 1) (y 0) (y 1)) 0).val = tl i := by
    show k0_off526 i 0 + 1 * 0 = _
    rw [Gen.k0_off526_eq]; rfl
  have h1 : (Rect.unit (s := S32x16x128) (k0_off526 i) S1x16x128.size (k0_off526_inb i)).emb (ix3 (0 : Fin 1) (y 0) (y 1)) 1 = y 0 := Fin.ext (by
    show k0_off526 i 1 + 1 * (y 0).val = _
    rw [Gen.k0_off526_eq]; show 0 + 1 * (y 0).val = _; omega)
  have h2 : (Rect.unit (s := S32x16x128) (k0_off526 i) S1x16x128.size (k0_off526_inb i)).emb (ix3 (0 : Fin 1) (y 0) (y 1)) 2 = y 1 := Fin.ext (by
    show k0_off526 i 2 + 1 * (y 1).val = _
    rw [Gen.k0_off526_eq]; show 0 + 1 * (y 1).val = _; omega)
  rw [h0, h1, h2]
  exact congrArg (P (tl i)) hy.symm

theorem out0_at (G : Vec F S32x16x128 .f32) (P : ℕ → Vec F S16x128 .f32) (hG : ∀ p, G p = P (p 0).val (ix2 (p 1) (p 2))) :
    at' (thr d i) (outM (Memref.whole main_v3_0_scv) i) (P (tl i)) ⊢ (tcLoc d main_v3_0 ↦[row (tl i)]{fullShare} G : sProp 𝕄) := by
  have h := pointsTo_rep (Ix := HIx 1) (Name := ℕ) (U := UU) (Lvl := ℕ) (thr d i) (outM (Memref.whole main_v3_0_scv) i) G fullShare
  rw [show (outM (Memref.whole main_v3_0_scv) i).view.read (Elt F) G = P (tl i) from funext fun y => out_read i G P hG y] at h
  unfold at'
  rw [← h, out0_set]
theorem out1_at (G : Vec F S32x16x128 .f32) (P : ℕ → Vec F S16x128 .f32) (hG : ∀ p, G p = P (p 0).val (ix2 (p 1) (p 2))) :
    at' (thr d i) (outM (Memref.whole main_v3_1_scv) i) (P (tl i)) ⊢ (tcLoc d main_v3_1 ↦[row (tl i)]{fullShare} G : sProp 𝕄) := by
  have h := pointsTo_rep (Ix := HIx 1) (Name := ℕ) (U := UU) (Lvl := ℕ) (thr d i) (outM (Memref.whole main_v3_1_scv) i) G fullShare
  rw [show (outM (Memref.whole main_v3_1_scv) i).view.read (Elt F) G = P (tl i) from funext fun y => out_read i G P hG y] at h
  unfold at'
  rw [← h, out1_set]
theorem out2_at (G : Vec F S32x16x128 .f32) (P : ℕ → Vec F S16x128 .f32) (hG : ∀ p, G p = P (p 0).val (ix2 (p 1) (p 2))) :
    at' (thr d i) (outM (Memref.whole main_v3_2_scv) i) (P (tl i)) ⊢ (tcLoc d main_v3_2 ↦[row (tl i)]{fullShare} G : sProp 𝕄) := by
  have h := pointsTo_rep (Ix := HIx 1) (Name := ℕ) (U := UU) (Lvl := ℕ) (thr d i) (outM (Memref.whole main_v3_2_scv) i) G fullShare
  rw [show (outM (Memref.whole main_v3_2_scv) i).view.read (Elt F) G = P (tl i) from funext fun y => out_read i G P hG y] at h
  unfold at'
  rw [← h, out2_set]

theorem out0_any : rowAny d main_v3_0 (row (tl i)) ⊢ (any' (thr d i) (outM (Memref.whole main_v3_0_scv) i) : sProp 𝕄) := by
  unfold any' rowAny
  rw [out0_set]
theorem out1_any : rowAny d main_v3_1 (row (tl i)) ⊢ (any' (thr d i) (outM (Memref.whole main_v3_1_scv) i) : sProp 𝕄) := by
  unfold any' rowAny
  rw [out1_set]
theorem out2_any : rowAny d main_v3_2 (row (tl i)) ⊢ (any' (thr d i) (outM (Memref.whole main_v3_2_scv) i) : sProp 𝕄) := by
  unfold any' rowAny
  rw [out2_set]

end views

/-! ## The tile's own buffers and semaphores -/

section own

variable (d : Dev nD) (i : grid0.Coords)

abbrev csem (k : Nat) (hk : k < 8 := by decide) : DmaSem sig := ⟨k, hk.trans (show 8 < 29 by decide)⟩
abbrev dcell (k : Fin 8) : GSem nD τ sig := (thr d i, .dma (csem k.val k.isLt))

theorem dcell_mem (k : Fin 8) : dcell d i k ∈ ownCells (thr d i) :=
  mem_ownCells.mpr ⟨rfl, (show ∀ s : DmaSem sig, (SemLoc.dma s : SemLoc sig).isScoped .scVector = true by decide) _⟩

theorem own_sems :
    (ownSems0 (thr d i) : sProp 𝕄)
      = iprop((semVal (thr d i, .dma cc0_scratch4.sem) 0 ∗ semVal (thr d i, .dma cc0_scratch5.sem) 0
          ∗ semVal (thr d i, .dma cc0_scoped0.sem) 0 ∗ semVal (thr d i, .dma cc0_scoped1.sem) 0 ∗ semVal (thr d i, .dma cc0_scoped2.sem) 0
          ∗ semVal (thr d i, .dma cc0_scoped3.sem) 0 ∗ semVal (thr d i, .dma cc0_scoped4.sem) 0 ∗ semVal (thr d i, .dma cc0_scoped5.sem) 0)
        ∗ bigSep ((ownCells (thr d i)) \ Finset.univ.image (dcell d i)) fun g => semVal g 0) := by
  unfold SparseCore.Cfg.ownSems0
  rw [SparseCore.bigSep_sdiff_split' (t := Finset.univ.image (dcell d i)) (Finset.image_subset_iff.mpr fun k _ => dcell_mem d i k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

abbrev scr (r : Ref sig .scVector) : DevRef τ sig := (Proc.scVector ((i 0).castLE hcore0) ((i 1).castLE hsub0)).devRef r

theorem scr_ne {r r' : Ref sig .scVector} (h : r ≠ r') : scr i r ≠ scr i r' := fun e => h (Proc.devRef_injective _ e)

theorem own_bufs :
    (ownBufs (thr d i) : sProp 𝕄)
      = iprop((∃ f, (thr d i).loc cc0_scratch0 ↦{fullShare} f) ∗ (∃ f, (thr d i).loc cc0_scratch1 ↦{fullShare} f)
          ∗ (∃ f, (thr d i).loc cc0_scratch2 ↦{fullShare} f) ∗ (∃ f, (thr d i).loc cc0_scratch3 ↦{fullShare} f)
          ∗ bigSep (((((ownRefs (τ := τ) (.scVector ((i 0).castLE hcore0) ((i 1).castLE hsub0))).erase (scr i cc0_scratch0)).erase (scr i cc0_scratch1)).erase (scr i cc0_scratch2)).erase (scr i cc0_scratch3))
              fun b => iprop(∃ f, ((d, b) : Loc nD τ sig) ↦{fullShare} f)) := by
  have hm : ∀ r : Ref sig .scVector, (scr i r).owner = .proc (.scVector ((i 0).castLE hcore0) ((i 1).castLE hsub0)) →
      scr i r ∈ ownRefs (τ := τ) (.scVector ((i 0).castLE hcore0) ((i 1).castLE hsub0)) := fun r h => SparseCore.Cfg.mem_ownRefs_of_owner h
  unfold SparseCore.Cfg.ownBufs
  rw [SparseCore.bigSep_erase' (hm cc0_scratch0 rfl),
    SparseCore.bigSep_erase' (Finset.mem_erase.mpr ⟨scr_ne i (by decide), hm cc0_scratch1 rfl⟩),
    SparseCore.bigSep_erase' (Finset.mem_erase.mpr ⟨scr_ne i (by decide), Finset.mem_erase.mpr ⟨scr_ne i (by decide), hm cc0_scratch2 rfl⟩⟩),
    SparseCore.bigSep_erase' (Finset.mem_erase.mpr ⟨scr_ne i (by decide), Finset.mem_erase.mpr ⟨scr_ne i (by decide), Finset.mem_erase.mpr ⟨scr_ne i (by decide), hm cc0_scratch3 rfl⟩⟩⟩)]

theorem halves {ℓ : Loc nD τ sig} (q : PosShare TreeShare) (f : Buf (Elt F) ℓ) :
    (ℓ ↦{q} f : sProp 𝕄) ⊣⊢ iprop((ℓ ↦{q.left} f) ∗ ℓ ↦{q.right} f) :=
  pointsTo_share (PosShare.mem_left_op_right q)

abbrev restT : sProp 𝕄 :=
  rest d i (Memref.whole cc0_scratch0) (Memref.whole cc0_scratch1) (Memref.whole cc0_scratch2) (Memref.whole cc0_scratch3)
    cc0_scratch4 cc0_scratch5 cc0_scoped0 cc0_scoped1 cc0_scoped2 cc0_scoped3 cc0_scoped4 cc0_scoped5

abbrev readsV (A : Arr F) (q : PosShare TreeShare) : sProp 𝕄 :=
  reads d i (Memref.whole main_arg0_scv) (Memref.whole main_arg2_scv) (Memref.whole main_v0_scv) (Memref.whole main_v1_scv) (Memref.whole main_v2_scv)
    q.left q.right q.left q.right q q q A.gX A.gM A.bG A.bM A.bC

theorem reads_in (A : Arr F) (q : PosShare TreeShare) : readsT A d q ⊢ readsV d i A q := by
  unfold readsT readsV reads
  rw [← tok_whole d i q.left main_arg0_scv, ← tok_whole d i q.right main_arg0_scv, ← tok_whole d i q.left main_arg2_scv, ← tok_whole d i q.right main_arg2_scv,
    ← tok_whole d i q main_v0_scv, ← tok_whole d i q main_v1_scv, ← tok_whole d i q main_v2_scv]
  iintro ⟨H0, H2, H3, H4, H5⟩
  ihave H0 := (halves q A.gX).1 $$ H0
  ihave H2 := (halves q A.gM).1 $$ H2
  icases H0 with ⟨H0, H0'⟩
  icases H2 with ⟨H2, H2'⟩
  isplitl [H0]; · iexact H0
  isplitl [H0']; · iexact H0'
  isplitl [H2]; · iexact H2
  isplitl [H2']; · iexact H2'
  isplitl [H3]; · iexact H3
  isplitl [H4]; · iexact H4
  iexact H5

theorem reads_out (A : Arr F) (q : PosShare TreeShare) : readsV d i A q ⊢ readsT A d q := by
  unfold readsT readsV reads
  rw [← tok_whole d i q.left main_arg0_scv, ← tok_whole d i q.right main_arg0_scv, ← tok_whole d i q.left main_arg2_scv, ← tok_whole d i q.right main_arg2_scv,
    ← tok_whole d i q main_v0_scv, ← tok_whole d i q main_v1_scv, ← tok_whole d i q main_v2_scv]
  iintro ⟨H0, H0', H2, H2', H3, H4, H5⟩
  isplitl [H0 H0']
  · iapply (halves q A.gX).2; isplitl [H0] <;> iassumption
  isplitl [H2 H2']
  · iapply (halves q A.gM).2; isplitl [H2] <;> iassumption
  isplitl [H3]; · iexact H3
  isplitl [H4]; · iexact H4
  iexact H5

theorem tile_body (A : Arr F) (hF : (K (F := F)).Facts) (O : CellTallies nD τ sig (HIx 1)) (W : Waits sig (HIx 1)) (hO : ∀ g, O g none = 0) :
    iprop(levAts (K (F := F)).L (K (F := F)).lev ∗ emp ∗ goT A d (tl i)
        ∗ scopedBufs (thr d i) ∗ scopedSems0 (thr d i) ∗ owes (thr d i) O W)
      ⊢ wp frame (wpE (defs₀ (F := F)) 𝒱₀ (thr d i) none) Set.univ
          (cc0_sc_pool i (Memref.whole main_arg0_scv) (Memref.isWhole_whole _) (Memref.whole main_arg2_scv) (Memref.isWhole_whole _) (Memref.whole main_arg1_scv) (Memref.isWhole_whole _)
            (Memref.whole main_v0_scv) (Memref.isWhole_whole _) (Memref.whole main_v1_scv) (Memref.isWhole_whole _) (Memref.whole main_v2_scv) (Memref.isWhole_whole _)
            (Memref.whole main_v3_0_scv) (Memref.isWhole_whole _) (Memref.whole main_v3_1_scv) (Memref.isWhole_whole _) (Memref.whole main_v3_2_scv) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scoped0 cc0_scoped1 cc0_scoped2 cc0_scoped3 cc0_scoped4 cc0_scoped5)
          fun _ => iprop(tdT A d (tl i) ∗ scopedBufs (thr d i) ∗ scopedSems0 (thr d i)
            ∗ ∃ W', ⌜∀ p ∈ W', p ∈ W ∨ p.2 = none ∨ p.2 = some (0 : Fin 1)⌝ ∗ owes (thr d i) O W') := by
  rw [(K (F := F)).scopedBufs_V hF d ((i 0).castLE hcore0) ((i 1).castLE hsub0), SparseCore.Cfg.scopedSems0_V (Val := Elt F) d ((i 0).castLE hcore0) ((i 1).castLE hsub0), own_sems, own_bufs,
    any_whole, any_whole, any_whole, any_whole]
  unfold goT tdT
  iintro ⟨#Hlv, -, ⟨Hr, O0, O1, O2⟩, ⟨B0, B1, B2, B3, Hbufs⟩, ⟨HC, Hsems⟩, HO⟩
  icases HC with ⟨S0, S1, S2, S3, S4, S5, S6, S7⟩
  ihave Hmw := (show levAts (K (F := F)).L (K (F := F)).lev ⊢ Transfers.MayWaits (thr d i) (default : HIx 1) O from
    (K (F := F)).mayWaits_none (thr := thr d i) hO) $$ Hlv
  ihave Hr := (reads_in d i A (σ (tl i))) $$ Hr
  ihave O0 := (out0_any d i) $$ O0
  ihave O1 := (out1_any d i) $$ O1
  ihave O2 := (out2_any d i) $$ O2
  iapply (wp_tile d i (Memref.whole main_arg0_scv) (Memref.isWhole_whole _) (Memref.whole main_arg2_scv) (Memref.isWhole_whole _) (Memref.whole main_arg1_scv) (Memref.isWhole_whole _)
            (Memref.whole main_v0_scv) (Memref.isWhole_whole _) (Memref.whole main_v1_scv) (Memref.isWhole_whole _) (Memref.whole main_v2_scv) (Memref.isWhole_whole _)
            (Memref.whole main_v3_0_scv) (Memref.isWhole_whole _) (Memref.whole main_v3_1_scv) (Memref.isWhole_whole _) (Memref.whole main_v3_2_scv) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scoped0 cc0_scoped1 cc0_scoped2 cc0_scoped3 cc0_scoped4 cc0_scoped5
            (σ (tl i)).left (σ (tl i)).right (σ (tl i)).left (σ (tl i)).right (σ (tl i)) (σ (tl i)) (σ (tl i)) A.gX A.gM A.bG A.bM A.bC (O := O) (W := W)) $$ [HO Hmw Hr O0 O1 O2 B0 B1 B2 B3 S0 S1 S2 S3 S4 S5 S6 S7]
  · isplitl [Hmw]; · iexact Hmw
    isplitl [HO]
    · unfold Ow
      iexists W
      isplitr
      · ipureintro; exact fun p hp => .inl hp
      · iexact HO
    isplitr [Hr O0 O1 O2]
    · unfold rest
      isplitl [B0]; · iexact B0
      isplitl [B1]; · iexact B1
      isplitl [B2]; · iexact B2
      isplitl [B3]; · iexact B3
      isplitl [S0]; · iexact S0
      isplitl [S1]; · iexact S1
      isplitl [S2]; · iexact S2
      isplitl [S3]; · iexact S3
      isplitl [S4]; · iexact S4
      isplitl [S5]; · iexact S5
      isplitl [S6] <;> iassumption
    isplitl [Hr]; · iexact Hr
    isplitl [O0]; · iexact O0
    isplitl [O1] <;> iassumption
  unfold rest
  iintro ⟨HO, ⟨B0, B1, B2, B3, S0, S1, S2, S3, S4, S5, S6, S7⟩, Hr, O0, O1, O2⟩
  isplitl [Hr O0 O1 O2]
  · isplitl [Hr]; · iapply (reads_out d i A (σ (tl i))); iexact Hr
    isplitl [O0]; · iapply (out0_at d i (resG A) (poolG A.gX A.bG) (fun _ => rfl)); iexact O0
    isplitl [O1]; · iapply (out1_at d i (resM A) (poolM A.gM A.bM) (fun _ => rfl)); iexact O1
    iapply (out2_at d i resC (fun _ _ => zr) (fun _ => rfl)); iexact O2
  isplitl [B0 B1 B2 B3 Hbufs]
  · isplitl [B0]; · iexact B0
    isplitl [B1]; · iexact B1
    isplitl [B2]; · iexact B2
    isplitl [B3] <;> iassumption
  isplitr [HO]
  · isplitr [Hsems]
    · isplitl [S0]; · iexact S0
      isplitl [S1]; · iexact S1
      isplitl [S2]; · iexact S2
      isplitl [S3]; · iexact S3
      isplitl [S4]; · iexact S4
      isplitl [S5]; · iexact S5
      isplitl [S6] <;> iassumption
    iexact Hsems
  unfold Ow
  icases HO with ⟨%W', %hW, HO⟩
  iexists W'
  isplitr
  · ipureintro; exact fun p hp => (hW p hp).imp id .inl
  iexact HO

end own

end Cert.Proof.Pool

end
-- ==== Proof.Acc.lean ====
/- The body of the pooling call on the TensorCore: one chunk's segment sums and counts added to the two results. -/
module

public import proofs.«01_k».proof.Proof.SegWp
public import proofs.«01_k».proof.Proof.Gen.KernelIdeal
public import proofs.«01_k».proof.Proof.Gen.KernelIdeal.Launch
public import proofs.«01_k».proof.Proof.Gen.KernelIdeal.Points
public import Idealize.ShloMosaic.Lib.Pipeline.Kit

@[expose] public section

noncomputable section

namespace Cert.Proof.Pool

open Cert.KernelIdeal
open Facts₀ Facts
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.VecWindow
open Idealize.ShloMosaic.ValueIdx

variable {F : FTy → Type} [FloatOps F]

local notation "𝕄" => MT nD τ sig (HIx 1) (Elt F) ℕ UU ℕ

/-! ## Whole windows -/

theorem window_whole {s : Shape} {α : Type} (x : s.Idx → α) (off : Fin s.rank → ℕ) (h0 : ∀ a, off a = 0) (inb : ∀ a, off a + s.size a ≤ s.size a) :
    window x off s.size inb = x := funext fun y => congrArg x (funext fun a => Fin.ext (by
  show off a + 1 * (y a).val = (y a).val
  rw [h0]; omega))

theorem put_whole {s : Shape} {α : Type} (x : s.Idx → α) (off : Fin s.rank → ℕ) (h0 : ∀ a, off a = 0) (w : s.Idx → α) :
    put x off s.size w = w := funext fun y => by
  have h : ∀ a, off a ≤ (y a).val ∧ (y a).val < off a + s.size a := fun a => by rw [h0]; exact ⟨Nat.zero_le _, by rw [Nat.zero_add]; exact (y a).isLt⟩
  unfold put
  rw [dif_pos h]
  exact congrArg w (funext fun a => Fin.ext (by
    show (y a).val - off a = (y a).val
    rw [h0]; rfl))

theorem zero2 : ∀ a : Fin 2, (![0, 0] : Fin 2 → ℕ) a = 0 := by decide
theorem zero3 : ∀ a : Fin 3, (![0, 0, 0] : Fin 3 → ℕ) a = 0 := by decide

/-! ## What one point adds -/

/-- Row `s` is one at the places of the chunk whose identifier is `s`, zero elsewhere. -/
def onehot (x0 : Vec F S1x1x16000 .i32) : FVec F S16x16000 .f32 :=
  select (cmpi .eq (iota .tc S16x16000 32 [0] iota_S16x16000_d0_w32)
      (broadcastTo S16x16000 (shapeCast S1x16000 (x0 : IVec S1x1x16000 32) shapeCasts_S1x1x16000_S1x16000) broadcasts_S1x16000_S16x16000))
    (broadcast S16x16000 (Scalar.ofBits .f32 0x3F800000#32)) (broadcast S16x16000 (Scalar.ofBits .f32 0x00000000#32))

def sumP (x0 : Vec F S1x1x16000 .i32) (x1 : Vec F S16000x128 .f32) : FVec F S16x128 .f32 :=
  matmul dot_S16x16000_S16000x128_S16x128_1_0_0_1_n_n none (onehot x0) x1 (constant S16x128 .f32 0x00000000#32)

def cntP (x0 : Vec F S1x1x16000 .i32) : FVec F S16x128 .f32 :=
  broadcastTo S16x128 (shapeCast S16x1 (shapeCast S16x1
    (multiReduction .add [1] S16 (onehot x0) 0x00000000#32 reduces_S16x16000_S16 (.inl rfl) rfl) shapeCasts_S16_S16x1) shapeCasts_S16x1_S16x1) broadcasts_S16x1_S16x128

def addTo (a : Vec F S16x128 .f32) (p : FVec F S16x128 .f32) : Vec F S16x128 .f32 := addf (shapeCast S16x128 (a : FVec F S16x128 .f32) shapeCasts_S16x128_S16x128) p

def zeroV : Vec F S16x128 .f32 := broadcast S16x128 (Scalar.ofBits .f32 0x00000000#32)

/-- The first point's test. -/
abbrev isFirst (i : grid1.Coords) : Prop := Scalar.cmpi .ne (Scalar.extui (Scalar.cmpi .eq (BitVec.ofNat 32 (i 0).val) 0#32)) 0#32 = 1#1

theorem wp_tc (d : Dev nD) (i : grid1.Coords) (arg1 : Memref sig .tc .vmem S1x1x16000 .i32) (harg1 : arg1.IsWhole) (arg2 : Memref sig .tc .vmem S16000x128 .f32) (harg2 : arg2.IsWhole)
    (arg3 : Memref sig .tc .vmem S16x128 .f32) (harg3 : arg3.IsWhole) (arg4 : Memref sig .tc .vmem S16x128 .f32) (harg4 : arg4.IsWhole)
    (x0 : Vec F S1x1x16000 .i32) (x1 : Vec F S16000x128 .f32) (a2 a3 b2 b3 : Vec F S16x128 .f32)
    (h2 : b2 = addTo (if isFirst i then zeroV else a2) (sumP x0 x1)) (h3 : b3 = addTo (if isFirst i then zeroV else a3) (cntP x0)) {Q : PUnit → sProp 𝕄} :
    iprop(at' (T d) arg1 x0 ∗ at' (T d) arg2 x1 ∗ at' (T d) arg3 a2 ∗ at' (T d) arg4 a3) ⊢
      iprop((at' (T d) arg1 x0 ∗ at' (T d) arg2 x1 ∗ at' (T d) arg3 b2 ∗ at' (T d) arg4 b3 -∗ Q ⟨⟩)
      -∗ wp frame (wpE defs₀ 𝒱₀ (T d) none) Set.univ (cc1__tc_pool_body i arg1 harg1 arg2 harg2 arg3 harg3 arg4 harg4) Q) := by
  subst h2 h3
  unfold cc1__tc_pool_body
  iintro ⟨H1, H2, H3, H4⟩ HQ
  by_cases hc : isFirst i
  · rw [if_pos hc, if_pos hc]
    have hc' : Scalar.cmpi .ne (Scalar.extui (Scalar.cmpi .eq (BitVec.ofNat 32 (i 0).val) 0#32)) 0#32 = 1#1 := hc
    simp only [dif_pos hc', if_pos hc', pure_bind, bind_assoc]
    iapply (wp_ld (c := T d) arg1 x0 _ _ _ _) $$ H1; iintro H1
    iapply (wp_ld (c := T d) arg2 x1 _ _ _ _) $$ H2; iintro H2
    iapply (wp_ld (c := T d) arg3 _ _ _ _ _) $$ H3; iintro H3
    iapply (wp_st (c := T d) arg3 _ _ _ _ _ _ _) $$ H3; iintro H3
    iapply (wp_ld (c := T d) arg4 _ _ _ _ _) $$ H4; iintro H4
    iapply (wp_st (c := T d) arg4 _ _ _ _ _ _ _) $$ H4; iintro H4
    iapply (wp_ld (c := T d) arg3 _ _ _ _ _) $$ H3; iintro H3
    iapply (wp_ld (c := T d) arg3 _ _ _ _ _) $$ H3; iintro H3
    iapply (wp_st (c := T d) arg3 _ _ _ _ _ _ _) $$ H3; iintro H3
    iapply (wp_ld (c := T d) arg4 _ _ _ _ _) $$ H4; iintro H4
    iapply (wp_ld (c := T d) arg4 _ _ _ _ _) $$ H4; iintro H4
    iapply (wp_st (c := T d) arg4 _ _ _ _ _ _ _) $$ H4; iintro H4
    rw [window_whole (s := S1x1x16000) x0 _ zero3, window_whole (s := S16000x128) x1 _ zero2]
    simp only [window_whole (s := S16x128) _ _ zero2, put_whole (s := S16x128) _ _ zero2]
    simp only [wp_pure]
    imodintro
    iapply HQ
    isplitl [H1]; · iexact H1
    isplitl [H2]; · iexact H2
    isplitl [H3]; · iexact H3
    iexact H4
  · rw [if_neg hc, if_neg hc]
    have hc' : ¬ Scalar.cmpi .ne (Scalar.extui (Scalar.cmpi .eq (BitVec.ofNat 32 (i 0).val) 0#32)) 0#32 = 1#1 := hc
    simp only [dif_neg hc', if_neg hc', pure_bind, bind_assoc]
    iapply (wp_ld (c := T d) arg1 x0 _ _ _ _) $$ H1; iintro H1
    iapply (wp_ld (c := T d) arg2 x1 _ _ _ _) $$ H2; iintro H2
    iapply (wp_ld (c := T d) arg3 _ _ _ _ _) $$ H3; iintro H3
    iapply (wp_ld (c := T d) arg3 _ _ _ _ _) $$ H3; iintro H3
    iapply (wp_st (c := T d) arg3 _ _ _ _ _ _ _) $$ H3; iintro H3
    iapply (wp_ld (c := T d) arg4 _ _ _ _ _) $$ H4; iintro H4
    iapply (wp_ld (c := T d) arg4 _ _ _ _ _) $$ H4; iintro H4
    iapply (wp_st (c := T d) arg4 _ _ _ _ _ _ _) $$ H4; iintro H4
    rw [window_whole (s := S1x1x16000) x0 _ zero3, window_whole (s := S16000x128) x1 _ zero2]
    simp only [window_whole (s := S16x128) _ _ zero2, put_whole (s := S16x128) _ _ zero2]
    simp only [wp_pure]
    imodintro
    iapply HQ
    isplitl [H1]; · iexact H1
    isplitl [H2]; · iexact H2
    isplitl [H3]; · iexact H3
    iexact H4

end Cert.Proof.Pool

end
-- ==== Proof.Region.lean ====
/- The pooling call on the TensorCore as a region of main: its proof data, its body's obligation, what it leaves. -/
module

public import proofs.«01_k».proof.Proof.Acc
public import proofs.«01_k».proof.Proof.Tile
public import Idealize.ShloMosaic.Lib.Pipeline.RegionArrays
public import Idealize.ShloMosaic.Lib.Pipeline.Value
public import Idealize.ShloMosaic.Lib.Pipeline.FrameBody
public import Idealize.ShloMosaic.Lib.Tactic
public import Idealize.ShloMosaic.Lib.WordCmp

@[expose] public section

noncomputable section

namespace Cert.Proof.Pool

open Cert.KernelIdeal
open Facts₀ Facts
open Idealize.ShloMosaic
open Idealize.ShloMosaic.TcCoe
open Idealize.ShloMosaic.SparseCore (S V T)
open Idealize.ShloMosaic.SparseCore.Cfg (HIx)
open Idealize.ShloMosaic.Pipeline (Dat Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.VecWindow
open Idealize.ShloMosaic.ValueIdx

variable {F : FTy → Type} [FloatOps F]

local notation "𝕄" => MT nD τ sig (HIx 1) (Elt F) ℕ UU ℕ

abbrev zb : SparseCore.Cfg.Blocks 1 1 := inferInstance

/-! ## The chunks, and what the results hold after each -/

def ids (A4 : Vec F S25x1x16000 .i32) (n : ℕ) : Vec F S1x1x16000 .i32 :=
  fun p => A4 (ix3 (n0 := 25) (n1 := 1) (n2 := 16000) ⟨n % 25, Nat.mod_lt _ (by decide)⟩ 0 (p 2))
def rows (A1 : Vec F S400000x128 .f32) (n : ℕ) : Vec F S16000x128 .f32 :=
  fun p => A1 (ix2 (n0 := 400000) (n1 := 128) ⟨(n % 25) * 16000 + (p 0).val, by have h0 : (p 0).val < 16000 := (p 0).isLt; have := Nat.mod_lt n (show 25 > 0 by decide); omega⟩ (p 1))

def fold2 (A4 : Vec F S25x1x16000 .i32) (A1 : Vec F S400000x128 .f32) : ℕ → Vec F S16x128 .f32
  | 0 => zeroV
  | n + 1 => addTo (fold2 A4 A1 n) (sumP (ids A4 n) (rows A1 n))
def fold3 (A4 : Vec F S25x1x16000 .i32) : ℕ → Vec F S16x128 .f32
  | 0 => zeroV
  | n + 1 => addTo (fold3 A4 n) (cntP (ids A4 n))

theorem idx0 : ∀ t : Fin grid1.N, win1_0.index t (0 : Fin 3) = t.val ∧ win1_0.index t (1 : Fin 3) = 0 ∧ win1_0.index t (2 : Fin 3) = 0 := by decide +kernel
theorem idx1 : ∀ t : Fin grid1.N, win1_1.index t (0 : Fin 2) = t.val ∧ win1_1.index t (1 : Fin 2) = 0 := by decide +kernel
theorem idx2 : ∀ t : Fin grid1.N, win1_2.index t (0 : Fin 2) = 0 ∧ win1_2.index t (1 : Fin 2) = 0 := by decide +kernel
theorem idx3 : ∀ t : Fin grid1.N, win1_3.index t (0 : Fin 2) = 0 ∧ win1_3.index t (1 : Fin 2) = 0 := by decide +kernel

theorem lt25 (t : Fin cfg1.N) : t.val < 25 := lt_of_lt_of_eq t.isLt (show cfg1.N = 25 from Gen.N_1)

theorem first_iff (t : Fin grid1.N) : isFirst (grid1.coords t) ↔ t.val = 0 := by
  have ht : t.val < 25 := Nat.lt_of_lt_of_eq t.isLt Gen.N_1
  have e0 : (grid1.coords t 0).val = t.val / 1 % 25 := Pipeline.Grid.coords_val t 0 (by decide) rfl
  have e1 : t.val / 1 % 25 = t.val := by omega
  rw [e1] at e0
  simp only [isFirst, e0]
  word_cmp

section region

variable (A4 : Dev nD → Vec F S25x1x16000 .i32) (A1 : Dev nD → Vec F S400000x128 .f32) (a2 a3 : Dev nD → Vec F S16x128 .f32)

def dat (d : Dev nD) : Dat τ (Elt F) (HIx 1) ℕ UU ℕ cfg1 d where
  A w := match w with
    | ⟨0, _⟩ => A4 d
    | ⟨1, _⟩ => A1 d
    | ⟨2, _⟩ => a2 d
    | ⟨3, _⟩ => a3 d
  after w t := match w with
    | ⟨0, _⟩ => ids (A4 d) t.val
    | ⟨1, _⟩ => rows (A1 d) t.val
    | ⟨2, _⟩ => fold2 (A4 d) (A1 d) (t.val + 1)
    | ⟨3, _⟩ => fold3 (A4 d) (t.val + 1)
  Φ _ := Pipeline.scopedRest spec1 d
  q _ := fullShare
  owed _ := (K (F := F)).Otc d 1
  recorded _ := {p | (K (F := F)).lev (T d, p.1) p.2 ≤ 8 * zb.fst 1}

/-- The two calls' proof data together. -/
abbrev both (d0 : (d : Dev nD) → Dat τ (Elt F) (HIx 1) ℕ UU ℕ cfg1 d) (d1 : (d : Dev nD) → Dat τ (Elt F) (HIx 1) ℕ UU ℕ cfg2 d) :
    (p : Fin 2) → (d : Dev nD) → Dat τ (Elt F) (HIx 1) ℕ UU ℕ (cfgs p) d := fun p d => match p with
  | ⟨0, _⟩ => d0 d
  | ⟨1, _⟩ => d1 d

variable (dL : (d : Dev nD) → Dat τ (Elt F) (HIx 1) ℕ UU ℕ cfg2 d)

theorem after2 (d : Dev nD) (t : Fin cfg1.N) : (dat A4 A1 a2 a3 d).after 2 t = fold2 (A4 d) (A1 d) (t.val + 1) := by dsimp only [dat]
theorem after3 (d : Dev nD) (t : Fin cfg1.N) : (dat A4 A1 a2 a3 d).after 3 t = fold3 (A4 d) (t.val + 1) := by dsimp only [dat]

theorem read0 (d : Dev nD) (t : Fin cfg1.N) : ((cfg1.win 0).blk t).view.read (Elt F) (A4 d) = ids (A4 d) t.val := by
  have ht := lt25 t
  obtain ⟨e0, e1, e2⟩ := idx0 t
  funext y
  have b0 : (((cfg1.win 0).blk t).view.emb y 0).val = win1_0.index t (0 : Fin 3) * 1 + 1 * (y 0).val := rfl
  have b1 : (((cfg1.win 0).blk t).view.emb y 1).val = win1_0.index t (1 : Fin 3) * 1 + 1 * (y 1).val := rfl
  have b2 : (((cfg1.win 0).blk t).view.emb y 2).val = win1_0.index t (2 : Fin 3) * 16000 + 1 * (y 2).val := rfl
  have h0 : (y 0).val < 1 := (y 0).isLt
  have h1 : (y 1).val < 1 := (y 1).isLt
  show A4 d (((cfg1.win 0).blk t).view.emb y) = A4 d _
  refine congrArg (A4 d) (funext fun a => Fin.ext ?_)
  match a with
  | ⟨0, _⟩ => show (((cfg1.win 0).blk t).view.emb y 0).val = t.val % 25; omega
  | ⟨1, _⟩ => show (((cfg1.win 0).blk t).view.emb y 1).val = 0; omega
  | ⟨2, _⟩ => show (((cfg1.win 0).blk t).view.emb y 2).val = (y 2).val; omega

theorem read1 (d : Dev nD) (t : Fin cfg1.N) : ((cfg1.win 1).blk t).view.read (Elt F) (A1 d) = rows (A1 d) t.val := by
  have ht := lt25 t
  obtain ⟨e0, e1⟩ := idx1 t
  funext y
  have b0 : (((cfg1.win 1).blk t).view.emb y 0).val = win1_1.index t (0 : Fin 2) * 16000 + 1 * (y 0).val := rfl
  have b1 : (((cfg1.win 1).blk t).view.emb y 1).val = win1_1.index t (1 : Fin 2) * 128 + 1 * (y 1).val := rfl
  show A1 d (((cfg1.win 1).blk t).view.emb y) = A1 d _
  refine congrArg (A1 d) (funext fun a => Fin.ext ?_)
  match a with
  | ⟨0, _⟩ => show (((cfg1.win 1).blk t).view.emb y 0).val = t.val % 25 * 16000 + (y 0).val; rw [b0, e0]; omega
  | ⟨1, _⟩ => show (((cfg1.win 1).blk t).view.emb y 1).val = (y 1).val; omega

theorem before0 (d : Dev nD) (t : Fin cfg1.N) (x) : (dat A4 A1 a2 a3 d).before 0 t x = ids (A4 d) t.val :=
  ((dat A4 A1 a2 a3 d).before_in_eq_fetched 0 rfl (fun _ => rfl) (fun _ _ _ => rfl) (fun t => (read0 A4 d t).symm) t x).trans (read0 A4 d t)
theorem before1 (d : Dev nD) (t : Fin cfg1.N) (x) : (dat A4 A1 a2 a3 d).before 1 t x = rows (A1 d) t.val :=
  ((dat A4 A1 a2 a3 d).before_in_eq_fetched 1 rfl (fun _ => rfl) (fun _ _ _ => rfl) (fun t => (read1 A1 d t).symm) t x).trans (read1 A1 d t)
theorem before2 (d : Dev nD) (t : Fin cfg1.N) (h0 : t.val ≠ 0) (x) : (dat A4 A1 a2 a3 d).before 2 t x = fold2 (A4 d) (A1 d) t.val := by
  have hN := lt25 t
  rw [Pipeline.Dat.before_out_kept _ 2 rfl t h0 (Bool.eq_false_iff.mpr fun h => by have := (Gen.flush1_2 _).mp h; dsimp only at this; omega) (fun _ => rfl) (fun _ _ => rfl), after2]
  exact congrArg (fold2 (A4 d) (A1 d)) (by show t.val - 1 + 1 = t.val; omega)
theorem before3 (d : Dev nD) (t : Fin cfg1.N) (h0 : t.val ≠ 0) (x) : (dat A4 A1 a2 a3 d).before 3 t x = fold3 (A4 d) t.val := by
  have hN := lt25 t
  rw [Pipeline.Dat.before_out_kept _ 3 rfl t h0 (Bool.eq_false_iff.mpr fun h => by have := (Gen.flush1_3 _).mp h; dsimp only at this; omega) (fun _ => rfl) (fun _ _ => rfl), after3]
  exact congrArg (fold3 (A4 d)) (by show t.val - 1 + 1 = t.val; omega)

/-! ## The body's obligation -/

theorem owns_at {sp : Space} {s : Shape} {e : EltTy} (c : Thread nD τ) (m : Memref sig c.2.kind sp s e) (X : Vec F s e) :
    (owns c m fullShare X : sProp 𝕄) ⊢ at' c m X := by
  unfold owns at'
  iintro ⟨%f, %h, H⟩
  iapply (pointsTo_rep_of_read c m f fullShare X h)
  iexact H
theorem at_owns {sp : Space} {s : Shape} {e : EltTy} (c : Thread nD τ) (m : Memref sig c.2.kind sp s e) (X : Vec F s e) :
    at' c m X ⊢ (owns c m fullShare X : sProp 𝕄) := by
  unfold owns at'
  iintro H
  iexists _
  isplitr; swap
  · iexact H
  · ipureintro; exact View.read_rep _ _

theorem body_run (d : Dev nD) (t : Fin cfg1.N) :
    iprop((dat A4 A1 a2 a3 d).Φ t.castSucc ∗ (dat A4 A1 a2 a3 d).owesAt none t.castSucc
      ∗ (∃ x, owns (d : Thread nD τ) (Gen.st1_0 t) fullShare ((dat A4 A1 a2 a3 d).before 0 t x))
      ∗ (∃ x, owns (d : Thread nD τ) (Gen.st1_1 t) fullShare ((dat A4 A1 a2 a3 d).before 1 t x))
      ∗ (∃ x, owns (d : Thread nD τ) (Gen.st1_2 t) fullShare ((dat A4 A1 a2 a3 d).before 2 t x))
      ∗ (∃ x, owns (d : Thread nD τ) (Gen.st1_3 t) fullShare ((dat A4 A1 a2 a3 d).before 3 t x)))
    ⊢ wp frame (wpE (defs₀ (F := F)) Variants.none d none) Set.univ (Gen.bodyAt1 t) fun _ =>
      iprop((dat A4 A1 a2 a3 d).Φ t.succ ∗ (dat A4 A1 a2 a3 d).owesAt none t.succ
        ∗ owns (d : Thread nD τ) (Gen.st1_0 t) fullShare ((dat A4 A1 a2 a3 d).after 0 t)
        ∗ owns (d : Thread nD τ) (Gen.st1_1 t) fullShare ((dat A4 A1 a2 a3 d).after 1 t)
        ∗ owns (d : Thread nD τ) (Gen.st1_2 t) fullShare ((dat A4 A1 a2 a3 d).after 2 t)
        ∗ owns (d : Thread nD τ) (Gen.st1_3 t) fullShare ((dat A4 A1 a2 a3 d).after 3 t)) := by
  simp only [before0, before1]
  rw [show (dat A4 A1 a2 a3 d).Φ t.succ = (dat A4 A1 a2 a3 d).Φ t.castSucc from rfl,
    show (dat A4 A1 a2 a3 d).owesAt none t.succ = (dat A4 A1 a2 a3 d).owesAt none t.castSucc from rfl,
    show (dat A4 A1 a2 a3 d).after 0 t = ids (A4 d) t.val from rfl, show (dat A4 A1 a2 a3 d).after 1 t = rows (A1 d) t.val from rfl, after2, after3]
  iintro ⟨HΦ, Ho, ⟨%x0, H0⟩, ⟨%x1, H1⟩, ⟨%x2, H2⟩, ⟨%x3, H3⟩⟩
  ihave H0 := (owns_at (d : Thread nD τ) _ _) $$ H0
  ihave H1 := (owns_at (d : Thread nD τ) _ _) $$ H1
  ihave H2 := (owns_at (d : Thread nD τ) _ _) $$ H2
  ihave H3 := (owns_at (d : Thread nD τ) _ _) $$ H3
  have e2 : fold2 (A4 d) (A1 d) (t.val + 1)
      = addTo (if isFirst (grid1.coords t) then zeroV else (dat A4 A1 a2 a3 d).before 2 t x2) (sumP (ids (A4 d) t.val) (rows (A1 d) t.val)) := by
    by_cases h : t.val = 0
    · rw [if_pos ((first_iff t).2 h), h]; rfl
    · rw [if_neg (fun hf => h ((first_iff t).1 hf)), before2 A4 A1 a2 a3 d t h]; rfl
  have e3 : fold3 (A4 d) (t.val + 1)
      = addTo (if isFirst (grid1.coords t) then zeroV else (dat A4 A1 a2 a3 d).before 3 t x3) (cntP (ids (A4 d) t.val)) := by
    by_cases h : t.val = 0
    · rw [if_pos ((first_iff t).2 h), h]; rfl
    · rw [if_neg (fun hf => h ((first_iff t).1 hf)), before3 A4 A1 a2 a3 d t h]; rfl
  iapply (wp_tc d (grid1.coords t) _ _ _ _ _ _ _ _ (ids (A4 d) t.val) (rows (A1 d) t.val) ((dat A4 A1 a2 a3 d).before 2 t x2) ((dat A4 A1 a2 a3 d).before 3 t x3) _ _ e2 e3) $$ [H0 H1 H2 H3]
  · isplitl [H0]; · iexact H0
    isplitl [H1]; · iexact H1
    isplitl [H2] <;> iassumption
  iintro ⟨H0, H1, H2, H3⟩
  isplitl [HΦ]; · iexact HΦ
  isplitl [Ho]; · iexact Ho
  isplitl [H0]; · iapply (at_owns (d : Thread nD τ) _ _); iexact H0
  isplitl [H1]; · iapply (at_owns (d : Thread nD τ) _ _); iexact H1
  isplitl [H2]; · iapply (at_owns (d : Thread nD τ) _ _); iexact H2
  iapply (at_owns (d : Thread nD τ) _ _); iexact H3

theorem body_row (t : Fin cfg1.N) : defs₀ (F := F) .tc cfg1.body (cfg1.bodyArgs t (cfg1.slots t)) = Gen.bodyAt1 t := rfl

theorem body_obl (d : Dev nD) : BodyObligation (dat A4 A1 a2 a3 d) (defs₀ (F := F)) Variants.none none Set.univ := fun t => by
  rw [Gen.bigSep_W1, Gen.bigSep_W1, body_row]
  exact triple_restated (body_run A4 A1 a2 a3 d t) rfl .rfl fun _ => .rfl

/-! ## The arrays at the end -/

theorem mem_blk2 (t : Fin cfg1.N) (i : S16x128.Idx) :
    i ∈ ((cfg1.win 2).blk t).view.set ↔ ∀ a : Fin 2, win1_2.index t a * S16x128.size a ≤ (i a).val ∧ (i a).val < win1_2.index t a * S16x128.size a + S16x128.size a := by
  show i ∈ ((View.whole main_v5_0).slice (win1_2.rect t)).set ↔ _
  rw [View.set_slice_whole, Rect.mem_set_unit]
  exact Iff.rfl
theorem mem_blk3 (t : Fin cfg1.N) (i : S16x128.Idx) :
    i ∈ ((cfg1.win 3).blk t).view.set ↔ ∀ a : Fin 2, win1_3.index t a * S16x128.size a ≤ (i a).val ∧ (i a).val < win1_3.index t a * S16x128.size a + S16x128.size a := by
  show i ∈ ((View.whole main_v5_1).slice (win1_3.rect t)).set ↔ _
  rw [View.set_slice_whole, Rect.mem_set_unit]
  exact Iff.rfl

theorem final2 (d : Dev nD) : (dat A4 A1 a2 a3 d).arrAt 2 cfg1.N = fold2 (A4 d) (A1 d) 25 := by
  refine (dat A4 A1 a2 a3 d).arrAt_eq_of_cover 2 (fold2 (A4 d) (A1 d) 25) (fun t hf => ?_) (fun i => ?_)
  · have h24 := (Gen.flush1_2 t).mp hf
    have ht := lt25 t
    obtain ⟨e0, e1⟩ := idx2 t
    show (cfg1.win 2).cut (grid1.coords t) ((dat A4 A1 a2 a3 d).after 2 t) = _
    rw [after2, show t.val + 1 = 25 by omega]
    funext y
    have b0 : (((cfg1.win 2).blk t).view.emb y 0).val = win1_2.index t (0 : Fin 2) * 16 + 1 * (y 0).val := rfl
    have b1 : (((cfg1.win 2).blk t).view.emb y 1).val = win1_2.index t (1 : Fin 2) * 128 + 1 * (y 1).val := rfl
    show fold2 (A4 d) (A1 d) 25 ((cfg1.win 2).xinj (grid1.coords t) y) = fold2 (A4 d) (A1 d) 25 (((cfg1.win 2).blk t).view.emb y)
    refine congrArg _ (funext fun a => Fin.ext ?_)
    match a with
    | ⟨0, _⟩ => show (y 0).val = (((cfg1.win 2).blk t).view.emb y 0).val; omega
    | ⟨1, _⟩ => show (y 1).val = (((cfg1.win 2).blk t).view.emb y 1).val; omega
  · refine ⟨⟨24, by rw [show cfg1.N = 25 from Gen.N_1]; decide⟩, (Gen.flush1_2 _).mpr rfl, ?_⟩
    obtain ⟨e0, e1⟩ := idx2 ⟨24, by rw [show grid1.N = 25 from Gen.N_1]; decide⟩
    have h0 : (i 0).val < 16 := (i 0).isLt
    have h1 : (i 1).val < 128 := (i 1).isLt
    refine (mem_blk2 _ i).2 fun a => ?_
    match a with
    | ⟨0, _⟩ => show win1_2.index _ (0 : Fin 2) * 16 ≤ (i 0).val ∧ (i 0).val < win1_2.index _ (0 : Fin 2) * 16 + 16; rw [e0]; omega
    | ⟨1, _⟩ => show win1_2.index _ (1 : Fin 2) * 128 ≤ (i 1).val ∧ (i 1).val < win1_2.index _ (1 : Fin 2) * 128 + 128; rw [e1]; omega

theorem final3 (d : Dev nD) : (dat A4 A1 a2 a3 d).arrAt 3 cfg1.N = fold3 (A4 d) 25 := by
  refine (dat A4 A1 a2 a3 d).arrAt_eq_of_cover 3 (fold3 (A4 d) 25) (fun t hf => ?_) (fun i => ?_)
  · have h24 := (Gen.flush1_3 t).mp hf
    have ht := lt25 t
    obtain ⟨e0, e1⟩ := idx3 t
    show (cfg1.win 3).cut (grid1.coords t) ((dat A4 A1 a2 a3 d).after 3 t) = _
    rw [after3, show t.val + 1 = 25 by omega]
    funext y
    have b0 : (((cfg1.win 3).blk t).view.emb y 0).val = win1_3.index t (0 : Fin 2) * 16 + 1 * (y 0).val := rfl
    have b1 : (((cfg1.win 3).blk t).view.emb y 1).val = win1_3.index t (1 : Fin 2) * 128 + 1 * (y 1).val := rfl
    show fold3 (A4 d) 25 ((cfg1.win 3).xinj (grid1.coords t) y) = fold3 (A4 d) 25 (((cfg1.win 3).blk t).view.emb y)
    refine congrArg _ (funext fun a => Fin.ext ?_)
    match a with
    | ⟨0, _⟩ => show (y 0).val = (((cfg1.win 3).blk t).view.emb y 0).val; omega
    | ⟨1, _⟩ => show (y 1).val = (((cfg1.win 3).blk t).view.emb y 1).val; omega
  · refine ⟨⟨24, by rw [show cfg1.N = 25 from Gen.N_1]; decide⟩, (Gen.flush1_3 _).mpr rfl, ?_⟩
    obtain ⟨e0, e1⟩ := idx3 ⟨24, by rw [show grid1.N = 25 from Gen.N_1]; decide⟩
    have h0 : (i 0).val < 16 := (i 0).isLt
    have h1 : (i 1).val < 128 := (i 1).isLt
    refine (mem_blk3 _ i).2 fun a => ?_
    match a with
    | ⟨0, _⟩ => show win1_3.index _ (0 : Fin 2) * 16 ≤ (i 0).val ∧ (i 0).val < win1_3.index _ (0 : Fin 2) * 16 + 16; rw [e0]; omega
    | ⟨1, _⟩ => show win1_3.index _ (1 : Fin 2) * 128 ≤ (i 1).val ∧ (i 1).val < win1_3.index _ (1 : Fin 2) * 128 + 128; rw [e1]; omega

/-! ## The region -/

abbrev adm : (p : Fin 2) → (pcfgs (F := F) p).Adm := fun p => (cfgs p).toPCfg_adm

/-- What the TensorCore owes and has waited for, between its calls. -/
def owesTc (d : Dev nD) : sProp 𝕄 := iprop(∃ W, ⌜(K (F := F)).WBelow (T d) W (8 * zb.fst 1)⌝ ∗ owes (T d) ((K (F := F)).Otc d 1) W)

theorem Otc_zero' (d : Dev nD) : (K (F := F)).Otc (N := 1) d 1 = 0 := (K (F := F)).Otc_end d (le_refl 1)

theorem owesTc_in (d : Dev nD) (t) : owesTc d ⊢ (dat A4 A1 a2 a3 d).owesAt none t := by
  unfold owesTc Pipeline.Dat.owesAt Pipeline.owesWithin
  iintro ⟨%W, %h, H⟩
  iexists W
  isplitr
  · ipureintro; exact fun p hp => Or.inl (h p hp)
  iexact H
theorem owesTc_out (d : Dev nD) (t) : (dat A4 A1 a2 a3 d).owesAt none t ⊢ owesTc d := by
  unfold owesTc Pipeline.Dat.owesAt Pipeline.owesWithin
  iintro ⟨%W, %h, H⟩
  iexists W
  isplitr
  · ipureintro
    intro p hp
    rcases h hp with h' | ⟨w, s, rfl⟩
    · exact h'
    · exact Nat.zero_le _
  iexact H

def seg : Pipeline.RegionSeg pcfgs adm (both (dat A4 A1 a2 a3) dL) none (defs₀ (F := F)) 𝒱₀ (K (F := F)).L (K (F := F)).lev 0 where
  win := Gen.launch1.win.to₀
  block_pos := Gen.block_pos1
  stage_whole := Gen.stage_whole1
  K := PEmpty
  osem k := k.elim
  ho := Pipeline.OwnSemFacts.none _
  hbody d := (body_obl A4 A1 a2 a3 d).loose
  hwaits d := Pipeline.cellsWaits_intro _ _ _ _ _ fun w s t => (K (F := F)).mayWait_none _ fun g => by
    show (K (F := F)).Otc d 1 g none = 0
    rw [Otc_zero']; rfl
  pre d := iprop((dat A4 A1 a2 a3 d).arrays ((dat A4 A1 a2 a3 d).arrAt · 0) ∗ owesTc d)
  post d := iprop((dat A4 A1 a2 a3 d).arrays ((dat A4 A1 a2 a3 d).arrAt · cfg1.N) ∗ owesTc d)
  X _ := iprop(emp)
  Y _ := iprop(emp)
  Z _ := iprop(emp)
  hentry d := by
    rw [Pipeline.ownSems0_none, Pipeline.prefHeld_of_none _ rfl]
    iintro ⟨⟨Ha, HO⟩, -, -⟩
    imodintro
    isplitl [Ha]; · iexact Ha
    isplitr; · iempintro
    isplitl [HO]; · iapply (owesTc_in A4 A1 a2 a3 d 0); iexact HO
    isplitr <;> iempintro
  hin d := by
    show _ ⊢ Pipeline.scopedRest spec1 d
    iintro ⟨-, -, H⟩; iexact H
  hout d := by
    rw [Pipeline.ownSems0_none]
    show Pipeline.scopedRest spec1 d ⊢ iprop(emp ∗ emp ∗ Pipeline.scopedRest spec1 d)
    iintro H
    isplitr; · iempintro
    isplitr; · iempintro
    iexact H
  hexit d := by
    iintro ⟨Ha, HO, -, -⟩
    imodintro
    isplitl [Ha]; · iexact Ha
    iapply (owesTc_out A4 A1 a2 a3 d _); iexact HO

/-! ## The call -/

/-- The place of the pipeline's rounds in the ghost state. -/
abbrev EP : Emb (URounds (GSem nD τ sig) Unit) 𝕄 :=
  (Emb.inl : Emb (URounds (GSem nD τ sig) Unit) (URounds (GSem nD τ sig) Unit × Counters)).trans embR

instance EP_landsIn : (EP (F := F)).LandsIn (upEmb : UEmb _ 𝕄) := by
  unfold EP; infer_instance

/-- What the launch deals for a pipeline. -/
def pipeG (p : Fin 2) (d : Dev nD) : sProp 𝕄 := iprop(Pipeline.cellsGhost cfgs EP p d ∗ Pipeline.toksInit cfgs EP p d)

/-- The four arrays of the call. -/
def four (d : Dev nD) (X0 : Vec F S25x1x16000 .i32) (X1 : Vec F S400000x128 .f32) (X2 X3 : Vec F S16x128 .f32) : sProp 𝕄 :=
  iprop(((d : Thread nD τ).loc main_v4 ↦{fullShare} X0) ∗ ((d : Thread nD τ).loc main_arg1 ↦{fullShare} X1)
    ∗ ((d : Thread nD τ).loc main_v5_0 ↦{fullShare} X2) ∗ ((d : Thread nD τ).loc main_v5_1 ↦{fullShare} X3))

include dL in
theorem arrays_four (d : Dev nD) (G : (w : Fin cfg1.W) → Buf (Elt F) ((cfg1.win w).arr.view.loc (d.tc : Thread nD τ))) :
    ((dat A4 A1 a2 a3 d).arrays G : sProp 𝕄) = four d (G 0) (G 1) (G 2) (G 3) := by
  rw [Pipeline.arrays_eq cfgs (both (dat A4 A1 a2 a3) dL) 0 d Gen.arr_whole1 ((dat A4 A1 a2 a3 d).share_full fun _ => rfl) G]
  exact Gen.bigSep_W1 _

theorem wp_inner {Λ : Labels} (C : SparseCore.Cfg τ sig Λ 1) (D' : Defs nD τ sig (Elt F) Λ) (𝒱' : Variants) (d : Dev nD) (ℓ : Λ.Label) (a : Λ.Args ℓ) (Q : Λ.Result ℓ → sProp 𝕄) :
    wp frame (wpE D' 𝒱' (T d) none) Set.univ (.op (.customCall ℓ a) fun u => .ret u) Q
      ⊢ wp frame (wpE (C.defs D') 𝒱' (T d) none) Set.univ (Prog.lift (.customCall (SparseCore.inner ℓ) a)) Q :=
  C.wp_liftProg D' 𝒱' (T d) Set.univ none (.op (.customCall ℓ a) fun u => .ret u) Q

include dL in
theorem wp_region [∀ e, Nonempty (Elt F e)] (d : Dev nD) {Q : PUnit → sProp 𝕄} :
    iprop((iprop(boundary (T d) ∗ owesTc d ∗ four d (A4 d) (A1 d) (fold2 (A4 d) (A1 d) 25) (fold3 (A4 d) 25)) -∗ Q ⟨⟩)
        ∗ boundary (T d) ∗ owesTc d ∗ four d (A4 d) (A1 d) (a2 d) (a3 d) ∗ levAts (K (F := F)).L (K (F := F)).lev ∗ pipeG 0 d)
      ⊢ wp frame (wpE ((K (F := F)).defs (D (F := F))) 𝒱 (T d) none) Set.univ
          (Prog.lift (.customCall (SparseCore.inner (Pipeline.entry 0)) ())) Q := by
  have hwp := (seg A4 A1 a2 a3 dL).wp pcfgs adm (both (dat A4 A1 a2 a3) dL) none Gen.cellOf_inj EP (defs₀ (F := F)) 𝒱₀ (K (F := F)).L (K (F := F)).lev d none
    (fun u hu => absurd hu (by simp)) (fun u => .ret u) Q
  refine BIBase.Entails.trans ?_ (wp_inner (K (F := F)) (D (F := F)) 𝒱 d (Pipeline.entry 0) () Q)
  refine BIBase.Entails.trans ?_ hwp
  rw [show (seg A4 A1 a2 a3 dL).post d = iprop((dat A4 A1 a2 a3 d).arrays ((dat A4 A1 a2 a3 d).arrAt · cfg1.N) ∗ owesTc d) from rfl,
    show (seg A4 A1 a2 a3 dL).pre d = iprop((dat A4 A1 a2 a3 d).arrays ((dat A4 A1 a2 a3 d).arrAt · 0) ∗ owesTc d) from rfl, arrays_four A4 A1 a2 a3 dL, arrays_four A4 A1 a2 a3 dL]
  rw [final2, final3, Pipeline.Dat.arrAt_in _ 0 rfl, Pipeline.Dat.arrAt_in _ 1 rfl]
  unfold pipeG
  iintro ⟨HQ, Hb, HO, H4, Hl, Hg, Ht⟩
  isplitl [HQ]
  · iintro ⟨Hb, H4, HO⟩
    rw [wp_ret]; imodintro
    iapply HQ
    isplitl [Hb]; · iexact Hb
    isplitl [HO]; · iexact HO
    iexact H4
  isplitl [Hb]; · iexact Hb
  isplitl [H4 HO]
  · isplitl [H4]; · iexact H4
    iexact HO
  isplitl [Hl]; · iexact Hl
  isplitl [Hg]; · iexact Hg
  iexact Ht

end region

end Cert.Proof.Pool

end
-- ==== Proof.Last.lean ====
/- The last call on the TensorCore: totals of the tiles' parts, means, the two projections. -/
module

public import proofs.«01_k».proof.Proof.Acc
public import Idealize.ShloMosaic.Lib.Pipeline.Kit

@[expose] public section

noncomputable section

namespace Cert.Proof.Pool

open Cert.KernelIdeal
open Facts₀ Facts
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.VecWindow
open Idealize.ShloMosaic.ValueIdx

variable {F : FTy → Type} [FloatOps F]

local notation "𝕄" => MT nD τ sig (HIx 1) (Elt F) ℕ UU ℕ

/-- The tiles' parts added up. -/
def tot (x : Vec F S32x16x128 .f32) : FVec F S16x128 .f32 :=
  multiReduction .add [0] S16x128 (shapeCast S32x16x128 (x : FVec F S32x16x128 .f32) shapeCasts_S32x16x128_S32x16x128) 0x00000000#32 reduces_S32x16x128_S16x128 (.inl rfl) rfl

/-- A count, at least one. -/
def atLeast1 (c : FVec F S16x128 .f32) : FVec F S16x128 .f32 := maximumf c (broadcast S16x128 (Scalar.ofBits .f32 0x3F800000#32))

def meanV (x : Vec F S32x16x128 .f32) (c : Vec F S16x128 .f32) : FVec F S16x128 .f32 := divf (tot x) (atLeast1 c)

def meanC (x : Vec F S16x128 .f32) (s : Vec F S32x16x128 .f32) (c : Vec F S16x128 .f32) : FVec F S16x128 .f32 :=
  divf (addf (shapeCast S16x128 (x : FVec F S16x128 .f32) shapeCasts_S16x128_S16x128) (tot s)) (atLeast1 (shapeCast S16x128 (c : FVec F S16x128 .f32) shapeCasts_S16x128_S16x128))

def proj (g : FVec F S16x128 .f32) (W : Vec F S128x128 .f32) (b : Vec F S1x128 .f32) : FVec F S16x128 .f32 :=
  addf (matmul dot_S16x128_S128x128_S16x128_1_1_0_0_n_n none g (W : FVec F S128x128 .f32) (constant S16x128 .f32 0x00000000#32))
    (broadcastTo S16x128 (shapeCast S1x128 (b : FVec F S1x128 .f32) shapeCasts_S1x128_S1x128) broadcasts_S1x128_S16x128)

/-- What the call reads, and what its results hold before it. -/
structure Ins (F : FTy → Type) where
  x0 : Vec F S32x16x128 .f32
  x1 : Vec F S16x128 .f32
  x2 : Vec F S32x16x128 .f32
  x3 : Vec F S32x16x128 .f32
  x4 : Vec F S16x128 .f32
  x5 : Vec F S16x128 .f32
  x6 : Vec F S16x128 .f32
  x7 : Vec F S128x128 .f32
  x8 : Vec F S1x128 .f32
  x9 : Vec F S128x128 .f32
  x10 : Vec F S1x128 .f32
  x11 : Vec F S16x128 .f32
  x12 : Vec F S16x128 .f32
  x13 : Vec F S16x128 .f32
  x14 : Vec F S16x128 .f32

def Ins.out11 (I : Ins F) : Vec F S16x128 .f32 := proj (meanV I.x0 I.x4) I.x7 I.x8
def Ins.out12 (I : Ins F) : Vec F S16x128 .f32 := proj (meanV I.x0 I.x4) I.x9 I.x10
def Ins.out13 (I : Ins F) : Vec F S16x128 .f32 := meanC I.x1 I.x2 I.x5
def Ins.out14 (I : Ins F) : Vec F S16x128 .f32 := meanV I.x3 I.x6

theorem wp_fin (d : Dev nD) (arg0 : Memref sig .tc .vmem S32x16x128 .f32) (harg0 : arg0.IsWhole) (arg1 : Memref sig .tc .vmem S16x128 .f32) (harg1 : arg1.IsWhole) (arg2 : Memref sig .tc .vmem S32x16x128 .f32) (harg2 : arg2.IsWhole) (arg3 : Memref sig .tc .vmem S32x16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S16x128 .f32) (harg11 : arg11.IsWhole) (arg12 : Memref sig .tc .vmem S16x128 .f32) (harg12 : arg12.IsWhole) (arg13 : Memref sig .tc .vmem S16x128 .f32) (harg13 : arg13.IsWhole) (arg14 : Memref sig .tc .vmem S16x128 .f32) (harg14 : arg14.IsWhole) (I : Ins F) {Q : PUnit → sProp 𝕄} :
    iprop(at' (T d) arg0 I.x0 ∗ at' (T d) arg1 I.x1 ∗ at' (T d) arg2 I.x2 ∗ at' (T d) arg3 I.x3 ∗ at' (T d) arg4 I.x4 ∗ at' (T d) arg5 I.x5 ∗ at' (T d) arg6 I.x6 ∗ at' (T d) arg7 I.x7 ∗ at' (T d) arg8 I.x8 ∗ at' (T d) arg9 I.x9 ∗ at' (T d) arg10 I.x10 ∗ at' (T d) arg11 I.x11 ∗ at' (T d) arg12 I.x12 ∗ at' (T d) arg13 I.x13 ∗ at' (T d) arg14 I.x14) ⊢
      iprop((at' (T d) arg0 I.x0 ∗ at' (T d) arg1 I.x1 ∗ at' (T d) arg2 I.x2 ∗ at' (T d) arg3 I.x3 ∗ at' (T d) arg4 I.x4 ∗ at' (T d) arg5 I.x5 ∗ at' (T d) arg6 I.x6 ∗ at' (T d) arg7 I.x7 ∗ at' (T d) arg8 I.x8 ∗ at' (T d) arg9 I.x9 ∗ at' (T d) arg10 I.x10 ∗ at' (T d) arg11 I.out11 ∗ at' (T d) arg12 I.out12 ∗ at' (T d) arg13 I.out13 ∗ at' (T d) arg14 I.out14 -∗ Q ⟨⟩)
      -∗ wp frame (wpE defs₀ 𝒱₀ (T d) none) Set.univ (cc2__fin_body arg0 harg0 arg1 harg1 arg2 harg2 arg3 harg3 arg4 harg4 arg5 harg5 arg6 harg6 arg7 harg7 arg8 harg8 arg9 harg9 arg10 harg10 arg11 harg11 arg12 harg12 arg13 harg13 arg14 harg14) Q) := by
  unfold cc2__fin_body k2_part1
  simp only [pure_bind, bind_assoc]
  iintro ⟨H0, H1, H2, H3, H4, H5, H6, H7, H8, H9, H10, H11, H12, H13, H14⟩ HQ
  iapply (wp_ld (c := T d) arg0 _ _ _ _) $$ H0; iintro H0
  iapply (wp_ld (c := T d) arg4 _ _ _ _) $$ H4; iintro H4
  iapply (wp_ld (c := T d) arg7 _ _ _ _) $$ H7; iintro H7
  iapply (wp_ld (c := T d) arg8 _ _ _ _) $$ H8; iintro H8
  iapply (wp_ld (c := T d) arg11 _ _ _ _) $$ H11; iintro H11
  iapply (wp_st (c := T d) arg11 _ _ _ _ _ _ _) $$ H11; iintro H11
  iapply (wp_ld (c := T d) arg9 _ _ _ _) $$ H9; iintro H9
  iapply (wp_ld (c := T d) arg10 _ _ _ _) $$ H10; iintro H10
  iapply (wp_ld (c := T d) arg12 _ _ _ _) $$ H12; iintro H12
  iapply (wp_st (c := T d) arg12 _ _ _ _ _ _ _) $$ H12; iintro H12
  iapply (wp_ld (c := T d) arg1 _ _ _ _) $$ H1; iintro H1
  iapply (wp_ld (c := T d) arg2 _ _ _ _) $$ H2; iintro H2
  iapply (wp_ld (c := T d) arg5 _ _ _ _) $$ H5; iintro H5
  iapply (wp_ld (c := T d) arg13 _ _ _ _) $$ H13; iintro H13
  iapply (wp_st (c := T d) arg13 _ _ _ _ _ _ _) $$ H13; iintro H13
  iapply (wp_ld (c := T d) arg3 _ _ _ _) $$ H3; iintro H3
  iapply (wp_ld (c := T d) arg6 _ _ _ _) $$ H6; iintro H6
  iapply (wp_ld (c := T d) arg14 _ _ _ _) $$ H14; iintro H14
  iapply (wp_st (c := T d) arg14 _ _ _ _ _ _ _) $$ H14; iintro H14
  simp only [window_whole (s := S16x128) _ _ zero2, put_whole (s := S16x128) _ _ zero2, window_whole (s := S128x128) _ _ zero2, window_whole (s := S1x128) _ _ zero2, window_whole (s := S32x16x128) _ _ zero3]
  simp only [wp_pure]
  imodintro
  iapply HQ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

end Cert.Proof.Pool

end
-- ==== Proof.Region2.lean ====
/- The last call on the TensorCore as a region of main: its proof data, its body's obligation, what it leaves. -/
module

public import proofs.«01_k».proof.Proof.Last
public import proofs.«01_k».proof.Proof.Region

@[expose] public section

noncomputable section

namespace Cert.Proof.Pool

open Cert.KernelIdeal
open Facts₀ Facts
open Idealize.ShloMosaic
open Idealize.ShloMosaic.TcCoe
open Idealize.ShloMosaic.SparseCore (S V T)
open Idealize.ShloMosaic.SparseCore.Cfg (HIx)
open Idealize.ShloMosaic.Pipeline (Dat Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.VecWindow
open Idealize.ShloMosaic.ValueIdx

variable {F : FTy → Type} [FloatOps F]

local notation "𝕄" => MT nD τ sig (HIx 1) (Elt F) ℕ UU ℕ

section region

variable (I : Dev nD → Ins F)

def datL (d : Dev nD) : Dat τ (Elt F) (HIx 1) ℕ UU ℕ cfg2 d where
  A w := match w with
    | ⟨0, _⟩ => (I d).x0
    | ⟨1, _⟩ => (I d).x1
    | ⟨2, _⟩ => (I d).x2
    | ⟨3, _⟩ => (I d).x3
    | ⟨4, _⟩ => (I d).x4
    | ⟨5, _⟩ => (I d).x5
    | ⟨6, _⟩ => (I d).x6
    | ⟨7, _⟩ => (I d).x7
    | ⟨8, _⟩ => (I d).x8
    | ⟨9, _⟩ => (I d).x9
    | ⟨10, _⟩ => (I d).x10
    | ⟨11, _⟩ => (I d).x11
    | ⟨12, _⟩ => (I d).x12
    | ⟨13, _⟩ => (I d).x13
    | ⟨14, _⟩ => (I d).x14
  after w _ := match w with
    | ⟨0, _⟩ => (I d).x0
    | ⟨1, _⟩ => (I d).x1
    | ⟨2, _⟩ => (I d).x2
    | ⟨3, _⟩ => (I d).x3
    | ⟨4, _⟩ => (I d).x4
    | ⟨5, _⟩ => (I d).x5
    | ⟨6, _⟩ => (I d).x6
    | ⟨7, _⟩ => (I d).x7
    | ⟨8, _⟩ => (I d).x8
    | ⟨9, _⟩ => (I d).x9
    | ⟨10, _⟩ => (I d).x10
    | ⟨11, _⟩ => (I d).out11
    | ⟨12, _⟩ => (I d).out12
    | ⟨13, _⟩ => (I d).out13
    | ⟨14, _⟩ => (I d).out14
  Φ _ := Pipeline.scopedRest spec2 d
  q _ := fullShare
  owed _ := (K (F := F)).Otc d 1
  recorded _ := {p | (K (F := F)).lev (T d, p.1) p.2 ≤ 8 * zb.fst 1}

theorem readL0 (t : Fin cfg2.N) (X : Vec F S32x16x128 .f32) : ((cfg2.win 0).blk t).view.read (Elt F) X = X := by
  funext y
  show X (((cfg2.win 0).blk t).view.emb y) = X y
  refine congrArg X (funext fun a => Fin.ext ?_)
  show 0 * S32x16x128.size a + 1 * (y a).val = (y a).val
  omega
theorem beforeL0 (d : Dev nD) (t : Fin cfg2.N) (x) : (datL I d).before 0 t x = (I d).x0 :=
  ((datL I d).before_in_eq_fetched 0 rfl (fun _ => rfl) (fun _ _ _ => rfl) (fun t => (readL0 t (I d).x0).symm) t x).trans (readL0 t (I d).x0)
theorem readL1 (t : Fin cfg2.N) (X : Vec F S16x128 .f32) : ((cfg2.win 1).blk t).view.read (Elt F) X = X := by
  funext y
  show X (((cfg2.win 1).blk t).view.emb y) = X y
  refine congrArg X (funext fun a => Fin.ext ?_)
  show 0 * S16x128.size a + 1 * (y a).val = (y a).val
  omega
theorem beforeL1 (d : Dev nD) (t : Fin cfg2.N) (x) : (datL I d).before 1 t x = (I d).x1 :=
  ((datL I d).before_in_eq_fetched 1 rfl (fun _ => rfl) (fun _ _ _ => rfl) (fun t => (readL1 t (I d).x1).symm) t x).trans (readL1 t (I d).x1)
theorem readL2 (t : Fin cfg2.N) (X : Vec F S32x16x128 .f32) : ((cfg2.win 2).blk t).view.read (Elt F) X = X := by
  funext y
  show X (((cfg2.win 2).blk t).view.emb y) = X y
  refine congrArg X (funext fun a => Fin.ext ?_)
  show 0 * S32x16x128.size a + 1 * (y a).val = (y a).val
  omega
theorem beforeL2 (d : Dev nD) (t : Fin cfg2.N) (x) : (datL I d).before 2 t x = (I d).x2 :=
  ((datL I d).before_in_eq_fetched 2 rfl (fun _ => rfl) (fun _ _ _ => rfl) (fun t => (readL2 t (I d).x2).symm) t x).trans (readL2 t (I d).x2)
theorem readL3 (t : Fin cfg2.N) (X : Vec F S32x16x128 .f32) : ((cfg2.win 3).blk t).view.read (Elt F) X = X := by
  funext y
  show X (((cfg2.win 3).blk t).view.emb y) = X y
  refine congrArg X (funext fun a => Fin.ext ?_)
  show 0 * S32x16x128.size a + 1 * (y a).val = (y a).val
  omega
theorem beforeL3 (d : Dev nD) (t : Fin cfg2.N) (x) : (datL I d).before 3 t x = (I d).x3 :=
  ((datL I d).before_in_eq_fetched 3 rfl (fun _ => rfl) (fun _ _ _ => rfl) (fun t => (readL3 t (I d).x3).symm) t x).trans (readL3 t (I d).x3)
theorem readL4 (t : Fin cfg2.N) (X : Vec F S16x128 .f32) : ((cfg2.win 4).blk t).view.read (Elt F) X = X := by
  funext y
  show X (((cfg2.win 4).blk t).view.emb y) = X y
  refine congrArg X (funext fun a => Fin.ext ?_)
  show 0 * S16x128.size a + 1 * (y a).val = (y a).val
  omega
theorem beforeL4 (d : Dev nD) (t : Fin cfg2.N) (x) : (datL I d).before 4 t x = (I d).x4 :=
  ((datL I d).before_in_eq_fetched 4 rfl (fun _ => rfl) (fun _ _ _ => rfl) (fun t => (readL4 t (I d).x4).symm) t x).trans (readL4 t (I d).x4)
theorem readL5 (t : Fin cfg2.N) (X : Vec F S16x128 .f32) : ((cfg2.win 5).blk t).view.read (Elt F) X = X := by
  funext y
  show X (((cfg2.win 5).blk t).view.emb y) = X y
  refine congrArg X (funext fun a => Fin.ext ?_)
  show 0 * S16x128.size a + 1 * (y a).val = (y a).val
  omega
theorem beforeL5 (d : Dev nD) (t : Fin cfg2.N) (x) : (datL I d).before 5 t x = (I d).x5 :=
  ((datL I d).before_in_eq_fetched 5 rfl (fun _ => rfl) (fun _ _ _ => rfl) (fun t => (readL5 t (I d).x5).symm) t x).trans (readL5 t (I d).x5)
theorem readL6 (t : Fin cfg2.N) (X : Vec F S16x128 .f32) : ((cfg2.win 6).blk t).view.read (Elt F) X = X := by
  funext y
  show X (((cfg2.win 6).blk t).view.emb y) = X y
  refine congrArg X (funext fun a => Fin.ext ?_)
  show 0 * S16x128.size a + 1 * (y a).val = (y a).val
  omega
theorem beforeL6 (d : Dev nD) (t : Fin cfg2.N) (x) : (datL I d).before 6 t x = (I d).x6 :=
  ((datL I d).before_in_eq_fetched 6 rfl (fun _ => rfl) (fun _ _ _ => rfl) (fun t => (readL6 t (I d).x6).symm) t x).trans (readL6 t (I d).x6)
theorem readL7 (t : Fin cfg2.N) (X : Vec F S128x128 .f32) : ((cfg2.win 7).blk t).view.read (Elt F) X = X := by
  funext y
  show X (((cfg2.win 7).blk t).view.emb y) = X y
  refine congrArg X (funext fun a => Fin.ext ?_)
  show 0 * S128x128.size a + 1 * (y a).val = (y a).val
  omega
theorem beforeL7 (d : Dev nD) (t : Fin cfg2.N) (x) : (datL I d).before 7 t x = (I d).x7 :=
  ((datL I d).before_in_eq_fetched 7 rfl (fun _ => rfl) (fun _ _ _ => rfl) (fun t => (readL7 t (I d).x7).symm) t x).trans (readL7 t (I d).x7)
theorem readL8 (t : Fin cfg2.N) (X : Vec F S1x128 .f32) : ((cfg2.win 8).blk t).view.read (Elt F) X = X := by
  funext y
  show X (((cfg2.win 8).blk t).view.emb y) = X y
  refine congrArg X (funext fun a => Fin.ext ?_)
  show 0 * S1x128.size a + 1 * (y a).val = (y a).val
  omega
theorem beforeL8 (d : Dev nD) (t : Fin cfg2.N) (x) : (datL I d).before 8 t x = (I d).x8 :=
  ((datL I d).before_in_eq_fetched 8 rfl (fun _ => rfl) (fun _ _ _ => rfl) (fun t => (readL8 t (I d).x8).symm) t x).trans (readL8 t (I d).x8)
theorem readL9 (t : Fin cfg2.N) (X : Vec F S128x128 .f32) : ((cfg2.win 9).blk t).view.read (Elt F) X = X := by
  funext y
  show X (((cfg2.win 9).blk t).view.emb y) = X y
  refine congrArg X (funext fun a => Fin.ext ?_)
  show 0 * S128x128.size a + 1 * (y a).val = (y a).val
  omega
theorem beforeL9 (d : Dev nD) (t : Fin cfg2.N) (x) : (datL I d).before 9 t x = (I d).x9 :=
  ((datL I d).before_in_eq_fetched 9 rfl (fun _ => rfl) (fun _ _ _ => rfl) (fun t => (readL9 t (I d).x9).symm) t x).trans (readL9 t (I d).x9)
theorem readL10 (t : Fin cfg2.N) (X : Vec F S1x128 .f32) : ((cfg2.win 10).blk t).view.read (Elt F) X = X := by
  funext y
  show X (((cfg2.win 10).blk t).view.emb y) = X y
  refine congrArg X (funext fun a => Fin.ext ?_)
  show 0 * S1x128.size a + 1 * (y a).val = (y a).val
  omega
theorem beforeL10 (d : Dev nD) (t : Fin cfg2.N) (x) : (datL I d).before 10 t x = (I d).x10 :=
  ((datL I d).before_in_eq_fetched 10 rfl (fun _ => rfl) (fun _ _ _ => rfl) (fun t => (readL10 t (I d).x10).symm) t x).trans (readL10 t (I d).x10)
theorem finalL11 (d : Dev nD) : (datL I d).arrAt 11 cfg2.N = (I d).out11 := by
  refine (datL I d).arrAt_eq_of_cover 11 ((I d).out11) (fun t _ => ?_) (fun i => ⟨Gen.t2_0, Gen.flush2_11 _, ?_⟩)
  · funext y
    show (I d).out11 ((cfg2.win 11).xinj (grid2.coords t) y) = (I d).out11 (((cfg2.win 11).blk t).view.emb y)
    refine congrArg _ (funext fun a => Fin.ext ?_)
    show (y a).val = 0 * S16x128.size a + 1 * (y a).val
    omega
  · show i ∈ ((View.whole main_v8_0).slice (win2_11.rect Gen.t2_0)).set
    rw [View.set_slice_whole, Rect.mem_set_unit]
    intro a
    show 0 * S16x128.size a ≤ (i a).val ∧ (i a).val < 0 * S16x128.size a + S16x128.size a
    have := (i a).isLt
    have h : (i a).val < S16x128.size a := this
    omega
theorem finalL12 (d : Dev nD) : (datL I d).arrAt 12 cfg2.N = (I d).out12 := by
  refine (datL I d).arrAt_eq_of_cover 12 ((I d).out12) (fun t _ => ?_) (fun i => ⟨Gen.t2_0, Gen.flush2_12 _, ?_⟩)
  · funext y
    show (I d).out12 ((cfg2.win 12).xinj (grid2.coords t) y) = (I d).out12 (((cfg2.win 12).blk t).view.emb y)
    refine congrArg _ (funext fun a => Fin.ext ?_)
    show (y a).val = 0 * S16x128.size a + 1 * (y a).val
    omega
  · show i ∈ ((View.whole main_v8_1).slice (win2_12.rect Gen.t2_0)).set
    rw [View.set_slice_whole, Rect.mem_set_unit]
    intro a
    show 0 * S16x128.size a ≤ (i a).val ∧ (i a).val < 0 * S16x128.size a + S16x128.size a
    have := (i a).isLt
    have h : (i a).val < S16x128.size a := this
    omega
theorem finalL13 (d : Dev nD) : (datL I d).arrAt 13 cfg2.N = (I d).out13 := by
  refine (datL I d).arrAt_eq_of_cover 13 ((I d).out13) (fun t _ => ?_) (fun i => ⟨Gen.t2_0, Gen.flush2_13 _, ?_⟩)
  · funext y
    show (I d).out13 ((cfg2.win 13).xinj (grid2.coords t) y) = (I d).out13 (((cfg2.win 13).blk t).view.emb y)
    refine congrArg _ (funext fun a => Fin.ext ?_)
    show (y a).val = 0 * S16x128.size a + 1 * (y a).val
    omega
  · show i ∈ ((View.whole main_v8_2).slice (win2_13.rect Gen.t2_0)).set
    rw [View.set_slice_whole, Rect.mem_set_unit]
    intro a
    show 0 * S16x128.size a ≤ (i a).val ∧ (i a).val < 0 * S16x128.size a + S16x128.size a
    have := (i a).isLt
    have h : (i a).val < S16x128.size a := this
    omega
theorem finalL14 (d : Dev nD) : (datL I d).arrAt 14 cfg2.N = (I d).out14 := by
  refine (datL I d).arrAt_eq_of_cover 14 ((I d).out14) (fun t _ => ?_) (fun i => ⟨Gen.t2_0, Gen.flush2_14 _, ?_⟩)
  · funext y
    show (I d).out14 ((cfg2.win 14).xinj (grid2.coords t) y) = (I d).out14 (((cfg2.win 14).blk t).view.emb y)
    refine congrArg _ (funext fun a => Fin.ext ?_)
    show (y a).val = 0 * S16x128.size a + 1 * (y a).val
    omega
  · show i ∈ ((View.whole main_v8_3).slice (win2_14.rect Gen.t2_0)).set
    rw [View.set_slice_whole, Rect.mem_set_unit]
    intro a
    show 0 * S16x128.size a ≤ (i a).val ∧ (i a).val < 0 * S16x128.size a + S16x128.size a
    have := (i a).isLt
    have h : (i a).val < S16x128.size a := this
    omega

theorem bodyL_run (d : Dev nD) (t : Fin cfg2.N) :
    iprop((datL I d).Φ t.castSucc ∗ (datL I d).owesAt none t.castSucc
      ∗ (∃ x, owns (d : Thread nD τ) (Gen.st2_0 t) fullShare ((datL I d).before 0 t x))
      ∗ (∃ x, owns (d : Thread nD τ) (Gen.st2_1 t) fullShare ((datL I d).before 1 t x))
      ∗ (∃ x, owns (d : Thread nD τ) (Gen.st2_2 t) fullShare ((datL I d).before 2 t x))
      ∗ (∃ x, owns (d : Thread nD τ) (Gen.st2_3 t) fullShare ((datL I d).before 3 t x))
      ∗ (∃ x, owns (d : Thread nD τ) (Gen.st2_4 t) fullShare ((datL I d).before 4 t x))
      ∗ (∃ x, owns (d : Thread nD τ) (Gen.st2_5 t) fullShare ((datL I d).before 5 t x))
      ∗ (∃ x, owns (d : Thread nD τ) (Gen.st2_6 t) fullShare ((datL I d).before 6 t x))
      ∗ (∃ x, owns (d : Thread nD τ) (Gen.st2_7 t) fullShare ((datL I d).before 7 t x))
      ∗ (∃ x, owns (d : Thread nD τ) (Gen.st2_8 t) fullShare ((datL I d).before 8 t x))
      ∗ (∃ x, owns (d : Thread nD τ) (Gen.st2_9 t) fullShare ((datL I d).before 9 t x))
      ∗ (∃ x, owns (d : Thread nD τ) (Gen.st2_10 t) fullShare ((datL I d).before 10 t x))
      ∗ (∃ x, owns (d : Thread nD τ) (Gen.st2_11 t) fullShare ((datL I d).before 11 t x))
      ∗ (∃ x, owns (d : Thread nD τ) (Gen.st2_12 t) fullShare ((datL I d).before 12 t x))
      ∗ (∃ x, owns (d : Thread nD τ) (Gen.st2_13 t) fullShare ((datL I d).before 13 t x))
      ∗ (∃ x, owns (d : Thread nD τ) (Gen.st2_14 t) fullShare ((datL I d).before 14 t x)))
    ⊢ wp frame (wpE (defs₀ (F := F)) Variants.none d none) Set.univ (Gen.bodyAt2 t) fun _ =>
      iprop((datL I d).Φ t.succ ∗ (datL I d).owesAt none t.succ
        ∗ owns (d : Thread nD τ) (Gen.st2_0 t) fullShare ((datL I d).after 0 t)
        ∗ owns (d : Thread nD τ) (Gen.st2_1 t) fullShare ((datL I d).after 1 t)
        ∗ owns (d : Thread nD τ) (Gen.st2_2 t) fullShare ((datL I d).after 2 t)
        ∗ owns (d : Thread nD τ) (Gen.st2_3 t) fullShare ((datL I d).after 3 t)
        ∗ owns (d : Thread nD τ) (Gen.st2_4 t) fullShare ((datL I d).after 4 t)
        ∗ owns (d : Thread nD τ) (Gen.st2_5 t) fullShare ((datL I d).after 5 t)
        ∗ owns (d : Thread nD τ) (Gen.st2_6 t) fullShare ((datL I d).after 6 t)
        ∗ owns (d : Thread nD τ) (Gen.st2_7 t) fullShare ((datL I d).after 7 t)
        ∗ owns (d : Thread nD τ) (Gen.st2_8 t) fullShare ((datL I d).after 8 t)
        ∗ owns (d : Thread nD τ) (Gen.st2_9 t) fullShare ((datL I d).after 9 t)
        ∗ owns (d : Thread nD τ) (Gen.st2_10 t) fullShare ((datL I d).after 10 t)
        ∗ owns (d : Thread nD τ) (Gen.st2_11 t) fullShare ((datL I d).after 11 t)
        ∗ owns (d : Thread nD τ) (Gen.st2_12 t) fullShare ((datL I d).after 12 t)
        ∗ owns (d : Thread nD τ) (Gen.st2_13 t) fullShare ((datL I d).after 13 t)
        ∗ owns (d : Thread nD τ) (Gen.st2_14 t) fullShare ((datL I d).after 14 t)) := by
  simp only [beforeL0, beforeL1, beforeL2, beforeL3, beforeL4, beforeL5, beforeL6, beforeL7, beforeL8, beforeL9, beforeL10]
  rw [show (datL I d).Φ t.succ = (datL I d).Φ t.castSucc from rfl, show (datL I d).owesAt none t.succ = (datL I d).owesAt none t.castSucc from rfl]
  rw [show (datL I d).after 0 t = (I d).x0 from rfl]
  rw [show (datL I d).after 1 t = (I d).x1 from rfl]
  rw [show (datL I d).after 2 t = (I d).x2 from rfl]
  rw [show (datL I d).after 3 t = (I d).x3 from rfl]
  rw [show (datL I d).after 4 t = (I d).x4 from rfl]
  rw [show (datL I d).after 5 t = (I d).x5 from rfl]
  rw [show (datL I d).after 6 t = (I d).x6 from rfl]
  rw [show (datL I d).after 7 t = (I d).x7 from rfl]
  rw [show (datL I d).after 8 t = (I d).x8 from rfl]
  rw [show (datL I d).after 9 t = (I d).x9 from rfl]
  rw [show (datL I d).after 10 t = (I d).x10 from rfl]
  rw [show (datL I d).after 11 t = (I d).out11 from rfl]
  rw [show (datL I d).after 12 t = (I d).out12 from rfl]
  rw [show (datL I d).after 13 t = (I d).out13 from rfl]
  rw [show (datL I d).after 14 t = (I d).out14 from rfl]
  iintro ⟨HΦ, Ho, ⟨%y0, H0⟩, ⟨%y1, H1⟩, ⟨%y2, H2⟩, ⟨%y3, H3⟩, ⟨%y4, H4⟩, ⟨%y5, H5⟩, ⟨%y6, H6⟩, ⟨%y7, H7⟩, ⟨%y8, H8⟩, ⟨%y9, H9⟩, ⟨%y10, H10⟩, ⟨%y11, H11⟩, ⟨%y12, H12⟩, ⟨%y13, H13⟩, ⟨%y14, H14⟩⟩
  ihave H0 := (owns_at (d : Thread nD τ) _ _) $$ H0
  ihave H1 := (owns_at (d : Thread nD τ) _ _) $$ H1
  ihave H2 := (owns_at (d : Thread nD τ) _ _) $$ H2
  ihave H3 := (owns_at (d : Thread nD τ) _ _) $$ H3
  ihave H4 := (owns_at (d : Thread nD τ) _ _) $$ H4
  ihave H5 := (owns_at (d : Thread nD τ) _ _) $$ H5
  ihave H6 := (owns_at (d : Thread nD τ) _ _) $$ H6
  ihave H7 := (owns_at (d : Thread nD τ) _ _) $$ H7
  ihave H8 := (owns_at (d : Thread nD τ) _ _) $$ H8
  ihave H9 := (owns_at (d : Thread nD τ) _ _) $$ H9
  ihave H10 := (owns_at (d : Thread nD τ) _ _) $$ H10
  ihave H11 := (owns_at (d : Thread nD τ) _ _) $$ H11
  ihave H12 := (owns_at (d : Thread nD τ) _ _) $$ H12
  ihave H13 := (owns_at (d : Thread nD τ) _ _) $$ H13
  ihave H14 := (owns_at (d : Thread nD τ) _ _) $$ H14
  iapply (wp_fin d _ _ _ _ _ _ _ _ _ _ _ _ _ _ _ _ _ _ _ _ _ _ _ _ _ _ _ _ _ _ { I d with x11 := (datL I d).before 11 t y11, x12 := (datL I d).before 12 t y12, x13 := (datL I d).before 13 t y13, x14 := (datL I d).before 14 t y14 }) $$ [H0 H1 H2 H3 H4 H5 H6 H7 H8 H9 H10 H11 H12 H13 H14]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iintro ⟨H0, H1, H2, H3, H4, H5, H6, H7, H8, H9, H10, H11, H12, H13, H14⟩
  isplitl [HΦ]; · iexact HΦ
  isplitl [Ho]; · iexact Ho
  isplitl [H0]; · iapply (at_owns (d : Thread nD τ) _ _); iexact H0
  isplitl [H1]; · iapply (at_owns (d : Thread nD τ) _ _); iexact H1
  isplitl [H2]; · iapply (at_owns (d : Thread nD τ) _ _); iexact H2
  isplitl [H3]; · iapply (at_owns (d : Thread nD τ) _ _); iexact H3
  isplitl [H4]; · iapply (at_owns (d : Thread nD τ) _ _); iexact H4
  isplitl [H5]; · iapply (at_owns (d : Thread nD τ) _ _); iexact H5
  isplitl [H6]; · iapply (at_owns (d : Thread nD τ) _ _); iexact H6
  isplitl [H7]; · iapply (at_owns (d : Thread nD τ) _ _); iexact H7
  isplitl [H8]; · iapply (at_owns (d : Thread nD τ) _ _); iexact H8
  isplitl [H9]; · iapply (at_owns (d : Thread nD τ) _ _); iexact H9
  isplitl [H10]; · iapply (at_owns (d : Thread nD τ) _ _); iexact H10
  isplitl [H11]; · iapply (at_owns (d : Thread nD τ) _ _); iexact H11
  isplitl [H12]; · iapply (at_owns (d : Thread nD τ) _ _); iexact H12
  isplitl [H13]; · iapply (at_owns (d : Thread nD τ) _ _); iexact H13
  iapply (at_owns (d : Thread nD τ) _ _); iexact H14

theorem bodyL_row (t : Fin cfg2.N) : defs₀ (F := F) .tc cfg2.body (cfg2.bodyArgs t (cfg2.slots t)) = Gen.bodyAt2 t := rfl

theorem bodyL_obl (d : Dev nD) : BodyObligation (datL I d) (defs₀ (F := F)) Variants.none none Set.univ := fun t => by
  rw [Gen.bigSep_W2, Gen.bigSep_W2, bodyL_row]
  exact triple_restated (bodyL_run I d t) rfl .rfl fun _ => .rfl

theorem owesTcL_in (d : Dev nD) (t) : owesTc d ⊢ (datL I d).owesAt none t := by
  unfold owesTc Pipeline.Dat.owesAt Pipeline.owesWithin
  iintro ⟨%W, %h, H⟩
  iexists W
  isplitr
  · ipureintro; exact fun p hp => Or.inl (h p hp)
  iexact H
theorem owesTcL_out (d : Dev nD) (t) : (datL I d).owesAt none t ⊢ owesTc d := by
  unfold owesTc Pipeline.Dat.owesAt Pipeline.owesWithin
  iintro ⟨%W, %h, H⟩
  iexists W
  isplitr
  · ipureintro
    intro p hp
    rcases h hp with h' | ⟨w, s, rfl⟩
    · exact h'
    · exact Nat.zero_le _
  iexact H

variable (dP : (d : Dev nD) → Dat τ (Elt F) (HIx 1) ℕ UU ℕ cfg1 d)

def segL : Pipeline.RegionSeg pcfgs adm (both dP (datL I)) none (defs₀ (F := F)) 𝒱₀ (K (F := F)).L (K (F := F)).lev 1 where
  win := Gen.launch2.win.to₀
  block_pos := Gen.block_pos2
  stage_whole := Gen.stage_whole2
  K := PEmpty
  osem k := k.elim
  ho := Pipeline.OwnSemFacts.none _
  hbody d := (bodyL_obl I d).loose
  hwaits d := Pipeline.cellsWaits_intro _ _ _ _ _ fun w s t => (K (F := F)).mayWait_none _ fun g => by
    show (K (F := F)).Otc d 1 g none = 0
    rw [Otc_zero']; rfl
  pre d := iprop((datL I d).arrays ((datL I d).arrAt · 0) ∗ owesTc d)
  post d := iprop((datL I d).arrays ((datL I d).arrAt · cfg2.N) ∗ owesTc d)
  X _ := iprop(emp)
  Y _ := iprop(emp)
  Z _ := iprop(emp)
  hentry d := by
    rw [Pipeline.ownSems0_none, Pipeline.prefHeld_of_none _ rfl]
    iintro ⟨⟨Ha, HO⟩, -, -⟩
    imodintro
    isplitl [Ha]; · iexact Ha
    isplitr; · iempintro
    isplitl [HO]; · iapply (owesTcL_in I d 0); iexact HO
    isplitr <;> iempintro
  hin d := by
    show _ ⊢ Pipeline.scopedRest spec2 d
    iintro ⟨-, -, H⟩; iexact H
  hout d := by
    rw [Pipeline.ownSems0_none]
    show Pipeline.scopedRest spec2 d ⊢ iprop(emp ∗ emp ∗ Pipeline.scopedRest spec2 d)
    iintro H
    isplitr; · iempintro
    isplitr; · iempintro
    iexact H
  hexit d := by
    iintro ⟨Ha, HO, -, -⟩
    imodintro
    isplitl [Ha]; · iexact Ha
    iapply (owesTcL_out I d _); iexact HO

/-- The fifteen arrays of the call, before it. -/
def fifteen (d : Dev nD) (J : Ins F) : sProp 𝕄 := iprop(((d : Thread nD τ).loc main_v3_0 ↦{fullShare} J.x0) ∗ ((d : Thread nD τ).loc main_v5_0 ↦{fullShare} J.x1) ∗ ((d : Thread nD τ).loc main_v3_2 ↦{fullShare} J.x2) ∗ ((d : Thread nD τ).loc main_v3_1 ↦{fullShare} J.x3) ∗ ((d : Thread nD τ).loc main_arg5 ↦{fullShare} J.x4) ∗ ((d : Thread nD τ).loc main_v5_1 ↦{fullShare} J.x5) ∗ ((d : Thread nD τ).loc main_arg6 ↦{fullShare} J.x6) ∗ ((d : Thread nD τ).loc main_arg8 ↦{fullShare} J.x7) ∗ ((d : Thread nD τ).loc main_v6 ↦{fullShare} J.x8) ∗ ((d : Thread nD τ).loc main_arg10 ↦{fullShare} J.x9) ∗ ((d : Thread nD τ).loc main_v7 ↦{fullShare} J.x10) ∗ ((d : Thread nD τ).loc main_v8_0 ↦{fullShare} J.x11) ∗ ((d : Thread nD τ).loc main_v8_1 ↦{fullShare} J.x12) ∗ ((d : Thread nD τ).loc main_v8_2 ↦{fullShare} J.x13) ∗ ((d : Thread nD τ).loc main_v8_3 ↦{fullShare} J.x14))
/-- After it. -/
def fifteen' (d : Dev nD) (J : Ins F) : sProp 𝕄 := iprop(((d : Thread nD τ).loc main_v3_0 ↦{fullShare} J.x0) ∗ ((d : Thread nD τ).loc main_v5_0 ↦{fullShare} J.x1) ∗ ((d : Thread nD τ).loc main_v3_2 ↦{fullShare} J.x2) ∗ ((d : Thread nD τ).loc main_v3_1 ↦{fullShare} J.x3) ∗ ((d : Thread nD τ).loc main_arg5 ↦{fullShare} J.x4) ∗ ((d : Thread nD τ).loc main_v5_1 ↦{fullShare} J.x5) ∗ ((d : Thread nD τ).loc main_arg6 ↦{fullShare} J.x6) ∗ ((d : Thread nD τ).loc main_arg8 ↦{fullShare} J.x7) ∗ ((d : Thread nD τ).loc main_v6 ↦{fullShare} J.x8) ∗ ((d : Thread nD τ).loc main_arg10 ↦{fullShare} J.x9) ∗ ((d : Thread nD τ).loc main_v7 ↦{fullShare} J.x10) ∗ ((d : Thread nD τ).loc main_v8_0 ↦{fullShare} J.out11) ∗ ((d : Thread nD τ).loc main_v8_1 ↦{fullShare} J.out12) ∗ ((d : Thread nD τ).loc main_v8_2 ↦{fullShare} J.out13) ∗ ((d : Thread nD τ).loc main_v8_3 ↦{fullShare} J.out14))

include dP in
theorem arraysL (d : Dev nD) (G : (w : Fin cfg2.W) → Buf (Elt F) ((cfg2.win w).arr.view.loc (d.tc : Thread nD τ))) :
    ((datL I d).arrays G : sProp 𝕄) = iprop(((d : Thread nD τ).loc main_v3_0 ↦{fullShare} G 0) ∗ ((d : Thread nD τ).loc main_v5_0 ↦{fullShare} G 1) ∗ ((d : Thread nD τ).loc main_v3_2 ↦{fullShare} G 2) ∗ ((d : Thread nD τ).loc main_v3_1 ↦{fullShare} G 3) ∗ ((d : Thread nD τ).loc main_arg5 ↦{fullShare} G 4) ∗ ((d : Thread nD τ).loc main_v5_1 ↦{fullShare} G 5) ∗ ((d : Thread nD τ).loc main_arg6 ↦{fullShare} G 6) ∗ ((d : Thread nD τ).loc main_arg8 ↦{fullShare} G 7) ∗ ((d : Thread nD τ).loc main_v6 ↦{fullShare} G 8) ∗ ((d : Thread nD τ).loc main_arg10 ↦{fullShare} G 9) ∗ ((d : Thread nD τ).loc main_v7 ↦{fullShare} G 10) ∗ ((d : Thread nD τ).loc main_v8_0 ↦{fullShare} G 11) ∗ ((d : Thread nD τ).loc main_v8_1 ↦{fullShare} G 12) ∗ ((d : Thread nD τ).loc main_v8_2 ↦{fullShare} G 13) ∗ ((d : Thread nD τ).loc main_v8_3 ↦{fullShare} G 14)) := by
  rw [Pipeline.arrays_eq cfgs (both dP (datL I)) 1 d Gen.arr_whole2 ((datL I d).share_full fun _ => rfl) G]
  exact Gen.bigSep_W2 _

theorem startL0 (d : Dev nD) : (datL I d).arrAt 0 0 = (I d).x0 := by
  show (datL I d).A 0 = _
  dsimp only [datL]
theorem startL1 (d : Dev nD) : (datL I d).arrAt 1 0 = (I d).x1 := by
  show (datL I d).A 1 = _
  dsimp only [datL]
theorem startL2 (d : Dev nD) : (datL I d).arrAt 2 0 = (I d).x2 := by
  show (datL I d).A 2 = _
  dsimp only [datL]
theorem startL3 (d : Dev nD) : (datL I d).arrAt 3 0 = (I d).x3 := by
  show (datL I d).A 3 = _
  dsimp only [datL]
theorem startL4 (d : Dev nD) : (datL I d).arrAt 4 0 = (I d).x4 := by
  show (datL I d).A 4 = _
  dsimp only [datL]
theorem startL5 (d : Dev nD) : (datL I d).arrAt 5 0 = (I d).x5 := by
  show (datL I d).A 5 = _
  dsimp only [datL]
theorem startL6 (d : Dev nD) : (datL I d).arrAt 6 0 = (I d).x6 := by
  show (datL I d).A 6 = _
  dsimp only [datL]
theorem startL7 (d : Dev nD) : (datL I d).arrAt 7 0 = (I d).x7 := by
  show (datL I d).A 7 = _
  dsimp only [datL]
theorem startL8 (d : Dev nD) : (datL I d).arrAt 8 0 = (I d).x8 := by
  show (datL I d).A 8 = _
  dsimp only [datL]
theorem startL9 (d : Dev nD) : (datL I d).arrAt 9 0 = (I d).x9 := by
  show (datL I d).A 9 = _
  dsimp only [datL]
theorem startL10 (d : Dev nD) : (datL I d).arrAt 10 0 = (I d).x10 := by
  show (datL I d).A 10 = _
  dsimp only [datL]
theorem startL11 (d : Dev nD) : (datL I d).arrAt 11 0 = (I d).x11 := by
  show (datL I d).A 11 = _
  dsimp only [datL]
theorem startL12 (d : Dev nD) : (datL I d).arrAt 12 0 = (I d).x12 := by
  show (datL I d).A 12 = _
  dsimp only [datL]
theorem startL13 (d : Dev nD) : (datL I d).arrAt 13 0 = (I d).x13 := by
  show (datL I d).A 13 = _
  dsimp only [datL]
theorem startL14 (d : Dev nD) : (datL I d).arrAt 14 0 = (I d).x14 := by
  show (datL I d).A 14 = _
  dsimp only [datL]
theorem finalL0 (d : Dev nD) : (datL I d).arrAt 0 cfg2.N = (I d).x0 := by
  rw [Pipeline.Dat.arrAt_in _ 0 rfl]
  dsimp only [datL]
theorem finalL1 (d : Dev nD) : (datL I d).arrAt 1 cfg2.N = (I d).x1 := by
  rw [Pipeline.Dat.arrAt_in _ 1 rfl]
  dsimp only [datL]
theorem finalL2 (d : Dev nD) : (datL I d).arrAt 2 cfg2.N = (I d).x2 := by
  rw [Pipeline.Dat.arrAt_in _ 2 rfl]
  dsimp only [datL]
theorem finalL3 (d : Dev nD) : (datL I d).arrAt 3 cfg2.N = (I d).x3 := by
  rw [Pipeline.Dat.arrAt_in _ 3 rfl]
  dsimp only [datL]
theorem finalL4 (d : Dev nD) : (datL I d).arrAt 4 cfg2.N = (I d).x4 := by
  rw [Pipeline.Dat.arrAt_in _ 4 rfl]
  dsimp only [datL]
theorem finalL5 (d : Dev nD) : (datL I d).arrAt 5 cfg2.N = (I d).x5 := by
  rw [Pipeline.Dat.arrAt_in _ 5 rfl]
  dsimp only [datL]
theorem finalL6 (d : Dev nD) : (datL I d).arrAt 6 cfg2.N = (I d).x6 := by
  rw [Pipeline.Dat.arrAt_in _ 6 rfl]
  dsimp only [datL]
theorem finalL7 (d : Dev nD) : (datL I d).arrAt 7 cfg2.N = (I d).x7 := by
  rw [Pipeline.Dat.arrAt_in _ 7 rfl]
  dsimp only [datL]
theorem finalL8 (d : Dev nD) : (datL I d).arrAt 8 cfg2.N = (I d).x8 := by
  rw [Pipeline.Dat.arrAt_in _ 8 rfl]
  dsimp only [datL]
theorem finalL9 (d : Dev nD) : (datL I d).arrAt 9 cfg2.N = (I d).x9 := by
  rw [Pipeline.Dat.arrAt_in _ 9 rfl]
  dsimp only [datL]
theorem finalL10 (d : Dev nD) : (datL I d).arrAt 10 cfg2.N = (I d).x10 := by
  rw [Pipeline.Dat.arrAt_in _ 10 rfl]
  dsimp only [datL]

include dP in
set_option maxHeartbeats 4000000 in
theorem arrays_start (d : Dev nD) : ((datL I d).arrays ((datL I d).arrAt · 0) : sProp 𝕄) = fifteen d (I d) := by
  rw [arraysL I dP]
  unfold fifteen
  simp only [startL0, startL1, startL2, startL3, startL4, startL5, startL6, startL7, startL8, startL9, startL10, startL11, startL12, startL13, startL14]
include dP in
set_option maxHeartbeats 4000000 in
theorem arrays_end (d : Dev nD) : ((datL I d).arrays ((datL I d).arrAt · cfg2.N) : sProp 𝕄) = fifteen' d (I d) := by
  rw [arraysL I dP]
  unfold fifteen'
  simp only [finalL0, finalL1, finalL2, finalL3, finalL4, finalL5, finalL6, finalL7, finalL8, finalL9, finalL10, finalL11, finalL12, finalL13, finalL14]

include dP in
set_option maxHeartbeats 4000000 in
theorem wp_regionL [∀ e, Nonempty (Elt F e)] (d : Dev nD) {Q : PUnit → sProp 𝕄} :
    iprop((iprop(boundary (T d) ∗ owesTc d ∗ fifteen' d (I d)) -∗ Q ⟨⟩)
        ∗ boundary (T d) ∗ owesTc d ∗ fifteen d (I d) ∗ levAts (K (F := F)).L (K (F := F)).lev ∗ pipeG 1 d)
      ⊢ wp frame (wpE ((K (F := F)).defs (D (F := F))) 𝒱 (T d) none) Set.univ
          (Prog.lift (.customCall (SparseCore.inner (Pipeline.entry 1)) ())) Q := by
  have hwp := (segL I dP).wp pcfgs adm (both dP (datL I)) none Gen.cellOf_inj EP (defs₀ (F := F)) 𝒱₀ (K (F := F)).L (K (F := F)).lev d none
    (fun u hu => absurd hu (by simp)) (fun u => .ret u) Q
  refine BIBase.Entails.trans ?_ (wp_inner (K (F := F)) (D (F := F)) 𝒱 d (Pipeline.entry 1) () Q)
  refine BIBase.Entails.trans ?_ hwp
  rw [show (segL I dP).post d = iprop((datL I d).arrays ((datL I d).arrAt · cfg2.N) ∗ owesTc d) from rfl,
    show (segL I dP).pre d = iprop((datL I d).arrays ((datL I d).arrAt · 0) ∗ owesTc d) from rfl, arrays_start I dP, arrays_end I dP]
  unfold pipeG
  iintro ⟨HQ, Hb, HO, H4, Hl, Hg, Ht⟩
  isplitl [HQ]
  · iintro ⟨Hb, H4, HO⟩
    rw [wp_ret]; imodintro
    iapply HQ
    isplitl [Hb]; · iexact Hb
    isplitl [HO]; · iexact HO
    iexact H4
  isplitl [Hb]; · iexact Hb
  isplitl [H4 HO]
  · isplitl [H4]; · iexact H4
    iexact HO
  isplitl [Hl]; · iexact Hl
  isplitl [Hg]; · iexact Hg
  iexact Ht

end region

end Cert.Proof.Pool

end
-- ==== Proof.Launch.lean ====
/- The launch of the call: payloads, the tiles' obligation, the host's main, the run. -/
module

public import proofs.«01_k».proof.KernelIdeal
public import proofs.«01_k».proof.Proof.Tile
public import proofs.«01_k».proof.Proof.Region
public import proofs.«01_k».proof.Proof.Region2
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ValueLayout

@[expose] public section

noncomputable section

namespace Cert.Proof.Pool

open Cert.KernelIdeal
open Facts₀ Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Idealize.ShloMosaic.VecWindow
open Idealize.ShloMosaic.ValueIdx
open Idealize.ShloMosaic.StableHlo (held held_split held_sdiff_result wp_hlo_within)

variable {F : FTy → Type} [FloatOps F]
variable [Facts]

local notation "𝕄" => MT nD τ sig (HIx 1) (Elt F) ℕ UU ℕ

section run

variable (m : (ℓ : Loc nD τ sig) → Buf (Elt F) ℓ) (ρ : Dev nD → PrngReg)

/-- The arrays at the call, from the launch memory. -/
def arr (d : Dev nD) : Arr F where
  gX := m (tcLoc d main_arg0)
  gM := m (tcLoc d main_arg2)
  bG := shapeCast S32 (m (tcLoc d main_arg3)) shapeCasts_S1x32_S32
  bM := shapeCast S32 (m (tcLoc d main_arg4)) shapeCasts_S1x32_S32
  bC := broadcastInDim S32 ![] bcast_S_S32 (constantI S_ 32 400000#32)

abbrev EH : Emb (URounds (GSem nD τ sig) ℕ) 𝕄 := embL

def P : (K (F := F)).Pay (nD := nD) (Val := Elt F) (Name := ℕ) (U := UU) where
  st := fun q d c => match q with | 0 => bigSep Finset.univ fun s : Fin 16 => goT (arr m d) d (16 * c.val + s.val)
  dn := fun q d c => match q with | 0 => bigSep Finset.univ fun s : Fin 16 => tdT (arr m d) d (16 * c.val + s.val)
  go := fun q d c i => match q with | 0 => goT (arr m d) d (16 * c.val + i.val)
  td := fun q d c i => match q with | 0 => tdT (arr m d) d (16 * c.val + i.val)
  x := fun _ _ => iprop(emp)

instance P_storable : (P (F := F) m).IsStorable where
  st q d c := match q with
    | 0 => (inferInstance : BI.Storable (upEmb : UEmb _ 𝕄) (bigSep Finset.univ fun s : Fin 16 => goT (arr m d) d (16 * c.val + s.val)))
  dn q d c := match q with
    | 0 => (inferInstance : BI.Storable (upEmb : UEmb _ 𝕄) (bigSep Finset.univ fun s : Fin 16 => tdT (arr m d) d (16 * c.val + s.val)))
  go q d c i := match q with
    | 0 => (inferInstance : BI.Storable (upEmb : UEmb _ 𝕄) (goT (arr m d) d (16 * c.val + i.val)))
  td q d c i := match q with
    | 0 => (inferInstance : BI.Storable (upEmb : UEmb _ 𝕄) (tdT (arr m d) d (16 * c.val + i.val)))

/-! ## The tiles -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_pool (coordsV c s) (Memref.whole main_arg0_scv) (Memref.isWhole_whole _) (Memref.whole main_arg2_scv) (Memref.isWhole_whole _) (Memref.whole main_arg1_scv) (Memref.isWhole_whole _)
            (Memref.whole main_v0_scv) (Memref.isWhole_whole _) (Memref.whole main_v1_scv) (Memref.isWhole_whole _) (Memref.whole main_v2_scv) (Memref.isWhole_whole _)
            (Memref.whole main_v3_0_scv) (Memref.isWhole_whole _) (Memref.whole main_v3_1_scv) (Memref.isWhole_whole _) (Memref.whole main_v3_2_scv) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scoped0 cc0_scoped1 cc0_scoped2 cc0_scoped3 cc0_scoped4 cc0_scoped5) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (arr m d) hF O W hO

theorem vecSplit : (K (F := F)).VecSplit' (P m) 0 := by
  intro d c
  show (bigSep Finset.univ fun s : Fin 16 => goT (arr m d) d (16 * c.val + s.val)) ⊢ |={Set.univ}=> iprop(
      (bigSep Finset.univ fun s : Fin 16 => goT (arr m d) d (16 * c.val + s.val))
      ∗ ((bigSep Finset.univ fun s : Fin 16 => tdT (arr m d) d (16 * c.val + s.val)) -∗ bigSep Finset.univ fun s : Fin 16 => tdT (arr m d) d (16 * c.val + s.val)))
  iintro H; imodintro
  isplitl [H]; · iexact H
  iintro H; iexact H

/-! ## Dealing the arrays over the tiles -/

theorem deal (Φ : ℕ → sProp 𝕄) :
    (bigSep Finset.univ fun c : Fin 2 => bigSep Finset.univ fun s : Fin 16 => Φ (16 * c.val + s.val)) = bigSep Finset.univ fun t : Fin 32 => Φ t.val := by
  rw [BI.bigSep_univ_equiv (finProdFinEquiv : Fin 2 × Fin 16 ≃ Fin 32), BI.bigSep_univ_prod]
  exact bigSep_congr fun c _ => bigSep_congr fun s _ => congrArg Φ (Nat.add_comm _ _)

theorem rows_disjoint : ∀ t ∈ (Finset.univ : Finset (Fin 32)), ∀ t' ∈ (Finset.univ : Finset (Fin 32)), t ≠ t' → Disjoint (row t.val) (row t'.val) := by
  intro t _ t' _ h
  rw [Finset.disjoint_left]
  intro p hp hp'
  unfold row at hp hp'
  rw [Finset.mem_filter] at hp hp'
  exact h (Fin.ext (hp.2.symm.trans hp'.2))
theorem rows_cover : (Finset.univ : Finset (Fin 32)).biUnion (fun t => row t.val) = Finset.univ := by
  ext p
  simp only [Finset.mem_biUnion, Finset.mem_univ, true_and, iff_true]
  exact ⟨⟨(p 0).val, (p 0).isLt⟩, by unfold row; simp⟩

theorem rows_eq {ℓ : Loc nD τ sig} (R : Fin 32 → Finset (Idx ℓ)) (hd : ∀ t ∈ (Finset.univ : Finset (Fin 32)), ∀ t' ∈ (Finset.univ : Finset (Fin 32)), t ≠ t' → Disjoint (R t) (R t'))
    (hc : (Finset.univ : Finset (Fin 32)).biUnion R = Finset.univ) (f : Buf (Elt F) ℓ) :
    (ℓ ↦{fullShare} f : sProp 𝕄) = bigSep Finset.univ fun t : Fin 32 => ℓ ↦[R t]{fullShare} f := by
  rw [← pointsTo_biUnion Finset.univ R hd, hc]

theorem rows_any {ℓ : Loc nD τ sig} (R : Fin 32 → Finset (Idx ℓ)) (hd : ∀ t ∈ (Finset.univ : Finset (Fin 32)), ∀ t' ∈ (Finset.univ : Finset (Fin 32)), t ≠ t' → Disjoint (R t) (R t'))
    (hc : (Finset.univ : Finset (Fin 32)).biUnion R = Finset.univ) (f : Buf (Elt F) ℓ) :
    (ℓ ↦{fullShare} f : sProp 𝕄) ⊢ bigSep Finset.univ fun t : Fin 32 => iprop(∃ f, ℓ ↦[R t]{fullShare} f) := by
  rw [rows_eq R hd hc]
  refine BI.bigSep_mono fun t _ => ?_
  show (ℓ ↦[R t]{fullShare} f : sProp 𝕄) ⊢ iprop(∃ f, ℓ ↦[R t]{fullShare} f)
  iintro H; iexists f; iexact H

theorem reads_split (A : Arr F) (d : Dev nD) :
    readsT A d fullShare ⊢ iprop(readsT A d (shareDrop fullShare 32) ∗ (bigSep Finset.univ fun t : Fin 32 => readsT A d (σ t.val)) : sProp 𝕄) := by
  unfold readsT
  simp only [bigSep_sep']
  iintro ⟨H0, H1, H2, H3, H4⟩
  ihave H0 := (pointsTo_toks_split fullShare 32) $$ H0
  ihave H1 := (pointsTo_toks_split fullShare 32) $$ H1
  ihave H2 := (pointsTo_toks_split fullShare 32) $$ H2
  ihave H3 := (pointsTo_toks_split fullShare 32) $$ H3
  ihave H4 := (pointsTo_toks_split fullShare 32) $$ H4
  icases H0 with ⟨H0, T0⟩
  icases H1 with ⟨H1, T1⟩
  icases H2 with ⟨H2, T2⟩
  icases H3 with ⟨H3, T3⟩
  icases H4 with ⟨H4, T4⟩
  isplitl [H0 H1 H2 H3 H4]
  · isplitl [H0]; · iexact H0
    isplitl [H1]; · iexact H1
    isplitl [H2]; · iexact H2
    isplitl [H3] <;> iassumption
  · isplitl [T0]; · iexact T0
    isplitl [T1]; · iexact T1
    isplitl [T2]; · iexact T2
    isplitl [T3] <;> iassumption

theorem reads_join (A : Arr F) (d : Dev nD) :
    (iprop(readsT A d (shareDrop fullShare 32) ∗ (bigSep Finset.univ fun t : Fin 32 => readsT A d (σ t.val))) : sProp 𝕄) ⊢ readsT A d fullShare := by
  unfold readsT
  simp only [bigSep_sep']
  iintro ⟨⟨H0, H1, H2, H3, H4⟩, T0, T1, T2, T3, T4⟩
  isplitl [H0 T0]; · iapply (pointsTo_toks_join fullShare 32); isplitl [H0] <;> iassumption
  isplitl [H1 T1]; · iapply (pointsTo_toks_join fullShare 32); isplitl [H1] <;> iassumption
  isplitl [H2 T2]; · iapply (pointsTo_toks_join fullShare 32); isplitl [H2] <;> iassumption
  isplitl [H3 T3]; · iapply (pointsTo_toks_join fullShare 32); isplitl [H3] <;> iassumption
  iapply (pointsTo_toks_join fullShare 32); isplitl [H4] <;> iassumption

theorem st0_of (d : Dev nD) (f0 : Buf (Elt F) (tcLoc d main_v3_0)) (f1 : Buf (Elt F) (tcLoc d main_v3_1)) (f2 : Buf (Elt F) (tcLoc d main_v3_2)) :
    iprop(readsT (arr m d) d fullShare ∗ (tcLoc d main_v3_0 ↦{fullShare} f0) ∗ (tcLoc d main_v3_1 ↦{fullShare} f1) ∗ (tcLoc d main_v3_2 ↦{fullShare} f2))
      ⊢ (iprop(readsT (arr m d) d (shareDrop fullShare 32) ∗ bigSep Finset.univ fun c : Fin ((K (F := F)).nCore 0) => (P m).st 0 d c) : sProp 𝕄) := by
  rw [show (bigSep Finset.univ fun c : Fin ((K (F := F)).nCore 0) => (P m).st 0 d c) = bigSep Finset.univ fun t : Fin 32 => goT (arr m d) d t.val from deal (fun t => goT (arr m d) d t)]
  unfold goT rowAny
  rw [bigSep_sep', bigSep_sep', bigSep_sep']
  iintro ⟨HR, H0, H1, H2⟩
  ihave HR := (reads_split (arr m d) d) $$ HR
  icases HR with ⟨HD, HR⟩
  isplitl [HD]; · iexact HD
  isplitl [HR]; · iexact HR
  isplitl [H0]; · iapply (rows_any (ℓ := tcLoc d main_v3_0) (fun t => row t.val) rows_disjoint rows_cover f0); iexact H0
  isplitl [H1]; · iapply (rows_any (ℓ := tcLoc d main_v3_1) (fun t => row t.val) rows_disjoint rows_cover f1); iexact H1
  iapply (rows_any (ℓ := tcLoc d main_v3_2) (fun t => row t.val) rows_disjoint rows_cover f2); iexact H2

theorem dn0_of (d : Dev nD) :
    (iprop(readsT (arr m d) d (shareDrop fullShare 32) ∗ bigSep Finset.univ fun c : Fin ((K (F := F)).nCore 0) => (P m).dn 0 d c) : sProp 𝕄)
      ⊢ iprop(readsT (arr m d) d fullShare ∗ (tcLoc d main_v3_0 ↦{fullShare} resG (arr m d)) ∗ (tcLoc d main_v3_1 ↦{fullShare} resM (arr m d)) ∗ (tcLoc d main_v3_2 ↦{fullShare} resC)) := by
  rw [show (bigSep Finset.univ fun c : Fin ((K (F := F)).nCore 0) => (P m).dn 0 d c) = bigSep Finset.univ fun t : Fin 32 => tdT (arr m d) d t.val from deal (fun t => tdT (arr m d) d t)]
  unfold tdT
  rw [bigSep_sep', bigSep_sep', bigSep_sep']
  iintro ⟨HD, HR, H0, H1, H2⟩
  isplitl [HD HR]; · iapply (reads_join (arr m d) d); isplitl [HD] <;> iassumption
  isplitl [H0]; · iapply (Entails.of_eq (rows_eq (ℓ := tcLoc d main_v3_0) (fun t => row t.val) rows_disjoint rows_cover (resG (arr m d))).symm); iexact H0
  isplitl [H1]; · iapply (Entails.of_eq (rows_eq (ℓ := tcLoc d main_v3_1) (fun t => row t.val) rows_disjoint rows_cover (resM (arr m d))).symm); iexact H1
  iapply (Entails.of_eq (rows_eq (ℓ := tcLoc d main_v3_2) (fun t => row t.val) rows_disjoint rows_cover resC).symm); iexact H2

/-! ## The launch element of the ghost state -/

def u₀ : UU := (initOf (K (F := F)).hsCells (K (F := F)).hsToks, (initOf (Pipeline.cells cfgs Gen.cellOf_inj) (Pipeline.launchToks cfgs Gen.cellOf_inj), 1))

omit [FloatOps F] [Facts] in
theorem bigSep_emp' {I : Type} (s : Finset I) : (bigSep s fun _ => iprop(emp)) = (iprop(emp) : sProp 𝕄) := bigSep_emp_const s

omit [FloatOps F] [Facts] in
theorem bigSep_two (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem fund_pipe : (BI.own (EP (F := F) (initOf (Pipeline.cells cfgs Gen.cellOf_inj) (Pipeline.launchToks cfgs Gen.cellOf_inj))) : sProp 𝕄)
    ⊢ |={Set.univ}=> bigSep Finset.univ fun d : Dev nD => iprop(pipeG 0 d ∗ pipeG 1 d) := by
  have h := Pipeline.fund_ghost (Ix := HIx 1) (Val := Elt F) (Name := ℕ) (U := UU) (Lvl := ℕ) cfgs (EP (F := F)) Gen.cellOf_inj
  simp only [bigSep_two, bigSep_sep'] at h
  unfold pipeG
  simp only [bigSep_sep']
  iintro H
  ihave H := h $$ H
  imod H
  imodintro
  icases H with ⟨⟨C0, C1⟩, T0, T1⟩
  isplitl [C0 T0]
  · isplitl [C0]; · iexact C0
    iexact T0
  isplitl [C1]; · iexact C1
  iexact T1

theorem hu₀ : (ownU (u₀ (F := F)) : sProp 𝕄)
    ⊢ |={Set.univ}=> iprop(BI.own (EH (initOf (K (F := F)).hsCells (K (F := F)).hsToks)) ∗ (bigSep Finset.univ fun d : Dev nD => iprop(pipeG 0 d ∗ pipeG 1 d))
        ∗ bigSep Finset.univ fun thr : Thread nD τ => bigSep Finset.univ fun q : Fin 1 => (P m).x q thr) := by
  unfold u₀
  iintro Hu
  ihave H := (ownU_pair (initOf (K (F := F)).hsCells (K (F := F)).hsToks) (initOf (Pipeline.cells cfgs Gen.cellOf_inj) (Pipeline.launchToks cfgs Gen.cellOf_inj), (1 : Counters))) $$ Hu
  icases H with ⟨HH, HR⟩
  ihave HR := (own_pair_emb (embR : Emb (URounds (GSem nD τ sig) Unit × Counters) 𝕄) (initOf (Pipeline.cells cfgs Gen.cellOf_inj) (Pipeline.launchToks cfgs Gen.cellOf_inj)) (1 : Counters)) $$ HR
  icases HR with ⟨HR, -⟩
  ihave HR := (fund_pipe (F := F)) $$ HR
  imod HR
  imodintro
  isplitl [HH]; · iexact HH
  isplitl [HR]; · iexact HR
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host's main -/

abbrev dr (b : Ref sig .tc) : DevRef τ sig := Proc.devRef .tc b

/-- The host's arrays. -/
abbrev S26h : Finset (DevRef τ sig) := {dr main_arg0, dr main_arg1, dr main_arg2, dr main_arg3, dr main_arg4, dr main_arg5, dr main_arg6, dr main_arg7, dr main_arg8, dr main_arg9, dr main_arg10, dr main_arg11, dr main_v0, dr main_v1, dr main_c, dr main_v2, dr main_v3_0, dr main_v3_1, dr main_v3_2, dr main_v4, dr main_v5_0, dr main_v5_1, dr main_v6, dr main_v7, dr main_v8_0, dr main_v8_1, dr main_v8_2, dr main_v8_3}

/-- Each of them whole. -/
def allArrays (d : Dev nD) (W : (b : Ref sig .tc) → Buf (Elt F) (tcLoc d b)) : sProp 𝕄 :=
  iprop((tcLoc d main_arg0 ↦{fullShare} W main_arg0) ∗ (tcLoc d main_arg1 ↦{fullShare} W main_arg1) ∗ (tcLoc d main_arg2 ↦{fullShare} W main_arg2) ∗ (tcLoc d main_arg3 ↦{fullShare} W main_arg3) ∗ (tcLoc d main_arg4 ↦{fullShare} W main_arg4) ∗ (tcLoc d main_arg5 ↦{fullShare} W main_arg5) ∗ (tcLoc d main_arg6 ↦{fullShare} W main_arg6) ∗ (tcLoc d main_arg7 ↦{fullShare} W main_arg7) ∗ (tcLoc d main_arg8 ↦{fullShare} W main_arg8) ∗ (tcLoc d main_arg9 ↦{fullShare} W main_arg9) ∗ (tcLoc d main_arg10 ↦{fullShare} W main_arg10) ∗ (tcLoc d main_arg11 ↦{fullShare} W main_arg11) ∗ (tcLoc d main_v0 ↦{fullShare} W main_v0) ∗ (tcLoc d main_v1 ↦{fullShare} W main_v1) ∗ (tcLoc d main_c ↦{fullShare} W main_c) ∗ (tcLoc d main_v2 ↦{fullShare} W main_v2) ∗ (tcLoc d main_v3_0 ↦{fullShare} W main_v3_0) ∗ (tcLoc d main_v3_1 ↦{fullShare} W main_v3_1) ∗ (tcLoc d main_v3_2 ↦{fullShare} W main_v3_2) ∗ (tcLoc d main_v4 ↦{fullShare} W main_v4) ∗ (tcLoc d main_v5_0 ↦{fullShare} W main_v5_0) ∗ (tcLoc d main_v5_1 ↦{fullShare} W main_v5_1) ∗ (tcLoc d main_v6 ↦{fullShare} W main_v6) ∗ (tcLoc d main_v7 ↦{fullShare} W main_v7) ∗ (tcLoc d main_v8_0 ↦{fullShare} W main_v8_0) ∗ (tcLoc d main_v8_1 ↦{fullShare} W main_v8_1) ∗ (tcLoc d main_v8_2 ↦{fullShare} W main_v8_2) ∗ (tcLoc d main_v8_3 ↦{fullShare} W main_v8_3))

set_option maxHeartbeats 4000000 in
set_option maxRecDepth 8000 in
theorem held_all (d : Dev nD) (V : Valuation τ sig (Elt F)) : (held (T d) S26h V : sProp 𝕄) = allArrays d fun b => V (dr b) := by
  unfold held S26h allArrays
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

set_option maxHeartbeats 4000000 in
set_option maxRecDepth 8000 in
theorem unscopedBufs_eq (d : Dev nD) (W : (b : Ref sig .tc) → Buf (Elt F) ((d.tc : Thread nD τ).loc b)) : (unscopedBufs d W : sProp 𝕄) = allArrays d W := by
  unfold unscopedBufs allArrays
  rw [show (Finset.univ.filter fun b : Ref sig .tc => ¬ b.isScoped)
      = {main_arg0, main_arg1, main_arg2, main_arg3, main_arg4, main_arg5, main_arg6, main_arg7, main_arg8, main_arg9, main_arg10, main_arg11, main_v0, main_v1, main_c, main_v2, main_v3_0, main_v3_1, main_v3_2, main_v4, main_v5_0, main_v5_1, main_v6, main_v7, main_v8_0, main_v8_1, main_v8_2, main_v8_3} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

abbrev op0 : HloOp τ sig (Elt F) := StableHlo.reshape main_arg3 main_v0 (rfl : (.i32 : EltTy) = .i32) shapeCasts_S1x32_S32
abbrev op1 : HloOp τ sig (Elt F) := StableHlo.reshape main_arg4 main_v1 (rfl : (.i32 : EltTy) = .i32) shapeCasts_S1x32_S32
abbrev op2 : HloOp τ sig (Elt F) := StableHlo.nullary main_c (constantI S_ 32 400000#32)
abbrev op3 : HloOp τ sig (Elt F) :=
  StableHlo.unary main_c main_v2 (broadcastInDim S32 ![] bcast_S_S32 : (⟨S_, .i32⟩ : BufTy).Contents (Elt F) → (⟨S32, .i32⟩ : BufTy).Contents (Elt F))

/-- The arrays at the launch, and after the host's four operations. -/
def V0 (d : Dev nD) : Valuation τ sig (Elt F) := fun b => m (d, b)
def V4 (d : Dev nD) : Valuation τ sig (Elt F) := op3.result (op2.result (op1.result (op0.result (V0 m d))))

theorem unscoped_held (d : Dev nD) : (unscopedBufs d (fun b => m ((SparseCore.T d).loc b)) : sProp 𝕄) = held (T d) S26h (V0 m d) := by
  rw [unscopedBufs_eq, held_all]; rfl

theorem V4_other (d : Dev nD) (r : Ref sig .tc) (h0 : r ≠ main_v0) (h1 : r ≠ main_v1) (h2 : r ≠ main_c) (h3 : r ≠ main_v2) : V4 m d (dr r) = m (tcLoc d r) := by
  unfold V4
  rw [StableHlo.unary_result_ne (h := h3), StableHlo.nullary_result_ne (y := main_c) (h := h2), StableHlo.reshape_result_ne (h := h1), StableHlo.reshape_result_ne (h := h0)]
  rfl
theorem V4_v0 (d : Dev nD) : V4 m d (dr main_v0) = (arr m d).bG := by
  unfold V4
  rw [StableHlo.unary_result_ne, StableHlo.nullary_result_ne (y := main_c), StableHlo.reshape_result_ne, StableHlo.reshape_result']
  · rfl
  all_goals decide
theorem V4_v1 (d : Dev nD) : V4 m d (dr main_v1) = (arr m d).bM := by
  unfold V4
  rw [StableHlo.unary_result_ne, StableHlo.nullary_result_ne (y := main_c), StableHlo.reshape_result', StableHlo.reshape_result_ne]
  · rfl
  all_goals decide
theorem V4_v2 (d : Dev nD) : V4 m d (dr main_v2) = (arr m d).bC := by
  unfold V4
  rw [StableHlo.unary_result', StableHlo.nullary_result']
  exact rfl

/-- The arguments the SparseCore call never reads. -/
def kept (d : Dev nD) : sProp 𝕄 :=
  iprop((tcLoc d main_arg3 ↦{fullShare} m (tcLoc d main_arg3)) ∗ (tcLoc d main_arg4 ↦{fullShare} m (tcLoc d main_arg4)))

/-- The TensorCore calls' arrays as the host reshapes them, and the first call's running sums and counts after all chunks. -/
def ids4 (d : Dev nD) : Vec F S25x1x16000 .i32 := shapeCast S25x1x16000 (m (tcLoc d main_arg7)) shapeCasts_S400000_S25x1x16000
def res2 (d : Dev nD) : Vec F S16x128 .f32 := fold2 (ids4 m d) (m (tcLoc d main_arg1)) 25
def res3 (d : Dev nD) : Vec F S16x128 .f32 := fold3 (ids4 m d) 25
def bias9 (d : Dev nD) : Vec F S1x128 .f32 := shapeCast S1x128 (m (tcLoc d main_arg9)) shapeCasts_S128_S1x128
def bias11 (d : Dev nD) : Vec F S1x128 .f32 := shapeCast S1x128 (m (tcLoc d main_arg11)) shapeCasts_S128_S1x128

/-- What the last call reads. -/
def ins (d : Dev nD) : Ins F where
  x0 := resG (arr m d)
  x1 := res2 m d
  x2 := resC
  x3 := resM (arr m d)
  x4 := m (tcLoc d main_arg5)
  x5 := res3 m d
  x6 := m (tcLoc d main_arg6)
  x7 := m (tcLoc d main_arg8)
  x8 := bias9 m d
  x9 := m (tcLoc d main_arg10)
  x10 := bias11 m d
  x11 := m (tcLoc d main_v8_0)
  x12 := m (tcLoc d main_v8_1)
  x13 := m (tcLoc d main_v8_2)
  x14 := m (tcLoc d main_v8_3)

abbrev op4 : HloOp τ sig (Elt F) := StableHlo.reshape main_arg7 main_v4 (rfl : (.i32 : EltTy) = .i32) shapeCasts_S400000_S25x1x16000
abbrev op5 : HloOp τ sig (Elt F) := StableHlo.reshape main_arg9 main_v6 (rfl : (.f32 : EltTy) = .f32) shapeCasts_S128_S1x128
abbrev op6 : HloOp τ sig (Elt F) := StableHlo.reshape main_arg11 main_v7 (rfl : (.f32 : EltTy) = .f32) shapeCasts_S128_S1x128

theorem held_two4 (d : Dev nD) (V : Valuation τ sig (Elt F)) :
    (held (T d) {dr main_arg7, dr main_v4} V : sProp 𝕄) = iprop((tcLoc d main_arg7 ↦{fullShare} V (dr main_arg7)) ∗ (tcLoc d main_v4 ↦{fullShare} V (dr main_v4))) := by
  unfold held
  rw [SparseCore.bigSep_insert' (by decide), bigSep_singleton]
theorem two_before4 (d : Dev nD) :
    (iprop((tcLoc d main_arg7 ↦{fullShare} m (tcLoc d main_arg7)) ∗ (tcLoc d main_v4 ↦{fullShare} m (tcLoc d main_v4))) : sProp 𝕄)
      ⊢ held (T d) {dr main_arg7, dr main_v4} (V0 m d) := by
  rw [held_two4]; exact BI.Entails.refl _
theorem two_after4 (d : Dev nD) :
    (held (T d) {dr main_arg7, dr main_v4} (op4.result (V0 m d)) : sProp 𝕄)
      ⊢ iprop((tcLoc d main_arg7 ↦{fullShare} m (tcLoc d main_arg7)) ∗ (tcLoc d main_v4 ↦{fullShare} ids4 m d)) := by
  rw [held_two4, StableHlo.reshape_result_ne (h := by decide), StableHlo.reshape_result']; exact BI.Entails.refl _

theorem held_two5 (d : Dev nD) (V : Valuation τ sig (Elt F)) :
    (held (T d) {dr main_arg9, dr main_v6} V : sProp 𝕄) = iprop((tcLoc d main_arg9 ↦{fullShare} V (dr main_arg9)) ∗ (tcLoc d main_v6 ↦{fullShare} V (dr main_v6))) := by
  unfold held
  rw [SparseCore.bigSep_insert' (by decide), bigSep_singleton]
theorem two_before5 (d : Dev nD) :
    (iprop((tcLoc d main_arg9 ↦{fullShare} m (tcLoc d main_arg9)) ∗ (tcLoc d main_v6 ↦{fullShare} m (tcLoc d main_v6))) : sProp 𝕄)
      ⊢ held (T d) {dr main_arg9, dr main_v6} (V0 m d) := by
  rw [held_two5]; exact BI.Entails.refl _
theorem two_after5 (d : Dev nD) :
    (held (T d) {dr main_arg9, dr main_v6} (op5.result (V0 m d)) : sProp 𝕄)
      ⊢ iprop((tcLoc d main_arg9 ↦{fullShare} m (tcLoc d main_arg9)) ∗ (tcLoc d main_v6 ↦{fullShare} bias9 m d)) := by
  rw [held_two5, StableHlo.reshape_result_ne (h := by decide), StableHlo.reshape_result']; exact BI.Entails.refl _

theorem held_two6 (d : Dev nD) (V : Valuation τ sig (Elt F)) :
    (held (T d) {dr main_arg11, dr main_v7} V : sProp 𝕄) = iprop((tcLoc d main_arg11 ↦{fullShare} V (dr main_arg11)) ∗ (tcLoc d main_v7 ↦{fullShare} V (dr main_v7))) := by
  unfold held
  rw [SparseCore.bigSep_insert' (by decide), bigSep_singleton]
theorem two_before6 (d : Dev nD) :
    (iprop((tcLoc d main_arg11 ↦{fullShare} m (tcLoc d main_arg11)) ∗ (tcLoc d main_v7 ↦{fullShare} m (tcLoc d main_v7))) : sProp 𝕄)
      ⊢ held (T d) {dr main_arg11, dr main_v7} (V0 m d) := by
  rw [held_two6]; exact BI.Entails.refl _
theorem two_after6 (d : Dev nD) :
    (held (T d) {dr main_arg11, dr main_v7} (op6.result (V0 m d)) : sProp 𝕄)
      ⊢ iprop((tcLoc d main_arg11 ↦{fullShare} m (tcLoc d main_arg11)) ∗ (tcLoc d main_v7 ↦{fullShare} bias11 m d)) := by
  rw [held_two6, StableHlo.reshape_result_ne (h := by decide), StableHlo.reshape_result']; exact BI.Entails.refl _

/-- What the TensorCore calls take: their arguments and their arrays as they stand. -/
def later (d : Dev nD) : sProp 𝕄 :=
  iprop((tcLoc d main_arg1 ↦{fullShare} m (tcLoc d main_arg1)) ∗ (tcLoc d main_arg5 ↦{fullShare} m (tcLoc d main_arg5)) ∗ (tcLoc d main_arg6 ↦{fullShare} m (tcLoc d main_arg6)) ∗ (tcLoc d main_arg7 ↦{fullShare} m (tcLoc d main_arg7)) ∗ (tcLoc d main_arg8 ↦{fullShare} m (tcLoc d main_arg8)) ∗ (tcLoc d main_arg9 ↦{fullShare} m (tcLoc d main_arg9)) ∗ (tcLoc d main_arg10 ↦{fullShare} m (tcLoc d main_arg10)) ∗ (tcLoc d main_arg11 ↦{fullShare} m (tcLoc d main_arg11)) ∗ (tcLoc d main_v4 ↦{fullShare} m (tcLoc d main_v4)) ∗ (tcLoc d main_v5_0 ↦{fullShare} m (tcLoc d main_v5_0)) ∗ (tcLoc d main_v5_1 ↦{fullShare} m (tcLoc d main_v5_1)) ∗ (tcLoc d main_v6 ↦{fullShare} m (tcLoc d main_v6)) ∗ (tcLoc d main_v7 ↦{fullShare} m (tcLoc d main_v7)) ∗ (tcLoc d main_v8_0 ↦{fullShare} m (tcLoc d main_v8_0)) ∗ (tcLoc d main_v8_1 ↦{fullShare} m (tcLoc d main_v8_1)) ∗ (tcLoc d main_v8_2 ↦{fullShare} m (tcLoc d main_v8_2)) ∗ (tcLoc d main_v8_3 ↦{fullShare} m (tcLoc d main_v8_3)))
/-- What they leave. -/
def ended (d : Dev nD) : sProp 𝕄 :=
  iprop((tcLoc d main_arg1 ↦{fullShare} m (tcLoc d main_arg1)) ∗ (tcLoc d main_arg5 ↦{fullShare} m (tcLoc d main_arg5)) ∗ (tcLoc d main_arg6 ↦{fullShare} m (tcLoc d main_arg6)) ∗ (tcLoc d main_arg7 ↦{fullShare} m (tcLoc d main_arg7)) ∗ (tcLoc d main_arg8 ↦{fullShare} m (tcLoc d main_arg8)) ∗ (tcLoc d main_arg9 ↦{fullShare} m (tcLoc d main_arg9)) ∗ (tcLoc d main_arg10 ↦{fullShare} m (tcLoc d main_arg10)) ∗ (tcLoc d main_arg11 ↦{fullShare} m (tcLoc d main_arg11))
    ∗ (tcLoc d main_v8_0 ↦{fullShare} (ins m d).out11) ∗ (tcLoc d main_v8_1 ↦{fullShare} (ins m d).out12) ∗ (tcLoc d main_v8_2 ↦{fullShare} (ins m d).out13) ∗ (tcLoc d main_v8_3 ↦{fullShare} (ins m d).out14))

set_option maxHeartbeats 4000000 in
theorem held_V4 (d : Dev nD) :
    (held (T d) S26h (V4 m d) : sProp 𝕄) ⊢ iprop(kept m d ∗ later m d ∗ readsT (arr m d) d fullShare ∗ (tcLoc d main_v3_0 ↦{fullShare} m (tcLoc d main_v3_0))
      ∗ (tcLoc d main_v3_1 ↦{fullShare} m (tcLoc d main_v3_1)) ∗ (tcLoc d main_v3_2 ↦{fullShare} m (tcLoc d main_v3_2))) := by
  rw [held_all]
  unfold allArrays kept later readsT
  beta_reduce
  rw [V4_v0, V4_v1, V4_v2, V4_other m d main_arg0 (by decide) (by decide) (by decide) (by decide), V4_other m d main_arg1 (by decide) (by decide) (by decide) (by decide), V4_other m d main_arg2 (by decide) (by decide) (by decide) (by decide), V4_other m d main_arg3 (by decide) (by decide) (by decide) (by decide), V4_other m d main_arg4 (by decide) (by decide) (by decide) (by decide), V4_other m d main_arg5 (by decide) (by decide) (by decide) (by decide), V4_other m d main_arg6 (by decide) (by decide) (by decide) (by decide), V4_other m d main_arg7 (by decide) (by decide) (by decide) (by decide), V4_other m d main_arg8 (by decide) (by decide) (by decide) (by decide), V4_other m d main_arg9 (by decide) (by decide) (by decide) (by decide), V4_other m d main_arg10 (by decide) (by decide) (by decide) (by decide), V4_other m d main_arg11 (by decide) (by decide) (by decide) (by decide), V4_other m d main_v3_0 (by decide) (by decide) (by decide) (by decide), V4_other m d main_v3_1 (by decide) (by decide) (by decide) (by decide), V4_other m d main_v3_2 (by decide) (by decide) (by decide) (by decide), V4_other m d main_v4 (by decide) (by decide) (by decide) (by decide), V4_other m d main_v5_0 (by decide) (by decide) (by decide) (by decide), V4_other m d main_v5_1 (by decide) (by decide) (by decide) (by decide), V4_other m d main_v6 (by decide) (by decide) (by decide) (by decide), V4_other m d main_v7 (by decide) (by decide) (by decide) (by decide), V4_other m d main_v8_0 (by decide) (by decide) (by decide) (by decide), V4_other m d main_v8_1 (by decide) (by decide) (by decide) (by decide), V4_other m d main_v8_2 (by decide) (by decide) (by decide) (by decide), V4_other m d main_v8_3 (by decide) (by decide) (by decide) (by decide)]
  iintro ⟨A0, A1, A2, A3, A4, A5, A6, A7, A8, A9, A10, A11, B0, B1, -, B2, B3_0, B3_1, B3_2, B4, B5_0, B5_1, B6, B7, B8_0, B8_1, B8_2, B8_3⟩
  isplitl [A3 A4]
  · isplitl [A3] <;> iassumption
  isplitl [A1 A5 A6 A7 A8 A9 A10 A11 B4 B5_0 B5_1 B6 B7 B8_0 B8_1 B8_2 B8_3]
  · isplitl [A1]; · iexact A1
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [B4]; · iexact B4
    isplitl [B5_0]; · iexact B5_0
    isplitl [B5_1]; · iexact B5_1
    isplitl [B6]; · iexact B6
    isplitl [B7]; · iexact B7
    isplitl [B8_0]; · iexact B8_0
    isplitl [B8_1]; · iexact B8_1
    isplitl [B8_2]; · iexact B8_2
    iexact B8_3
  isplitl [A0 A2 B0 B1 B2]
  · isplitl [A0]; · iexact A0
    isplitl [A2]; · iexact A2
    isplitl [B0]; · iexact B0
    isplitl [B1]; · iexact B1
    iexact B2
  isplitl [B3_0]; · iexact B3_0
  isplitl [B3_1]; · iexact B3_1
  iexact B3_2

/-- What main leaves: the arguments and the results. -/
abbrev FIN (d : Dev nD) : sProp 𝕄 :=
  iprop(kept m d ∗ ended m d ∗ readsT (arr m d) d fullShare)

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ pipeG 0 d ∗ pipeG 1 d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, Hg, Hg1⟩
  iapply (wp_hlo_within 𝒱 (SparseCore.T d) none Set.univ (op := op0) (S := S26h) (show ({dr main_arg3, dr main_v0} : Finset (DevRef τ sig)) ⊆ S26h by decide) (V := V0 m d)) $$ [Hb Hheld]
  · isplitl [Hb] <;> iassumption
  iintro ⟨Hb, Hheld⟩
  rw [wp_ret]; imodintro
  iapply (wp_hlo_within 𝒱 (SparseCore.T d) none Set.univ (op := op1) (S := S26h) (show ({dr main_arg4, dr main_v1} : Finset (DevRef τ sig)) ⊆ S26h by decide) (V := op0.result (V0 m d))) $$ [Hb Hheld]
  · isplitl [Hb] <;> iassumption
  iintro ⟨Hb, Hheld⟩
  rw [wp_ret]; imodintro
  iapply (wp_hlo_within 𝒱 (SparseCore.T d) none Set.univ (op := op2) (S := S26h) (show ({dr main_c} : Finset (DevRef τ sig)) ⊆ S26h by decide) (V := op1.result (op0.result (V0 m d)))) $$ [Hb Hheld]
  · isplitl [Hb] <;> iassumption
  iintro ⟨Hb, Hheld⟩
  rw [wp_ret]; imodintro
  iapply (wp_hlo_within 𝒱 (SparseCore.T d) none Set.univ (op := op3) (S := S26h) (show ({dr main_c, dr main_v2} : Finset (DevRef τ sig)) ⊆ S26h by decide) (V := op2.result (op1.result (op0.result (V0 m d))))) $$ [Hb Hheld]
  · isplitl [Hb] <;> iassumption
  iintro ⟨Hb, Hheld⟩
  rw [wp_ret]; imodintro
  ihave Hheld := (show (held (T d) S26h (op3.result (op2.result (op1.result (op0.result (V0 m d))))) : sProp 𝕄) ⊢ _ from held_V4 m d) $$ Hheld
  icases Hheld with ⟨Hk, Hl, H⟩
  ihave H := (st0_of m d _ _ _) $$ H
  icases H with ⟨HD, H⟩
  iapply ((K (F := F)).wp_run (D (F := F)) 𝒱 (EH := EH) (P := P m) κ d 0) $$ [Hst H HD Hk Hl Hg Hg1 Hb Hts]
  isplitr; · iexact Hctx
  isplitl [Hst]; · iexact Hst
  isplitl [H]; · iexact H
  iintro ⟨Hst, Hdn⟩
  ihave Hdn' := (dn0_of m d) $$ [HD Hdn]
  · isplitl [HD] <;> iassumption
  unfold later
  icases Hl with ⟨A1, A5, A6, A7, A8, A9, A10, A11, B4, B5_0, B5_1, B6, B7, B8_0, B8_1, B8_2, B8_3⟩
  icases Hdn' with ⟨HR, B3_0, B3_1, B3_2⟩
  ihave Hheld := (two_before4 m d) $$ [A7 B4]
  · isplitl [A7] <;> iassumption
  iapply (wp_hlo_within 𝒱 (SparseCore.T d) none Set.univ (op := op4) (S := {dr main_arg7, dr main_v4}) (show ({dr main_arg7, dr main_v4} : Finset (DevRef τ sig)) ⊆ {dr main_arg7, dr main_v4} from subset_rfl) (V := V0 m d)) $$ [Hb Hheld]
  · isplitl [Hb] <;> iassumption
  iintro ⟨Hb, Hheld⟩
  rw [wp_ret]; imodintro
  ihave Hheld := (two_after4 m d) $$ Hheld
  icases Hheld with ⟨A7, B4⟩
  unfold SparseCore.Cfg.tcSt
  icases Hst with ⟨HO, Hst⟩
  iapply (wp_region (fun d => ids4 m d) (fun d => m (tcLoc d main_arg1)) (fun d => m (tcLoc d main_v5_0)) (fun d => m (tcLoc d main_v5_1)) (datL (ins m)) d)
  isplitr [Hb HO B4 A1 B5_0 B5_1 Hg]; swap
  · isplitl [Hb]; · iexact Hb
    isplitl [HO]; · unfold owesTc; iexact HO
    isplitl [B4 A1 B5_0 B5_1]
    · unfold four
      isplitl [B4]; · iexact B4
      isplitl [A1]; · iexact A1
      isplitl [B5_0]; · iexact B5_0
      iexact B5_1
    isplitr; · iapply ((K (F := F)).ctx_levAts κ); iexact Hctx
    iexact Hg
  iintro ⟨Hb, HO, H4⟩
  unfold four
  icases H4 with ⟨-, A1, B5_0, B5_1⟩
  ihave Hheld := (two_before5 m d) $$ [A9 B6]
  · isplitl [A9] <;> iassumption
  iapply (wp_hlo_within 𝒱 (SparseCore.T d) none Set.univ (op := op5) (S := {dr main_arg9, dr main_v6}) (show ({dr main_arg9, dr main_v6} : Finset (DevRef τ sig)) ⊆ {dr main_arg9, dr main_v6} from subset_rfl) (V := V0 m d)) $$ [Hb Hheld]
  · isplitl [Hb] <;> iassumption
  iintro ⟨Hb, Hheld⟩
  rw [wp_ret]; imodintro
  ihave Hheld := (two_after5 m d) $$ Hheld
  icases Hheld with ⟨A9, B6⟩
  ihave Hheld := (two_before6 m d) $$ [A11 B7]
  · isplitl [A11] <;> iassumption
  iapply (wp_hlo_within 𝒱 (SparseCore.T d) none Set.univ (op := op6) (S := {dr main_arg11, dr main_v7}) (show ({dr main_arg11, dr main_v7} : Finset (DevRef τ sig)) ⊆ {dr main_arg11, dr main_v7} from subset_rfl) (V := V0 m d)) $$ [Hb Hheld]
  · isplitl [Hb] <;> iassumption
  iintro ⟨Hb, Hheld⟩
  rw [wp_ret]; imodintro
  ihave Hheld := (two_after6 m d) $$ Hheld
  icases Hheld with ⟨A11, B7⟩
  iapply (wp_regionL (ins m) (dat (fun d => ids4 m d) (fun d => m (tcLoc d main_arg1)) (fun d => m (tcLoc d main_v5_0)) (fun d => m (tcLoc d main_v5_1))) d)
  isplitr [Hb HO B3_0 B5_0 B3_2 B3_1 A5 B5_1 A6 A8 B6 A10 B7 B8_0 B8_1 B8_2 B8_3 Hg1]; swap
  · isplitl [Hb]; · iexact Hb
    isplitl [HO]; · iexact HO
    isplitl [B3_0 B5_0 B3_2 B3_1 A5 B5_1 A6 A8 B6 A10 B7 B8_0 B8_1 B8_2 B8_3]
    · unfold fifteen ins res2 res3
      isplitl [B3_0]; · iexact B3_0
      isplitl [B5_0]; · iexact B5_0
      isplitl [B3_2]; · iexact B3_2
      isplitl [B3_1]; · iexact B3_1
      isplitl [A5]; · iexact A5
      isplitl [B5_1]; · iexact B5_1
      isplitl [A6]; · iexact A6
      isplitl [A8]; · iexact A8
      isplitl [B6]; · iexact B6
      isplitl [A10]; · iexact A10
      isplitl [B7]; · iexact B7
      isplitl [B8_0]; · iexact B8_0
      isplitl [B8_1]; · iexact B8_1
      isplitl [B8_2]; · iexact B8_2
      iexact B8_3
    isplitr; · iapply ((K (F := F)).ctx_levAts κ); iexact Hctx
    iexact Hg1
  iintro ⟨Hb, HO, H15⟩
  unfold fifteen'
  icases H15 with ⟨-, -, -, -, A5, -, A6, A8, -, A10, -, B8_0, B8_1, B8_2, B8_3⟩
  imodintro
  isplitl [HO Hst]
  · isplitl [HO]; · unfold owesTc; iexact HO
    iexact Hst
  isplitl [Hk HR A1 A5 A6 A7 A8 A9 A10 A11 B8_0 B8_1 B8_2 B8_3]
  · isplitl [Hk]; · iexact Hk
    isplitr [HR]; swap
    · iexact HR
    unfold ended
    isplitl [A1]; · iexact A1
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [B8_0]; · iexact B8_0
    isplitl [B8_1]; · iexact B8_1
    isplitl [B8_2]; · iexact B8_2
    iexact B8_3
  isplitl [Hb] <;> iassumption

/-- What the claims ask of the memory at the end. -/
def fq (d : Dev nD) (s' : Phys nD τ sig (Elt F)) : Prop :=
  (s'.mem.mem (tcLoc d main_arg0) = m (tcLoc d main_arg0) ∧ s'.mem.mem (tcLoc d main_arg1) = m (tcLoc d main_arg1) ∧ s'.mem.mem (tcLoc d main_arg2) = m (tcLoc d main_arg2) ∧ s'.mem.mem (tcLoc d main_arg3) = m (tcLoc d main_arg3) ∧ s'.mem.mem (tcLoc d main_arg4) = m (tcLoc d main_arg4) ∧ s'.mem.mem (tcLoc d main_arg5) = m (tcLoc d main_arg5) ∧ s'.mem.mem (tcLoc d main_arg6) = m (tcLoc d main_arg6) ∧ s'.mem.mem (tcLoc d main_arg7) = m (tcLoc d main_arg7) ∧ s'.mem.mem (tcLoc d main_arg8) = m (tcLoc d main_arg8) ∧ s'.mem.mem (tcLoc d main_arg9) = m (tcLoc d main_arg9) ∧ s'.mem.mem (tcLoc d main_arg10) = m (tcLoc d main_arg10) ∧ s'.mem.mem (tcLoc d main_arg11) = m (tcLoc d main_arg11))
  ∧ s'.mem.mem (tcLoc d main_v8_0) = (ins m d).out11 ∧ s'.mem.mem (tcLoc d main_v8_1) = (ins m d).out12 ∧ s'.mem.mem (tcLoc d main_v8_2) = (ins m d).out13 ∧ s'.mem.mem (tcLoc d main_v8_3) = (ins m d).out14

theorem agree (s' : Phys nD τ sig (Elt F)) {ℓ : Loc nD τ sig} (f : Buf (Elt F) ℓ) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (by simp)
  iexact HSI

theorem hfin (d : Dev nD) (s' : Phys nD τ sig (Elt F)) : iprop(FIN m d ∗ SI s') ⊢ (⌜fq m d s'⌝ : sProp 𝕄) := by
  unfold FIN kept ended readsT
  iintro ⟨⟨⟨A3, A4⟩, ⟨A1, A5, A6, A7, A8, A9, A10, A11, B8_0, B8_1, B8_2, B8_3⟩, ⟨A0, A2, -, -, -⟩⟩, HSI⟩
  ihave H := (agree s' _) $$ [HSI A0]
  · isplitl [HSI] <;> iassumption
  icases H with ⟨%h0, HSI⟩
  ihave H := (agree s' _) $$ [HSI A1]
  · isplitl [HSI] <;> iassumption
  icases H with ⟨%h1, HSI⟩
  ihave H := (agree s' _) $$ [HSI A2]
  · isplitl [HSI] <;> iassumption
  icases H with ⟨%h2, HSI⟩
  ihave H := (agree s' _) $$ [HSI A3]
  · isplitl [HSI] <;> iassumption
  icases H with ⟨%h3, HSI⟩
  ihave H := (agree s' _) $$ [HSI A4]
  · isplitl [HSI] <;> iassumption
  icases H with ⟨%h4, HSI⟩
  ihave H := (agree s' _) $$ [HSI A5]
  · isplitl [HSI] <;> iassumption
  icases H with ⟨%h5, HSI⟩
  ihave H := (agree s' _) $$ [HSI A6]
  · isplitl [HSI] <;> iassumption
  icases H with ⟨%h6, HSI⟩
  ihave H := (agree s' _) $$ [HSI A7]
  · isplitl [HSI] <;> iassumption
  icases H with ⟨%h7, HSI⟩
  ihave H := (agree s' _) $$ [HSI A8]
  · isplitl [HSI] <;> iassumption
  icases H with ⟨%h8, HSI⟩
  ihave H := (agree s' _) $$ [HSI A9]
  · isplitl [HSI] <;> iassumption
  icases H with ⟨%h9, HSI⟩
  ihave H := (agree s' _) $$ [HSI A10]
  · isplitl [HSI] <;> iassumption
  icases H with ⟨%h10, HSI⟩
  ihave H := (agree s' _) $$ [HSI A11]
  · isplitl [HSI] <;> iassumption
  icases H with ⟨%h11, HSI⟩
  ihave H := (agree s' _) $$ [HSI B8_0]
  · isplitl [HSI] <;> iassumption
  icases H with ⟨%h12, HSI⟩
  ihave H := (agree s' _) $$ [HSI B8_1]
  · isplitl [HSI] <;> iassumption
  icases H with ⟨%h13, HSI⟩
  ihave H := (agree s' _) $$ [HSI B8_2]
  · isplitl [HSI] <;> iassumption
  icases H with ⟨%h14, HSI⟩
  ihave H := (agree s' _) $$ [HSI B8_3]
  · isplitl [HSI] <;> iassumption
  icases H with ⟨%h15, HSI⟩
  ipureintro
  exact ⟨⟨h0, h1, h2, h3, h4, h5, h6, h7, h8, h9, h10, h11⟩, h12, h13, h14, h15⟩

/-! ## The run -/

def QC : PUnit × MemSt nD τ sig (Elt F) → Prop := fun r =>
  (∀ d : Dev nD, (r.2.mem (tcLoc d main_arg0) = m (tcLoc d main_arg0) ∧ r.2.mem (tcLoc d main_arg1) = m (tcLoc d main_arg1) ∧ r.2.mem (tcLoc d main_arg2) = m (tcLoc d main_arg2) ∧ r.2.mem (tcLoc d main_arg3) = m (tcLoc d main_arg3) ∧ r.2.mem (tcLoc d main_arg4) = m (tcLoc d main_arg4) ∧ r.2.mem (tcLoc d main_arg5) = m (tcLoc d main_arg5) ∧ r.2.mem (tcLoc d main_arg6) = m (tcLoc d main_arg6) ∧ r.2.mem (tcLoc d main_arg7) = m (tcLoc d main_arg7) ∧ r.2.mem (tcLoc d main_arg8) = m (tcLoc d main_arg8) ∧ r.2.mem (tcLoc d main_arg9) = m (tcLoc d main_arg9) ∧ r.2.mem (tcLoc d main_arg10) = m (tcLoc d main_arg10) ∧ r.2.mem (tcLoc d main_arg11) = m (tcLoc d main_arg11))
    ∧ r.2.mem (tcLoc d main_v8_0) = (ins m d).out11 ∧ r.2.mem (tcLoc d main_v8_1) = (ins m d).out12 ∧ r.2.mem (tcLoc d main_v8_2) = (ins m d).out13 ∧ r.2.mem (tcLoc d main_v8_3) = (ins m d).out14)
  ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) launch_facts v₀
    (fun q hq => match q with | 0 => nomatch hq)
    (fun q _ => match q with | 0 => tileObl m launch_facts)
    (fun q _ => match q with | 0 => SparseCore.Cfg.VecSplit.of_plain (vecSplit m))
    m ρ main (fun d => iprop(pipeG 0 d ∗ pipeG 1 d)) (FIN m) (u₀ (F := F)) (sep_elim_left.trans (hu₀ m)) (hmain m ρ) (fq m) (hfin m) (QC m) (fun _ h hz => ⟨h, hz⟩)

end run

end Cert.Proof.Pool

end
-- ==== Proof.Frames.lean ====
/- The frames: each program runs to the end, leaves its arguments and ends at rest. -/
module

public import proofs.«01_k».proof.Defs
public import proofs.«01_k».proof.Proof.Launch
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof.Frames

open Idealize.ShloMosaic Idealize.SL.Sem
open Cert.Proof.Pool (run_main)

theorem frame_ki : Cert.quiescent_KernelIdeal := fun m ρ _ =>
  (θ_run Cert.KernelIdeal.defs _ _).mono (fun _ h => ⟨fun c => (h.1 c).1, h.2⟩) (run_main (F := Ideal) m ρ)

set_option maxHeartbeats 20000000 in
/-- The tile's program read at the bits is the same text. -/
theorem body_eq : Cert.Kernel.cc0_sc_pool (F := Bits) = Cert.KernelIdeal.cc0_sc_pool (F := Bits) := rfl

set_option maxHeartbeats 20000000 in
theorem bodies_eq : Cert.Kernel.defs₀ (F := Bits) = Cert.KernelIdeal.defs₀ (F := Bits) := by
  funext p ℓ a
  match p, ℓ, a with
  | .tc, 0, _ => rfl
  | .tc, 1, (t, s) => rfl
  | .tc, 2, (t, s) => rfl
  | .scScalar c, 0, _ => rfl
  | .scScalar c, 1, _ => rfl
  | .scScalar c, 2, _ => rfl
  | .scVector c s, 1, _ => rfl
  | .scVector c s, 2, _ => rfl
  | .scVector c s, 0, _ =>
    unfold Cert.Kernel.defs₀ Cert.KernelIdeal.defs₀
    simp only [body_eq]
    rfl

/-- The program read at the bits is the same program: the run above, at that float. -/
theorem frame_k : Cert.quiescent_Kernel := fun m ρ _ => by
  have hk : Cert.Kernel.defs (F := Bits) = Cert.KernelIdeal.defs (F := Bits) :=
    congrArg (fun D : Defs Cert.Kernel.nD Cert.Kernel.τ Cert.Kernel.sig (Elt Bits) Cert.Kernel.Λ₀ => Cert.Kernel.sc.defs (Pipeline.defs Cert.Kernel.pcfgs D)) bodies_eq
  rw [hk]
  exact (θ_run Cert.KernelIdeal.defs _ _).mono (fun _ h => ⟨fun c => (h.1 c).1, h.2⟩) (run_main (F := Bits) m ρ)

theorem frame_r : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

end Cert.Proof.Frames

end
-- ==== Proof.Pooled.lean ====
/- What a tile accumulates, over the extended reals: one masked sum over the tile's rows. -/
module

public import proofs.«01_k».proof.Proof.Geom
public import Idealize.ShloMosaic.PureOps.Ideal.Laws

@[expose] public section

noncomputable section

namespace Cert.Proof.Pool

open Cert.KernelIdeal
open Idealize.ShloMosaic
open Idealize.ShloMosaic.ValueIdx

variable [Facts]

/-- Column `c` of the array, by row number. -/
def colr {R : ℕ} [NeZero R] (X : Vec Ideal ⟨2, ![R, 128]⟩ .f32) (c : Fin 128) (r : ℕ) : EReal :=
  X (ix2 ⟨r % R, Nat.mod_lt _ (Nat.pos_of_ne_zero (NeZero.ne R))⟩ c)

/-- `g r` where row `r` is in segment `s`, and nothing elsewhere. -/
def msk (w : ℕ → ℤ) (s : ℕ) (g : ℕ → EReal) (r : ℕ) : EReal := if w s ≤ r ∧ (r : ℤ) < w (s + 1) then g r else 0

omit [Facts] in
theorem rowSum_eq (B : Vec Ideal S256x128 .f32) (rl : ℕ) (c : Fin 128) (n : ℕ) :
    (rowSum (F := Ideal) (0 : EReal) B rl c n : EReal) = ∑ k ∈ Finset.range n, (B (bix (rl + k) c) : EReal) := by
  induction n with
  | zero => rfl
  | succ n ih => exact (congrArg (fun x : EReal => x + (B (bix (rl + n) c) : EReal)) ih).trans (Finset.sum_range_succ (fun k => (B (bix (rl + k) c) : EReal)) n).symm

omit [Facts] in
/-- A masked sum over a range of rows is the sum over the part of the range in the segment. -/
theorem sum_msk (w : ℕ → ℤ) (s : ℕ) (g : ℕ → EReal) (cs ce : ℕ) :
    ∑ r ∈ Finset.Ico cs ce, msk w s g r = ∑ r ∈ Finset.Ico (max (w s) cs).toNat (min (w (s + 1)) ce).toNat, g r := by
  unfold msk
  rw [← Finset.sum_filter]
  refine Finset.sum_congr (Finset.ext fun r => ?_) fun _ _ => rfl
  simp only [Finset.mem_filter, Finset.mem_Ico]
  omega

/-- One chunk adds the masked sum over its rows. -/
theorem chunk_eq {R : ℕ} [NeZero R] (w : ℕ → ℤ) (cs ce ba : ℕ) (h0 : ba ≤ cs) (h1 : ce ≤ ba + 256)
    (X : Vec Ideal ⟨2, ![R, 128]⟩ .f32) (A : Vec Ideal S16x128 .f32) (p : S16x128.Idx) :
    (chunkAdd (F := Ideal) (0 : EReal) w cs ce ba (rowsAt X ba) A p : EReal)
      = (A p : EReal) + ∑ r ∈ Finset.Ico cs ce, msk w (p 0).val (colr X (p 1)) r := by
  rw [sum_msk, Finset.sum_Ico_eq_sum_range]
  unfold chunkAdd
  split
  · next h =>
    refine congrArg (fun x : EReal => (A p : EReal) + x) ?_
    refine (rowSum_eq _ _ _ _).trans ?_
    have hn : (min (w ((p 0).val + 1)) ce - max (w (p 0).val) cs).toNat = (min (w ((p 0).val + 1)) ce).toNat - (max (w (p 0).val) cs).toNat := by omega
    rw [hn]
    refine Finset.sum_congr rfl fun k hk => ?_
    have hk' := Finset.mem_range.mp hk
    have e : ba + ((max (w (p 0).val) cs - ba).toNat + k) % 256 = (max (w (p 0).val) cs).toNat + k := by
      rw [Nat.mod_eq_of_lt (by omega)]; omega
    show (X (ix2 ⟨(ba + ((max (w (p 0).val) cs - ba).toNat + k) % 256) % R, _⟩ (p 1)) : EReal) = colr X (p 1) _
    unfold colr
    exact congrArg (fun i => (X (ix2 i (p 1)) : EReal)) (Fin.ext (congrArg (· % R) e))
  · next h =>
    have hn : (min (w ((p 0).val + 1)) ce).toNat - (max (w (p 0).val) cs).toNat = 0 := by omega
    rw [hn, Finset.range_zero, Finset.sum_empty]
    exact (add_zero (A p : EReal)).symm

/-- The first `n` chunks add the masked sum over their rows. -/
theorem poolTo_eq {R : ℕ} [NeZero R] (w : ℕ → ℤ) (K t : ℕ) (hK : 256 ≤ K) (ht : t < 32) (X : Vec Ideal ⟨2, ![R, 128]⟩ .f32) (p : S16x128.Idx) (n : ℕ) (hn : 256 * n ≤ K + 255) :
    (poolTo (F := Ideal) (0 : EReal) w K X t n p : EReal)
      = ∑ r ∈ Finset.Ico (t * K) (min (t * K + 256 * n) (t * K + K)), msk w (p 0).val (colr X (p 1)) r := by
  induction n with
  | zero =>
    rw [show min (t * K + 256 * 0) (t * K + K) = t * K by omega, Finset.Ico_self, Finset.sum_empty]
    rfl
  | succ n ih =>
    have hb : t * K + K ≤ 32 * K := by
      have := Nat.mul_le_mul_right K (show t + 1 ≤ 32 by omega)
      rwa [Nat.add_mul, Nat.one_mul] at this
    have e := chunk_eq w (csN K t n) (ceN K t n) (baN K t n) (by unfold baN; omega) (by unfold ceN baN csN; omega) X (poolTo (F := Ideal) (0 : EReal) w K X t n) p
    refine (show (poolTo (F := Ideal) (0 : EReal) w K X t (n + 1) p : EReal) = _ from e).trans ?_
    rw [ih (by omega)]
    rw [show min (t * K + 256 * n) (t * K + K) = csN K t n by unfold csN; omega,
      show min (t * K + 256 * (n + 1)) (t * K + K) = ceN K t n by unfold ceN csN; omega]
    exact Finset.sum_Ico_consecutive _ (by unfold csN; omega) (by unfold ceN csN; omega)

/-- All the chunks add the masked sum over the tile's rows. -/
theorem poolTo_all {R : ℕ} [NeZero R] (w : ℕ → ℤ) (K t : ℕ) (hK : 256 ≤ K) (ht : t < 32) (X : Vec Ideal ⟨2, ![R, 128]⟩ .f32) (p : S16x128.Idx) (n : ℕ) (hn : 256 * n ≤ K + 255) (hn' : K ≤ 256 * n) :
    (poolTo (F := Ideal) (0 : EReal) w K X t n p : EReal) = ∑ x : Fin K, msk w (p 0).val (colr X (p 1)) (t * K + x.val) := by
  rw [poolTo_eq w K t hK ht X p n hn, show min (t * K + 256 * n) (t * K + K) = t * K + K by omega, Finset.sum_Ico_eq_sum_range,
    show t * K + K - t * K = K by omega, Finset.sum_range]

/-- The masked sum by the segment's two bounds. -/
theorem msk_congr {w : ℕ → ℤ} {s : ℕ} {lo hi : ℤ} (h0 : w s = lo) (h1 : w (s + 1) = hi) (g : ℕ → EReal) (r : ℕ) :
    msk w s g r = if lo ≤ r ∧ (r : ℤ) < hi then g r else 0 := by
  unfold msk; rw [h0, h1]

end Cert.Proof.Pool
-- ==== Proof.Bounds.lean ====
/- The bounds of the segments, and a tile's sums by them. -/
module

public import proofs.«01_k».proof.Proof.Pooled
public import proofs.«01_k».proof.Proof.Tile

@[expose] public section

noncomputable section

namespace Cert.Proof.Pool

open Cert.KernelIdeal
open Facts₀ Facts
open Idealize.ShloMosaic
open Idealize.ShloMosaic.VecWindow
open Idealize.ShloMosaic.ValueIdx

variable [Facts]

theorem word_at (v : IVec S16 32) (o : ℕ) (ho : o < 16) (h : S16.Slices ![o] S1) : extractAt ![0] (extractStridedSlice S1 ![o] v h) inpos_S1_p0 = v (ix1 ⟨o, ho⟩) :=
  congrArg v (funext fun a => match a with | ⟨0, _⟩ => rfl)

theorem loV_at (b : Vec Ideal S32 .i32) (k : ℕ) (hk : k < 16) : loV b (ix1 ⟨k, hk⟩) = b (ix1 ⟨k, by omega⟩) :=
  (congrFun (shapeCast_self (window b ![0] S16.size inb_S32_S16_0) shapeCasts_S16_S16) _).trans
    (congrArg b (funext fun a => match a with | ⟨0, _⟩ => Fin.ext (by show 0 + 1 * k = k; omega)))

theorem hiV_at (b : Vec Ideal S32 .i32) (k : ℕ) (hk : k < 16) : hiV b (ix1 ⟨k, hk⟩) = b (ix1 ⟨16 + k, by omega⟩) :=
  (congrFun (shapeCast_self (window b ![16] S16.size inb_S32_S16_16) shapeCasts_S16_S16) _).trans
    (congrArg b (funext fun a => match a with | ⟨0, _⟩ => Fin.ext (by show 16 + 1 * k = 16 + k; omega)))

/-- The first seventeen of the thirty-two words bound the segments. -/
theorem bwOf_at (a : IVec S1x32 32) (k : ℕ) (hk : k ≤ 16) :
    bwOf (loV (F := Ideal) (shapeCast S32 a shapeCasts_S1x32_S32)) (hiV (F := Ideal) (shapeCast S32 a shapeCasts_S1x32_S32)) k = a (ix2 0 ⟨k, by omega⟩) := by
  have e (j : ℕ) (hj : j < 32) : shapeCast S32 a shapeCasts_S1x32_S32 (ix1 ⟨j, hj⟩) = a (ix2 0 ⟨j, hj⟩) := shapeCast_1a_a_apply a _ _
  by_cases h : k = 16
  · subst h
    exact ((word_at _ 0 (by omega) _).trans (hiV_at _ 0 (by omega))).trans (e 16 (by omega))
  · have hk' : k < 16 := by omega
    refine Eq.trans ?_ ((loV_at _ k hk').trans (e k (by omega)))
    interval_cases k <;> exact word_at _ _ (by omega) _

/-- A tile's sums, segment by segment and column by column. -/
theorem pool_at {R : ℕ} [NeZero R] (K n : ℕ) (hK : 256 ≤ K) (hR : R = 32 * K) (hn : 256 * n ≤ K + 255) (hn' : K ≤ 256 * n)
    (X : Vec Ideal ⟨2, ![R, 128]⟩ .f32) (a : IVec S1x32 32) (t : Fin 32) (s : Fin 16) (c : Fin 128) :
    (poolTo (F := Ideal) zr (fun k => (bwOf (loV (F := Ideal) (shapeCast S32 a shapeCasts_S1x32_S32)) (hiV (F := Ideal) (shapeCast S32 a shapeCasts_S1x32_S32)) k).toInt) K X t.val n (ix2 s c) : EReal)
      = ∑ x : Fin K, if (a (ix2 0 ⟨s.val, by omega⟩)).toInt ≤ (t.val * K + x.val : ℕ) ∧ ((t.val * K + x.val : ℕ) : ℤ) < (a (ix2 0 ⟨1 + s.val, by omega⟩)).toInt
        then X (ix2 ⟨(t.val * K + x.val) % R, Nat.mod_lt _ (Nat.pos_of_ne_zero (NeZero.ne R))⟩ c) else (0 : EReal) := by
  have hz : (zr : Ideal .f32) = (0 : EReal) := by
    show Ideal.ofBits .f32 0x00000000#32 = 0
    simp [Ideal.ofBits, Ideal.ieee]
  rw [hz, poolTo_all _ K t.val hK t.isLt X (ix2 s c) n hn hn']
  refine Finset.sum_congr rfl fun x _ => ?_
  refine (msk_congr (s := s.val) (congrArg BitVec.toInt (bwOf_at a s.val (by omega))) (congrArg BitVec.toInt (bwOf_at a (s.val + 1) (by omega))) _ _).trans ?_
  have e : (⟨s.val + 1, by omega⟩ : Fin 32) = ⟨1 + s.val, by omega⟩ := Fin.ext (Nat.add_comm _ _)
  rw [e]
  rfl

end Cert.Proof.Pool
-- ==== Proof.Ref.lean ====
/- The reference's totals, means and projections, read at an index. -/
module

public import proofs.«01_k».proof.Proof.Gen.ReferenceIdeal
public import Idealize.ShloMosaic.Lib.Pointwise

@[expose] public section

noncomputable section

namespace Cert.Proof.Ref

open Cert.ReferenceIdeal Cert.ReferenceIdeal.Gen
open Idealize.ShloMosaic

/-- The first array's rows added up by their segment's bounds. -/
def totG (X : FVec Ideal S320000x128 .f32) (b : IVec S1x32 32) : FVec Ideal S16x128 .f32 :=
  Host.reduceAdd (select (broadcastInDim S16x320000x128 ![0, 1, 2] bcast_S16x320000x1_S16x320000x128_0_1_2 (andi (cmpi .sge (broadcastInDim S16x320000x1 ![0, 1, 2] bcast_S1x320000x1_S16x320000x1_0_1_2 (shapeCast _ (iotaInDim S320000 32 0) shapeCasts_S320000_S1x320000x1)) (broadcastInDim S16x320000x1 ![0, 1, 2] bcast_S16x1x1_S16x320000x1_0_1_2 (shapeCast _ (shapeCast _ (extractStridedSlice S1x16 ![0, 0] b slices_S1x32_S1x16_0_0) shapeCasts_S1x16_S16) shapeCasts_S16_S16x1x1))) (cmpi .slt (broadcastInDim S16x320000x1 ![0, 1, 2] bcast_S1x320000x1_S16x320000x1_0_1_2 (shapeCast _ (iotaInDim S320000 32 0) shapeCasts_S320000_S1x320000x1)) (broadcastInDim S16x320000x1 ![0, 1, 2] bcast_S16x1x1_S16x320000x1_0_1_2 (shapeCast _ (shapeCast _ (extractStridedSlice S1x16 ![0, 1] b slices_S1x32_S1x16_0_1) shapeCasts_S1x16_S16) shapeCasts_S16_S16x1x1))))) (broadcastInDim S16x320000x128 ![0, 1, 2] bcast_S1x320000x128_S16x320000x128_0_1_2 (shapeCast _ X shapeCasts_S320000x128_S1x320000x128)) (broadcastInDim S16x320000x128 ![] bcast_S_S16x320000x128 (id (constant S_ .f32 0x00000000#32)))) (constant S_ .f32 0x00000000#32) reducesTo_S16x320000x128_S16x128_d1 h_S_

/-- The third array's. -/
def totM (X : FVec Ideal S32000x128 .f32) (b : IVec S1x32 32) : FVec Ideal S16x128 .f32 :=
  Host.reduceAdd (select (broadcastInDim S16x32000x128 ![0, 1, 2] bcast_S16x32000x1_S16x32000x128_0_1_2 (andi (cmpi .sge (broadcastInDim S16x32000x1 ![0, 1, 2] bcast_S1x32000x1_S16x32000x1_0_1_2 (shapeCast _ (iotaInDim S32000 32 0) shapeCasts_S32000_S1x32000x1)) (broadcastInDim S16x32000x1 ![0, 1, 2] bcast_S16x1x1_S16x32000x1_0_1_2 (shapeCast _ (shapeCast _ (extractStridedSlice S1x16 ![0, 0] b slices_S1x32_S1x16_0_0) shapeCasts_S1x16_S16) shapeCasts_S16_S16x1x1))) (cmpi .slt (broadcastInDim S16x32000x1 ![0, 1, 2] bcast_S1x32000x1_S16x32000x1_0_1_2 (shapeCast _ (iotaInDim S32000 32 0) shapeCasts_S32000_S1x32000x1)) (broadcastInDim S16x32000x1 ![0, 1, 2] bcast_S16x1x1_S16x32000x1_0_1_2 (shapeCast _ (shapeCast _ (extractStridedSlice S1x16 ![0, 1] b slices_S1x32_S1x16_0_1) shapeCasts_S1x16_S16) shapeCasts_S16_S16x1x1))))) (broadcastInDim S16x32000x128 ![0, 1, 2] bcast_S1x32000x128_S16x32000x128_0_1_2 (shapeCast _ X shapeCasts_S32000x128_S1x32000x128)) (broadcastInDim S16x32000x128 ![] bcast_S_S16x32000x128 (id (constant S_ .f32 0x00000000#32)))) (constant S_ .f32 0x00000000#32) reducesTo_S16x32000x128_S16x128_d1 h_S_

/-- The second array's, by their identifiers, and how many there are of each. -/
def sumS (X : FVec Ideal S400000x128 .f32) (b : IVec S400000 32) : FVec Ideal S16x128 .f32 :=
  Host.reduceAdd (select (broadcastInDim S16x400000x128 ![0, 1, 2] bcast_S16x400000x1_S16x400000x128_0_1_2 (cmpi .eq (broadcastInDim S16x400000x1 ![0, 1, 2] bcast_S16x1x1_S16x400000x1_0_1_2 (shapeCast _ (iotaInDim S16 32 0) shapeCasts_S16_S16x1x1)) (broadcastInDim S16x400000x1 ![0, 1, 2] bcast_S1x400000x1_S16x400000x1_0_1_2 (shapeCast _ b shapeCasts_S400000_S1x400000x1)))) (broadcastInDim S16x400000x128 ![0, 1, 2] bcast_S1x400000x128_S16x400000x128_0_1_2 (shapeCast _ X shapeCasts_S400000x128_S1x400000x128)) (broadcastInDim S16x400000x128 ![] bcast_S_S16x400000x128 (id (constant S_ .f32 0x00000000#32)))) (constant S_ .f32 0x00000000#32) reducesTo_S16x400000x128_S16x128_d1 h_S_
def cntS (b : IVec S400000 32) : FVec Ideal S16x1 .f32 :=
  Host.reduceAdd (id (select (cmpi .eq (broadcastInDim S16x400000x1 ![0, 1, 2] bcast_S16x1x1_S16x400000x1_0_1_2 (shapeCast _ (iotaInDim S16 32 0) shapeCasts_S16_S16x1x1)) (broadcastInDim S16x400000x1 ![0, 1, 2] bcast_S1x400000x1_S16x400000x1_0_1_2 (shapeCast _ b shapeCasts_S400000_S1x400000x1))) (broadcastInDim S16x400000x1 ![] bcast_S_S16x400000x1 (constant S_ .f32 0x3F800000#32)) (broadcastInDim S16x400000x1 ![] bcast_S_S16x400000x1 (constant S_ .f32 0x00000000#32)))) (constant S_ .f32 0x00000000#32) reducesTo_S16x400000x1_S16x1_d1 h_S_

/-- The three means, and a projection of one. -/
def meanG (X : FVec Ideal S320000x128 .f32) (b : IVec S1x32 32) (g : FVec Ideal S16x128 .f32) : FVec Ideal S16x128 .f32 :=
  Host.divf (totG X b) (maximumf g (broadcastInDim S16x128 ![] bcast_S_S16x128 (constant S_ .f32 0x3F800000#32)))
def meanM (X : FVec Ideal S32000x128 .f32) (b : IVec S1x32 32) (g : FVec Ideal S16x128 .f32) : FVec Ideal S16x128 .f32 :=
  Host.divf (totM X b) (maximumf g (broadcastInDim S16x128 ![] bcast_S_S16x128 (constant S_ .f32 0x3F800000#32)))
def meanS (X : FVec Ideal S400000x128 .f32) (b : IVec S400000 32) : FVec Ideal S16x128 .f32 :=
  Host.divf (sumS X b) (broadcastInDim S16x128 ![0, 1] bcast_S16x1_S16x128_0_1 (maximumf (cntS b) (broadcastInDim S16x1 ![] bcast_S_S16x1 (constant S_ .f32 0x3F800000#32))))
def refP (g : FVec Ideal S16x128 .f32) (W : FVec Ideal S128x128 .f32) (c : FVec Ideal S128 .f32) : FVec Ideal S16x128 .f32 :=
  addf (Host.dotGeneral dot_S16x128_S128x128_S16x128_1_0_0_1_n_n none g (transpose S128x128 [1, 0] W transposes_S128x128_S128x128_1_0)) (broadcastInDim S16x128 ![0, 1] bcast_S1x128_S16x128_0_1 (broadcastInDim S1x128 ![1] bcast_S128_S1x128_1 c))

/-- The mask of the reference's rows, by the numbers the words stand for. -/
theorem sel_eq (lo hi : BitVec 32) (r : ℕ) (hr : r ≤ 1073741824) (x y : EReal) :
    Scalar.select (IntOp.andi (IntOp.cmpi .sge (BitVec.ofNat 32 r) lo) (IntOp.cmpi .slt (BitVec.ofNat 32 r) hi)) x y
      = if lo.toInt ≤ r ∧ (r : ℤ) < hi.toInt then x else y := by
  have e : (BitVec.ofNat 32 r).toInt = r := by
    have h2 := BitVec.toInt_eq_toNat_cond (BitVec.ofNat 32 r)
    have h3 : (BitVec.ofNat 32 r).toNat = r := by rw [BitVec.toNat_ofNat]; exact Nat.mod_eq_of_lt (by omega)
    split at h2 <;> omega
  have h : ∀ a b : Bool, (BitVec.ofBool a &&& BitVec.ofBool b = 1) ↔ (a = true ∧ b = true) := by decide
  unfold Scalar.select IntOp.andi IntOp.cmpi
  simp only [h, BitVec.sle_iff_toInt_le, BitVec.slt_iff_toInt_lt, e]

/-- A choice by the equality of two words. -/
theorem selEq_eq (u v : BitVec 32) (x y : EReal) : Scalar.select (IntOp.cmpi .eq u v) x y = if u = v then x else y := by
  unfold Scalar.select IntOp.cmpi
  by_cases h : u = v
  · subst h; simp
  · have e : (u == v) = false := by simpa using h
    refine (if_neg fun h' => ?_).trans (if_neg h).symm
    change BitVec.ofBool (u == v) = 1#1 at h'
    rw [e] at h'
    exact absurd h' (by decide)

theorem totG_apply (X : FVec Ideal S320000x128 .f32) (b : IVec S1x32 32) (s : Fin 16) (c : Fin 128) :
    (totG X b (ix2 s c) : EReal) = ∑ x : Fin 320000, if (b (ix2 0 ⟨s.val, by omega⟩)).toInt ≤ (x.val : ℕ) ∧ ((x.val : ℕ) : ℤ) < (b (ix2 0 ⟨1 + s.val, by omega⟩)).toInt
      then X (ix2 x c) else (0 : EReal) := by
  pointwise [totG, id]
  exact Finset.sum_congr rfl fun x _ => sel_eq _ _ _ (by omega) _ _

theorem totM_apply (X : FVec Ideal S32000x128 .f32) (b : IVec S1x32 32) (s : Fin 16) (c : Fin 128) :
    (totM X b (ix2 s c) : EReal) = ∑ x : Fin 32000, if (b (ix2 0 ⟨s.val, by omega⟩)).toInt ≤ (x.val : ℕ) ∧ ((x.val : ℕ) : ℤ) < (b (ix2 0 ⟨1 + s.val, by omega⟩)).toInt
      then X (ix2 x c) else (0 : EReal) := by
  pointwise [totM, id]
  exact Finset.sum_congr rfl fun x _ => sel_eq _ _ _ (by omega) _ _

theorem sumS_apply (X : FVec Ideal S400000x128 .f32) (b : IVec S400000 32) (s : Fin 16) (c : Fin 128) :
    (sumS X b (ix2 s c) : EReal) = ∑ x : Fin 400000, if BitVec.ofNat 32 s.val = b (ix1 x) then X (ix2 x c) else (0 : EReal) := by
  pointwise [sumS, id]
  exact Finset.sum_congr rfl fun x _ => selEq_eq _ _ _ _

theorem cntS_apply (b : IVec S400000 32) (s : Fin 16) :
    (cntS b (ix2 s 0) : EReal) = ∑ x : Fin 400000, if BitVec.ofNat 32 s.val = b (ix1 x) then (1 : EReal) else (0 : EReal) := by
  pointwise [cntS, id]
  exact Finset.sum_congr rfl fun x _ => selEq_eq _ _ _ _

theorem refP_apply (g : FVec Ideal S16x128 .f32) (W : FVec Ideal S128x128 .f32) (c : FVec Ideal S128 .f32) (s : Fin 16) (j : Fin 128) :
    (refP g W c (ix2 s j) : EReal) = (∑ k : Fin 128, (g (ix2 s k) : EReal) * (W (ix2 j k) : EReal)) + (c (ix1 j) : EReal) := by
  pointwise [refP]

end Cert.Proof.Ref
-- ==== Proof.Sums.lean ====
/- What the TensorCore call accumulates, over the extended reals: masked sums over all rows, and the counts. -/
module

public import proofs.«01_k».proof.Proof.Region
public import proofs.«01_k».proof.Proof.Ref
public import Idealize.ShloMosaic.Lib.Pointwise

@[expose] public section

noncomputable section

namespace Cert.Proof.Pool

open Cert.KernelIdeal
open Facts₀ Facts
open Idealize.ShloMosaic

theorem onehot_apply (x0 : Vec Ideal S1x1x16000 .i32) (s : Fin 16) (r : Fin 16000) :
    (onehot (F := Ideal) x0 (ix2 s r) : EReal) = if BitVec.ofNat 32 s.val = (x0 : IVec S1x1x16000 32) (ix3 0 0 r) then (1 : EReal) else 0 := by
  pointwise [onehot]
  exact Ref.selEq_eq _ _ _ _

theorem sumP_apply (x0 : Vec Ideal S1x1x16000 .i32) (x1 : Vec Ideal S16000x128 .f32) (s : Fin 16) (c : Fin 128) :
    (sumP (F := Ideal) x0 x1 (ix2 s c) : EReal) = ∑ r : Fin 16000, if BitVec.ofNat 32 s.val = (x0 : IVec S1x1x16000 32) (ix3 0 0 r) then (x1 (ix2 r c) : EReal) else 0 := by
  pointwise [sumP]
  refine Finset.sum_congr rfl fun r _ => ?_
  refine (congrArg (fun e : EReal => e * (x1 (ix2 r c) : EReal)) (onehot_apply x0 s r)).trans ?_
  split
  · exact one_mul _
  · exact zero_mul _

theorem cntP_apply (x0 : Vec Ideal S1x1x16000 .i32) (s : Fin 16) (c : Fin 128) :
    (cntP (F := Ideal) x0 (ix2 s c) : EReal) = ∑ r : Fin 16000, if BitVec.ofNat 32 s.val = (x0 : IVec S1x1x16000 32) (ix3 0 0 r) then (1 : EReal) else 0 := by
  pointwise [cntP]
  exact Finset.sum_congr rfl fun r _ => onehot_apply x0 s r

theorem addTo_apply (a : Vec Ideal S16x128 .f32) (p : FVec Ideal S16x128 .f32) (s : Fin 16) (c : Fin 128) :
    (addTo (F := Ideal) a p (ix2 s c) : EReal) = (a (ix2 s c) : EReal) + (p (ix2 s c) : EReal) := by
  pointwise [addTo]

theorem zeroV_apply (s : Fin 16) (c : Fin 128) : (zeroV (F := Ideal) (ix2 s c) : EReal) = 0 := by
  pointwise [zeroV]

theorem chunk_ids (b : IVec S400000 32) (k : Fin 25) (r : Fin 16000) :
    shapeCast S25x1x16000 b shapeCasts_S400000_S25x1x16000 (ix3 k 0 r) = b (ix1 ⟨k.val * 16000 + r.val, by omega⟩) := by
  pointwise

/-- Row `r`, where its identifier is `s`. -/
def mrow (b : IVec S400000 32) (s : Fin 16) (g : Fin 400000 → EReal) (r : ℕ) : EReal :=
  if BitVec.ofNat 32 s.val = b (ix1 ⟨r % 400000, Nat.mod_lt _ (by omega)⟩) then g ⟨r % 400000, Nat.mod_lt _ (by omega)⟩ else 0

theorem mrow_chunk (b : IVec S400000 32) (s : Fin 16) (g : Fin 400000 → EReal) (n : ℕ) (hn : n < 25) :
    (∑ x ∈ Finset.range 16000, mrow b s g (n * 16000 + x))
      = ∑ r : Fin 16000, if BitVec.ofNat 32 s.val = ids (F := Ideal) (shapeCast S25x1x16000 b shapeCasts_S400000_S25x1x16000) n (ix3 0 0 r)
          then g ⟨(n % 25) * 16000 + r.val, by have := Nat.mod_lt n (show 25 > 0 by decide); omega⟩ else 0 := by
  rw [Finset.sum_range]
  refine Finset.sum_congr rfl fun r _ => ?_
  have e : (⟨(n * 16000 + r.val) % 400000, Nat.mod_lt _ (by omega)⟩ : Fin 400000) = ⟨(n % 25) * 16000 + r.val, by have := Nat.mod_lt n (show 25 > 0 by decide); omega⟩ :=
    Fin.ext (by
      show (n * 16000 + r.val) % 400000 = (n % 25) * 16000 + r.val
      rw [Nat.mod_eq_of_lt hn, Nat.mod_eq_of_lt (by omega)])
  have h : ids (F := Ideal) (shapeCast S25x1x16000 b shapeCasts_S400000_S25x1x16000) n (ix3 0 0 r)
      = b (ix1 ⟨(n % 25) * 16000 + r.val, by have := Nat.mod_lt n (show 25 > 0 by decide); omega⟩) := chunk_ids b ⟨n % 25, Nat.mod_lt _ (by decide)⟩ r
  unfold mrow
  rw [e, h]

theorem fold2_apply (b : IVec S400000 32) (A1 : Vec Ideal S400000x128 .f32) (s : Fin 16) (c : Fin 128) (n : ℕ) (hn : n ≤ 25) :
    (fold2 (F := Ideal) (shapeCast S25x1x16000 b shapeCasts_S400000_S25x1x16000) A1 n (ix2 s c) : EReal)
      = ∑ r ∈ Finset.range (n * 16000), mrow b s (fun x => A1 (ix2 x c)) r := by
  induction n with
  | zero => exact (zeroV_apply s c).trans (by simp)
  | succ n ih =>
    rw [Nat.succ_mul, Finset.sum_range_add, mrow_chunk b s _ n (by omega), ← ih (by omega)]
    refine (addTo_apply _ _ s c).trans (congrArg _ (sumP_apply _ _ s c))

theorem fold3_apply (b : IVec S400000 32) (s : Fin 16) (c : Fin 128) (n : ℕ) (hn : n ≤ 25) :
    (fold3 (F := Ideal) (shapeCast S25x1x16000 b shapeCasts_S400000_S25x1x16000) n (ix2 s c) : EReal)
      = ∑ r ∈ Finset.range (n * 16000), mrow b s (fun _ => 1) r := by
  induction n with
  | zero => exact (zeroV_apply s c).trans (by simp)
  | succ n ih =>
    rw [Nat.succ_mul, Finset.sum_range_add, mrow_chunk b s _ n (by omega), ← ih (by omega)]
    refine (addTo_apply _ _ s c).trans (congrArg _ (cntP_apply _ s c))

theorem mrow_all (b : IVec S400000 32) (s : Fin 16) (g : Fin 400000 → EReal) :
    (∑ r ∈ Finset.range (25 * 16000), mrow b s g r) = ∑ x : Fin 400000, if BitVec.ofNat 32 s.val = b (ix1 x) then g x else 0 := by
  rw [show 25 * 16000 = 400000 from rfl, Finset.sum_range]
  refine Finset.sum_congr rfl fun x _ => ?_
  have e : (⟨x.val % 400000, Nat.mod_lt _ (by omega)⟩ : Fin 400000) = x := Fin.ext (Nat.mod_eq_of_lt x.isLt)
  unfold mrow
  rw [e]

end Cert.Proof.Pool

end
-- ==== Proof.Totals.lean ====
/- The last call's arithmetic over the extended reals: the tiles' parts added up, and the projections. -/
module

public import proofs.«01_k».proof.Proof.Last
public import proofs.«01_k».proof.Proof.Bounds
public import Idealize.ShloMosaic.Lib.Pointwise

@[expose] public section

noncomputable section

namespace Cert.Proof.Pool

open Cert.KernelIdeal
open Facts₀ Facts
open Idealize.ShloMosaic

theorem tot_apply (x : Vec Ideal S32x16x128 .f32) (s : Fin 16) (c : Fin 128) :
    (tot (F := Ideal) x (ix2 s c) : EReal) = ∑ t : Fin 32, (x (ix3 t s c) : EReal) := by
  pointwise [tot]

theorem proj_apply (g : FVec Ideal S16x128 .f32) (W : Vec Ideal S128x128 .f32) (b : Vec Ideal S1x128 .f32) (s : Fin 16) (j : Fin 128) :
    (proj (F := Ideal) g W b (ix2 s j) : EReal) = (∑ k : Fin 128, (g (ix2 s k) : EReal) * (W (ix2 j k) : EReal)) + (b (ix2 0 j) : EReal) := by
  pointwise [proj]

/-- Sums of `n` blocks of `K` in a row are the sum of all. -/
theorem sum_blocks (K n : ℕ) (f : ℕ → EReal) : (∑ t : Fin n, ∑ x : Fin K, f (t.val * K + x.val)) = ∑ r : Fin (n * K), f r.val := by
  have h : ∀ n : ℕ, (∑ t ∈ Finset.range n, ∑ x ∈ Finset.range K, f (t * K + x)) = ∑ r ∈ Finset.range (n * K), f r := fun n => by
    induction n with
    | zero => simp
    | succ n ih => rw [Finset.sum_range_succ, ih, Nat.succ_mul, Finset.sum_range_add]
  rw [← Finset.sum_range f, ← h n, Finset.sum_range]
  exact Finset.sum_congr rfl fun t _ => (Finset.sum_range fun x => f (t.val * K + x)).symm

/-- The part of each tile by bounds, over the tiles, is the whole by bounds. -/
theorem tot_parts (K R : ℕ) [NeZero R] (hR : R = 32 * K) (lo hi : ℤ) (g : Fin R → EReal) :
    (∑ t : Fin 32, ∑ x : Fin K, if lo ≤ (t.val * K + x.val : ℕ) ∧ ((t.val * K + x.val : ℕ) : ℤ) < hi
        then g ⟨(t.val * K + x.val) % R, Nat.mod_lt _ (Nat.pos_of_ne_zero (NeZero.ne R))⟩ else 0)
      = ∑ x : Fin R, if lo ≤ (x.val : ℕ) ∧ ((x.val : ℕ) : ℤ) < hi then g x else 0 := by
  have h := sum_blocks K 32 fun r => if lo ≤ (r : ℕ) ∧ ((r : ℕ) : ℤ) < hi then g ⟨r % R, Nat.mod_lt _ (Nat.pos_of_ne_zero (NeZero.ne R))⟩ else 0
  refine h.trans ?_
  subst hR
  refine Finset.sum_congr rfl fun x _ => ?_
  have e : (⟨x.val % (32 * K), Nat.mod_lt _ (Nat.pos_of_ne_zero (NeZero.ne (32 * K)))⟩ : Fin (32 * K)) = x := Fin.ext (Nat.mod_eq_of_lt x.isLt)
  rw [e]

theorem tot_zero (s : Fin 16) (c : Fin 128) : (tot (F := Ideal) resC (ix2 s c) : EReal) = 0 := by
  refine (tot_apply _ s c).trans (Finset.sum_eq_zero fun t _ => ?_)
  show (zr : Ideal .f32) = (0 : EReal)
  show Ideal.ofBits .f32 0x00000000#32 = 0
  simp [Ideal.ofBits, Ideal.ieee]

end Cert.Proof.Pool

end
-- ==== Proof.Algebra.lean ====
/- The two idealized programs compute the same four results. -/
module

public import proofs.«01_k».proof.Defs
public import proofs.«01_k».proof.Proof.Launch
public import proofs.«01_k».proof.Proof.Bounds
public import proofs.«01_k».proof.Proof.Ref
public import proofs.«01_k».proof.Proof.Sums
public import proofs.«01_k».proof.Proof.Totals
public import proofs.«01_k».proof.Proof.Gen.KernelIdeal
public import Idealize.ShloMosaic.Lib.Pointwise
public import proofs.«01_k».proof.Proof.Gen.ReferenceIdeal
public import proofs.«01_k».proof.Proof.Gen.ReferenceIdeal.Run

@[expose] public section

noncomputable section

namespace Cert.Proof.Algebra

open Idealize.ShloMosaic Idealize.SL.Sem
open Cert.Proof.Pool (arr ins resG resM resC res2 res3 bias9 bias11 pool_at run_main tcLoc fold2_apply fold3_apply mrow_all
  tot meanV meanC atLeast1 proj tot_apply proj_apply tot_parts tot_zero)
open Cert.Proof.Ref (totG totM sumS cntS meanG meanM meanS refP totG_apply totM_apply sumS_apply cntS_apply refP_apply)

/-- Dividing by counts repeated along the columns is dividing by the one column of counts. -/
theorem over_eq (a n : FVec Ideal Cert.KernelIdeal.S16x128 .f32) (k : FVec Ideal Cert.ReferenceIdeal.S16x1 .f32)
    (h : ∀ (s : Fin 16) (c : Fin 128), (n (ix2 s c) : EReal) = k (ix2 s 0)) :
    divf (F := Ideal) a (atLeast1 n)
      = Host.divf a (broadcastInDim Cert.ReferenceIdeal.S16x128 ![0, 1] Cert.ReferenceIdeal.Facts₀.bcast_S16x1_S16x128_0_1
          (maximumf k (broadcastInDim Cert.ReferenceIdeal.S16x1 ![] Cert.ReferenceIdeal.Facts₀.bcast_S_S16x1 (constant Cert.ReferenceIdeal.S_ .f32 0x3F800000#32)))) := by
  funext p
  obtain ⟨s, c, rfl⟩ : ∃ (s : Fin 16) (c : Fin 128), p = ix2 s c := ⟨p 0, p 1, eq_ix2 p⟩
  have h' := h s c
  pointwise [atLeast1]
  rw [h']

section

open Cert.KernelIdeal

variable [Facts] (m : (ℓ : Loc nD τ sig) → Buf (Elt Ideal) ℓ) (d : Dev nD)

theorem totG_eq : tot (F := Ideal) (resG (arr m d)) = totG (m (tcLoc d main_arg0)) (m (tcLoc d main_arg3)) := by
  funext p
  obtain ⟨s, c, rfl⟩ : ∃ (s : Fin 16) (c : Fin 128), p = ix2 s c := ⟨p 0, p 1, eq_ix2 p⟩
  refine (tot_apply _ s c).trans (Eq.trans (Finset.sum_congr rfl fun t _ =>
    pool_at 10000 40 (by omega) rfl (by omega) (by omega) (m (tcLoc d main_arg0)) (m (tcLoc d main_arg3)) t s c) ?_)
  exact (tot_parts 10000 320000 rfl _ _ fun i => m (tcLoc d main_arg0) (ix2 i c)).trans (totG_apply _ _ s c).symm

theorem totM_eq : tot (F := Ideal) (resM (arr m d)) = totM (m (tcLoc d main_arg2)) (m (tcLoc d main_arg4)) := by
  funext p
  obtain ⟨s, c, rfl⟩ : ∃ (s : Fin 16) (c : Fin 128), p = ix2 s c := ⟨p 0, p 1, eq_ix2 p⟩
  refine (tot_apply _ s c).trans (Eq.trans (Finset.sum_congr rfl fun t _ =>
    pool_at 1000 4 (by omega) rfl (by omega) (by omega) (m (tcLoc d main_arg2)) (m (tcLoc d main_arg4)) t s c) ?_)
  exact (tot_parts 1000 32000 rfl _ _ fun i => m (tcLoc d main_arg2) (ix2 i c)).trans (totM_apply _ _ s c).symm

theorem res2_apply (s : Fin 16) (c : Fin 128) : (res2 m d (ix2 s c) : EReal) = sumS (m (tcLoc d main_arg1)) (m (tcLoc d main_arg7)) (ix2 s c) :=
  (fold2_apply (m (tcLoc d main_arg7)) (m (tcLoc d main_arg1)) s c 25 (le_refl 25)).trans ((mrow_all _ s _).trans (sumS_apply _ _ s c).symm)

theorem res3_apply (s : Fin 16) (c : Fin 128) : (res3 m d (ix2 s c) : EReal) = cntS (m (tcLoc d main_arg7)) (ix2 s 0) :=
  (fold3_apply (m (tcLoc d main_arg7)) s c 25 (le_refl 25)).trans ((mrow_all _ s _).trans (cntS_apply _ s).symm)

theorem meanG_eq : meanV (F := Ideal) (resG (arr m d)) (m (tcLoc d main_arg5)) = meanG (m (tcLoc d main_arg0)) (m (tcLoc d main_arg3)) (m (tcLoc d main_arg5)) :=
  (congrArg (fun t => divf t (atLeast1 (F := Ideal) (m (tcLoc d main_arg5)))) (totG_eq m d)).trans rfl

theorem meanM_eq : meanV (F := Ideal) (resM (arr m d)) (m (tcLoc d main_arg6)) = meanM (m (tcLoc d main_arg2)) (m (tcLoc d main_arg4)) (m (tcLoc d main_arg6)) :=
  (congrArg (fun t => divf t (atLeast1 (F := Ideal) (m (tcLoc d main_arg6)))) (totM_eq m d)).trans rfl

theorem sums_eq : addf (F := Ideal) (shapeCast S16x128 (res2 m d : FVec Ideal S16x128 .f32) Facts₀.shapeCasts_S16x128_S16x128) (tot (F := Ideal) resC)
    = sumS (m (tcLoc d main_arg1)) (m (tcLoc d main_arg7)) := by
  rw [shapeCast_self]
  funext p
  obtain ⟨s, c, rfl⟩ : ∃ (s : Fin 16) (c : Fin 128), p = ix2 s c := ⟨p 0, p 1, eq_ix2 p⟩
  show (res2 m d (ix2 s c) : EReal) + tot (F := Ideal) resC (ix2 s c) = _
  rw [tot_zero, add_zero]
  exact res2_apply m d s c

theorem meanS_eq : meanC (F := Ideal) (res2 m d) resC (res3 m d) = meanS (m (tcLoc d main_arg1)) (m (tcLoc d main_arg7)) := by
  unfold meanC meanS
  rw [sums_eq, shapeCast_self]
  exact over_eq _ _ _ fun s c => res3_apply m d s c

theorem proj9 (g : FVec Ideal S16x128 .f32) : proj (F := Ideal) g (m (tcLoc d main_arg8)) (bias9 m d) = refP g (m (tcLoc d main_arg8)) (m (tcLoc d main_arg9)) := by
  funext p
  obtain ⟨s, c, rfl⟩ : ∃ (s : Fin 16) (c : Fin 128), p = ix2 s c := ⟨p 0, p 1, eq_ix2 p⟩
  refine (proj_apply _ _ _ s c).trans (Eq.trans ?_ (refP_apply _ _ _ s c).symm)
  refine congrArg (fun e : EReal => _ + e) ?_
  pointwise [bias9]

theorem proj11 (g : FVec Ideal S16x128 .f32) : proj (F := Ideal) g (m (tcLoc d main_arg10)) (bias11 m d) = refP g (m (tcLoc d main_arg10)) (m (tcLoc d main_arg11)) := by
  funext p
  obtain ⟨s, c, rfl⟩ : ∃ (s : Fin 16) (c : Fin 128), p = ix2 s c := ⟨p 0, p 1, eq_ix2 p⟩
  refine (proj_apply _ _ _ s c).trans (Eq.trans ?_ (refP_apply _ _ _ s c).symm)
  refine congrArg (fun e : EReal => _ + e) ?_
  pointwise [bias11]

theorem out11_eq : (ins m d).out11 = refP (meanG (m (tcLoc d main_arg0)) (m (tcLoc d main_arg3)) (m (tcLoc d main_arg5))) (m (tcLoc d main_arg8)) (m (tcLoc d main_arg9)) :=
  (proj9 m d _).trans (congrArg (fun g => refP g (m (tcLoc d main_arg8)) (m (tcLoc d main_arg9))) (meanG_eq m d))
theorem out12_eq : (ins m d).out12 = refP (meanG (m (tcLoc d main_arg0)) (m (tcLoc d main_arg3)) (m (tcLoc d main_arg5))) (m (tcLoc d main_arg10)) (m (tcLoc d main_arg11)) :=
  (proj11 m d _).trans (congrArg (fun g => refP g (m (tcLoc d main_arg10)) (m (tcLoc d main_arg11))) (meanG_eq m d))
theorem out13_eq : (ins m d).out13 = meanS (m (tcLoc d main_arg1)) (m (tcLoc d main_arg7)) := meanS_eq m d
theorem out14_eq : (ins m d).out14 = meanM (m (tcLoc d main_arg2)) (m (tcLoc d main_arg4)) (m (tcLoc d main_arg6)) := meanM_eq m d

end

theorem algebraic : Cert.algebraic_KernelIdeal_ReferenceIdeal := fun m g m' g' _ hm =>
  ⟨fun c => (ins m c).out11, fun c => (ins m c).out12, fun c => (ins m c).out13, fun c => (ins m c).out14,
    (θ_run Cert.KernelIdeal.defs _ _).mono
      (fun _ h c => ⟨(h.1 c).2.1, (h.1 c).2.2.1, (h.1 c).2.2.2.1, (h.1 c).2.2.2.2, (h.1 c).1⟩)
      (run_main (F := Ideal) m g),
    (θ_run Cert.ReferenceIdeal.defs _ _).mono
      (fun _ h c => by
        obtain ⟨e0, e1, e2, e3, e4, e5, e6, e7, e8, e9, e10, e11⟩ := hm c
        refine ⟨(h c).1.trans (Eq.trans (b := refP (meanG _ _ _) _ _) rfl ?_), (h c).2.1.trans (Eq.trans (b := refP (meanG _ _ _) _ _) rfl ?_),
          (h c).2.2.1.trans (Eq.trans (b := meanS _ _) rfl ?_), (h c).2.2.2.1.trans (Eq.trans (b := meanM _ _ _) rfl ?_), (h c).2.2.2.2⟩
        · rw [e0, e3, e5, e8, e9]; exact (out11_eq m c).symm
        · rw [e0, e3, e5, e10, e11]; exact (out12_eq m c).symm
        · rw [e1, e7]; exact (out13_eq m c).symm
        · rw [e2, e4, e6]; exact (out14_eq m c).symm)
      (Cert.ReferenceIdeal.Value.run (F := Ideal) m' g')⟩

end Cert.Proof.Algebra

end
-- ==== Proof.lean ====
module

public import proofs.«01_k».proof.Defs
public import proofs.«01_k».proof.Proof.Frames
public import proofs.«01_k».proof.Proof.Algebra
public import proofs.«01_k».proof.Proof.Gen.Kernel
public import proofs.«01_k».proof.Proof.Gen.KernelIdeal
public import proofs.«01_k».proof.Proof.Gen.KernelIdeal.Launch
public import proofs.«01_k».proof.Proof.Gen.KernelIdeal.Points
public import proofs.«01_k».proof.Proof.Gen.ReferenceIdeal
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Frames.frame_k, Frames.frame_ki, Frames.frame_r, trivial, Algebra.algebraic⟩

end Cert.Proof

end
